-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnQKernel (m : (ℓ : Loc Cert.AttnQKernel.nD Cert.AttnQKernel.τ Cert.AttnQKernel.sig) → Buf (Elt Bits) ℓ) : Prop :=
  True

def Pre_AttnQKernelIdeal (m : (ℓ : Loc Cert.AttnQKernelIdeal.nD Cert.AttnQKernelIdeal.τ Cert.AttnQKernelIdeal.sig) → Buf (Elt Ideal) ℓ) : Prop :=
  True

def Pre_AttnQKernelIdeal_attention_finite [hPre_attention_finite : Cert.Pre_attention_finite.Facts] (m : (ℓ : Loc Cert.AttnQKernelIdeal.nD Cert.AttnQKernelIdeal.τ Cert.AttnQKernelIdeal.sig) → Buf (Elt Ideal) ℓ) : Prop :=
  ∀ c : Dev Cert.AttnQKernelIdeal.nD,
    (Cert.Pre_attention_finite.fn (F := Ideal) (m ((c.tc : Thread Cert.AttnQKernelIdeal.nD Cert.AttnQKernelIdeal.τ).loc Cert.AttnQKernelIdeal.main_arg0)) (m ((c.tc : Thread Cert.AttnQKernelIdeal.nD Cert.AttnQKernelIdeal.τ).loc Cert.AttnQKernelIdeal.main_arg1)) (m ((c.tc : Thread Cert.AttnQKernelIdeal.nD Cert.AttnQKernelIdeal.τ).loc Cert.AttnQKernelIdeal.main_arg2)) (m ((c.tc : Thread Cert.AttnQKernelIdeal.nD Cert.AttnQKernelIdeal.τ).loc Cert.AttnQKernelIdeal.main_arg3))) = (fun _ => 1#1)

def Pre_AttnQRefIdeal (m : (ℓ : Loc Cert.AttnQRefIdeal.nD Cert.AttnQRefIdeal.τ Cert.AttnQRefIdeal.sig) → Buf (Elt Ideal) ℓ) : Prop :=
  True

def Pre_AttnQRefIdeal_attention_finite [hPre_attention_finite : Cert.Pre_attention_finite.Facts] (m : (ℓ : Loc Cert.AttnQRefIdeal.nD Cert.AttnQRefIdeal.τ Cert.AttnQRefIdeal.sig) → Buf (Elt Ideal) ℓ) : Prop :=
  ∀ c : Dev Cert.AttnQRefIdeal.nD,
    (Cert.Pre_attention_finite.fn (F := Ideal) (m ((c.tc : Thread Cert.AttnQRefIdeal.nD Cert.AttnQRefIdeal.τ).loc Cert.AttnQRefIdeal.main_arg0)) (m ((c.tc : Thread Cert.AttnQRefIdeal.nD Cert.AttnQRefIdeal.τ).loc Cert.AttnQRefIdeal.main_arg1)) (m ((c.tc : Thread Cert.AttnQRefIdeal.nD Cert.AttnQRefIdeal.τ).loc Cert.AttnQRefIdeal.main_arg2)) (m ((c.tc : Thread Cert.AttnQRefIdeal.nD Cert.AttnQRefIdeal.τ).loc Cert.AttnQRefIdeal.main_arg3))) = (fun _ => 1#1)

def Pre_AttnKvKernel (m : (ℓ : Loc Cert.AttnKvKernel.nD Cert.AttnKvKernel.τ Cert.AttnKvKernel.sig) → Buf (Elt Bits) ℓ) : Prop :=
  True

def Pre_AttnKvKernelIdeal (m : (ℓ : Loc Cert.AttnKvKernelIdeal.nD Cert.AttnKvKernelIdeal.τ Cert.AttnKvKernelIdeal.sig) → Buf (Elt Ideal) ℓ) : Prop :=
  True

def Pre_AttnKvKernelIdeal_attention_finite [hPre_attention_finite : Cert.Pre_attention_finite.Facts] (m : (ℓ : Loc Cert.AttnKvKernelIdeal.nD Cert.AttnKvKernelIdeal.τ Cert.AttnKvKernelIdeal.sig) → Buf (Elt Ideal) ℓ) : Prop :=
  ∀ c : Dev Cert.AttnKvKernelIdeal.nD,
    (Cert.Pre_attention_finite.fn (F := Ideal) (m ((c.tc : Thread Cert.AttnKvKernelIdeal.nD Cert.AttnKvKernelIdeal.τ).loc Cert.AttnKvKernelIdeal.main_arg0)) (m ((c.tc : Thread Cert.AttnKvKernelIdeal.nD Cert.AttnKvKernelIdeal.τ).loc Cert.AttnKvKernelIdeal.main_arg1)) (m ((c.tc : Thread Cert.AttnKvKernelIdeal.nD Cert.AttnKvKernelIdeal.τ).loc Cert.AttnKvKernelIdeal.main_arg2)) (m ((c.tc : Thread Cert.AttnKvKernelIdeal.nD Cert.AttnKvKernelIdeal.τ).loc Cert.AttnKvKernelIdeal.main_arg3))) = (fun _ => 1#1)

def Pre_AttnKvRefIdeal (m : (ℓ : Loc Cert.AttnKvRefIdeal.nD Cert.AttnKvRefIdeal.τ Cert.AttnKvRefIdeal.sig) → Buf (Elt Ideal) ℓ) : Prop :=
  True

def Pre_AttnKvRefIdeal_attention_finite [hPre_attention_finite : Cert.Pre_attention_finite.Facts] (m : (ℓ : Loc Cert.AttnKvRefIdeal.nD Cert.AttnKvRefIdeal.τ Cert.AttnKvRefIdeal.sig) → Buf (Elt Ideal) ℓ) : Prop :=
  ∀ c : Dev Cert.AttnKvRefIdeal.nD,
    (Cert.Pre_attention_finite.fn (F := Ideal) (m ((c.tc : Thread Cert.AttnKvRefIdeal.nD Cert.AttnKvRefIdeal.τ).loc Cert.AttnKvRefIdeal.main_arg0)) (m ((c.tc : Thread Cert.AttnKvRefIdeal.nD Cert.AttnKvRefIdeal.τ).loc Cert.AttnKvRefIdeal.main_arg1)) (m ((c.tc : Thread Cert.AttnKvRefIdeal.nD Cert.AttnKvRefIdeal.τ).loc Cert.AttnKvRefIdeal.main_arg2)) (m ((c.tc : Thread Cert.AttnKvRefIdeal.nD Cert.AttnKvRefIdeal.τ).loc Cert.AttnKvRefIdeal.main_arg3))) = (fun _ => 1#1)

def Pre_FfnUpKernel (m : (ℓ : Loc Cert.FfnUpKernel.nD Cert.FfnUpKernel.τ Cert.FfnUpKernel.sig) → Buf (Elt Bits) ℓ) : Prop :=
  True

def Pre_FfnUpKernelIdeal (m : (ℓ : Loc Cert.FfnUpKernelIdeal.nD Cert.FfnUpKernelIdeal.τ Cert.FfnUpKernelIdeal.sig) → Buf (Elt Ideal) ℓ) : Prop :=
  True

def Pre_FfnUpKernelIdeal_ffn_up_finite [hPre_ffn_up_finite : Cert.Pre_ffn_up_finite.Facts] (m : (ℓ : Loc Cert.FfnUpKernelIdeal.nD Cert.FfnUpKernelIdeal.τ Cert.FfnUpKernelIdeal.sig) → Buf (Elt Ideal) ℓ) : Prop :=
  ∀ c : Dev Cert.FfnUpKernelIdeal.nD,
    (Cert.Pre_ffn_up_finite.fn (F := Ideal) (m ((c.tc : Thread Cert.FfnUpKernelIdeal.nD Cert.FfnUpKernelIdeal.τ).loc Cert.FfnUpKernelIdeal.main_arg0)) (m ((c.tc : Thread Cert.FfnUpKernelIdeal.nD Cert.FfnUpKernelIdeal.τ).loc Cert.FfnUpKernelIdeal.main_arg1)) (m ((c.tc : Thread Cert.FfnUpKernelIdeal.nD Cert.FfnUpKernelIdeal.τ).loc Cert.FfnUpKernelIdeal.main_arg2)) (m ((c.tc : Thread Cert.FfnUpKernelIdeal.nD Cert.FfnUpKernelIdeal.τ).loc Cert.FfnUpKernelIdeal.main_arg3)) (m ((c.tc : Thread Cert.FfnUpKernelIdeal.nD Cert.FfnUpKernelIdeal.τ).loc Cert.FfnUpKernelIdeal.main_arg4)) (m ((c.tc : Thread Cert.FfnUpKernelIdeal.nD Cert.FfnUpKernelIdeal.τ).loc Cert.FfnUpKernelIdeal.main_arg5)) (m ((c.tc : Thread Cert.FfnUpKernelIdeal.nD Cert.FfnUpKernelIdeal.τ).loc Cert.FfnUpKernelIdeal.main_arg6))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_ffn_up_finite [hPre_ffn_up_finite : Cert.Pre_ffn_up_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2)) (m ((c.tc : Thread Cert.FfnUpRefIdeal.nD Cert.FfnUpRefIdeal.τ).loc Cert.FfnUpRefIdeal.main_arg3)) (m ((c.tc : Thread Cert.FfnUpRefIdeal.nD Cert.FfnUpRefIdeal.τ).loc Cert.FfnUpRefIdeal.main_arg4)) (m ((c.tc : Thread Cert.FfnUpRefIdeal.nD Cert.FfnUpRefIdeal.τ).loc Cert.FfnUpRefIdeal.main_arg5)) (m ((c.tc : Thread Cert.FfnUpRefIdeal.nD Cert.FfnUpRefIdeal.τ).loc Cert.FfnUpRefIdeal.main_arg6))) = (fun _ => 1#1)

def Pre_FfnDownKernel (m : (ℓ : Loc Cert.FfnDownKernel.nD Cert.FfnDownKernel.τ Cert.FfnDownKernel.sig) → Buf (Elt Bits) ℓ) : Prop :=
  True

def Pre_FfnDownKernelIdeal (m : (ℓ : Loc Cert.FfnDownKernelIdeal.nD Cert.FfnDownKernelIdeal.τ Cert.FfnDownKernelIdeal.sig) → Buf (Elt Ideal) ℓ) : Prop :=
  True

def Pre_FfnDownKernelIdeal_ffn_down_finite [hPre_ffn_down_finite : Cert.Pre_ffn_down_finite.Facts] (m : (ℓ : Loc Cert.FfnDownKernelIdeal.nD Cert.FfnDownKernelIdeal.τ Cert.FfnDownKernelIdeal.sig) → Buf (Elt Ideal) ℓ) : Prop :=
  ∀ c : Dev Cert.FfnDownKernelIdeal.nD,
    (Cert.Pre_ffn_down_finite.fn (F := Ideal) (m ((c.tc : Thread Cert.FfnDownKernelIdeal.nD Cert.FfnDownKernelIdeal.τ).loc Cert.FfnDownKernelIdeal.main_arg0)) (m ((c.tc : Thread Cert.FfnDownKernelIdeal.nD Cert.FfnDownKernelIdeal.τ).loc Cert.FfnDownKernelIdeal.main_arg1)) (m ((c.tc : Thread Cert.FfnDownKernelIdeal.nD Cert.FfnDownKernelIdeal.τ).loc Cert.FfnDownKernelIdeal.main_arg2)) (m ((c.tc : Thread Cert.FfnDownKernelIdeal.nD Cert.FfnDownKernelIdeal.τ).loc Cert.FfnDownKernelIdeal.main_arg3)) (m ((c.tc : Thread Cert.FfnDownKernelIdeal.nD Cert.FfnDownKernelIdeal.τ).loc Cert.FfnDownKernelIdeal.main_arg4)) (m ((c.tc : Thread Cert.FfnDownKernelIdeal.nD Cert.FfnDownKernelIdeal.τ).loc Cert.FfnDownKernelIdeal.main_arg5)) (m ((c.tc : Thread Cert.FfnDownKernelIdeal.nD Cert.FfnDownKernelIdeal.τ).loc Cert.FfnDownKernelIdeal.main_arg6))) = (fun _ => 1#1)

def Pre_FfnDownRefIdeal (m : (ℓ : Loc Cert.FfnDownRefIdeal.nD Cert.FfnDownRefIdeal.τ Cert.FfnDownRefIdeal.sig) → Buf (Elt Ideal) ℓ) : Prop :=
  True

def Pre_FfnDownRefIdeal_ffn_down_finite [hPre_ffn_down_finite : Cert.Pre_ffn_down_finite.Facts] (m : (ℓ : Loc Cert.FfnDownRefIdeal.nD Cert.FfnDownRefIdeal.τ Cert.FfnDownRefIdeal.sig) → Buf (Elt Ideal) ℓ) : Prop :=
  ∀ c : Dev Cert.FfnDownRefIdeal.nD,
    (Cert.Pre_ffn_down_finite.fn (F := Ideal) (m ((c.tc : Thread Cert.FfnDownRefIdeal.nD Cert.FfnDownRefIdeal.τ).loc Cert.FfnDownRefIdeal.main_arg0)) (m ((c.tc : Thread Cert.FfnDownRefIdeal.nD Cert.FfnDownRefIdeal.τ).loc Cert.FfnDownRefIdeal.main_arg1)) (m ((c.tc : Thread Cert.FfnDownRefIdeal.nD Cert.FfnDownRefIdeal.τ).loc Cert.FfnDownRefIdeal.main_arg2)) (m ((c.tc : Thread Cert.FfnDownRefIdeal.nD Cert.FfnDownRefIdeal.τ).loc Cert.FfnDownRefIdeal.main_arg3)) (m ((c.tc : Thread Cert.FfnDownRefIdeal.nD Cert.FfnDownRefIdeal.τ).loc Cert.FfnDownRefIdeal.main_arg4)) (m ((c.tc : Thread Cert.FfnDownRefIdeal.nD Cert.FfnDownRefIdeal.τ).loc Cert.FfnDownRefIdeal.main_arg5)) (m ((c.tc : Thread Cert.FfnDownRefIdeal.nD Cert.FfnDownRefIdeal.τ).loc Cert.FfnDownRefIdeal.main_arg6))) = (fun _ => 1#1)

def Pre_MixInKernel (m : (ℓ : Loc Cert.MixInKernel.nD Cert.MixInKernel.τ Cert.MixInKernel.sig) → Buf (Elt Bits) ℓ) : Prop :=
  True

def Pre_MixInKernelIdeal (m : (ℓ : Loc Cert.MixInKernelIdeal.nD Cert.MixInKernelIdeal.τ Cert.MixInKernelIdeal.sig) → Buf (Elt Ideal) ℓ) : Prop :=
  True

def Pre_MixInKernelIdeal_mix_in_finite [hPre_mix_in_finite : Cert.Pre_mix_in_finite.Facts] (m : (ℓ : Loc Cert.MixInKernelIdeal.nD Cert.MixInKernelIdeal.τ Cert.MixInKernelIdeal.sig) → Buf (Elt Ideal) ℓ) : Prop :=
  ∀ c : Dev Cert.MixInKernelIdeal.nD,
    (Cert.Pre_mix_in_finite.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4)) (m ((c.tc : Thread Cert.MixInKernelIdeal.nD Cert.MixInKernelIdeal.τ).loc Cert.MixInKernelIdeal.main_arg5)) (m ((c.tc : Thread Cert.MixInKernelIdeal.nD Cert.MixInKernelIdeal.τ).loc Cert.MixInKernelIdeal.main_arg6)) (m ((c.tc : Thread Cert.MixInKernelIdeal.nD Cert.MixInKernelIdeal.τ).loc Cert.MixInKernelIdeal.main_arg7)) (m ((c.tc : Thread Cert.MixInKernelIdeal.nD Cert.MixInKernelIdeal.τ).loc Cert.MixInKernelIdeal.main_arg8))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_mix_in_finite [hPre_mix_in_finite : Cert.Pre_mix_in_finite.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_mix_in_finite.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7)) (m ((c.tc : Thread Cert.MixInRefIdeal.nD Cert.MixInRefIdeal.τ).loc Cert.MixInRefIdeal.main_arg8))) = (fun _ => 1#1)

def Pre_MixOutKernel (m : (ℓ : Loc Cert.MixOutKernel.nD Cert.MixOutKernel.τ Cert.MixOutKernel.sig) → Buf (Elt Bits) ℓ) : Prop :=
  True

def Pre_MixOutKernelIdeal (m : (ℓ : Loc Cert.MixOutKernelIdeal.nD Cert.MixOutKernelIdeal.τ Cert.MixOutKernelIdeal.sig) → Buf (Elt Ideal) ℓ) : Prop :=
  True

def Pre_MixOutKernelIdeal_mix_out_finite [hPre_mix_out_finite : Cert.Pre_mix_out_finite.Facts] (m : (ℓ : Loc Cert.MixOutKernelIdeal.nD Cert.MixOutKernelIdeal.τ Cert.MixOutKernelIdeal.sig) → Buf (Elt Ideal) ℓ) : Prop :=
  ∀ c : Dev Cert.MixOutKernelIdeal.nD,
    (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6))) = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_mix_out_finite [hPre_mix_out_finite : Cert.Pre_mix_out_finite.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_mix_out_finite.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6))) = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_mla_finite [hPre_mla_finite : Cert.Pre_mla_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3)) (m ((c.tc : Thread Cert.MlaKernelIdeal.nD Cert.MlaKernelIdeal.τ).loc Cert.MlaKernelIdeal.main_arg4)) (m ((c.tc : Thread Cert.MlaKernelIdeal.nD Cert.MlaKernelIdeal.τ).loc Cert.MlaKernelIdeal.main_arg5)) (m ((c.tc : Thread Cert.MlaKernelIdeal.nD Cert.MlaKernelIdeal.τ).loc Cert.MlaKernelIdeal.main_arg6)) (m ((c.tc : Thread Cert.MlaKernelIdeal.nD Cert.MlaKernelIdeal.τ).loc Cert.MlaKernelIdeal.main_arg7)) (m ((c.tc : Thread Cert.MlaKernelIdeal.nD Cert.MlaKernelIdeal.τ).loc Cert.MlaKernelIdeal.main_arg8)) (m ((c.tc : Thread Cert.MlaKernelIdeal.nD Cert.MlaKernelIdeal.τ).loc Cert.MlaKernelIdeal.main_arg9)) (m ((c.tc : Thread Cert.MlaKernelIdeal.nD Cert.MlaKernelIdeal.τ).loc Cert.MlaKernelIdeal.main_arg10))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite [hPre_mla_finite : Cert.Pre_mla_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5)) (m ((c.tc : Thread Cert.MlaRefIdeal.nD Cert.MlaRefIdeal.τ).loc Cert.MlaRefIdeal.main_arg6)) (m ((c.tc : Thread Cert.MlaRefIdeal.nD Cert.MlaRefIdeal.τ).loc Cert.MlaRefIdeal.main_arg7)) (m ((c.tc : Thread Cert.MlaRefIdeal.nD Cert.MlaRefIdeal.τ).loc Cert.MlaRefIdeal.main_arg8)) (m ((c.tc : Thread Cert.MlaRefIdeal.nD Cert.MlaRefIdeal.τ).loc Cert.MlaRefIdeal.main_arg9)) (m ((c.tc : Thread Cert.MlaRefIdeal.nD Cert.MlaRefIdeal.τ).loc Cert.MlaRefIdeal.main_arg10))) = (fun _ => 1#1)

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixInFwdKernel (m : (ℓ : Loc Cert.MixInFwdKernel.nD Cert.MixInFwdKernel.τ Cert.MixInFwdKernel.sig) → Buf (Elt Bits) ℓ) : Prop :=
  True

def Pre_MixInFwdKernelIdeal (m : (ℓ : Loc Cert.MixInFwdKernelIdeal.nD Cert.MixInFwdKernelIdeal.τ Cert.MixInFwdKernelIdeal.sig) → Buf (Elt Ideal) ℓ) : Prop :=
  True

def Pre_MixInFwdRefIdeal (m : (ℓ : Loc Cert.MixInFwdRefIdeal.nD Cert.MixInFwdRefIdeal.τ Cert.MixInFwdRefIdeal.sig) → Buf (Elt Ideal) ℓ) : Prop :=
  True

def Pre_MixOutFwdKernel (m : (ℓ : Loc Cert.MixOutFwdKernel.nD Cert.MixOutFwdKernel.τ Cert.MixOutFwdKernel.sig) → Buf (Elt Bits) ℓ) : Prop :=
  True

def Pre_MixOutFwdKernelIdeal (m : (ℓ : Loc Cert.MixOutFwdKernelIdeal.nD Cert.MixOutFwdKernelIdeal.τ Cert.MixOutFwdKernelIdeal.sig) → Buf (Elt Ideal) ℓ) : Prop :=
  True

def Pre_MixOutFwdRefIdeal (m : (ℓ : Loc Cert.MixOutFwdRefIdeal.nD Cert.MixOutFwdRefIdeal.τ Cert.MixOutFwdRefIdeal.sig) → Buf (Elt Ideal) ℓ) : Prop :=
  True

def Pre_MlaFwdKernel (m : (ℓ : Loc Cert.MlaFwdKernel.nD Cert.MlaFwdKernel.τ Cert.MlaFwdKernel.sig) → Buf (Elt Bits) ℓ) : Prop :=
  True

def Pre_MlaFwdKernelIdeal (m : (ℓ : Loc Cert.MlaFwdKernelIdeal.nD Cert.MlaFwdKernelIdeal.τ Cert.MlaFwdKernelIdeal.sig) → Buf (Elt Ideal) ℓ) : Prop :=
  True

def Pre_MlaFwdRefIdeal (m : (ℓ : Loc Cert.MlaFwdRefIdeal.nD Cert.MlaFwdRefIdeal.τ Cert.MlaFwdRefIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_AttnQKernel [hAttnQKernel : Cert.AttnQKernel.Facts] : Prop :=
  ∀ (m : (ℓ : Loc Cert.AttnQKernel.nD Cert.AttnQKernel.τ Cert.AttnQKernel.sig) → Buf (Elt Bits) ℓ) (g : Dev Cert.AttnQKernel.nD → PrngReg), Pre_AttnQKernel m →
    θ_run (Cert.AttnQKernel.defs (F := Bits)) (onTc (τ := Cert.AttnQKernel.τ) (Cert.AttnQKernel.main (F := Bits))) ⟨m, fun _ => 0, g⟩ (fun r => (∀ c : Dev Cert.AttnQKernel.nD,
      r.2.mem ((c.tc : Thread Cert.AttnQKernel.nD Cert.AttnQKernel.τ).loc Cert.AttnQKernel.main_arg0) = m ((c.tc : Thread Cert.AttnQKernel.nD Cert.AttnQKernel.τ).loc Cert.AttnQKernel.main_arg0)
      ∧ r.2.mem ((c.tc : Thread Cert.AttnQKernel.nD Cert.AttnQKernel.τ).loc Cert.AttnQKernel.main_arg1) = m ((c.tc : Thread Cert.AttnQKernel.nD Cert.AttnQKernel.τ).loc Cert.AttnQKernel.main_arg1)
      ∧ r.2.mem ((c.tc : Thread Cert.AttnQKernel.nD Cert.AttnQKernel.τ).loc Cert.AttnQKernel.main_arg2) = m ((c.tc : Thread Cert.AttnQKernel.nD Cert.AttnQKernel.τ).loc Cert.AttnQKernel.main_arg2)
      ∧ r.2.mem ((c.tc : Thread Cert.AttnQKernel.nD Cert.AttnQKernel.τ).loc Cert.AttnQKernel.main_arg3) = m ((c.tc : Thread Cert.AttnQKernel.nD Cert.AttnQKernel.τ).loc Cert.AttnQKernel.main_arg3))
      ∧ r.2.sem = fun _ => 0)

def quiescent_AttnQKernelIdeal [hAttnQKernelIdeal : Cert.AttnQKernelIdeal.Facts] : Prop :=
  ∀ (m : (ℓ : Loc Cert.AttnQKernelIdeal.nD Cert.AttnQKernelIdeal.τ Cert.AttnQKernelIdeal.sig) → Buf (Elt Ideal) ℓ) (g : Dev Cert.AttnQKernelIdeal.nD → PrngReg), Pre_AttnQKernelIdeal m →
    θ_run (Cert.AttnQKernelIdeal.defs (F := Ideal)) (onTc (τ := Cert.AttnQKernelIdeal.τ) (Cert.AttnQKernelIdeal.main (F := Ideal))) ⟨m, fun _ => 0, g⟩ (fun r => (∀ c : Dev Cert.AttnQKernelIdeal.nD,
      r.2.mem ((c.tc : Thread Cert.AttnQKernelIdeal.nD Cert.AttnQKernelIdeal.τ).loc Cert.AttnQKernelIdeal.main_arg0) = m ((c.tc : Thread Cert.AttnQKernelIdeal.nD Cert.AttnQKernelIdeal.τ).loc Cert.AttnQKernelIdeal.main_arg0)
      ∧ r.2.mem ((c.tc : Thread Cert.AttnQKernelIdeal.nD Cert.AttnQKernelIdeal.τ).loc Cert.AttnQKernelIdeal.main_arg1) = m ((c.tc : Thread Cert.AttnQKernelIdeal.nD Cert.AttnQKernelIdeal.τ).loc Cert.AttnQKernelIdeal.main_arg1)
      ∧ r.2.mem ((c.tc : Thread Cert.AttnQKernelIdeal.nD Cert.AttnQKernelIdeal.τ).loc Cert.AttnQKernelIdeal.main_arg2) = m ((c.tc : Thread Cert.AttnQKernelIdeal.nD Cert.AttnQKernelIdeal.τ).loc Cert.AttnQKernelIdeal.main_arg2)
      ∧ r.2.mem ((c.tc : Thread Cert.AttnQKernelIdeal.nD Cert.AttnQKernelIdeal.τ).loc Cert.AttnQKernelIdeal.main_arg3) = m ((c.tc : Thread Cert.AttnQKernelIdeal.nD Cert.AttnQKernelIdeal.τ).loc Cert.AttnQKernelIdeal.main_arg3))
      ∧ r.2.sem = fun _ => 0)

def quiescent_AttnQKernelIdeal_pre_attention_finite [hAttnQKernelIdeal : Cert.AttnQKernelIdeal.Facts] [hPre_attention_finite : Cert.Pre_attention_finite.Facts] : Prop :=
  ∀ (m : (ℓ : Loc Cert.AttnQKernelIdeal.nD Cert.AttnQKernelIdeal.τ Cert.AttnQKernelIdeal.sig) → Buf (Elt Ideal) ℓ) (g : Dev Cert.AttnQKernelIdeal.nD → PrngReg), Pre_AttnQKernelIdeal_attention_finite m →
    θ_run (Cert.AttnQKernelIdeal.defs (F := Ideal)) (onTc (τ := Cert.AttnQKernelIdeal.τ) (Cert.AttnQKernelIdeal.main (F := Ideal))) ⟨m, fun _ => 0, g⟩ (fun r => (∀ c : Dev Cert.AttnQKernelIdeal.nD,
      r.2.mem ((c.tc : Thread Cert.AttnQKernelIdeal.nD Cert.AttnQKernelIdeal.τ).loc Cert.AttnQKernelIdeal.main_arg0) = m ((c.tc : Thread Cert.AttnQKernelIdeal.nD Cert.AttnQKernelIdeal.τ).loc Cert.AttnQKernelIdeal.main_arg0)
      ∧ r.2.mem ((c.tc : Thread Cert.AttnQKernelIdeal.nD Cert.AttnQKernelIdeal.τ).loc Cert.AttnQKernelIdeal.main_arg1) = m ((c.tc : Thread Cert.AttnQKernelIdeal.nD Cert.AttnQKernelIdeal.τ).loc Cert.AttnQKernelIdeal.main_arg1)
      ∧ r.2.mem ((c.tc : Thread Cert.AttnQKernelIdeal.nD Cert.AttnQKernelIdeal.τ).loc Cert.AttnQKernelIdeal.main_arg2) = m ((c.tc : Thread Cert.AttnQKernelIdeal.nD Cert.AttnQKernelIdeal.τ).loc Cert.AttnQKernelIdeal.main_arg2)
      ∧ r.2.mem ((c.tc : Thread Cert.AttnQKernelIdeal.nD Cert.AttnQKernelIdeal.τ).loc Cert.AttnQKernelIdeal.main_arg3) = m ((c.tc : Thread Cert.AttnQKernelIdeal.nD Cert.AttnQKernelIdeal.τ).loc Cert.AttnQKernelIdeal.main_arg3))
      ∧ r.2.sem = fun _ => 0)

def quiescent_AttnQRefIdeal [hAttnQRefIdeal : Cert.AttnQRefIdeal.Facts] : Prop :=
  ∀ (m : (ℓ : Loc Cert.AttnQRefIdeal.nD Cert.AttnQRefIdeal.τ Cert.AttnQRefIdeal.sig) → Buf (Elt Ideal) ℓ) (g : Dev Cert.AttnQRefIdeal.nD → PrngReg), Pre_AttnQRefIdeal m →
    θ_run (Cert.AttnQRefIdeal.defs (F := Ideal)) (onTc (τ := Cert.AttnQRefIdeal.τ) (Cert.AttnQRefIdeal.main (F := Ideal))) ⟨m, fun _ => 0, g⟩ (fun r => (∀ c : Dev Cert.AttnQRefIdeal.nD,
      r.2.mem ((c.tc : Thread Cert.AttnQRefIdeal.nD Cert.AttnQRefIdeal.τ).loc Cert.AttnQRefIdeal.main_arg0) = m ((c.tc : Thread Cert.AttnQRefIdeal.nD Cert.AttnQRefIdeal.τ).loc Cert.AttnQRefIdeal.main_arg0)
      ∧ r.2.mem ((c.tc : Thread Cert.AttnQRefIdeal.nD Cert.AttnQRefIdeal.τ).loc Cert.AttnQRefIdeal.main_arg1) = m ((c.tc : Thread Cert.AttnQRefIdeal.nD Cert.AttnQRefIdeal.τ).loc Cert.AttnQRefIdeal.main_arg1)
      ∧ r.2.mem ((c.tc : Thread Cert.AttnQRefIdeal.nD Cert.AttnQRefIdeal.τ).loc Cert.AttnQRefIdeal.main_arg2) = m ((c.tc : Thread Cert.AttnQRefIdeal.nD Cert.AttnQRefIdeal.τ).loc Cert.AttnQRefIdeal.main_arg2)
      ∧ r.2.mem ((c.tc : Thread Cert.AttnQRefIdeal.nD Cert.AttnQRefIdeal.τ).loc Cert.AttnQRefIdeal.main_arg3) = m ((c.tc : Thread Cert.AttnQRefIdeal.nD Cert.AttnQRefIdeal.τ).loc Cert.AttnQRefIdeal.main_arg3))
      ∧ r.2.sem = fun _ => 0)

def quiescent_AttnQRefIdeal_pre_attention_finite [hAttnQRefIdeal : Cert.AttnQRefIdeal.Facts] [hPre_attention_finite : Cert.Pre_attention_finite.Facts] : Prop :=
  ∀ (m : (ℓ : Loc Cert.AttnQRefIdeal.nD Cert.AttnQRefIdeal.τ Cert.AttnQRefIdeal.sig) → Buf (Elt Ideal) ℓ) (g : Dev Cert.AttnQRefIdeal.nD → PrngReg), Pre_AttnQRefIdeal_attention_finite m →
    θ_run (Cert.AttnQRefIdeal.defs (F := Ideal)) (onTc (τ := Cert.AttnQRefIdeal.τ) (Cert.AttnQRefIdeal.main (F := Ideal))) ⟨m, fun _ => 0, g⟩ (fun r => (∀ c : Dev Cert.AttnQRefIdeal.nD,
      r.2.mem ((c.tc : Thread Cert.AttnQRefIdeal.nD Cert.AttnQRefIdeal.τ).loc Cert.AttnQRefIdeal.main_arg0) = m ((c.tc : Thread Cert.AttnQRefIdeal.nD Cert.AttnQRefIdeal.τ).loc Cert.AttnQRefIdeal.main_arg0)
      ∧ r.2.mem ((c.tc : Thread Cert.AttnQRefIdeal.nD Cert.AttnQRefIdeal.τ).loc Cert.AttnQRefIdeal.main_arg1) = m ((c.tc : Thread Cert.AttnQRefIdeal.nD Cert.AttnQRefIdeal.τ).loc Cert.AttnQRefIdeal.main_arg1)
      ∧ r.2.mem ((c.tc : Thread Cert.AttnQRefIdeal.nD Cert.AttnQRefIdeal.τ).loc Cert.AttnQRefIdeal.main_arg2) = m ((c.tc : Thread Cert.AttnQRefIdeal.nD Cert.AttnQRefIdeal.τ).loc Cert.AttnQRefIdeal.main_arg2)
      ∧ r.2.mem ((c.tc : Thread Cert.AttnQRefIdeal.nD Cert.AttnQRefIdeal.τ).loc Cert.AttnQRefIdeal.main_arg3) = m ((c.tc : Thread Cert.AttnQRefIdeal.nD Cert.AttnQRefIdeal.τ).loc Cert.AttnQRefIdeal.main_arg3))
      ∧ r.2.sem = fun _ => 0)

def quiescent_AttnKvKernel [hAttnKvKernel : Cert.AttnKvKernel.Facts] : Prop :=
  ∀ (m : (ℓ : Loc Cert.AttnKvKernel.nD Cert.AttnKvKernel.τ Cert.AttnKvKernel.sig) → Buf (Elt Bits) ℓ) (g : Dev Cert.AttnKvKernel.nD → PrngReg), Pre_AttnKvKernel m →
    θ_run (Cert.AttnKvKernel.defs (F := Bits)) (onTc (τ := Cert.AttnKvKernel.τ) (Cert.AttnKvKernel.main (F := Bits))) ⟨m, fun _ => 0, g⟩ (fun r => (∀ c : Dev Cert.AttnKvKernel.nD,
      r.2.mem ((c.tc : Thread Cert.AttnKvKernel.nD Cert.AttnKvKernel.τ).loc Cert.AttnKvKernel.main_arg0) = m ((c.tc : Thread Cert.AttnKvKernel.nD Cert.AttnKvKernel.τ).loc Cert.AttnKvKernel.main_arg0)
      ∧ r.2.mem ((c.tc : Thread Cert.AttnKvKernel.nD Cert.AttnKvKernel.τ).loc Cert.AttnKvKernel.main_arg1) = m ((c.tc : Thread Cert.AttnKvKernel.nD Cert.AttnKvKernel.τ).loc Cert.AttnKvKernel.main_arg1)
      ∧ r.2.mem ((c.tc : Thread Cert.AttnKvKernel.nD Cert.AttnKvKernel.τ).loc Cert.AttnKvKernel.main_arg2) = m ((c.tc : Thread Cert.AttnKvKernel.nD Cert.AttnKvKernel.τ).loc Cert.AttnKvKernel.main_arg2)
      ∧ r.2.mem ((c.tc : Thread Cert.AttnKvKernel.nD Cert.AttnKvKernel.τ).loc Cert.AttnKvKernel.main_arg3) = m ((c.tc : Thread Cert.AttnKvKernel.nD Cert.AttnKvKernel.τ).loc Cert.AttnKvKernel.main_arg3))
      ∧ r.2.sem = fun _ => 0)

def quiescent_AttnKvKernelIdeal [hAttnKvKernelIdeal : Cert.AttnKvKernelIdeal.Facts] : Prop :=
  ∀ (m : (ℓ : Loc Cert.AttnKvKernelIdeal.nD Cert.AttnKvKernelIdeal.τ Cert.AttnKvKernelIdeal.sig) → Buf (Elt Ideal) ℓ) (g : Dev Cert.AttnKvKernelIdeal.nD → PrngReg), Pre_AttnKvKernelIdeal m →
    θ_run (Cert.AttnKvKernelIdeal.defs (F := Ideal)) (onTc (τ := Cert.AttnKvKernelIdeal.τ) (Cert.AttnKvKernelIdeal.main (F := Ideal))) ⟨m, fun _ => 0, g⟩ (fun r => (∀ c : Dev Cert.AttnKvKernelIdeal.nD,
      r.2.mem ((c.tc : Thread Cert.AttnKvKernelIdeal.nD Cert.AttnKvKernelIdeal.τ).loc Cert.AttnKvKernelIdeal.main_arg0) = m ((c.tc : Thread Cert.AttnKvKernelIdeal.nD Cert.AttnKvKernelIdeal.τ).loc Cert.AttnKvKernelIdeal.main_arg0)
      ∧ r.2.mem ((c.tc : Thread Cert.AttnKvKernelIdeal.nD Cert.AttnKvKernelIdeal.τ).loc Cert.AttnKvKernelIdeal.main_arg1) = m ((c.tc : Thread Cert.AttnKvKernelIdeal.nD Cert.AttnKvKernelIdeal.τ).loc Cert.AttnKvKernelIdeal.main_arg1)
      ∧ r.2.mem ((c.tc : Thread Cert.AttnKvKernelIdeal.nD Cert.AttnKvKernelIdeal.τ).loc Cert.AttnKvKernelIdeal.main_arg2) = m ((c.tc : Thread Cert.AttnKvKernelIdeal.nD Cert.AttnKvKernelIdeal.τ).loc Cert.AttnKvKernelIdeal.main_arg2)
      ∧ r.2.mem ((c.tc : Thread Cert.AttnKvKernelIdeal.nD Cert.AttnKvKernelIdeal.τ).loc Cert.AttnKvKernelIdeal.main_arg3) = m ((c.tc : Thread Cert.AttnKvKernelIdeal.nD Cert.AttnKvKernelIdeal.τ).loc Cert.AttnKvKernelIdeal.main_arg3))
      ∧ r.2.sem = fun _ => 0)

def quiescent_AttnKvKernelIdeal_pre_attention_finite [hAttnKvKernelIdeal : Cert.AttnKvKernelIdeal.Facts] [hPre_attention_finite : Cert.Pre_attention_finite.Facts] : Prop :=
  ∀ (m : (ℓ : Loc Cert.AttnKvKernelIdeal.nD Cert.AttnKvKernelIdeal.τ Cert.AttnKvKernelIdeal.sig) → Buf (Elt Ideal) ℓ) (g : Dev Cert.AttnKvKernelIdeal.nD → PrngReg), Pre_AttnKvKernelIdeal_attention_finite m →
    θ_run (Cert.AttnKvKernelIdeal.defs (F := Ideal)) (onTc (τ := Cert.AttnKvKernelIdeal.τ) (Cert.AttnKvKernelIdeal.main (F := Ideal))) ⟨m, fun _ => 0, g⟩ (fun r => (∀ c : Dev Cert.AttnKvKernelIdeal.nD,
      r.2.mem ((c.tc : Thread Cert.AttnKvKernelIdeal.nD Cert.AttnKvKernelIdeal.τ).loc Cert.AttnKvKernelIdeal.main_arg0) = m ((c.tc : Thread Cert.AttnKvKernelIdeal.nD Cert.AttnKvKernelIdeal.τ).loc Cert.AttnKvKernelIdeal.main_arg0)
      ∧ r.2.mem ((c.tc : Thread Cert.AttnKvKernelIdeal.nD Cert.AttnKvKernelIdeal.τ).loc Cert.AttnKvKernelIdeal.main_arg1) = m ((c.tc : Thread Cert.AttnKvKernelIdeal.nD Cert.AttnKvKernelIdeal.τ).loc Cert.AttnKvKernelIdeal.main_arg1)
      ∧ r.2.mem ((c.tc : Thread Cert.AttnKvKernelIdeal.nD Cert.AttnKvKernelIdeal.τ).loc Cert.AttnKvKernelIdeal.main_arg2) = m ((c.tc : Thread Cert.AttnKvKernelIdeal.nD Cert.AttnKvKernelIdeal.τ).loc Cert.AttnKvKernelIdeal.main_arg2)
      ∧ r.2.mem ((c.tc : Thread Cert.AttnKvKernelIdeal.nD Cert.AttnKvKernelIdeal.τ).loc Cert.AttnKvKernelIdeal.main_arg3) = m ((c.tc : Thread Cert.AttnKvKernelIdeal.nD Cert.AttnKvKernelIdeal.τ).loc Cert.AttnKvKernelIdeal.main_arg3))
      ∧ r.2.sem = fun _ => 0)

def quiescent_AttnKvRefIdeal [hAttnKvRefIdeal : Cert.AttnKvRefIdeal.Facts] : Prop :=
  ∀ (m : (ℓ : Loc Cert.AttnKvRefIdeal.nD Cert.AttnKvRefIdeal.τ Cert.AttnKvRefIdeal.sig) → Buf (Elt Ideal) ℓ) (g : Dev Cert.AttnKvRefIdeal.nD → PrngReg), Pre_AttnKvRefIdeal m →
    θ_run (Cert.AttnKvRefIdeal.defs (F := Ideal)) (onTc (τ := Cert.AttnKvRefIdeal.τ) (Cert.AttnKvRefIdeal.main (F := Ideal))) ⟨m, fun _ => 0, g⟩ (fun r => (∀ c : Dev Cert.AttnKvRefIdeal.nD,
      r.2.mem ((c.tc : Thread Cert.AttnKvRefIdeal.nD Cert.AttnKvRefIdeal.τ).loc Cert.AttnKvRefIdeal.main_arg0) = m ((c.tc : Thread Cert.AttnKvRefIdeal.nD Cert.AttnKvRefIdeal.τ).loc Cert.AttnKvRefIdeal.main_arg0)
      ∧ r.2.mem ((c.tc : Thread Cert.AttnKvRefIdeal.nD Cert.AttnKvRefIdeal.τ).loc Cert.AttnKvRefIdeal.main_arg1) = m ((c.tc : Thread Cert.AttnKvRefIdeal.nD Cert.AttnKvRefIdeal.τ).loc Cert.AttnKvRefIdeal.main_arg1)
      ∧ r.2.mem ((c.tc : Thread Cert.AttnKvRefIdeal.nD Cert.AttnKvRefIdeal.τ).loc Cert.AttnKvRefIdeal.main_arg2) = m ((c.tc : Thread Cert.AttnKvRefIdeal.nD Cert.AttnKvRefIdeal.τ).loc Cert.AttnKvRefIdeal.main_arg2)
      ∧ r.2.mem ((c.tc : Thread Cert.AttnKvRefIdeal.nD Cert.AttnKvRefIdeal.τ).loc Cert.AttnKvRefIdeal.main_arg3) = m ((c.tc : Thread Cert.AttnKvRefIdeal.nD Cert.AttnKvRefIdeal.τ).loc Cert.AttnKvRefIdeal.main_arg3))
      ∧ r.2.sem = fun _ => 0)

def quiescent_AttnKvRefIdeal_pre_attention_finite [hAttnKvRefIdeal : Cert.AttnKvRefIdeal.Facts] [hPre_attention_finite : Cert.Pre_attention_finite.Facts] : Prop :=
  ∀ (m : (ℓ : Loc Cert.AttnKvRefIdeal.nD Cert.AttnKvRefIdeal.τ Cert.AttnKvRefIdeal.sig) → Buf (Elt Ideal) ℓ) (g : Dev Cert.AttnKvRefIdeal.nD → PrngReg), Pre_AttnKvRefIdeal_attention_finite m →
    θ_run (Cert.AttnKvRefIdeal.defs (F := Ideal)) (onTc (τ := Cert.AttnKvRefIdeal.τ) (Cert.AttnKvRefIdeal.main (F := Ideal))) ⟨m, fun _ => 0, g⟩ (fun r => (∀ c : Dev Cert.AttnKvRefIdeal.nD,
      r.2.mem ((c.tc : Thread Cert.AttnKvRefIdeal.nD Cert.AttnKvRefIdeal.τ).loc Cert.AttnKvRefIdeal.main_arg0) = m ((c.tc : Thread Cert.AttnKvRefIdeal.nD Cert.AttnKvRefIdeal.τ).loc Cert.AttnKvRefIdeal.main_arg0)
      ∧ r.2.mem ((c.tc : Thread Cert.AttnKvRefIdeal.nD Cert.AttnKvRefIdeal.τ).loc Cert.AttnKvRefIdeal.main_arg1) = m ((c.tc : Thread Cert.AttnKvRefIdeal.nD Cert.AttnKvRefIdeal.τ).loc Cert.AttnKvRefIdeal.main_arg1)
      ∧ r.2.mem ((c.tc : Thread Cert.AttnKvRefIdeal.nD Cert.AttnKvRefIdeal.τ).loc Cert.AttnKvRefIdeal.main_arg2) = m ((c.tc : Thread Cert.AttnKvRefIdeal.nD Cert.AttnKvRefIdeal.τ).loc Cert.AttnKvRefIdeal.main_arg2)
      ∧ r.2.mem ((c.tc : Thread Cert.AttnKvRefIdeal.nD Cert.AttnKvRefIdeal.τ).loc Cert.AttnKvRefIdeal.main_arg3) = m ((c.tc : Thread Cert.AttnKvRefIdeal.nD Cert.AttnKvRefIdeal.τ).loc Cert.AttnKvRefIdeal.main_arg3))
      ∧ r.2.sem = fun _ => 0)

def quiescent_FfnUpKernel [hFfnUpKernel : Cert.FfnUpKernel.Facts] : Prop :=
  ∀ (m : (ℓ : Loc Cert.FfnUpKernel.nD Cert.FfnUpKernel.τ Cert.FfnUpKernel.sig) → Buf (Elt Bits) ℓ) (g : Dev Cert.FfnUpKernel.nD → PrngReg), Pre_FfnUpKernel m →
    θ_run (Cert.FfnUpKernel.defs (F := Bits)) (onTc (τ := Cert.FfnUpKernel.τ) (Cert.FfnUpKernel.main (F := Bits))) ⟨m, fun _ => 0, g⟩ (fun r => (∀ c : Dev Cert.FfnUpKernel.nD,
      r.2.mem ((c.tc : Thread Cert.FfnUpKernel.nD Cert.FfnUpKernel.τ).loc Cert.FfnUpKernel.main_arg0) = m ((c.tc : Thread Cert.FfnUpKernel.nD Cert.FfnUpKernel.τ).loc Cert.FfnUpKernel.main_arg0)
      ∧ r.2.mem ((c.tc : Thread Cert.FfnUpKernel.nD Cert.FfnUpKernel.τ).loc Cert.FfnUpKernel.main_arg1) = m ((c.tc : Thread Cert.FfnUpKernel.nD Cert.FfnUpKernel.τ).loc Cert.FfnUpKernel.main_arg1)
      ∧ r.2.mem ((c.tc : Thread Cert.FfnUpKernel.nD Cert.FfnUpKernel.τ).loc Cert.FfnUpKernel.main_arg2) = m ((c.tc : Thread Cert.FfnUpKernel.nD Cert.FfnUpKernel.τ).loc Cert.FfnUpKernel.main_arg2)
      ∧ r.2.mem ((c.tc : Thread Cert.FfnUpKernel.nD Cert.FfnUpKernel.τ).loc Cert.FfnUpKernel.main_arg3) = m ((c.tc : Thread Cert.FfnUpKernel.nD Cert.FfnUpKernel.τ).loc Cert.FfnUpKernel.main_arg3)
      ∧ r.2.mem ((c.tc : Thread Cert.FfnUpKernel.nD Cert.FfnUpKernel.τ).loc Cert.FfnUpKernel.main_arg4) = m ((c.tc : Thread Cert.FfnUpKernel.nD Cert.FfnUpKernel.τ).loc Cert.FfnUpKernel.main_arg4)
      ∧ r.2.mem ((c.tc : Thread Cert.FfnUpKernel.nD Cert.FfnUpKernel.τ).loc Cert.FfnUpKernel.main_arg5) = m ((c.tc : Thread Cert.FfnUpKernel.nD Cert.FfnUpKernel.τ).loc Cert.FfnUpKernel.main_arg5)
      ∧ r.2.mem ((c.tc : Thread Cert.FfnUpKernel.nD Cert.FfnUpKernel.τ).loc Cert.FfnUpKernel.main_arg6) = m ((c.tc : Thread Cert.FfnUpKernel.nD Cert.FfnUpKernel.τ).loc Cert.FfnUpKernel.main_arg6))
      ∧ r.2.sem = fun _ => 0)

def quiescent_FfnUpKernelIdeal [hFfnUpKernelIdeal : Cert.FfnUpKernelIdeal.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg), Pre_FfnUpKernelIdeal m →
    θ_run (Cert.FfnUpKernelIdeal.defs (F := Ideal)) (onTc (τ := Cert.FfnUpKernelIdeal.τ) (Cert.FfnUpKernelIdeal.main (F := Ideal))) ⟨m, fun _ => 0, g⟩ (fun r => (∀ c : Dev Cert.FfnUpKernelIdeal.nD,
      r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
      ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
      ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2)
      ∧ r.2.mem ((c.tc : Thread Cert.FfnUpKernelIdeal.nD Cert.FfnUpKernelIdeal.τ).loc Cert.FfnUpKernelIdeal.main_arg3) = m ((c.tc : Thread Cert.FfnUpKernelIdeal.nD Cert.FfnUpKernelIdeal.τ).loc Cert.FfnUpKernelIdeal.main_arg3)
      ∧ r.2.mem ((c.tc : Thread Cert.FfnUpKernelIdeal.nD Cert.FfnUpKernelIdeal.τ).loc Cert.FfnUpKernelIdeal.main_arg4) = m ((c.tc : Thread Cert.FfnUpKernelIdeal.nD Cert.FfnUpKernelIdeal.τ).loc Cert.FfnUpKernelIdeal.main_arg4)
      ∧ r.2.mem ((c.tc : Thread Cert.FfnUpKernelIdeal.nD Cert.FfnUpKernelIdeal.τ).loc Cert.FfnUpKernelIdeal.main_arg5) = m ((c.tc : Thread Cert.FfnUpKernelIdeal.nD Cert.FfnUpKernelIdeal.τ).loc Cert.FfnUpKernelIdeal.main_arg5)
      ∧ r.2.mem ((c.tc : Thread Cert.FfnUpKernelIdeal.nD Cert.FfnUpKernelIdeal.τ).loc Cert.FfnUpKernelIdeal.main_arg6) = m ((c.tc : Thread Cert.FfnUpKernelIdeal.nD Cert.FfnUpKernelIdeal.τ).loc Cert.FfnUpKernelIdeal.main_arg6))
      ∧ r.2.sem = fun _ => 0)

def quiescent_FfnUpKernelIdeal_pre_ffn_up_finite [hFfnUpKernelIdeal : Cert.FfnUpKernelIdeal.Facts] [hPre_ffn_up_finite : Cert.Pre_ffn_up_finite.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg), Pre_FfnUpKernelIdeal_ffn_up_finite m →
    θ_run (Cert.FfnUpKernelIdeal.defs (F := Ideal)) (onTc (τ := Cert.FfnUpKernelIdeal.τ) (Cert.FfnUpKernelIdeal.main (F := Ideal))) ⟨m, fun _ => 0, g⟩ (fun r => (∀ c : Dev Cert.FfnUpKernelIdeal.nD,
      r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
      ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
      ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2)
      ∧ r.2.mem ((c.tc : Thread Cert.FfnUpKernelIdeal.nD Cert.FfnUpKernelIdeal.τ).loc Cert.FfnUpKernelIdeal.main_arg3) = m ((c.tc : Thread Cert.FfnUpKernelIdeal.nD Cert.FfnUpKernelIdeal.τ).loc Cert.FfnUpKernelIdeal.main_arg3)
      ∧ r.2.mem ((c.tc : Thread Cert.FfnUpKernelIdeal.nD Cert.FfnUpKernelIdeal.τ).loc Cert.FfnUpKernelIdeal.main_arg4) = m ((c.tc : Thread Cert.FfnUpKernelIdeal.nD Cert.FfnUpKernelIdeal.τ).loc Cert.FfnUpKernelIdeal.main_arg4)
      ∧ r.2.mem ((c.tc : Thread Cert.FfnUpKernelIdeal.nD Cert.FfnUpKernelIdeal.τ).loc Cert.FfnUpKernelIdeal.main_arg5) = m ((c.tc : Thread Cert.FfnUpKernelIdeal.nD Cert.FfnUpKernelIdeal.τ).loc Cert.FfnUpKernelIdeal.main_arg5)
      ∧ r.2.mem ((c.tc : Thread Cert.FfnUpKernelIdeal.nD Cert.FfnUpKernelIdeal.τ).loc Cert.FfnUpKernelIdeal.main_arg6) = m ((c.tc : Thread Cert.FfnUpKernelIdeal.nD Cert.FfnUpKernelIdeal.τ).loc Cert.FfnUpKernelIdeal.main_arg6))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6))
      ∧ r.2.sem = fun _ => 0)

def quiescent_FfnUpRefIdeal_pre_ffn_up_finite [hFfnUpRefIdeal : Cert.FfnUpRefIdeal.Facts] [hPre_ffn_up_finite : Cert.Pre_ffn_up_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_ffn_up_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3)
      ∧ r.2.mem ((c.tc : Thread Cert.FfnUpRefIdeal.nD Cert.FfnUpRefIdeal.τ).loc Cert.FfnUpRefIdeal.main_arg4) = m ((c.tc : Thread Cert.FfnUpRefIdeal.nD Cert.FfnUpRefIdeal.τ).loc Cert.FfnUpRefIdeal.main_arg4)
      ∧ r.2.mem ((c.tc : Thread Cert.FfnUpRefIdeal.nD Cert.FfnUpRefIdeal.τ).loc Cert.FfnUpRefIdeal.main_arg5) = m ((c.tc : Thread Cert.FfnUpRefIdeal.nD Cert.FfnUpRefIdeal.τ).loc Cert.FfnUpRefIdeal.main_arg5)
      ∧ r.2.mem ((c.tc : Thread Cert.FfnUpRefIdeal.nD Cert.FfnUpRefIdeal.τ).loc Cert.FfnUpRefIdeal.main_arg6) = m ((c.tc : Thread Cert.FfnUpRefIdeal.nD Cert.FfnUpRefIdeal.τ).loc Cert.FfnUpRefIdeal.main_arg6))
      ∧ r.2.sem = fun _ => 0)

def quiescent_FfnDownKernel [hFfnDownKernel : Cert.FfnDownKernel.Facts] : Prop :=
  ∀ (m : (ℓ : Loc Cert.FfnDownKernel.nD Cert.FfnDownKernel.τ Cert.FfnDownKernel.sig) → Buf (Elt Bits) ℓ) (g : Dev Cert.FfnDownKernel.nD → PrngReg), Pre_FfnDownKernel m →
    θ_run (Cert.FfnDownKernel.defs (F := Bits)) (onTc (τ := Cert.FfnDownKernel.τ) (Cert.FfnDownKernel.main (F := Bits))) ⟨m, fun _ => 0, g⟩ (fun r => (∀ c : Dev Cert.FfnDownKernel.nD,
      r.2.mem ((c.tc : Thread Cert.FfnDownKernel.nD Cert.FfnDownKernel.τ).loc Cert.FfnDownKernel.main_arg0) = m ((c.tc : Thread Cert.FfnDownKernel.nD Cert.FfnDownKernel.τ).loc Cert.FfnDownKernel.main_arg0)
      ∧ r.2.mem ((c.tc : Thread Cert.FfnDownKernel.nD Cert.FfnDownKernel.τ).loc Cert.FfnDownKernel.main_arg1) = m ((c.tc : Thread Cert.FfnDownKernel.nD Cert.FfnDownKernel.τ).loc Cert.FfnDownKernel.main_arg1)
      ∧ r.2.mem ((c.tc : Thread Cert.FfnDownKernel.nD Cert.FfnDownKernel.τ).loc Cert.FfnDownKernel.main_arg2) = m ((c.tc : Thread Cert.FfnDownKernel.nD Cert.FfnDownKernel.τ).loc Cert.FfnDownKernel.main_arg2)
      ∧ r.2.mem ((c.tc : Thread Cert.FfnDownKernel.nD Cert.FfnDownKernel.τ).loc Cert.FfnDownKernel.main_arg3) = m ((c.tc : Thread Cert.FfnDownKernel.nD Cert.FfnDownKernel.τ).loc Cert.FfnDownKernel.main_arg3)
      ∧ r.2.mem ((c.tc : Thread Cert.FfnDownKernel.nD Cert.FfnDownKernel.τ).loc Cert.FfnDownKernel.main_arg4) = m ((c.tc : Thread Cert.FfnDownKernel.nD Cert.FfnDownKernel.τ).loc Cert.FfnDownKernel.main_arg4)
      ∧ r.2.mem ((c.tc : Thread Cert.FfnDownKernel.nD Cert.FfnDownKernel.τ).loc Cert.FfnDownKernel.main_arg5) = m ((c.tc : Thread Cert.FfnDownKernel.nD Cert.FfnDownKernel.τ).loc Cert.FfnDownKernel.main_arg5)
      ∧ r.2.mem ((c.tc : Thread Cert.FfnDownKernel.nD Cert.FfnDownKernel.τ).loc Cert.FfnDownKernel.main_arg6) = m ((c.tc : Thread Cert.FfnDownKernel.nD Cert.FfnDownKernel.τ).loc Cert.FfnDownKernel.main_arg6))
      ∧ r.2.sem = fun _ => 0)

def quiescent_FfnDownKernelIdeal [hFfnDownKernelIdeal : Cert.FfnDownKernelIdeal.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg), Pre_FfnDownKernelIdeal m →
    θ_run (Cert.FfnDownKernelIdeal.defs (F := Ideal)) (onTc (τ := Cert.FfnDownKernelIdeal.τ) (Cert.FfnDownKernelIdeal.main (F := Ideal))) ⟨m, fun _ => 0, g⟩ (fun r => (∀ c : Dev Cert.FfnDownKernelIdeal.nD,
      r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
      ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
      ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2)
      ∧ r.2.mem ((c.tc : Thread Cert.FfnDownKernelIdeal.nD Cert.FfnDownKernelIdeal.τ).loc Cert.FfnDownKernelIdeal.main_arg3) = m ((c.tc : Thread Cert.FfnDownKernelIdeal.nD Cert.FfnDownKernelIdeal.τ).loc Cert.FfnDownKernelIdeal.main_arg3)
      ∧ r.2.mem ((c.tc : Thread Cert.FfnDownKernelIdeal.nD Cert.FfnDownKernelIdeal.τ).loc Cert.FfnDownKernelIdeal.main_arg4) = m ((c.tc : Thread Cert.FfnDownKernelIdeal.nD Cert.FfnDownKernelIdeal.τ).loc Cert.FfnDownKernelIdeal.main_arg4)
      ∧ r.2.mem ((c.tc : Thread Cert.FfnDownKernelIdeal.nD Cert.FfnDownKernelIdeal.τ).loc Cert.FfnDownKernelIdeal.main_arg5) = m ((c.tc : Thread Cert.FfnDownKernelIdeal.nD Cert.FfnDownKernelIdeal.τ).loc Cert.FfnDownKernelIdeal.main_arg5)
      ∧ r.2.mem ((c.tc : Thread Cert.FfnDownKernelIdeal.nD Cert.FfnDownKernelIdeal.τ).loc Cert.FfnDownKernelIdeal.main_arg6) = m ((c.tc : Thread Cert.FfnDownKernelIdeal.nD Cert.FfnDownKernelIdeal.τ).loc Cert.FfnDownKernelIdeal.main_arg6))
      ∧ r.2.sem = fun _ => 0)

def quiescent_FfnDownKernelIdeal_pre_ffn_down_finite [hFfnDownKernelIdeal : Cert.FfnDownKernelIdeal.Facts] [hPre_ffn_down_finite : Cert.Pre_ffn_down_finite.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg), Pre_FfnDownKernelIdeal_ffn_down_finite m →
    θ_run (Cert.FfnDownKernelIdeal.defs (F := Ideal)) (onTc (τ := Cert.FfnDownKernelIdeal.τ) (Cert.FfnDownKernelIdeal.main (F := Ideal))) ⟨m, fun _ => 0, g⟩ (fun r => (∀ c : Dev Cert.FfnDownKernelIdeal.nD,
      r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
      ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
      ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2)
      ∧ r.2.mem ((c.tc : Thread Cert.FfnDownKernelIdeal.nD Cert.FfnDownKernelIdeal.τ).loc Cert.FfnDownKernelIdeal.main_arg3) = m ((c.tc : Thread Cert.FfnDownKernelIdeal.nD Cert.FfnDownKernelIdeal.τ).loc Cert.FfnDownKernelIdeal.main_arg3)
      ∧ r.2.mem ((c.tc : Thread Cert.FfnDownKernelIdeal.nD Cert.FfnDownKernelIdeal.τ).loc Cert.FfnDownKernelIdeal.main_arg4) = m ((c.tc : Thread Cert.FfnDownKernelIdeal.nD Cert.FfnDownKernelIdeal.τ).loc Cert.FfnDownKernelIdeal.main_arg4)
      ∧ r.2.mem ((c.tc : Thread Cert.FfnDownKernelIdeal.nD Cert.FfnDownKernelIdeal.τ).loc Cert.FfnDownKernelIdeal.main_arg5) = m ((c.tc : Thread Cert.FfnDownKernelIdeal.nD Cert.FfnDownKernelIdeal.τ).loc Cert.FfnDownKernelIdeal.main_arg5)
      ∧ r.2.mem ((c.tc : Thread Cert.FfnDownKernelIdeal.nD Cert.FfnDownKernelIdeal.τ).loc Cert.FfnDownKernelIdeal.main_arg6) = m ((c.tc : Thread Cert.FfnDownKernelIdeal.nD Cert.FfnDownKernelIdeal.τ).loc Cert.FfnDownKernelIdeal.main_arg6))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6))
      ∧ r.2.sem = fun _ => 0)

def quiescent_FfnDownRefIdeal_pre_ffn_down_finite [hFfnDownRefIdeal : Cert.FfnDownRefIdeal.Facts] [hPre_ffn_down_finite : Cert.Pre_ffn_down_finite.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal_ffn_down_finite m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4)
      ∧ r.2.mem ((c.tc : Thread Cert.FfnDownRefIdeal.nD Cert.FfnDownRefIdeal.τ).loc Cert.FfnDownRefIdeal.main_arg5) = m ((c.tc : Thread Cert.FfnDownRefIdeal.nD Cert.FfnDownRefIdeal.τ).loc Cert.FfnDownRefIdeal.main_arg5)
      ∧ r.2.mem ((c.tc : Thread Cert.FfnDownRefIdeal.nD Cert.FfnDownRefIdeal.τ).loc Cert.FfnDownRefIdeal.main_arg6) = m ((c.tc : Thread Cert.FfnDownRefIdeal.nD Cert.FfnDownRefIdeal.τ).loc Cert.FfnDownRefIdeal.main_arg6))
      ∧ r.2.sem = fun _ => 0)

def quiescent_MixInKernel [hMixInKernel : Cert.MixInKernel.Facts] : Prop :=
  ∀ (m : (ℓ : Loc Cert.MixInKernel.nD Cert.MixInKernel.τ Cert.MixInKernel.sig) → Buf (Elt Bits) ℓ) (g : Dev Cert.MixInKernel.nD → PrngReg), Pre_MixInKernel m →
    θ_run (Cert.MixInKernel.defs (F := Bits)) (onTc (τ := Cert.MixInKernel.τ) (Cert.MixInKernel.main (F := Bits))) ⟨m, fun _ => 0, g⟩ (fun r => (∀ c : Dev Cert.MixInKernel.nD,
      r.2.mem ((c.tc : Thread Cert.MixInKernel.nD Cert.MixInKernel.τ).loc Cert.MixInKernel.main_arg0) = m ((c.tc : Thread Cert.MixInKernel.nD Cert.MixInKernel.τ).loc Cert.MixInKernel.main_arg0)
      ∧ r.2.mem ((c.tc : Thread Cert.MixInKernel.nD Cert.MixInKernel.τ).loc Cert.MixInKernel.main_arg1) = m ((c.tc : Thread Cert.MixInKernel.nD Cert.MixInKernel.τ).loc Cert.MixInKernel.main_arg1)
      ∧ r.2.mem ((c.tc : Thread Cert.MixInKernel.nD Cert.MixInKernel.τ).loc Cert.MixInKernel.main_arg2) = m ((c.tc : Thread Cert.MixInKernel.nD Cert.MixInKernel.τ).loc Cert.MixInKernel.main_arg2)
      ∧ r.2.mem ((c.tc : Thread Cert.MixInKernel.nD Cert.MixInKernel.τ).loc Cert.MixInKernel.main_arg3) = m ((c.tc : Thread Cert.MixInKernel.nD Cert.MixInKernel.τ).loc Cert.MixInKernel.main_arg3)
      ∧ r.2.mem ((c.tc : Thread Cert.MixInKernel.nD Cert.MixInKernel.τ).loc Cert.MixInKernel.main_arg4) = m ((c.tc : Thread Cert.MixInKernel.nD Cert.MixInKernel.τ).loc Cert.MixInKernel.main_arg4)
      ∧ r.2.mem ((c.tc : Thread Cert.MixInKernel.nD Cert.MixInKernel.τ).loc Cert.MixInKernel.main_arg5) = m ((c.tc : Thread Cert.MixInKernel.nD Cert.MixInKernel.τ).loc Cert.MixInKernel.main_arg5)
      ∧ r.2.mem ((c.tc : Thread Cert.MixInKernel.nD Cert.MixInKernel.τ).loc Cert.MixInKernel.main_arg6) = m ((c.tc : Thread Cert.MixInKernel.nD Cert.MixInKernel.τ).loc Cert.MixInKernel.main_arg6)
      ∧ r.2.mem ((c.tc : Thread Cert.MixInKernel.nD Cert.MixInKernel.τ).loc Cert.MixInKernel.main_arg7) = m ((c.tc : Thread Cert.MixInKernel.nD Cert.MixInKernel.τ).loc Cert.MixInKernel.main_arg7)
      ∧ r.2.mem ((c.tc : Thread Cert.MixInKernel.nD Cert.MixInKernel.τ).loc Cert.MixInKernel.main_arg8) = m ((c.tc : Thread Cert.MixInKernel.nD Cert.MixInKernel.τ).loc Cert.MixInKernel.main_arg8))
      ∧ r.2.sem = fun _ => 0)

def quiescent_MixInKernelIdeal [hMixInKernelIdeal : Cert.MixInKernelIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
      ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
      ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
      ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
      ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8))
      ∧ r.2.sem = fun _ => 0)

def quiescent_MixInKernelIdeal_pre_mix_in_finite [hMixInKernelIdeal : Cert.MixInKernelIdeal.Facts] [hPre_mix_in_finite : Cert.Pre_mix_in_finite.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal_mix_in_finite m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
      ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
      ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
      ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
      ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8))
      ∧ r.2.sem = fun _ => 0)

def quiescent_MixInRefIdeal_pre_mix_in_finite [hMixInRefIdeal : Cert.MixInRefIdeal.Facts] [hPre_mix_in_finite : Cert.Pre_mix_in_finite.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_mix_in_finite m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7)
      ∧ r.2.mem ((c.tc : Thread Cert.MixInRefIdeal.nD Cert.MixInRefIdeal.τ).loc Cert.MixInRefIdeal.main_arg8) = m ((c.tc : Thread Cert.MixInRefIdeal.nD Cert.MixInRefIdeal.τ).loc Cert.MixInRefIdeal.main_arg8))
      ∧ r.2.sem = fun _ => 0)

def quiescent_MixOutKernel [hMixOutKernel : Cert.MixOutKernel.Facts] : Prop :=
  ∀ (m : (ℓ : Loc Cert.MixOutKernel.nD Cert.MixOutKernel.τ Cert.MixOutKernel.sig) → Buf (Elt Bits) ℓ) (g : Dev Cert.MixOutKernel.nD → PrngReg), Pre_MixOutKernel m →
    θ_run (Cert.MixOutKernel.defs (F := Bits)) (onTc (τ := Cert.MixOutKernel.τ) (Cert.MixOutKernel.main (F := Bits))) ⟨m, fun _ => 0, g⟩ (fun r => (∀ c : Dev Cert.MixOutKernel.nD,
      r.2.mem ((c.tc : Thread Cert.MixOutKernel.nD Cert.MixOutKernel.τ).loc Cert.MixOutKernel.main_arg0) = m ((c.tc : Thread Cert.MixOutKernel.nD Cert.MixOutKernel.τ).loc Cert.MixOutKernel.main_arg0)
      ∧ r.2.mem ((c.tc : Thread Cert.MixOutKernel.nD Cert.MixOutKernel.τ).loc Cert.MixOutKernel.main_arg1) = m ((c.tc : Thread Cert.MixOutKernel.nD Cert.MixOutKernel.τ).loc Cert.MixOutKernel.main_arg1)
      ∧ r.2.mem ((c.tc : Thread Cert.MixOutKernel.nD Cert.MixOutKernel.τ).loc Cert.MixOutKernel.main_arg2) = m ((c.tc : Thread Cert.MixOutKernel.nD Cert.MixOutKernel.τ).loc Cert.MixOutKernel.main_arg2)
      ∧ r.2.mem ((c.tc : Thread Cert.MixOutKernel.nD Cert.MixOutKernel.τ).loc Cert.MixOutKernel.main_arg3) = m ((c.tc : Thread Cert.MixOutKernel.nD Cert.MixOutKernel.τ).loc Cert.MixOutKernel.main_arg3)
      ∧ r.2.mem ((c.tc : Thread Cert.MixOutKernel.nD Cert.MixOutKernel.τ).loc Cert.MixOutKernel.main_arg4) = m ((c.tc : Thread Cert.MixOutKernel.nD Cert.MixOutKernel.τ).loc Cert.MixOutKernel.main_arg4)
      ∧ r.2.mem ((c.tc : Thread Cert.MixOutKernel.nD Cert.MixOutKernel.τ).loc Cert.MixOutKernel.main_arg5) = m ((c.tc : Thread Cert.MixOutKernel.nD Cert.MixOutKernel.τ).loc Cert.MixOutKernel.main_arg5)
      ∧ r.2.mem ((c.tc : Thread Cert.MixOutKernel.nD Cert.MixOutKernel.τ).loc Cert.MixOutKernel.main_arg6) = m ((c.tc : Thread Cert.MixOutKernel.nD Cert.MixOutKernel.τ).loc Cert.MixOutKernel.main_arg6))
      ∧ r.2.sem = fun _ => 0)

def quiescent_MixOutKernelIdeal [hMixOutKernelIdeal : Cert.MixOutKernelIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
      ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
      ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5)
      ∧ r.2.mem ((c.tc : Thread Cert.MixOutKernelIdeal.nD Cert.MixOutKernelIdeal.τ).loc Cert.MixOutKernelIdeal.main_arg6) = m ((c.tc : Thread Cert.MixOutKernelIdeal.nD Cert.MixOutKernelIdeal.τ).loc Cert.MixOutKernelIdeal.main_arg6))
      ∧ r.2.sem = fun _ => 0)

def quiescent_MixOutKernelIdeal_pre_mix_out_finite [hMixOutKernelIdeal : Cert.MixOutKernelIdeal.Facts] [hPre_mix_out_finite : Cert.Pre_mix_out_finite.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal_mix_out_finite m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
      ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
      ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5)
      ∧ r.2.mem ((c.tc : Thread Cert.MixOutKernelIdeal.nD Cert.MixOutKernelIdeal.τ).loc Cert.MixOutKernelIdeal.main_arg6) = m ((c.tc : Thread Cert.MixOutKernelIdeal.nD Cert.MixOutKernelIdeal.τ).loc Cert.MixOutKernelIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_MixOutRefIdeal_pre_mix_out_finite [hMixOutRefIdeal : Cert.MixOutRefIdeal.Facts] [hPre_mix_out_finite : Cert.Pre_mix_out_finite.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_mix_out_finite m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5)
      ∧ r.2.mem ((c.tc : Thread Cert.MlaKernel.nD Cert.MlaKernel.τ).loc Cert.MlaKernel.main_arg6) = m ((c.tc : Thread Cert.MlaKernel.nD Cert.MlaKernel.τ).loc Cert.MlaKernel.main_arg6)
      ∧ r.2.mem ((c.tc : Thread Cert.MlaKernel.nD Cert.MlaKernel.τ).loc Cert.MlaKernel.main_arg7) = m ((c.tc : Thread Cert.MlaKernel.nD Cert.MlaKernel.τ).loc Cert.MlaKernel.main_arg7)
      ∧ r.2.mem ((c.tc : Thread Cert.MlaKernel.nD Cert.MlaKernel.τ).loc Cert.MlaKernel.main_arg8) = m ((c.tc : Thread Cert.MlaKernel.nD Cert.MlaKernel.τ).loc Cert.MlaKernel.main_arg8)
      ∧ r.2.mem ((c.tc : Thread Cert.MlaKernel.nD Cert.MlaKernel.τ).loc Cert.MlaKernel.main_arg9) = m ((c.tc : Thread Cert.MlaKernel.nD Cert.MlaKernel.τ).loc Cert.MlaKernel.main_arg9)
      ∧ r.2.mem ((c.tc : Thread Cert.MlaKernel.nD Cert.MlaKernel.τ).loc Cert.MlaKernel.main_arg10) = m ((c.tc : Thread Cert.MlaKernel.nD Cert.MlaKernel.τ).loc Cert.MlaKernel.main_arg10))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
      ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9)
      ∧ r.2.mem ((c.tc : Thread Cert.MlaKernelIdeal.nD Cert.MlaKernelIdeal.τ).loc Cert.MlaKernelIdeal.main_arg10) = m ((c.tc : Thread Cert.MlaKernelIdeal.nD Cert.MlaKernelIdeal.τ).loc Cert.MlaKernelIdeal.main_arg10))
      ∧ r.2.sem = fun _ => 0)

def quiescent_MlaKernelIdeal_pre_mla_finite [hMlaKernelIdeal : Cert.MlaKernelIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_mla_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
      ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
      ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
      ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
      ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9)
      ∧ r.2.mem ((c.tc : Thread Cert.MlaKernelIdeal.nD Cert.MlaKernelIdeal.τ).loc Cert.MlaKernelIdeal.main_arg10) = m ((c.tc : Thread Cert.MlaKernelIdeal.nD Cert.MlaKernelIdeal.τ).loc Cert.MlaKernelIdeal.main_arg10))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10))
      ∧ r.2.sem = fun _ => 0)

def quiescent_MlaRefIdeal_pre_mla_finite [hMlaRefIdeal : Cert.MlaRefIdeal.Facts] [hPre_mla_finite : Cert.Pre_mla_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5)
      ∧ r.2.mem ((c.tc : Thread Cert.MlaRefIdeal.nD Cert.MlaRefIdeal.τ).loc Cert.MlaRefIdeal.main_arg6) = m ((c.tc : Thread Cert.MlaRefIdeal.nD Cert.MlaRefIdeal.τ).loc Cert.MlaRefIdeal.main_arg6)
      ∧ r.2.mem ((c.tc : Thread Cert.MlaRefIdeal.nD Cert.MlaRefIdeal.τ).loc Cert.MlaRefIdeal.main_arg7) = m ((c.tc : Thread Cert.MlaRefIdeal.nD Cert.MlaRefIdeal.τ).loc Cert.MlaRefIdeal.main_arg7)
      ∧ r.2.mem ((c.tc : Thread Cert.MlaRefIdeal.nD Cert.MlaRefIdeal.τ).loc Cert.MlaRefIdeal.main_arg8) = m ((c.tc : Thread Cert.MlaRefIdeal.nD Cert.MlaRefIdeal.τ).loc Cert.MlaRefIdeal.main_arg8)
      ∧ r.2.mem ((c.tc : Thread Cert.MlaRefIdeal.nD Cert.MlaRefIdeal.τ).loc Cert.MlaRefIdeal.main_arg9) = m ((c.tc : Thread Cert.MlaRefIdeal.nD Cert.MlaRefIdeal.τ).loc Cert.MlaRefIdeal.main_arg9)
      ∧ r.2.mem ((c.tc : Thread Cert.MlaRefIdeal.nD Cert.MlaRefIdeal.τ).loc Cert.MlaRefIdeal.main_arg10) = m ((c.tc : Thread Cert.MlaRefIdeal.nD Cert.MlaRefIdeal.τ).loc Cert.MlaRefIdeal.main_arg10))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4)
      ∧ r.2.mem ((c.tc : Thread Cert.FfnFwdKernel.nD Cert.FfnFwdKernel.τ).loc Cert.FfnFwdKernel.main_arg5) = m ((c.tc : Thread Cert.FfnFwdKernel.nD Cert.FfnFwdKernel.τ).loc Cert.FfnFwdKernel.main_arg5))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
      ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5))
      ∧ r.2.sem = fun _ => 0)

def quiescent_MixInFwdKernel [hMixInFwdKernel : Cert.MixInFwdKernel.Facts] : Prop :=
  ∀ (m : (ℓ : Loc Cert.MixInFwdKernel.nD Cert.MixInFwdKernel.τ Cert.MixInFwdKernel.sig) → Buf (Elt Bits) ℓ) (g : Dev Cert.MixInFwdKernel.nD → PrngReg), Pre_MixInFwdKernel m →
    θ_run (Cert.MixInFwdKernel.defs (F := Bits)) (onTc (τ := Cert.MixInFwdKernel.τ) (Cert.MixInFwdKernel.main (F := Bits))) ⟨m, fun _ => 0, g⟩ (fun r => (∀ c : Dev Cert.MixInFwdKernel.nD,
      r.2.mem ((c.tc : Thread Cert.MixInFwdKernel.nD Cert.MixInFwdKernel.τ).loc Cert.MixInFwdKernel.main_arg0) = m ((c.tc : Thread Cert.MixInFwdKernel.nD Cert.MixInFwdKernel.τ).loc Cert.MixInFwdKernel.main_arg0)
      ∧ r.2.mem ((c.tc : Thread Cert.MixInFwdKernel.nD Cert.MixInFwdKernel.τ).loc Cert.MixInFwdKernel.main_arg1) = m ((c.tc : Thread Cert.MixInFwdKernel.nD Cert.MixInFwdKernel.τ).loc Cert.MixInFwdKernel.main_arg1)
      ∧ r.2.mem ((c.tc : Thread Cert.MixInFwdKernel.nD Cert.MixInFwdKernel.τ).loc Cert.MixInFwdKernel.main_arg2) = m ((c.tc : Thread Cert.MixInFwdKernel.nD Cert.MixInFwdKernel.τ).loc Cert.MixInFwdKernel.main_arg2))
      ∧ r.2.sem = fun _ => 0)

def quiescent_MixInFwdKernelIdeal [hMixInFwdKernelIdeal : Cert.MixInFwdKernelIdeal.Facts] : Prop :=
  ∀ (m : (ℓ : Loc Cert.MixInFwdKernelIdeal.nD Cert.MixInFwdKernelIdeal.τ Cert.MixInFwdKernelIdeal.sig) → Buf (Elt Ideal) ℓ) (g : Dev Cert.MixInFwdKernelIdeal.nD → PrngReg), Pre_MixInFwdKernelIdeal m →
    θ_run (Cert.MixInFwdKernelIdeal.defs (F := Ideal)) (onTc (τ := Cert.MixInFwdKernelIdeal.τ) (Cert.MixInFwdKernelIdeal.main (F := Ideal))) ⟨m, fun _ => 0, g⟩ (fun r => (∀ c : Dev Cert.MixInFwdKernelIdeal.nD,
      r.2.mem ((c.tc : Thread Cert.MixInFwdKernelIdeal.nD Cert.MixInFwdKernelIdeal.τ).loc Cert.MixInFwdKernelIdeal.main_arg0) = m ((c.tc : Thread Cert.MixInFwdKernelIdeal.nD Cert.MixInFwdKernelIdeal.τ).loc Cert.MixInFwdKernelIdeal.main_arg0)
      ∧ r.2.mem ((c.tc : Thread Cert.MixInFwdKernelIdeal.nD Cert.MixInFwdKernelIdeal.τ).loc Cert.MixInFwdKernelIdeal.main_arg1) = m ((c.tc : Thread Cert.MixInFwdKernelIdeal.nD Cert.MixInFwdKernelIdeal.τ).loc Cert.MixInFwdKernelIdeal.main_arg1)
      ∧ r.2.mem ((c.tc : Thread Cert.MixInFwdKernelIdeal.nD Cert.MixInFwdKernelIdeal.τ).loc Cert.MixInFwdKernelIdeal.main_arg2) = m ((c.tc : Thread Cert.MixInFwdKernelIdeal.nD Cert.MixInFwdKernelIdeal.τ).loc Cert.MixInFwdKernelIdeal.main_arg2))
      ∧ r.2.sem = fun _ => 0)

def quiescent_MixInFwdRefIdeal [hMixInFwdRefIdeal : Cert.MixInFwdRefIdeal.Facts] : Prop :=
  ∀ (m : (ℓ : Loc Cert.MixInFwdRefIdeal.nD Cert.MixInFwdRefIdeal.τ Cert.MixInFwdRefIdeal.sig) → Buf (Elt Ideal) ℓ) (g : Dev Cert.MixInFwdRefIdeal.nD → PrngReg), Pre_MixInFwdRefIdeal m →
    θ_run (Cert.MixInFwdRefIdeal.defs (F := Ideal)) (onTc (τ := Cert.MixInFwdRefIdeal.τ) (Cert.MixInFwdRefIdeal.main (F := Ideal))) ⟨m, fun _ => 0, g⟩ (fun r => (∀ c : Dev Cert.MixInFwdRefIdeal.nD,
      r.2.mem ((c.tc : Thread Cert.MixInFwdRefIdeal.nD Cert.MixInFwdRefIdeal.τ).loc Cert.MixInFwdRefIdeal.main_arg0) = m ((c.tc : Thread Cert.MixInFwdRefIdeal.nD Cert.MixInFwdRefIdeal.τ).loc Cert.MixInFwdRefIdeal.main_arg0)
      ∧ r.2.mem ((c.tc : Thread Cert.MixInFwdRefIdeal.nD Cert.MixInFwdRefIdeal.τ).loc Cert.MixInFwdRefIdeal.main_arg1) = m ((c.tc : Thread Cert.MixInFwdRefIdeal.nD Cert.MixInFwdRefIdeal.τ).loc Cert.MixInFwdRefIdeal.main_arg1)
      ∧ r.2.mem ((c.tc : Thread Cert.MixInFwdRefIdeal.nD Cert.MixInFwdRefIdeal.τ).loc Cert.MixInFwdRefIdeal.main_arg2) = m ((c.tc : Thread Cert.MixInFwdRefIdeal.nD Cert.MixInFwdRefIdeal.τ).loc Cert.MixInFwdRefIdeal.main_arg2))
      ∧ r.2.sem = fun _ => 0)

def quiescent_MixOutFwdKernel [hMixOutFwdKernel : Cert.MixOutFwdKernel.Facts] : Prop :=
  ∀ (m : (ℓ : Loc Cert.MixOutFwdKernel.nD Cert.MixOutFwdKernel.τ Cert.MixOutFwdKernel.sig) → Buf (Elt Bits) ℓ) (g : Dev Cert.MixOutFwdKernel.nD → PrngReg), Pre_MixOutFwdKernel m →
    θ_run (Cert.MixOutFwdKernel.defs (F := Bits)) (onTc (τ := Cert.MixOutFwdKernel.τ) (Cert.MixOutFwdKernel.main (F := Bits))) ⟨m, fun _ => 0, g⟩ (fun r => (∀ c : Dev Cert.MixOutFwdKernel.nD,
      r.2.mem ((c.tc : Thread Cert.MixOutFwdKernel.nD Cert.MixOutFwdKernel.τ).loc Cert.MixOutFwdKernel.main_arg0) = m ((c.tc : Thread Cert.MixOutFwdKernel.nD Cert.MixOutFwdKernel.τ).loc Cert.MixOutFwdKernel.main_arg0)
      ∧ r.2.mem ((c.tc : Thread Cert.MixOutFwdKernel.nD Cert.MixOutFwdKernel.τ).loc Cert.MixOutFwdKernel.main_arg1) = m ((c.tc : Thread Cert.MixOutFwdKernel.nD Cert.MixOutFwdKernel.τ).loc Cert.MixOutFwdKernel.main_arg1)
      ∧ r.2.mem ((c.tc : Thread Cert.MixOutFwdKernel.nD Cert.MixOutFwdKernel.τ).loc Cert.MixOutFwdKernel.main_arg2) = m ((c.tc : Thread Cert.MixOutFwdKernel.nD Cert.MixOutFwdKernel.τ).loc Cert.MixOutFwdKernel.main_arg2)
      ∧ r.2.mem ((c.tc : Thread Cert.MixOutFwdKernel.nD Cert.MixOutFwdKernel.τ).loc Cert.MixOutFwdKernel.main_arg3) = m ((c.tc : Thread Cert.MixOutFwdKernel.nD Cert.MixOutFwdKernel.τ).loc Cert.MixOutFwdKernel.main_arg3)
      ∧ r.2.mem ((c.tc : Thread Cert.MixOutFwdKernel.nD Cert.MixOutFwdKernel.τ).loc Cert.MixOutFwdKernel.main_arg4) = m ((c.tc : Thread Cert.MixOutFwdKernel.nD Cert.MixOutFwdKernel.τ).loc Cert.MixOutFwdKernel.main_arg4)
      ∧ r.2.mem ((c.tc : Thread Cert.MixOutFwdKernel.nD Cert.MixOutFwdKernel.τ).loc Cert.MixOutFwdKernel.main_arg5) = m ((c.tc : Thread Cert.MixOutFwdKernel.nD Cert.MixOutFwdKernel.τ).loc Cert.MixOutFwdKernel.main_arg5)
      ∧ r.2.mem ((c.tc : Thread Cert.MixOutFwdKernel.nD Cert.MixOutFwdKernel.τ).loc Cert.MixOutFwdKernel.main_arg6) = m ((c.tc : Thread Cert.MixOutFwdKernel.nD Cert.MixOutFwdKernel.τ).loc Cert.MixOutFwdKernel.main_arg6))
      ∧ r.2.sem = fun _ => 0)

def quiescent_MixOutFwdKernelIdeal [hMixOutFwdKernelIdeal : Cert.MixOutFwdKernelIdeal.Facts] : Prop :=
  ∀ (m : (ℓ : Loc Cert.MixOutFwdKernelIdeal.nD Cert.MixOutFwdKernelIdeal.τ Cert.MixOutFwdKernelIdeal.sig) → Buf (Elt Ideal) ℓ) (g : Dev Cert.MixOutFwdKernelIdeal.nD → PrngReg), Pre_MixOutFwdKernelIdeal m →
    θ_run (Cert.MixOutFwdKernelIdeal.defs (F := Ideal)) (onTc (τ := Cert.MixOutFwdKernelIdeal.τ) (Cert.MixOutFwdKernelIdeal.main (F := Ideal))) ⟨m, fun _ => 0, g⟩ (fun r => (∀ c : Dev Cert.MixOutFwdKernelIdeal.nD,
      r.2.mem ((c.tc : Thread Cert.MixOutFwdKernelIdeal.nD Cert.MixOutFwdKernelIdeal.τ).loc Cert.MixOutFwdKernelIdeal.main_arg0) = m ((c.tc : Thread Cert.MixOutFwdKernelIdeal.nD Cert.MixOutFwdKernelIdeal.τ).loc Cert.MixOutFwdKernelIdeal.main_arg0)
      ∧ r.2.mem ((c.tc : Thread Cert.MixOutFwdKernelIdeal.nD Cert.MixOutFwdKernelIdeal.τ).loc Cert.MixOutFwdKernelIdeal.main_arg1) = m ((c.tc : Thread Cert.MixOutFwdKernelIdeal.nD Cert.MixOutFwdKernelIdeal.τ).loc Cert.MixOutFwdKernelIdeal.main_arg1)
      ∧ r.2.mem ((c.tc : Thread Cert.MixOutFwdKernelIdeal.nD Cert.MixOutFwdKernelIdeal.τ).loc Cert.MixOutFwdKernelIdeal.main_arg2) = m ((c.tc : Thread Cert.MixOutFwdKernelIdeal.nD Cert.MixOutFwdKernelIdeal.τ).loc Cert.MixOutFwdKernelIdeal.main_arg2)
      ∧ r.2.mem ((c.tc : Thread Cert.MixOutFwdKernelIdeal.nD Cert.MixOutFwdKernelIdeal.τ).loc Cert.MixOutFwdKernelIdeal.main_arg3) = m ((c.tc : Thread Cert.MixOutFwdKernelIdeal.nD Cert.MixOutFwdKernelIdeal.τ).loc Cert.MixOutFwdKernelIdeal.main_arg3)
      ∧ r.2.mem ((c.tc : Thread Cert.MixOutFwdKernelIdeal.nD Cert.MixOutFwdKernelIdeal.τ).loc Cert.MixOutFwdKernelIdeal.main_arg4) = m ((c.tc : Thread Cert.MixOutFwdKernelIdeal.nD Cert.MixOutFwdKernelIdeal.τ).loc Cert.MixOutFwdKernelIdeal.main_arg4)
      ∧ r.2.mem ((c.tc : Thread Cert.MixOutFwdKernelIdeal.nD Cert.MixOutFwdKernelIdeal.τ).loc Cert.MixOutFwdKernelIdeal.main_arg5) = m ((c.tc : Thread Cert.MixOutFwdKernelIdeal.nD Cert.MixOutFwdKernelIdeal.τ).loc Cert.MixOutFwdKernelIdeal.main_arg5)
      ∧ r.2.mem ((c.tc : Thread Cert.MixOutFwdKernelIdeal.nD Cert.MixOutFwdKernelIdeal.τ).loc Cert.MixOutFwdKernelIdeal.main_arg6) = m ((c.tc : Thread Cert.MixOutFwdKernelIdeal.nD Cert.MixOutFwdKernelIdeal.τ).loc Cert.MixOutFwdKernelIdeal.main_arg6))
      ∧ r.2.sem = fun _ => 0)

def quiescent_MixOutFwdRefIdeal [hMixOutFwdRefIdeal : Cert.MixOutFwdRefIdeal.Facts] : Prop :=
  ∀ (m : (ℓ : Loc Cert.MixOutFwdRefIdeal.nD Cert.MixOutFwdRefIdeal.τ Cert.MixOutFwdRefIdeal.sig) → Buf (Elt Ideal) ℓ) (g : Dev Cert.MixOutFwdRefIdeal.nD → PrngReg), Pre_MixOutFwdRefIdeal m →
    θ_run (Cert.MixOutFwdRefIdeal.defs (F := Ideal)) (onTc (τ := Cert.MixOutFwdRefIdeal.τ) (Cert.MixOutFwdRefIdeal.main (F := Ideal))) ⟨m, fun _ => 0, g⟩ (fun r => (∀ c : Dev Cert.MixOutFwdRefIdeal.nD,
      r.2.mem ((c.tc : Thread Cert.MixOutFwdRefIdeal.nD Cert.MixOutFwdRefIdeal.τ).loc Cert.MixOutFwdRefIdeal.main_arg0) = m ((c.tc : Thread Cert.MixOutFwdRefIdeal.nD Cert.MixOutFwdRefIdeal.τ).loc Cert.MixOutFwdRefIdeal.main_arg0)
      ∧ r.2.mem ((c.tc : Thread Cert.MixOutFwdRefIdeal.nD Cert.MixOutFwdRefIdeal.τ).loc Cert.MixOutFwdRefIdeal.main_arg1) = m ((c.tc : Thread Cert.MixOutFwdRefIdeal.nD Cert.MixOutFwdRefIdeal.τ).loc Cert.MixOutFwdRefIdeal.main_arg1)
      ∧ r.2.mem ((c.tc : Thread Cert.MixOutFwdRefIdeal.nD Cert.MixOutFwdRefIdeal.τ).loc Cert.MixOutFwdRefIdeal.main_arg2) = m ((c.tc : Thread Cert.MixOutFwdRefIdeal.nD Cert.MixOutFwdRefIdeal.τ).loc Cert.MixOutFwdRefIdeal.main_arg2)
      ∧ r.2.mem ((c.tc : Thread Cert.MixOutFwdRefIdeal.nD Cert.MixOutFwdRefIdeal.τ).loc Cert.MixOutFwdRefIdeal.main_arg3) = m ((c.tc : Thread Cert.MixOutFwdRefIdeal.nD Cert.MixOutFwdRefIdeal.τ).loc Cert.MixOutFwdRefIdeal.main_arg3)
      ∧ r.2.mem ((c.tc : Thread Cert.MixOutFwdRefIdeal.nD Cert.MixOutFwdRefIdeal.τ).loc Cert.MixOutFwdRefIdeal.main_arg4) = m ((c.tc : Thread Cert.MixOutFwdRefIdeal.nD Cert.MixOutFwdRefIdeal.τ).loc Cert.MixOutFwdRefIdeal.main_arg4)
      ∧ r.2.mem ((c.tc : Thread Cert.MixOutFwdRefIdeal.nD Cert.MixOutFwdRefIdeal.τ).loc Cert.MixOutFwdRefIdeal.main_arg5) = m ((c.tc : Thread Cert.MixOutFwdRefIdeal.nD Cert.MixOutFwdRefIdeal.τ).loc Cert.MixOutFwdRefIdeal.main_arg5)
      ∧ r.2.mem ((c.tc : Thread Cert.MixOutFwdRefIdeal.nD Cert.MixOutFwdRefIdeal.τ).loc Cert.MixOutFwdRefIdeal.main_arg6) = m ((c.tc : Thread Cert.MixOutFwdRefIdeal.nD Cert.MixOutFwdRefIdeal.τ).loc Cert.MixOutFwdRefIdeal.main_arg6))
      ∧ r.2.sem = fun _ => 0)

def quiescent_MlaFwdKernel [hMlaFwdKernel : Cert.MlaFwdKernel.Facts] : Prop :=
  ∀ (m : (ℓ : Loc Cert.MlaFwdKernel.nD Cert.MlaFwdKernel.τ Cert.MlaFwdKernel.sig) → Buf (Elt Bits) ℓ) (g : Dev Cert.MlaFwdKernel.nD → PrngReg), Pre_MlaFwdKernel m →
    θ_run (Cert.MlaFwdKernel.defs (F := Bits)) (onTc (τ := Cert.MlaFwdKernel.τ) (Cert.MlaFwdKernel.main (F := Bits))) ⟨m, fun _ => 0, g⟩ (fun r => (∀ c : Dev Cert.MlaFwdKernel.nD,
      r.2.mem ((c.tc : Thread Cert.MlaFwdKernel.nD Cert.MlaFwdKernel.τ).loc Cert.MlaFwdKernel.main_arg0) = m ((c.tc : Thread Cert.MlaFwdKernel.nD Cert.MlaFwdKernel.τ).loc Cert.MlaFwdKernel.main_arg0)
      ∧ r.2.mem ((c.tc : Thread Cert.MlaFwdKernel.nD Cert.MlaFwdKernel.τ).loc Cert.MlaFwdKernel.main_arg1) = m ((c.tc : Thread Cert.MlaFwdKernel.nD Cert.MlaFwdKernel.τ).loc Cert.MlaFwdKernel.main_arg1)
      ∧ r.2.mem ((c.tc : Thread Cert.MlaFwdKernel.nD Cert.MlaFwdKernel.τ).loc Cert.MlaFwdKernel.main_arg2) = m ((c.tc : Thread Cert.MlaFwdKernel.nD Cert.MlaFwdKernel.τ).loc Cert.MlaFwdKernel.main_arg2)
      ∧ r.2.mem ((c.tc : Thread Cert.MlaFwdKernel.nD Cert.MlaFwdKernel.τ).loc Cert.MlaFwdKernel.main_arg3) = m ((c.tc : Thread Cert.MlaFwdKernel.nD Cert.MlaFwdKernel.τ).loc Cert.MlaFwdKernel.main_arg3)
      ∧ r.2.mem ((c.tc : Thread Cert.MlaFwdKernel.nD Cert.MlaFwdKernel.τ).loc Cert.MlaFwdKernel.main_arg4) = m ((c.tc : Thread Cert.MlaFwdKernel.nD Cert.MlaFwdKernel.τ).loc Cert.MlaFwdKernel.main_arg4)
      ∧ r.2.mem ((c.tc : Thread Cert.MlaFwdKernel.nD Cert.MlaFwdKernel.τ).loc Cert.MlaFwdKernel.main_arg5) = m ((c.tc : Thread Cert.MlaFwdKernel.nD Cert.MlaFwdKernel.τ).loc Cert.MlaFwdKernel.main_arg5)
      ∧ r.2.mem ((c.tc : Thread Cert.MlaFwdKernel.nD Cert.MlaFwdKernel.τ).loc Cert.MlaFwdKernel.main_arg6) = m ((c.tc : Thread Cert.MlaFwdKernel.nD Cert.MlaFwdKernel.τ).loc Cert.MlaFwdKernel.main_arg6)
      ∧ r.2.mem ((c.tc : Thread Cert.MlaFwdKernel.nD Cert.MlaFwdKernel.τ).loc Cert.MlaFwdKernel.main_arg7) = m ((c.tc : Thread Cert.MlaFwdKernel.nD Cert.MlaFwdKernel.τ).loc Cert.MlaFwdKernel.main_arg7)
      ∧ r.2.mem ((c.tc : Thread Cert.MlaFwdKernel.nD Cert.MlaFwdKernel.τ).loc Cert.MlaFwdKernel.main_arg8) = m ((c.tc : Thread Cert.MlaFwdKernel.nD Cert.MlaFwdKernel.τ).loc Cert.MlaFwdKernel.main_arg8))
      ∧ r.2.sem = fun _ => 0)

def quiescent_MlaFwdKernelIdeal [hMlaFwdKernelIdeal : Cert.MlaFwdKernelIdeal.Facts] : Prop :=
  ∀ (m : (ℓ : Loc Cert.MlaFwdKernelIdeal.nD Cert.MlaFwdKernelIdeal.τ Cert.MlaFwdKernelIdeal.sig) → Buf (Elt Ideal) ℓ) (g : Dev Cert.MlaFwdKernelIdeal.nD → PrngReg), Pre_MlaFwdKernelIdeal m →
    θ_run (Cert.MlaFwdKernelIdeal.defs (F := Ideal)) (onTc (τ := Cert.MlaFwdKernelIdeal.τ) (Cert.MlaFwdKernelIdeal.main (F := Ideal))) ⟨m, fun _ => 0, g⟩ (fun r => (∀ c : Dev Cert.MlaFwdKernelIdeal.nD,
      r.2.mem ((c.tc : Thread Cert.MlaFwdKernelIdeal.nD Cert.MlaFwdKernelIdeal.τ).loc Cert.MlaFwdKernelIdeal.main_arg0) = m ((c.tc : Thread Cert.MlaFwdKernelIdeal.nD Cert.MlaFwdKernelIdeal.τ).loc Cert.MlaFwdKernelIdeal.main_arg0)
      ∧ r.2.mem ((c.tc : Thread Cert.MlaFwdKernelIdeal.nD Cert.MlaFwdKernelIdeal.τ).loc Cert.MlaFwdKernelIdeal.main_arg1) = m ((c.tc : Thread Cert.MlaFwdKernelIdeal.nD Cert.MlaFwdKernelIdeal.τ).loc Cert.MlaFwdKernelIdeal.main_arg1)
      ∧ r.2.mem ((c.tc : Thread Cert.MlaFwdKernelIdeal.nD Cert.MlaFwdKernelIdeal.τ).loc Cert.MlaFwdKernelIdeal.main_arg2) = m ((c.tc : Thread Cert.MlaFwdKernelIdeal.nD Cert.MlaFwdKernelIdeal.τ).loc Cert.MlaFwdKernelIdeal.main_arg2)
      ∧ r.2.mem ((c.tc : Thread Cert.MlaFwdKernelIdeal.nD Cert.MlaFwdKernelIdeal.τ).loc Cert.MlaFwdKernelIdeal.main_arg3) = m ((c.tc : Thread Cert.MlaFwdKernelIdeal.nD Cert.MlaFwdKernelIdeal.τ).loc Cert.MlaFwdKernelIdeal.main_arg3)
      ∧ r.2.mem ((c.tc : Thread Cert.MlaFwdKernelIdeal.nD Cert.MlaFwdKernelIdeal.τ).loc Cert.MlaFwdKernelIdeal.main_arg4) = m ((c.tc : Thread Cert.MlaFwdKernelIdeal.nD Cert.MlaFwdKernelIdeal.τ).loc Cert.MlaFwdKernelIdeal.main_arg4)
      ∧ r.2.mem ((c.tc : Thread Cert.MlaFwdKernelIdeal.nD Cert.MlaFwdKernelIdeal.τ).loc Cert.MlaFwdKernelIdeal.main_arg5) = m ((c.tc : Thread Cert.MlaFwdKernelIdeal.nD Cert.MlaFwdKernelIdeal.τ).loc Cert.MlaFwdKernelIdeal.main_arg5)
      ∧ r.2.mem ((c.tc : Thread Cert.MlaFwdKernelIdeal.nD Cert.MlaFwdKernelIdeal.τ).loc Cert.MlaFwdKernelIdeal.main_arg6) = m ((c.tc : Thread Cert.MlaFwdKernelIdeal.nD Cert.MlaFwdKernelIdeal.τ).loc Cert.MlaFwdKernelIdeal.main_arg6)
      ∧ r.2.mem ((c.tc : Thread Cert.MlaFwdKernelIdeal.nD Cert.MlaFwdKernelIdeal.τ).loc Cert.MlaFwdKernelIdeal.main_arg7) = m ((c.tc : Thread Cert.MlaFwdKernelIdeal.nD Cert.MlaFwdKernelIdeal.τ).loc Cert.MlaFwdKernelIdeal.main_arg7)
      ∧ r.2.mem ((c.tc : Thread Cert.MlaFwdKernelIdeal.nD Cert.MlaFwdKernelIdeal.τ).loc Cert.MlaFwdKernelIdeal.main_arg8) = m ((c.tc : Thread Cert.MlaFwdKernelIdeal.nD Cert.MlaFwdKernelIdeal.τ).loc Cert.MlaFwdKernelIdeal.main_arg8))
      ∧ r.2.sem = fun _ => 0)

def quiescent_MlaFwdRefIdeal [hMlaFwdRefIdeal : Cert.MlaFwdRefIdeal.Facts] : Prop :=
  ∀ (m : (ℓ : Loc Cert.MlaFwdRefIdeal.nD Cert.MlaFwdRefIdeal.τ Cert.MlaFwdRefIdeal.sig) → Buf (Elt Ideal) ℓ) (g : Dev Cert.MlaFwdRefIdeal.nD → PrngReg), Pre_MlaFwdRefIdeal m →
    θ_run (Cert.MlaFwdRefIdeal.defs (F := Ideal)) (onTc (τ := Cert.MlaFwdRefIdeal.τ) (Cert.MlaFwdRefIdeal.main (F := Ideal))) ⟨m, fun _ => 0, g⟩ (fun r => (∀ c : Dev Cert.MlaFwdRefIdeal.nD,
      r.2.mem ((c.tc : Thread Cert.MlaFwdRefIdeal.nD Cert.MlaFwdRefIdeal.τ).loc Cert.MlaFwdRefIdeal.main_arg0) = m ((c.tc : Thread Cert.MlaFwdRefIdeal.nD Cert.MlaFwdRefIdeal.τ).loc Cert.MlaFwdRefIdeal.main_arg0)
      ∧ r.2.mem ((c.tc : Thread Cert.MlaFwdRefIdeal.nD Cert.MlaFwdRefIdeal.τ).loc Cert.MlaFwdRefIdeal.main_arg1) = m ((c.tc : Thread Cert.MlaFwdRefIdeal.nD Cert.MlaFwdRefIdeal.τ).loc Cert.MlaFwdRefIdeal.main_arg1)
      ∧ r.2.mem ((c.tc : Thread Cert.MlaFwdRefIdeal.nD Cert.MlaFwdRefIdeal.τ).loc Cert.MlaFwdRefIdeal.main_arg2) = m ((c.tc : Thread Cert.MlaFwdRefIdeal.nD Cert.MlaFwdRefIdeal.τ).loc Cert.MlaFwdRefIdeal.main_arg2)
      ∧ r.2.mem ((c.tc : Thread Cert.MlaFwdRefIdeal.nD Cert.MlaFwdRefIdeal.τ).loc Cert.MlaFwdRefIdeal.main_arg3) = m ((c.tc : Thread Cert.MlaFwdRefIdeal.nD Cert.MlaFwdRefIdeal.τ).loc Cert.MlaFwdRefIdeal.main_arg3)
      ∧ r.2.mem ((c.tc : Thread Cert.MlaFwdRefIdeal.nD Cert.MlaFwdRefIdeal.τ).loc Cert.MlaFwdRefIdeal.main_arg4) = m ((c.tc : Thread Cert.MlaFwdRefIdeal.nD Cert.MlaFwdRefIdeal.τ).loc Cert.MlaFwdRefIdeal.main_arg4)
      ∧ r.2.mem ((c.tc : Thread Cert.MlaFwdRefIdeal.nD Cert.MlaFwdRefIdeal.τ).loc Cert.MlaFwdRefIdeal.main_arg5) = m ((c.tc : Thread Cert.MlaFwdRefIdeal.nD Cert.MlaFwdRefIdeal.τ).loc Cert.MlaFwdRefIdeal.main_arg5)
      ∧ r.2.mem ((c.tc : Thread Cert.MlaFwdRefIdeal.nD Cert.MlaFwdRefIdeal.τ).loc Cert.MlaFwdRefIdeal.main_arg6) = m ((c.tc : Thread Cert.MlaFwdRefIdeal.nD Cert.MlaFwdRefIdeal.τ).loc Cert.MlaFwdRefIdeal.main_arg6)
      ∧ r.2.mem ((c.tc : Thread Cert.MlaFwdRefIdeal.nD Cert.MlaFwdRefIdeal.τ).loc Cert.MlaFwdRefIdeal.main_arg7) = m ((c.tc : Thread Cert.MlaFwdRefIdeal.nD Cert.MlaFwdRefIdeal.τ).loc Cert.MlaFwdRefIdeal.main_arg7)
      ∧ r.2.mem ((c.tc : Thread Cert.MlaFwdRefIdeal.nD Cert.MlaFwdRefIdeal.τ).loc Cert.MlaFwdRefIdeal.main_arg8) = m ((c.tc : Thread Cert.MlaFwdRefIdeal.nD Cert.MlaFwdRefIdeal.τ).loc Cert.MlaFwdRefIdeal.main_arg8))
      ∧ r.2.sem = fun _ => 0)

def preserves_LossKernel_LossKernelIdeal : Prop :=
  True

def algebraic_LossKernelIdeal_LossRefIdeal [hLossKernelIdeal : Cert.LossKernelIdeal.Facts] [hLossRefIdeal : Cert.LossRefIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v4_0)) (v1 : (c : Dev Cert.LossKernelIdeal.nD) → Buf (Elt Ideal) ((c.tc : Thread Cert.LossKernelIdeal.nD Cert.LossKernelIdeal.τ).loc Cert.LossKernelIdeal.main_v4_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v4_0) = v0 c
          ∧ r.2.mem ((c.tc : Thread Cert.LossKernelIdeal.nD Cert.LossKernelIdeal.τ).loc Cert.LossKernelIdeal.main_v4_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v17) = v0 c
          ∧ r.2.mem ((c.tc : Thread Cert.LossRefIdeal.nD Cert.LossRefIdeal.τ).loc Cert.LossRefIdeal.main_v18) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_AttnQKernel_AttnQKernelIdeal : Prop :=
  IdealRules.named_const.Statement Cert.AttnQKernelIdeal.κ "att_log2" .f32 0x3E16C740#32 (((3424635 / 33554432) * (Real.log 2)⁻¹ : ℝ) : EReal)
  ∧ IdealRules.named_const.Statement Cert.AttnQKernelIdeal.κ "masked" .f32 0xF149F2CA#32 ⊥

def algebraic_AttnQKernelIdeal_AttnQRefIdeal_pre_attention_finite [hAttnQKernelIdeal : Cert.AttnQKernelIdeal.Facts] [hAttnQRefIdeal : Cert.AttnQRefIdeal.Facts] [hPre_attention_finite : Cert.Pre_attention_finite.Facts] : Prop :=
  ∀ (m : (ℓ : Loc Cert.AttnQKernelIdeal.nD Cert.AttnQKernelIdeal.τ Cert.AttnQKernelIdeal.sig) → Buf (Elt Ideal) ℓ) (g : Dev Cert.AttnQKernelIdeal.nD → PrngReg)
    (m' : (ℓ : Loc Cert.AttnQRefIdeal.nD Cert.AttnQRefIdeal.τ Cert.AttnQRefIdeal.sig) → Buf (Elt Ideal) ℓ) (g' : Dev Cert.AttnQRefIdeal.nD → PrngReg), Pre_AttnQKernelIdeal_attention_finite m →
    (∀ c : Dev Cert.AttnQKernelIdeal.nD,
      m' ((c.tc : Thread Cert.AttnQRefIdeal.nD Cert.AttnQRefIdeal.τ).loc Cert.AttnQRefIdeal.main_arg0) = m ((c.tc : Thread Cert.AttnQKernelIdeal.nD Cert.AttnQKernelIdeal.τ).loc Cert.AttnQKernelIdeal.main_arg0)
      ∧ m' ((c.tc : Thread Cert.AttnQRefIdeal.nD Cert.AttnQRefIdeal.τ).loc Cert.AttnQRefIdeal.main_arg1) = m ((c.tc : Thread Cert.AttnQKernelIdeal.nD Cert.AttnQKernelIdeal.τ).loc Cert.AttnQKernelIdeal.main_arg1)
      ∧ m' ((c.tc : Thread Cert.AttnQRefIdeal.nD Cert.AttnQRefIdeal.τ).loc Cert.AttnQRefIdeal.main_arg2) = m ((c.tc : Thread Cert.AttnQKernelIdeal.nD Cert.AttnQKernelIdeal.τ).loc Cert.AttnQKernelIdeal.main_arg2)
      ∧ m' ((c.tc : Thread Cert.AttnQRefIdeal.nD Cert.AttnQRefIdeal.τ).loc Cert.AttnQRefIdeal.main_arg3) = m ((c.tc : Thread Cert.AttnQKernelIdeal.nD Cert.AttnQKernelIdeal.τ).loc Cert.AttnQKernelIdeal.main_arg3)) →
    ∃ (v0 : (c : Dev Cert.AttnQKernelIdeal.nD) → Buf (Elt Ideal) ((c.tc : Thread Cert.AttnQKernelIdeal.nD Cert.AttnQKernelIdeal.τ).loc Cert.AttnQKernelIdeal.main_v52_0)) (v1 : (c : Dev Cert.AttnQKernelIdeal.nD) → Buf (Elt Ideal) ((c.tc : Thread Cert.AttnQKernelIdeal.nD Cert.AttnQKernelIdeal.τ).loc Cert.AttnQKernelIdeal.main_v52_1)),
      θ_run (Cert.AttnQKernelIdeal.defs (F := Ideal)) (onTc (τ := Cert.AttnQKernelIdeal.τ) (Cert.AttnQKernelIdeal.main (F := Ideal))) ⟨m, fun _ => 0, g⟩ (fun r => ∀ c : Dev Cert.AttnQKernelIdeal.nD,
          r.2.mem ((c.tc : Thread Cert.AttnQKernelIdeal.nD Cert.AttnQKernelIdeal.τ).loc Cert.AttnQKernelIdeal.main_v52_0) = v0 c
          ∧ r.2.mem ((c.tc : Thread Cert.AttnQKernelIdeal.nD Cert.AttnQKernelIdeal.τ).loc Cert.AttnQKernelIdeal.main_v52_1) = v1 c
          ∧ r.2.mem ((c.tc : Thread Cert.AttnQKernelIdeal.nD Cert.AttnQKernelIdeal.τ).loc Cert.AttnQKernelIdeal.main_arg0) = m ((c.tc : Thread Cert.AttnQKernelIdeal.nD Cert.AttnQKernelIdeal.τ).loc Cert.AttnQKernelIdeal.main_arg0)
          ∧ r.2.mem ((c.tc : Thread Cert.AttnQKernelIdeal.nD Cert.AttnQKernelIdeal.τ).loc Cert.AttnQKernelIdeal.main_arg1) = m ((c.tc : Thread Cert.AttnQKernelIdeal.nD Cert.AttnQKernelIdeal.τ).loc Cert.AttnQKernelIdeal.main_arg1)
          ∧ r.2.mem ((c.tc : Thread Cert.AttnQKernelIdeal.nD Cert.AttnQKernelIdeal.τ).loc Cert.AttnQKernelIdeal.main_arg2) = m ((c.tc : Thread Cert.AttnQKernelIdeal.nD Cert.AttnQKernelIdeal.τ).loc Cert.AttnQKernelIdeal.main_arg2)
          ∧ r.2.mem ((c.tc : Thread Cert.AttnQKernelIdeal.nD Cert.AttnQKernelIdeal.τ).loc Cert.AttnQKernelIdeal.main_arg3) = m ((c.tc : Thread Cert.AttnQKernelIdeal.nD Cert.AttnQKernelIdeal.τ).loc Cert.AttnQKernelIdeal.main_arg3))
      ∧ θ_run (Cert.AttnQRefIdeal.defs (F := Ideal)) (onTc (τ := Cert.AttnQRefIdeal.τ) (Cert.AttnQRefIdeal.main (F := Ideal))) ⟨m', fun _ => 0, g'⟩ (fun r => ∀ c : Dev Cert.AttnQRefIdeal.nD,
          r.2.mem ((c.tc : Thread Cert.AttnQRefIdeal.nD Cert.AttnQRefIdeal.τ).loc Cert.AttnQRefIdeal.main_v68) = v0 c
          ∧ r.2.mem ((c.tc : Thread Cert.AttnQRefIdeal.nD Cert.AttnQRefIdeal.τ).loc Cert.AttnQRefIdeal.main_v69) = v1 c
          ∧ r.2.mem ((c.tc : Thread Cert.AttnQRefIdeal.nD Cert.AttnQRefIdeal.τ).loc Cert.AttnQRefIdeal.main_arg0) = m' ((c.tc : Thread Cert.AttnQRefIdeal.nD Cert.AttnQRefIdeal.τ).loc Cert.AttnQRefIdeal.main_arg0)
          ∧ r.2.mem ((c.tc : Thread Cert.AttnQRefIdeal.nD Cert.AttnQRefIdeal.τ).loc Cert.AttnQRefIdeal.main_arg1) = m' ((c.tc : Thread Cert.AttnQRefIdeal.nD Cert.AttnQRefIdeal.τ).loc Cert.AttnQRefIdeal.main_arg1)
          ∧ r.2.mem ((c.tc : Thread Cert.AttnQRefIdeal.nD Cert.AttnQRefIdeal.τ).loc Cert.AttnQRefIdeal.main_arg2) = m' ((c.tc : Thread Cert.AttnQRefIdeal.nD Cert.AttnQRefIdeal.τ).loc Cert.AttnQRefIdeal.main_arg2)
          ∧ r.2.mem ((c.tc : Thread Cert.AttnQRefIdeal.nD Cert.AttnQRefIdeal.τ).loc Cert.AttnQRefIdeal.main_arg3) = m' ((c.tc : Thread Cert.AttnQRefIdeal.nD Cert.AttnQRefIdeal.τ).loc Cert.AttnQRefIdeal.main_arg3))

def preserves_AttnKvKernel_AttnKvKernelIdeal : Prop :=
  IdealRules.named_const.Statement Cert.AttnKvKernelIdeal.κ "att_log2" .f32 0x3E16C740#32 (((3424635 / 33554432) * (Real.log 2)⁻¹ : ℝ) : EReal)
  ∧ IdealRules.named_const.Statement Cert.AttnKvKernelIdeal.κ "masked" .f32 0xF149F2CA#32 ⊥

def algebraic_AttnKvKernelIdeal_AttnKvRefIdeal_pre_attention_finite [hAttnKvKernelIdeal : Cert.AttnKvKernelIdeal.Facts] [hAttnKvRefIdeal : Cert.AttnKvRefIdeal.Facts] [hPre_attention_finite : Cert.Pre_attention_finite.Facts] : Prop :=
  ∀ (m : (ℓ : Loc Cert.AttnKvKernelIdeal.nD Cert.AttnKvKernelIdeal.τ Cert.AttnKvKernelIdeal.sig) → Buf (Elt Ideal) ℓ) (g : Dev Cert.AttnKvKernelIdeal.nD → PrngReg)
    (m' : (ℓ : Loc Cert.AttnKvRefIdeal.nD Cert.AttnKvRefIdeal.τ Cert.AttnKvRefIdeal.sig) → Buf (Elt Ideal) ℓ) (g' : Dev Cert.AttnKvRefIdeal.nD → PrngReg), Pre_AttnKvKernelIdeal_attention_finite m →
    (∀ c : Dev Cert.AttnKvKernelIdeal.nD,
      m' ((c.tc : Thread Cert.AttnKvRefIdeal.nD Cert.AttnKvRefIdeal.τ).loc Cert.AttnKvRefIdeal.main_arg0) = m ((c.tc : Thread Cert.AttnKvKernelIdeal.nD Cert.AttnKvKernelIdeal.τ).loc Cert.AttnKvKernelIdeal.main_arg0)
      ∧ m' ((c.tc : Thread Cert.AttnKvRefIdeal.nD Cert.AttnKvRefIdeal.τ).loc Cert.AttnKvRefIdeal.main_arg1) = m ((c.tc : Thread Cert.AttnKvKernelIdeal.nD Cert.AttnKvKernelIdeal.τ).loc Cert.AttnKvKernelIdeal.main_arg1)
      ∧ m' ((c.tc : Thread Cert.AttnKvRefIdeal.nD Cert.AttnKvRefIdeal.τ).loc Cert.AttnKvRefIdeal.main_arg2) = m ((c.tc : Thread Cert.AttnKvKernelIdeal.nD Cert.AttnKvKernelIdeal.τ).loc Cert.AttnKvKernelIdeal.main_arg2)
      ∧ m' ((c.tc : Thread Cert.AttnKvRefIdeal.nD Cert.AttnKvRefIdeal.τ).loc Cert.AttnKvRefIdeal.main_arg3) = m ((c.tc : Thread Cert.AttnKvKernelIdeal.nD Cert.AttnKvKernelIdeal.τ).loc Cert.AttnKvKernelIdeal.main_arg3)) →
    ∃ (v0 : (c : Dev Cert.AttnKvKernelIdeal.nD) → Buf (Elt Ideal) ((c.tc : Thread Cert.AttnKvKernelIdeal.nD Cert.AttnKvKernelIdeal.τ).loc Cert.AttnKvKernelIdeal.main_v55_0)) (v1 : (c : Dev Cert.AttnKvKernelIdeal.nD) → Buf (Elt Ideal) ((c.tc : Thread Cert.AttnKvKernelIdeal.nD Cert.AttnKvKernelIdeal.τ).loc Cert.AttnKvKernelIdeal.main_v55_1)),
      θ_run (Cert.AttnKvKernelIdeal.defs (F := Ideal)) (onTc (τ := Cert.AttnKvKernelIdeal.τ) (Cert.AttnKvKernelIdeal.main (F := Ideal))) ⟨m, fun _ => 0, g⟩ (fun r => ∀ c : Dev Cert.AttnKvKernelIdeal.nD,
          r.2.mem ((c.tc : Thread Cert.AttnKvKernelIdeal.nD Cert.AttnKvKernelIdeal.τ).loc Cert.AttnKvKernelIdeal.main_v55_0) = v0 c
          ∧ r.2.mem ((c.tc : Thread Cert.AttnKvKernelIdeal.nD Cert.AttnKvKernelIdeal.τ).loc Cert.AttnKvKernelIdeal.main_v55_1) = v1 c
          ∧ r.2.mem ((c.tc : Thread Cert.AttnKvKernelIdeal.nD Cert.AttnKvKernelIdeal.τ).loc Cert.AttnKvKernelIdeal.main_arg0) = m ((c.tc : Thread Cert.AttnKvKernelIdeal.nD Cert.AttnKvKernelIdeal.τ).loc Cert.AttnKvKernelIdeal.main_arg0)
          ∧ r.2.mem ((c.tc : Thread Cert.AttnKvKernelIdeal.nD Cert.AttnKvKernelIdeal.τ).loc Cert.AttnKvKernelIdeal.main_arg1) = m ((c.tc : Thread Cert.AttnKvKernelIdeal.nD Cert.AttnKvKernelIdeal.τ).loc Cert.AttnKvKernelIdeal.main_arg1)
          ∧ r.2.mem ((c.tc : Thread Cert.AttnKvKernelIdeal.nD Cert.AttnKvKernelIdeal.τ).loc Cert.AttnKvKernelIdeal.main_arg2) = m ((c.tc : Thread Cert.AttnKvKernelIdeal.nD Cert.AttnKvKernelIdeal.τ).loc Cert.AttnKvKernelIdeal.main_arg2)
          ∧ r.2.mem ((c.tc : Thread Cert.AttnKvKernelIdeal.nD Cert.AttnKvKernelIdeal.τ).loc Cert.AttnKvKernelIdeal.main_arg3) = m ((c.tc : Thread Cert.AttnKvKernelIdeal.nD Cert.AttnKvKernelIdeal.τ).loc Cert.AttnKvKernelIdeal.main_arg3))
      ∧ θ_run (Cert.AttnKvRefIdeal.defs (F := Ideal)) (onTc (τ := Cert.AttnKvRefIdeal.τ) (Cert.AttnKvRefIdeal.main (F := Ideal))) ⟨m', fun _ => 0, g'⟩ (fun r => ∀ c : Dev Cert.AttnKvRefIdeal.nD,
          r.2.mem ((c.tc : Thread Cert.AttnKvRefIdeal.nD Cert.AttnKvRefIdeal.τ).loc Cert.AttnKvRefIdeal.main_v65) = v0 c
          ∧ r.2.mem ((c.tc : Thread Cert.AttnKvRefIdeal.nD Cert.AttnKvRefIdeal.τ).loc Cert.AttnKvRefIdeal.main_v68) = v1 c
          ∧ r.2.mem ((c.tc : Thread Cert.AttnKvRefIdeal.nD Cert.AttnKvRefIdeal.τ).loc Cert.AttnKvRefIdeal.main_arg0) = m' ((c.tc : Thread Cert.AttnKvRefIdeal.nD Cert.AttnKvRefIdeal.τ).loc Cert.AttnKvRefIdeal.main_arg0)
          ∧ r.2.mem ((c.tc : Thread Cert.AttnKvRefIdeal.nD Cert.AttnKvRefIdeal.τ).loc Cert.AttnKvRefIdeal.main_arg1) = m' ((c.tc : Thread Cert.AttnKvRefIdeal.nD Cert.AttnKvRefIdeal.τ).loc Cert.AttnKvRefIdeal.main_arg1)
          ∧ r.2.mem ((c.tc : Thread Cert.AttnKvRefIdeal.nD Cert.AttnKvRefIdeal.τ).loc Cert.AttnKvRefIdeal.main_arg2) = m' ((c.tc : Thread Cert.AttnKvRefIdeal.nD Cert.AttnKvRefIdeal.τ).loc Cert.AttnKvRefIdeal.main_arg2)
          ∧ r.2.mem ((c.tc : Thread Cert.AttnKvRefIdeal.nD Cert.AttnKvRefIdeal.τ).loc Cert.AttnKvRefIdeal.main_arg3) = m' ((c.tc : Thread Cert.AttnKvRefIdeal.nD Cert.AttnKvRefIdeal.τ).loc Cert.AttnKvRefIdeal.main_arg3))

def preserves_FfnUpKernel_FfnUpKernelIdeal : Prop :=
  True

def algebraic_FfnUpKernelIdeal_FfnUpRefIdeal_pre_ffn_up_finite [hFfnUpKernelIdeal : Cert.FfnUpKernelIdeal.Facts] [hFfnUpRefIdeal : Cert.FfnUpRefIdeal.Facts] [hPre_ffn_up_finite : Cert.Pre_ffn_up_finite.Facts] : Prop :=
  ∀ (m : (ℓ : Loc Cert.FfnUpKernelIdeal.nD Cert.FfnUpKernelIdeal.τ Cert.FfnUpKernelIdeal.sig) → Buf (Elt Ideal) ℓ) (g : Dev Cert.FfnUpKernelIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpKernelIdeal_ffn_up_finite m →
    (∀ c : Dev Cert.FfnUpKernelIdeal.nD,
      m' ((c.tc : Thread Cert.FfnUpRefIdeal.nD Cert.FfnUpRefIdeal.τ).loc Cert.FfnUpRefIdeal.main_arg0) = m ((c.tc : Thread Cert.FfnUpKernelIdeal.nD Cert.FfnUpKernelIdeal.τ).loc Cert.FfnUpKernelIdeal.main_arg0)
      ∧ m' ((c.tc : Thread Cert.FfnUpRefIdeal.nD Cert.FfnUpRefIdeal.τ).loc Cert.FfnUpRefIdeal.main_arg1) = m ((c.tc : Thread Cert.FfnUpKernelIdeal.nD Cert.FfnUpKernelIdeal.τ).loc Cert.FfnUpKernelIdeal.main_arg1)
      ∧ m' ((c.tc : Thread Cert.FfnUpRefIdeal.nD Cert.FfnUpRefIdeal.τ).loc Cert.FfnUpRefIdeal.main_arg2) = m ((c.tc : Thread Cert.FfnUpKernelIdeal.nD Cert.FfnUpKernelIdeal.τ).loc Cert.FfnUpKernelIdeal.main_arg2)
      ∧ m' ((c.tc : Thread Cert.FfnUpRefIdeal.nD Cert.FfnUpRefIdeal.τ).loc Cert.FfnUpRefIdeal.main_arg3) = m ((c.tc : Thread Cert.FfnUpKernelIdeal.nD Cert.FfnUpKernelIdeal.τ).loc Cert.FfnUpKernelIdeal.main_arg3)
      ∧ m' ((c.tc : Thread Cert.FfnUpRefIdeal.nD Cert.FfnUpRefIdeal.τ).loc Cert.FfnUpRefIdeal.main_arg4) = m ((c.tc : Thread Cert.FfnUpKernelIdeal.nD Cert.FfnUpKernelIdeal.τ).loc Cert.FfnUpKernelIdeal.main_arg4)
      ∧ m' ((c.tc : Thread Cert.FfnUpRefIdeal.nD Cert.FfnUpRefIdeal.τ).loc Cert.FfnUpRefIdeal.main_arg5) = m ((c.tc : Thread Cert.FfnUpKernelIdeal.nD Cert.FfnUpKernelIdeal.τ).loc Cert.FfnUpKernelIdeal.main_arg5)
      ∧ m' ((c.tc : Thread Cert.FfnUpRefIdeal.nD Cert.FfnUpRefIdeal.τ).loc Cert.FfnUpRefIdeal.main_arg6) = m ((c.tc : Thread Cert.FfnUpKernelIdeal.nD Cert.FfnUpKernelIdeal.τ).loc Cert.FfnUpKernelIdeal.main_arg6)) →
    ∃ (v0 : (c : Dev Cert.FfnUpKernelIdeal.nD) → Buf (Elt Ideal) ((c.tc : Thread Cert.FfnUpKernelIdeal.nD Cert.FfnUpKernelIdeal.τ).loc Cert.FfnUpKernelIdeal.main_v15_0)) (v1 : (c : Dev Cert.FfnUpKernelIdeal.nD) → Buf (Elt Ideal) ((c.tc : Thread Cert.FfnUpKernelIdeal.nD Cert.FfnUpKernelIdeal.τ).loc Cert.FfnUpKernelIdeal.main_v15_1)) (v2 : (c : Dev Cert.FfnUpKernelIdeal.nD) → Buf (Elt Ideal) ((c.tc : Thread Cert.FfnUpKernelIdeal.nD Cert.FfnUpKernelIdeal.τ).loc Cert.FfnUpKernelIdeal.main_v15_2)),
      θ_run (Cert.FfnUpKernelIdeal.defs (F := Ideal)) (onTc (τ := Cert.FfnUpKernelIdeal.τ) (Cert.FfnUpKernelIdeal.main (F := Ideal))) ⟨m, fun _ => 0, g⟩ (fun r => ∀ c : Dev Cert.FfnUpKernelIdeal.nD,
          r.2.mem ((c.tc : Thread Cert.FfnUpKernelIdeal.nD Cert.FfnUpKernelIdeal.τ).loc Cert.FfnUpKernelIdeal.main_v15_0) = v0 c
          ∧ r.2.mem ((c.tc : Thread Cert.FfnUpKernelIdeal.nD Cert.FfnUpKernelIdeal.τ).loc Cert.FfnUpKernelIdeal.main_v15_1) = v1 c
          ∧ r.2.mem ((c.tc : Thread Cert.FfnUpKernelIdeal.nD Cert.FfnUpKernelIdeal.τ).loc Cert.FfnUpKernelIdeal.main_v15_2) = v2 c
          ∧ r.2.mem ((c.tc : Thread Cert.FfnUpKernelIdeal.nD Cert.FfnUpKernelIdeal.τ).loc Cert.FfnUpKernelIdeal.main_arg0) = m ((c.tc : Thread Cert.FfnUpKernelIdeal.nD Cert.FfnUpKernelIdeal.τ).loc Cert.FfnUpKernelIdeal.main_arg0)
          ∧ r.2.mem ((c.tc : Thread Cert.FfnUpKernelIdeal.nD Cert.FfnUpKernelIdeal.τ).loc Cert.FfnUpKernelIdeal.main_arg1) = m ((c.tc : Thread Cert.FfnUpKernelIdeal.nD Cert.FfnUpKernelIdeal.τ).loc Cert.FfnUpKernelIdeal.main_arg1)
          ∧ r.2.mem ((c.tc : Thread Cert.FfnUpKernelIdeal.nD Cert.FfnUpKernelIdeal.τ).loc Cert.FfnUpKernelIdeal.main_arg2) = m ((c.tc : Thread Cert.FfnUpKernelIdeal.nD Cert.FfnUpKernelIdeal.τ).loc Cert.FfnUpKernelIdeal.main_arg2)
          ∧ r.2.mem ((c.tc : Thread Cert.FfnUpKernelIdeal.nD Cert.FfnUpKernelIdeal.τ).loc Cert.FfnUpKernelIdeal.main_arg3) = m ((c.tc : Thread Cert.FfnUpKernelIdeal.nD Cert.FfnUpKernelIdeal.τ).loc Cert.FfnUpKernelIdeal.main_arg3)
          ∧ r.2.mem ((c.tc : Thread Cert.FfnUpKernelIdeal.nD Cert.FfnUpKernelIdeal.τ).loc Cert.FfnUpKernelIdeal.main_arg4) = m ((c.tc : Thread Cert.FfnUpKernelIdeal.nD Cert.FfnUpKernelIdeal.τ).loc Cert.FfnUpKernelIdeal.main_arg4)
          ∧ r.2.mem ((c.tc : Thread Cert.FfnUpKernelIdeal.nD Cert.FfnUpKernelIdeal.τ).loc Cert.FfnUpKernelIdeal.main_arg5) = m ((c.tc : Thread Cert.FfnUpKernelIdeal.nD Cert.FfnUpKernelIdeal.τ).loc Cert.FfnUpKernelIdeal.main_arg5)
          ∧ r.2.mem ((c.tc : Thread Cert.FfnUpKernelIdeal.nD Cert.FfnUpKernelIdeal.τ).loc Cert.FfnUpKernelIdeal.main_arg6) = m ((c.tc : Thread Cert.FfnUpKernelIdeal.nD Cert.FfnUpKernelIdeal.τ).loc Cert.FfnUpKernelIdeal.main_arg6))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v43) = v0 c
          ∧ r.2.mem ((c.tc : Thread Cert.FfnUpRefIdeal.nD Cert.FfnUpRefIdeal.τ).loc Cert.FfnUpRefIdeal.main_v59) = v1 c
          ∧ r.2.mem ((c.tc : Thread Cert.FfnUpRefIdeal.nD Cert.FfnUpRefIdeal.τ).loc Cert.FfnUpRefIdeal.main_v60) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3)
          ∧ r.2.mem ((c.tc : Thread Cert.FfnUpRefIdeal.nD Cert.FfnUpRefIdeal.τ).loc Cert.FfnUpRefIdeal.main_arg4) = m' ((c.tc : Thread Cert.FfnUpRefIdeal.nD Cert.FfnUpRefIdeal.τ).loc Cert.FfnUpRefIdeal.main_arg4)
          ∧ r.2.mem ((c.tc : Thread Cert.FfnUpRefIdeal.nD Cert.FfnUpRefIdeal.τ).loc Cert.FfnUpRefIdeal.main_arg5) = m' ((c.tc : Thread Cert.FfnUpRefIdeal.nD Cert.FfnUpRefIdeal.τ).loc Cert.FfnUpRefIdeal.main_arg5)
          ∧ r.2.mem ((c.tc : Thread Cert.FfnUpRefIdeal.nD Cert.FfnUpRefIdeal.τ).loc Cert.FfnUpRefIdeal.main_arg6) = m' ((c.tc : Thread Cert.FfnUpRefIdeal.nD Cert.FfnUpRefIdeal.τ).loc Cert.FfnUpRefIdeal.main_arg6))

def preserves_FfnDownKernel_FfnDownKernelIdeal : Prop :=
  True

def algebraic_FfnDownKernelIdeal_FfnDownRefIdeal_pre_ffn_down_finite [hFfnDownKernelIdeal : Cert.FfnDownKernelIdeal.Facts] [hFfnDownRefIdeal : Cert.FfnDownRefIdeal.Facts] [hPre_ffn_down_finite : Cert.Pre_ffn_down_finite.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownKernelIdeal_ffn_down_finite m →
    (∀ c : Dev Cert.FfnDownKernelIdeal.nD,
      m' ((c.tc : Thread Cert.FfnDownRefIdeal.nD Cert.FfnDownRefIdeal.τ).loc Cert.FfnDownRefIdeal.main_arg0) = m ((c.tc : Thread Cert.FfnDownKernelIdeal.nD Cert.FfnDownKernelIdeal.τ).loc Cert.FfnDownKernelIdeal.main_arg0)
      ∧ m' ((c.tc : Thread Cert.FfnDownRefIdeal.nD Cert.FfnDownRefIdeal.τ).loc Cert.FfnDownRefIdeal.main_arg1) = m ((c.tc : Thread Cert.FfnDownKernelIdeal.nD Cert.FfnDownKernelIdeal.τ).loc Cert.FfnDownKernelIdeal.main_arg1)
      ∧ m' ((c.tc : Thread Cert.FfnDownRefIdeal.nD Cert.FfnDownRefIdeal.τ).loc Cert.FfnDownRefIdeal.main_arg2) = m ((c.tc : Thread Cert.FfnDownKernelIdeal.nD Cert.FfnDownKernelIdeal.τ).loc Cert.FfnDownKernelIdeal.main_arg2)
      ∧ m' ((c.tc : Thread Cert.FfnDownRefIdeal.nD Cert.FfnDownRefIdeal.τ).loc Cert.FfnDownRefIdeal.main_arg3) = m ((c.tc : Thread Cert.FfnDownKernelIdeal.nD Cert.FfnDownKernelIdeal.τ).loc Cert.FfnDownKernelIdeal.main_arg3)
      ∧ m' ((c.tc : Thread Cert.FfnDownRefIdeal.nD Cert.FfnDownRefIdeal.τ).loc Cert.FfnDownRefIdeal.main_arg4) = m ((c.tc : Thread Cert.FfnDownKernelIdeal.nD Cert.FfnDownKernelIdeal.τ).loc Cert.FfnDownKernelIdeal.main_arg4)
      ∧ m' ((c.tc : Thread Cert.FfnDownRefIdeal.nD Cert.FfnDownRefIdeal.τ).loc Cert.FfnDownRefIdeal.main_arg5) = m ((c.tc : Thread Cert.FfnDownKernelIdeal.nD Cert.FfnDownKernelIdeal.τ).loc Cert.FfnDownKernelIdeal.main_arg5)
      ∧ m' ((c.tc : Thread Cert.FfnDownRefIdeal.nD Cert.FfnDownRefIdeal.τ).loc Cert.FfnDownRefIdeal.main_arg6) = m ((c.tc : Thread Cert.FfnDownKernelIdeal.nD Cert.FfnDownKernelIdeal.τ).loc Cert.FfnDownKernelIdeal.main_arg6)) →
    ∃ (v0 : (c : Dev Cert.FfnDownKernelIdeal.nD) → Buf (Elt Ideal) ((c.tc : Thread Cert.FfnDownKernelIdeal.nD Cert.FfnDownKernelIdeal.τ).loc Cert.FfnDownKernelIdeal.main_v30_0)) (v1 : (c : Dev Cert.FfnDownKernelIdeal.nD) → Buf (Elt Ideal) ((c.tc : Thread Cert.FfnDownKernelIdeal.nD Cert.FfnDownKernelIdeal.τ).loc Cert.FfnDownKernelIdeal.main_v30_1)) (v2 : (c : Dev Cert.FfnDownKernelIdeal.nD) → Buf (Elt Ideal) ((c.tc : Thread Cert.FfnDownKernelIdeal.nD Cert.FfnDownKernelIdeal.τ).loc Cert.FfnDownKernelIdeal.main_v30_2)) (v3 : (c : Dev Cert.FfnDownKernelIdeal.nD) → Buf (Elt Ideal) ((c.tc : Thread Cert.FfnDownKernelIdeal.nD Cert.FfnDownKernelIdeal.τ).loc Cert.FfnDownKernelIdeal.main_v30_3)) (v4 : (c : Dev Cert.FfnDownKernelIdeal.nD) → Buf (Elt Ideal) ((c.tc : Thread Cert.FfnDownKernelIdeal.nD Cert.FfnDownKernelIdeal.τ).loc Cert.FfnDownKernelIdeal.main_v30_4)),
      θ_run (Cert.FfnDownKernelIdeal.defs (F := Ideal)) (onTc (τ := Cert.FfnDownKernelIdeal.τ) (Cert.FfnDownKernelIdeal.main (F := Ideal))) ⟨m, fun _ => 0, g⟩ (fun r => ∀ c : Dev Cert.FfnDownKernelIdeal.nD,
          r.2.mem ((c.tc : Thread Cert.FfnDownKernelIdeal.nD Cert.FfnDownKernelIdeal.τ).loc Cert.FfnDownKernelIdeal.main_v30_0) = v0 c
          ∧ r.2.mem ((c.tc : Thread Cert.FfnDownKernelIdeal.nD Cert.FfnDownKernelIdeal.τ).loc Cert.FfnDownKernelIdeal.main_v30_1) = v1 c
          ∧ r.2.mem ((c.tc : Thread Cert.FfnDownKernelIdeal.nD Cert.FfnDownKernelIdeal.τ).loc Cert.FfnDownKernelIdeal.main_v30_2) = v2 c
          ∧ r.2.mem ((c.tc : Thread Cert.FfnDownKernelIdeal.nD Cert.FfnDownKernelIdeal.τ).loc Cert.FfnDownKernelIdeal.main_v30_3) = v3 c
          ∧ r.2.mem ((c.tc : Thread Cert.FfnDownKernelIdeal.nD Cert.FfnDownKernelIdeal.τ).loc Cert.FfnDownKernelIdeal.main_v30_4) = v4 c
          ∧ r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
          ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
          ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2)
          ∧ r.2.mem ((c.tc : Thread Cert.FfnDownKernelIdeal.nD Cert.FfnDownKernelIdeal.τ).loc Cert.FfnDownKernelIdeal.main_arg3) = m ((c.tc : Thread Cert.FfnDownKernelIdeal.nD Cert.FfnDownKernelIdeal.τ).loc Cert.FfnDownKernelIdeal.main_arg3)
          ∧ r.2.mem ((c.tc : Thread Cert.FfnDownKernelIdeal.nD Cert.FfnDownKernelIdeal.τ).loc Cert.FfnDownKernelIdeal.main_arg4) = m ((c.tc : Thread Cert.FfnDownKernelIdeal.nD Cert.FfnDownKernelIdeal.τ).loc Cert.FfnDownKernelIdeal.main_arg4)
          ∧ r.2.mem ((c.tc : Thread Cert.FfnDownKernelIdeal.nD Cert.FfnDownKernelIdeal.τ).loc Cert.FfnDownKernelIdeal.main_arg5) = m ((c.tc : Thread Cert.FfnDownKernelIdeal.nD Cert.FfnDownKernelIdeal.τ).loc Cert.FfnDownKernelIdeal.main_arg5)
          ∧ r.2.mem ((c.tc : Thread Cert.FfnDownKernelIdeal.nD Cert.FfnDownKernelIdeal.τ).loc Cert.FfnDownKernelIdeal.main_arg6) = m ((c.tc : Thread Cert.FfnDownKernelIdeal.nD Cert.FfnDownKernelIdeal.τ).loc Cert.FfnDownKernelIdeal.main_arg6))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v64) = v0 c
          ∧ r.2.mem ((c.tc : Thread Cert.FfnDownRefIdeal.nD Cert.FfnDownRefIdeal.τ).loc Cert.FfnDownRefIdeal.main_v67) = v1 c
          ∧ r.2.mem ((c.tc : Thread Cert.FfnDownRefIdeal.nD Cert.FfnDownRefIdeal.τ).loc Cert.FfnDownRefIdeal.main_v70) = v2 c
          ∧ r.2.mem ((c.tc : Thread Cert.FfnDownRefIdeal.nD Cert.FfnDownRefIdeal.τ).loc Cert.FfnDownRefIdeal.main_v73) = v3 c
          ∧ r.2.mem ((c.tc : Thread Cert.FfnDownRefIdeal.nD Cert.FfnDownRefIdeal.τ).loc Cert.FfnDownRefIdeal.main_v74) = v4 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4)
          ∧ r.2.mem ((c.tc : Thread Cert.FfnDownRefIdeal.nD Cert.FfnDownRefIdeal.τ).loc Cert.FfnDownRefIdeal.main_arg5) = m' ((c.tc : Thread Cert.FfnDownRefIdeal.nD Cert.FfnDownRefIdeal.τ).loc Cert.FfnDownRefIdeal.main_arg5)
          ∧ r.2.mem ((c.tc : Thread Cert.FfnDownRefIdeal.nD Cert.FfnDownRefIdeal.τ).loc Cert.FfnDownRefIdeal.main_arg6) = m' ((c.tc : Thread Cert.FfnDownRefIdeal.nD Cert.FfnDownRefIdeal.τ).loc Cert.FfnDownRefIdeal.main_arg6))

def preserves_MixInKernel_MixInKernelIdeal : Prop :=
  True

def algebraic_MixInKernelIdeal_MixInRefIdeal_pre_mix_in_finite [hMixInKernelIdeal : Cert.MixInKernelIdeal.Facts] [hMixInRefIdeal : Cert.MixInRefIdeal.Facts] [hPre_mix_in_finite : Cert.Pre_mix_in_finite.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInKernelIdeal_mix_in_finite m →
    (∀ c : Dev Cert.MixInKernelIdeal.nD,
      m' ((c.tc : Thread Cert.MixInRefIdeal.nD Cert.MixInRefIdeal.τ).loc Cert.MixInRefIdeal.main_arg0) = m ((c.tc : Thread Cert.MixInKernelIdeal.nD Cert.MixInKernelIdeal.τ).loc Cert.MixInKernelIdeal.main_arg0)
      ∧ m' ((c.tc : Thread Cert.MixInRefIdeal.nD Cert.MixInRefIdeal.τ).loc Cert.MixInRefIdeal.main_arg1) = m ((c.tc : Thread Cert.MixInKernelIdeal.nD Cert.MixInKernelIdeal.τ).loc Cert.MixInKernelIdeal.main_arg1)
      ∧ m' ((c.tc : Thread Cert.MixInRefIdeal.nD Cert.MixInRefIdeal.τ).loc Cert.MixInRefIdeal.main_arg2) = m ((c.tc : Thread Cert.MixInKernelIdeal.nD Cert.MixInKernelIdeal.τ).loc Cert.MixInKernelIdeal.main_arg2)
      ∧ m' ((c.tc : Thread Cert.MixInRefIdeal.nD Cert.MixInRefIdeal.τ).loc Cert.MixInRefIdeal.main_arg3) = m ((c.tc : Thread Cert.MixInKernelIdeal.nD Cert.MixInKernelIdeal.τ).loc Cert.MixInKernelIdeal.main_arg3)
      ∧ m' ((c.tc : Thread Cert.MixInRefIdeal.nD Cert.MixInRefIdeal.τ).loc Cert.MixInRefIdeal.main_arg4) = m ((c.tc : Thread Cert.MixInKernelIdeal.nD Cert.MixInKernelIdeal.τ).loc Cert.MixInKernelIdeal.main_arg4)
      ∧ m' ((c.tc : Thread Cert.MixInRefIdeal.nD Cert.MixInRefIdeal.τ).loc Cert.MixInRefIdeal.main_arg5) = m ((c.tc : Thread Cert.MixInKernelIdeal.nD Cert.MixInKernelIdeal.τ).loc Cert.MixInKernelIdeal.main_arg5)
      ∧ m' ((c.tc : Thread Cert.MixInRefIdeal.nD Cert.MixInRefIdeal.τ).loc Cert.MixInRefIdeal.main_arg6) = m ((c.tc : Thread Cert.MixInKernelIdeal.nD Cert.MixInKernelIdeal.τ).loc Cert.MixInKernelIdeal.main_arg6)
      ∧ m' ((c.tc : Thread Cert.MixInRefIdeal.nD Cert.MixInRefIdeal.τ).loc Cert.MixInRefIdeal.main_arg7) = m ((c.tc : Thread Cert.MixInKernelIdeal.nD Cert.MixInKernelIdeal.τ).loc Cert.MixInKernelIdeal.main_arg7)
      ∧ m' ((c.tc : Thread Cert.MixInRefIdeal.nD Cert.MixInRefIdeal.τ).loc Cert.MixInRefIdeal.main_arg8) = m ((c.tc : Thread Cert.MixInKernelIdeal.nD Cert.MixInKernelIdeal.τ).loc Cert.MixInKernelIdeal.main_arg8)) →
    ∃ (v0 : (c : Dev Cert.MixInKernelIdeal.nD) → Buf (Elt Ideal) ((c.tc : Thread Cert.MixInKernelIdeal.nD Cert.MixInKernelIdeal.τ).loc Cert.MixInKernelIdeal.main_v24_0)) (v1 : (c : Dev Cert.MixInKernelIdeal.nD) → Buf (Elt Ideal) ((c.tc : Thread Cert.MixInKernelIdeal.nD Cert.MixInKernelIdeal.τ).loc Cert.MixInKernelIdeal.main_v24_1)) (v2 : (c : Dev Cert.MixInKernelIdeal.nD) → Buf (Elt Ideal) ((c.tc : Thread Cert.MixInKernelIdeal.nD Cert.MixInKernelIdeal.τ).loc Cert.MixInKernelIdeal.main_v24_2)) (v3 : (c : Dev Cert.MixInKernelIdeal.nD) → Buf (Elt Ideal) ((c.tc : Thread Cert.MixInKernelIdeal.nD Cert.MixInKernelIdeal.τ).loc Cert.MixInKernelIdeal.main_v24_3)),
      θ_run (Cert.MixInKernelIdeal.defs (F := Ideal)) (onTc (τ := Cert.MixInKernelIdeal.τ) (Cert.MixInKernelIdeal.main (F := Ideal))) ⟨m, fun _ => 0, g⟩ (fun r => ∀ c : Dev Cert.MixInKernelIdeal.nD,
          r.2.mem ((c.tc : Thread Cert.MixInKernelIdeal.nD Cert.MixInKernelIdeal.τ).loc Cert.MixInKernelIdeal.main_v24_0) = v0 c
          ∧ r.2.mem ((c.tc : Thread Cert.MixInKernelIdeal.nD Cert.MixInKernelIdeal.τ).loc Cert.MixInKernelIdeal.main_v24_1) = v1 c
          ∧ r.2.mem ((c.tc : Thread Cert.MixInKernelIdeal.nD Cert.MixInKernelIdeal.τ).loc Cert.MixInKernelIdeal.main_v24_2) = v2 c
          ∧ r.2.mem ((c.tc : Thread Cert.MixInKernelIdeal.nD Cert.MixInKernelIdeal.τ).loc Cert.MixInKernelIdeal.main_v24_3) = v3 c
          ∧ r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
          ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
          ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
          ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
          ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
          ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
          ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
          ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
          ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v41) = v0 c
          ∧ r.2.mem ((c.tc : Thread Cert.MixInRefIdeal.nD Cert.MixInRefIdeal.τ).loc Cert.MixInRefIdeal.main_v49) = v1 c
          ∧ r.2.mem ((c.tc : Thread Cert.MixInRefIdeal.nD Cert.MixInRefIdeal.τ).loc Cert.MixInRefIdeal.main_v65) = v2 c
          ∧ r.2.mem ((c.tc : Thread Cert.MixInRefIdeal.nD Cert.MixInRefIdeal.τ).loc Cert.MixInRefIdeal.main_v66) = v3 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7)
          ∧ r.2.mem ((c.tc : Thread Cert.MixInRefIdeal.nD Cert.MixInRefIdeal.τ).loc Cert.MixInRefIdeal.main_arg8) = m' ((c.tc : Thread Cert.MixInRefIdeal.nD Cert.MixInRefIdeal.τ).loc Cert.MixInRefIdeal.main_arg8))

def preserves_MixOutKernel_MixOutKernelIdeal : Prop :=
  True

def algebraic_MixOutKernelIdeal_MixOutRefIdeal_pre_mix_out_finite [hMixOutKernelIdeal : Cert.MixOutKernelIdeal.Facts] [hMixOutRefIdeal : Cert.MixOutRefIdeal.Facts] [hPre_mix_out_finite : Cert.Pre_mix_out_finite.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutKernelIdeal_mix_out_finite m →
    (∀ c : Dev Cert.MixOutKernelIdeal.nD,
      m' ((c.tc : Thread Cert.MixOutRefIdeal.nD Cert.MixOutRefIdeal.τ).loc Cert.MixOutRefIdeal.main_arg0) = m ((c.tc : Thread Cert.MixOutKernelIdeal.nD Cert.MixOutKernelIdeal.τ).loc Cert.MixOutKernelIdeal.main_arg0)
      ∧ m' ((c.tc : Thread Cert.MixOutRefIdeal.nD Cert.MixOutRefIdeal.τ).loc Cert.MixOutRefIdeal.main_arg1) = m ((c.tc : Thread Cert.MixOutKernelIdeal.nD Cert.MixOutKernelIdeal.τ).loc Cert.MixOutKernelIdeal.main_arg1)
      ∧ m' ((c.tc : Thread Cert.MixOutRefIdeal.nD Cert.MixOutRefIdeal.τ).loc Cert.MixOutRefIdeal.main_arg2) = m ((c.tc : Thread Cert.MixOutKernelIdeal.nD Cert.MixOutKernelIdeal.τ).loc Cert.MixOutKernelIdeal.main_arg2)
      ∧ m' ((c.tc : Thread Cert.MixOutRefIdeal.nD Cert.MixOutRefIdeal.τ).loc Cert.MixOutRefIdeal.main_arg3) = m ((c.tc : Thread Cert.MixOutKernelIdeal.nD Cert.MixOutKernelIdeal.τ).loc Cert.MixOutKernelIdeal.main_arg3)
      ∧ m' ((c.tc : Thread Cert.MixOutRefIdeal.nD Cert.MixOutRefIdeal.τ).loc Cert.MixOutRefIdeal.main_arg4) = m ((c.tc : Thread Cert.MixOutKernelIdeal.nD Cert.MixOutKernelIdeal.τ).loc Cert.MixOutKernelIdeal.main_arg4)
      ∧ m' ((c.tc : Thread Cert.MixOutRefIdeal.nD Cert.MixOutRefIdeal.τ).loc Cert.MixOutRefIdeal.main_arg5) = m ((c.tc : Thread Cert.MixOutKernelIdeal.nD Cert.MixOutKernelIdeal.τ).loc Cert.MixOutKernelIdeal.main_arg5)
      ∧ m' ((c.tc : Thread Cert.MixOutRefIdeal.nD Cert.MixOutRefIdeal.τ).loc Cert.MixOutRefIdeal.main_arg6) = m ((c.tc : Thread Cert.MixOutKernelIdeal.nD Cert.MixOutKernelIdeal.τ).loc Cert.MixOutKernelIdeal.main_arg6)) →
    ∃ (v0 : (c : Dev Cert.MixOutKernelIdeal.nD) → Buf (Elt Ideal) ((c.tc : Thread Cert.MixOutKernelIdeal.nD Cert.MixOutKernelIdeal.τ).loc Cert.MixOutKernelIdeal.main_v40_0)) (v1 : (c : Dev Cert.MixOutKernelIdeal.nD) → Buf (Elt Ideal) ((c.tc : Thread Cert.MixOutKernelIdeal.nD Cert.MixOutKernelIdeal.τ).loc Cert.MixOutKernelIdeal.main_v40_1)) (v2 : (c : Dev Cert.MixOutKernelIdeal.nD) → Buf (Elt Ideal) ((c.tc : Thread Cert.MixOutKernelIdeal.nD Cert.MixOutKernelIdeal.τ).loc Cert.MixOutKernelIdeal.main_v40_2)) (v3 : (c : Dev Cert.MixOutKernelIdeal.nD) → Buf (Elt Ideal) ((c.tc : Thread Cert.MixOutKernelIdeal.nD Cert.MixOutKernelIdeal.τ).loc Cert.MixOutKernelIdeal.main_v40_3)) (v4 : (c : Dev Cert.MixOutKernelIdeal.nD) → Buf (Elt Ideal) ((c.tc : Thread Cert.MixOutKernelIdeal.nD Cert.MixOutKernelIdeal.τ).loc Cert.MixOutKernelIdeal.main_v40_4)) (v5 : (c : Dev Cert.MixOutKernelIdeal.nD) → Buf (Elt Ideal) ((c.tc : Thread Cert.MixOutKernelIdeal.nD Cert.MixOutKernelIdeal.τ).loc Cert.MixOutKernelIdeal.main_v40_5)) (v6 : (c : Dev Cert.MixOutKernelIdeal.nD) → Buf (Elt Ideal) ((c.tc : Thread Cert.MixOutKernelIdeal.nD Cert.MixOutKernelIdeal.τ).loc Cert.MixOutKernelIdeal.main_v40_6)),
      θ_run (Cert.MixOutKernelIdeal.defs (F := Ideal)) (onTc (τ := Cert.MixOutKernelIdeal.τ) (Cert.MixOutKernelIdeal.main (F := Ideal))) ⟨m, fun _ => 0, g⟩ (fun r => ∀ c : Dev Cert.MixOutKernelIdeal.nD,
          r.2.mem ((c.tc : Thread Cert.MixOutKernelIdeal.nD Cert.MixOutKernelIdeal.τ).loc Cert.MixOutKernelIdeal.main_v40_0) = v0 c
          ∧ r.2.mem ((c.tc : Thread Cert.MixOutKernelIdeal.nD Cert.MixOutKernelIdeal.τ).loc Cert.MixOutKernelIdeal.main_v40_1) = v1 c
          ∧ r.2.mem ((c.tc : Thread Cert.MixOutKernelIdeal.nD Cert.MixOutKernelIdeal.τ).loc Cert.MixOutKernelIdeal.main_v40_2) = v2 c
          ∧ r.2.mem ((c.tc : Thread Cert.MixOutKernelIdeal.nD Cert.MixOutKernelIdeal.τ).loc Cert.MixOutKernelIdeal.main_v40_3) = v3 c
          ∧ r.2.mem ((c.tc : Thread Cert.MixOutKernelIdeal.nD Cert.MixOutKernelIdeal.τ).loc Cert.MixOutKernelIdeal.main_v40_4) = v4 c
          ∧ r.2.mem ((c.tc : Thread Cert.MixOutKernelIdeal.nD Cert.MixOutKernelIdeal.τ).loc Cert.MixOutKernelIdeal.main_v40_5) = v5 c
          ∧ r.2.mem ((c.tc : Thread Cert.MixOutKernelIdeal.nD Cert.MixOutKernelIdeal.τ).loc Cert.MixOutKernelIdeal.main_v40_6) = v6 c
          ∧ r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
          ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
          ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
          ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
          ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
          ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5)
          ∧ r.2.mem ((c.tc : Thread Cert.MixOutKernelIdeal.nD Cert.MixOutKernelIdeal.τ).loc Cert.MixOutKernelIdeal.main_arg6) = m ((c.tc : Thread Cert.MixOutKernelIdeal.nD Cert.MixOutKernelIdeal.τ).loc Cert.MixOutKernelIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v114) = v0 c
          ∧ r.2.mem ((c.tc : Thread Cert.MixOutRefIdeal.nD Cert.MixOutRefIdeal.τ).loc Cert.MixOutRefIdeal.main_v116) = v1 c
          ∧ r.2.mem ((c.tc : Thread Cert.MixOutRefIdeal.nD Cert.MixOutRefIdeal.τ).loc Cert.MixOutRefIdeal.main_v119) = v2 c
          ∧ r.2.mem ((c.tc : Thread Cert.MixOutRefIdeal.nD Cert.MixOutRefIdeal.τ).loc Cert.MixOutRefIdeal.main_v122) = v3 c
          ∧ r.2.mem ((c.tc : Thread Cert.MixOutRefIdeal.nD Cert.MixOutRefIdeal.τ).loc Cert.MixOutRefIdeal.main_v123) = v4 c
          ∧ r.2.mem ((c.tc : Thread Cert.MixOutRefIdeal.nD Cert.MixOutRefIdeal.τ).loc Cert.MixOutRefIdeal.main_v124) = v5 c
          ∧ r.2.mem ((c.tc : Thread Cert.MixOutRefIdeal.nD Cert.MixOutRefIdeal.τ).loc Cert.MixOutRefIdeal.main_v125) = v6 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_MlaKernel_MlaKernelIdeal : Prop :=
  True

def algebraic_MlaKernelIdeal_MlaRefIdeal_pre_mla_finite [hMlaKernelIdeal : Cert.MlaKernelIdeal.Facts] [hMlaRefIdeal : Cert.MlaRefIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaKernelIdeal_mla_finite m →
    (∀ c : Dev Cert.MlaKernelIdeal.nD,
      m' ((c.tc : Thread Cert.MlaRefIdeal.nD Cert.MlaRefIdeal.τ).loc Cert.MlaRefIdeal.main_arg0) = m ((c.tc : Thread Cert.MlaKernelIdeal.nD Cert.MlaKernelIdeal.τ).loc Cert.MlaKernelIdeal.main_arg0)
      ∧ m' ((c.tc : Thread Cert.MlaRefIdeal.nD Cert.MlaRefIdeal.τ).loc Cert.MlaRefIdeal.main_arg1) = m ((c.tc : Thread Cert.MlaKernelIdeal.nD Cert.MlaKernelIdeal.τ).loc Cert.MlaKernelIdeal.main_arg1)
      ∧ m' ((c.tc : Thread Cert.MlaRefIdeal.nD Cert.MlaRefIdeal.τ).loc Cert.MlaRefIdeal.main_arg2) = m ((c.tc : Thread Cert.MlaKernelIdeal.nD Cert.MlaKernelIdeal.τ).loc Cert.MlaKernelIdeal.main_arg2)
      ∧ m' ((c.tc : Thread Cert.MlaRefIdeal.nD Cert.MlaRefIdeal.τ).loc Cert.MlaRefIdeal.main_arg3) = m ((c.tc : Thread Cert.MlaKernelIdeal.nD Cert.MlaKernelIdeal.τ).loc Cert.MlaKernelIdeal.main_arg3)
      ∧ m' ((c.tc : Thread Cert.MlaRefIdeal.nD Cert.MlaRefIdeal.τ).loc Cert.MlaRefIdeal.main_arg4) = m ((c.tc : Thread Cert.MlaKernelIdeal.nD Cert.MlaKernelIdeal.τ).loc Cert.MlaKernelIdeal.main_arg4)
      ∧ m' ((c.tc : Thread Cert.MlaRefIdeal.nD Cert.MlaRefIdeal.τ).loc Cert.MlaRefIdeal.main_arg5) = m ((c.tc : Thread Cert.MlaKernelIdeal.nD Cert.MlaKernelIdeal.τ).loc Cert.MlaKernelIdeal.main_arg5)
      ∧ m' ((c.tc : Thread Cert.MlaRefIdeal.nD Cert.MlaRefIdeal.τ).loc Cert.MlaRefIdeal.main_arg6) = m ((c.tc : Thread Cert.MlaKernelIdeal.nD Cert.MlaKernelIdeal.τ).loc Cert.MlaKernelIdeal.main_arg6)
      ∧ m' ((c.tc : Thread Cert.MlaRefIdeal.nD Cert.MlaRefIdeal.τ).loc Cert.MlaRefIdeal.main_arg7) = m ((c.tc : Thread Cert.MlaKernelIdeal.nD Cert.MlaKernelIdeal.τ).loc Cert.MlaKernelIdeal.main_arg7)
      ∧ m' ((c.tc : Thread Cert.MlaRefIdeal.nD Cert.MlaRefIdeal.τ).loc Cert.MlaRefIdeal.main_arg8) = m ((c.tc : Thread Cert.MlaKernelIdeal.nD Cert.MlaKernelIdeal.τ).loc Cert.MlaKernelIdeal.main_arg8)
      ∧ m' ((c.tc : Thread Cert.MlaRefIdeal.nD Cert.MlaRefIdeal.τ).loc Cert.MlaRefIdeal.main_arg9) = m ((c.tc : Thread Cert.MlaKernelIdeal.nD Cert.MlaKernelIdeal.τ).loc Cert.MlaKernelIdeal.main_arg9)
      ∧ m' ((c.tc : Thread Cert.MlaRefIdeal.nD Cert.MlaRefIdeal.τ).loc Cert.MlaRefIdeal.main_arg10) = m ((c.tc : Thread Cert.MlaKernelIdeal.nD Cert.MlaKernelIdeal.τ).loc Cert.MlaKernelIdeal.main_arg10)) →
    ∃ (v0 : (c : Dev Cert.MlaKernelIdeal.nD) → Buf (Elt Ideal) ((c.tc : Thread Cert.MlaKernelIdeal.nD Cert.MlaKernelIdeal.τ).loc Cert.MlaKernelIdeal.main_v39_0)) (v1 : (c : Dev Cert.MlaKernelIdeal.nD) → Buf (Elt Ideal) ((c.tc : Thread Cert.MlaKernelIdeal.nD Cert.MlaKernelIdeal.τ).loc Cert.MlaKernelIdeal.main_v39_1)) (v2 : (c : Dev Cert.MlaKernelIdeal.nD) → Buf (Elt Ideal) ((c.tc : Thread Cert.MlaKernelIdeal.nD Cert.MlaKernelIdeal.τ).loc Cert.MlaKernelIdeal.main_v39_2)) (v3 : (c : Dev Cert.MlaKernelIdeal.nD) → Buf (Elt Ideal) ((c.tc : Thread Cert.MlaKernelIdeal.nD Cert.MlaKernelIdeal.τ).loc Cert.MlaKernelIdeal.main_v39_3)) (v4 : (c : Dev Cert.MlaKernelIdeal.nD) → Buf (Elt Ideal) ((c.tc : Thread Cert.MlaKernelIdeal.nD Cert.MlaKernelIdeal.τ).loc Cert.MlaKernelIdeal.main_v39_4)) (v5 : (c : Dev Cert.MlaKernelIdeal.nD) → Buf (Elt Ideal) ((c.tc : Thread Cert.MlaKernelIdeal.nD Cert.MlaKernelIdeal.τ).loc Cert.MlaKernelIdeal.main_v39_5)) (v6 : (c : Dev Cert.MlaKernelIdeal.nD) → Buf (Elt Ideal) ((c.tc : Thread Cert.MlaKernelIdeal.nD Cert.MlaKernelIdeal.τ).loc Cert.MlaKernelIdeal.main_v39_6)) (v7 : (c : Dev Cert.MlaKernelIdeal.nD) → Buf (Elt Ideal) ((c.tc : Thread Cert.MlaKernelIdeal.nD Cert.MlaKernelIdeal.τ).loc Cert.MlaKernelIdeal.main_v39_7)) (v8 : (c : Dev Cert.MlaKernelIdeal.nD) → Buf (Elt Ideal) ((c.tc : Thread Cert.MlaKernelIdeal.nD Cert.MlaKernelIdeal.τ).loc Cert.MlaKernelIdeal.main_v39_8)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v39_0) = v0 c
          ∧ r.2.mem ((c.tc : Thread Cert.MlaKernelIdeal.nD Cert.MlaKernelIdeal.τ).loc Cert.MlaKernelIdeal.main_v39_1) = v1 c
          ∧ r.2.mem ((c.tc : Thread Cert.MlaKernelIdeal.nD Cert.MlaKernelIdeal.τ).loc Cert.MlaKernelIdeal.main_v39_2) = v2 c
          ∧ r.2.mem ((c.tc : Thread Cert.MlaKernelIdeal.nD Cert.MlaKernelIdeal.τ).loc Cert.MlaKernelIdeal.main_v39_3) = v3 c
          ∧ r.2.mem ((c.tc : Thread Cert.MlaKernelIdeal.nD Cert.MlaKernelIdeal.τ).loc Cert.MlaKernelIdeal.main_v39_4) = v4 c
          ∧ r.2.mem ((c.tc : Thread Cert.MlaKernelIdeal.nD Cert.MlaKernelIdeal.τ).loc Cert.MlaKernelIdeal.main_v39_5) = v5 c
          ∧ r.2.mem ((c.tc : Thread Cert.MlaKernelIdeal.nD Cert.MlaKernelIdeal.τ).loc Cert.MlaKernelIdeal.main_v39_6) = v6 c
          ∧ r.2.mem ((c.tc : Thread Cert.MlaKernelIdeal.nD Cert.MlaKernelIdeal.τ).loc Cert.MlaKernelIdeal.main_v39_7) = v7 c
          ∧ r.2.mem ((c.tc : Thread Cert.MlaKernelIdeal.nD Cert.MlaKernelIdeal.τ).loc Cert.MlaKernelIdeal.main_v39_8) = v8 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5)
          ∧ r.2.mem ((c.tc : Thread Cert.MlaKernelIdeal.nD Cert.MlaKernelIdeal.τ).loc Cert.MlaKernelIdeal.main_arg6) = m ((c.tc : Thread Cert.MlaKernelIdeal.nD Cert.MlaKernelIdeal.τ).loc Cert.MlaKernelIdeal.main_arg6)
          ∧ r.2.mem ((c.tc : Thread Cert.MlaKernelIdeal.nD Cert.MlaKernelIdeal.τ).loc Cert.MlaKernelIdeal.main_arg7) = m ((c.tc : Thread Cert.MlaKernelIdeal.nD Cert.MlaKernelIdeal.τ).loc Cert.MlaKernelIdeal.main_arg7)
          ∧ r.2.mem ((c.tc : Thread Cert.MlaKernelIdeal.nD Cert.MlaKernelIdeal.τ).loc Cert.MlaKernelIdeal.main_arg8) = m ((c.tc : Thread Cert.MlaKernelIdeal.nD Cert.MlaKernelIdeal.τ).loc Cert.MlaKernelIdeal.main_arg8)
          ∧ r.2.mem ((c.tc : Thread Cert.MlaKernelIdeal.nD Cert.MlaKernelIdeal.τ).loc Cert.MlaKernelIdeal.main_arg9) = m ((c.tc : Thread Cert.MlaKernelIdeal.nD Cert.MlaKernelIdeal.τ).loc Cert.MlaKernelIdeal.main_arg9)
          ∧ r.2.mem ((c.tc : Thread Cert.MlaKernelIdeal.nD Cert.MlaKernelIdeal.τ).loc Cert.MlaKernelIdeal.main_arg10) = m ((c.tc : Thread Cert.MlaKernelIdeal.nD Cert.MlaKernelIdeal.τ).loc Cert.MlaKernelIdeal.main_arg10))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v147) = v0 c
          ∧ r.2.mem ((c.tc : Thread Cert.MlaRefIdeal.nD Cert.MlaRefIdeal.τ).loc Cert.MlaRefIdeal.main_v149) = v1 c
          ∧ r.2.mem ((c.tc : Thread Cert.MlaRefIdeal.nD Cert.MlaRefIdeal.τ).loc Cert.MlaRefIdeal.main_v154) = v2 c
          ∧ r.2.mem ((c.tc : Thread Cert.MlaRefIdeal.nD Cert.MlaRefIdeal.τ).loc Cert.MlaRefIdeal.main_v161) = v3 c
          ∧ r.2.mem ((c.tc : Thread Cert.MlaRefIdeal.nD Cert.MlaRefIdeal.τ).loc Cert.MlaRefIdeal.main_v164) = v4 c
          ∧ r.2.mem ((c.tc : Thread Cert.MlaRefIdeal.nD Cert.MlaRefIdeal.τ).loc Cert.MlaRefIdeal.main_v167) = v5 c
          ∧ r.2.mem ((c.tc : Thread Cert.MlaRefIdeal.nD Cert.MlaRefIdeal.τ).loc Cert.MlaRefIdeal.main_v170) = v6 c
          ∧ r.2.mem ((c.tc : Thread Cert.MlaRefIdeal.nD Cert.MlaRefIdeal.τ).loc Cert.MlaRefIdeal.main_v171) = v7 c
          ∧ r.2.mem ((c.tc : Thread Cert.MlaRefIdeal.nD Cert.MlaRefIdeal.τ).loc Cert.MlaRefIdeal.main_v172) = v8 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5)
          ∧ r.2.mem ((c.tc : Thread Cert.MlaRefIdeal.nD Cert.MlaRefIdeal.τ).loc Cert.MlaRefIdeal.main_arg6) = m' ((c.tc : Thread Cert.MlaRefIdeal.nD Cert.MlaRefIdeal.τ).loc Cert.MlaRefIdeal.main_arg6)
          ∧ r.2.mem ((c.tc : Thread Cert.MlaRefIdeal.nD Cert.MlaRefIdeal.τ).loc Cert.MlaRefIdeal.main_arg7) = m' ((c.tc : Thread Cert.MlaRefIdeal.nD Cert.MlaRefIdeal.τ).loc Cert.MlaRefIdeal.main_arg7)
          ∧ r.2.mem ((c.tc : Thread Cert.MlaRefIdeal.nD Cert.MlaRefIdeal.τ).loc Cert.MlaRefIdeal.main_arg8) = m' ((c.tc : Thread Cert.MlaRefIdeal.nD Cert.MlaRefIdeal.τ).loc Cert.MlaRefIdeal.main_arg8)
          ∧ r.2.mem ((c.tc : Thread Cert.MlaRefIdeal.nD Cert.MlaRefIdeal.τ).loc Cert.MlaRefIdeal.main_arg9) = m' ((c.tc : Thread Cert.MlaRefIdeal.nD Cert.MlaRefIdeal.τ).loc Cert.MlaRefIdeal.main_arg9)
          ∧ r.2.mem ((c.tc : Thread Cert.MlaRefIdeal.nD Cert.MlaRefIdeal.τ).loc Cert.MlaRefIdeal.main_arg10) = m' ((c.tc : Thread Cert.MlaRefIdeal.nD Cert.MlaRefIdeal.τ).loc Cert.MlaRefIdeal.main_arg10))

def preserves_FfnFwdKernel_FfnFwdKernelIdeal : Prop :=
  True

def algebraic_FfnFwdKernelIdeal_FfnFwdRefIdeal [hFfnFwdKernelIdeal : Cert.FfnFwdKernelIdeal.Facts] [hFfnFwdRefIdeal : Cert.FfnFwdRefIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdKernelIdeal m →
    (∀ c : Dev Cert.FfnFwdKernelIdeal.nD,
      m' ((c.tc : Thread Cert.FfnFwdRefIdeal.nD Cert.FfnFwdRefIdeal.τ).loc Cert.FfnFwdRefIdeal.main_arg0) = m ((c.tc : Thread Cert.FfnFwdKernelIdeal.nD Cert.FfnFwdKernelIdeal.τ).loc Cert.FfnFwdKernelIdeal.main_arg0)
      ∧ m' ((c.tc : Thread Cert.FfnFwdRefIdeal.nD Cert.FfnFwdRefIdeal.τ).loc Cert.FfnFwdRefIdeal.main_arg1) = m ((c.tc : Thread Cert.FfnFwdKernelIdeal.nD Cert.FfnFwdKernelIdeal.τ).loc Cert.FfnFwdKernelIdeal.main_arg1)
      ∧ m' ((c.tc : Thread Cert.FfnFwdRefIdeal.nD Cert.FfnFwdRefIdeal.τ).loc Cert.FfnFwdRefIdeal.main_arg2) = m ((c.tc : Thread Cert.FfnFwdKernelIdeal.nD Cert.FfnFwdKernelIdeal.τ).loc Cert.FfnFwdKernelIdeal.main_arg2)
      ∧ m' ((c.tc : Thread Cert.FfnFwdRefIdeal.nD Cert.FfnFwdRefIdeal.τ).loc Cert.FfnFwdRefIdeal.main_arg3) = m ((c.tc : Thread Cert.FfnFwdKernelIdeal.nD Cert.FfnFwdKernelIdeal.τ).loc Cert.FfnFwdKernelIdeal.main_arg3)
      ∧ m' ((c.tc : Thread Cert.FfnFwdRefIdeal.nD Cert.FfnFwdRefIdeal.τ).loc Cert.FfnFwdRefIdeal.main_arg4) = m ((c.tc : Thread Cert.FfnFwdKernelIdeal.nD Cert.FfnFwdKernelIdeal.τ).loc Cert.FfnFwdKernelIdeal.main_arg4)
      ∧ m' ((c.tc : Thread Cert.FfnFwdRefIdeal.nD Cert.FfnFwdRefIdeal.τ).loc Cert.FfnFwdRefIdeal.main_arg5) = m ((c.tc : Thread Cert.FfnFwdKernelIdeal.nD Cert.FfnFwdKernelIdeal.τ).loc Cert.FfnFwdKernelIdeal.main_arg5)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v9_0)) (v1 : (c : Dev Cert.FfnFwdKernelIdeal.nD) → Buf (Elt Ideal) ((c.tc : Thread Cert.FfnFwdKernelIdeal.nD Cert.FfnFwdKernelIdeal.τ).loc Cert.FfnFwdKernelIdeal.main_v9_1)) (v2 : (c : Dev Cert.FfnFwdKernelIdeal.nD) → Buf (Elt Ideal) ((c.tc : Thread Cert.FfnFwdKernelIdeal.nD Cert.FfnFwdKernelIdeal.τ).loc Cert.FfnFwdKernelIdeal.main_v9_2)) (v3 : (c : Dev Cert.FfnFwdKernelIdeal.nD) → Buf (Elt Ideal) ((c.tc : Thread Cert.FfnFwdKernelIdeal.nD Cert.FfnFwdKernelIdeal.τ).loc Cert.FfnFwdKernelIdeal.main_v9_3)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v9_0) = v0 c
          ∧ r.2.mem ((c.tc : Thread Cert.FfnFwdKernelIdeal.nD Cert.FfnFwdKernelIdeal.τ).loc Cert.FfnFwdKernelIdeal.main_v9_1) = v1 c
          ∧ r.2.mem ((c.tc : Thread Cert.FfnFwdKernelIdeal.nD Cert.FfnFwdKernelIdeal.τ).loc Cert.FfnFwdKernelIdeal.main_v9_2) = v2 c
          ∧ r.2.mem ((c.tc : Thread Cert.FfnFwdKernelIdeal.nD Cert.FfnFwdKernelIdeal.τ).loc Cert.FfnFwdKernelIdeal.main_v9_3) = v3 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
          ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v35) = v0 c
          ∧ r.2.mem ((c.tc : Thread Cert.FfnFwdRefIdeal.nD Cert.FfnFwdRefIdeal.τ).loc Cert.FfnFwdRefIdeal.main_v38) = v1 c
          ∧ r.2.mem ((c.tc : Thread Cert.FfnFwdRefIdeal.nD Cert.FfnFwdRefIdeal.τ).loc Cert.FfnFwdRefIdeal.main_v41) = v2 c
          ∧ r.2.mem ((c.tc : Thread Cert.FfnFwdRefIdeal.nD Cert.FfnFwdRefIdeal.τ).loc Cert.FfnFwdRefIdeal.main_v43) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5))

def preserves_MixInFwdKernel_MixInFwdKernelIdeal : Prop :=
  True

def algebraic_MixInFwdKernelIdeal_MixInFwdRefIdeal [hMixInFwdKernelIdeal : Cert.MixInFwdKernelIdeal.Facts] [hMixInFwdRefIdeal : Cert.MixInFwdRefIdeal.Facts] : Prop :=
  ∀ (m : (ℓ : Loc Cert.MixInFwdKernelIdeal.nD Cert.MixInFwdKernelIdeal.τ Cert.MixInFwdKernelIdeal.sig) → Buf (Elt Ideal) ℓ) (g : Dev Cert.MixInFwdKernelIdeal.nD → PrngReg)
    (m' : (ℓ : Loc Cert.MixInFwdRefIdeal.nD Cert.MixInFwdRefIdeal.τ Cert.MixInFwdRefIdeal.sig) → Buf (Elt Ideal) ℓ) (g' : Dev Cert.MixInFwdRefIdeal.nD → PrngReg), Pre_MixInFwdKernelIdeal m →
    (∀ c : Dev Cert.MixInFwdKernelIdeal.nD,
      m' ((c.tc : Thread Cert.MixInFwdRefIdeal.nD Cert.MixInFwdRefIdeal.τ).loc Cert.MixInFwdRefIdeal.main_arg0) = m ((c.tc : Thread Cert.MixInFwdKernelIdeal.nD Cert.MixInFwdKernelIdeal.τ).loc Cert.MixInFwdKernelIdeal.main_arg0)
      ∧ m' ((c.tc : Thread Cert.MixInFwdRefIdeal.nD Cert.MixInFwdRefIdeal.τ).loc Cert.MixInFwdRefIdeal.main_arg1) = m ((c.tc : Thread Cert.MixInFwdKernelIdeal.nD Cert.MixInFwdKernelIdeal.τ).loc Cert.MixInFwdKernelIdeal.main_arg1)
      ∧ m' ((c.tc : Thread Cert.MixInFwdRefIdeal.nD Cert.MixInFwdRefIdeal.τ).loc Cert.MixInFwdRefIdeal.main_arg2) = m ((c.tc : Thread Cert.MixInFwdKernelIdeal.nD Cert.MixInFwdKernelIdeal.τ).loc Cert.MixInFwdKernelIdeal.main_arg2)) →
    ∃ (v0 : (c : Dev Cert.MixInFwdKernelIdeal.nD) → Buf (Elt Ideal) ((c.tc : Thread Cert.MixInFwdKernelIdeal.nD Cert.MixInFwdKernelIdeal.τ).loc Cert.MixInFwdKernelIdeal.main_v9_0)) (v1 : (c : Dev Cert.MixInFwdKernelIdeal.nD) → Buf (Elt Ideal) ((c.tc : Thread Cert.MixInFwdKernelIdeal.nD Cert.MixInFwdKernelIdeal.τ).loc Cert.MixInFwdKernelIdeal.main_v9_1)) (v2 : (c : Dev Cert.MixInFwdKernelIdeal.nD) → Buf (Elt Ideal) ((c.tc : Thread Cert.MixInFwdKernelIdeal.nD Cert.MixInFwdKernelIdeal.τ).loc Cert.MixInFwdKernelIdeal.main_v9_2)) (v3 : (c : Dev Cert.MixInFwdKernelIdeal.nD) → Buf (Elt Ideal) ((c.tc : Thread Cert.MixInFwdKernelIdeal.nD Cert.MixInFwdKernelIdeal.τ).loc Cert.MixInFwdKernelIdeal.main_v9_3)) (v4 : (c : Dev Cert.MixInFwdKernelIdeal.nD) → Buf (Elt Ideal) ((c.tc : Thread Cert.MixInFwdKernelIdeal.nD Cert.MixInFwdKernelIdeal.τ).loc Cert.MixInFwdKernelIdeal.main_v9_4)),
      θ_run (Cert.MixInFwdKernelIdeal.defs (F := Ideal)) (onTc (τ := Cert.MixInFwdKernelIdeal.τ) (Cert.MixInFwdKernelIdeal.main (F := Ideal))) ⟨m, fun _ => 0, g⟩ (fun r => ∀ c : Dev Cert.MixInFwdKernelIdeal.nD,
          r.2.mem ((c.tc : Thread Cert.MixInFwdKernelIdeal.nD Cert.MixInFwdKernelIdeal.τ).loc Cert.MixInFwdKernelIdeal.main_v9_0) = v0 c
          ∧ r.2.mem ((c.tc : Thread Cert.MixInFwdKernelIdeal.nD Cert.MixInFwdKernelIdeal.τ).loc Cert.MixInFwdKernelIdeal.main_v9_1) = v1 c
          ∧ r.2.mem ((c.tc : Thread Cert.MixInFwdKernelIdeal.nD Cert.MixInFwdKernelIdeal.τ).loc Cert.MixInFwdKernelIdeal.main_v9_2) = v2 c
          ∧ r.2.mem ((c.tc : Thread Cert.MixInFwdKernelIdeal.nD Cert.MixInFwdKernelIdeal.τ).loc Cert.MixInFwdKernelIdeal.main_v9_3) = v3 c
          ∧ r.2.mem ((c.tc : Thread Cert.MixInFwdKernelIdeal.nD Cert.MixInFwdKernelIdeal.τ).loc Cert.MixInFwdKernelIdeal.main_v9_4) = v4 c
          ∧ r.2.mem ((c.tc : Thread Cert.MixInFwdKernelIdeal.nD Cert.MixInFwdKernelIdeal.τ).loc Cert.MixInFwdKernelIdeal.main_arg0) = m ((c.tc : Thread Cert.MixInFwdKernelIdeal.nD Cert.MixInFwdKernelIdeal.τ).loc Cert.MixInFwdKernelIdeal.main_arg0)
          ∧ r.2.mem ((c.tc : Thread Cert.MixInFwdKernelIdeal.nD Cert.MixInFwdKernelIdeal.τ).loc Cert.MixInFwdKernelIdeal.main_arg1) = m ((c.tc : Thread Cert.MixInFwdKernelIdeal.nD Cert.MixInFwdKernelIdeal.τ).loc Cert.MixInFwdKernelIdeal.main_arg1)
          ∧ r.2.mem ((c.tc : Thread Cert.MixInFwdKernelIdeal.nD Cert.MixInFwdKernelIdeal.τ).loc Cert.MixInFwdKernelIdeal.main_arg2) = m ((c.tc : Thread Cert.MixInFwdKernelIdeal.nD Cert.MixInFwdKernelIdeal.τ).loc Cert.MixInFwdKernelIdeal.main_arg2))
      ∧ θ_run (Cert.MixInFwdRefIdeal.defs (F := Ideal)) (onTc (τ := Cert.MixInFwdRefIdeal.τ) (Cert.MixInFwdRefIdeal.main (F := Ideal))) ⟨m', fun _ => 0, g'⟩ (fun r => ∀ c : Dev Cert.MixInFwdRefIdeal.nD,
          r.2.mem ((c.tc : Thread Cert.MixInFwdRefIdeal.nD Cert.MixInFwdRefIdeal.τ).loc Cert.MixInFwdRefIdeal.main_v23) = v0 c
          ∧ r.2.mem ((c.tc : Thread Cert.MixInFwdRefIdeal.nD Cert.MixInFwdRefIdeal.τ).loc Cert.MixInFwdRefIdeal.main_v25) = v1 c
          ∧ r.2.mem ((c.tc : Thread Cert.MixInFwdRefIdeal.nD Cert.MixInFwdRefIdeal.τ).loc Cert.MixInFwdRefIdeal.main_v27) = v2 c
          ∧ r.2.mem ((c.tc : Thread Cert.MixInFwdRefIdeal.nD Cert.MixInFwdRefIdeal.τ).loc Cert.MixInFwdRefIdeal.main_v29) = v3 c
          ∧ r.2.mem ((c.tc : Thread Cert.MixInFwdRefIdeal.nD Cert.MixInFwdRefIdeal.τ).loc Cert.MixInFwdRefIdeal.main_v31) = v4 c
          ∧ r.2.mem ((c.tc : Thread Cert.MixInFwdRefIdeal.nD Cert.MixInFwdRefIdeal.τ).loc Cert.MixInFwdRefIdeal.main_arg0) = m' ((c.tc : Thread Cert.MixInFwdRefIdeal.nD Cert.MixInFwdRefIdeal.τ).loc Cert.MixInFwdRefIdeal.main_arg0)
          ∧ r.2.mem ((c.tc : Thread Cert.MixInFwdRefIdeal.nD Cert.MixInFwdRefIdeal.τ).loc Cert.MixInFwdRefIdeal.main_arg1) = m' ((c.tc : Thread Cert.MixInFwdRefIdeal.nD Cert.MixInFwdRefIdeal.τ).loc Cert.MixInFwdRefIdeal.main_arg1)
          ∧ r.2.mem ((c.tc : Thread Cert.MixInFwdRefIdeal.nD Cert.MixInFwdRefIdeal.τ).loc Cert.MixInFwdRefIdeal.main_arg2) = m' ((c.tc : Thread Cert.MixInFwdRefIdeal.nD Cert.MixInFwdRefIdeal.τ).loc Cert.MixInFwdRefIdeal.main_arg2))

def preserves_MixOutFwdKernel_MixOutFwdKernelIdeal : Prop :=
  True

def algebraic_MixOutFwdKernelIdeal_MixOutFwdRefIdeal [hMixOutFwdKernelIdeal : Cert.MixOutFwdKernelIdeal.Facts] [hMixOutFwdRefIdeal : Cert.MixOutFwdRefIdeal.Facts] : Prop :=
  ∀ (m : (ℓ : Loc Cert.MixOutFwdKernelIdeal.nD Cert.MixOutFwdKernelIdeal.τ Cert.MixOutFwdKernelIdeal.sig) → Buf (Elt Ideal) ℓ) (g : Dev Cert.MixOutFwdKernelIdeal.nD → PrngReg)
    (m' : (ℓ : Loc Cert.MixOutFwdRefIdeal.nD Cert.MixOutFwdRefIdeal.τ Cert.MixOutFwdRefIdeal.sig) → Buf (Elt Ideal) ℓ) (g' : Dev Cert.MixOutFwdRefIdeal.nD → PrngReg), Pre_MixOutFwdKernelIdeal m →
    (∀ c : Dev Cert.MixOutFwdKernelIdeal.nD,
      m' ((c.tc : Thread Cert.MixOutFwdRefIdeal.nD Cert.MixOutFwdRefIdeal.τ).loc Cert.MixOutFwdRefIdeal.main_arg0) = m ((c.tc : Thread Cert.MixOutFwdKernelIdeal.nD Cert.MixOutFwdKernelIdeal.τ).loc Cert.MixOutFwdKernelIdeal.main_arg0)
      ∧ m' ((c.tc : Thread Cert.MixOutFwdRefIdeal.nD Cert.MixOutFwdRefIdeal.τ).loc Cert.MixOutFwdRefIdeal.main_arg1) = m ((c.tc : Thread Cert.MixOutFwdKernelIdeal.nD Cert.MixOutFwdKernelIdeal.τ).loc Cert.MixOutFwdKernelIdeal.main_arg1)
      ∧ m' ((c.tc : Thread Cert.MixOutFwdRefIdeal.nD Cert.MixOutFwdRefIdeal.τ).loc Cert.MixOutFwdRefIdeal.main_arg2) = m ((c.tc : Thread Cert.MixOutFwdKernelIdeal.nD Cert.MixOutFwdKernelIdeal.τ).loc Cert.MixOutFwdKernelIdeal.main_arg2)
      ∧ m' ((c.tc : Thread Cert.MixOutFwdRefIdeal.nD Cert.MixOutFwdRefIdeal.τ).loc Cert.MixOutFwdRefIdeal.main_arg3) = m ((c.tc : Thread Cert.MixOutFwdKernelIdeal.nD Cert.MixOutFwdKernelIdeal.τ).loc Cert.MixOutFwdKernelIdeal.main_arg3)
      ∧ m' ((c.tc : Thread Cert.MixOutFwdRefIdeal.nD Cert.MixOutFwdRefIdeal.τ).loc Cert.MixOutFwdRefIdeal.main_arg4) = m ((c.tc : Thread Cert.MixOutFwdKernelIdeal.nD Cert.MixOutFwdKernelIdeal.τ).loc Cert.MixOutFwdKernelIdeal.main_arg4)
      ∧ m' ((c.tc : Thread Cert.MixOutFwdRefIdeal.nD Cert.MixOutFwdRefIdeal.τ).loc Cert.MixOutFwdRefIdeal.main_arg5) = m ((c.tc : Thread Cert.MixOutFwdKernelIdeal.nD Cert.MixOutFwdKernelIdeal.τ).loc Cert.MixOutFwdKernelIdeal.main_arg5)
      ∧ m' ((c.tc : Thread Cert.MixOutFwdRefIdeal.nD Cert.MixOutFwdRefIdeal.τ).loc Cert.MixOutFwdRefIdeal.main_arg6) = m ((c.tc : Thread Cert.MixOutFwdKernelIdeal.nD Cert.MixOutFwdKernelIdeal.τ).loc Cert.MixOutFwdKernelIdeal.main_arg6)) →
    ∃ (v0 : (c : Dev Cert.MixOutFwdKernelIdeal.nD) → Buf (Elt Ideal) ((c.tc : Thread Cert.MixOutFwdKernelIdeal.nD Cert.MixOutFwdKernelIdeal.τ).loc Cert.MixOutFwdKernelIdeal.main_v10_0)) (v1 : (c : Dev Cert.MixOutFwdKernelIdeal.nD) → Buf (Elt Ideal) ((c.tc : Thread Cert.MixOutFwdKernelIdeal.nD Cert.MixOutFwdKernelIdeal.τ).loc Cert.MixOutFwdKernelIdeal.main_v10_1)),
      θ_run (Cert.MixOutFwdKernelIdeal.defs (F := Ideal)) (onTc (τ := Cert.MixOutFwdKernelIdeal.τ) (Cert.MixOutFwdKernelIdeal.main (F := Ideal))) ⟨m, fun _ => 0, g⟩ (fun r => ∀ c : Dev Cert.MixOutFwdKernelIdeal.nD,
          r.2.mem ((c.tc : Thread Cert.MixOutFwdKernelIdeal.nD Cert.MixOutFwdKernelIdeal.τ).loc Cert.MixOutFwdKernelIdeal.main_v10_0) = v0 c
          ∧ r.2.mem ((c.tc : Thread Cert.MixOutFwdKernelIdeal.nD Cert.MixOutFwdKernelIdeal.τ).loc Cert.MixOutFwdKernelIdeal.main_v10_1) = v1 c
          ∧ r.2.mem ((c.tc : Thread Cert.MixOutFwdKernelIdeal.nD Cert.MixOutFwdKernelIdeal.τ).loc Cert.MixOutFwdKernelIdeal.main_arg0) = m ((c.tc : Thread Cert.MixOutFwdKernelIdeal.nD Cert.MixOutFwdKernelIdeal.τ).loc Cert.MixOutFwdKernelIdeal.main_arg0)
          ∧ r.2.mem ((c.tc : Thread Cert.MixOutFwdKernelIdeal.nD Cert.MixOutFwdKernelIdeal.τ).loc Cert.MixOutFwdKernelIdeal.main_arg1) = m ((c.tc : Thread Cert.MixOutFwdKernelIdeal.nD Cert.MixOutFwdKernelIdeal.τ).loc Cert.MixOutFwdKernelIdeal.main_arg1)
          ∧ r.2.mem ((c.tc : Thread Cert.MixOutFwdKernelIdeal.nD Cert.MixOutFwdKernelIdeal.τ).loc Cert.MixOutFwdKernelIdeal.main_arg2) = m ((c.tc : Thread Cert.MixOutFwdKernelIdeal.nD Cert.MixOutFwdKernelIdeal.τ).loc Cert.MixOutFwdKernelIdeal.main_arg2)
          ∧ r.2.mem ((c.tc : Thread Cert.MixOutFwdKernelIdeal.nD Cert.MixOutFwdKernelIdeal.τ).loc Cert.MixOutFwdKernelIdeal.main_arg3) = m ((c.tc : Thread Cert.MixOutFwdKernelIdeal.nD Cert.MixOutFwdKernelIdeal.τ).loc Cert.MixOutFwdKernelIdeal.main_arg3)
          ∧ r.2.mem ((c.tc : Thread Cert.MixOutFwdKernelIdeal.nD Cert.MixOutFwdKernelIdeal.τ).loc Cert.MixOutFwdKernelIdeal.main_arg4) = m ((c.tc : Thread Cert.MixOutFwdKernelIdeal.nD Cert.MixOutFwdKernelIdeal.τ).loc Cert.MixOutFwdKernelIdeal.main_arg4)
          ∧ r.2.mem ((c.tc : Thread Cert.MixOutFwdKernelIdeal.nD Cert.MixOutFwdKernelIdeal.τ).loc Cert.MixOutFwdKernelIdeal.main_arg5) = m ((c.tc : Thread Cert.MixOutFwdKernelIdeal.nD Cert.MixOutFwdKernelIdeal.τ).loc Cert.MixOutFwdKernelIdeal.main_arg5)
          ∧ r.2.mem ((c.tc : Thread Cert.MixOutFwdKernelIdeal.nD Cert.MixOutFwdKernelIdeal.τ).loc Cert.MixOutFwdKernelIdeal.main_arg6) = m ((c.tc : Thread Cert.MixOutFwdKernelIdeal.nD Cert.MixOutFwdKernelIdeal.τ).loc Cert.MixOutFwdKernelIdeal.main_arg6))
      ∧ θ_run (Cert.MixOutFwdRefIdeal.defs (F := Ideal)) (onTc (τ := Cert.MixOutFwdRefIdeal.τ) (Cert.MixOutFwdRefIdeal.main (F := Ideal))) ⟨m', fun _ => 0, g'⟩ (fun r => ∀ c : Dev Cert.MixOutFwdRefIdeal.nD,
          r.2.mem ((c.tc : Thread Cert.MixOutFwdRefIdeal.nD Cert.MixOutFwdRefIdeal.τ).loc Cert.MixOutFwdRefIdeal.main_v43) = v0 c
          ∧ r.2.mem ((c.tc : Thread Cert.MixOutFwdRefIdeal.nD Cert.MixOutFwdRefIdeal.τ).loc Cert.MixOutFwdRefIdeal.main_v45) = v1 c
          ∧ r.2.mem ((c.tc : Thread Cert.MixOutFwdRefIdeal.nD Cert.MixOutFwdRefIdeal.τ).loc Cert.MixOutFwdRefIdeal.main_arg0) = m' ((c.tc : Thread Cert.MixOutFwdRefIdeal.nD Cert.MixOutFwdRefIdeal.τ).loc Cert.MixOutFwdRefIdeal.main_arg0)
          ∧ r.2.mem ((c.tc : Thread Cert.MixOutFwdRefIdeal.nD Cert.MixOutFwdRefIdeal.τ).loc Cert.MixOutFwdRefIdeal.main_arg1) = m' ((c.tc : Thread Cert.MixOutFwdRefIdeal.nD Cert.MixOutFwdRefIdeal.τ).loc Cert.MixOutFwdRefIdeal.main_arg1)
          ∧ r.2.mem ((c.tc : Thread Cert.MixOutFwdRefIdeal.nD Cert.MixOutFwdRefIdeal.τ).loc Cert.MixOutFwdRefIdeal.main_arg2) = m' ((c.tc : Thread Cert.MixOutFwdRefIdeal.nD Cert.MixOutFwdRefIdeal.τ).loc Cert.MixOutFwdRefIdeal.main_arg2)
          ∧ r.2.mem ((c.tc : Thread Cert.MixOutFwdRefIdeal.nD Cert.MixOutFwdRefIdeal.τ).loc Cert.MixOutFwdRefIdeal.main_arg3) = m' ((c.tc : Thread Cert.MixOutFwdRefIdeal.nD Cert.MixOutFwdRefIdeal.τ).loc Cert.MixOutFwdRefIdeal.main_arg3)
          ∧ r.2.mem ((c.tc : Thread Cert.MixOutFwdRefIdeal.nD Cert.MixOutFwdRefIdeal.τ).loc Cert.MixOutFwdRefIdeal.main_arg4) = m' ((c.tc : Thread Cert.MixOutFwdRefIdeal.nD Cert.MixOutFwdRefIdeal.τ).loc Cert.MixOutFwdRefIdeal.main_arg4)
          ∧ r.2.mem ((c.tc : Thread Cert.MixOutFwdRefIdeal.nD Cert.MixOutFwdRefIdeal.τ).loc Cert.MixOutFwdRefIdeal.main_arg5) = m' ((c.tc : Thread Cert.MixOutFwdRefIdeal.nD Cert.MixOutFwdRefIdeal.τ).loc Cert.MixOutFwdRefIdeal.main_arg5)
          ∧ r.2.mem ((c.tc : Thread Cert.MixOutFwdRefIdeal.nD Cert.MixOutFwdRefIdeal.τ).loc Cert.MixOutFwdRefIdeal.main_arg6) = m' ((c.tc : Thread Cert.MixOutFwdRefIdeal.nD Cert.MixOutFwdRefIdeal.τ).loc Cert.MixOutFwdRefIdeal.main_arg6))

def preserves_MlaFwdKernel_MlaFwdKernelIdeal : Prop :=
  True

def algebraic_MlaFwdKernelIdeal_MlaFwdRefIdeal [hMlaFwdKernelIdeal : Cert.MlaFwdKernelIdeal.Facts] [hMlaFwdRefIdeal : Cert.MlaFwdRefIdeal.Facts] : Prop :=
  ∀ (m : (ℓ : Loc Cert.MlaFwdKernelIdeal.nD Cert.MlaFwdKernelIdeal.τ Cert.MlaFwdKernelIdeal.sig) → Buf (Elt Ideal) ℓ) (g : Dev Cert.MlaFwdKernelIdeal.nD → PrngReg)
    (m' : (ℓ : Loc Cert.MlaFwdRefIdeal.nD Cert.MlaFwdRefIdeal.τ Cert.MlaFwdRefIdeal.sig) → Buf (Elt Ideal) ℓ) (g' : Dev Cert.MlaFwdRefIdeal.nD → PrngReg), Pre_MlaFwdKernelIdeal m →
    (∀ c : Dev Cert.MlaFwdKernelIdeal.nD,
      m' ((c.tc : Thread Cert.MlaFwdRefIdeal.nD Cert.MlaFwdRefIdeal.τ).loc Cert.MlaFwdRefIdeal.main_arg0) = m ((c.tc : Thread Cert.MlaFwdKernelIdeal.nD Cert.MlaFwdKernelIdeal.τ).loc Cert.MlaFwdKernelIdeal.main_arg0)
      ∧ m' ((c.tc : Thread Cert.MlaFwdRefIdeal.nD Cert.MlaFwdRefIdeal.τ).loc Cert.MlaFwdRefIdeal.main_arg1) = m ((c.tc : Thread Cert.MlaFwdKernelIdeal.nD Cert.MlaFwdKernelIdeal.τ).loc Cert.MlaFwdKernelIdeal.main_arg1)
      ∧ m' ((c.tc : Thread Cert.MlaFwdRefIdeal.nD Cert.MlaFwdRefIdeal.τ).loc Cert.MlaFwdRefIdeal.main_arg2) = m ((c.tc : Thread Cert.MlaFwdKernelIdeal.nD Cert.MlaFwdKernelIdeal.τ).loc Cert.MlaFwdKernelIdeal.main_arg2)
      ∧ m' ((c.tc : Thread Cert.MlaFwdRefIdeal.nD Cert.MlaFwdRefIdeal.τ).loc Cert.MlaFwdRefIdeal.main_arg3) = m ((c.tc : Thread Cert.MlaFwdKernelIdeal.nD Cert.MlaFwdKernelIdeal.τ).loc Cert.MlaFwdKernelIdeal.main_arg3)
      ∧ m' ((c.tc : Thread Cert.MlaFwdRefIdeal.nD Cert.MlaFwdRefIdeal.τ).loc Cert.MlaFwdRefIdeal.main_arg4) = m ((c.tc : Thread Cert.MlaFwdKernelIdeal.nD Cert.MlaFwdKernelIdeal.τ).loc Cert.MlaFwdKernelIdeal.main_arg4)
      ∧ m' ((c.tc : Thread Cert.MlaFwdRefIdeal.nD Cert.MlaFwdRefIdeal.τ).loc Cert.MlaFwdRefIdeal.main_arg5) = m ((c.tc : Thread Cert.MlaFwdKernelIdeal.nD Cert.MlaFwdKernelIdeal.τ).loc Cert.MlaFwdKernelIdeal.main_arg5)
      ∧ m' ((c.tc : Thread Cert.MlaFwdRefIdeal.nD Cert.MlaFwdRefIdeal.τ).loc Cert.MlaFwdRefIdeal.main_arg6) = m ((c.tc : Thread Cert.MlaFwdKernelIdeal.nD Cert.MlaFwdKernelIdeal.τ).loc Cert.MlaFwdKernelIdeal.main_arg6)
      ∧ m' ((c.tc : Thread Cert.MlaFwdRefIdeal.nD Cert.MlaFwdRefIdeal.τ).loc Cert.MlaFwdRefIdeal.main_arg7) = m ((c.tc : Thread Cert.MlaFwdKernelIdeal.nD Cert.MlaFwdKernelIdeal.τ).loc Cert.MlaFwdKernelIdeal.main_arg7)
      ∧ m' ((c.tc : Thread Cert.MlaFwdRefIdeal.nD Cert.MlaFwdRefIdeal.τ).loc Cert.MlaFwdRefIdeal.main_arg8) = m ((c.tc : Thread Cert.MlaFwdKernelIdeal.nD Cert.MlaFwdKernelIdeal.τ).loc Cert.MlaFwdKernelIdeal.main_arg8)) →
    ∃ (v0 : (c : Dev Cert.MlaFwdKernelIdeal.nD) → Buf (Elt Ideal) ((c.tc : Thread Cert.MlaFwdKernelIdeal.nD Cert.MlaFwdKernelIdeal.τ).loc Cert.MlaFwdKernelIdeal.main_v31_0)) (v1 : (c : Dev Cert.MlaFwdKernelIdeal.nD) → Buf (Elt Ideal) ((c.tc : Thread Cert.MlaFwdKernelIdeal.nD Cert.MlaFwdKernelIdeal.τ).loc Cert.MlaFwdKernelIdeal.main_v31_1)) (v2 : (c : Dev Cert.MlaFwdKernelIdeal.nD) → Buf (Elt Ideal) ((c.tc : Thread Cert.MlaFwdKernelIdeal.nD Cert.MlaFwdKernelIdeal.τ).loc Cert.MlaFwdKernelIdeal.main_v31_2)),
      θ_run (Cert.MlaFwdKernelIdeal.defs (F := Ideal)) (onTc (τ := Cert.MlaFwdKernelIdeal.τ) (Cert.MlaFwdKernelIdeal.main (F := Ideal))) ⟨m, fun _ => 0, g⟩ (fun r => ∀ c : Dev Cert.MlaFwdKernelIdeal.nD,
          r.2.mem ((c.tc : Thread Cert.MlaFwdKernelIdeal.nD Cert.MlaFwdKernelIdeal.τ).loc Cert.MlaFwdKernelIdeal.main_v31_0) = v0 c
          ∧ r.2.mem ((c.tc : Thread Cert.MlaFwdKernelIdeal.nD Cert.MlaFwdKernelIdeal.τ).loc Cert.MlaFwdKernelIdeal.main_v31_1) = v1 c
          ∧ r.2.mem ((c.tc : Thread Cert.MlaFwdKernelIdeal.nD Cert.MlaFwdKernelIdeal.τ).loc Cert.MlaFwdKernelIdeal.main_v31_2) = v2 c
          ∧ r.2.mem ((c.tc : Thread Cert.MlaFwdKernelIdeal.nD Cert.MlaFwdKernelIdeal.τ).loc Cert.MlaFwdKernelIdeal.main_arg0) = m ((c.tc : Thread Cert.MlaFwdKernelIdeal.nD Cert.MlaFwdKernelIdeal.τ).loc Cert.MlaFwdKernelIdeal.main_arg0)
          ∧ r.2.mem ((c.tc : Thread Cert.MlaFwdKernelIdeal.nD Cert.MlaFwdKernelIdeal.τ).loc Cert.MlaFwdKernelIdeal.main_arg1) = m ((c.tc : Thread Cert.MlaFwdKernelIdeal.nD Cert.MlaFwdKernelIdeal.τ).loc Cert.MlaFwdKernelIdeal.main_arg1)
          ∧ r.2.mem ((c.tc : Thread Cert.MlaFwdKernelIdeal.nD Cert.MlaFwdKernelIdeal.τ).loc Cert.MlaFwdKernelIdeal.main_arg2) = m ((c.tc : Thread Cert.MlaFwdKernelIdeal.nD Cert.MlaFwdKernelIdeal.τ).loc Cert.MlaFwdKernelIdeal.main_arg2)
          ∧ r.2.mem ((c.tc : Thread Cert.MlaFwdKernelIdeal.nD Cert.MlaFwdKernelIdeal.τ).loc Cert.MlaFwdKernelIdeal.main_arg3) = m ((c.tc : Thread Cert.MlaFwdKernelIdeal.nD Cert.MlaFwdKernelIdeal.τ).loc Cert.MlaFwdKernelIdeal.main_arg3)
          ∧ r.2.mem ((c.tc : Thread Cert.MlaFwdKernelIdeal.nD Cert.MlaFwdKernelIdeal.τ).loc Cert.MlaFwdKernelIdeal.main_arg4) = m ((c.tc : Thread Cert.MlaFwdKernelIdeal.nD Cert.MlaFwdKernelIdeal.τ).loc Cert.MlaFwdKernelIdeal.main_arg4)
          ∧ r.2.mem ((c.tc : Thread Cert.MlaFwdKernelIdeal.nD Cert.MlaFwdKernelIdeal.τ).loc Cert.MlaFwdKernelIdeal.main_arg5) = m ((c.tc : Thread Cert.MlaFwdKernelIdeal.nD Cert.MlaFwdKernelIdeal.τ).loc Cert.MlaFwdKernelIdeal.main_arg5)
          ∧ r.2.mem ((c.tc : Thread Cert.MlaFwdKernelIdeal.nD Cert.MlaFwdKernelIdeal.τ).loc Cert.MlaFwdKernelIdeal.main_arg6) = m ((c.tc : Thread Cert.MlaFwdKernelIdeal.nD Cert.MlaFwdKernelIdeal.τ).loc Cert.MlaFwdKernelIdeal.main_arg6)
          ∧ r.2.mem ((c.tc : Thread Cert.MlaFwdKernelIdeal.nD Cert.MlaFwdKernelIdeal.τ).loc Cert.MlaFwdKernelIdeal.main_arg7) = m ((c.tc : Thread Cert.MlaFwdKernelIdeal.nD Cert.MlaFwdKernelIdeal.τ).loc Cert.MlaFwdKernelIdeal.main_arg7)
          ∧ r.2.mem ((c.tc : Thread Cert.MlaFwdKernelIdeal.nD Cert.MlaFwdKernelIdeal.τ).loc Cert.MlaFwdKernelIdeal.main_arg8) = m ((c.tc : Thread Cert.MlaFwdKernelIdeal.nD Cert.MlaFwdKernelIdeal.τ).loc Cert.MlaFwdKernelIdeal.main_arg8))
      ∧ θ_run (Cert.MlaFwdRefIdeal.defs (F := Ideal)) (onTc (τ := Cert.MlaFwdRefIdeal.τ) (Cert.MlaFwdRefIdeal.main (F := Ideal))) ⟨m', fun _ => 0, g'⟩ (fun r => ∀ c : Dev Cert.MlaFwdRefIdeal.nD,
          r.2.mem ((c.tc : Thread Cert.MlaFwdRefIdeal.nD Cert.MlaFwdRefIdeal.τ).loc Cert.MlaFwdRefIdeal.main_v66) = v0 c
          ∧ r.2.mem ((c.tc : Thread Cert.MlaFwdRefIdeal.nD Cert.MlaFwdRefIdeal.τ).loc Cert.MlaFwdRefIdeal.main_v73) = v1 c
          ∧ r.2.mem ((c.tc : Thread Cert.MlaFwdRefIdeal.nD Cert.MlaFwdRefIdeal.τ).loc Cert.MlaFwdRefIdeal.main_v77) = v2 c
          ∧ r.2.mem ((c.tc : Thread Cert.MlaFwdRefIdeal.nD Cert.MlaFwdRefIdeal.τ).loc Cert.MlaFwdRefIdeal.main_arg0) = m' ((c.tc : Thread Cert.MlaFwdRefIdeal.nD Cert.MlaFwdRefIdeal.τ).loc Cert.MlaFwdRefIdeal.main_arg0)
          ∧ r.2.mem ((c.tc : Thread Cert.MlaFwdRefIdeal.nD Cert.MlaFwdRefIdeal.τ).loc Cert.MlaFwdRefIdeal.main_arg1) = m' ((c.tc : Thread Cert.MlaFwdRefIdeal.nD Cert.MlaFwdRefIdeal.τ).loc Cert.MlaFwdRefIdeal.main_arg1)
          ∧ r.2.mem ((c.tc : Thread Cert.MlaFwdRefIdeal.nD Cert.MlaFwdRefIdeal.τ).loc Cert.MlaFwdRefIdeal.main_arg2) = m' ((c.tc : Thread Cert.MlaFwdRefIdeal.nD Cert.MlaFwdRefIdeal.τ).loc Cert.MlaFwdRefIdeal.main_arg2)
          ∧ r.2.mem ((c.tc : Thread Cert.MlaFwdRefIdeal.nD Cert.MlaFwdRefIdeal.τ).loc Cert.MlaFwdRefIdeal.main_arg3) = m' ((c.tc : Thread Cert.MlaFwdRefIdeal.nD Cert.MlaFwdRefIdeal.τ).loc Cert.MlaFwdRefIdeal.main_arg3)
          ∧ r.2.mem ((c.tc : Thread Cert.MlaFwdRefIdeal.nD Cert.MlaFwdRefIdeal.τ).loc Cert.MlaFwdRefIdeal.main_arg4) = m' ((c.tc : Thread Cert.MlaFwdRefIdeal.nD Cert.MlaFwdRefIdeal.τ).loc Cert.MlaFwdRefIdeal.main_arg4)
          ∧ r.2.mem ((c.tc : Thread Cert.MlaFwdRefIdeal.nD Cert.MlaFwdRefIdeal.τ).loc Cert.MlaFwdRefIdeal.main_arg5) = m' ((c.tc : Thread Cert.MlaFwdRefIdeal.nD Cert.MlaFwdRefIdeal.τ).loc Cert.MlaFwdRefIdeal.main_arg5)
          ∧ r.2.mem ((c.tc : Thread Cert.MlaFwdRefIdeal.nD Cert.MlaFwdRefIdeal.τ).loc Cert.MlaFwdRefIdeal.main_arg6) = m' ((c.tc : Thread Cert.MlaFwdRefIdeal.nD Cert.MlaFwdRefIdeal.τ).loc Cert.MlaFwdRefIdeal.main_arg6)
          ∧ r.2.mem ((c.tc : Thread Cert.MlaFwdRefIdeal.nD Cert.MlaFwdRefIdeal.τ).loc Cert.MlaFwdRefIdeal.main_arg7) = m' ((c.tc : Thread Cert.MlaFwdRefIdeal.nD Cert.MlaFwdRefIdeal.τ).loc Cert.MlaFwdRefIdeal.main_arg7)
          ∧ r.2.mem ((c.tc : Thread Cert.MlaFwdRefIdeal.nD Cert.MlaFwdRefIdeal.τ).loc Cert.MlaFwdRefIdeal.main_arg8) = m' ((c.tc : Thread Cert.MlaFwdRefIdeal.nD Cert.MlaFwdRefIdeal.τ).loc Cert.MlaFwdRefIdeal.main_arg8))

def Claim : Prop :=
  ∃ (hLossKernel : Cert.LossKernel.Facts) (hLossKernelIdeal : Cert.LossKernelIdeal.Facts) (hLossRefIdeal : Cert.LossRefIdeal.Facts) (hAttnQKernel : Cert.AttnQKernel.Facts) (hAttnQKernelIdeal : Cert.AttnQKernelIdeal.Facts) (hAttnQRefIdeal : Cert.AttnQRefIdeal.Facts) (hAttnKvKernel : Cert.AttnKvKernel.Facts) (hAttnKvKernelIdeal : Cert.AttnKvKernelIdeal.Facts) (hAttnKvRefIdeal : Cert.AttnKvRefIdeal.Facts) (hFfnUpKernel : Cert.FfnUpKernel.Facts) (hFfnUpKernelIdeal : Cert.FfnUpKernelIdeal.Facts) (hFfnUpRefIdeal : Cert.FfnUpRefIdeal.Facts) (hFfnDownKernel : Cert.FfnDownKernel.Facts) (hFfnDownKernelIdeal : Cert.FfnDownKernelIdeal.Facts) (hFfnDownRefIdeal : Cert.FfnDownRefIdeal.Facts) (hMixInKernel : Cert.MixInKernel.Facts) (hMixInKernelIdeal : Cert.MixInKernelIdeal.Facts) (hMixInRefIdeal : Cert.MixInRefIdeal.Facts) (hMixOutKernel : Cert.MixOutKernel.Facts) (hMixOutKernelIdeal : Cert.MixOutKernelIdeal.Facts) (hMixOutRefIdeal : Cert.MixOutRefIdeal.Facts) (hMlaKernel : Cert.MlaKernel.Facts) (hMlaKernelIdeal : Cert.MlaKernelIdeal.Facts) (hMlaRefIdeal : Cert.MlaRefIdeal.Facts) (hFfnFwdKernel : Cert.FfnFwdKernel.Facts) (hFfnFwdKernelIdeal : Cert.FfnFwdKernelIdeal.Facts) (hFfnFwdRefIdeal : Cert.FfnFwdRefIdeal.Facts) (hMixInFwdKernel : Cert.MixInFwdKernel.Facts) (hMixInFwdKernelIdeal : Cert.MixInFwdKernelIdeal.Facts) (hMixInFwdRefIdeal : Cert.MixInFwdRefIdeal.Facts) (hMixOutFwdKernel : Cert.MixOutFwdKernel.Facts) (hMixOutFwdKernelIdeal : Cert.MixOutFwdKernelIdeal.Facts) (hMixOutFwdRefIdeal : Cert.MixOutFwdRefIdeal.Facts) (hMlaFwdKernel : Cert.MlaFwdKernel.Facts) (hMlaFwdKernelIdeal : Cert.MlaFwdKernelIdeal.Facts) (hMlaFwdRefIdeal : Cert.MlaFwdRefIdeal.Facts) (hPre_attention_finite : Cert.Pre_attention_finite.Facts) (hPre_ffn_up_finite : Cert.Pre_ffn_up_finite.Facts) (hPre_ffn_down_finite : Cert.Pre_ffn_down_finite.Facts) (hPre_mix_in_finite : Cert.Pre_mix_in_finite.Facts) (hPre_mix_out_finite : Cert.Pre_mix_out_finite.Facts) (hPre_mla_finite : Cert.Pre_mla_finite.Facts),
    quiescent_LossKernel (hLossKernel := hLossKernel)
    ∧ quiescent_LossKernelIdeal (hLossKernelIdeal := hLossKernelIdeal)
    ∧ quiescent_LossRefIdeal (hLossRefIdeal := hLossRefIdeal)
    ∧ quiescent_AttnQKernel (hAttnQKernel := hAttnQKernel)
    ∧ quiescent_AttnQKernelIdeal (hAttnQKernelIdeal := hAttnQKernelIdeal)
    ∧ quiescent_AttnQKernelIdeal_pre_attention_finite (hAttnQKernelIdeal := hAttnQKernelIdeal) (hPre_attention_finite := hPre_attention_finite)
    ∧ quiescent_AttnQRefIdeal (hAttnQRefIdeal := hAttnQRefIdeal)
    ∧ quiescent_AttnQRefIdeal_pre_attention_finite (hAttnQRefIdeal := hAttnQRefIdeal) (hPre_attention_finite := hPre_attention_finite)
    ∧ quiescent_AttnKvKernel (hAttnKvKernel := hAttnKvKernel)
    ∧ quiescent_AttnKvKernelIdeal (hAttnKvKernelIdeal := hAttnKvKernelIdeal)
    ∧ quiescent_AttnKvKernelIdeal_pre_attention_finite (hAttnKvKernelIdeal := hAttnKvKernelIdeal) (hPre_attention_finite := hPre_attention_finite)
    ∧ quiescent_AttnKvRefIdeal (hAttnKvRefIdeal := hAttnKvRefIdeal)
    ∧ quiescent_AttnKvRefIdeal_pre_attention_finite (hAttnKvRefIdeal := hAttnKvRefIdeal) (hPre_attention_finite := hPre_attention_finite)
    ∧ quiescent_FfnUpKernel (hFfnUpKernel := hFfnUpKernel)
    ∧ quiescent_FfnUpKernelIdeal (hFfnUpKernelIdeal := hFfnUpKernelIdeal)
    ∧ quiescent_FfnUpKernelIdeal_pre_ffn_up_finite (hFfnUpKernelIdeal := hFfnUpKernelIdeal) (hPre_ffn_up_finite := hPre_ffn_up_finite)
    ∧ quiescent_FfnUpRefIdeal (hFfnUpRefIdeal := hFfnUpRefIdeal)
    ∧ quiescent_FfnUpRefIdeal_pre_ffn_up_finite (hFfnUpRefIdeal := hFfnUpRefIdeal) (hPre_ffn_up_finite := hPre_ffn_up_finite)
    ∧ quiescent_FfnDownKernel (hFfnDownKernel := hFfnDownKernel)
    ∧ quiescent_FfnDownKernelIdeal (hFfnDownKernelIdeal := hFfnDownKernelIdeal)
    ∧ quiescent_FfnDownKernelIdeal_pre_ffn_down_finite (hFfnDownKernelIdeal := hFfnDownKernelIdeal) (hPre_ffn_down_finite := hPre_ffn_down_finite)
    ∧ quiescent_FfnDownRefIdeal (hFfnDownRefIdeal := hFfnDownRefIdeal)
    ∧ quiescent_FfnDownRefIdeal_pre_ffn_down_finite (hFfnDownRefIdeal := hFfnDownRefIdeal) (hPre_ffn_down_finite := hPre_ffn_down_finite)
    ∧ quiescent_MixInKernel (hMixInKernel := hMixInKernel)
    ∧ quiescent_MixInKernelIdeal (hMixInKernelIdeal := hMixInKernelIdeal)
    ∧ quiescent_MixInKernelIdeal_pre_mix_in_finite (hMixInKernelIdeal := hMixInKernelIdeal) (hPre_mix_in_finite := hPre_mix_in_finite)
    ∧ quiescent_MixInRefIdeal (hMixInRefIdeal := hMixInRefIdeal)
    ∧ quiescent_MixInRefIdeal_pre_mix_in_finite (hMixInRefIdeal := hMixInRefIdeal) (hPre_mix_in_finite := hPre_mix_in_finite)
    ∧ quiescent_MixOutKernel (hMixOutKernel := hMixOutKernel)
    ∧ quiescent_MixOutKernelIdeal (hMixOutKernelIdeal := hMixOutKernelIdeal)
    ∧ quiescent_MixOutKernelIdeal_pre_mix_out_finite (hMixOutKernelIdeal := hMixOutKernelIdeal) (hPre_mix_out_finite := hPre_mix_out_finite)
    ∧ quiescent_MixOutRefIdeal (hMixOutRefIdeal := hMixOutRefIdeal)
    ∧ quiescent_MixOutRefIdeal_pre_mix_out_finite (hMixOutRefIdeal := hMixOutRefIdeal) (hPre_mix_out_finite := hPre_mix_out_finite)
    ∧ quiescent_MlaKernel (hMlaKernel := hMlaKernel)
    ∧ quiescent_MlaKernelIdeal (hMlaKernelIdeal := hMlaKernelIdeal)
    ∧ quiescent_MlaKernelIdeal_pre_mla_finite (hMlaKernelIdeal := hMlaKernelIdeal) (hPre_mla_finite := hPre_mla_finite)
    ∧ quiescent_MlaRefIdeal (hMlaRefIdeal := hMlaRefIdeal)
    ∧ quiescent_MlaRefIdeal_pre_mla_finite (hMlaRefIdeal := hMlaRefIdeal) (hPre_mla_finite := hPre_mla_finite)
    ∧ quiescent_FfnFwdKernel (hFfnFwdKernel := hFfnFwdKernel)
    ∧ quiescent_FfnFwdKernelIdeal (hFfnFwdKernelIdeal := hFfnFwdKernelIdeal)
    ∧ quiescent_FfnFwdRefIdeal (hFfnFwdRefIdeal := hFfnFwdRefIdeal)
    ∧ quiescent_MixInFwdKernel (hMixInFwdKernel := hMixInFwdKernel)
    ∧ quiescent_MixInFwdKernelIdeal (hMixInFwdKernelIdeal := hMixInFwdKernelIdeal)
    ∧ quiescent_MixInFwdRefIdeal (hMixInFwdRefIdeal := hMixInFwdRefIdeal)
    ∧ quiescent_MixOutFwdKernel (hMixOutFwdKernel := hMixOutFwdKernel)
    ∧ quiescent_MixOutFwdKernelIdeal (hMixOutFwdKernelIdeal := hMixOutFwdKernelIdeal)
    ∧ quiescent_MixOutFwdRefIdeal (hMixOutFwdRefIdeal := hMixOutFwdRefIdeal)
    ∧ quiescent_MlaFwdKernel (hMlaFwdKernel := hMlaFwdKernel)
    ∧ quiescent_MlaFwdKernelIdeal (hMlaFwdKernelIdeal := hMlaFwdKernelIdeal)
    ∧ quiescent_MlaFwdRefIdeal (hMlaFwdRefIdeal := hMlaFwdRefIdeal)
    ∧ preserves_LossKernel_LossKernelIdeal
    ∧ algebraic_LossKernelIdeal_LossRefIdeal (hLossKernelIdeal := hLossKernelIdeal) (hLossRefIdeal := hLossRefIdeal)
    ∧ preserves_AttnQKernel_AttnQKernelIdeal
    ∧ algebraic_AttnQKernelIdeal_AttnQRefIdeal_pre_attention_finite (hAttnQKernelIdeal := hAttnQKernelIdeal) (hAttnQRefIdeal := hAttnQRefIdeal) (hPre_attention_finite := hPre_attention_finite)
    ∧ preserves_AttnKvKernel_AttnKvKernelIdeal
    ∧ algebraic_AttnKvKernelIdeal_AttnKvRefIdeal_pre_attention_finite (hAttnKvKernelIdeal := hAttnKvKernelIdeal) (hAttnKvRefIdeal := hAttnKvRefIdeal) (hPre_attention_finite := hPre_attention_finite)
    ∧ preserves_FfnUpKernel_FfnUpKernelIdeal
    ∧ algebraic_FfnUpKernelIdeal_FfnUpRefIdeal_pre_ffn_up_finite (hFfnUpKernelIdeal := hFfnUpKernelIdeal) (hFfnUpRefIdeal := hFfnUpRefIdeal) (hPre_ffn_up_finite := hPre_ffn_up_finite)
    ∧ preserves_FfnDownKernel_FfnDownKernelIdeal
    ∧ algebraic_FfnDownKernelIdeal_FfnDownRefIdeal_pre_ffn_down_finite (hFfnDownKernelIdeal := hFfnDownKernelIdeal) (hFfnDownRefIdeal := hFfnDownRefIdeal) (hPre_ffn_down_finite := hPre_ffn_down_finite)
    ∧ preserves_MixInKernel_MixInKernelIdeal
    ∧ algebraic_MixInKernelIdeal_MixInRefIdeal_pre_mix_in_finite (hMixInKernelIdeal := hMixInKernelIdeal) (hMixInRefIdeal := hMixInRefIdeal) (hPre_mix_in_finite := hPre_mix_in_finite)
    ∧ preserves_MixOutKernel_MixOutKernelIdeal
    ∧ algebraic_MixOutKernelIdeal_MixOutRefIdeal_pre_mix_out_finite (hMixOutKernelIdeal := hMixOutKernelIdeal) (hMixOutRefIdeal := hMixOutRefIdeal) (hPre_mix_out_finite := hPre_mix_out_finite)
    ∧ preserves_MlaKernel_MlaKernelIdeal
    ∧ algebraic_MlaKernelIdeal_MlaRefIdeal_pre_mla_finite (hMlaKernelIdeal := hMlaKernelIdeal) (hMlaRefIdeal := hMlaRefIdeal) (hPre_mla_finite := hPre_mla_finite)
    ∧ preserves_FfnFwdKernel_FfnFwdKernelIdeal
    ∧ algebraic_FfnFwdKernelIdeal_FfnFwdRefIdeal (hFfnFwdKernelIdeal := hFfnFwdKernelIdeal) (hFfnFwdRefIdeal := hFfnFwdRefIdeal)
    ∧ preserves_MixInFwdKernel_MixInFwdKernelIdeal
    ∧ algebraic_MixInFwdKernelIdeal_MixInFwdRefIdeal (hMixInFwdKernelIdeal := hMixInFwdKernelIdeal) (hMixInFwdRefIdeal := hMixInFwdRefIdeal)
    ∧ preserves_MixOutFwdKernel_MixOutFwdKernelIdeal
    ∧ algebraic_MixOutFwdKernelIdeal_MixOutFwdRefIdeal (hMixOutFwdKernelIdeal := hMixOutFwdKernelIdeal) (hMixOutFwdRefIdeal := hMixOutFwdRefIdeal)
    ∧ preserves_MlaFwdKernel_MlaFwdKernelIdeal
    ∧ algebraic_MlaFwdKernelIdeal_MlaFwdRefIdeal (hMlaFwdKernelIdeal := hMlaFwdKernelIdeal) (hMlaFwdRefIdeal := hMlaFwdRefIdeal)
-- ==== Pre_attention_finite.lean ====
abbrev S4112x8x96 : Shape := ⟨3, ![4112, 8, 96]⟩
abbrev S4112x8x64 : Shape := ⟨3, ![4112, 8, 64]⟩
abbrev S_ : Shape := ⟨0, ![]⟩
abbrev S4112x8x320 : Shape := ⟨3, ![4112, 8, 320]⟩

class Facts : Prop where
  bcast_S_S4112x8x96 : S_.BroadcastsInDim S4112x8x96 (![] : Fin 0 → Fin S4112x8x96.rank)
  bcast_S_S4112x8x64 : S_.BroadcastsInDim S4112x8x64 (![] : Fin 0 → Fin S4112x8x64.rank)
  concatenates_S4112x8x96_S4112x8x96_S4112x8x64_S4112x8x64_S4112x8x320_d2 : Shape.Concatenates [S4112x8x96, S4112x8x96, S4112x8x64, S4112x8x64] S4112x8x320 2

variable [Facts]

def fn {F : FTy → Type} [FloatOps F] (main_arg0 : FVec F S4112x8x96 .f32) (main_arg1 : FVec F S4112x8x96 .f32) (main_arg2 : FVec F S4112x8x64 .f32) (main_arg3 : FVec F S4112x8x64 .f32) : IVec S4112x8x320 1 :=
  let main_v0 : FVec F S4112x8x96 .f32 := Host.absf main_arg0
  let main_cst : FVec F S_ .f32 := constant S_ .f32 0x7F800000#32
  let main_v1 : FVec F S4112x8x96 .f32 := broadcastInDim S4112x8x96 ![] bcast_S_S4112x8x96 main_cst
  let main_v2 : IVec S4112x8x96 1 := cmpf .olt main_v0 main_v1
  let main_v3 : FVec F S4112x8x96 .f32 := Host.absf main_arg1
  let main_cst_0 : FVec F S_ .f32 := constant S_ .f32 0x7F800000#32
  let main_v4 : FVec F S4112x8x96 .f32 := broadcastInDim S4112x8x96 ![] bcast_S_S4112x8x96 main_cst_0
  let main_v5 : IVec S4112x8x96 1 := cmpf .olt main_v3 main_v4
  let main_v6 : FVec F S4112x8x64 .f32 := Host.absf main_arg2
  let main_cst_1 : FVec F S_ .f32 := constant S_ .f32 0x7F800000#32
  let main_v7 : FVec F S4112x8x64 .f32 := broadcastInDim S4112x8x64 ![] bcast_S_S4112x8x64 main_cst_1
  let main_v8 : IVec S4112x8x64 1 := cmpf .olt main_v6 main_v7
  let main_v9 : FVec F S4112x8x64 .f32 := Host.absf main_arg3
  let main_cst_2 : FVec F S_ .f32 := constant S_ .f32 0x7F800000#32
  let main_v10 : FVec F S4112x8x64 .f32 := broadcastInDim S4112x8x64 ![] bcast_S_S4112x8x64 main_cst_2
  let main_v11 : IVec S4112x8x64 1 := cmpf .olt main_v9 main_v10
  let main_v12 : IVec S4112x8x320 1 := concatenate S4112x8x320 2 [⟨S4112x8x96, main_v2⟩, ⟨S4112x8x96, main_v5⟩, ⟨S4112x8x64, main_v8⟩, ⟨S4112x8x64, main_v11⟩] concatenates_S4112x8x96_S4112x8x96_S4112x8x64_S4112x8x64_S4112x8x320_d2
  main_v12
-- ==== Pre_ffn_down_finite.lean ====
abbrev S4112x1024 : Shape := ⟨2, ![4112, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S11042x1024 : Shape := ⟨2, ![11042, 1024]⟩
abbrev S11042x1792 : Shape := ⟨2, ![11042, 1792]⟩
abbrev S11042x2816 : Shape := ⟨2, ![11042, 2816]⟩
abbrev S13090x2816 : Shape := ⟨2, ![13090, 2816]⟩

class Facts : Prop where
  bcast_S_S4112x1024 : S_.BroadcastsInDim S4112x1024 (![] : Fin 0 → Fin S4112x1024.rank)
  bcast_S_S2816x1024 : S_.BroadcastsInDim S2816x1024 (![] : Fin 0 → Fin S2816x1024.rank)
  shapeCasts_S1024_S1x1024 : S1024.ShapeCasts S1x1024
  bcast_S_S1x1024 : S_.BroadcastsInDim S1x1024 (![] : Fin 0 → Fin S1x1024.rank)
  concatenates_S4112x1024_S4112x1024_S2816x1024_S1x1024_S1x1024_S11042x1024_d0 : Shape.Concatenates [S4112x1024, S4112x1024, S2816x1024, S1x1024, S1x1024] S11042x1024 0
  bcast_S_S1024x2816 : S_.BroadcastsInDim S1024x2816 (![] : Fin 0 → Fin S1024x2816.rank)
  bcast_S_S11042x1792 : S_.BroadcastsInDim S11042x1792 (![] : Fin 0 → Fin S11042x1792.rank)
  concatenates_S11042x1024_S11042x1792_S11042x2816_d1 : Shape.Concatenates [S11042x1024, S11042x1792] S11042x2816 1
  concatenates_S1024x2816_S1024x2816_S11042x2816_S13090x2816_d0 : Shape.Concatenates [S1024x2816, S1024x2816, S11042x2816] S13090x2816 0

variable [Facts]

def fn_part1 {F : FTy → Type} [FloatOps F] (main_arg4 : FVec F S1024x2816 .f32) (main_v17 : IVec S11042x1024 1) (main_v18 : FVec F S1024x2816 .f32) : IVec S13090x2816 1 :=
  let main_cst_4 : FVec F S_ .f32 := constant S_ .f32 0x7F800000#32
  let main_v19 : FVec F S1024x2816 .f32 := broadcastInDim S1024x2816 ![] bcast_S_S1024x2816 main_cst_4
  let main_v20 : IVec S1024x2816 1 := cmpf .olt main_v18 main_v19
  let main_v21 : FVec F S1024x2816 .f32 := Host.absf main_arg4
  let main_cst_5 : FVec F S_ .f32 := constant S_ .f32 0x7F800000#32
  let main_v22 : FVec F S1024x2816 .f32 := broadcastInDim S1024x2816 ![] bcast_S_S1024x2816 main_cst_5
  let main_v23 : IVec S1024x2816 1 := cmpf .olt main_v21 main_v22
  let main_c : IVec S_ 1 := constantI S_ 1 1#1
  let main_v24 : IVec S11042x1792 1 := broadcastInDim S11042x1792 ![] bcast_S_S11042x1792 main_c
  let main_v25 : IVec S11042x2816 1 := (fun a b => concatenate S11042x2816 1 [⟨S11042x1024, a⟩, ⟨S11042x1792, b⟩] concatenates_S11042x1024_S11042x1792_S11042x2816_d1) main_v17 main_v24
  let main_v26 : IVec S13090x2816 1 := concatenate S13090x2816 0 [⟨S1024x2816, main_v20⟩, ⟨S1024x2816, main_v23⟩, ⟨S11042x2816, main_v25⟩] concatenates_S1024x2816_S1024x2816_S11042x2816_S13090x2816_d0
  main_v26

def fn {F : FTy → Type} [FloatOps F] (main_arg0 : FVec F S4112x1024 .f32) (main_arg1 : FVec F S4112x1024 .f32) (main_arg2 : FVec F S1024 .f32) (main_arg3 : FVec F S1024x2816 .f32) (main_arg4 : FVec F S1024x2816 .f32) (main_arg5 : FVec F S2816x1024 .f32) (main_arg6 : FVec F S1024 .f32) : IVec S13090x2816 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4112x1024 .f32 := Host.absf main_arg1
  let main_cst_0 : FVec F S_ .f32 := constant S_ .f32 0x7F800000#32
  let main_v4 : FVec F S4112x1024 .f32 := broadcastInDim S4112x1024 ![] bcast_S_S4112x1024 main_cst_0
  let main_v5 : IVec S4112x1024 1 := cmpf .olt main_v3 main_v4
  let main_v6 : FVec F S2816x1024 .f32 := Host.absf main_arg5
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S1x1024 .f32 := shapeCast S1x1024 main_arg2 shapeCasts_S1024_S1x1024
  let main_v10 : FVec F S1x1024 .f32 := Host.absf main_v9
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1x1024 .f32 := shapeCast S1x1024 main_arg6 shapeCasts_S1024_S1x1024
  let main_v14 : FVec F S1x1024 .f32 := Host.absf main_v13
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : IVec S11042x1024 1 := concatenate S11042x1024 0 [⟨S4112x1024, main_v2⟩, ⟨S4112x1024, main_v5⟩, ⟨S2816x1024, main_v8⟩, ⟨S1x1024, main_v12⟩, ⟨S1x1024, main_v16⟩] concatenates_S4112x1024_S4112x1024_S2816x1024_S1x1024_S1x1024_S11042x1024_d0
  let main_v18 : FVec F S1024x2816 .f32 := Host.absf main_arg3
  fn_part1 (F := F) main_arg4 main_v17 main_v18
-- ==== Pre_ffn_up_finite.lean ====
abbrev S4112x1024 : Shape := ⟨2, ![4112, 1024]⟩
abbrev S4112x2816 : Shape := ⟨2, ![4112, 2816]⟩
abbrev S1024 : Shape := ⟨1, ![1024]⟩
abbrev S1024x2816 : Shape := ⟨2, ![1024, 2816]⟩
abbrev S_ : Shape := ⟨0, ![]⟩
abbrev S1x1024 : Shape := ⟨2, ![1, 1024]⟩
abbrev S8225x1024 : Shape := ⟨2, ![8225, 1024]⟩
abbrev S8225x1792 : Shape := ⟨2, ![8225, 1792]⟩
abbrev S8225x2816 : Shape := ⟨2, ![8225, 2816]⟩
abbrev S18497x2816 : Shape := ⟨2, ![18497, 2816]⟩

class Facts : Prop where
  bcast_S_S4112x1024 : S_.BroadcastsInDim S4112x1024 (![] : Fin 0 → Fin S4112x1024.rank)
  shapeCasts_S1024_S1x1024 : S1024.ShapeCasts S1x1024
  bcast_S_S1x1024 : S_.BroadcastsInDim S1x1024 (![] : Fin 0 → Fin S1x1024.rank)
  concatenates_S4112x1024_S4112x1024_S1x1024_S8225x1024_d0 : Shape.Concatenates [S4112x1024, S4112x1024, S1x1024] S8225x1024 0
  bcast_S_S4112x2816 : S_.BroadcastsInDim S4112x2816 (![] : Fin 0 → Fin S4112x2816.rank)
  bcast_S_S1024x2816 : S_.BroadcastsInDim S1024x2816 (![] : Fin 0 → Fin S1024x2816.rank)
  bcast_S_S8225x1792 : S_.BroadcastsInDim S8225x1792 (![] : Fin 0 → Fin S8225x1792.rank)
  concatenates_S8225x1024_S8225x1792_S8225x2816_d1 : Shape.Concatenates [S8225x1024, S8225x1792] S8225x2816 1
  concatenates_S4112x2816_S4112x2816_S1024x2816_S1024x2816_S8225x2816_S18497x2816_d0 : Shape.Concatenates [S4112x2816, S4112x2816, S1024x2816, S1024x2816, S8225x2816] S18497x2816 0

variable [Facts]

def fn_part1 {F : FTy → Type} [FloatOps F] (main_arg6 : FVec F S1024x2816 .f32) (main_v10 : IVec S8225x1024 1) (main_v13 : IVec S4112x2816 1) (main_v16 : IVec S4112x2816 1) (main_v17 : FVec F S1024x2816 .f32) (main_cst_4 : FVec F S_ .f32) : IVec S18497x2816 1 :=
  let main_v18 : FVec F S1024x2816 .f32 := broadcastInDim S1024x2816 ![] bcast_S_S1024x2816 main_cst_4
  let main_v19 : IVec S1024x2816 1 := cmpf .olt main_v17 main_v18
  let main_v20 : FVec F S1024x2816 .f32 := Host.absf main_arg6
  let main_cst_5 : FVec F S_ .f32 := constant S_ .f32 0x7F800000#32
  let main_v21 : FVec F S1024x2816 .f32 := broadcastInDim S1024x2816 ![] bcast_S_S1024x2816 main_cst_5
  let main_v22 : IVec S1024x2816 1 := cmpf .olt main_v20 main_v21
  let main_c : IVec S_ 1 := constantI S_ 1 1#1
  let main_v23 : IVec S8225x1792 1 := broadcastInDim S8225x1792 ![] bcast_S_S8225x1792 main_c
  let main_v24 : IVec S8225x2816 1 := (fun a b => concatenate S8225x2816 1 [⟨S8225x1024, a⟩, ⟨S8225x1792, b⟩] concatenates_S8225x1024_S8225x1792_S8225x2816_d1) main_v10 main_v23
  let main_v25 : IVec S18497x2816 1 := concatenate S18497x2816 0 [⟨S4112x2816, main_v13⟩, ⟨S4112x2816, main_v16⟩, ⟨S1024x2816, main_v19⟩, ⟨S1024x2816, main_v22⟩, ⟨S8225x2816, main_v24⟩] concatenates_S4112x2816_S4112x2816_S1024x2816_S1024x2816_S8225x2816_S18497x2816_d0
  main_v25

def fn {F : FTy → Type} [FloatOps F] (main_arg0 : FVec F S4112x1024 .f32) (main_arg1 : FVec F S4112x1024 .f32) (main_arg2 : FVec F S4112x2816 .f32) (main_arg3 : FVec F S4112x2816 .f32) (main_arg4 : FVec F S1024 .f32) (main_arg5 : FVec F S1024x2816 .f32) (main_arg6 : FVec F S1024x2816 .f32) : IVec S18497x2816 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4112x1024 .f32 := Host.absf main_arg1
  let main_cst_0 : FVec F S_ .f32 := constant S_ .f32 0x7F800000#32
  let main_v4 : FVec F S4112x1024 .f32 := broadcastInDim S4112x1024 ![] bcast_S_S4112x1024 main_cst_0
  let main_v5 : IVec S4112x1024 1 := cmpf .olt main_v3 main_v4
  let main_v6 : FVec F S1x1024 .f32 := shapeCast S1x1024 main_arg4 shapeCasts_S1024_S1x1024
  let main_v7 : FVec F S1x1024 .f32 := Host.absf main_v6
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : IVec S8225x1024 1 := concatenate S8225x1024 0 [⟨S4112x1024, main_v2⟩, ⟨S4112x1024, main_v5⟩, ⟨S1x1024, main_v9⟩] concatenates_S4112x1024_S4112x1024_S1x1024_S8225x1024_d0
  let main_v11 : FVec F S4112x2816 .f32 := Host.absf main_arg2
  let main_cst_2 : FVec F S_ .f32 := constant S_ .f32 0x7F800000#32
  let main_v12 : FVec F S4112x2816 .f32 := broadcastInDim S4112x2816 ![] bcast_S_S4112x2816 main_cst_2
  let main_v13 : IVec S4112x2816 1 := cmpf .olt main_v11 main_v12
  let main_v14 : FVec F S4112x2816 .f32 := Host.absf main_arg3
  let main_cst_3 : FVec F S_ .f32 := constant S_ .f32 0x7F800000#32
  let main_v15 : FVec F S4112x2816 .f32 := broadcastInDim S4112x2816 ![] bcast_S_S4112x2816 main_cst_3
  let main_v16 : IVec S4112x2816 1 := cmpf .olt main_v14 main_v15
  let main_v17 : FVec F S1024x2816 .f32 := Host.absf main_arg5
  let main_cst_4 : FVec F S_ .f32 := constant S_ .f32 0x7F800000#32
  fn_part1 (F := F) main_arg6 main_v10 main_v13 main_v16 main_v17 main_cst_4
-- ==== Pre_mix_in_finite.lean ====
abbrev S4112x1024 : Shape := ⟨2, ![4112, 1024]⟩
abbrev S4112x512 : Shape := ⟨2, ![4112, 512]⟩
abbrev S4112x384 : Shape := ⟨2, ![4112, 384]⟩
abbrev S4112x256 : Shape := ⟨2, ![4112, 256]⟩
abbrev S4112x32 : Shape := ⟨2, ![4112, 32]⟩
abbrev S1024 : Shape := ⟨1, ![1024]⟩
abbrev S1024x1696 : Shape := ⟨2, ![1024, 1696]⟩
abbrev S_ : Shape := ⟨0, ![]⟩
abbrev S1x1024 : Shape := ⟨2, ![1, 1024]⟩
abbrev S8225x1024 : Shape := ⟨2, ![8225, 1024]⟩
abbrev S4112x1696 : Shape := ⟨2, ![4112, 1696]⟩
abbrev S8225x672 : Shape := ⟨2, ![8225, 672]⟩
abbrev S8225x1696 : Shape := ⟨2, ![8225, 1696]⟩
abbrev S13361x1696 : Shape := ⟨2, ![13361, 1696]⟩

class Facts : Prop where
  bcast_S_S4112x1024 : S_.BroadcastsInDim S4112x1024 (![] : Fin 0 → Fin S4112x1024.rank)
  shapeCasts_S1024_S1x1024 : S1024.ShapeCasts S1x1024
  bcast_S_S1x1024 : S_.BroadcastsInDim S1x1024 (![] : Fin 0 → Fin S1x1024.rank)
  concatenates_S4112x1024_S4112x1024_S1x1024_S8225x1024_d0 : Shape.Concatenates [S4112x1024, S4112x1024, S1x1024] S8225x1024 0
  bcast_S_S4112x512 : S_.BroadcastsInDim S4112x512 (![] : Fin 0 → Fin S4112x512.rank)
  bcast_S_S4112x384 : S_.BroadcastsInDim S4112x384 (![] : Fin 0 → Fin S4112x384.rank)
  bcast_S_S4112x256 : S_.BroadcastsInDim S4112x256 (![] : Fin 0 → Fin S4112x256.rank)
  bcast_S_S4112x32 : S_.BroadcastsInDim S4112x32 (![] : Fin 0 → Fin S4112x32.rank)
  concatenates_S4112x512_S4112x512_S4112x384_S4112x256_S4112x32_S4112x1696_d1 : Shape.Concatenates [S4112x512, S4112x512, S4112x384, S4112x256, S4112x32] S4112x1696 1
  bcast_S_S1024x1696 : S_.BroadcastsInDim S1024x1696 (![] : Fin 0 → Fin S1024x1696.rank)
  bcast_S_S8225x672 : S_.BroadcastsInDim S8225x672 (![] : Fin 0 → Fin S8225x672.rank)
  concatenates_S8225x1024_S8225x672_S8225x1696_d1 : Shape.Concatenates [S8225x1024, S8225x672] S8225x1696 1
  concatenates_S4112x1696_S1024x1696_S8225x1696_S13361x1696_d0 : Shape.Concatenates [S4112x1696, S1024x1696, S8225x1696] S13361x1696 0

variable [Facts]

def fn_part1 {F : FTy → Type} [FloatOps F] (main_arg5 : FVec F S4112x256 .f32) (main_arg6 : FVec F S4112x32 .f32) (main_arg8 : FVec F S1024x1696 .f32) (main_v10 : IVec S8225x1024 1) (main_v13 : IVec S4112x512 1) (main_v16 : IVec S4112x512 1) (main_v17 : FVec F S4112x384 .f32) (main_cst_4 : FVec F S_ .f32) : IVec S13361x1696 1 :=
  let main_v18 : FVec F S4112x384 .f32 := broadcastInDim S4112x384 ![] bcast_S_S4112x384 main_cst_4
  let main_v19 : IVec S4112x384 1 := cmpf .olt main_v17 main_v18
  let main_v20 : FVec F S4112x256 .f32 := Host.absf main_arg5
  let main_cst_5 : FVec F S_ .f32 := constant S_ .f32 0x7F800000#32
  let main_v21 : FVec F S4112x256 .f32 := broadcastInDim S4112x256 ![] bcast_S_S4112x256 main_cst_5
  let main_v22 : IVec S4112x256 1 := cmpf .olt main_v20 main_v21
  let main_v23 : FVec F S4112x32 .f32 := Host.absf main_arg6
  let main_cst_6 : FVec F S_ .f32 := constant S_ .f32 0x7F800000#32
  let main_v24 : FVec F S4112x32 .f32 := broadcastInDim S4112x32 ![] bcast_S_S4112x32 main_cst_6
  let main_v25 : IVec S4112x32 1 := cmpf .olt main_v23 main_v24
  let main_v26 : IVec S4112x1696 1 := concatenate S4112x1696 1 [⟨S4112x512, main_v13⟩, ⟨S4112x512, main_v16⟩, ⟨S4112x384, main_v19⟩, ⟨S4112x256, main_v22⟩, ⟨S4112x32, main_v25⟩] concatenates_S4112x512_S4112x512_S4112x384_S4112x256_S4112x32_S4112x1696_d1
  let main_v27 : FVec F S1024x1696 .f32 := Host.absf main_arg8
  let main_cst_7 : FVec F S_ .f32 := constant S_ .f32 0x7F800000#32
  let main_v28 : FVec F S1024x1696 .f32 := broadcastInDim S1024x1696 ![] bcast_S_S1024x1696 main_cst_7
  let main_v29 : IVec S1024x1696 1 := cmpf .olt main_v27 main_v28
  let main_c : IVec S_ 1 := constantI S_ 1 1#1
  let main_v30 : IVec S8225x672 1 := broadcastInDim S8225x672 ![] bcast_S_S8225x672 main_c
  let main_v31 : IVec S8225x1696 1 := (fun a b => concatenate S8225x1696 1 [⟨S8225x1024, a⟩, ⟨S8225x672, b⟩] concatenates_S8225x1024_S8225x672_S8225x1696_d1) main_v10 main_v30
  let main_v32 : IVec S13361x1696 1 := concatenate S13361x1696 0 [⟨S4112x1696, main_v26⟩, ⟨S1024x1696, main_v29⟩, ⟨S8225x1696, main_v31⟩] concatenates_S4112x1696_S1024x1696_S8225x1696_S13361x1696_d0
  main_v32

def fn {F : FTy → Type} [FloatOps F] (main_arg0 : FVec F S4112x1024 .f32) (main_arg1 : FVec F S4112x1024 .f32) (main_arg2 : FVec F S4112x512 .f32) (main_arg3 : FVec F S4112x512 .f32) (main_arg4 : FVec F S4112x384 .f32) (main_arg5 : FVec F S4112x256 .f32) (main_arg6 : FVec F S4112x32 .f32) (main_arg7 : FVec F S1024 .f32) (main_arg8 : FVec F S1024x1696 .f32) : IVec S13361x1696 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_v3 : FVec F S4112x1024 .f32 := Host.absf main_arg1
  let main_cst_0 : FVec F S_ .f32 := constant S_ .f32 0x7F800000#32
  let main_v4 : FVec F S4112x1024 .f32 := broadcastInDim S4112x1024 ![] bcast_S_S4112x1024 main_cst_0
  let main_v5 : IVec S4112x1024 1 := cmpf .olt main_v3 main_v4
  let main_v6 : FVec F S1x1024 .f32 := shapeCast S1x1024 main_arg7 shapeCasts_S1024_S1x1024
  let main_v7 : FVec F S1x1024 .f32 := Host.absf main_v6
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : IVec S8225x1024 1 := concatenate S8225x1024 0 [⟨S4112x1024, main_v2⟩, ⟨S4112x1024, main_v5⟩, ⟨S1x1024, main_v9⟩] concatenates_S4112x1024_S4112x1024_S1x1024_S8225x1024_d0
  let main_v11 : FVec F S4112x512 .f32 := Host.absf main_arg2
  let main_cst_2 : FVec F S_ .f32 := constant S_ .f32 0x7F800000#32
  let main_v12 : FVec F S4112x512 .f32 := broadcastInDim S4112x512 ![] bcast_S_S4112x512 main_cst_2
  let main_v13 : IVec S4112x512 1 := cmpf .olt main_v11 main_v12
  let main_v14 : FVec F S4112x512 .f32 := Host.absf main_arg3
  let main_cst_3 : FVec F S_ .f32 := constant S_ .f32 0x7F800000#32
  let main_v15 : FVec F S4112x512 .f32 := broadcastInDim S4112x512 ![] bcast_S_S4112x512 main_cst_3
  let main_v16 : IVec S4112x512 1 := cmpf .olt main_v14 main_v15
  let main_v17 : FVec F S4112x384 .f32 := Host.absf main_arg4
  let main_cst_4 : FVec F S_ .f32 := constant S_ .f32 0x7F800000#32
  fn_part1 (F := F) main_arg5 main_arg6 main_arg8 main_v10 main_v13 main_v16 main_v17 main_cst_4
-- ==== Pre_mix_out_finite.lean ====
abbrev S4112x1024 : Shape := ⟨2, ![4112, 1024]⟩
abbrev S4112x512 : Shape := ⟨2, ![4112, 512]⟩
abbrev S512 : Shape := ⟨1, ![512]⟩
abbrev S1024 : Shape := ⟨1, ![1024]⟩
abbrev S1024x1024 : Shape := ⟨2, ![1024, 1024]⟩
abbrev S_ : Shape := ⟨0, ![]⟩
abbrev S1x512 : Shape := ⟨2, ![1, 512]⟩
abbrev S8226x512 : Shape := ⟨2, ![8226, 512]⟩
abbrev S1x1024 : Shape := ⟨2, ![1, 1024]⟩
abbrev S8226x1024 : Shape := ⟨2, ![8226, 1024]⟩
abbrev S13363x1024 : Shape := ⟨2, ![13363, 1024]⟩

class Facts : Prop where
  bcast_S_S4112x512 : S_.BroadcastsInDim S4112x512 (![] : Fin 0 → Fin S4112x512.rank)
  shapeCasts_S512_S1x512 : S512.ShapeCasts S1x512
  bcast_S_S1x512 : S_.BroadcastsInDim S1x512 (![] : Fin 0 → Fin S1x512.rank)
  concatenates_S4112x512_S4112x512_S1x512_S1x512_S8226x512_d0 : Shape.Concatenates [S4112x512, S4112x512, S1x512, S1x512] S8226x512 0
  bcast_S_S4112x1024 : S_.BroadcastsInDim S4112x1024 (![] : Fin 0 → Fin S4112x1024.rank)
  bcast_S_S1024x1024 : S_.BroadcastsInDim S1024x1024 (![] : Fin 0 → Fin S1024x1024.rank)
  shapeCasts_S1024_S1x1024 : S1024.ShapeCasts S1x1024
  bcast_S_S1x1024 : S_.BroadcastsInDim S1x1024 (![] : Fin 0 → Fin S1x1024.rank)
  bcast_S_S8226x512 : S_.BroadcastsInDim S8226x512 (![] : Fin 0 → Fin S8226x512.rank)
  concatenates_S8226x512_S8226x512_S8226x1024_d1 : Shape.Concatenates [S8226x512, S8226x512] S8226x1024 1
  concatenates_S4112x1024_S1024x1024_S1x1024_S8226x1024_S13363x1024_d0 : Shape.Concatenates [S4112x1024, S1024x1024, S1x1024, S8226x1024] S13363x1024 0

variable [Facts]

def fn_part1 {F : FTy → Type} [FloatOps F] (main_arg5 : FVec F S1024 .f32) (main_v14 : IVec S8226x512 1) (main_v17 : IVec S4112x1024 1) (main_v18 : FVec F S1024x1024 .f32) : IVec S13363x1024 1 :=
  let main_cst_4 : FVec F S_ .f32 := constant S_ .f32 0x7F800000#32
  let main_v19 : FVec F S1024x1024 .f32 := broadcastInDim S1024x1024 ![] bcast_S_S1024x1024 main_cst_4
  let main_v20 : IVec S1024x1024 1 := cmpf .olt main_v18 main_v19
  let main_v21 : FVec F S1x1024 .f32 := shapeCast S1x1024 main_arg5 shapeCasts_S1024_S1x1024
  let main_v22 : FVec F S1x1024 .f32 := Host.absf main_v21
  let main_cst_5 : FVec F S_ .f32 := constant S_ .f32 0x7F800000#32
  let main_v23 : FVec F S1x1024 .f32 := broadcastInDim S1x1024 ![] bcast_S_S1x1024 main_cst_5
  let main_v24 : IVec S1x1024 1 := cmpf .olt main_v22 main_v23
  let main_c : IVec S_ 1 := constantI S_ 1 1#1
  let main_v25 : IVec S8226x512 1 := broadcastInDim S8226x512 ![] bcast_S_S8226x512 main_c
  let main_v26 : IVec S8226x1024 1 := (fun a b => concatenate S8226x1024 1 [⟨S8226x512, a⟩, ⟨S8226x512, b⟩] concatenates_S8226x512_S8226x512_S8226x1024_d1) main_v14 main_v25
  let main_v27 : IVec S13363x1024 1 := concatenate S13363x1024 0 [⟨S4112x1024, main_v17⟩, ⟨S1024x1024, main_v20⟩, ⟨S1x1024, main_v24⟩, ⟨S8226x1024, main_v26⟩] concatenates_S4112x1024_S1024x1024_S1x1024_S8226x1024_S13363x1024_d0
  main_v27

def fn {F : FTy → Type} [FloatOps F] (main_arg0 : FVec F S4112x1024 .f32) (main_arg1 : FVec F S4112x512 .f32) (main_arg2 : FVec F S4112x512 .f32) (main_arg3 : FVec F S512 .f32) (main_arg4 : FVec F S512 .f32) (main_arg5 : FVec F S1024 .f32) (main_arg6 : FVec F S1024x1024 .f32) : IVec S13363x1024 1 :=
  let main_v0 : FVec F S4112x512 .f32 := Host.absf main_arg1
  let main_cst : FVec F S_ .f32 := constant S_ .f32 0x7F800000#32
  let main_v1 : FVec F S4112x512 .f32 := broadcastInDim S4112x512 ![] bcast_S_S4112x512 main_cst
  let main_v2 : IVec S4112x512 1 := cmpf .olt main_v0 main_v1
  let main_v3 : FVec F S4112x512 .f32 := Host.absf main_arg2
  let main_cst_0 : FVec F S_ .f32 := constant S_ .f32 0x7F800000#32
  let main_v4 : FVec F S4112x512 .f32 := broadcastInDim S4112x512 ![] bcast_S_S4112x512 main_cst_0
  let main_v5 : IVec S4112x512 1 := cmpf .olt main_v3 main_v4
  let main_v6 : FVec F S1x512 .f32 := shapeCast S1x512 main_arg3 shapeCasts_S512_S1x512
  let main_v7 : FVec F S1x512 .f32 := Host.absf main_v6
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  let main_v10 : FVec F S1x512 .f32 := shapeCast S1x512 main_arg4 shapeCasts_S512_S1x512
  let main_v11 : FVec F S1x512 .f32 := Host.absf main_v10
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_v14 : IVec S8226x512 1 := concatenate S8226x512 0 [⟨S4112x512, main_v2⟩, ⟨S4112x512, main_v5⟩, ⟨S1x512, main_v9⟩, ⟨S1x512, main_v13⟩] concatenates_S4112x512_S4112x512_S1x512_S1x512_S8226x512_d0
  let main_v15 : FVec F S4112x1024 .f32 := Host.absf main_arg0
  let main_cst_3 : FVec F S_ .f32 := constant S_ .f32 0x7F800000#32
  let main_v16 : FVec F S4112x1024 .f32 := broadcastInDim S4112x1024 ![] bcast_S_S4112x1024 main_cst_3
  let main_v17 : IVec S4112x1024 1 := cmpf .olt main_v15 main_v16
  let main_v18 : FVec F S1024x1024 .f32 := Host.absf main_arg6
  fn_part1 (F := F) main_arg5 main_v14 main_v17 main_v18
-- ==== Pre_mla_finite.lean ====
abbrev S4112x8x96 : Shape := ⟨3, ![4112, 8, 96]⟩
abbrev S4112x8x64 : Shape := ⟨3, ![4112, 8, 64]⟩
abbrev S4112x384 : Shape := ⟨2, ![4112, 384]⟩
abbrev S4112x256 : Shape := ⟨2, ![4112, 256]⟩
abbrev S4112x16 : Shape := ⟨2, ![4112, 16]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S4112x768 : Shape := ⟨2, ![4112, 768]⟩
abbrev S_ : Shape := ⟨0, ![]⟩
abbrev S4112x1024 : Shape := ⟨2, ![4112, 1024]⟩
abbrev S4112x512 : Shape := ⟨2, ![4112, 512]⟩
abbrev S4112x640 : Shape := ⟨2, ![4112, 640]⟩
abbrev S4112x1008 : Shape := ⟨2, ![4112, 1008]⟩
abbrev S384x256 : Shape := ⟨2, ![384, 256]⟩
abbrev S384x1024 : Shape := ⟨2, ![384, 1024]⟩
abbrev S1x384 : Shape := ⟨2, ![1, 384]⟩
abbrev S1x640 : Shape := ⟨2, ![1, 640]⟩
abbrev S1x1024 : Shape := ⟨2, ![1, 1024]⟩
abbrev S1x256 : Shape := ⟨2, ![1, 256]⟩
abbrev S1x768 : Shape := ⟨2, ![1, 768]⟩
abbrev S29426x1024 : Shape := ⟨2, ![29426, 1024]⟩

class Facts : Prop where
  shapeCasts_S4112x8x96_S4112x768 : S4112x8x96.ShapeCasts S4112x768
  bcast_S_S4112x768 : S_.BroadcastsInDim S4112x768 (![] : Fin 0 → Fin S4112x768.rank)
  bcast_S_S4112x256 : S_.BroadcastsInDim S4112x256 (![] : Fin 0 → Fin S4112x256.rank)
  concatenates_S4112x768_S4112x256_S4112x1024_d1 : Shape.Concatenates [S4112x768, S4112x256] S4112x1024 1
  shapeCasts_S4112x8x64_S4112x512 : S4112x8x64.ShapeCasts S4112x512
  bcast_S_S4112x512 : S_.BroadcastsInDim S4112x512 (![] : Fin 0 → Fin S4112x512.rank)
  concatenates_S4112x512_S4112x512_S4112x1024_d1 : Shape.Concatenates [S4112x512, S4112x512] S4112x1024 1
  bcast_S_S4112x384 : S_.BroadcastsInDim S4112x384 (![] : Fin 0 → Fin S4112x384.rank)
  bcast_S_S4112x640 : S_.BroadcastsInDim S4112x640 (![] : Fin 0 → Fin S4112x640.rank)
  concatenates_S4112x384_S4112x640_S4112x1024_d1 : Shape.Concatenates [S4112x384, S4112x640] S4112x1024 1
  concatenates_S4112x256_S4112x768_S4112x1024_d1 : Shape.Concatenates [S4112x256, S4112x768] S4112x1024 1
  bcast_S_S4112x16 : S_.BroadcastsInDim S4112x16 (![] : Fin 0 → Fin S4112x16.rank)
  bcast_S_S4112x1008 : S_.BroadcastsInDim S4112x1008 (![] : Fin 0 → Fin S4112x1008.rank)
  concatenates_S4112x16_S4112x1008_S4112x1024_d1 : Shape.Concatenates [S4112x16, S4112x1008] S4112x1024 1
  bcast_S_S256x1024 : S_.BroadcastsInDim S256x1024 (![] : Fin 0 → Fin S256x1024.rank)
  bcast_S_S384x768 : S_.BroadcastsInDim S384x768 (![] : Fin 0 → Fin S384x768.rank)
  bcast_S_S384x256 : S_.BroadcastsInDim S384x256 (![] : Fin 0 → Fin S384x256.rank)
  concatenates_S384x768_S384x256_S384x1024_d1 : Shape.Concatenates [S384x768, S384x256] S384x1024 1
  shapeCasts_S384_S1x384 : S384.ShapeCasts S1x384
  bcast_S_S1x384 : S_.BroadcastsInDim S1x384 (![] : Fin 0 → Fin S1x384.rank)
  bcast_S_S1x640 : S_.BroadcastsInDim S1x640 (![] : Fin 0 → Fin S1x640.rank)
  concatenates_S1x384_S1x640_S1x1024_d1 : Shape.Concatenates [S1x384, S1x640] S1x1024 1
  shapeCasts_S256_S1x256 : S256.ShapeCasts S1x256
  bcast_S_S1x256 : S_.BroadcastsInDim S1x256 (![] : Fin 0 → Fin S1x256.rank)
  bcast_S_S1x768 : S_.BroadcastsInDim S1x768 (![] : Fin 0 → Fin S1x768.rank)
  concatenates_S1x256_S1x768_S1x1024_d1 : Shape.Concatenates [S1x256, S1x768] S1x1024 1
  concatenates_S256x1024_S384x1024_S4112x1024_S4112x1024_S4112x1024_S4112x1024_S4112x1024_S4112x1024_S4112x1024_S1x1024_S1x1024_S29426x1024_d0 : Shape.Concatenates [S256x1024, S384x1024, S4112x1024, S4112x1024, S4112x1024, S4112x1024, S4112x1024, S4112x1024, S4112x1024, S1x1024, S1x1024] S29426x1024 0

variable [Facts]

def fn_part3 {F : FTy → Type} [FloatOps F] (main_v5 : IVec S4112x1024 1) (main_v11 : IVec S4112x1024 1) (main_v17 : IVec S4112x1024 1) (main_v22 : IVec S4112x1024 1) (main_v27 : IVec S4112x1024 1) (main_v32 : IVec S4112x1024 1) (main_v37 : IVec S4112x1024 1) (main_v40 : IVec S256x1024 1) (main_v45 : IVec S384x1024 1) (main_v51 : IVec S1x1024 1) (main_v52 : FVec F S1x256 .f32) : IVec S29426x1024 1 :=
  let main_v53 : FVec F S1x256 .f32 := Host.absf main_v52
  let main_cst_17 : FVec F S_ .f32 := constant S_ .f32 0x7F800000#32
  let main_v54 : FVec F S1x256 .f32 := broadcastInDim S1x256 ![] bcast_S_S1x256 main_cst_17
  let main_v55 : IVec S1x256 1 := cmpf .olt main_v53 main_v54
  let main_c_18 : IVec S_ 1 := constantI S_ 1 1#1
  let main_v56 : IVec S1x768 1 := broadcastInDim S1x768 ![] bcast_S_S1x768 main_c_18
  let main_v57 : IVec S1x1024 1 := (fun a b => concatenate S1x1024 1 [⟨S1x256, a⟩, ⟨S1x768, b⟩] concatenates_S1x256_S1x768_S1x1024_d1) main_v55 main_v56
  let main_v58 : IVec S29426x1024 1 := concatenate S29426x1024 0 [⟨S256x1024, main_v40⟩, ⟨S384x1024, main_v45⟩, ⟨S4112x1024, main_v5⟩, ⟨S4112x1024, main_v11⟩, ⟨S4112x1024, main_v17⟩, ⟨S4112x1024, main_v22⟩, ⟨S4112x1024, main_v27⟩, ⟨S4112x1024, main_v32⟩, ⟨S4112x1024, main_v37⟩, ⟨S1x1024, main_v51⟩, ⟨S1x1024, main_v57⟩] concatenates_S256x1024_S384x1024_S4112x1024_S4112x1024_S4112x1024_S4112x1024_S4112x1024_S4112x1024_S4112x1024_S1x1024_S1x1024_S29426x1024_d0
  main_v58

def fn_part2 {F : FTy → Type} [FloatOps F] (main_arg7 : FVec F S384 .f32) (main_arg8 : FVec F S256 .f32) (main_arg9 : FVec F S384x768 .f32) (main_arg10 : FVec F S256x1024 .f32) (main_v5 : IVec S4112x1024 1) (main_v11 : IVec S4112x1024 1) (main_v17 : IVec S4112x1024 1) (main_v22 : IVec S4112x1024 1) (main_v27 : IVec S4112x1024 1) (main_v32 : IVec S4112x1024 1) (main_v33 : FVec F S4112x16 .f32) (main_v34 : FVec F S4112x16 .f32) : IVec S29426x1024 1 :=
  let main_v35 : IVec S4112x16 1 := cmpf .olt main_v33 main_v34
  let main_c_11 : IVec S_ 1 := constantI S_ 1 1#1
  let main_v36 : IVec S4112x1008 1 := broadcastInDim S4112x1008 ![] bcast_S_S4112x1008 main_c_11
  let main_v37 : IVec S4112x1024 1 := (fun a b => concatenate S4112x1024 1 [⟨S4112x16, a⟩, ⟨S4112x1008, b⟩] concatenates_S4112x16_S4112x1008_S4112x1024_d1) main_v35 main_v36
  let main_v38 : FVec F S256x1024 .f32 := Host.absf main_arg10
  let main_cst_12 : FVec F S_ .f32 := constant S_ .f32 0x7F800000#32
  let main_v39 : FVec F S256x1024 .f32 := broadcastInDim S256x1024 ![] bcast_S_S256x1024 main_cst_12
  let main_v40 : IVec S256x1024 1 := cmpf .olt main_v38 main_v39
  let main_v41 : FVec F S384x768 .f32 := Host.absf main_arg9
  let main_cst_13 : FVec F S_ .f32 := constant S_ .f32 0x7F800000#32
  let main_v42 : FVec F S384x768 .f32 := broadcastInDim S384x768 ![] bcast_S_S384x768 main_cst_13
  let main_v43 : IVec S384x768 1 := cmpf .olt main_v41 main_v42
  let main_c_14 : IVec S_ 1 := constantI S_ 1 1#1
  let main_v44 : IVec S384x256 1 := broadcastInDim S384x256 ![] bcast_S_S384x256 main_c_14
  let main_v45 : IVec S384x1024 1 := (fun a b => concatenate S384x1024 1 [⟨S384x768, a⟩, ⟨S384x256, b⟩] concatenates_S384x768_S384x256_S384x1024_d1) main_v43 main_v44
  let main_v46 : FVec F S1x384 .f32 := shapeCast S1x384 main_arg7 shapeCasts_S384_S1x384
  let main_v47 : FVec F S1x384 .f32 := Host.absf main_v46
  let main_cst_15 : FVec F S_ .f32 := constant S_ .f32 0x7F800000#32
  let main_v48 : FVec F S1x384 .f32 := broadcastInDim S1x384 ![] bcast_S_S1x384 main_cst_15
  let main_v49 : IVec S1x384 1 := cmpf .olt main_v47 main_v48
  let main_c_16 : IVec S_ 1 := constantI S_ 1 1#1
  let main_v50 : IVec S1x640 1 := broadcastInDim S1x640 ![] bcast_S_S1x640 main_c_16
  let main_v51 : IVec S1x1024 1 := (fun a b => concatenate S1x1024 1 [⟨S1x384, a⟩, ⟨S1x640, b⟩] concatenates_S1x384_S1x640_S1x1024_d1) main_v49 main_v50
  let main_v52 : FVec F S1x256 .f32 := shapeCast S1x256 main_arg8 shapeCasts_S256_S1x256
  fn_part3 (F := F) main_v5 main_v11 main_v17 main_v22 main_v27 main_v32 main_v37 main_v40 main_v45 main_v51 main_v52

def fn_part1 {F : FTy → Type} [FloatOps F] (main_arg3 : FVec F S4112x384 .f32) (main_arg4 : FVec F S4112x256 .f32) (main_arg5 : FVec F S4112x16 .f32) (main_arg6 : FVec F S4112x16 .f32) (main_arg7 : FVec F S384 .f32) (main_arg8 : FVec F S256 .f32) (main_arg9 : FVec F S384x768 .f32) (main_arg10 : FVec F S256x1024 .f32) (main_v5 : IVec S4112x1024 1) (main_v11 : IVec S4112x1024 1) (main_v17 : IVec S4112x1024 1) : IVec S29426x1024 1 :=
  let main_v18 : FVec F S4112x384 .f32 := Host.absf main_arg3
  let main_cst_4 : FVec F S_ .f32 := constant S_ .f32 0x7F800000#32
  let main_v19 : FVec F S4112x384 .f32 := broadcastInDim S4112x384 ![] bcast_S_S4112x384 main_cst_4
  let main_v20 : IVec S4112x384 1 := cmpf .olt main_v18 main_v19
  let main_c_5 : IVec S_ 1 := constantI S_ 1 1#1
  let main_v21 : IVec S4112x640 1 := broadcastInDim S4112x640 ![] bcast_S_S4112x640 main_c_5
  let main_v22 : IVec S4112x1024 1 := (fun a b => concatenate S4112x1024 1 [⟨S4112x384, a⟩, ⟨S4112x640, b⟩] concatenates_S4112x384_S4112x640_S4112x1024_d1) main_v20 main_v21
  let main_v23 : FVec F S4112x256 .f32 := Host.absf main_arg4
  let main_cst_6 : FVec F S_ .f32 := constant S_ .f32 0x7F800000#32
  let main_v24 : FVec F S4112x256 .f32 := broadcastInDim S4112x256 ![] bcast_S_S4112x256 main_cst_6
  let main_v25 : IVec S4112x256 1 := cmpf .olt main_v23 main_v24
  let main_c_7 : IVec S_ 1 := constantI S_ 1 1#1
  let main_v26 : IVec S4112x768 1 := broadcastInDim S4112x768 ![] bcast_S_S4112x768 main_c_7
  let main_v27 : IVec S4112x1024 1 := (fun a b => concatenate S4112x1024 1 [⟨S4112x256, a⟩, ⟨S4112x768, b⟩] concatenates_S4112x256_S4112x768_S4112x1024_d1) main_v25 main_v26
  let main_v28 : FVec F S4112x16 .f32 := Host.absf main_arg5
  let main_cst_8 : FVec F S_ .f32 := constant S_ .f32 0x7F800000#32
  let main_v29 : FVec F S4112x16 .f32 := broadcastInDim S4112x16 ![] bcast_S_S4112x16 main_cst_8
  let main_v30 : IVec S4112x16 1 := cmpf .olt main_v28 main_v29
  let main_c_9 : IVec S_ 1 := constantI S_ 1 1#1
  let main_v31 : IVec S4112x1008 1 := broadcastInDim S4112x1008 ![] bcast_S_S4112x1008 main_c_9
  let main_v32 : IVec S4112x1024 1 := (fun a b => concatenate S4112x1024 1 [⟨S4112x16, a⟩, ⟨S4112x1008, b⟩] concatenates_S4112x16_S4112x1008_S4112x1024_d1) main_v30 main_v31
  let main_v33 : FVec F S4112x16 .f32 := Host.absf main_arg6
  let main_cst_10 : FVec F S_ .f32 := constant S_ .f32 0x7F800000#32
  let main_v34 : FVec F S4112x16 .f32 := broadcastInDim S4112x16 ![] bcast_S_S4112x16 main_cst_10
  fn_part2 (F := F) main_arg7 main_arg8 main_arg9 main_arg10 main_v5 main_v11 main_v17 main_v22 main_v27 main_v32 main_v33 main_v34

def fn {F : FTy → Type} [FloatOps F] (main_arg0 : FVec F S4112x8x96 .f32) (main_arg1 : FVec F S4112x8x96 .f32) (main_arg2 : FVec F S4112x8x64 .f32) (main_arg3 : FVec F S4112x384 .f32) (main_arg4 : FVec F S4112x256 .f32) (main_arg5 : FVec F S4112x16 .f32) (main_arg6 : FVec F S4112x16 .f32) (main_arg7 : FVec F S384 .f32) (main_arg8 : FVec F S256 .f32) (main_arg9 : FVec F S384x768 .f32) (main_arg10 : FVec F S256x1024 .f32) : IVec S29426x1024 1 :=
  let main_v0 : FVec F S4112x768 .f32 := shapeCast S4112x768 main_arg0 shapeCasts_S4112x8x96_S4112x768
  let main_v1 : FVec F S4112x768 .f32 := Host.absf main_v0
  let main_cst : FVec F S_ .f32 := constant S_ .f32 0x7F800000#32
  let main_v2 : FVec F S4112x768 .f32 := broadcastInDim S4112x768 ![] bcast_S_S4112x768 main_cst
  let main_v3 : IVec S4112x768 1 := cmpf .olt main_v1 main_v2
  let main_c : IVec S_ 1 := constantI S_ 1 1#1
  let main_v4 : IVec S4112x256 1 := broadcastInDim S4112x256 ![] bcast_S_S4112x256 main_c
  let main_v5 : IVec S4112x1024 1 := (fun a b => concatenate S4112x1024 1 [⟨S4112x768, a⟩, ⟨S4112x256, b⟩] concatenates_S4112x768_S4112x256_S4112x1024_d1) main_v3 main_v4
  let main_v6 : FVec F S4112x768 .f32 := shapeCast S4112x768 main_arg1 shapeCasts_S4112x8x96_S4112x768
  let main_v7 : FVec F S4112x768 .f32 := Host.absf main_v6
  let main_cst_0 : FVec F S_ .f32 := constant S_ .f32 0x7F800000#32
  let main_v8 : FVec F S4112x768 .f32 := broadcastInDim S4112x768 ![] bcast_S_S4112x768 main_cst_0
  let main_v9 : IVec S4112x768 1 := cmpf .olt main_v7 main_v8
  let main_c_1 : IVec S_ 1 := constantI S_ 1 1#1
  let main_v10 : IVec S4112x256 1 := broadcastInDim S4112x256 ![] bcast_S_S4112x256 main_c_1
  let main_v11 : IVec S4112x1024 1 := (fun a b => concatenate S4112x1024 1 [⟨S4112x768, a⟩, ⟨S4112x256, b⟩] concatenates_S4112x768_S4112x256_S4112x1024_d1) main_v9 main_v10
  let main_v12 : FVec F S4112x512 .f32 := shapeCast S4112x512 main_arg2 shapeCasts_S4112x8x64_S4112x512
  let main_v13 : FVec F S4112x512 .f32 := Host.absf main_v12
  let main_cst_2 : FVec F S_ .f32 := constant S_ .f32 0x7F800000#32
  let main_v14 : FVec F S4112x512 .f32 := broadcastInDim S4112x512 ![] bcast_S_S4112x512 main_cst_2
  let main_v15 : IVec S4112x512 1 := cmpf .olt main_v13 main_v14
  let main_c_3 : IVec S_ 1 := constantI S_ 1 1#1
  let main_v16 : IVec S4112x512 1 := broadcastInDim S4112x512 ![] bcast_S_S4112x512 main_c_3
  let main_v17 : IVec S4112x1024 1 := (fun a b => concatenate S4112x1024 1 [⟨S4112x512, a⟩, ⟨S4112x512, b⟩] concatenates_S4112x512_S4112x512_S4112x1024_d1) main_v15 main_v16
  fn_part1 (F := F) main_arg3 main_arg4 main_arg5 main_arg6 main_arg7 main_arg8 main_arg9 main_arg10 main_v5 main_v11 main_v17
-- ==== LossKernel.lean ====
abbrev S4112x1024 : Shape := ⟨2, ![4112, 1024]⟩
abbrev S4096x1024 : Shape := ⟨2, ![4096, 1024]⟩
abbrev S_ : Shape := ⟨0, ![]⟩
abbrev S112x1024 : Shape := ⟨2, ![112, 1024]⟩
abbrev S4224x1024 : Shape := ⟨2, ![4224, 1024]⟩
abbrev S16x1024 : Shape := ⟨2, ![16, 1024]⟩
abbrev S8x128 : Shape := ⟨2, ![8, 128]⟩
abbrev S384x1024 : Shape := ⟨2, ![384, 1024]⟩
abbrev S384x1 : Shape := ⟨2, ![384, 1]⟩
abbrev S384 : Shape := ⟨1, ![384]⟩
abbrev S1 : Shape := ⟨1, ![1]⟩
abbrev S1x1 : Shape := ⟨2, ![1, 1]⟩

abbrev nBuf : Space → Nat
  | .hbm => 10
  | .vmem => 7
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S_, .f32⟩
  | .hbm, ⟨3, _⟩ => ⟨S112x1024, .f32⟩
  | .hbm, ⟨4, _⟩ => ⟨S4224x1024, .f32⟩
  | .hbm, ⟨5, _⟩ => ⟨S_, .f32⟩
  | .hbm, ⟨6, _⟩ => ⟨S16x1024, .f32⟩
  | .hbm, ⟨7, _⟩ => ⟨S4224x1024, .f32⟩
  | .hbm, ⟨8, _⟩ => ⟨S4224x1024, .f32⟩
  | .hbm, ⟨9, _⟩ => ⟨S8x128, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S8x128, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_10 : BitVec 32 := 0#32
  let v34 : BitVec 1 := Scalar.cmpi .ne v33 c0_i32_10
  v34

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v35 : BitVec 1 := Scalar.xori v32 v_true
  let v36 : BitVec 32 := Scalar.extui v35
  let c0_i32_11 : BitVec 32 := 0#32
  let v37 : BitVec 1 := Scalar.cmpi .ne v36 c0_i32_11
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4112x1024 : Shape := ⟨2, ![4112, 1024]⟩
abbrev S4096x1024 : Shape := ⟨2, ![4096, 1024]⟩
abbrev S_ : Shape := ⟨0, ![]⟩
abbrev S4096 : Shape := ⟨1, ![4096]⟩
abbrev S4224x1024 : Shape := ⟨2, ![4224, 1024]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4112x1024, .f32⟩
  | .hbm, ⟨28, _⟩ => ⟨S_, .i32⟩
  | .hbm, ⟨29, _⟩ => ⟨S_, .f32⟩
  | .hbm, ⟨30, _⟩ => ⟨S4224x1024, .f32⟩
  | .hbm, ⟨31, _⟩ => ⟨S8x128, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== AttnQKernel.lean ====
abbrev S4112x8x96 : Shape := ⟨3, ![4112, 8, 96]⟩
abbrev S4112x8x64 : Shape := ⟨3, ![4112, 8, 64]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x4112 : Shape := ⟨2, ![8, 4112]⟩
abbrev S8x4112x1 : Shape := ⟨3, ![8, 4112, 1]⟩
abbrev S8x64x4112 : Shape := ⟨3, ![8, 64, 4112]⟩
abbrev S8x112 : Shape := ⟨2, ![8, 112]⟩
abbrev S8x4224 : Shape := ⟨2, ![8, 4224]⟩
abbrev S4112x512 : Shape := ⟨2, ![4112, 512]⟩
abbrev S112x512 : Shape := ⟨2, ![112, 512]⟩
abbrev S4224x512 : Shape := ⟨2, ![4224, 512]⟩
abbrev S4112x8x32 : Shape := ⟨3, ![4112, 8, 32]⟩
abbrev S4112x8x128 : Shape := ⟨3, ![4112, 8, 128]⟩
abbrev S112x8x128 : Shape := ⟨3, ![112, 8, 128]⟩
abbrev S4224x8x128 : Shape := ⟨3, ![4224, 8, 128]⟩
abbrev S8x4224x128 : Shape := ⟨3, ![8, 4224, 128]⟩
abbrev S8x4224x1 : Shape := ⟨3, ![8, 4224, 1]⟩
abbrev S2x384x128 : Shape := ⟨3, ![2, 384, 128]⟩
abbrev S2x4224x128 : Shape := ⟨3, ![2, 4224, 128]⟩
abbrev S4224x128 : Shape := ⟨2, ![4224, 128]⟩
abbrev S384x128 : Shape := ⟨2, ![384, 128]⟩
abbrev S2x384x1 : Shape := ⟨3, ![2, 384, 1]⟩
abbrev S384 : Shape := ⟨1, ![384]⟩
abbrev S384x1 : Shape := ⟨2, ![384, 1]⟩
abbrev S1x384x1 : Shape := ⟨3, ![1, 384, 1]⟩
abbrev S1x384x128 : Shape := ⟨3, ![1, 384, 128]⟩
abbrev S768x128 : Shape := ⟨2, ![768, 128]⟩
abbrev S1x768x128 : Shape := ⟨3, ![1, 768, 128]⟩
abbrev S384x768 : Shape := ⟨2, ![384, 768]⟩
abbrev S384x384 : Shape := ⟨2, ![384, 384]⟩

abbrev nBuf : Space → Nat
  | .hbm => 74
  | .vmem => 16
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x8x64, .f32⟩
  | .hbm, ⟨4, _⟩ => ⟨S8x4112x4112, .f32⟩
  | .hbm, ⟨5, _⟩ => ⟨S_, .f32⟩
  | .hbm, ⟨6, _⟩ => ⟨S8x4112x4112, .f32⟩
  | .hbm, ⟨7, _⟩ => ⟨S8x4112x4112, .f32⟩
  | .hbm, ⟨8, _⟩ => ⟨S4112, .i32⟩
  | .hbm, ⟨9, _⟩ => ⟨S1x4112, .i32⟩
  | .hbm, ⟨10, _⟩ => ⟨S4112x1, .i32⟩
  | .hbm, ⟨11, _⟩ => ⟨S4112x4112, .i32⟩
  | .hbm, ⟨12, _⟩ => ⟨S4112x4112, .i32⟩
  | .hbm, ⟨13, _⟩ => ⟨S4112x4112, .i1⟩
  | .hbm, ⟨14, _⟩ => ⟨S_, .f32⟩
  | .hbm, ⟨15, _⟩ => ⟨S_, .f32⟩
  | .hbm, ⟨16, _⟩ => ⟨S8x4112x4112, .i1⟩
  | .hbm, ⟨17, _⟩ => ⟨S8x4112x4112, .f32⟩
  | .hbm, ⟨18, _⟩ => ⟨S8x4112x4112, .f32⟩
  | .hbm, ⟨19, _⟩ => ⟨S_, .f32⟩
  | .hbm, ⟨20, _⟩ => ⟨S8x4112, .f32⟩
  | .hbm, ⟨21, _⟩ => ⟨S8x4112x1, .f32⟩
  | .hbm, ⟨22, _⟩ => ⟨S8x4112x4112, .f32⟩
  | .hbm, ⟨23, _⟩ => ⟨S8x4112x4112, .f32⟩
  | .hbm, ⟨24, _⟩ => ⟨S8x4112x4112, .f32⟩
  | .hbm, ⟨25, _⟩ => ⟨S_, .f32⟩
  | .hbm, ⟨26, _⟩ => ⟨S8x4112, .f32⟩
  | .hbm, ⟨27, _⟩ => ⟨S8x4112x1, .f32⟩
  | .hbm, ⟨28, _⟩ => ⟨S8x4112x4112, .f32⟩
  | .hbm, ⟨29, _⟩ => ⟨S8x4112x4112, .f32⟩
  | .hbm, ⟨30, _⟩ => ⟨S8x64x4112, .f32⟩
  | .hbm, ⟨31, _⟩ => ⟨S4112x8x64, .f32⟩
  | .hbm, ⟨32, _⟩ => ⟨S8x4112x1, .f32⟩
  | .hbm, ⟨33, _⟩ => ⟨S8x4112x1, .f32⟩
  | .hbm, ⟨34, _⟩ => ⟨S_, .f32⟩
  | .hbm, ⟨35, _⟩ => ⟨S_, .f32⟩
  | .hbm, ⟨36, _⟩ => ⟨S8x4112x1, .f32⟩
  | .hbm, ⟨37, _⟩ => ⟨S8x4112x1, .f32⟩
  | .hbm, ⟨38, _⟩ => ⟨S8x4112, .f32⟩
  | .hbm, ⟨39, _⟩ => ⟨S_, .f32⟩
  | .hbm, ⟨40, _⟩ => ⟨S8x112, .f32⟩
  | .hbm, ⟨41, _⟩ => ⟨S8x4224, .f32⟩
  | .hbm, ⟨42, _⟩ => ⟨S4112x512, .f32⟩
  | .hbm, ⟨43, _⟩ => ⟨S_, .f32⟩
  | .hbm, ⟨44, _⟩ => ⟨S112x512, .f32⟩
  | .hbm, ⟨45, _⟩ => ⟨S4224x512, .f32⟩
  | .hbm, ⟨46, _⟩ => ⟨S_, .f32⟩
  | .hbm, ⟨47, _⟩ => ⟨S4112x8x32, .f32⟩
  | .hbm, ⟨48, _⟩ => ⟨S4112x8x128, .f32⟩
  | .hbm, ⟨49, _⟩ => ⟨S_, .f32⟩
  | .hbm, ⟨50, _⟩ => ⟨S112x8x128, .f32⟩
  | .hbm, ⟨51, _⟩ => ⟨S4224x8x128, .f32⟩
  | .hbm, ⟨52, _⟩ => ⟨S8x4224x128, .f32⟩
  | .hbm, ⟨53, _⟩ => ⟨S8x4224x128, .bf16⟩
  | .hbm, ⟨54, _⟩ => ⟨S_, .f32⟩
  | .hbm, ⟨55, _⟩ => ⟨S4112x8x32, .f32⟩
  | .hbm, ⟨56, _⟩ => ⟨S4112x8x128, .f32⟩
  | .hbm, ⟨57, _⟩ => ⟨S_, .f32⟩
  | .hbm, ⟨58, _⟩ => ⟨S112x8x128, .f32⟩
  | .hbm, ⟨59, _⟩ => ⟨S4224x8x128, .f32⟩
  | .hbm, ⟨60, _⟩ => ⟨S8x4224x128, .f32⟩
  | .hbm, ⟨61, _⟩ => ⟨S8x4224x128, .bf16⟩
  | .hbm, ⟨62, _⟩ => ⟨S4224x512, .bf16⟩
  | .hbm, ⟨63, _⟩ => ⟨S4112x512, .f32⟩
  | .hbm, ⟨64, _⟩ => ⟨S_, .f32⟩
  | .hbm, ⟨65, _⟩ => ⟨S112x512, .f32⟩
  | .hbm, ⟨66, _⟩ => ⟨S4224x512, .f32⟩
  | .hbm, ⟨67, _⟩ => ⟨S4112x512, .f32⟩
  | .hbm, ⟨68, _⟩ => ⟨S_, .f32⟩
  | .hbm, ⟨69, _⟩ => ⟨S112x512, .f32⟩
  | .hbm, ⟨70, _⟩ => ⟨S4224x512, .f32⟩
  | .hbm, ⟨71, _⟩ => ⟨S8x4224x1, .f32⟩
  | .hbm, ⟨72, _⟩ => ⟨S8x4224x128, .f32⟩
  | .hbm, ⟨73, _⟩ => ⟨S8x4224x1, .f32⟩
  | .local _ .vmem, ⟨0, _⟩ => ⟨S2x384x128, .bf16⟩
  | .local _ .vmem, ⟨1, _⟩ => ⟨S2x384x128, .bf16⟩
  | .local _ .vmem, ⟨2, _⟩ => ⟨S2x4224x128, .bf16⟩
  | .local _ .vmem, ⟨3, _⟩ => ⟨S2x4224x128, .bf16⟩
  | .local _ .vmem, ⟨4, _⟩ => ⟨S4224x128, .bf16⟩
  | .local _ .vmem, ⟨5, _⟩ => ⟨S4224x128, .bf16⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S2x384x1, .f32⟩
  | .local _ .vmem, ⟨11, _⟩ => ⟨S2x384x1, .f32⟩
  | .local _ .vmem, ⟨12, _⟩ => ⟨S2x384x128, .f32⟩
  | .local _ .vmem, ⟨13, _⟩ => ⟨S2x384x128, .f32⟩
  | .local _ .vmem, ⟨14, _⟩ => ⟨S2x384x1, .f32⟩
  | .local _ .vmem, ⟨15, _⟩ => ⟨S2x384x1, .f32⟩
  | _, _ => ⟨S4112x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

@[reducible] def k0_t1_loop (i : grid0.Coords) : Scf.Loop 32 :=
  let c0_i32_33 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_29 : BitVec 32 := 0#32
  let v43 : BitVec 1 := Scalar.cmpi .slt arg1 c0_i32_29
  let v44 : BitVec 32 := Scalar.extui v43
  let v45 : BitVec 32 := Scalar.subi v42 v44
  let c2_i32 : BitVec 32 := 2#32
  let c0_i32_30 : BitVec 32 := 0#32
  let v46 : BitVec 1 := Scalar.cmpi .sgt c2_i32 c0_i32_30
  let v47 : BitVec 32 := Scalar.extui v46
  let c0_i32_31 : BitVec 32 := 0#32
  let v48 : BitVec 1 := Scalar.cmpi .slt c2_i32 c0_i32_31
  let v49 : BitVec 32 := Scalar.extui v48
  let v50 : BitVec 32 := Scalar.subi v47 v49
  let v51 : BitVec 1 := Scalar.cmpi .ne v45 v50
  let v52 : BitVec 32 := Scalar.remsi arg1 c2_i32
  let c0_i32_32 : BitVec 32 := 0#32
  let v53 : BitVec 1 := Scalar.cmpi .ne v52 c0_i32_32
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_33
  let c1_i32_34 : BitVec 32 := 1#32
  let v59 : BitVec 32 := Scalar.divsi v57 c1_i32_34
  let v60 : BitVec 32 := Scalar.muli v59 c1_i32_34
  let v61 : BitVec 32 := Scalar.addi c0_i32_33 v60
  let c1_i32_35 : BitVec 32 := 1#32
  ⟨c0_i32_33, v61, c1_i32_35⟩
def k0_mult1 (i : grid0.Coords) (k0_t1 : Fin (k0_t1_loop i).trips) : BitVec 32 :=
  let c0_i32_33 : BitVec 32 := 0#32
  let c1_i32_35 : BitVec 32 := 1#32
  let arg10 : BitVec 32 := Scf.iv c0_i32_33 c1_i32_35 k0_t1
  let c2_i32_61 : BitVec 32 := 2#32
  let v108 : BitVec 32 := Scalar.muli arg10 c2_i32_61
  let c384_i32_62 : BitVec 32 := 384#32
  let v109 : BitVec 32 := Scalar.muli v108 c384_i32_62
  v109
def k0_off1 (i : grid0.Coords) (k0_t1 : Fin (k0_t1_loop i).trips) : Fin 2 → Nat :=
  let c0_i32_33 : BitVec 32 := 0#32
  let c1_i32_35 : BitVec 32 := 1#32
  let arg10 : BitVec 32 := Scf.iv c0_i32_33 c1_i32_35 k0_t1
  let c2_i32_61 : BitVec 32 := 2#32
  let v108 : BitVec 32 := Scalar.muli arg10 c2_i32_61
  let c384_i32_62 : BitVec 32 := 384#32
  let v109 : BitVec 32 := Scalar.muli v108 c384_i32_62
  let v110 : BitVec 32 := v109
  let v111 : Index := Scalar.indexCast v110
  let c0_63 : Index := 0#32
  ![v111.toNat, 0]
def k0_off2 (i : grid0.Coords) (k0_t1 : Fin (k0_t1_loop i).trips) : Fin 3 → Nat :=
  let c0_64 : Index := 0#32
  let c0_i32_33 : BitVec 32 := 0#32
  let c1_i32_35 : BitVec 32 := 1#32
  let arg10 : BitVec 32 := Scf.iv c0_i32_33 c1_i32_35 k0_t1
  let c2_i32_61 : BitVec 32 := 2#32
  let v108 : BitVec 32 := Scalar.muli arg10 c2_i32_61
  let c384_i32_62 : BitVec 32 := 384#32
  let v109 : BitVec 32 := Scalar.muli v108 c384_i32_62
  let v110 : BitVec 32 := v109
  let v114 : Index := Scalar.indexCast v110
  let c0_65 : Index := 0#32
  ![0, v114.toNat, 0]
def k0_off3 (i : grid0.Coords) (k0_t1 : Fin (k0_t1_loop i).trips) : Fin 3 → Nat :=
  let c1_70 : Index := 1#32
  let c0_i32_33 : BitVec 32 := 0#32
  let c1_i32_35 : BitVec 32 := 1#32
  let arg10 : BitVec 32 := Scf.iv c0_i32_33 c1_i32_35 k0_t1
  let c2_i32_61 : BitVec 32 := 2#32
  let v108 : BitVec 32 := Scalar.muli arg10 c2_i32_61
  let c384_i32_62 : BitVec 32 := 384#32
  let v109 : BitVec 32 := Scalar.muli v108 c384_i32_62
  let v110 : BitVec 32 := v109
  let v130 : Index := Scalar.indexCast v110
  let c0_71 : Index := 0#32
  ![1, v130.toNat, 0]
@[reducible] def k0_t2_loop (i : grid0.Coords) : Scf.Loop 32 :=
  let c0_i32_33 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_29 : BitVec 32 := 0#32
  let v43 : BitVec 1 := Scalar.cmpi .slt arg1 c0_i32_29
  let v44 : BitVec 32 := Scalar.extui v43
  let v45 : BitVec 32 := Scalar.subi v42 v44
  let c2_i32 : BitVec 32 := 2#32
  let c0_i32_30 : BitVec 32 := 0#32
  let v46 : BitVec 1 := Scalar.cmpi .sgt c2_i32 c0_i32_30
  let v47 : BitVec 32 := Scalar.extui v46
  let c0_i32_31 : BitVec 32 := 0#32
  let v48 : BitVec 1 := Scalar.cmpi .slt c2_i32 c0_i32_31
  let v49 : BitVec 32 := Scalar.extui v48
  let v50 : BitVec 32 := Scalar.subi v47 v49
  let v51 : BitVec 1 := Scalar.cmpi .ne v45 v50
  let v52 : BitVec 32 := Scalar.remsi arg1 c2_i32
  let c0_i32_32 : BitVec 32 := 0#32
  let v53 : BitVec 1 := Scalar.cmpi .ne v52 c0_i32_32
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_33
  let c1_i32_34 : BitVec 32 := 1#32
  let v59 : BitVec 32 := Scalar.divsi v57 c1_i32_34
  let v60 : BitVec 32 := Scalar.muli v59 c1_i32_34
  let v61 : BitVec 32 := Scalar.addi c0_i32_33 v60
  let v58 : BitVec 32 := Scalar.addi c0_i32_33 v57
  let c1_i32_36 : BitVec 32 := 1#32
  ⟨v61, v58, c1_i32_36⟩
def k0_mult2 (i : grid0.Coords) (k0_t2 : Fin (k0_t2_loop i).trips) : BitVec 32 :=
  let c0_i32_33 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_29 : BitVec 32 := 0#32
  let v43 : BitVec 1 := Scalar.cmpi .slt arg1 c0_i32_29
  let v44 : BitVec 32 := Scalar.extui v43
  let v45 : BitVec 32 := Scalar.subi v42 v44
  let c2_i32 : BitVec 32 := 2#32
  let c0_i32_30 : BitVec 32 := 0#32
  let v46 : BitVec 1 := Scalar.cmpi .sgt c2_i32 c0_i32_30
  let v47 : BitVec 32 := Scalar.extui v46
  let c0_i32_31 : BitVec 32 := 0#32
  let v48 : BitVec 1 := Scalar.cmpi .slt c2_i32 c0_i32_31
  let v49 : BitVec 32 := Scalar.extui v48
  let v50 : BitVec 32 := Scalar.subi v47 v49
  let v51 : BitVec 1 := Scalar.cmpi .ne v45 v50
  let v52 : BitVec 32 := Scalar.remsi arg1 c2_i32
  let c0_i32_32 : BitVec 32 := 0#32
  let v53 : BitVec 1 := Scalar.cmpi .ne v52 c0_i32_32
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_33
  let c1_i32_34 : BitVec 32 := 1#32
  let v59 : BitVec 32 := Scalar.divsi v57 c1_i32_34
  let v60 : BitVec 32 := Scalar.muli v59 c1_i32_34
  let v61 : BitVec 32 := Scalar.addi c0_i32_33 v60
  let c1_i32_36 : BitVec 32 := 1#32
  let arg10 : BitVec 32 := Scf.iv v61 c1_i32_36 k0_t2
  let c2_i32_61 : BitVec 32 := 2#32
  let v108 : BitVec 32 := Scalar.muli arg10 c2_i32_61
  let c384_i32_62 : BitVec 32 := 384#32
  let v109 : BitVec 32 := Scalar.muli v108 c384_i32_62
  v109
def k0_off4 (i : grid0.Coords) (k0_t2 : Fin (k0_t2_loop i).trips) : Fin 2 → Nat :=
  let c0_i32_33 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_29 : BitVec 32 := 0#32
  let v43 : BitVec 1 := Scalar.cmpi .slt arg1 c0_i32_29
  let v44 : BitVec 32 := Scalar.extui v43
  let v45 : BitVec 32 := Scalar.subi v42 v44
  let c2_i32 : BitVec 32 := 2#32
  let c0_i32_30 : BitVec 32 := 0#32
  let v46 : BitVec 1 := Scalar.cmpi .sgt c2_i32 c0_i32_30
  let v47 : BitVec 32 := Scalar.extui v46
  let c0_i32_31 : BitVec 32 := 0#32
  let v48 : BitVec 1 := Scalar.cmpi .slt c2_i32 c0_i32_31
  let v49 : BitVec 32 := Scalar.extui v48
  let v50 : BitVec 32 := Scalar.subi v47 v49
  let v51 : BitVec 1 := Scalar.cmpi .ne v45 v50
  let v52 : BitVec 32 := Scalar.remsi arg1 c2_i32
  let c0_i32_32 : BitVec 32 := 0#32
  let v53 : BitVec 1 := Scalar.cmpi .ne v52 c0_i32_32
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_33
  let c1_i32_34 : BitVec 32 := 1#32
  let v59 : BitVec 32 := Scalar.divsi v57 c1_i32_34
  let v60 : BitVec 32 := Scalar.muli v59 c1_i32_34
  let v61 : BitVec 32 := Scalar.addi c0_i32_33 v60
  let c1_i32_36 : BitVec 32 := 1#32
  let arg10 : BitVec 32 := Scf.iv v61 c1_i32_36 k0_t2
  let c2_i32_61 : BitVec 32 := 2#32
  let v108 : BitVec 32 := Scalar.muli arg10 c2_i32_61
  let c384_i32_62 : BitVec 32 := 384#32
  let v109 : BitVec 32 := Scalar.muli v108 c384_i32_62
  let v110 : BitVec 32 := v109
  let v111 : Index := Scalar.indexCast v110
  let c0_63 : Index := 0#32
  ![v111.toNat, 0]
def k0_off5 (i : grid0.Coords) (k0_t2 : Fin (k0_t2_loop i).trips) : Fin 3 → Nat :=
  let c0_64 : Index := 0#32
  let c0_i32_33 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_29 : BitVec 32 := 0#32
  let v43 : BitVec 1 := Scalar.cmpi .slt arg1 c0_i32_29
  let v44 : BitVec 32 := Scalar.extui v43
  let v45 : BitVec 32 := Scalar.subi v42 v44
  let c2_i32 : BitVec 32 := 2#32
  let c0_i32_30 : BitVec 32 := 0#32
  let v46 : BitVec 1 := Scalar.cmpi .sgt c2_i32 c0_i32_30
  let v47 : BitVec 32 := Scalar.extui v46
  let c0_i32_31 : BitVec 32 := 0#32
  let v48 : BitVec 1 := Scalar.cmpi .slt c2_i32 c0_i32_31
  let v49 : BitVec 32 := Scalar.extui v48
  let v50 : BitVec 32 := Scalar.subi v47 v49
  let v51 : BitVec 1 := Scalar.cmpi .ne v45 v50
  let v52 : BitVec 32 := Scalar.remsi arg1 c2_i32
  let c0_i32_32 : BitVec 32 := 0#32
  let v53 : BitVec 1 := Scalar.cmpi .ne v52 c0_i32_32
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_33
  let c1_i32_34 : BitVec 32 := 1#32
  let v59 : BitVec 32 := Scalar.divsi v57 c1_i32_34
  let v60 : BitVec 32 := Scalar.muli v59 c1_i32_34
  let v61 : BitVec 32 := Scalar.addi c0_i32_33 v60
  let c1_i32_36 : BitVec 32 := 1#32
  let arg10 : BitVec 32 := Scf.iv v61 c1_i32_36 k0_t2
  let c2_i32_61 : BitVec 32 := 2#32
  let v108 : BitVec 32 := Scalar.muli arg10 c2_i32_61
  let c384_i32_62 : BitVec 32 := 384#32
  let v109 : BitVec 32 := Scalar.muli v108 c384_i32_62
  let v110 : BitVec 32 := v109
  let v114 : Index := Scalar.indexCast v110
  let c0_65 : Index := 0#32
  ![0, v114.toNat, 0]
def k0_off6 (i : grid0.Coords) (k0_t2 : Fin (k0_t2_loop i).trips) : Fin 3 → Nat :=
  let c1_70 : Index := 1#32
  let c0_i32_33 : BitVec 32 := 0#32
  let arg1 : BitVec 32 := BitVec.ofNat 32 (i 1).val
  let c0_i32 : BitVec 32 := 0#32
  let v41 : BitVec 1 := Scalar.cmpi .sgt arg1 c0_i32
  let v42 : BitVec 32 := Scalar.extui v41
  let c0_i32_29 : BitVec 32 := 0#32
  let v43 : BitVec 1 := Scalar.cmpi .slt arg1 c0_i32_29
  let v44 : BitVec 32 := Scalar.extui v43
  let v45 : BitVec 32 := Scalar.subi v42 v44
  let c2_i32 : BitVec 32 := 2#32
  let c0_i32_30 : BitVec 32 := 0#32
  let v46 : BitVec 1 := Scalar.cmpi .sgt c2_i32 c0_i32_30
  let v47 : BitVec 32 := Scalar.extui v46
  let c0_i32_31 : BitVec 32 := 0#32
  let v48 : BitVec 1 := Scalar.cmpi .slt c2_i32 c0_i32_31
  let v49 : BitVec 32 := Scalar.extui v48
  let v50 : BitVec 32 := Scalar.subi v47 v49
  let v51 : BitVec 1 := Scalar.cmpi .ne v45 v50
  let v52 : BitVec 32 := Scalar.remsi arg1 c2_i32
  let c0_i32_32 : BitVec 32 := 0#32
  let v53 : BitVec 1 := Scalar.cmpi .ne v52 c0_i32_32
  let v54 : BitVec 1 := Scalar.andi v51 v53
  let v40 : BitVec 32 := Scalar.divsi arg1 c2_i32
  let c1_i32 : BitVec 32 := 1#32
  let v55 : BitVec 32 := Scalar.subi v40 c1_i32
  let v56 : BitVec 32 := Scalar.select v54 v55 v40
  let v57 : BitVec 32 := Scalar.subi v56 c0_i32_33
  let c1_i32_34 : BitVec 32 := 1#32
  let v59 : BitVec 32 := Scalar.divsi v57 c1_i32_34
  let v60 : BitVec 32 := Scalar.muli v59 c1_i32_34
  let v61 : BitVec 32 := Scalar.addi c0_i32_33 v60
  let c1_i32_36 : BitVec 32 := 1#32
  let arg10 : BitVec 32 := Scf.iv v61 c1_i32_36 k0_t2
  let c2_i32_61 : BitVec 32 := 2#32
  let v108 : BitVec 32 := Scalar.muli arg10 c2_i32_61
  let c384_i32_62 : BitVec 32 := 384#32
  let v109 : BitVec 32 := Scalar.muli v108 c384_i32_62
  let v110 : BitVec 32 := v109
  let v130 : Index := Scalar.indexCast v110
  let c0_71 : Index := 0#32
  ![1, v130.toNat, 0]
def k0_mult3 (i : grid0.Coords) : BitVec 32 :=
  let arg1 : BitVec 32 := BitVec.ofNat 32 (i 1).val
  let c0_i32_38 : BitVec 32 := 0#32
  let v65 : BitVec 1 := Scalar.cmpi .sgt arg1 c0_i32_38
  let v66 : BitVec 32 := Scalar.extui v65
  let c0_i32_39 : BitVec 32 := 0#32
  let v67 : BitVec 1 := Scalar.cmpi .slt arg1 c0_i32_39
  let v68 : BitVec 32 := Scalar.extui v67
  let v69 : BitVec 32 := Scalar.subi v66 v68
  let c2_i32_37 : BitVec 32 := 2#32
  let c0_i32_40 : BitVec 32 := 0#32
  let v70 : BitVec 1 := Scalar.cmpi .sgt c2_i32_37 c0_i32_40
  let v71 : BitVec 32 := Scalar.extui v70
  let c0_i32_41 : BitVec 32 := 0#32
  let v72 : BitVec 1 := Scalar.cmpi .slt c2_i32_37 c0_i32_41
  let v73 : BitVec 32 := Scalar.extui v72
  let v74 : BitVec 32 := Scalar.subi v71 v73
  let v75 : BitVec 1 := Scalar.cmpi .ne v69 v74
  let v76 : BitVec 32 := Scalar.remsi arg1 c2_i32_37
  let c0_i32_42 : BitVec 32 := 0#32
  let v77 : BitVec 1 := Scalar.cmpi .ne v76 c0_i32_42
  let v78 : BitVec 1 := Scalar.andi v75 v77
  let v64 : BitVec 32 := Scalar.divsi arg1 c2_i32_37
  let c1_i32_43 : BitVec 32 := 1#32
  let v79 : BitVec 32 := Scalar.subi v64 c1_i32_43
  let v80 : BitVec 32 := Scalar.select v78 v79 v64
  let c2_i32_44 : BitVec 32 := 2#32
  let v81 : BitVec 32 := Scalar.muli v80 c2_i32_44
  let c384_i32 : BitVec 32 := 384#32
  let v82 : BitVec 32 := Scalar.muli v81 c384_i32
  v82
def k0_cond1 (i : grid0.Coords) : BitVec 1 :=
  let arg1 : BitVec 32 := BitVec.ofNat 32 (i 1).val
  let c2_i32_45 : BitVec 32 := 2#32
  let c0_i32_46 : BitVec 32 := 0#32
  let v84 : BitVec 1 := Scalar.cmpi .eq c2_i32_45 c0_i32_46
  let c1_i32_47 : BitVec 32 := 1#32
  let v85 : BitVec 32 := Scalar.select v84 c1_i32_47 c2_i32_45
  let v86 : BitVec 32 := Scalar.remsi arg1 v85
  let c0_i32_49 : BitVec 32 := 0#32
  let v88 : BitVec 1 := Scalar.cmpi .slt v86 c0_i32_49
  let c0_i32_50 : BitVec 32 := 0#32
  let v89 : BitVec 1 := Scalar.cmpi .slt v85 c0_i32_50
  let v90 : BitVec 1 := Scalar.xori v88 v89
  let c0_i32_48 : BitVec 32 := 0#32
  let v87 : BitVec 1 := Scalar.cmpi .ne v86 c0_i32_48
  let v91 : BitVec 1 := Scalar.andi v90 v87
  let v92 : BitVec 32 := Scalar.addi v86 v85
  let v93 : BitVec 32 := Scalar.select v91 v92 v86
  let c0_i32_51 : BitVec 32 := 0#32
  let v94 : BitVec 1 := Scalar.cmpi .eq v93 c0_i32_51
  let v95 : BitVec 32 := Scalar.extui v94
  let c0_i32_52 : BitVec 32 := 0#32
  let v96 : BitVec 1 := Scalar.cmpi .ne v95 c0_i32_52
  v96

def k0_off7 (i : grid0.Coords) : Fin 2 → Nat :=
  let arg1 : BitVec 32 := BitVec.ofNat 32 (i 1).val
  let c0_i32_38 : BitVec 32 := 0#32
  let v65 : BitVec 1 := Scalar.cmpi .sgt arg1 c0_i32_38
  let v66 : BitVec 32 := Scalar.extui v65
  let c0_i32_39 : BitVec 32 := 0#32
  let v67 : BitVec 1 := Scalar.cmpi .slt arg1 c0_i32_39
  let v68 : BitVec 32 := Scalar.extui v67
  let v69 : BitVec 32 := Scalar.subi v66 v68
  let c2_i32_37 : BitVec 32 := 2#32
  let c0_i32_40 : BitVec 32 := 0#32
  let v70 : BitVec 1 := Scalar.cmpi .sgt c2_i32_37 c0_i32_40
  let v71 : BitVec 32 := Scalar.extui v70
  let c0_i32_41 : BitVec 32 := 0#32
  let v72 : BitVec 1 := Scalar.cmpi .slt c2_i32_37 c0_i32_41
  let v73 : BitVec 32 := Scalar.extui v72
  let v74 : BitVec 32 := Scalar.subi v71 v73
  let v75 : BitVec 1 := Scalar.cmpi .ne v69 v74
  let v76 : BitVec 32 := Scalar.remsi arg1 c2_i32_37
  let c0_i32_42 : BitVec 32 := 0#32
  let v77 : BitVec 1 := Scalar.cmpi .ne v76 c0_i32_42
  let v78 : BitVec 1 := Scalar.andi v75 v77
  let v64 : BitVec 32 := Scalar.divsi arg1 c2_i32_37
  let c1_i32_43 : BitVec 32 := 1#32
  let v79 : BitVec 32 := Scalar.subi v64 c1_i32_43
  let v80 : BitVec 32 := Scalar.select v78 v79 v64
  let c2_i32_44 : BitVec 32 := 2#32
  let v81 : BitVec 32 := Scalar.muli v80 c2_i32_44
  let c384_i32 : BitVec 32 := 384#32
  let v82 : BitVec 32 := Scalar.muli v81 c384_i32
  let v83 : BitVec 32 := v82
  let v108 : Index := Scalar.indexCast v83
  let c0_61 : Index := 0#32
  ![v108.toNat, 0]
def k0_off8 (i : grid0.Coords) : Fin 3 → Nat :=
  let c0_62 : Index := 0#32
  let arg1 : BitVec 32 := BitVec.ofNat 32 (i 1).val
  let c0_i32_38 : BitVec 32 := 0#32
  let v65 : BitVec 1 := Scalar.cmpi .sgt arg1 c0_i32_38
  let v66 : BitVec 32 := Scalar.extui v65
  let c0_i32_39 : BitVec 32 := 0#32
  let v67 : BitVec 1 := Scalar.cmpi .slt arg1 c0_i32_39
  let v68 : BitVec 32 := Scalar.extui v67
  let v69 : BitVec 32 := Scalar.subi v66 v68
  let c2_i32_37 : BitVec 32 := 2#32
  let c0_i32_40 : BitVec 32 := 0#32
  let v70 : BitVec 1 := Scalar.cmpi .sgt c2_i32_37 c0_i32_40
  let v71 : BitVec 32 := Scalar.extui v70
  let c0_i32_41 : BitVec 32 := 0#32
  let v72 : BitVec 1 := Scalar.cmpi .slt c2_i32_37 c0_i32_41
  let v73 : BitVec 32 := Scalar.extui v72
  let v74 : BitVec 32 := Scalar.subi v71 v73
  let v75 : BitVec 1 := Scalar.cmpi .ne v69 v74
  let v76 : BitVec 32 := Scalar.remsi arg1 c2_i32_37
  let c0_i32_42 : BitVec 32 := 0#32
  let v77 : BitVec 1 := Scalar.cmpi .ne v76 c0_i32_42
  let v78 : BitVec 1 := Scalar.andi v75 v77
  let v64 : BitVec 32 := Scalar.divsi arg1 c2_i32_37
  let c1_i32_43 : BitVec 32 := 1#32
  let v79 : BitVec 32 := Scalar.subi v64 c1_i32_43
  let v80 : BitVec 32 := Scalar.select v78 v79 v64
  let c2_i32_44 : BitVec 32 := 2#32
  let v81 : BitVec 32 := Scalar.muli v80 c2_i32_44
  let c384_i32 : BitVec 32 := 384#32
  let v82 : BitVec 32 := Scalar.muli v81 c384_i32
  let v83 : BitVec 32 := v82
  let v111 : Index := Scalar.indexCast v83
  let c0_63 : Index := 0#32
  ![0, v111.toNat, 0]
def k0_off9 (i : grid0.Coords) : Fin 3 → Nat :=
  let c1_70 : Index := 1#32
  let arg1 : BitVec 32 := BitVec.ofNat 32 (i 1).val
  let c0_i32_38 : BitVec 32 := 0#32
  let v65 : BitVec 1 := Scalar.cmpi .sgt arg1 c0_i32_38
  let v66 : BitVec 32 := Scalar.extui v65
  let c0_i32_39 : BitVec 32 := 0#32
  let v67 : BitVec 1 := Scalar.cmpi .slt arg1 c0_i32_39
  let v68 : BitVec 32 := Scalar.extui v67
  let v69 : BitVec 32 := Scalar.subi v66 v68
  let c2_i32_37 : BitVec 32 := 2#32
  let c0_i32_40 : BitVec 32 := 0#32
  let v70 : BitVec 1 := Scalar.cmpi .sgt c2_i32_37 c0_i32_40
  let v71 : BitVec 32 := Scalar.extui v70
  let c0_i32_41 : BitVec 32 := 0#32
  let v72 : BitVec 1 := Scalar.cmpi .slt c2_i32_37 c0_i32_41
  let v73 : BitVec 32 := Scalar.extui v72
  let v74 : BitVec 32 := Scalar.subi v71 v73
  let v75 : BitVec 1 := Scalar.cmpi .ne v69 v74
  let v76 : BitVec 32 := Scalar.remsi arg1 c2_i32_37
  let c0_i32_42 : BitVec 32 := 0#32
  let v77 : BitVec 1 := Scalar.cmpi .ne v76 c0_i32_42
  let v78 : BitVec 1 := Scalar.andi v75 v77
  let v64 : BitVec 32 := Scalar.divsi arg1 c2_i32_37
  let c1_i32_43 : BitVec 32 := 1#32
  let v79 : BitVec 32 := Scalar.subi v64 c1_i32_43
  let v80 : BitVec 32 := Scalar.select v78 v79 v64
  let c2_i32_44 : BitVec 32 := 2#32
  let v81 : BitVec 32 := Scalar.muli v80 c2_i32_44
  let c384_i32 : BitVec 32 := 384#32
  let v82 : BitVec 32 := Scalar.muli v81 c384_i32
  let v83 : BitVec 32 := v82
  let v137 : Index := Scalar.indexCast v83
  let c0_71 : Index := 0#32
  ![1, v137.toNat, 0]
def k0_off10 (i : grid0.Coords) : Fin 2 → Nat :=
  let arg1 : BitVec 32 := BitVec.ofNat 32 (i 1).val
  let c0_i32_38 : BitVec 32 := 0#32
  let v65 : BitVec 1 := Scalar.cmpi .sgt arg1 c0_i32_38
  let v66 : BitVec 32 := Scalar.extui v65
  let c0_i32_39 : BitVec 32 := 0#32
  let v67 : BitVec 1 := Scalar.cmpi .slt arg1 c0_i32_39
  let v68 : BitVec 32 := Scalar.extui v67
  let v69 : BitVec 32 := Scalar.subi v66 v68
  let c2_i32_37 : BitVec 32 := 2#32
  let c0_i32_40 : BitVec 32 := 0#32
  let v70 : BitVec 1 := Scalar.cmpi .sgt c2_i32_37 c0_i32_40
  let v71 : BitVec 32 := Scalar.extui v70
  let c0_i32_41 : BitVec 32 := 0#32
  let v72 : BitVec 1 := Scalar.cmpi .slt c2_i32_37 c0_i32_41
  let v73 : BitVec 32 := Scalar.extui v72
  let v74 : BitVec 32 := Scalar.subi v71 v73
  let v75 : BitVec 1 := Scalar.cmpi .ne v69 v74
  let v76 : BitVec 32 := Scalar.remsi arg1 c2_i32_37
  let c0_i32_42 : BitVec 32 := 0#32
  let v77 : BitVec 1 := Scalar.cmpi .ne v76 c0_i32_42
  let v78 : BitVec 1 := Scalar.andi v75 v77
  let v64 : BitVec 32 := Scalar.divsi arg1 c2_i32_37
  let c1_i32_43 : BitVec 32 := 1#32
  let v79 : BitVec 32 := Scalar.subi v64 c1_i32_43
  let v80 : BitVec 32 := Scalar.select v78 v79 v64
  let c2_i32_44 : BitVec 32 := 2#32
  let v81 : BitVec 32 := Scalar.muli v80 c2_i32_44
  let c384_i32 : BitVec 32 := 384#32
  let v82 : BitVec 32 := Scalar.muli v81 c384_i32
  let v83 : BitVec 32 := v82
  let v108 : Index := Scalar.indexCast v83
  let c0_61 : Index := 0#32
  ![v108.toNat, 0]
def k0_off11 (i : grid0.Coords) : Fin 3 → Nat :=
  let c0_62 : Index := 0#32
  let arg1 : BitVec 32 := BitVec.ofNat 32 (i 1).val
  let c0_i32_38 : BitVec 32 := 0#32
  let v65 : BitVec 1 := Scalar.cmpi .sgt arg1 c0_i32_38
  let v66 : BitVec 32 := Scalar.extui v65
  let c0_i32_39 : BitVec 32 := 0#32
  let v67 : BitVec 1 := Scalar.cmpi .slt arg1 c0_i32_39
  let v68 : BitVec 32 := Scalar.extui v67
  let v69 : BitVec 32 := Scalar.subi v66 v68
  let c2_i32_37 : BitVec 32 := 2#32
  let c0_i32_40 : BitVec 32 := 0#32
  let v70 : BitVec 1 := Scalar.cmpi .sgt c2_i32_37 c0_i32_40
  let v71 : BitVec 32 := Scalar.extui v70
  let c0_i32_41 : BitVec 32 := 0#32
  let v72 : BitVec 1 := Scalar.cmpi .slt c2_i32_37 c0_i32_41
  let v73 : BitVec 32 := Scalar.extui v72
  let v74 : BitVec 32 := Scalar.subi v71 v73
  let v75 : BitVec 1 := Scalar.cmpi .ne v69 v74
  let v76 : BitVec 32 := Scalar.remsi arg1 c2_i32_37
  let c0_i32_42 : BitVec 32 := 0#32
  let v77 : BitVec 1 := Scalar.cmpi .ne v76 c0_i32_42
  let v78 : BitVec 1 := Scalar.andi v75 v77
  let v64 : BitVec 32 := Scalar.divsi arg1 c2_i32_37
  let c1_i32_43 : BitVec 32 := 1#32
  let v79 : BitVec 32 := Scalar.subi v64 c1_i32_43
  let v80 : BitVec 32 := Scalar.select v78 v79 v64
  let c2_i32_44 : BitVec 32 := 2#32
  let v81 : BitVec 32 := Scalar.muli v80 c2_i32_44
  let c384_i32 : BitVec 32 := 384#32
  let v82 : BitVec 32 := Scalar.muli v81 c384_i32
  let v83 : BitVec 32 := v82
  let v111 : Index := Scalar.indexCast v83
  let c0_63 : Index := 0#32
  ![0, v111.toNat, 0]
def k0_off12 (i : grid0.Coords) : Fin 3 → Nat :=
  let c1_70 : Index := 1#32
  let arg1 : BitVec 32 := BitVec.ofNat 32 (i 1).val
  let c0_i32_38 : BitVec 32 := 0#32
  let v65 : BitVec 1 := Scalar.cmpi .sgt arg1 c0_i32_38
  let v66 : BitVec 32 := Scalar.extui v65
  let c0_i32_39 : BitVec 32 := 0#32
  let v67 : BitVec 1 := Scalar.cmpi .slt arg1 c0_i32_39
  let v68 : BitVec 32 := Scalar.extui v67
  let v69 : BitVec 32 := Scalar.subi v66 v68
  let c2_i32_37 : BitVec 32 := 2#32
  let c0_i32_40 : BitVec 32 := 0#32
  let v70 : BitVec 1 := Scalar.cmpi .sgt c2_i32_37 c0_i32_40
  let v71 : BitVec 32 := Scalar.extui v70
  let c0_i32_41 : BitVec 32 := 0#32
  let v72 : BitVec 1 := Scalar.cmpi .slt c2_i32_37 c0_i32_41
  let v73 : BitVec 32 := Scalar.extui v72
  let v74 : BitVec 32 := Scalar.subi v71 v73
  let v75 : BitVec 1 := Scalar.cmpi .ne v69 v74
  let v76 : BitVec 32 := Scalar.remsi arg1 c2_i32_37
  let c0_i32_42 : BitVec 32 := 0#32
  let v77 : BitVec 1 := Scalar.cmpi .ne v76 c0_i32_42
  let v78 : BitVec 1 := Scalar.andi v75 v77
  let v64 : BitVec 32 := Scalar.divsi arg1 c2_i32_37
  let c1_i32_43 : BitVec 32 := 1#32
  let v79 : BitVec 32 := Scalar.subi v64 c1_i32_43
  let v80 : BitVec 32 := Scalar.select v78 v79 v64
  let c2_i32_44 : BitVec 32 := 2#32
  let v81 : BitVec 32 := Scalar.muli v80 c2_i32_44
  let c384_i32 : BitVec 32 := 384#32
  let v82 : BitVec 32 := Scalar.muli v81 c384_i32
  let v83 : BitVec 32 := v82
  let v137 : Index := Scalar.indexCast v83
  let c0_71 : Index := 0#32
  ![1, v137.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x384x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnQKernelIdeal.lean ====
variable {F : FTy → Type} [FloatOps F] [Named F]
def κ : String → Option EReal := fun
  | "att_log2" => some (((3424635 / 33554432) * (Real.log 2)⁻¹ : ℝ) : EReal)
  | "masked" => some ⊥
  | _ => none
-- ==== AttnQRefIdeal.lean ====
abbrev S4112x8x96 : Shape := ⟨3, ![4112, 8, 96]⟩
abbrev S4112x8x64 : Shape := ⟨3, ![4112, 8, 64]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x4112 : Shape := ⟨2, ![8, 4112]⟩
abbrev S8x4112x1 : Shape := ⟨3, ![8, 4112, 1]⟩
abbrev S8x64x4112 : Shape := ⟨3, ![8, 64, 4112]⟩
abbrev S8x4112x96 : Shape := ⟨3, ![8, 4112, 96]⟩
abbrev S4112x8 : Shape := ⟨2, ![4112, 8]⟩
abbrev S8x112 : Shape := ⟨2, ![8, 112]⟩
abbrev S8x4224 : Shape := ⟨2, ![8, 4224]⟩
abbrev S4112x8x32 : Shape := ⟨3, ![4112, 8, 32]⟩
abbrev S4112x8x128 : Shape := ⟨3, ![4112, 8, 128]⟩
abbrev S112x8x128 : Shape := ⟨3, ![112, 8, 128]⟩
abbrev S4224x8x128 : Shape := ⟨3, ![4224, 8, 128]⟩
abbrev S8x4224x128 : Shape := ⟨3, ![8, 4224, 128]⟩
abbrev S8x4224x1 : Shape := ⟨3, ![8, 4224, 1]⟩

abbrev nBuf : Space → Nat
  | .hbm => 100
  | .vmem => 0
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x8x64, .f32⟩
  | .hbm, ⟨4, _⟩ => ⟨S8x4112x4112, .f32⟩
  | .hbm, ⟨5, _⟩ => ⟨S_, .f32⟩
  | .hbm, ⟨6, _⟩ => ⟨S8x4112x4112, .f32⟩
  | .hbm, ⟨7, _⟩ => ⟨S8x4112x4112, .f32⟩
  | .hbm, ⟨8, _⟩ => ⟨S4112, .i32⟩
  | .hbm, ⟨9, _⟩ => ⟨S1x4112, .i32⟩
  | .hbm, ⟨10, _⟩ => ⟨S4112x1, .i32⟩
  | .hbm, ⟨11, _⟩ => ⟨S4112x4112, .i32⟩
  | .hbm, ⟨12, _⟩ => ⟨S4112x4112, .i32⟩
  | .hbm, ⟨13, _⟩ => ⟨S4112x4112, .i1⟩
  | .hbm, ⟨14, _⟩ => ⟨S_, .f32⟩
  | .hbm, ⟨15, _⟩ => ⟨S_, .f32⟩
  | .hbm, ⟨16, _⟩ => ⟨S8x4112x4112, .i1⟩
  | .hbm, ⟨17, _⟩ => ⟨S8x4112x4112, .f32⟩
  | .hbm, ⟨18, _⟩ => ⟨S8x4112x4112, .f32⟩
  | .hbm, ⟨19, _⟩ => ⟨S_, .f32⟩
  | .hbm, ⟨20, _⟩ => ⟨S8x4112x4112, .f32⟩
  | .hbm, ⟨21, _⟩ => ⟨S_, .f32⟩
  | .hbm, ⟨22, _⟩ => ⟨S8x4112, .f32⟩
  | .hbm, ⟨23, _⟩ => ⟨S8x4112x1, .f32⟩
  | .hbm, ⟨24, _⟩ => ⟨S8x4112x4112, .f32⟩
  | .hbm, ⟨25, _⟩ => ⟨S8x4112x4112, .i1⟩
  | .hbm, ⟨26, _⟩ => ⟨S8x4112x4112, .f32⟩
  | .hbm, ⟨27, _⟩ => ⟨S_, .f32⟩
  | .hbm, ⟨28, _⟩ => ⟨S8x4112, .f32⟩
  | .hbm, ⟨29, _⟩ => ⟨S_, .f32⟩
  | .hbm, ⟨30, _⟩ => ⟨S8x4112, .f32⟩
  | .hbm, ⟨31, _⟩ => ⟨S8x4112, .f32⟩
  | .hbm, ⟨32, _⟩ => ⟨S_, .f32⟩
  | .hbm, ⟨33, _⟩ => ⟨S8x4112, .f32⟩
  | .hbm, ⟨34, _⟩ => ⟨S8x4112, .i1⟩
  | .hbm, ⟨35, _⟩ => ⟨S_, .f32⟩
  | .hbm, ⟨36, _⟩ => ⟨S8x4112, .f32⟩
  | .hbm, ⟨37, _⟩ => ⟨S8x4112, .i1⟩
  | .hbm, ⟨38, _⟩ => ⟨S_, .f32⟩
  | .hbm, ⟨39, _⟩ => ⟨S8x4112, .f32⟩
  | .hbm, ⟨40, _⟩ => ⟨S_, .f32⟩
  | .hbm, ⟨41, _⟩ => ⟨S8x4112, .f32⟩
  | .hbm, ⟨42, _⟩ => ⟨S_, .f32⟩
  | .hbm, ⟨43, _⟩ => ⟨S8x4112, .f32⟩
  | .hbm, ⟨44, _⟩ => ⟨S8x4112, .f32⟩
  | .hbm, ⟨45, _⟩ => ⟨S8x4112, .f32⟩
  | .hbm, ⟨46, _⟩ => ⟨S8x4112x1, .f32⟩
  | .hbm, ⟨47, _⟩ => ⟨S8x4112x4112, .f32⟩
  | .hbm, ⟨48, _⟩ => ⟨S8x4112x4112, .f32⟩
  | .hbm, ⟨49, _⟩ => ⟨S8x4112x4112, .f32⟩
  | .hbm, ⟨50, _⟩ => ⟨S_, .f32⟩
  | .hbm, ⟨51, _⟩ => ⟨S8x4112, .f32⟩
  | .hbm, ⟨52, _⟩ => ⟨S8x4112x1, .f32⟩
  | .hbm, ⟨53, _⟩ => ⟨S8x4112x4112, .f32⟩
  | .hbm, ⟨54, _⟩ => ⟨S8x4112x4112, .f32⟩
  | .hbm, ⟨55, _⟩ => ⟨S8x4112x1, .f32⟩
  | .hbm, ⟨56, _⟩ => ⟨S_, .f32⟩
  | .hbm, ⟨57, _⟩ => ⟨S8x4112x1, .f32⟩
  | .hbm, ⟨58, _⟩ => ⟨S8x4112x1, .f32⟩
  | .hbm, ⟨59, _⟩ => ⟨S8x64x4112, .f32⟩
  | .hbm, ⟨60, _⟩ => ⟨S4112x8x64, .f32⟩
  | .hbm, ⟨61, _⟩ => ⟨S8x64x4112, .f32⟩
  | .hbm, ⟨62, _⟩ => ⟨S8x4112x4112, .f32⟩
  | .hbm, ⟨63, _⟩ => ⟨S8x4112x4112, .f32⟩
  | .hbm, ⟨64, _⟩ => ⟨S8x4112x4112, .f32⟩
  | .hbm, ⟨65, _⟩ => ⟨S8x4112x4112, .f32⟩
  | .hbm, ⟨66, _⟩ => ⟨S_, .f32⟩
  | .hbm, ⟨67, _⟩ => ⟨S8x4112, .f32⟩
  | .hbm, ⟨68, _⟩ => ⟨S8x4112x1, .f32⟩
  | .hbm, ⟨69, _⟩ => ⟨S8x4112x1, .f32⟩
  | .hbm, ⟨70, _⟩ => ⟨S8x4112x4112, .f32⟩
  | .hbm, ⟨71, _⟩ => ⟨S8x4112x4112, .f32⟩
  | .hbm, ⟨72, _⟩ => ⟨S_, .f32⟩
  | .hbm, ⟨73, _⟩ => ⟨S8x4112, .f32⟩
  | .hbm, ⟨74, _⟩ => ⟨S8x4112x4112, .f32⟩
  | .hbm, ⟨75, _⟩ => ⟨S8x4112x4112, .f32⟩
  | .hbm, ⟨76, _⟩ => ⟨S8x4112x4112, .f32⟩
  | .hbm, ⟨77, _⟩ => ⟨S_, .f32⟩
  | .hbm, ⟨78, _⟩ => ⟨S8x4112x4112, .f32⟩
  | .hbm, ⟨79, _⟩ => ⟨S8x4112x4112, .f32⟩
  | .hbm, ⟨80, _⟩ => ⟨S_, .f32⟩
  | .hbm, ⟨81, _⟩ => ⟨S8x4112x4112, .f32⟩
  | .hbm, ⟨82, _⟩ => ⟨S8x4112x4112, .f32⟩
  | .hbm, ⟨83, _⟩ => ⟨S8x4112x96, .f32⟩
  | .hbm, ⟨84, _⟩ => ⟨S4112x8x96, .f32⟩
  | .hbm, ⟨85, _⟩ => ⟨S4112x8x64, .f32⟩
  | .hbm, ⟨86, _⟩ => ⟨S_, .f32⟩
  | .hbm, ⟨87, _⟩ => ⟨S4112x8, .f32⟩
  | .hbm, ⟨88, _⟩ => ⟨S8x4112, .f32⟩
  | .hbm, ⟨89, _⟩ => ⟨S_, .f32⟩
  | .hbm, ⟨90, _⟩ => ⟨S8x112, .f32⟩
  | .hbm, ⟨91, _⟩ => ⟨S8x4224, .f32⟩
  | .hbm, ⟨92, _⟩ => ⟨S_, .f32⟩
  | .hbm, ⟨93, _⟩ => ⟨S4112x8x32, .f32⟩
  | .hbm, ⟨94, _⟩ => ⟨S4112x8x128, .f32⟩
  | .hbm, ⟨95, _⟩ => ⟨S_, .f32⟩
  | .hbm, ⟨96, _⟩ => ⟨S112x8x128, .f32⟩
  | .hbm, ⟨97, _⟩ => ⟨S4224x8x128, .f32⟩
  | .hbm, ⟨98, _⟩ => ⟨S8x4224x128, .f32⟩
  | .hbm, ⟨99, _⟩ => ⟨S8x4224x1, .f32⟩
  | _, _ => ⟨S4112x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== AttnKvKernel.lean ====
abbrev S4112x8x96 : Shape := ⟨3, ![4112, 8, 96]⟩
abbrev S4112x8x64 : Shape := ⟨3, ![4112, 8, 64]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x4112 : Shape := ⟨2, ![8, 4112]⟩
abbrev S8x4112x1 : Shape := ⟨3, ![8, 4112, 1]⟩
abbrev S8x64x4112 : Shape := ⟨3, ![8, 64, 4112]⟩
abbrev S8x112 : Shape := ⟨2, ![8, 112]⟩
abbrev S8x4224 : Shape := ⟨2, ![8, 4224]⟩
abbrev S4112x8 : Shape := ⟨2, ![4112, 8]⟩
abbrev S4112x8x32 : Shape := ⟨3, ![4112, 8, 32]⟩
abbrev S4112x8x128 : Shape := ⟨3, ![4112, 8, 128]⟩
abbrev S112x8x128 : Shape := ⟨3, ![112, 8, 128]⟩
abbrev S4224x8x128 : Shape := ⟨3, ![4224, 8, 128]⟩
abbrev S8x4224x128 : Shape := ⟨3, ![8, 4224, 128]⟩
abbrev S4112x512 : Shape := ⟨2, ![4112, 512]⟩
abbrev S112x512 : Shape := ⟨2, ![112, 512]⟩
abbrev S4224x512 : Shape := ⟨2, ![4224, 512]⟩
abbrev S8x1x4224 : Shape := ⟨3, ![8, 1, 4224]⟩
abbrev S2x4224x128 : Shape := ⟨3, ![2, 4224, 128]⟩
abbrev S2x384x128 : Shape := ⟨3, ![2, 384, 128]⟩
abbrev S384x128 : Shape := ⟨2, ![384, 128]⟩
abbrev S4224x128 : Shape := ⟨2, ![4224, 128]⟩
abbrev S2x1x4224 : Shape := ⟨3, ![2, 1, 4224]⟩
abbrev S1x384x128 : Shape := ⟨3, ![1, 384, 128]⟩
abbrev S768x128 : Shape := ⟨2, ![768, 128]⟩
abbrev S1x768x128 : Shape := ⟨3, ![1, 768, 128]⟩
abbrev S384x768 : Shape := ⟨2, ![384, 768]⟩
abbrev S1x1x768 : Shape := ⟨3, ![1, 1, 768]⟩
abbrev S1x768 : Shape := ⟨2, ![1, 768]⟩
abbrev S384x384 : Shape := ⟨2, ![384, 384]⟩
abbrev S1x1x384 : Shape := ⟨3, ![1, 1, 384]⟩
abbrev S1x384 : Shape := ⟨2, ![1, 384]⟩

abbrev nBuf : Space → Nat
  | .hbm => 78
  | .vmem => 16
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x8x64, .f32⟩
  | .hbm, ⟨4, _⟩ => ⟨S8x4112x4112, .f32⟩
  | .hbm, ⟨5, _⟩ => ⟨S_, .f32⟩
  | .hbm, ⟨6, _⟩ => ⟨S8x4112x4112, .f32⟩
  | .hbm, ⟨7, _⟩ => ⟨S8x4112x4112, .f32⟩
  | .hbm, ⟨8, _⟩ => ⟨S4112, .i32⟩
  | .hbm, ⟨9, _⟩ => ⟨S1x4112, .i32⟩
  | .hbm, ⟨10, _⟩ => ⟨S4112x1, .i32⟩
  | .hbm, ⟨11, _⟩ => ⟨S4112x4112, .i32⟩
  | .hbm, ⟨12, _⟩ => ⟨S4112x4112, .i32⟩
  | .hbm, ⟨13, _⟩ => ⟨S4112x4112, .i1⟩
  | .hbm, ⟨14, _⟩ => ⟨S_, .f32⟩
  | .hbm, ⟨15, _⟩ => ⟨S_, .f32⟩
  | .hbm, ⟨16, _⟩ => ⟨S8x4112x4112, .i1⟩
  | .hbm, ⟨17, _⟩ => ⟨S8x4112x4112, .f32⟩
  | .hbm, ⟨18, _⟩ => ⟨S8x4112x4112, .f32⟩
  | .hbm, ⟨19, _⟩ => ⟨S_, .f32⟩
  | .hbm, ⟨20, _⟩ => ⟨S8x4112, .f32⟩
  | .hbm, ⟨21, _⟩ => ⟨S8x4112x1, .f32⟩
  | .hbm, ⟨22, _⟩ => ⟨S8x4112x4112, .f32⟩
  | .hbm, ⟨23, _⟩ => ⟨S8x4112x4112, .f32⟩
  | .hbm, ⟨24, _⟩ => ⟨S8x4112x4112, .f32⟩
  | .hbm, ⟨25, _⟩ => ⟨S_, .f32⟩
  | .hbm, ⟨26, _⟩ => ⟨S8x4112, .f32⟩
  | .hbm, ⟨27, _⟩ => ⟨S8x4112x1, .f32⟩
  | .hbm, ⟨28, _⟩ => ⟨S8x4112x4112, .f32⟩
  | .hbm, ⟨29, _⟩ => ⟨S8x4112x4112, .f32⟩
  | .hbm, ⟨30, _⟩ => ⟨S8x64x4112, .f32⟩
  | .hbm, ⟨31, _⟩ => ⟨S4112x8x64, .f32⟩
  | .hbm, ⟨32, _⟩ => ⟨S8x4112x1, .f32⟩
  | .hbm, ⟨33, _⟩ => ⟨S8x4112x1, .f32⟩
  | .hbm, ⟨34, _⟩ => ⟨S_, .f32⟩
  | .hbm, ⟨35, _⟩ => ⟨S_, .f32⟩
  | .hbm, ⟨36, _⟩ => ⟨S8x4112x1, .f32⟩
  | .hbm, ⟨37, _⟩ => ⟨S8x4112x1, .f32⟩
  | .hbm, ⟨38, _⟩ => ⟨S8x4112, .f32⟩
  | .hbm, ⟨39, _⟩ => ⟨S_, .f32⟩
  | .hbm, ⟨40, _⟩ => ⟨S8x112, .f32⟩
  | .hbm, ⟨41, _⟩ => ⟨S8x4224, .f32⟩
  | .hbm, ⟨42, _⟩ => ⟨S4112x8x64, .f32⟩
  | .hbm, ⟨43, _⟩ => ⟨S_, .f32⟩
  | .hbm, ⟨44, _⟩ => ⟨S4112x8, .f32⟩
  | .hbm, ⟨45, _⟩ => ⟨S8x4112, .f32⟩
  | .hbm, ⟨46, _⟩ => ⟨S_, .f32⟩
  | .hbm, ⟨47, _⟩ => ⟨S8x112, .f32⟩
  | .hbm, ⟨48, _⟩ => ⟨S8x4224, .f32⟩
  | .hbm, ⟨49, _⟩ => ⟨S_, .f32⟩
  | .hbm, ⟨50, _⟩ => ⟨S4112x8x32, .f32⟩
  | .hbm, ⟨51, _⟩ => ⟨S4112x8x128, .f32⟩
  | .hbm, ⟨52, _⟩ => ⟨S_, .f32⟩
  | .hbm, ⟨53, _⟩ => ⟨S112x8x128, .f32⟩
  | .hbm, ⟨54, _⟩ => ⟨S4224x8x128, .f32⟩
  | .hbm, ⟨55, _⟩ => ⟨S8x4224x128, .f32⟩
  | .hbm, ⟨56, _⟩ => ⟨S8x4224x128, .bf16⟩
  | .hbm, ⟨57, _⟩ => ⟨S_, .f32⟩
  | .hbm, ⟨58, _⟩ => ⟨S4112x8x32, .f32⟩
  | .hbm, ⟨59, _⟩ => ⟨S4112x8x128, .f32⟩
  | .hbm, ⟨60, _⟩ => ⟨S_, .f32⟩
  | .hbm, ⟨61, _⟩ => ⟨S112x8x128, .f32⟩
  | .hbm, ⟨62, _⟩ => ⟨S4224x8x128, .f32⟩
  | .hbm, ⟨63, _⟩ => ⟨S8x4224x128, .f32⟩
  | .hbm, ⟨64, _⟩ => ⟨S8x4224x128, .bf16⟩
  | .hbm, ⟨65, _⟩ => ⟨S4112x512, .f32⟩
  | .hbm, ⟨66, _⟩ => ⟨S_, .f32⟩
  | .hbm, ⟨67, _⟩ => ⟨S112x512, .f32⟩
  | .hbm, ⟨68, _⟩ => ⟨S4224x512, .f32⟩
  | .hbm, ⟨69, _⟩ => ⟨S4224x512, .bf16⟩
  | .hbm, ⟨70, _⟩ => ⟨S4112x512, .f32⟩
  | .hbm, ⟨71, _⟩ => ⟨S_, .f32⟩
  | .hbm, ⟨72, _⟩ => ⟨S112x512, .f32⟩
  | .hbm, ⟨73, _⟩ => ⟨S4224x512, .f32⟩
  | .hbm, ⟨74, _⟩ => ⟨S8x1x4224, .f32⟩
  | .hbm, ⟨75, _⟩ => ⟨S8x1x4224, .f32⟩
  | .hbm, ⟨76, _⟩ => ⟨S8x4224x128, .f32⟩
  | .hbm, ⟨77, _⟩ => ⟨S4224x512, .f32⟩
  | .local _ .vmem, ⟨0, _⟩ => ⟨S2x4224x128, .bf16⟩
  | .local _ .vmem, ⟨1, _⟩ => ⟨S2x4224x128, .bf16⟩
  | .local _ .vmem, ⟨2, _⟩ => ⟨S2x384x128, .bf16⟩
  | .local _ .vmem, ⟨3, _⟩ => ⟨S2x384x128, .bf16⟩
  | .local _ .vmem, ⟨4, _⟩ => ⟨S384x128, .bf16⟩
  | .local _ .vmem, ⟨5, _⟩ => ⟨S384x128, .bf16⟩
  | .local _ .vmem, ⟨6, _⟩ => ⟨S4224x128, .f32⟩
  | .local _ .vmem, ⟨7, _⟩ => ⟨S4224x128, .f32⟩
  | .local _ .vmem, ⟨8, _⟩ => ⟨S2x1x4224, .f32⟩
  | .local _ .vmem, ⟨9, _⟩ => ⟨S2x1x4224, .f32⟩
  | .local _ .vmem, ⟨10, _⟩ => ⟨S2x1x4224, .f32⟩
  | .local _ .vmem, ⟨11, _⟩ => ⟨S2x1x4224, .f32⟩
  | .local _ .vmem, ⟨12, _⟩ => ⟨S2x384x128, .f32⟩
  | .local _ .vmem, ⟨13, _⟩ => ⟨S2x384x128, .f32⟩
  | .local _ .vmem, ⟨14, _⟩ => ⟨S384x128, .f32⟩
  | .local _ .vmem, ⟨15, _⟩ => ⟨S384x128, .f32⟩
  | _, _ => ⟨S4112x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55_0 : Ref sig .tc := ⟨.hbm, 76, rfl⟩
abbrev main_v55_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c384_i32 : BitVec 32 := 384#32
  let v7 : BitVec 32 := Scalar.muli arg1 c384_i32
  v7
def k0_cond1 (i : grid0.Coords) : BitVec 1 :=
  let c11_i32 : BitVec 32 := 11#32
  let arg1 : BitVec 32 := BitVec.ofNat 32 (i 1).val
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v21 : BitVec 32 := Scalar.extui v20
  let c0_i32_10 : BitVec 32 := 0#32
  let v22 : BitVec 1 := Scalar.cmpi .ne v21 c0_i32_10
  v22

def k0_mult2 (i : grid0.Coords) : BitVec 32 :=
  let arg1 : BitVec 32 := BitVec.ofNat 32 (i 1).val
  let c384_i32 : BitVec 32 := 384#32
  let v7 : BitVec 32 := Scalar.muli arg1 c384_i32
  let v8 : BitVec 32 := v7
  v8
def k0_off1 (i : grid0.Coords) : Fin 2 → Nat :=
  let arg1 : BitVec 32 := BitVec.ofNat 32 (i 1).val
  let c384_i32 : BitVec 32 := 384#32
  let v7 : BitVec 32 := Scalar.muli arg1 c384_i32
  let v8 : BitVec 32 := v7
  let v68 : Index := Scalar.indexCast v8
  let c0_36 : Index := 0#32
  ![v68.toNat, 0]
def k0_off2 (i : grid0.Coords) : Fin 3 → Nat :=
  let c0_37 : Index := 0#32
  let arg1 : BitVec 32 := BitVec.ofNat 32 (i 1).val
  let c384_i32 : BitVec 32 := 384#32
  let v7 : BitVec 32 := Scalar.muli arg1 c384_i32
  let v8 : BitVec 32 := v7
  let v74 : Index := Scalar.indexCast v8
  let c0_38 : Index := 0#32
  ![0, v74.toNat, 0]
def k0_off3 (i : grid0.Coords) : Fin 3 → Nat :=
  let c0_44 : Index := 0#32
  let c0_45 : Index := 0#32
  let arg1 : BitVec 32 := BitVec.ofNat 32 (i 1).val
  let c384_i32 : BitVec 32 := 384#32
  let v7 : BitVec 32 := Scalar.muli arg1 c384_i32
  let v8 : BitVec 32 := v7
  let v67 : BitVec 32 := v8
  let v93 : Index := Scalar.indexCast v67
  ![0, 0, v93.toNat]
def k0_off4 (i : grid0.Coords) : Fin 3 → Nat :=
  let c1_52 : Index := 1#32
  let arg1 : BitVec 32 := BitVec.ofNat 32 (i 1).val
  let c384_i32 : BitVec 32 := 384#32
  let v7 : BitVec 32 := Scalar.muli arg1 c384_i32
  let v8 : BitVec 32 := v7
  let v114 : Index := Scalar.indexCast v8
  let c0_53 : Index := 0#32
  ![1, v114.toNat, 0]
def k0_off5 (i : grid0.Coords) : Fin 3 → Nat :=
  let c1_59 : Index := 1#32
  let c0_60 : Index := 0#32
  let arg1 : BitVec 32 := BitVec.ofNat 32 (i 1).val
  let c384_i32 : BitVec 32 := 384#32
  let v7 : BitVec 32 := Scalar.muli arg1 c384_i32
  let v8 : BitVec 32 := v7
  let v67 : BitVec 32 := v8
  let v133 : Index := Scalar.indexCast v67
  ![1, 0, v133.toNat]
def k0_mult3 (i : grid0.Coords) : BitVec 32 :=
  let arg1 : BitVec 32 := BitVec.ofNat 32 (i 1).val
  let c384_i32 : BitVec 32 := 384#32
  let v7 : BitVec 32 := Scalar.muli arg1 c384_i32
  let v8 : BitVec 32 := v7
  v8
def k0_off6 (i : grid0.Coords) : Fin 2 → Nat :=
  let arg1 : BitVec 32 := BitVec.ofNat 32 (i 1).val
  let c384_i32 : BitVec 32 := 384#32
  let v7 : BitVec 32 := Scalar.muli arg1 c384_i32
  let v8 : BitVec 32 := v7
  let v68 : Index := Scalar.indexCast v8
  let c0_36 : Index := 0#32
  ![v68.toNat, 0]
def k0_off7 (i : grid0.Coords) : Fin 3 → Nat :=
  let c0_37 : Index := 0#32
  let arg1 : BitVec 32 := BitVec.ofNat 32 (i 1).val
  let c384_i32 : BitVec 32 := 384#32
  let v7 : BitVec 32 := Scalar.muli arg1 c384_i32
  let v8 : BitVec 32 := v7
  let v74 : Index := Scalar.indexCast v8
  let c0_38 : Index := 0#32
  ![0, v74.toNat, 0]
def k0_off8 (i : grid0.Coords) : Fin 3 → Nat :=
  let c0_44 : Index := 0#32
  let c0_45 : Index := 0#32
  let arg1 : BitVec 32 := BitVec.ofNat 32 (i 1).val
  let c384_i32 : BitVec 32 := 384#32
  let v7 : BitVec 32 := Scalar.muli arg1 c384_i32
  let v8 : BitVec 32 := v7
  let v67 : BitVec 32 := v8
  let v93 : Index := Scalar.indexCast v67
  ![0, 0, v93.toNat]
def k0_off9 (i : grid0.Coords) : Fin 3 → Nat :=
  let c1_52 : Index := 1#32
  let arg1 : BitVec 32 := BitVec.ofNat 32 (i 1).val
  let c384_i32 : BitVec 32 := 384#32
  let v7 : BitVec 32 := Scalar.muli arg1 c384_i32
  let v8 : BitVec 32 := v7
  let v114 : Index := Scalar.indexCast v8
  let c0_53 : Index := 0#32
  ![1, v114.toNat, 0]
def k0_off10 (i : grid0.Coords) : Fin 3 → Nat :=
  let c1_59 : Index := 1#32
  let c0_60 : Index := 0#32
  let arg1 : BitVec 32 := BitVec.ofNat 32 (i 1).val
  let c384_i32 : BitVec 32 := 384#32
  let v7 : BitVec 32 := Scalar.muli arg1 c384_i32
  let v8 : BitVec 32 := v7
  let v67 : BitVec 32 := v8
  let v133 : Index := Scalar.indexCast v67
  ![1, 0, v133.toNat]
def k0_mult4 (i : grid0.Coords) : BitVec 32 :=
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  v27
@[reducible] def k0_t1_loop (i : grid0.Coords) : Scf.Loop 32 :=
  let c0_i32_22 : BitVec 32 := 0#32
  let c11_i32_13 : BitVec 32 := 11#32
  let arg1 : BitVec 32 := BitVec.ofNat 32 (i 1).val
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_24 : BitVec 32 := 1#32
  ⟨c0_i32_22, v52, c1_i32_24⟩
def k0_mult5 (i : grid0.Coords) (k0_t1 : Fin (k0_t1_loop i).trips) : BitVec 32 :=
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c1_i32_24 : BitVec 32 := 1#32
  let arg10 : BitVec 32 := Scf.iv c0_i32_22 c1_i32_24 k0_t1
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  v69
def k0_mult6 (i : grid0.Coords) (k0_t1 : Fin (k0_t1_loop i).trips) : BitVec 32 :=
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c1_i32_24 : BitVec 32 := 1#32
  let arg10 : BitVec 32 := Scf.iv c0_i32_22 c1_i32_24 k0_t1
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  v70
def k0_off11 (i : grid0.Coords) (k0_t1 : Fin (k0_t1_loop i).trips) : Fin 2 → Nat :=
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c1_i32_24 : BitVec 32 := 1#32
  let arg10 : BitVec 32 := Scf.iv c0_i32_22 c1_i32_24 k0_t1
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v72 : Index := Scalar.indexCast v70
  let c0_38 : Index := 0#32
  ![v72.toNat, 0]
def k0_off12 (i : grid0.Coords) (k0_t1 : Fin (k0_t1_loop i).trips) : Fin 3 → Nat :=
  let c0_39 : Index := 0#32
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c1_i32_24 : BitVec 32 := 1#32
  let arg10 : BitVec 32 := Scf.iv c0_i32_22 c1_i32_24 k0_t1
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v78 : Index := Scalar.indexCast v70
  let c0_40 : Index := 0#32
  ![0, v78.toNat, 0]
def k0_off13 (i : grid0.Coords) (k0_t1 : Fin (k0_t1_loop i).trips) : Fin 3 → Nat :=
  let c0_44 : Index := 0#32
  let c0_45 : Index := 0#32
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c1_i32_24 : BitVec 32 := 1#32
  let arg10 : BitVec 32 := Scf.iv c0_i32_22 c1_i32_24 k0_t1
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v71 : BitVec 32 := v70
  let v87 : Index := Scalar.indexCast v71
  ![0, 0, v87.toNat]
def k0_off14 (i : grid0.Coords) (k0_t1 : Fin (k0_t1_loop i).trips) : Fin 3 → Nat :=
  let c1_52 : Index := 1#32
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c1_i32_24 : BitVec 32 := 1#32
  let arg10 : BitVec 32 := Scf.iv c0_i32_22 c1_i32_24 k0_t1
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v108 : Index := Scalar.indexCast v70
  let c0_53 : Index := 0#32
  ![1, v108.toNat, 0]
def k0_off15 (i : grid0.Coords) (k0_t1 : Fin (k0_t1_loop i).trips) : Fin 3 → Nat :=
  let c1_57 : Index := 1#32
  let c0_58 : Index := 0#32
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c1_i32_24 : BitVec 32 := 1#32
  let arg10 : BitVec 32 := Scf.iv c0_i32_22 c1_i32_24 k0_t1
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v71 : BitVec 32 := v70
  let v117 : Index := Scalar.indexCast v71
  ![1, 0, v117.toNat]
@[reducible] def k0_t2_loop (i : grid0.Coords) : Scf.Loop 32 :=
  let c0_i32_22 : BitVec 32 := 0#32
  let c11_i32_13 : BitVec 32 := 11#32
  let arg1 : BitVec 32 := BitVec.ofNat 32 (i 1).val
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let v49 : BitVec 32 := Scalar.addi c0_i32_22 v48
  let c1_i32_25 : BitVec 32 := 1#32
  ⟨v52, v49, c1_i32_25⟩
def k0_mult7 (i : grid0.Coords) (k0_t2 : Fin (k0_t2_loop i).trips) : BitVec 32 :=
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c11_i32_13 : BitVec 32 := 11#32
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg10 : BitVec 32 := Scf.iv v52 c1_i32_25 k0_t2
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  v69
def k0_mult8 (i : grid0.Coords) (k0_t2 : Fin (k0_t2_loop i).trips) : BitVec 32 :=
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c11_i32_13 : BitVec 32 := 11#32
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg10 : BitVec 32 := Scf.iv v52 c1_i32_25 k0_t2
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  v70
def k0_off16 (i : grid0.Coords) (k0_t2 : Fin (k0_t2_loop i).trips) : Fin 2 → Nat :=
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c11_i32_13 : BitVec 32 := 11#32
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg10 : BitVec 32 := Scf.iv v52 c1_i32_25 k0_t2
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v72 : Index := Scalar.indexCast v70
  let c0_38 : Index := 0#32
  ![v72.toNat, 0]
def k0_off17 (i : grid0.Coords) (k0_t2 : Fin (k0_t2_loop i).trips) : Fin 3 → Nat :=
  let c0_39 : Index := 0#32
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c11_i32_13 : BitVec 32 := 11#32
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg10 : BitVec 32 := Scf.iv v52 c1_i32_25 k0_t2
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v78 : Index := Scalar.indexCast v70
  let c0_40 : Index := 0#32
  ![0, v78.toNat, 0]
def k0_off18 (i : grid0.Coords) (k0_t2 : Fin (k0_t2_loop i).trips) : Fin 3 → Nat :=
  let c0_44 : Index := 0#32
  let c0_45 : Index := 0#32
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c11_i32_13 : BitVec 32 := 11#32
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg10 : BitVec 32 := Scf.iv v52 c1_i32_25 k0_t2
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v71 : BitVec 32 := v70
  let v87 : Index := Scalar.indexCast v71
  ![0, 0, v87.toNat]
def k0_off19 (i : grid0.Coords) (k0_t2 : Fin (k0_t2_loop i).trips) : Fin 3 → Nat :=
  let c1_52 : Index := 1#32
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c11_i32_13 : BitVec 32 := 11#32
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg10 : BitVec 32 := Scf.iv v52 c1_i32_25 k0_t2
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v108 : Index := Scalar.indexCast v70
  let c0_53 : Index := 0#32
  ![1, v108.toNat, 0]
def k0_off20 (i : grid0.Coords) (k0_t2 : Fin (k0_t2_loop i).trips) : Fin 3 → Nat :=
  let c1_57 : Index := 1#32
  let c0_58 : Index := 0#32
  let arg1 : BitVec 32 := BitVec.ofNat 32 (i 1).val
  let c1_i32_11 : BitVec 32 := 1#32
  let v24 : BitVec 32 := Scalar.addi arg1 c1_i32_11
  let c11_i32 : BitVec 32 := 11#32
  let v9 : BitVec 32 := Scalar.subi c11_i32 arg1
  let c2_i32 : BitVec 32 := 2#32
  let c0_i32 : BitVec 32 := 0#32
  let v10 : BitVec 1 := Scalar.cmpi .eq c2_i32 c0_i32
  let c1_i32 : BitVec 32 := 1#32
  let v11 : BitVec 32 := Scalar.select v10 c1_i32 c2_i32
  let v12 : BitVec 32 := Scalar.remsi v9 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_9 : BitVec 32 := 0#32
  let v20 : BitVec 1 := Scalar.cmpi .eq v19 c0_i32_9
  let v25 : BitVec 32 := Scalar.extui v20
  let v26 : BitVec 32 := Scalar.addi v24 v25
  let c384_i32_12 : BitVec 32 := 384#32
  let v27 : BitVec 32 := Scalar.muli v26 c384_i32_12
  let v28 : BitVec 32 := v27
  let c0_i32_22 : BitVec 32 := 0#32
  let c11_i32_13 : BitVec 32 := 11#32
  let v29 : BitVec 32 := Scalar.subi c11_i32_13 arg1
  let c1_i32_14 : BitVec 32 := 1#32
  let v30 : BitVec 32 := Scalar.subi v29 c1_i32_14
  let c0_i32_16 : BitVec 32 := 0#32
  let v32 : BitVec 1 := Scalar.cmpi .sgt v30 c0_i32_16
  let v33 : BitVec 32 := Scalar.extui v32
  let c0_i32_17 : BitVec 32 := 0#32
  let v34 : BitVec 1 := Scalar.cmpi .slt v30 c0_i32_17
  let v35 : BitVec 32 := Scalar.extui v34
  let v36 : BitVec 32 := Scalar.subi v33 v35
  let c2_i32_15 : BitVec 32 := 2#32
  let c0_i32_18 : BitVec 32 := 0#32
  let v37 : BitVec 1 := Scalar.cmpi .sgt c2_i32_15 c0_i32_18
  let v38 : BitVec 32 := Scalar.extui v37
  let c0_i32_19 : BitVec 32 := 0#32
  let v39 : BitVec 1 := Scalar.cmpi .slt c2_i32_15 c0_i32_19
  let v40 : BitVec 32 := Scalar.extui v39
  let v41 : BitVec 32 := Scalar.subi v38 v40
  let v42 : BitVec 1 := Scalar.cmpi .ne v36 v41
  let v43 : BitVec 32 := Scalar.remsi v30 c2_i32_15
  let c0_i32_20 : BitVec 32 := 0#32
  let v44 : BitVec 1 := Scalar.cmpi .ne v43 c0_i32_20
  let v45 : BitVec 1 := Scalar.andi v42 v44
  let v31 : BitVec 32 := Scalar.divsi v30 c2_i32_15
  let c1_i32_21 : BitVec 32 := 1#32
  let v46 : BitVec 32 := Scalar.subi v31 c1_i32_21
  let v47 : BitVec 32 := Scalar.select v45 v46 v31
  let v48 : BitVec 32 := Scalar.subi v47 c0_i32_22
  let c1_i32_23 : BitVec 32 := 1#32
  let v50 : BitVec 32 := Scalar.divsi v48 c1_i32_23
  let v51 : BitVec 32 := Scalar.muli v50 c1_i32_23
  let v52 : BitVec 32 := Scalar.addi c0_i32_22 v51
  let c1_i32_25 : BitVec 32 := 1#32
  let arg10 : BitVec 32 := Scf.iv v52 c1_i32_25 k0_t2
  let c2_i32_36 : BitVec 32 := 2#32
  let v67 : BitVec 32 := Scalar.muli arg10 c2_i32_36
  let c384_i32_37 : BitVec 32 := 384#32
  let v68 : BitVec 32 := Scalar.muli v67 c384_i32_37
  let v69 : BitVec 32 := Scalar.addi v28 v68
  let v70 : BitVec 32 := v69
  let v71 : BitVec 32 := v70
  let v117 : Index := Scalar.indexCast v71
  ![1, 0, v117.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x4224x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x4224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1x4224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnKvKernelIdeal.lean ====
variable {F : FTy → Type} [FloatOps F] [Named F]
def κ : String → Option EReal := fun
  | "att_log2" => some (((3424635 / 33554432) * (Real.log 2)⁻¹ : ℝ) : EReal)
  | "masked" => some ⊥
  | _ => none
-- ==== AttnKvRefIdeal.lean ====
abbrev S4112x8x96 : Shape := ⟨3, ![4112, 8, 96]⟩
abbrev S4112x8x64 : Shape := ⟨3, ![4112, 8, 64]⟩
abbrev S8x4112x4112 : Shape := ⟨3, ![8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x4112 : Shape := ⟨2, ![8, 4112]⟩
abbrev S8x4112x1 : Shape := ⟨3, ![8, 4112, 1]⟩
abbrev S8x64x4112 : Shape := ⟨3, ![8, 64, 4112]⟩
abbrev S8x4112x96 : Shape := ⟨3, ![8, 4112, 96]⟩
abbrev S4112x8x32 : Shape := ⟨3, ![4112, 8, 32]⟩
abbrev S4112x8x128 : Shape := ⟨3, ![4112, 8, 128]⟩
abbrev S112x8x128 : Shape := ⟨3, ![112, 8, 128]⟩
abbrev S4224x8x128 : Shape := ⟨3, ![4224, 8, 128]⟩
abbrev S8x4224x128 : Shape := ⟨3, ![8, 4224, 128]⟩
abbrev S4112x512 : Shape := ⟨2, ![4112, 512]⟩
abbrev S112x512 : Shape := ⟨2, ![112, 512]⟩
abbrev S4224x512 : Shape := ⟨2, ![4224, 512]⟩

abbrev nBuf : Space → Nat
  | .hbm => 98
  | .vmem => 0
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x8x64, .f32⟩
  | .hbm, ⟨4, _⟩ => ⟨S8x4112x4112, .f32⟩
  | .hbm, ⟨5, _⟩ => ⟨S_, .f32⟩
  | .hbm, ⟨6, _⟩ => ⟨S8x4112x4112, .f32⟩
  | .hbm, ⟨7, _⟩ => ⟨S8x4112x4112, .f32⟩
  | .hbm, ⟨8, _⟩ => ⟨S4112, .i32⟩
  | .hbm, ⟨9, _⟩ => ⟨S1x4112, .i32⟩
  | .hbm, ⟨10, _⟩ => ⟨S4112x1, .i32⟩
  | .hbm, ⟨11, _⟩ => ⟨S4112x4112, .i32⟩
  | .hbm, ⟨12, _⟩ => ⟨S4112x4112, .i32⟩
  | .hbm, ⟨13, _⟩ => ⟨S4112x4112, .i1⟩
  | .hbm, ⟨14, _⟩ => ⟨S_, .f32⟩
  | .hbm, ⟨15, _⟩ => ⟨S_, .f32⟩
  | .hbm, ⟨16, _⟩ => ⟨S8x4112x4112, .i1⟩
  | .hbm, ⟨17, _⟩ => ⟨S8x4112x4112, .f32⟩
  | .hbm, ⟨18, _⟩ => ⟨S8x4112x4112, .f32⟩
  | .hbm, ⟨19, _⟩ => ⟨S_, .f32⟩
  | .hbm, ⟨20, _⟩ => ⟨S8x4112x4112, .f32⟩
  | .hbm, ⟨21, _⟩ => ⟨S_, .f32⟩
  | .hbm, ⟨22, _⟩ => ⟨S8x4112, .f32⟩
  | .hbm, ⟨23, _⟩ => ⟨S8x4112x1, .f32⟩
  | .hbm, ⟨24, _⟩ => ⟨S8x4112x4112, .f32⟩
  | .hbm, ⟨25, _⟩ => ⟨S8x4112x4112, .i1⟩
  | .hbm, ⟨26, _⟩ => ⟨S8x4112x4112, .f32⟩
  | .hbm, ⟨27, _⟩ => ⟨S_, .f32⟩
  | .hbm, ⟨28, _⟩ => ⟨S8x4112, .f32⟩
  | .hbm, ⟨29, _⟩ => ⟨S_, .f32⟩
  | .hbm, ⟨30, _⟩ => ⟨S8x4112, .f32⟩
  | .hbm, ⟨31, _⟩ => ⟨S8x4112, .f32⟩
  | .hbm, ⟨32, _⟩ => ⟨S_, .f32⟩
  | .hbm, ⟨33, _⟩ => ⟨S8x4112, .f32⟩
  | .hbm, ⟨34, _⟩ => ⟨S8x4112, .i1⟩
  | .hbm, ⟨35, _⟩ => ⟨S_, .f32⟩
  | .hbm, ⟨36, _⟩ => ⟨S8x4112, .f32⟩
  | .hbm, ⟨37, _⟩ => ⟨S8x4112, .i1⟩
  | .hbm, ⟨38, _⟩ => ⟨S_, .f32⟩
  | .hbm, ⟨39, _⟩ => ⟨S8x4112, .f32⟩
  | .hbm, ⟨40, _⟩ => ⟨S_, .f32⟩
  | .hbm, ⟨41, _⟩ => ⟨S8x4112, .f32⟩
  | .hbm, ⟨42, _⟩ => ⟨S_, .f32⟩
  | .hbm, ⟨43, _⟩ => ⟨S8x4112, .f32⟩
  | .hbm, ⟨44, _⟩ => ⟨S8x4112, .f32⟩
  | .hbm, ⟨45, _⟩ => ⟨S8x4112, .f32⟩
  | .hbm, ⟨46, _⟩ => ⟨S8x4112x1, .f32⟩
  | .hbm, ⟨47, _⟩ => ⟨S8x4112x4112, .f32⟩
  | .hbm, ⟨48, _⟩ => ⟨S8x4112x4112, .f32⟩
  | .hbm, ⟨49, _⟩ => ⟨S8x4112x4112, .f32⟩
  | .hbm, ⟨50, _⟩ => ⟨S_, .f32⟩
  | .hbm, ⟨51, _⟩ => ⟨S8x4112, .f32⟩
  | .hbm, ⟨52, _⟩ => ⟨S8x4112x1, .f32⟩
  | .hbm, ⟨53, _⟩ => ⟨S8x4112x4112, .f32⟩
  | .hbm, ⟨54, _⟩ => ⟨S8x4112x4112, .f32⟩
  | .hbm, ⟨55, _⟩ => ⟨S8x4112x1, .f32⟩
  | .hbm, ⟨56, _⟩ => ⟨S_, .f32⟩
  | .hbm, ⟨57, _⟩ => ⟨S8x4112x1, .f32⟩
  | .hbm, ⟨58, _⟩ => ⟨S8x4112x1, .f32⟩
  | .hbm, ⟨59, _⟩ => ⟨S8x64x4112, .f32⟩
  | .hbm, ⟨60, _⟩ => ⟨S4112x8x64, .f32⟩
  | .hbm, ⟨61, _⟩ => ⟨S8x64x4112, .f32⟩
  | .hbm, ⟨62, _⟩ => ⟨S8x4112x4112, .f32⟩
  | .hbm, ⟨63, _⟩ => ⟨S8x64x4112, .f32⟩
  | .hbm, ⟨64, _⟩ => ⟨S4112x8x64, .f32⟩
  | .hbm, ⟨65, _⟩ => ⟨S8x4112x4112, .f32⟩
  | .hbm, ⟨66, _⟩ => ⟨S8x4112x4112, .f32⟩
  | .hbm, ⟨67, _⟩ => ⟨S8x4112x4112, .f32⟩
  | .hbm, ⟨68, _⟩ => ⟨S_, .f32⟩
  | .hbm, ⟨69, _⟩ => ⟨S8x4112, .f32⟩
  | .hbm, ⟨70, _⟩ => ⟨S8x4112x1, .f32⟩
  | .hbm, ⟨71, _⟩ => ⟨S8x4112x1, .f32⟩
  | .hbm, ⟨72, _⟩ => ⟨S8x4112x4112, .f32⟩
  | .hbm, ⟨73, _⟩ => ⟨S8x4112x4112, .f32⟩
  | .hbm, ⟨74, _⟩ => ⟨S_, .f32⟩
  | .hbm, ⟨75, _⟩ => ⟨S8x4112, .f32⟩
  | .hbm, ⟨76, _⟩ => ⟨S8x4112x4112, .f32⟩
  | .hbm, ⟨77, _⟩ => ⟨S8x4112x4112, .f32⟩
  | .hbm, ⟨78, _⟩ => ⟨S8x4112x4112, .f32⟩
  | .hbm, ⟨79, _⟩ => ⟨S_, .f32⟩
  | .hbm, ⟨80, _⟩ => ⟨S8x4112x4112, .f32⟩
  | .hbm, ⟨81, _⟩ => ⟨S8x4112x4112, .f32⟩
  | .hbm, ⟨82, _⟩ => ⟨S_, .f32⟩
  | .hbm, ⟨83, _⟩ => ⟨S8x4112x4112, .f32⟩
  | .hbm, ⟨84, _⟩ => ⟨S8x4112x4112, .f32⟩
  | .hbm, ⟨85, _⟩ => ⟨S8x4112x96, .f32⟩
  | .hbm, ⟨86, _⟩ => ⟨S4112x8x96, .f32⟩
  | .hbm, ⟨87, _⟩ => ⟨S_, .f32⟩
  | .hbm, ⟨88, _⟩ => ⟨S4112x8x32, .f32⟩
  | .hbm, ⟨89, _⟩ => ⟨S4112x8x128, .f32⟩
  | .hbm, ⟨90, _⟩ => ⟨S_, .f32⟩
  | .hbm, ⟨91, _⟩ => ⟨S112x8x128, .f32⟩
  | .hbm, ⟨92, _⟩ => ⟨S4224x8x128, .f32⟩
  | .hbm, ⟨93, _⟩ => ⟨S8x4224x128, .f32⟩
  | .hbm, ⟨94, _⟩ => ⟨S4112x512, .f32⟩
  | .hbm, ⟨95, _⟩ => ⟨S_, .f32⟩
  | .hbm, ⟨96, _⟩ => ⟨S112x512, .f32⟩
  | .hbm, ⟨97, _⟩ => ⟨S4224x512, .f32⟩
  | _, _ => ⟨S4112x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== FfnUpKernel.lean ====
abbrev S4112x1024 : Shape := ⟨2, ![4112, 1024]⟩
abbrev S4112x2816 : Shape := ⟨2, ![4112, 2816]⟩
abbrev S1024 : Shape := ⟨1, ![1024]⟩
abbrev S1024x2816 : Shape := ⟨2, ![1024, 2816]⟩
abbrev S_ : Shape := ⟨0, ![]⟩
abbrev S112x1024 : Shape := ⟨2, ![112, 1024]⟩
abbrev S4224x1024 : Shape := ⟨2, ![4224, 1024]⟩
abbrev S112x2816 : Shape := ⟨2, ![112, 2816]⟩
abbrev S4224x2816 : Shape := ⟨2, ![4224, 2816]⟩
abbrev S1x1024 : Shape := ⟨2, ![1, 1024]⟩
abbrev S2816x1024 : Shape := ⟨2, ![2816, 1024]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩

abbrev nBuf : Space → Nat
  | .hbm => 29
  | .vmem => 16
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S4112x2816, .f32⟩
  | .hbm, ⟨3, _⟩ => ⟨S4112x2816, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S_, .f32⟩
  | .hbm, ⟨8, _⟩ => ⟨S112x1024, .f32⟩
  | .hbm, ⟨9, _⟩ => ⟨S4224x1024, .f32⟩
  | .hbm, ⟨10, _⟩ => ⟨S_, .f32⟩
  | .hbm, ⟨11, _⟩ => ⟨S112x1024, .f32⟩
  | .hbm, ⟨12, _⟩ => ⟨S4224x1024, .f32⟩
  | .hbm, ⟨13, _⟩ => ⟨S_, .f32⟩
  | .hbm, ⟨14, _⟩ => ⟨S112x2816, .f32⟩
  | .hbm, ⟨15, _⟩ => ⟨S4224x2816, .f32⟩
  | .hbm, ⟨16, _⟩ => ⟨S4224x2816, .bf16⟩
  | .hbm, ⟨17, _⟩ => ⟨S_, .f32⟩
  | .hbm, ⟨18, _⟩ => ⟨S112x2816, .f32⟩
  | .hbm, ⟨19, _⟩ => ⟨S4224x2816, .f32⟩
  | .hbm, ⟨20, _⟩ => ⟨S4224x2816, .bf16⟩
  | .hbm, ⟨21, _⟩ => ⟨S1x1024, .f32⟩
  | .hbm, ⟨22, _⟩ => ⟨S2816x1024, .f32⟩
  | .hbm, ⟨23, _⟩ => ⟨S2816x1024, .bf16⟩
  | .hbm, ⟨24, _⟩ => ⟨S2816x1024, .f32⟩
  | .hbm, ⟨25, _⟩ => ⟨S2816x1024, .bf16⟩
  | .hbm, ⟨26, _⟩ => ⟨S4224x1024, .f32⟩
  | .hbm, ⟨27, _⟩ => ⟨S4224x1024, .bf16⟩
  | .hbm, ⟨28, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x2816, .bf16⟩
  | .local _ .vmem, ⟨5, _⟩ => ⟨S384x2816, .bf16⟩
  | .local _ .vmem, ⟨6, _⟩ => ⟨S384x2816, .bf16⟩
  | .local _ .vmem, ⟨7, _⟩ => ⟨S384x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S384x1024, .f32⟩
  | .local _ .vmem, ⟨12, _⟩ => ⟨S384x1024, .f32⟩
  | .local _ .vmem, ⟨13, _⟩ => ⟨S384x1024, .bf16⟩
  | .local _ .vmem, ⟨14, _⟩ => ⟨S384x1024, .bf16⟩
  | .local _ .vmem, ⟨15, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_24 : BitVec 32 := 0#32
  let v50 : BitVec 1 := Scalar.cmpi .ne v49 c0_i32_24
  v50

def k0_cond2 (i : grid0.Coords) : BitVec 1 :=
  let arg0 : BitVec 32 := BitVec.ofNat 32 (i 0).val
  let c0_i32 : BitVec 32 := 0#32
  let v48 : BitVec 1 := Scalar.cmpi .eq arg0 c0_i32
  let v_true : BitVec 1 := 1#1
  let v51 : BitVec 1 := Scalar.xori v48 v_true
  let v52 : BitVec 32 := Scalar.extui v51
  let c0_i32_25 : BitVec 32 := 0#32
  let v53 : BitVec 1 := Scalar.cmpi .ne v52 c0_i32_25
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnUpRefIdeal.lean ====
abbrev S4112x1024 : Shape := ⟨2, ![4112, 1024]⟩
abbrev S4112x2816 : Shape := ⟨2, ![4112, 2816]⟩
abbrev S1024 : Shape := ⟨1, ![1024]⟩
abbrev S1024x2816 : Shape := ⟨2, ![1024, 2816]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S112x1024 : Shape := ⟨2, ![112, 1024]⟩
abbrev S4224x1024 : Shape := ⟨2, ![4224, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S4112x2816, .f32⟩
  | .hbm, ⟨3, _⟩ => ⟨S4112x2816, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S4112x2816, .f32⟩
  | .hbm, ⟨28, _⟩ => ⟨S4112x2816, .f32⟩
  | .hbm, ⟨29, _⟩ => ⟨S4112x1024, .f32⟩
  | .hbm, ⟨30, _⟩ => ⟨S4112x1024, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4112x1024, .f32⟩
  | .hbm, ⟨37, _⟩ => ⟨S4112x1024, .f32⟩
  | .hbm, ⟨38, _⟩ => ⟨S_, .f32⟩
  | .hbm, ⟨39, _⟩ => ⟨S1024, .f32⟩
  | .hbm, ⟨40, _⟩ => ⟨S4112x1024, .f32⟩
  | .hbm, ⟨41, _⟩ => ⟨S_, .f32⟩
  | .hbm, ⟨42, _⟩ => ⟨S4112, .f32⟩
  | .hbm, ⟨43, _⟩ => ⟨S4112x1, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S4112x1, .f32⟩
  | .hbm, ⟨48, _⟩ => ⟨S_, .f32⟩
  | .hbm, ⟨49, _⟩ => ⟨S4112x1, .f32⟩
  | .hbm, ⟨50, _⟩ => ⟨S4112x1, .f32⟩
  | .hbm, ⟨51, _⟩ => ⟨S_, .f32⟩
  | .hbm, ⟨52, _⟩ => ⟨S4112, .f32⟩
  | .hbm, ⟨53, _⟩ => ⟨S4112x1024, .f32⟩
  | .hbm, ⟨54, _⟩ => ⟨S4112x1024, .f32⟩
  | .hbm, ⟨55, _⟩ => ⟨S4112x1024, .f32⟩
  | .hbm, ⟨56, _⟩ => ⟨S4112x1024, .f32⟩
  | .hbm, ⟨57, _⟩ => ⟨S4112x1024, .f32⟩
  | .hbm, ⟨58, _⟩ => ⟨S_, .f32⟩
  | .hbm, ⟨59, _⟩ => ⟨S112x1024, .f32⟩
  | .hbm, ⟨60, _⟩ => ⟨S4224x1024, .f32⟩
  | .hbm, ⟨61, _⟩ => ⟨S4112x1024, .f32⟩
  | .hbm, ⟨62, _⟩ => ⟨S_, .f32⟩
  | .hbm, ⟨63, _⟩ => ⟨S4112, .f32⟩
  | .hbm, ⟨64, _⟩ => ⟨S4112x1, .f32⟩
  | .hbm, ⟨65, _⟩ => ⟨S_, .f32⟩
  | .hbm, ⟨66, _⟩ => ⟨S4112x1, .f32⟩
  | .hbm, ⟨67, _⟩ => ⟨S4112x1, .f32⟩
  | .hbm, ⟨68, _⟩ => ⟨S_, .f32⟩
  | .hbm, ⟨69, _⟩ => ⟨S4112x1, .f32⟩
  | .hbm, ⟨70, _⟩ => ⟨S4112x1, .f32⟩
  | .hbm, ⟨71, _⟩ => ⟨S4112x1, .f32⟩
  | .hbm, ⟨72, _⟩ => ⟨S4112x1024, .f32⟩
  | .hbm, ⟨73, _⟩ => ⟨S4112x1024, .f32⟩
  | .hbm, ⟨74, _⟩ => ⟨S1x1024, .f32⟩
  | .hbm, ⟨75, _⟩ => ⟨S4112x1024, .f32⟩
  | .hbm, ⟨76, _⟩ => ⟨S4112x1024, .f32⟩
  | .hbm, ⟨77, _⟩ => ⟨S_, .f32⟩
  | .hbm, ⟨78, _⟩ => ⟨S112x1024, .f32⟩
  | .hbm, ⟨79, _⟩ => ⟨S4224x1024, .f32⟩
  | .hbm, ⟨80, _⟩ => ⟨S4224x1024, .bf16⟩
  | .hbm, ⟨81, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]
-- ==== FfnDownKernel.lean ====
abbrev S4112x1024 : Shape := ⟨2, ![4112, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x2816 : Shape := ⟨2, ![4112, 2816]⟩
abbrev S112x1024 : Shape := ⟨2, ![112, 1024]⟩
abbrev S4224x1024 : Shape := ⟨2, ![4224, 1024]⟩
abbrev S112x2816 : Shape := ⟨2, ![112, 2816]⟩
abbrev S4224x2816 : Shape := ⟨2, ![4224, 2816]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S1408x1024 : Shape := ⟨2, ![1408, 1024]⟩
abbrev S384x1408 : Shape := ⟨2, ![384, 1408]⟩

abbrev nBuf : Space → Nat
  | .hbm => 57
  | .vmem => 19
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S1x1024, .f32⟩
  | .hbm, ⟨21, _⟩ => ⟨S4112x1024, .f32⟩
  | .hbm, ⟨22, _⟩ => ⟨S4112x1024, .f32⟩
  | .hbm, ⟨23, _⟩ => ⟨S4112x2816, .f32⟩
  | .hbm, ⟨24, _⟩ => ⟨S4112x2816, .f32⟩
  | .hbm, ⟨25, _⟩ => ⟨S4112x2816, .f32⟩
  | .hbm, ⟨26, _⟩ => ⟨S4112x2816, .f32⟩
  | .hbm, ⟨27, _⟩ => ⟨S_, .f32⟩
  | .hbm, ⟨28, _⟩ => ⟨S4112x2816, .f32⟩
  | .hbm, ⟨29, _⟩ => ⟨S4112x2816, .f32⟩
  | .hbm, ⟨30, _⟩ => ⟨S_, .f32⟩
  | .hbm, ⟨31, _⟩ => ⟨S4112x2816, .f32⟩
  | .hbm, ⟨32, _⟩ => ⟨S4112x2816, .f32⟩
  | .hbm, ⟨33, _⟩ => ⟨S4112x2816, .f32⟩
  | .hbm, ⟨34, _⟩ => ⟨S4112x2816, .f32⟩
  | .hbm, ⟨35, _⟩ => ⟨S4112x1024, .f32⟩
  | .hbm, ⟨36, _⟩ => ⟨S_, .f32⟩
  | .hbm, ⟨37, _⟩ => ⟨S112x1024, .f32⟩
  | .hbm, ⟨38, _⟩ => ⟨S4224x1024, .f32⟩
  | .hbm, ⟨39, _⟩ => ⟨S_, .f32⟩
  | .hbm, ⟨40, _⟩ => ⟨S112x2816, .f32⟩
  | .hbm, ⟨41, _⟩ => ⟨S4224x2816, .f32⟩
  | .hbm, ⟨42, _⟩ => ⟨S4224x2816, .bf16⟩
  | .hbm, ⟨43, _⟩ => ⟨S_, .f32⟩
  | .hbm, ⟨44, _⟩ => ⟨S112x2816, .f32⟩
  | .hbm, ⟨45, _⟩ => ⟨S4224x2816, .f32⟩
  | .hbm, ⟨46, _⟩ => ⟨S4224x2816, .bf16⟩
  | .hbm, ⟨47, _⟩ => ⟨S_, .f32⟩
  | .hbm, ⟨48, _⟩ => ⟨S112x1024, .f32⟩
  | .hbm, ⟨49, _⟩ => ⟨S4224x1024, .f32⟩
  | .hbm, ⟨50, _⟩ => ⟨S1x1024, .f32⟩
  | .hbm, ⟨51, _⟩ => ⟨S2816x1024, .bf16⟩
  | .hbm, ⟨52, _⟩ => ⟨S4224x2816, .bf16⟩
  | .hbm, ⟨53, _⟩ => ⟨S4224x2816, .bf16⟩
  | .hbm, ⟨54, _⟩ => ⟨S4224x2816, .bf16⟩
  | .hbm, ⟨55, _⟩ => ⟨S4224x1024, .bf16⟩
  | .hbm, ⟨56, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x2816, .bf16⟩
  | .local _ .vmem, ⟨3, _⟩ => ⟨S384x2816, .bf16⟩
  | .local _ .vmem, ⟨4, _⟩ => ⟨S384x2816, .bf16⟩
  | .local _ .vmem, ⟨5, _⟩ => ⟨S384x2816, .bf16⟩
  | .local _ .vmem, ⟨6, _⟩ => ⟨S384x1024, .f32⟩
  | .local _ .vmem, ⟨7, _⟩ => ⟨S384x1024, .f32⟩
  | .local _ .vmem, ⟨8, _⟩ => ⟨S1x1024, .f32⟩
  | .local _ .vmem, ⟨9, _⟩ => ⟨S2816x1024, .bf16⟩
  | .local _ .vmem, ⟨10, _⟩ => ⟨S384x2816, .bf16⟩
  | .local _ .vmem, ⟨11, _⟩ => ⟨S384x2816, .bf16⟩
  | .local _ .vmem, ⟨12, _⟩ => ⟨S384x2816, .bf16⟩
  | .local _ .vmem, ⟨13, _⟩ => ⟨S384x2816, .bf16⟩
  | .local _ .vmem, ⟨14, _⟩ => ⟨S384x2816, .bf16⟩
  | .local _ .vmem, ⟨15, _⟩ => ⟨S384x2816, .bf16⟩
  | .local _ .vmem, ⟨16, _⟩ => ⟨S384x1024, .bf16⟩
  | .local _ .vmem, ⟨17, _⟩ => ⟨S384x1024, .bf16⟩
  | .local _ .vmem, ⟨18, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30_0 : Ref sig .tc := ⟨.hbm, 52, rfl⟩
abbrev main_v30_1 : Ref sig .tc := ⟨.hbm, 53, rfl⟩
abbrev main_v30_2 : Ref sig .tc := ⟨.hbm, 54, rfl⟩
abbrev main_v30_3 : Ref sig .tc := ⟨.hbm, 55, rfl⟩
abbrev main_v30_4 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v97 : BitVec 1 := Scalar.cmpi .eq arg0 c0_i32
  let v98 : BitVec 32 := Scalar.extui v97
  let c0_i32_46 : BitVec 32 := 0#32
  let v99 : BitVec 1 := Scalar.cmpi .ne v98 c0_i32_46
  v99

def k0_cond2 (i : grid0.Coords) : BitVec 1 :=
  let arg0 : BitVec 32 := BitVec.ofNat 32 (i 0).val
  let c0_i32 : BitVec 32 := 0#32
  let v97 : BitVec 1 := Scalar.cmpi .eq arg0 c0_i32
  let v_true : BitVec 1 := 1#1
  let v100 : BitVec 1 := Scalar.xori v97 v_true
  let v101 : BitVec 32 := Scalar.extui v100
  let c0_i32_47 : BitVec 32 := 0#32
  let v102 : BitVec 1 := Scalar.cmpi .ne v101 c0_i32_47
  v102

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnDownRefIdeal.lean ====
abbrev S4112x1024 : Shape := ⟨2, ![4112, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x2816 : Shape := ⟨2, ![4112, 2816]⟩
abbrev S112x2816 : Shape := ⟨2, ![112, 2816]⟩
abbrev S4224x2816 : Shape := ⟨2, ![4224, 2816]⟩
abbrev S112x1024 : Shape := ⟨2, ![112, 1024]⟩
abbrev S4224x1024 : Shape := ⟨2, ![4224, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1024, .f32⟩
  | .hbm, ⟨19, _⟩ => ⟨S4112x1024, .f32⟩
  | .hbm, ⟨20, _⟩ => ⟨S1x1024, .f32⟩
  | .hbm, ⟨21, _⟩ => ⟨S4112x1024, .f32⟩
  | .hbm, ⟨22, _⟩ => ⟨S4112x1024, .f32⟩
  | .hbm, ⟨23, _⟩ => ⟨S4112x2816, .f32⟩
  | .hbm, ⟨24, _⟩ => ⟨S4112x2816, .f32⟩
  | .hbm, ⟨25, _⟩ => ⟨S4112x2816, .f32⟩
  | .hbm, ⟨26, _⟩ => ⟨S4112x2816, .f32⟩
  | .hbm, ⟨27, _⟩ => ⟨S_, .f32⟩
  | .hbm, ⟨28, _⟩ => ⟨S4112x2816, .f32⟩
  | .hbm, ⟨29, _⟩ => ⟨S4112x2816, .f32⟩
  | .hbm, ⟨30, _⟩ => ⟨S_, .f32⟩
  | .hbm, ⟨31, _⟩ => ⟨S4112x2816, .f32⟩
  | .hbm, ⟨32, _⟩ => ⟨S4112x2816, .f32⟩
  | .hbm, ⟨33, _⟩ => ⟨S_, .f32⟩
  | .hbm, ⟨34, _⟩ => ⟨S4112x2816, .f32⟩
  | .hbm, ⟨35, _⟩ => ⟨S4112x2816, .f32⟩
  | .hbm, ⟨36, _⟩ => ⟨S4112x2816, .f32⟩
  | .hbm, ⟨37, _⟩ => ⟨S4112x2816, .f32⟩
  | .hbm, ⟨38, _⟩ => ⟨S4112x2816, .f32⟩
  | .hbm, ⟨39, _⟩ => ⟨S4112x1024, .f32⟩
  | .hbm, ⟨40, _⟩ => ⟨S4112x1024, .f32⟩
  | .hbm, ⟨41, _⟩ => ⟨S_, .f32⟩
  | .hbm, ⟨42, _⟩ => ⟨S4112, .f32⟩
  | .hbm, ⟨43, _⟩ => ⟨S4112x1, .f32⟩
  | .hbm, ⟨44, _⟩ => ⟨S_, .f32⟩
  | .hbm, ⟨45, _⟩ => ⟨S4112x1, .f32⟩
  | .hbm, ⟨46, _⟩ => ⟨S4112x1, .f32⟩
  | .hbm, ⟨47, _⟩ => ⟨S_, .f32⟩
  | .hbm, ⟨48, _⟩ => ⟨S4112x1, .f32⟩
  | .hbm, ⟨49, _⟩ => ⟨S4112x1, .f32⟩
  | .hbm, ⟨50, _⟩ => ⟨S4112x1, .f32⟩
  | .hbm, ⟨51, _⟩ => ⟨S4112x1, .f32⟩
  | .hbm, ⟨52, _⟩ => ⟨S_, .f32⟩
  | .hbm, ⟨53, _⟩ => ⟨S4112x1, .f32⟩
  | .hbm, ⟨54, _⟩ => ⟨S4112x1, .f32⟩
  | .hbm, ⟨55, _⟩ => ⟨S4112x1024, .f32⟩
  | .hbm, ⟨56, _⟩ => ⟨S4112x1024, .f32⟩
  | .hbm, ⟨57, _⟩ => ⟨S1x1024, .f32⟩
  | .hbm, ⟨58, _⟩ => ⟨S4112x1024, .f32⟩
  | .hbm, ⟨59, _⟩ => ⟨S4112x1024, .f32⟩
  | .hbm, ⟨60, _⟩ => ⟨S_, .f32⟩
  | .hbm, ⟨61, _⟩ => ⟨S4112x1024, .f32⟩
  | .hbm, ⟨62, _⟩ => ⟨S4112x1024, .f32⟩
  | .hbm, ⟨63, _⟩ => ⟨S_, .f32⟩
  | .hbm, ⟨64, _⟩ => ⟨S4112x1024, .f32⟩
  | .hbm, ⟨65, _⟩ => ⟨S4112x1024, .f32⟩
  | .hbm, ⟨66, _⟩ => ⟨S4112x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4112x1024, .f32⟩
  | .hbm, ⟨71, _⟩ => ⟨S4112x1024, .f32⟩
  | .hbm, ⟨72, _⟩ => ⟨S_, .f32⟩
  | .hbm, ⟨73, _⟩ => ⟨S1024, .f32⟩
  | .hbm, ⟨74, _⟩ => ⟨S4112x1024, .f32⟩
  | .hbm, ⟨75, _⟩ => ⟨S_, .f32⟩
  | .hbm, ⟨76, _⟩ => ⟨S4112, .f32⟩
  | .hbm, ⟨77, _⟩ => ⟨S4112x1, .f32⟩
  | .hbm, ⟨78, _⟩ => ⟨S4112x1024, .f32⟩
  | .hbm, ⟨79, _⟩ => ⟨S4112x1024, .f32⟩
  | .hbm, ⟨80, _⟩ => ⟨S4112x1, .f32⟩
  | .hbm, ⟨81, _⟩ => ⟨S_, .f32⟩
  | .hbm, ⟨82, _⟩ => ⟨S4112x1, .f32⟩
  | .hbm, ⟨83, _⟩ => ⟨S4112x1, .f32⟩
  | .hbm, ⟨84, _⟩ => ⟨S_, .f32⟩
  | .hbm, ⟨85, _⟩ => ⟨S4112, .f32⟩
  | .hbm, ⟨86, _⟩ => ⟨S4112x1024, .f32⟩
  | .hbm, ⟨87, _⟩ => ⟨S4112x1024, .f32⟩
  | .hbm, ⟨88, _⟩ => ⟨S4112x1024, .f32⟩
  | .hbm, ⟨89, _⟩ => ⟨S4112x1024, .f32⟩
  | .hbm, ⟨90, _⟩ => ⟨S4112x1024, .f32⟩
  | .hbm, ⟨91, _⟩ => ⟨S4112x2816, .f32⟩
  | .hbm, ⟨92, _⟩ => ⟨S4112x2816, .f32⟩
  | .hbm, ⟨93, _⟩ => ⟨S4112x2816, .f32⟩
  | .hbm, ⟨94, _⟩ => ⟨S4112x2816, .f32⟩
  | .hbm, ⟨95, _⟩ => ⟨S4112x2816, .f32⟩
  | .hbm, ⟨96, _⟩ => ⟨S4112x2816, .f32⟩
  | .hbm, ⟨97, _⟩ => ⟨S4112x2816, .f32⟩
  | .hbm, ⟨98, _⟩ => ⟨S_, .f32⟩
  | .hbm, ⟨99, _⟩ => ⟨S112x2816, .f32⟩
  | .hbm, ⟨100, _⟩ => ⟨S4224x2816, .f32⟩
  | .hbm, ⟨101, _⟩ => ⟨S4224x2816, .bf16⟩
  | .hbm, ⟨102, _⟩ => ⟨S_, .f32⟩
  | .hbm, ⟨103, _⟩ => ⟨S112x2816, .f32⟩
  | .hbm, ⟨104, _⟩ => ⟨S4224x2816, .f32⟩
  | .hbm, ⟨105, _⟩ => ⟨S4224x2816, .bf16⟩
  | .hbm, ⟨106, _⟩ => ⟨S_, .f32⟩
  | .hbm, ⟨107, _⟩ => ⟨S112x2816, .f32⟩
  | .hbm, ⟨108, _⟩ => ⟨S4224x2816, .f32⟩
  | .hbm, ⟨109, _⟩ => ⟨S4224x2816, .bf16⟩
  | .hbm, ⟨110, _⟩ => ⟨S_, .f32⟩
  | .hbm, ⟨111, _⟩ => ⟨S112x1024, .f32⟩
  | .hbm, ⟨112, _⟩ => ⟨S4224x1024, .f32⟩
  | .hbm, ⟨113, _⟩ => ⟨S4224x1024, .bf16⟩
  | .hbm, ⟨114, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_v15_2 : Ref sig .tc := ⟨.hbm, 32, rfl⟩
abbrev main_call0_cst_1 : Ref sig .tc := ⟨.hbm, 33, rfl⟩
abbrev main_call0_v6 : Ref sig .tc := ⟨.hbm, 34, rfl⟩
abbrev main_call0_v7 : Ref sig .tc := ⟨.hbm, 35, rfl⟩
abbrev main_v15_1 : Ref sig .tc := ⟨.hbm, 36, rfl⟩
abbrev main_v15_0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_cst_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_14 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_15 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_16 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩

abbrev nD : Nat := 1
abbrev τ : Topo := Topo.v7x

variable {F : FTy → Type} [FloatOps F]
-- ==== MixInKernel.lean ====
abbrev S4112x1024 : Shape := ⟨2, ![4112, 1024]⟩
abbrev S4112x512 : Shape := ⟨2, ![4112, 512]⟩
abbrev S4112x384 : Shape := ⟨2, ![4112, 384]⟩
abbrev S4112x256 : Shape := ⟨2, ![4112, 256]⟩
abbrev S4112x32 : Shape := ⟨2, ![4112, 32]⟩
abbrev S1024 : Shape := ⟨1, ![1024]⟩
abbrev S1024x1696 : Shape := ⟨2, ![1024, 1696]⟩
abbrev S_ : Shape := ⟨0, ![]⟩
abbrev S4112x64 : Shape := ⟨2, ![4112, 64]⟩
abbrev S4112x128 : Shape := ⟨2, ![4112, 128]⟩
abbrev S112x512 : Shape := ⟨2, ![112, 512]⟩
abbrev S4224x512 : Shape := ⟨2, ![4224, 512]⟩
abbrev S112x384 : Shape := ⟨2, ![112, 384]⟩
abbrev S4224x384 : Shape := ⟨2, ![4224, 384]⟩
abbrev S112x256 : Shape := ⟨2, ![112, 256]⟩
abbrev S4224x256 : Shape := ⟨2, ![4224, 256]⟩
abbrev S112x128 : Shape := ⟨2, ![112, 128]⟩
abbrev S4224x128 : Shape := ⟨2, ![4224, 128]⟩
abbrev S112x1024 : Shape := ⟨2, ![112, 1024]⟩
abbrev S4224x1024 : Shape := ⟨2, ![4224, 1024]⟩
abbrev S1x1024 : Shape := ⟨2, ![1, 1024]⟩
abbrev S1024x1664 : Shape := ⟨2, ![1024, 1664]⟩
abbrev S1024x64 : Shape := ⟨2, ![1024, 64]⟩
abbrev S1024x32 : Shape := ⟨2, ![1024, 32]⟩
abbrev S1024x1792 : Shape := ⟨2, ![1024, 1792]⟩
abbrev S4224x1792 : Shape := ⟨2, ![4224, 1792]⟩
abbrev S384x1024 : Shape := ⟨2, ![384, 1024]⟩
abbrev S384x512 : Shape := ⟨2, ![384, 512]⟩
abbrev S384x384 : Shape := ⟨2, ![384, 384]⟩
abbrev S384x256 : Shape := ⟨2, ![384, 256]⟩
abbrev S384x128 : Shape := ⟨2, ![384, 128]⟩
abbrev S384x1792 : Shape := ⟨2, ![384, 1792]⟩
abbrev S384 : Shape := ⟨1, ![384]⟩
abbrev S384x1 : Shape := ⟨2, ![384, 1]⟩

abbrev nBuf : Space → Nat
  | .hbm => 48
  | .vmem => 23
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S4112x512, .f32⟩
  | .hbm, ⟨3, _⟩ => ⟨S4112x512, .f32⟩
  | .hbm, ⟨4, _⟩ => ⟨S4112x384, .f32⟩
  | .hbm, ⟨5, _⟩ => ⟨S4112x256, .f32⟩
  | .hbm, ⟨6, _⟩ => ⟨S4112x32, .f32⟩
  | .hbm, ⟨7, _⟩ => ⟨S1024, .f32⟩
  | .hbm, ⟨8, _⟩ => ⟨S1024x1696, .f32⟩
  | .hbm, ⟨9, _⟩ => ⟨S_, .f32⟩
  | .hbm, ⟨10, _⟩ => ⟨S4112x64, .f32⟩
  | .hbm, ⟨11, _⟩ => ⟨S_, .f32⟩
  | .hbm, ⟨12, _⟩ => ⟨S4112x32, .f32⟩
  | .hbm, ⟨13, _⟩ => ⟨S4112x128, .f32⟩
  | .hbm, ⟨14, _⟩ => ⟨S_, .f32⟩
  | .hbm, ⟨15, _⟩ => ⟨S112x512, .f32⟩
  | .hbm, ⟨16, _⟩ => ⟨S4224x512, .f32⟩
  | .hbm, ⟨17, _⟩ => ⟨S_, .f32⟩
  | .hbm, ⟨18, _⟩ => ⟨S112x512, .f32⟩
  | .hbm, ⟨19, _⟩ => ⟨S4224x512, .f32⟩
  | .hbm, ⟨20, _⟩ => ⟨S_, .f32⟩
  | .hbm, ⟨21, _⟩ => ⟨S112x384, .f32⟩
  | .hbm, ⟨22, _⟩ => ⟨S4224x384, .f32⟩
  | .hbm, ⟨23, _⟩ => ⟨S_, .f32⟩
  | .hbm, ⟨24, _⟩ => ⟨S112x256, .f32⟩
  | .hbm, ⟨25, _⟩ => ⟨S4224x256, .f32⟩
  | .hbm, ⟨26, _⟩ => ⟨S_, .f32⟩
  | .hbm, ⟨27, _⟩ => ⟨S112x128, .f32⟩
  | .hbm, ⟨28, _⟩ => ⟨S4224x128, .f32⟩
  | .hbm, ⟨29, _⟩ => ⟨S_, .f32⟩
  | .hbm, ⟨30, _⟩ => ⟨S112x1024, .f32⟩
  | .hbm, ⟨31, _⟩ => ⟨S4224x1024, .f32⟩
  | .hbm, ⟨32, _⟩ => ⟨S_, .f32⟩
  | .hbm, ⟨33, _⟩ => ⟨S112x1024, .f32⟩
  | .hbm, ⟨34, _⟩ => ⟨S4224x1024, .f32⟩
  | .hbm, ⟨35, _⟩ => ⟨S1x1024, .f32⟩
  | .hbm, ⟨36, _⟩ => ⟨S1024x1664, .f32⟩
  | .hbm, ⟨37, _⟩ => ⟨S_, .f32⟩
  | .hbm, ⟨38, _⟩ => ⟨S1024x64, .f32⟩
  | .hbm, ⟨39, _⟩ => ⟨S1024x32, .f32⟩
  | .hbm, ⟨40, _⟩ => ⟨S_, .f32⟩
  | .hbm, ⟨41, _⟩ => ⟨S1024x32, .f32⟩
  | .hbm, ⟨42, _⟩ => ⟨S1024x1792, .f32⟩
  | .hbm, ⟨43, _⟩ => ⟨S1024x1792, .bf16⟩
  | .hbm, ⟨44, _⟩ => ⟨S4224x1024, .f32⟩
  | .hbm, ⟨45, _⟩ => ⟨S4224x1792, .bf16⟩
  | .hbm, ⟨46, _⟩ => ⟨S4224x1024, .bf16⟩
  | .hbm, ⟨47, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x384, .f32⟩
  | .local _ .vmem, ⟨9, _⟩ => ⟨S384x384, .f32⟩
  | .local _ .vmem, ⟨10, _⟩ => ⟨S384x256, .f32⟩
  | .local _ .vmem, ⟨11, _⟩ => ⟨S384x256, .f32⟩
  | .local _ .vmem, ⟨12, _⟩ => ⟨S384x128, .f32⟩
  | .local _ .vmem, ⟨13, _⟩ => ⟨S384x128, .f32⟩
  | .local _ .vmem, ⟨14, _⟩ => ⟨S1x1024, .f32⟩
  | .local _ .vmem, ⟨15, _⟩ => ⟨S1024x1792, .bf16⟩
  | .local _ .vmem, ⟨16, _⟩ => ⟨S384x1024, .f32⟩
  | .local _ .vmem, ⟨17, _⟩ => ⟨S384x1024, .f32⟩
  | .local _ .vmem, ⟨18, _⟩ => ⟨S384x1792, .bf16⟩
  | .local _ .vmem, ⟨19, _⟩ => ⟨S384x1792, .bf16⟩
  | .local _ .vmem, ⟨20, _⟩ => ⟨S384x1024, .bf16⟩
  | .local _ .vmem, ⟨21, _⟩ => ⟨S384x1024, .bf16⟩
  | .local _ .vmem, ⟨22, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_v14 : Ref sig .tc := ⟨.hbm, 31, rfl⟩
abbrev main_cst_7 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_8 : Ref sig .tc := ⟨.hbm, 37, rfl⟩
abbrev main_v19 : Ref sig .tc := ⟨.hbm, 38, rfl⟩
abbrev main_v20 : Ref sig .tc := ⟨.hbm, 39, rfl⟩
abbrev main_cst_9 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v24_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_29 : BitVec 32 := 0#32
  let v55 : BitVec 1 := Scalar.cmpi .ne v54 c0_i32_29
  v55

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let v_true : BitVec 1 := 1#1
  let v56 : BitVec 1 := Scalar.xori v53 v_true
  let v57 : BitVec 32 := Scalar.extui v56
  let c0_i32_30 : BitVec 32 := 0#32
  let v58 : BitVec 1 := Scalar.cmpi .ne v57 c0_i32_30
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1792 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1792 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixInRefIdeal.lean ====
abbrev S4112x1024 : Shape := ⟨2, ![4112, 1024]⟩
abbrev S4112x512 : Shape := ⟨2, ![4112, 512]⟩
abbrev S4112x384 : Shape := ⟨2, ![4112, 384]⟩
abbrev S4112x256 : Shape := ⟨2, ![4112, 256]⟩
abbrev S4112x32 : Shape := ⟨2, ![4112, 32]⟩
abbrev S1024 : Shape := ⟨1, ![1024]⟩
abbrev S1024x1696 : Shape := ⟨2, ![1024, 1696]⟩
abbrev S4112x1696 : Shape := ⟨2, ![4112, 1696]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S112x1024 : Shape := ⟨2, ![112, 1024]⟩
abbrev S4224x1024 : Shape := ⟨2, ![4224, 1024]⟩
abbrev S4112x1664 : Shape := ⟨2, ![4112, 1664]⟩
abbrev S4112x64 : Shape := ⟨2, ![4112, 64]⟩
abbrev S4112x1792 : Shape := ⟨2, ![4112, 1792]⟩
abbrev S112x1792 : Shape := ⟨2, ![112, 1792]⟩
abbrev S4224x1792 : Shape := ⟨2, ![4224, 1792]⟩

abbrev nBuf : Space → Nat
  | .hbm => 93
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S4112x512, .f32⟩
  | .hbm, ⟨3, _⟩ => ⟨S4112x512, .f32⟩
  | .hbm, ⟨4, _⟩ => ⟨S4112x384, .f32⟩
  | .hbm, ⟨5, _⟩ => ⟨S4112x256, .f32⟩
  | .hbm, ⟨6, _⟩ => ⟨S4112x32, .f32⟩
  | .hbm, ⟨7, _⟩ => ⟨S1024, .f32⟩
  | .hbm, ⟨8, _⟩ => ⟨S1024x1696, .f32⟩
  | .hbm, ⟨9, _⟩ => ⟨S4112x1696, .f32⟩
  | .hbm, ⟨10, _⟩ => ⟨S4112x1024, .f32⟩
  | .hbm, ⟨11, _⟩ => ⟨S_, .f32⟩
  | .hbm, ⟨12, _⟩ => ⟨S4112, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S_, .f32⟩
  | .hbm, ⟨18, _⟩ => ⟨S4112x1, .f32⟩
  | .hbm, ⟨19, _⟩ => ⟨S4112x1, .f32⟩
  | .hbm, ⟨20, _⟩ => ⟨S4112x1, .f32⟩
  | .hbm, ⟨21, _⟩ => ⟨S4112x1, .f32⟩
  | .hbm, ⟨22, _⟩ => ⟨S_, .f32⟩
  | .hbm, ⟨23, _⟩ => ⟨S4112x1, .f32⟩
  | .hbm, ⟨24, _⟩ => ⟨S4112x1, .f32⟩
  | .hbm, ⟨25, _⟩ => ⟨S4112x1024, .f32⟩
  | .hbm, ⟨26, _⟩ => ⟨S4112x1024, .f32⟩
  | .hbm, ⟨27, _⟩ => ⟨S1x1024, .f32⟩
  | .hbm, ⟨28, _⟩ => ⟨S4112x1024, .f32⟩
  | .hbm, ⟨29, _⟩ => ⟨S4112x1024, .f32⟩
  | .hbm, ⟨30, _⟩ => ⟨S4112x1696, .f32⟩
  | .hbm, ⟨31, _⟩ => ⟨S4112x1024, .f32⟩
  | .hbm, ⟨32, _⟩ => ⟨S4112x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4112x1024, .f32⟩
  | .hbm, ⟨37, _⟩ => ⟨S4112x1024, .f32⟩
  | .hbm, ⟨38, _⟩ => ⟨S_, .f32⟩
  | .hbm, ⟨39, _⟩ => ⟨S1024, .f32⟩
  | .hbm, ⟨40, _⟩ => ⟨S4112x1024, .f32⟩
  | .hbm, ⟨41, _⟩ => ⟨S_, .f32⟩
  | .hbm, ⟨42, _⟩ => ⟨S4112, .f32⟩
  | .hbm, ⟨43, _⟩ => ⟨S4112x1, .f32⟩
  | .hbm, ⟨44, _⟩ => ⟨S4112x1024, .f32⟩
  | .hbm, ⟨45, _⟩ => ⟨S4112x1024, .f32⟩
  | .hbm, ⟨46, _⟩ => ⟨S4112x1024, .f32⟩
  | .hbm, ⟨47, _⟩ => ⟨S4112x1, .f32⟩
  | .hbm, ⟨48, _⟩ => ⟨S_, .f32⟩
  | .hbm, ⟨49, _⟩ => ⟨S4112x1, .f32⟩
  | .hbm, ⟨50, _⟩ => ⟨S4112x1, .f32⟩
  | .hbm, ⟨51, _⟩ => ⟨S_, .f32⟩
  | .hbm, ⟨52, _⟩ => ⟨S4112, .f32⟩
  | .hbm, ⟨53, _⟩ => ⟨S4112x1024, .f32⟩
  | .hbm, ⟨54, _⟩ => ⟨S4112x1024, .f32⟩
  | .hbm, ⟨55, _⟩ => ⟨S4112x1024, .f32⟩
  | .hbm, ⟨56, _⟩ => ⟨S4112x1024, .f32⟩
  | .hbm, ⟨57, _⟩ => ⟨S4112x1024, .f32⟩
  | .hbm, ⟨58, _⟩ => ⟨S_, .f32⟩
  | .hbm, ⟨59, _⟩ => ⟨S112x1024, .f32⟩
  | .hbm, ⟨60, _⟩ => ⟨S4224x1024, .f32⟩
  | .hbm, ⟨61, _⟩ => ⟨S4112x1664, .f32⟩
  | .hbm, ⟨62, _⟩ => ⟨S_, .f32⟩
  | .hbm, ⟨63, _⟩ => ⟨S4112x64, .f32⟩
  | .hbm, ⟨64, _⟩ => ⟨S4112x32, .f32⟩
  | .hbm, ⟨65, _⟩ => ⟨S_, .f32⟩
  | .hbm, ⟨66, _⟩ => ⟨S4112x32, .f32⟩
  | .hbm, ⟨67, _⟩ => ⟨S4112x1792, .f32⟩
  | .hbm, ⟨68, _⟩ => ⟨S_, .f32⟩
  | .hbm, ⟨69, _⟩ => ⟨S112x1792, .f32⟩
  | .hbm, ⟨70, _⟩ => ⟨S4224x1792, .f32⟩
  | .hbm, ⟨71, _⟩ => ⟨S4224x1792, .bf16⟩
  | .hbm, ⟨72, _⟩ => ⟨S4112x1024, .f32⟩
  | .hbm, ⟨73, _⟩ => ⟨S_, .f32⟩
  | .hbm, ⟨74, _⟩ => ⟨S4112, .f32⟩
  | .hbm, ⟨75, _⟩ => ⟨S4112x1, .f32⟩
  | .hbm, ⟨76, _⟩ => ⟨S_, .f32⟩
  | .hbm, ⟨77, _⟩ => ⟨S4112x1, .f32⟩
  | .hbm, ⟨78, _⟩ => ⟨S4112x1, .f32⟩
  | .hbm, ⟨79, _⟩ => ⟨S_, .f32⟩
  | .hbm, ⟨80, _⟩ => ⟨S4112x1, .f32⟩
  | .hbm, ⟨81, _⟩ => ⟨S4112x1, .f32⟩
  | .hbm, ⟨82, _⟩ => ⟨S4112x1, .f32⟩
  | .hbm, ⟨83, _⟩ => ⟨S4112x1024, .f32⟩
  | .hbm, ⟨84, _⟩ => ⟨S4112x1024, .f32⟩
  | .hbm, ⟨85, _⟩ => ⟨S1x1024, .f32⟩
  | .hbm, ⟨86, _⟩ => ⟨S4112x1024, .f32⟩
  | .hbm, ⟨87, _⟩ => ⟨S4112x1024, .f32⟩
  | .hbm, ⟨88, _⟩ => ⟨S_, .f32⟩
  | .hbm, ⟨89, _⟩ => ⟨S112x1024, .f32⟩
  | .hbm, ⟨90, _⟩ => ⟨S4224x1024, .f32⟩
  | .hbm, ⟨91, _⟩ => ⟨S4224x1024, .bf16⟩
  | .hbm, ⟨92, _⟩ => ⟨S1x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_15 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== MixOutKernel.lean ====
abbrev S4112x1024 : Shape := ⟨2, ![4112, 1024]⟩
abbrev S4112x512 : Shape := ⟨2, ![4112, 512]⟩
abbrev S512 : Shape := ⟨1, ![512]⟩
abbrev S1024 : Shape := ⟨1, ![1024]⟩
abbrev S1024x1024 : Shape := ⟨2, ![1024, 1024]⟩
abbrev S_ : Shape := ⟨0, ![]⟩
abbrev S4112 : Shape := ⟨1, ![4112]⟩
abbrev S4112x1 : Shape := ⟨2, ![4112, 1]⟩
abbrev S1x512 : Shape := ⟨2, ![1, 512]⟩
abbrev S112x1024 : Shape := ⟨2, ![112, 1024]⟩
abbrev S4224x1024 : Shape := ⟨2, ![4224, 1024]⟩
abbrev S112x512 : Shape := ⟨2, ![112, 512]⟩
abbrev S4224x512 : Shape := ⟨2, ![4224, 512]⟩
abbrev S1x1024 : Shape := ⟨2, ![1, 1024]⟩
abbrev S384x1024 : Shape := ⟨2, ![384, 1024]⟩
abbrev S384x512 : Shape := ⟨2, ![384, 512]⟩
abbrev S384 : Shape := ⟨1, ![384]⟩
abbrev S384x1 : Shape := ⟨2, ![384, 1]⟩

abbrev nBuf : Space → Nat
  | .hbm => 64
  | .vmem => 23
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S512, .f32⟩
  | .hbm, ⟨4, _⟩ => ⟨S512, .f32⟩
  | .hbm, ⟨5, _⟩ => ⟨S1024, .f32⟩
  | .hbm, ⟨6, _⟩ => ⟨S1024x1024, .f32⟩
  | .hbm, ⟨7, _⟩ => ⟨S4112x512, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x512, .f32⟩
  | .hbm, ⟨19, _⟩ => ⟨S4112x512, .f32⟩
  | .hbm, ⟨20, _⟩ => ⟨S1x512, .f32⟩
  | .hbm, ⟨21, _⟩ => ⟨S4112x512, .f32⟩
  | .hbm, ⟨22, _⟩ => ⟨S4112x512, .f32⟩
  | .hbm, ⟨23, _⟩ => ⟨S4112x512, .f32⟩
  | .hbm, ⟨24, _⟩ => ⟨S_, .f32⟩
  | .hbm, ⟨25, _⟩ => ⟨S4112, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S_, .f32⟩
  | .hbm, ⟨31, _⟩ => ⟨S4112x1, .f32⟩
  | .hbm, ⟨32, _⟩ => ⟨S4112x1, .f32⟩
  | .hbm, ⟨33, _⟩ => ⟨S4112x1, .f32⟩
  | .hbm, ⟨34, _⟩ => ⟨S4112x512, .f32⟩
  | .hbm, ⟨35, _⟩ => ⟨S4112x512, .f32⟩
  | .hbm, ⟨36, _⟩ => ⟨S1x512, .f32⟩
  | .hbm, ⟨37, _⟩ => ⟨S4112x512, .f32⟩
  | .hbm, ⟨38, _⟩ => ⟨S4112x512, .f32⟩
  | .hbm, ⟨39, _⟩ => ⟨S4112x1024, .f32⟩
  | .hbm, ⟨40, _⟩ => ⟨S4112x1024, .f32⟩
  | .hbm, ⟨41, _⟩ => ⟨S_, .f32⟩
  | .hbm, ⟨42, _⟩ => ⟨S112x1024, .f32⟩
  | .hbm, ⟨43, _⟩ => ⟨S4224x1024, .f32⟩
  | .hbm, ⟨44, _⟩ => ⟨S_, .f32⟩
  | .hbm, ⟨45, _⟩ => ⟨S112x1024, .f32⟩
  | .hbm, ⟨46, _⟩ => ⟨S4224x1024, .f32⟩
  | .hbm, ⟨47, _⟩ => ⟨S_, .f32⟩
  | .hbm, ⟨48, _⟩ => ⟨S112x512, .f32⟩
  | .hbm, ⟨49, _⟩ => ⟨S4224x512, .f32⟩
  | .hbm, ⟨50, _⟩ => ⟨S_, .f32⟩
  | .hbm, ⟨51, _⟩ => ⟨S112x512, .f32⟩
  | .hbm, ⟨52, _⟩ => ⟨S4224x512, .f32⟩
  | .hbm, ⟨53, _⟩ => ⟨S1x512, .f32⟩
  | .hbm, ⟨54, _⟩ => ⟨S1x512, .f32⟩
  | .hbm, ⟨55, _⟩ => ⟨S1x1024, .f32⟩
  | .hbm, ⟨56, _⟩ => ⟨S1024x1024, .bf16⟩
  | .hbm, ⟨57, _⟩ => ⟨S4224x512, .f32⟩
  | .hbm, ⟨58, _⟩ => ⟨S4224x512, .f32⟩
  | .hbm, ⟨59, _⟩ => ⟨S4224x1024, .bf16⟩
  | .hbm, ⟨60, _⟩ => ⟨S4224x1024, .bf16⟩
  | .hbm, ⟨61, _⟩ => ⟨S1x512, .f32⟩
  | .hbm, ⟨62, _⟩ => ⟨S1x512, .f32⟩
  | .hbm, ⟨63, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S1x512, .f32⟩
  | .local _ .vmem, ⟨9, _⟩ => ⟨S1x512, .f32⟩
  | .local _ .vmem, ⟨10, _⟩ => ⟨S1x1024, .f32⟩
  | .local _ .vmem, ⟨11, _⟩ => ⟨S1024x1024, .bf16⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S1x512, .f32⟩
  | .local _ .vmem, ⟨21, _⟩ => ⟨S1x512, .f32⟩
  | .local _ .vmem, ⟨22, _⟩ => ⟨S1x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_v40_3 : Ref sig .tc := ⟨.hbm, 60, rfl⟩
abbrev main_v40_4 : Ref sig .tc := ⟨.hbm, 61, rfl⟩
abbrev main_v40_5 : Ref sig .tc := ⟨.hbm, 62, rfl⟩
abbrev main_v40_6 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v107 : BitVec 32 := Scalar.extui v0
  let c0_i32_42 : BitVec 32 := 0#32
  let v108 : BitVec 1 := Scalar.cmpi .ne v107 c0_i32_42
  v108

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v109 : BitVec 1 := Scalar.xori v0 v_true
  let v110 : BitVec 32 := Scalar.extui v109
  let c0_i32_43 : BitVec 32 := 0#32
  let v111 : BitVec 1 := Scalar.cmpi .ne v110 c0_i32_43
  v111

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v112 : BitVec 32 := Scalar.extui v0
  let c0_i32_44 : BitVec 32 := 0#32
  let v113 : BitVec 1 := Scalar.cmpi .ne v112 c0_i32_44
  v113

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_45 : BitVec 1 := 1#1
  let v114 : BitVec 1 := Scalar.xori v0 true_45
  let v115 : BitVec 32 := Scalar.extui v114
  let c0_i32_46 : BitVec 32 := 0#32
  let v116 : BitVec 1 := Scalar.cmpi .ne v115 c0_i32_46
  v116

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v117 : BitVec 32 := Scalar.extui v0
  let c0_i32_47 : BitVec 32 := 0#32
  let v118 : BitVec 1 := Scalar.cmpi .ne v117 c0_i32_47
  v118

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_48 : BitVec 1 := 1#1
  let v119 : BitVec 1 := Scalar.xori v0 true_48
  let v120 : BitVec 32 := Scalar.extui v119
  let c0_i32_49 : BitVec 32 := 0#32
  let v121 : BitVec 1 := Scalar.cmpi .ne v120 c0_i32_49
  v121

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixOutRefIdeal.lean ====
abbrev S4112x1024 : Shape := ⟨2, ![4112, 1024]⟩
abbrev S4112x512 : Shape := ⟨2, ![4112, 512]⟩
abbrev S512 : Shape := ⟨1, ![512]⟩
abbrev S1024 : Shape := ⟨1, ![1024]⟩
abbrev S1024x1024 : Shape := ⟨2, ![1024, 1024]⟩
abbrev S_ : Shape := ⟨0, ![]⟩
abbrev S4112 : Shape := ⟨1, ![4112]⟩
abbrev S4112x1 : Shape := ⟨2, ![4112, 1]⟩
abbrev S1x512 : Shape := ⟨2, ![1, 512]⟩
abbrev S1x1024 : Shape := ⟨2, ![1, 1024]⟩
abbrev S112x512 : Shape := ⟨2, ![112, 512]⟩
abbrev S4224x512 : Shape := ⟨2, ![4224, 512]⟩
abbrev S112x1024 : Shape := ⟨2, ![112, 1024]⟩
abbrev S4224x1024 : Shape := ⟨2, ![4224, 1024]⟩

abbrev nBuf : Space → Nat
  | .hbm => 164
  | .vmem => 0
  | .smem => 0
  | _ => 0

abbrev hbmTy0_0 (i : Nat) : BufTy := match i % 128 with
  | 0 => ⟨S4112x1024, .f32⟩
  | 1 => ⟨S4112x512, .f32⟩
  | 2 => ⟨S4112x512, .f32⟩
  | 3 => ⟨S512, .f32⟩
  | 4 => ⟨S512, .f32⟩
  | 5 => ⟨S1024, .f32⟩
  | 6 => ⟨S1024x1024, .f32⟩
  | 7 => ⟨S4112x512, .f32⟩
  | 8 => ⟨S_, .f32⟩
  | 9 => ⟨S4112, .f32⟩
  | 10 => ⟨S4112x1, .f32⟩
  | 11 => ⟨S_, .f32⟩
  | 12 => ⟨S4112x1, .f32⟩
  | 13 => ⟨S4112x1, .f32⟩
  | 14 => ⟨S_, .f32⟩
  | 15 => ⟨S4112x1, .f32⟩
  | 16 => ⟨S4112x1, .f32⟩
  | 17 => ⟨S4112x1, .f32⟩
  | 18 => ⟨S4112x1, .f32⟩
  | 19 => ⟨S_, .f32⟩
  | 20 => ⟨S4112x1, .f32⟩
  | 21 => ⟨S4112x1, .f32⟩
  | 22 => ⟨S4112x512, .f32⟩
  | 23 => ⟨S4112x512, .f32⟩
  | 24 => ⟨S1x512, .f32⟩
  | 25 => ⟨S4112x512, .f32⟩
  | 26 => ⟨S4112x512, .f32⟩
  | 27 => ⟨S4112x512, .f32⟩
  | 28 => ⟨S_, .f32⟩
  | 29 => ⟨S4112, .f32⟩
  | 30 => ⟨S4112x1, .f32⟩
  | 31 => ⟨S_, .f32⟩
  | 32 => ⟨S4112x1, .f32⟩
  | 33 => ⟨S4112x1, .f32⟩
  | 34 => ⟨S_, .f32⟩
  | 35 => ⟨S4112x1, .f32⟩
  | 36 => ⟨S4112x1, .f32⟩
  | 37 => ⟨S4112x1, .f32⟩
  | 38 => ⟨S4112x1, .f32⟩
  | 39 => ⟨S_, .f32⟩
  | 40 => ⟨S4112x1, .f32⟩
  | 41 => ⟨S4112x1, .f32⟩
  | 42 => ⟨S4112x512, .f32⟩
  | 43 => ⟨S4112x512, .f32⟩
  | 44 => ⟨S1x512, .f32⟩
  | 45 => ⟨S4112x512, .f32⟩
  | 46 => ⟨S4112x512, .f32⟩
  | 47 => ⟨S4112x1024, .f32⟩
  | 48 => ⟨S4112x1024, .f32⟩
  | 49 => ⟨S4112x1024, .f32⟩
  | 50 => ⟨S_, .f32⟩
  | 51 => ⟨S4112, .f32⟩
  | 52 => ⟨S4112x1, .f32⟩
  | 53 => ⟨S_, .f32⟩
  | 54 => ⟨S4112x1, .f32⟩
  | 55 => ⟨S4112x1, .f32⟩
  | 56 => ⟨S_, .f32⟩
  | 57 => ⟨S4112x1, .f32⟩
  | 58 => ⟨S4112x1, .f32⟩
  | 59 => ⟨S4112x1, .f32⟩
  | 60 => ⟨S4112x1, .f32⟩
  | 61 => ⟨S_, .f32⟩
  | 62 => ⟨S4112x1, .f32⟩
  | 63 => ⟨S4112x1, .f32⟩
  | 64 => ⟨S4112x1024, .f32⟩
  | 65 => ⟨S4112x1024, .f32⟩
  | 66 => ⟨S1x1024, .f32⟩
  | 67 => ⟨S4112x1024, .f32⟩
  | 68 => ⟨S4112x1024, .f32⟩
  | 69 => ⟨S4112x1024, .f32⟩
  | 70 => ⟨S_, .f32⟩
  | 71 => ⟨S1024, .f32⟩
  | 72 => ⟨S1x1024, .f32⟩
  | 73 => ⟨S4112x1024, .f32⟩
  | 74 => ⟨S4112x1024, .f32⟩
  | 75 => ⟨S_, .f32⟩
  | 76 => ⟨S1024, .f32⟩
  | 77 => ⟨S4112x1024, .f32⟩
  | 78 => ⟨S_, .f32⟩
  | 79 => ⟨S4112, .f32⟩
  | 80 => ⟨S4112x1, .f32⟩
  | 81 => ⟨S4112x1024, .f32⟩
  | 82 => ⟨S4112x1024, .f32⟩
  | 83 => ⟨S4112x1, .f32⟩
  | 84 => ⟨S_, .f32⟩
  | 85 => ⟨S4112x1, .f32⟩
  | 86 => ⟨S4112x1, .f32⟩
  | 87 => ⟨S_, .f32⟩
  | 88 => ⟨S4112, .f32⟩
  | 89 => ⟨S4112x1024, .f32⟩
  | 90 => ⟨S4112x1024, .f32⟩
  | 91 => ⟨S4112x1024, .f32⟩
  | 92 => ⟨S4112x1024, .f32⟩
  | 93 => ⟨S4112x1024, .f32⟩
  | 94 => ⟨S4112x1024, .f32⟩
  | 95 => ⟨S4112x512, .f32⟩
  | 96 => ⟨S4112x512, .f32⟩
  | 97 => ⟨S4112x512, .f32⟩
  | 98 => ⟨S_, .f32⟩
  | 99 => ⟨S512, .f32⟩
  | 100 => ⟨S1x512, .f32⟩
  | 101 => ⟨S4112x512, .f32⟩
  | 102 => ⟨S4112x512, .f32⟩
  | 103 => ⟨S_, .f32⟩
  | 104 => ⟨S512, .f32⟩
  | 105 => ⟨S4112x512, .f32⟩
  | 106 => ⟨S_, .f32⟩
  | 107 => ⟨S4112, .f32⟩
  | 108 => ⟨S4112x1, .f32⟩
  | 109 => ⟨S4112x512, .f32⟩
  | 110 => ⟨S4112x512, .f32⟩
  | 111 => ⟨S4112x1, .f32⟩
  | 112 => ⟨S_, .f32⟩
  | 113 => ⟨S4112x1, .f32⟩
  | 114 => ⟨S4112x1, .f32⟩
  | 115 => ⟨S_, .f32⟩
  | 116 => ⟨S4112, .f32⟩
  | 117 => ⟨S4112x512, .f32⟩
  | 118 => ⟨S4112x512, .f32⟩
  | 119 => ⟨S4112x512, .f32⟩
  | 120 => ⟨S4112x512, .f32⟩
  | 121 => ⟨S4112x512, .f32⟩
  | 122 => ⟨S4112x512, .f32⟩
  | 123 => ⟨S_, .f32⟩
  | 124 => ⟨S512, .f32⟩
  | 125 => ⟨S1x512, .f32⟩
  | 126 => ⟨S4112x512, .f32⟩
  | 127 => ⟨S4112x512, .f32⟩
  | _ => ⟨S4112x1024, .f32⟩

abbrev hbmTy0_1 (i : Nat) : BufTy := match i % 128 with
  | 0 => ⟨S_, .f32⟩
  | 1 => ⟨S512, .f32⟩
  | 2 => ⟨S4112x512, .f32⟩
  | 3 => ⟨S_, .f32⟩
  | 4 => ⟨S4112, .f32⟩
  | 5 => ⟨S4112x1, .f32⟩
  | 6 => ⟨S4112x512, .f32⟩
  | 7 => ⟨S4112x512, .f32⟩
  | 8 => ⟨S4112x1, .f32⟩
  | 9 => ⟨S_, .f32⟩
  | 10 => ⟨S4112x1, .f32⟩
  | 11 => ⟨S4112x1, .f32⟩
  | 12 => ⟨S_, .f32⟩
  | 13 => ⟨S4112, .f32⟩
  | 14 => ⟨S4112x512, .f32⟩
  | 15 => ⟨S4112x512, .f32⟩
  | 16 => ⟨S4112x512, .f32⟩
  | 17 => ⟨S4112x512, .f32⟩
  | 18 => ⟨S4112x512, .f32⟩
  | 19 => ⟨S_, .f32⟩
  | 20 => ⟨S112x512, .f32⟩
  | 21 => ⟨S4224x512, .f32⟩
  | 22 => ⟨S_, .f32⟩
  | 23 => ⟨S112x512, .f32⟩
  | 24 => ⟨S4224x512, .f32⟩
  | 25 => ⟨S_, .f32⟩
  | 26 => ⟨S112x1024, .f32⟩
  | 27 => ⟨S4224x1024, .f32⟩
  | 28 => ⟨S4224x1024, .bf16⟩
  | 29 => ⟨S_, .f32⟩
  | 30 => ⟨S112x1024, .f32⟩
  | 31 => ⟨S4224x1024, .f32⟩
  | 32 => ⟨S4224x1024, .bf16⟩
  | 33 => ⟨S1x512, .f32⟩
  | 34 => ⟨S1x512, .f32⟩
  | 35 => ⟨S1x1024, .f32⟩
  | _ => ⟨S4112x1024, .f32⟩

abbrev hbmTy (i : Nat) : BufTy := match i / 128 with
  | 0 => hbmTy0_0 i
  | 1 => hbmTy0_1 i
  | _ => ⟨S4112x1024, .f32⟩

abbrev bufTy : (tb : Table) → Fin (tcTables nBuf tb) → BufTy
  | .hbm, ⟨i, _⟩ => hbmTy i
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_17 : Ref sig .tc := ⟨.hbm, 103, rfl⟩
abbrev main_v78 : Ref sig .tc := ⟨.hbm, 104, rfl⟩
abbrev main_v79 : Ref sig .tc := ⟨.hbm, 105, rfl⟩
abbrev main_cst_18 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_21 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_22 : Ref sig .tc := ⟨.hbm, 128, rfl⟩
abbrev main_v98 : Ref sig .tc := ⟨.hbm, 129, rfl⟩
abbrev main_v99 : Ref sig .tc := ⟨.hbm, 130, rfl⟩
abbrev main_cst_23 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_24 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_26 : Ref sig .tc := ⟨.hbm, 147, rfl⟩
abbrev main_v113 : Ref sig .tc := ⟨.hbm, 148, rfl⟩
abbrev main_v114 : Ref sig .tc := ⟨.hbm, 149, rfl⟩
abbrev main_cst_27 : Ref sig .tc := ⟨.hbm, 150, rfl⟩
abbrev main_v115 : Ref sig .tc := ⟨.hbm, 151, rfl⟩
abbrev main_v116 : Ref sig .tc := ⟨.hbm, 152, rfl⟩
abbrev main_cst_28 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_cst_29 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩

abbrev nD : Nat := 1
abbrev τ : Topo := Topo.v7x

variable {F : FTy → Type} [FloatOps F]
-- ==== MlaKernel.lean ====
abbrev S4112x8x96 : Shape := ⟨3, ![4112, 8, 96]⟩
abbrev S4112x8x64 : Shape := ⟨3, ![4112, 8, 64]⟩
abbrev S4112x384 : Shape := ⟨2, ![4112, 384]⟩
abbrev S4112x256 : Shape := ⟨2, ![4112, 256]⟩
abbrev S4112x16 : Shape := ⟨2, ![4112, 16]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S4112x8x32 : Shape := ⟨3, ![4112, 8, 32]⟩
abbrev S4112x8x128 : Shape := ⟨3, ![4112, 8, 128]⟩
abbrev S112x8x128 : Shape := ⟨3, ![112, 8, 128]⟩
abbrev S4224x8x128 : Shape := ⟨3, ![4224, 8, 128]⟩
abbrev S8x4224x128 : Shape := ⟨3, ![8, 4224, 128]⟩
abbrev S4112x512 : Shape := ⟨2, ![4112, 512]⟩
abbrev S112x512 : Shape := ⟨2, ![112, 512]⟩
abbrev S4224x512 : Shape := ⟨2, ![4224, 512]⟩
abbrev S112x384 : Shape := ⟨2, ![112, 384]⟩
abbrev S4224x384 : Shape := ⟨2, ![4224, 384]⟩
abbrev S112x256 : Shape := ⟨2, ![112, 256]⟩
abbrev S4224x256 : Shape := ⟨2, ![4224, 256]⟩
abbrev S1x384 : Shape := ⟨2, ![1, 384]⟩
abbrev S1x256 : Shape := ⟨2, ![1, 256]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S112x16 : Shape := ⟨2, ![112, 16]⟩
abbrev S4224x16 : Shape := ⟨2, ![4224, 16]⟩
abbrev S4224x64 : Shape := ⟨2, ![4224, 64]⟩
abbrev S4224x32 : Shape := ⟨2, ![4224, 32]⟩
abbrev S4224x128 : Shape := ⟨2, ![4224, 128]⟩
abbrev S4224x80 : Shape := ⟨2, ![4224, 80]⟩
abbrev S4224x48 : Shape := ⟨2, ![4224, 48]⟩
abbrev S4224x1024 : Shape := ⟨2, ![4224, 1024]⟩
abbrev S8x384x128 : Shape := ⟨3, ![8, 384, 128]⟩
abbrev S384x512 : Shape := ⟨2, ![384, 512]⟩
abbrev S384x384 : Shape := ⟨2, ![384, 384]⟩
abbrev S384x256 : Shape := ⟨2, ![384, 256]⟩
abbrev S384x128 : Shape := ⟨2, ![384, 128]⟩
abbrev S1x384x128 : Shape := ⟨3, ![1, 384, 128]⟩
abbrev S384x1 : Shape := ⟨2, ![384, 1]⟩

abbrev nBuf : Space → Nat
  | .hbm => 75
  | .vmem => 36
  | .smem => 0
  | _ => 0

abbrev bufTy : (tb : Table) → Fin (tcTables nBuf tb) → BufTy
  | .hbm, ⟨0, _⟩ => ⟨S4112x8x96, .f32⟩
  | .hbm, ⟨1, _⟩ => ⟨S4112x8x96, .f32⟩
  | .hbm, ⟨2, _⟩ => ⟨S4112x8x64, .f32⟩
  | .hbm, ⟨3, _⟩ => ⟨S4112x384, .f32⟩
  | .hbm, ⟨4, _⟩ => ⟨S4112x256, .f32⟩
  | .hbm, ⟨5, _⟩ => ⟨S4112x16, .f32⟩
  | .hbm, ⟨6, _⟩ => ⟨S4112x16, .f32⟩
  | .hbm, ⟨7, _⟩ => ⟨S384, .f32⟩
  | .hbm, ⟨8, _⟩ => ⟨S256, .f32⟩
  | .hbm, ⟨9, _⟩ => ⟨S384x768, .f32⟩
  | .hbm, ⟨10, _⟩ => ⟨S256x1024, .f32⟩
  | .hbm, ⟨11, _⟩ => ⟨S_, .f32⟩
  | .hbm, ⟨12, _⟩ => ⟨S4112x8x32, .f32⟩
  | .hbm, ⟨13, _⟩ => ⟨S4112x8x128, .f32⟩
  | .hbm, ⟨14, _⟩ => ⟨S_, .f32⟩
  | .hbm, ⟨15, _⟩ => ⟨S112x8x128, .f32⟩
  | .hbm, ⟨16, _⟩ => ⟨S4224x8x128, .f32⟩
  | .hbm, ⟨17, _⟩ => ⟨S8x4224x128, .f32⟩
  | .hbm, ⟨18, _⟩ => ⟨S_, .f32⟩
  | .hbm, ⟨19, _⟩ => ⟨S4112x8x32, .f32⟩
  | .hbm, ⟨20, _⟩ => ⟨S4112x8x128, .f32⟩
  | .hbm, ⟨21, _⟩ => ⟨S_, .f32⟩
  | .hbm, ⟨22, _⟩ => ⟨S112x8x128, .f32⟩
  | .hbm, ⟨23, _⟩ => ⟨S4224x8x128, .f32⟩
  | .hbm, ⟨24, _⟩ => ⟨S8x4224x128, .f32⟩
  | .hbm, ⟨25, _⟩ => ⟨S4112x512, .f32⟩
  | .hbm, ⟨26, _⟩ => ⟨S_, .f32⟩
  | .hbm, ⟨27, _⟩ => ⟨S112x512, .f32⟩
  | .hbm, ⟨28, _⟩ => ⟨S4224x512, .f32⟩
  | .hbm, ⟨29, _⟩ => ⟨S_, .f32⟩
  | .hbm, ⟨30, _⟩ => ⟨S112x384, .f32⟩
  | .hbm, ⟨31, _⟩ => ⟨S4224x384, .f32⟩
  | .hbm, ⟨32, _⟩ => ⟨S_, .f32⟩
  | .hbm, ⟨33, _⟩ => ⟨S112x256, .f32⟩
  | .hbm, ⟨34, _⟩ => ⟨S4224x256, .f32⟩
  | .hbm, ⟨35, _⟩ => ⟨S1x384, .f32⟩
  | .hbm, ⟨36, _⟩ => ⟨S1x256, .f32⟩
  | .hbm, ⟨37, _⟩ => ⟨S384x8x96, .f32⟩
  | .hbm, ⟨38, _⟩ => ⟨S_, .f32⟩
  | .hbm, ⟨39, _⟩ => ⟨S384x8x32, .f32⟩
  | .hbm, ⟨40, _⟩ => ⟨S384x8x128, .f32⟩
  | .hbm, ⟨41, _⟩ => ⟨S384x1024, .f32⟩
  | .hbm, ⟨42, _⟩ => ⟨S384x1024, .bf16⟩
  | .hbm, ⟨43, _⟩ => ⟨S256x1024, .bf16⟩
  | .hbm, ⟨44, _⟩ => ⟨S_, .f32⟩
  | .hbm, ⟨45, _⟩ => ⟨S112x16, .f32⟩
  | .hbm, ⟨46, _⟩ => ⟨S4224x16, .f32⟩
  | .hbm, ⟨47, _⟩ => ⟨S_, .f32⟩
  | .hbm, ⟨48, _⟩ => ⟨S112x16, .f32⟩
  | .hbm, ⟨49, _⟩ => ⟨S4224x16, .f32⟩
  | .hbm, ⟨50, _⟩ => ⟨S_, .f32⟩
  | .hbm, ⟨51, _⟩ => ⟨S4224x64, .f32⟩
  | .hbm, ⟨52, _⟩ => ⟨S_, .f32⟩
  | .hbm, ⟨53, _⟩ => ⟨S4224x32, .f32⟩
  | .hbm, ⟨54, _⟩ => ⟨S4224x128, .f32⟩
  | .hbm, ⟨55, _⟩ => ⟨S_, .f32⟩
  | .hbm, ⟨56, _⟩ => ⟨S4224x80, .f32⟩
  | .hbm, ⟨57, _⟩ => ⟨S_, .f32⟩
  | .hbm, ⟨58, _⟩ => ⟨S4224x32, .f32⟩
  | .hbm, ⟨59, _⟩ => ⟨S4224x128, .f32⟩
  | .hbm, ⟨60, _⟩ => ⟨S_, .f32⟩
  | .hbm, ⟨61, _⟩ => ⟨S4224x64, .f32⟩
  | .hbm, ⟨62, _⟩ => ⟨S4224x16, .f32⟩
  | .hbm, ⟨63, _⟩ => ⟨S_, .f32⟩
  | .hbm, ⟨64, _⟩ => ⟨S4224x48, .f32⟩
  | .hbm, ⟨65, _⟩ => ⟨S4224x128, .f32⟩
  | .hbm, ⟨66, _⟩ => ⟨S4224x384, .f32⟩
  | .hbm, ⟨67, _⟩ => ⟨S4224x256, .f32⟩
  | .hbm, ⟨68, _⟩ => ⟨S4224x128, .f32⟩
  | .hbm, ⟨69, _⟩ => ⟨S4224x1024, .bf16⟩
  | .hbm, ⟨70, _⟩ => ⟨S4224x1024, .bf16⟩
  | .hbm, ⟨71, _⟩ => ⟨S4224x384, .bf16⟩
  | .hbm, ⟨72, _⟩ => ⟨S4224x256, .bf16⟩
  | .hbm, ⟨73, _⟩ => ⟨S1x384, .f32⟩
  | .hbm, ⟨74, _⟩ => ⟨S1x256, .f32⟩
  | .local _ .vmem, ⟨0, _⟩ => ⟨S8x384x128, .f32⟩
  | .local _ .vmem, ⟨1, _⟩ => ⟨S8x384x128, .f32⟩
  | .local _ .vmem, ⟨2, _⟩ => ⟨S8x384x128, .f32⟩
  | .local _ .vmem, ⟨3, _⟩ => ⟨S8x384x128, .f32⟩
  | .local _ .vmem, ⟨4, _⟩ => ⟨S384x512, .f32⟩
  | .local _ .vmem, ⟨5, _⟩ => ⟨S384x512, .f32⟩
  | .local _ .vmem, ⟨6, _⟩ => ⟨S384x384, .f32⟩
  | .local _ .vmem, ⟨7, _⟩ => ⟨S384x384, .f32⟩
  | .local _ .vmem, ⟨8, _⟩ => ⟨S384x256, .f32⟩
  | .local _ .vmem, ⟨9, _⟩ => ⟨S384x256, .f32⟩
  | .local _ .vmem, ⟨10, _⟩ => ⟨S1x384, .f32⟩
  | .local _ .vmem, ⟨11, _⟩ => ⟨S1x256, .f32⟩
  | .local _ .vmem, ⟨12, _⟩ => ⟨S384x1024, .bf16⟩
  | .local _ .vmem, ⟨13, _⟩ => ⟨S256x1024, .bf16⟩
  | .local _ .vmem, ⟨14, _⟩ => ⟨S384x128, .f32⟩
  | .local _ .vmem, ⟨15, _⟩ => ⟨S384x128, .f32⟩
  | .local _ .vmem, ⟨16, _⟩ => ⟨S384x128, .f32⟩
  | .local _ .vmem, ⟨17, _⟩ => ⟨S384x128, .f32⟩
  | .local _ .vmem, ⟨18, _⟩ => ⟨S384x128, .f32⟩
  | .local _ .vmem, ⟨19, _⟩ => ⟨S384x128, .f32⟩
  | .local _ .vmem, ⟨20, _⟩ => ⟨S384x384, .f32⟩
  | .local _ .vmem, ⟨21, _⟩ => ⟨S384x384, .f32⟩
  | .local _ .vmem, ⟨22, _⟩ => ⟨S384x256, .f32⟩
  | .local _ .vmem, ⟨23, _⟩ => ⟨S384x256, .f32⟩
  | .local _ .vmem, ⟨24, _⟩ => ⟨S384x128, .f32⟩
  | .local _ .vmem, ⟨25, _⟩ => ⟨S384x128, .f32⟩
  | .local _ .vmem, ⟨26, _⟩ => ⟨S384x1024, .bf16⟩
  | .local _ .vmem, ⟨27, _⟩ => ⟨S384x1024, .bf16⟩
  | .local _ .vmem, ⟨28, _⟩ => ⟨S384x1024, .bf16⟩
  | .local _ .vmem, ⟨29, _⟩ => ⟨S384x1024, .bf16⟩
  | .local _ .vmem, ⟨30, _⟩ => ⟨S384x384, .bf16⟩
  | .local _ .vmem, ⟨31, _⟩ => ⟨S384x384, .bf16⟩
  | .local _ .vmem, ⟨32, _⟩ => ⟨S384x256, .bf16⟩
  | .local _ .vmem, ⟨33, _⟩ => ⟨S384x256, .bf16⟩
  | .local _ .vmem, ⟨34, _⟩ => ⟨S1x384, .f32⟩
  | .local _ .vmem, ⟨35, _⟩ => ⟨S1x256, .f32⟩
  | _, _ => ⟨S4112x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_cst_10 : Ref sig .tc := ⟨.hbm, 52, rfl⟩
abbrev main_v30 : Ref sig .tc := ⟨.hbm, 53, rfl⟩
abbrev main_v31 : Ref sig .tc := ⟨.hbm, 54, rfl⟩
abbrev main_cst_11 : Ref sig .tc := ⟨.hbm, 55, rfl⟩
abbrev main_v32 : Ref sig .tc := ⟨.hbm, 56, rfl⟩
abbrev main_cst_12 : Ref sig .tc := ⟨.hbm, 57, rfl⟩
abbrev main_v33 : Ref sig .tc := ⟨.hbm, 58, rfl⟩
abbrev main_v34 : Ref sig .tc := ⟨.hbm, 59, rfl⟩
abbrev main_cst_13 : Ref sig .tc := ⟨.hbm, 60, rfl⟩
abbrev main_v35 : Ref sig .tc := ⟨.hbm, 61, rfl⟩
abbrev main_v36 : Ref sig .tc := ⟨.hbm, 62, rfl⟩
abbrev main_cst_14 : Ref sig .tc := ⟨.hbm, 63, rfl⟩
abbrev main_v37 : Ref sig .tc := ⟨.hbm, 64, rfl⟩
abbrev main_v38 : Ref sig .tc := ⟨.hbm, 65, rfl⟩
abbrev main_v39_0 : Ref sig .tc := ⟨.hbm, 66, rfl⟩
abbrev main_v39_1 : Ref sig .tc := ⟨.hbm, 67, rfl⟩
abbrev main_v39_2 : Ref sig .tc := ⟨.hbm, 68, rfl⟩
abbrev main_v39_3 : Ref sig .tc := ⟨.hbm, 69, rfl⟩
abbrev main_v39_4 : Ref sig .tc := ⟨.hbm, 70, rfl⟩
abbrev main_v39_5 : Ref sig .tc := ⟨.hbm, 71, rfl⟩
abbrev main_v39_6 : Ref sig .tc := ⟨.hbm, 72, rfl⟩
abbrev main_v39_7 : Ref sig .tc := ⟨.hbm, 73, rfl⟩
abbrev main_v39_8 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v274 : BitVec 32 := Scalar.extui v0
  let c0_i32_156 : BitVec 32 := 0#32
  let v275 : BitVec 1 := Scalar.cmpi .ne v274 c0_i32_156
  v275

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v276 : BitVec 1 := Scalar.xori v0 v_true
  let v277 : BitVec 32 := Scalar.extui v276
  let c0_i32_157 : BitVec 32 := 0#32
  let v278 : BitVec 1 := Scalar.cmpi .ne v277 c0_i32_157
  v278

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v279 : BitVec 32 := Scalar.extui v0
  let c0_i32_158 : BitVec 32 := 0#32
  let v280 : BitVec 1 := Scalar.cmpi .ne v279 c0_i32_158
  v280

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_159 : BitVec 1 := 1#1
  let v281 : BitVec 1 := Scalar.xori v0 true_159
  let v282 : BitVec 32 := Scalar.extui v281
  let c0_i32_160 : BitVec 32 := 0#32
  let v283 : BitVec 1 := Scalar.cmpi .ne v282 c0_i32_160
  v283

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S384x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S384x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MlaRefIdeal.lean ====
abbrev S4112x8x96 : Shape := ⟨3, ![4112, 8, 96]⟩
abbrev S4112x8x64 : Shape := ⟨3, ![4112, 8, 64]⟩
abbrev S4112x384 : Shape := ⟨2, ![4112, 384]⟩
abbrev S4112x256 : Shape := ⟨2, ![4112, 256]⟩
abbrev S4112x16 : Shape := ⟨2, ![4112, 16]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S4112 : Shape := ⟨1, ![4112]⟩
abbrev S4112x1 : Shape := ⟨2, ![4112, 1]⟩
abbrev S1x384 : Shape := ⟨2, ![1, 384]⟩
abbrev S4112x768 : Shape := ⟨2, ![4112, 768]⟩
abbrev S4112x8x32 : Shape := ⟨3, ![4112, 8, 32]⟩
abbrev S4112x1x16 : Shape := ⟨3, ![4112, 1, 16]⟩
abbrev S4112x8x16 : Shape := ⟨3, ![4112, 8, 16]⟩
abbrev S1x256 : Shape := ⟨2, ![1, 256]⟩
abbrev S4112x1024 : Shape := ⟨2, ![4112, 1024]⟩
abbrev S4112x32 : Shape := ⟨2, ![4112, 32]⟩
abbrev S4112x8x128 : Shape := ⟨3, ![4112, 8, 128]⟩
abbrev S4112x1x32 : Shape := ⟨3, ![4112, 1, 32]⟩
abbrev S112x384 : Shape := ⟨2, ![112, 384]⟩
abbrev S4224x384 : Shape := ⟨2, ![4224, 384]⟩
abbrev S112x256 : Shape := ⟨2, ![112, 256]⟩
abbrev S4224x256 : Shape := ⟨2, ![4224, 256]⟩
abbrev S4112x64 : Shape := ⟨2, ![4112, 64]⟩
abbrev S4112x128 : Shape := ⟨2, ![4112, 128]⟩
abbrev S112x128 : Shape := ⟨2, ![112, 128]⟩
abbrev S4224x128 : Shape := ⟨2, ![4224, 128]⟩
abbrev S112x1024 : Shape := ⟨2, ![112, 1024]⟩
abbrev S4224x1024 : Shape := ⟨2, ![4224, 1024]⟩

abbrev nBuf : Space → Nat
  | .hbm => 215
  | .vmem => 0
  | .smem => 0
  | _ => 0

abbrev hbmTy0_0 (i : Nat) : BufTy := match i % 128 with
  | 0 => ⟨S4112x8x96, .f32⟩
  | 1 => ⟨S4112x8x96, .f32⟩
  | 2 => ⟨S4112x8x64, .f32⟩
  | 3 => ⟨S4112x384, .f32⟩
  | 4 => ⟨S4112x256, .f32⟩
  | 5 => ⟨S4112x16, .f32⟩
  | 6 => ⟨S4112x16, .f32⟩
  | 7 => ⟨S384, .f32⟩
  | 8 => ⟨S256, .f32⟩
  | 9 => ⟨S384x768, .f32⟩
  | 10 => ⟨S256x1024, .f32⟩
  | 11 => ⟨S4112x384, .f32⟩
  | 12 => ⟨S_, .f32⟩
  | 13 => ⟨S4112, .f32⟩
  | 14 => ⟨S4112x1, .f32⟩
  | 15 => ⟨S_, .f32⟩
  | 16 => ⟨S4112x1, .f32⟩
  | 17 => ⟨S4112x1, .f32⟩
  | 18 => ⟨S_, .f32⟩
  | 19 => ⟨S4112x1, .f32⟩
  | 20 => ⟨S4112x1, .f32⟩
  | 21 => ⟨S4112x1, .f32⟩
  | 22 => ⟨S4112x1, .f32⟩
  | 23 => ⟨S_, .f32⟩
  | 24 => ⟨S4112x1, .f32⟩
  | 25 => ⟨S4112x1, .f32⟩
  | 26 => ⟨S4112x384, .f32⟩
  | 27 => ⟨S4112x384, .f32⟩
  | 28 => ⟨S1x384, .f32⟩
  | 29 => ⟨S4112x384, .f32⟩
  | 30 => ⟨S4112x384, .f32⟩
  | 31 => ⟨S4112x768, .f32⟩
  | 32 => ⟨S4112x8x96, .f32⟩
  | 33 => ⟨S4112x8x64, .f32⟩
  | 34 => ⟨S4112x8x32, .f32⟩
  | 35 => ⟨S4112x1x16, .f32⟩
  | 36 => ⟨S4112x1x16, .f32⟩
  | 37 => ⟨S4112x8x16, .f32⟩
  | 38 => ⟨S4112x8x16, .f32⟩
  | 39 => ⟨S4112x8x16, .f32⟩
  | 40 => ⟨S4112x8x16, .f32⟩
  | 41 => ⟨S4112x8x16, .f32⟩
  | 42 => ⟨S4112x8x16, .f32⟩
  | 43 => ⟨S4112x8x16, .f32⟩
  | 44 => ⟨S4112x8x16, .f32⟩
  | 45 => ⟨S4112x8x16, .f32⟩
  | 46 => ⟨S4112x8x16, .f32⟩
  | 47 => ⟨S4112x8x16, .f32⟩
  | 48 => ⟨S4112x8x16, .f32⟩
  | 49 => ⟨S4112x8x32, .f32⟩
  | 50 => ⟨S4112x8x96, .f32⟩
  | 51 => ⟨S4112x256, .f32⟩
  | 52 => ⟨S_, .f32⟩
  | 53 => ⟨S4112, .f32⟩
  | 54 => ⟨S4112x1, .f32⟩
  | 55 => ⟨S_, .f32⟩
  | 56 => ⟨S4112x1, .f32⟩
  | 57 => ⟨S4112x1, .f32⟩
  | 58 => ⟨S_, .f32⟩
  | 59 => ⟨S4112x1, .f32⟩
  | 60 => ⟨S4112x1, .f32⟩
  | 61 => ⟨S4112x1, .f32⟩
  | 62 => ⟨S4112x1, .f32⟩
  | 63 => ⟨S_, .f32⟩
  | 64 => ⟨S4112x1, .f32⟩
  | 65 => ⟨S4112x1, .f32⟩
  | 66 => ⟨S4112x256, .f32⟩
  | 67 => ⟨S4112x256, .f32⟩
  | 68 => ⟨S1x256, .f32⟩
  | 69 => ⟨S4112x256, .f32⟩
  | 70 => ⟨S4112x256, .f32⟩
  | 71 => ⟨S4112x1024, .f32⟩
  | 72 => ⟨S_, .f32⟩
  | 73 => ⟨S4112x32, .f32⟩
  | 74 => ⟨S4112x8x128, .f32⟩
  | 75 => ⟨S4112x8x64, .f32⟩
  | 76 => ⟨S4112x8x64, .f32⟩
  | 77 => ⟨S4112x16, .f32⟩
  | 78 => ⟨S4112x16, .f32⟩
  | 79 => ⟨S4112x16, .f32⟩
  | 80 => ⟨S4112x16, .f32⟩
  | 81 => ⟨S4112x16, .f32⟩
  | 82 => ⟨S4112x16, .f32⟩
  | 83 => ⟨S4112x16, .f32⟩
  | 84 => ⟨S4112x16, .f32⟩
  | 85 => ⟨S4112x32, .f32⟩
  | 86 => ⟨S4112x1x32, .f32⟩
  | 87 => ⟨S4112x8x32, .f32⟩
  | 88 => ⟨S4112x8x96, .f32⟩
  | 89 => ⟨S4112x8x64, .f32⟩
  | 90 => ⟨S4112x8x32, .f32⟩
  | 91 => ⟨S4112x8x16, .f32⟩
  | 92 => ⟨S4112x8x16, .f32⟩
  | 93 => ⟨S4112x8x16, .f32⟩
  | 94 => ⟨S4112x8x16, .f32⟩
  | 95 => ⟨S4112x8x16, .f32⟩
  | 96 => ⟨S4112x8x16, .f32⟩
  | 97 => ⟨S4112x8x16, .f32⟩
  | 98 => ⟨S4112x8x16, .f32⟩
  | 99 => ⟨S4112x8x16, .f32⟩
  | 100 => ⟨S4112x8x16, .f32⟩
  | 101 => ⟨S4112x8x16, .f32⟩
  | 102 => ⟨S4112x8x16, .f32⟩
  | 103 => ⟨S4112x8x16, .f32⟩
  | 104 => ⟨S4112x8x32, .f32⟩
  | 105 => ⟨S4112x8x96, .f32⟩
  | 106 => ⟨S4112x768, .f32⟩
  | 107 => ⟨S4112x8x64, .f32⟩
  | 108 => ⟨S4112x8x32, .f32⟩
  | 109 => ⟨S_, .f32⟩
  | 110 => ⟨S4112x32, .f32⟩
  | 111 => ⟨S4112x1x32, .f32⟩
  | 112 => ⟨S_, .f32⟩
  | 113 => ⟨S4112x32, .f32⟩
  | 114 => ⟨S4112x16, .f32⟩
  | 115 => ⟨S4112x16, .f32⟩
  | 116 => ⟨S4112x16, .f32⟩
  | 117 => ⟨S4112x16, .f32⟩
  | 118 => ⟨S4112x16, .f32⟩
  | 119 => ⟨S4112x16, .f32⟩
  | 120 => ⟨S4112x16, .f32⟩
  | 121 => ⟨S4112x16, .f32⟩
  | 122 => ⟨S4112x16, .f32⟩
  | 123 => ⟨S4112x32, .f32⟩
  | 124 => ⟨S4112x8x128, .f32⟩
  | 125 => ⟨S4112x1024, .f32⟩
  | 126 => ⟨S4112x384, .f32⟩
  | 127 => ⟨S4112x384, .f32⟩
  | _ => ⟨S4112x8x96, .f32⟩

abbrev hbmTy0_1 (i : Nat) : BufTy := match i % 128 with
  | 0 => ⟨S_, .f32⟩
  | 1 => ⟨S384, .f32⟩
  | 2 => ⟨S1x384, .f32⟩
  | 3 => ⟨S4112x384, .f32⟩
  | 4 => ⟨S4112x384, .f32⟩
  | 5 => ⟨S_, .f32⟩
  | 6 => ⟨S384, .f32⟩
  | 7 => ⟨S4112x384, .f32⟩
  | 8 => ⟨S_, .f32⟩
  | 9 => ⟨S4112, .f32⟩
  | 10 => ⟨S4112x1, .f32⟩
  | 11 => ⟨S4112x384, .f32⟩
  | 12 => ⟨S4112x384, .f32⟩
  | 13 => ⟨S4112x1, .f32⟩
  | 14 => ⟨S_, .f32⟩
  | 15 => ⟨S4112x1, .f32⟩
  | 16 => ⟨S4112x1, .f32⟩
  | 17 => ⟨S_, .f32⟩
  | 18 => ⟨S4112, .f32⟩
  | 19 => ⟨S4112x384, .f32⟩
  | 20 => ⟨S4112x384, .f32⟩
  | 21 => ⟨S4112x384, .f32⟩
  | 22 => ⟨S4112x384, .f32⟩
  | 23 => ⟨S4112x384, .f32⟩
  | 24 => ⟨S4112x256, .f32⟩
  | 25 => ⟨S4112x256, .f32⟩
  | 26 => ⟨S_, .f32⟩
  | 27 => ⟨S256, .f32⟩
  | 28 => ⟨S1x256, .f32⟩
  | 29 => ⟨S4112x256, .f32⟩
  | 30 => ⟨S4112x256, .f32⟩
  | 31 => ⟨S_, .f32⟩
  | 32 => ⟨S256, .f32⟩
  | 33 => ⟨S4112x256, .f32⟩
  | 34 => ⟨S_, .f32⟩
  | 35 => ⟨S4112, .f32⟩
  | 36 => ⟨S4112x1, .f32⟩
  | 37 => ⟨S4112x256, .f32⟩
  | 38 => ⟨S4112x256, .f32⟩
  | 39 => ⟨S4112x1, .f32⟩
  | 40 => ⟨S_, .f32⟩
  | 41 => ⟨S4112x1, .f32⟩
  | 42 => ⟨S4112x1, .f32⟩
  | 43 => ⟨S_, .f32⟩
  | 44 => ⟨S4112, .f32⟩
  | 45 => ⟨S4112x256, .f32⟩
  | 46 => ⟨S4112x256, .f32⟩
  | 47 => ⟨S4112x256, .f32⟩
  | 48 => ⟨S4112x256, .f32⟩
  | 49 => ⟨S4112x256, .f32⟩
  | 50 => ⟨S_, .f32⟩
  | 51 => ⟨S112x384, .f32⟩
  | 52 => ⟨S4224x384, .f32⟩
  | 53 => ⟨S_, .f32⟩
  | 54 => ⟨S112x256, .f32⟩
  | 55 => ⟨S4224x256, .f32⟩
  | 56 => ⟨S_, .f32⟩
  | 57 => ⟨S4112x64, .f32⟩
  | 58 => ⟨S_, .f32⟩
  | 59 => ⟨S4112x32, .f32⟩
  | 60 => ⟨S4112x128, .f32⟩
  | 61 => ⟨S_, .f32⟩
  | 62 => ⟨S112x128, .f32⟩
  | 63 => ⟨S4224x128, .f32⟩
  | 64 => ⟨S4112x8x96, .f32⟩
  | 65 => ⟨S_, .f32⟩
  | 66 => ⟨S4112x8x32, .f32⟩
  | 67 => ⟨S4112x8x128, .f32⟩
  | 68 => ⟨S4112x1024, .f32⟩
  | 69 => ⟨S_, .f32⟩
  | 70 => ⟨S112x1024, .f32⟩
  | 71 => ⟨S4224x1024, .f32⟩
  | 72 => ⟨S4224x1024, .bf16⟩
  | 73 => ⟨S_, .f32⟩
  | 74 => ⟨S112x1024, .f32⟩
  | 75 => ⟨S4224x1024, .f32⟩
  | 76 => ⟨S4224x1024, .bf16⟩
  | 77 => ⟨S_, .f32⟩
  | 78 => ⟨S112x384, .f32⟩
  | 79 => ⟨S4224x384, .f32⟩
  | 80 => ⟨S4224x384, .bf16⟩
  | 81 => ⟨S_, .f32⟩
  | 82 => ⟨S112x256, .f32⟩
  | 83 => ⟨S4224x256, .f32⟩
  | 84 => ⟨S4224x256, .bf16⟩
  | 85 => ⟨S1x384, .f32⟩
  | 86 => ⟨S1x256, .f32⟩
  | _ => ⟨S4112x8x96, .f32⟩

abbrev hbmTy (i : Nat) : BufTy := match i / 128 with
  | 0 => hbmTy0_0 i
  | 1 => hbmTy0_1 i
  | _ => ⟨S4112x8x96, .f32⟩

abbrev bufTy : (tb : Table) → Fin (tcTables nBuf tb) → BufTy
  | .hbm, ⟨i, _⟩ => hbmTy i
  | _, _ => ⟨S4112x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_8 : Ref sig .tc := ⟨.hbm, 109, rfl⟩
abbrev main_v89 : Ref sig .tc := ⟨.hbm, 110, rfl⟩
abbrev main_v90 : Ref sig .tc := ⟨.hbm, 111, rfl⟩
abbrev main_cst_9 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_10 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_cst_11 : Ref sig .tc := ⟨.hbm, 133, rfl⟩
abbrev main_v110 : Ref sig .tc := ⟨.hbm, 134, rfl⟩
abbrev main_v111 : Ref sig .tc := ⟨.hbm, 135, rfl⟩
abbrev main_cst_12 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_13 : Ref sig .tc := ⟨.hbm, 142, rfl⟩
abbrev main_v117 : Ref sig .tc := ⟨.hbm, 143, rfl⟩
abbrev main_v118 : Ref sig .tc := ⟨.hbm, 144, rfl⟩
abbrev main_cst_14 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_15 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_cst_16 : Ref sig .tc := ⟨.hbm, 159, rfl⟩
abbrev main_v131 : Ref sig .tc := ⟨.hbm, 160, rfl⟩
abbrev main_v132 : Ref sig .tc := ⟨.hbm, 161, rfl⟩
abbrev main_cst_17 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_18 : Ref sig .tc := ⟨.hbm, 168, rfl⟩
abbrev main_v138 : Ref sig .tc := ⟨.hbm, 169, rfl⟩
abbrev main_v139 : Ref sig .tc := ⟨.hbm, 170, rfl⟩
abbrev main_cst_19 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_cst_20 : Ref sig .tc := ⟨.hbm, 178, rfl⟩
abbrev main_v146 : Ref sig .tc := ⟨.hbm, 179, rfl⟩
abbrev main_v147 : Ref sig .tc := ⟨.hbm, 180, rfl⟩
abbrev main_cst_21 : Ref sig .tc := ⟨.hbm, 181, rfl⟩
abbrev main_v148 : Ref sig .tc := ⟨.hbm, 182, rfl⟩
abbrev main_v149 : Ref sig .tc := ⟨.hbm, 183, rfl⟩
abbrev main_cst_22 : Ref sig .tc := ⟨.hbm, 184, rfl⟩
abbrev main_v150 : Ref sig .tc := ⟨.hbm, 185, rfl⟩
abbrev main_cst_23 : Ref sig .tc := ⟨.hbm, 186, rfl⟩
abbrev main_v151 : Ref sig .tc := ⟨.hbm, 187, rfl⟩
abbrev main_v152 : Ref sig .tc := ⟨.hbm, 188, rfl⟩
abbrev main_cst_24 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_25 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_cst_26 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_27 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_28 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_29 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩

abbrev nD : Nat := 1
abbrev τ : Topo := Topo.v7x

variable {F : FTy → Type} [FloatOps F]
-- ==== FfnFwdKernel.lean ====
abbrev S4112x1024 : Shape := ⟨2, ![4112, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S112x1024 : Shape := ⟨2, ![112, 1024]⟩
abbrev S4224x1024 : Shape := ⟨2, ![4224, 1024]⟩
abbrev S1x1024 : Shape := ⟨2, ![1, 1024]⟩
abbrev S4224x2816 : Shape := ⟨2, ![4224, 2816]⟩
abbrev S384x1024 : Shape := ⟨2, ![384, 1024]⟩
abbrev S384x2816 : Shape := ⟨2, ![384, 2816]⟩
abbrev S384 : Shape := ⟨1, ![384]⟩
abbrev S384x1 : Shape := ⟨2, ![384, 1]⟩
abbrev S1408x1024 : Shape := ⟨2, ![1408, 1024]⟩
abbrev S384x1408 : Shape := ⟨2, ![384, 1408]⟩

abbrev nBuf : Space → Nat
  | .hbm => 20
  | .vmem => 15
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S_, .f32⟩
  | .hbm, ⟨7, _⟩ => ⟨S112x1024, .f32⟩
  | .hbm, ⟨8, _⟩ => ⟨S4224x1024, .f32⟩
  | .hbm, ⟨9, _⟩ => ⟨S1x1024, .f32⟩
  | .hbm, ⟨10, _⟩ => ⟨S1x1024, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S2816x1024, .bf16⟩
  | .hbm, ⟨16, _⟩ => ⟨S4224x1024, .f32⟩
  | .hbm, ⟨17, _⟩ => ⟨S4224x2816, .bf16⟩
  | .hbm, ⟨18, _⟩ => ⟨S4224x2816, .bf16⟩
  | .hbm, ⟨19, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1x1024, .f32⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S384x1024, .f32⟩
  | .local _ .vmem, ⟨8, _⟩ => ⟨S384x1024, .f32⟩
  | .local _ .vmem, ⟨9, _⟩ => ⟨S384x2816, .bf16⟩
  | .local _ .vmem, ⟨10, _⟩ => ⟨S384x2816, .bf16⟩
  | .local _ .vmem, ⟨11, _⟩ => ⟨S384x2816, .bf16⟩
  | .local _ .vmem, ⟨12, _⟩ => ⟨S384x2816, .bf16⟩
  | .local _ .vmem, ⟨13, _⟩ => ⟨S384x1024, .f32⟩
  | .local _ .vmem, ⟨14, _⟩ => ⟨S384x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnFwdRefIdeal.lean ====
abbrev S4112x1024 : Shape := ⟨2, ![4112, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x2816 : Shape := ⟨2, ![4112, 2816]⟩
abbrev S112x1024 : Shape := ⟨2, ![112, 1024]⟩
abbrev S4224x1024 : Shape := ⟨2, ![4224, 1024]⟩
abbrev S112x2816 : Shape := ⟨2, ![112, 2816]⟩
abbrev S4224x2816 : Shape := ⟨2, ![4224, 2816]⟩

abbrev nBuf : Space → Nat
  | .hbm => 69
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4112x1024, .f32⟩
  | .hbm, ⟨7, _⟩ => ⟨S_, .f32⟩
  | .hbm, ⟨8, _⟩ => ⟨S4112, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S4112x1, .f32⟩
  | .hbm, ⟨17, _⟩ => ⟨S4112x1024, .f32⟩
  | .hbm, ⟨18, _⟩ => ⟨S4112x1024, .f32⟩
  | .hbm, ⟨19, _⟩ => ⟨S1x1024, .f32⟩
  | .hbm, ⟨20, _⟩ => ⟨S4112x1024, .f32⟩
  | .hbm, ⟨21, _⟩ => ⟨S4112x1024, .f32⟩
  | .hbm, ⟨22, _⟩ => ⟨S4112x2816, .f32⟩
  | .hbm, ⟨23, _⟩ => ⟨S4112x2816, .f32⟩
  | .hbm, ⟨24, _⟩ => ⟨S4112x2816, .f32⟩
  | .hbm, ⟨25, _⟩ => ⟨S4112x2816, .f32⟩
  | .hbm, ⟨26, _⟩ => ⟨S_, .f32⟩
  | .hbm, ⟨27, _⟩ => ⟨S4112x2816, .f32⟩
  | .hbm, ⟨28, _⟩ => ⟨S4112x2816, .f32⟩
  | .hbm, ⟨29, _⟩ => ⟨S_, .f32⟩
  | .hbm, ⟨30, _⟩ => ⟨S4112x2816, .f32⟩
  | .hbm, ⟨31, _⟩ => ⟨S4112x2816, .f32⟩
  | .hbm, ⟨32, _⟩ => ⟨S4112x2816, .f32⟩
  | .hbm, ⟨33, _⟩ => ⟨S4112x2816, .f32⟩
  | .hbm, ⟨34, _⟩ => ⟨S4112x1024, .f32⟩
  | .hbm, ⟨35, _⟩ => ⟨S4112x1024, .f32⟩
  | .hbm, ⟨36, _⟩ => ⟨S_, .f32⟩
  | .hbm, ⟨37, _⟩ => ⟨S4112, .f32⟩
  | .hbm, ⟨38, _⟩ => ⟨S4112x1, .f32⟩
  | .hbm, ⟨39, _⟩ => ⟨S_, .f32⟩
  | .hbm, ⟨40, _⟩ => ⟨S4112x1, .f32⟩
  | .hbm, ⟨41, _⟩ => ⟨S4112x1, .f32⟩
  | .hbm, ⟨42, _⟩ => ⟨S_, .f32⟩
  | .hbm, ⟨43, _⟩ => ⟨S4112x1, .f32⟩
  | .hbm, ⟨44, _⟩ => ⟨S4112x1, .f32⟩
  | .hbm, ⟨45, _⟩ => ⟨S4112x1, .f32⟩
  | .hbm, ⟨46, _⟩ => ⟨S4112x1024, .f32⟩
  | .hbm, ⟨47, _⟩ => ⟨S4112x1024, .f32⟩
  | .hbm, ⟨48, _⟩ => ⟨S1x1024, .f32⟩
  | .hbm, ⟨49, _⟩ => ⟨S4112x1024, .f32⟩
  | .hbm, ⟨50, _⟩ => ⟨S4112x1024, .f32⟩
  | .hbm, ⟨51, _⟩ => ⟨S_, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S_, .f32⟩
  | .hbm, ⟨56, _⟩ => ⟨S112x1024, .f32⟩
  | .hbm, ⟨57, _⟩ => ⟨S4224x1024, .f32⟩
  | .hbm, ⟨58, _⟩ => ⟨S_, .f32⟩
  | .hbm, ⟨59, _⟩ => ⟨S112x2816, .f32⟩
  | .hbm, ⟨60, _⟩ => ⟨S4224x2816, .f32⟩
  | .hbm, ⟨61, _⟩ => ⟨S4224x2816, .bf16⟩
  | .hbm, ⟨62, _⟩ => ⟨S_, .f32⟩
  | .hbm, ⟨63, _⟩ => ⟨S112x2816, .f32⟩
  | .hbm, ⟨64, _⟩ => ⟨S4224x2816, .f32⟩
  | .hbm, ⟨65, _⟩ => ⟨S4224x2816, .bf16⟩
  | .hbm, ⟨66, _⟩ => ⟨S_, .f32⟩
  | .hbm, ⟨67, _⟩ => ⟨S112x1024, .f32⟩
  | .hbm, ⟨68, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== MixInFwdKernel.lean ====
abbrev S4112x1024 : Shape := ⟨2, ![4112, 1024]⟩
abbrev S1024 : Shape := ⟨1, ![1024]⟩
abbrev S1024x1696 : Shape := ⟨2, ![1024, 1696]⟩
abbrev S_ : Shape := ⟨0, ![]⟩
abbrev S112x1024 : Shape := ⟨2, ![112, 1024]⟩
abbrev S4224x1024 : Shape := ⟨2, ![4224, 1024]⟩
abbrev S1x1024 : Shape := ⟨2, ![1, 1024]⟩
abbrev S1024x1664 : Shape := ⟨2, ![1024, 1664]⟩
abbrev S1024x64 : Shape := ⟨2, ![1024, 64]⟩
abbrev S1024x32 : Shape := ⟨2, ![1024, 32]⟩
abbrev S1024x1792 : Shape := ⟨2, ![1024, 1792]⟩
abbrev S4224x512 : Shape := ⟨2, ![4224, 512]⟩
abbrev S4224x384 : Shape := ⟨2, ![4224, 384]⟩
abbrev S4224x256 : Shape := ⟨2, ![4224, 256]⟩
abbrev S4224x128 : Shape := ⟨2, ![4224, 128]⟩
abbrev S384x1024 : Shape := ⟨2, ![384, 1024]⟩
abbrev S384x512 : Shape := ⟨2, ![384, 512]⟩
abbrev S384x384 : Shape := ⟨2, ![384, 384]⟩
abbrev S384x256 : Shape := ⟨2, ![384, 256]⟩
abbrev S384x128 : Shape := ⟨2, ![384, 128]⟩
abbrev S384 : Shape := ⟨1, ![384]⟩
abbrev S384x1 : Shape := ⟨2, ![384, 1]⟩
abbrev S384x1792 : Shape := ⟨2, ![384, 1792]⟩

abbrev nBuf : Space → Nat
  | .hbm => 20
  | .vmem => 14
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x1696, .f32⟩
  | .hbm, ⟨3, _⟩ => ⟨S_, .f32⟩
  | .hbm, ⟨4, _⟩ => ⟨S112x1024, .f32⟩
  | .hbm, ⟨5, _⟩ => ⟨S4224x1024, .f32⟩
  | .hbm, ⟨6, _⟩ => ⟨S1x1024, .f32⟩
  | .hbm, ⟨7, _⟩ => ⟨S1024x1664, .f32⟩
  | .hbm, ⟨8, _⟩ => ⟨S_, .f32⟩
  | .hbm, ⟨9, _⟩ => ⟨S1024x64, .f32⟩
  | .hbm, ⟨10, _⟩ => ⟨S1024x32, .f32⟩
  | .hbm, ⟨11, _⟩ => ⟨S_, .f32⟩
  | .hbm, ⟨12, _⟩ => ⟨S1024x32, .f32⟩
  | .hbm, ⟨13, _⟩ => ⟨S1024x1792, .f32⟩
  | .hbm, ⟨14, _⟩ => ⟨S1024x1792, .bf16⟩
  | .hbm, ⟨15, _⟩ => ⟨S4224x512, .f32⟩
  | .hbm, ⟨16, _⟩ => ⟨S4224x512, .f32⟩
  | .hbm, ⟨17, _⟩ => ⟨S4224x384, .f32⟩
  | .hbm, ⟨18, _⟩ => ⟨S4224x256, .f32⟩
  | .hbm, ⟨19, _⟩ => ⟨S4224x128, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x1792, .bf16⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x384, .f32⟩
  | .local _ .vmem, ⟨9, _⟩ => ⟨S384x384, .f32⟩
  | .local _ .vmem, ⟨10, _⟩ => ⟨S384x256, .f32⟩
  | .local _ .vmem, ⟨11, _⟩ => ⟨S384x256, .f32⟩
  | .local _ .vmem, ⟨12, _⟩ => ⟨S384x128, .f32⟩
  | .local _ .vmem, ⟨13, _⟩ => ⟨S384x128, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixInFwdRefIdeal.lean ====
abbrev S4112x1024 : Shape := ⟨2, ![4112, 1024]⟩
abbrev S1024 : Shape := ⟨1, ![1024]⟩
abbrev S1024x1696 : Shape := ⟨2, ![1024, 1696]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x1696 : Shape := ⟨2, ![4112, 1696]⟩
abbrev S4112x512 : Shape := ⟨2, ![4112, 512]⟩
abbrev S4112x384 : Shape := ⟨2, ![4112, 384]⟩
abbrev S4112x256 : Shape := ⟨2, ![4112, 256]⟩
abbrev S4112x32 : Shape := ⟨2, ![4112, 32]⟩
abbrev S4112x64 : Shape := ⟨2, ![4112, 64]⟩
abbrev S4112x128 : Shape := ⟨2, ![4112, 128]⟩
abbrev S112x512 : Shape := ⟨2, ![112, 512]⟩
abbrev S4224x512 : Shape := ⟨2, ![4224, 512]⟩
abbrev S112x384 : Shape := ⟨2, ![112, 384]⟩
abbrev S4224x384 : Shape := ⟨2, ![4224, 384]⟩
abbrev S112x256 : Shape := ⟨2, ![112, 256]⟩
abbrev S4224x256 : Shape := ⟨2, ![4224, 256]⟩
abbrev S112x128 : Shape := ⟨2, ![112, 128]⟩
abbrev S4224x128 : Shape := ⟨2, ![4224, 128]⟩

abbrev nBuf : Space → Nat
  | .hbm => 45
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1024, .f32⟩
  | .hbm, ⟨2, _⟩ => ⟨S1024x1696, .f32⟩
  | .hbm, ⟨3, _⟩ => ⟨S4112x1024, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1024, .f32⟩
  | .hbm, ⟨15, _⟩ => ⟨S4112x1024, .f32⟩
  | .hbm, ⟨16, _⟩ => ⟨S1x1024, .f32⟩
  | .hbm, ⟨17, _⟩ => ⟨S4112x1024, .f32⟩
  | .hbm, ⟨18, _⟩ => ⟨S4112x1024, .f32⟩
  | .hbm, ⟨19, _⟩ => ⟨S4112x1696, .f32⟩
  | .hbm, ⟨20, _⟩ => ⟨S4112x512, .f32⟩
  | .hbm, ⟨21, _⟩ => ⟨S4112x512, .f32⟩
  | .hbm, ⟨22, _⟩ => ⟨S4112x384, .f32⟩
  | .hbm, ⟨23, _⟩ => ⟨S4112x256, .f32⟩
  | .hbm, ⟨24, _⟩ => ⟨S4112x32, .f32⟩
  | .hbm, ⟨25, _⟩ => ⟨S_, .f32⟩
  | .hbm, ⟨26, _⟩ => ⟨S4112x64, .f32⟩
  | .hbm, ⟨27, _⟩ => ⟨S_, .f32⟩
  | .hbm, ⟨28, _⟩ => ⟨S4112x32, .f32⟩
  | .hbm, ⟨29, _⟩ => ⟨S4112x128, .f32⟩
  | .hbm, ⟨30, _⟩ => ⟨S_, .f32⟩
  | .hbm, ⟨31, _⟩ => ⟨S112x512, .f32⟩
  | .hbm, ⟨32, _⟩ => ⟨S4224x512, .f32⟩
  | .hbm, ⟨33, _⟩ => ⟨S_, .f32⟩
  | .hbm, ⟨34, _⟩ => ⟨S112x512, .f32⟩
  | .hbm, ⟨35, _⟩ => ⟨S4224x512, .f32⟩
  | .hbm, ⟨36, _⟩ => ⟨S_, .f32⟩
  | .hbm, ⟨37, _⟩ => ⟨S112x384, .f32⟩
  | .hbm, ⟨38, _⟩ => ⟨S4224x384, .f32⟩
  | .hbm, ⟨39, _⟩ => ⟨S_, .f32⟩
  | .hbm, ⟨40, _⟩ => ⟨S112x256, .f32⟩
  | .hbm, ⟨41, _⟩ => ⟨S4224x256, .f32⟩
  | .hbm, ⟨42, _⟩ => ⟨S_, .f32⟩
  | .hbm, ⟨43, _⟩ => ⟨S112x128, .f32⟩
  | .hbm, ⟨44, _⟩ => ⟨S4224x128, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== MixOutFwdKernel.lean ====
abbrev S4112x1024 : Shape := ⟨2, ![4112, 1024]⟩
abbrev S4112x512 : Shape := ⟨2, ![4112, 512]⟩
abbrev S512 : Shape := ⟨1, ![512]⟩
abbrev S1024 : Shape := ⟨1, ![1024]⟩
abbrev S1024x1024 : Shape := ⟨2, ![1024, 1024]⟩
abbrev S_ : Shape := ⟨0, ![]⟩
abbrev S112x1024 : Shape := ⟨2, ![112, 1024]⟩
abbrev S4224x1024 : Shape := ⟨2, ![4224, 1024]⟩
abbrev S112x512 : Shape := ⟨2, ![112, 512]⟩
abbrev S4224x512 : Shape := ⟨2, ![4224, 512]⟩
abbrev S1x512 : Shape := ⟨2, ![1, 512]⟩
abbrev S1x1024 : Shape := ⟨2, ![1, 1024]⟩
abbrev S384x1024 : Shape := ⟨2, ![384, 1024]⟩
abbrev S384x512 : Shape := ⟨2, ![384, 512]⟩
abbrev S384 : Shape := ⟨1, ![384]⟩
abbrev S384x1 : Shape := ⟨2, ![384, 1]⟩
abbrev S512x1024 : Shape := ⟨2, ![512, 1024]⟩

abbrev nBuf : Space → Nat
  | .hbm => 22
  | .vmem => 14
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S512, .f32⟩
  | .hbm, ⟨4, _⟩ => ⟨S512, .f32⟩
  | .hbm, ⟨5, _⟩ => ⟨S1024, .f32⟩
  | .hbm, ⟨6, _⟩ => ⟨S1024x1024, .f32⟩
  | .hbm, ⟨7, _⟩ => ⟨S_, .f32⟩
  | .hbm, ⟨8, _⟩ => ⟨S112x1024, .f32⟩
  | .hbm, ⟨9, _⟩ => ⟨S4224x1024, .f32⟩
  | .hbm, ⟨10, _⟩ => ⟨S_, .f32⟩
  | .hbm, ⟨11, _⟩ => ⟨S112x512, .f32⟩
  | .hbm, ⟨12, _⟩ => ⟨S4224x512, .f32⟩
  | .hbm, ⟨13, _⟩ => ⟨S_, .f32⟩
  | .hbm, ⟨14, _⟩ => ⟨S112x512, .f32⟩
  | .hbm, ⟨15, _⟩ => ⟨S4224x512, .f32⟩
  | .hbm, ⟨16, _⟩ => ⟨S1x512, .f32⟩
  | .hbm, ⟨17, _⟩ => ⟨S1x512, .f32⟩
  | .hbm, ⟨18, _⟩ => ⟨S1x1024, .f32⟩
  | .hbm, ⟨19, _⟩ => ⟨S1024x1024, .bf16⟩
  | .hbm, ⟨20, _⟩ => ⟨S4224x1024, .f32⟩
  | .hbm, ⟨21, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S1x512, .f32⟩
  | .local _ .vmem, ⟨7, _⟩ => ⟨S1x512, .f32⟩
  | .local _ .vmem, ⟨8, _⟩ => ⟨S1x1024, .f32⟩
  | .local _ .vmem, ⟨9, _⟩ => ⟨S1024x1024, .bf16⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutFwdRefIdeal.lean ====
abbrev S4112x1024 : Shape := ⟨2, ![4112, 1024]⟩
abbrev S4112x512 : Shape := ⟨2, ![4112, 512]⟩
abbrev S512 : Shape := ⟨1, ![512]⟩
abbrev S1024 : Shape := ⟨1, ![1024]⟩
abbrev S1024x1024 : Shape := ⟨2, ![1024, 1024]⟩
abbrev S_ : Shape := ⟨0, ![]⟩
abbrev S4112 : Shape := ⟨1, ![4112]⟩
abbrev S4112x1 : Shape := ⟨2, ![4112, 1]⟩
abbrev S1x512 : Shape := ⟨2, ![1, 512]⟩
abbrev S1x1024 : Shape := ⟨2, ![1, 1024]⟩
abbrev S112x1024 : Shape := ⟨2, ![112, 1024]⟩
abbrev S4224x1024 : Shape := ⟨2, ![4224, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x512, .f32⟩
  | .hbm, ⟨2, _⟩ => ⟨S4112x512, .f32⟩
  | .hbm, ⟨3, _⟩ => ⟨S512, .f32⟩
  | .hbm, ⟨4, _⟩ => ⟨S512, .f32⟩
  | .hbm, ⟨5, _⟩ => ⟨S1024, .f32⟩
  | .hbm, ⟨6, _⟩ => ⟨S1024x1024, .f32⟩
  | .hbm, ⟨7, _⟩ => ⟨S4112x512, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x512, .f32⟩
  | .hbm, ⟨19, _⟩ => ⟨S4112x512, .f32⟩
  | .hbm, ⟨20, _⟩ => ⟨S1x512, .f32⟩
  | .hbm, ⟨21, _⟩ => ⟨S4112x512, .f32⟩
  | .hbm, ⟨22, _⟩ => ⟨S4112x512, .f32⟩
  | .hbm, ⟨23, _⟩ => ⟨S4112x512, .f32⟩
  | .hbm, ⟨24, _⟩ => ⟨S_, .f32⟩
  | .hbm, ⟨25, _⟩ => ⟨S4112, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S_, .f32⟩
  | .hbm, ⟨31, _⟩ => ⟨S4112x1, .f32⟩
  | .hbm, ⟨32, _⟩ => ⟨S4112x1, .f32⟩
  | .hbm, ⟨33, _⟩ => ⟨S4112x1, .f32⟩
  | .hbm, ⟨34, _⟩ => ⟨S4112x512, .f32⟩
  | .hbm, ⟨35, _⟩ => ⟨S4112x512, .f32⟩
  | .hbm, ⟨36, _⟩ => ⟨S1x512, .f32⟩
  | .hbm, ⟨37, _⟩ => ⟨S4112x512, .f32⟩
  | .hbm, ⟨38, _⟩ => ⟨S4112x512, .f32⟩
  | .hbm, ⟨39, _⟩ => ⟨S4112x1024, .f32⟩
  | .hbm, ⟨40, _⟩ => ⟨S4112x1024, .f32⟩
  | .hbm, ⟨41, _⟩ => ⟨S4112x1024, .f32⟩
  | .hbm, ⟨42, _⟩ => ⟨S_, .f32⟩
  | .hbm, ⟨43, _⟩ => ⟨S4112, .f32⟩
  | .hbm, ⟨44, _⟩ => ⟨S4112x1, .f32⟩
  | .hbm, ⟨45, _⟩ => ⟨S_, .f32⟩
  | .hbm, ⟨46, _⟩ => ⟨S4112x1, .f32⟩
  | .hbm, ⟨47, _⟩ => ⟨S4112x1, .f32⟩
  | .hbm, ⟨48, _⟩ => ⟨S_, .f32⟩
  | .hbm, ⟨49, _⟩ => ⟨S4112x1, .f32⟩
  | .hbm, ⟨50, _⟩ => ⟨S4112x1, .f32⟩
  | .hbm, ⟨51, _⟩ => ⟨S4112x1, .f32⟩
  | .hbm, ⟨52, _⟩ => ⟨S4112x1024, .f32⟩
  | .hbm, ⟨53, _⟩ => ⟨S4112x1024, .f32⟩
  | .hbm, ⟨54, _⟩ => ⟨S1x1024, .f32⟩
  | .hbm, ⟨55, _⟩ => ⟨S4112x1024, .f32⟩
  | .hbm, ⟨56, _⟩ => ⟨S4112x1024, .f32⟩
  | .hbm, ⟨57, _⟩ => ⟨S4112x1024, .f32⟩
  | .hbm, ⟨58, _⟩ => ⟨S_, .f32⟩
  | .hbm, ⟨59, _⟩ => ⟨S112x1024, .f32⟩
  | .hbm, ⟨60, _⟩ => ⟨S4224x1024, .f32⟩
  | .hbm, ⟨61, _⟩ => ⟨S_, .f32⟩
  | .hbm, ⟨62, _⟩ => ⟨S112x1024, .f32⟩
  | .hbm, ⟨63, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== MlaFwdKernel.lean ====
abbrev S4112x384 : Shape := ⟨2, ![4112, 384]⟩
abbrev S4112x256 : Shape := ⟨2, ![4112, 256]⟩
abbrev S4112x32 : Shape := ⟨2, ![4112, 32]⟩
abbrev S4112x16 : Shape := ⟨2, ![4112, 16]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S112x384 : Shape := ⟨2, ![112, 384]⟩
abbrev S4224x384 : Shape := ⟨2, ![4224, 384]⟩
abbrev S112x256 : Shape := ⟨2, ![112, 256]⟩
abbrev S4224x256 : Shape := ⟨2, ![4224, 256]⟩
abbrev S4112x64 : Shape := ⟨2, ![4112, 64]⟩
abbrev S4112x128 : Shape := ⟨2, ![4112, 128]⟩
abbrev S112x128 : Shape := ⟨2, ![112, 128]⟩
abbrev S4224x128 : Shape := ⟨2, ![4224, 128]⟩
abbrev S1x384 : Shape := ⟨2, ![1, 384]⟩
abbrev S1x256 : Shape := ⟨2, ![1, 256]⟩
abbrev S384x8x96 : Shape := ⟨3, ![384, 8, 96]⟩
abbrev S384x8x32 : Shape := ⟨3, ![384, 8, 32]⟩
abbrev S384x8x128 : Shape := ⟨3, ![384, 8, 128]⟩
abbrev S384x1024 : Shape := ⟨2, ![384, 1024]⟩
abbrev S112x16 : Shape := ⟨2, ![112, 16]⟩
abbrev S4224x16 : Shape := ⟨2, ![4224, 16]⟩
abbrev S4224x64 : Shape := ⟨2, ![4224, 64]⟩
abbrev S4224x32 : Shape := ⟨2, ![4224, 32]⟩
abbrev S4224x80 : Shape := ⟨2, ![4224, 80]⟩
abbrev S4224x48 : Shape := ⟨2, ![4224, 48]⟩
abbrev S8x4224x128 : Shape := ⟨3, ![8, 4224, 128]⟩
abbrev S4224x512 : Shape := ⟨2, ![4224, 512]⟩
abbrev S384x384 : Shape := ⟨2, ![384, 384]⟩
abbrev S384x256 : Shape := ⟨2, ![384, 256]⟩
abbrev S384x128 : Shape := ⟨2, ![384, 128]⟩
abbrev S8x384x128 : Shape := ⟨3, ![8, 384, 128]⟩
abbrev S384x512 : Shape := ⟨2, ![384, 512]⟩
abbrev S384x1 : Shape := ⟨2, ![384, 1]⟩
abbrev S1x384x128 : Shape := ⟨3, ![1, 384, 128]⟩

abbrev nBuf : Space → Nat
  | .hbm => 57
  | .vmem => 22
  | .smem => 0
  | _ => 0

abbrev bufTy : (tb : Table) → Fin (tcTables nBuf tb) → BufTy
  | .hbm, ⟨0, _⟩ => ⟨S4112x384, .f32⟩
  | .hbm, ⟨1, _⟩ => ⟨S4112x256, .f32⟩
  | .hbm, ⟨2, _⟩ => ⟨S4112x32, .f32⟩
  | .hbm, ⟨3, _⟩ => ⟨S4112x16, .f32⟩
  | .hbm, ⟨4, _⟩ => ⟨S4112x16, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S_, .f32⟩
  | .hbm, ⟨10, _⟩ => ⟨S112x384, .f32⟩
  | .hbm, ⟨11, _⟩ => ⟨S4224x384, .f32⟩
  | .hbm, ⟨12, _⟩ => ⟨S_, .f32⟩
  | .hbm, ⟨13, _⟩ => ⟨S112x256, .f32⟩
  | .hbm, ⟨14, _⟩ => ⟨S4224x256, .f32⟩
  | .hbm, ⟨15, _⟩ => ⟨S_, .f32⟩
  | .hbm, ⟨16, _⟩ => ⟨S4112x64, .f32⟩
  | .hbm, ⟨17, _⟩ => ⟨S_, .f32⟩
  | .hbm, ⟨18, _⟩ => ⟨S4112x32, .f32⟩
  | .hbm, ⟨19, _⟩ => ⟨S4112x128, .f32⟩
  | .hbm, ⟨20, _⟩ => ⟨S_, .f32⟩
  | .hbm, ⟨21, _⟩ => ⟨S112x128, .f32⟩
  | .hbm, ⟨22, _⟩ => ⟨S4224x128, .f32⟩
  | .hbm, ⟨23, _⟩ => ⟨S1x384, .f32⟩
  | .hbm, ⟨24, _⟩ => ⟨S1x256, .f32⟩
  | .hbm, ⟨25, _⟩ => ⟨S384x8x96, .f32⟩
  | .hbm, ⟨26, _⟩ => ⟨S_, .f32⟩
  | .hbm, ⟨27, _⟩ => ⟨S384x8x32, .f32⟩
  | .hbm, ⟨28, _⟩ => ⟨S384x8x128, .f32⟩
  | .hbm, ⟨29, _⟩ => ⟨S384x1024, .f32⟩
  | .hbm, ⟨30, _⟩ => ⟨S384x1024, .bf16⟩
  | .hbm, ⟨31, _⟩ => ⟨S256x1024, .bf16⟩
  | .hbm, ⟨32, _⟩ => ⟨S_, .f32⟩
  | .hbm, ⟨33, _⟩ => ⟨S112x16, .f32⟩
  | .hbm, ⟨34, _⟩ => ⟨S4224x16, .f32⟩
  | .hbm, ⟨35, _⟩ => ⟨S_, .f32⟩
  | .hbm, ⟨36, _⟩ => ⟨S112x16, .f32⟩
  | .hbm, ⟨37, _⟩ => ⟨S4224x16, .f32⟩
  | .hbm, ⟨38, _⟩ => ⟨S_, .f32⟩
  | .hbm, ⟨39, _⟩ => ⟨S4224x64, .f32⟩
  | .hbm, ⟨40, _⟩ => ⟨S_, .f32⟩
  | .hbm, ⟨41, _⟩ => ⟨S4224x32, .f32⟩
  | .hbm, ⟨42, _⟩ => ⟨S4224x128, .f32⟩
  | .hbm, ⟨43, _⟩ => ⟨S_, .f32⟩
  | .hbm, ⟨44, _⟩ => ⟨S4224x80, .f32⟩
  | .hbm, ⟨45, _⟩ => ⟨S_, .f32⟩
  | .hbm, ⟨46, _⟩ => ⟨S4224x32, .f32⟩
  | .hbm, ⟨47, _⟩ => ⟨S4224x128, .f32⟩
  | .hbm, ⟨48, _⟩ => ⟨S_, .f32⟩
  | .hbm, ⟨49, _⟩ => ⟨S4224x64, .f32⟩
  | .hbm, ⟨50, _⟩ => ⟨S4224x16, .f32⟩
  | .hbm, ⟨51, _⟩ => ⟨S_, .f32⟩
  | .hbm, ⟨52, _⟩ => ⟨S4224x48, .f32⟩
  | .hbm, ⟨53, _⟩ => ⟨S4224x128, .f32⟩
  | .hbm, ⟨54, _⟩ => ⟨S8x4224x128, .bf16⟩
  | .hbm, ⟨55, _⟩ => ⟨S8x4224x128, .bf16⟩
  | .hbm, ⟨56, _⟩ => ⟨S4224x512, .bf16⟩
  | .local _ .vmem, ⟨0, _⟩ => ⟨S384x384, .f32⟩
  | .local _ .vmem, ⟨1, _⟩ => ⟨S384x384, .f32⟩
  | .local _ .vmem, ⟨2, _⟩ => ⟨S384x256, .f32⟩
  | .local _ .vmem, ⟨3, _⟩ => ⟨S384x256, .f32⟩
  | .local _ .vmem, ⟨4, _⟩ => ⟨S384x128, .f32⟩
  | .local _ .vmem, ⟨5, _⟩ => ⟨S384x128, .f32⟩
  | .local _ .vmem, ⟨6, _⟩ => ⟨S1x384, .f32⟩
  | .local _ .vmem, ⟨7, _⟩ => ⟨S1x256, .f32⟩
  | .local _ .vmem, ⟨8, _⟩ => ⟨S384x1024, .bf16⟩
  | .local _ .vmem, ⟨9, _⟩ => ⟨S256x1024, .bf16⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | .local _ .vmem, ⟨15, _⟩ => ⟨S384x128, .f32⟩
  | .local _ .vmem, ⟨16, _⟩ => ⟨S8x384x128, .bf16⟩
  | .local _ .vmem, ⟨17, _⟩ => ⟨S8x384x128, .bf16⟩
  | .local _ .vmem, ⟨18, _⟩ => ⟨S8x384x128, .bf16⟩
  | .local _ .vmem, ⟨19, _⟩ => ⟨S8x384x128, .bf16⟩
  | .local _ .vmem, ⟨20, _⟩ => ⟨S384x512, .bf16⟩
  | .local _ .vmem, ⟨21, _⟩ => ⟨S384x512, .bf16⟩
  | _, _ => ⟨S4112x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_v23 : Ref sig .tc := ⟨.hbm, 42, rfl⟩
abbrev main_cst_9 : Ref sig .tc := ⟨.hbm, 43, rfl⟩
abbrev main_v24 : Ref sig .tc := ⟨.hbm, 44, rfl⟩
abbrev main_cst_10 : Ref sig .tc := ⟨.hbm, 45, rfl⟩
abbrev main_v25 : Ref sig .tc := ⟨.hbm, 46, rfl⟩
abbrev main_v26 : Ref sig .tc := ⟨.hbm, 47, rfl⟩
abbrev main_cst_11 : Ref sig .tc := ⟨.hbm, 48, rfl⟩
abbrev main_v27 : Ref sig .tc := ⟨.hbm, 49, rfl⟩
abbrev main_v28 : Ref sig .tc := ⟨.hbm, 50, rfl⟩
abbrev main_cst_12 : Ref sig .tc := ⟨.hbm, 51, rfl⟩
abbrev main_v29 : Ref sig .tc := ⟨.hbm, 52, rfl⟩
abbrev main_v30 : Ref sig .tc := ⟨.hbm, 53, rfl⟩
abbrev main_v31_0 : Ref sig .tc := ⟨.hbm, 54, rfl⟩
abbrev main_v31_1 : Ref sig .tc := ⟨.hbm, 55, rfl⟩
abbrev main_v31_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x384x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MlaFwdRefIdeal.lean ====
abbrev S4112x384 : Shape := ⟨2, ![4112, 384]⟩
abbrev S4112x256 : Shape := ⟨2, ![4112, 256]⟩
abbrev S4112x32 : Shape := ⟨2, ![4112, 32]⟩
abbrev S4112x16 : Shape := ⟨2, ![4112, 16]⟩
abbrev S384 : Shape := ⟨1, ![384]⟩
abbrev S256 : Shape := ⟨1, ![256]⟩
abbrev S384x768 : Shape := ⟨2, ![384, 768]⟩
abbrev S256x1024 : Shape := ⟨2, ![256, 1024]⟩
abbrev S_ : Shape := ⟨0, ![]⟩
abbrev S4112 : Shape := ⟨1, ![4112]⟩
abbrev S4112x1 : Shape := ⟨2, ![4112, 1]⟩
abbrev S1x384 : Shape := ⟨2, ![1, 384]⟩
abbrev S4112x768 : Shape := ⟨2, ![4112, 768]⟩
abbrev S4112x8x96 : Shape := ⟨3, ![4112, 8, 96]⟩
abbrev S4112x8x64 : Shape := ⟨3, ![4112, 8, 64]⟩
abbrev S4112x8x32 : Shape := ⟨3, ![4112, 8, 32]⟩
abbrev S4112x1x16 : Shape := ⟨3, ![4112, 1, 16]⟩
abbrev S4112x8x16 : Shape := ⟨3, ![4112, 8, 16]⟩
abbrev S1x256 : Shape := ⟨2, ![1, 256]⟩
abbrev S4112x1024 : Shape := ⟨2, ![4112, 1024]⟩
abbrev S4112x8x128 : Shape := ⟨3, ![4112, 8, 128]⟩
abbrev S4112x1x32 : Shape := ⟨3, ![4112, 1, 32]⟩
abbrev S8x4112x96 : Shape := ⟨3, ![8, 4112, 96]⟩
abbrev S8x4112x32 : Shape := ⟨3, ![8, 4112, 32]⟩
abbrev S8x4112x128 : Shape := ⟨3, ![8, 4112, 128]⟩
abbrev S8x112x128 : Shape := ⟨3, ![8, 112, 128]⟩
abbrev S8x4224x128 : Shape := ⟨3, ![8, 4224, 128]⟩
abbrev S4112x512 : Shape := ⟨2, ![4112, 512]⟩
abbrev S112x512 : Shape := ⟨2, ![112, 512]⟩
abbrev S4224x512 : Shape := ⟨2, ![4224, 512]⟩

abbrev nBuf : Space → Nat
  | .hbm => 98
  | .vmem => 0
  | .smem => 0
  | _ => 0

abbrev bufTy : (tb : Table) → Fin (tcTables nBuf tb) → BufTy
  | .hbm, ⟨0, _⟩ => ⟨S4112x384, .f32⟩
  | .hbm, ⟨1, _⟩ => ⟨S4112x256, .f32⟩
  | .hbm, ⟨2, _⟩ => ⟨S4112x32, .f32⟩
  | .hbm, ⟨3, _⟩ => ⟨S4112x16, .f32⟩
  | .hbm, ⟨4, _⟩ => ⟨S4112x16, .f32⟩
  | .hbm, ⟨5, _⟩ => ⟨S384, .f32⟩
  | .hbm, ⟨6, _⟩ => ⟨S256, .f32⟩
  | .hbm, ⟨7, _⟩ => ⟨S384x768, .f32⟩
  | .hbm, ⟨8, _⟩ => ⟨S256x1024, .f32⟩
  | .hbm, ⟨9, _⟩ => ⟨S4112x384, .f32⟩
  | .hbm, ⟨10, _⟩ => ⟨S_, .f32⟩
  | .hbm, ⟨11, _⟩ => ⟨S4112, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S4112x1, .f32⟩
  | .hbm, ⟨20, _⟩ => ⟨S4112x384, .f32⟩
  | .hbm, ⟨21, _⟩ => ⟨S4112x384, .f32⟩
  | .hbm, ⟨22, _⟩ => ⟨S1x384, .f32⟩
  | .hbm, ⟨23, _⟩ => ⟨S4112x384, .f32⟩
  | .hbm, ⟨24, _⟩ => ⟨S4112x384, .f32⟩
  | .hbm, ⟨25, _⟩ => ⟨S4112x768, .f32⟩
  | .hbm, ⟨26, _⟩ => ⟨S4112x8x96, .f32⟩
  | .hbm, ⟨27, _⟩ => ⟨S4112x8x64, .f32⟩
  | .hbm, ⟨28, _⟩ => ⟨S4112x8x32, .f32⟩
  | .hbm, ⟨29, _⟩ => ⟨S4112x1x16, .f32⟩
  | .hbm, ⟨30, _⟩ => ⟨S4112x1x16, .f32⟩
  | .hbm, ⟨31, _⟩ => ⟨S4112x8x16, .f32⟩
  | .hbm, ⟨32, _⟩ => ⟨S4112x8x16, .f32⟩
  | .hbm, ⟨33, _⟩ => ⟨S4112x8x16, .f32⟩
  | .hbm, ⟨34, _⟩ => ⟨S4112x8x16, .f32⟩
  | .hbm, ⟨35, _⟩ => ⟨S4112x8x16, .f32⟩
  | .hbm, ⟨36, _⟩ => ⟨S4112x8x16, .f32⟩
  | .hbm, ⟨37, _⟩ => ⟨S4112x8x16, .f32⟩
  | .hbm, ⟨38, _⟩ => ⟨S4112x8x16, .f32⟩
  | .hbm, ⟨39, _⟩ => ⟨S4112x8x16, .f32⟩
  | .hbm, ⟨40, _⟩ => ⟨S4112x8x16, .f32⟩
  | .hbm, ⟨41, _⟩ => ⟨S4112x8x16, .f32⟩
  | .hbm, ⟨42, _⟩ => ⟨S4112x8x16, .f32⟩
  | .hbm, ⟨43, _⟩ => ⟨S4112x8x32, .f32⟩
  | .hbm, ⟨44, _⟩ => ⟨S4112x256, .f32⟩
  | .hbm, ⟨45, _⟩ => ⟨S_, .f32⟩
  | .hbm, ⟨46, _⟩ => ⟨S4112, .f32⟩
  | .hbm, ⟨47, _⟩ => ⟨S4112x1, .f32⟩
  | .hbm, ⟨48, _⟩ => ⟨S_, .f32⟩
  | .hbm, ⟨49, _⟩ => ⟨S4112x1, .f32⟩
  | .hbm, ⟨50, _⟩ => ⟨S4112x1, .f32⟩
  | .hbm, ⟨51, _⟩ => ⟨S_, .f32⟩
  | .hbm, ⟨52, _⟩ => ⟨S4112x1, .f32⟩
  | .hbm, ⟨53, _⟩ => ⟨S4112x1, .f32⟩
  | .hbm, ⟨54, _⟩ => ⟨S4112x1, .f32⟩
  | .hbm, ⟨55, _⟩ => ⟨S4112x256, .f32⟩
  | .hbm, ⟨56, _⟩ => ⟨S4112x256, .f32⟩
  | .hbm, ⟨57, _⟩ => ⟨S1x256, .f32⟩
  | .hbm, ⟨58, _⟩ => ⟨S4112x256, .f32⟩
  | .hbm, ⟨59, _⟩ => ⟨S4112x256, .f32⟩
  | .hbm, ⟨60, _⟩ => ⟨S4112x1024, .f32⟩
  | .hbm, ⟨61, _⟩ => ⟨S4112x8x128, .f32⟩
  | .hbm, ⟨62, _⟩ => ⟨S4112x8x64, .f32⟩
  | .hbm, ⟨63, _⟩ => ⟨S4112x8x64, .f32⟩
  | .hbm, ⟨64, _⟩ => ⟨S4112x16, .f32⟩
  | .hbm, ⟨65, _⟩ => ⟨S4112x16, .f32⟩
  | .hbm, ⟨66, _⟩ => ⟨S4112x16, .f32⟩
  | .hbm, ⟨67, _⟩ => ⟨S4112x16, .f32⟩
  | .hbm, ⟨68, _⟩ => ⟨S4112x16, .f32⟩
  | .hbm, ⟨69, _⟩ => ⟨S4112x16, .f32⟩
  | .hbm, ⟨70, _⟩ => ⟨S4112x16, .f32⟩
  | .hbm, ⟨71, _⟩ => ⟨S4112x16, .f32⟩
  | .hbm, ⟨72, _⟩ => ⟨S4112x32, .f32⟩
  | .hbm, ⟨73, _⟩ => ⟨S4112x1x32, .f32⟩
  | .hbm, ⟨74, _⟩ => ⟨S4112x8x32, .f32⟩
  | .hbm, ⟨75, _⟩ => ⟨S4112x8x96, .f32⟩
  | .hbm, ⟨76, _⟩ => ⟨S8x4112x96, .f32⟩
  | .hbm, ⟨77, _⟩ => ⟨S_, .f32⟩
  | .hbm, ⟨78, _⟩ => ⟨S8x4112x32, .f32⟩
  | .hbm, ⟨79, _⟩ => ⟨S8x4112x128, .f32⟩
  | .hbm, ⟨80, _⟩ => ⟨S_, .f32⟩
  | .hbm, ⟨81, _⟩ => ⟨S8x112x128, .f32⟩
  | .hbm, ⟨82, _⟩ => ⟨S8x4224x128, .f32⟩
  | .hbm, ⟨83, _⟩ => ⟨S8x4224x128, .bf16⟩
  | .hbm, ⟨84, _⟩ => ⟨S4112x8x96, .f32⟩
  | .hbm, ⟨85, _⟩ => ⟨S8x4112x96, .f32⟩
  | .hbm, ⟨86, _⟩ => ⟨S_, .f32⟩
  | .hbm, ⟨87, _⟩ => ⟨S8x4112x32, .f32⟩
  | .hbm, ⟨88, _⟩ => ⟨S8x4112x128, .f32⟩
  | .hbm, ⟨89, _⟩ => ⟨S_, .f32⟩
  | .hbm, ⟨90, _⟩ => ⟨S8x112x128, .f32⟩
  | .hbm, ⟨91, _⟩ => ⟨S8x4224x128, .f32⟩
  | .hbm, ⟨92, _⟩ => ⟨S8x4224x128, .bf16⟩
  | .hbm, ⟨93, _⟩ => ⟨S4112x512, .f32⟩
  | .hbm, ⟨94, _⟩ => ⟨S_, .f32⟩
  | .hbm, ⟨95, _⟩ => ⟨S112x512, .f32⟩
  | .hbm, ⟨96, _⟩ => ⟨S4224x512, .f32⟩
  | .hbm, ⟨97, _⟩ => ⟨S4224x512, .bf16⟩
  | _, _ => ⟨S4112x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_7 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩

abbrev nD : Nat := 1
abbrev τ : Topo := Topo.v7x

variable {F : FTy → Type} [FloatOps F]
-- ==== Proof.LossValue.lean ====
/- The loss head over the extended reals: what one grid point stores, and what the two result arrays hold. -/
module

public import proofs.«01_k».proof.Defs
public import proofs.«01_k».proof.Proof.Gen.LossKernelIdeal.Value
public import Idealize.ShloMosaic.Lib.Pointwise
public import Idealize.ShloMosaic.Lib.Pipeline.Value
public import Idealize.ShloMosaic.Lib.Tactic

@[expose] public section

set_option maxRecDepth 16384

noncomputable section

namespace Cert.LossKernelIdeal.Hand

open Cert.LossKernelIdeal Cert.LossKernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The width of a row, as the programs print it. -/
theorem lit_1024 : Ideal.ofBits FTy.f32 1149239296#32 = ((1024 : ℝ) : EReal) := by
  simp [Ideal.ofBits, Ideal.ieee]; rw [← EReal.coe_mul]; norm_num

/-- One half, as the programs print it. -/
theorem lit_half : Ideal.ofBits FTy.f32 1056964608#32 = ((1 / 2 : ℝ) : EReal) := by
  simp [Ideal.ofBits, Ideal.ieee]; rw [← EReal.coe_mul]; norm_num

/-- The masked difference of a block: rows 16 to 4111 of the whole array carry the difference, the others zero. -/
theorem pay2_apply (i : grid0.Coords) (x y : Vec Ideal S384x1024 .f32) (r : Fin 384) (l : Fin 1024) :
    k0_pay2 i x y (ix2 r l) = if 16 ≤ 384 * (i 0).val + r.val ∧ 384 * (i 0).val + r.val < 4112 then x (ix2 r l) - y (ix2 r l) else 0 := by
  have h0 : (i 0).val < 11 := (i 0).isLt
  pointwise [k0_pay2]
  unfold Scalar.select
  refine if_congr ?_ rfl rfl
  have hr := r.isLt
  show IntOp.andi (IntOp.cmpi .sge (IntOp.addi (IntOp.muli (BitVec.ofNat 32 (i 0).val) (BitVec.ofNat 32 384)) (BitVec.ofNat 32 r.val)) (BitVec.ofNat 32 16))
    (IntOp.cmpi .slt (IntOp.addi (IntOp.muli (BitVec.ofNat 32 (i 0).val) (BitVec.ofNat 32 384)) (BitVec.ofNat 32 r.val)) (BitVec.ofNat 32 4112)) = 1#1 ↔ _
  rw [WordCmp.muli_ofNat, WordCmp.addi_ofNat, WordCmp.cmpi_sge_ofNat (by omega) (by omega), WordCmp.cmpi_slt_ofNat (by omega) (by omega), WordCmp.andi_ofBool]
  by_cases h : 16 ≤ 384 * (i 0).val + r.val <;> by_cases h' : 384 * (i 0).val + r.val < 4112 <;>
    simp [h, h', Nat.mul_comm (i 0).val 384]

/-- What a point stores in the gradient's block. -/
theorem pay3_apply (i : grid0.Coords) (x y : Vec Ideal S384x1024 .f32) (r : Fin 384) (l : Fin 1024) :
    k0_pay3 i x y (ix2 r l) = Ideal.div (k0_pay2 i x y (ix2 r l)) ((1024 : ℝ) : EReal) := by
  pointwise [k0_pay3]
  rw [lit_1024]

/-- What a point adds to the loss. -/
theorem pay4_apply (i : grid0.Coords) (x y : Vec Ideal S384x1024 .f32) (r : Fin 8) (l : Fin 128) :
    k0_pay4 i x y (ix2 r l) = ((1/2 : ℝ) : EReal) * ∑ r : Fin 384, Ideal.div (∑ l : Fin 1024, k0_pay2 i x y (ix2 r l) * k0_pay2 i x y (ix2 r l)) ((1024 : ℝ) : EReal) := by
  pointwise [k0_pay4]
  rw [lit_1024, lit_half]

variable {F : FTy → Type} [FloatOps F]
variable (m : (ℓ : Loc nD τ sig) → Buf (Elt F) ℓ)

theorem out_A_2 (c : Dev nD) (i : grid0.Coords) (a1 : Memref sig .tc .vmem S384x1024 .f32) (h1 : a1.IsWhole)
    (a2 : Memref sig .tc .vmem S384x1024 .f32) (h2 : a2.IsWhole) (a3 : Memref sig .tc .vmem S384x1024 .f32) (h3 : a3.IsWhole)
    (a4 : Memref sig .tc .vmem S8x128 .f32) (h4 : a4.IsWhole) (hc0 : cond0_0 i) (hc1 : ¬cond0_1 i) (x y : Vec F S384x1024 .f32) :
    out0_A_2 c i a1 h1 a2 h2 a3 h3 a4 h4 hc0 hc1 x y = k0_pay3 i x y := by
  unfold out0_A_2
  rw [View.read_writes_eq_canon _ _ _ (cover0_A_2 c i a1 h1 a2 h2 a3 h3 a4 h4 hc0 hc1 x y)]
  unfold kernelRun0_A
  dsimp only
  sl_unfold_words
  rw [View.canon_unit_zero hz]
  simp only [View.readAt_eq_ld, h1.read_unread, h2.read_unread, View.ld_unit_zero (S := S384x1024) hz]

theorem out_A_3 (c : Dev nD) (i : grid0.Coords) (a1 : Memref sig .tc .vmem S384x1024 .f32) (h1 : a1.IsWhole)
    (a2 : Memref sig .tc .vmem S384x1024 .f32) (h2 : a2.IsWhole) (a3 : Memref sig .tc .vmem S384x1024 .f32) (h3 : a3.IsWhole)
    (a4 : Memref sig .tc .vmem S8x128 .f32) (h4 : a4.IsWhole) (hc0 : cond0_0 i) (hc1 : ¬cond0_1 i) (x y : Vec F S384x1024 .f32) :
    out0_A_3 c i a1 h1 a2 h2 a3 h3 a4 h4 hc0 hc1 x y = k0_pay4 i x y := by
  unfold out0_A_3
  rw [View.read_writes_eq_canon _ _ _ (cover0_A_3 c i a1 h1 a2 h2 a3 h3 a4 h4 hc0 hc1 x y)]
  unfold kernelRun0_A
  dsimp only
  sl_unfold_words
  rw [View.canon_unit_zero hz]
  simp only [View.readAt_eq_ld, h1.read_unread, h2.read_unread, View.ld_unit_zero (S := S384x1024) hz]

theorem out_B_2 (c : Dev nD) (i : grid0.Coords) (a1 : Memref sig .tc .vmem S384x1024 .f32) (h1 : a1.IsWhole)
    (a2 : Memref sig .tc .vmem S384x1024 .f32) (h2 : a2.IsWhole) (a3 : Memref sig .tc .vmem S384x1024 .f32) (h3 : a3.IsWhole)
    (a4 : Memref sig .tc .vmem S8x128 .f32) (h4 : a4.IsWhole) (hc0 : ¬cond0_0 i) (hc1 : cond0_1 i) (x y : Vec F S384x1024 .f32)
    (z : Vec F S8x128 .f32) :
    out0_B_2 c i a1 h1 a2 h2 a3 h3 a4 h4 hc0 hc1 x y z = k0_pay3 i x y := by
  unfold out0_B_2
  rw [View.read_writes_eq_canon _ _ _ (cover0_B_2 c i a1 h1 a2 h2 a3 h3 a4 h4 hc0 hc1 x y z)]
  unfold kernelRun0_B
  dsimp only
  sl_unfold_words
  rw [View.canon_unit_zero hz]
  simp only [View.readAt_eq_ld, h1.read_unread, h2.read_unread, View.ld_unit_zero (S := S384x1024) hz]

theorem out_B_3 (c : Dev nD) (i : grid0.Coords) (a1 : Memref sig .tc .vmem S384x1024 .f32) (h1 : a1.IsWhole)
    (a2 : Memref sig .tc .vmem S384x1024 .f32) (h2 : a2.IsWhole) (a3 : Memref sig .tc .vmem S384x1024 .f32) (h3 : a3.IsWhole)
    (a4 : Memref sig .tc .vmem S8x128 .f32) (h4 : a4.IsWhole) (hc0 : ¬cond0_0 i) (hc1 : cond0_1 i) (x y : Vec F S384x1024 .f32)
    (z : Vec F S8x128 .f32) :
    out0_B_3 c i a1 h1 a2 h2 a3 h3 a4 h4 hc0 hc1 x y z = addf z (k0_pay4 i x y) := by
  unfold out0_B_3
  rw [View.read_writes_eq_canon _ _ _ (cover0_B_3 c i a1 h1 a2 h2 a3 h3 a4 h4 hc0 hc1 x y z)]
  unfold kernelRun0_B
  dsimp only
  sl_unfold_words
  rw [View.canon_unit_zero hz]
  unfold k0_pay1
  simp only [View.readAt_eq_ld, h1.read_unread, h2.read_unread, h4.read_unread, View.ld_unit_zero (S := S384x1024) hz, View.ld_unit_zero (S := S8x128) hz, shapeCast_self]

/-! ## The arrays the pipeline reads -/

/-- The padded activations the pipeline reads. -/
theorem V_h (c : Dev nD) (r : Fin 4224) (l : Fin 1024) :
    (V m c main_v1 : Vec F S4224x1024 .f32) (ix2 r l)
      = if h : r.val < 4112 then (m ((c : Thread nD τ).loc main_arg0) : Vec F S4112x1024 .f32) (ix2 ⟨r.val, h⟩ l) else FloatOps.ofBits .f32 0#32 := by
  have e : (V m c main_v1 : Vec F S4224x1024 .f32) = concatenate S4224x1024 0 [⟨S4112x1024, m ((c : Thread nD τ).loc main_arg0)⟩, ⟨S112x1024, broadcastInDim S112x1024 ![] bcast_S_S112x1024 (constant S_ .f32 0x00000000#32)⟩] concatenates_S4112x1024_S112x1024_S4224x1024_d0 := by
    show StableHlo.after hostOps0 _ (Proc.devRef .tc main_v1) = _
    after_results
  rw [e]
  pointwise

/-- The padded targets the pipeline reads. -/
theorem V_t (c : Dev nD) (r : Fin 4224) (l : Fin 1024) (h : 16 ≤ r.val ∧ r.val < 4112) :
    (V m c main_v3 : Vec F S4224x1024 .f32) (ix2 r l)
      = (m ((c : Thread nD τ).loc main_arg1) : Vec F S4096x1024 .f32) (ix2 ⟨r.val - 16, by omega⟩ l) := by
  have e : (V m c main_v3 : Vec F S4224x1024 .f32) = concatenate S4224x1024 0 [⟨S16x1024, broadcastInDim S16x1024 ![] bcast_S_S16x1024 (constant S_ .f32 0x00000000#32)⟩, ⟨S4096x1024, m ((c : Thread nD τ).loc main_arg1)⟩, ⟨S112x1024, broadcastInDim S112x1024 ![] bcast_S_S112x1024 (constant S_ .f32 0x00000000#32)⟩] concatenates_S16x1024_S4096x1024_S112x1024_S4224x1024_d0 := by
    show StableHlo.after hostOps0 _ (Proc.devRef .tc main_v3) = _
    after_results
    rfl
  rw [e]
  pointwise
  rw [dif_neg (by omega), dif_pos (by omega)]

theorem coord (t : Fin cfg0.N) : ((grid0.coords t) 0).val = t.val :=
  (by decide +kernel : ∀ t : Fin grid0.N, ((grid0.coords t) 0).val = t.val) t

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The block of activations at a point is rows `384 t …` of the padded array. -/
theorem iblk0_apply (c : Dev nD) (t : Fin cfg0.N) (r : Fin 384) (l : Fin 1024) :
    (iblk m c 0 t : Vec F S384x1024 .f32) (ix2 r l)
      = (V m c main_v1 : Vec F S4224x1024 .f32) (ix2 ⟨384 * t.val + r.val, by have := lt_N t; omega⟩ l) := by
  unfold iblk
  rw [View.read_apply]
  show V m c main_v1 _ = V m c main_v1 _
  congr 1
  funext a
  apply Fin.ext
  match a with
  | ⟨0, _⟩ => show win0_0.index t 0 * 384 + 1 * r.val = 384 * t.val + r.val; rw [(index0 t).1]; omega
  | ⟨1, _⟩ => show win0_0.index t 1 * 1024 + 1 * l.val = l.val; rw [(index0 t).2]; omega

/-- The block of targets at a point is rows `384 t …` of the padded array. -/
theorem iblk1_apply (c : Dev nD) (t : Fin cfg0.N) (r : Fin 384) (l : Fin 1024) :
    (iblk m c 1 t : Vec F S384x1024 .f32) (ix2 r l)
      = (V m c main_v3 : Vec F S4224x1024 .f32) (ix2 ⟨384 * t.val + r.val, by have := lt_N t; omega⟩ l) := by
  unfold iblk
  rw [View.read_apply]
  show V m c main_v3 _ = V m c main_v3 _
  congr 1
  funext a
  apply Fin.ext
  match a with
  | ⟨0, _⟩ => show win0_1.index t 0 * 384 + 1 * r.val = 384 * t.val + r.val; rw [(index1 t).1]; omega
  | ⟨1, _⟩ => show win0_1.index t 1 * 1024 + 1 * l.val = l.val; rw [(index1 t).2]; omega

/-! ## The gradient's array -/

/-- Every point stores the masked, divided difference in the gradient's block. -/
theorem outs_2 (c : Dev nD) (t : Fin cfg0.N) :
    (outsAt0 m c t.val t.isLt).1 = k0_pay3 (grid0.coords t) (iblk m c 0 t) (iblk m c 1 t) := by
  have hN := lt_N t
  by_cases h0 : t.val % 11 = 0
  · rw [outsAt0_A m c t h0 (by omega)]; dsimp only; rw [out_A_2]
  · rw [outsAt0_B m c t h0 (by omega)]; dsimp only; rw [out_B_2]

/-- The gradient's array after the run, at an index. -/
theorem final2 (c : Dev nD) (R : Fin 4224) (l : Fin 1024) :
    ((dats m 0 c).arrAt 2 cfg0.N : Vec F S4224x1024 .f32) (ix2 R l)
      = k0_pay3 (grid0.coords (ptOf R)) (iblk m c 0 (ptOf R)) (iblk m c 1 (ptOf R)) (ix2 ⟨R.val % 384, Nat.mod_lt _ (by decide)⟩ l) := by
  have h := (dats m 0 c).arrAt_emb_eq_flushed 2 Value.disjoint2 (ptOf R) (flush0_2 _)
    (ix2 ⟨R.val % 384, Nat.mod_lt _ (by decide)⟩ l : S384x1024.Idx)
  have e : ((cfg0.win 2).blk (ptOf R)).view.emb (ix2 ⟨R.val % 384, Nat.mod_lt _ (by decide)⟩ l : S384x1024.Idx) = (ix2 R l : S4224x1024.Idx) := by
    funext a
    apply Fin.ext
    match a with
    | ⟨0, _⟩ => show win0_2.index (ptOf R) 0 * 384 + 1 * (R.val % 384) = R.val; rw [(index2 _).1]; dsimp only; omega
    | ⟨1, _⟩ => show win0_2.index (ptOf R) 1 * 1024 + 1 * l.val = l.val; rw [(index2 _).2]; omega
  rw [e] at h
  refine h.trans ?_
  rw [Value.flushed2, outs_2]
  rfl

/-! ## The loss -/

/-- The first point stores its share. -/
theorem outs_3_A (c : Dev nD) (t : Fin cfg0.N) (h0 : t.val % 11 = 0) (h1 : ¬1 ≤ t.val) :
    (outsAt0 m c t.val t.isLt).2 = k0_pay4 (grid0.coords t) (iblk m c 0 t) (iblk m c 1 t) := by
  rw [outsAt0_A m c t h0 h1]; dsimp only; rw [out_A_3]

/-- Every later point adds its share to what the point before left. -/
theorem outs_3_B (c : Dev nD) (t : Fin cfg0.N) (h0 : ¬t.val % 11 = 0) (h1 : 1 ≤ t.val) :
    (outsAt0 m c t.val t.isLt).2 = addf (outsAt0 m c (t.val - 1) (Nat.lt_of_le_of_lt (Nat.sub_le _ _) t.isLt)).2
      (k0_pay4 (grid0.coords t) (iblk m c 0 t) (iblk m c 1 t)) := by
  rw [outsAt0_B m c t h0 h1]; dsimp only; rw [out_B_3]

/-- The loss buffer after point `n`, element by element: the sum of the points' shares so far. -/
theorem outs_3 (m : (ℓ : Loc nD τ sig) → Buf (Elt Ideal) ℓ) (c : Dev nD) (j : S8x128.Idx) : ∀ (n : ℕ) (h : n < cfg0.N),
    ((outsAt0 m c n h).2 : Vec Ideal S8x128 .f32) j
      = ∑ s : Fin (n + 1), k0_pay4 (grid0.coords ⟨s.val, lt_of_lt_of_le s.isLt h⟩) (iblk m c 0 ⟨s.val, lt_of_lt_of_le s.isLt h⟩) (iblk m c 1 ⟨s.val, lt_of_lt_of_le s.isLt h⟩) j
  | 0, h => by
    rw [Fin.sum_univ_one]
    exact congrFun (outs_3_A m c ⟨0, h⟩ (by dsimp only) (by dsimp only; omega)) j
  | n + 1, h => by
    have hN : cfg0.N = 11 := N_0
    rw [Fin.sum_univ_castSucc]
    refine (congrFun (outs_3_B m c ⟨n + 1, h⟩ (by dsimp only; omega) (by dsimp only; omega)) j).trans ?_
    exact congrArg₂ (· + ·) (outs_3 m c j n (Nat.lt_of_succ_lt h)) rfl

/-- The loss's array after the run, at an index. -/
theorem final3 (c : Dev nD) : ((dats m 0 c).arrAt 3 cfg0.N : Vec F S8x128 .f32)
      = (outsAt0 m c 10 (by rw [show cfg0.N = 11 from N_0]; decide)).2 := by
  refine (dats m 0 c).arrAt_eq_of_cover 3 _ (fun t hf => ?_) fun i => ⟨t0_10, (flush0_3 t0_10).mpr rfl, ?_⟩
  · have h3 : t.val = 10 := by have := (flush0_3 t).mp hf; have := lt_N t; omega
    obtain rfl : t = t0_10 := Fin.ext h3
    rw [Value.flushed3]
    have hz' : (fun a => win0_3.index t0_10 a * main_v4_1.ty.shape.size a) = fun _ => 0 := funext fun a => by fin_cases a <;> decide
    exact (Memref.read_access_unit_zero (Elt F) main_v4_1 hz' (fun a => by rw [congrFun hz' a]; simp) _).symm
  · show i ∈ ((View.whole main_v4_1).slice (win0_3.rect t0_10)).set
    rw [View.set_slice_whole, Rect.mem_set_unit]
    intro a
    have h0 : (i 0 : Nat) < 8 := (i 0).isLt
    have h1 : (i 1 : Nat) < 128 := (i 1).isLt
    match a with
    | ⟨0, _⟩ => show win0_3.index t0_10 0 * win0_3.size 0 ≤ (i 0 : Nat) ∧ (i 0 : Nat) < win0_3.index t0_10 0 * win0_3.size 0 + win0_3.xsize (grid0.coords t0_10) 0
                rw [show win0_3.index t0_10 0 * win0_3.size 0 = 0 from by decide +kernel, show win0_3.xsize (grid0.coords t0_10) 0 = 8 from by decide +kernel]; omega
    | ⟨1, _⟩ => show win0_3.index t0_10 1 * win0_3.size 1 ≤ (i 1 : Nat) ∧ (i 1 : Nat) < win0_3.index t0_10 1 * win0_3.size 1 + win0_3.xsize (grid0.coords t0_10) 1
                rw [show win0_3.index t0_10 1 * win0_3.size 1 = 0 from by decide +kernel, show win0_3.xsize (grid0.coords t0_10) 1 = 128 from by decide +kernel]; omega

end Cert.LossKernelIdeal.Hand

end
-- ==== Proof.LossEq.lean ====
/- The loss head: the arrays the kernel leaves are the reference's, as extended reals, with no condition on the
   arguments. The gradient's entries are one product of the same three factors; the loss is one sum over the rows,
   cut into eleven blocks by the kernel. -/
module

public import proofs.«01_k».proof.Proof.LossValue
public import proofs.«01_k».proof.Proof.Gen.LossRefIdeal.Run
public import proofs.«01_k».proof.Proof.Gen.LossRefIdeal.Read

@[expose] public section

set_option maxRecDepth 16384

noncomputable section

namespace Cert.LossKernelIdeal.Hand

open Cert.LossKernelIdeal Cert.LossKernelIdeal.Gen Idealize.ShloMosaic Idealize.ShloMosaic.TcCoe Idealize.SL.Sem
open Cert.LossRefIdeal.Read (val_main_v0 val_main_v1 val_main_v2 val_main_v3 val_main_v4 val_main_v5 val_main_v6 val_main_v7 val_main_v8
  val_main_v9 val_main_v10 val_main_v11 val_main_v12 val_main_v13 val_main_v14 val_main_v15 val_main_v16 val_main_v17 val_main_v18
  val_main_cst val_main_cst_0 val_main_cst_1 val_main_cst_2 val_main_cst_3 val_main_cst_4 val_main_cst_5 val_main_cst_6 val_main_cst_7
  val_main_c)

/-- Two, as the programs print it. -/
theorem lit_two : Ideal.ofBits FTy.f32 1073741824#32 = ((2 : ℝ) : EReal) := by
  simp [Ideal.ofBits, Ideal.ieee]; rw [← EReal.coe_mul]; norm_num

/-- Half a width's part of twice a number is a width's part of it. -/
theorem half_two (d : EReal) :
    Ideal.div d ((1024 : ℝ) : EReal) = Ideal.div ((1 / 2 : ℝ) : EReal) ((1024 : ℝ) : EReal) * (((2 : ℝ) : EReal) * d) := by
  rw [Ideal.div_coe (by norm_num), Ideal.div_coe (by norm_num), ← mul_assoc, ← EReal.coe_mul, ← EReal.coe_mul, mul_comm d]
  norm_num

/-- A width's part of zero is zero. -/
theorem zero_part : Ideal.div (0 : EReal) ((1024 : ℝ) : EReal) = 0 := by
  rw [Ideal.div_coe (by norm_num), zero_mul]

/-- A real factor that is not negative goes through a sum of extended reals. -/
theorem coe_mul_sum {ι : Type} (s : Finset ι) (a : ℝ) (ha : 0 ≤ a) (f : ι → EReal) :
    (a : EReal) * ∑ i ∈ s, f i = ∑ i ∈ s, (a : EReal) * f i := by
  classical
  induction s using Finset.induction with
  | empty => simp
  | insert b s hb ih =>
    rw [Finset.sum_insert hb, Finset.sum_insert hb,
      EReal.left_distrib_of_nonneg_of_ne_top (EReal.coe_nonneg.mpr ha) (EReal.coe_ne_top a), ih]

/-- A sum over eleven blocks of 384 rows is the sum over all the rows. -/
theorem sum_blocks (f : ℕ → EReal) : ∑ s : Fin 11, ∑ r : Fin 384, f (384 * s.val + r.val) = ∑ R : Fin 4224, f R.val := by
  rw [Fin.sum_univ_tiles 11 384 (by norm_num) (fun R : Fin 4224 => f R.val)]
  refine Finset.sum_congr rfl fun s _ => Finset.sum_congr rfl fun r _ => ?_
  rw [Nat.mul_comm]

/-- A sum over the padded rows of a summand that vanishes on the padding is the sum over the rows proper. -/
theorem sum_rows (f : ℕ → EReal) (h0 : ∀ n, n < 16 → f n = 0) (h1 : ∀ n, 4112 ≤ n → f n = 0) :
    ∑ R : Fin 4224, f R.val = ∑ R : Fin 4096, f (16 + R.val) := by
  rw [Fin.sum_univ_eq_sum_range f 4224, Fin.sum_univ_eq_sum_range (fun n => f (16 + n)) 4096,
    show (4224 : ℕ) = 16 + 4096 + 112 from rfl, Finset.sum_range_add, Finset.sum_range_add,
    Finset.sum_eq_zero fun n hn => h0 n (Finset.mem_range.mp hn), zero_add,
    Finset.sum_eq_zero fun n _ => h1 (16 + 4096 + n) (by omega), add_zero]

variable (m : (ℓ : Loc nD τ sig) → Buf (Elt Ideal) ℓ)

/-- The difference of a row of the activations and a row of the targets, zero on the rows that carry no target. -/
def diff (x : Vec Ideal S4112x1024 .f32) (y : Vec Ideal S4096x1024 .f32) (R : ℕ) (l : Fin 1024) : EReal :=
  if h : 16 ≤ R ∧ R < 4112 then x (ix2 ⟨R, h.2⟩ l) - y (ix2 ⟨R - 16, by omega⟩ l) else 0

/-- What a grid point computes as its masked difference is the difference of its rows of the whole arrays. -/
theorem pay2_eq_diff (c : Dev nD) (t : Fin cfg0.N) (r : Fin 384) (l : Fin 1024) :
    k0_pay2 (grid0.coords t) (iblk m c 0 t) (iblk m c 1 t) (ix2 r l)
      = diff (m ((c : Thread nD τ).loc main_arg0)) (m ((c : Thread nD τ).loc main_arg1)) (384 * t.val + r.val) l := by
  have hN := lt_N t
  rw [pay2_apply, coord]
  unfold diff
  split_ifs with h
  · rw [iblk0_apply, iblk1_apply, V_h, V_t _ _ _ _ h, dif_pos h.2]
  · rfl

/-- The reference's gradient at an index. -/
theorem ref_grad (x : Vec Ideal S4112x1024 .f32) (y : Vec Ideal S4096x1024 .f32) (R : Fin 4224) (l : Fin 1024) :
    val_main_v17 (F := Ideal) x y (ix2 R l) = Ideal.div (diff x y R.val l) ((1024 : ℝ) : EReal) := by
  have hz0 : Cert.LossRefIdeal.Read.val_main_call0_v0 (F := Ideal) (Shape.Idx.first Cert.LossRefIdeal.Gen.h_S_) = (0 : EReal) := by
    show ((((0#32 : BitVec 32).toInt : ℤ) : ℝ) : EReal) = 0
    simp
  pointwise [val_main_v0, val_main_v1, val_main_v3, val_main_v4, val_main_v10, val_main_v11, val_main_v12, val_main_v13, val_main_v14,
    val_main_v15, val_main_v16, val_main_v17, val_main_cst, val_main_cst_4, val_main_cst_5, val_main_cst_6, val_main_cst_7, val_main_c]
  rw [hz0, lit_1024, lit_half, lit_two]
  by_cases h1 : R.val < 4112
  · rw [dif_pos h1]
    by_cases h2 : 16 ≤ R.val
    · have h3 : 16 ≤ R.val ∧ R.val - 16 < 4096 := ⟨h2, by omega⟩
      have e : (⟨16 + (R.val - 16), by omega⟩ : Fin 4112) = ⟨R.val, h1⟩ := Fin.ext (by dsimp only; omega)
      have hd : diff x y R.val l = x (ix2 ⟨R.val, h1⟩ l) - y (ix2 ⟨R.val - 16, h3.2⟩ l) := dif_pos ⟨h2, h1⟩
      refine ((dif_pos h3).trans ?_).trans ((congrArg (Ideal.div · ((1024 : ℝ) : EReal)) hd).trans (half_two _)).symm
      exact congrArg (fun q => Ideal.div ((1 / 2 : ℝ) : EReal) ((1024 : ℝ) : EReal) * (((2 : ℝ) : EReal) * (x (ix2 q l) - y (ix2 ⟨R.val - 16, h3.2⟩ l)))) e
    · have h3 : ¬(16 ≤ R.val ∧ R.val - 16 < 4096) := by omega
      have hd : diff x y R.val l = 0 := dif_neg fun h => absurd h.1 h2
      exact (dif_neg h3).trans ((congrArg (Ideal.div · ((1024 : ℝ) : EReal)) hd).trans zero_part).symm
  · have hd : diff x y R.val l = 0 := dif_neg fun h => absurd h.2 h1
    exact (dif_neg h1).trans ((congrArg (Ideal.div · ((1024 : ℝ) : EReal)) hd).trans zero_part).symm

/-- The reference's loss at an index. -/
theorem ref_loss (x : Vec Ideal S4112x1024 .f32) (y : Vec Ideal S4096x1024 .f32) (r : Fin 8) (l : Fin 128) :
    val_main_v18 (F := Ideal) x y (ix2 r l)
      = ((1 / 2 : ℝ) : EReal) * ∑ R : Fin 4096, Ideal.div (∑ l : Fin 1024, diff x y (16 + R.val) l * diff x y (16 + R.val) l) ((1024 : ℝ) : EReal) := by
  have e : ∀ (R : Fin 4096) (l : Fin 1024), diff x y (16 + R.val) l = x (ix2 ⟨16 + R.val, by omega⟩ l) - y (ix2 R l) := by
    intro R l
    unfold diff
    rw [dif_pos ⟨by omega, by omega⟩]
    congr 3
    exact Fin.ext (by dsimp only; omega)
  pointwise [val_main_v0, val_main_v1, val_main_v2, val_main_v5, val_main_v6, val_main_v7, val_main_v8,
    val_main_v9, val_main_v18, val_main_cst_0, val_main_cst_1, val_main_cst_2, val_main_cst_3]
  simp only [e]
  rw [lit_1024, lit_half]

/-- Rows that carry no target add nothing to the loss. -/
theorem term_zero (x : Vec Ideal S4112x1024 .f32) (y : Vec Ideal S4096x1024 .f32) (n : ℕ) (h : ¬(16 ≤ n ∧ n < 4112)) :
    Ideal.div (∑ l : Fin 1024, diff x y n l * diff x y n l) ((1024 : ℝ) : EReal) = 0 := by
  rw [Ideal.div_coe (by norm_num), Finset.sum_eq_zero, zero_mul]
  intro l _
  unfold diff
  rw [dif_neg h, zero_mul]

/-- The gradient's array is the reference's. -/
theorem grad_eq (c : Dev nD) :
    ((dats m 0 c).arrAt 2 cfg0.N : Vec Ideal S4224x1024 .f32)
      = val_main_v17 (F := Ideal) (m ((c : Thread nD τ).loc main_arg0)) (m ((c : Thread nD τ).loc main_arg1)) := by
  funext j
  obtain ⟨R, l, rfl⟩ : ∃ (R : Fin 4224) (l : Fin 1024), j = ix2 R l := ⟨j 0, j 1, (ix2_eta j).symm⟩
  refine (final2 m c R l).trans ?_
  refine Eq.trans ?_ (ref_grad _ _ R l).symm
  rw [pay3_apply, pay2_eq_diff]
  have hR : 384 * (R.val / 384) + R.val % 384 = R.val := by omega
  dsimp only
  rw [hR]

/-- The loss is the reference's. -/
theorem loss_eq (c : Dev nD) :
    ((dats m 0 c).arrAt 3 cfg0.N : Vec Ideal S8x128 .f32)
      = val_main_v18 (F := Ideal) (m ((c : Thread nD τ).loc main_arg0)) (m ((c : Thread nD τ).loc main_arg1)) := by
  funext j
  obtain ⟨r, l, rfl⟩ : ∃ (r : Fin 8) (l : Fin 128), j = ix2 r l := ⟨j 0, j 1, (ix2_eta j).symm⟩
  refine Eq.trans ?_ (ref_loss _ _ r l).symm
  rw [final3, outs_3]
  simp only [pay4_apply, pay2_eq_diff]
  rw [← coe_mul_sum _ _ (by norm_num)]
  refine congrArg (((1 / 2 : ℝ) : EReal) * ·) ?_
  refine (sum_blocks (fun R => Ideal.div (∑ l : Fin 1024, diff _ _ R l * diff _ _ R l) ((1024 : ℝ) : EReal))).trans ?_
  exact sum_rows _ (fun n hn => term_zero _ _ n (by omega)) (fun n hn => term_zero _ _ n (by omega))

end Cert.LossKernelIdeal.Hand

end
-- ==== Proof.AttnQRun.lean ====
/- The body of the attention backward pass for the queries: what one grid point of the kernel leaves in the two
   output blocks, for either width of the last key block. -/
module

public import proofs.«01_k».proof.Proof.Gen.AttnQKernelIdeal.Frame
public import proofs.«01_k».proof.Proof.Gen.AttnQKernelIdeal.Loops

@[expose] public section

set_option maxRecDepth 16384

noncomputable section

namespace Cert.AttnQKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnQKernelIdeal Cert.AttnQKernelIdeal.Gen

variable {F : FTy → Type} [FloatOps F] [Named F]

local notation "𝕄" => MT nD τ sig Unit (Elt F) ℕ (UR sig nD τ) ℕ

/-- The last key block of the point is one row tile wide: the point's row tile is an even one. -/
abbrev Narrow (i : grid0.Coords) : Prop := k0_cond1 i = 1#1

set_option maxHeartbeats 4000000 in
/-- The body at a point whose last key block is one row tile wide. -/
def runNarrow (c : Dev nD) (i : grid0.Coords) (arg2 : Memref sig .tc .vmem S2x384x128 .bf16) (harg2 : arg2.IsWhole) (arg3 : Memref sig .tc .vmem S2x4224x128 .bf16) (harg3 : arg3.IsWhole) (arg4 : Memref sig .tc .vmem S4224x128 .bf16) (harg4 : arg4.IsWhole) (arg5 : Memref sig .tc .vmem S384x128 .f32) (harg5 : arg5.IsWhole) (arg6 : Memref sig .tc .vmem S384x128 .f32) (harg6 : arg6.IsWhole) (arg7 : Memref sig .tc .vmem S2x384x1 .f32) (harg7 : arg7.IsWhole) (arg8 : Memref sig .tc .vmem S2x384x128 .f32) (harg8 : arg8.IsWhole) (arg9 : Memref sig .tc .vmem S2x384x1 .f32) (harg9 : arg9.IsWhole)
    (hc : Narrow i)
    (x2 : Vec F S2x384x128 .bf16) (x3 : Vec F S2x4224x128 .bf16) (x4 : Vec F S4224x128 .bf16) (x5 : Vec F S384x128 .f32) (x6 : Vec F S384x128 .f32) (x7 : Vec F S2x384x1 .f32) :
    Σ' (L8 : List (View.Piece (Elt F) S2x384x128 .f32)), { L9 : List (View.Piece (Elt F) S2x384x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0_attn_bwd_q i arg2 harg2 arg3 harg3 arg4 harg4 arg5 harg5 arg6 harg6 arg7 harg7 arg8 harg8 arg9 harg9) K } := by
  refine ⟨?_, ?_, fun E K => ?run⟩
  case run =>
    simp only [cc0_attn_bwd_q_eq_skeleton]; unfold cc0_attn_bwd_q_skel
    simp only [k0_part3_eq_skeleton, k0_part4_eq_skeleton, k0_part5_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- The body at a point whose last key block is two row tiles wide. -/
def runWide (c : Dev nD) (i : grid0.Coords) (arg2 : Memref sig .tc .vmem S2x384x128 .bf16) (harg2 : arg2.IsWhole) (arg3 : Memref sig .tc .vmem S2x4224x128 .bf16) (harg3 : arg3.IsWhole) (arg4 : Memref sig .tc .vmem S4224x128 .bf16) (harg4 : arg4.IsWhole) (arg5 : Memref sig .tc .vmem S384x128 .f32) (harg5 : arg5.IsWhole) (arg6 : Memref sig .tc .vmem S384x128 .f32) (harg6 : arg6.IsWhole) (arg7 : Memref sig .tc .vmem S2x384x1 .f32) (harg7 : arg7.IsWhole) (arg8 : Memref sig .tc .vmem S2x384x128 .f32) (harg8 : arg8.IsWhole) (arg9 : Memref sig .tc .vmem S2x384x1 .f32) (harg9 : arg9.IsWhole)
    (hc : ¬Narrow i)
    (x2 : Vec F S2x384x128 .bf16) (x3 : Vec F S2x4224x128 .bf16) (x4 : Vec F S4224x128 .bf16) (x5 : Vec F S384x128 .f32) (x6 : Vec F S384x128 .f32) (x7 : Vec F S2x384x1 .f32) :
    Σ' (L8 : List (View.Piece (Elt F) S2x384x128 .f32)), { L9 : List (View.Piece (Elt F) S2x384x1 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0_attn_bwd_q i arg2 harg2 arg3 harg3 arg4 harg4 arg5 harg5 arg6 harg6 arg7 harg7 arg8 harg8 arg9 harg9) K } := by
  refine ⟨?_, ?_, fun E K => ?run⟩
  case run =>
    simp only [cc0_attn_bwd_q_eq_skeleton]; unfold cc0_attn_bwd_q_skel
    simp only [k0_part3_eq_skeleton, k0_part4_eq_skeleton, k0_part5_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.AttnQKernelIdeal.Hand

end
-- ==== Proof.AttnQFrame.lean ====
/- The attention backward pass for the queries runs, point after point of its grid, and leaves its arguments as they
   were. -/
module

public import Idealize.ShloMosaic.Lib.Claim
public import proofs.«01_k».proof.Proof.AttnQRun

@[expose] public section

set_option maxRecDepth 16384

noncomputable section

namespace Cert.AttnQKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnQKernelIdeal Cert.AttnQKernelIdeal.Gen

variable {F : FTy → Type} [FloatOps F] [Named F]

local notation "𝕄" => MT nD τ sig Unit (Elt F) ℕ (UR sig nD τ) ℕ

/-- A whole buffer of the shape of the first output's block, through which its contents are stated. -/
abbrev VO6 : View sig .tc .vmem S2x384x128 .f32 := (Memref.whole cc0_stg6_0 : Memref sig .tc .vmem S2x384x128 .f32).view
/-- A whole buffer of the shape of the second output's block. -/
abbrev VO7 : View sig .tc .vmem S2x384x1 .f32 := (Memref.whole cc0_stg7_0 : Memref sig .tc .vmem S2x384x1 .f32).view

section body

variable (c : Dev nD) (i : grid0.Coords) (arg2 : Memref sig .tc .vmem S2x384x128 .bf16) (harg2 : arg2.IsWhole) (arg3 : Memref sig .tc .vmem S2x4224x128 .bf16) (harg3 : arg3.IsWhole) (arg4 : Memref sig .tc .vmem S4224x128 .bf16) (harg4 : arg4.IsWhole) (arg5 : Memref sig .tc .vmem S384x128 .f32) (harg5 : arg5.IsWhole) (arg6 : Memref sig .tc .vmem S384x128 .f32) (harg6 : arg6.IsWhole) (arg7 : Memref sig .tc .vmem S2x384x1 .f32) (harg7 : arg7.IsWhole) (arg8 : Memref sig .tc .vmem S2x384x128 .f32) (harg8 : arg8.IsWhole) (arg9 : Memref sig .tc .vmem S2x384x1 .f32) (harg9 : arg9.IsWhole)
  (x2 : Vec F S2x384x128 .bf16) (x3 : Vec F S2x4224x128 .bf16) (x4 : Vec F S4224x128 .bf16) (x5 : Vec F S384x128 .f32) (x6 : Vec F S384x128 .f32) (x7 : Vec F S2x384x1 .f32)

/-- The stores of the first output's block. -/
def pieces8 : List (View.Piece (Elt F) S2x384x128 .f32) :=
  if hc : Narrow i then (runNarrow c i arg2 harg2 arg3 harg3 arg4 harg4 arg5 harg5 arg6 harg6 arg7 harg7 arg8 harg8 arg9 harg9 hc x2 x3 x4 x5 x6 x7).1
  else (runWide c i arg2 harg2 arg3 harg3 arg4 harg4 arg5 harg5 arg6 harg6 arg7 harg7 arg8 harg8 arg9 harg9 hc x2 x3 x4 x5 x6 x7).1

/-- The stores of the second output's block. -/
def pieces9 : List (View.Piece (Elt F) S2x384x1 .f32) :=
  if hc : Narrow i then (runNarrow c i arg2 harg2 arg3 harg3 arg4 harg4 arg5 harg5 arg6 harg6 arg7 harg7 arg8 harg8 arg9 harg9 hc x2 x3 x4 x5 x6 x7).2.1
  else (runWide c i arg2 harg2 arg3 harg3 arg4 harg4 arg5 harg5 arg6 harg6 arg7 harg7 arg8 harg8 arg9 harg9 hc x2 x3 x4 x5 x6 x7).2.1

/-- The stores of the first output fill its block. -/
theorem cover8 (y : S2x384x128.Idx) :
    ∃ pc ∈ pieces8 c i arg2 harg2 arg3 harg3 arg4 harg4 arg5 harg5 arg6 harg6 arg7 harg7 arg8 harg8 arg9 harg9 x2 x3 x4 x5 x6 x7, y ∈ pc.1.set := by
  unfold pieces8
  split
  · rename_i hc
    exact View.cover_of_tiledL (runNarrow c i arg2 harg2 arg3 harg3 arg4 harg4 arg5 harg5 arg6 harg6 arg7 harg7 arg8 harg8 arg9 harg9 hc x2 x3 x4 x5 x6 x7).1 S1x384x128.size (by sl_kernel_rfl) y
  · rename_i hc
    exact View.cover_of_tiledL (runWide c i arg2 harg2 arg3 harg3 arg4 harg4 arg5 harg5 arg6 harg6 arg7 harg7 arg8 harg8 arg9 harg9 hc x2 x3 x4 x5 x6 x7).1 S1x384x128.size (by sl_kernel_rfl) y

/-- The stores of the second output fill its block. -/
theorem cover9 (y : S2x384x1.Idx) :
    ∃ pc ∈ pieces9 c i arg2 harg2 arg3 harg3 arg4 harg4 arg5 harg5 arg6 harg6 arg7 harg7 arg8 harg8 arg9 harg9 x2 x3 x4 x5 x6 x7, y ∈ pc.1.set := by
  unfold pieces9
  split
  · rename_i hc
    exact View.cover_of_tiledL (runNarrow c i arg2 harg2 arg3 harg3 arg4 harg4 arg5 harg5 arg6 harg6 arg7 harg7 arg8 harg8 arg9 harg9 hc x2 x3 x4 x5 x6 x7).2.1 S1x384x1.size (by sl_kernel_rfl) y
  · rename_i hc
    exact View.cover_of_tiledL (runWide c i arg2 harg2 arg3 harg3 arg4 harg4 arg5 harg5 arg6 harg6 arg7 harg7 arg8 harg8 arg9 harg9 hc x2 x3 x4 x5 x6 x7).2.1 S1x384x1.size (by sl_kernel_rfl) y

/-- The body at any point, whichever way its branch goes. -/
theorem run_body (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ f, arg8.view.loc (c : Thread nD τ) ↦[arg8.view.set]{fullShare} arg8.view.writes (Elt F) f (pieces8 c i arg2 harg2 arg3 harg3 arg4 harg4 arg5 harg5 arg6 harg6 arg7 harg7 arg8 harg8 arg9 harg9 x2 x3 x4 x5 x6 x7)) ∗ (∃ f, arg9.view.loc (c : Thread nD τ) ↦[arg9.view.set]{fullShare} arg9.view.writes (Elt F) f (pieces9 c i arg2 harg2 arg3 harg3 arg4 harg4 arg5 harg5 arg6 harg6 arg7 harg7 arg8 harg8 arg9 harg9 x2 x3 x4 x5 x6 x7))) -∗ K ⟨⟩))
      ⊢ wp frame (wpE (defs₀ (F := F)) Variants.none c none) E (cc0_attn_bwd_q i arg2 harg2 arg3 harg3 arg4 harg4 arg5 harg5 arg6 harg6 arg7 harg7 arg8 harg8 arg9 harg9) K := by
  unfold pieces8 pieces9
  by_cases hc : Narrow i
  · rw [dif_pos hc, dif_pos hc]
    exact (runNarrow c i arg2 harg2 arg3 harg3 arg4 harg4 arg5 harg5 arg6 harg6 arg7 harg7 arg8 harg8 arg9 harg9 hc x2 x3 x4 x5 x6 x7).2.2 E K
  · rw [dif_neg hc, dif_neg hc]
    exact (runWide c i arg2 harg2 arg3 harg3 arg4 harg4 arg5 harg5 arg6 harg6 arg7 harg7 arg8 harg8 arg9 harg9 hc x2 x3 x4 x5 x6 x7).2.2 E K

/-- The first output's block after the body. -/
def out8 : Vec F S2x384x128 .f32 :=
  VO6.read (Elt F) (VO6.writes (Elt F) VO6.junk (pieces8 c i arg2 harg2 arg3 harg3 arg4 harg4 arg5 harg5 arg6 harg6 arg7 harg7 arg8 harg8 arg9 harg9 x2 x3 x4 x5 x6 x7))

/-- The second output's block after the body. -/
def out9 : Vec F S2x384x1 .f32 :=
  VO7.read (Elt F) (VO7.writes (Elt F) VO7.junk (pieces9 c i arg2 harg2 arg3 harg3 arg4 harg4 arg5 harg5 arg6 harg6 arg7 harg7 arg8 harg8 arg9 harg9 x2 x3 x4 x5 x6 x7))

end body

variable (m : (ℓ : Loc nD τ sig) → Buf (Elt F) ℓ) (ρ : Dev nD → PrngReg)

/-- The first output's block at a point of the grid. -/
def at8 (c : Dev nD) (t : Fin cfg0.N) : Vec F S2x384x128 .f32 :=
  out8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t) (iblk m c 5 t)

/-- The second output's block at a point of the grid. -/
def at9 (c : Dev nD) (t : Fin cfg0.N) : Vec F S2x384x1 .f32 :=
  out9 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t) (iblk m c 5 t)

/-- What the pipeline's arrays and blocks hold: every input block as fetched, every output block as the body left it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => at8 m c t
    | ⟨7, _⟩ => at9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = at8 m c t := by dsimp only [dats]
theorem after7 (c : Dev nD) (t : Fin cfg0.N) : (dats m 0 c).after 7 t = at9 m c t := by dsimp only [dats]

/-- A window that is never idle ends a point owned at what the body left in it. -/
theorem leaves_of_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the body finds at a point, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body leaves at a point, window by window. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 1000000 in
/-- The body takes what it finds to what it leaves, at every point. -/
theorem point (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c)]
  rw [show (dats m 0 c).Φ t.succ = (dats m 0 c).Φ t.castSucc from rfl,
    show (dats m 0 c).owesAt () t.succ = (dats m 0 c).owesAt () t.castSucc from rfl]
  rw [leaves_of_live m c 0 t rfl, leaves_of_live m c 1 t rfl, leaves_of_live m c 2 t rfl, leaves_of_live m c 3 t rfl,
    leaves_of_live m c 4 t rfl, leaves_of_live m c 5 t rfl, leaves_of_live m c 6 t rfl, leaves_of_live m c 7 t rfl]
  rw [after0, after1, after2, after3, after4, after5, after6, after7]
  unfold at8 at9 out8 out9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body c (grid0.coords t) _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover8 c _ _ _ _ _ _ _ _ _ _ _ _ _ _ _ _ _ _ _ _ _ _ _)
  unfold owns; iexists _; isplitr
  swap; · iexact H7
  ipureintro; exact View.read_writes_of_cover _ _ _ _ _ (cover9 c _ _ _ _ _ _ _ _ _ _ _ _ _ _ _ _ _ _ _ _ _ _ _)

/-- The table of bodies holds this body at a point's slots. -/
theorem row (t : Fin cfg0.N) : defs₀ (F := F) .tc cfg0.body (cfg0.bodyArgs t (cfg0.slots t)) = bodyAt0 t := by
  unfold defs₀; rw [Defs.onTc_tc]

/-- The body's obligation to the pipeline. -/
theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
/-- The program runs to an end in which the pipeline's arrays hold what its blocks say, and every semaphore is zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program runs, its arguments end unchanged and every semaphore is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.AttnQKernelIdeal.Hand

end
-- ==== Proof.AttnQForm.lean ====
/- The values of the attention backward pass for the queries: the pieces one grid point stores, in the program's own
   names. -/
module

public import proofs.«01_k».proof.Proof.AttnQFrame
public import Idealize.ShloMosaic.Lib.Pointwise
public import Idealize.ShloMosaic.Lib.Pipeline.Value

@[expose] public section

set_option maxRecDepth 16384

noncomputable section

namespace Cert.AttnQKernelIdeal.Hand

open Idealize.ShloMosaic Idealize.ShloMosaic.TcCoe Idealize.ShloMosaic.Tactic
open Cert.AttnQKernelIdeal Cert.AttnQKernelIdeal.Gen

/-- The queries of the first head of the pair. -/
def q0 (x2 : Vec Ideal S2x384x128 .bf16) : Vec Ideal S1x384x128 .bf16 := View.ld x2 (Rect.unit (s := S2x384x128) ![0, 0, 0] S1x384x128.size inb_S2x384x128_S1x384x128_0_0_0)
/-- The queries of the second head of the pair. -/
def q1 (x2 : Vec Ideal S2x384x128 .bf16) : Vec Ideal S1x384x128 .bf16 := View.ld x2 (Rect.unit (s := S2x384x128) ![1, 0, 0] S1x384x128.size inb_S2x384x128_S1x384x128_1_0_0)
/-- The row log-sums of the first head of the pair. -/
def l0 (x7 : Vec Ideal S2x384x1 .f32) : Vec Ideal S1x384x1 .f32 := View.ld x7 (Rect.unit (s := S2x384x1) ![0, 0, 0] S1x384x1.size inb_S2x384x1_S1x384x1_0_0_0)
/-- The row log-sums of the second head of the pair. -/
def l1 (x7 : Vec Ideal S2x384x1 .f32) : Vec Ideal S1x384x1 .f32 := View.ld x7 (Rect.unit (s := S2x384x1) ![1, 0, 0] S1x384x1.size inb_S2x384x1_S1x384x1_1_0_0)

theorem zeros2 : ![0, 0] = (fun _ : Fin 2 => (0 : ℕ)) := by
  funext a; match a with | 0 => rfl | 1 => rfl

section forms

variable (c : Dev nD) (i : grid0.Coords) (arg2 : Memref sig .tc .vmem S2x384x128 .bf16) (harg2 : arg2.IsWhole) (arg3 : Memref sig .tc .vmem S2x4224x128 .bf16) (harg3 : arg3.IsWhole) (arg4 : Memref sig .tc .vmem S4224x128 .bf16) (harg4 : arg4.IsWhole) (arg5 : Memref sig .tc .vmem S384x128 .f32) (harg5 : arg5.IsWhole) (arg6 : Memref sig .tc .vmem S384x128 .f32) (harg6 : arg6.IsWhole) (arg7 : Memref sig .tc .vmem S2x384x1 .f32) (harg7 : arg7.IsWhole) (arg8 : Memref sig .tc .vmem S2x384x128 .f32) (harg8 : arg8.IsWhole) (arg9 : Memref sig .tc .vmem S2x384x1 .f32) (harg9 : arg9.IsWhole)
variable (x2 : Vec Ideal S2x384x128 .bf16) (x3 : Vec Ideal S2x4224x128 .bf16) (x4 : Vec Ideal S4224x128 .bf16) (x5 : Vec Ideal S384x128 .f32) (x6 : Vec Ideal S384x128 .f32) (x7 : Vec Ideal S2x384x1 .f32)

/-- One trip of the loop over the unmasked key blocks, for both heads. -/
theorem trip_eq (arg1 : BitVec 32) (v11 : FVec Ideal S384x1 .f32) (v16 v17 : FVec Ideal S384x128 .bf16) (v19 : FVec Ideal S384x1 .f32) (v25 : FVec Ideal S384x128 .f32) (v30 : FVec Ideal S384x1 .f32) (v34 : Vec Ideal S1x384x128 .bf16) (v37 : Vec Ideal S1x384x1 .f32)
    (k : Fin (k0_t1_loop i).trips) (acc : FVec Ideal S384x128 .f32 × FVec Ideal S384x128 .f32) :
    tripR_k0_t1 (F := Ideal) Variants.none c none i arg2 harg2 arg3 harg3 arg4 harg4 arg5 harg5 arg6 harg6 arg7 harg7 arg8 harg8 arg9 harg9 arg1 v11 v16 v17 v19 v25 v30 v34 v37 (harg3.unread x3) (harg4.unread x4) k acc
      = (k0_pay24 v11 v16 v17 v19 acc.1 (View.ld x4 (Rect.unit (s := S4224x128) (k0_off1 i k) S768x128.size (k0_off1_inb i k))) (View.ld x3 (Rect.unit (s := S2x4224x128) (k0_off2 i k) S1x768x128.size (k0_off2_inb i k))),
         k0_pay25 v25 v30 v34 v37 acc.2 (View.ld x4 (Rect.unit (s := S4224x128) (k0_off1 i k) S768x128.size (k0_off1_inb i k))) (View.ld x3 (Rect.unit (s := S2x4224x128) (k0_off3 i k) S1x768x128.size (k0_off3_inb i k)))) := by
  unfold tripR_k0_t1 trip_k0_t1
  dsimp only
  sl_unfold_words
  simp only [View.readAt_eq_ld, harg3.read_unread, harg4.read_unread]

/-- What the loop over the unmasked key blocks carries before its `n`-th trip, for both heads. -/
def carried (n : ℕ) : FVec Ideal S384x128 .f32 × FVec Ideal S384x128 .f32 :=
  st_k0_t1 (F := Ideal) Variants.none c none i arg2 harg2 arg3 harg3 arg4 harg4 arg5 harg5 arg6 harg6 arg7 harg7 arg8 harg8 arg9 harg9 (BitVec.ofNat 32 (i 1).val) (k0_pay11 x5 x6) (k0_pay13 (q0 x2)) (k0_pay14 x5) (k0_pay15 (l0 x7)) (k0_pay16 x5) (k0_pay17 x5 x6) (q1 x2) (l1 x7) (harg3.unread x3) (harg4.unread x4) (k0_pay22, k0_pay22) n

/-- The remainder loop of the unmasked key blocks makes no trip. -/
theorem rest_trips : (k0_t2_loop i).trips = 0 := by
  unfold k0_t2_loop
  generalize i 1 = j
  obtain ⟨n, hn⟩ := j
  change n < 11 at hn
  interval_cases n <;> (dsimp only; decide)

/-- The main loop's number of trips. -/
theorem main_trips : (k0_t1_loop i).trips = (i 1).val / 2 := by
  unfold k0_t1_loop
  generalize i 1 = j
  obtain ⟨n, hn⟩ := j
  change n < 11 at hn
  interval_cases n <;> (dsimp only; decide)

/-- The last key block is one row tile wide at the even row tiles. -/
theorem narrow_iff : Narrow i ↔ (i 1).val % 2 = 0 := by
  unfold Narrow k0_cond1
  generalize i 1 = j
  obtain ⟨n, hn⟩ := j
  change n < 11 at hn
  interval_cases n <;> (dsimp only; decide)

/-- The first key of the last key block, as the body computes it. -/
def firstKey : BitVec 32 :=
  Scalar.muli (Scalar.muli (Scalar.select (Scalar.andi (Scalar.cmpi .ne (Scalar.subi (Scalar.extui (Scalar.cmpi .sgt (BitVec.ofNat 32 (i 1).val) 0#32)) (Scalar.extui (Scalar.cmpi .slt (BitVec.ofNat 32 (i 1).val) 0#32))) (Scalar.subi (Scalar.extui (Scalar.cmpi .sgt 2#32 0#32)) (Scalar.extui (Scalar.cmpi .slt 2#32 0#32)))) (Scalar.cmpi .ne (Scalar.remsi (BitVec.ofNat 32 (i 1).val) 2#32) 0#32)) (Scalar.subi (Scalar.divsi (BitVec.ofNat 32 (i 1).val) 2#32) 1#32) (Scalar.divsi (BitVec.ofNat 32 (i 1).val) 2#32)) 2#32) 384#32

theorem firstKey_eq : firstKey i = BitVec.ofNat 32 ((i 1).val / 2 * 768) := by
  unfold firstKey
  generalize i 1 = j
  obtain ⟨n, hn⟩ := j
  change n < 11 at hn
  interval_cases n <;> (dsimp only; decide)

/-- The first key of the last key block, as the offsets compute it. -/
theorem off7_eq : k0_off7 i = ![(i 1).val / 2 * 768, 0] := by
  unfold k0_off7
  generalize i 1 = j
  obtain ⟨n, hn⟩ := j
  change n < 11 at hn
  interval_cases n <;> (dsimp only; decide)

theorem off8_eq : k0_off8 i = ![0, (i 1).val / 2 * 768, 0] := by
  unfold k0_off8
  generalize i 1 = j
  obtain ⟨n, hn⟩ := j
  change n < 11 at hn
  interval_cases n <;> (dsimp only; decide)

theorem off9_eq : k0_off9 i = ![1, (i 1).val / 2 * 768, 0] := by
  unfold k0_off9
  generalize i 1 = j
  obtain ⟨n, hn⟩ := j
  change n < 11 at hn
  interval_cases n <;> (dsimp only; decide)

theorem off10_eq : k0_off10 i = ![(i 1).val / 2 * 768, 0] := by
  unfold k0_off10
  generalize i 1 = j
  obtain ⟨n, hn⟩ := j
  change n < 11 at hn
  interval_cases n <;> (dsimp only; decide)

theorem off11_eq : k0_off11 i = ![0, (i 1).val / 2 * 768, 0] := by
  unfold k0_off11
  generalize i 1 = j
  obtain ⟨n, hn⟩ := j
  change n < 11 at hn
  interval_cases n <;> (dsimp only; decide)

theorem off12_eq : k0_off12 i = ![1, (i 1).val / 2 * 768, 0] := by
  unfold k0_off12
  generalize i 1 = j
  obtain ⟨n, hn⟩ := j
  change n < 11 at hn
  interval_cases n <;> (dsimp only; decide)

/-- The first key of a trip's block, as the offsets compute it. -/
theorem off1_eq (k : Fin (k0_t1_loop i).trips) : k0_off1 i k = ![k.val * 768, 0] := by
  have hk : k.val < (i 1).val / 2 := lt_of_lt_of_eq k.isLt (main_trips i)
  have h1 : (i 1).val < 11 := (i 1).isLt
  have hk5 : k.val < 5 := by omega
  have key : ∀ n : Fin 5, (Scalar.indexCast (Scalar.muli (Scalar.muli (0#32 + BitVec.ofNat 32 n.val * 1#32) 2#32) 384#32)).toNat = n.val * 768 := by decide
  exact congrArg (fun z => ![z, 0]) (key ⟨k.val, hk5⟩)

theorem off2_eq (k : Fin (k0_t1_loop i).trips) : k0_off2 i k = ![0, k.val * 768, 0] := by
  exact congrArg (fun z => ![0, z, 0]) (congrFun (off1_eq i k) 0)

theorem off3_eq (k : Fin (k0_t1_loop i).trips) : k0_off3 i k = ![1, k.val * 768, 0] := by
  exact congrArg (fun z => ![1, z, 0]) (congrFun (off1_eq i k) 0)

/-- What the two loops over the unmasked key blocks leave, for both heads. -/
def ends : FVec Ideal S384x128 .f32 × FVec Ideal S384x128 .f32 :=
  st_k0_t2 (F := Ideal) Variants.none c none i arg2 harg2 arg3 harg3 arg4 harg4 arg5 harg5 arg6 harg6 arg7 harg7 arg8 harg8 arg9 harg9 (BitVec.ofNat 32 (i 1).val) (k0_pay11 x5 x6) (k0_pay13 (q0 x2)) (k0_pay14 x5) (k0_pay15 (l0 x7)) (k0_pay16 x5) (k0_pay17 x5 x6) (q1 x2) (l1 x7) (harg3.unread x3) (harg4.unread x4)
    (st_k0_t1 (F := Ideal) Variants.none c none i arg2 harg2 arg3 harg3 arg4 harg4 arg5 harg5 arg6 harg6 arg7 harg7 arg8 harg8 arg9 harg9 (BitVec.ofNat 32 (i 1).val) (k0_pay11 x5 x6) (k0_pay13 (q0 x2)) (k0_pay14 x5) (k0_pay15 (l0 x7)) (k0_pay16 x5) (k0_pay17 x5 x6) (q1 x2) (l1 x7) (harg3.unread x3) (harg4.unread x4) (k0_pay22, k0_pay22) (k0_t1_loop i).trips)
    (k0_t2_loop i).trips

/-- The remainder loop makes no trip, so they leave what the main loop leaves. -/
theorem ends_eq : ends c i arg2 harg2 arg3 harg3 arg4 harg4 arg5 harg5 arg6 harg6 arg7 harg7 arg8 harg8 arg9 harg9 x2 x3 x4 x5 x6 x7 = carried c i arg2 harg2 arg3 harg3 arg4 harg4 arg5 harg5 arg6 harg6 arg7 harg7 arg8 harg8 arg9 harg9 x2 x3 x4 x5 x6 x7 ((i 1).val / 2) := by
  unfold ends carried
  rw [rest_trips, main_trips]
  rfl

/-- The pieces of the queries' gradient at a point whose last key block is one row tile wide. -/
theorem narrow8 (hc : Narrow i) :
    (runNarrow (F := Ideal) c i arg2 harg2 arg3 harg3 arg4 harg4 arg5 harg5 arg6 harg6 arg7 harg7 arg8 harg8 arg9 harg9 hc x2 x3 x4 x5 x6 x7).1
      = [⟨Rect.unit (s := S2x384x128) ![1, 0, 0] S1x384x128.size inb_S2x384x128_S1x384x128_1_0_0, k0_pay1 (k0_pay32 (k0_pay29 (k0_pay17 x5 x6) (k0_pay20 (k0_pay16 x5)) (k0_pay21 (l1 x7)) (ends c i arg2 harg2 arg3 harg3 arg4 harg4 arg5 harg5 arg6 harg6 arg7 harg7 arg8 harg8 arg9 harg9 x2 x3 x4 x5 x6 x7).2 (k0_pay2 (View.ld x4 (Rect.unit (s := S4224x128) (k0_off7 i) S384x128.size (k0_off7_inb i hc)))) (k0_pay4 (View.ld x3 (Rect.unit (s := S2x4224x128) (k0_off9 i) S1x384x128.size (k0_off9_inb i hc)))) (k0_pay5 (BitVec.ofNat 32 (i 1).val) (k0_pay19 (q1 x2)) (firstKey i) (View.ld x3 (Rect.unit (s := S2x4224x128) (k0_off9 i) S1x384x128.size (k0_off9_inb i hc))))))⟩,
         ⟨Rect.unit (s := S2x384x128) ![0, 0, 0] S1x384x128.size inb_S2x384x128_S1x384x128_0_0_0, k0_pay31 (k0_pay3 (BitVec.ofNat 32 (i 1).val) (k0_pay11 x5 x6) (k0_pay13 (q0 x2)) (k0_pay14 x5) (k0_pay15 (l0 x7)) (ends c i arg2 harg2 arg3 harg3 arg4 harg4 arg5 harg5 arg6 harg6 arg7 harg7 arg8 harg8 arg9 harg9 x2 x3 x4 x5 x6 x7).1 (firstKey i) (View.ld x4 (Rect.unit (s := S4224x128) (k0_off7 i) S384x128.size (k0_off7_inb i hc))) (View.ld x3 (Rect.unit (s := S2x4224x128) (k0_off8 i) S1x384x128.size (k0_off8_inb i hc))))⟩] := by
  unfold runNarrow ends firstKey
  dsimp only
  sl_unfold_words
  dsimp only [Scf.Loop.trips, k0_t1_loop, k0_t2_loop]
  simp only [View.readAt_eq_ld, harg2.read_unread, harg3.read_unread, harg4.read_unread, harg5.read_unread, harg6.read_unread, harg7.read_unread, View.ld_unit_zero (S := S384x128) zeros2]
  rfl

/-- The pieces of the queries' gradient at a point whose last key block is two row tiles wide. -/
theorem wide8 (hc : ¬ Narrow i) :
    (runWide (F := Ideal) c i arg2 harg2 arg3 harg3 arg4 harg4 arg5 harg5 arg6 harg6 arg7 harg7 arg8 harg8 arg9 harg9 hc x2 x3 x4 x5 x6 x7).1
      = [⟨Rect.unit (s := S2x384x128) ![1, 0, 0] S1x384x128.size inb_S2x384x128_S1x384x128_1_0_0, k0_pay1 (k0_pay32 (k0_pay30 (k0_pay17 x5 x6) (k0_pay20 (k0_pay16 x5)) (k0_pay21 (l1 x7)) (ends c i arg2 harg2 arg3 harg3 arg4 harg4 arg5 harg5 arg6 harg6 arg7 harg7 arg8 harg8 arg9 harg9 x2 x3 x4 x5 x6 x7).2 (k0_pay6 (View.ld x4 (Rect.unit (s := S4224x128) (k0_off10 i) S768x128.size (k0_off10_inb i hc)))) (k0_pay8 (View.ld x3 (Rect.unit (s := S2x4224x128) (k0_off12 i) S1x768x128.size (k0_off12_inb i hc)))) (k0_pay9 (BitVec.ofNat 32 (i 1).val) (k0_pay19 (q1 x2)) (firstKey i) (View.ld x3 (Rect.unit (s := S2x4224x128) (k0_off12 i) S1x768x128.size (k0_off12_inb i hc))))))⟩,
         ⟨Rect.unit (s := S2x384x128) ![0, 0, 0] S1x384x128.size inb_S2x384x128_S1x384x128_0_0_0, k0_pay31 (k0_pay7 (BitVec.ofNat 32 (i 1).val) (k0_pay11 x5 x6) (k0_pay13 (q0 x2)) (k0_pay14 x5) (k0_pay15 (l0 x7)) (ends c i arg2 harg2 arg3 harg3 arg4 harg4 arg5 harg5 arg6 harg6 arg7 harg7 arg8 harg8 arg9 harg9 x2 x3 x4 x5 x6 x7).1 (firstKey i) (View.ld x4 (Rect.unit (s := S4224x128) (k0_off10 i) S768x128.size (k0_off10_inb i hc))) (View.ld x3 (Rect.unit (s := S2x4224x128) (k0_off11 i) S1x768x128.size (k0_off11_inb i hc))))⟩] := by
  unfold runWide ends firstKey
  dsimp only
  sl_unfold_words
  dsimp only [Scf.Loop.trips, k0_t1_loop, k0_t2_loop]
  simp only [View.readAt_eq_ld, harg2.read_unread, harg3.read_unread, harg4.read_unread, harg5.read_unread, harg6.read_unread, harg7.read_unread, View.ld_unit_zero (S := S384x128) zeros2]
  rfl

/-- The pieces of the row sums at a point whose last key block is one row tile wide. -/
theorem narrow9 (hc : Narrow i) :
    (runNarrow (F := Ideal) c i arg2 harg2 arg3 harg3 arg4 harg4 arg5 harg5 arg6 harg6 arg7 harg7 arg8 harg8 arg9 harg9 hc x2 x3 x4 x5 x6 x7).2.1
      = [⟨Rect.unit (s := S2x384x1) ![1, 0, 0] S1x384x1.size inb_S2x384x1_S1x384x1_1_0_0, k0_pay18 (k0_pay17 x5 x6)⟩,
         ⟨Rect.unit (s := S2x384x1) ![0, 0, 0] S1x384x1.size inb_S2x384x1_S1x384x1_0_0_0, k0_pay12 x5 x6⟩] := by
  unfold runNarrow
  dsimp only
  sl_unfold_words
  simp only [View.readAt_eq_ld, harg5.read_unread, harg6.read_unread, View.ld_unit_zero (S := S384x128) zeros2]

/-- The pieces of the row sums at a point whose last key block is two row tiles wide. -/
theorem wide9 (hc : ¬ Narrow i) :
    (runWide (F := Ideal) c i arg2 harg2 arg3 harg3 arg4 harg4 arg5 harg5 arg6 harg6 arg7 harg7 arg8 harg8 arg9 harg9 hc x2 x3 x4 x5 x6 x7).2.1
      = [⟨Rect.unit (s := S2x384x1) ![1, 0, 0] S1x384x1.size inb_S2x384x1_S1x384x1_1_0_0, k0_pay18 (k0_pay17 x5 x6)⟩,
         ⟨Rect.unit (s := S2x384x1) ![0, 0, 0] S1x384x1.size inb_S2x384x1_S1x384x1_0_0_0, k0_pay12 x5 x6⟩] := by
  unfold runWide
  dsimp only
  sl_unfold_words
  simp only [View.readAt_eq_ld, harg5.read_unread, harg6.read_unread, View.ld_unit_zero (S := S384x128) zeros2]

end forms

end Cert.AttnQKernelIdeal.Hand

end
-- ==== Proof.AttnQPay.lean ====
/- The values of the attention backward pass for the queries: each block's arithmetic at one entry. -/
module

public import proofs.«01_k».proof.Proof.Gen.AttnQKernelIdeal.Skeleton
public import Idealize.ShloMosaic.Lib.Pointwise
public import Idealize.ShloMosaic.Lib.Tactic
public import Idealize.ShloMosaic.Lib.WordCmp

@[expose] public section

set_option maxRecDepth 16384

noncomputable section

namespace Cert.AttnQKernelIdeal.Hand

open Idealize.ShloMosaic Idealize.ShloMosaic.TcCoe Idealize.ShloMosaic.Tactic
open Cert.AttnQKernelIdeal Cert.AttnQKernelIdeal.Gen

/-- The factor that turns a product of a query and a key into a power of two. -/
abbrev c2 : EReal := Named.named (F := Ideal) (φ := .f32) κ "att_log2" 0x3E16C740#32

/-- One key's weight times its part of the derivative: `x` the logarithm of the weight before the row's log-sum is taken
   off, `dp` the product of the cotangent and the value, `ls` the row's log-sum, `dl` the row's sum. -/
def part (x dp ls dl : EReal) : EReal := Ideal.exp2 (x - ls) * (dp - dl)

/-- The masked scores are the least number. -/
theorem masked_eq : Named.named (F := Ideal) (φ := .f32) κ "masked" 0xF149F2CA#32 = (⊥ : EReal) := by
  exact IdealRules.named_const.ideal_named_scalar _ _ _ _ rfl

theorem pay24_at (v11 : FVec Ideal S384x1 .f32) (v16 v17 : FVec Ideal S384x128 .bf16) (v19 : FVec Ideal S384x1 .f32) (acc : FVec Ideal S384x128 .f32) (V : Vec Ideal S768x128 .bf16) (K : Vec Ideal S1x768x128 .bf16) (r : Fin 384) (l : Fin 128) :
    k0_pay24 v11 v16 v17 v19 acc V K (ix2 r l)
      = acc (ix2 r l) + ∑ key : Fin 768, part ((∑ d : Fin 128, v16 (ix2 r d) * K (ix3 0 key d)) * c2) (∑ d : Fin 128, v17 (ix2 r d) * V (ix2 key d)) (v19 (ix2 r 0)) (v11 (ix2 r 0)) * K (ix3 0 key l) := by
  unfold part
  pointwise [k0_pay24, k0_pay23]
  rfl

theorem pay25_at (v25 : FVec Ideal S384x128 .f32) (v30 : FVec Ideal S384x1 .f32) (v34 : Vec Ideal S1x384x128 .bf16) (v37 : Vec Ideal S1x384x1 .f32) (acc : FVec Ideal S384x128 .f32) (V : Vec Ideal S768x128 .bf16) (K : Vec Ideal S1x768x128 .bf16) (r : Fin 384) (l : Fin 128) :
    k0_pay25 v25 v30 v34 v37 acc V K (ix2 r l)
      = acc (ix2 r l) + ∑ key : Fin 768, part ((∑ d : Fin 128, v34 (ix3 0 r d) * K (ix3 0 key d)) * c2) (∑ d : Fin 128, v25 (ix2 r d) * V (ix2 key d)) (v37 (ix3 0 r 0)) (v30 (ix2 r 0)) * K (ix3 0 key l) := by
  unfold part
  pointwise [k0_pay25, k0_pay19, k0_pay20, k0_pay21, k0_pay23]
  rfl

/-- The causal mask of a block of keys: the key `b + key` stands at or before the row `384 j + r`. -/
theorem mask_iff (j b r key : ℕ) (hj : j < 11) (hb : b < 4224) (hr : r < 384) (hk : key < 768) :
    (IntOp.cmpi .sle (IntOp.addi (BitVec.ofNat 32 b) (BitVec.ofNat 32 key)) (IntOp.addi (IntOp.muli (BitVec.ofNat 32 j) (BitVec.ofNat 32 384)) (BitVec.ofNat 32 r)) = 1#1) ↔ b + key ≤ 384 * j + r := by
  rw [WordCmp.muli_ofNat, WordCmp.addi_ofNat, WordCmp.addi_ofNat, WordCmp.cmpi_sle_ofNat (by omega) (by omega), Nat.mul_comm j 384]
  by_cases h : b + key ≤ 384 * j + r <;> simp [h]

theorem pay3_at (j b : ℕ) (hj : j < 11) (hb : b < 4224) (v11 : FVec Ideal S384x1 .f32) (v16 v17 : FVec Ideal S384x128 .bf16) (v19 : FVec Ideal S384x1 .f32) (acc : FVec Ideal S384x128 .f32) (V : Vec Ideal S384x128 .bf16) (K : Vec Ideal S1x384x128 .bf16) (r : Fin 384) (l : Fin 128) :
    k0_pay3 (BitVec.ofNat 32 j) v11 v16 v17 v19 acc (BitVec.ofNat 32 b) V K (ix2 r l)
      = acc (ix2 r l) + ∑ key : Fin 384, part (if b + key.val ≤ 384 * j + r.val then (∑ d : Fin 128, v16 (ix2 r d) * K (ix3 0 key d)) * c2 else ⊥) (∑ d : Fin 128, v17 (ix2 r d) * V (ix2 key d)) (v19 (ix2 r 0)) (v11 (ix2 r 0)) * K (ix3 0 key l) := by
  unfold part
  pointwise [k0_pay3, k0_pay2, k0_pay6]
  refine congrArg (fun z => acc (ix2 r l) + z) (Finset.sum_congr rfl fun key _ => ?_)
  refine congrArg (fun z => Ideal.exp2 (z - v19 (ix2 r 0)) * _ * _) ?_
  unfold Scalar.select
  exact if_congr (mask_iff j b r.val key.val hj hb r.isLt (by omega)) rfl masked_eq

theorem pay7_at (j b : ℕ) (hj : j < 11) (hb : b < 4224) (v11 : FVec Ideal S384x1 .f32) (v16 v17 : FVec Ideal S384x128 .bf16) (v19 : FVec Ideal S384x1 .f32) (acc : FVec Ideal S384x128 .f32) (V : Vec Ideal S768x128 .bf16) (K : Vec Ideal S1x768x128 .bf16) (r : Fin 384) (l : Fin 128) :
    k0_pay7 (BitVec.ofNat 32 j) v11 v16 v17 v19 acc (BitVec.ofNat 32 b) V K (ix2 r l)
      = acc (ix2 r l) + ∑ key : Fin 768, part (if b + key.val ≤ 384 * j + r.val then (∑ d : Fin 128, v16 (ix2 r d) * K (ix3 0 key d)) * c2 else ⊥) (∑ d : Fin 128, v17 (ix2 r d) * V (ix2 key d)) (v19 (ix2 r 0)) (v11 (ix2 r 0)) * K (ix3 0 key l) := by
  unfold part
  pointwise [k0_pay7, k0_pay2, k0_pay6]
  refine congrArg (fun z => acc (ix2 r l) + z) (Finset.sum_congr rfl fun key _ => ?_)
  refine congrArg (fun z => Ideal.exp2 (z - v19 (ix2 r 0)) * _ * _) ?_
  unfold Scalar.select
  exact if_congr (mask_iff j b r.val key.val hj hb r.isLt (by omega)) rfl masked_eq

theorem pay29_at (j b : ℕ) (hj : j < 11) (hb : b < 4224) (v30 : FVec Ideal S384x1 .f32) (v25 : FVec Ideal S384x128 .f32) (v34 : Vec Ideal S1x384x128 .bf16) (v37 : Vec Ideal S1x384x1 .f32) (acc : FVec Ideal S384x128 .f32) (V : Vec Ideal S384x128 .bf16) (K : Vec Ideal S1x384x128 .bf16) (r : Fin 384) (l : Fin 128) :
    k0_pay29 v30 (k0_pay20 v25) (k0_pay21 v37) acc (k0_pay2 V) (k0_pay4 K) (k0_pay5 (BitVec.ofNat 32 j) (k0_pay19 v34) (BitVec.ofNat 32 b) K) (ix2 r l)
      = acc (ix2 r l) + ∑ key : Fin 384, part (if b + key.val ≤ 384 * j + r.val then (∑ d : Fin 128, v34 (ix3 0 r d) * K (ix3 0 key d)) * c2 else ⊥) (∑ d : Fin 128, v25 (ix2 r d) * V (ix2 key d)) (v37 (ix3 0 r 0)) (v30 (ix2 r 0)) * K (ix3 0 key l) := by
  unfold part
  pointwise [k0_pay29, k0_pay2, k0_pay4, k0_pay5, k0_pay19, k0_pay20, k0_pay21]
  refine congrArg (fun z => acc (ix2 r l) + z) (Finset.sum_congr rfl fun key _ => ?_)
  refine congrArg (fun z => Ideal.exp2 (z - v37 (ix3 0 r 0)) * _ * _) ?_
  unfold Scalar.select
  exact if_congr (mask_iff j b r.val key.val hj hb r.isLt (by omega)) rfl masked_eq

theorem pay30_at (j b : ℕ) (hj : j < 11) (hb : b < 4224) (v30 : FVec Ideal S384x1 .f32) (v25 : FVec Ideal S384x128 .f32) (v34 : Vec Ideal S1x384x128 .bf16) (v37 : Vec Ideal S1x384x1 .f32) (acc : FVec Ideal S384x128 .f32) (V : Vec Ideal S768x128 .bf16) (K : Vec Ideal S1x768x128 .bf16) (r : Fin 384) (l : Fin 128) :
    k0_pay30 v30 (k0_pay20 v25) (k0_pay21 v37) acc (k0_pay6 V) (k0_pay8 K) (k0_pay9 (BitVec.ofNat 32 j) (k0_pay19 v34) (BitVec.ofNat 32 b) K) (ix2 r l)
      = acc (ix2 r l) + ∑ key : Fin 768, part (if b + key.val ≤ 384 * j + r.val then (∑ d : Fin 128, v34 (ix3 0 r d) * K (ix3 0 key d)) * c2 else ⊥) (∑ d : Fin 128, v25 (ix2 r d) * V (ix2 key d)) (v37 (ix3 0 r 0)) (v30 (ix2 r 0)) * K (ix3 0 key l) := by
  unfold part
  pointwise [k0_pay30, k0_pay6, k0_pay8, k0_pay9, k0_pay19, k0_pay20, k0_pay21]
  refine congrArg (fun z => acc (ix2 r l) + z) (Finset.sum_congr rfl fun key _ => ?_)
  refine congrArg (fun z => Ideal.exp2 (z - v37 (ix3 0 r 0)) * _ * _) ?_
  unfold Scalar.select
  exact if_congr (mask_iff j b r.val key.val hj hb r.isLt (by omega)) rfl masked_eq

theorem lane_lt (d : ℕ) (hd : d < 128) : (IntOp.cmpi .slt (BitVec.ofNat 32 d) 64#32 = 1#1) ↔ d < 64 := by
  word_cmp
theorem lane_ge (d : ℕ) (hd : d < 128) : (IntOp.cmpi .sge (BitVec.ofNat 32 d) 64#32 = 1#1) ↔ 64 ≤ d := by
  word_cmp

/-- The cotangent's lanes of the first head, the others zero. -/
theorem pay14_at (x : Vec Ideal S384x128 .f32) (r : Fin 384) (d : Fin 128) : k0_pay14 x (ix2 r d) = if d.val < 64 then x (ix2 r d) else 0 := by
  pointwise [k0_pay14, k0_pay10]
  unfold Scalar.select
  exact if_congr (lane_lt d.val d.isLt) rfl rfl

/-- The cotangent's lanes of the second head, the others zero. -/
theorem pay16_at (x : Vec Ideal S384x128 .f32) (r : Fin 384) (d : Fin 128) : k0_pay16 x (ix2 r d) = if 64 ≤ d.val then x (ix2 r d) else 0 := by
  pointwise [k0_pay16]
  unfold Scalar.select
  exact if_congr (lane_ge d.val d.isLt) rfl rfl

/-- The sum over the first head's lanes. -/
def lowSum (f : Fin 128 → EReal) : EReal := ∑ d : Fin 128, if d.val < 64 then f d else 0
/-- The sum over the second head's lanes. -/
def highSum (f : Fin 128 → EReal) : EReal := ∑ d : Fin 128, if 64 ≤ d.val then f d else 0

/-- The row sums of the first head. -/
theorem pay11_at (x y : Vec Ideal S384x128 .f32) (r : Fin 384) : k0_pay11 x y (ix2 r 0) = lowSum fun d => x (ix2 r d) * y (ix2 r d) := by
  pointwise [k0_pay11, k0_pay10]
  unfold lowSum
  refine Finset.sum_congr rfl fun d _ => ?_
  unfold Scalar.select
  exact if_congr (lane_lt d.val d.isLt) rfl rfl

/-- The row sums of the second head. -/
theorem pay17_at (x y : Vec Ideal S384x128 .f32) (r : Fin 384) : k0_pay17 x y (ix2 r 0) = highSum fun d => x (ix2 r d) * y (ix2 r d) := by
  pointwise [k0_pay17, k0_pay16]
  unfold highSum
  refine Finset.sum_congr rfl fun d _ => ?_
  unfold Scalar.select
  exact if_congr (lane_ge d.val d.isLt) rfl rfl

theorem pay12_at (x y : Vec Ideal S384x128 .f32) (r : Fin 384) : k0_pay12 x y (ix3 0 r 0) = k0_pay11 x y (ix2 r 0) := by
  pointwise [k0_pay12]
theorem pay18_at (x : FVec Ideal S384x1 .f32) (r : Fin 384) : k0_pay18 x (ix3 0 r 0) = x (ix2 r 0) := by
  pointwise [k0_pay18]
theorem pay13_at (x : Vec Ideal S1x384x128 .bf16) (r : Fin 384) (d : Fin 128) : k0_pay13 x (ix2 r d) = x (ix3 0 r d) := by
  pointwise [k0_pay13]
theorem pay15_at (x : Vec Ideal S1x384x1 .f32) (r : Fin 384) : k0_pay15 x (ix2 r 0) = x (ix3 0 r 0) := by
  pointwise [k0_pay15]
theorem pay22_at (r : Fin 384) (l : Fin 128) : k0_pay22 (F := Ideal) (ix2 r l) = 0 := by
  pointwise [k0_pay22]
theorem pay31_at (x : FVec Ideal S384x128 .f32) (r : Fin 384) (l : Fin 128) : k0_pay31 x (ix3 0 r l) = x (ix2 r l) * Ideal.ofBits .f32 0x3DD105EC#32 := by
  pointwise [k0_pay31]
  try rfl
theorem pay132_at (x : FVec Ideal S384x128 .f32) (r : Fin 384) (l : Fin 128) : k0_pay1 (k0_pay32 x) (ix3 0 r l) = x (ix2 r l) * Ideal.ofBits .f32 0x3DD105EC#32 := by
  pointwise [k0_pay1, k0_pay32]
  try rfl

end Cert.AttnQKernelIdeal.Hand

end
-- ==== Proof.AttnQSum.lean ====
/- The values of the attention backward pass for the queries: one grid point's blocks as sums over all keys. -/
module

public import proofs.«01_k».proof.Proof.AttnQForm
public import proofs.«01_k».proof.Proof.AttnQPay
public import Idealize.ShloMosaic.Lib.Pipeline.ValueKit.Tiles

@[expose] public section

set_option maxRecDepth 16384

noncomputable section

namespace Cert.AttnQKernelIdeal.Hand

open Idealize.ShloMosaic Idealize.ShloMosaic.TcCoe Idealize.ShloMosaic.Tactic
open Cert.AttnQKernelIdeal Cert.AttnQKernelIdeal.Gen

/-- The cotangent's lanes of head `a` of the pair, the others zero. -/
def dOut (a : Fin 2) (x5 : Vec Ideal S384x128 .f32) (r : Fin 384) (d : Fin 128) : EReal := if d.val / 64 = a.val then x5 (ix2 r d) else 0

/-- The row sums of cotangent times output over the lanes of head `a`. -/
def rowSum (a : Fin 2) (x5 x6 : Vec Ideal S384x128 .f32) (r : Fin 384) : EReal := ∑ d : Fin 128, if d.val / 64 = a.val then x5 (ix2 r d) * x6 (ix2 r d) else 0

/-- One key's term of the gradient of a query of head `a` in row tile `j`, before the last scale: zero for keys after the row. -/
def term (x2 : Vec Ideal S2x384x128 .bf16) (x3 : Vec Ideal S2x4224x128 .bf16) (x4 : Vec Ideal S4224x128 .bf16) (x5 x6 : Vec Ideal S384x128 .f32) (x7 : Vec Ideal S2x384x1 .f32)
    (a : Fin 2) (j : ℕ) (r : Fin 384) (l : Fin 128) (key : ℕ) : EReal :=
  if h : key < 4224 then
    (if key ≤ 384 * j + r.val then
      part ((∑ d : Fin 128, x2 (ix3 a r d) * x3 (ix3 a ⟨key, h⟩ d)) * c2) (∑ d : Fin 128, dOut a x5 r d * x4 (ix2 ⟨key, h⟩ d)) (x7 (ix3 a r 0)) (rowSum a x5 x6 r) * x3 (ix3 a ⟨key, h⟩ l)
    else 0)
  else 0

theorem term_of_le (x2 : Vec Ideal S2x384x128 .bf16) (x3 : Vec Ideal S2x4224x128 .bf16) (x4 : Vec Ideal S4224x128 .bf16) (x5 x6 : Vec Ideal S384x128 .f32) (x7 : Vec Ideal S2x384x1 .f32)
    (a : Fin 2) (j : ℕ) (r : Fin 384) (l : Fin 128) (key : ℕ) (h : key < 4224) (hk : key ≤ 384 * j + r.val) :
    term x2 x3 x4 x5 x6 x7 a j r l key = part ((∑ d : Fin 128, x2 (ix3 a r d) * x3 (ix3 a ⟨key, h⟩ d)) * c2) (∑ d : Fin 128, dOut a x5 r d * x4 (ix2 ⟨key, h⟩ d)) (x7 (ix3 a r 0)) (rowSum a x5 x6 r) * x3 (ix3 a ⟨key, h⟩ l) := by
  unfold term
  exact (dif_pos h).trans (if_pos hk)

theorem term_of_lt (x2 : Vec Ideal S2x384x128 .bf16) (x3 : Vec Ideal S2x4224x128 .bf16) (x4 : Vec Ideal S4224x128 .bf16) (x5 x6 : Vec Ideal S384x128 .f32) (x7 : Vec Ideal S2x384x1 .f32)
    (a : Fin 2) (j : ℕ) (r : Fin 384) (l : Fin 128) (key : ℕ) (hk : 384 * j + r.val < key) :
    term x2 x3 x4 x5 x6 x7 a j r l key = 0 := by
  unfold term
  split
  · exact if_neg (by omega)
  · rfl

/-- A masked key's term is the unmasked one where the key is at or before the row, and zero elsewhere. -/
theorem term_masked (x2 : Vec Ideal S2x384x128 .bf16) (x3 : Vec Ideal S2x4224x128 .bf16) (x4 : Vec Ideal S4224x128 .bf16) (x5 x6 : Vec Ideal S384x128 .f32) (x7 : Vec Ideal S2x384x1 .f32)
    (a : Fin 2) (j : ℕ) (r : Fin 384) (l : Fin 128) (key : ℕ) (h : key < 4224) :
    part (if key ≤ 384 * j + r.val then (∑ d : Fin 128, x2 (ix3 a r d) * x3 (ix3 a ⟨key, h⟩ d)) * c2 else ⊥) (∑ d : Fin 128, dOut a x5 r d * x4 (ix2 ⟨key, h⟩ d)) (x7 (ix3 a r 0)) (rowSum a x5 x6 r) * x3 (ix3 a ⟨key, h⟩ l)
      = term x2 x3 x4 x5 x6 x7 a j r l key := by
  by_cases hk : key ≤ 384 * j + r.val
  · rw [term_of_le x2 x3 x4 x5 x6 x7 a j r l key h hk, if_pos hk]
  · rw [term_of_lt x2 x3 x4 x5 x6 x7 a j r l key (by omega), if_neg hk]
    unfold part
    rw [EReal.bot_sub, Ideal.exp2_bot, zero_mul, zero_mul]

section lanes

variable (x5 x6 : Vec Ideal S384x128 .f32) (r : Fin 384)

theorem pay14_own (d : Fin 128) : k0_pay14 x5 (ix2 r d) = dOut 0 x5 r d := by
  rw [pay14_at]
  exact if_congr (by show _ ↔ d.val / 64 = 0; omega) rfl rfl

theorem pay16_own (d : Fin 128) : k0_pay16 x5 (ix2 r d) = dOut 1 x5 r d := by
  have hd := d.isLt
  rw [pay16_at]
  exact if_congr (by show _ ↔ d.val / 64 = 1; omega) rfl rfl

theorem pay11_own : k0_pay11 x5 x6 (ix2 r 0) = rowSum 0 x5 x6 r := by
  rw [pay11_at]
  unfold lowSum rowSum
  exact Finset.sum_congr rfl fun d _ => if_congr (by show _ ↔ d.val / 64 = 0; omega) rfl rfl

theorem pay17_own : k0_pay17 x5 x6 (ix2 r 0) = rowSum 1 x5 x6 r := by
  rw [pay17_at]
  unfold highSum rowSum
  exact Finset.sum_congr rfl fun d _ => if_congr (by have hd := d.isLt; show _ ↔ d.val / 64 = 1; omega) rfl rfl

end lanes

section sums

variable (c : Dev nD) (i : grid0.Coords) (arg2 : Memref sig .tc .vmem S2x384x128 .bf16) (harg2 : arg2.IsWhole) (arg3 : Memref sig .tc .vmem S2x4224x128 .bf16) (harg3 : arg3.IsWhole) (arg4 : Memref sig .tc .vmem S4224x128 .bf16) (harg4 : arg4.IsWhole) (arg5 : Memref sig .tc .vmem S384x128 .f32) (harg5 : arg5.IsWhole) (arg6 : Memref sig .tc .vmem S384x128 .f32) (harg6 : arg6.IsWhole) (arg7 : Memref sig .tc .vmem S2x384x1 .f32) (harg7 : arg7.IsWhole) (arg8 : Memref sig .tc .vmem S2x384x128 .f32) (harg8 : arg8.IsWhole) (arg9 : Memref sig .tc .vmem S2x384x1 .f32) (harg9 : arg9.IsWhole)
variable (x2 : Vec Ideal S2x384x128 .bf16) (x3 : Vec Ideal S2x4224x128 .bf16) (x4 : Vec Ideal S4224x128 .bf16) (x5 : Vec Ideal S384x128 .f32) (x6 : Vec Ideal S384x128 .f32) (x7 : Vec Ideal S2x384x1 .f32)

theorem q0_at (r : Fin 384) (d : Fin 128) : q0 x2 (ix3 0 r d) = x2 (ix3 0 r d) :=
  View.ld_unit_apply_of x2 _ _ _ _ _ fun a => by match a with | 0 => rfl | 1 => exact (Nat.zero_add _).symm | 2 => exact (Nat.zero_add _).symm
theorem q1_at (r : Fin 384) (d : Fin 128) : q1 x2 (ix3 0 r d) = x2 (ix3 1 r d) :=
  View.ld_unit_apply_of x2 _ _ _ _ _ fun a => by match a with | 0 => rfl | 1 => exact (Nat.zero_add _).symm | 2 => exact (Nat.zero_add _).symm
theorem l0_at (r : Fin 384) : l0 x7 (ix3 0 r 0) = x7 (ix3 0 r 0) :=
  View.ld_unit_apply_of x7 _ _ _ _ _ fun a => by match a with | 0 => rfl | 1 => exact (Nat.zero_add _).symm | 2 => rfl
theorem l1_at (r : Fin 384) : l1 x7 (ix3 0 r 0) = x7 (ix3 1 r 0) :=
  View.ld_unit_apply_of x7 _ _ _ _ _ fun a => by match a with | 0 => rfl | 1 => exact (Nat.zero_add _).symm | 2 => rfl

/-- A block of values: the value rows from `b` on. -/
theorem ld_v (W b : ℕ) (off : Fin 2 → ℕ) (ho : off = ![b, 0]) (inb) (key : Fin W) (d : Fin 128) (hb : b + key.val < 4224) :
    View.ld x4 (Rect.unit (s := S4224x128) off ![W, 128] inb) (ix2 key d) = x4 (ix2 ⟨b + key.val, hb⟩ d) := by
  subst ho
  exact View.ld_unit_apply_of x4 _ _ _ _ _ fun a => by match a with | 0 => rfl | 1 => exact (Nat.zero_add _).symm

/-- A block of keys of head `a`: the key rows from `b` on. -/
theorem ld_k (W b : ℕ) (a : Fin 2) (off : Fin 3 → ℕ) (ho : off = ![a.val, b, 0]) (inb) (key : Fin W) (d : Fin 128) (hb : b + key.val < 4224) :
    View.ld x3 (Rect.unit (s := S2x4224x128) off ![1, W, 128] inb) (ix3 0 key d) = x3 (ix3 a ⟨b + key.val, hb⟩ d) := by
  subst ho
  exact View.ld_unit_apply_of x3 _ _ _ _ _ fun a => by match a with | 0 => rfl | 1 => rfl | 2 => exact (Nat.zero_add _).symm

/-- The main loop's carry of the first head: the terms of the keys before its blocks' end. -/
theorem carried0 (n : ℕ) (hn : n ≤ (i 1).val / 2) (r : Fin 384) (l : Fin 128) :
    (carried c i arg2 harg2 arg3 harg3 arg4 harg4 arg5 harg5 arg6 harg6 arg7 harg7 arg8 harg8 arg9 harg9 x2 x3 x4 x5 x6 x7 n).1 (ix2 r l) = ∑ key ∈ Finset.range (n * 768), term x2 x3 x4 x5 x6 x7 0 (i 1).val r l key := by
  have hi : (i 1).val < 11 := (i 1).isLt
  induction n with
  | zero =>
    rw [show carried c i arg2 harg2 arg3 harg3 arg4 harg4 arg5 harg5 arg6 harg6 arg7 harg7 arg8 harg8 arg9 harg9 x2 x3 x4 x5 x6 x7 0 = (k0_pay22, k0_pay22) from st_k0_t1_zero ..]
    simpa using pay22_at r l
  | succ n ih =>
    have hk : n < (k0_t1_loop i).trips := by rw [main_trips]; omega
    have e : carried c i arg2 harg2 arg3 harg3 arg4 harg4 arg5 harg5 arg6 harg6 arg7 harg7 arg8 harg8 arg9 harg9 x2 x3 x4 x5 x6 x7 (n + 1) = tripR_k0_t1 (F := Ideal) Variants.none c none i arg2 harg2 arg3 harg3 arg4 harg4 arg5 harg5 arg6 harg6 arg7 harg7 arg8 harg8 arg9 harg9 (BitVec.ofNat 32 (i 1).val) (k0_pay11 x5 x6) (k0_pay13 (q0 x2)) (k0_pay14 x5) (k0_pay15 (l0 x7)) (k0_pay16 x5) (k0_pay17 x5 x6) (q1 x2) (l1 x7) (harg3.unread x3) (harg4.unread x4) ⟨n, hk⟩ (carried c i arg2 harg2 arg3 harg3 arg4 harg4 arg5 harg5 arg6 harg6 arg7 harg7 arg8 harg8 arg9 harg9 x2 x3 x4 x5 x6 x7 n) :=
      st_k0_t1_succ (F := Ideal) Variants.none c none i arg2 harg2 arg3 harg3 arg4 harg4 arg5 harg5 arg6 harg6 arg7 harg7 arg8 harg8 arg9 harg9 (BitVec.ofNat 32 (i 1).val) (k0_pay11 x5 x6) (k0_pay13 (q0 x2)) (k0_pay14 x5) (k0_pay15 (l0 x7)) (k0_pay16 x5) (k0_pay17 x5 x6) (q1 x2) (l1 x7) (harg3.unread x3) (harg4.unread x4) (k0_pay22, k0_pay22) ⟨n, hk⟩
    rw [e, trip_eq]
    refine (pay24_at _ _ _ _ _ _ _ r l).trans ?_
    rw [ih (by omega), show (n + 1) * 768 = n * 768 + 768 by ring, Finset.sum_range_add]
    refine congrArg _ ((Finset.sum_congr rfl fun key _ => ?_).trans (Finset.sum_range _).symm)
    have hkey := key.isLt
    rw [term_of_le x2 x3 x4 x5 x6 x7 0 (i 1).val r l (n * 768 + key.val) (by omega) (by omega), pay15_at, l0_at, pay11_own]
    simp only [pay13_at, q0_at, pay14_own]
    have ek : ∀ d : Fin 128, View.ld x3 (Rect.unit (s := S2x4224x128) (k0_off2 i ⟨n, hk⟩) S1x768x128.size (k0_off2_inb i ⟨n, hk⟩)) (ix3 0 key d) = x3 (ix3 0 ⟨n * 768 + key.val, by omega⟩ d) := fun d =>
      ld_k x3 768 (n * 768) 0 _ (off2_eq i ⟨n, hk⟩) _ key d (by omega)
    have ev : ∀ d : Fin 128, View.ld x4 (Rect.unit (s := S4224x128) (k0_off1 i ⟨n, hk⟩) S768x128.size (k0_off1_inb i ⟨n, hk⟩)) (ix2 key d) = x4 (ix2 ⟨n * 768 + key.val, by omega⟩ d) := fun d =>
      ld_v x4 768 (n * 768) _ (off1_eq i ⟨n, hk⟩) _ key d (by omega)
    simp only [ek, ev]

/-- The main loop's carry of the second head, likewise. -/
theorem carried1 (n : ℕ) (hn : n ≤ (i 1).val / 2) (r : Fin 384) (l : Fin 128) :
    (carried c i arg2 harg2 arg3 harg3 arg4 harg4 arg5 harg5 arg6 harg6 arg7 harg7 arg8 harg8 arg9 harg9 x2 x3 x4 x5 x6 x7 n).2 (ix2 r l) = ∑ key ∈ Finset.range (n * 768), term x2 x3 x4 x5 x6 x7 1 (i 1).val r l key := by
  have hi : (i 1).val < 11 := (i 1).isLt
  induction n with
  | zero =>
    rw [show carried c i arg2 harg2 arg3 harg3 arg4 harg4 arg5 harg5 arg6 harg6 arg7 harg7 arg8 harg8 arg9 harg9 x2 x3 x4 x5 x6 x7 0 = (k0_pay22, k0_pay22) from st_k0_t1_zero ..]
    simpa using pay22_at r l
  | succ n ih =>
    have hk : n < (k0_t1_loop i).trips := by rw [main_trips]; omega
    have e : carried c i arg2 harg2 arg3 harg3 arg4 harg4 arg5 harg5 arg6 harg6 arg7 harg7 arg8 harg8 arg9 harg9 x2 x3 x4 x5 x6 x7 (n + 1) = tripR_k0_t1 (F := Ideal) Variants.none c none i arg2 harg2 arg3 harg3 arg4 harg4 arg5 harg5 arg6 harg6 arg7 harg7 arg8 harg8 arg9 harg9 (BitVec.ofNat 32 (i 1).val) (k0_pay11 x5 x6) (k0_pay13 (q0 x2)) (k0_pay14 x5) (k0_pay15 (l0 x7)) (k0_pay16 x5) (k0_pay17 x5 x6) (q1 x2) (l1 x7) (harg3.unread x3) (harg4.unread x4) ⟨n, hk⟩ (carried c i arg2 harg2 arg3 harg3 arg4 harg4 arg5 harg5 arg6 harg6 arg7 harg7 arg8 harg8 arg9 harg9 x2 x3 x4 x5 x6 x7 n) :=
      st_k0_t1_succ (F := Ideal) Variants.none c none i arg2 harg2 arg3 harg3 arg4 harg4 arg5 harg5 arg6 harg6 arg7 harg7 arg8 harg8 arg9 harg9 (BitVec.ofNat 32 (i 1).val) (k0_pay11 x5 x6) (k0_pay13 (q0 x2)) (k0_pay14 x5) (k0_pay15 (l0 x7)) (k0_pay16 x5) (k0_pay17 x5 x6) (q1 x2) (l1 x7) (harg3.unread x3) (harg4.unread x4) (k0_pay22, k0_pay22) ⟨n, hk⟩
    rw [e, trip_eq]
    refine (pay25_at _ _ _ _ _ _ _ r l).trans ?_
    rw [ih (by omega), show (n + 1) * 768 = n * 768 + 768 by ring, Finset.sum_range_add]
    refine congrArg _ ((Finset.sum_congr rfl fun key _ => ?_).trans (Finset.sum_range _).symm)
    have hkey := key.isLt
    rw [term_of_le x2 x3 x4 x5 x6 x7 1 (i 1).val r l (n * 768 + key.val) (by omega) (by omega), l1_at, pay17_own]
    simp only [q1_at, pay16_own]
    have ek : ∀ d : Fin 128, View.ld x3 (Rect.unit (s := S2x4224x128) (k0_off3 i ⟨n, hk⟩) S1x768x128.size (k0_off3_inb i ⟨n, hk⟩)) (ix3 0 key d) = x3 (ix3 1 ⟨n * 768 + key.val, by omega⟩ d) := fun d =>
      ld_k x3 768 (n * 768) 1 _ (off3_eq i ⟨n, hk⟩) _ key d (by omega)
    have ev : ∀ d : Fin 128, View.ld x4 (Rect.unit (s := S4224x128) (k0_off1 i ⟨n, hk⟩) S768x128.size (k0_off1_inb i ⟨n, hk⟩)) (ix2 key d) = x4 (ix2 ⟨n * 768 + key.val, by omega⟩ d) := fun d =>
      ld_v x4 768 (n * 768) _ (off1_eq i ⟨n, hk⟩) _ key d (by omega)
    simp only [ek, ev]

/-- The terms of all keys: those from `b` on are zero where `b` is past the row tile. -/
theorem range_all (a : Fin 2) (j b : ℕ) (hb : 384 * j + 384 ≤ b) (hb' : b ≤ 4224) (r : Fin 384) (l : Fin 128) :
    ∑ key ∈ Finset.range b, term x2 x3 x4 x5 x6 x7 a j r l key = ∑ key ∈ Finset.range 4224, term x2 x3 x4 x5 x6 x7 a j r l key := by
  refine Finset.sum_subset (fun k hk => Finset.mem_range.mpr (by have := Finset.mem_range.mp hk; omega)) fun k _ hk => ?_
  have h1 : ¬ k < b := fun h => hk (Finset.mem_range.mpr h)
  exact term_of_lt x2 x3 x4 x5 x6 x7 a j r l k (by have := r.isLt; omega)

/-- The gradient's two stores, read at the first head. -/
theorem canon8_0 (w1 w0 : Vec Ideal S1x384x128 .f32) (r : Fin 384) (l : Fin 128) :
    View.canon (Val := Elt Ideal) [⟨Rect.unit (s := S2x384x128) ![1, 0, 0] S1x384x128.size inb_S2x384x128_S1x384x128_1_0_0, w1⟩, ⟨Rect.unit (s := S2x384x128) ![0, 0, 0] S1x384x128.size inb_S2x384x128_S1x384x128_0_0_0, w0⟩] (ix3 0 r l) = w0 (ix3 0 r l) := by
  refine View.canon_eq_of_allAt _ _ _ (View.cover_of_tiled_head _ _ _ (by sl_kernel_rfl) _) (View.allAt_cons_unit _ _ _ _ _ (fun x hx => ?_) (View.allAt_cons_unit _ _ _ _ _ (fun x hx => ?_) (View.allAt_nil _ _)))
  · have h : (0 : ℕ) = 1 + (x 0 : ℕ) := hx 0
    omega
  · have h0 : (0 : ℕ) = 0 + (x 0 : ℕ) := hx 0
    have h1 : r.val = 0 + (x 1 : ℕ) := hx 1
    have h2 : l.val = 0 + (x 2 : ℕ) := hx 2
    refine congrArg w0 (funext fun a => Fin.ext ?_)
    match a with
    | 0 => show (x 0 : ℕ) = 0; omega
    | 1 => show (x 1 : ℕ) = r.val; omega
    | 2 => show (x 2 : ℕ) = l.val; omega

/-- The gradient's two stores, read at the second head. -/
theorem canon8_1 (w1 w0 : Vec Ideal S1x384x128 .f32) (r : Fin 384) (l : Fin 128) :
    View.canon (Val := Elt Ideal) [⟨Rect.unit (s := S2x384x128) ![1, 0, 0] S1x384x128.size inb_S2x384x128_S1x384x128_1_0_0, w1⟩, ⟨Rect.unit (s := S2x384x128) ![0, 0, 0] S1x384x128.size inb_S2x384x128_S1x384x128_0_0_0, w0⟩] (ix3 1 r l) = w1 (ix3 0 r l) := by
  refine View.canon_eq_of_allAt _ _ _ (View.cover_of_tiled_head _ _ _ (by sl_kernel_rfl) _) (View.allAt_cons_unit _ _ _ _ _ (fun x hx => ?_) (View.allAt_cons_unit _ _ _ _ _ (fun x hx => ?_) (View.allAt_nil _ _)))
  · have h0 : (1 : ℕ) = 1 + (x 0 : ℕ) := hx 0
    have h1 : r.val = 0 + (x 1 : ℕ) := hx 1
    have h2 : l.val = 0 + (x 2 : ℕ) := hx 2
    refine congrArg w1 (funext fun a => Fin.ext ?_)
    match a with
    | 0 => show (x 0 : ℕ) = 0; omega
    | 1 => show (x 1 : ℕ) = r.val; omega
    | 2 => show (x 2 : ℕ) = l.val; omega
  · have h : (1 : ℕ) = 0 + (x 0 : ℕ) := hx 0
    have hx0 : (x 0 : ℕ) < 1 := (x 0).isLt
    omega

/-- The row sums' two stores, read at the first head. -/
theorem canon9_0 (w1 w0 : Vec Ideal S1x384x1 .f32) (r : Fin 384) :
    View.canon (Val := Elt Ideal) [⟨Rect.unit (s := S2x384x1) ![1, 0, 0] S1x384x1.size inb_S2x384x1_S1x384x1_1_0_0, w1⟩, ⟨Rect.unit (s := S2x384x1) ![0, 0, 0] S1x384x1.size inb_S2x384x1_S1x384x1_0_0_0, w0⟩] (ix3 0 r 0) = w0 (ix3 0 r 0) := by
  refine View.canon_eq_of_allAt _ _ _ (View.cover_of_tiled_head _ _ _ (by sl_kernel_rfl) _) (View.allAt_cons_unit _ _ _ _ _ (fun x hx => ?_) (View.allAt_cons_unit _ _ _ _ _ (fun x hx => ?_) (View.allAt_nil _ _)))
  · have h : (0 : ℕ) = 1 + (x 0 : ℕ) := hx 0
    omega
  · have h0 : (0 : ℕ) = 0 + (x 0 : ℕ) := hx 0
    have h1 : r.val = 0 + (x 1 : ℕ) := hx 1
    refine congrArg w0 (funext fun a => Fin.ext ?_)
    match a with
    | 0 => show (x 0 : ℕ) = 0; omega
    | 1 => show (x 1 : ℕ) = r.val; omega
    | 2 => have h2 : (x 2 : ℕ) < 1 := (x 2).isLt; show (x 2 : ℕ) = 0; omega

/-- The row sums' two stores, read at the second head. -/
theorem canon9_1 (w1 w0 : Vec Ideal S1x384x1 .f32) (r : Fin 384) :
    View.canon (Val := Elt Ideal) [⟨Rect.unit (s := S2x384x1) ![1, 0, 0] S1x384x1.size inb_S2x384x1_S1x384x1_1_0_0, w1⟩, ⟨Rect.unit (s := S2x384x1) ![0, 0, 0] S1x384x1.size inb_S2x384x1_S1x384x1_0_0_0, w0⟩] (ix3 1 r 0) = w1 (ix3 0 r 0) := by
  refine View.canon_eq_of_allAt _ _ _ (View.cover_of_tiled_head _ _ _ (by sl_kernel_rfl) _) (View.allAt_cons_unit _ _ _ _ _ (fun x hx => ?_) (View.allAt_cons_unit _ _ _ _ _ (fun x hx => ?_) (View.allAt_nil _ _)))
  · have h0 : (1 : ℕ) = 1 + (x 0 : ℕ) := hx 0
    have h1 : r.val = 0 + (x 1 : ℕ) := hx 1
    refine congrArg w1 (funext fun a => Fin.ext ?_)
    match a with
    | 0 => show (x 0 : ℕ) = 0; omega
    | 1 => show (x 1 : ℕ) = r.val; omega
    | 2 => have h2 : (x 2 : ℕ) < 1 := (x 2).isLt; show (x 2 : ℕ) = 0; omega
  · have h : (1 : ℕ) = 0 + (x 0 : ℕ) := hx 0
    have hx0 : (x 0 : ℕ) < 1 := (x 0).isLt
    omega

/-- The gradient's block at an entry of head 0. -/
theorem sum_narrow0 (hc : Narrow i) (r : Fin 384) (l : Fin 128) :
    View.canon (runNarrow (F := Ideal) c i arg2 harg2 arg3 harg3 arg4 harg4 arg5 harg5 arg6 harg6 arg7 harg7 arg8 harg8 arg9 harg9 hc x2 x3 x4 x5 x6 x7).1 (ix3 0 r l)
      = (∑ key ∈ Finset.range 4224, term x2 x3 x4 x5 x6 x7 0 (i 1).val r l key) * Ideal.ofBits .f32 0x3DD105EC#32 := by
  have hi : (i 1).val < 11 := (i 1).isLt
  have hp := (narrow_iff i).mp hc
  rw [narrow8 c i arg2 harg2 arg3 harg3 arg4 harg4 arg5 harg5 arg6 harg6 arg7 harg7 arg8 harg8 arg9 harg9 x2 x3 x4 x5 x6 x7 hc, canon8_0, pay31_at, firstKey_eq, ends_eq]
  refine congrArg (fun z => z * _) ?_
  refine (pay3_at (i 1).val ((i 1).val / 2 * 768) hi (by omega) _ _ _ _ _ _ _ r l).trans ?_
  refine Eq.trans ?_ (range_all x2 x3 x4 x5 x6 x7 0 (i 1).val ((i 1).val / 2 * 768 + 384) (by omega) (by omega) r l)
  rw [Finset.sum_range_add, carried0 c i arg2 harg2 arg3 harg3 arg4 harg4 arg5 harg5 arg6 harg6 arg7 harg7 arg8 harg8 arg9 harg9 x2 x3 x4 x5 x6 x7 _ le_rfl r l]
  refine congrArg _ ((Finset.sum_congr rfl fun key _ => ?_).trans (Finset.sum_range _).symm)
  have hkey := key.isLt
  rw [← term_masked x2 x3 x4 x5 x6 x7 0 (i 1).val r l ((i 1).val / 2 * 768 + key.val) (by omega), pay15_at, l0_at, pay11_own]
  simp only [pay13_at, q0_at, pay14_own]
  have ek : ∀ d : Fin 128, View.ld x3 (Rect.unit (s := S2x4224x128) (k0_off8 i) S1x384x128.size (k0_off8_inb i hc)) (ix3 0 key d) = x3 (ix3 0 ⟨(i 1).val / 2 * 768 + key.val, by omega⟩ d) := fun d =>
    ld_k x3 384 ((i 1).val / 2 * 768) 0 _ (off8_eq i) _ key d (by omega)
  have ev : ∀ d : Fin 128, View.ld x4 (Rect.unit (s := S4224x128) (k0_off7 i) S384x128.size (k0_off7_inb i hc)) (ix2 key d) = x4 (ix2 ⟨(i 1).val / 2 * 768 + key.val, by omega⟩ d) := fun d =>
    ld_v x4 384 ((i 1).val / 2 * 768) _ (off7_eq i) _ key d (by omega)
  simp only [ek, ev]

/-- The gradient's block at an entry of head 1. -/
theorem sum_narrow1 (hc : Narrow i) (r : Fin 384) (l : Fin 128) :
    View.canon (runNarrow (F := Ideal) c i arg2 harg2 arg3 harg3 arg4 harg4 arg5 harg5 arg6 harg6 arg7 harg7 arg8 harg8 arg9 harg9 hc x2 x3 x4 x5 x6 x7).1 (ix3 1 r l)
      = (∑ key ∈ Finset.range 4224, term x2 x3 x4 x5 x6 x7 1 (i 1).val r l key) * Ideal.ofBits .f32 0x3DD105EC#32 := by
  have hi : (i 1).val < 11 := (i 1).isLt
  have hp := (narrow_iff i).mp hc
  rw [narrow8 c i arg2 harg2 arg3 harg3 arg4 harg4 arg5 harg5 arg6 harg6 arg7 harg7 arg8 harg8 arg9 harg9 x2 x3 x4 x5 x6 x7 hc, canon8_1, pay132_at, firstKey_eq, ends_eq]
  refine congrArg (fun z => z * _) ?_
  refine (pay29_at (i 1).val ((i 1).val / 2 * 768) hi (by omega) _ _ _ _ _ _ _ r l).trans ?_
  refine Eq.trans ?_ (range_all x2 x3 x4 x5 x6 x7 1 (i 1).val ((i 1).val / 2 * 768 + 384) (by omega) (by omega) r l)
  rw [Finset.sum_range_add, carried1 c i arg2 harg2 arg3 harg3 arg4 harg4 arg5 harg5 arg6 harg6 arg7 harg7 arg8 harg8 arg9 harg9 x2 x3 x4 x5 x6 x7 _ le_rfl r l]
  refine congrArg _ ((Finset.sum_congr rfl fun key _ => ?_).trans (Finset.sum_range _).symm)
  have hkey := key.isLt
  rw [← term_masked x2 x3 x4 x5 x6 x7 1 (i 1).val r l ((i 1).val / 2 * 768 + key.val) (by omega), l1_at, pay17_own]
  simp only [q1_at, pay16_own]
  have ek : ∀ d : Fin 128, View.ld x3 (Rect.unit (s := S2x4224x128) (k0_off9 i) S1x384x128.size (k0_off9_inb i hc)) (ix3 0 key d) = x3 (ix3 1 ⟨(i 1).val / 2 * 768 + key.val, by omega⟩ d) := fun d =>
    ld_k x3 384 ((i 1).val / 2 * 768) 1 _ (off9_eq i) _ key d (by omega)
  have ev : ∀ d : Fin 128, View.ld x4 (Rect.unit (s := S4224x128) (k0_off7 i) S384x128.size (k0_off7_inb i hc)) (ix2 key d) = x4 (ix2 ⟨(i 1).val / 2 * 768 + key.val, by omega⟩ d) := fun d =>
    ld_v x4 384 ((i 1).val / 2 * 768) _ (off7_eq i) _ key d (by omega)
  simp only [ek, ev]

/-- The gradient's block at an entry of head 0. -/
theorem sum_wide0 (hc : ¬ Narrow i) (r : Fin 384) (l : Fin 128) :
    View.canon (runWide (F := Ideal) c i arg2 harg2 arg3 harg3 arg4 harg4 arg5 harg5 arg6 harg6 arg7 harg7 arg8 harg8 arg9 harg9 hc x2 x3 x4 x5 x6 x7).1 (ix3 0 r l)
      = (∑ key ∈ Finset.range 4224, term x2 x3 x4 x5 x6 x7 0 (i 1).val r l key) * Ideal.ofBits .f32 0x3DD105EC#32 := by
  have hi : (i 1).val < 11 := (i 1).isLt
  have hp := (narrow_iff i).not.mp hc
  rw [wide8 c i arg2 harg2 arg3 harg3 arg4 harg4 arg5 harg5 arg6 harg6 arg7 harg7 arg8 harg8 arg9 harg9 x2 x3 x4 x5 x6 x7 hc, canon8_0, pay31_at, firstKey_eq, ends_eq]
  refine congrArg (fun z => z * _) ?_
  refine (pay7_at (i 1).val ((i 1).val / 2 * 768) hi (by omega) _ _ _ _ _ _ _ r l).trans ?_
  refine Eq.trans ?_ (range_all x2 x3 x4 x5 x6 x7 0 (i 1).val ((i 1).val / 2 * 768 + 768) (by omega) (by omega) r l)
  rw [Finset.sum_range_add, carried0 c i arg2 harg2 arg3 harg3 arg4 harg4 arg5 harg5 arg6 harg6 arg7 harg7 arg8 harg8 arg9 harg9 x2 x3 x4 x5 x6 x7 _ le_rfl r l]
  refine congrArg _ ((Finset.sum_congr rfl fun key _ => ?_).trans (Finset.sum_range _).symm)
  have hkey := key.isLt
  rw [← term_masked x2 x3 x4 x5 x6 x7 0 (i 1).val r l ((i 1).val / 2 * 768 + key.val) (by omega), pay15_at, l0_at, pay11_own]
  simp only [pay13_at, q0_at, pay14_own]
  have ek : ∀ d : Fin 128, View.ld x3 (Rect.unit (s := S2x4224x128) (k0_off11 i) S1x768x128.size (k0_off11_inb i hc)) (ix3 0 key d) = x3 (ix3 0 ⟨(i 1).val / 2 * 768 + key.val, by omega⟩ d) := fun d =>
    ld_k x3 768 ((i 1).val / 2 * 768) 0 _ (off11_eq i) _ key d (by omega)
  have ev : ∀ d : Fin 128, View.ld x4 (Rect.unit (s := S4224x128) (k0_off10 i) S768x128.size (k0_off10_inb i hc)) (ix2 key d) = x4 (ix2 ⟨(i 1).val / 2 * 768 + key.val, by omega⟩ d) := fun d =>
    ld_v x4 768 ((i 1).val / 2 * 768) _ (off10_eq i) _ key d (by omega)
  simp only [ek, ev]

/-- The gradient's block at an entry of head 1. -/
theorem sum_wide1 (hc : ¬ Narrow i) (r : Fin 384) (l : Fin 128) :
    View.canon (runWide (F := Ideal) c i arg2 harg2 arg3 harg3 arg4 harg4 arg5 harg5 arg6 harg6 arg7 harg7 arg8 harg8 arg9 harg9 hc x2 x3 x4 x5 x6 x7).1 (ix3 1 r l)
      = (∑ key ∈ Finset.range 4224, term x2 x3 x4 x5 x6 x7 1 (i 1).val r l key) * Ideal.ofBits .f32 0x3DD105EC#32 := by
  have hi : (i 1).val < 11 := (i 1).isLt
  have hp := (narrow_iff i).not.mp hc
  rw [wide8 c i arg2 harg2 arg3 harg3 arg4 harg4 arg5 harg5 arg6 harg6 arg7 harg7 arg8 harg8 arg9 harg9 x2 x3 x4 x5 x6 x7 hc, canon8_1, pay132_at, firstKey_eq, ends_eq]
  refine congrArg (fun z => z * _) ?_
  refine (pay30_at (i 1).val ((i 1).val / 2 * 768) hi (by omega) _ _ _ _ _ _ _ r l).trans ?_
  refine Eq.trans ?_ (range_all x2 x3 x4 x5 x6 x7 1 (i 1).val ((i 1).val / 2 * 768 + 768) (by omega) (by omega) r l)
  rw [Finset.sum_range_add, carried1 c i arg2 harg2 arg3 harg3 arg4 harg4 arg5 harg5 arg6 harg6 arg7 harg7 arg8 harg8 arg9 harg9 x2 x3 x4 x5 x6 x7 _ le_rfl r l]
  refine congrArg _ ((Finset.sum_congr rfl fun key _ => ?_).trans (Finset.sum_range _).symm)
  have hkey := key.isLt
  rw [← term_masked x2 x3 x4 x5 x6 x7 1 (i 1).val r l ((i 1).val / 2 * 768 + key.val) (by omega), l1_at, pay17_own]
  simp only [q1_at, pay16_own]
  have ek : ∀ d : Fin 128, View.ld x3 (Rect.unit (s := S2x4224x128) (k0_off12 i) S1x768x128.size (k0_off12_inb i hc)) (ix3 0 key d) = x3 (ix3 1 ⟨(i 1).val / 2 * 768 + key.val, by omega⟩ d) := fun d =>
    ld_k x3 768 ((i 1).val / 2 * 768) 1 _ (off12_eq i) _ key d (by omega)
  have ev : ∀ d : Fin 128, View.ld x4 (Rect.unit (s := S4224x128) (k0_off10 i) S768x128.size (k0_off10_inb i hc)) (ix2 key d) = x4 (ix2 ⟨(i 1).val / 2 * 768 + key.val, by omega⟩ d) := fun d =>
    ld_v x4 768 ((i 1).val / 2 * 768) _ (off10_eq i) _ key d (by omega)
  simp only [ek, ev]

/-- The gradient's block after the body: the sum over all keys, scaled. -/
theorem out8_at (a : Fin 2) (r : Fin 384) (l : Fin 128) :
    out8 (F := Ideal) c i arg2 harg2 arg3 harg3 arg4 harg4 arg5 harg5 arg6 harg6 arg7 harg7 arg8 harg8 arg9 harg9 x2 x3 x4 x5 x6 x7 (ix3 a r l)
      = (∑ key ∈ Finset.range 4224, term x2 x3 x4 x5 x6 x7 a (i 1).val r l key) * Ideal.ofBits .f32 0x3DD105EC#32 := by
  unfold out8
  rw [View.read_writes_eq_canon _ _ _ (cover8 c i arg2 harg2 arg3 harg3 arg4 harg4 arg5 harg5 arg6 harg6 arg7 harg7 arg8 harg8 arg9 harg9 x2 x3 x4 x5 x6 x7)]
  unfold pieces8
  split
  · rename_i hc
    match a with
    | 0 => exact sum_narrow0 c i arg2 harg2 arg3 harg3 arg4 harg4 arg5 harg5 arg6 harg6 arg7 harg7 arg8 harg8 arg9 harg9 x2 x3 x4 x5 x6 x7 hc r l
    | 1 => exact sum_narrow1 c i arg2 harg2 arg3 harg3 arg4 harg4 arg5 harg5 arg6 harg6 arg7 harg7 arg8 harg8 arg9 harg9 x2 x3 x4 x5 x6 x7 hc r l
  · rename_i hc
    match a with
    | 0 => exact sum_wide0 c i arg2 harg2 arg3 harg3 arg4 harg4 arg5 harg5 arg6 harg6 arg7 harg7 arg8 harg8 arg9 harg9 x2 x3 x4 x5 x6 x7 hc r l
    | 1 => exact sum_wide1 c i arg2 harg2 arg3 harg3 arg4 harg4 arg5 harg5 arg6 harg6 arg7 harg7 arg8 harg8 arg9 harg9 x2 x3 x4 x5 x6 x7 hc r l

/-- The row sums' block after the body. -/
theorem out9_at (a : Fin 2) (r : Fin 384) :
    out9 (F := Ideal) c i arg2 harg2 arg3 harg3 arg4 harg4 arg5 harg5 arg6 harg6 arg7 harg7 arg8 harg8 arg9 harg9 x2 x3 x4 x5 x6 x7 (ix3 a r 0) = rowSum a x5 x6 r := by
  unfold out9
  rw [View.read_writes_eq_canon _ _ _ (cover9 c i arg2 harg2 arg3 harg3 arg4 harg4 arg5 harg5 arg6 harg6 arg7 harg7 arg8 harg8 arg9 harg9 x2 x3 x4 x5 x6 x7)]
  unfold pieces9
  split
  · rename_i hc
    rw [narrow9 c i arg2 harg2 arg3 harg3 arg4 harg4 arg5 harg5 arg6 harg6 arg7 harg7 arg8 harg8 arg9 harg9 x2 x3 x4 x5 x6 x7 hc]
    match a with
    | 0 => rw [canon9_0, pay12_at, pay11_own]
    | 1 => rw [canon9_1, pay18_at, pay17_own]
  · rename_i hc
    rw [wide9 c i arg2 harg2 arg3 harg3 arg4 harg4 arg5 harg5 arg6 harg6 arg7 harg7 arg8 harg8 arg9 harg9 x2 x3 x4 x5 x6 x7 hc]
    match a with
    | 0 => rw [canon9_0, pay12_at, pay11_own]
    | 1 => rw [canon9_1, pay18_at, pay17_own]

end sums

end Cert.AttnQKernelIdeal.Hand

end
-- ==== Proof.AttnQHost.lean ====
/- The values of the attention backward pass for the queries: the arrays the host prepares. -/
module

public import proofs.«01_k».proof.Proof.AttnQFrame
public import Idealize.ShloMosaic.Lib.Pointwise
public import Idealize.ShloMosaic.Lib.Pipeline.Value
public import Idealize.ShloMosaic.Lib.Tactic
public import Idealize.ShloMosaic.Lib.WordCmp

@[expose] public section

set_option maxRecDepth 16384

noncomputable section

namespace Cert.AttnQKernelIdeal.Hand

open Idealize.ShloMosaic Idealize.ShloMosaic.TcCoe Idealize.ShloMosaic.Tactic
open Cert.AttnQKernelIdeal Cert.AttnQKernelIdeal.Gen

/-- Queries or keys in the kernel's order: a head's rows together, 128 lanes, whole row tiles. -/
def padHeads (x : FVec Ideal S4112x8x96 .f32) : FVec Ideal S8x4224x128 .bf16 :=
  truncf .bf16 (transpose S8x4224x128 [1, 0, 2] (concatenate S4224x8x128 0 [⟨S4112x8x128, concatenate S4112x8x128 2 [⟨S4112x8x96, x⟩, ⟨S4112x8x32, broadcastInDim S4112x8x32 ![] bcast_S_S4112x8x32 (constant (F := Ideal) S_ .f32 0x00000000#32)⟩] concatenates_S4112x8x96_S4112x8x32_S4112x8x128_d2⟩, ⟨S112x8x128, broadcastInDim S112x8x128 ![] bcast_S_S112x8x128 (constant (F := Ideal) S_ .f32 0x00000000#32)⟩] concatenates_S4112x8x128_S112x8x128_S4224x8x128_d0) transposes_S4224x8x128_S8x4224x128_1_0_2) bitsLt_bf16_f32

/-- Rows of all heads side by side, whole row tiles. -/
def padRows (x : FVec Ideal S4112x8x64 .f32) : FVec Ideal S4224x512 .f32 :=
  concatenate S4224x512 0 [⟨S4112x512, shapeCast S4112x512 x shapeCasts_S4112x8x64_S4112x512⟩, ⟨S112x512, broadcastInDim S112x512 ![] bcast_S_S112x512 (constant (F := Ideal) S_ .f32 0x00000000#32)⟩] concatenates_S4112x512_S112x512_S4224x512_d0

theorem padHeads_at (x : FVec Ideal S4112x8x96 .f32) (h : Fin 8) (R : Fin 4224) (d : Fin 128) :
    padHeads x (ix3 h R d) = if hR : R.val < 4112 then (if hd : d.val < 96 then x (ix3 ⟨R.val, hR⟩ h ⟨d.val, hd⟩) else 0) else 0 := by
  pointwise [padHeads]

theorem padRows_at (x : FVec Ideal S4112x8x64 .f32) (R : Fin 4224) (l : Fin 512) :
    padRows x (ix2 R l) = if hR : R.val < 4112 then x (ix3 ⟨R.val, hR⟩ ⟨l.val / 64, by omega⟩ ⟨l.val % 64, by omega⟩) else 0 := by
  pointwise [padRows]

/-- The causal scores: the scaled products, −∞ where the key lies behind the row. -/
def scores (q k : FVec Ideal S4112x8x96 .f32) : FVec Ideal S8x4112x4112 .f32 :=
  select (broadcastInDim S8x4112x4112 ![1, 2] bcast_S4112x4112_S8x4112x4112_1_2
      (cmpi .sle (broadcastInDim S4112x4112 ![0, 1] bcast_S1x4112_S4112x4112_0_1 (broadcastInDim S1x4112 ![1] bcast_S4112_S1x4112_1 (iotaInDim S4112 32 0)))
        (broadcastInDim S4112x4112 ![0, 1] bcast_S4112x1_S4112x4112_0_1 (broadcastInDim S4112x1 ![0] bcast_S4112_S4112x1_0 (iotaInDim S4112 32 0)))))
    (mulf (Host.dotGeneral dot_S4112x8x96_S4112x8x96_S8x4112x4112_2_2_0_0_1_1 none q k)
      (broadcastInDim S8x4112x4112 ![] bcast_S_S8x4112x4112 (constant (F := Ideal) S_ .f32 0x3DD105EC#32)))
    (broadcastInDim S8x4112x4112 ![] bcast_S_S8x4112x4112 (id (constant (F := Ideal) S_ .f32 0xFF800000#32)))

/-- The largest score of each row. -/
def rowMax (x : FVec Ideal S8x4112x4112 .f32) : FVec Ideal S8x4112x1 .f32 :=
  broadcastInDim S8x4112x1 ![0, 1] bcast_S8x4112_S8x4112x1_0_1
    (Host.reduce FloatOps.maximumf x (constant (F := Ideal) S_ .f32 0xFF800000#32) reducesTo_S8x4112x4112_S8x4112_d2 h_S_)

/-- The exponentials of the scores below the row's largest. -/
def expScores (x : FVec Ideal S8x4112x4112 .f32) (mx : FVec Ideal S8x4112x1 .f32) : FVec Ideal S8x4112x4112 .f32 :=
  Host.exp (subf x (broadcastInDim S8x4112x4112 ![0, 1, 2] bcast_S8x4112x1_S8x4112x4112_0_1_2 mx))

/-- The sum of each row's exponentials. -/
def rowTotal (e : FVec Ideal S8x4112x4112 .f32) : FVec Ideal S8x4112x1 .f32 :=
  broadcastInDim S8x4112x1 ![0, 1] bcast_S8x4112_S8x4112x1_0_1
    (Host.reduceAdd e (constant (F := Ideal) S_ .f32 0x00000000#32) reducesTo_S8x4112x4112_S8x4112_d2 h_S_)

/-- The attention's output. -/
def output (e : FVec Ideal S8x4112x4112 .f32) (l : FVec Ideal S8x4112x1 .f32) (v : FVec Ideal S4112x8x64 .f32) : FVec Ideal S4112x8x64 .f32 :=
  transpose S4112x8x64 [2, 0, 1] (Host.dotGeneral dot_S4112x8x64_S8x4112x4112_S8x64x4112_0_2_2_1_1_0 none v
    (Host.divf e (broadcastInDim S8x4112x4112 ![0, 1, 2] bcast_S8x4112x1_S8x4112x4112_0_1_2 l))) transposes_S8x64x4112_S4112x8x64_2_0_1

/-- The row's log-sum to base two, whole row tiles. -/
def logSum (mx l : FVec Ideal S8x4112x1 .f32) : FVec Ideal S8x4224x1 .f32 :=
  shapeCast S8x4224x1 (concatenate S8x4224 1 [⟨S8x4112, shapeCast S8x4112
      (Host.divf (addf mx (Host.log l)) (broadcastInDim S8x4112x1 ![] bcast_S_S8x4112x1 (Host.log (constant (F := Ideal) S_ .f32 0x40000000#32))))
      shapeCasts_S8x4112x1_S8x4112⟩,
    ⟨S8x112, broadcastInDim S8x112 ![] bcast_S_S8x112 (constant (F := Ideal) S_ .f32 0x00000000#32)⟩] concatenates_S8x4112_S8x112_S8x4224_d1) shapeCasts_S8x4224_S8x4224x1

/-- The bits of −∞. -/
theorem neg_infinity : Ideal.ofBits .f32 0xFF800000#32 = ⊥ := by
  simp [Ideal.ofBits, Ideal.ieee]

theorem scores_at (q k : FVec Ideal S4112x8x96 .f32) (h : Fin 8) (R j : Fin 4112) :
    scores q k (ix3 h R j) = if j.val ≤ R.val then (∑ d : Fin 96, q (ix3 R h d) * k (ix3 j h d)) * Ideal.ofBits .f32 0x3DD105EC#32 else ⊥ := by
  pointwise [scores]
  rw [WordCmp.cmpi_sle_ofNat (by omega) (by omega)]
  unfold Scalar.select
  by_cases hj : j.val ≤ R.val
  · simp [hj]
  · simp only [hj, decide_false, BitVec.ofBool_false, if_false]
    exact neg_infinity

theorem rowMax_at (x : FVec Ideal S8x4112x4112 .f32) (h : Fin 8) (R : Fin 4112) :
    rowMax x (ix3 h R 0) = Finset.univ.sup fun j : Fin 4112 => x (ix3 h R j) := by
  pointwise [rowMax]
  rw [neg_infinity]
  rfl

theorem expScores_at (x : FVec Ideal S8x4112x4112 .f32) (mx : FVec Ideal S8x4112x1 .f32) (h : Fin 8) (R j : Fin 4112) :
    expScores x mx (ix3 h R j) = Ideal.exp (x (ix3 h R j) - mx (ix3 h R 0)) := by
  pointwise [expScores]

theorem rowTotal_at (e : FVec Ideal S8x4112x4112 .f32) (h : Fin 8) (R : Fin 4112) :
    rowTotal e (ix3 h R 0) = ∑ j : Fin 4112, e (ix3 h R j) := by
  pointwise [rowTotal]

theorem output_at (e : FVec Ideal S8x4112x4112 .f32) (l : FVec Ideal S8x4112x1 .f32) (v : FVec Ideal S4112x8x64 .f32) (h : Fin 8) (R : Fin 4112) (d : Fin 64) :
    output e l v (ix3 R h d) = ∑ j : Fin 4112, v (ix3 j h d) * Ideal.div (e (ix3 h R j)) (l (ix3 h R 0)) := by
  pointwise [output]

theorem logSum_at (mx l : FVec Ideal S8x4112x1 .f32) (h : Fin 8) (R : Fin 4224) :
    logSum mx l (ix3 h R 0) = if hR : R.val < 4112 then Ideal.div (mx (ix3 h ⟨R.val, hR⟩ 0) + Ideal.log (l (ix3 h ⟨R.val, hR⟩ 0))) (Ideal.log (Ideal.ofBits .f32 0x40000000#32)) else 0 := by
  pointwise [logSum]

variable (m : (ℓ : Loc nD τ sig) → Buf (Elt Ideal) ℓ) (c : Dev nD)

theorem V_q : (V m c main_v37 : FVec Ideal S8x4224x128 .bf16) = padHeads (m ((c : Thread nD τ).loc main_arg0)) := by
  show StableHlo.after (List.flatten [hostOps0, hostOps0_1, hostOps0_2]) _ (Proc.devRef .tc main_v37) = _
  simp only [hostOps0, hostOps0_1, hostOps0_2, List.flatten_cons, List.flatten_nil, List.append_nil, List.cons_append, List.nil_append]
  after_results
  rfl

theorem V_k : (V m c main_v43 : FVec Ideal S8x4224x128 .bf16) = padHeads (m ((c : Thread nD τ).loc main_arg1)) := by
  show StableHlo.after (List.flatten [hostOps0, hostOps0_1, hostOps0_2]) _ (Proc.devRef .tc main_v43) = _
  simp only [hostOps0, hostOps0_1, hostOps0_2, List.flatten_cons, List.flatten_nil, List.append_nil, List.cons_append, List.nil_append]
  after_results
  rfl

theorem V_v : V m c main_v44 = (truncf (F := Ideal) (φ := .f32) .bf16 (padRows (m ((c : Thread nD τ).loc main_arg2))) bitsLt_bf16_f32 : FVec Ideal S4224x512 .bf16) := by
  show StableHlo.after (List.flatten [hostOps0, hostOps0_1, hostOps0_2]) _ (Proc.devRef .tc main_v44) = _
  simp only [hostOps0, hostOps0_1, hostOps0_2, List.flatten_cons, List.flatten_nil, List.append_nil, List.cons_append, List.nil_append]
  after_results
  rfl

theorem V_dy : (V m c main_v47 : FVec Ideal S4224x512 .f32) = padRows (m ((c : Thread nD τ).loc main_arg3)) := by
  show StableHlo.after (List.flatten [hostOps0, hostOps0_1, hostOps0_2]) _ (Proc.devRef .tc main_v47) = _
  simp only [hostOps0, hostOps0_1, hostOps0_2, List.flatten_cons, List.flatten_nil, List.append_nil, List.cons_append, List.nil_append]
  after_results
  rfl

/-- The buffers once the masked scores stand. -/
def mid : Valuation τ sig (Elt Ideal) :=
  StableHlo.after hostOps0_1 (StableHlo.after hostOps0 fun b => m (c, b))

theorem V_mid (b : Ref sig .tc) : V m c b = StableHlo.after hostOps0_2 (mid m c) (Proc.devRef .tc b) := by
  unfold V mid
  simp only [List.flatten_cons, List.flatten_nil, StableHlo.after_append, StableHlo.after_nil]

theorem mid_scores : (mid m c (Proc.devRef .tc main_v9) : FVec Ideal S8x4112x4112 .f32) =
    scores (m ((c : Thread nD τ).loc main_arg0)) (m ((c : Thread nD τ).loc main_arg1)) := by
  show StableHlo.after hostOps0_1 (StableHlo.after hostOps0 fun b => m (c, b)) (Proc.devRef .tc main_v9) = _
  simp only [hostOps0, hostOps0_1]
  after_results
  unfold scores
  rfl

theorem mid_v : mid m c (Proc.devRef .tc main_arg2) = m ((c : Thread nD τ).loc main_arg2) := by
  show StableHlo.after hostOps0_1 (StableHlo.after hostOps0 fun b => m (c, b)) (Proc.devRef .tc main_arg2) = _
  simp only [hostOps0, hostOps0_1]
  after_results

/-- What the host makes of the scores and the values: the attention's output. -/
def outputOf (s : FVec Ideal S8x4112x4112 .f32) (v : FVec Ideal S4112x8x64 .f32) : FVec Ideal S4112x8x64 .f32 :=
  output (expScores s (rowMax s)) (rowTotal (expScores s (rowMax s))) v

/-- What the host makes of the scores: the row's log-sum. -/
def logSumOf (s : FVec Ideal S8x4112x4112 .f32) : FVec Ideal S8x4224x1 .f32 :=
  logSum (rowMax s) (rowTotal (expScores s (rowMax s)))

theorem after_y (F : Valuation τ sig (Elt Ideal)) :
    (StableHlo.after hostOps0_2 F (Proc.devRef .tc main_v50) : FVec Ideal S4224x512 .f32)
      = padRows (outputOf (F (Proc.devRef .tc main_v9)) (F (Proc.devRef .tc main_arg2))) := by
  simp only [hostOps0_2]
  after_results
  unfold padRows outputOf output expScores rowMax rowTotal
  rfl

theorem after_lse (F : Valuation τ sig (Elt Ideal)) :
    (StableHlo.after hostOps0_2 F (Proc.devRef .tc main_v51) : FVec Ideal S8x4224x1 .f32)
      = logSumOf (F (Proc.devRef .tc main_v9)) := by
  simp only [hostOps0_2]
  after_results
  unfold logSumOf logSum expScores rowMax rowTotal
  rfl

theorem V_y : (V m c main_v50 : FVec Ideal S4224x512 .f32) = padRows (outputOf
    (scores (m ((c : Thread nD τ).loc main_arg0)) (m ((c : Thread nD τ).loc main_arg1))) (m ((c : Thread nD τ).loc main_arg2))) :=
  ((V_mid m c main_v50).trans (after_y (mid m c))).trans
    (congrArg padRows (congr (congrArg outputOf (mid_scores m c)) (mid_v m c)))

theorem V_lse : (V m c main_v51 : FVec Ideal S8x4224x1 .f32) = logSumOf
    (scores (m ((c : Thread nD τ).loc main_arg0)) (m ((c : Thread nD τ).loc main_arg1))) :=
  ((V_mid m c main_v51).trans (after_lse (mid m c))).trans (congrArg logSumOf (mid_scores m c))

end Cert.AttnQKernelIdeal.Hand

end
-- ==== Proof.AttnQArr.lean ====
/- The values of the attention backward pass for the queries: the result arrays, block by block. -/
module

public import proofs.«01_k».proof.Proof.AttnQSum
public import proofs.«01_k».proof.Proof.AttnQHost

@[expose] public section

set_option maxRecDepth 16384

noncomputable section

namespace Cert.AttnQKernelIdeal.Hand

open Idealize.ShloMosaic Idealize.ShloMosaic.TcCoe Idealize.ShloMosaic.Tactic
open Cert.AttnQKernelIdeal Cert.AttnQKernelIdeal.Gen

theorem coord0 (t : Fin cfg0.N) : ((grid0.coords t) 0).val = t.val / 11 :=
  (by decide +kernel : ∀ t : Fin grid0.N, ((grid0.coords t) 0).val = t.val / 11) t
theorem coord1 (t : Fin cfg0.N) : ((grid0.coords t) 1).val = t.val % 11 :=
  (by decide +kernel : ∀ t : Fin grid0.N, ((grid0.coords t) 1).val = t.val % 11) t
theorem index0 (t : Fin cfg0.N) : win0_0.index t 0 = t.val / 11 ∧ win0_0.index t 1 = t.val % 11 ∧ win0_0.index t 2 = 0 :=
  (by decide +kernel : ∀ t : Fin grid0.N, win0_0.index t 0 = t.val / 11 ∧ win0_0.index t 1 = t.val % 11 ∧ win0_0.index t 2 = 0) t
theorem index1 (t : Fin cfg0.N) : win0_1.index t 0 = t.val / 11 ∧ win0_1.index t 1 = 0 ∧ win0_1.index t 2 = 0 :=
  (by decide +kernel : ∀ t : Fin grid0.N, win0_1.index t 0 = t.val / 11 ∧ win0_1.index t 1 = 0 ∧ win0_1.index t 2 = 0) t
theorem index2 (t : Fin cfg0.N) : win0_2.index t 0 = 0 ∧ win0_2.index t 1 = t.val / 11 :=
  (by decide +kernel : ∀ t : Fin grid0.N, win0_2.index t 0 = 0 ∧ win0_2.index t 1 = t.val / 11) t
theorem index3 (t : Fin cfg0.N) : win0_3.index t 0 = t.val % 11 ∧ win0_3.index t 1 = t.val / 11 :=
  (by decide +kernel : ∀ t : Fin grid0.N, win0_3.index t 0 = t.val % 11 ∧ win0_3.index t 1 = t.val / 11) t
theorem index4 (t : Fin cfg0.N) : win0_4.index t 0 = t.val % 11 ∧ win0_4.index t 1 = t.val / 11 :=
  (by decide +kernel : ∀ t : Fin grid0.N, win0_4.index t 0 = t.val % 11 ∧ win0_4.index t 1 = t.val / 11) t
theorem index5 (t : Fin cfg0.N) : win0_5.index t 0 = t.val / 11 ∧ win0_5.index t 1 = t.val % 11 ∧ win0_5.index t 2 = 0 :=
  (by decide +kernel : ∀ t : Fin grid0.N, win0_5.index t 0 = t.val / 11 ∧ win0_5.index t 1 = t.val % 11 ∧ win0_5.index t 2 = 0) t
theorem index6 (t : Fin cfg0.N) : win0_6.index t 0 = t.val / 11 ∧ win0_6.index t 1 = t.val % 11 ∧ win0_6.index t 2 = 0 :=
  (by decide +kernel : ∀ t : Fin grid0.N, win0_6.index t 0 = t.val / 11 ∧ win0_6.index t 1 = t.val % 11 ∧ win0_6.index t 2 = 0) t
theorem index7 (t : Fin cfg0.N) : win0_7.index t 0 = t.val / 11 ∧ win0_7.index t 1 = t.val % 11 ∧ win0_7.index t 2 = 0 :=
  (by decide +kernel : ∀ t : Fin grid0.N, win0_7.index t 0 = t.val / 11 ∧ win0_7.index t 1 = t.val % 11 ∧ win0_7.index t 2 = 0) t

theorem inj6 (t t' : Fin cfg0.N) (h : (cfg0.win 6).index t = (cfg0.win 6).index t') : t = t' := by
  have a := (congrFun h 0 : win0_6.index t 0 = win0_6.index t' 0)
  have b := (congrFun h 1 : win0_6.index t 1 = win0_6.index t' 1)
  rw [(index6 t).1, (index6 t').1] at a
  rw [(index6 t).2.1, (index6 t').2.1] at b
  apply Fin.ext
  omega

theorem inj7 (t t' : Fin cfg0.N) (h : (cfg0.win 7).index t = (cfg0.win 7).index t') : t = t' := by
  have a := (congrFun h 0 : win0_7.index t 0 = win0_7.index t' 0)
  have b := (congrFun h 1 : win0_7.index t 1 = win0_7.index t' 1)
  rw [(index7 t).1, (index7 t').1] at a
  rw [(index7 t).2.1, (index7 t').2.1] at b
  apply Fin.ext
  omega

theorem lt_N (t : Fin cfg0.N) : t.val < 44 := lt_of_lt_of_eq t.isLt N_0

/-- The point whose block holds row `R` of head `h`. -/
abbrev ptOf (h : Fin 8) (R : Fin 4224) : Fin cfg0.N := ⟨h.val / 2 * 11 + R.val / 384, by show _ < grid0.N; rw [N_0]; omega⟩

variable (m : (ℓ : Loc nD τ sig) → Buf (Elt Ideal) ℓ) (c : Dev nD)

theorem iblk0_apply (t : Fin cfg0.N) (a : Fin 2) (r : Fin 384) (l : Fin 128) :
    (iblk m c 0 t : Vec Ideal S2x384x128 .bf16) (ix3 a r l)
      = (V m c main_v37 : Vec Ideal S8x4224x128 .bf16) (ix3 ⟨t.val / 11 * 2 + a.val, by have := lt_N t; omega⟩ ⟨t.val % 11 * 384 + r.val, by omega⟩ l) := by
  unfold iblk
  rw [View.read_apply]
  show V m c main_v37 _ = V m c main_v37 _
  congr 1
  funext b
  apply Fin.ext
  match b with
  | ⟨0, _⟩ => show win0_0.index t 0 * 2 + 1 * a.val = t.val / 11 * 2 + a.val; rw [(index0 t).1]; omega
  | ⟨1, _⟩ => show win0_0.index t 1 * 384 + 1 * r.val = t.val % 11 * 384 + r.val; rw [(index0 t).2.1]; omega
  | ⟨2, _⟩ => show win0_0.index t 2 * 128 + 1 * l.val = l.val; rw [(index0 t).2.2]; omega

theorem iblk1_apply (t : Fin cfg0.N) (a : Fin 2) (r : Fin 4224) (l : Fin 128) :
    (iblk m c 1 t : Vec Ideal S2x4224x128 .bf16) (ix3 a r l)
      = (V m c main_v43 : Vec Ideal S8x4224x128 .bf16) (ix3 ⟨t.val / 11 * 2 + a.val, by have := lt_N t; omega⟩ r l) := by
  unfold iblk
  rw [View.read_apply]
  show V m c main_v43 _ = V m c main_v43 _
  congr 1
  funext b
  apply Fin.ext
  match b with
  | ⟨0, _⟩ => show win0_1.index t 0 * 2 + 1 * a.val = t.val / 11 * 2 + a.val; rw [(index1 t).1]; omega
  | ⟨1, _⟩ => show win0_1.index t 1 * 4224 + 1 * r.val = r.val; rw [(index1 t).2.1]; omega
  | ⟨2, _⟩ => show win0_1.index t 2 * 128 + 1 * l.val = l.val; rw [(index1 t).2.2]; omega

theorem iblk2_apply (t : Fin cfg0.N) (r : Fin 4224) (l : Fin 128) :
    (iblk m c 2 t : Vec Ideal S4224x128 .bf16) (ix2 r l)
      = (V m c main_v44 : Vec Ideal S4224x512 .bf16) (ix2 r ⟨t.val / 11 * 128 + l.val, by have := lt_N t; omega⟩) := by
  unfold iblk
  rw [View.read_apply]
  show V m c main_v44 _ = V m c main_v44 _
  congr 1
  funext b
  apply Fin.ext
  match b with
  | ⟨0, _⟩ => show win0_2.index t 0 * 4224 + 1 * r.val = r.val; rw [(index2 t).1]; omega
  | ⟨1, _⟩ => show win0_2.index t 1 * 128 + 1 * l.val = t.val / 11 * 128 + l.val; rw [(index2 t).2]; omega

theorem iblk3_apply (t : Fin cfg0.N) (r : Fin 384) (l : Fin 128) :
    (iblk m c 3 t : Vec Ideal S384x128 .f32) (ix2 r l)
      = (V m c main_v47 : Vec Ideal S4224x512 .f32) (ix2 ⟨t.val % 11 * 384 + r.val, by omega⟩ ⟨t.val / 11 * 128 + l.val, by have := lt_N t; omega⟩) := by
  unfold iblk
  rw [View.read_apply]
  show V m c main_v47 _ = V m c main_v47 _
  congr 1
  funext b
  apply Fin.ext
  match b with
  | ⟨0, _⟩ => show win0_3.index t 0 * 384 + 1 * r.val = t.val % 11 * 384 + r.val; rw [(index3 t).1]; omega
  | ⟨1, _⟩ => show win0_3.index t 1 * 128 + 1 * l.val = t.val / 11 * 128 + l.val; rw [(index3 t).2]; omega

theorem iblk4_apply (t : Fin cfg0.N) (r : Fin 384) (l : Fin 128) :
    (iblk m c 4 t : Vec Ideal S384x128 .f32) (ix2 r l)
      = (V m c main_v50 : Vec Ideal S4224x512 .f32) (ix2 ⟨t.val % 11 * 384 + r.val, by omega⟩ ⟨t.val / 11 * 128 + l.val, by have := lt_N t; omega⟩) := by
  unfold iblk
  rw [View.read_apply]
  show V m c main_v50 _ = V m c main_v50 _
  congr 1
  funext b
  apply Fin.ext
  match b with
  | ⟨0, _⟩ => show win0_4.index t 0 * 384 + 1 * r.val = t.val % 11 * 384 + r.val; rw [(index4 t).1]; omega
  | ⟨1, _⟩ => show win0_4.index t 1 * 128 + 1 * l.val = t.val / 11 * 128 + l.val; rw [(index4 t).2]; omega

theorem iblk5_apply (t : Fin cfg0.N) (a : Fin 2) (r : Fin 384) :
    (iblk m c 5 t : Vec Ideal S2x384x1 .f32) (ix3 a r 0)
      = (V m c main_v51 : Vec Ideal S8x4224x1 .f32) (ix3 ⟨t.val / 11 * 2 + a.val, by have := lt_N t; omega⟩ ⟨t.val % 11 * 384 + r.val, by omega⟩ 0) := by
  unfold iblk
  rw [View.read_apply]
  show V m c main_v51 _ = V m c main_v51 _
  congr 1
  funext b
  apply Fin.ext
  match b with
  | ⟨0, _⟩ => show win0_5.index t 0 * 2 + 1 * a.val = t.val / 11 * 2 + a.val; rw [(index5 t).1]; omega
  | ⟨1, _⟩ => show win0_5.index t 1 * 384 + 1 * r.val = t.val % 11 * 384 + r.val; rw [(index5 t).2.1]; omega
  | ⟨2, _⟩ => show win0_5.index t 2 * 1 + 1 * 0 = 0; rw [(index5 t).2.2]

/-- The gradient of the queries: row `R` of head `h` is what the point that holds it stores. -/
theorem final6 (h : Fin 8) (R : Fin 4224) (l : Fin 128) :
    ((dats m 0 c).arrAt 6 cfg0.N : Vec Ideal S8x4224x128 .f32) (ix3 h R l)
      = at8 m c (ptOf h R) (ix3 ⟨h.val % 2, by omega⟩ ⟨R.val % 384, by omega⟩ l) := by
  have g := (dats m 0 c).arrAt_emb_eq_flushed 6 (fun t t' _ _ hne => (cfg0.win 6).disjoint_blk fun e => hne (inj6 t t' e)) (ptOf h R) (flush0_6 _)
    (ix3 ⟨h.val % 2, by omega⟩ ⟨R.val % 384, by omega⟩ l : S2x384x128.Idx)
  have e : ((cfg0.win 6).blk (ptOf h R)).view.emb (ix3 ⟨h.val % 2, by omega⟩ ⟨R.val % 384, by omega⟩ l : S2x384x128.Idx) = (ix3 h R l : S8x4224x128.Idx) := by
    funext b
    apply Fin.ext
    match b with
    | ⟨0, _⟩ => show win0_6.index (ptOf h R) 0 * 2 + 1 * (h.val % 2) = h.val; rw [(index6 _).1]; dsimp only; omega
    | ⟨1, _⟩ => show win0_6.index (ptOf h R) 1 * 384 + 1 * (R.val % 384) = R.val; rw [(index6 _).2.1]; dsimp only; omega
    | ⟨2, _⟩ => show win0_6.index (ptOf h R) 2 * 128 + 1 * l.val = l.val; rw [(index6 _).2.2]; omega
  rw [e] at g
  refine g.trans ?_
  show (cfg0.win 6).cut (grid0.coords (ptOf h R)) ((dats m 0 c).after 6 (ptOf h R)) _ = _
  rw [after6]
  rfl

/-- The row sums: row `R` of head `h` is what the point that holds it stores. -/
theorem final7 (h : Fin 8) (R : Fin 4224) :
    ((dats m 0 c).arrAt 7 cfg0.N : Vec Ideal S8x4224x1 .f32) (ix3 h R 0)
      = at9 m c (ptOf h R) (ix3 ⟨h.val % 2, by omega⟩ ⟨R.val % 384, by omega⟩ 0) := by
  have g := (dats m 0 c).arrAt_emb_eq_flushed 7 (fun t t' _ _ hne => (cfg0.win 7).disjoint_blk fun e => hne (inj7 t t' e)) (ptOf h R) (flush0_7 _)
    (ix3 ⟨h.val % 2, by omega⟩ ⟨R.val % 384, by omega⟩ 0 : S2x384x1.Idx)
  have e : ((cfg0.win 7).blk (ptOf h R)).view.emb (ix3 ⟨h.val % 2, by omega⟩ ⟨R.val % 384, by omega⟩ 0 : S2x384x1.Idx) = (ix3 h R 0 : S8x4224x1.Idx) := by
    funext b
    apply Fin.ext
    match b with
    | ⟨0, _⟩ => show win0_7.index (ptOf h R) 0 * 2 + 1 * (h.val % 2) = h.val; rw [(index7 _).1]; dsimp only; omega
    | ⟨1, _⟩ => show win0_7.index (ptOf h R) 1 * 384 + 1 * (R.val % 384) = R.val; rw [(index7 _).2.1]; dsimp only; omega
    | ⟨2, _⟩ => show win0_7.index (ptOf h R) 2 * 1 + 1 * 0 = 0; rw [(index7 _).2.2]
  rw [e] at g
  refine g.trans ?_
  show (cfg0.win 7).cut (grid0.coords (ptOf h R)) ((dats m 0 c).after 7 (ptOf h R)) _ = _
  rw [after7]
  rfl

end Cert.AttnQKernelIdeal.Hand

end
-- ==== Proof.AttnQRef.lean ====
/- The attention's gradient for the queries: the plain mathematics, entry by entry. -/
module

public import proofs.«01_k».proof.Proof.Gen.AttnQRefIdeal.Run
public import proofs.«01_k».proof.Proof.Gen.AttnQRefIdeal.Read
public import Idealize.ShloMosaic.Lib.Pointwise
public import Idealize.ShloMosaic.Lib.Tactic
public import Idealize.ShloMosaic.Lib.WordCmp

@[expose] public section

set_option maxRecDepth 16384

noncomputable section

namespace Cert.AttnQRefIdeal.Hand

open Idealize.ShloMosaic Idealize.ShloMosaic.TcCoe Idealize.ShloMosaic.Tactic
open Cert.AttnQRefIdeal Cert.AttnQRefIdeal.Gen Cert.AttnQRefIdeal.Read

variable (q k : FVec Ideal S4112x8x96 .f32) (v dy : FVec Ideal S4112x8x64 .f32)

/-- The bits of −∞. -/
theorem neg_infinity : Ideal.ofBits .f32 0xFF800000#32 = ⊥ := by
  simp [Ideal.ofBits, Ideal.ieee]

/-- The causal scores. -/
def scores : FVec Ideal S8x4112x4112 .f32 := val_main_v9_0 (F := Ideal) q k
/-- Each row's largest score. -/
def rowMax : FVec Ideal S8x4112 .f32 := val_main_v17 (F := Ideal) q k
/-- The exponentials below the row's largest score. -/
def expScores : FVec Ideal S8x4112x4112 .f32 := val_main_v30 (F := Ideal) q k
/-- Each row's sum of exponentials. -/
def rowTotal : FVec Ideal S8x4112 .f32 := val_main_v31 (F := Ideal) q k
/-- The products of the output's cotangent with the values. -/
def dProbs : FVec Ideal S8x4112x4112 .f32 := val_main_v41 (F := Ideal) v dy
/-- The scores' cotangent before the mask. -/
def dScores : FVec Ideal S8x4112x4112 .f32 := val_main_v53 (F := Ideal) q k v dy
/-- The attention's output. -/
def output : FVec Ideal S4112x8x64 .f32 := val_main_v39 (F := Ideal) q k v
/-- The gradient of the queries. -/
def dQueries : FVec Ideal S4112x8x96 .f32 := val_main_v58 (F := Ideal) q k v dy

theorem scores_at (h : Fin 8) (R j : Fin 4112) :
    scores q k (ix3 h R j) = if j.val ≤ R.val then (∑ d : Fin 96, q (ix3 R h d) * k (ix3 j h d)) * Ideal.ofBits .f32 0x3DD105EC#32 else ⊥ := by
  pointwise [scores, val_main_v9_0, val_main_v9_1, val_main_v8, val_main_v7, val_main_v6, val_main_v5, val_main_v4, val_main_v3, val_main_v2, val_main_v1, val_main_cst, val_main_v0, val_main_call0_v2, val_main_call0_v0, val_main_cst_0]
  rw [WordCmp.cmpi_sle_ofNat (by omega) (by omega)]
  unfold Scalar.select
  by_cases hj : j.val ≤ R.val
  · simp [hj]
  · simp only [hj, decide_false, BitVec.ofBool_false, if_false]
    exact neg_infinity

/-- A running maximum from −∞ is the supremum. -/
theorem fold_max {n : ℕ} (f : Fin n → EReal) : Finset.fold max ⊥ f Finset.univ = Finset.univ.sup f := rfl

theorem reduceMax_of (x : FVec Ideal S8x4112x4112 .f32) (h : Fin 8) (R : Fin 4112) :
    Host.reduce FloatOps.maximumf x (constant (F := Ideal) S_ .f32 0xFF800000#32) reducesTo_S8x4112x4112_S8x4112_d2 h_S_ (ix2 h R)
      = Finset.univ.sup fun j : Fin 4112 => x (ix3 h R j) := by
  pointwise
  rw [neg_infinity]
  rfl

theorem max_bot_of (y : FVec Ideal S8x4112 .f32) (h : Fin 8) (R : Fin 4112) :
    maximumf (F := Ideal) (φ := .f32) (broadcastInDim S8x4112 ![] bcast_S_S8x4112 (constant (F := Ideal) S_ .f32 0xFF800000#32)) y (ix2 h R)
      = y (ix2 h R) := by
  pointwise
  rw [neg_infinity]
  exact max_eq_right bot_le

theorem rowMax_of (x : FVec Ideal S8x4112x4112 .f32) (h : Fin 8) (R : Fin 4112) :
    maximumf (F := Ideal) (φ := .f32) (broadcastInDim S8x4112 ![] bcast_S_S8x4112 (constant (F := Ideal) S_ .f32 0xFF800000#32))
      (Host.reduce FloatOps.maximumf x (constant (F := Ideal) S_ .f32 0xFF800000#32) reducesTo_S8x4112x4112_S8x4112_d2 h_S_) (ix2 h R)
      = Finset.univ.sup fun j : Fin 4112 => x (ix3 h R j) :=
  (max_bot_of _ h R).trans (reduceMax_of x h R)

theorem rowMax_at (h : Fin 8) (R : Fin 4112) :
    rowMax q k (ix2 h R) = Finset.univ.sup fun j : Fin 4112 => scores q k (ix3 h R j) := by
  unfold rowMax val_main_v17 val_main_v16 val_main_v10 val_main_cst_3 val_main_cst_1
  exact rowMax_of (scores q k) h R

theorem expScores_at (h : Fin 8) (R j : Fin 4112) :
    expScores q k (ix3 h R j) = Ideal.exp (scores q k (ix3 h R j) - rowMax q k (ix2 h R)) := by
  pointwise [expScores, val_main_v30, val_main_v29, val_main_v28, val_main_v27]
  rfl

theorem rowTotal_at (h : Fin 8) (R : Fin 4112) :
    rowTotal q k (ix2 h R) = ∑ j : Fin 4112, expScores q k (ix3 h R j) := by
  pointwise [rowTotal, val_main_v31, val_main_cst_9]
  rfl

theorem dProbs_at (h : Fin 8) (R j : Fin 4112) :
    dProbs v dy (ix3 h R j) = ∑ d : Fin 64, dy (ix3 R h d) * v (ix3 j h d) := by
  pointwise [dProbs, val_main_v41, val_main_v40]

theorem dScores_at (h : Fin 8) (R j : Fin 4112) :
    dScores q k v dy (ix3 h R j) = (Ideal.div (dProbs v dy (ix3 h R j)) (rowTotal q k (ix2 h R))
      + -(∑ i : Fin 4112, dProbs v dy (ix3 h R i) * Ideal.div (Ideal.ofBits .f32 0x3F800000#32) (rowTotal q k (ix2 h R) * rowTotal q k (ix2 h R)) * expScores q k (ix3 h R i)))
      * expScores q k (ix3 h R j) := by
  pointwise [dScores, val_main_v53, val_main_v52, val_main_v51, val_main_v50, val_main_v49, val_main_v48, val_main_v47, val_main_v46, val_main_v45, val_main_v44, val_main_v43, val_main_v42, val_main_v37, val_main_v36, val_main_v35, val_main_v32, val_main_cst_10, val_main_cst_11, val_main_cst_12]
  simp only [Finset.univ_unique, Finset.sum_singleton]
  unfold dProbs rowTotal expScores
  exact Eq.refl _

theorem output_at (h : Fin 8) (R : Fin 4112) (d : Fin 64) :
    output q k v (ix3 R h d) = ∑ j : Fin 4112, v (ix3 j h d) * Ideal.div (expScores q k (ix3 h R j)) (rowTotal q k (ix2 h R)) := by
  pointwise [output, val_main_v39, val_main_v38, val_main_v34, val_main_v33, val_main_v32]
  rfl

theorem dQueries_at (h : Fin 8) (R : Fin 4112) (d : Fin 96) :
    dQueries q k v dy (ix3 R h d) = ∑ j : Fin 4112, (if j.val ≤ R.val then dScores q k v dy (ix3 h R j) else 0) * Ideal.ofBits .f32 0x3DD105EC#32 * k (ix3 j h d) := by
  pointwise [dQueries, val_main_v58, val_main_v57, val_main_v56, val_main_v55, val_main_cst_13, val_main_v54, val_main_call1_v0, val_main_call1_cst, val_main_v9_1, val_main_v8, val_main_v7, val_main_v6, val_main_v5, val_main_v4, val_main_v3]
  refine Finset.sum_congr rfl fun j _ => ?_
  rw [WordCmp.cmpi_sle_ofNat (by omega) (by omega)]
  unfold Scalar.select dScores
  by_cases hj : j.val ≤ R.val
  · simp [hj]
  · simp [hj]

theorem result0_at (h : Fin 8) (R : Fin 4224) (l : Fin 128) :
    (val_main_v68 (F := Ideal) q k v dy : FVec Ideal S8x4224x128 .f32) (ix3 h R l)
      = if hR : R.val < 4112 then (if hl : l.val < 96 then dQueries q k v dy (ix3 ⟨R.val, hR⟩ h ⟨l.val, hl⟩) else 0) else 0 := by
  pointwise [val_main_v68, val_main_v67, val_main_v66, val_main_v65, val_main_v64, val_main_cst_16, val_main_cst_17]
  rfl

theorem result1_at (h : Fin 8) (R : Fin 4224) :
    (val_main_v69 (F := Ideal) q k v dy : FVec Ideal S8x4224x1 .f32) (ix3 h R 0)
      = if hR : R.val < 4112 then (∑ d : Fin 64, dy (ix3 ⟨R.val, hR⟩ h d) * output q k v (ix3 ⟨R.val, hR⟩ h d)) else 0 := by
  pointwise [val_main_v69, val_main_v63, val_main_v62, val_main_v61, val_main_v60, val_main_v59, val_main_cst_14, val_main_cst_15]
  rfl

end Cert.AttnQRefIdeal.Hand

end
-- ==== Proof.Softmax.lean ====
/- The causal softmax over the extended reals, where the arguments are finite: its row's largest score, its
   exponentials, its sum and its probabilities are real numbers, and so is its gradient. -/
module

public import Idealize.ShloMosaic.Lib.Pointwise
public import Idealize.ShloMosaic.Lib.Pipeline.Value
public import Idealize.ShloMosaic.Lib.Tactic

@[expose] public section

noncomputable section

namespace Cert.Softmax

open Idealize.ShloMosaic

/-- A sum of reals is the same sum of extended reals. -/
theorem coe_sum {ι : Type} (s : Finset ι) (f : ι → ℝ) : ((∑ i ∈ s, f i : ℝ) : EReal) = ∑ i ∈ s, (f i : EReal) := by
  classical
  induction s using Finset.induction with
  | empty => simp
  | insert b s hb ih => rw [Finset.sum_insert hb, Finset.sum_insert hb, EReal.coe_add, ih]

/-- A choice between a real and zero. -/
theorem coe_ite (p : Prop) [Decidable p] (a : ℝ) : (if p then (a : EReal) else 0) = ((if p then a else 0 : ℝ) : EReal) := by
  split <;> simp

/-- A quotient of reals. -/
theorem coe_div (a b : ℝ) (h : b ≠ 0) : Ideal.div (a : EReal) (b : EReal) = ((a / b : ℝ) : EReal) := by
  rw [Ideal.div_coe h, ← EReal.coe_mul, mul_one_div]

variable {n : ℕ} (R : Fin n) (t : Fin n → ℝ)

/-- Row `R`'s scores, −∞ behind the row. -/
def score (j : Fin n) : EReal := if j.val ≤ R.val then (t j : EReal) else ⊥

/-- The row's largest score. -/
def largest : EReal := Finset.univ.sup fun j => score R t j

theorem largest_real : ∃ M : ℝ, largest R t = (M : EReal) := by
  obtain ⟨j, -, hj⟩ := Finset.exists_mem_eq_sup Finset.univ ⟨R, Finset.mem_univ R⟩ (score R t)
  have hR : score R t R ≤ largest R t := Finset.le_sup (f := score R t) (Finset.mem_univ R)
  have h1 : largest R t = score R t j := hj
  rw [h1] at hR ⊢
  unfold score at hR ⊢
  rw [if_pos (le_refl _)] at hR
  by_cases h : j.val ≤ R.val
  · exact ⟨t j, by rw [if_pos h]⟩
  · rw [if_neg h] at hR
    exact absurd (le_bot_iff.mp hR) (EReal.coe_ne_bot _)

/-- The row's largest score, as a real. -/
def top : ℝ := (largest_real R t).choose
theorem largest_eq : largest R t = (top R t : EReal) := (largest_real R t).choose_spec

/-- The exponentials, as reals. -/
def expo (j : Fin n) : ℝ := if j.val ≤ R.val then Real.exp (t j - top R t) else 0
/-- Their sum. -/
def total : ℝ := ∑ j, expo R t j
/-- The probabilities. -/
def prob (j : Fin n) : ℝ := expo R t j / total R t

theorem exp_score (j : Fin n) : Ideal.exp (score R t j - largest R t) = (expo R t j : EReal) := by
  rw [largest_eq]
  unfold score expo
  by_cases h : j.val ≤ R.val
  · rw [if_pos h, if_pos h, ← EReal.coe_sub, Ideal.exp_coe]
  · rw [if_neg h, if_neg h, EReal.bot_sub]; rfl

theorem expo_nonneg (j : Fin n) : 0 ≤ expo R t j := by
  unfold expo; split
  · exact (Real.exp_pos _).le
  · exact le_refl _

theorem total_pos : 0 < total R t := by
  refine lt_of_lt_of_le ?_ (Finset.single_le_sum (f := expo R t) (fun j _ => expo_nonneg R t j) (Finset.mem_univ R))
  unfold expo
  rw [if_pos (le_refl _)]
  exact Real.exp_pos _

theorem sum_exp : ∑ j, Ideal.exp (score R t j - largest R t) = (total R t : EReal) := by
  rw [Finset.sum_congr rfl fun j _ => exp_score R t j]
  exact (coe_sum _ _).symm

theorem div_total (a : ℝ) : Ideal.div (a : EReal) (total R t : EReal) = ((a / total R t : ℝ) : EReal) :=
  coe_div _ _ (total_pos R t).ne'

/-- The row's log-sum to base two. -/
theorem logSum : Ideal.div (largest R t + Ideal.log (total R t : EReal)) (Ideal.log ((2 : ℝ) : EReal))
    = (((top R t + Real.log (total R t)) / Real.log 2 : ℝ) : EReal) := by
  rw [largest_eq, Ideal.log_coe, Ideal.log_coe, if_neg (not_le.mpr (total_pos R t)), if_neg (by norm_num), ← EReal.coe_add,
    coe_div _ _ (Real.log_pos (by norm_num)).ne']

/-- A power of two of a score scaled to base two, below the row's log-sum, is the probability. -/
theorem exp2_score (j : Fin n) (h : j.val ≤ R.val) (s σ : ℝ) (hs : t j = s * σ) :
    Ideal.exp2 ((s : EReal) * ((σ * (Real.log 2)⁻¹ : ℝ) : EReal) - (((top R t + Real.log (total R t)) / Real.log 2 : ℝ) : EReal))
      = (prob R t j : EReal) := by
  have l2 : Real.log 2 ≠ 0 := (Real.log_pos (by norm_num)).ne'
  rw [← EReal.coe_mul, ← EReal.coe_sub, Ideal.exp2_coe, EReal.coe_eq_coe_iff]
  have e : s * (σ * (Real.log 2)⁻¹) - (top R t + Real.log (total R t)) / Real.log 2
      = (t j - top R t - Real.log (total R t)) / Real.log 2 := by
    rw [hs]; field_simp; try ring
  show (2 : ℝ) ^ (_ : ℝ) = _
  rw [e, Real.rpow_def_of_pos (by norm_num), mul_div_cancel₀ _ l2, Real.exp_sub, Real.exp_log (total_pos R t)]
  unfold prob expo
  rw [if_pos h]

/-- The gradient through the softmax: the quotient rule the derivative is written with, and the probability times the
    cotangent below its mean. -/
theorem quotient_rule (j : Fin n) (dp : Fin n → ℝ) :
    (Ideal.div (dp j : EReal) (total R t : EReal)
      + -(∑ i, (dp i : EReal) * Ideal.div ((1 : ℝ) : EReal) ((total R t : EReal) * (total R t : EReal)) * (expo R t i : EReal))) * (expo R t j : EReal)
      = ((prob R t j * (dp j - ∑ i, dp i * prob R t i) : ℝ) : EReal) := by
  have hL := (total_pos R t).ne'
  rw [div_total, ← EReal.coe_mul, coe_div _ _ (mul_ne_zero hL hL)]
  simp only [← EReal.coe_mul, ← coe_sum, ← EReal.coe_neg, ← EReal.coe_add]
  rw [EReal.coe_eq_coe_iff]
  have e : ∑ i, dp i * (1 / (total R t * total R t)) * expo R t i = (∑ i, dp i * prob R t i) / total R t := by
    rw [Finset.sum_div]
    refine Finset.sum_congr rfl fun i _ => ?_
    unfold prob
    field_simp
  rw [e]
  unfold prob
  field_simp
  try ring

end Cert.Softmax

end
-- ==== Proof.AttnQEq.lean ====
/- The attention backward pass for the queries: the arrays the kernel leaves, in terms of the program's arguments. -/
module

public import proofs.«01_k».proof.Proof.AttnQArr
public import proofs.«01_k».proof.Proof.AttnQRef
public import proofs.«01_k».proof.Proof.Softmax

@[expose] public section

set_option maxRecDepth 16384

noncomputable section

namespace Cert.AttnQKernelIdeal.Hand

open Idealize.ShloMosaic Idealize.ShloMosaic.TcCoe Idealize.ShloMosaic.Tactic
open Cert.AttnQKernelIdeal Cert.AttnQKernelIdeal.Gen

/-- A sum whose summand vanishes past the first entries. -/
theorem sum_first (m p : ℕ) (f : Fin m → EReal) :
    (∑ d : Fin (m + p), if h : d.val < m then f ⟨d.val, h⟩ else 0) = ∑ d : Fin m, f d := by
  rw [Fin.sum_univ_add]
  simp

/-- A sum over one head's lanes of a pair's. -/
theorem sum_lanes (a : Fin 2) (f : Fin 128 → EReal) :
    (∑ d : Fin 128, if d.val / 64 = a.val then f d else 0) = ∑ e : Fin 64, f ⟨a.val * 64 + e.val, by omega⟩ := by
  rw [Fin.sum_univ_tiles 2 64 (by norm_num) (fun d : Fin 128 => if d.val / 64 = a.val then f d else 0), Fin.sum_univ_two]
  match a with
  | 0 =>
    refine (congr (congrArg HAdd.hAdd (Finset.sum_congr rfl fun e _ => if_pos ?_)) (Finset.sum_eq_zero fun e _ => if_neg ?_)).trans (add_zero _)
    · show (0 * 64 + e.val) / 64 = 0; omega
    · show ¬(1 * 64 + e.val) / 64 = 0; omega
  | 1 =>
    refine (congr (congrArg HAdd.hAdd (Finset.sum_eq_zero fun e _ => if_neg ?_)) (Finset.sum_congr rfl fun e _ => if_pos ?_)).trans (zero_add _)
    · show ¬(0 * 64 + e.val) / 64 = 1; omega
    · show (1 * 64 + e.val) / 64 = 1; omega

/-- A row's product with a key: the padding lanes add nothing. -/
theorem dot_heads (x y : FVec Ideal S4112x8x96 .f32) (h : Fin 8) (R key : Fin 4224) (hR : R.val < 4112) (hk : key.val < 4112) :
    ∑ d : Fin 128, padHeads x (ix3 h R d) * padHeads y (ix3 h key d) = ∑ d : Fin 96, x (ix3 ⟨R.val, hR⟩ h d) * y (ix3 ⟨key.val, hk⟩ h d) := by
  refine (Finset.sum_congr rfl fun d _ => ?_).trans (sum_first 96 32 fun d => x (ix3 ⟨R.val, hR⟩ h d) * y (ix3 ⟨key.val, hk⟩ h d))
  rw [padHeads_at, padHeads_at]
  refine (congr (congrArg HMul.hMul (dif_pos hR)) (dif_pos hk)).trans ?_
  by_cases hd : d.val < 96
  · simp only [hd, dite_true]
  · simp only [hd, dite_false, mul_zero]

/-- A padding row's product with any key is zero. -/
theorem dot_pad (x y : FVec Ideal S4112x8x96 .f32) (h : Fin 8) (R key : Fin 4224) (hR : ¬R.val < 4112) :
    ∑ d : Fin 128, padHeads x (ix3 h R d) * padHeads y (ix3 h key d) = 0 := by
  refine Finset.sum_eq_zero fun d _ => ?_
  rw [padHeads_at]
  exact (congrArg (· * _) (dif_neg hR)).trans (zero_mul _)

/-- The column that holds a head's lane. -/
abbrev col (h : Fin 8) (d : Fin 128) : Fin 512 := ⟨h.val / 2 * 128 + d.val, by omega⟩

theorem padRows_head (x : FVec Ideal S4112x8x64 .f32) (h : Fin 8) (R : Fin 4224) (hR : R.val < 4112) (e : Fin 64) :
    padRows x (ix2 R (col h ⟨h.val % 2 * 64 + e.val, by omega⟩)) = x (ix3 ⟨R.val, hR⟩ h e) := by
  rw [padRows_at]
  refine (dif_pos hR).trans ?_
  have e1 : (⟨(h.val / 2 * 128 + (h.val % 2 * 64 + e.val)) / 64, by omega⟩ : Fin 8) = h := Fin.ext (by show _ / 64 = _; omega)
  have e2 : (⟨(h.val / 2 * 128 + (h.val % 2 * 64 + e.val)) % 64, by omega⟩ : Fin 64) = e := Fin.ext (by show _ % 64 = _; omega)
  exact (congrArg (fun a => x (ix3 ⟨R.val, hR⟩ a _)) e1).trans (congrArg (fun b => x (ix3 ⟨R.val, hR⟩ h b)) e2)

theorem padRows_pad (x : FVec Ideal S4112x8x64 .f32) (R : Fin 4224) (hR : ¬R.val < 4112) (l : Fin 512) : padRows x (ix2 R l) = 0 := by
  rw [padRows_at]
  exact dif_neg hR

/-- A head's product of two padded rows. -/
theorem dot_rows (x y : FVec Ideal S4112x8x64 .f32) (h : Fin 8) (R key : Fin 4224) (hR : R.val < 4112) (hk : key.val < 4112) :
    (∑ d : Fin 128, if d.val / 64 = h.val % 2 then padRows x (ix2 R (col h d)) * padRows y (ix2 key (col h d)) else 0)
      = ∑ e : Fin 64, x (ix3 ⟨R.val, hR⟩ h e) * y (ix3 ⟨key.val, hk⟩ h e) := by
  refine (sum_lanes ⟨h.val % 2, by omega⟩ fun d => padRows x (ix2 R (col h d)) * padRows y (ix2 key (col h d))).trans ?_
  refine Finset.sum_congr rfl fun e _ => ?_
  exact congr (congrArg HMul.hMul (padRows_head x h R hR e)) (padRows_head y h key hk e)

theorem dot_rows_pad (x y : FVec Ideal S4112x8x64 .f32) (h : Fin 8) (R key : Fin 4224) (hR : ¬R.val < 4112) :
    (∑ d : Fin 128, if d.val / 64 = h.val % 2 then padRows x (ix2 R (col h d)) * padRows y (ix2 key (col h d)) else 0) = 0 := by
  refine Finset.sum_eq_zero fun d _ => ?_
  rw [padRows_pad x R hR, zero_mul, ite_self]

/-! ## The block of a point, in the arguments -/

/-- A constant of the scores' scale. -/
theorem lit_scale : Ideal.ofBits .f32 0x3DD105EC#32 = ((3424635 / 33554432 : ℝ) : EReal) := by
  simp [Ideal.ofBits, Ideal.ieee]; rw [← EReal.coe_mul]; norm_num

theorem lit_two : Ideal.ofBits .f32 0x40000000#32 = ((2 : ℝ) : EReal) := by
  simp [Ideal.ofBits, Ideal.ieee]; rw [← EReal.coe_mul]; norm_num

/-- The scale to base two. -/
theorem c2_eq : c2 = (((3424635 / 33554432) * (Real.log 2)⁻¹ : ℝ) : EReal) :=
  IdealRules.named_const.ideal_named_scalar _ _ _ _ rfl

/-- A product with an equal right factor. -/
theorem mul_of_eq {a b c : EReal} (h : b = c) : a * b = a * c := by rw [h]

/-- A product with a vanishing right factor. -/
theorem mul_of_zero {a b : EReal} (h : b = 0) : a * b = 0 := by rw [h, mul_zero]

/-- A sum over the padded keys of a summand that vanishes on the padding. -/
theorem sum_keys (f : ℕ → EReal) (hf : ∀ i, 4112 ≤ i → f i = 0) : ∑ key ∈ Finset.range 4224, f key = ∑ key : Fin 4112, f key.val := by
  rw [show (4224 : ℕ) = 4112 + 112 from rfl, Finset.sum_range_add, Finset.sum_eq_zero (s := Finset.range 112) (fun i _ => hf (4112 + i) (by omega)), add_zero]
  exact Finset.sum_range _

section block
variable (q k : FVec Ideal S4112x8x96 .f32) (v dy y : FVec Ideal S4112x8x64 .f32) (lse : FVec Ideal S8x4224x1 .f32)
variable (x2 : Vec Ideal S2x384x128 .bf16) (x3 : Vec Ideal S2x4224x128 .bf16) (x4 : Vec Ideal S4224x128 .bf16) (x5 x6 : Vec Ideal S384x128 .f32) (x7 : Vec Ideal S2x384x1 .f32)
variable (h : Fin 8) (R : Fin 4224) (a : Fin 2) (j : ℕ) (r : Fin 384)

/-- A point's input blocks are the padded arrays' at row `R` of head `h`. -/
structure Block : Prop where
  ha : a.val = h.val % 2
  hR : 384 * j + r.val = R.val
  h2 : ∀ d, x2 (ix3 a r d) = padHeads q (ix3 h R d)
  h3 : ∀ key d, x3 (ix3 a key d) = padHeads k (ix3 h key d)
  h4 : ∀ key d, x4 (ix2 key d) = padRows v (ix2 key (col h d))
  h5 : ∀ d, x5 (ix2 r d) = padRows dy (ix2 R (col h d))
  h6 : ∀ d, x6 (ix2 r d) = padRows y (ix2 R (col h d))
  h7 : x7 (ix3 a r 0) = lse (ix3 h R 0)

variable (B : Block q k v dy y lse x2 x3 x4 x5 x6 x7 h R a j r)
include B

theorem rowSum_eq : rowSum a x5 x6 r = ∑ d : Fin 128, if d.val / 64 = h.val % 2 then padRows dy (ix2 R (col h d)) * padRows y (ix2 R (col h d)) else 0 := by
  unfold rowSum
  refine Finset.sum_congr rfl fun d _ => ?_
  rw [B.ha, B.h5, B.h6]

theorem rowSum_in (hR : R.val < 4112) : rowSum a x5 x6 r = ∑ e : Fin 64, dy (ix3 ⟨R.val, hR⟩ h e) * y (ix3 ⟨R.val, hR⟩ h e) :=
  (rowSum_eq q k v dy y lse x2 x3 x4 x5 x6 x7 h R a j r B).trans (dot_rows dy y h R R hR hR)

theorem rowSum_out (hR : ¬R.val < 4112) : rowSum a x5 x6 r = 0 :=
  (rowSum_eq q k v dy y lse x2 x3 x4 x5 x6 x7 h R a j r B).trans (dot_rows_pad dy y h R R hR)

theorem dp_eq (key : Fin 4224) : ∑ d, dOut a x5 r d * x4 (ix2 key d) = ∑ d : Fin 128, if d.val / 64 = h.val % 2 then padRows dy (ix2 R (col h d)) * padRows v (ix2 key (col h d)) else 0 := by
  refine Finset.sum_congr rfl fun d _ => ?_
  unfold dOut
  rw [B.ha, B.h5, B.h4, ite_mul, zero_mul]

theorem dot_eq (key : Fin 4224) : ∑ d : Fin 128, x2 (ix3 a r d) * x3 (ix3 a key d) = ∑ d : Fin 128, padHeads q (ix3 h R d) * padHeads k (ix3 h key d) :=
  Finset.sum_congr rfl fun d _ => by rw [B.h2, B.h3]

theorem term_pad (hR : ¬R.val < 4112) (l : Fin 128) (key : ℕ) : term x2 x3 x4 x5 x6 x7 a j r l key = 0 := by
  by_cases hk : key < 4224
  · by_cases hle : key ≤ 384 * j + r.val
    · rw [term_of_le _ _ _ _ _ _ _ _ _ _ _ hk hle, dp_eq q k v dy y lse x2 x3 x4 x5 x6 x7 h R a j r B, dot_rows_pad dy v h R _ hR,
        rowSum_out q k v dy y lse x2 x3 x4 x5 x6 x7 h R a j r B hR]
      unfold part
      rw [sub_zero, mul_zero, zero_mul]
    · unfold term
      exact (dif_pos hk).trans (if_neg hle)
  · unfold term
    exact dif_neg hk

theorem term_lane (l : Fin 128) (hl : ¬l.val < 96) (key : ℕ) : term x2 x3 x4 x5 x6 x7 a j r l key = 0 := by
  by_cases hk : key < 4224
  · by_cases hle : key ≤ 384 * j + r.val
    · rw [term_of_le _ _ _ _ _ _ _ _ _ _ _ hk hle, B.h3, padHeads_at]
      refine mul_of_zero ?_
      split
      · first | exact dif_neg hl | rfl
      · rfl
    · unfold term
      exact (dif_pos hk).trans (if_neg hle)
  · unfold term
    exact dif_neg hk

theorem term_in (hR : R.val < 4112) (l : Fin 96) (key : ℕ) (hk : key ≤ R.val) :
    term x2 x3 x4 x5 x6 x7 a j r ⟨l.val, by omega⟩ key
      = part ((∑ d : Fin 96, q (ix3 ⟨R.val, hR⟩ h d) * k (ix3 ⟨key, by omega⟩ h d)) * c2)
          (∑ e : Fin 64, dy (ix3 ⟨R.val, hR⟩ h e) * v (ix3 ⟨key, by omega⟩ h e)) (lse (ix3 h R 0))
          (∑ e : Fin 64, dy (ix3 ⟨R.val, hR⟩ h e) * y (ix3 ⟨R.val, hR⟩ h e)) * k (ix3 ⟨key, by omega⟩ h l) := by
  have hk4 : key < 4224 := by omega
  have hk2 : key < 4112 := by omega
  have hle : key ≤ 384 * j + r.val := by rw [B.hR]; exact hk
  rw [term_of_le _ _ _ _ _ _ _ _ _ _ _ hk4 hle, dp_eq q k v dy y lse x2 x3 x4 x5 x6 x7 h R a j r B,
    rowSum_in q k v dy y lse x2 x3 x4 x5 x6 x7 h R a j r B hR, dot_eq q k v dy y lse x2 x3 x4 x5 x6 x7 h R a j r B, B.h7, B.h3,
    dot_heads q k h R ⟨key, hk4⟩ hR hk2, dot_rows dy v h R ⟨key, hk4⟩ hR hk2, padHeads_at]
  refine mul_of_eq ?_
  exact (dif_pos hk2).trans (dif_pos l.isLt)

theorem term_behind (l : Fin 128) (key : ℕ) (hk : ¬key ≤ R.val) : term x2 x3 x4 x5 x6 x7 a j r l key = 0 := by
  unfold term
  have hle : ¬key ≤ 384 * j + r.val := by rw [B.hR]; exact hk
  by_cases hk4 : key < 4224
  · exact (dif_pos hk4).trans (if_neg hle)
  · exact dif_neg hk4

/-- A row's sum of terms, over the keys proper. -/
theorem sum_in (hR : R.val < 4112) (l : Fin 96) :
    ∑ key ∈ Finset.range 4224, term x2 x3 x4 x5 x6 x7 a j r ⟨l.val, by omega⟩ key
      = ∑ key : Fin 4112, if key.val ≤ R.val then
          part ((∑ d : Fin 96, q (ix3 ⟨R.val, hR⟩ h d) * k (ix3 key h d)) * c2)
            (∑ e : Fin 64, dy (ix3 ⟨R.val, hR⟩ h e) * v (ix3 key h e)) (lse (ix3 h R 0))
            (∑ e : Fin 64, dy (ix3 ⟨R.val, hR⟩ h e) * y (ix3 ⟨R.val, hR⟩ h e)) * k (ix3 key h l) else 0 := by
  refine (sum_keys _ fun i hi => term_behind q k v dy y lse x2 x3 x4 x5 x6 x7 h R a j r B _ _ (by omega)).trans (Finset.sum_congr rfl fun key _ => ?_)
  by_cases hk : key.val ≤ R.val
  · exact (term_in q k v dy y lse x2 x3 x4 x5 x6 x7 h R a j r B hR l key.val hk).trans (if_pos hk).symm
  · exact (term_behind q k v dy y lse x2 x3 x4 x5 x6 x7 h R a j r B _ key.val hk).trans (if_neg hk).symm

end block

/-! ## Finite arguments -/

section finite
open Cert.Softmax (coe_sum coe_ite)
variable (q k : S4112x8x96.Idx → ℝ) (v dy : S4112x8x64.Idx → ℝ)

/-- A finite array. -/
abbrev fin96 (x : S4112x8x96.Idx → ℝ) : FVec Ideal S4112x8x96 .f32 := fun i => ((x i : ℝ) : EReal)
abbrev fin64 (x : S4112x8x64.Idx → ℝ) : FVec Ideal S4112x8x64 .f32 := fun i => ((x i : ℝ) : EReal)

/-- The products of row `R` with the keys. -/
def dots (h : Fin 8) (R : Fin 4112) (j : Fin 4112) : ℝ := ∑ d : Fin 96, q (ix3 R h d) * k (ix3 j h d)
/-- The scaled products. -/
def scaled (h : Fin 8) (R : Fin 4112) (j : Fin 4112) : ℝ := dots q k h R j * (3424635 / 33554432)
/-- The cotangent's products with the values. -/
def cots (h : Fin 8) (R : Fin 4112) (j : Fin 4112) : ℝ := ∑ e : Fin 64, dy (ix3 R h e) * v (ix3 j h e)
/-- Their mean under the probabilities. -/
def mean (h : Fin 8) (R : Fin 4112) : ℝ := ∑ j, cots v dy h R j * Softmax.prob R (scaled q k h R) j

theorem dots_coe (h : Fin 8) (R j : Fin 4112) : ∑ d : Fin 96, fin96 q (ix3 R h d) * fin96 k (ix3 j h d) = (dots q k h R j : EReal) := by
  unfold dots
  simp only [← EReal.coe_mul, ← coe_sum]

theorem cots_coe (h : Fin 8) (R j : Fin 4112) : ∑ e : Fin 64, fin64 dy (ix3 R h e) * fin64 v (ix3 j h e) = (cots v dy h R j : EReal) := by
  unfold cots
  simp only [← EReal.coe_mul, ← coe_sum]

theorem scores_fin (h : Fin 8) (R j : Fin 4112) : scores (fin96 q) (fin96 k) (ix3 h R j) = Softmax.score R (scaled q k h R) j := by
  rw [scores_at, dots_coe, lit_scale, ← EReal.coe_mul]
  rfl

theorem rowMax_fin (h : Fin 8) (R : Fin 4112) : rowMax (scores (fin96 q) (fin96 k)) (ix3 h R 0) = Softmax.largest R (scaled q k h R) := by
  rw [rowMax_at, funext fun j => scores_fin q k h R j]
  rfl

theorem exp_fin (h : Fin 8) (R j : Fin 4112) :
    expScores (scores (fin96 q) (fin96 k)) (rowMax (scores (fin96 q) (fin96 k))) (ix3 h R j) = (Softmax.expo R (scaled q k h R) j : EReal) := by
  rw [expScores_at, scores_fin, rowMax_fin, Softmax.exp_score]

theorem total_fin (h : Fin 8) (R : Fin 4112) :
    rowTotal (expScores (scores (fin96 q) (fin96 k)) (rowMax (scores (fin96 q) (fin96 k)))) (ix3 h R 0) = (Softmax.total R (scaled q k h R) : EReal) := by
  rw [rowTotal_at, Finset.sum_congr rfl fun j _ => exp_fin q k h R j]
  exact (coe_sum _ _).symm

theorem output_fin (h : Fin 8) (R : Fin 4112) (e : Fin 64) :
    outputOf (scores (fin96 q) (fin96 k)) (fin64 v) (ix3 R h e) = ((∑ j, v (ix3 j h e) * Softmax.prob R (scaled q k h R) j : ℝ) : EReal) := by
  unfold outputOf
  rw [output_at, coe_sum]
  refine Finset.sum_congr rfl fun j _ => ?_
  rw [exp_fin, total_fin, Softmax.div_total, ← EReal.coe_mul]
  rfl

theorem logSum_fin (h : Fin 8) (R : Fin 4224) (hR : R.val < 4112) :
    logSumOf (scores (fin96 q) (fin96 k)) (ix3 h R 0)
      = (((Softmax.top ⟨R.val, hR⟩ (scaled q k h ⟨R.val, hR⟩) + Real.log (Softmax.total ⟨R.val, hR⟩ (scaled q k h ⟨R.val, hR⟩))) / Real.log 2 : ℝ) : EReal) := by
  unfold logSumOf
  rw [logSum_at]
  refine (dif_pos hR).trans ?_
  rw [rowMax_fin, total_fin, lit_two, Softmax.logSum]

/-- The row's sum of the cotangent times the output is the mean of the products. -/
theorem mean_coe (h : Fin 8) (R : Fin 4112) (y : FVec Ideal S4112x8x64 .f32)
    (hy : ∀ e, y (ix3 R h e) = ((∑ j, v (ix3 j h e) * Softmax.prob R (scaled q k h R) j : ℝ) : EReal)) :
    ∑ e : Fin 64, fin64 dy (ix3 R h e) * y (ix3 R h e) = (mean q k v dy h R : EReal) := by
  unfold mean cots
  rw [coe_sum, Finset.sum_congr rfl fun e _ => by rw [hy e, ← EReal.coe_mul], ← coe_sum, ← coe_sum, EReal.coe_eq_coe_iff]
  simp only [Finset.mul_sum, Finset.sum_mul]
  rw [Finset.sum_comm]
  refine Finset.sum_congr rfl fun j _ => Finset.sum_congr rfl fun e _ => ?_
  ring

/-- The gradient of a query's lane. -/
def grad (h : Fin 8) (R : Fin 4112) (l : Fin 96) : ℝ :=
  ∑ j : Fin 4112, (if j.val ≤ R.val then Softmax.prob R (scaled q k h R) j * (cots v dy h R j - mean q k v dy h R) else 0) * (3424635 / 33554432) * k (ix3 j h l)

/-- One key's part. -/
theorem part_fin (h : Fin 8) (R j : Fin 4112) (hj : j.val ≤ R.val) :
    part ((dots q k h R j : EReal) * c2) (cots v dy h R j : EReal)
      (((Softmax.top R (scaled q k h R) + Real.log (Softmax.total R (scaled q k h R))) / Real.log 2 : ℝ) : EReal) (mean q k v dy h R : EReal)
      = ((Softmax.prob R (scaled q k h R) j * (cots v dy h R j - mean q k v dy h R) : ℝ) : EReal) := by
  unfold part
  rw [c2_eq, Softmax.exp2_score R (scaled q k h R) j hj (dots q k h R j) (3424635 / 33554432) rfl, ← EReal.coe_sub, ← EReal.coe_mul]

/-- The reference's gradient. -/
theorem ref_grad (h : Fin 8) (R : Fin 4112) (l : Fin 96) :
    Cert.AttnQRefIdeal.Hand.dQueries (fin96 q) (fin96 k) (fin64 v) (fin64 dy) (ix3 R h l) = (grad q k v dy h R l : EReal) := by
  have hs : ∀ j, Cert.AttnQRefIdeal.Hand.scores (fin96 q) (fin96 k) (ix3 h R j) = Softmax.score R (scaled q k h R) j := fun j => by
    rw [Cert.AttnQRefIdeal.Hand.scores_at, dots_coe, lit_scale, ← EReal.coe_mul]
    rfl
  have hm : Cert.AttnQRefIdeal.Hand.rowMax (fin96 q) (fin96 k) (ix2 h R) = Softmax.largest R (scaled q k h R) := by
    rw [Cert.AttnQRefIdeal.Hand.rowMax_at, funext hs]
    rfl
  have he : ∀ j, Cert.AttnQRefIdeal.Hand.expScores (fin96 q) (fin96 k) (ix3 h R j) = (Softmax.expo R (scaled q k h R) j : EReal) := fun j => by
    rw [Cert.AttnQRefIdeal.Hand.expScores_at, hs, hm, Softmax.exp_score]
  have ht : Cert.AttnQRefIdeal.Hand.rowTotal (fin96 q) (fin96 k) (ix2 h R) = (Softmax.total R (scaled q k h R) : EReal) := by
    rw [Cert.AttnQRefIdeal.Hand.rowTotal_at, Finset.sum_congr rfl fun j _ => he j]
    exact (coe_sum _ _).symm
  have hd : ∀ j, Cert.AttnQRefIdeal.Hand.dProbs (fin64 v) (fin64 dy) (ix3 h R j) = (cots v dy h R j : EReal) := fun j => by
    rw [Cert.AttnQRefIdeal.Hand.dProbs_at, cots_coe]
  have h1 : Ideal.ofBits .f32 0x3F800000#32 = ((1 : ℝ) : EReal) := by
    simp [Ideal.ofBits, Ideal.ieee]; rw [← EReal.coe_mul]; norm_num
  rw [Cert.AttnQRefIdeal.Hand.dQueries_at]
  unfold grad
  rw [coe_sum]
  refine Finset.sum_congr rfl fun j _ => ?_
  have hj : Cert.AttnQRefIdeal.Hand.dScores (fin96 q) (fin96 k) (fin64 v) (fin64 dy) (ix3 h R j)
      = ((Softmax.prob R (scaled q k h R) j * (cots v dy h R j - mean q k v dy h R) : ℝ) : EReal) := by
    rw [Cert.AttnQRefIdeal.Hand.dScores_at, hd, ht, he, Finset.sum_congr rfl fun i _ => by rw [hd i, he i], h1]
    exact Softmax.quotient_rule R (scaled q k h R) j (cots v dy h R)
  rw [hj, lit_scale, coe_ite, ← EReal.coe_mul, ← EReal.coe_mul]

/-- The reference's row sum. -/
theorem ref_mean (h : Fin 8) (R : Fin 4112) :
    ∑ e : Fin 64, fin64 dy (ix3 R h e) * Cert.AttnQRefIdeal.Hand.output (fin96 q) (fin96 k) (fin64 v) (ix3 R h e) = (mean q k v dy h R : EReal) := by
  refine mean_coe q k v dy h R _ fun e => ?_
  have hs : ∀ j, Cert.AttnQRefIdeal.Hand.scores (fin96 q) (fin96 k) (ix3 h R j) = Softmax.score R (scaled q k h R) j := fun j => by
    rw [Cert.AttnQRefIdeal.Hand.scores_at, dots_coe, lit_scale, ← EReal.coe_mul]
    rfl
  have hm : Cert.AttnQRefIdeal.Hand.rowMax (fin96 q) (fin96 k) (ix2 h R) = Softmax.largest R (scaled q k h R) := by
    rw [Cert.AttnQRefIdeal.Hand.rowMax_at, funext hs]
    rfl
  have he : ∀ j, Cert.AttnQRefIdeal.Hand.expScores (fin96 q) (fin96 k) (ix3 h R j) = (Softmax.expo R (scaled q k h R) j : EReal) := fun j => by
    rw [Cert.AttnQRefIdeal.Hand.expScores_at, hs, hm, Softmax.exp_score]
  have ht : Cert.AttnQRefIdeal.Hand.rowTotal (fin96 q) (fin96 k) (ix2 h R) = (Softmax.total R (scaled q k h R) : EReal) := by
    rw [Cert.AttnQRefIdeal.Hand.rowTotal_at, Finset.sum_congr rfl fun j _ => he j]
    exact (coe_sum _ _).symm
  rw [Cert.AttnQRefIdeal.Hand.output_at, coe_sum]
  refine Finset.sum_congr rfl fun j _ => ?_
  rw [he, ht, Softmax.div_total, ← EReal.coe_mul]
  rfl

section block
variable (x2 : Vec Ideal S2x384x128 .bf16) (x3 : Vec Ideal S2x4224x128 .bf16) (x4 : Vec Ideal S4224x128 .bf16) (x5 x6 : Vec Ideal S384x128 .f32) (x7 : Vec Ideal S2x384x1 .f32)
variable (h : Fin 8) (R : Fin 4224) (a : Fin 2) (j : ℕ) (r : Fin 384)
variable (B : Block (fin96 q) (fin96 k) (fin64 v) (fin64 dy) (outputOf (scores (fin96 q) (fin96 k)) (fin64 v)) (logSumOf (scores (fin96 q) (fin96 k)))
  x2 x3 x4 x5 x6 x7 h R a j r)
include B

/-- The gradient a point stores is the gradient. -/
theorem block_grad (l : Fin 128) :
    (∑ key ∈ Finset.range 4224, term x2 x3 x4 x5 x6 x7 a j r l key) * Ideal.ofBits .f32 0x3DD105EC#32
      = if hR : R.val < 4112 then (if hl : l.val < 96 then (grad q k v dy h ⟨R.val, hR⟩ ⟨l.val, hl⟩ : EReal) else 0) else 0 := by
  by_cases hR : R.val < 4112
  · by_cases hl : l.val < 96
    · refine Eq.trans ?_ ((dif_pos hR).trans (dif_pos hl)).symm
      refine (congrArg (fun z : EReal => z * Ideal.ofBits .f32 0x3DD105EC#32) (sum_in _ _ _ _ _ _ x2 x3 x4 x5 x6 x7 h R a j r B hR ⟨l.val, hl⟩)).trans ?_
      rw [mean_coe q k v dy h ⟨R.val, hR⟩ _ (output_fin q k v h ⟨R.val, hR⟩), logSum_fin q k h R hR, lit_scale]
      unfold grad
      have e : ∀ key : Fin 4112, (if key.val ≤ R.val then
          part ((∑ d : Fin 96, fin96 q (ix3 ⟨R.val, hR⟩ h d) * fin96 k (ix3 key h d)) * c2)
            (∑ e : Fin 64, fin64 dy (ix3 ⟨R.val, hR⟩ h e) * fin64 v (ix3 key h e))
            (((Softmax.top ⟨R.val, hR⟩ (scaled q k h ⟨R.val, hR⟩) + Real.log (Softmax.total ⟨R.val, hR⟩ (scaled q k h ⟨R.val, hR⟩))) / Real.log 2 : ℝ) : EReal)
            (mean q k v dy h ⟨R.val, hR⟩ : EReal) * fin96 k (ix3 key h ⟨l.val, hl⟩) else 0)
          = (((if key.val ≤ R.val then Softmax.prob ⟨R.val, hR⟩ (scaled q k h ⟨R.val, hR⟩) key * (cots v dy h ⟨R.val, hR⟩ key - mean q k v dy h ⟨R.val, hR⟩) else 0) * k (ix3 key h ⟨l.val, hl⟩) : ℝ) : EReal) := fun key => by
        by_cases hk : key.val ≤ R.val
        · rw [if_pos hk, if_pos hk, dots_coe, cots_coe, part_fin q k v dy h ⟨R.val, hR⟩ key hk, ← EReal.coe_mul]
        · rw [if_neg hk, if_neg hk, zero_mul]; rfl
      rw [Finset.sum_congr rfl fun key _ => e key, ← coe_sum, ← EReal.coe_mul, EReal.coe_eq_coe_iff, Finset.sum_mul]
      exact Finset.sum_congr rfl fun key _ => by ring
    · refine Eq.trans ?_ ((dif_pos hR).trans (dif_neg hl)).symm
      rw [Finset.sum_eq_zero fun key _ => term_lane _ _ _ _ _ _ x2 x3 x4 x5 x6 x7 h R a j r B l hl key, zero_mul]
  · refine Eq.trans ?_ (dif_neg hR).symm
    rw [Finset.sum_eq_zero fun key _ => term_pad _ _ _ _ _ _ x2 x3 x4 x5 x6 x7 h R a j r B hR l key, zero_mul]

/-- The row sum a point stores. -/
theorem block_mean :
    rowSum a x5 x6 r = if hR : R.val < 4112 then (mean q k v dy h ⟨R.val, hR⟩ : EReal) else 0 := by
  by_cases hR : R.val < 4112
  · refine Eq.trans ?_ (dif_pos hR).symm
    rw [rowSum_in _ _ _ _ _ _ x2 x3 x4 x5 x6 x7 h R a j r B hR, mean_coe q k v dy h ⟨R.val, hR⟩ _ (output_fin q k v h ⟨R.val, hR⟩)]
  · refine Eq.trans ?_ (dif_neg hR).symm
    rw [rowSum_out _ _ _ _ _ _ x2 x3 x4 x5 x6 x7 h R a j r B hR]

end block
end finite

end Cert.AttnQKernelIdeal.Hand

end
-- ==== Proof.Finite.lean ====
/- What a finiteness precondition says of an element: it is a real number. -/
module

public import Idealize.ShloMosaic.Lib.Pointwise

@[expose] public section

set_option maxRecDepth 16384

noncomputable section

namespace Cert.Finite

open Idealize.ShloMosaic

theorem infinity : Ideal.ofBits .f32 0x7F800000#32 = ⊤ := by simp [Ideal.ofBits, Ideal.ieee]

/-- An element whose absolute value is below infinity is a real number. -/
theorem real (x : EReal) (h : Ideal.cmp .olt (max x (-x)) (Ideal.ofBits .f32 0x7F800000#32) = 1#1) : x = ((x.toReal : ℝ) : EReal) := by
  rw [infinity] at h
  induction x using EReal.rec with
  | bot => simp [Ideal.cmp] at h
  | coe r => simp
  | top => simp [Ideal.cmp] at h

end Cert.Finite

end
-- ==== Proof.AttnQValue.lean ====
/- The values of the attention backward pass for the queries: the kernel's two arrays are the reference's. -/
module

public import proofs.«01_k».proof.Proof.AttnQEq
public import proofs.«01_k».proof.Proof.Finite
public import proofs.«01_k».proof.Proof.Gen.Pre_attention_finite

@[expose] public section

set_option maxRecDepth 16384

noncomputable section

namespace Cert.AttnQKernelIdeal.Hand

open Idealize.ShloMosaic Idealize.ShloMosaic.TcCoe Idealize.ShloMosaic.Tactic
open Cert.AttnQKernelIdeal Cert.AttnQKernelIdeal.Gen

/-! ## The precondition -/

section pre
variable (q k : FVec Ideal S4112x8x96 .f32) (v dy : FVec Ideal S4112x8x64 .f32)
    (hf : Cert.Pre_attention_finite.fn (F := Ideal) q k v dy = fun _ => 1#1)
include hf

theorem pre_at (R : Fin 4112) (h : Fin 8) (l : Fin 320) : (Cert.Pre_attention_finite.fn (F := Ideal) q k v dy : IVec _ 1) (ix3 R h l) = 1#1 := by rw [hf]

/-- The queries are finite. -/
theorem fin_q : q = fin96 fun i => (q i).toReal := by
  funext i
  obtain ⟨R, h, l, rfl⟩ : ∃ (R : Fin 4112) (h : Fin 8) (l : Fin 96), i = ix3 R h l := ⟨i 0, i 1, i 2, (eq_ix3 i)⟩
  have g := pre_at q k v dy hf R h ⟨l.val, by omega⟩
  apply Cert.Finite.real
  revert g
  pointwise [Cert.Pre_attention_finite.fn]
  exact id

/-- The keys are finite. -/
theorem fin_k : k = fin96 fun i => (k i).toReal := by
  funext i
  obtain ⟨R, h, l, rfl⟩ : ∃ (R : Fin 4112) (h : Fin 8) (l : Fin 96), i = ix3 R h l := ⟨i 0, i 1, i 2, (eq_ix3 i)⟩
  have g := pre_at q k v dy hf R h ⟨96 + l.val, by omega⟩
  apply Cert.Finite.real
  revert g
  pointwise [Cert.Pre_attention_finite.fn]
  first | exact id | (simp (disch := omega) only [dif_pos, dif_neg, Nat.add_sub_cancel_left]; exact id)

/-- The values are finite. -/
theorem fin_v : v = fin64 fun i => (v i).toReal := by
  funext i
  obtain ⟨R, h, l, rfl⟩ : ∃ (R : Fin 4112) (h : Fin 8) (l : Fin 64), i = ix3 R h l := ⟨i 0, i 1, i 2, (eq_ix3 i)⟩
  have g := pre_at q k v dy hf R h ⟨192 + l.val, by omega⟩
  apply Cert.Finite.real
  revert g
  pointwise [Cert.Pre_attention_finite.fn]
  intro g
  simp (disch := omega) only [dif_pos, dif_neg] at g
  have e : ∀ p, (⟨192 + l.val - 96 - 96, p⟩ : Fin 64) = l := fun p => Fin.ext (by show 192 + l.val - 96 - 96 = l.val; omega)
  rw [e] at g
  exact g

/-- The cotangent is finite. -/
theorem fin_dy : dy = fin64 fun i => (dy i).toReal := by
  funext i
  obtain ⟨R, h, l, rfl⟩ : ∃ (R : Fin 4112) (h : Fin 8) (l : Fin 64), i = ix3 R h l := ⟨i 0, i 1, i 2, (eq_ix3 i)⟩
  have g := pre_at q k v dy hf R h ⟨256 + l.val, by omega⟩
  apply Cert.Finite.real
  revert g
  pointwise [Cert.Pre_attention_finite.fn]
  intro g
  simp (disch := omega) only [dif_pos, dif_neg] at g
  have e : ∀ p, (⟨256 + l.val - 96 - 96 - 64, p⟩ : Fin 64) = l := fun p => Fin.ext (by show 256 + l.val - 96 - 96 - 64 = l.val; omega)
  rw [e] at g
  exact g

end pre

/-! ## The kernel's arrays -/

section arrays
variable (m : (ℓ : Loc nD τ sig) → Buf (Elt Ideal) ℓ) (c : Dev nD)
variable (q k : FVec Ideal S4112x8x96 .f32) (v dy : FVec Ideal S4112x8x64 .f32)
  (hq : (m ((c : Thread nD τ).loc main_arg0) : FVec Ideal S4112x8x96 .f32) = q) (hk : (m ((c : Thread nD τ).loc main_arg1) : FVec Ideal S4112x8x96 .f32) = k)
  (hv : (m ((c : Thread nD τ).loc main_arg2) : FVec Ideal S4112x8x64 .f32) = v) (hdy : (m ((c : Thread nD τ).loc main_arg3) : FVec Ideal S4112x8x64 .f32) = dy)
include hq hk hv hdy

/-- What the blocks of the point that holds row `R` of head `h` hold. -/
theorem blocks (h : Fin 8) (R : Fin 4224) :
    Block q k v dy (outputOf (scores q k) v) (logSumOf (scores q k))
      (iblk m c 0 (ptOf h R)) (iblk m c 1 (ptOf h R)) (iblk m c 2 (ptOf h R)) (iblk m c 3 (ptOf h R)) (iblk m c 4 (ptOf h R)) (iblk m c 5 (ptOf h R))
      h R ⟨h.val % 2, by omega⟩ (((grid0.coords (ptOf h R)) 1).val) ⟨R.val % 384, by omega⟩ := by
  have e0 : (ptOf h R).val / 11 = h.val / 2 := by show (h.val / 2 * 11 + R.val / 384) / 11 = _; omega
  have e1 : (ptOf h R).val % 11 = R.val / 384 := by show (h.val / 2 * 11 + R.val / 384) % 11 = _; omega
  have hh : ∀ p : (ptOf h R).val / 11 * 2 + h.val % 2 < 8, (⟨(ptOf h R).val / 11 * 2 + h.val % 2, p⟩ : Fin 8) = h := fun p => Fin.ext (by show (ptOf h R).val / 11 * 2 + h.val % 2 = h.val; rw [e0]; omega)
  have hr : ∀ p : (ptOf h R).val % 11 * 384 + R.val % 384 < 4224, (⟨(ptOf h R).val % 11 * 384 + R.val % 384, p⟩ : Fin 4224) = R := fun p => Fin.ext (by show (ptOf h R).val % 11 * 384 + R.val % 384 = R.val; rw [e1]; omega)
  have hc : ∀ (d : Fin 128) (p : (ptOf h R).val / 11 * 128 + d.val < 512), (⟨(ptOf h R).val / 11 * 128 + d.val, p⟩ : Fin 512) = col h d := fun d p => Fin.ext (by show (ptOf h R).val / 11 * 128 + d.val = h.val / 2 * 128 + d.val; rw [e0])
  refine ⟨rfl, ?_, fun d => ?_, fun key d => ?_, fun key d => ?_, fun d => ?_, fun d => ?_, ?_⟩
  · rw [coord1, e1]; show 384 * (R.val / 384) + R.val % 384 = R.val; omega
  · refine (iblk0_apply m c _ _ _ _).trans ?_
    dsimp only
    rw [hh, hr]
    exact congrFun ((V_q m c).trans (congrArg padHeads hq)) _
  · refine (iblk1_apply m c _ _ _ _).trans ?_
    dsimp only
    rw [hh]
    exact congrFun ((V_k m c).trans (congrArg padHeads hk)) _
  · refine (iblk2_apply m c _ _ _).trans ?_
    dsimp only
    rw [hc]
    exact congrFun ((V_v m c).trans (congrArg (fun x => (truncf (F := Ideal) (φ := .f32) .bf16 (padRows x) bitsLt_bf16_f32 : FVec Ideal S4224x512 .bf16)) hv)) _
  · refine (iblk3_apply m c _ _ _).trans ?_
    dsimp only
    rw [hc, hr]
    exact congrFun ((V_dy m c).trans (congrArg padRows hdy)) _
  · refine (iblk4_apply m c _ _ _).trans ?_
    dsimp only
    rw [hc, hr]
    refine congrFun ((V_y m c).trans ?_) _
    rw [← hq, ← hk, ← hv]
  · refine (iblk5_apply m c _ _ _).trans ?_
    dsimp only
    rw [hh, hr]
    refine congrFun ((V_lse m c).trans ?_) _
    rw [← hq, ← hk]

end arrays

section result
variable (m : (ℓ : Loc nD τ sig) → Buf (Elt Ideal) ℓ) (c : Dev nD)
variable (q k : FVec Ideal S4112x8x96 .f32) (v dy : FVec Ideal S4112x8x64 .f32)
  (hq : (m ((c : Thread nD τ).loc main_arg0) : FVec Ideal S4112x8x96 .f32) = q) (hk : (m ((c : Thread nD τ).loc main_arg1) : FVec Ideal S4112x8x96 .f32) = k)
  (hv : (m ((c : Thread nD τ).loc main_arg2) : FVec Ideal S4112x8x64 .f32) = v) (hdy : (m ((c : Thread nD τ).loc main_arg3) : FVec Ideal S4112x8x64 .f32) = dy)
  (hf : Cert.Pre_attention_finite.fn (F := Ideal) q k v dy = fun _ => 1#1)
include hq hk hv hdy hf

/-- The gradient of the queries is the reference's. -/
theorem grad_eq : ((dats m 0 c).arrAt 6 cfg0.N : FVec Ideal S8x4224x128 .f32) = Cert.AttnQRefIdeal.Read.val_main_v68 (F := Ideal) q k v dy := by
  funext i
  obtain ⟨h, R, l, rfl⟩ : ∃ (h : Fin 8) (R : Fin 4224) (l : Fin 128), i = ix3 h R l := ⟨i 0, i 1, i 2, (eq_ix3 i)⟩
  refine (final6 m c h R l).trans (Eq.trans ?_ (Cert.AttnQRefIdeal.Hand.result0_at q k v dy h R l).symm)
  unfold at8
  refine (out8_at ..).trans ?_
  have B := blocks m c q k v dy hq hk hv hdy h R
  have eq := fin_q q k v dy hf
  have ek := fin_k q k v dy hf
  have ev := fin_v q k v dy hf
  have ed := fin_dy q k v dy hf
  clear hq hk hv hdy hf
  generalize (fun i => (q i).toReal) = q' at eq
  generalize (fun i => (k i).toReal) = k' at ek
  generalize (fun i => (v i).toReal) = v' at ev
  generalize (fun i => (dy i).toReal) = dy' at ed
  subst eq ek ev ed
  refine (block_grad q' k' v' dy' _ _ _ _ _ _ h R _ _ _ B l).trans ?_
  by_cases hR : R.val < 4112
  · by_cases hl : l.val < 96
    · simp only [hR, hl, dite_true]
      exact (ref_grad q' k' v' dy' h ⟨R.val, hR⟩ ⟨l.val, hl⟩).symm
    · simp only [hR, hl, dite_true, dite_false]
  · simp only [hR, dite_false]

/-- The row sums are the reference's. -/
theorem mean_eq : ((dats m 0 c).arrAt 7 cfg0.N : FVec Ideal S8x4224x1 .f32) = Cert.AttnQRefIdeal.Read.val_main_v69 (F := Ideal) q k v dy := by
  funext i
  obtain ⟨h, R, rfl⟩ : ∃ (h : Fin 8) (R : Fin 4224), i = ix3 h R 0 := ⟨i 0, i 1, (eq_ix3 i).trans (congrArg (ix3 (i 0) (i 1)) (Subsingleton.elim (α := Fin 1) _ _))⟩
  refine (final7 m c h R).trans (Eq.trans ?_ (Cert.AttnQRefIdeal.Hand.result1_at q k v dy h R).symm)
  unfold at9
  refine (out9_at ..).trans ?_
  have B := blocks m c q k v dy hq hk hv hdy h R
  have eq := fin_q q k v dy hf
  have ek := fin_k q k v dy hf
  have ev := fin_v q k v dy hf
  have ed := fin_dy q k v dy hf
  clear hq hk hv hdy hf
  generalize (fun i => (q i).toReal) = q' at eq
  generalize (fun i => (k i).toReal) = k' at ek
  generalize (fun i => (v i).toReal) = v' at ev
  generalize (fun i => (dy i).toReal) = dy' at ed
  subst eq ek ev ed
  refine (block_mean q' k' v' dy' _ _ _ _ _ _ h R _ _ _ B).trans ?_
  by_cases hR : R.val < 4112
  · simp only [hR, dite_true]
    exact (ref_mean q' k' v' dy' h ⟨R.val, hR⟩).symm
  · simp only [hR, dite_false]

end result

end Cert.AttnQKernelIdeal.Hand

end
-- ==== Proof.AttnKvRun.lean ====
/- The body of the attention backward pass for the keys and values: what one grid point of the kernel leaves in the two
   output blocks, for either width of the first query block. -/
module

public import proofs.«01_k».proof.Proof.Gen.AttnKvKernelIdeal.Frame
public import proofs.«01_k».proof.Proof.Gen.AttnKvKernelIdeal.Loops

@[expose] public section

set_option maxRecDepth 16384

noncomputable section

namespace Cert.AttnKvKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKvKernelIdeal Cert.AttnKvKernelIdeal.Gen

variable {F : FTy → Type} [FloatOps F] [Named F]

local notation "𝕄" => MT nD τ sig Unit (Elt F) ℕ (UR sig nD τ) ℕ

/-- The first query block of the point is two row tiles wide: the point's key tile is an odd one. -/
abbrev Wide (i : grid0.Coords) : Prop := k0_cond1 i = 1#1

set_option maxHeartbeats 4000000 in
/-- The body at a point whose first query block is two row tiles wide. -/
def runWide (c : Dev nD) (i : grid0.Coords) (arg2 : Memref sig .tc .vmem S2x4224x128 .bf16) (harg2 : arg2.IsWhole) (arg3 : Memref sig .tc .vmem S2x384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S2x1x4224 .f32) (harg6 : arg6.IsWhole) (arg7 : Memref sig .tc .vmem S2x1x4224 .f32) (harg7 : arg7.IsWhole) (arg8 : Memref sig .tc .vmem S2x384x128 .f32) (harg8 : arg8.IsWhole) (arg9 : Memref sig .tc .vmem S384x128 .f32) (harg9 : arg9.IsWhole)
    (hc : Wide i)
    (x2 : Vec F S2x4224x128 .bf16) (x3 : Vec F S2x384x128 .bf16) (x4 : Vec F S384x128 .bf16) (x5 : Vec F S4224x128 .f32) (x6 : Vec F S2x1x4224 .f32) (x7 : Vec F S2x1x4224 .f32) :
    Σ' (L8 : List (View.Piece (Elt F) S2x384x128 .f32)), { L9 : List (View.Piece (Elt F) S384x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0_attn_bwd_kv i arg2 harg2 arg3 harg3 arg4 harg4 arg5 harg5 arg6 harg6 arg7 harg7 arg8 harg8 arg9 harg9) K } := by
  refine ⟨?_, ?_, fun E K => ?run⟩
  case run =>
    simp only [cc0_attn_bwd_kv_eq_skeleton]; unfold cc0_attn_bwd_kv_skel
    simp only [k0_part3_eq_skeleton, k0_part4_eq_skeleton, k0_part5_eq_skeleton, k0_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

set_option maxHeartbeats 4000000 in
/-- The body at a point whose first query block is one row tile wide. -/
def runNarrow (c : Dev nD) (i : grid0.Coords) (arg2 : Memref sig .tc .vmem S2x4224x128 .bf16) (harg2 : arg2.IsWhole) (arg3 : Memref sig .tc .vmem S2x384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S2x1x4224 .f32) (harg6 : arg6.IsWhole) (arg7 : Memref sig .tc .vmem S2x1x4224 .f32) (harg7 : arg7.IsWhole) (arg8 : Memref sig .tc .vmem S2x384x128 .f32) (harg8 : arg8.IsWhole) (arg9 : Memref sig .tc .vmem S384x128 .f32) (harg9 : arg9.IsWhole)
    (hc : ¬Wide i)
    (x2 : Vec F S2x4224x128 .bf16) (x3 : Vec F S2x384x128 .bf16) (x4 : Vec F S384x128 .bf16) (x5 : Vec F S4224x128 .f32) (x6 : Vec F S2x1x4224 .f32) (x7 : Vec F S2x1x4224 .f32) :
    Σ' (L8 : List (View.Piece (Elt F) S2x384x128 .f32)), { L9 : List (View.Piece (Elt F) S384x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9)) -∗ K ⟨⟩))
          ⊢ wp frame (wpE (defs₀ (F := F)) Variants.none c none) E (cc0_attn_bwd_kv i arg2 harg2 arg3 harg3 arg4 harg4 arg5 harg5 arg6 harg6 arg7 harg7 arg8 harg8 arg9 harg9) K } := by
  refine ⟨?_, ?_, fun E K => ?run⟩
  case run =>
    simp only [cc0_attn_bwd_kv_eq_skeleton]; unfold cc0_attn_bwd_kv_skel
    simp only [k0_part3_eq_skeleton, k0_part4_eq_skeleton, k0_part5_eq_skeleton, k0_part2_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    iexists _; iexact H9

end Cert.AttnKvKernelIdeal.Hand

end
-- ==== Proof.AttnKvFrame.lean ====
/- The attention backward pass for the keys and values runs, point after point of its grid, and leaves its arguments as they
   were. -/
module

public import Idealize.ShloMosaic.Lib.Claim
public import proofs.«01_k».proof.Proof.AttnKvRun

@[expose] public section

set_option maxRecDepth 16384

noncomputable section

namespace Cert.AttnKvKernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKvKernelIdeal Cert.AttnKvKernelIdeal.Gen

variable {F : FTy → Type} [FloatOps F] [Named F]

local notation "𝕄" => MT nD τ sig Unit (Elt F) ℕ (UR sig nD τ) ℕ

/-- A whole buffer of the shape of the first output's block, through which its contents are stated. -/
abbrev VO6 : View sig .tc .vmem S2x384x128 .f32 := (Memref.whole cc0_stg6_0 : Memref sig .tc .vmem S2x384x128 .f32).view
/-- A whole buffer of the shape of the second output's block. -/
abbrev VO7 : View sig .tc .vmem S384x128 .f32 := (Memref.whole cc0_stg7_0 : Memref sig .tc .vmem S384x128 .f32).view

section body

variable (c : Dev nD) (i : grid0.Coords) (arg2 : Memref sig .tc .vmem S2x4224x128 .bf16) (harg2 : arg2.IsWhole) (arg3 : Memref sig .tc .vmem S2x384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S2x1x4224 .f32) (harg6 : arg6.IsWhole) (arg7 : Memref sig .tc .vmem S2x1x4224 .f32) (harg7 : arg7.IsWhole) (arg8 : Memref sig .tc .vmem S2x384x128 .f32) (harg8 : arg8.IsWhole) (arg9 : Memref sig .tc .vmem S384x128 .f32) (harg9 : arg9.IsWhole)
  (x2 : Vec F S2x4224x128 .bf16) (x3 : Vec F S2x384x128 .bf16) (x4 : Vec F S384x128 .bf16) (x5 : Vec F S4224x128 .f32) (x6 : Vec F S2x1x4224 .f32) (x7 : Vec F S2x1x4224 .f32)

/-- The stores of the first output's block. -/
def pieces8 : List (View.Piece (Elt F) S2x384x128 .f32) :=
  if hc : Wide i then (runWide c i arg2 harg2 arg3 harg3 arg4 harg4 arg5 harg5 arg6 harg6 arg7 harg7 arg8 harg8 arg9 harg9 hc x2 x3 x4 x5 x6 x7).1
  else (runNarrow c i arg2 harg2 arg3 harg3 arg4 harg4 arg5 harg5 arg6 harg6 arg7 harg7 arg8 harg8 arg9 harg9 hc x2 x3 x4 x5 x6 x7).1

/-- The stores of the second output's block. -/
def pieces9 : List (View.Piece (Elt F) S384x128 .f32) :=
  if hc : Wide i then (runWide c i arg2 harg2 arg3 harg3 arg4 harg4 arg5 harg5 arg6 harg6 arg7 harg7 arg8 harg8 arg9 harg9 hc x2 x3 x4 x5 x6 x7).2.1
  else (runNarrow c i arg2 harg2 arg3 harg3 arg4 harg4 arg5 harg5 arg6 harg6 arg7 harg7 arg8 harg8 arg9 harg9 hc x2 x3 x4 x5 x6 x7).2.1

/-- The stores of the first output fill its block. -/
theorem cover8 (y : S2x384x128.Idx) :
    ∃ pc ∈ pieces8 c i arg2 harg2 arg3 harg3 arg4 harg4 arg5 harg5 arg6 harg6 arg7 harg7 arg8 harg8 arg9 harg9 x2 x3 x4 x5 x6 x7, y ∈ pc.1.set := by
  unfold pieces8
  split
  · rename_i hc
    exact View.cover_of_tiledL (runWide c i arg2 harg2 arg3 harg3 arg4 harg4 arg5 harg5 arg6 harg6 arg7 harg7 arg8 harg8 arg9 harg9 hc x2 x3 x4 x5 x6 x7).1 S1x384x128.size (by sl_kernel_rfl) y
  · rename_i hc
    exact View.cover_of_tiledL (runNarrow c i arg2 harg2 arg3 harg3 arg4 harg4 arg5 harg5 arg6 harg6 arg7 harg7 arg8 harg8 arg9 harg9 hc x2 x3 x4 x5 x6 x7).1 S1x384x128.size (by sl_kernel_rfl) y

/-- The stores of the second output fill its block. -/
theorem cover9 (y : S384x128.Idx) :
    ∃ pc ∈ pieces9 c i arg2 harg2 arg3 harg3 arg4 harg4 arg5 harg5 arg6 harg6 arg7 harg7 arg8 harg8 arg9 harg9 x2 x3 x4 x5 x6 x7, y ∈ pc.1.set := by
  unfold pieces9
  split
  · rename_i hc
    exact View.cover_of_tiledL (runWide c i arg2 harg2 arg3 harg3 arg4 harg4 arg5 harg5 arg6 harg6 arg7 harg7 arg8 harg8 arg9 harg9 hc x2 x3 x4 x5 x6 x7).2.1 S384x128.size (by sl_kernel_rfl) y
  · rename_i hc
    exact View.cover_of_tiledL (runNarrow c i arg2 harg2 arg3 harg3 arg4 harg4 arg5 harg5 arg6 harg6 arg7 harg7 arg8 harg8 arg9 harg9 hc x2 x3 x4 x5 x6 x7).2.1 S384x128.size (by sl_kernel_rfl) y

/-- The body at any point, whichever way its branch goes. -/
theorem run_body (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ f, arg8.view.loc (c : Thread nD τ) ↦[arg8.view.set]{fullShare} arg8.view.writes (Elt F) f (pieces8 c i arg2 harg2 arg3 harg3 arg4 harg4 arg5 harg5 arg6 harg6 arg7 harg7 arg8 harg8 arg9 harg9 x2 x3 x4 x5 x6 x7)) ∗ (∃ f, arg9.view.loc (c : Thread nD τ) ↦[arg9.view.set]{fullShare} arg9.view.writes (Elt F) f (pieces9 c i arg2 harg2 arg3 harg3 arg4 harg4 arg5 harg5 arg6 harg6 arg7 harg7 arg8 harg8 arg9 harg9 x2 x3 x4 x5 x6 x7))) -∗ K ⟨⟩))
      ⊢ wp frame (wpE (defs₀ (F := F)) Variants.none c none) E (cc0_attn_bwd_kv i arg2 harg2 arg3 harg3 arg4 harg4 arg5 harg5 arg6 harg6 arg7 harg7 arg8 harg8 arg9 harg9) K := by
  unfold pieces8 pieces9
  by_cases hc : Wide i
  · rw [dif_pos hc, dif_pos hc]
    exact (runWide c i arg2 harg2 arg3 harg3 arg4 harg4 arg5 harg5 arg6 harg6 arg7 harg7 arg8 harg8 arg9 harg9 hc x2 x3 x4 x5 x6 x7).2.2 E K
  · rw [dif_neg hc, dif_neg hc]
    exact (runNarrow c i arg2 harg2 arg3 harg3 arg4 harg4 arg5 harg5 arg6 harg6 arg7 harg7 arg8 harg8 arg9 harg9 hc x2 x3 x4 x5 x6 x7).2.2 E K

/-- The first output's block after the body. -/
def out8 : Vec F S2x384x128 .f32 :=
  VO6.read (Elt F) (VO6.writes (Elt F) VO6.junk (pieces8 c i arg2 harg2 arg3 harg3 arg4 harg4 arg5 harg5 arg6 harg6 arg7 harg7 arg8 harg8 arg9 harg9 x2 x3 x4 x5 x6 x7))

/-- The second output's block after the body. -/
def out9 : Vec F S384x128 .f32 :=
  VO7.read (Elt F) (VO7.writes (Elt F) VO7.junk (pieces9 c i arg2 harg2 arg3 harg3 arg4 harg4 arg5 harg5 arg6 harg6 arg7 harg7 arg8 harg8 arg9 harg9 x2 x3 x4 x5 x6 x7))

end body

variable (m : (ℓ : Loc nD τ sig) → Buf (Elt F) ℓ) (ρ : Dev nD → PrngReg)

/-- The first output's block at a point of the grid. -/
def at8 (c : Dev nD) (t : Fin cfg0.N) : Vec F S2x384x128 .f32 :=
  out8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t) (iblk m c 5 t)

/-- The second output's block at a point of the grid. -/
def at9 (c : Dev nD) (t : Fin cfg0.N) : Vec F S384x128 .f32 :=
  out9 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (iblk m c 0 t) (iblk m c 1 t) (iblk m c 2 t) (iblk m c 3 t) (iblk m c 4 t) (iblk m c 5 t)

/-- What the pipeline's arrays and blocks hold: every input block as fetched, every output block as the body left it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => at8 m c t
    | ⟨7, _⟩ => at9 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = at8 m c t := by dsimp only [dats]
theorem after7 (c : Dev nD) (t : Fin cfg0.N) : (dats m 0 c).after 7 t = at9 m c t := by dsimp only [dats]

/-- A window that is never idle ends a point owned at what the body left in it. -/
theorem leaves_of_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- What the body finds at a point, window by window. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body leaves at a point, window by window. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

set_option maxHeartbeats 1000000 in
/-- The body takes what it finds to what it leaves, at every point. -/
theorem point (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), before0_5_of m (dats m 0 c) (A_eq m c 5) (after5 m c)]
  rw [show (dats m 0 c).Φ t.succ = (dats m 0 c).Φ t.castSucc from rfl,
    show (dats m 0 c).owesAt () t.succ = (dats m 0 c).owesAt () t.castSucc from rfl]
  rw [leaves_of_live m c 0 t rfl, leaves_of_live m c 1 t rfl, leaves_of_live m c 2 t rfl, leaves_of_live m c 3 t rfl,
    leaves_of_live m c 4 t rfl, leaves_of_live m c 5 t rfl, leaves_of_live m c 6 t rfl, leaves_of_live m c 7 t rfl]
  rw [after0, after1, after2, after3, after4, after5, after6, after7]
  unfold at8 at9 out8 out9
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body c (grid0.coords t) _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover8 c _ _ _ _ _ _ _ _ _ _ _ _ _ _ _ _ _ _ _ _ _ _ _)
  unfold owns; iexists _; isplitr
  swap; · iexact H7
  ipureintro; exact View.read_writes_of_cover _ _ _ _ _ (cover9 c _ _ _ _ _ _ _ _ _ _ _ _ _ _ _ _ _ _ _ _ _ _ _)

/-- The table of bodies holds this body at a point's slots. -/
theorem row (t : Fin cfg0.N) : defs₀ (F := F) .tc cfg0.body (cfg0.bodyArgs t (cfg0.slots t)) = bodyAt0 t := by
  unfold defs₀; rw [Defs.onTc_tc]

/-- The body's obligation to the pipeline. -/
theorem obligation (c : Dev nD) : BodyObligation (dats (F := F) m 0 c) (defs₀ (F := F)) Variants.none () Set.univ := fun t => by
  rw [bigSep_W0, bigSep_W0, row]
  exact triple_restated (point m c t) rfl .rfl fun _ => .rfl

set_option backward.isDefEq.respectTransparency.types false in
/-- The program runs to an end in which the pipeline's arrays hold what its blocks say, and every semaphore is zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The program runs, its arguments end unchanged and every semaphore is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.AttnKvKernelIdeal.Hand

end
-- ==== Proof.AttnKvForm.lean ====
/- The values of the attention backward pass for the keys and values: the pieces one grid point stores, in the program's
   own names. -/
module

public import proofs.«01_k».proof.Proof.AttnKvFrame
public import Idealize.ShloMosaic.Lib.Pointwise
public import Idealize.ShloMosaic.Lib.Pipeline.Value

@[expose] public section

set_option maxRecDepth 16384

noncomputable section

namespace Cert.AttnKvKernelIdeal.Hand

open Idealize.ShloMosaic Idealize.ShloMosaic.TcCoe Idealize.ShloMosaic.Tactic
open Cert.AttnKvKernelIdeal Cert.AttnKvKernelIdeal.Gen

/-- The keys of the first head of the pair. -/
def k0 (x3 : Vec Ideal S2x384x128 .bf16) : Vec Ideal S1x384x128 .bf16 := View.ld x3 (Rect.unit (s := S2x384x128) ![0, 0, 0] S1x384x128.size inb_S2x384x128_S1x384x128_0_0_0)
/-- The keys of the second head of the pair. -/
def k1 (x3 : Vec Ideal S2x384x128 .bf16) : Vec Ideal S1x384x128 .bf16 := View.ld x3 (Rect.unit (s := S2x384x128) ![1, 0, 0] S1x384x128.size inb_S2x384x128_S1x384x128_1_0_0)

theorem zeros2 : ![0, 0] = (fun _ : Fin 2 => (0 : ℕ)) := by
  funext a; match a with | 0 => rfl | 1 => rfl

/-- What a point carries from one block of queries to the next: the first head's key and value gradients, then the second's. -/
abbrev Carry := FVec Ideal S384x128 .f32 × FVec Ideal S384x128 .f32 × FVec Ideal S384x128 .f32 × FVec Ideal S384x128 .f32

section forms

variable (c : Dev nD) (i : grid0.Coords) (arg2 : Memref sig .tc .vmem S2x4224x128 .bf16) (harg2 : arg2.IsWhole) (arg3 : Memref sig .tc .vmem S2x384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S2x1x4224 .f32) (harg6 : arg6.IsWhole) (arg7 : Memref sig .tc .vmem S2x1x4224 .f32) (harg7 : arg7.IsWhole) (arg8 : Memref sig .tc .vmem S2x384x128 .f32) (harg8 : arg8.IsWhole) (arg9 : Memref sig .tc .vmem S384x128 .f32) (harg9 : arg9.IsWhole)
variable (x2 : Vec Ideal S2x4224x128 .bf16) (x3 : Vec Ideal S2x384x128 .bf16) (x4 : Vec Ideal S384x128 .bf16) (x5 : Vec Ideal S4224x128 .f32) (x6 : Vec Ideal S2x1x4224 .f32) (x7 : Vec Ideal S2x1x4224 .f32)

/-- One trip of the loop over the unmasked query blocks, for both heads. -/
theorem trip_eq (v1 v3 v5 : FVec Ideal S384x128 .bf16) (v28 : BitVec 32) (k : Fin (k0_t1_loop i).trips) (acc : Carry) :
    tripR_k0_t1 (F := Ideal) Variants.none c none i arg2 harg2 arg3 harg3 arg4 harg4 arg5 harg5 arg6 harg6 arg7 harg7 arg8 harg8 arg9 harg9 v1 v3 v5 v28 (harg2.unread x2) (harg5.unread x5) (harg6.unread x6) (harg7.unread x7) k acc
      = (k0_pay31 v1 v3 acc.1 (View.ld x5 (Rect.unit (s := S4224x128) (k0_off11 i k) S768x128.size (k0_off11_inb i k))) (View.ld x2 (Rect.unit (s := S2x4224x128) (k0_off12 i k) S1x768x128.size (k0_off12_inb i k))) (View.ld x6 (Rect.unit (s := S2x1x4224) (k0_off13 i k) S1x1x768.size (k0_off13_inb i k))) (View.ld x7 (Rect.unit (s := S2x1x4224) (k0_off13 i k) S1x1x768.size (k0_off13_inb i k))),
         k0_pay30 v3 acc.2.1 (View.ld x5 (Rect.unit (s := S4224x128) (k0_off11 i k) S768x128.size (k0_off11_inb i k))) (View.ld x2 (Rect.unit (s := S2x4224x128) (k0_off12 i k) S1x768x128.size (k0_off12_inb i k))) (View.ld x6 (Rect.unit (s := S2x1x4224) (k0_off13 i k) S1x1x768.size (k0_off13_inb i k))),
         k0_pay5 v1 v5 acc.2.2.1 (k0_pay26 (View.ld x5 (Rect.unit (s := S4224x128) (k0_off11 i k) S768x128.size (k0_off11_inb i k)))) k0_pay32 (View.ld x2 (Rect.unit (s := S2x4224x128) (k0_off14 i k) S1x768x128.size (k0_off14_inb i k))) (View.ld x6 (Rect.unit (s := S2x1x4224) (k0_off15 i k) S1x1x768.size (k0_off15_inb i k))) (View.ld x7 (Rect.unit (s := S2x1x4224) (k0_off15 i k) S1x1x768.size (k0_off15_inb i k))),
         k0_pay4 v5 acc.2.2.2 (k0_pay26 (View.ld x5 (Rect.unit (s := S4224x128) (k0_off11 i k) S768x128.size (k0_off11_inb i k)))) k0_pay32 (View.ld x2 (Rect.unit (s := S2x4224x128) (k0_off14 i k) S1x768x128.size (k0_off14_inb i k))) (View.ld x6 (Rect.unit (s := S2x1x4224) (k0_off15 i k) S1x1x768.size (k0_off15_inb i k)))) := by
  unfold tripR_k0_t1 trip_k0_t1
  dsimp only
  sl_unfold_words
  simp only [View.readAt_eq_ld, harg2.read_unread, harg5.read_unread, harg6.read_unread, harg7.read_unread]

/-- What the loop over the unmasked query blocks carries before its `n`-th trip. -/
def carried (w : BitVec 32) (init : Carry) (n : ℕ) : Carry :=
  st_k0_t1 (F := Ideal) Variants.none c none i arg2 harg2 arg3 harg3 arg4 harg4 arg5 harg5 arg6 harg6 arg7 harg7 arg8 harg8 arg9 harg9 (k0_pay40 x4) (k0_pay41 (k0 x3)) (k0_pay42 (k1 x3)) w (harg2.unread x2) (harg5.unread x5) (harg6.unread x6) (harg7.unread x7) init n

/-- What the two loops over the unmasked query blocks leave. -/
def ends (w w' : BitVec 32) (init : Carry) : Carry :=
  st_k0_t2 (F := Ideal) Variants.none c none i arg2 harg2 arg3 harg3 arg4 harg4 arg5 harg5 arg6 harg6 arg7 harg7 arg8 harg8 arg9 harg9 (k0_pay40 x4) (k0_pay41 (k0 x3)) (k0_pay42 (k1 x3)) w w' (harg2.unread x2) (harg5.unread x5) (harg6.unread x6) (harg7.unread x7)
    (st_k0_t1 (F := Ideal) Variants.none c none i arg2 harg2 arg3 harg3 arg4 harg4 arg5 harg5 arg6 harg6 arg7 harg7 arg8 harg8 arg9 harg9 (k0_pay40 x4) (k0_pay41 (k0 x3)) (k0_pay42 (k1 x3)) w (harg2.unread x2) (harg5.unread x5) (harg6.unread x6) (harg7.unread x7) init (k0_t1_loop i).trips)
    (k0_t2_loop i).trips

/-- The remainder loop of the unmasked query blocks makes no trip. -/
theorem rest_trips : (k0_t2_loop i).trips = 0 := by
  unfold k0_t2_loop
  generalize i 1 = j
  obtain ⟨n, hn⟩ := j
  change n < 11 at hn
  interval_cases n <;> (dsimp only; decide)

/-- The main loop's number of trips. -/
theorem main_trips : (k0_t1_loop i).trips = (10 - (i 1).val) / 2 := by
  unfold k0_t1_loop
  generalize i 1 = j
  obtain ⟨n, hn⟩ := j
  change n < 11 at hn
  interval_cases n <;> (dsimp only; decide)

/-- The first query block is two row tiles wide at the odd key tiles. -/
theorem wide_iff : Wide i ↔ (i 1).val % 2 = 1 := by
  unfold Wide k0_cond1
  generalize i 1 = j
  obtain ⟨n, hn⟩ := j
  change n < 11 at hn
  interval_cases n <;> (dsimp only; decide)

/-- The remainder loop makes no trip, so they leave what the main loop leaves. -/
theorem ends_eq (w w' : BitVec 32) (init : Carry) : ends c i arg2 harg2 arg3 harg3 arg4 harg4 arg5 harg5 arg6 harg6 arg7 harg7 arg8 harg8 arg9 harg9 x2 x3 x4 x5 x6 x7 w w' init = carried c i arg2 harg2 arg3 harg3 arg4 harg4 arg5 harg5 arg6 harg6 arg7 harg7 arg8 harg8 arg9 harg9 x2 x3 x4 x5 x6 x7 w init ((10 - (i 1).val) / 2) := by
  unfold ends carried
  rw [rest_trips, main_trips]
  rfl

theorem off1_eq : k0_off1 i = ![(i 1).val * 384, 0] := by
  unfold k0_off1
  generalize i 1 = j
  obtain ⟨n, hn⟩ := j
  change n < 11 at hn
  interval_cases n <;> (dsimp only; decide)

theorem off2_eq : k0_off2 i = ![0, (i 1).val * 384, 0] := by
  unfold k0_off2
  generalize i 1 = j
  obtain ⟨n, hn⟩ := j
  change n < 11 at hn
  interval_cases n <;> (dsimp only; decide)

theorem off3_eq : k0_off3 i = ![0, 0, (i 1).val * 384] := by
  unfold k0_off3
  generalize i 1 = j
  obtain ⟨n, hn⟩ := j
  change n < 11 at hn
  interval_cases n <;> (dsimp only; decide)

theorem off4_eq : k0_off4 i = ![1, (i 1).val * 384, 0] := by
  unfold k0_off4
  generalize i 1 = j
  obtain ⟨n, hn⟩ := j
  change n < 11 at hn
  interval_cases n <;> (dsimp only; decide)

theorem off5_eq : k0_off5 i = ![1, 0, (i 1).val * 384] := by
  unfold k0_off5
  generalize i 1 = j
  obtain ⟨n, hn⟩ := j
  change n < 11 at hn
  interval_cases n <;> (dsimp only; decide)

theorem off6_eq : k0_off6 i = ![(i 1).val * 384, 0] := by
  unfold k0_off6
  generalize i 1 = j
  obtain ⟨n, hn⟩ := j
  change n < 11 at hn
  interval_cases n <;> (dsimp only; decide)

theorem off7_eq : k0_off7 i = ![0, (i 1).val * 384, 0] := by
  unfold k0_off7
  generalize i 1 = j
  obtain ⟨n, hn⟩ := j
  change n < 11 at hn
  interval_cases n <;> (dsimp only; decide)

theorem off8_eq : k0_off8 i = ![0, 0, (i 1).val * 384] := by
  unfold k0_off8
  generalize i 1 = j
  obtain ⟨n, hn⟩ := j
  change n < 11 at hn
  interval_cases n <;> (dsimp only; decide)

theorem off9_eq : k0_off9 i = ![1, (i 1).val * 384, 0] := by
  unfold k0_off9
  generalize i 1 = j
  obtain ⟨n, hn⟩ := j
  change n < 11 at hn
  interval_cases n <;> (dsimp only; decide)

theorem off10_eq : k0_off10 i = ![1, 0, (i 1).val * 384] := by
  unfold k0_off10
  generalize i 1 = j
  obtain ⟨n, hn⟩ := j
  change n < 11 at hn
  interval_cases n <;> (dsimp only; decide)

/-- The first query past the first query block. -/
def restart (n : ℕ) : ℕ := (n + 1 + n % 2) * 384

/-- The first query of a trip's block, as the offsets compute it. -/
theorem off11_eq (k : Fin (k0_t1_loop i).trips) : k0_off11 i k = ![restart (i 1).val + k.val * 768, 0] := by
  have hk : k.val < (10 - (i 1).val) / 2 := lt_of_lt_of_eq k.isLt (main_trips i)
  have h1 : (i 1).val < 11 := (i 1).isLt
  have hk5 : k.val < 5 := by omega
  have key : ∀ (a : Fin 11) (n : Fin 5), (Scalar.indexCast (Scalar.addi (Scalar.muli (Scalar.addi (Scalar.addi (BitVec.ofNat 32 a.val) 1#32)
      (Scalar.extui (Scalar.cmpi .eq (Scalar.select (Scalar.andi (Scalar.xori (Scalar.cmpi .slt (Scalar.remsi (Scalar.subi 11#32 (BitVec.ofNat 32 a.val)) (Scalar.select (Scalar.cmpi .eq 2#32 0#32) 1#32 2#32)) 0#32) (Scalar.cmpi .slt (Scalar.select (Scalar.cmpi .eq 2#32 0#32) 1#32 2#32) 0#32))
        (Scalar.cmpi .ne (Scalar.remsi (Scalar.subi 11#32 (BitVec.ofNat 32 a.val)) (Scalar.select (Scalar.cmpi .eq 2#32 0#32) 1#32 2#32)) 0#32))
        (Scalar.addi (Scalar.remsi (Scalar.subi 11#32 (BitVec.ofNat 32 a.val)) (Scalar.select (Scalar.cmpi .eq 2#32 0#32) 1#32 2#32)) (Scalar.select (Scalar.cmpi .eq 2#32 0#32) 1#32 2#32))
        (Scalar.remsi (Scalar.subi 11#32 (BitVec.ofNat 32 a.val)) (Scalar.select (Scalar.cmpi .eq 2#32 0#32) 1#32 2#32))) 0#32))) 384#32)
      (Scalar.muli (Scalar.muli (0#32 + BitVec.ofNat 32 n.val * 1#32) 2#32) 384#32))).toNat = restart a.val + n.val * 768 := by decide +kernel
  exact congrArg (fun z => ![z, 0]) (key ⟨(i 1).val, h1⟩ ⟨k.val, hk5⟩)

theorem off12_eq (k : Fin (k0_t1_loop i).trips) : k0_off12 i k = ![0, restart (i 1).val + k.val * 768, 0] :=
  congrArg (fun z => ![0, z, 0]) (congrFun (off11_eq i k) 0)
theorem off13_eq (k : Fin (k0_t1_loop i).trips) : k0_off13 i k = ![0, 0, restart (i 1).val + k.val * 768] :=
  congrArg (fun z => ![0, 0, z]) (congrFun (off11_eq i k) 0)
theorem off14_eq (k : Fin (k0_t1_loop i).trips) : k0_off14 i k = ![1, restart (i 1).val + k.val * 768, 0] :=
  congrArg (fun z => ![1, z, 0]) (congrFun (off11_eq i k) 0)
theorem off15_eq (k : Fin (k0_t1_loop i).trips) : k0_off15 i k = ![1, 0, restart (i 1).val + k.val * 768] :=
  congrArg (fun z => ![1, 0, z]) (congrFun (off11_eq i k) 0)

/-- What the first query block leaves, where it is two row tiles wide. -/
def wideInit (hc : Wide i) : Carry :=
  (k0_pay44 (k0_pay19 (BitVec.ofNat 32 (i 1).val) (k0_pay40 x4) (k0_pay41 (k0 x3)) (Scalar.muli (BitVec.ofNat 32 (i 1).val) 384#32) (View.ld x5 (Rect.unit (s := S4224x128) (k0_off1 i) S768x128.size (k0_off1_inb i hc))) (View.ld x2 (Rect.unit (s := S2x4224x128) (k0_off2 i) S1x768x128.size (k0_off2_inb i hc))) (View.ld x6 (Rect.unit (s := S2x1x4224) (k0_off3 i) S1x1x768.size (k0_off3_inb i hc))) (View.ld x7 (Rect.unit (s := S2x1x4224) (k0_off3 i) S1x1x768.size (k0_off3_inb i hc)))),
   k0_pay18 (BitVec.ofNat 32 (i 1).val) (k0_pay41 (k0 x3)) (k0_pay43 (F := Ideal)) (Scalar.muli (BitVec.ofNat 32 (i 1).val) 384#32) (View.ld x5 (Rect.unit (s := S4224x128) (k0_off1 i) S768x128.size (k0_off1_inb i hc))) (View.ld x2 (Rect.unit (s := S2x4224x128) (k0_off2 i) S1x768x128.size (k0_off2_inb i hc))) (View.ld x6 (Rect.unit (s := S2x1x4224) (k0_off3 i) S1x1x768.size (k0_off3_inb i hc))),
   k0_pay49 i x4 (k1 x3) (k0_pay14 (View.ld x5 (Rect.unit (s := S4224x128) (k0_off1 i) S768x128.size (k0_off1_inb i hc)))) (iota .tc S768x128 32 [1] iota_S768x128_d1_w32) (View.ld x2 (Rect.unit (s := S2x4224x128) (k0_off4 i) S1x768x128.size (k0_off4_inb i hc))) (View.ld x6 (Rect.unit (s := S2x1x4224) (k0_off5 i) S1x1x768.size (k0_off5_inb i hc))) (View.ld x7 (Rect.unit (s := S2x1x4224) (k0_off5 i) S1x1x768.size (k0_off5_inb i hc))),
   k0_pay48 i (k1 x3) (k0_pay14 (View.ld x5 (Rect.unit (s := S4224x128) (k0_off1 i) S768x128.size (k0_off1_inb i hc)))) (iota .tc S768x128 32 [1] iota_S768x128_d1_w32) (View.ld x2 (Rect.unit (s := S2x4224x128) (k0_off4 i) S1x768x128.size (k0_off4_inb i hc))) (View.ld x6 (Rect.unit (s := S2x1x4224) (k0_off5 i) S1x1x768.size (k0_off5_inb i hc))))

/-- What the first query block leaves, where it is one row tile wide. -/
def narrowInit (hc : ¬ Wide i) : Carry :=
  (k0_pay50 (k0_pay25 (BitVec.ofNat 32 (i 1).val) (k0_pay40 x4) (k0_pay41 (k0 x3)) (Scalar.muli (BitVec.ofNat 32 (i 1).val) 384#32) (View.ld x5 (Rect.unit (s := S4224x128) (k0_off6 i) S384x128.size (k0_off6_inb i hc))) (View.ld x2 (Rect.unit (s := S2x4224x128) (k0_off7 i) S1x384x128.size (k0_off7_inb i hc))) (View.ld x6 (Rect.unit (s := S2x1x4224) (k0_off8 i) S1x1x384.size (k0_off8_inb i hc))) (View.ld x7 (Rect.unit (s := S2x1x4224) (k0_off8 i) S1x1x384.size (k0_off8_inb i hc)))),
   k0_pay24 (BitVec.ofNat 32 (i 1).val) (k0_pay41 (k0 x3)) (k0_pay43 (F := Ideal)) (Scalar.muli (BitVec.ofNat 32 (i 1).val) 384#32) (View.ld x5 (Rect.unit (s := S4224x128) (k0_off6 i) S384x128.size (k0_off6_inb i hc))) (View.ld x2 (Rect.unit (s := S2x4224x128) (k0_off7 i) S1x384x128.size (k0_off7_inb i hc))) (View.ld x6 (Rect.unit (s := S2x1x4224) (k0_off8 i) S1x1x384.size (k0_off8_inb i hc))),
   k0_pay55 i x4 (k1 x3) (k0_pay20 (View.ld x5 (Rect.unit (s := S4224x128) (k0_off6 i) S384x128.size (k0_off6_inb i hc)))) (iota .tc S384x128 32 [1] iota_S384x128_d1_w32) (View.ld x2 (Rect.unit (s := S2x4224x128) (k0_off9 i) S1x384x128.size (k0_off9_inb i hc))) (View.ld x6 (Rect.unit (s := S2x1x4224) (k0_off10 i) S1x1x384.size (k0_off10_inb i hc))) (View.ld x7 (Rect.unit (s := S2x1x4224) (k0_off10 i) S1x1x384.size (k0_off10_inb i hc))),
   k0_pay54 i (k1 x3) (k0_pay20 (View.ld x5 (Rect.unit (s := S4224x128) (k0_off6 i) S384x128.size (k0_off6_inb i hc)))) (iota .tc S384x128 32 [1] iota_S384x128_d1_w32) (View.ld x2 (Rect.unit (s := S2x4224x128) (k0_off9 i) S1x384x128.size (k0_off9_inb i hc))) (View.ld x6 (Rect.unit (s := S2x1x4224) (k0_off10 i) S1x1x384.size (k0_off10_inb i hc))))

/-- The pieces a point stores where the first query block is two row tiles wide. -/
theorem wide_pieces (hc : Wide i) : ∃ w w' : BitVec 32,
    (runWide (F := Ideal) c i arg2 harg2 arg3 harg3 arg4 harg4 arg5 harg5 arg6 harg6 arg7 harg7 arg8 harg8 arg9 harg9 hc x2 x3 x4 x5 x6 x7).1
      = [⟨Rect.unit (s := S2x384x128) ![1, 0, 0] S1x384x128.size inb_S2x384x128_S1x384x128_1_0_0, k0_pay12 (ends c i arg2 harg2 arg3 harg3 arg4 harg4 arg5 harg5 arg6 harg6 arg7 harg7 arg8 harg8 arg9 harg9 x2 x3 x4 x5 x6 x7 w w' (wideInit i x2 x3 x4 x5 x6 x7 hc)).2.2.1⟩,
         ⟨Rect.unit (s := S2x384x128) ![0, 0, 0] S1x384x128.size inb_S2x384x128_S1x384x128_0_0_0, k0_pay11 (ends c i arg2 harg2 arg3 harg3 arg4 harg4 arg5 harg5 arg6 harg6 arg7 harg7 arg8 harg8 arg9 harg9 x2 x3 x4 x5 x6 x7 w w' (wideInit i x2 x3 x4 x5 x6 x7 hc)).1⟩]
    ∧ (runWide (F := Ideal) c i arg2 harg2 arg3 harg3 arg4 harg4 arg5 harg5 arg6 harg6 arg7 harg7 arg8 harg8 arg9 harg9 hc x2 x3 x4 x5 x6 x7).2.1
      = [⟨Rect.unit (s := S384x128) ![0, 0] S384x128.size inb_S384x128_S384x128_0_0, k0_pay13 (ends c i arg2 harg2 arg3 harg3 arg4 harg4 arg5 harg5 arg6 harg6 arg7 harg7 arg8 harg8 arg9 harg9 x2 x3 x4 x5 x6 x7 w w' (wideInit i x2 x3 x4 x5 x6 x7 hc)).2.1 (ends c i arg2 harg2 arg3 harg3 arg4 harg4 arg5 harg5 arg6 harg6 arg7 harg7 arg8 harg8 arg9 harg9 x2 x3 x4 x5 x6 x7 w w' (wideInit i x2 x3 x4 x5 x6 x7 hc)).2.2.2⟩] := by
  unfold runWide ends wideInit
  dsimp only
  sl_unfold_words
  dsimp only [Scf.Loop.trips, k0_t1_loop, k0_t2_loop]
  simp only [View.readAt_eq_ld, harg2.read_unread, harg3.read_unread, harg4.read_unread, harg5.read_unread, harg6.read_unread, harg7.read_unread, View.ld_unit_zero (S := S384x128) zeros2]
  exact ⟨_, _, rfl, rfl⟩

/-- The pieces a point stores where the first query block is one row tile wide. -/
theorem narrow_pieces (hc : ¬ Wide i) : ∃ w w' : BitVec 32,
    (runNarrow (F := Ideal) c i arg2 harg2 arg3 harg3 arg4 harg4 arg5 harg5 arg6 harg6 arg7 harg7 arg8 harg8 arg9 harg9 hc x2 x3 x4 x5 x6 x7).1
      = [⟨Rect.unit (s := S2x384x128) ![1, 0, 0] S1x384x128.size inb_S2x384x128_S1x384x128_1_0_0, k0_pay12 (ends c i arg2 harg2 arg3 harg3 arg4 harg4 arg5 harg5 arg6 harg6 arg7 harg7 arg8 harg8 arg9 harg9 x2 x3 x4 x5 x6 x7 w w' (narrowInit i x2 x3 x4 x5 x6 x7 hc)).2.2.1⟩,
         ⟨Rect.unit (s := S2x384x128) ![0, 0, 0] S1x384x128.size inb_S2x384x128_S1x384x128_0_0_0, k0_pay11 (ends c i arg2 harg2 arg3 harg3 arg4 harg4 arg5 harg5 arg6 harg6 arg7 harg7 arg8 harg8 arg9 harg9 x2 x3 x4 x5 x6 x7 w w' (narrowInit i x2 x3 x4 x5 x6 x7 hc)).1⟩]
    ∧ (runNarrow (F := Ideal) c i arg2 harg2 arg3 harg3 arg4 harg4 arg5 harg5 arg6 harg6 arg7 harg7 arg8 harg8 arg9 harg9 hc x2 x3 x4 x5 x6 x7).2.1
      = [⟨Rect.unit (s := S384x128) ![0, 0] S384x128.size inb_S384x128_S384x128_0_0, k0_pay13 (ends c i arg2 harg2 arg3 harg3 arg4 harg4 arg5 harg5 arg6 harg6 arg7 harg7 arg8 harg8 arg9 harg9 x2 x3 x4 x5 x6 x7 w w' (narrowInit i x2 x3 x4 x5 x6 x7 hc)).2.1 (ends c i arg2 harg2 arg3 harg3 arg4 harg4 arg5 harg5 arg6 harg6 arg7 harg7 arg8 harg8 arg9 harg9 x2 x3 x4 x5 x6 x7 w w' (narrowInit i x2 x3 x4 x5 x6 x7 hc)).2.2.2⟩] := by
  unfold runNarrow ends narrowInit
  dsimp only
  sl_unfold_words
  dsimp only [Scf.Loop.trips, k0_t1_loop, k0_t2_loop]
  simp only [View.readAt_eq_ld, harg2.read_unread, harg3.read_unread, harg4.read_unread, harg5.read_unread, harg6.read_unread, harg7.read_unread, View.ld_unit_zero (S := S384x128) zeros2]
  exact ⟨_, _, rfl, rfl⟩

end forms

end Cert.AttnKvKernelIdeal.Hand

end
-- ==== Proof.AttnKvPay.lean ====
/- The values of the attention backward pass for the keys and values: each block's arithmetic at one entry. -/
module

public import proofs.«01_k».proof.Proof.Gen.AttnKvKernelIdeal.Skeleton
public import proofs.«01_k».proof.Proof.AttnQPay

@[expose] public section

set_option maxRecDepth 16384

noncomputable section

namespace Cert.AttnKvKernelIdeal.Hand

open Idealize.ShloMosaic Idealize.ShloMosaic.TcCoe Idealize.ShloMosaic.Tactic
open Cert.AttnKvKernelIdeal Cert.AttnKvKernelIdeal.Gen

open Cert.AttnQKernelIdeal.Hand (part lane_lt lane_ge)

/-- The factor that turns a product of a query and a key into a power of two. -/
abbrev c2 : EReal := Named.named (F := Ideal) (φ := .f32) κ "att_log2" 0x3E16C740#32

/-- The masked scores are the least number. -/
theorem masked_eq : Named.named (F := Ideal) (φ := .f32) κ "masked" 0xF149F2CA#32 = (⊥ : EReal) := by
  exact IdealRules.named_const.ideal_named_scalar _ _ _ _ rfl

/-- A lane's entry where the lane is one of head `a` of the pair, zero elsewhere. -/
def own (a : ℕ) (d : Fin 128) (x : EReal) : EReal := if d.val / 64 = a then x else 0

/-- The causal mask of a block of queries: the key `384 j + r` stands at or before the query `384 j + q`. -/
theorem mask_iff (j r q : ℕ) (hj : j < 11) (hr : r < 384) (hq : q < 768) :
    (IntOp.cmpi .sle (IntOp.addi (IntOp.muli (BitVec.ofNat 32 j) (BitVec.ofNat 32 384)) (BitVec.ofNat 32 r)) (IntOp.addi (IntOp.muli (BitVec.ofNat 32 j) (BitVec.ofNat 32 384)) (BitVec.ofNat 32 q)) = 1#1) ↔ j * 384 + r ≤ j * 384 + q := by
  rw [WordCmp.muli_ofNat, WordCmp.addi_ofNat, WordCmp.addi_ofNat, WordCmp.cmpi_sle_ofNat (by omega) (by omega)]
  by_cases h : j * 384 + r ≤ j * 384 + q <;> simp [h]

theorem pay28_at (D : Vec Ideal S768x128 .f32) (q : Fin 768) (d : Fin 128) : k0_pay28 D (ix2 q d) = own 0 d (D (ix2 q d)) := by
  unfold own
  pointwise [k0_pay28, k0_pay26]
  unfold Scalar.select
  exact if_congr ((lane_lt d.val d.isLt).trans (by omega)) rfl rfl
theorem pay16_at (D : Vec Ideal S768x128 .f32) (q : Fin 768) (d : Fin 128) : k0_pay16 D (ix2 q d) = own 0 d (D (ix2 q d)) := by
  unfold own
  pointwise [k0_pay16, k0_pay14]
  unfold Scalar.select
  exact if_congr ((lane_lt d.val d.isLt).trans (by omega)) rfl rfl
theorem pay22_at (D : Vec Ideal S384x128 .f32) (q : Fin 384) (d : Fin 128) : k0_pay22 D (ix2 q d) = own 0 d (D (ix2 q d)) := by
  unfold own
  pointwise [k0_pay22, k0_pay20]
  unfold Scalar.select
  exact if_congr ((lane_lt d.val d.isLt).trans (by omega)) rfl rfl
theorem pay2_at (D : Vec Ideal S768x128 .f32) (q : Fin 768) (d : Fin 128) : k0_pay2 (k0_pay26 D) k0_pay32 (ix2 q d) = own 1 d (D (ix2 q d)) := by
  unfold own
  pointwise [k0_pay2, k0_pay26, k0_pay32]
  unfold Scalar.select
  exact if_congr ((lane_ge d.val d.isLt).trans (by have := d.isLt; omega)) rfl rfl
theorem pay46_at (D : Vec Ideal S768x128 .f32) (q : Fin 768) (d : Fin 128) : k0_pay46 (k0_pay14 D) (iota .tc S768x128 32 [1] iota_S768x128_d1_w32) (ix2 q d) = own 1 d (D (ix2 q d)) := by
  unfold own
  pointwise [k0_pay46, k0_pay14]
  unfold Scalar.select
  exact if_congr ((lane_ge d.val d.isLt).trans (by have := d.isLt; omega)) rfl rfl
theorem pay52_at (D : Vec Ideal S384x128 .f32) (q : Fin 384) (d : Fin 128) : k0_pay52 (k0_pay20 D) (iota .tc S384x128 32 [1] iota_S384x128_d1_w32) (ix2 q d) = own 1 d (D (ix2 q d)) := by
  unfold own
  pointwise [k0_pay52, k0_pay20]
  unfold Scalar.select
  exact if_congr ((lane_ge d.val d.isLt).trans (by have := d.isLt; omega)) rfl rfl
theorem pay29_at (K : FVec Ideal S384x128 .bf16) (Q : Vec Ideal S1x768x128 .bf16) (L : Vec Ideal S1x1x768 .f32) (r : Fin 384) (q : Fin 768) :
    k0_pay29 K Q L (ix2 r q) = Ideal.exp2 ((∑ d : Fin 128, K (ix2 r d) * Q (ix3 0 q d)) * c2 - L (ix3 0 0 q)) := by
  pointwise [k0_pay29, k0_pay27]
  rfl
theorem pay3_at (K : FVec Ideal S384x128 .bf16) (Q : Vec Ideal S1x768x128 .bf16) (L : Vec Ideal S1x1x768 .f32) (r : Fin 384) (q : Fin 768) :
    k0_pay3 K Q L (ix2 r q) = Ideal.exp2 ((∑ d : Fin 128, K (ix2 r d) * Q (ix3 0 q d)) * c2 - L (ix3 0 0 q)) := by
  pointwise [k0_pay3, k0_pay1]
  rfl
theorem pay17_at (j : ℕ) (hj : j < 11) (K : FVec Ideal S384x128 .bf16) (Q : Vec Ideal S1x768x128 .bf16) (L : Vec Ideal S1x1x768 .f32) (r : Fin 384) (q : Fin 768) :
    k0_pay17 (BitVec.ofNat 32 j) K (Scalar.muli (BitVec.ofNat 32 j) 384#32) Q L (ix2 r q) = Ideal.exp2 ((if j * 384 + r.val ≤ j * 384 + q.val then (∑ d : Fin 128, K (ix2 r d) * Q (ix3 0 q d)) * c2 else ⊥) - L (ix3 0 0 q)) := by
  pointwise [k0_pay17, k0_pay15]
  refine congrArg (fun z => Ideal.exp2 (z - L (ix3 0 0 q))) ?_
  unfold Scalar.select
  exact if_congr (mask_iff j r.val q.val hj r.isLt (by omega)) rfl masked_eq
theorem pay23_at (j : ℕ) (hj : j < 11) (K : FVec Ideal S384x128 .bf16) (Q : Vec Ideal S1x384x128 .bf16) (L : Vec Ideal S1x1x384 .f32) (r : Fin 384) (q : Fin 384) :
    k0_pay23 (BitVec.ofNat 32 j) K (Scalar.muli (BitVec.ofNat 32 j) 384#32) Q L (ix2 r q) = Ideal.exp2 ((if j * 384 + r.val ≤ j * 384 + q.val then (∑ d : Fin 128, K (ix2 r d) * Q (ix3 0 q d)) * c2 else ⊥) - L (ix3 0 0 q)) := by
  pointwise [k0_pay23, k0_pay21]
  refine congrArg (fun z => Ideal.exp2 (z - L (ix3 0 0 q))) ?_
  unfold Scalar.select
  exact if_congr (mask_iff j r.val q.val hj r.isLt (by omega)) rfl masked_eq
theorem pay47_at (i : grid0.Coords) (j : ℕ) (hj : j < 11) (hij : (i 1).val = j) (K : Vec Ideal S1x384x128 .bf16) (Q : Vec Ideal S1x768x128 .bf16) (L : Vec Ideal S1x1x768 .f32) (r : Fin 384) (q : Fin 768) :
    k0_pay47 i K Q L (ix2 r q) = Ideal.exp2 ((if j * 384 + r.val ≤ j * 384 + q.val then (∑ d : Fin 128, K (ix3 0 r d) * Q (ix3 0 q d)) * c2 else ⊥) - L (ix3 0 0 q)) := by
  subst hij
  pointwise [k0_pay47, k0_pay42, k0_pay45]
  refine congrArg (fun z => Ideal.exp2 (z - L (ix3 0 0 q))) ?_
  unfold Scalar.select
  exact if_congr (mask_iff (i 1).val r.val q.val hj r.isLt (by omega)) rfl masked_eq
theorem pay53_at (i : grid0.Coords) (j : ℕ) (hj : j < 11) (hij : (i 1).val = j) (K : Vec Ideal S1x384x128 .bf16) (Q : Vec Ideal S1x384x128 .bf16) (L : Vec Ideal S1x1x384 .f32) (r : Fin 384) (q : Fin 384) :
    k0_pay53 i K Q L (ix2 r q) = Ideal.exp2 ((if j * 384 + r.val ≤ j * 384 + q.val then (∑ d : Fin 128, K (ix3 0 r d) * Q (ix3 0 q d)) * c2 else ⊥) - L (ix3 0 0 q)) := by
  subst hij
  pointwise [k0_pay53, k0_pay42, k0_pay51]
  refine congrArg (fun z => Ideal.exp2 (z - L (ix3 0 0 q))) ?_
  unfold Scalar.select
  exact if_congr (mask_iff (i 1).val r.val q.val hj r.isLt (by omega)) rfl masked_eq
theorem pay30_at (K : FVec Ideal S384x128 .bf16) (acc : FVec Ideal S384x128 .f32) (D : Vec Ideal S768x128 .f32) (Q : Vec Ideal S1x768x128 .bf16) (L : Vec Ideal S1x1x768 .f32) (r : Fin 384) (l : Fin 128) :
    k0_pay30 K acc D Q L (ix2 r l) = acc (ix2 r l) + ∑ q : Fin 768, Ideal.exp2 ((∑ d : Fin 128, K (ix2 r d) * Q (ix3 0 q d)) * c2 - L (ix3 0 0 q)) * own 0 l (D (ix2 q l)) := by
  pointwise [k0_pay30]
  simp only [pay29_at, pay28_at]
theorem pay31_at (V : FVec Ideal S384x128 .bf16) (K : FVec Ideal S384x128 .bf16) (acc : FVec Ideal S384x128 .f32) (D : Vec Ideal S768x128 .f32) (Q : Vec Ideal S1x768x128 .bf16) (L : Vec Ideal S1x1x768 .f32) (E : Vec Ideal S1x1x768 .f32) (r : Fin 384) (l : Fin 128) :
    k0_pay31 V K acc D Q L E (ix2 r l) = acc (ix2 r l) + ∑ q : Fin 768, part ((∑ d : Fin 128, K (ix2 r d) * Q (ix3 0 q d)) * c2) (∑ d : Fin 128, V (ix2 r d) * own 0 d (D (ix2 q d))) (L (ix3 0 0 q)) (E (ix3 0 0 q)) * Q (ix3 0 q l) := by
  unfold part
  pointwise [k0_pay31, k0_pay27]
  simp only [pay29_at, pay28_at]
theorem pay4_at (K : FVec Ideal S384x128 .bf16) (acc : FVec Ideal S384x128 .f32) (D : Vec Ideal S768x128 .f32) (Q : Vec Ideal S1x768x128 .bf16) (L : Vec Ideal S1x1x768 .f32) (r : Fin 384) (l : Fin 128) :
    k0_pay4 K acc (k0_pay26 D) k0_pay32 Q L (ix2 r l) = acc (ix2 r l) + ∑ q : Fin 768, Ideal.exp2 ((∑ d : Fin 128, K (ix2 r d) * Q (ix3 0 q d)) * c2 - L (ix3 0 0 q)) * own 1 l (D (ix2 q l)) := by
  pointwise [k0_pay4]
  simp only [pay3_at, pay2_at]
theorem pay5_at (V : FVec Ideal S384x128 .bf16) (K : FVec Ideal S384x128 .bf16) (acc : FVec Ideal S384x128 .f32) (D : Vec Ideal S768x128 .f32) (Q : Vec Ideal S1x768x128 .bf16) (L : Vec Ideal S1x1x768 .f32) (E : Vec Ideal S1x1x768 .f32) (r : Fin 384) (l : Fin 128) :
    k0_pay5 V K acc (k0_pay26 D) k0_pay32 Q L E (ix2 r l) = acc (ix2 r l) + ∑ q : Fin 768, part ((∑ d : Fin 128, K (ix2 r d) * Q (ix3 0 q d)) * c2) (∑ d : Fin 128, V (ix2 r d) * own 1 d (D (ix2 q d))) (L (ix3 0 0 q)) (E (ix3 0 0 q)) * Q (ix3 0 q l) := by
  unfold part
  pointwise [k0_pay5, k0_pay1]
  simp only [pay3_at, pay2_at]
theorem pay18_at (j : ℕ) (hj : j < 11) (K : FVec Ideal S384x128 .bf16) (acc : FVec Ideal S384x128 .f32) (D : Vec Ideal S768x128 .f32) (Q : Vec Ideal S1x768x128 .bf16) (L : Vec Ideal S1x1x768 .f32) (r : Fin 384) (l : Fin 128) :
    k0_pay18 (BitVec.ofNat 32 j) K acc (Scalar.muli (BitVec.ofNat 32 j) 384#32) D Q L (ix2 r l) = acc (ix2 r l) + ∑ q : Fin 768, Ideal.exp2 ((if j * 384 + r.val ≤ j * 384 + q.val then (∑ d : Fin 128, K (ix2 r d) * Q (ix3 0 q d)) * c2 else ⊥) - L (ix3 0 0 q)) * own 0 l (D (ix2 q l)) := by
  pointwise [k0_pay18]
  simp only [pay17_at j hj, pay16_at]
theorem pay19_at (j : ℕ) (hj : j < 11) (V : FVec Ideal S384x128 .bf16) (K : FVec Ideal S384x128 .bf16) (D : Vec Ideal S768x128 .f32) (Q : Vec Ideal S1x768x128 .bf16) (L : Vec Ideal S1x1x768 .f32) (E : Vec Ideal S1x1x768 .f32) (r : Fin 384) (l : Fin 128) :
    k0_pay19 (BitVec.ofNat 32 j) V K (Scalar.muli (BitVec.ofNat 32 j) 384#32) D Q L E (ix2 r l) = ∑ q : Fin 768, part (if j * 384 + r.val ≤ j * 384 + q.val then (∑ d : Fin 128, K (ix2 r d) * Q (ix3 0 q d)) * c2 else ⊥) (∑ d : Fin 128, V (ix2 r d) * own 0 d (D (ix2 q d))) (L (ix3 0 0 q)) (E (ix3 0 0 q)) * Q (ix3 0 q l) := by
  unfold part
  pointwise [k0_pay19, k0_pay15]
  simp only [pay17_at j hj, pay16_at]
theorem pay48_at (i : grid0.Coords) (j : ℕ) (hj : j < 11) (hij : (i 1).val = j) (K : Vec Ideal S1x384x128 .bf16) (D : Vec Ideal S768x128 .f32) (Q : Vec Ideal S1x768x128 .bf16) (L : Vec Ideal S1x1x768 .f32) (v : FVec Ideal S768x128 .f32) (w : IVec S768x128 32) (hD : ∀ (q : Fin 768) (d : Fin 128), k0_pay46 v w (ix2 q d) = own 1 d (D (ix2 q d))) (r : Fin 384) (l : Fin 128) :
    k0_pay48 i K v w Q L (ix2 r l) = 0 + ∑ q : Fin 768, Ideal.exp2 ((if j * 384 + r.val ≤ j * 384 + q.val then (∑ d : Fin 128, K (ix3 0 r d) * Q (ix3 0 q d)) * c2 else ⊥) - L (ix3 0 0 q)) * own 1 l (D (ix2 q l)) := by
  pointwise [k0_pay48, k0_pay43]
  simp only [pay47_at i j hj hij, hD]
theorem pay49_at (i : grid0.Coords) (j : ℕ) (hj : j < 11) (hij : (i 1).val = j) (V : Vec Ideal S384x128 .bf16) (K : Vec Ideal S1x384x128 .bf16) (D : Vec Ideal S768x128 .f32) (Q : Vec Ideal S1x768x128 .bf16) (L : Vec Ideal S1x1x768 .f32) (E : Vec Ideal S1x1x768 .f32) (v : FVec Ideal S768x128 .f32) (w : IVec S768x128 32) (hD : ∀ (q : Fin 768) (d : Fin 128), k0_pay46 v w (ix2 q d) = own 1 d (D (ix2 q d))) (r : Fin 384) (l : Fin 128) :
    k0_pay49 i V K v w Q L E (ix2 r l) = 0 + ∑ q : Fin 768, part (if j * 384 + r.val ≤ j * 384 + q.val then (∑ d : Fin 128, K (ix3 0 r d) * Q (ix3 0 q d)) * c2 else ⊥) (∑ d : Fin 128, V (ix2 r d) * own 1 d (D (ix2 q d))) (L (ix3 0 0 q)) (E (ix3 0 0 q)) * Q (ix3 0 q l) := by
  unfold part
  pointwise [k0_pay49, k0_pay40, k0_pay43, k0_pay45]
  simp only [pay47_at i j hj hij, hD]
theorem pay24_at (j : ℕ) (hj : j < 11) (K : FVec Ideal S384x128 .bf16) (acc : FVec Ideal S384x128 .f32) (D : Vec Ideal S384x128 .f32) (Q : Vec Ideal S1x384x128 .bf16) (L : Vec Ideal S1x1x384 .f32) (r : Fin 384) (l : Fin 128) :
    k0_pay24 (BitVec.ofNat 32 j) K acc (Scalar.muli (BitVec.ofNat 32 j) 384#32) D Q L (ix2 r l) = acc (ix2 r l) + ∑ q : Fin 384, Ideal.exp2 ((if j * 384 + r.val ≤ j * 384 + q.val then (∑ d : Fin 128, K (ix2 r d) * Q (ix3 0 q d)) * c2 else ⊥) - L (ix3 0 0 q)) * own 0 l (D (ix2 q l)) := by
  pointwise [k0_pay24]
  simp only [pay23_at j hj, pay22_at]
theorem pay25_at (j : ℕ) (hj : j < 11) (V : FVec Ideal S384x128 .bf16) (K : FVec Ideal S384x128 .bf16) (D : Vec Ideal S384x128 .f32) (Q : Vec Ideal S1x384x128 .bf16) (L : Vec Ideal S1x1x384 .f32) (E : Vec Ideal S1x1x384 .f32) (r : Fin 384) (l : Fin 128) :
    k0_pay25 (BitVec.ofNat 32 j) V K (Scalar.muli (BitVec.ofNat 32 j) 384#32) D Q L E (ix2 r l) = ∑ q : Fin 384, part (if j * 384 + r.val ≤ j * 384 + q.val then (∑ d : Fin 128, K (ix2 r d) * Q (ix3 0 q d)) * c2 else ⊥) (∑ d : Fin 128, V (ix2 r d) * own 0 d (D (ix2 q d))) (L (ix3 0 0 q)) (E (ix3 0 0 q)) * Q (ix3 0 q l) := by
  unfold part
  pointwise [k0_pay25, k0_pay21]
  simp only [pay23_at j hj, pay22_at]
theorem pay54_at (i : grid0.Coords) (j : ℕ) (hj : j < 11) (hij : (i 1).val = j) (K : Vec Ideal S1x384x128 .bf16) (D : Vec Ideal S384x128 .f32) (Q : Vec Ideal S1x384x128 .bf16) (L : Vec Ideal S1x1x384 .f32) (v : FVec Ideal S384x128 .f32) (w : IVec S384x128 32) (hD : ∀ (q : Fin 384) (d : Fin 128), k0_pay52 v w (ix2 q d) = own 1 d (D (ix2 q d))) (r : Fin 384) (l : Fin 128) :
    k0_pay54 i K v w Q L (ix2 r l) = 0 + ∑ q : Fin 384, Ideal.exp2 ((if j * 384 + r.val ≤ j * 384 + q.val then (∑ d : Fin 128, K (ix3 0 r d) * Q (ix3 0 q d)) * c2 else ⊥) - L (ix3 0 0 q)) * own 1 l (D (ix2 q l)) := by
  pointwise [k0_pay54, k0_pay43]
  simp only [pay53_at i j hj hij, hD]
theorem pay55_at (i : grid0.Coords) (j : ℕ) (hj : j < 11) (hij : (i 1).val = j) (V : Vec Ideal S384x128 .bf16) (K : Vec Ideal S1x384x128 .bf16) (D : Vec Ideal S384x128 .f32) (Q : Vec Ideal S1x384x128 .bf16) (L : Vec Ideal S1x1x384 .f32) (E : Vec Ideal S1x1x384 .f32) (v : FVec Ideal S384x128 .f32) (w : IVec S384x128 32) (hD : ∀ (q : Fin 384) (d : Fin 128), k0_pay52 v w (ix2 q d) = own 1 d (D (ix2 q d))) (r : Fin 384) (l : Fin 128) :
    k0_pay55 i V K v w Q L E (ix2 r l) = 0 + ∑ q : Fin 384, part (if j * 384 + r.val ≤ j * 384 + q.val then (∑ d : Fin 128, K (ix3 0 r d) * Q (ix3 0 q d)) * c2 else ⊥) (∑ d : Fin 128, V (ix2 r d) * own 1 d (D (ix2 q d))) (L (ix3 0 0 q)) (E (ix3 0 0 q)) * Q (ix3 0 q l) := by
  unfold part
  pointwise [k0_pay55, k0_pay40, k0_pay43, k0_pay51]
  simp only [pay53_at i j hj hij, hD]

theorem pay40_at (x : Vec Ideal S384x128 .bf16) (r : Fin 384) (d : Fin 128) : k0_pay40 x (ix2 r d) = x (ix2 r d) := by
  pointwise [k0_pay40]
theorem pay41_at (x : Vec Ideal S1x384x128 .bf16) (r : Fin 384) (d : Fin 128) : k0_pay41 x (ix2 r d) = x (ix3 0 r d) := by
  pointwise [k0_pay41]
theorem pay42_at (x : Vec Ideal S1x384x128 .bf16) (r : Fin 384) (d : Fin 128) : k0_pay42 x (ix2 r d) = x (ix3 0 r d) := by
  pointwise [k0_pay42]
theorem pay43_at (r : Fin 384) (l : Fin 128) : k0_pay43 (F := Ideal) (ix2 r l) = 0 := by
  pointwise [k0_pay43]
theorem pay44_at (x : FVec Ideal S384x128 .f32) (r : Fin 384) (l : Fin 128) : k0_pay44 x (ix2 r l) = x (ix2 r l) := by
  pointwise [k0_pay44, k0_pay43]
theorem pay50_at (x : FVec Ideal S384x128 .f32) (r : Fin 384) (l : Fin 128) : k0_pay50 x (ix2 r l) = x (ix2 r l) := by
  pointwise [k0_pay50, k0_pay43]
theorem pay11_at (x : FVec Ideal S384x128 .f32) (r : Fin 384) (l : Fin 128) : k0_pay11 x (ix3 0 r l) = x (ix2 r l) * Ideal.ofBits .f32 0x3DD105EC#32 := by
  pointwise [k0_pay11]
  try rfl
theorem pay12_at (x : FVec Ideal S384x128 .f32) (r : Fin 384) (l : Fin 128) : k0_pay12 x (ix3 0 r l) = x (ix2 r l) * Ideal.ofBits .f32 0x3DD105EC#32 := by
  pointwise [k0_pay12]
  try rfl
theorem pay13_at (x y : FVec Ideal S384x128 .f32) (r : Fin 384) (l : Fin 128) : k0_pay13 x y (ix2 r l) = x (ix2 r l) + y (ix2 r l) := by
  pointwise [k0_pay13]

end Cert.AttnKvKernelIdeal.Hand

end
-- ==== Proof.AttnKvSum.lean ====
/- The values of the attention backward pass for the keys and values: one grid point's blocks as sums over all queries. -/
module

public import proofs.«01_k».proof.Proof.AttnKvForm
public import proofs.«01_k».proof.Proof.AttnKvPay
public import Idealize.ShloMosaic.Lib.Pipeline.ValueKit.Tiles

@[expose] public section

set_option maxRecDepth 16384

noncomputable section

namespace Cert.AttnKvKernelIdeal.Hand

open Idealize.ShloMosaic Idealize.ShloMosaic.TcCoe Idealize.ShloMosaic.Tactic
open Cert.AttnKvKernelIdeal Cert.AttnKvKernelIdeal.Gen

open Cert.AttnQKernelIdeal.Hand (part)

section terms

variable (x2 : Vec Ideal S2x4224x128 .bf16) (x3 : Vec Ideal S2x384x128 .bf16) (x4 : Vec Ideal S384x128 .bf16) (x5 : Vec Ideal S4224x128 .f32) (x6 : Vec Ideal S2x1x4224 .f32) (x7 : Vec Ideal S2x1x4224 .f32)

/-- The logarithm of the weight of a key for a query of head `a`, before the row's log-sum is taken off. -/
def score (a : Fin 2) (r : Fin 384) (q : Fin 4224) : EReal := (∑ d : Fin 128, x3 (ix3 a r d) * x2 (ix3 a q d)) * c2
/-- The product of a key's value with a query's cotangent over the lanes of head `a`. -/
def cot (a : Fin 2) (r : Fin 384) (q : Fin 4224) : EReal := ∑ d : Fin 128, x4 (ix2 r d) * own a.val d (x5 (ix2 q d))

/-- One query's term of the gradient of a key of head `a` in key tile `j`, before the last scale: zero for queries before the key. -/
def keyTerm (a : Fin 2) (j : ℕ) (r : Fin 384) (l : Fin 128) (q : ℕ) : EReal :=
  if h : q < 4224 then (if j * 384 + r.val ≤ q then part (score x2 x3 a r ⟨q, h⟩) (cot x4 x5 a r ⟨q, h⟩) (x6 (ix3 a 0 ⟨q, h⟩)) (x7 (ix3 a 0 ⟨q, h⟩)) * x2 (ix3 a ⟨q, h⟩ l) else 0) else 0

/-- One query's term of the gradient of a value of head `a` in key tile `j`: zero for queries before the key. -/
def valTerm (a : Fin 2) (j : ℕ) (r : Fin 384) (l : Fin 128) (q : ℕ) : EReal :=
  if h : q < 4224 then (if j * 384 + r.val ≤ q then Ideal.exp2 (score x2 x3 a r ⟨q, h⟩ - x6 (ix3 a 0 ⟨q, h⟩)) * own a.val l (x5 (ix2 ⟨q, h⟩ l)) else 0) else 0

theorem keyTerm_masked (a : Fin 2) (j : ℕ) (r : Fin 384) (l : Fin 128) (q : ℕ) (h : q < 4224) :
    part (if j * 384 + r.val ≤ q then score x2 x3 a r ⟨q, h⟩ else ⊥) (cot x4 x5 a r ⟨q, h⟩) (x6 (ix3 a 0 ⟨q, h⟩)) (x7 (ix3 a 0 ⟨q, h⟩)) * x2 (ix3 a ⟨q, h⟩ l)
      = keyTerm x2 x3 x4 x5 x6 x7 a j r l q := by
  unfold keyTerm
  refine Eq.trans ?_ (dif_pos h).symm
  by_cases hk : j * 384 + r.val ≤ q
  · rw [if_pos hk, if_pos hk]
  · rw [if_neg hk, if_neg hk]
    unfold part
    rw [EReal.bot_sub, Ideal.exp2_bot, zero_mul, zero_mul]

theorem keyTerm_of_le (a : Fin 2) (j : ℕ) (r : Fin 384) (l : Fin 128) (q : ℕ) (h : q < 4224) (hk : j * 384 + r.val ≤ q) :
    part (score x2 x3 a r ⟨q, h⟩) (cot x4 x5 a r ⟨q, h⟩) (x6 (ix3 a 0 ⟨q, h⟩)) (x7 (ix3 a 0 ⟨q, h⟩)) * x2 (ix3 a ⟨q, h⟩ l) = keyTerm x2 x3 x4 x5 x6 x7 a j r l q := by
  rw [← keyTerm_masked _ _ _ _ _ _ a j r l q h, if_pos hk]

theorem valTerm_masked (a : Fin 2) (j : ℕ) (r : Fin 384) (l : Fin 128) (q : ℕ) (h : q < 4224) :
    Ideal.exp2 ((if j * 384 + r.val ≤ q then score x2 x3 a r ⟨q, h⟩ else ⊥) - x6 (ix3 a 0 ⟨q, h⟩)) * own a.val l (x5 (ix2 ⟨q, h⟩ l))
      = valTerm x2 x3 x5 x6 a j r l q := by
  unfold valTerm
  refine Eq.trans ?_ (dif_pos h).symm
  by_cases hk : j * 384 + r.val ≤ q
  · rw [if_pos hk, if_pos hk]
  · rw [if_neg hk, if_neg hk, EReal.bot_sub, Ideal.exp2_bot, zero_mul]

theorem valTerm_of_le (a : Fin 2) (j : ℕ) (r : Fin 384) (l : Fin 128) (q : ℕ) (h : q < 4224) (hk : j * 384 + r.val ≤ q) :
    Ideal.exp2 (score x2 x3 a r ⟨q, h⟩ - x6 (ix3 a 0 ⟨q, h⟩)) * own a.val l (x5 (ix2 ⟨q, h⟩ l)) = valTerm x2 x3 x5 x6 a j r l q := by
  rw [← valTerm_masked _ _ _ _ a j r l q h, if_pos hk]

theorem keyTerm_before (a : Fin 2) (j : ℕ) (r : Fin 384) (l : Fin 128) (q : ℕ) (hq : q < j * 384) : keyTerm x2 x3 x4 x5 x6 x7 a j r l q = 0 := by
  unfold keyTerm
  split
  · exact if_neg (by omega)
  · rfl
theorem valTerm_before (a : Fin 2) (j : ℕ) (r : Fin 384) (l : Fin 128) (q : ℕ) (hq : q < j * 384) : valTerm x2 x3 x5 x6 a j r l q = 0 := by
  unfold valTerm
  split
  · exact if_neg (by omega)
  · rfl

theorem part_congr {A B u u' w w' X : EReal} (hu : u = u') (hw : w = w') : part A B u w * X = part A B u' w' * X := by rw [hu, hw]
theorem exp_congr {A u u' X : EReal} (hu : u = u') : Ideal.exp2 (A - u) * X = Ideal.exp2 (A - u') * X := by rw [hu]

/-- A carry holds the terms of the first `M` queries from the key tile's start on, in each of its four parts. -/
def Held (j M : ℕ) (acc : Carry) : Prop := ∀ (r : Fin 384) (l : Fin 128),
  acc.1 (ix2 r l) = ∑ q ∈ Finset.range M, keyTerm x2 x3 x4 x5 x6 x7 0 j r l (j * 384 + q)
  ∧ acc.2.1 (ix2 r l) = ∑ q ∈ Finset.range M, valTerm x2 x3 x5 x6 0 j r l (j * 384 + q)
  ∧ acc.2.2.1 (ix2 r l) = ∑ q ∈ Finset.range M, keyTerm x2 x3 x4 x5 x6 x7 1 j r l (j * 384 + q)
  ∧ acc.2.2.2 (ix2 r l) = ∑ q ∈ Finset.range M, valTerm x2 x3 x5 x6 1 j r l (j * 384 + q)

/-- A block of cotangents: the rows from `b` on. -/
theorem ld_d (W b : ℕ) (off : Fin 2 → ℕ) (ho : off = ![b, 0]) (inb) (q : Fin W) (d : Fin 128) (hb : b + q.val < 4224) :
    View.ld x5 (Rect.unit (s := S4224x128) off ![W, 128] inb) (ix2 q d) = x5 (ix2 ⟨b + q.val, hb⟩ d) := by
  subst ho
  exact View.ld_unit_apply_of x5 _ _ _ _ _ fun a => by match a with | 0 => rfl | 1 => exact (Nat.zero_add _).symm

/-- A block of queries of head `a`: the rows from `b` on. -/
theorem ld_q (W b : ℕ) (a : Fin 2) (off : Fin 3 → ℕ) (ho : off = ![a.val, b, 0]) (inb) (q : Fin W) (d : Fin 128) (hb : b + q.val < 4224) :
    View.ld x2 (Rect.unit (s := S2x4224x128) off ![1, W, 128] inb) (ix3 0 q d) = x2 (ix3 a ⟨b + q.val, hb⟩ d) := by
  subst ho
  exact View.ld_unit_apply_of x2 _ _ _ _ _ fun a => by match a with | 0 => rfl | 1 => rfl | 2 => exact (Nat.zero_add _).symm

/-- A block of row numbers of head `a`: those from `b` on. -/
theorem ld_l (x : Vec Ideal S2x1x4224 .f32) (W b : ℕ) (a : Fin 2) (off : Fin 3 → ℕ) (ho : off = ![a.val, 0, b]) (inb) (q : Fin W) (hb : b + q.val < 4224) :
    View.ld x (Rect.unit (s := S2x1x4224) off ![1, 1, W] inb) (ix3 0 0 q) = x (ix3 a 0 ⟨b + q.val, hb⟩) := by
  subst ho
  exact View.ld_unit_apply_of x _ _ _ _ _ fun a => by match a with | 0 => rfl | 1 => rfl | 2 => rfl

theorem k0_at (r : Fin 384) (d : Fin 128) : k0 x3 (ix3 0 r d) = x3 (ix3 0 r d) :=
  View.ld_unit_apply_of x3 _ _ _ _ _ fun a => by match a with | 0 => rfl | 1 => exact (Nat.zero_add _).symm | 2 => exact (Nat.zero_add _).symm
theorem k1_at (r : Fin 384) (d : Fin 128) : k1 x3 (ix3 0 r d) = x3 (ix3 1 r d) :=
  View.ld_unit_apply_of x3 _ _ _ _ _ fun a => by match a with | 0 => rfl | 1 => exact (Nat.zero_add _).symm | 2 => exact (Nat.zero_add _).symm

/-- The queries from the tile's start on hold all terms. -/
theorem all_terms (f : ℕ → EReal) (b M : ℕ) (hM : b + M = 4224) (h0 : ∀ q, q < b → f q = 0) :
    ∑ q ∈ Finset.range M, f (b + q) = ∑ q ∈ Finset.range 4224, f q := by
  rw [← hM, Finset.sum_range_add, Finset.sum_eq_zero (s := Finset.range b) (fun q hq => h0 q (Finset.mem_range.mp hq)), zero_add]

end terms

section sums

variable (c : Dev nD) (i : grid0.Coords) (arg2 : Memref sig .tc .vmem S2x4224x128 .bf16) (harg2 : arg2.IsWhole) (arg3 : Memref sig .tc .vmem S2x384x128 .bf16) (harg3 : arg3.IsWhole) (arg4 : Memref sig .tc .vmem S384x128 .bf16) (harg4 : arg4.IsWhole) (arg5 : Memref sig .tc .vmem S4224x128 .f32) (harg5 : arg5.IsWhole) (arg6 : Memref sig .tc .vmem S2x1x4224 .f32) (harg6 : arg6.IsWhole) (arg7 : Memref sig .tc .vmem S2x1x4224 .f32) (harg7 : arg7.IsWhole) (arg8 : Memref sig .tc .vmem S2x384x128 .f32) (harg8 : arg8.IsWhole) (arg9 : Memref sig .tc .vmem S384x128 .f32) (harg9 : arg9.IsWhole)
variable (x2 : Vec Ideal S2x4224x128 .bf16) (x3 : Vec Ideal S2x384x128 .bf16) (x4 : Vec Ideal S384x128 .bf16) (x5 : Vec Ideal S4224x128 .f32) (x6 : Vec Ideal S2x1x4224 .f32) (x7 : Vec Ideal S2x1x4224 .f32)

/-- A trip adds the next 768 queries' terms. -/
theorem held_trip (v28 : BitVec 32) (k : Fin (k0_t1_loop i).trips) (acc : Carry) (M : ℕ) (hM : (i 1).val * 384 + M = restart (i 1).val + k.val * 768) (h384 : 384 ≤ M)
    (h : Held x2 x3 x4 x5 x6 x7 (i 1).val M acc) :
    Held x2 x3 x4 x5 x6 x7 (i 1).val (M + 768) (tripR_k0_t1 (F := Ideal) Variants.none c none i arg2 harg2 arg3 harg3 arg4 harg4 arg5 harg5 arg6 harg6 arg7 harg7 arg8 harg8 arg9 harg9 (k0_pay40 x4) (k0_pay41 (k0 x3)) (k0_pay42 (k1 x3)) v28 (harg2.unread x2) (harg5.unread x5) (harg6.unread x6) (harg7.unread x7) k acc) := by
  rw [trip_eq]
  have hk : k.val < (10 - (i 1).val) / 2 := lt_of_lt_of_eq k.isLt (main_trips i)
  have hi : (i 1).val < 11 := (i 1).isLt
  obtain ⟨b, hb⟩ : ∃ b, b = restart (i 1).val + k.val * 768 := ⟨_, rfl⟩
  have hb' : b + 768 ≤ 4224 := by rw [hb]; unfold restart; omega
  rw [← hb] at hM
  have eD : ∀ (q : Fin 768) (d : Fin 128), View.ld x5 (Rect.unit (s := S4224x128) (k0_off11 i k) S768x128.size (k0_off11_inb i k)) (ix2 q d) = x5 (ix2 ⟨b + q.val, by omega⟩ d) := fun q d => ld_d x5 768 b _ (hb ▸ off11_eq i k) _ q d _
  have eQ0 : ∀ (q : Fin 768) (d : Fin 128), View.ld x2 (Rect.unit (s := S2x4224x128) (k0_off12 i k) S1x768x128.size (k0_off12_inb i k)) (ix3 0 q d) = x2 (ix3 0 ⟨b + q.val, by omega⟩ d) := fun q d => ld_q x2 768 b 0 _ (hb ▸ off12_eq i k) _ q d _
  have eQ1 : ∀ (q : Fin 768) (d : Fin 128), View.ld x2 (Rect.unit (s := S2x4224x128) (k0_off14 i k) S1x768x128.size (k0_off14_inb i k)) (ix3 0 q d) = x2 (ix3 1 ⟨b + q.val, by omega⟩ d) := fun q d => ld_q x2 768 b 1 _ (hb ▸ off14_eq i k) _ q d _
  have eL0 : ∀ (x : Vec Ideal S2x1x4224 .f32) (q : Fin 768), View.ld x (Rect.unit (s := S2x1x4224) (k0_off13 i k) ![1, 1, 768] (k0_off13_inb i k)) (ix3 0 0 q) = x (ix3 0 0 ⟨b + q.val, by omega⟩) := fun x q => ld_l x 768 b 0 _ (hb ▸ off13_eq i k) _ q _
  have eL1 : ∀ (x : Vec Ideal S2x1x4224 .f32) (q : Fin 768), View.ld x (Rect.unit (s := S2x1x4224) (k0_off15 i k) ![1, 1, 768] (k0_off15_inb i k)) (ix3 0 0 q) = x (ix3 1 0 ⟨b + q.val, by omega⟩) := fun x q => ld_l x 768 b 1 _ (hb ▸ off15_eq i k) _ q _
  intro r l
  have hr := r.isLt
  obtain ⟨h1, h2, h3, h4⟩ := h r l
  simp only [Finset.sum_range_add, ← h1, ← h2, ← h3, ← h4]
  refine ⟨?_, ?_, ?_, ?_⟩
  · refine (pay31_at _ _ _ _ _ _ _ r l).trans (congrArg _ ((Finset.sum_congr rfl fun q _ => ?_).trans (Finset.sum_range _).symm))
    rw [show (i 1).val * 384 + (M + q.val) = b + q.val by omega, ← keyTerm_of_le x2 x3 x4 x5 x6 x7 0 (i 1).val r l (b + q.val) (by omega) (by omega)]
    simp only [pay40_at, pay41_at, k0_at, eD, eQ0]
    exact part_congr (eL0 x6 q) (eL0 x7 q)
  · refine (pay30_at _ _ _ _ _ r l).trans (congrArg _ ((Finset.sum_congr rfl fun q _ => ?_).trans (Finset.sum_range _).symm))
    rw [show (i 1).val * 384 + (M + q.val) = b + q.val by omega, ← valTerm_of_le x2 x3 x5 x6 0 (i 1).val r l (b + q.val) (by omega) (by omega)]
    simp only [pay41_at, k0_at, eD, eQ0]
    exact exp_congr (eL0 x6 q)
  · refine (pay5_at _ _ _ _ _ _ _ r l).trans (congrArg _ ((Finset.sum_congr rfl fun q _ => ?_).trans (Finset.sum_range _).symm))
    rw [show (i 1).val * 384 + (M + q.val) = b + q.val by omega, ← keyTerm_of_le x2 x3 x4 x5 x6 x7 1 (i 1).val r l (b + q.val) (by omega) (by omega)]
    simp only [pay40_at, pay42_at, k1_at, eD, eQ1]
    exact part_congr (eL1 x6 q) (eL1 x7 q)
  · refine (pay4_at _ _ _ _ _ r l).trans (congrArg _ ((Finset.sum_congr rfl fun q _ => ?_).trans (Finset.sum_range _).symm))
    rw [show (i 1).val * 384 + (M + q.val) = b + q.val by omega, ← valTerm_of_le x2 x3 x5 x6 1 (i 1).val r l (b + q.val) (by omega) (by omega)]
    simp only [pay42_at, k1_at, eD, eQ1]
    exact exp_congr (eL1 x6 q)

/-- The first query block's terms, where it is two row tiles wide. -/
theorem held_wide (hc : Wide i) : Held x2 x3 x4 x5 x6 x7 (i 1).val 768 (wideInit i x2 x3 x4 x5 x6 x7 hc) := by
  have hi : (i 1).val < 11 := (i 1).isLt
  have hp := (wide_iff i).mp hc
  obtain ⟨b, hb⟩ : ∃ b, b = (i 1).val * 384 := ⟨_, rfl⟩
  have hb' : b + 768 ≤ 4224 := by omega
  have eD : ∀ (q : Fin 768) (d : Fin 128), View.ld x5 (Rect.unit (s := S4224x128) (k0_off1 i) S768x128.size (k0_off1_inb i hc)) (ix2 q d) = x5 (ix2 ⟨b + q.val, by omega⟩ d) := fun q d => ld_d x5 768 b _ (hb ▸ off1_eq i) _ q d _
  have eQ0 : ∀ (q : Fin 768) (d : Fin 128), View.ld x2 (Rect.unit (s := S2x4224x128) (k0_off2 i) S1x768x128.size (k0_off2_inb i hc)) (ix3 0 q d) = x2 (ix3 0 ⟨b + q.val, by omega⟩ d) := fun q d => ld_q x2 768 b 0 _ (hb ▸ off2_eq i) _ q d _
  have eQ1 : ∀ (q : Fin 768) (d : Fin 128), View.ld x2 (Rect.unit (s := S2x4224x128) (k0_off4 i) S1x768x128.size (k0_off4_inb i hc)) (ix3 0 q d) = x2 (ix3 1 ⟨b + q.val, by omega⟩ d) := fun q d => ld_q x2 768 b 1 _ (hb ▸ off4_eq i) _ q d _
  have eL0 : ∀ (x : Vec Ideal S2x1x4224 .f32) (q : Fin 768), View.ld x (Rect.unit (s := S2x1x4224) (k0_off3 i) ![1, 1, 768] (k0_off3_inb i hc)) (ix3 0 0 q) = x (ix3 0 0 ⟨b + q.val, by omega⟩) := fun x q => ld_l x 768 b 0 _ (hb ▸ off3_eq i) _ q _
  have eL1 : ∀ (x : Vec Ideal S2x1x4224 .f32) (q : Fin 768), View.ld x (Rect.unit (s := S2x1x4224) (k0_off5 i) ![1, 1, 768] (k0_off5_inb i hc)) (ix3 0 0 q) = x (ix3 1 0 ⟨b + q.val, by omega⟩) := fun x q => ld_l x 768 b 1 _ (hb ▸ off5_eq i) _ q _
  intro r l
  have hr := r.isLt
  unfold wideInit
  refine ⟨?_, ?_, ?_, ?_⟩
  · rw [Finset.sum_range]
    refine (pay44_at _ r l).trans ((pay19_at (i 1).val hi _ _ _ _ _ _ r l).trans (Finset.sum_congr rfl fun q _ => ?_))
    rw [← hb, ← keyTerm_masked x2 x3 x4 x5 x6 x7 0 (i 1).val r l (b + q.val) (by omega), ← hb]
    simp only [pay40_at, pay41_at, k0_at, eD, eQ0]
    exact part_congr (eL0 x6 q) (eL0 x7 q)
  · rw [Finset.sum_range]
    refine (pay18_at (i 1).val hi _ _ _ _ _ r l).trans ?_
    rw [pay43_at, zero_add]
    refine Finset.sum_congr rfl fun q _ => ?_
    rw [← hb, ← valTerm_masked x2 x3 x5 x6 0 (i 1).val r l (b + q.val) (by omega), ← hb]
    simp only [pay41_at, k0_at, eD, eQ0]
    exact exp_congr (eL0 x6 q)
  · rw [Finset.sum_range]
    refine (pay49_at i (i 1).val hi rfl _ _ _ _ _ _ _ _ (fun q d => pay46_at _ q d) r l).trans ?_
    rw [zero_add]
    refine Finset.sum_congr rfl fun q _ => ?_
    rw [← hb, ← keyTerm_masked x2 x3 x4 x5 x6 x7 1 (i 1).val r l (b + q.val) (by omega), ← hb]
    simp only [k1_at, eD, eQ1]
    exact part_congr (eL1 x6 q) (eL1 x7 q)
  · rw [Finset.sum_range]
    refine (pay48_at i (i 1).val hi rfl _ _ _ _ _ _ (fun q d => pay46_at _ q d) r l).trans ?_
    rw [zero_add]
    refine Finset.sum_congr rfl fun q _ => ?_
    rw [← hb, ← valTerm_masked x2 x3 x5 x6 1 (i 1).val r l (b + q.val) (by omega), ← hb]
    simp only [k1_at, eD, eQ1]
    exact exp_congr (eL1 x6 q)

/-- The first query block's terms, where it is one row tile wide. -/
theorem held_narrow (hc : ¬ Wide i) : Held x2 x3 x4 x5 x6 x7 (i 1).val 384 (narrowInit i x2 x3 x4 x5 x6 x7 hc) := by
  have hi : (i 1).val < 11 := (i 1).isLt
  have hp := (wide_iff i).not.mp hc
  obtain ⟨b, hb⟩ : ∃ b, b = (i 1).val * 384 := ⟨_, rfl⟩
  have hb' : b + 384 ≤ 4224 := by omega
  have eD : ∀ (q : Fin 384) (d : Fin 128), View.ld x5 (Rect.unit (s := S4224x128) (k0_off6 i) S384x128.size (k0_off6_inb i hc)) (ix2 q d) = x5 (ix2 ⟨b + q.val, by omega⟩ d) := fun q d => ld_d x5 384 b _ (hb ▸ off6_eq i) _ q d _
  have eQ0 : ∀ (q : Fin 384) (d : Fin 128), View.ld x2 (Rect.unit (s := S2x4224x128) (k0_off7 i) S1x384x128.size (k0_off7_inb i hc)) (ix3 0 q d) = x2 (ix3 0 ⟨b + q.val, by omega⟩ d) := fun q d => ld_q x2 384 b 0 _ (hb ▸ off7_eq i) _ q d _
  have eQ1 : ∀ (q : Fin 384) (d : Fin 128), View.ld x2 (Rect.unit (s := S2x4224x128) (k0_off9 i) S1x384x128.size (k0_off9_inb i hc)) (ix3 0 q d) = x2 (ix3 1 ⟨b + q.val, by omega⟩ d) := fun q d => ld_q x2 384 b 1 _ (hb ▸ off9_eq i) _ q d _
  have eL0 : ∀ (x : Vec Ideal S2x1x4224 .f32) (q : Fin 384), View.ld x (Rect.unit (s := S2x1x4224) (k0_off8 i) ![1, 1, 384] (k0_off8_inb i hc)) (ix3 0 0 q) = x (ix3 0 0 ⟨b + q.val, by omega⟩) := fun x q => ld_l x 384 b 0 _ (hb ▸ off8_eq i) _ q _
  have eL1 : ∀ (x : Vec Ideal S2x1x4224 .f32) (q : Fin 384), View.ld x (Rect.unit (s := S2x1x4224) (k0_off10 i) ![1, 1, 384] (k0_off10_inb i hc)) (ix3 0 0 q) = x (ix3 1 0 ⟨b + q.val, by omega⟩) := fun x q => ld_l x 384 b 1 _ (hb ▸ off10_eq i) _ q _
  intro r l
  have hr := r.isLt
  unfold narrowInit
  refine ⟨?_, ?_, ?_, ?_⟩
  · rw [Finset.sum_range]
    refine (pay50_at _ r l).trans ((pay25_at (i 1).val hi _ _ _ _ _ _ r l).trans (Finset.sum_congr rfl fun q _ => ?_))
    rw [← hb, ← keyTerm_masked x2 x3 x4 x5 x6 x7 0 (i 1).val r l (b + q.val) (by omega), ← hb]
    simp only [pay40_at, pay41_at, k0_at, eD, eQ0]
    exact part_congr (eL0 x6 q) (eL0 x7 q)
  · rw [Finset.sum_range]
    refine (pay24_at (i 1).val hi _ _ _ _ _ r l).trans ?_
    rw [pay43_at, zero_add]
    refine Finset.sum_congr rfl fun q _ => ?_
    rw [← hb, ← valTerm_masked x2 x3 x5 x6 0 (i 1).val r l (b + q.val) (by omega), ← hb]
    simp only [pay41_at, k0_at, eD, eQ0]
    exact exp_congr (eL0 x6 q)
  · rw [Finset.sum_range]
    refine (pay55_at i (i 1).val hi rfl _ _ _ _ _ _ _ _ (fun q d => pay52_at _ q d) r l).trans ?_
    rw [zero_add]
    refine Finset.sum_congr rfl fun q _ => ?_
    rw [← hb, ← keyTerm_masked x2 x3 x4 x5 x6 x7 1 (i 1).val r l (b + q.val) (by omega), ← hb]
    simp only [k1_at, eD, eQ1]
    exact part_congr (eL1 x6 q) (eL1 x7 q)
  · rw [Finset.sum_range]
    refine (pay54_at i (i 1).val hi rfl _ _ _ _ _ _ (fun q d => pay52_at _ q d) r l).trans ?_
    rw [zero_add]
    refine Finset.sum_congr rfl fun q _ => ?_
    rw [← hb, ← valTerm_masked x2 x3 x5 x6 1 (i 1).val r l (b + q.val) (by omega), ← hb]
    simp only [k1_at, eD, eQ1]
    exact exp_congr (eL1 x6 q)

/-- What the main loop carries before its `n`-th trip holds the terms of the queries before that trip's block. -/
theorem held_carried (w : BitVec 32) (init : Carry) (M : ℕ) (hM : (i 1).val * 384 + M = restart (i 1).val) (h384 : 384 ≤ M)
    (h : Held x2 x3 x4 x5 x6 x7 (i 1).val M init) (n : ℕ) (hn : n ≤ (10 - (i 1).val) / 2) :
    Held x2 x3 x4 x5 x6 x7 (i 1).val (M + n * 768) (carried c i arg2 harg2 arg3 harg3 arg4 harg4 arg5 harg5 arg6 harg6 arg7 harg7 arg8 harg8 arg9 harg9 x2 x3 x4 x5 x6 x7 w init n) := by
  induction n with
  | zero =>
    rw [show carried c i arg2 harg2 arg3 harg3 arg4 harg4 arg5 harg5 arg6 harg6 arg7 harg7 arg8 harg8 arg9 harg9 x2 x3 x4 x5 x6 x7 w init 0 = init from st_k0_t1_zero ..]
    simpa using h
  | succ n ih =>
    have hk : n < (k0_t1_loop i).trips := by rw [main_trips]; omega
    have e := st_k0_t1_succ (F := Ideal) Variants.none c none i arg2 harg2 arg3 harg3 arg4 harg4 arg5 harg5 arg6 harg6 arg7 harg7 arg8 harg8 arg9 harg9 (k0_pay40 x4) (k0_pay41 (k0 x3)) (k0_pay42 (k1 x3)) w (harg2.unread x2) (harg5.unread x5) (harg6.unread x6) (harg7.unread x7) init ⟨n, hk⟩
    have g := held_trip c i arg2 harg2 arg3 harg3 arg4 harg4 arg5 harg5 arg6 harg6 arg7 harg7 arg8 harg8 arg9 harg9 x2 x3 x4 x5 x6 x7 w ⟨n, hk⟩ _ (M + n * 768) (by show (i 1).val * 384 + (M + n * 768) = restart (i 1).val + n * 768; omega) (by omega) (ih (by omega))
    rw [show M + (n + 1) * 768 = M + n * 768 + 768 by ring]
    unfold carried at g ⊢
    rw [show n + 1 = (⟨n, hk⟩ : Fin (k0_t1_loop i).trips).val + 1 from rfl, e]
    exact g

/-- What the loops leave holds the terms of all queries. -/
theorem ends_all (w w' : BitVec 32) (init : Carry) (M : ℕ) (hM : (i 1).val * 384 + M = restart (i 1).val) (h384 : 384 ≤ M)
    (h : Held x2 x3 x4 x5 x6 x7 (i 1).val M init) (r : Fin 384) (l : Fin 128) :
    (ends c i arg2 harg2 arg3 harg3 arg4 harg4 arg5 harg5 arg6 harg6 arg7 harg7 arg8 harg8 arg9 harg9 x2 x3 x4 x5 x6 x7 w w' init).1 (ix2 r l) = ∑ q ∈ Finset.range 4224, keyTerm x2 x3 x4 x5 x6 x7 0 (i 1).val r l q
    ∧ (ends c i arg2 harg2 arg3 harg3 arg4 harg4 arg5 harg5 arg6 harg6 arg7 harg7 arg8 harg8 arg9 harg9 x2 x3 x4 x5 x6 x7 w w' init).2.1 (ix2 r l) = ∑ q ∈ Finset.range 4224, valTerm x2 x3 x5 x6 0 (i 1).val r l q
    ∧ (ends c i arg2 harg2 arg3 harg3 arg4 harg4 arg5 harg5 arg6 harg6 arg7 harg7 arg8 harg8 arg9 harg9 x2 x3 x4 x5 x6 x7 w w' init).2.2.1 (ix2 r l) = ∑ q ∈ Finset.range 4224, keyTerm x2 x3 x4 x5 x6 x7 1 (i 1).val r l q
    ∧ (ends c i arg2 harg2 arg3 harg3 arg4 harg4 arg5 harg5 arg6 harg6 arg7 harg7 arg8 harg8 arg9 harg9 x2 x3 x4 x5 x6 x7 w w' init).2.2.2 (ix2 r l) = ∑ q ∈ Finset.range 4224, valTerm x2 x3 x5 x6 1 (i 1).val r l q := by
  have hi : (i 1).val < 11 := (i 1).isLt
  rw [ends_eq]
  obtain ⟨h1, h2, h3, h4⟩ := held_carried c i arg2 harg2 arg3 harg3 arg4 harg4 arg5 harg5 arg6 harg6 arg7 harg7 arg8 harg8 arg9 harg9 x2 x3 x4 x5 x6 x7 w init M hM h384 h _ le_rfl r l
  have hT : (i 1).val * 384 + (M + (10 - (i 1).val) / 2 * 768) = 4224 := by unfold restart at hM; omega
  exact ⟨h1.trans (all_terms _ _ _ hT fun q hq => keyTerm_before x2 x3 x4 x5 x6 x7 0 _ r l q hq), h2.trans (all_terms _ _ _ hT fun q hq => valTerm_before x2 x3 x5 x6 0 _ r l q hq),
    h3.trans (all_terms _ _ _ hT fun q hq => keyTerm_before x2 x3 x4 x5 x6 x7 1 _ r l q hq), h4.trans (all_terms _ _ _ hT fun q hq => valTerm_before x2 x3 x5 x6 1 _ r l q hq)⟩

/-- The keys' gradient: two stores, read at the first head. -/
theorem canon8_0 (w1 w0 : Vec Ideal S1x384x128 .f32) (r : Fin 384) (l : Fin 128) :
    View.canon (Val := Elt Ideal) [⟨Rect.unit (s := S2x384x128) ![1, 0, 0] S1x384x128.size inb_S2x384x128_S1x384x128_1_0_0, w1⟩, ⟨Rect.unit (s := S2x384x128) ![0, 0, 0] S1x384x128.size inb_S2x384x128_S1x384x128_0_0_0, w0⟩] (ix3 0 r l) = w0 (ix3 0 r l) := by
  refine View.canon_eq_of_allAt _ _ _ (View.cover_of_tiled_head _ _ _ (by sl_kernel_rfl) _) (View.allAt_cons_unit _ _ _ _ _ (fun x hx => ?_) (View.allAt_cons_unit _ _ _ _ _ (fun x hx => ?_) (View.allAt_nil _ _)))
  · have h : (0 : ℕ) = 1 + (x 0 : ℕ) := hx 0
    omega
  · have h0 : (0 : ℕ) = 0 + (x 0 : ℕ) := hx 0
    have h1 : r.val = 0 + (x 1 : ℕ) := hx 1
    have h2 : l.val = 0 + (x 2 : ℕ) := hx 2
    refine congrArg w0 (funext fun a => Fin.ext ?_)
    match a with
    | 0 => show (x 0 : ℕ) = 0; omega
    | 1 => show (x 1 : ℕ) = r.val; omega
    | 2 => show (x 2 : ℕ) = l.val; omega

/-- The keys' gradient: two stores, read at the second head. -/
theorem canon8_1 (w1 w0 : Vec Ideal S1x384x128 .f32) (r : Fin 384) (l : Fin 128) :
    View.canon (Val := Elt Ideal) [⟨Rect.unit (s := S2x384x128) ![1, 0, 0] S1x384x128.size inb_S2x384x128_S1x384x128_1_0_0, w1⟩, ⟨Rect.unit (s := S2x384x128) ![0, 0, 0] S1x384x128.size inb_S2x384x128_S1x384x128_0_0_0, w0⟩] (ix3 1 r l) = w1 (ix3 0 r l) := by
  refine View.canon_eq_of_allAt _ _ _ (View.cover_of_tiled_head _ _ _ (by sl_kernel_rfl) _) (View.allAt_cons_unit _ _ _ _ _ (fun x hx => ?_) (View.allAt_cons_unit _ _ _ _ _ (fun x hx => ?_) (View.allAt_nil _ _)))
  · have h0 : (1 : ℕ) = 1 + (x 0 : ℕ) := hx 0
    have h1 : r.val = 0 + (x 1 : ℕ) := hx 1
    have h2 : l.val = 0 + (x 2 : ℕ) := hx 2
    refine congrArg w1 (funext fun a => Fin.ext ?_)
    match a with
    | 0 => show (x 0 : ℕ) = 0; omega
    | 1 => show (x 1 : ℕ) = r.val; omega
    | 2 => show (x 2 : ℕ) = l.val; omega
  · have h : (1 : ℕ) = 0 + (x 0 : ℕ) := hx 0
    have hx0 : (x 0 : ℕ) < 1 := (x 0).isLt
    omega

/-- The two stores of the keys' gradient, from what the loops leave. -/
theorem read8 (e : Carry) (j : ℕ)
    (h : ∀ (r : Fin 384) (l : Fin 128), e.1 (ix2 r l) = ∑ q ∈ Finset.range 4224, keyTerm x2 x3 x4 x5 x6 x7 0 j r l q ∧ e.2.2.1 (ix2 r l) = ∑ q ∈ Finset.range 4224, keyTerm x2 x3 x4 x5 x6 x7 1 j r l q)
    (a : Fin 2) (r : Fin 384) (l : Fin 128) :
    (View.canon (Val := Elt Ideal) [⟨Rect.unit (s := S2x384x128) ![1, 0, 0] S1x384x128.size inb_S2x384x128_S1x384x128_1_0_0, k0_pay12 e.2.2.1⟩, ⟨Rect.unit (s := S2x384x128) ![0, 0, 0] S1x384x128.size inb_S2x384x128_S1x384x128_0_0_0, k0_pay11 e.1⟩] : Vec Ideal S2x384x128 .f32) (ix3 a r l)
      = (∑ q ∈ Finset.range 4224, keyTerm x2 x3 x4 x5 x6 x7 a j r l q) * Ideal.ofBits .f32 0x3DD105EC#32 := by
  match a with
  | 0 => rw [canon8_0, pay11_at, (h r l).1]
  | 1 => rw [canon8_1, pay12_at, (h r l).2]

theorem restart_wide (n : ℕ) (h : n % 2 = 1) : n * 384 + 768 = restart n := by unfold restart; omega
theorem restart_narrow (n : ℕ) (h : ¬ n % 2 = 1) : n * 384 + 384 = restart n := by unfold restart; omega

/-- The keys' gradient block after the body: the sum over all queries, scaled. -/
theorem out8_at (a : Fin 2) (r : Fin 384) (l : Fin 128) :
    out8 (F := Ideal) c i arg2 harg2 arg3 harg3 arg4 harg4 arg5 harg5 arg6 harg6 arg7 harg7 arg8 harg8 arg9 harg9 x2 x3 x4 x5 x6 x7 (ix3 a r l) = (∑ q ∈ Finset.range 4224, keyTerm x2 x3 x4 x5 x6 x7 a (i 1).val r l q) * Ideal.ofBits .f32 0x3DD105EC#32 := by
  unfold out8
  rw [View.read_writes_eq_canon _ _ _ (cover8 c i arg2 harg2 arg3 harg3 arg4 harg4 arg5 harg5 arg6 harg6 arg7 harg7 arg8 harg8 arg9 harg9 x2 x3 x4 x5 x6 x7)]
  unfold pieces8
  split
  · rename_i hc
    obtain ⟨w, w', h8, -⟩ := wide_pieces c i arg2 harg2 arg3 harg3 arg4 harg4 arg5 harg5 arg6 harg6 arg7 harg7 arg8 harg8 arg9 harg9 x2 x3 x4 x5 x6 x7 hc
    rw [h8]
    refine read8 x2 x3 x4 x5 x6 x7 _ _ (fun r l => ?_) a r l
    obtain ⟨h1, -, h3, -⟩ := ends_all c i arg2 harg2 arg3 harg3 arg4 harg4 arg5 harg5 arg6 harg6 arg7 harg7 arg8 harg8 arg9 harg9 x2 x3 x4 x5 x6 x7 w w' _ 768 (restart_wide _ ((wide_iff i).mp hc)) (by omega) (held_wide i x2 x3 x4 x5 x6 x7 hc) r l
    exact ⟨h1, h3⟩
  · rename_i hc
    obtain ⟨w, w', h8, -⟩ := narrow_pieces c i arg2 harg2 arg3 harg3 arg4 harg4 arg5 harg5 arg6 harg6 arg7 harg7 arg8 harg8 arg9 harg9 x2 x3 x4 x5 x6 x7 hc
    rw [h8]
    refine read8 x2 x3 x4 x5 x6 x7 _ _ (fun r l => ?_) a r l
    obtain ⟨h1, -, h3, -⟩ := ends_all c i arg2 harg2 arg3 harg3 arg4 harg4 arg5 harg5 arg6 harg6 arg7 harg7 arg8 harg8 arg9 harg9 x2 x3 x4 x5 x6 x7 w w' _ 384 (restart_narrow _ ((wide_iff i).not.mp hc)) (by omega) (held_narrow i x2 x3 x4 x5 x6 x7 hc) r l
    exact ⟨h1, h3⟩

/-- The values' gradient block after the body: the sum over all queries of both heads' terms. -/
theorem out9_at (r : Fin 384) (l : Fin 128) :
    out9 (F := Ideal) c i arg2 harg2 arg3 harg3 arg4 harg4 arg5 harg5 arg6 harg6 arg7 harg7 arg8 harg8 arg9 harg9 x2 x3 x4 x5 x6 x7 (ix2 r l) = (∑ q ∈ Finset.range 4224, valTerm x2 x3 x5 x6 0 (i 1).val r l q) + ∑ q ∈ Finset.range 4224, valTerm x2 x3 x5 x6 1 (i 1).val r l q := by
  unfold out9
  rw [View.read_writes_eq_canon _ _ _ (cover9 c i arg2 harg2 arg3 harg3 arg4 harg4 arg5 harg5 arg6 harg6 arg7 harg7 arg8 harg8 arg9 harg9 x2 x3 x4 x5 x6 x7)]
  unfold pieces9
  split
  · rename_i hc
    obtain ⟨w, w', -, h9⟩ := wide_pieces c i arg2 harg2 arg3 harg3 arg4 harg4 arg5 harg5 arg6 harg6 arg7 harg7 arg8 harg8 arg9 harg9 x2 x3 x4 x5 x6 x7 hc
    obtain ⟨-, h2, -, h4⟩ := ends_all c i arg2 harg2 arg3 harg3 arg4 harg4 arg5 harg5 arg6 harg6 arg7 harg7 arg8 harg8 arg9 harg9 x2 x3 x4 x5 x6 x7 w w' _ 768 (restart_wide _ ((wide_iff i).mp hc)) (by omega) (held_wide i x2 x3 x4 x5 x6 x7 hc) r l
    rw [h9, View.canon_unit_zero zeros2, pay13_at, h2, h4]
  · rename_i hc
    obtain ⟨w, w', -, h9⟩ := narrow_pieces c i arg2 harg2 arg3 harg3 arg4 harg4 arg5 harg5 arg6 harg6 arg7 harg7 arg8 harg8 arg9 harg9 x2 x3 x4 x5 x6 x7 hc
    obtain ⟨-, h2, -, h4⟩ := ends_all c i arg2 harg2 arg3 harg3 arg4 harg4 arg5 harg5 arg6 harg6 arg7 harg7 arg8 harg8 arg9 harg9 x2 x3 x4 x5 x6 x7 w w' _ 384 (restart_narrow _ ((wide_iff i).not.mp hc)) (by omega) (held_narrow i x2 x3 x4 x5 x6 x7 hc) r l
    rw [h9, View.canon_unit_zero zeros2, pay13_at, h2, h4]

end sums

end Cert.AttnKvKernelIdeal.Hand

end
-- ==== Proof.AttnKvHost.lean ====
/- The values of the attention backward pass for the keys and values: the arrays the host prepares. -/
module

public import proofs.«01_k».proof.Proof.AttnKvFrame
public import proofs.«01_k».proof.Proof.AttnQHost

@[expose] public section

set_option maxRecDepth 16384

noncomputable section

namespace Cert.AttnKvKernelIdeal.Hand

open Idealize.ShloMosaic Idealize.ShloMosaic.TcCoe Idealize.ShloMosaic.Tactic
open Cert.AttnKvKernelIdeal Cert.AttnKvKernelIdeal.Gen
open Cert.AttnQKernelIdeal.Hand (padHeads padRows scores rowMax expScores rowTotal output outputOf)

/-- A row of numbers per head, whole row tiles, one row. -/
def padRow (x : FVec Ideal S8x4112 .f32) : FVec Ideal S8x1x4224 .f32 :=
  shapeCast S8x1x4224 (concatenate S8x4224 1 [⟨S8x4112, x⟩,
    ⟨S8x112, broadcastInDim S8x112 ![] bcast_S_S8x112 (constant (F := Ideal) S_ .f32 0x00000000#32)⟩] concatenates_S8x4112_S8x112_S8x4224_d1) shapeCasts_S8x4224_S8x1x4224

/-- The row's log-sum to base two. -/
def logSum (mx l : FVec Ideal S8x4112x1 .f32) : FVec Ideal S8x4112 .f32 :=
  shapeCast S8x4112
      (Host.divf (addf mx (Host.log l)) (broadcastInDim S8x4112x1 ![] bcast_S_S8x4112x1 (Host.log (constant (F := Ideal) S_ .f32 0x40000000#32))))
      shapeCasts_S8x4112x1_S8x4112

/-- The row's sum of the cotangent times the output. -/
def rowSums (dy y : FVec Ideal S4112x8x64 .f32) : FVec Ideal S8x4112 .f32 :=
  transpose S8x4112 [1, 0] (Host.reduceAdd (mulf dy y) (constant (F := Ideal) S_ .f32 0x00000000#32) reducesTo_S4112x8x64_S4112x8_d2 h_S_) transposes_S4112x8_S8x4112_1_0

theorem padRow_at (x : FVec Ideal S8x4112 .f32) (h : Fin 8) (R : Fin 4224) :
    padRow x (ix3 h 0 R) = if hR : R.val < 4112 then x (ix2 h ⟨R.val, hR⟩) else 0 := by
  pointwise [padRow]

theorem logSum_at (mx l : FVec Ideal S8x4112x1 .f32) (h : Fin 8) (R : Fin 4112) :
    logSum mx l (ix2 h R) = Ideal.div (mx (ix3 h R 0) + Ideal.log (l (ix3 h R 0))) (Ideal.log (Ideal.ofBits .f32 0x40000000#32)) := by
  pointwise [logSum]

theorem rowSums_at (dy y : FVec Ideal S4112x8x64 .f32) (h : Fin 8) (R : Fin 4112) :
    rowSums dy y (ix2 h R) = ∑ e : Fin 64, dy (ix3 R h e) * y (ix3 R h e) := by
  pointwise [rowSums]

variable (m : (ℓ : Loc nD τ sig) → Buf (Elt Ideal) ℓ) (c : Dev nD)

theorem V_q : (V m c main_v39 : FVec Ideal S8x4224x128 .bf16) = padHeads (m ((c : Thread nD τ).loc main_arg0)) := by
  show StableHlo.after (List.flatten [hostOps0, hostOps0_1, hostOps0_2]) _ (Proc.devRef .tc main_v39) = _
  simp only [hostOps0, hostOps0_1, hostOps0_2, List.flatten_cons, List.flatten_nil, List.append_nil, List.cons_append, List.nil_append]
  after_results
  rfl

theorem V_k : (V m c main_v45 : FVec Ideal S8x4224x128 .bf16) = padHeads (m ((c : Thread nD τ).loc main_arg1)) := by
  show StableHlo.after (List.flatten [hostOps0, hostOps0_1, hostOps0_2]) _ (Proc.devRef .tc main_v45) = _
  simp only [hostOps0, hostOps0_1, hostOps0_2, List.flatten_cons, List.flatten_nil, List.append_nil, List.cons_append, List.nil_append]
  after_results
  rfl

theorem V_v : V m c main_v49 = (truncf (F := Ideal) (φ := .f32) .bf16 (padRows (m ((c : Thread nD τ).loc main_arg2))) bitsLt_bf16_f32 : FVec Ideal S4224x512 .bf16) := by
  show StableHlo.after (List.flatten [hostOps0, hostOps0_1, hostOps0_2]) _ (Proc.devRef .tc main_v49) = _
  simp only [hostOps0, hostOps0_1, hostOps0_2, List.flatten_cons, List.flatten_nil, List.append_nil, List.cons_append, List.nil_append]
  after_results
  rfl

theorem V_dy : (V m c main_v52 : FVec Ideal S4224x512 .f32) = padRows (m ((c : Thread nD τ).loc main_arg3)) := by
  show StableHlo.after (List.flatten [hostOps0, hostOps0_1, hostOps0_2]) _ (Proc.devRef .tc main_v52) = _
  simp only [hostOps0, hostOps0_1, hostOps0_2, List.flatten_cons, List.flatten_nil, List.append_nil, List.cons_append, List.nil_append]
  after_results
  rfl

/-- The buffers once the masked scores stand. -/
def mid : Valuation τ sig (Elt Ideal) :=
  StableHlo.after hostOps0_1 (StableHlo.after hostOps0 fun b => m (c, b))

theorem V_mid (b : Ref sig .tc) : V m c b = StableHlo.after hostOps0_2 (mid m c) (Proc.devRef .tc b) := by
  unfold V mid
  simp only [List.flatten_cons, List.flatten_nil, StableHlo.after_append, StableHlo.after_nil]

theorem mid_scores : (mid m c (Proc.devRef .tc main_v9) : FVec Ideal S8x4112x4112 .f32) =
    scores (m ((c : Thread nD τ).loc main_arg0)) (m ((c : Thread nD τ).loc main_arg1)) := by
  show StableHlo.after hostOps0_1 (StableHlo.after hostOps0 fun b => m (c, b)) (Proc.devRef .tc main_v9) = _
  simp only [hostOps0, hostOps0_1]
  after_results
  unfold scores
  rfl

theorem mid_v : mid m c (Proc.devRef .tc main_arg2) = m ((c : Thread nD τ).loc main_arg2) := by
  show StableHlo.after hostOps0_1 (StableHlo.after hostOps0 fun b => m (c, b)) (Proc.devRef .tc main_arg2) = _
  simp only [hostOps0, hostOps0_1]
  after_results

theorem mid_dy : mid m c (Proc.devRef .tc main_arg3) = m ((c : Thread nD τ).loc main_arg3) := by
  show StableHlo.after hostOps0_1 (StableHlo.after hostOps0 fun b => m (c, b)) (Proc.devRef .tc main_arg3) = _
  simp only [hostOps0, hostOps0_1]
  after_results

/-- What the host makes of the scores: the row's log-sum. -/
def logSumOf (s : FVec Ideal S8x4112x4112 .f32) : FVec Ideal S8x1x4224 .f32 :=
  padRow (logSum (rowMax s) (rowTotal (expScores s (rowMax s))))

/-- What the host makes of the scores, the values and the cotangent: the row's sum of the cotangent times the output. -/
def deltaOf (s : FVec Ideal S8x4112x4112 .f32) (v dy : FVec Ideal S4112x8x64 .f32) : FVec Ideal S8x1x4224 .f32 :=
  padRow (rowSums dy (outputOf s v))

theorem after_lse (F : Valuation τ sig (Elt Ideal)) :
    (StableHlo.after hostOps0_2 F (Proc.devRef .tc main_v53) : FVec Ideal S8x1x4224 .f32)
      = logSumOf (F (Proc.devRef .tc main_v9)) := by
  simp only [hostOps0_2]
  after_results
  unfold logSumOf padRow logSum expScores rowMax rowTotal
  rfl

theorem after_delta (F : Valuation τ sig (Elt Ideal)) :
    (StableHlo.after hostOps0_2 F (Proc.devRef .tc main_v54) : FVec Ideal S8x1x4224 .f32)
      = deltaOf (F (Proc.devRef .tc main_v9)) (F (Proc.devRef .tc main_arg2)) (F (Proc.devRef .tc main_arg3)) := by
  simp only [hostOps0_2]
  after_results
  unfold deltaOf padRow rowSums outputOf output expScores rowMax rowTotal
  rfl

theorem V_lse : (V m c main_v53 : FVec Ideal S8x1x4224 .f32) = logSumOf
    (scores (m ((c : Thread nD τ).loc main_arg0)) (m ((c : Thread nD τ).loc main_arg1))) :=
  ((V_mid m c main_v53).trans (after_lse (mid m c))).trans (congrArg logSumOf (mid_scores m c))

theorem V_delta : (V m c main_v54 : FVec Ideal S8x1x4224 .f32) = deltaOf
    (scores (m ((c : Thread nD τ).loc main_arg0)) (m ((c : Thread nD τ).loc main_arg1))) (m ((c : Thread nD τ).loc main_arg2)) (m ((c : Thread nD τ).loc main_arg3)) :=
  ((V_mid m c main_v54).trans (after_delta (mid m c))).trans
    (congr (congr (congrArg deltaOf (mid_scores m c)) (mid_v m c)) (mid_dy m c))

end Cert.AttnKvKernelIdeal.Hand

end
-- ==== Proof.AttnKvArr.lean ====
/- The values of the attention backward pass for the keys and values: the result arrays, block by block. -/
module

public import proofs.«01_k».proof.Proof.AttnKvSum
public import proofs.«01_k».proof.Proof.AttnKvHost

@[expose] public section

set_option maxRecDepth 16384

noncomputable section

namespace Cert.AttnKvKernelIdeal.Hand

open Idealize.ShloMosaic Idealize.ShloMosaic.TcCoe Idealize.ShloMosaic.Tactic
open Cert.AttnKvKernelIdeal Cert.AttnKvKernelIdeal.Gen

theorem coord1 (t : Fin cfg0.N) : ((grid0.coords t) 1).val = t.val % 11 :=
  (by decide +kernel : ∀ t : Fin grid0.N, ((grid0.coords t) 1).val = t.val % 11) t
theorem index0 (t : Fin cfg0.N) : win0_0.index t 0 = t.val / 11 ∧ win0_0.index t 1 = 0 ∧ win0_0.index t 2 = 0 :=
  (by decide +kernel : ∀ t : Fin grid0.N, win0_0.index t 0 = t.val / 11 ∧ win0_0.index t 1 = 0 ∧ win0_0.index t 2 = 0) t
theorem index1 (t : Fin cfg0.N) : win0_1.index t 0 = t.val / 11 ∧ win0_1.index t 1 = t.val % 11 ∧ win0_1.index t 2 = 0 :=
  (by decide +kernel : ∀ t : Fin grid0.N, win0_1.index t 0 = t.val / 11 ∧ win0_1.index t 1 = t.val % 11 ∧ win0_1.index t 2 = 0) t
theorem index2 (t : Fin cfg0.N) : win0_2.index t 0 = t.val % 11 ∧ win0_2.index t 1 = t.val / 11 :=
  (by decide +kernel : ∀ t : Fin grid0.N, win0_2.index t 0 = t.val % 11 ∧ win0_2.index t 1 = t.val / 11) t
theorem index3 (t : Fin cfg0.N) : win0_3.index t 0 = 0 ∧ win0_3.index t 1 = t.val / 11 :=
  (by decide +kernel : ∀ t : Fin grid0.N, win0_3.index t 0 = 0 ∧ win0_3.index t 1 = t.val / 11) t
theorem index4 (t : Fin cfg0.N) : win0_4.index t 0 = t.val / 11 ∧ win0_4.index t 1 = 0 ∧ win0_4.index t 2 = 0 :=
  (by decide +kernel : ∀ t : Fin grid0.N, win0_4.index t 0 = t.val / 11 ∧ win0_4.index t 1 = 0 ∧ win0_4.index t 2 = 0) t
theorem index5 (t : Fin cfg0.N) : win0_5.index t 0 = t.val / 11 ∧ win0_5.index t 1 = 0 ∧ win0_5.index t 2 = 0 :=
  (by decide +kernel : ∀ t : Fin grid0.N, win0_5.index t 0 = t.val / 11 ∧ win0_5.index t 1 = 0 ∧ win0_5.index t 2 = 0) t
theorem index6 (t : Fin cfg0.N) : win0_6.index t 0 = t.val / 11 ∧ win0_6.index t 1 = t.val % 11 ∧ win0_6.index t 2 = 0 :=
  (by decide +kernel : ∀ t : Fin grid0.N, win0_6.index t 0 = t.val / 11 ∧ win0_6.index t 1 = t.val % 11 ∧ win0_6.index t 2 = 0) t
theorem index7 (t : Fin cfg0.N) : win0_7.index t 0 = t.val % 11 ∧ win0_7.index t 1 = t.val / 11 :=
  (by decide +kernel : ∀ t : Fin grid0.N, win0_7.index t 0 = t.val % 11 ∧ win0_7.index t 1 = t.val / 11) t

theorem inj6 (t t' : Fin cfg0.N) (h : (cfg0.win 6).index t = (cfg0.win 6).index t') : t = t' := by
  have a := (congrFun h 0 : win0_6.index t 0 = win0_6.index t' 0)
  have b := (congrFun h 1 : win0_6.index t 1 = win0_6.index t' 1)
  rw [(index6 t).1, (index6 t').1] at a
  rw [(index6 t).2.1, (index6 t').2.1] at b
  apply Fin.ext
  omega

theorem inj7 (t t' : Fin cfg0.N) (h : (cfg0.win 7).index t = (cfg0.win 7).index t') : t = t' := by
  have a := (congrFun h 0 : win0_7.index t 0 = win0_7.index t' 0)
  have b := (congrFun h 1 : win0_7.index t 1 = win0_7.index t' 1)
  rw [(index7 t).1, (index7 t').1] at a
  rw [(index7 t).2, (index7 t').2] at b
  apply Fin.ext
  omega

theorem lt_N (t : Fin cfg0.N) : t.val < 44 := lt_of_lt_of_eq t.isLt N_0

/-- The point whose block holds row `R` of the head pair `p`. -/
abbrev ptOf (p : Fin 4) (R : Fin 4224) : Fin cfg0.N := ⟨p.val * 11 + R.val / 384, by show _ < grid0.N; rw [N_0]; omega⟩

variable (m : (ℓ : Loc nD τ sig) → Buf (Elt Ideal) ℓ) (c : Dev nD)

theorem iblk0_apply (t : Fin cfg0.N) (a : Fin 2) (r : Fin 4224) (l : Fin 128) :
    (iblk m c 0 t : Vec Ideal S2x4224x128 .bf16) (ix3 a r l)
      = (V m c main_v39 : Vec Ideal S8x4224x128 .bf16) (ix3 ⟨t.val / 11 * 2 + a.val, by have := lt_N t; omega⟩ r l) := by
  unfold iblk
  rw [View.read_apply]
  show V m c main_v39 _ = V m c main_v39 _
  congr 1
  funext b
  apply Fin.ext
  match b with
  | ⟨0, _⟩ => show win0_0.index t 0 * 2 + 1 * a.val = t.val / 11 * 2 + a.val; rw [(index0 t).1]; omega
  | ⟨1, _⟩ => show win0_0.index t 1 * 4224 + 1 * r.val = r.val; rw [(index0 t).2.1]; omega
  | ⟨2, _⟩ => show win0_0.index t 2 * 128 + 1 * l.val = l.val; rw [(index0 t).2.2]; omega

theorem iblk1_apply (t : Fin cfg0.N) (a : Fin 2) (r : Fin 384) (l : Fin 128) :
    (iblk m c 1 t : Vec Ideal S2x384x128 .bf16) (ix3 a r l)
      = (V m c main_v45 : Vec Ideal S8x4224x128 .bf16) (ix3 ⟨t.val / 11 * 2 + a.val, by have := lt_N t; omega⟩ ⟨t.val % 11 * 384 + r.val, by omega⟩ l) := by
  unfold iblk
  rw [View.read_apply]
  show V m c main_v45 _ = V m c main_v45 _
  congr 1
  funext b
  apply Fin.ext
  match b with
  | ⟨0, _⟩ => show win0_1.index t 0 * 2 + 1 * a.val = t.val / 11 * 2 + a.val; rw [(index1 t).1]; omega
  | ⟨1, _⟩ => show win0_1.index t 1 * 384 + 1 * r.val = t.val % 11 * 384 + r.val; rw [(index1 t).2.1]; omega
  | ⟨2, _⟩ => show win0_1.index t 2 * 128 + 1 * l.val = l.val; rw [(index1 t).2.2]; omega

theorem iblk2_apply (t : Fin cfg0.N) (r : Fin 384) (l : Fin 128) :
    (iblk m c 2 t : Vec Ideal S384x128 .bf16) (ix2 r l)
      = (V m c main_v49 : Vec Ideal S4224x512 .bf16) (ix2 ⟨t.val % 11 * 384 + r.val, by omega⟩ ⟨t.val / 11 * 128 + l.val, by have := lt_N t; omega⟩) := by
  unfold iblk
  rw [View.read_apply]
  show V m c main_v49 _ = V m c main_v49 _
  congr 1
  funext b
  apply Fin.ext
  match b with
  | ⟨0, _⟩ => show win0_2.index t 0 * 384 + 1 * r.val = t.val % 11 * 384 + r.val; rw [(index2 t).1]; omega
  | ⟨1, _⟩ => show win0_2.index t 1 * 128 + 1 * l.val = t.val / 11 * 128 + l.val; rw [(index2 t).2]; omega

theorem iblk3_apply (t : Fin cfg0.N) (r : Fin 4224) (l : Fin 128) :
    (iblk m c 3 t : Vec Ideal S4224x128 .f32) (ix2 r l)
      = (V m c main_v52 : Vec Ideal S4224x512 .f32) (ix2 r ⟨t.val / 11 * 128 + l.val, by have := lt_N t; omega⟩) := by
  unfold iblk
  rw [View.read_apply]
  show V m c main_v52 _ = V m c main_v52 _
  congr 1
  funext b
  apply Fin.ext
  match b with
  | ⟨0, _⟩ => show win0_3.index t 0 * 4224 + 1 * r.val = r.val; rw [(index3 t).1]; omega
  | ⟨1, _⟩ => show win0_3.index t 1 * 128 + 1 * l.val = t.val / 11 * 128 + l.val; rw [(index3 t).2]; omega

theorem iblk4_apply (t : Fin cfg0.N) (a : Fin 2) (r : Fin 4224) :
    (iblk m c 4 t : Vec Ideal S2x1x4224 .f32) (ix3 a 0 r)
      = (V m c main_v53 : Vec Ideal S8x1x4224 .f32) (ix3 ⟨t.val / 11 * 2 + a.val, by have := lt_N t; omega⟩ 0 r) := by
  unfold iblk
  rw [View.read_apply]
  show V m c main_v53 _ = V m c main_v53 _
  congr 1
  funext b
  apply Fin.ext
  match b with
  | ⟨0, _⟩ => show win0_4.index t 0 * 2 + 1 * a.val = t.val / 11 * 2 + a.val; rw [(index4 t).1]; omega
  | ⟨1, _⟩ => show win0_4.index t 1 * 1 + 1 * 0 = 0; rw [(index4 t).2.1]
  | ⟨2, _⟩ => show win0_4.index t 2 * 4224 + 1 * r.val = r.val; rw [(index4 t).2.2]; omega

theorem iblk5_apply (t : Fin cfg0.N) (a : Fin 2) (r : Fin 4224) :
    (iblk m c 5 t : Vec Ideal S2x1x4224 .f32) (ix3 a 0 r)
      = (V m c main_v54 : Vec Ideal S8x1x4224 .f32) (ix3 ⟨t.val / 11 * 2 + a.val, by have := lt_N t; omega⟩ 0 r) := by
  unfold iblk
  rw [View.read_apply]
  show V m c main_v54 _ = V m c main_v54 _
  congr 1
  funext b
  apply Fin.ext
  match b with
  | ⟨0, _⟩ => show win0_5.index t 0 * 2 + 1 * a.val = t.val / 11 * 2 + a.val; rw [(index5 t).1]; omega
  | ⟨1, _⟩ => show win0_5.index t 1 * 1 + 1 * 0 = 0; rw [(index5 t).2.1]
  | ⟨2, _⟩ => show win0_5.index t 2 * 4224 + 1 * r.val = r.val; rw [(index5 t).2.2]; omega

/-- The gradient of the keys: row `R` of head `h` is what the point that holds it stores. -/
theorem final6 (h : Fin 8) (p : Fin 4) (hp : p.val = h.val / 2) (R : Fin 4224) (l : Fin 128) :
    ((dats m 0 c).arrAt 6 cfg0.N : Vec Ideal S8x4224x128 .f32) (ix3 h R l)
      = at8 m c (ptOf p R) (ix3 ⟨h.val % 2, by omega⟩ ⟨R.val % 384, by omega⟩ l) := by
  have g := (dats m 0 c).arrAt_emb_eq_flushed 6 (fun t t' _ _ hne => (cfg0.win 6).disjoint_blk fun e => hne (inj6 t t' e)) (ptOf p R) (flush0_6 _)
    (ix3 ⟨h.val % 2, by omega⟩ ⟨R.val % 384, by omega⟩ l : S2x384x128.Idx)
  have e : ((cfg0.win 6).blk (ptOf p R)).view.emb (ix3 ⟨h.val % 2, by omega⟩ ⟨R.val % 384, by omega⟩ l : S2x384x128.Idx) = (ix3 h R l : S8x4224x128.Idx) := by
    funext b
    apply Fin.ext
    match b with
    | ⟨0, _⟩ => show win0_6.index (ptOf p R) 0 * 2 + 1 * (h.val % 2) = h.val; rw [(index6 _).1]; dsimp only; omega
    | ⟨1, _⟩ => show win0_6.index (ptOf p R) 1 * 384 + 1 * (R.val % 384) = R.val; rw [(index6 _).2.1]; dsimp only; omega
    | ⟨2, _⟩ => show win0_6.index (ptOf p R) 2 * 128 + 1 * l.val = l.val; rw [(index6 _).2.2]; omega
  rw [e] at g
  refine g.trans ?_
  show (cfg0.win 6).cut (grid0.coords (ptOf p R)) ((dats m 0 c).after 6 (ptOf p R)) _ = _
  rw [after6]
  rfl

/-- The gradient of the values: row `R` of a column is what the point that holds it stores. -/
theorem final7 (R : Fin 4224) (C : Fin 512) (p : Fin 4) (hp : p.val = C.val / 128) :
    ((dats m 0 c).arrAt 7 cfg0.N : Vec Ideal S4224x512 .f32) (ix2 R C)
      = at9 m c (ptOf p R) (ix2 ⟨R.val % 384, by omega⟩ ⟨C.val % 128, by omega⟩) := by
  have g := (dats m 0 c).arrAt_emb_eq_flushed 7 (fun t t' _ _ hne => (cfg0.win 7).disjoint_blk fun e => hne (inj7 t t' e)) (ptOf p R) (flush0_7 _)
    (ix2 ⟨R.val % 384, by omega⟩ ⟨C.val % 128, by omega⟩ : S384x128.Idx)
  have e : ((cfg0.win 7).blk (ptOf p R)).view.emb (ix2 ⟨R.val % 384, by omega⟩ ⟨C.val % 128, by omega⟩ : S384x128.Idx) = (ix2 R C : S4224x512.Idx) := by
    funext b
    apply Fin.ext
    match b with
    | ⟨0, _⟩ => show win0_7.index (ptOf p R) 0 * 384 + 1 * (R.val % 384) = R.val; rw [(index7 _).1]; dsimp only; omega
    | ⟨1, _⟩ => show win0_7.index (ptOf p R) 1 * 128 + 1 * (C.val % 128) = C.val; rw [(index7 _).2]; dsimp only; omega
  rw [e] at g
  refine g.trans ?_
  show (cfg0.win 7).cut (grid0.coords (ptOf p R)) ((dats m 0 c).after 7 (ptOf p R)) _ = _
  rw [after7]
  rfl

end Cert.AttnKvKernelIdeal.Hand

end
-- ==== Proof.AttnKvRef.lean ====
/- The attention's gradient for the keys and values: the plain mathematics, entry by entry. -/
module

public import proofs.«01_k».proof.Proof.Gen.AttnKvRefIdeal.Run
public import proofs.«01_k».proof.Proof.Gen.AttnKvRefIdeal.Read
public import proofs.«01_k».proof.Proof.AttnQRef

@[expose] public section

set_option maxRecDepth 16384

noncomputable section

namespace Cert.AttnKvRefIdeal.Hand

open Idealize.ShloMosaic Idealize.ShloMosaic.TcCoe Idealize.ShloMosaic.Tactic
open Cert.AttnKvRefIdeal Cert.AttnKvRefIdeal.Gen Cert.AttnKvRefIdeal.Read
open Cert.AttnQRefIdeal.Hand (rowMax_of neg_infinity)

variable (q k : FVec Ideal S4112x8x96 .f32) (v dy : FVec Ideal S4112x8x64 .f32)

/-- The causal scores. -/
def scores : FVec Ideal S8x4112x4112 .f32 := val_main_v9_0 (F := Ideal) q k
/-- Each row's largest score. -/
def rowMax : FVec Ideal S8x4112 .f32 := val_main_v17 (F := Ideal) q k
/-- The exponentials below the row's largest score. -/
def expScores : FVec Ideal S8x4112x4112 .f32 := val_main_v30 (F := Ideal) q k
/-- Each row's sum of exponentials. -/
def rowTotal : FVec Ideal S8x4112 .f32 := val_main_v31 (F := Ideal) q k
/-- The products of the output's cotangent with the values. -/
def dProbs : FVec Ideal S8x4112x4112 .f32 := val_main_v41 (F := Ideal) v dy
/-- The scores' cotangent before the mask. -/
def dScores : FVec Ideal S8x4112x4112 .f32 := val_main_v55 (F := Ideal) q k v dy
/-- The gradient of the keys. -/
def dKeys : FVec Ideal S4112x8x96 .f32 := val_main_v60 (F := Ideal) q k v dy
/-- The gradient of the values. -/
def dValues : FVec Ideal S4112x8x64 .f32 := val_main_v43 (F := Ideal) q k dy

theorem scores_at (h : Fin 8) (R j : Fin 4112) :
    scores q k (ix3 h R j) = if j.val ≤ R.val then (∑ d : Fin 96, q (ix3 R h d) * k (ix3 j h d)) * Ideal.ofBits .f32 0x3DD105EC#32 else ⊥ := by
  pointwise [scores, val_main_v9_0, val_main_v9_1, val_main_v8, val_main_v7, val_main_v6, val_main_v5, val_main_v4, val_main_v3, val_main_v2, val_main_v1, val_main_cst, val_main_v0, val_main_call0_v2, val_main_call0_v0, val_main_cst_0]
  rw [WordCmp.cmpi_sle_ofNat (by omega) (by omega)]
  unfold Scalar.select
  by_cases hj : j.val ≤ R.val
  · simp [hj]
  · simp only [hj, decide_false, BitVec.ofBool_false, if_false]
    exact neg_infinity

theorem rowMax_at (h : Fin 8) (R : Fin 4112) :
    rowMax q k (ix2 h R) = Finset.univ.sup fun j : Fin 4112 => scores q k (ix3 h R j) := by
  unfold rowMax val_main_v17 val_main_v16 val_main_v10 val_main_cst_3 val_main_cst_1
  exact rowMax_of (scores q k) h R

theorem expScores_at (h : Fin 8) (R j : Fin 4112) :
    expScores q k (ix3 h R j) = Ideal.exp (scores q k (ix3 h R j) - rowMax q k (ix2 h R)) := by
  pointwise [expScores, val_main_v30, val_main_v29, val_main_v28, val_main_v27]
  rfl

theorem rowTotal_at (h : Fin 8) (R : Fin 4112) :
    rowTotal q k (ix2 h R) = ∑ j : Fin 4112, expScores q k (ix3 h R j) := by
  pointwise [rowTotal, val_main_v31, val_main_cst_9]
  rfl

theorem dProbs_at (h : Fin 8) (R j : Fin 4112) :
    dProbs v dy (ix3 h R j) = ∑ d : Fin 64, dy (ix3 R h d) * v (ix3 j h d) := by
  pointwise [dProbs, val_main_v41, val_main_v40]

theorem dScores_at (h : Fin 8) (R j : Fin 4112) :
    dScores q k v dy (ix3 h R j) = (Ideal.div (dProbs v dy (ix3 h R j)) (rowTotal q k (ix2 h R))
      + -(∑ i : Fin 4112, dProbs v dy (ix3 h R i) * Ideal.div (Ideal.ofBits .f32 0x3F800000#32) (rowTotal q k (ix2 h R) * rowTotal q k (ix2 h R)) * expScores q k (ix3 h R i)))
      * expScores q k (ix3 h R j) := by
  pointwise [dScores, val_main_v55, val_main_v54, val_main_v53, val_main_v52, val_main_v51, val_main_v50, val_main_v49, val_main_v48, val_main_v47, val_main_v46, val_main_v45, val_main_v44, val_main_v37, val_main_v36, val_main_v35, val_main_v32, val_main_cst_10, val_main_cst_11, val_main_cst_12]
  simp only [Finset.univ_unique, Finset.sum_singleton]
  unfold dProbs rowTotal expScores
  exact Eq.refl _

theorem dValues_at (h : Fin 8) (j : Fin 4112) (d : Fin 64) :
    dValues q k dy (ix3 j h d) = ∑ R : Fin 4112, dy (ix3 R h d) * Ideal.div (expScores q k (ix3 h R j)) (rowTotal q k (ix2 h R)) := by
  pointwise [dValues, val_main_v43, val_main_v42, val_main_v40, val_main_v34, val_main_v33, val_main_v32]
  rfl

theorem dKeys_at (h : Fin 8) (j : Fin 4112) (d : Fin 96) :
    dKeys q k v dy (ix3 j h d) = ∑ R : Fin 4112, (if j.val ≤ R.val then dScores q k v dy (ix3 h R j) else 0) * Ideal.ofBits .f32 0x3DD105EC#32 * q (ix3 R h d) := by
  pointwise [dKeys, val_main_v60, val_main_v59, val_main_v58, val_main_v57, val_main_cst_13, val_main_v56, val_main_call1_v0, val_main_call1_cst, val_main_v9_1, val_main_v8, val_main_v7, val_main_v6, val_main_v5, val_main_v4, val_main_v3]
  refine Finset.sum_congr rfl fun R _ => ?_
  rw [WordCmp.cmpi_sle_ofNat (by omega) (by omega)]
  unfold Scalar.select dScores
  by_cases hj : j.val ≤ R.val
  · simp [hj]
  · simp [hj]

theorem result0_at (h : Fin 8) (R : Fin 4224) (l : Fin 128) :
    (val_main_v65 (F := Ideal) q k v dy : FVec Ideal S8x4224x128 .f32) (ix3 h R l)
      = if hR : R.val < 4112 then (if hl : l.val < 96 then dKeys q k v dy (ix3 ⟨R.val, hR⟩ h ⟨l.val, hl⟩) else 0) else 0 := by
  pointwise [val_main_v65, val_main_v64, val_main_v63, val_main_v62, val_main_v61, val_main_cst_14, val_main_cst_15]
  rfl

theorem result1_at (R : Fin 4224) (C : Fin 512) :
    (val_main_v68 (F := Ideal) q k dy : FVec Ideal S4224x512 .f32) (ix2 R C)
      = if hR : R.val < 4112 then dValues q k dy (ix3 ⟨R.val, hR⟩ ⟨C.val / 64, by omega⟩ ⟨C.val % 64, by omega⟩) else 0 := by
  pointwise [val_main_v68, val_main_v67, val_main_v66, val_main_cst_16]
  rfl

end Cert.AttnKvRefIdeal.Hand

end
-- ==== Proof.AttnKvValue.lean ====
/- The attention backward pass for the keys and values: the kernel's two arrays are the reference's. -/
module

public import proofs.«01_k».proof.Proof.AttnKvArr
public import proofs.«01_k».proof.Proof.AttnKvRef
public import proofs.«01_k».proof.Proof.AttnQValue

@[expose] public section

set_option maxRecDepth 16384

noncomputable section

namespace Cert.AttnKvKernelIdeal.Hand

open Idealize.ShloMosaic Idealize.ShloMosaic.TcCoe Idealize.ShloMosaic.Tactic
open Cert.AttnKvKernelIdeal Cert.AttnKvKernelIdeal.Gen
open Cert.AttnQKernelIdeal.Hand (padHeads padHeads_at padRows padRows_at scores rowMax expScores rowTotal output outputOf part part_fin
  col padRows_head padRows_pad dot_heads sum_lanes sum_keys mul_of_zero fin96 fin64 dots scaled cots mean dots_coe cots_coe
  rowMax_fin total_fin output_fin mean_coe lit_scale lit_two fin_q fin_k fin_v fin_dy)
open Cert.Softmax (coe_sum coe_ite)

/-- The scale to base two, as the queries' program names it. -/
theorem c2_same : c2 = Cert.AttnQKernelIdeal.Hand.c2 :=
  (IdealRules.named_const.ideal_named_scalar _ _ _ _ rfl : c2 = (((3424635 / 33554432) * (Real.log 2)⁻¹ : ℝ) : EReal)).trans Cert.AttnQKernelIdeal.Hand.c2_eq.symm

/-! ## The block of a point, in the arguments -/

section block
variable (q k : S4112x8x96.Idx → ℝ) (v dy : S4112x8x64.Idx → ℝ)
variable (x2 : Vec Ideal S2x4224x128 .bf16) (x3 : Vec Ideal S2x384x128 .bf16) (x4 : Vec Ideal S384x128 .bf16) (x5 : Vec Ideal S4224x128 .f32) (x6 x7 : Vec Ideal S2x1x4224 .f32)
variable (h : Fin 8) (J : Fin 4224) (a : Fin 2) (j : ℕ) (r : Fin 384)

/-- A point's input blocks are the padded arrays' for key `J` of head `h`. -/
structure Block : Prop where
  ha : a.val = h.val % 2
  hJ : j * 384 + r.val = J.val
  h2 : ∀ row d, x2 (ix3 a row d) = padHeads (fin96 q) (ix3 h row d)
  h3 : ∀ d, x3 (ix3 a r d) = padHeads (fin96 k) (ix3 h J d)
  h4 : ∀ d, x4 (ix2 r d) = padRows (fin64 v) (ix2 J (col h d))
  h5 : ∀ row d, x5 (ix2 row d) = padRows (fin64 dy) (ix2 row (col h d))
  h6 : ∀ row, x6 (ix3 a 0 row) = logSumOf (scores (fin96 q) (fin96 k)) (ix3 h 0 row)
  h7 : ∀ row, x7 (ix3 a 0 row) = deltaOf (scores (fin96 q) (fin96 k)) (fin64 v) (fin64 dy) (ix3 h 0 row)

variable (B : Block q k v dy x2 x3 x4 x5 x6 x7 h J a j r)
include B

theorem score_in (R : Fin 4224) (hR : R.val < 4112) (hJ : J.val < 4112) :
    score x2 x3 a r R = (dots q k h ⟨R.val, hR⟩ ⟨J.val, hJ⟩ : EReal) * Cert.AttnQKernelIdeal.Hand.c2 := by
  unfold score
  rw [c2_same]
  refine congrArg (fun z => z * Cert.AttnQKernelIdeal.Hand.c2) (Eq.trans ?_ (dots_coe q k h ⟨R.val, hR⟩ ⟨J.val, hJ⟩))
  refine Eq.trans (Finset.sum_congr rfl fun d _ => ?_) (dot_heads (fin96 q) (fin96 k) h R J hR hJ)
  rw [B.h2, B.h3, mul_comm]

theorem cot_in (R : Fin 4224) (hR : R.val < 4112) (hJ : J.val < 4112) :
    cot x4 x5 a r R = (cots v dy h ⟨R.val, hR⟩ ⟨J.val, hJ⟩ : EReal) := by
  unfold cot own
  refine Eq.trans ?_ (cots_coe v dy h ⟨R.val, hR⟩ ⟨J.val, hJ⟩)
  refine (Finset.sum_congr rfl fun d _ => (?_ : _ = if d.val / 64 = a.val then padRows (fin64 dy) (ix2 R (col h d)) * padRows (fin64 v) (ix2 J (col h d)) else 0)).trans ?_
  · rw [B.h4, B.h5, mul_ite, mul_zero, mul_comm]
  · rw [B.ha]
    exact Cert.AttnQKernelIdeal.Hand.dot_rows (fin64 dy) (fin64 v) h R J hR hJ

theorem lse_in (R : Fin 4224) (hR : R.val < 4112) :
    x6 (ix3 a 0 R) = (((Softmax.top ⟨R.val, hR⟩ (scaled q k h ⟨R.val, hR⟩) + Real.log (Softmax.total ⟨R.val, hR⟩ (scaled q k h ⟨R.val, hR⟩))) / Real.log 2 : ℝ) : EReal) := by
  rw [B.h6]
  unfold logSumOf
  rw [padRow_at]
  refine (dif_pos hR).trans ?_
  rw [logSum_at, rowMax_fin, total_fin, lit_two, Softmax.logSum]

theorem delta_in (R : Fin 4224) (hR : R.val < 4112) : x7 (ix3 a 0 R) = (mean q k v dy h ⟨R.val, hR⟩ : EReal) := by
  rw [B.h7]
  unfold deltaOf
  rw [padRow_at]
  refine (dif_pos hR).trans ?_
  rw [rowSums_at]
  exact mean_coe q k v dy h ⟨R.val, hR⟩ _ (output_fin q k v h ⟨R.val, hR⟩)

/-- A query's term of a key's gradient. -/
theorem keyTerm_in (R : Fin 4112) (hJ : J.val < 4112) (l : Fin 128) (hl : l.val < 96) :
    keyTerm x2 x3 x4 x5 x6 x7 a j r l R.val
      = (((if J.val ≤ R.val then Softmax.prob R (scaled q k h R) ⟨J.val, hJ⟩ * (cots v dy h R ⟨J.val, hJ⟩ - mean q k v dy h R) else 0) * q (ix3 R h ⟨l.val, hl⟩) : ℝ) : EReal) := by
  have hR4 : R.val < 4224 := by omega
  unfold keyTerm
  refine (dif_pos hR4).trans ?_
  by_cases hle : J.val ≤ R.val
  · rw [if_pos (by rw [B.hJ]; exact hle), if_pos hle, score_in q k v dy x2 x3 x4 x5 x6 x7 h J a j r B ⟨R.val, hR4⟩ R.isLt hJ,
      cot_in q k v dy x2 x3 x4 x5 x6 x7 h J a j r B ⟨R.val, hR4⟩ R.isLt hJ, lse_in q k v dy x2 x3 x4 x5 x6 x7 h J a j r B ⟨R.val, hR4⟩ R.isLt,
      delta_in q k v dy x2 x3 x4 x5 x6 x7 h J a j r B ⟨R.val, hR4⟩ R.isLt, part_fin q k v dy h R ⟨J.val, hJ⟩ hle, B.h2, padHeads_at]
    refine Eq.trans (Cert.AttnQKernelIdeal.Hand.mul_of_eq ?_) (EReal.coe_mul _ _).symm
    exact (dif_pos R.isLt).trans (dif_pos hl)
  · rw [if_neg (by rw [B.hJ]; exact hle), if_neg hle, zero_mul]
    rfl

/-- Padding queries add nothing to a key's gradient. -/
theorem keyTerm_pad (R : ℕ) (hR : 4112 ≤ R) (l : Fin 128) : keyTerm x2 x3 x4 x5 x6 x7 a j r l R = 0 := by
  unfold keyTerm
  by_cases h4 : R < 4224
  · refine (dif_pos h4).trans ?_
    split
    · rw [B.h2, padHeads_at]
      exact mul_of_zero (dif_neg (Nat.not_lt.mpr hR))
    · rfl
  · exact dif_neg h4

/-- The padding lanes of a key's gradient are zero. -/
theorem keyTerm_lane (R : ℕ) (l : Fin 128) (hl : ¬l.val < 96) : keyTerm x2 x3 x4 x5 x6 x7 a j r l R = 0 := by
  unfold keyTerm
  by_cases h4 : R < 4224
  · refine (dif_pos h4).trans ?_
    split
    · rw [B.h2, padHeads_at]
      refine mul_of_zero ?_
      split
      · first | rfl | exact dif_neg hl
      · rfl
    · rfl
  · exact dif_neg h4

/-- A padding key's gradient is zero. -/
theorem keyTerm_out (hJ : ¬J.val < 4112) (R : ℕ) (l : Fin 128) : keyTerm x2 x3 x4 x5 x6 x7 a j r l R = 0 := by
  by_cases hR : R < 4112
  · unfold keyTerm
    refine (dif_pos (show R < 4224 by omega)).trans (if_neg ?_)
    rw [B.hJ]
    omega
  · exact keyTerm_pad q k v dy x2 x3 x4 x5 x6 x7 h J a j r B R (by omega) l

/-- A query's term of a value's gradient. -/
theorem valTerm_in (R : Fin 4112) (hJ : J.val < 4112) (e : Fin 64) (l : Fin 128) (hl : l.val = h.val % 2 * 64 + e.val) :
    valTerm x2 x3 x5 x6 a j r l R.val
      = ((dy (ix3 R h e) * Softmax.prob R (scaled q k h R) ⟨J.val, hJ⟩ : ℝ) : EReal) := by
  have hR4 : R.val < 4224 := by omega
  have el : l = ⟨h.val % 2 * 64 + e.val, by omega⟩ := Fin.ext hl
  unfold valTerm
  refine (dif_pos hR4).trans ?_
  by_cases hle : J.val ≤ R.val
  · rw [if_pos (by rw [B.hJ]; exact hle), score_in q k v dy x2 x3 x4 x5 x6 x7 h J a j r B ⟨R.val, hR4⟩ R.isLt hJ,
      lse_in q k v dy x2 x3 x4 x5 x6 x7 h J a j r B ⟨R.val, hR4⟩ R.isLt, Cert.AttnQKernelIdeal.Hand.c2_eq,
      Softmax.exp2_score R (scaled q k h R) ⟨J.val, hJ⟩ hle (dots q k h R ⟨J.val, hJ⟩) (3424635 / 33554432) rfl, B.h5, mul_comm, EReal.coe_mul]
    unfold own
    rw [if_pos (by rw [B.ha]; omega), el]
    exact congrArg (fun z => z * _) (padRows_head (fin64 dy) h ⟨R.val, hR4⟩ R.isLt e)
  · rw [if_neg (by rw [B.hJ]; exact hle)]
    unfold Softmax.prob Softmax.expo
    rw [if_neg hle, zero_div, mul_zero]
    rfl

theorem valTerm_pad (R : ℕ) (hR : 4112 ≤ R) (l : Fin 128) : valTerm x2 x3 x5 x6 a j r l R = 0 := by
  unfold valTerm
  by_cases h4 : R < 4224
  · refine (dif_pos h4).trans ?_
    split
    · rw [B.h5, padRows_pad (fin64 dy) ⟨R, h4⟩ (Nat.not_lt.mpr hR)]
      unfold own
      rw [ite_self, mul_zero]
    · rfl
  · exact dif_neg h4

theorem valTerm_out (hJ : ¬J.val < 4112) (R : ℕ) (l : Fin 128) : valTerm x2 x3 x5 x6 a j r l R = 0 := by
  by_cases hR : R < 4112
  · unfold valTerm
    refine (dif_pos (show R < 4224 by omega)).trans (if_neg ?_)
    rw [B.hJ]
    omega
  · exact valTerm_pad q k v dy x2 x3 x4 x5 x6 x7 h J a j r B R (by omega) l

end block

/-- The other head's terms of a lane are zero. -/
theorem valTerm_other (x2 : Vec Ideal S2x4224x128 .bf16) (x3 : Vec Ideal S2x384x128 .bf16) (x5 : Vec Ideal S4224x128 .f32) (x6 : Vec Ideal S2x1x4224 .f32)
    (a : Fin 2) (j : ℕ) (r : Fin 384) (l : Fin 128) (hl : l.val / 64 ≠ a.val) (R : ℕ) : valTerm x2 x3 x5 x6 a j r l R = 0 := by
  unfold valTerm own
  split
  · split
    · first | exact mul_zero _ | rw [if_neg hl, mul_zero]
    · rfl
  · rfl

/-- Both heads' terms of a lane are its own head's. -/
theorem own_terms (x2 : Vec Ideal S2x4224x128 .bf16) (x3 : Vec Ideal S2x384x128 .bf16) (x5 : Vec Ideal S4224x128 .f32) (x6 : Vec Ideal S2x1x4224 .f32)
    (a : Fin 2) (j : ℕ) (r : Fin 384) (l : Fin 128) (hl : l.val / 64 = a.val) :
    (∑ R ∈ Finset.range 4224, valTerm x2 x3 x5 x6 0 j r l R) + ∑ R ∈ Finset.range 4224, valTerm x2 x3 x5 x6 1 j r l R
      = ∑ R ∈ Finset.range 4224, valTerm x2 x3 x5 x6 a j r l R := by
  match a with
  | 0 =>
    refine (congrArg _ (Finset.sum_eq_zero (s := Finset.range 4224) fun R _ => valTerm_other x2 x3 x5 x6 1 j r l (fun e => ?_) R)).trans (add_zero _)
    exact absurd (hl.symm.trans e) (by decide)
  | 1 =>
    refine (congrArg (fun z => z + _) (Finset.sum_eq_zero (s := Finset.range 4224) fun R _ => valTerm_other x2 x3 x5 x6 0 j r l (fun e => ?_) R)).trans (zero_add _)
    exact absurd (hl.symm.trans e) (by decide)

/-! ## Finite arguments -/

section finite
variable (q k : S4112x8x96.Idx → ℝ) (v dy : S4112x8x64.Idx → ℝ)

/-- The gradient of a key's lane. -/
def grad (h : Fin 8) (J : Fin 4112) (l : Fin 96) : ℝ :=
  ∑ R : Fin 4112, (if J.val ≤ R.val then Softmax.prob R (scaled q k h R) J * (cots v dy h R J - mean q k v dy h R) else 0) * (3424635 / 33554432) * q (ix3 R h l)

/-- The gradient of a value's lane. -/
def vgrad (h : Fin 8) (J : Fin 4112) (e : Fin 64) : ℝ := ∑ R : Fin 4112, dy (ix3 R h e) * Softmax.prob R (scaled q k h R) J

theorem ref_scores (h : Fin 8) (R j : Fin 4112) : Cert.AttnKvRefIdeal.Hand.scores (fin96 q) (fin96 k) (ix3 h R j) = Softmax.score R (scaled q k h R) j := by
  rw [Cert.AttnKvRefIdeal.Hand.scores_at, dots_coe, lit_scale, ← EReal.coe_mul]
  rfl

theorem ref_max (h : Fin 8) (R : Fin 4112) : Cert.AttnKvRefIdeal.Hand.rowMax (fin96 q) (fin96 k) (ix2 h R) = Softmax.largest R (scaled q k h R) := by
  rw [Cert.AttnKvRefIdeal.Hand.rowMax_at, funext fun j => ref_scores q k h R j]
  rfl

theorem ref_exp (h : Fin 8) (R j : Fin 4112) : Cert.AttnKvRefIdeal.Hand.expScores (fin96 q) (fin96 k) (ix3 h R j) = (Softmax.expo R (scaled q k h R) j : EReal) := by
  rw [Cert.AttnKvRefIdeal.Hand.expScores_at, ref_scores, ref_max, Softmax.exp_score]

theorem ref_total (h : Fin 8) (R : Fin 4112) : Cert.AttnKvRefIdeal.Hand.rowTotal (fin96 q) (fin96 k) (ix2 h R) = (Softmax.total R (scaled q k h R) : EReal) := by
  rw [Cert.AttnKvRefIdeal.Hand.rowTotal_at, Finset.sum_congr rfl fun j _ => ref_exp q k h R j]
  exact (coe_sum _ _).symm

theorem ref_cots (h : Fin 8) (R j : Fin 4112) : Cert.AttnKvRefIdeal.Hand.dProbs (fin64 v) (fin64 dy) (ix3 h R j) = (cots v dy h R j : EReal) := by
  rw [Cert.AttnKvRefIdeal.Hand.dProbs_at, cots_coe]

/-- The reference's gradient of the keys. -/
theorem ref_grad (h : Fin 8) (J : Fin 4112) (l : Fin 96) :
    Cert.AttnKvRefIdeal.Hand.dKeys (fin96 q) (fin96 k) (fin64 v) (fin64 dy) (ix3 J h l) = (grad q k v dy h J l : EReal) := by
  have h1 : Ideal.ofBits .f32 0x3F800000#32 = ((1 : ℝ) : EReal) := by
    simp [Ideal.ofBits, Ideal.ieee]; rw [← EReal.coe_mul]; norm_num
  rw [Cert.AttnKvRefIdeal.Hand.dKeys_at]
  unfold grad
  rw [coe_sum]
  refine Finset.sum_congr rfl fun R _ => ?_
  have hj : Cert.AttnKvRefIdeal.Hand.dScores (fin96 q) (fin96 k) (fin64 v) (fin64 dy) (ix3 h R J)
      = ((Softmax.prob R (scaled q k h R) J * (cots v dy h R J - mean q k v dy h R) : ℝ) : EReal) := by
    rw [Cert.AttnKvRefIdeal.Hand.dScores_at, ref_cots, ref_total, ref_exp, Finset.sum_congr rfl fun i _ => by rw [ref_cots, ref_exp], h1]
    exact Softmax.quotient_rule R (scaled q k h R) J (cots v dy h R)
  rw [hj, lit_scale, coe_ite, ← EReal.coe_mul, ← EReal.coe_mul]

/-- The reference's gradient of the values. -/
theorem ref_vgrad (h : Fin 8) (J : Fin 4112) (e : Fin 64) :
    Cert.AttnKvRefIdeal.Hand.dValues (fin96 q) (fin96 k) (fin64 dy) (ix3 J h e) = (vgrad q k dy h J e : EReal) := by
  rw [Cert.AttnKvRefIdeal.Hand.dValues_at]
  unfold vgrad
  rw [coe_sum]
  refine Finset.sum_congr rfl fun R _ => ?_
  rw [ref_exp, ref_total, Softmax.div_total, ← EReal.coe_mul]
  rfl

section block
variable (x2 : Vec Ideal S2x4224x128 .bf16) (x3 : Vec Ideal S2x384x128 .bf16) (x4 : Vec Ideal S384x128 .bf16) (x5 : Vec Ideal S4224x128 .f32) (x6 x7 : Vec Ideal S2x1x4224 .f32)
variable (h : Fin 8) (J : Fin 4224) (a : Fin 2) (j : ℕ) (r : Fin 384)
variable (B : Block q k v dy x2 x3 x4 x5 x6 x7 h J a j r)
include B

/-- The keys' gradient a point stores is the gradient. -/
theorem block_grad (l : Fin 128) :
    (∑ R ∈ Finset.range 4224, keyTerm x2 x3 x4 x5 x6 x7 a j r l R) * Ideal.ofBits .f32 0x3DD105EC#32
      = if hJ : J.val < 4112 then (if hl : l.val < 96 then (grad q k v dy h ⟨J.val, hJ⟩ ⟨l.val, hl⟩ : EReal) else 0) else 0 := by
  by_cases hJ : J.val < 4112
  · by_cases hl : l.val < 96
    · refine Eq.trans ?_ ((dif_pos hJ).trans (dif_pos hl)).symm
      rw [sum_keys _ fun R hR => keyTerm_pad q k v dy x2 x3 x4 x5 x6 x7 h J a j r B R hR l,
        Finset.sum_congr rfl fun R _ => keyTerm_in q k v dy x2 x3 x4 x5 x6 x7 h J a j r B R hJ l hl, lit_scale, ← coe_sum, ← EReal.coe_mul, EReal.coe_eq_coe_iff]
      unfold grad
      rw [Finset.sum_mul]
      exact Finset.sum_congr rfl fun R _ => by ring
    · refine Eq.trans ?_ ((dif_pos hJ).trans (dif_neg hl)).symm
      rw [Finset.sum_eq_zero fun R _ => keyTerm_lane q k v dy x2 x3 x4 x5 x6 x7 h J a j r B R l hl, zero_mul]
  · refine Eq.trans ?_ (dif_neg hJ).symm
    rw [Finset.sum_eq_zero fun R _ => keyTerm_out q k v dy x2 x3 x4 x5 x6 x7 h J a j r B hJ R l, zero_mul]

/-- The values' gradient a point stores is the gradient. -/
theorem block_vgrad (e : Fin 64) (l : Fin 128) (hl : l.val = h.val % 2 * 64 + e.val) :
    (∑ R ∈ Finset.range 4224, valTerm x2 x3 x5 x6 a j r l R) = if hJ : J.val < 4112 then (vgrad q k dy h ⟨J.val, hJ⟩ e : EReal) else 0 := by
  by_cases hJ : J.val < 4112
  · refine Eq.trans ?_ (dif_pos hJ).symm
    rw [sum_keys _ fun R hR => valTerm_pad q k v dy x2 x3 x4 x5 x6 x7 h J a j r B R hR l,
      Finset.sum_congr rfl fun R _ => valTerm_in q k v dy x2 x3 x4 x5 x6 x7 h J a j r B R hJ e l hl, ← coe_sum]
    rfl
  · refine Eq.trans ?_ (dif_neg hJ).symm
    exact Finset.sum_eq_zero fun R _ => valTerm_out q k v dy x2 x3 x4 x5 x6 x7 h J a j r B hJ R l

end block
end finite

/-! ## The kernel's arrays -/

section arrays
variable (m : (ℓ : Loc nD τ sig) → Buf (Elt Ideal) ℓ) (c : Dev nD)
variable (q k : S4112x8x96.Idx → ℝ) (v dy : S4112x8x64.Idx → ℝ)
  (hq : (m ((c : Thread nD τ).loc main_arg0) : FVec Ideal S4112x8x96 .f32) = fin96 q) (hk : (m ((c : Thread nD τ).loc main_arg1) : FVec Ideal S4112x8x96 .f32) = fin96 k)
  (hv : (m ((c : Thread nD τ).loc main_arg2) : FVec Ideal S4112x8x64 .f32) = fin64 v) (hdy : (m ((c : Thread nD τ).loc main_arg3) : FVec Ideal S4112x8x64 .f32) = fin64 dy)
include hq hk hv hdy

/-- What the blocks of the point that holds key `J` of head `h` hold. -/
theorem blocks (h : Fin 8) (p : Fin 4) (hp : p.val = h.val / 2) (J : Fin 4224) :
    Block q k v dy
      (iblk m c 0 (ptOf p J)) (iblk m c 1 (ptOf p J)) (iblk m c 2 (ptOf p J)) (iblk m c 3 (ptOf p J)) (iblk m c 4 (ptOf p J)) (iblk m c 5 (ptOf p J))
      h J ⟨h.val % 2, by omega⟩ (((grid0.coords (ptOf p J)) 1).val) ⟨J.val % 384, by omega⟩ := by
  have e0 : (ptOf p J).val / 11 = h.val / 2 := by show (p.val * 11 + J.val / 384) / 11 = _; omega
  have e1 : (ptOf p J).val % 11 = J.val / 384 := by show (p.val * 11 + J.val / 384) % 11 = _; omega
  have hh : ∀ z : (ptOf p J).val / 11 * 2 + h.val % 2 < 8, (⟨(ptOf p J).val / 11 * 2 + h.val % 2, z⟩ : Fin 8) = h := fun z => Fin.ext (by show (ptOf p J).val / 11 * 2 + h.val % 2 = h.val; rw [e0]; omega)
  have hr : ∀ z : (ptOf p J).val % 11 * 384 + J.val % 384 < 4224, (⟨(ptOf p J).val % 11 * 384 + J.val % 384, z⟩ : Fin 4224) = J := fun z => Fin.ext (by show (ptOf p J).val % 11 * 384 + J.val % 384 = J.val; rw [e1]; omega)
  have hc : ∀ (d : Fin 128) (z : (ptOf p J).val / 11 * 128 + d.val < 512), (⟨(ptOf p J).val / 11 * 128 + d.val, z⟩ : Fin 512) = col h d := fun d z => Fin.ext (by show (ptOf p J).val / 11 * 128 + d.val = h.val / 2 * 128 + d.val; rw [e0])
  refine ⟨rfl, ?_, fun row d => ?_, fun d => ?_, fun d => ?_, fun row d => ?_, fun row => ?_, fun row => ?_⟩
  · rw [coord1, e1]; show J.val / 384 * 384 + J.val % 384 = J.val; omega
  · refine (iblk0_apply m c _ _ _ _).trans ?_
    dsimp only
    rw [hh]
    exact congrFun ((V_q m c).trans (congrArg padHeads hq)) _
  · refine (iblk1_apply m c _ _ _ _).trans ?_
    dsimp only
    rw [hh, hr]
    exact congrFun ((V_k m c).trans (congrArg padHeads hk)) _
  · refine (iblk2_apply m c _ _ _).trans ?_
    dsimp only
    rw [hc, hr]
    exact congrFun ((V_v m c).trans (congrArg (fun x => (truncf (F := Ideal) (φ := .f32) .bf16 (padRows x) bitsLt_bf16_f32 : FVec Ideal S4224x512 .bf16)) hv)) _
  · refine (iblk3_apply m c _ _ _).trans ?_
    dsimp only
    rw [hc]
    exact congrFun ((V_dy m c).trans (congrArg padRows hdy)) _
  · refine (iblk4_apply m c _ _ _).trans ?_
    dsimp only
    rw [hh]
    refine congrFun ((V_lse m c).trans ?_) _
    rw [← hq, ← hk]
  · refine (iblk5_apply m c _ _ _).trans ?_
    dsimp only
    rw [hh]
    refine congrFun ((V_delta m c).trans ?_) _
    rw [← hq, ← hk, ← hv, ← hdy]

theorem grad_fin : ((dats m 0 c).arrAt 6 cfg0.N : FVec Ideal S8x4224x128 .f32) = Cert.AttnKvRefIdeal.Read.val_main_v65 (F := Ideal) (fin96 q) (fin96 k) (fin64 v) (fin64 dy) := by
  funext i
  obtain ⟨h, J, l, rfl⟩ : ∃ (h : Fin 8) (J : Fin 4224) (l : Fin 128), i = ix3 h J l := ⟨i 0, i 1, i 2, (eq_ix3 i)⟩
  refine (final6 m c h ⟨h.val / 2, by omega⟩ rfl J l).trans (Eq.trans ?_ (Cert.AttnKvRefIdeal.Hand.result0_at (fin96 q) (fin96 k) (fin64 v) (fin64 dy) h J l).symm)
  unfold at8
  refine (out8_at ..).trans ?_
  refine (block_grad q k v dy _ _ _ _ _ _ h J _ _ _ (blocks m c q k v dy hq hk hv hdy h ⟨h.val / 2, by omega⟩ rfl J) l).trans ?_
  by_cases hJ : J.val < 4112
  · by_cases hl : l.val < 96
    · simp only [hJ, hl, dite_true]
      exact (ref_grad q k v dy h ⟨J.val, hJ⟩ ⟨l.val, hl⟩).symm
    · simp only [hJ, hl, dite_true, dite_false]
  · simp only [hJ, dite_false]

theorem vgrad_fin : ((dats m 0 c).arrAt 7 cfg0.N : FVec Ideal S4224x512 .f32) = Cert.AttnKvRefIdeal.Read.val_main_v68 (F := Ideal) (fin96 q) (fin96 k) (fin64 dy) := by
  funext i
  obtain ⟨J, C, rfl⟩ : ∃ (J : Fin 4224) (C : Fin 512), i = ix2 J C := ⟨i 0, i 1, (eq_ix2 i)⟩
  refine (final7 m c J C ⟨C.val / 128, by omega⟩ rfl).trans (Eq.trans ?_ (Cert.AttnKvRefIdeal.Hand.result1_at (fin96 q) (fin96 k) (fin64 dy) J C).symm)
  unfold at9
  refine (out9_at ..).trans ?_
  refine (own_terms _ _ _ _ ⟨C.val / 64 % 2, by omega⟩ _ _ _ (by show C.val % 128 / 64 = C.val / 64 % 2; omega)).trans ?_
  refine (block_vgrad q k v dy _ _ _ _ _ _ ⟨C.val / 64, by omega⟩ J _ _ _ (blocks m c q k v dy hq hk hv hdy ⟨C.val / 64, by omega⟩ ⟨C.val / 128, by omega⟩ (by show C.val / 128 = C.val / 64 / 2; omega) J)
    ⟨C.val % 64, by omega⟩ _ (by show C.val % 128 = C.val / 64 % 2 * 64 + C.val % 64; omega)).trans ?_
  by_cases hJ : J.val < 4112
  · simp only [hJ, dite_true]
    exact (ref_vgrad q k dy ⟨C.val / 64, by omega⟩ ⟨J.val, hJ⟩ ⟨C.val % 64, by omega⟩).symm
  · simp only [hJ, dite_false]

end arrays

section result
variable (m : (ℓ : Loc nD τ sig) → Buf (Elt Ideal) ℓ) (c : Dev nD)
variable (q k : FVec Ideal S4112x8x96 .f32) (v dy : FVec Ideal S4112x8x64 .f32)
  (hq : (m ((c : Thread nD τ).loc main_arg0) : FVec Ideal S4112x8x96 .f32) = q) (hk : (m ((c : Thread nD τ).loc main_arg1) : FVec Ideal S4112x8x96 .f32) = k)
  (hv : (m ((c : Thread nD τ).loc main_arg2) : FVec Ideal S4112x8x64 .f32) = v) (hdy : (m ((c : Thread nD τ).loc main_arg3) : FVec Ideal S4112x8x64 .f32) = dy)
  (hf : Cert.Pre_attention_finite.fn (F := Ideal) q k v dy = fun _ => 1#1)
include hq hk hv hdy hf

/-- The gradients of the keys and of the values are the reference's. -/
theorem grads_eq : ((dats m 0 c).arrAt 6 cfg0.N : FVec Ideal S8x4224x128 .f32) = Cert.AttnKvRefIdeal.Read.val_main_v65 (F := Ideal) q k v dy
    ∧ ((dats m 0 c).arrAt 7 cfg0.N : FVec Ideal S4224x512 .f32) = Cert.AttnKvRefIdeal.Read.val_main_v68 (F := Ideal) q k dy := by
  have eq := fin_q q k v dy hf
  have ek := fin_k q k v dy hf
  have ev := fin_v q k v dy hf
  have ed := fin_dy q k v dy hf
  clear hf
  generalize (fun i => (q i).toReal) = q' at eq
  generalize (fun i => (k i).toReal) = k' at ek
  generalize (fun i => (v i).toReal) = v' at ev
  generalize (fun i => (dy i).toReal) = dy' at ed
  subst eq ek ev ed
  exact ⟨grad_fin m c q' k' v' dy' hq hk hv hdy, vgrad_fin m c q' k' v' dy' hq hk hv hdy⟩

end result

end Cert.AttnKvKernelIdeal.Hand

end
-- ==== Proof.Norm.lean ====
/- Root-mean-square norms and their gradients over the real numbers, and what their texts over the extended reals are at real arguments. -/
module

public import Idealize.ShloMosaic.Lib.Pointwise
public import proofs.«01_k».proof.Proof.Softmax
public import proofs.«01_k».proof.Proof.Finite

@[expose] public section

set_option maxRecDepth 16384

noncomputable section

namespace Cert.Norm

open Idealize.ShloMosaic

/-- A matrix of real numbers as an array of extended reals. -/
abbrev mat {a b : ℕ} (X : Fin a → Fin b → ℝ) : FVec Ideal ⟨2, ![a, b]⟩ .f32 := fun i => ((X (i 0) (i 1) : ℝ) : EReal)

/-- A row of real numbers as an array of extended reals. -/
abbrev vec {a : ℕ} (x : Fin a → ℝ) : FVec Ideal ⟨1, ![a]⟩ .f32 := fun i => ((x (i 0) : ℝ) : EReal)

/-- The number added to a mean square, as the programs round it. -/
@[irreducible] def eps : ℝ := 8796093 / 8796093022208

theorem eps_pos : 0 < eps := by unfold eps; norm_num

theorem lit_eps : Ideal.ofBits FTy.f32 897988541#32 = (eps : EReal) := by
  unfold eps; simp [Ideal.ofBits, Ideal.ieee]; rw [← EReal.coe_mul]; norm_num

theorem lit_1024 : Ideal.ofBits FTy.f32 1149239296#32 = ((1024 : ℝ) : EReal) := by
  simp [Ideal.ofBits, Ideal.ieee]; rw [← EReal.coe_mul]; norm_num

theorem lit_512 : Ideal.ofBits FTy.f32 1140850688#32 = ((512 : ℝ) : EReal) := by
  simp [Ideal.ofBits, Ideal.ieee]; rw [← EReal.coe_mul]; norm_num

theorem lit_half : Ideal.ofBits FTy.f32 1056964608#32 = ((1 / 2 : ℝ) : EReal) := by
  simp [Ideal.ofBits, Ideal.ieee]; rw [← EReal.coe_mul]; norm_num

theorem lit_neg_half : Ideal.ofBits FTy.f32 3204448256#32 = ((-(1 / 2) : ℝ) : EReal) := by
  simp [Ideal.ofBits, Ideal.ieee]; rw [← EReal.coe_mul]; norm_num

theorem lit_one : Ideal.ofBits FTy.f32 1065353216#32 = ((1 : ℝ) : EReal) := by
  simp [Ideal.ofBits, Ideal.ieee]; rw [← EReal.coe_mul]; norm_num

theorem div_1024 (a : ℝ) : Ideal.div (a : EReal) ((1024 : ℝ) : EReal) = ((a / 1024 : ℝ) : EReal) := Softmax.coe_div _ _ (by norm_num)
theorem div_512 (a : ℝ) : Ideal.div (a : EReal) ((512 : ℝ) : EReal) = ((a / 512 : ℝ) : EReal) := Softmax.coe_div _ _ (by norm_num)

variable {n : ℕ} (N : ℝ) (x : Fin n → ℝ)

/-- The mean square of a row, with the number added to it. -/
def ms : ℝ := (∑ k, x k * x k) / N + eps

/-- The factor a row is normed by. -/
def scl : ℝ := (Real.sqrt (ms N x))⁻¹

/-- The gradient of a normed row, at the cotangent `w` of the row before its gains. -/
def back (w : Fin n → ℝ) (l : Fin n) : ℝ := scl N x * (w l - x l * scl N x * ((∑ k, w k * (x k * scl N x)) / N))

theorem ms_pos (hN : 0 < N) : 0 < ms N x := by
  unfold ms
  have : 0 ≤ ∑ k, x k * x k := Finset.sum_nonneg fun k _ => mul_self_nonneg _
  have := eps_pos
  positivity

theorem rsqrt_ms (hN : 0 < N) : Ideal.rsqrt (ms N x : EReal) = (scl N x : EReal) := by
  have h := ms_pos N x hN
  rw [Ideal.rsqrt_coe, if_neg (not_lt.mpr h.le), if_neg h.ne']; rfl

theorem rsqrt_1024 : Ideal.rsqrt (((∑ k, x k * x k) / 1024 + eps : ℝ) : EReal) = (scl 1024 x : EReal) := rsqrt_ms 1024 x (by norm_num)
theorem rsqrt_512 : Ideal.rsqrt (((∑ k, x k * x k) / 512 + eps : ℝ) : EReal) = (scl 512 x : EReal) := rsqrt_ms 512 x (by norm_num)
theorem div_ms_1024 (a : ℝ) : Ideal.div (a : EReal) (((∑ k, x k * x k) / 1024 + eps : ℝ) : EReal) = ((a / ms 1024 x : ℝ) : EReal) :=
  Softmax.coe_div _ _ (ms_pos 1024 x (by norm_num)).ne'
theorem div_ms_512 (a : ℝ) : Ideal.div (a : EReal) (((∑ k, x k * x k) / 512 + eps : ℝ) : EReal) = ((a / ms 512 x : ℝ) : EReal) :=
  Softmax.coe_div _ _ (ms_pos 512 x (by norm_num)).ne'

theorem scl_sq (hN : 0 < N) : scl N x * scl N x = (ms N x)⁻¹ := by
  unfold scl; rw [← mul_inv, Real.mul_self_sqrt (ms_pos N x hN).le]

/-- The derivative of the norm's text is the gradient the kernels write by hand. -/
theorem vjp_back (hN : 0 < N) (w : Fin n → ℝ) (l : Fin n) :
    w l * scl N x + x l * ((∑ k, x k * w k) * (-(1 / 2) * (scl N x / ms N x)) / N)
      + (∑ k, x k * w k) * (-(1 / 2) * (scl N x / ms N x)) / N * x l = back N x w l := by
  have h : ∑ k, w k * (x k * scl N x) = scl N x * ∑ k, x k * w k := by
    rw [Finset.mul_sum]; exact Finset.sum_congr rfl fun k _ => by ring
  unfold back
  rw [h, div_eq_mul_inv (scl N x) (ms N x), ← scl_sq N x hN]
  ring

/-- A row of zeros has zero for a gradient. -/
theorem back_zero (l : Fin n) : back N x (fun _ => 0) l = 0 := by
  unfold back; simp

/-- The rows of a matrix, and rows of zeros from row 4112 on. -/
def pad {b : ℕ} (X : Fin 4112 → Fin b → ℝ) (R : Fin 4224) (l : Fin b) : ℝ := if h : R.val < 4112 then X ⟨R.val, h⟩ l else 0

theorem pad_pos {b : ℕ} (X : Fin 4112 → Fin b → ℝ) (R : Fin 4224) (h : R.val < 4112) : pad X R = X ⟨R.val, h⟩ := by
  funext l; unfold pad; exact dif_pos h

theorem pad_neg {b : ℕ} (X : Fin 4112 → Fin b → ℝ) (R : Fin 4224) (h : ¬R.val < 4112) : pad X R = fun _ => 0 := by
  funext l; unfold pad; exact dif_neg h

/-- A padded array read at an element. -/
theorem pad_dite {b : ℕ} (X : Fin 4112 → Fin b → ℝ) (R : Fin 4224) (l : Fin b) :
    (if h : R.val < 4112 then (mat X (ix2 ⟨R.val, h⟩ l) : EReal) else (0 : EReal)) = ((pad X R l : ℝ) : EReal) := by
  by_cases h : R.val < 4112
  · rw [dif_pos h, pad_pos X R h]
    rfl
  · rw [dif_neg h, pad_neg X R h, EReal.coe_zero]

/-- A matrix with finite elements is a matrix of real numbers. -/
theorem mat_of {a b : ℕ} (x : FVec Ideal ⟨2, ![a, b]⟩ .f32) (h : ∀ (r : Fin a) (l : Fin b),
    Ideal.cmp .olt (max (x (ix2 r l)) (-(x (ix2 r l)))) (Ideal.ofBits .f32 0x7F800000#32) = 1#1) : x = mat fun r l => (x (ix2 r l)).toReal := by
  funext i; rw [eq_ix2 i]; exact Finite.real _ (h _ _)

/-- A row with finite elements is a row of real numbers. -/
theorem vec_of {a : ℕ} (x : FVec Ideal ⟨1, ![a]⟩ .f32) (h : ∀ l : Fin a,
    Ideal.cmp .olt (max (x (ix1 l)) (-(x (ix1 l)))) (Ideal.ofBits .f32 0x7F800000#32) = 1#1) : x = vec fun l => (x (ix1 l)).toReal := by
  funext i
  have e : i = ix1 (i 0) := funext fun a => by match a with | ⟨0, _⟩ => rfl
  rw [e]; exact Finite.real _ (h _)

theorem eq_mat {a b : ℕ} (x : FVec Ideal ⟨2, ![a, b]⟩ .f32) (X : Fin a → Fin b → ℝ)
    (h : ∀ (r : Fin a) (l : Fin b), x (ix2 r l) = ((X r l : ℝ) : EReal)) : x = mat X := by
  funext i; rw [eq_ix2 i]; exact h _ _

/-- The row of the whole array at row `r` of tile `t`. -/
abbrev rowOf (t : Fin 11) (r : Fin 384) : Fin 4224 := ⟨384 * t.val + r.val, by omega⟩

/-- A sum over the tiles and their rows is the sum over the rows. -/
theorem sum_tiles (f : Fin 4224 → ℝ) : ∑ t : Fin 11, ∑ r : Fin 384, f (rowOf t r) = ∑ R, f R := by
  rw [Fin.sum_univ_tiles 11 384 (by norm_num) f]
  refine Finset.sum_congr rfl fun s _ => Finset.sum_congr rfl fun r _ => ?_
  exact congrArg f (Fin.ext (by show 384 * s.val + r.val = s.val * 384 + r.val; omega))

/-- The rows from 4112 on add nothing when they are zero. -/
theorem sum_pad (f : Fin 4224 → ℝ) (g : Fin 4112 → ℝ) (h : ∀ R : Fin 4112, f ⟨R.val, by omega⟩ = g R)
    (h0 : ∀ R : Fin 4224, ¬R.val < 4112 → f R = 0) : ∑ R, f R = ∑ R, g R := by
  obtain ⟨F, hF⟩ : ∃ F : ℕ → ℝ, ∀ R : Fin 4224, f R = F R.val := ⟨fun k => if h : k < 4224 then f ⟨k, h⟩ else 0, fun R => by simp⟩
  have e' : ∀ R, g R = F R.val := fun R => by rw [← h, hF]
  rw [Finset.sum_congr rfl fun R _ => hF R, Finset.sum_congr rfl fun R _ => e' R, Fin.sum_univ_eq_sum_range F 4224,
    Fin.sum_univ_eq_sum_range F 4112, show (4224 : ℕ) = 4112 + 112 from rfl, Finset.sum_range_add]
  refine (congrArg (_ + ·) (Finset.sum_eq_zero (s := Finset.range 112) fun k hk => ?_)).trans (add_zero _)
  have hk' := Finset.mem_range.mp hk
  exact (hF ⟨4112 + k, by omega⟩).symm.trans (h0 _ (by dsimp only; omega))

end Cert.Norm

end
-- ==== Proof.FfnUpPay.lean ====
/- What one grid point of the feed-forward block's backward call stores, at real blocks. -/
module

public import proofs.«01_k».proof.Defs
public import proofs.«01_k».proof.Proof.Gen.FfnUpKernelIdeal.Value
public import proofs.«01_k».proof.Proof.Norm
public import Idealize.ShloMosaic.Lib.Pointwise
public import Idealize.ShloMosaic.Lib.Pipeline.Value
public import Idealize.ShloMosaic.Lib.Tactic

@[expose] public section

set_option maxRecDepth 16384

noncomputable section

namespace Cert.FfnUpKernelIdeal.Hand

open Cert.FfnUpKernelIdeal Cert.FfnUpKernelIdeal.Gen Idealize.ShloMosaic Idealize.ShloMosaic.TcCoe Idealize.SL.Sem
open Idealize.ShloMosaic.Pipeline (Dat)
open Cert.Norm

/-- The cotangent of a normed row: what the two products bring back. -/
def du (a b : Fin 2816 → ℝ) (wg wu : Fin 2816 → Fin 1024 → ℝ) (l : Fin 1024) : ℝ := ∑ k, a k * wg k l + ∑ k, b k * wu k l

variable (dh h : Fin 384 → Fin 1024 → ℝ) (a b : Fin 384 → Fin 2816 → ℝ) (g : Fin 1 → Fin 1024 → ℝ) (wg wu : Fin 2816 → Fin 1024 → ℝ)
  (r : Fin 384) (l : Fin 1024)

theorem pay6_real : k0_pay6 (F := Ideal) (mat h) (ix2 r 0) = (scl 1024 (h r) : EReal) := by
  pointwise [k0_pay6, k0_pay5]
  simp only [lit_1024, lit_eps, ← EReal.coe_mul, ← Softmax.coe_sum, div_1024, ← EReal.coe_add, rsqrt_1024]
  rfl

theorem pay7_real : k0_pay7 (F := Ideal) (mat h) = mat fun r l => h r l * scl 1024 (h r) := by
  funext i; rw [eq_ix2 i]; generalize i 0 = r; generalize i 1 = l
  have e := pay6_real h r
  unfold k0_pay7
  generalize k0_pay6 (F := Ideal) (mat h) = s at e ⊢
  pointwise [k0_pay5]
  rw [e]
  exact (EReal.coe_mul _ _).symm

theorem pay8_real : k0_pay8 (F := Ideal) (mat g) (mat h) = mat fun r l => h r l * scl 1024 (h r) * g 0 l := by
  funext i; rw [eq_ix2 i]; generalize i 0 = r; generalize i 1 = l
  unfold k0_pay8
  rw [pay7_real]
  pointwise [k0_pay4]
  exact (EReal.coe_mul _ _).symm

theorem pay9_real : k0_pay9 (F := Ideal) (mat a) (mat wg) (mat b) (mat wu) = mat fun r => du (a r) (b r) wg wu := by
  funext i; rw [eq_ix2 i]; generalize i 0 = r; generalize i 1 = l
  pointwise [k0_pay9]
  simp only [← EReal.coe_mul, ← Softmax.coe_sum, ← EReal.coe_add]
  rfl

theorem pay10_real : k0_pay10 (F := Ideal) (mat g) (mat a) (mat wg) (mat b) (mat wu) = mat fun r l => du (a r) (b r) wg wu l * g 0 l := by
  funext i; rw [eq_ix2 i]; generalize i 0 = r; generalize i 1 = l
  unfold k0_pay10
  rw [pay9_real]
  pointwise [k0_pay4]
  exact (EReal.coe_mul _ _).symm

theorem pay11_real : k0_pay11 (F := Ideal) (mat g) (mat h) (mat a) (mat wg) (mat b) (mat wu)
    = mat fun r _ => (∑ k, du (a r) (b r) wg wu k * g 0 k * (h r k * scl 1024 (h r))) / 1024 := by
  funext i; rw [eq_ix2 i]; generalize i 0 = r; generalize i 1 = l
  unfold k0_pay11
  rw [pay10_real, pay7_real]
  pointwise
  simp only [lit_1024, ← EReal.coe_mul, ← Softmax.coe_sum, div_1024]
  rfl

theorem pay2_real : k0_pay2 (F := Ideal) (k0_pay6 (mat h)) (k0_pay7 (mat h)) (k0_pay10 (mat g) (mat a) (mat wg) (mat b) (mat wu))
      (k0_pay11 (mat g) (mat h) (mat a) (mat wg) (mat b) (mat wu)) (mat dh)
    = mat fun r l => dh r l + back 1024 (h r) (fun k => du (a r) (b r) wg wu k * g 0 k) l := by
  funext i; rw [eq_ix2 i]; generalize i 0 = r; generalize i 1 = l
  rw [pay7_real, pay10_real, pay11_real]
  have e := pay6_real h r
  generalize k0_pay6 (F := Ideal) (mat h) = s at e ⊢
  pointwise [k0_pay2]
  rw [e]
  simp only [← EReal.coe_mul, ← EReal.coe_sub, ← EReal.coe_add]
  rfl

/-- A point's share of the gradient of the gains. -/
theorem pay1_real : k0_pay1 (F := Ideal) (k0_pay7 (mat h)) (k0_pay9 (mat a) (mat wg) (mat b) (mat wu))
    = mat fun _ l => ∑ r, du (a r) (b r) wg wu l * (h r l * scl 1024 (h r)) := by
  funext i; rw [eq_ix2 i]; generalize i 0 = r; generalize i 1 = l
  rw [pay7_real, pay9_real]
  pointwise [k0_pay1]
  simp only [← EReal.coe_mul, ← Softmax.coe_sum]
  rfl

theorem pay3_eq (x y : FVec Ideal S384x1024 .f32) (z : Vec Ideal S1x1024 .f32) : k0_pay3 (F := Ideal) x y z = addf z (k0_pay1 x y) := by
  unfold k0_pay3
  rw [shapeCast_self]

end Cert.FfnUpKernelIdeal.Hand

end
-- ==== Proof.FfnUpValue.lean ====
/- The arrays the feed-forward block's backward call leaves, at real arguments. -/
module

public import proofs.«01_k».proof.Defs
public import proofs.«01_k».proof.Proof.Gen.FfnUpKernelIdeal.Value
public import proofs.«01_k».proof.Proof.FfnUpPay
public import Idealize.ShloMosaic.Lib.Pointwise
public import Idealize.ShloMosaic.Lib.Pipeline.Value
public import Idealize.ShloMosaic.Lib.Tactic

@[expose] public section

set_option maxRecDepth 16384

noncomputable section

namespace Cert.FfnUpKernelIdeal.Hand

open Cert.FfnUpKernelIdeal Cert.FfnUpKernelIdeal.Gen Idealize.ShloMosaic Idealize.ShloMosaic.TcCoe Idealize.SL.Sem
open Idealize.ShloMosaic.Pipeline (Dat)
open Cert.Norm

theorem hz : (![0, 0] : Fin 2 → Nat) = fun _ => 0 := funext fun a => by fin_cases a <;> rfl

variable (m : (ℓ : Loc nD τ sig) → Buf (Elt Ideal) ℓ)

/-! ## The arrays the pipeline reads -/

theorem V_0 (c : Dev nD) (X : Fin 4112 → Fin 1024 → ℝ) (h : (m ((c : Thread nD τ).loc main_arg0) : FVec Ideal S4112x1024 .f32) = mat X) :
    (V m c main_v1 : Vec Ideal S4224x1024 .f32) = mat (pad X) := by
  have e : ∀ x : FVec Ideal S4112x1024 .f32, (m ((c : Thread nD τ).loc main_arg0) : FVec Ideal S4112x1024 .f32) = x → (V m c main_v1 : Vec Ideal S4224x1024 .f32)
      = concatenate S4224x1024 0 [⟨S4112x1024, x⟩, ⟨S112x1024, broadcastInDim S112x1024 ![] bcast_S_S112x1024 (constant S_ .f32 0x00000000#32)⟩] concatenates_S4112x1024_S112x1024_S4224x1024_d0 := by
    rintro _ rfl
    show StableHlo.after hostOps0 _ (Proc.devRef .tc main_v1) = _
    after_results
    try rfl
  rw [e _ h]
  refine eq_mat _ _ fun r l => ?_
  pointwise
  exact pad_dite X r l

theorem V_1 (c : Dev nD) (X : Fin 4112 → Fin 1024 → ℝ) (h : (m ((c : Thread nD τ).loc main_arg1) : FVec Ideal S4112x1024 .f32) = mat X) :
    (V m c main_v3 : Vec Ideal S4224x1024 .f32) = mat (pad X) := by
  have e : ∀ x : FVec Ideal S4112x1024 .f32, (m ((c : Thread nD τ).loc main_arg1) : FVec Ideal S4112x1024 .f32) = x → (V m c main_v3 : Vec Ideal S4224x1024 .f32)
      = concatenate S4224x1024 0 [⟨S4112x1024, x⟩, ⟨S112x1024, broadcastInDim S112x1024 ![] bcast_S_S112x1024 (constant S_ .f32 0x00000000#32)⟩] concatenates_S4112x1024_S112x1024_S4224x1024_d0 := by
    rintro _ rfl
    show StableHlo.after hostOps0 _ (Proc.devRef .tc main_v3) = _
    after_results
    try rfl
  rw [e _ h]
  refine eq_mat _ _ fun r l => ?_
  pointwise
  exact pad_dite X r l

theorem V_2 (c : Dev nD) (X : Fin 4112 → Fin 2816 → ℝ) (h : (m ((c : Thread nD τ).loc main_arg2) : FVec Ideal S4112x2816 .f32) = mat X) :
    (V m c main_v6 : Vec Ideal S4224x2816 .bf16) = mat (pad X) := by
  have e : ∀ x : FVec Ideal S4112x2816 .f32, (m ((c : Thread nD τ).loc main_arg2) : FVec Ideal S4112x2816 .f32) = x → (V m c main_v6 : Vec Ideal S4224x2816 .bf16)
      = (concatenate S4224x2816 0 [⟨S4112x2816, x⟩, ⟨S112x2816, broadcastInDim S112x2816 ![] bcast_S_S112x2816 (constant S_ .f32 0x00000000#32)⟩] concatenates_S4112x2816_S112x2816_S4224x2816_d0 : FVec Ideal S4224x2816 .f32) := by
    rintro _ rfl
    show StableHlo.after hostOps0 _ (Proc.devRef .tc main_v6) = _
    after_results
    try rfl
  rw [e _ h]
  refine eq_mat _ _ fun r l => ?_
  pointwise
  exact pad_dite X r l

theorem V_3 (c : Dev nD) (X : Fin 4112 → Fin 2816 → ℝ) (h : (m ((c : Thread nD τ).loc main_arg3) : FVec Ideal S4112x2816 .f32) = mat X) :
    (V m c main_v9 : Vec Ideal S4224x2816 .bf16) = mat (pad X) := by
  have e : ∀ x : FVec Ideal S4112x2816 .f32, (m ((c : Thread nD τ).loc main_arg3) : FVec Ideal S4112x2816 .f32) = x → (V m c main_v9 : Vec Ideal S4224x2816 .bf16)
      = (concatenate S4224x2816 0 [⟨S4112x2816, x⟩, ⟨S112x2816, broadcastInDim S112x2816 ![] bcast_S_S112x2816 (constant S_ .f32 0x00000000#32)⟩] concatenates_S4112x2816_S112x2816_S4224x2816_d0 : FVec Ideal S4224x2816 .f32) := by
    rintro _ rfl
    show StableHlo.after hostOps0 _ (Proc.devRef .tc main_v9) = _
    after_results
    try rfl
  rw [e _ h]
  refine eq_mat _ _ fun r l => ?_
  pointwise
  exact pad_dite X r l

theorem V_4 (c : Dev nD) (G : Fin 1024 → ℝ) (h : (m ((c : Thread nD τ).loc main_arg4) : FVec Ideal S1024 .f32) = vec G) :
    (V m c main_v10 : Vec Ideal S1x1024 .f32) = mat fun _ => G := by
  have e : ∀ x : FVec Ideal S1024 .f32, (m ((c : Thread nD τ).loc main_arg4) : FVec Ideal S1024 .f32) = x → (V m c main_v10 : Vec Ideal S1x1024 .f32)
      = shapeCast S1x1024 x rfl := by
    rintro _ rfl
    show StableHlo.after hostOps0 _ (Proc.devRef .tc main_v10) = _
    after_results
    try rfl
  rw [e _ h]
  funext i; rw [eq_ix2 i]; generalize i 0 = r; generalize i 1 = l
  pointwise
  try rfl

theorem V_5 (c : Dev nD) (W : Fin 1024 → Fin 2816 → ℝ) (h : (m ((c : Thread nD τ).loc main_arg5) : FVec Ideal S1024x2816 .f32) = mat W) :
    (V m c main_v12 : Vec Ideal S2816x1024 .bf16) = mat fun k l => W l k := by
  have e : ∀ x : FVec Ideal S1024x2816 .f32, (m ((c : Thread nD τ).loc main_arg5) : FVec Ideal S1024x2816 .f32) = x → (V m c main_v12 : Vec Ideal S2816x1024 .bf16)
      = fun i => x (ix2 (i 1) (i 0)) := by
    rintro _ rfl
    show StableHlo.after hostOps0 _ (Proc.devRef .tc main_v12) = _
    after_results
    funext i; rw [eq_ix2 i]; generalize i 0 = r; generalize i 1 = l
    pointwise
  rw [e _ h]
  rfl

theorem V_6 (c : Dev nD) (W : Fin 1024 → Fin 2816 → ℝ) (h : (m ((c : Thread nD τ).loc main_arg6) : FVec Ideal S1024x2816 .f32) = mat W) :
    (V m c main_v14 : Vec Ideal S2816x1024 .bf16) = mat fun k l => W l k := by
  have e : ∀ x : FVec Ideal S1024x2816 .f32, (m ((c : Thread nD τ).loc main_arg6) : FVec Ideal S1024x2816 .f32) = x → (V m c main_v14 : Vec Ideal S2816x1024 .bf16)
      = fun i => x (ix2 (i 1) (i 0)) := by
    rintro _ rfl
    show StableHlo.after hostOps0 _ (Proc.devRef .tc main_v14) = _
    after_results
    funext i; rw [eq_ix2 i]; generalize i 0 = r; generalize i 1 = l
    pointwise
  rw [e _ h]
  rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = 0 ∧ win0_5.index t 1 = 0 :=
  (by decide +kernel : ∀ t : Fin grid0.N, win0_5.index t 0 = 0 ∧ win0_5.index t 1 = 0) t
theorem index6 (t : Fin cfg0.N) : win0_6.index t 0 = 0 ∧ win0_6.index t 1 = 0 :=
  (by decide +kernel : ∀ t : Fin grid0.N, win0_6.index t 0 = 0 ∧ win0_6.index t 1 = 0) t
theorem index7 (t : Fin cfg0.N) : win0_7.index t 0 = t.val ∧ win0_7.index t 1 = 0 :=
  (by decide +kernel : ∀ t : Fin grid0.N, win0_7.index t 0 = t.val ∧ win0_7.index t 1 = 0) t
theorem index8 (t : Fin cfg0.N) : win0_8.index t 0 = t.val ∧ win0_8.index t 1 = 0 :=
  (by decide +kernel : ∀ t : Fin grid0.N, win0_8.index t 0 = t.val ∧ win0_8.index t 1 = 0) t
theorem index9 (t : Fin cfg0.N) : win0_9.index t 0 = 0 ∧ win0_9.index t 1 = 0 :=
  (by decide +kernel : ∀ t : Fin grid0.N, win0_9.index t 0 = 0 ∧ win0_9.index t 1 = 0) t

theorem iblk0_real (c : Dev nD) (t : Fin cfg0.N) (X : Fin 4224 → Fin 1024 → ℝ) (h : (V m c main_v1 : Vec Ideal S4224x1024 .f32) = mat X) :
    (iblk m c 0 t : Vec Ideal S384x1024 .f32) = mat fun r => X (rowAt t r) := by
  funext i; rw [eq_ix2 i]; generalize i 0 = r; generalize i 1 = l
  unfold iblk
  rw [View.read_apply]
  refine (congrArg (V m c main_v1 : Vec Ideal S4224x1024 .f32) (?_ : _ = ix2 (rowAt t r) l)).trans (congrFun h _)
  funext a
  apply Fin.ext
  match a with
  | ⟨0, _⟩ => show win0_0.index t 0 * 384 + 1 * r.val = 384 * t.val + r.val; rw [(index0 t).1]; omega
  | ⟨1, _⟩ => show win0_0.index t 1 * 1024 + 1 * l.val = l.val; rw [(index0 t).2]; omega

theorem iblk1_real (c : Dev nD) (t : Fin cfg0.N) (X : Fin 4224 → Fin 1024 → ℝ) (h : (V m c main_v3 : Vec Ideal S4224x1024 .f32) = mat X) :
    (iblk m c 1 t : Vec Ideal S384x1024 .f32) = mat fun r => X (rowAt t r) := by
  funext i; rw [eq_ix2 i]; generalize i 0 = r; generalize i 1 = l
  unfold iblk
  rw [View.read_apply]
  refine (congrArg (V m c main_v3 : Vec Ideal S4224x1024 .f32) (?_ : _ = ix2 (rowAt t r) l)).trans (congrFun h _)
  funext a
  apply Fin.ext
  match a with
  | ⟨0, _⟩ => show win0_1.index t 0 * 384 + 1 * r.val = 384 * t.val + r.val; rw [(index1 t).1]; omega
  | ⟨1, _⟩ => show win0_1.index t 1 * 1024 + 1 * l.val = l.val; rw [(index1 t).2]; omega

theorem iblk2_real (c : Dev nD) (t : Fin cfg0.N) (X : Fin 4224 → Fin 2816 → ℝ) (h : (V m c main_v6 : Vec Ideal S4224x2816 .bf16) = mat X) :
    (iblk m c 2 t : Vec Ideal S384x2816 .bf16) = mat fun r => X (rowAt t r) := by
  funext i; rw [eq_ix2 i]; generalize i 0 = r; generalize i 1 = l
  unfold iblk
  rw [View.read_apply]
  refine (congrArg (V m c main_v6 : Vec Ideal S4224x2816 .bf16) (?_ : _ = ix2 (rowAt t r) l)).trans (congrFun h _)
  funext a
  apply Fin.ext
  match a with
  | ⟨0, _⟩ => show win0_2.index t 0 * 384 + 1 * r.val = 384 * t.val + r.val; rw [(index2 t).1]; omega
  | ⟨1, _⟩ => show win0_2.index t 1 * 2816 + 1 * l.val = l.val; rw [(index2 t).2]; omega

theorem iblk3_real (c : Dev nD) (t : Fin cfg0.N) (X : Fin 4224 → Fin 2816 → ℝ) (h : (V m c main_v9 : Vec Ideal S4224x2816 .bf16) = mat X) :
    (iblk m c 3 t : Vec Ideal S384x2816 .bf16) = mat fun r => X (rowAt t r) := by
  funext i; rw [eq_ix2 i]; generalize i 0 = r; generalize i 1 = l
  unfold iblk
  rw [View.read_apply]
  refine (congrArg (V m c main_v9 : Vec Ideal S4224x2816 .bf16) (?_ : _ = ix2 (rowAt t r) l)).trans (congrFun h _)
  funext a
  apply Fin.ext
  match a with
  | ⟨0, _⟩ => show win0_3.index t 0 * 384 + 1 * r.val = 384 * t.val + r.val; rw [(index3 t).1]; omega
  | ⟨1, _⟩ => show win0_3.index t 1 * 2816 + 1 * l.val = l.val; rw [(index3 t).2]; omega

theorem iblk4_real (c : Dev nD) (t : Fin cfg0.N) (X : Fin 1 → Fin 1024 → ℝ) (h : (V m c main_v10 : Vec Ideal S1x1024 .f32) = mat X) :
    (iblk m c 4 t : Vec Ideal S1x1024 .f32) = mat X := by
  funext i; rw [eq_ix2 i]; generalize i 0 = r; generalize i 1 = l
  unfold iblk
  rw [View.read_apply]
  refine (congrArg (V m c main_v10 : Vec Ideal S1x1024 .f32) (?_ : _ = ix2 r l)).trans (congrFun h _)
  funext a
  apply Fin.ext
  match a with
  | ⟨0, _⟩ => show win0_4.index t 0 * 1 + 1 * r.val = r.val; rw [(index4 t).1]; omega
  | ⟨1, _⟩ => show win0_4.index t 1 * 1024 + 1 * l.val = l.val; rw [(index4 t).2]; omega

theorem iblk5_real (c : Dev nD) (t : Fin cfg0.N) (X : Fin 2816 → Fin 1024 → ℝ) (h : (V m c main_v12 : Vec Ideal S2816x1024 .bf16) = mat X) :
    (iblk m c 5 t : Vec Ideal S2816x1024 .bf16) = mat X := by
  funext i; rw [eq_ix2 i]; generalize i 0 = r; generalize i 1 = l
  unfold iblk
  rw [View.read_apply]
  refine (congrArg (V m c main_v12 : Vec Ideal S2816x1024 .bf16) (?_ : _ = ix2 r l)).trans (congrFun h _)
  funext a
  apply Fin.ext
  match a with
  | ⟨0, _⟩ => show win0_5.index t 0 * 2816 + 1 * r.val = r.val; rw [(index5 t).1]; omega
  | ⟨1, _⟩ => show win0_5.index t 1 * 1024 + 1 * l.val = l.val; rw [(index5 t).2]; omega

theorem iblk6_real (c : Dev nD) (t : Fin cfg0.N) (X : Fin 2816 → Fin 1024 → ℝ) (h : (V m c main_v14 : Vec Ideal S2816x1024 .bf16) = mat X) :
    (iblk m c 6 t : Vec Ideal S2816x1024 .bf16) = mat X := by
  funext i; rw [eq_ix2 i]; generalize i 0 = r; generalize i 1 = l
  unfold iblk
  rw [View.read_apply]
  refine (congrArg (V m c main_v14 : Vec Ideal S2816x1024 .bf16) (?_ : _ = ix2 r l)).trans (congrFun h _)
  funext a
  apply Fin.ext
  match a with
  | ⟨0, _⟩ => show win0_6.index t 0 * 2816 + 1 * r.val = r.val; rw [(index6 t).1]; omega
  | ⟨1, _⟩ => show win0_6.index t 1 * 1024 + 1 * l.val = l.val; rw [(index6 t).2]; omega

/-! ## What a point stores -/

theorem outs_7 (c : Dev nD) (t : Fin cfg0.N) : (outsAt0 m c t.val t.isLt).1 = k0_pay2 (k0_pay6 (iblk m c 1 t)) (k0_pay7 (iblk m c 1 t)) (k0_pay10 (iblk m c 4 t) (iblk m c 2 t) (iblk m c 5 t) (iblk m c 3 t) (iblk m c 6 t)) (k0_pay11 (iblk m c 4 t) (iblk m c 1 t) (iblk m c 2 t) (iblk m c 5 t) (iblk m c 3 t) (iblk m c 6 t)) (iblk m c 0 t) := by
  have hN := lt_N t
  by_cases h0 : t.val % 11 = 0
  · rw [outsAt0_A m c t h0 (by omega)]
    dsimp only
    unfold out0_A_7
    refine (View.read_writes_eq_canon _ _ _ (fun y => cover0_A_7 (y := y) ..)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S384x1024) hz, View.ld_unit_zero (S := S384x2816) hz, View.ld_unit_zero (S := S1x1024) hz, View.ld_unit_zero (S := S2816x1024) hz]
  · rw [outsAt0_B m c t h0 (by omega)]
    dsimp only
    unfold out0_B_7
    refine (View.read_writes_eq_canon _ _ _ (fun y => cover0_B_7 (y := y) ..)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S384x1024) hz, View.ld_unit_zero (S := S384x2816) hz, View.ld_unit_zero (S := S1x1024) hz, View.ld_unit_zero (S := S2816x1024) hz]

theorem outs_8 (c : Dev nD) (t : Fin cfg0.N) : (outsAt0 m c t.val t.isLt).2.1 = k0_pay8 (iblk m c 4 t) (iblk m c 1 t) := by
  have hN := lt_N t
  by_cases h0 : t.val % 11 = 0
  · rw [outsAt0_A m c t h0 (by omega)]
    dsimp only
    unfold out0_A_8
    refine (View.read_writes_eq_canon _ _ _ (fun y => cover0_A_8 (y := y) ..)).trans ?_
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S384x1024) hz, View.ld_unit_zero (S := S384x2816) hz, View.ld_unit_zero (S := S1x1024) hz, View.ld_unit_zero (S := S2816x1024) hz]
  · rw [outsAt0_B m c t h0 (by omega)]
    dsimp only
    unfold out0_B_8
    refine (View.read_writes_eq_canon _ _ _ (fun y => cover0_B_8 (y := y) ..)).trans ?_
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S384x1024) hz, View.ld_unit_zero (S := S384x2816) hz, View.ld_unit_zero (S := S1x1024) hz, View.ld_unit_zero (S := S2816x1024) hz]

/-- The first point stores its share. -/
theorem outs_9_A (c : Dev nD) (t : Fin cfg0.N) (h0 : t.val % 11 = 0) (h1 : ¬1 ≤ t.val) : (outsAt0 m c t.val t.isLt).2.2 = k0_pay1 (k0_pay7 (iblk m c 1 t)) (k0_pay9 (iblk m c 2 t) (iblk m c 5 t) (iblk m c 3 t) (iblk m c 6 t)) := by
  rw [outsAt0_A m c t h0 h1]
  dsimp only
  unfold out0_A_9
  refine (View.read_writes_eq_canon _ _ _ (fun y => cover0_A_9 (y := y) ..)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, View.ld_unit_zero (S := S384x1024) hz, View.ld_unit_zero (S := S384x2816) hz, View.ld_unit_zero (S := S1x1024) hz, View.ld_unit_zero (S := S2816x1024) hz]

/-- Every later point adds its share to what the point before left. -/
theorem outs_9_B (c : Dev nD) (t : Fin cfg0.N) (h0 : ¬t.val % 11 = 0) (h1 : 1 ≤ t.val) :
    (outsAt0 m c t.val t.isLt).2.2 = addf (outsAt0 m c (t.val - 1) (Nat.lt_of_le_of_lt (Nat.sub_le _ _) t.isLt)).2.2 (k0_pay1 (k0_pay7 (iblk m c 1 t)) (k0_pay9 (iblk m c 2 t) (iblk m c 5 t) (iblk m c 3 t) (iblk m c 6 t))) := by
  rw [outsAt0_B m c t h0 h1]
  dsimp only
  unfold out0_B_9
  refine (View.read_writes_eq_canon _ _ _ (fun y => cover0_B_9 (y := y) ..)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, View.ld_unit_zero (S := S384x1024) hz, View.ld_unit_zero (S := S384x2816) hz, View.ld_unit_zero (S := S1x1024) hz, View.ld_unit_zero (S := S2816x1024) hz, pay3_eq]

/-! ## The arrays after the run -/

variable (DH H : Fin 4224 → Fin 1024 → ℝ) (A B : Fin 4224 → Fin 2816 → ℝ) (G : Fin 1024 → ℝ) (WG WU : Fin 2816 → Fin 1024 → ℝ) (c : Dev nD)
  (v0 : (V m c main_v1 : Vec Ideal S4224x1024 .f32) = mat DH) (v1 : (V m c main_v3 : Vec Ideal S4224x1024 .f32) = mat H)
  (v2 : (V m c main_v6 : Vec Ideal S4224x2816 .bf16) = mat A) (v3 : (V m c main_v9 : Vec Ideal S4224x2816 .bf16) = mat B)
  (v4 : (V m c main_v10 : Vec Ideal S1x1024 .f32) = mat fun _ => G)
  (v5 : (V m c main_v12 : Vec Ideal S2816x1024 .bf16) = mat WG) (v6 : (V m c main_v14 : Vec Ideal S2816x1024 .bf16) = mat WU)

include v0 v1 v2 v3 v4 v5 v6 in
theorem final7 : ((dats m 0 c).arrAt 7 cfg0.N : Vec Ideal S4224x1024 .f32)
    = mat fun R l => DH R l + back 1024 (H R) (fun k => du (A R) (B R) WG WU k * G k) l := by
  refine eq_mat _ _ fun R l => ?_
  have h := (dats m 0 c).arrAt_emb_eq_flushed 7 Value.disjoint7 (ptOf R) (flush0_7 _) (ix2 ⟨R.val % 384, Nat.mod_lt _ (by decide)⟩ l : S384x1024.Idx)
  have e : ((cfg0.win 7).blk (ptOf R)).view.emb (ix2 ⟨R.val % 384, Nat.mod_lt _ (by decide)⟩ l : S384x1024.Idx) = (ix2 R l : S4224x1024.Idx) := by
    funext a
    apply Fin.ext
    match a with
    | ⟨0, _⟩ => show win0_7.index (ptOf R) 0 * 384 + 1 * (R.val % 384) = R.val; rw [(index7 _).1]; dsimp only; omega
    | ⟨1, _⟩ => show win0_7.index (ptOf R) 1 * 1024 + 1 * l.val = l.val; rw [(index7 _).2]; omega
  rw [e] at h
  refine h.trans ?_
  rw [Value.flushed7, outs_7, iblk0_real m c _ DH v0, iblk1_real m c _ H v1, iblk2_real m c _ A v2, iblk3_real m c _ B v3,
    iblk4_real m c _ _ v4, iblk5_real m c _ WG v5, iblk6_real m c _ WU v6, pay2_real]
  have hR : rowAt (ptOf R) ⟨R.val % 384, Nat.mod_lt _ (by decide)⟩ = R := Fin.ext (by show 384 * (R.val / 384) + R.val % 384 = R.val; omega)
  show (((DH (rowAt (ptOf R) ⟨R.val % 384, Nat.mod_lt _ (by decide)⟩) l + back 1024 (H (rowAt (ptOf R) ⟨R.val % 384, Nat.mod_lt _ (by decide)⟩)) (fun k =>
    du (A (rowAt (ptOf R) ⟨R.val % 384, Nat.mod_lt _ (by decide)⟩)) (B (rowAt (ptOf R) ⟨R.val % 384, Nat.mod_lt _ (by decide)⟩)) WG WU k * G k) l : ℝ) : EReal)) = _
  rw [hR]

include v1 v4 in
theorem final8 : ((dats m 0 c).arrAt 8 cfg0.N : Vec Ideal S4224x1024 .bf16) = mat fun R l => H R l * scl 1024 (H R) * G l := by
  refine eq_mat _ _ fun R l => ?_
  have h := (dats m 0 c).arrAt_emb_eq_flushed 8 Value.disjoint8 (ptOf R) (flush0_8 _) (ix2 ⟨R.val % 384, Nat.mod_lt _ (by decide)⟩ l : S384x1024.Idx)
  have e : ((cfg0.win 8).blk (ptOf R)).view.emb (ix2 ⟨R.val % 384, Nat.mod_lt _ (by decide)⟩ l : S384x1024.Idx) = (ix2 R l : S4224x1024.Idx) := by
    funext a
    apply Fin.ext
    match a with
    | ⟨0, _⟩ => show win0_8.index (ptOf R) 0 * 384 + 1 * (R.val % 384) = R.val; rw [(index8 _).1]; dsimp only; omega
    | ⟨1, _⟩ => show win0_8.index (ptOf R) 1 * 1024 + 1 * l.val = l.val; rw [(index8 _).2]; omega
  rw [e] at h
  refine h.trans ?_
  rw [Value.flushed8, outs_8, iblk1_real m c _ H v1, iblk4_real m c _ _ v4, pay8_real]
  have hR : rowAt (ptOf R) ⟨R.val % 384, Nat.mod_lt _ (by decide)⟩ = R := Fin.ext (by show 384 * (R.val / 384) + R.val % 384 = R.val; omega)
  show (((H (rowAt (ptOf R) ⟨R.val % 384, Nat.mod_lt _ (by decide)⟩) l * scl 1024 (H (rowAt (ptOf R) ⟨R.val % 384, Nat.mod_lt _ (by decide)⟩)) * G l : ℝ) : EReal)) = _
  rw [hR]

include v1 v2 v3 v5 v6 in
/-- A point's share of the gradient of the gains, at real arguments. -/
theorem share (t : Fin cfg0.N) : k0_pay1 (k0_pay7 (iblk m c 1 t)) (k0_pay9 (iblk m c 2 t) (iblk m c 5 t) (iblk m c 3 t) (iblk m c 6 t))
    = mat fun _ l => ∑ r, du (A (rowAt t r)) (B (rowAt t r)) WG WU l * (H (rowAt t r) l * scl 1024 (H (rowAt t r))) := by
  rw [iblk1_real m c _ H v1, iblk2_real m c _ A v2, iblk3_real m c _ B v3, iblk5_real m c _ WG v5, iblk6_real m c _ WU v6, pay1_real]

include v1 v2 v3 v5 v6 in
/-- The gains' buffer after point `n`: the sum of the points' shares so far. -/
theorem outs_9 : ∀ (n : ℕ) (h : n < cfg0.N), ((outsAt0 m c n h).2.2 : Vec Ideal S1x1024 .f32)
      = mat fun _ l => ∑ s : Fin (n + 1), ∑ r, du (A (rowAt ⟨s.val, lt_of_lt_of_le s.isLt h⟩ r)) (B (rowAt ⟨s.val, lt_of_lt_of_le s.isLt h⟩ r)) WG WU l
        * (H (rowAt ⟨s.val, lt_of_lt_of_le s.isLt h⟩ r) l * scl 1024 (H (rowAt ⟨s.val, lt_of_lt_of_le s.isLt h⟩ r)))
  | 0, h => by
    refine (outs_9_A m c ⟨0, h⟩ (by dsimp only) (by dsimp only; omega)).trans ?_
    rw [share m H A B WG WU c v1 v2 v3 v5 v6]
    refine eq_mat _ _ fun r l => ?_
    rw [Fin.sum_univ_one]
    rfl
  | n + 1, h => by
    have hN : cfg0.N = 11 := N_0
    refine (outs_9_B m c ⟨n + 1, h⟩ (by dsimp only; omega) (by dsimp only; omega)).trans ?_
    refine eq_mat _ _ fun r l => ?_
    rw [share m H A B WG WU c v1 v2 v3 v5 v6, Fin.sum_univ_castSucc]
    refine Eq.trans ?_ (EReal.coe_add _ _).symm
    exact congrArg₂ (· + ·) (congrFun (outs_9 n (Nat.lt_of_succ_lt h)) (ix2 r l)) rfl

/-- The gains' array after the run. -/
theorem final9_eq : ((dats m 0 c).arrAt 9 cfg0.N : Vec Ideal S1x1024 .f32) = (outsAt0 m c 10 (by rw [show cfg0.N = 11 from N_0]; decide)).2.2 := by
  refine (dats m 0 c).arrAt_eq_of_cover 9 _ (fun t hf => ?_) fun i => ⟨t0_10, (flush0_9 t0_10).mpr rfl, ?_⟩
  · have h3 : t.val = 10 := by have := (flush0_9 t).mp hf; have := lt_N t; omega
    obtain rfl : t = t0_10 := Fin.ext h3
    rw [Value.flushed9]
    have hz' : (fun a => win0_9.index t0_10 a * main_v15_2.ty.shape.size a) = fun _ => 0 := funext fun a => by fin_cases a <;> decide
    exact (Memref.read_access_unit_zero (Elt Ideal) main_v15_2 hz' (fun a => by rw [congrFun hz' a]; simp) _).symm
  · show i ∈ ((View.whole main_v15_2).slice (win0_9.rect t0_10)).set
    rw [View.set_slice_whole, Rect.mem_set_unit]
    intro a
    have h0 : (i 0 : Nat) < 1 := (i 0).isLt
    have h1 : (i 1 : Nat) < 1024 := (i 1).isLt
    match a with
    | ⟨0, _⟩ => show win0_9.index t0_10 0 * win0_9.size 0 ≤ (i 0 : Nat) ∧ (i 0 : Nat) < win0_9.index t0_10 0 * win0_9.size 0 + win0_9.xsize (grid0.coords t0_10) 0
                rw [show win0_9.index t0_10 0 * win0_9.size 0 = 0 from by decide +kernel, show win0_9.xsize (grid0.coords t0_10) 0 = 1 from by decide +kernel]; omega
    | ⟨1, _⟩ => show win0_9.index t0_10 1 * win0_9.size 1 ≤ (i 1 : Nat) ∧ (i 1 : Nat) < win0_9.index t0_10 1 * win0_9.size 1 + win0_9.xsize (grid0.coords t0_10) 1
                rw [show win0_9.index t0_10 1 * win0_9.size 1 = 0 from by decide +kernel, show win0_9.xsize (grid0.coords t0_10) 1 = 1024 from by decide +kernel]; omega

include v1 v2 v3 v5 v6 in
theorem final9 : ((dats m 0 c).arrAt 9 cfg0.N : Vec Ideal S1x1024 .f32)
    = mat fun _ l => ∑ R, du (A R) (B R) WG WU l * (H R l * scl 1024 (H R)) := by
  rw [final9_eq, outs_9 m H A B WG WU c v1 v2 v3 v5 v6]
  refine eq_mat _ _ fun r l => ?_
  refine congrArg ((↑) : ℝ → EReal) ?_
  exact sum_tiles fun R => du (A R) (B R) WG WU l * (H R l * scl 1024 (H R))

end Cert.FfnUpKernelIdeal.Hand

end
-- ==== Proof.FfnUpRef.lean ====
/- The reference of the feed-forward block's backward call at real arguments, and the two programs' agreement. -/
module

public import proofs.«01_k».proof.Defs
public import proofs.«01_k».proof.Proof.Gen.FfnUpKernelIdeal.Value
public import proofs.«01_k».proof.Proof.FfnUpValue
public import proofs.«01_k».proof.Proof.Gen.FfnUpRefIdeal.Run
public import proofs.«01_k».proof.Proof.Gen.FfnUpRefIdeal.Read
public import Idealize.ShloMosaic.Lib.Pointwise
public import Idealize.ShloMosaic.Lib.Pipeline.Value
public import Idealize.ShloMosaic.Lib.Tactic

@[expose] public section

set_option maxRecDepth 16384

noncomputable section

namespace Cert.FfnUpKernelIdeal.Hand

open Cert.FfnUpKernelIdeal Cert.FfnUpKernelIdeal.Gen Idealize.ShloMosaic Idealize.ShloMosaic.TcCoe Idealize.SL.Sem
open Idealize.ShloMosaic.Pipeline (Dat)
open Cert.Norm Cert.FfnUpRefIdeal.Read

variable (dh h : Fin 4112 → Fin 1024 → ℝ) (a b : Fin 4112 → Fin 2816 → ℝ) (g : Fin 1024 → ℝ) (wg wu : Fin 1024 → Fin 2816 → ℝ)

theorem ref7 (r : Fin 4112) : val_main_v7 (F := Ideal) (mat h) (ix2 r 0) = (scl 1024 (h r) : EReal) := by
  pointwise [val_main_v7, val_main_v6, val_main_v5, val_main_v4, val_main_v3, val_main_v2, val_main_v1, val_main_v0, val_main_cst, val_main_cst_0, val_main_cst_1]
  simp only [lit_1024, lit_eps, ← EReal.coe_mul, ← Softmax.coe_sum, div_1024, ← EReal.coe_add, rsqrt_1024]
  rfl

theorem ref12 : val_main_v12 (F := Ideal) (mat h) = mat fun r l => h r l * scl 1024 (h r) := by
  refine eq_mat _ _ fun r l => ?_
  have e := ref7 h r
  unfold val_main_v12 val_main_v11
  generalize val_main_v7 (F := Ideal) (mat h) = s at e ⊢
  pointwise
  rw [e]
  exact (EReal.coe_mul _ _).symm

theorem ref53 : val_main_v53 (F := Ideal) (mat h) = mat fun r l => h r l * scl 1024 (h r) := ref12 h

theorem ref10 (r : Fin 4112) : val_main_v10 (F := Ideal) (mat h) (ix2 r 0) = ((-(1 / 2) * (scl 1024 (h r) / ms 1024 (h r)) : ℝ) : EReal) := by
  have e := ref7 h r
  unfold val_main_v10 val_main_v8
  generalize val_main_v7 (F := Ideal) (mat h) = s at e ⊢
  pointwise [val_main_v9, val_main_cst_2, val_main_v6, val_main_v5, val_main_v4, val_main_v3, val_main_v2, val_main_v1, val_main_v0, val_main_cst, val_main_cst_0, val_main_cst_1]
  rw [e]
  simp only [lit_neg_half, lit_1024, lit_eps, ← EReal.coe_mul, ← Softmax.coe_sum, div_1024, ← EReal.coe_add]
  exact (congrArg (fun z : EReal => ((-(1 / 2) : ℝ) : EReal) * z) (div_ms_1024 (h r) (scl 1024 (h r)))).trans (EReal.coe_mul _ _).symm

theorem ref20 : val_main_v20 (F := Ideal) (mat a) (mat b) (mat wg) (mat wu) = mat fun r => du (a r) (b r) (fun k l => wg l k) (fun k l => wu l k) := by
  refine eq_mat _ _ fun r l => ?_
  pointwise [val_main_v20, val_main_v19, val_main_v18]
  simp only [← EReal.coe_mul, ← Softmax.coe_sum, ← EReal.coe_add]
  exact congrArg ((↑) : ℝ → EReal) (add_comm _ _)

theorem ref25 : val_main_v25 (F := Ideal) (mat a) (mat b) (vec g) (mat wg) (mat wu)
    = mat fun r l => du (a r) (b r) (fun k l => wg l k) (fun k l => wu l k) l * g l := by
  refine eq_mat _ _ fun r l => ?_
  unfold val_main_v25
  rw [ref20]
  pointwise [val_main_v24, val_main_v13]
  exact (EReal.coe_mul _ _).symm

theorem ref37 (r : Fin 4112) (l : Fin 1024) : val_main_v37 (F := Ideal) (mat h) (mat a) (mat b) (vec g) (mat wg) (mat wu) (ix2 r l)
    = (((∑ k, h r k * (du (a r) (b r) (fun k l => wg l k) (fun k l => wu l k) k * g k)) * (-(1 / 2) * (scl 1024 (h r) / ms 1024 (h r))) / 1024 : ℝ) : EReal) := by
  have e := ref10 h r
  unfold val_main_v37 val_main_v36 val_main_v35 val_main_v33 val_main_v29 val_main_v28 val_main_v27
  rw [ref25]
  generalize val_main_v10 (F := Ideal) (mat h) = s at e ⊢
  pointwise [val_main_v34, val_main_cst_5, val_main_cst_6, val_main_cst_7]
  simp only [Finset.univ_unique, Finset.sum_singleton]
  rw [show s (ix2 r (default : Fin 1)) = _ from e]
  simp only [lit_1024, ← EReal.coe_mul, ← Softmax.coe_sum, div_1024, ← EReal.coe_add]
  rfl

theorem ref41 : val_main_v41 (F := Ideal) (mat dh) (mat h) (mat a) (mat b) (vec g) (mat wg) (mat wu)
    = mat fun r l => dh r l + back 1024 (h r) (fun k => du (a r) (b r) (fun k l => wg l k) (fun k l => wu l k) k * g k) l := by
  refine eq_mat _ _ fun r l => ?_
  have e := ref37 h a b g wg wu r l
  have e' := ref7 h r
  unfold val_main_v41 val_main_v40 val_main_v39 val_main_v38 val_main_v32 val_main_v31 val_main_v30
  rw [ref25]
  generalize val_main_v37 (F := Ideal) (mat h) (mat a) (mat b) (vec g) (mat wg) (mat wu) = s at e ⊢
  generalize val_main_v7 (F := Ideal) (mat h) = s' at e' ⊢
  pointwise
  rw [e, e', ← vjp_back 1024 (h r) (by norm_num)]
  simp only [← EReal.coe_mul, ← EReal.coe_add]
  refine congrArg ((↑) : ℝ → EReal) ?_
  show dh r l + (du (a r) (b r) (fun k l => wg l k) (fun k l => wu l k) l * g l) * _ + h r l * _ + _ * h r l = _
  ring

/-- The first result: the gradient of the block's input, padded. -/
theorem ref43 : val_main_v43 (F := Ideal) (mat dh) (mat h) (mat a) (mat b) (vec g) (mat wg) (mat wu)
    = mat (pad fun r l => dh r l + back 1024 (h r) (fun k => du (a r) (b r) (fun k l => wg l k) (fun k l => wu l k) k * g k) l) := by
  refine eq_mat _ _ fun r l => ?_
  unfold val_main_v43
  rw [ref41]
  pointwise [val_main_v42, val_main_cst_8]
  exact pad_dite _ r l

/-- The second result: the normed rows, padded. -/
theorem ref59 : val_main_v59 (F := Ideal) (mat h) (vec g) = mat (pad fun r l => h r l * scl 1024 (h r) * g l) := by
  have e : val_main_v56 (F := Ideal) (mat h) (vec g) = mat fun r l => h r l * scl 1024 (h r) * g l := by
    refine eq_mat _ _ fun r l => ?_
    unfold val_main_v56
    rw [ref53]
    pointwise [val_main_v55, val_main_v54]
    exact (EReal.coe_mul _ _).symm
  refine eq_mat _ _ fun r l => ?_
  unfold val_main_v59 val_main_v58
  rw [e]
  pointwise [val_main_v57, val_main_cst_12]
  exact pad_dite _ r l

/-- The third result: the gradient of the gains. -/
theorem ref60 : val_main_v60 (F := Ideal) (mat h) (mat a) (mat b) (mat wg) (mat wu)
    = mat fun _ l => ∑ r, du (a r) (b r) (fun k l => wg l k) (fun k l => wu l k) l * (h r l * scl 1024 (h r)) := by
  refine eq_mat _ _ fun r l => ?_
  unfold val_main_v60 val_main_v26 val_main_v23 val_main_v22 val_main_v21
  rw [ref12, ref20]
  pointwise [val_main_cst_3, val_main_cst_4]
  simp only [Finset.univ_unique, Finset.sum_singleton, ← EReal.coe_mul, ← Softmax.coe_sum]
  refine congrArg ((↑) : ℝ → EReal) (Finset.sum_congr rfl fun r _ => ?_)
  exact mul_comm _ _

/-! ## The kernel's arrays are the reference's -/

theorem du_zero (wg wu : Fin 2816 → Fin 1024 → ℝ) (l : Fin 1024) : du (fun _ => 0) (fun _ => 0) wg wu l = 0 := by
  unfold du; simp

theorem rows7 : (fun R l => pad dh R l + back 1024 (pad h R) (fun k => du (pad a R) (pad b R) (fun k l => wg l k) (fun k l => wu l k) k * g k) l)
    = pad fun r l => dh r l + back 1024 (h r) (fun k => du (a r) (b r) (fun k l => wg l k) (fun k l => wu l k) k * g k) l := by
  funext R
  by_cases hR : R.val < 4112
  · rw [pad_pos _ R hR, pad_pos _ R hR, pad_pos _ R hR, pad_pos _ R hR, pad_pos _ R hR]
  · rw [pad_neg _ R hR, pad_neg _ R hR, pad_neg _ R hR, pad_neg _ R hR, pad_neg _ R hR]
    funext l
    simp only [du_zero, zero_mul, back_zero, add_zero]

theorem rows8 : (fun R l => pad h R l * scl 1024 (pad h R) * g l) = pad fun r l => h r l * scl 1024 (h r) * g l := by
  funext R
  by_cases hR : R.val < 4112
  · rw [pad_pos _ R hR, pad_pos _ R hR]
  · rw [pad_neg _ R hR, pad_neg _ R hR]
    funext l
    simp only [zero_mul]

theorem rows9 (l : Fin 1024) : ∑ R, du (pad a R) (pad b R) (fun k l => wg l k) (fun k l => wu l k) l * (pad h R l * scl 1024 (pad h R))
    = ∑ r, du (a r) (b r) (fun k l => wg l k) (fun k l => wu l k) l * (h r l * scl 1024 (h r)) := by
  refine sum_pad _ _ (fun R => ?_) fun R hR => ?_
  · rw [pad_pos _ _ R.isLt, pad_pos _ _ R.isLt, pad_pos _ _ R.isLt]
  · rw [pad_neg _ R hR, pad_neg _ R hR, pad_neg _ R hR, du_zero, zero_mul]

end Cert.FfnUpKernelIdeal.Hand

end
-- ==== Proof.FfnUpEq.lean ====
/- The feed-forward block's backward call: the arrays the kernel leaves are the reference's at finite arguments. -/
module

public import proofs.«01_k».proof.Defs
public import proofs.«01_k».proof.Proof.Gen.FfnUpKernelIdeal.Value
public import proofs.«01_k».proof.Proof.FfnUpRef
public import proofs.«01_k».proof.Proof.Gen.Pre_ffn_up_finite
public import proofs.«01_k».proof.Proof.Gen.FfnUpRefIdeal.Run
public import proofs.«01_k».proof.Proof.Gen.FfnUpRefIdeal.Read
public import Idealize.ShloMosaic.Lib.Pointwise
public import Idealize.ShloMosaic.Lib.Pipeline.Value
public import Idealize.ShloMosaic.Lib.Tactic

@[expose] public section

set_option maxRecDepth 16384

noncomputable section

namespace Cert.FfnUpKernelIdeal.Hand

open Cert.FfnUpKernelIdeal Cert.FfnUpKernelIdeal.Gen Idealize.ShloMosaic Idealize.ShloMosaic.TcCoe Idealize.SL.Sem
open Idealize.ShloMosaic.Pipeline (Dat)
open Cert.Norm Cert.FfnUpRefIdeal.Read

variable (dh : FVec Ideal ⟨2, ![4112, 1024]⟩ .f32) (h : FVec Ideal ⟨2, ![4112, 1024]⟩ .f32) (da : FVec Ideal ⟨2, ![4112, 2816]⟩ .f32) (db : FVec Ideal ⟨2, ![4112, 2816]⟩ .f32) (g : FVec Ideal ⟨1, ![1024]⟩ .f32) (wg : FVec Ideal ⟨2, ![1024, 2816]⟩ .f32) (wu : FVec Ideal ⟨2, ![1024, 2816]⟩ .f32)
  (hf : Cert.Pre_ffn_up_finite.fn (F := Ideal) dh h da db g wg wu = fun _ => 1#1)

include hf in
theorem pre_at (R : Fin 18497) (l : Fin 2816) : (Cert.Pre_ffn_up_finite.fn (F := Ideal) dh h da db g wg wu : IVec _ 1) (ix2 R l) = 1#1 := by rw [hf]

include hf in
theorem fin_dh : dh = mat fun r l => (dh (ix2 r l)).toReal := by
  refine mat_of _ fun r l => ?_
  have g := pre_at dh h da db g wg wu hf ⟨10272 + r.val, by omega⟩ ⟨l.val, by omega⟩
  revert g
  pointwise [Cert.Pre_ffn_up_finite.fn, Cert.Pre_ffn_up_finite.fn_part1]
  first
  | exact id
  | (intro g
     rw [dif_neg (by omega), dif_neg (by omega), dif_neg (by omega), dif_neg (by omega), dif_pos (by omega)] at g
     rw [show ∀ p, (⟨10272 + r.val - 4112 - 4112 - 1024 - 1024, p⟩ : Fin 4112) = r from fun p => Fin.ext (by show 10272 + r.val - 4112 - 4112 - 1024 - 1024 = r.val; omega)] at g
     exact g)
  | (intro g
     simp (disch := omega) only [dif_pos, dif_neg] at g
     rw [show ∀ p, (⟨10272 + r.val - 4112 - 4112 - 1024 - 1024, p⟩ : Fin 4112) = r from fun p => Fin.ext (by show 10272 + r.val - 4112 - 4112 - 1024 - 1024 = r.val; omega)] at g
     exact g)

include hf in
theorem fin_h : h = mat fun r l => (h (ix2 r l)).toReal := by
  refine mat_of _ fun r l => ?_
  have g := pre_at dh h da db g wg wu hf ⟨14384 + r.val, by omega⟩ ⟨l.val, by omega⟩
  revert g
  pointwise [Cert.Pre_ffn_up_finite.fn, Cert.Pre_ffn_up_finite.fn_part1]
  first
  | exact id
  | (intro g
     rw [dif_neg (by omega), dif_neg (by omega), dif_neg (by omega), dif_neg (by omega), dif_neg (by omega), dif_pos (by omega)] at g
     rw [show ∀ p, (⟨14384 + r.val - 4112 - 4112 - 1024 - 1024 - 4112, p⟩ : Fin 4112) = r from fun p => Fin.ext (by show 14384 + r.val - 4112 - 4112 - 1024 - 1024 - 4112 = r.val; omega)] at g
     exact g)
  | (intro g
     simp (disch := omega) only [dif_pos, dif_neg] at g
     rw [show ∀ p, (⟨14384 + r.val - 4112 - 4112 - 1024 - 1024 - 4112, p⟩ : Fin 4112) = r from fun p => Fin.ext (by show 14384 + r.val - 4112 - 4112 - 1024 - 1024 - 4112 = r.val; omega)] at g
     exact g)

include hf in
theorem fin_da : da = mat fun r l => (da (ix2 r l)).toReal := by
  refine mat_of _ fun r l => ?_
  have g := pre_at dh h da db g wg wu hf ⟨r.val, by omega⟩ l
  revert g
  pointwise [Cert.Pre_ffn_up_finite.fn, Cert.Pre_ffn_up_finite.fn_part1]
  first | exact id | (intro g; simp (disch := omega) only [dif_pos, dif_neg] at g; exact g)

include hf in
theorem fin_db : db = mat fun r l => (db (ix2 r l)).toReal := by
  refine mat_of _ fun r l => ?_
  have g := pre_at dh h da db g wg wu hf ⟨4112 + r.val, by omega⟩ l
  revert g
  pointwise [Cert.Pre_ffn_up_finite.fn, Cert.Pre_ffn_up_finite.fn_part1]
  first
  | exact id
  | (intro g
     rw [dif_neg (by omega), dif_pos (by omega)] at g
     rw [show ∀ p, (⟨4112 + r.val - 4112, p⟩ : Fin 4112) = r from fun p => Fin.ext (by show 4112 + r.val - 4112 = r.val; omega)] at g
     exact g)
  | (intro g
     simp (disch := omega) only [dif_pos, dif_neg] at g
     rw [show ∀ p, (⟨4112 + r.val - 4112, p⟩ : Fin 4112) = r from fun p => Fin.ext (by show 4112 + r.val - 4112 = r.val; omega)] at g
     exact g)

include hf in
theorem fin_g : g = vec fun l => (g (ix1 l)).toReal := by
  refine vec_of _ fun l => ?_
  have g := pre_at dh h da db g wg wu hf ⟨18496, by omega⟩ ⟨l.val, by omega⟩
  revert g
  pointwise [Cert.Pre_ffn_up_finite.fn, Cert.Pre_ffn_up_finite.fn_part1]
  first
  | exact id
  | (intro g
     simp (disch := omega) only [dif_pos, dif_neg] at g
     exact g)

include hf in
theorem fin_wg : wg = mat fun r l => (wg (ix2 r l)).toReal := by
  refine mat_of _ fun r l => ?_
  have g := pre_at dh h da db g wg wu hf ⟨8224 + r.val, by omega⟩ l
  revert g
  pointwise [Cert.Pre_ffn_up_finite.fn, Cert.Pre_ffn_up_finite.fn_part1]
  first
  | exact id
  | (intro g
     rw [dif_neg (by omega), dif_neg (by omega), dif_pos (by omega)] at g
     rw [show ∀ p, (⟨8224 + r.val - 4112 - 4112, p⟩ : Fin 1024) = r from fun p => Fin.ext (by show 8224 + r.val - 4112 - 4112 = r.val; omega)] at g
     exact g)
  | (intro g
     simp (disch := omega) only [dif_pos, dif_neg] at g
     rw [show ∀ p, (⟨8224 + r.val - 4112 - 4112, p⟩ : Fin 1024) = r from fun p => Fin.ext (by show 8224 + r.val - 4112 - 4112 = r.val; omega)] at g
     exact g)

include hf in
theorem fin_wu : wu = mat fun r l => (wu (ix2 r l)).toReal := by
  refine mat_of _ fun r l => ?_
  have g := pre_at dh h da db g wg wu hf ⟨9248 + r.val, by omega⟩ l
  revert g
  pointwise [Cert.Pre_ffn_up_finite.fn, Cert.Pre_ffn_up_finite.fn_part1]
  first
  | exact id
  | (intro g
     rw [dif_neg (by omega), dif_neg (by omega), dif_neg (by omega), dif_pos (by omega)] at g
     rw [show ∀ p, (⟨9248 + r.val - 4112 - 4112 - 1024, p⟩ : Fin 1024) = r from fun p => Fin.ext (by show 9248 + r.val - 4112 - 4112 - 1024 = r.val; omega)] at g
     exact g)
  | (intro g
     simp (disch := omega) only [dif_pos, dif_neg] at g
     rw [show ∀ p, (⟨9248 + r.val - 4112 - 4112 - 1024, p⟩ : Fin 1024) = r from fun p => Fin.ext (by show 9248 + r.val - 4112 - 4112 - 1024 = r.val; omega)] at g
     exact g)

variable (m : (ℓ : Loc nD τ sig) → Buf (Elt Ideal) ℓ) (c : Dev nD)
  (e0 : (m ((c : Thread nD τ).loc main_arg0) : FVec Ideal S4112x1024 .f32) = dh) (e1 : (m ((c : Thread nD τ).loc main_arg1) : FVec Ideal S4112x1024 .f32) = h)
  (e2 : (m ((c : Thread nD τ).loc main_arg2) : FVec Ideal S4112x2816 .f32) = da) (e3 : (m ((c : Thread nD τ).loc main_arg3) : FVec Ideal S4112x2816 .f32) = db)
  (e4 : (m ((c : Thread nD τ).loc main_arg4) : FVec Ideal S1024 .f32) = g)
  (e5 : (m ((c : Thread nD τ).loc main_arg5) : FVec Ideal S1024x2816 .f32) = wg) (e6 : (m ((c : Thread nD τ).loc main_arg6) : FVec Ideal S1024x2816 .f32) = wu)

include hf e0 e1 e2 e3 e4 e5 e6 in
/-- The three arrays the kernel leaves are the reference's. -/
theorem value_eq : ((dats m 0 c).arrAt 7 cfg0.N : Vec Ideal S4224x1024 .f32) = val_main_v43 (F := Ideal) dh h da db g wg wu
    ∧ ((dats m 0 c).arrAt 8 cfg0.N : Vec Ideal S4224x1024 .bf16) = val_main_v59 (F := Ideal) h g
    ∧ ((dats m 0 c).arrAt 9 cfg0.N : Vec Ideal S1x1024 .f32) = val_main_v60 (F := Ideal) h da db wg wu := by
  have f0 := fin_dh dh h da db g wg wu hf
  have f1 := fin_h dh h da db g wg wu hf
  have f2 := fin_da dh h da db g wg wu hf
  have f3 := fin_db dh h da db g wg wu hf
  have f4 := fin_g dh h da db g wg wu hf
  have f5 := fin_wg dh h da db g wg wu hf
  have f6 := fin_wu dh h da db g wg wu hf
  clear hf
  generalize (fun (r : Fin 4112) (l : Fin 1024) => (dh (ix2 r l)).toReal) = dh' at f0
  generalize (fun (r : Fin 4112) (l : Fin 1024) => (h (ix2 r l)).toReal) = h' at f1
  generalize (fun (r : Fin 4112) (l : Fin 2816) => (da (ix2 r l)).toReal) = da' at f2
  generalize (fun (r : Fin 4112) (l : Fin 2816) => (db (ix2 r l)).toReal) = db' at f3
  generalize (fun l : Fin 1024 => (g (ix1 l)).toReal) = g' at f4
  generalize (fun (r : Fin 1024) (l : Fin 2816) => (wg (ix2 r l)).toReal) = wg' at f5
  generalize (fun (r : Fin 1024) (l : Fin 2816) => (wu (ix2 r l)).toReal) = wu' at f6
  subst f0 f1 f2 f3 f4 f5 f6
  have v0 := V_0 m c dh' e0
  have v1 := V_1 m c h' e1
  have v2 := V_2 m c da' e2
  have v3 := V_3 m c db' e3
  have v4 := V_4 m c g' e4
  have v5 := V_5 m c wg' e5
  have v6 := V_6 m c wu' e6
  refine ⟨(final7 m _ _ _ _ _ _ _ c v0 v1 v2 v3 v4 v5 v6).trans ?_, (final8 m _ _ c v1 v4).trans ?_, (final9 m _ _ _ _ _ c v1 v2 v3 v5 v6).trans ?_⟩
  · rw [ref43, ← rows7]
  · rw [ref59, ← rows8]
  · rw [ref60]
    refine eq_mat _ _ fun r l => congrArg ((↑) : ℝ → EReal) ?_
    exact rows9 h' da' db' wg' wu' l

end Cert.FfnUpKernelIdeal.Hand

end
-- ==== Proof.Sigmoid.lean ====
/- The logistic function, the columns of a block, and padded arrays, over the real numbers. -/
module

public import proofs.«01_k».proof.Proof.Norm
public import Idealize.ShloMosaic.Lib.Pointwise
public import Idealize.ShloMosaic.Lib.Pipeline.Value
public import Idealize.ShloMosaic.Lib.Pipeline.ValueKit.Tiles
public import Mathlib.Analysis.SpecialFunctions.Trigonometric.DerivHyp

@[expose] public section

set_option maxRecDepth 16384

noncomputable section

namespace Cert.Norm

open Idealize.ShloMosaic Idealize.SL.Sem

/-- The logistic function. -/
def sg (x : ℝ) : ℝ := (1 + Real.exp (-x))⁻¹

/-- The kernels write it through the hyperbolic tangent. -/
theorem half_tanh (x : ℝ) : 1 / 2 * Real.tanh (1 / 2 * x) + 1 / 2 = sg x := by
  have h1 : Real.exp (1 / 2 * x) ≠ 0 := (Real.exp_pos _).ne'
  have h2 : Real.exp (-(1 / 2 * x)) = (Real.exp (1 / 2 * x))⁻¹ := Real.exp_neg _
  have h3 : Real.exp (-x) = (Real.exp (1 / 2 * x))⁻¹ * (Real.exp (1 / 2 * x))⁻¹ := by
    rw [← h2, ← Real.exp_add]; congr 1; ring
  unfold sg
  rw [Real.tanh_eq_sinh_div_cosh, Real.sinh_eq, Real.cosh_eq, h2, h3]
  generalize Real.exp (1 / 2 * x) = e at h1
  have h4 : e * e + 1 ≠ 0 := by nlinarith [mul_self_nonneg e]
  field_simp
  ring

/-- The host writes it as a quotient. -/
theorem host_sg (x : ℝ) : Ideal.div ((1 : ℝ) : EReal) (((1 : ℝ) : EReal) + Ideal.exp (-(x : EReal))) = (sg x : EReal) := by
  have h : 1 + Real.exp (-x) ≠ 0 := by positivity
  rw [← EReal.coe_neg, Ideal.exp_coe, ← EReal.coe_add, Softmax.coe_div _ _ h, one_div]
  rfl

/-- The columns from `o` on of a block. -/
theorem ld_cols {a b c : ℕ} (o : ℕ) (ho : o + c ≤ b) (X : Fin a → Fin b → ℝ) (inb) :
    (View.ld (Val := Elt Ideal) (S := ⟨2, ![a, b]⟩) (e' := .bf16) (mat X) (Rect.unit (s := ⟨2, ![a, b]⟩) ![0, o] ![a, c] inb) : Vec Ideal ⟨2, ![a, c]⟩ .bf16)
      = mat fun r (l : Fin c) => X r ⟨o + l.val, by omega⟩ := by
  funext i
  refine congrArg ((↑) : ℝ → EReal) (congrArg₂ X (Fin.ext ?_) (Fin.ext ?_))
  · show 0 + 1 * (i 0).val = (i 0).val; omega
  · show o + 1 * (i 1).val = o + (i 1).val; omega

/-- The rows from `o` on of a block. -/
theorem ld_rows {a b c : ℕ} (o : ℕ) (ho : o + c ≤ a) (X : Fin a → Fin b → ℝ) (inb) :
    (View.ld (Val := Elt Ideal) (S := ⟨2, ![a, b]⟩) (e' := .bf16) (mat X) (Rect.unit (s := ⟨2, ![a, b]⟩) ![o, 0] ![c, b] inb) : Vec Ideal ⟨2, ![c, b]⟩ .bf16)
      = mat fun (r : Fin c) l => X ⟨o + r.val, by omega⟩ l := by
  funext i
  refine congrArg ((↑) : ℝ → EReal) (congrArg₂ X (Fin.ext ?_) (Fin.ext ?_))
  · show o + 1 * (i 0).val = o + (i 0).val; omega
  · show 0 + 1 * (i 1).val = (i 1).val; omega

/-- Rows of zeros below a matrix. -/
theorem pad_concat {b : ℕ} (X : Fin 4112 → Fin b → ℝ) (hb hc) :
    concatenate ⟨2, ![4224, b]⟩ 0 [⟨⟨2, ![4112, b]⟩, (mat X : FVec Ideal ⟨2, ![4112, b]⟩ .f32)⟩,
      ⟨⟨2, ![112, b]⟩, broadcastInDim ⟨2, ![112, b]⟩ ![] hb (constant ⟨0, ![]⟩ .f32 0x00000000#32)⟩] hc = (mat (pad X) : FVec Ideal ⟨2, ![4224, b]⟩ .f32) := by
  refine eq_mat _ _ fun r l => ?_
  pointwise
  exact pad_dite X r l

end Cert.Norm

end
-- ==== Proof.FfnDownPay.lean ====
/- What one grid point of the feed-forward block's first backward call stores, at real blocks. -/
module

public import proofs.«01_k».proof.Defs
public import proofs.«01_k».proof.Proof.Gen.FfnDownKernelIdeal.Value
public import proofs.«01_k».proof.Proof.Norm
public import proofs.«01_k».proof.Proof.Sigmoid
public import Idealize.ShloMosaic.Lib.Pointwise
public import Idealize.ShloMosaic.Lib.Pipeline.Value
public import Idealize.ShloMosaic.Lib.Tactic

@[expose] public section

set_option maxRecDepth 16384

noncomputable section

namespace Cert.FfnDownKernelIdeal.Hand

open Cert.FfnDownKernelIdeal Cert.FfnDownKernelIdeal.Gen Idealize.ShloMosaic Idealize.ShloMosaic.TcCoe Idealize.SL.Sem
open Idealize.ShloMosaic.Pipeline (Dat)
open Cert.Norm

variable (dh f : Fin 384 → Fin 1024 → ℝ) (g : Fin 1 → Fin 1024 → ℝ) (w : Fin 1408 → Fin 1024 → ℝ) (a b d : Fin 384 → Fin 1408 → ℝ)
  (y : Fin 384 → Fin 1024 → ℝ)

theorem pay8_real (r : Fin 384) : k0_pay8 (F := Ideal) (mat f) (ix2 r 0) = (scl 1024 (f r) : EReal) := by
  pointwise [k0_pay8, k0_pay7]
  simp only [lit_1024, lit_eps, ← EReal.coe_mul, ← Softmax.coe_sum, div_1024, ← EReal.coe_add, rsqrt_1024]
  rfl

theorem pay9_real : k0_pay9 (F := Ideal) (mat f) = mat fun r l => f r l * scl 1024 (f r) := by
  refine eq_mat _ _ fun r l => ?_
  have e := pay8_real f r
  unfold k0_pay9
  generalize k0_pay8 (F := Ideal) (mat f) = s at e ⊢
  pointwise [k0_pay7]
  rw [e]
  exact (EReal.coe_mul _ _).symm

theorem pay10_real : k0_pay10 (F := Ideal) (mat dh) = mat fun r l => 1 / 2 * dh r l := by
  refine eq_mat _ _ fun r l => ?_
  pointwise [k0_pay10]
  simp only [lit_half, ← EReal.coe_mul]
  rfl

/-- A point's share of the gradient of the gains. -/
theorem pay11_real : k0_pay11 (F := Ideal) (mat f) (mat dh) = mat fun _ l => ∑ r, 1 / 2 * dh r l * (f r l * scl 1024 (f r)) := by
  refine eq_mat _ _ fun r l => ?_
  unfold k0_pay11
  rw [pay9_real, pay10_real]
  pointwise
  simp only [← EReal.coe_mul, ← Softmax.coe_sum]
  rfl

/-- The gradient of the second layer's output. -/
theorem pay12_real : (k0_pay12 (F := Ideal) (mat g) (mat f) (mat dh) : FVec Ideal S384x1024 .f32)
    = mat fun r => back 1024 (f r) fun k => 1 / 2 * dh r k * g 0 k := by
  refine eq_mat _ _ fun r l => ?_
  have e := pay8_real f r
  unfold k0_pay12
  rw [pay9_real, pay10_real]
  generalize k0_pay8 (F := Ideal) (mat f) = s at e ⊢
  pointwise
  rw [e]
  simp only [lit_1024, ← EReal.coe_mul, ← Softmax.coe_sum, div_1024, ← EReal.coe_sub]
  rfl

theorem pay21_real : k0_pay21 (F := Ideal) (mat y : FVec Ideal S384x1024 .f32) (mat w) = mat fun r k => ∑ l, y r l * w k l := by
  refine eq_mat _ _ fun r l => ?_
  pointwise [k0_pay21]
  simp only [← EReal.coe_mul, ← Softmax.coe_sum]
  rfl

theorem pay13_real : k0_pay13 (F := Ideal) (mat g) (mat f) (mat dh) (mat w)
    = mat fun r k => ∑ l, back 1024 (f r) (fun k => 1 / 2 * dh r k * g 0 k) l * w k l :=
  (congrArg (fun z : FVec Ideal S384x1024 .bf16 => k0_pay21 (F := Ideal) z (mat w)) (pay12_real dh f g)).trans (pay21_real w _)

theorem pay14_real : k0_pay14 (F := Ideal) (mat a) = mat a := by
  refine eq_mat _ _ fun r l => ?_
  pointwise [k0_pay14]
  rfl

theorem pay15_real : k0_pay15 (F := Ideal) (mat a) = mat a := pay14_real a
theorem pay22_real : k0_pay22 (F := Ideal) (mat a) = mat a := pay14_real a
theorem pay23_real : k0_pay23 (F := Ideal) (mat a) = mat a := pay14_real a

theorem pay1_real : k0_pay1 (F := Ideal) (mat a) (Scalar.ofBits .f32 0x3F000000#32) = mat fun r l => sg (a r l) := by
  refine eq_mat _ _ fun r l => ?_
  pointwise [k0_pay1]
  simp only [lit_half, ← EReal.coe_mul, Ideal.tanh_coe, ← EReal.coe_add]
  exact congrArg ((↑) : ℝ → EReal) (half_tanh _)

theorem pay2_real : k0_pay2 (F := Ideal) (mat a) (Scalar.ofBits .f32 0x3F000000#32) = mat fun r l => a r l * sg (a r l) := by
  unfold k0_pay2
  rw [pay1_real]
  refine eq_mat _ _ fun r l => ?_
  exact (EReal.coe_mul _ _).symm

theorem pay16_real : k0_pay16 (F := Ideal) (mat a) = mat fun r l => sg (a r l) :=
  (congrArg (fun z => k0_pay1 (F := Ideal) z (Scalar.ofBits .f32 0x3F000000#32)) (pay14_real a)).trans (pay1_real a)

theorem pay17_real : k0_pay17 (F := Ideal) (mat a) = mat fun r l => a r l * sg (a r l) :=
  (congrArg (fun z => k0_pay2 (F := Ideal) z (Scalar.ofBits .f32 0x3F000000#32)) (pay14_real a)).trans (pay2_real a)

/-- The gated activation. -/
theorem pay3_real : (k0_pay3 (F := Ideal) (mat a) (mat b) (Scalar.ofBits .f32 0x3F000000#32) : FVec Ideal S384x1408 .f32)
    = mat fun r l => a r l * sg (a r l) * b r l := by
  unfold k0_pay3
  rw [pay2_real]
  refine eq_mat _ _ fun r l => ?_
  exact (EReal.coe_mul _ _).symm

/-- The gradient of the gate. -/
theorem pay4_real : (k0_pay4 (F := Ideal) (mat d) (mat a) (mat b) (Scalar.ofBits .f32 0x3F000000#32) : FVec Ideal S384x1408 .f32)
    = mat fun r l => d r l * b r l * (sg (a r l) + a r l * sg (a r l) * (1 - sg (a r l))) := by
  unfold k0_pay4
  rw [pay1_real, pay2_real]
  refine eq_mat _ _ fun r l => ?_
  pointwise
  simp only [lit_one, ← EReal.coe_mul, ← EReal.coe_add, ← EReal.coe_sub]
  rfl

/-- The gradient of what the gate multiplies. -/
theorem pay5_real : (k0_pay5 (F := Ideal) (mat d) (mat a) (Scalar.ofBits .f32 0x3F000000#32) : FVec Ideal S384x1408 .f32)
    = mat fun r l => d r l * (a r l * sg (a r l)) := by
  unfold k0_pay5
  rw [pay2_real]
  refine eq_mat _ _ fun r l => ?_
  exact (EReal.coe_mul _ _).symm

theorem pay18_real : (k0_pay18 (F := Ideal) (mat a) (mat b) : FVec Ideal S384x1408 .f32) = mat fun r l => a r l * sg (a r l) * b r l :=
  (congrArg₂ (fun y z => k0_pay3 (F := Ideal) y z (Scalar.ofBits .f32 0x3F000000#32)) (pay14_real a) (pay15_real b)).trans (pay3_real a b)

theorem pay19_real : (k0_pay19 (F := Ideal) (mat d) (mat a) (mat b) : FVec Ideal S384x1408 .f32)
    = mat fun r l => d r l * b r l * (sg (a r l) + a r l * sg (a r l) * (1 - sg (a r l))) :=
  (congrArg₂ (fun y z => k0_pay4 (F := Ideal) (mat d) y z (Scalar.ofBits .f32 0x3F000000#32)) (pay14_real a) (pay15_real b)).trans (pay4_real a b d)

theorem pay20_real : (k0_pay20 (F := Ideal) (mat d) (mat a) : FVec Ideal S384x1408 .f32) = mat fun r l => d r l * (a r l * sg (a r l)) :=
  (congrArg (fun y => k0_pay5 (F := Ideal) (mat d) y (Scalar.ofBits .f32 0x3F000000#32)) (pay14_real a)).trans (pay5_real a d)

theorem pay6_eq (x z : Vec Ideal S1x1024 .f32) : k0_pay6 (F := Ideal) x z = addf z x := by
  unfold k0_pay6
  rw [shapeCast_self]

end Cert.FfnDownKernelIdeal.Hand

end
-- ==== Proof.FfnDownRef.lean ====
/- The reference of the feed-forward block's first backward call, at real arguments. -/
module

public import proofs.«01_k».proof.Defs
public import proofs.«01_k».proof.Proof.Norm
public import proofs.«01_k».proof.Proof.Sigmoid
public import proofs.«01_k».proof.Proof.Gen.FfnDownRefIdeal.Run
public import proofs.«01_k».proof.Proof.Gen.FfnDownRefIdeal.Read
public import proofs.«01_k».proof.Proof.Gen.FfnDownKernelIdeal.Value
public import Idealize.ShloMosaic.Lib.Pointwise
public import Idealize.ShloMosaic.Lib.Pipeline.Value
public import Idealize.ShloMosaic.Lib.Tactic

@[expose] public section

set_option maxRecDepth 16384

noncomputable section

namespace Cert.FfnDownKernelIdeal.Hand

open Cert.FfnDownKernelIdeal Cert.FfnDownKernelIdeal.Gen Idealize.ShloMosaic Idealize.ShloMosaic.TcCoe Idealize.SL.Sem
open Idealize.ShloMosaic.Pipeline (Dat)
open Cert.Norm Cert.FfnDownRefIdeal.Read

/-! ## What the forward pass computes -/

variable (h : Fin 4112 → Fin 1024 → ℝ) (pg : Fin 1024 → ℝ) (wg wu : Fin 1024 → Fin 2816 → ℝ) (wd : Fin 2816 → Fin 1024 → ℝ)

/-- A normed row through the first layer. -/
def layer (h : Fin 4112 → Fin 1024 → ℝ) (pg : Fin 1024 → ℝ) (w : Fin 1024 → Fin 2816 → ℝ) (r : Fin 4112) (k : Fin 2816) : ℝ :=
  ∑ l, h r l * scl 1024 (h r) * pg l * w l k

/-- The gated activation through the second layer. -/
def second (a b : Fin 4112 → Fin 2816 → ℝ) (wd : Fin 2816 → Fin 1024 → ℝ) (r : Fin 4112) (l : Fin 1024) : ℝ := ∑ k, a r k * sg (a r k) * b r k * wd k l

theorem ref7 (r : Fin 4112) : val_main_v7 (F := Ideal) (mat h) (ix2 r 0) = (scl 1024 (h r) : EReal) := by
  pointwise [val_main_v7, val_main_v6, val_main_v5, val_main_v4, val_main_v3, val_main_v2, val_main_v1, val_main_v0, val_main_cst, val_main_cst_0, val_main_cst_1]
  simp only [lit_1024, lit_eps, ← EReal.coe_mul, ← Softmax.coe_sum, div_1024, ← EReal.coe_add, rsqrt_1024]
  rfl

theorem ref12 : val_main_v12 (F := Ideal) (mat h) (vec pg) = mat fun r l => h r l * scl 1024 (h r) * pg l := by
  refine eq_mat _ _ fun r l => ?_
  have e := ref7 h r
  unfold val_main_v12 val_main_v9 val_main_v8
  generalize val_main_v7 (F := Ideal) (mat h) = s at e ⊢
  pointwise [val_main_v11, val_main_v10]
  rw [e]
  simp only [← EReal.coe_mul]
  rfl

theorem ref13 : val_main_v13 (F := Ideal) (mat h) (vec pg) (mat wg) = mat (layer h pg wg) := by
  refine eq_mat _ _ fun r l => ?_
  unfold val_main_v13
  rw [ref12]
  pointwise
  simp only [← EReal.coe_mul, ← Softmax.coe_sum]
  rfl

theorem ref14 : val_main_v14 (F := Ideal) (mat h) (vec pg) (mat wu) = mat (layer h pg wu) := ref13 h pg wu

/-! ## The gradients, at the forward pass's arrays -/

variable (x0 x1 : FVec Ideal S4112x1024 .f32) (x2 x6 : FVec Ideal S1024 .f32) (x3 x4 : FVec Ideal S1024x2816 .f32) (x5 : FVec Ideal S2816x1024 .f32)
  (dh f : Fin 4112 → Fin 1024 → ℝ) (g : Fin 1024 → ℝ) (a b : Fin 4112 → Fin 2816 → ℝ)
  (hA : val_main_v13 (F := Ideal) x1 x2 x3 = mat a) (hB : val_main_v14 (F := Ideal) x1 x2 x4 = mat b)
  (hF : val_main_v17 (F := Ideal) x1 x2 x3 x4 x5 = mat f)

include hA in
theorem ref15_2 : val_main_v15_2 (F := Ideal) x1 x2 x3 = mat fun r k => sg (a r k) := by
  refine eq_mat _ _ fun r l => ?_
  unfold val_main_v15_2 val_main_call0_v3 val_main_call0_v1 val_main_call0_v0
  rw [hA]
  pointwise [val_main_call0_v4, val_main_call0_cst_0, val_main_call0_v2, val_main_call0_cst]
  exact host_sg _

include hA in
theorem ref15_0 : val_main_v15_0 (F := Ideal) x1 x2 x3 = mat fun r k => a r k * sg (a r k) := by
  unfold val_main_v15_0
  rw [ref15_2 x1 x2 x3 a hA, hA]
  exact eq_mat _ _ fun r l => (EReal.coe_mul _ _).symm

include hA hB in
theorem ref16 : val_main_v16 (F := Ideal) x1 x2 x3 x4 = mat fun r k => a r k * sg (a r k) * b r k := by
  unfold val_main_v16
  rw [ref15_0 x1 x2 x3 a hA, hB]
  exact eq_mat _ _ fun r l => (EReal.coe_mul _ _).symm

include hA hB in
theorem ref17 : val_main_v17 (F := Ideal) x1 x2 x3 x4 (mat wd) = mat (second a b wd) := by
  refine eq_mat _ _ fun r l => ?_
  unfold val_main_v17
  rw [ref16 x1 x2 x3 x4 a b hA hB]
  pointwise
  simp only [← EReal.coe_mul, ← Softmax.coe_sum]
  rfl

include hF in
theorem ref25 (r : Fin 4112) : val_main_v25 (F := Ideal) x1 x2 x3 x4 x5 (ix2 r 0) = (scl 1024 (f r) : EReal) := by
  unfold val_main_v25 val_main_v24 val_main_v22 val_main_v20 val_main_v19 val_main_v18
  rw [hF]
  pointwise [val_main_v23, val_main_v21, val_main_cst_2, val_main_cst_3, val_main_cst_4]
  simp only [lit_1024, lit_eps, ← EReal.coe_mul, ← Softmax.coe_sum, div_1024, ← EReal.coe_add, rsqrt_1024]
  rfl

include hF in
theorem ref30 : val_main_v30 (F := Ideal) x1 x2 x3 x4 x5 = mat fun r l => f r l * scl 1024 (f r) := by
  refine eq_mat _ _ fun r l => ?_
  have e := ref25 x1 x2 x3 x4 x5 f hF r
  unfold val_main_v30 val_main_v29
  rw [hF]
  generalize val_main_v25 (F := Ideal) x1 x2 x3 x4 x5 = s at e ⊢
  pointwise
  rw [e]
  exact (EReal.coe_mul _ _).symm

include hF in
theorem ref28 (r : Fin 4112) : val_main_v28 (F := Ideal) x1 x2 x3 x4 x5 (ix2 r 0) = ((-(1 / 2) * (scl 1024 (f r) / ms 1024 (f r)) : ℝ) : EReal) := by
  have e := ref25 x1 x2 x3 x4 x5 f hF r
  unfold val_main_v28 val_main_v26
  generalize val_main_v25 (F := Ideal) x1 x2 x3 x4 x5 = s at e ⊢
  unfold val_main_v24 val_main_v22 val_main_v20 val_main_v19 val_main_v18
  rw [hF]
  pointwise [val_main_v27, val_main_cst_5, val_main_v23, val_main_v21, val_main_cst_2, val_main_cst_3, val_main_cst_4]
  rw [e]
  simp only [lit_neg_half, lit_1024, lit_eps, ← EReal.coe_mul, ← Softmax.coe_sum, div_1024, ← EReal.coe_add]
  exact (congrArg (fun z : EReal => ((-(1 / 2) : ℝ) : EReal) * z) (div_ms_1024 (f r) (scl 1024 (f r)))).trans (EReal.coe_mul _ _).symm

theorem ref37 : val_main_v37 (F := Ideal) (mat dh) = mat fun r l => 1 / 2 * dh r l := by
  refine eq_mat _ _ fun r l => ?_
  pointwise [val_main_v37, val_main_v36, val_main_cst_7]
  simp only [lit_half, ← EReal.coe_mul]
  rfl

theorem ref42 : val_main_v42 (F := Ideal) (mat dh) (vec g) = mat fun r l => 1 / 2 * dh r l * g l := by
  refine eq_mat _ _ fun r l => ?_
  unfold val_main_v42
  rw [ref37]
  pointwise [val_main_v41, val_main_v31]
  exact (EReal.coe_mul _ _).symm

include hF in
theorem ref53 (r : Fin 4112) (l : Fin 1024) : val_main_v53 (F := Ideal) (mat dh) x1 x2 x3 x4 x5 (vec g) (ix2 r l)
    = (((∑ k, f r k * (1 / 2 * dh r k * g k)) * (-(1 / 2) * (scl 1024 (f r) / ms 1024 (f r))) / 1024 : ℝ) : EReal) := by
  have e := ref28 x1 x2 x3 x4 x5 f hF r
  unfold val_main_v53 val_main_v52 val_main_v51 val_main_v49 val_main_v46 val_main_v45 val_main_v44
  rw [hF, ref42]
  generalize val_main_v28 (F := Ideal) x1 x2 x3 x4 x5 = s at e ⊢
  pointwise [val_main_v50, val_main_cst_10, val_main_cst_11, val_main_cst_12]
  simp only [Finset.univ_unique, Finset.sum_singleton]
  rw [show s (ix2 r (default : Fin 1)) = _ from e]
  simp only [lit_1024, ← EReal.coe_mul, ← Softmax.coe_sum, div_1024, ← EReal.coe_add]
  rfl

include hF in
/-- The gradient of the second layer's output. -/
theorem ref57 : val_main_v57 (F := Ideal) (mat dh) x1 x2 x3 x4 x5 (vec g) = mat fun r => back 1024 (f r) fun k => 1 / 2 * dh r k * g k := by
  refine eq_mat _ _ fun r l => ?_
  have e := ref53 x1 x2 x3 x4 x5 dh f g hF r l
  have e' := ref25 x1 x2 x3 x4 x5 f hF r
  unfold val_main_v57 val_main_v56 val_main_v55 val_main_v54 val_main_v48 val_main_v47
  rw [hF, ref42]
  generalize val_main_v53 (F := Ideal) (mat dh) x1 x2 x3 x4 x5 (vec g) = s at e ⊢
  generalize val_main_v25 (F := Ideal) x1 x2 x3 x4 x5 = s' at e' ⊢
  pointwise
  rw [e, e', ← vjp_back 1024 (f r) (by norm_num)]
  simp only [← EReal.coe_mul, ← EReal.coe_add]
  rfl

/-- The cotangent of the gated activation. -/
def dact (dh f : Fin 4112 → Fin 1024 → ℝ) (g : Fin 1024 → ℝ) (wd : Fin 2816 → Fin 1024 → ℝ) (r : Fin 4112) (k : Fin 2816) : ℝ :=
  ∑ l, back 1024 (f r) (fun k => 1 / 2 * dh r k * g k) l * wd k l

variable (hF' : val_main_v17 (F := Ideal) x1 x2 x3 x4 (mat wd) = mat f)

include hF' in
theorem ref58 : val_main_v58 (F := Ideal) (mat dh) x1 x2 x3 x4 (mat wd) (vec g) = mat (dact dh f g wd) := by
  refine eq_mat _ _ fun r l => ?_
  unfold val_main_v58
  rw [ref57 x1 x2 x3 x4 (mat wd) dh f g hF']
  pointwise
  simp only [← EReal.coe_mul, ← Softmax.coe_sum]
  rfl

include hA hB hF' in
theorem ref61 : val_main_v61 (F := Ideal) (mat dh) x1 x2 x3 x4 (mat wd) (vec g)
    = mat fun r k => dact dh f g wd r k * b r k * (sg (a r k) + a r k * sg (a r k) * (1 - sg (a r k))) := by
  refine eq_mat _ _ fun r l => ?_
  unfold val_main_v61 val_main_call1_v2 val_main_call1_v1 val_main_call1_v0 val_main_v60 val_main_v15_1 val_main_call0_v7
  rw [ref58 wd x1 x2 x3 x4 dh f g hF', ref15_2 x1 x2 x3 a hA, hA, hB]
  pointwise [val_main_call0_v6, val_main_call0_cst_1]
  simp only [lit_one, ← EReal.coe_mul, ← EReal.coe_add, ← EReal.coe_sub]
  refine congrArg ((↑) : ℝ → EReal) ?_
  show dact dh f g wd r l * b r l * sg (a r l) + a r l * (dact dh f g wd r l * b r l) * (sg (a r l) * (1 - sg (a r l))) = _
  ring

include hA hF' in
theorem ref59 : val_main_v59 (F := Ideal) (mat dh) x1 x2 x3 x4 (mat wd) (vec g) = mat fun r k => dact dh f g wd r k * (a r k * sg (a r k)) := by
  unfold val_main_v59
  rw [ref58 wd x1 x2 x3 x4 dh f g hF', ref15_0 x1 x2 x3 a hA]
  exact eq_mat _ _ fun r l => (EReal.coe_mul _ _).symm.trans (congrArg ((↑) : ℝ → EReal) (mul_comm _ _))

/-! ## The five results -/

include hA hB hF' in
theorem ref64 : (val_main_v64 (F := Ideal) (mat dh) x1 x2 x3 x4 (mat wd) (vec g) : FVec Ideal S4224x2816 .f32)
    = mat (pad fun r k => dact dh f g wd r k * b r k * (sg (a r k) + a r k * sg (a r k) * (1 - sg (a r k)))) := by
  show val_main_v63 (F := Ideal) (mat dh) x1 x2 x3 x4 (mat wd) (vec g) = _
  unfold val_main_v63
  rw [ref61 wd x1 x2 x3 x4 dh f g a b hA hB hF']
  exact pad_concat _ _ _

include hA hF' in
theorem ref67 : (val_main_v67 (F := Ideal) (mat dh) x1 x2 x3 x4 (mat wd) (vec g) : FVec Ideal S4224x2816 .f32)
    = mat (pad fun r k => dact dh f g wd r k * (a r k * sg (a r k))) := by
  show val_main_v66 (F := Ideal) (mat dh) x1 x2 x3 x4 (mat wd) (vec g) = _
  unfold val_main_v66
  rw [ref59 wd x1 x2 x3 x4 dh f g a hA hF']
  exact pad_concat _ _ _

include hA hB in
theorem ref70 : (val_main_v70 (F := Ideal) x1 x2 x3 x4 : FVec Ideal S4224x2816 .f32) = mat (pad fun r k => a r k * sg (a r k) * b r k) := by
  show val_main_v69 (F := Ideal) x1 x2 x3 x4 = _
  unfold val_main_v69
  rw [ref16 x1 x2 x3 x4 a b hA hB]
  exact pad_concat _ _ _

include hF in
theorem ref73 : (val_main_v73 (F := Ideal) (mat dh) x1 x2 x3 x4 x5 (vec g) : FVec Ideal S4224x1024 .f32)
    = mat (pad fun r => back 1024 (f r) fun k => 1 / 2 * dh r k * g k) := by
  show val_main_v72 (F := Ideal) (mat dh) x1 x2 x3 x4 x5 (vec g) = _
  unfold val_main_v72
  rw [ref57 x1 x2 x3 x4 x5 dh f g hF]
  exact pad_concat _ _ _

include hF in
theorem ref74 : val_main_v74 (F := Ideal) (mat dh) x1 x2 x3 x4 x5 = mat fun _ l => ∑ r, 1 / 2 * dh r l * (f r l * scl 1024 (f r)) := by
  refine eq_mat _ _ fun r l => ?_
  unfold val_main_v74 val_main_v43 val_main_v40 val_main_v39 val_main_v38
  rw [ref30 x1 x2 x3 x4 x5 f hF, ref37]
  pointwise [val_main_cst_8, val_main_cst_9]
  simp only [Finset.univ_unique, Finset.sum_singleton, ← EReal.coe_mul, ← Softmax.coe_sum]
  refine congrArg ((↑) : ℝ → EReal) (Finset.sum_congr rfl fun r _ => ?_)
  exact mul_comm _ _

end Cert.FfnDownKernelIdeal.Hand

end
-- ==== Proof.FfnDownHost.lean ====
/- The arrays the feed-forward block's first backward call reads, at real arguments. -/
module

public import proofs.«01_k».proof.Defs
public import proofs.«01_k».proof.Proof.FfnDownPay
public import proofs.«01_k».proof.Proof.FfnDownRef
public import Idealize.ShloMosaic.Lib.Pointwise
public import Idealize.ShloMosaic.Lib.Pipeline.Value
public import Idealize.ShloMosaic.Lib.Tactic

@[expose] public section

set_option maxRecDepth 16384

noncomputable section

namespace Cert.FfnDownKernelIdeal.Hand

open Cert.FfnDownKernelIdeal Cert.FfnDownKernelIdeal.Gen Idealize.ShloMosaic Idealize.ShloMosaic.TcCoe Idealize.SL.Sem
open Idealize.ShloMosaic.Pipeline (Dat)
open Cert.Norm Cert.FfnDownRefIdeal.Read

theorem hz : (![0, 0] : Fin 2 → Nat) = fun _ => 0 := funext fun a => by fin_cases a <;> rfl

variable (m : (ℓ : Loc nD τ sig) → Buf (Elt Ideal) ℓ)

/-! ## The arrays the pipeline reads -/

theorem V_0 (c : Dev nD) (X : Fin 4112 → Fin 1024 → ℝ) (h : (m ((c : Thread nD τ).loc main_arg0) : FVec Ideal S4112x1024 .f32) = mat X) :
    (V m c main_v19 : Vec Ideal S4224x1024 .f32) = mat (pad X) := by
  refine Eq.trans ?_ (pad_concat X bcast_S_S112x1024 concatenates_S4112x1024_S112x1024_S4224x1024_d0)
  rw [← h]
  show StableHlo.after (List.flatten [hostOps0, hostOps0_1, hostOps0_2]) _ (Proc.devRef .tc main_v19) = _
  simp only [hostOps0, hostOps0_1, hostOps0_2, List.flatten_cons, List.flatten_nil, List.append_nil, List.cons_append, List.nil_append]
  after_results
  try rfl

variable (c : Dev nD) (x0 x1 : FVec Ideal S4112x1024 .f32) (x2 : FVec Ideal S1024 .f32) (x3 x4 : FVec Ideal S1024x2816 .f32) (x5 : FVec Ideal S2816x1024 .f32)
  (e0 : (m ((c : Thread nD τ).loc main_arg0) : FVec Ideal S4112x1024 .f32) = x0) (e1 : (m ((c : Thread nD τ).loc main_arg1) : FVec Ideal S4112x1024 .f32) = x1)
  (e2 : (m ((c : Thread nD τ).loc main_arg2) : FVec Ideal S1024 .f32) = x2)
  (e3 : (m ((c : Thread nD τ).loc main_arg3) : FVec Ideal S1024x2816 .f32) = x3) (e4 : (m ((c : Thread nD τ).loc main_arg4) : FVec Ideal S1024x2816 .f32) = x4)
  (e5 : (m ((c : Thread nD τ).loc main_arg5) : FVec Ideal S2816x1024 .f32) = x5)

include e1 e2 e3 in
theorem V_1 (X : Fin 4112 → Fin 2816 → ℝ) (h : val_main_v13 (F := Ideal) x1 x2 x3 = mat X) :
    (V m c main_v22 : Vec Ideal S4224x2816 .bf16) = mat (pad X) := by
  refine Eq.trans ?_ (pad_concat X bcast_S_S112x2816 concatenates_S4112x2816_S112x2816_S4224x2816_d0)
  rw [← h]
  subst e1 e2 e3
  show StableHlo.after (List.flatten [hostOps0, hostOps0_1, hostOps0_2]) _ (Proc.devRef .tc main_v22) = _
  simp only [hostOps0, hostOps0_1, hostOps0_2, List.flatten_cons, List.flatten_nil, List.append_nil, List.cons_append, List.nil_append]
  after_results
  try rfl

include e1 e2 e4 in
theorem V_2 (X : Fin 4112 → Fin 2816 → ℝ) (h : val_main_v14 (F := Ideal) x1 x2 x4 = mat X) :
    (V m c main_v25 : Vec Ideal S4224x2816 .bf16) = mat (pad X) := by
  refine Eq.trans ?_ (pad_concat X bcast_S_S112x2816 concatenates_S4112x2816_S112x2816_S4224x2816_d0)
  rw [← h]
  subst e1 e2 e4
  show StableHlo.after (List.flatten [hostOps0, hostOps0_1, hostOps0_2]) _ (Proc.devRef .tc main_v25) = _
  simp only [hostOps0, hostOps0_1, hostOps0_2, List.flatten_cons, List.flatten_nil, List.append_nil, List.cons_append, List.nil_append]
  after_results
  try rfl

include e1 e2 e3 e4 e5 in
theorem V_3 (X : Fin 4112 → Fin 1024 → ℝ) (h : val_main_v17 (F := Ideal) x1 x2 x3 x4 x5 = mat X) :
    (V m c main_v27 : Vec Ideal S4224x1024 .f32) = mat (pad X) := by
  refine Eq.trans ?_ (pad_concat X bcast_S_S112x1024 concatenates_S4112x1024_S112x1024_S4224x1024_d0)
  rw [← h]
  subst e1 e2 e3 e4 e5
  show StableHlo.after (List.flatten [hostOps0, hostOps0_1, hostOps0_2]) _ (Proc.devRef .tc main_v27) = _
  simp only [hostOps0, hostOps0_1, hostOps0_2, List.flatten_cons, List.flatten_nil, List.append_nil, List.cons_append, List.nil_append]
  after_results
  try rfl

theorem V_4 (G : Fin 1024 → ℝ) (h : (m ((c : Thread nD τ).loc main_arg6) : FVec Ideal S1024 .f32) = vec G) :
    (V m c main_v28 : Vec Ideal S1x1024 .f32) = mat fun _ => G := by
  have e : (shapeCast S1x1024 (vec G : FVec Ideal S1024 .f32) rfl : FVec Ideal S1x1024 .f32) = mat fun _ => G := by
    refine eq_mat _ _ fun r l => ?_
    pointwise
    try rfl
  refine Eq.trans ?_ e
  rw [← h]
  show StableHlo.after (List.flatten [hostOps0, hostOps0_1, hostOps0_2]) _ (Proc.devRef .tc main_v28) = _
  simp only [hostOps0, hostOps0_1, hostOps0_2, List.flatten_cons, List.flatten_nil, List.append_nil, List.cons_append, List.nil_append]
  after_results
  try rfl

theorem V_5 (W : Fin 2816 → Fin 1024 → ℝ) (h : (m ((c : Thread nD τ).loc main_arg5) : FVec Ideal S2816x1024 .f32) = mat W) :
    (V m c main_v29 : Vec Ideal S2816x1024 .bf16) = mat W := by
  refine Eq.trans ?_ h
  show StableHlo.after (List.flatten [hostOps0, hostOps0_1, hostOps0_2]) _ (Proc.devRef .tc main_v29) = _
  simp only [hostOps0, hostOps0_1, hostOps0_2, List.flatten_cons, List.flatten_nil, List.append_nil, List.cons_append, List.nil_append]
  after_results
  try rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

/-- The place of row `R` in its block. -/
abbrev inBlk (R : Fin 4224) : Fin 384 := ⟨R.val % 384, Nat.mod_lt _ (by decide)⟩

theorem rowAt_ptOf (R : Fin 4224) : rowAt (ptOf R) (inBlk R) = R := Fin.ext (by show 384 * (R.val / 384) + R.val % 384 = R.val; omega)

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index6 (t : Fin cfg0.N) : win0_6.index t 0 = t.val ∧ win0_6.index t 1 = 0 :=
  (by decide +kernel : ∀ t : Fin grid0.N, win0_6.index t 0 = t.val ∧ win0_6.index t 1 = 0) t
theorem index7 (t : Fin cfg0.N) : win0_7.index t 0 = t.val ∧ win0_7.index t 1 = 0 :=
  (by decide +kernel : ∀ t : Fin grid0.N, win0_7.index t 0 = t.val ∧ win0_7.index t 1 = 0) t
theorem index8 (t : Fin cfg0.N) : win0_8.index t 0 = t.val ∧ win0_8.index t 1 = 0 :=
  (by decide +kernel : ∀ t : Fin grid0.N, win0_8.index t 0 = t.val ∧ win0_8.index t 1 = 0) t
theorem index9 (t : Fin cfg0.N) : win0_9.index t 0 = t.val ∧ win0_9.index t 1 = 0 :=
  (by decide +kernel : ∀ t : Fin grid0.N, win0_9.index t 0 = t.val ∧ win0_9.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = 0 ∧ win0_5.index t 1 = 0 :=
  (by decide +kernel : ∀ t : Fin grid0.N, win0_5.index t 0 = 0 ∧ win0_5.index t 1 = 0) t
theorem index10 (t : Fin cfg0.N) : win0_10.index t 0 = 0 ∧ win0_10.index t 1 = 0 :=
  (by decide +kernel : ∀ t : Fin grid0.N, win0_10.index t 0 = 0 ∧ win0_10.index t 1 = 0) t

theorem iblk0_real (t : Fin cfg0.N) (X : Fin 4224 → Fin 1024 → ℝ) (h : (V m c main_v19 : Vec Ideal S4224x1024 .f32) = mat X) :
    (iblk m c 0 t : Vec Ideal S384x1024 .f32) = mat fun r => X (rowAt t r) := by
  funext i; rw [eq_ix2 i]; generalize i 0 = r; generalize i 1 = l
  refine (View.read_apply ..).trans ((congrArg (V m c main_v19 : Vec Ideal S4224x1024 .f32) (funext fun a => Fin.ext ?_ : _ = ix2 (rowAt t r) l)).trans (congrFun h _))
  match a with
  | ⟨0, _⟩ => show win0_0.index t 0 * 384 + 1 * r.val = 384 * t.val + r.val; rw [(index0 t).1]; omega
  | ⟨1, _⟩ => show win0_0.index t 1 * 1024 + 1 * l.val = l.val; rw [(index0 t).2]; omega

theorem iblk1_real (t : Fin cfg0.N) (X : Fin 4224 → Fin 2816 → ℝ) (h : (V m c main_v22 : Vec Ideal S4224x2816 .bf16) = mat X) :
    (iblk m c 1 t : Vec Ideal S384x2816 .bf16) = mat fun r => X (rowAt t r) := by
  funext i; rw [eq_ix2 i]; generalize i 0 = r; generalize i 1 = l
  refine (View.read_apply ..).trans ((congrArg (V m c main_v22 : Vec Ideal S4224x2816 .bf16) (funext fun a => Fin.ext ?_ : _ = ix2 (rowAt t r) l)).trans (congrFun h _))
  match a with
  | ⟨0, _⟩ => show win0_1.index t 0 * 384 + 1 * r.val = 384 * t.val + r.val; rw [(index1 t).1]; omega
  | ⟨1, _⟩ => show win0_1.index t 1 * 2816 + 1 * l.val = l.val; rw [(index1 t).2]; omega

theorem iblk2_real (t : Fin cfg0.N) (X : Fin 4224 → Fin 2816 → ℝ) (h : (V m c main_v25 : Vec Ideal S4224x2816 .bf16) = mat X) :
    (iblk m c 2 t : Vec Ideal S384x2816 .bf16) = mat fun r => X (rowAt t r) := by
  funext i; rw [eq_ix2 i]; generalize i 0 = r; generalize i 1 = l
  refine (View.read_apply ..).trans ((congrArg (V m c main_v25 : Vec Ideal S4224x2816 .bf16) (funext fun a => Fin.ext ?_ : _ = ix2 (rowAt t r) l)).trans (congrFun h _))
  match a with
  | ⟨0, _⟩ => show win0_2.index t 0 * 384 + 1 * r.val = 384 * t.val + r.val; rw [(index2 t).1]; omega
  | ⟨1, _⟩ => show win0_2.index t 1 * 2816 + 1 * l.val = l.val; rw [(index2 t).2]; omega

theorem iblk3_real (t : Fin cfg0.N) (X : Fin 4224 → Fin 1024 → ℝ) (h : (V m c main_v27 : Vec Ideal S4224x1024 .f32) = mat X) :
    (iblk m c 3 t : Vec Ideal S384x1024 .f32) = mat fun r => X (rowAt t r) := by
  funext i; rw [eq_ix2 i]; generalize i 0 = r; generalize i 1 = l
  refine (View.read_apply ..).trans ((congrArg (V m c main_v27 : Vec Ideal S4224x1024 .f32) (funext fun a => Fin.ext ?_ : _ = ix2 (rowAt t r) l)).trans (congrFun h _))
  match a with
  | ⟨0, _⟩ => show win0_3.index t 0 * 384 + 1 * r.val = 384 * t.val + r.val; rw [(index3 t).1]; omega
  | ⟨1, _⟩ => show win0_3.index t 1 * 1024 + 1 * l.val = l.val; rw [(index3 t).2]; omega

theorem iblk4_real (t : Fin cfg0.N) (X : Fin 1 → Fin 1024 → ℝ) (h : (V m c main_v28 : Vec Ideal S1x1024 .f32) = mat X) :
    (iblk m c 4 t : Vec Ideal S1x1024 .f32) = mat X := by
  funext i; rw [eq_ix2 i]; generalize i 0 = r; generalize i 1 = l
  refine (View.read_apply ..).trans ((congrArg (V m c main_v28 : Vec Ideal S1x1024 .f32) (funext fun a => Fin.ext ?_ : _ = ix2 r l)).trans (congrFun h _))
  match a with
  | ⟨0, _⟩ => show win0_4.index t 0 * 1 + 1 * r.val = r.val; rw [(index4 t).1]; omega
  | ⟨1, _⟩ => show win0_4.index t 1 * 1024 + 1 * l.val = l.val; rw [(index4 t).2]; omega

theorem iblk5_real (t : Fin cfg0.N) (X : Fin 2816 → Fin 1024 → ℝ) (h : (V m c main_v29 : Vec Ideal S2816x1024 .bf16) = mat X) :
    (iblk m c 5 t : Vec Ideal S2816x1024 .bf16) = mat X := by
  funext i; rw [eq_ix2 i]; generalize i 0 = r; generalize i 1 = l
  refine (View.read_apply ..).trans ((congrArg (V m c main_v29 : Vec Ideal S2816x1024 .bf16) (funext fun a => Fin.ext ?_ : _ = ix2 r l)).trans (congrFun h _))
  match a with
  | ⟨0, _⟩ => show win0_5.index t 0 * 2816 + 1 * r.val = r.val; rw [(index5 t).1]; omega
  | ⟨1, _⟩ => show win0_5.index t 1 * 1024 + 1 * l.val = l.val; rw [(index5 t).2]; omega

end Cert.FfnDownKernelIdeal.Hand

end
-- ==== Proof.FfnDownValue.lean ====
/- The arrays the feed-forward block's first backward call leaves, at real arguments. -/
module

public import proofs.«01_k».proof.Defs
public import proofs.«01_k».proof.Proof.FfnDownHost
public import proofs.«01_k».proof.Proof.FfnDownRef
public import Idealize.ShloMosaic.Lib.Pointwise
public import Idealize.ShloMosaic.Lib.Pipeline.Value
public import Idealize.ShloMosaic.Lib.Tactic

@[expose] public section

set_option maxRecDepth 16384

noncomputable section

namespace Cert.FfnDownKernelIdeal.Hand

open Cert.FfnDownKernelIdeal Cert.FfnDownKernelIdeal.Gen Idealize.ShloMosaic Idealize.ShloMosaic.TcCoe Idealize.SL.Sem
open Idealize.ShloMosaic.Pipeline (Dat)
open Cert.Norm Cert.FfnDownRefIdeal.Read

variable (m : (ℓ : Loc nD τ sig) → Buf (Elt Ideal) ℓ)

/-! ## What a point stores -/

/-- Two stores side by side leave the array they are the halves of. -/
theorem canon_two (X : Fin 384 → Fin 2816 → ℝ) (p q : Vec Ideal S384x1408 .bf16) (i1 i0) (hp : p = mat fun r (l : Fin 1408) => X r ⟨1408 + l.val, by omega⟩)
    (hq : q = mat fun r (l : Fin 1408) => X r ⟨0 + l.val, by omega⟩) :
    View.canon (Val := Elt Ideal) (s := S384x2816) (e := .bf16) [⟨Rect.unit ![0, 1408] ![384, 1408] i1, p⟩, ⟨Rect.unit ![0, 0] ![384, 1408] i0, q⟩] = mat X := by
  subst hp hq
  funext y
  refine View.canon_apply_of_pieces (Val := Elt Ideal) (S := S384x2816) (e := .bf16) (mat X) _ (fun p hp x => ?_) y ?_
  · rcases List.mem_cons.mp hp with rfl | hp
    · refine congrArg ((↑) : ℝ → EReal) (congrArg₂ X (Fin.ext ?_) (Fin.ext ?_))
      · show (x 0).val = 0 + 1 * (x 0).val; omega
      · show 1408 + (x 1).val = 1408 + 1 * (x 1).val; omega
    · obtain rfl := List.mem_singleton.mp hp
      refine congrArg ((↑) : ℝ → EReal) (congrArg₂ X (Fin.ext ?_) (Fin.ext ?_))
      · show (x 0).val = 0 + 1 * (x 0).val; omega
      · show 0 + (x 1).val = 0 + 1 * (x 1).val; omega
  · have h0 : (y 0 : Nat) < 384 := (y 0).isLt
    have h1 : (y 1 : Nat) < 2816 := (y 1).isLt
    by_cases h : (y 1 : Nat) < 1408
    · refine ⟨_, List.mem_cons_of_mem _ (List.mem_singleton_self _), ?_⟩
      rw [Rect.mem_set_unit]
      intro a
      match a with
      | ⟨0, _⟩ => show 0 ≤ (y 0 : Nat) ∧ (y 0 : Nat) < 0 + 384; omega
      | ⟨1, _⟩ => show 0 ≤ (y 1 : Nat) ∧ (y 1 : Nat) < 0 + 1408; omega
    · refine ⟨_, List.mem_cons_self, ?_⟩
      rw [Rect.mem_set_unit]
      intro a
      match a with
      | ⟨0, _⟩ => show 0 ≤ (y 0 : Nat) ∧ (y 0 : Nat) < 0 + 384; omega
      | ⟨1, _⟩ => show 1408 ≤ (y 1 : Nat) ∧ (y 1 : Nat) < 1408 + 1408; omega

/-- The cotangent of the gated activation in one row. -/
def drow (x f : Fin 1024 → ℝ) (g : Fin 1024 → ℝ) (wd : Fin 2816 → Fin 1024 → ℝ) (k : Fin 2816) : ℝ :=
  ∑ l, back 1024 f (fun k => 1 / 2 * x k * g k) l * wd k l

variable (c : Dev nD) (DH F : Fin 4224 → Fin 1024 → ℝ) (A B : Fin 4224 → Fin 2816 → ℝ) (G : Fin 1024 → ℝ) (WD : Fin 2816 → Fin 1024 → ℝ)
  (v0 : (V m c main_v19 : Vec Ideal S4224x1024 .f32) = mat DH) (v1 : (V m c main_v22 : Vec Ideal S4224x2816 .bf16) = mat A)
  (v2 : (V m c main_v25 : Vec Ideal S4224x2816 .bf16) = mat B) (v3 : (V m c main_v27 : Vec Ideal S4224x1024 .f32) = mat F)
  (v4 : (V m c main_v28 : Vec Ideal S1x1024 .f32) = mat fun _ => G) (v5 : (V m c main_v29 : Vec Ideal S2816x1024 .bf16) = mat WD)

include v0 v1 v2 v3 v4 v5 in
theorem outs_6 (t : Fin cfg0.N) : ((outsAt0 m c t.val t.isLt).1 : Vec Ideal S384x2816 .bf16)
    = mat fun r k => drow (DH (rowAt t r)) (F (rowAt t r)) G WD k * B (rowAt t r) k * (sg (A (rowAt t r) k) + A (rowAt t r) k * sg (A (rowAt t r) k) * (1 - sg (A (rowAt t r) k))) := by
  have hN := lt_N t
  refine if h0 : t.val % 11 = 0 then ?_ else ?_
  all_goals
    first
    | (rw [outsAt0_A m c t h0 (by omega)]
       dsimp only
       unfold out0_A_6
       refine (View.read_writes_eq_canon _ _ _ (fun y => cover0_A_6 (y := y) ..)).trans ?_
       unfold kernelRun0_A)
    | (rw [outsAt0_B m c t h0 (by omega)]
       dsimp only
       unfold out0_B_6
       refine (View.read_writes_eq_canon _ _ _ (fun y => cover0_B_6 (y := y) ..)).trans ?_
       unfold kernelRun0_B)
    dsimp only
    sl_unfold_words
    simp only [View.readAt_eq_ld, (hs0_0 t).read_unread, (hs0_1 t).read_unread, (hs0_2 t).read_unread, (hs0_3 t).read_unread, (hs0_4 t).read_unread, (hs0_5 t).read_unread, View.ld_unit_zero (S := S384x1024) hz, View.ld_unit_zero (S := S1x1024) hz,
      iblk0_real m c t DH v0, iblk1_real m c t A v1, iblk2_real m c t B v2, iblk3_real m c t F v3, iblk4_real m c t _ v4, iblk5_real m c t WD v5]
    refine canon_two _ _ _ _ _ ?_ ?_
    · rw [ld_cols 1408 (by norm_num), ld_cols 1408 (by norm_num), ld_rows 1408 (by norm_num)]
      erw [pay12_real, pay22_real, pay23_real, pay21_real, pay4_real]
      rfl
    · rw [ld_cols 0 (by norm_num), ld_cols 0 (by norm_num), ld_rows 0 (by norm_num)]
      erw [pay13_real, pay19_real]
      rfl

include v0 v1 v3 v4 v5 in
theorem outs_7 (t : Fin cfg0.N) : ((outsAt0 m c t.val t.isLt).2.1 : Vec Ideal S384x2816 .bf16)
    = mat fun r k => drow (DH (rowAt t r)) (F (rowAt t r)) G WD k * (A (rowAt t r) k * sg (A (rowAt t r) k)) := by
  have hN := lt_N t
  refine if h0 : t.val % 11 = 0 then ?_ else ?_
  all_goals
    first
    | (rw [outsAt0_A m c t h0 (by omega)]
       dsimp only
       unfold out0_A_7
       refine (View.read_writes_eq_canon _ _ _ (fun y => cover0_A_7 (y := y) ..)).trans ?_
       unfold kernelRun0_A)
    | (rw [outsAt0_B m c t h0 (by omega)]
       dsimp only
       unfold out0_B_7
       refine (View.read_writes_eq_canon _ _ _ (fun y => cover0_B_7 (y := y) ..)).trans ?_
       unfold kernelRun0_B)
    dsimp only
    sl_unfold_words
    simp only [View.readAt_eq_ld, (hs0_0 t).read_unread, (hs0_1 t).read_unread, (hs0_2 t).read_unread, (hs0_3 t).read_unread, (hs0_4 t).read_unread, (hs0_5 t).read_unread, View.ld_unit_zero (S := S384x1024) hz, View.ld_unit_zero (S := S1x1024) hz,
      iblk0_real m c t DH v0, iblk1_real m c t A v1, iblk3_real m c t F v3, iblk4_real m c t _ v4, iblk5_real m c t WD v5]
    refine canon_two _ _ _ _ _ ?_ ?_
    · rw [ld_cols 1408 (by norm_num), ld_rows 1408 (by norm_num)]
      erw [pay12_real, pay22_real, pay21_real, pay5_real]
      rfl
    · rw [ld_cols 0 (by norm_num), ld_rows 0 (by norm_num)]
      erw [pay13_real, pay20_real]
      rfl

include v1 v2 in
theorem outs_8 (t : Fin cfg0.N) : ((outsAt0 m c t.val t.isLt).2.2.1 : Vec Ideal S384x2816 .bf16)
    = mat fun r k => A (rowAt t r) k * sg (A (rowAt t r) k) * B (rowAt t r) k := by
  have hN := lt_N t
  refine if h0 : t.val % 11 = 0 then ?_ else ?_
  all_goals
    first
    | (rw [outsAt0_A m c t h0 (by omega)]
       dsimp only
       unfold out0_A_8
       refine (View.read_writes_eq_canon _ _ _ (fun y => cover0_A_8 (y := y) ..)).trans ?_
       unfold kernelRun0_A)
    | (rw [outsAt0_B m c t h0 (by omega)]
       dsimp only
       unfold out0_B_8
       refine (View.read_writes_eq_canon _ _ _ (fun y => cover0_B_8 (y := y) ..)).trans ?_
       unfold kernelRun0_B)
    dsimp only
    sl_unfold_words
    simp only [View.readAt_eq_ld, (hs0_0 t).read_unread, (hs0_1 t).read_unread, (hs0_2 t).read_unread, (hs0_3 t).read_unread, (hs0_4 t).read_unread, (hs0_5 t).read_unread, View.ld_unit_zero (S := S384x1024) hz, View.ld_unit_zero (S := S1x1024) hz,
      iblk1_real m c t A v1, iblk2_real m c t B v2]
    refine canon_two _ _ _ _ _ ?_ ?_
    · rw [ld_cols 1408 (by norm_num), ld_cols 1408 (by norm_num)]
      erw [pay22_real, pay23_real, pay3_real]
    · rw [ld_cols 0 (by norm_num), ld_cols 0 (by norm_num)]
      erw [pay18_real]

include v0 v3 v4 in
theorem outs_9 (t : Fin cfg0.N) : ((outsAt0 m c t.val t.isLt).2.2.2.1 : Vec Ideal S384x1024 .bf16)
    = mat fun r => back 1024 (F (rowAt t r)) fun k => 1 / 2 * DH (rowAt t r) k * G k := by
  have hN := lt_N t
  refine if h0 : t.val % 11 = 0 then ?_ else ?_
  all_goals
    first
    | (rw [outsAt0_A m c t h0 (by omega)]
       dsimp only
       unfold out0_A_9
       refine (View.read_writes_eq_canon _ _ _ (fun y => cover0_A_9 (y := y) ..)).trans ?_
       unfold kernelRun0_A)
    | (rw [outsAt0_B m c t h0 (by omega)]
       dsimp only
       unfold out0_B_9
       refine (View.read_writes_eq_canon _ _ _ (fun y => cover0_B_9 (y := y) ..)).trans ?_
       unfold kernelRun0_B)
    dsimp only
    sl_unfold_words
    simp only [View.readAt_eq_ld, (hs0_0 t).read_unread, (hs0_1 t).read_unread, (hs0_2 t).read_unread, (hs0_3 t).read_unread, (hs0_4 t).read_unread, (hs0_5 t).read_unread, View.ld_unit_zero (S := S384x1024) hz, View.ld_unit_zero (S := S1x1024) hz,
      iblk0_real m c t DH v0, iblk3_real m c t F v3, iblk4_real m c t _ v4]
    rw [View.canon_unit_zero hz]
    exact pay12_real _ _ _

/-- The first point stores its share. -/
theorem outs_10_A (t : Fin cfg0.N) (h0 : t.val % 11 = 0) (h1 : ¬1 ≤ t.val) :
    (outsAt0 m c t.val t.isLt).2.2.2.2 = k0_pay11 (iblk m c 3 t) (iblk m c 0 t) := by
  rw [outsAt0_A m c t h0 h1]
  dsimp only
  unfold out0_A_10
  refine (View.read_writes_eq_canon _ _ _ (fun y => cover0_A_10 (y := y) ..)).trans ?_
  unfold kernelRun0_A
  dsimp only
  sl_unfold_words
  rw [View.canon_unit_zero hz]
  simp only [View.readAt_eq_ld, (hs0_0 t).read_unread, (hs0_3 t).read_unread, View.ld_unit_zero (S := S384x1024) hz, View.ld_unit_zero (S := S1x1024) hz]

/-- Every later point adds its share to what the point before left. -/
theorem outs_10_B (t : Fin cfg0.N) (h0 : ¬t.val % 11 = 0) (h1 : 1 ≤ t.val) :
    (outsAt0 m c t.val t.isLt).2.2.2.2 = addf (outsAt0 m c (t.val - 1) (Nat.lt_of_le_of_lt (Nat.sub_le _ _) t.isLt)).2.2.2.2 (k0_pay11 (iblk m c 3 t) (iblk m c 0 t)) := by
  rw [outsAt0_B m c t h0 h1]
  dsimp only
  unfold out0_B_10
  refine (View.read_writes_eq_canon _ _ _ (fun y => cover0_B_10 (y := y) ..)).trans ?_
  unfold kernelRun0_B
  dsimp only
  sl_unfold_words
  rw [View.canon_unit_zero hz]
  simp only [View.readAt_eq_ld, (hs0_0 t).read_unread, (hs0_3 t).read_unread, View.ld_unit_zero (S := S384x1024) hz, View.ld_unit_zero (S := S1x1024) hz, (hs0_10 t).read_unread, pay6_eq]

/-! ## The arrays after the run -/

include v0 v1 v2 v3 v4 v5 in
theorem final6 : ((dats m 0 c).arrAt 6 cfg0.N : Vec Ideal S4224x2816 .bf16)
    = mat fun R l => drow (DH R) (F R) G WD l * B R l * (sg (A R l) + A R l * sg (A R l) * (1 - sg (A R l))) := by
  refine eq_mat _ _ fun R l => ?_
  have h := (dats m 0 c).arrAt_emb_eq_flushed 6 Value.disjoint6 (ptOf R) (flush0_6 _) (ix2 (inBlk R) l : S384x2816.Idx)
  have e : ((cfg0.win 6).blk (ptOf R)).view.emb (ix2 (inBlk R) l : S384x2816.Idx) = (ix2 R l : S4224x2816.Idx) := by
    funext a
    apply Fin.ext
    match a with
    | ⟨0, _⟩ => show win0_6.index (ptOf R) 0 * 384 + 1 * (R.val % 384) = R.val; rw [(index6 _).1]; dsimp only; omega
    | ⟨1, _⟩ => show win0_6.index (ptOf R) 1 * 2816 + 1 * l.val = l.val; rw [(index6 _).2]; omega
  rw [e] at h
  refine h.trans ?_
  rw [Value.flushed6, outs_6 m c DH F A B G WD v0 v1 v2 v3 v4 v5]
  exact congrArg (fun Q : Fin 4224 => ((drow (DH Q) (F Q) G WD l * B Q l * (sg (A Q l) + A Q l * sg (A Q l) * (1 - sg (A Q l))) : ℝ) : EReal)) (rowAt_ptOf R)

include v0 v1 v3 v4 v5 in
theorem final7 : ((dats m 0 c).arrAt 7 cfg0.N : Vec Ideal S4224x2816 .bf16)
    = mat fun R l => drow (DH R) (F R) G WD l * (A R l * sg (A R l)) := by
  refine eq_mat _ _ fun R l => ?_
  have h := (dats m 0 c).arrAt_emb_eq_flushed 7 Value.disjoint7 (ptOf R) (flush0_7 _) (ix2 (inBlk R) l : S384x2816.Idx)
  have e : ((cfg0.win 7).blk (ptOf R)).view.emb (ix2 (inBlk R) l : S384x2816.Idx) = (ix2 R l : S4224x2816.Idx) := by
    funext a
    apply Fin.ext
    match a with
    | ⟨0, _⟩ => show win0_7.index (ptOf R) 0 * 384 + 1 * (R.val % 384) = R.val; rw [(index7 _).1]; dsimp only; omega
    | ⟨1, _⟩ => show win0_7.index (ptOf R) 1 * 2816 + 1 * l.val = l.val; rw [(index7 _).2]; omega
  rw [e] at h
  refine h.trans ?_
  rw [Value.flushed7, outs_7 m c DH F A G WD v0 v1 v3 v4 v5]
  exact congrArg (fun Q : Fin 4224 => ((drow (DH Q) (F Q) G WD l * (A Q l * sg (A Q l)) : ℝ) : EReal)) (rowAt_ptOf R)

include v1 v2 in
theorem final8 : ((dats m 0 c).arrAt 8 cfg0.N : Vec Ideal S4224x2816 .bf16)
    = mat fun R l => A R l * sg (A R l) * B R l := by
  refine eq_mat _ _ fun R l => ?_
  have h := (dats m 0 c).arrAt_emb_eq_flushed 8 Value.disjoint8 (ptOf R) (flush0_8 _) (ix2 (inBlk R) l : S384x2816.Idx)
  have e : ((cfg0.win 8).blk (ptOf R)).view.emb (ix2 (inBlk R) l : S384x2816.Idx) = (ix2 R l : S4224x2816.Idx) := by
    funext a
    apply Fin.ext
    match a with
    | ⟨0, _⟩ => show win0_8.index (ptOf R) 0 * 384 + 1 * (R.val % 384) = R.val; rw [(index8 _).1]; dsimp only; omega
    | ⟨1, _⟩ => show win0_8.index (ptOf R) 1 * 2816 + 1 * l.val = l.val; rw [(index8 _).2]; omega
  rw [e] at h
  refine h.trans ?_
  rw [Value.flushed8, outs_8 m c A B v1 v2]
  exact congrArg (fun Q : Fin 4224 => ((A Q l * sg (A Q l) * B Q l : ℝ) : EReal)) (rowAt_ptOf R)

include v0 v3 v4 in
theorem final9 : ((dats m 0 c).arrAt 9 cfg0.N : Vec Ideal S4224x1024 .bf16)
    = mat fun R l => back 1024 (F R) (fun k => 1 / 2 * DH R k * G k) l := by
  refine eq_mat _ _ fun R l => ?_
  have h := (dats m 0 c).arrAt_emb_eq_flushed 9 Value.disjoint9 (ptOf R) (flush0_9 _) (ix2 (inBlk R) l : S384x1024.Idx)
  have e : ((cfg0.win 9).blk (ptOf R)).view.emb (ix2 (inBlk R) l : S384x1024.Idx) = (ix2 R l : S4224x1024.Idx) := by
    funext a
    apply Fin.ext
    match a with
    | ⟨0, _⟩ => show win0_9.index (ptOf R) 0 * 384 + 1 * (R.val % 384) = R.val; rw [(index9 _).1]; dsimp only; omega
    | ⟨1, _⟩ => show win0_9.index (ptOf R) 1 * 1024 + 1 * l.val = l.val; rw [(index9 _).2]; omega
  rw [e] at h
  refine h.trans ?_
  rw [Value.flushed9, outs_9 m c DH F G v0 v3 v4]
  exact congrArg (fun Q : Fin 4224 => ((back 1024 (F Q) (fun k => 1 / 2 * DH Q k * G k) l : ℝ) : EReal)) (rowAt_ptOf R)

include v0 v3 in
/-- The gains' buffer after point `n`: the sum of the points' shares so far. -/
theorem outs_10 : ∀ (n : ℕ) (h : n < cfg0.N), ((outsAt0 m c n h).2.2.2.2 : Vec Ideal S1x1024 .f32)
      = mat fun _ l => ∑ s : Fin (n + 1), ∑ r, 1 / 2 * DH (rowAt ⟨s.val, lt_of_lt_of_le s.isLt h⟩ r) l
        * (F (rowAt ⟨s.val, lt_of_lt_of_le s.isLt h⟩ r) l * scl 1024 (F (rowAt ⟨s.val, lt_of_lt_of_le s.isLt h⟩ r)))
  | 0, h => by
    refine (outs_10_A m c ⟨0, h⟩ (by dsimp only) (by dsimp only; omega)).trans ?_
    rw [iblk0_real m c _ DH v0, iblk3_real m c _ F v3, pay11_real]
    refine eq_mat _ _ fun r l => ?_
    rw [Fin.sum_univ_one]
    rfl
  | n + 1, h => by
    have hN : cfg0.N = 11 := N_0
    refine (outs_10_B m c ⟨n + 1, h⟩ (by dsimp only; omega) (by dsimp only; omega)).trans ?_
    refine eq_mat _ _ fun r l => ?_
    rw [iblk0_real m c _ DH v0, iblk3_real m c _ F v3, pay11_real, Fin.sum_univ_castSucc]
    refine Eq.trans ?_ (EReal.coe_add _ _).symm
    exact congrArg₂ (· + ·) (congrFun (outs_10 n (Nat.lt_of_succ_lt h)) (ix2 r l)) rfl

/-- The gains' array after the run. -/
theorem final10_eq : ((dats m 0 c).arrAt 10 cfg0.N : Vec Ideal S1x1024 .f32) = (outsAt0 m c 10 (by rw [show cfg0.N = 11 from N_0]; decide)).2.2.2.2 := by
  refine (dats m 0 c).arrAt_eq_of_cover 10 _ (fun t hf => ?_) fun i => ⟨t0_10, (flush0_10 t0_10).mpr rfl, ?_⟩
  · have h3 : t.val = 10 := by have := (flush0_10 t).mp hf; have := lt_N t; omega
    obtain rfl : t = t0_10 := Fin.ext h3
    rw [Value.flushed10]
    have hz' : (fun a => win0_10.index t0_10 a * main_v30_4.ty.shape.size a) = fun _ => 0 := funext fun a => by fin_cases a <;> decide
    exact (Memref.read_access_unit_zero (Elt Ideal) main_v30_4 hz' (fun a => by rw [congrFun hz' a]; simp) _).symm
  · show i ∈ ((View.whole main_v30_4).slice (win0_10.rect t0_10)).set
    rw [View.set_slice_whole, Rect.mem_set_unit]
    intro a
    have h0 : (i 0 : Nat) < 1 := (i 0).isLt
    have h1 : (i 1 : Nat) < 1024 := (i 1).isLt
    match a with
    | ⟨0, _⟩ => show win0_10.index t0_10 0 * win0_10.size 0 ≤ (i 0 : Nat) ∧ (i 0 : Nat) < win0_10.index t0_10 0 * win0_10.size 0 + win0_10.xsize (grid0.coords t0_10) 0
                rw [show win0_10.index t0_10 0 * win0_10.size 0 = 0 from by decide +kernel, show win0_10.xsize (grid0.coords t0_10) 0 = 1 from by decide +kernel]; omega
    | ⟨1, _⟩ => show win0_10.index t0_10 1 * win0_10.size 1 ≤ (i 1 : Nat) ∧ (i 1 : Nat) < win0_10.index t0_10 1 * win0_10.size 1 + win0_10.xsize (grid0.coords t0_10) 1
                rw [show win0_10.index t0_10 1 * win0_10.size 1 = 0 from by decide +kernel, show win0_10.xsize (grid0.coords t0_10) 1 = 1024 from by decide +kernel]; omega

include v0 v3 in
theorem final10 : ((dats m 0 c).arrAt 10 cfg0.N : Vec Ideal S1x1024 .f32) = mat fun _ l => ∑ R, 1 / 2 * DH R l * (F R l * scl 1024 (F R)) := by
  rw [final10_eq, outs_10 m c DH F v0 v3]
  refine eq_mat _ _ fun r l => congrArg ((↑) : ℝ → EReal) ?_
  exact sum_tiles fun R => 1 / 2 * DH R l * (F R l * scl 1024 (F R))

end Cert.FfnDownKernelIdeal.Hand

end
-- ==== Proof.FfnDownEq.lean ====
/- The feed-forward block's first backward call: the arrays the kernel leaves are the reference's at finite arguments. -/
module

public import proofs.«01_k».proof.Defs
public import proofs.«01_k».proof.Proof.Gen.FfnDownKernelIdeal.Value
public import proofs.«01_k».proof.Proof.FfnDownValue
public import proofs.«01_k».proof.Proof.FfnDownRef
public import proofs.«01_k».proof.Proof.Gen.Pre_ffn_down_finite
public import proofs.«01_k».proof.Proof.Gen.FfnDownRefIdeal.Run
public import proofs.«01_k».proof.Proof.Gen.FfnDownRefIdeal.Read
public import Idealize.ShloMosaic.Lib.Pointwise
public import Idealize.ShloMosaic.Lib.Pipeline.Value
public import Idealize.ShloMosaic.Lib.Tactic

@[expose] public section

set_option maxRecDepth 16384

noncomputable section

namespace Cert.FfnDownKernelIdeal.Hand

open Cert.FfnDownKernelIdeal Cert.FfnDownKernelIdeal.Gen Idealize.ShloMosaic Idealize.ShloMosaic.TcCoe Idealize.SL.Sem
open Idealize.ShloMosaic.Pipeline (Dat)
open Cert.Norm Cert.FfnDownRefIdeal.Read

/-! ## The rows added under the arrays -/

section
variable (x f : Fin 4112 → Fin 1024 → ℝ) (a b : Fin 4112 → Fin 2816 → ℝ) (G : Fin 1024 → ℝ) (W : Fin 2816 → Fin 1024 → ℝ)

theorem drow_pad (R : Fin 4224) (hR : R.val < 4112) : drow (pad x R) (pad f R) G W = dact x f G W ⟨R.val, hR⟩ := by
  rw [pad_pos _ R hR, pad_pos _ R hR]; rfl

theorem rows6 : (fun R k => drow (pad x R) (pad f R) G W k * pad b R k * (sg (pad a R k) + pad a R k * sg (pad a R k) * (1 - sg (pad a R k))))
    = pad fun r k => dact x f G W r k * b r k * (sg (a r k) + a r k * sg (a r k) * (1 - sg (a r k))) := by
  funext R k
  by_cases hR : R.val < 4112
  · rw [drow_pad x f G W R hR, pad_pos _ R hR, pad_pos _ R hR, pad_pos _ R hR]
  · simp only [pad_neg _ R hR, mul_zero, zero_mul]

theorem rows7 : (fun R k => drow (pad x R) (pad f R) G W k * (pad a R k * sg (pad a R k))) = pad fun r k => dact x f G W r k * (a r k * sg (a r k)) := by
  funext R k
  by_cases hR : R.val < 4112
  · rw [drow_pad x f G W R hR, pad_pos _ R hR, pad_pos _ R hR]
  · simp only [pad_neg _ R hR, mul_zero, zero_mul]

theorem rows8 : (fun R k => pad a R k * sg (pad a R k) * pad b R k) = pad fun r k => a r k * sg (a r k) * b r k := by
  funext R k
  by_cases hR : R.val < 4112
  · rw [pad_pos _ R hR, pad_pos _ R hR, pad_pos _ R hR]
  · simp only [pad_neg _ R hR, mul_zero]

theorem rows9 : (fun R l => back 1024 (pad f R) (fun k => 1 / 2 * pad x R k * G k) l) = pad fun r => back 1024 (f r) fun k => 1 / 2 * x r k * G k := by
  funext R l
  by_cases hR : R.val < 4112
  · rw [pad_pos _ R hR, pad_pos _ R hR, pad_pos _ R hR]
  · simp only [pad_neg _ R hR, mul_zero, zero_mul, back_zero]

theorem rows10 (l : Fin 1024) : ∑ R, 1 / 2 * pad x R l * (pad f R l * scl 1024 (pad f R)) = ∑ r, 1 / 2 * x r l * (f r l * scl 1024 (f r)) := by
  refine sum_pad _ _ (fun R => ?_) fun R hR => ?_
  · rw [pad_pos _ _ R.isLt, pad_pos _ _ R.isLt]
  · rw [pad_neg x R hR, mul_zero, zero_mul]

end

variable (dh : FVec Ideal ⟨2, ![4112, 1024]⟩ .f32) (h : FVec Ideal ⟨2, ![4112, 1024]⟩ .f32) (pg : FVec Ideal ⟨1, ![1024]⟩ .f32) (wg : FVec Ideal ⟨2, ![1024, 2816]⟩ .f32) (wu : FVec Ideal ⟨2, ![1024, 2816]⟩ .f32) (wd : FVec Ideal ⟨2, ![2816, 1024]⟩ .f32) (g : FVec Ideal ⟨1, ![1024]⟩ .f32)
  (hf : Cert.Pre_ffn_down_finite.fn (F := Ideal) dh h pg wg wu wd g = fun _ => 1#1)

include hf in
theorem pre_at (R : Fin 13090) (l : Fin 2816) : (Cert.Pre_ffn_down_finite.fn (F := Ideal) dh h pg wg wu wd g : IVec _ 1) (ix2 R l) = 1#1 := by rw [hf]

include hf in
theorem fin_dh : dh = mat fun r l => (dh (ix2 r l)).toReal := by
  refine mat_of _ fun r l => ?_
  have g := pre_at dh h pg wg wu wd g hf ⟨2048 + r.val, by omega⟩ ⟨l.val, by omega⟩
  revert g
  pointwise [Cert.Pre_ffn_down_finite.fn, Cert.Pre_ffn_down_finite.fn_part1]
  first
  | exact id
  | (intro g
     rw [dif_neg (by omega), dif_neg (by omega), dif_pos (by omega)] at g
     rw [show ∀ p, (⟨2048 + r.val - 1024 - 1024, p⟩ : Fin 4112) = r from fun p => Fin.ext (by show 2048 + r.val - 1024 - 1024 = r.val; omega)] at g
     exact g)
  | (intro g
     simp (disch := omega) only [dif_pos, dif_neg] at g
     rw [show ∀ p, (⟨2048 + r.val - 1024 - 1024, p⟩ : Fin 4112) = r from fun p => Fin.ext (by show 2048 + r.val - 1024 - 1024 = r.val; omega)] at g
     exact g)

include hf in
theorem fin_h : h = mat fun r l => (h (ix2 r l)).toReal := by
  refine mat_of _ fun r l => ?_
  have g := pre_at dh h pg wg wu wd g hf ⟨6160 + r.val, by omega⟩ ⟨l.val, by omega⟩
  revert g
  pointwise [Cert.Pre_ffn_down_finite.fn, Cert.Pre_ffn_down_finite.fn_part1]
  first
  | exact id
  | (intro g
     rw [dif_neg (by omega), dif_neg (by omega), dif_neg (by omega), dif_pos (by omega)] at g
     rw [show ∀ p, (⟨6160 + r.val - 1024 - 1024 - 4112, p⟩ : Fin 4112) = r from fun p => Fin.ext (by show 6160 + r.val - 1024 - 1024 - 4112 = r.val; omega)] at g
     exact g)
  | (intro g
     simp (disch := omega) only [dif_pos, dif_neg] at g
     rw [show ∀ p, (⟨6160 + r.val - 1024 - 1024 - 4112, p⟩ : Fin 4112) = r from fun p => Fin.ext (by show 6160 + r.val - 1024 - 1024 - 4112 = r.val; omega)] at g
     exact g)

include hf in
theorem fin_pg : pg = vec fun l => (pg (ix1 l)).toReal := by
  refine vec_of _ fun l => ?_
  have g := pre_at dh h pg wg wu wd g hf ⟨13088, by omega⟩ ⟨l.val, by omega⟩
  revert g
  pointwise [Cert.Pre_ffn_down_finite.fn, Cert.Pre_ffn_down_finite.fn_part1]
  first
  | exact id
  | (intro g
     simp (disch := omega) only [dif_pos, dif_neg] at g
     exact g)

include hf in
theorem fin_wg : wg = mat fun r l => (wg (ix2 r l)).toReal := by
  refine mat_of _ fun r l => ?_
  have g := pre_at dh h pg wg wu wd g hf ⟨r.val, by omega⟩ l
  revert g
  pointwise [Cert.Pre_ffn_down_finite.fn, Cert.Pre_ffn_down_finite.fn_part1]
  first | exact id | (intro g; simp (disch := omega) only [dif_pos, dif_neg] at g; exact g)

include hf in
theorem fin_wu : wu = mat fun r l => (wu (ix2 r l)).toReal := by
  refine mat_of _ fun r l => ?_
  have g := pre_at dh h pg wg wu wd g hf ⟨1024 + r.val, by omega⟩ l
  revert g
  pointwise [Cert.Pre_ffn_down_finite.fn, Cert.Pre_ffn_down_finite.fn_part1]
  first
  | exact id
  | (intro g
     rw [dif_neg (by omega), dif_pos (by omega)] at g
     rw [show ∀ p, (⟨1024 + r.val - 1024, p⟩ : Fin 1024) = r from fun p => Fin.ext (by show 1024 + r.val - 1024 = r.val; omega)] at g
     exact g)
  | (intro g
     simp (disch := omega) only [dif_pos, dif_neg] at g
     rw [show ∀ p, (⟨1024 + r.val - 1024, p⟩ : Fin 1024) = r from fun p => Fin.ext (by show 1024 + r.val - 1024 = r.val; omega)] at g
     exact g)

include hf in
theorem fin_wd : wd = mat fun r l => (wd (ix2 r l)).toReal := by
  refine mat_of _ fun r l => ?_
  have g := pre_at dh h pg wg wu wd g hf ⟨10272 + r.val, by omega⟩ ⟨l.val, by omega⟩
  revert g
  pointwise [Cert.Pre_ffn_down_finite.fn, Cert.Pre_ffn_down_finite.fn_part1]
  first
  | exact id
  | (intro g
     rw [dif_neg (by omega), dif_neg (by omega), dif_neg (by omega), dif_neg (by omega), dif_pos (by omega)] at g
     rw [show ∀ p, (⟨10272 + r.val - 1024 - 1024 - 4112 - 4112, p⟩ : Fin 2816) = r from fun p => Fin.ext (by show 10272 + r.val - 1024 - 1024 - 4112 - 4112 = r.val; omega)] at g
     exact g)
  | (intro g
     simp (disch := omega) only [dif_pos, dif_neg] at g
     rw [show ∀ p, (⟨10272 + r.val - 1024 - 1024 - 4112 - 4112, p⟩ : Fin 2816) = r from fun p => Fin.ext (by show 10272 + r.val - 1024 - 1024 - 4112 - 4112 = r.val; omega)] at g
     exact g)

include hf in
theorem fin_g : g = vec fun l => (g (ix1 l)).toReal := by
  refine vec_of _ fun l => ?_
  have g := pre_at dh h pg wg wu wd g hf ⟨13089, by omega⟩ ⟨l.val, by omega⟩
  revert g
  pointwise [Cert.Pre_ffn_down_finite.fn, Cert.Pre_ffn_down_finite.fn_part1]
  first
  | exact id
  | (intro g
     simp (disch := omega) only [dif_pos, dif_neg] at g
     exact g)

variable (m : (ℓ : Loc nD τ sig) → Buf (Elt Ideal) ℓ) (c : Dev nD)
  (e0 : (m ((c : Thread nD τ).loc main_arg0) : FVec Ideal S4112x1024 .f32) = dh)
  (e1 : (m ((c : Thread nD τ).loc main_arg1) : FVec Ideal S4112x1024 .f32) = h)
  (e2 : (m ((c : Thread nD τ).loc main_arg2) : FVec Ideal S1024 .f32) = pg)
  (e3 : (m ((c : Thread nD τ).loc main_arg3) : FVec Ideal S1024x2816 .f32) = wg)
  (e4 : (m ((c : Thread nD τ).loc main_arg4) : FVec Ideal S1024x2816 .f32) = wu)
  (e5 : (m ((c : Thread nD τ).loc main_arg5) : FVec Ideal S2816x1024 .f32) = wd)
  (e6 : (m ((c : Thread nD τ).loc main_arg6) : FVec Ideal S1024 .f32) = g)

set_option maxHeartbeats 1600000 in
include hf e0 e1 e2 e3 e4 e5 e6 in
/-- The five arrays the kernel leaves are the reference's. -/
theorem value_eq : ((dats m 0 c).arrAt 6 cfg0.N : Vec Ideal S4224x2816 .bf16) = val_main_v64 (F := Ideal) dh h pg wg wu wd g
    ∧ ((dats m 0 c).arrAt 7 cfg0.N : Vec Ideal S4224x2816 .bf16) = val_main_v67 (F := Ideal) dh h pg wg wu wd g
    ∧ ((dats m 0 c).arrAt 8 cfg0.N : Vec Ideal S4224x2816 .bf16) = val_main_v70 (F := Ideal) h pg wg wu
    ∧ ((dats m 0 c).arrAt 9 cfg0.N : Vec Ideal S4224x1024 .bf16) = val_main_v73 (F := Ideal) dh h pg wg wu wd g
    ∧ ((dats m 0 c).arrAt 10 cfg0.N : Vec Ideal S1x1024 .f32) = val_main_v74 (F := Ideal) dh h pg wg wu wd := by
  have f0 := fin_dh dh h pg wg wu wd g hf
  have f1 := fin_h dh h pg wg wu wd g hf
  have f2 := fin_pg dh h pg wg wu wd g hf
  have f3 := fin_wg dh h pg wg wu wd g hf
  have f4 := fin_wu dh h pg wg wu wd g hf
  have f5 := fin_wd dh h pg wg wu wd g hf
  have f6 := fin_g dh h pg wg wu wd g hf
  clear hf
  generalize (fun (r : Fin 4112) (l : Fin 1024) => (dh (ix2 r l)).toReal) = dh' at f0
  generalize (fun (r : Fin 4112) (l : Fin 1024) => (h (ix2 r l)).toReal) = h' at f1
  generalize (fun l : Fin 1024 => (pg (ix1 l)).toReal) = pg' at f2
  generalize (fun (r : Fin 1024) (l : Fin 2816) => (wg (ix2 r l)).toReal) = wg' at f3
  generalize (fun (r : Fin 1024) (l : Fin 2816) => (wu (ix2 r l)).toReal) = wu' at f4
  generalize (fun (r : Fin 2816) (l : Fin 1024) => (wd (ix2 r l)).toReal) = wd' at f5
  generalize (fun l : Fin 1024 => (g (ix1 l)).toReal) = g' at f6
  subst f0 f1 f2 f3 f4 f5 f6
  have hA := ref13 h' pg' wg'
  have hB := ref14 h' pg' wu'
  generalize layer h' pg' wg' = a at hA
  generalize layer h' pg' wu' = b at hB
  have hF := ref17 wd' (mat h') (vec pg') (mat wg') (mat wu') a b hA hB
  generalize second a b wd' = f at hF
  have v0 := V_0 m c dh' e0
  have v1 := V_1 m c (mat h') (vec pg') (mat wg') e1 e2 e3 a hA
  have v2 := V_2 m c (mat h') (vec pg') (mat wu') e1 e2 e4 b hB
  have v3 := V_3 m c (mat h') (vec pg') (mat wg') (mat wu') (mat wd') e1 e2 e3 e4 e5 f hF
  have v4 := V_4 m c g' e6
  have v5 := V_5 m c wd' e5
  refine ⟨(final6 m c _ _ _ _ _ _ v0 v1 v2 v3 v4 v5).trans ?_, (final7 m c _ _ _ _ _ v0 v1 v3 v4 v5).trans ?_, (final8 m c _ _ v1 v2).trans ?_,
    (final9 m c _ _ _ v0 v3 v4).trans ?_, (final10 m c _ _ v0 v3).trans ?_⟩
  · rw [rows6]; exact (ref64 wd' (mat h') (vec pg') (mat wg') (mat wu') dh' f g' a b hA hB hF).symm
  · rw [rows7]; exact (ref67 wd' (mat h') (vec pg') (mat wg') (mat wu') dh' f g' a hA hF).symm
  · rw [rows8]; exact (ref70 (mat h') (vec pg') (mat wg') (mat wu') a b hA hB).symm
  · rw [rows9]; exact (ref73 (mat h') (vec pg') (mat wg') (mat wu') (mat wd') dh' f g' hF).symm
  · rw [ref74 (mat h') (vec pg') (mat wg') (mat wu') (mat wd') dh' f hF]
    exact eq_mat _ _ fun r l => congrArg ((↑) : ℝ → EReal) (rows10 dh' f l)

end Cert.FfnDownKernelIdeal.Hand

end
-- ==== Proof.MixInPay.lean ====
/- The mixer input's backward call: the columns in order, and the values of the kernel at real arguments. -/
module

public import proofs.«01_k».proof.Defs
public import proofs.«01_k».proof.Proof.Gen.MixInKernelIdeal.Skeleton
public import proofs.«01_k».proof.Proof.Norm
public import Idealize.ShloMosaic.Lib.Pointwise
public import Idealize.ShloMosaic.Lib.Pipeline.Value
public import Idealize.ShloMosaic.Lib.Tactic

@[expose] public section

set_option maxRecDepth 16384

noncomputable section

namespace Cert.MixInKernelIdeal.Hand

open Cert.MixInKernelIdeal Cert.MixInKernelIdeal.Gen Idealize.ShloMosaic Idealize.ShloMosaic.TcCoe Idealize.SL.Sem
open Idealize.ShloMosaic.Pipeline (Dat)
open Cert.Norm

/-! ## Columns side by side -/

/-- A row put together from five. -/
def cat5 {d e : ℕ} (he : e ≤ 1664 + d) (a0 a1 : Fin 512 → ℝ) (a2 : Fin 384 → ℝ) (a3 : Fin 256 → ℝ) (a4 : Fin d → ℝ) (j : Fin e) : ℝ :=
  if h : j.val < 512 then a0 ⟨j.val, h⟩ else if h : j.val - 512 < 512 then a1 ⟨j.val - 512, h⟩
  else if h : j.val - 512 - 512 < 384 then a2 ⟨j.val - 512 - 512, h⟩ else if h : j.val - 512 - 512 - 384 < 256 then a3 ⟨j.val - 512 - 512 - 384, h⟩
  else a4 ⟨j.val - 512 - 512 - 384 - 256, by omega⟩

/-- The rotary key's 32 columns among 128. -/
def lanes (x : Fin 32 → ℝ) (j : Fin 128) : ℝ :=
  if j.val < 64 then 0 else if h : j.val - 64 < 32 then x ⟨j.val - 64, h⟩ else 0

/-- The columns in the order of the kernel. -/
def cols (x : Fin 1696 → ℝ) (j : Fin 1792) : ℝ :=
  if h : j.val < 1664 then x ⟨j.val, by omega⟩ else if j.val - 1664 < 64 then 0
  else if h : j.val - 1664 - 64 < 32 then x ⟨1664 + (j.val - 1664 - 64), by omega⟩ else 0

theorem cat5_lanes (a0 a1 : Fin 512 → ℝ) (a2 : Fin 384 → ℝ) (a3 : Fin 256 → ℝ) (a4 : Fin 32 → ℝ) :
    cat5 (e := 1792) (by norm_num) a0 a1 a2 a3 (lanes a4) = cols (cat5 (e := 1696) (by norm_num) a0 a1 a2 a3 a4) := by
  funext j
  unfold cols cat5 lanes
  dsimp only
  by_cases h1 : j.val < 1664
  · rw [dif_pos h1]
    by_cases h2 : j.val < 512
    · rw [dif_pos h2, dif_pos h2]
    · rw [dif_neg h2, dif_neg h2]
      by_cases h3 : j.val - 512 < 512
      · rw [dif_pos h3, dif_pos h3]
      · rw [dif_neg h3, dif_neg h3]
        by_cases h4 : j.val - 512 - 512 < 384
        · rw [dif_pos h4, dif_pos h4]
        · rw [dif_neg h4, dif_neg h4, dif_pos (by omega), dif_pos (by omega)]
  · rw [dif_neg h1, dif_neg (by omega), dif_neg (by omega), dif_neg (by omega), dif_neg (by omega)]
    by_cases h2 : j.val - 1664 < 64
    · rw [if_pos (by omega), if_pos h2]
    · rw [if_neg (by omega), if_neg h2]
      by_cases h3 : j.val - 1664 - 64 < 32
      · rw [dif_pos (by omega), dif_pos h3, dif_neg (by omega), dif_neg (by omega), dif_neg (by omega), dif_neg (by omega)]
        exact congrArg a4 (Fin.ext (by show j.val - 512 - 512 - 384 - 256 - 64 = 1664 + (j.val - 1664 - 64) - 512 - 512 - 384 - 256; omega))
      · rw [dif_neg (by omega), dif_neg h3]

/-- The columns of zeros add nothing to a product. -/
theorem sum_cols (x y : Fin 1696 → ℝ) : ∑ j, cols x j * cols y j = ∑ k, x k * y k := by
  obtain ⟨g, hg⟩ : ∃ g : ℕ → ℝ, ∀ k : Fin 1696, x k * y k = g k.val := ⟨fun k => if h : k < 1696 then x ⟨k, h⟩ * y ⟨k, h⟩ else 0, fun k => by simp⟩
  have e : ∀ j : Fin 1792, cols x j * cols y j = (fun j : ℕ => if j < 1664 then g j else if j < 1728 then 0 else if j < 1760 then g (j - 64) else 0) j.val := by
    intro j
    unfold cols
    dsimp only
    by_cases h1 : j.val < 1664
    · rw [dif_pos h1, dif_pos h1, if_pos h1, hg]
    · rw [dif_neg h1, dif_neg h1, if_neg h1]
      by_cases h2 : j.val - 1664 < 64
      · rw [if_pos h2, if_pos h2, if_pos (by omega), mul_zero]
      · rw [if_neg h2, if_neg h2, if_neg (by omega)]
        by_cases h3 : j.val - 1664 - 64 < 32
        · rw [dif_pos h3, dif_pos h3, if_pos (by omega), hg]
          exact congrArg g (by show 1664 + (j.val - 1664 - 64) = j.val - 64; omega)
        · rw [dif_neg h3, dif_neg h3, if_neg (by omega), mul_zero]
  rw [Finset.sum_congr rfl fun j _ => e j, Finset.sum_congr rfl fun k _ => hg k, Fin.sum_univ_eq_sum_range (fun j : ℕ => if j < 1664 then g j else if j < 1728 then 0 else if j < 1760 then g (j - 64) else 0) 1792, Fin.sum_univ_eq_sum_range g 1696,
    show 1792 = 1664 + (64 + (32 + 32)) from rfl, show 1696 = 1664 + 32 from rfl, Finset.sum_range_add, Finset.sum_range_add, Finset.sum_range_add, Finset.sum_range_add]
  have z1 : ∀ s : ℕ, s < 64 → (if 1664 + s < 1664 then g (1664 + s) else if 1664 + s < 1728 then 0 else if 1664 + s < 1760 then g (1664 + s - 64) else 0) = 0 :=
    fun s hs => by rw [if_neg (by omega), if_pos (by omega)]
  have z2 : ∀ s : ℕ, s < 32 → (if 1664 + (64 + (32 + s)) < 1664 then g (1664 + (64 + (32 + s))) else if 1664 + (64 + (32 + s)) < 1728 then 0
      else if 1664 + (64 + (32 + s)) < 1760 then g (1664 + (64 + (32 + s)) - 64) else 0) = 0 :=
    fun s hs => by rw [if_neg (by omega), if_neg (by omega), if_neg (by omega)]
  rw [Finset.sum_eq_zero (s := Finset.range 64) fun s hs => z1 s (Finset.mem_range.mp hs), Finset.sum_eq_zero (s := Finset.range 32) (f := fun s => _) fun s hs => z2 s (Finset.mem_range.mp hs), add_zero, zero_add]
  refine congrArg₂ (· + ·) (Finset.sum_congr rfl fun s hs => if_pos (Finset.mem_range.mp hs)) (Finset.sum_congr rfl fun s hs => ?_)
  have := Finset.mem_range.mp hs
  rw [if_neg (by omega), if_neg (by omega), if_pos (by omega)]
  exact congrArg g (by omega)

theorem lanes_concat (X : Fin 4112 → Fin 32 → ℝ) (h1 h2 hc) :
    concatenate ⟨2, ![4112, 128]⟩ 1 [⟨⟨2, ![4112, 64]⟩, broadcastInDim ⟨2, ![4112, 64]⟩ ![] h1 (constant (F := Ideal) ⟨0, ![]⟩ .f32 0x00000000#32)⟩,
      ⟨⟨2, ![4112, 32]⟩, (mat X : FVec Ideal ⟨2, ![4112, 32]⟩ .f32)⟩, ⟨⟨2, ![4112, 32]⟩, broadcastInDim ⟨2, ![4112, 32]⟩ ![] h2 (constant (F := Ideal) ⟨0, ![]⟩ .f32 0x00000000#32)⟩] hc
    = (mat fun r => lanes (X r)) := by
  refine eq_mat _ _ fun r l => ?_
  pointwise
  unfold lanes
  split_ifs <;> rfl

theorem cols_concat {n : ℕ} (X : Fin n → Fin 1696 → ℝ) (s1 s2 h1 h2 hc) :
    concatenate ⟨2, ![n, 1792]⟩ 1 [⟨⟨2, ![n, 1664]⟩, extractStridedSlice ⟨2, ![n, 1664]⟩ ![0, 0] (mat X : FVec Ideal ⟨2, ![n, 1696]⟩ .f32) s1⟩,
      ⟨⟨2, ![n, 64]⟩, broadcastInDim ⟨2, ![n, 64]⟩ ![] h1 (constant (F := Ideal) ⟨0, ![]⟩ .f32 0x00000000#32)⟩,
      ⟨⟨2, ![n, 32]⟩, extractStridedSlice ⟨2, ![n, 32]⟩ ![0, 1664] (mat X : FVec Ideal ⟨2, ![n, 1696]⟩ .f32) s2⟩,
      ⟨⟨2, ![n, 32]⟩, broadcastInDim ⟨2, ![n, 32]⟩ ![] h2 (constant (F := Ideal) ⟨0, ![]⟩ .f32 0x00000000#32)⟩] hc
    = (mat fun r => cols (X r)) := by
  refine eq_mat _ _ fun r l => ?_
  pointwise
  unfold cols
  split_ifs <;> first | rfl | (refine congrArg ((↑) : ℝ → EReal) (congrArg₂ X (Fin.ext ?_) (Fin.ext ?_)) <;> (simp [Shape.Idx.norm, ix2] <;> rfl))

/-! ## The kernel's values -/

/-- The cotangent of a normed row. -/
def du {n : ℕ} (z : Fin n → ℝ) (w : Fin 1024 → Fin n → ℝ) (l : Fin 1024) : ℝ := ∑ j, z j * w l j

variable (dh h : Fin 384 → Fin 1024 → ℝ) (a0 a1 : Fin 384 → Fin 512 → ℝ) (a2 : Fin 384 → Fin 384 → ℝ) (a3 : Fin 384 → Fin 256 → ℝ) (a4 : Fin 384 → Fin 128 → ℝ)
  (z : Fin 384 → Fin 1792 → ℝ) (g : Fin 1 → Fin 1024 → ℝ) (w : Fin 1024 → Fin 1792 → ℝ) (r : Fin 384) (l : Fin 1024)

theorem pay5_real : (k0_pay5 (F := Ideal) (mat a0) (mat a1) (mat a2) (mat a3) (mat a4) : FVec Ideal S384x1792 .f32)
    = mat fun r => cat5 (by norm_num) (a0 r) (a1 r) (a2 r) (a3 r) (a4 r) := by
  refine eq_mat _ _ fun r l => ?_
  pointwise [k0_pay5]
  unfold cat5
  split_ifs <;> rfl

theorem pay1_real : k0_pay1 (F := Ideal) (mat z) (k0_pay11 (F := Ideal) (mat w)) (constant (F := Ideal) S384x1024 .f32 0x00000000#32) = mat fun r => du (z r) w := by
  refine eq_mat _ _ fun r l => ?_
  pointwise [k0_pay1, k0_pay11]
  simp only [← EReal.coe_mul, ← Softmax.coe_sum]
  rfl

theorem pay8_real : k0_pay8 (F := Ideal) (mat h) (ix2 r 0) = (scl 1024 (h r) : EReal) := by
  pointwise [k0_pay8, k0_pay7]
  simp only [lit_1024, lit_eps, ← EReal.coe_mul, ← Softmax.coe_sum, div_1024, ← EReal.coe_add, rsqrt_1024]
  rfl

theorem pay9_real : k0_pay9 (F := Ideal) (mat h) = mat fun r l => h r l * scl 1024 (h r) := by
  refine eq_mat _ _ fun r l => ?_
  have e := pay8_real h r
  unfold k0_pay9
  generalize k0_pay8 (F := Ideal) (mat h) = s at e ⊢
  pointwise [k0_pay7]
  rw [e]
  exact (EReal.coe_mul _ _).symm

theorem pay10_real : (k0_pay10 (F := Ideal) (mat g) (mat h) : FVec Ideal S384x1024 .f32) = mat fun r l => h r l * scl 1024 (h r) * g 0 l := by
  refine eq_mat _ _ fun r l => ?_
  unfold k0_pay10
  rw [pay9_real]
  pointwise [k0_pay6]
  exact (EReal.coe_mul _ _).symm

theorem pay2_real : k0_pay2 (F := Ideal) (mat z) (k0_pay9 (mat h)) (k0_pay11 (F := Ideal) (mat w)) (constant (F := Ideal) S384x1024 .f32 0x00000000#32)
    = mat fun _ l => ∑ r, du (z r) w l * (h r l * scl 1024 (h r)) := by
  refine eq_mat _ _ fun r l => ?_
  unfold k0_pay2
  rw [pay9_real, pay1_real]
  pointwise
  simp only [← EReal.coe_mul, ← Softmax.coe_sum]
  rfl

theorem pay3_real : k0_pay3 (F := Ideal) (mat z) (k0_pay6 (F := Ideal) (mat g)) (k0_pay8 (F := Ideal) (mat h)) (k0_pay9 (mat h)) (k0_pay11 (F := Ideal) (mat w)) (constant (F := Ideal) S384x1024 .f32 0x00000000#32) (mat dh)
    = mat fun r l => dh r l + back 1024 (h r) (fun k => du (z r) w k * g 0 k) l := by
  refine eq_mat _ _ fun r l => ?_
  have e := pay8_real h r
  unfold k0_pay3
  rw [pay9_real, pay1_real]
  generalize k0_pay8 (F := Ideal) (mat h) = s at e ⊢
  pointwise [k0_pay6]
  rw [e]
  simp only [lit_1024, ← EReal.coe_mul, ← Softmax.coe_sum, div_1024, ← EReal.coe_sub, ← EReal.coe_add]
  rfl

theorem pay4_eq (x : FVec Ideal S384x1792 .bf16) (y : FVec Ideal S384x1024 .f32) (v : FVec Ideal S1024x1792 .bf16) (s : FVec Ideal S384x1024 .f32) (u : Vec Ideal S1x1024 .f32) :
    k0_pay4 (F := Ideal) x y v s u = addf u (k0_pay2 x y v s) := by
  unfold k0_pay4
  rw [shapeCast_self]

end Cert.MixInKernelIdeal.Hand

end
-- ==== Proof.MixInHost.lean ====
/- The mixer input's backward call: the arrays the pipeline reads, and its blocks. -/
module

public import proofs.«01_k».proof.Defs
public import proofs.«01_k».proof.Proof.Gen.MixInKernelIdeal.Value
public import proofs.«01_k».proof.Proof.MixInPay
public import proofs.«01_k».proof.Proof.Sigmoid
public import Idealize.ShloMosaic.Lib.Pointwise
public import Idealize.ShloMosaic.Lib.Pipeline.Value
public import Idealize.ShloMosaic.Lib.Tactic

@[expose] public section

set_option maxRecDepth 16384

noncomputable section

namespace Cert.MixInKernelIdeal.Hand

open Cert.MixInKernelIdeal Cert.MixInKernelIdeal.Gen Idealize.ShloMosaic Idealize.ShloMosaic.TcCoe Idealize.SL.Sem
open Idealize.ShloMosaic.Pipeline (Dat)
open Cert.Norm

theorem hz : (![0, 0] : Fin 2 → Nat) = fun _ => 0 := funext fun a => by fin_cases a <;> rfl

variable (m : (ℓ : Loc nD τ sig) → Buf (Elt Ideal) ℓ)

/-! ## The arrays the pipeline reads -/

variable (c : Dev nD)

theorem V_0 (X : Fin 4112 → Fin 1024 → ℝ) (h : (m ((c : Thread nD τ).loc main_arg0) : FVec Ideal S4112x1024 .f32) = mat X) :
    (V m c main_v14 : Vec Ideal S4224x1024 .f32) = mat (pad X) := by
  refine Eq.trans ?_ (pad_concat X bcast_S_S112x1024 concatenates_S4112x1024_S112x1024_S4224x1024_d0)
  rw [← h]
  show StableHlo.after (List.flatten [hostOps0]) _ (Proc.devRef .tc main_v14) = _
  simp only [hostOps0, List.flatten_cons, List.flatten_nil, List.append_nil, List.cons_append, List.nil_append]
  after_results
  try rfl

theorem V_1 (X : Fin 4112 → Fin 1024 → ℝ) (h : (m ((c : Thread nD τ).loc main_arg1) : FVec Ideal S4112x1024 .f32) = mat X) :
    (V m c main_v16 : Vec Ideal S4224x1024 .f32) = mat (pad X) := by
  refine Eq.trans ?_ (pad_concat X bcast_S_S112x1024 concatenates_S4112x1024_S112x1024_S4224x1024_d0)
  rw [← h]
  show StableHlo.after (List.flatten [hostOps0]) _ (Proc.devRef .tc main_v16) = _
  simp only [hostOps0, List.flatten_cons, List.flatten_nil, List.append_nil, List.cons_append, List.nil_append]
  after_results
  try rfl

theorem V_2 (X : Fin 4112 → Fin 512 → ℝ) (h : (m ((c : Thread nD τ).loc main_arg2) : FVec Ideal S4112x512 .f32) = mat X) :
    (V m c main_v4 : Vec Ideal S4224x512 .f32) = mat (pad X) := by
  refine Eq.trans ?_ (pad_concat X bcast_S_S112x512 concatenates_S4112x512_S112x512_S4224x512_d0)
  rw [← h]
  show StableHlo.after (List.flatten [hostOps0]) _ (Proc.devRef .tc main_v4) = _
  simp only [hostOps0, List.flatten_cons, List.flatten_nil, List.append_nil, List.cons_append, List.nil_append]
  after_results
  try rfl

theorem V_3 (X : Fin 4112 → Fin 512 → ℝ) (h : (m ((c : Thread nD τ).loc main_arg3) : FVec Ideal S4112x512 .f32) = mat X) :
    (V m c main_v6 : Vec Ideal S4224x512 .f32) = mat (pad X) := by
  refine Eq.trans ?_ (pad_concat X bcast_S_S112x512 concatenates_S4112x512_S112x512_S4224x512_d0)
  rw [← h]
  show StableHlo.after (List.flatten [hostOps0]) _ (Proc.devRef .tc main_v6) = _
  simp only [hostOps0, List.flatten_cons, List.flatten_nil, List.append_nil, List.cons_append, List.nil_append]
  after_results
  try rfl

theorem V_4 (X : Fin 4112 → Fin 384 → ℝ) (h : (m ((c : Thread nD τ).loc main_arg4) : FVec Ideal S4112x384 .f32) = mat X) :
    (V m c main_v8 : Vec Ideal S4224x384 .f32) = mat (pad X) := by
  refine Eq.trans ?_ (pad_concat X bcast_S_S112x384 concatenates_S4112x384_S112x384_S4224x384_d0)
  rw [← h]
  show StableHlo.after (List.flatten [hostOps0]) _ (Proc.devRef .tc main_v8) = _
  simp only [hostOps0, List.flatten_cons, List.flatten_nil, List.append_nil, List.cons_append, List.nil_append]
  after_results
  try rfl

theorem V_5 (X : Fin 4112 → Fin 256 → ℝ) (h : (m ((c : Thread nD τ).loc main_arg5) : FVec Ideal S4112x256 .f32) = mat X) :
    (V m c main_v10 : Vec Ideal S4224x256 .f32) = mat (pad X) := by
  refine Eq.trans ?_ (pad_concat X bcast_S_S112x256 concatenates_S4112x256_S112x256_S4224x256_d0)
  rw [← h]
  show StableHlo.after (List.flatten [hostOps0]) _ (Proc.devRef .tc main_v10) = _
  simp only [hostOps0, List.flatten_cons, List.flatten_nil, List.append_nil, List.cons_append, List.nil_append]
  after_results
  try rfl

theorem V_6 (X : Fin 4112 → Fin 32 → ℝ) (h : (m ((c : Thread nD τ).loc main_arg6) : FVec Ideal S4112x32 .f32) = mat X) :
    (V m c main_v12 : Vec Ideal S4224x128 .f32) = mat (pad fun r => lanes (X r)) := by
  refine Eq.trans ?_ (pad_concat (fun r => lanes (X r)) bcast_S_S112x128 concatenates_S4112x128_S112x128_S4224x128_d0)
  rw [← lanes_concat X bcast_S_S4112x64 bcast_S_S4112x32 concatenates_S4112x64_S4112x32_S4112x32_S4112x128_d1, ← h]
  show StableHlo.after (List.flatten [hostOps0]) _ (Proc.devRef .tc main_v12) = _
  simp only [hostOps0, List.flatten_cons, List.flatten_nil, List.append_nil, List.cons_append, List.nil_append]
  after_results
  try rfl

theorem V_7 (G : Fin 1024 → ℝ) (h : (m ((c : Thread nD τ).loc main_arg7) : FVec Ideal S1024 .f32) = vec G) :
    (V m c main_v17 : Vec Ideal S1x1024 .f32) = mat fun _ => G := by
  have e : (shapeCast S1x1024 (vec G : FVec Ideal S1024 .f32) rfl : FVec Ideal S1x1024 .f32) = mat fun _ => G := by
    refine eq_mat _ _ fun r l => ?_
    pointwise
    try rfl
  refine Eq.trans ?_ (e)
  rw [← h]
  show StableHlo.after (List.flatten [hostOps0]) _ (Proc.devRef .tc main_v17) = _
  simp only [hostOps0, List.flatten_cons, List.flatten_nil, List.append_nil, List.cons_append, List.nil_append]
  after_results
  try rfl

theorem V_8 (X : Fin 1024 → Fin 1696 → ℝ) (h : (m ((c : Thread nD τ).loc main_arg8) : FVec Ideal S1024x1696 .f32) = mat X) :
    (V m c main_v23 : Vec Ideal S1024x1792 .bf16) = mat fun r => cols (X r) := by
  refine Eq.trans ?_ (cols_concat X slices_S1024x1696_S1024x1664_0_0 slices_S1024x1696_S1024x32_0_1664 bcast_S_S1024x64 bcast_S_S1024x32 concatenates_S1024x1664_S1024x64_S1024x32_S1024x32_S1024x1792_d1)
  rw [← h]
  show StableHlo.after (List.flatten [hostOps0]) _ (Proc.devRef .tc main_v23) = _
  simp only [hostOps0, List.flatten_cons, List.flatten_nil, List.append_nil, List.cons_append, List.nil_append]
  after_results
  try rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

/-- The place of row `R` in its block. -/
abbrev inBlk (R : Fin 4224) : Fin 384 := ⟨R.val % 384, Nat.mod_lt _ (by decide)⟩

theorem rowAt_ptOf (R : Fin 4224) : rowAt (ptOf R) (inBlk R) = R := Fin.ext (by show 384 * (R.val / 384) + R.val % 384 = R.val; omega)

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = t.val ∧ win0_4.index t 1 = 0 :=
  (by decide +kernel : ∀ t : Fin grid0.N, win0_4.index t 0 = t.val ∧ win0_4.index t 1 = 0) t
theorem index5 (t : Fin cfg0.N) : win0_5.index t 0 = t.val ∧ win0_5.index t 1 = 0 :=
  (by decide +kernel : ∀ t : Fin grid0.N, win0_5.index t 0 = t.val ∧ win0_5.index t 1 = 0) t
theorem index6 (t : Fin cfg0.N) : win0_6.index t 0 = t.val ∧ win0_6.index t 1 = 0 :=
  (by decide +kernel : ∀ t : Fin grid0.N, win0_6.index t 0 = t.val ∧ win0_6.index t 1 = 0) t
theorem index9 (t : Fin cfg0.N) : win0_9.index t 0 = t.val ∧ win0_9.index t 1 = 0 :=
  (by decide +kernel : ∀ t : Fin grid0.N, win0_9.index t 0 = t.val ∧ win0_9.index t 1 = 0) t
theorem index10 (t : Fin cfg0.N) : win0_10.index t 0 = t.val ∧ win0_10.index t 1 = 0 :=
  (by decide +kernel : ∀ t : Fin grid0.N, win0_10.index t 0 = t.val ∧ win0_10.index t 1 = 0) t
theorem index11 (t : Fin cfg0.N) : win0_11.index t 0 = t.val ∧ win0_11.index t 1 = 0 :=
  (by decide +kernel : ∀ t : Fin grid0.N, win0_11.index t 0 = t.val ∧ win0_11.index t 1 = 0) t
theorem index7 (t : Fin cfg0.N) : win0_7.index t 0 = 0 ∧ win0_7.index t 1 = 0 :=
  (by decide +kernel : ∀ t : Fin grid0.N, win0_7.index t 0 = 0 ∧ win0_7.index t 1 = 0) t
theorem index8 (t : Fin cfg0.N) : win0_8.index t 0 = 0 ∧ win0_8.index t 1 = 0 :=
  (by decide +kernel : ∀ t : Fin grid0.N, win0_8.index t 0 = 0 ∧ win0_8.index t 1 = 0) t
theorem index12 (t : Fin cfg0.N) : win0_12.index t 0 = 0 ∧ win0_12.index t 1 = 0 :=
  (by decide +kernel : ∀ t : Fin grid0.N, win0_12.index t 0 = 0 ∧ win0_12.index t 1 = 0) t

theorem iblk0_real (t : Fin cfg0.N) (X : Fin 4224 → Fin 1024 → ℝ) (h : (V m c main_v14 : Vec Ideal S4224x1024 .f32) = mat X) :
    (iblk m c 0 t : Vec Ideal S384x1024 .f32) = mat fun r => X (rowAt t r) := by
  funext i; rw [eq_ix2 i]; generalize i 0 = r; generalize i 1 = l
  refine (View.read_apply ..).trans ((congrArg (V m c main_v14 : Vec Ideal S4224x1024 .f32) (funext fun a => Fin.ext ?_ : _ = ix2 (rowAt t r) l)).trans (congrFun h _))
  match a with
  | ⟨0, _⟩ => show win0_0.index t 0 * 384 + 1 * r.val = 384 * t.val + r.val; rw [(index0 t).1]; omega
  | ⟨1, _⟩ => show win0_0.index t 1 * 1024 + 1 * l.val = l.val; rw [(index0 t).2]; omega

theorem iblk1_real (t : Fin cfg0.N) (X : Fin 4224 → Fin 1024 → ℝ) (h : (V m c main_v16 : Vec Ideal S4224x1024 .f32) = mat X) :
    (iblk m c 1 t : Vec Ideal S384x1024 .f32) = mat fun r => X (rowAt t r) := by
  funext i; rw [eq_ix2 i]; generalize i 0 = r; generalize i 1 = l
  refine (View.read_apply ..).trans ((congrArg (V m c main_v16 : Vec Ideal S4224x1024 .f32) (funext fun a => Fin.ext ?_ : _ = ix2 (rowAt t r) l)).trans (congrFun h _))
  match a with
  | ⟨0, _⟩ => show win0_1.index t 0 * 384 + 1 * r.val = 384 * t.val + r.val; rw [(index1 t).1]; omega
  | ⟨1, _⟩ => show win0_1.index t 1 * 1024 + 1 * l.val = l.val; rw [(index1 t).2]; omega

theorem iblk2_real (t : Fin cfg0.N) (X : Fin 4224 → Fin 512 → ℝ) (h : (V m c main_v4 : Vec Ideal S4224x512 .f32) = mat X) :
    (iblk m c 2 t : Vec Ideal S384x512 .f32) = mat fun r => X (rowAt t r) := by
  funext i; rw [eq_ix2 i]; generalize i 0 = r; generalize i 1 = l
  refine (View.read_apply ..).trans ((congrArg (V m c main_v4 : Vec Ideal S4224x512 .f32) (funext fun a => Fin.ext ?_ : _ = ix2 (rowAt t r) l)).trans (congrFun h _))
  match a with
  | ⟨0, _⟩ => show win0_2.index t 0 * 384 + 1 * r.val = 384 * t.val + r.val; rw [(index2 t).1]; omega
  | ⟨1, _⟩ => show win0_2.index t 1 * 512 + 1 * l.val = l.val; rw [(index2 t).2]; omega

theorem iblk3_real (t : Fin cfg0.N) (X : Fin 4224 → Fin 512 → ℝ) (h : (V m c main_v6 : Vec Ideal S4224x512 .f32) = mat X) :
    (iblk m c 3 t : Vec Ideal S384x512 .f32) = mat fun r => X (rowAt t r) := by
  funext i; rw [eq_ix2 i]; generalize i 0 = r; generalize i 1 = l
  refine (View.read_apply ..).trans ((congrArg (V m c main_v6 : Vec Ideal S4224x512 .f32) (funext fun a => Fin.ext ?_ : _ = ix2 (rowAt t r) l)).trans (congrFun h _))
  match a with
  | ⟨0, _⟩ => show win0_3.index t 0 * 384 + 1 * r.val = 384 * t.val + r.val; rw [(index3 t).1]; omega
  | ⟨1, _⟩ => show win0_3.index t 1 * 512 + 1 * l.val = l.val; rw [(index3 t).2]; omega

theorem iblk4_real (t : Fin cfg0.N) (X : Fin 4224 → Fin 384 → ℝ) (h : (V m c main_v8 : Vec Ideal S4224x384 .f32) = mat X) :
    (iblk m c 4 t : Vec Ideal S384x384 .f32) = mat fun r => X (rowAt t r) := by
  funext i; rw [eq_ix2 i]; generalize i 0 = r; generalize i 1 = l
  refine (View.read_apply ..).trans ((congrArg (V m c main_v8 : Vec Ideal S4224x384 .f32) (funext fun a => Fin.ext ?_ : _ = ix2 (rowAt t r) l)).trans (congrFun h _))
  match a with
  | ⟨0, _⟩ => show win0_4.index t 0 * 384 + 1 * r.val = 384 * t.val + r.val; rw [(index4 t).1]; omega
  | ⟨1, _⟩ => show win0_4.index t 1 * 384 + 1 * l.val = l.val; rw [(index4 t).2]; omega

theorem iblk5_real (t : Fin cfg0.N) (X : Fin 4224 → Fin 256 → ℝ) (h : (V m c main_v10 : Vec Ideal S4224x256 .f32) = mat X) :
    (iblk m c 5 t : Vec Ideal S384x256 .f32) = mat fun r => X (rowAt t r) := by
  funext i; rw [eq_ix2 i]; generalize i 0 = r; generalize i 1 = l
  refine (View.read_apply ..).trans ((congrArg (V m c main_v10 : Vec Ideal S4224x256 .f32) (funext fun a => Fin.ext ?_ : _ = ix2 (rowAt t r) l)).trans (congrFun h _))
  match a with
  | ⟨0, _⟩ => show win0_5.index t 0 * 384 + 1 * r.val = 384 * t.val + r.val; rw [(index5 t).1]; omega
  | ⟨1, _⟩ => show win0_5.index t 1 * 256 + 1 * l.val = l.val; rw [(index5 t).2]; omega

theorem iblk6_real (t : Fin cfg0.N) (X : Fin 4224 → Fin 128 → ℝ) (h : (V m c main_v12 : Vec Ideal S4224x128 .f32) = mat X) :
    (iblk m c 6 t : Vec Ideal S384x128 .f32) = mat fun r => X (rowAt t r) := by
  funext i; rw [eq_ix2 i]; generalize i 0 = r; generalize i 1 = l
  refine (View.read_apply ..).trans ((congrArg (V m c main_v12 : Vec Ideal S4224x128 .f32) (funext fun a => Fin.ext ?_ : _ = ix2 (rowAt t r) l)).trans (congrFun h _))
  match a with
  | ⟨0, _⟩ => show win0_6.index t 0 * 384 + 1 * r.val = 384 * t.val + r.val; rw [(index6 t).1]; omega
  | ⟨1, _⟩ => show win0_6.index t 1 * 128 + 1 * l.val = l.val; rw [(index6 t).2]; omega

theorem iblk7_real (t : Fin cfg0.N) (X : Fin 1 → Fin 1024 → ℝ) (h : (V m c main_v17 : Vec Ideal S1x1024 .f32) = mat X) :
    (iblk m c 7 t : Vec Ideal S1x1024 .f32) = mat X := by
  funext i; rw [eq_ix2 i]; generalize i 0 = r; generalize i 1 = l
  refine (View.read_apply ..).trans ((congrArg (V m c main_v17 : Vec Ideal S1x1024 .f32) (funext fun a => Fin.ext ?_ : _ = ix2 r l)).trans (congrFun h _))
  match a with
  | ⟨0, _⟩ => show win0_7.index t 0 * 1 + 1 * r.val = r.val; rw [(index7 t).1]; omega
  | ⟨1, _⟩ => show win0_7.index t 1 * 1024 + 1 * l.val = l.val; rw [(index7 t).2]; omega

theorem iblk8_real (t : Fin cfg0.N) (X : Fin 1024 → Fin 1792 → ℝ) (h : (V m c main_v23 : Vec Ideal S1024x1792 .bf16) = mat X) :
    (iblk m c 8 t : Vec Ideal S1024x1792 .bf16) = mat X := by
  funext i; rw [eq_ix2 i]; generalize i 0 = r; generalize i 1 = l
  refine (View.read_apply ..).trans ((congrArg (V m c main_v23 : Vec Ideal S1024x1792 .bf16) (funext fun a => Fin.ext ?_ : _ = ix2 r l)).trans (congrFun h _))
  match a with
  | ⟨0, _⟩ => show win0_8.index t 0 * 1024 + 1 * r.val = r.val; rw [(index8 t).1]; omega
  | ⟨1, _⟩ => show win0_8.index t 1 * 1792 + 1 * l.val = l.val; rw [(index8 t).2]; omega

end Cert.MixInKernelIdeal.Hand

end
-- ==== Proof.MixInValue.lean ====
/- The arrays the mixer input's backward call leaves, at real arguments. -/
module

public import proofs.«01_k».proof.Defs
public import proofs.«01_k».proof.Proof.MixInHost
public import Idealize.ShloMosaic.Lib.Pointwise
public import Idealize.ShloMosaic.Lib.Pipeline.Value
public import Idealize.ShloMosaic.Lib.Tactic

@[expose] public section

set_option maxRecDepth 16384

noncomputable section

namespace Cert.MixInKernelIdeal.Hand

open Cert.MixInKernelIdeal Cert.MixInKernelIdeal.Gen Idealize.ShloMosaic Idealize.ShloMosaic.TcCoe Idealize.SL.Sem
open Idealize.ShloMosaic.Pipeline (Dat)
open Cert.Norm

variable (m : (ℓ : Loc nD τ sig) → Buf (Elt Ideal) ℓ)

variable (c : Dev nD) (DH H : Fin 4224 → Fin 1024 → ℝ) (A0 A1 : Fin 4224 → Fin 512 → ℝ) (A2 : Fin 4224 → Fin 384 → ℝ) (A3 : Fin 4224 → Fin 256 → ℝ) (A4 : Fin 4224 → Fin 128 → ℝ)
  (G : Fin 1024 → ℝ) (W : Fin 1024 → Fin 1792 → ℝ)
  (v0 : (V m c main_v14 : Vec Ideal S4224x1024 .f32) = mat DH) (v1 : (V m c main_v16 : Vec Ideal S4224x1024 .f32) = mat H)
  (v2 : (V m c main_v4 : Vec Ideal S4224x512 .f32) = mat A0) (v3 : (V m c main_v6 : Vec Ideal S4224x512 .f32) = mat A1)
  (v4 : (V m c main_v8 : Vec Ideal S4224x384 .f32) = mat A2) (v5 : (V m c main_v10 : Vec Ideal S4224x256 .f32) = mat A3)
  (v6 : (V m c main_v12 : Vec Ideal S4224x128 .f32) = mat A4) (v7 : (V m c main_v17 : Vec Ideal S1x1024 .f32) = mat fun _ => G)
  (v8 : (V m c main_v23 : Vec Ideal S1024x1792 .bf16) = mat W)

/-- The cotangent of the projection's output, in the kernel's columns. -/
def DZ (R : Fin 4224) : Fin 1792 → ℝ := cat5 (by norm_num) (A0 R) (A1 R) (A2 R) (A3 R) (A4 R)

include v0 v1 v2 v3 v4 v5 v6 v7 v8 in
theorem outs_9 (t : Fin cfg0.N) : ((outsAt0 m c t.val t.isLt).1 : Vec Ideal S384x1024 .f32)
    = mat fun r l => DH (rowAt t r) l + back 1024 (H (rowAt t r)) (fun k => du (DZ A0 A1 A2 A3 A4 (rowAt t r)) W k * G k) l := by
  have hN := lt_N t
  refine if h0 : t.val % 11 = 0 then ?_ else ?_
  all_goals
    first
    | (rw [outsAt0_A m c t h0 (by omega)]
       dsimp only
       unfold out0_A_9
       refine (View.read_writes_eq_canon _ _ _ (fun y => cover0_A_9 (y := y) ..)).trans ?_
       unfold kernelRun0_A)
    | (rw [outsAt0_B m c t h0 (by omega)]
       dsimp only
       unfold out0_B_9
       refine (View.read_writes_eq_canon _ _ _ (fun y => cover0_B_9 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S384x1024) hz, View.ld_unit_zero (S := S384x512) hz, View.ld_unit_zero (S := S384x384) hz, View.ld_unit_zero (S := S384x256) hz, View.ld_unit_zero (S := S384x128) hz, View.ld_unit_zero (S := S1x1024) hz, View.ld_unit_zero (S := S1024x1792) hz,
      iblk0_real m c t DH v0, iblk1_real m c t H v1, iblk2_real m c t A0 v2, iblk3_real m c t A1 v3, iblk4_real m c t A2 v4, iblk5_real m c t A3 v5, iblk6_real m c t A4 v6, iblk7_real m c t _ v7, iblk8_real m c t W v8]
    erw [pay5_real]
    exact pay3_real _ _ _ _ _

include v2 v3 v4 v5 v6 in
theorem outs_10 (t : Fin cfg0.N) : ((outsAt0 m c t.val t.isLt).2.1 : Vec Ideal S384x1792 .bf16)
    = mat fun r => DZ A0 A1 A2 A3 A4 (rowAt t r) := by
  have hN := lt_N t
  refine if h0 : t.val % 11 = 0 then ?_ else ?_
  all_goals
    first
    | (rw [outsAt0_A m c t h0 (by omega)]
       dsimp only
       unfold out0_A_10
       refine (View.read_writes_eq_canon _ _ _ (fun y => cover0_A_10 (y := y) ..)).trans ?_
       unfold kernelRun0_A)
    | (rw [outsAt0_B m c t h0 (by omega)]
       dsimp only
       unfold out0_B_10
       refine (View.read_writes_eq_canon _ _ _ (fun y => cover0_B_10 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S384x1024) hz, View.ld_unit_zero (S := S384x512) hz, View.ld_unit_zero (S := S384x384) hz, View.ld_unit_zero (S := S384x256) hz, View.ld_unit_zero (S := S384x128) hz, View.ld_unit_zero (S := S1x1024) hz, View.ld_unit_zero (S := S1024x1792) hz,
      iblk2_real m c t A0 v2, iblk3_real m c t A1 v3, iblk4_real m c t A2 v4, iblk5_real m c t A3 v5, iblk6_real m c t A4 v6]
    exact pay5_real _ _ _ _ _

include v1 v7 in
theorem outs_11 (t : Fin cfg0.N) : ((outsAt0 m c t.val t.isLt).2.2.1 : Vec Ideal S384x1024 .bf16)
    = mat fun r l => H (rowAt t r) l * scl 1024 (H (rowAt t r)) * G l := by
  have hN := lt_N t
  refine if h0 : t.val % 11 = 0 then ?_ else ?_
  all_goals
    first
    | (rw [outsAt0_A m c t h0 (by omega)]
       dsimp only
       unfold out0_A_11
       refine (View.read_writes_eq_canon _ _ _ (fun y => cover0_A_11 (y := y) ..)).trans ?_
       unfold kernelRun0_A)
    | (rw [outsAt0_B m c t h0 (by omega)]
       dsimp only
       unfold out0_B_11
       refine (View.read_writes_eq_canon _ _ _ (fun y => cover0_B_11 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S384x1024) hz, View.ld_unit_zero (S := S384x512) hz, View.ld_unit_zero (S := S384x384) hz, View.ld_unit_zero (S := S384x256) hz, View.ld_unit_zero (S := S384x128) hz, View.ld_unit_zero (S := S1x1024) hz, View.ld_unit_zero (S := S1024x1792) hz,
      iblk1_real m c t H v1, iblk7_real m c t _ v7]
    exact pay10_real _ _

/-- The first point stores its share. -/
theorem outs_12_A (t : Fin cfg0.N) (h0 : t.val % 11 = 0) (h1 : ¬1 ≤ t.val) :
    (outsAt0 m c t.val t.isLt).2.2.2 = k0_pay2 (k0_pay5 (iblk m c 2 t) (iblk m c 3 t) (iblk m c 4 t) (iblk m c 5 t) (iblk m c 6 t)) (k0_pay9 (iblk m c 1 t)) (k0_pay11 (iblk m c 8 t)) (constant S384x1024 .f32 0x00000000#32) := by
  rw [outsAt0_A m c t h0 h1]
  dsimp only
  unfold out0_A_12
  refine (View.read_writes_eq_canon _ _ _ (fun y => cover0_A_12 (y := y) ..)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S384x1024) hz, View.ld_unit_zero (S := S384x512) hz, View.ld_unit_zero (S := S384x384) hz, View.ld_unit_zero (S := S384x256) hz, View.ld_unit_zero (S := S384x128) hz, View.ld_unit_zero (S := S1x1024) hz, View.ld_unit_zero (S := S1024x1792) hz]

/-- Every later point adds its share to what the point before left. -/
theorem outs_12_B (t : Fin cfg0.N) (h0 : ¬t.val % 11 = 0) (h1 : 1 ≤ t.val) :
    (outsAt0 m c t.val t.isLt).2.2.2 = addf (outsAt0 m c (t.val - 1) (Nat.lt_of_le_of_lt (Nat.sub_le _ _) t.isLt)).2.2.2 (k0_pay2 (k0_pay5 (iblk m c 2 t) (iblk m c 3 t) (iblk m c 4 t) (iblk m c 5 t) (iblk m c 6 t)) (k0_pay9 (iblk m c 1 t)) (k0_pay11 (iblk m c 8 t)) (constant S384x1024 .f32 0x00000000#32)) := by
  rw [outsAt0_B m c t h0 h1]
  dsimp only
  unfold out0_B_12
  refine (View.read_writes_eq_canon _ _ _ (fun y => cover0_B_12 (y := y) ..)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S384x1024) hz, View.ld_unit_zero (S := S384x512) hz, View.ld_unit_zero (S := S384x384) hz, View.ld_unit_zero (S := S384x256) hz, View.ld_unit_zero (S := S384x128) hz, View.ld_unit_zero (S := S1x1024) hz, View.ld_unit_zero (S := S1024x1792) hz, (hs0_12 t).read_unread, pay4_eq]

include v0 v1 v2 v3 v4 v5 v6 v7 v8 in
theorem final9 : ((dats m 0 c).arrAt 9 cfg0.N : Vec Ideal S4224x1024 .f32) = mat fun Q l => DH Q l + back 1024 (H Q) (fun k => du (DZ A0 A1 A2 A3 A4 Q) W k * G k) l := by
  refine eq_mat _ _ fun R l => ?_
  have h := (dats m 0 c).arrAt_emb_eq_flushed 9 Value.disjoint9 (ptOf R) (flush0_9 _) (ix2 (inBlk R) l : S384x1024.Idx)
  have e : ((cfg0.win 9).blk (ptOf R)).view.emb (ix2 (inBlk R) l : S384x1024.Idx) = (ix2 R l : S4224x1024.Idx) := by
    funext a
    apply Fin.ext
    match a with
    | ⟨0, _⟩ => show win0_9.index (ptOf R) 0 * 384 + 1 * (R.val % 384) = R.val; rw [(index9 _).1]; dsimp only; omega
    | ⟨1, _⟩ => show win0_9.index (ptOf R) 1 * 1024 + 1 * l.val = l.val; rw [(index9 _).2]; omega
  rw [e] at h
  refine h.trans ?_
  rw [Value.flushed9, outs_9 m c DH H A0 A1 A2 A3 A4 G W v0 v1 v2 v3 v4 v5 v6 v7 v8]
  exact congrArg (fun Q : Fin 4224 => ((DH Q l + back 1024 (H Q) (fun k => du (DZ A0 A1 A2 A3 A4 Q) W k * G k) l : ℝ) : EReal)) (rowAt_ptOf R)

include v2 v3 v4 v5 v6 in
theorem final10 : ((dats m 0 c).arrAt 10 cfg0.N : Vec Ideal S4224x1792 .bf16) = mat fun Q l => DZ A0 A1 A2 A3 A4 Q l := by
  refine eq_mat _ _ fun R l => ?_
  have h := (dats m 0 c).arrAt_emb_eq_flushed 10 Value.disjoint10 (ptOf R) (flush0_10 _) (ix2 (inBlk R) l : S384x1792.Idx)
  have e : ((cfg0.win 10).blk (ptOf R)).view.emb (ix2 (inBlk R) l : S384x1792.Idx) = (ix2 R l : S4224x1792.Idx) := by
    funext a
    apply Fin.ext
    match a with
    | ⟨0, _⟩ => show win0_10.index (ptOf R) 0 * 384 + 1 * (R.val % 384) = R.val; rw [(index10 _).1]; dsimp only; omega
    | ⟨1, _⟩ => show win0_10.index (ptOf R) 1 * 1792 + 1 * l.val = l.val; rw [(index10 _).2]; omega
  rw [e] at h
  refine h.trans ?_
  rw [Value.flushed10, outs_10 m c A0 A1 A2 A3 A4 v2 v3 v4 v5 v6]
  exact congrArg (fun Q : Fin 4224 => ((DZ A0 A1 A2 A3 A4 Q l : ℝ) : EReal)) (rowAt_ptOf R)

include v1 v7 in
theorem final11 : ((dats m 0 c).arrAt 11 cfg0.N : Vec Ideal S4224x1024 .bf16) = mat fun Q l => H Q l * scl 1024 (H Q) * G l := by
  refine eq_mat _ _ fun R l => ?_
  have h := (dats m 0 c).arrAt_emb_eq_flushed 11 Value.disjoint11 (ptOf R) (flush0_11 _) (ix2 (inBlk R) l : S384x1024.Idx)
  have e : ((cfg0.win 11).blk (ptOf R)).view.emb (ix2 (inBlk R) l : S384x1024.Idx) = (ix2 R l : S4224x1024.Idx) := by
    funext a
    apply Fin.ext
    match a with
    | ⟨0, _⟩ => show win0_11.index (ptOf R) 0 * 384 + 1 * (R.val % 384) = R.val; rw [(index11 _).1]; dsimp only; omega
    | ⟨1, _⟩ => show win0_11.index (ptOf R) 1 * 1024 + 1 * l.val = l.val; rw [(index11 _).2]; omega
  rw [e] at h
  refine h.trans ?_
  rw [Value.flushed11, outs_11 m c H G v1 v7]
  exact congrArg (fun Q : Fin 4224 => ((H Q l * scl 1024 (H Q) * G l : ℝ) : EReal)) (rowAt_ptOf R)

include v1 v2 v3 v4 v5 v6 v8 in
/-- The buffer after point `n`: the sum of the points' shares so far. -/
theorem outs_12 : ∀ (n : ℕ) (h : n < cfg0.N), ((outsAt0 m c n h).2.2.2 : Vec Ideal S1x1024 .f32)
      = mat fun _ l => ∑ s : Fin (n + 1), ∑ r, du (DZ A0 A1 A2 A3 A4 (rowAt ⟨s.val, lt_of_lt_of_le s.isLt h⟩ r)) W l * (H (rowAt ⟨s.val, lt_of_lt_of_le s.isLt h⟩ r) l * scl 1024 (H (rowAt ⟨s.val, lt_of_lt_of_le s.isLt h⟩ r)))
  | 0, h => by
    refine (outs_12_A m c ⟨0, h⟩ (by dsimp only) (by dsimp only; omega)).trans ?_
    rw [iblk1_real m c _ H v1, iblk2_real m c _ A0 v2, iblk3_real m c _ A1 v3, iblk4_real m c _ A2 v4, iblk5_real m c _ A3 v5, iblk6_real m c _ A4 v6, iblk8_real m c _ W v8]
    erw [pay5_real, pay2_real]
    refine eq_mat _ _ fun r l => ?_
    rw [Fin.sum_univ_one]
    rfl
  | n + 1, h => by
    have hN : cfg0.N = 11 := N_0
    refine (outs_12_B m c ⟨n + 1, h⟩ (by dsimp only; omega) (by dsimp only; omega)).trans ?_
    refine eq_mat _ _ fun r l => ?_
    rw [iblk1_real m c _ H v1, iblk2_real m c _ A0 v2, iblk3_real m c _ A1 v3, iblk4_real m c _ A2 v4, iblk5_real m c _ A3 v5, iblk6_real m c _ A4 v6, iblk8_real m c _ W v8]
    erw [pay5_real, pay2_real]
    rw [Fin.sum_univ_castSucc]
    refine Eq.trans ?_ (EReal.coe_add _ _).symm
    exact congrArg₂ (· + ·) (congrFun (outs_12 n (Nat.lt_of_succ_lt h)) (ix2 r l)) rfl

theorem final12_eq : ((dats m 0 c).arrAt 12 cfg0.N : Vec Ideal S1x1024 .f32) = (outsAt0 m c 10 (by rw [show cfg0.N = 11 from N_0]; decide)).2.2.2 := by
  refine (dats m 0 c).arrAt_eq_of_cover 12 _ (fun t hf => ?_) fun i => ⟨t0_10, (flush0_12 t0_10).mpr rfl, ?_⟩
  · have h3 : t.val = 10 := by have := (flush0_12 t).mp hf; have := lt_N t; omega
    obtain rfl : t = t0_10 := Fin.ext h3
    rw [Value.flushed12]
    have hz' : (fun a => win0_12.index t0_10 a * main_v24_3.ty.shape.size a) = fun _ => 0 := funext fun a => by fin_cases a <;> decide
    exact (Memref.read_access_unit_zero (Elt Ideal) main_v24_3 hz' (fun a => by rw [congrFun hz' a]; simp) _).symm
  · show i ∈ ((View.whole main_v24_3).slice (win0_12.rect t0_10)).set
    rw [View.set_slice_whole, Rect.mem_set_unit]
    intro a
    have h0 : (i 0 : Nat) < 1 := (i 0).isLt
    have h1 : (i 1 : Nat) < 1024 := (i 1).isLt
    match a with
    | ⟨0, _⟩ => show win0_12.index t0_10 0 * win0_12.size 0 ≤ (i 0 : Nat) ∧ (i 0 : Nat) < win0_12.index t0_10 0 * win0_12.size 0 + win0_12.xsize (grid0.coords t0_10) 0
                rw [show win0_12.index t0_10 0 * win0_12.size 0 = 0 from by decide +kernel, show win0_12.xsize (grid0.coords t0_10) 0 = 1 from by decide +kernel]; omega
    | ⟨1, _⟩ => show win0_12.index t0_10 1 * win0_12.size 1 ≤ (i 1 : Nat) ∧ (i 1 : Nat) < win0_12.index t0_10 1 * win0_12.size 1 + win0_12.xsize (grid0.coords t0_10) 1
                rw [show win0_12.index t0_10 1 * win0_12.size 1 = 0 from by decide +kernel, show win0_12.xsize (grid0.coords t0_10) 1 = 1024 from by decide +kernel]; omega

include v1 v2 v3 v4 v5 v6 v8 in
theorem final12 : ((dats m 0 c).arrAt 12 cfg0.N : Vec Ideal S1x1024 .f32) = mat fun _ l => ∑ Q, du (DZ A0 A1 A2 A3 A4 Q) W l * (H Q l * scl 1024 (H Q)) := by
  rw [final12_eq, outs_12 m c H A0 A1 A2 A3 A4 W v1 v2 v3 v4 v5 v6 v8]
  refine eq_mat _ _ fun r l => congrArg ((↑) : ℝ → EReal) ?_
  exact sum_tiles fun Q => du (DZ A0 A1 A2 A3 A4 Q) W l * (H Q l * scl 1024 (H Q))

end Cert.MixInKernelIdeal.Hand

end
-- ==== Proof.MixInRef.lean ====
/- The mixer input's backward call: the reference's values at real arguments. -/
module

public import proofs.«01_k».proof.Defs
public import proofs.«01_k».proof.Proof.Gen.MixInRefIdeal.Read
public import proofs.«01_k».proof.Proof.MixInPay
public import proofs.«01_k».proof.Proof.Sigmoid
public import Idealize.ShloMosaic.Lib.Pointwise
public import Idealize.ShloMosaic.Lib.Pipeline.Value
public import Idealize.ShloMosaic.Lib.Tactic

@[expose] public section

set_option maxRecDepth 16384

noncomputable section

namespace Cert.MixInKernelIdeal.Hand

open Cert.MixInKernelIdeal Cert.MixInKernelIdeal.Gen Idealize.ShloMosaic Idealize.ShloMosaic.TcCoe Idealize.SL.Sem
open Idealize.ShloMosaic.Pipeline (Dat)
open Cert.Norm Cert.MixInRefIdeal.Read

variable (dh h : Fin 4112 → Fin 1024 → ℝ) (p0 p1 : Fin 4112 → Fin 512 → ℝ) (p2 : Fin 4112 → Fin 384 → ℝ) (p3 : Fin 4112 → Fin 256 → ℝ) (p4 : Fin 4112 → Fin 32 → ℝ)
  (g : Fin 1024 → ℝ) (w : Fin 1024 → Fin 1696 → ℝ)

/-- The cotangent of the projection's output. -/
def dz (r : Fin 4112) : Fin 1696 → ℝ := cat5 (by norm_num) (p0 r) (p1 r) (p2 r) (p3 r) (p4 r)

theorem ref0 : val_main_v0 (F := Ideal) (mat p0) (mat p1) (mat p2) (mat p3) (mat p4) = mat (dz p0 p1 p2 p3 p4) := by
  refine eq_mat _ _ fun r l => ?_
  pointwise [val_main_v0]
  unfold dz cat5
  split_ifs <;> rfl

theorem ref18 : val_main_v18 (F := Ideal) (mat p0) (mat p1) (mat p2) (mat p3) (mat p4) (mat w) = mat fun r => du (dz p0 p1 p2 p3 p4 r) w := by
  refine eq_mat _ _ fun r l => ?_
  unfold val_main_v18
  rw [ref0]
  pointwise
  simp only [← EReal.coe_mul, ← Softmax.coe_sum]
  rfl

theorem ref8 (r : Fin 4112) : val_main_v8 (F := Ideal) (mat h) (ix2 r 0) = (scl 1024 (h r) : EReal) := by
  pointwise [val_main_v8, val_main_v7, val_main_v6, val_main_v5, val_main_v4, val_main_v3, val_main_v2, val_main_v1, val_main_cst, val_main_cst_0, val_main_cst_1]
  simp only [lit_1024, lit_eps, ← EReal.coe_mul, ← Softmax.coe_sum, div_1024, ← EReal.coe_add, rsqrt_1024]
  rfl

theorem ref13 : val_main_v13 (F := Ideal) (mat h) = mat fun r l => h r l * scl 1024 (h r) := by
  refine eq_mat _ _ fun r l => ?_
  have e := ref8 h r
  unfold val_main_v13 val_main_v12
  generalize val_main_v8 (F := Ideal) (mat h) = s at e ⊢
  pointwise
  rw [e]
  exact (EReal.coe_mul _ _).symm

theorem ref16 : val_main_v16 (F := Ideal) (mat h) (vec g) = mat fun r l => h r l * scl 1024 (h r) * g l := by
  refine eq_mat _ _ fun r l => ?_
  unfold val_main_v16
  rw [ref13]
  pointwise [val_main_v15, val_main_v14]
  exact (EReal.coe_mul _ _).symm

theorem ref11 (r : Fin 4112) : val_main_v11 (F := Ideal) (mat h) (ix2 r 0) = ((-(1 / 2) * (scl 1024 (h r) / ms 1024 (h r)) : ℝ) : EReal) := by
  have e := ref8 h r
  unfold val_main_v11 val_main_v9
  generalize val_main_v8 (F := Ideal) (mat h) = s at e ⊢
  pointwise [val_main_v10, val_main_cst_2, val_main_v7, val_main_v6, val_main_v5, val_main_v4, val_main_v3, val_main_v2, val_main_v1, val_main_cst, val_main_cst_0, val_main_cst_1]
  rw [e]
  simp only [lit_neg_half, lit_1024, lit_eps, ← EReal.coe_mul, ← Softmax.coe_sum, div_1024, ← EReal.coe_add]
  exact (congrArg (fun z : EReal => ((-(1 / 2) : ℝ) : EReal) * z) (div_ms_1024 (h r) (scl 1024 (h r)))).trans (EReal.coe_mul _ _).symm

variable (x2 x3 : FVec Ideal S4112x512 .f32) (x4 : FVec Ideal S4112x384 .f32) (x5 : FVec Ideal S4112x256 .f32) (x6 : FVec Ideal S4112x32 .f32) (x8 : FVec Ideal S1024x1696 .f32)
  (d : Fin 4112 → Fin 1024 → ℝ) (hD : val_main_v18 (F := Ideal) x2 x3 x4 x5 x6 x8 = mat d)

include hD in
theorem ref23 : val_main_v23 (F := Ideal) x2 x3 x4 x5 x6 (vec g) x8 = mat fun r l => d r l * g l := by
  refine eq_mat _ _ fun r l => ?_
  unfold val_main_v23
  rw [hD]
  pointwise [val_main_v22, val_main_v14]
  exact (EReal.coe_mul _ _).symm

include hD in
theorem ref35 (r : Fin 4112) (l : Fin 1024) : val_main_v35 (F := Ideal) (mat h) x2 x3 x4 x5 x6 (vec g) x8 (ix2 r l)
    = (((∑ k, h r k * (d r k * g k)) * (-(1 / 2) * (scl 1024 (h r) / ms 1024 (h r))) / 1024 : ℝ) : EReal) := by
  have e := ref11 h r
  unfold val_main_v35 val_main_v34 val_main_v33 val_main_v31 val_main_v27 val_main_v26 val_main_v25
  rw [ref23 g x2 x3 x4 x5 x6 x8 d hD]
  generalize val_main_v11 (F := Ideal) (mat h) = s at e ⊢
  pointwise [val_main_v32, val_main_cst_5, val_main_cst_6, val_main_cst_7]
  simp only [Finset.univ_unique, Finset.sum_singleton]
  rw [show s (ix2 r (default : Fin 1)) = _ from e]
  simp only [lit_1024, ← EReal.coe_mul, ← Softmax.coe_sum, div_1024, ← EReal.coe_add]
  rfl

include hD in
/-- The gradient of the layer's input. -/
theorem ref39 : val_main_v39 (F := Ideal) (mat dh) (mat h) x2 x3 x4 x5 x6 (vec g) x8 = mat fun r l => dh r l + back 1024 (h r) (fun k => d r k * g k) l := by
  refine eq_mat _ _ fun r l => ?_
  have e := ref35 h g x2 x3 x4 x5 x6 x8 d hD r l
  have e' := ref8 h r
  unfold val_main_v39 val_main_v38 val_main_v37 val_main_v36 val_main_v30 val_main_v29 val_main_v28
  rw [ref23 g x2 x3 x4 x5 x6 x8 d hD]
  generalize val_main_v35 (F := Ideal) (mat h) x2 x3 x4 x5 x6 (vec g) x8 = s at e ⊢
  generalize val_main_v8 (F := Ideal) (mat h) = s' at e' ⊢
  pointwise
  rw [e, e', ← vjp_back 1024 (h r) (by norm_num)]
  simp only [← EReal.coe_mul, ← EReal.coe_add]
  refine congrArg ((↑) : ℝ → EReal) ?_
  generalize (∑ k, h r k * (d r k * g k)) * (-(1 / 2) * (scl 1024 (h r) / ms 1024 (h r))) / 1024 = q
  show dh r l + d r l * g l * scl 1024 (h r) + h r l * q + q * h r l = dh r l + (d r l * g l * scl 1024 (h r) + h r l * q + q * h r l)
  ring

/-! ## The four results -/

include hD in
theorem ref41 : val_main_v41 (F := Ideal) (mat dh) (mat h) x2 x3 x4 x5 x6 (vec g) x8 = mat (pad fun r l => dh r l + back 1024 (h r) (fun k => d r k * g k) l) := by
  unfold val_main_v41
  rw [ref39 dh h g x2 x3 x4 x5 x6 x8 d hD]
  exact pad_concat _ _ _

theorem ref49 : (val_main_v49 (F := Ideal) (mat p0) (mat p1) (mat p2) (mat p3) (mat p4) : FVec Ideal S4224x1792 .f32) = mat (pad fun r => cols (dz p0 p1 p2 p3 p4 r)) := by
  show val_main_v48 (F := Ideal) (mat p0) (mat p1) (mat p2) (mat p3) (mat p4) = _
  have e : val_main_v46 (F := Ideal) (mat p0) (mat p1) (mat p2) (mat p3) (mat p4) = mat fun r => cols (dz p0 p1 p2 p3 p4 r) := by
    unfold val_main_v46 val_main_v42 val_main_v44
    rw [ref0]
    exact cols_concat _ _ _ _ _ _
  unfold val_main_v48
  rw [e]
  exact pad_concat _ _ _

theorem ref65 : (val_main_v65 (F := Ideal) (mat h) (vec g) : FVec Ideal S4224x1024 .f32) = mat (pad fun r l => h r l * scl 1024 (h r) * g l) := by
  show val_main_v64 (F := Ideal) (mat h) (vec g) = _
  unfold val_main_v64
  rw [show val_main_v62 (F := Ideal) (mat h) (vec g) = _ from ref16 h g]
  exact pad_concat _ _ _

include hD in
theorem ref66 : val_main_v66 (F := Ideal) (mat h) x2 x3 x4 x5 x6 x8 = mat fun _ l => ∑ r, d r l * (h r l * scl 1024 (h r)) := by
  refine eq_mat _ _ fun r l => ?_
  unfold val_main_v66 val_main_v24 val_main_v21 val_main_v20 val_main_v19
  rw [ref13, hD]
  pointwise [val_main_cst_3, val_main_cst_4]
  simp only [Finset.univ_unique, Finset.sum_singleton, ← EReal.coe_mul, ← Softmax.coe_sum]
  refine congrArg ((↑) : ℝ → EReal) (Finset.sum_congr rfl fun r _ => ?_)
  exact mul_comm _ _

end Cert.MixInKernelIdeal.Hand

end
-- ==== Proof.MixInEq.lean ====
/- The mixer input's backward call: the kernel's arrays are the reference's. -/
module

public import proofs.«01_k».proof.Defs
public import proofs.«01_k».proof.Proof.Gen.MixInKernelIdeal.Value
public import proofs.«01_k».proof.Proof.MixInValue
public import proofs.«01_k».proof.Proof.MixInRef
public import proofs.«01_k».proof.Proof.Gen.Pre_mix_in_finite
public import proofs.«01_k».proof.Proof.Gen.MixInRefIdeal.Run
public import proofs.«01_k».proof.Proof.Gen.MixInRefIdeal.Read
public import Idealize.ShloMosaic.Lib.Pointwise
public import Idealize.ShloMosaic.Lib.Pipeline.Value
public import Idealize.ShloMosaic.Lib.Tactic

@[expose] public section

set_option maxRecDepth 16384

noncomputable section

namespace Cert.MixInKernelIdeal.Hand

open Cert.MixInKernelIdeal Cert.MixInKernelIdeal.Gen Idealize.ShloMosaic Idealize.ShloMosaic.TcCoe Idealize.SL.Sem
open Idealize.ShloMosaic.Pipeline (Dat)
open Cert.Norm Cert.MixInRefIdeal.Read

/-! ## The rows added under the arrays -/

section
variable (x h : Fin 4112 → Fin 1024 → ℝ) (p0 p1 : Fin 4112 → Fin 512 → ℝ) (p2 : Fin 4112 → Fin 384 → ℝ) (p3 : Fin 4112 → Fin 256 → ℝ) (p4 : Fin 4112 → Fin 32 → ℝ)
  (G : Fin 1024 → ℝ) (w : Fin 1024 → Fin 1696 → ℝ)

theorem DZ_pad : DZ (pad p0) (pad p1) (pad p2) (pad p3) (pad fun r => lanes (p4 r)) = pad fun r => cols (dz p0 p1 p2 p3 p4 r) := by
  funext R j
  by_cases hR : R.val < 4112
  · unfold DZ dz
    rw [pad_pos _ R hR, pad_pos _ R hR, pad_pos _ R hR, pad_pos _ R hR, pad_pos _ R hR, pad_pos _ R hR, cat5_lanes]
  · rw [pad_neg _ R hR]
    unfold DZ cat5
    simp only [pad_neg _ R hR, dite_eq_ite, ite_self]

theorem du_cols (z : Fin 1696 → ℝ) : du (cols z) (fun r => cols (w r)) = du z w := funext fun l => sum_cols z (w l)

theorem du_pad (z : Fin 4112 → Fin 1696 → ℝ) (R : Fin 4224) (l : Fin 1024) :
    du (pad (fun r => cols (z r)) R) (fun r => cols (w r)) l = pad (fun r => du (z r) w) R l := by
  by_cases hR : R.val < 4112
  · rw [pad_pos _ R hR, pad_pos _ R hR, du_cols]
  · unfold du
    simp only [pad_neg _ R hR, zero_mul, Finset.sum_const_zero]

variable (d : Fin 4112 → Fin 1024 → ℝ)

theorem rows9 : (fun R l => pad x R l + back 1024 (pad h R) (fun k => pad d R k * G k) l) = pad fun r l => x r l + back 1024 (h r) (fun k => d r k * G k) l := by
  funext R l
  by_cases hR : R.val < 4112
  · rw [pad_pos _ R hR, pad_pos _ R hR, pad_pos _ R hR, pad_pos _ R hR]
  · simp only [pad_neg _ R hR, zero_mul, back_zero, add_zero]

theorem rows11 : (fun R l => pad h R l * scl 1024 (pad h R) * G l) = pad fun r l => h r l * scl 1024 (h r) * G l := by
  funext R l
  by_cases hR : R.val < 4112
  · rw [pad_pos _ R hR, pad_pos _ R hR]
  · simp only [pad_neg _ R hR, zero_mul]

theorem rows12 (l : Fin 1024) : ∑ R, pad d R l * (pad h R l * scl 1024 (pad h R)) = ∑ r, d r l * (h r l * scl 1024 (h r)) := by
  refine sum_pad _ _ (fun R => ?_) fun R hR => ?_
  · rw [pad_pos _ _ R.isLt, pad_pos _ _ R.isLt]
  · rw [pad_neg d R hR, zero_mul]

end

variable (dres : FVec Ideal ⟨2, ![4112, 1024]⟩ .f32) (h : FVec Ideal ⟨2, ![4112, 1024]⟩ .f32) (xr : FVec Ideal ⟨2, ![4112, 512]⟩ .f32) (gr : FVec Ideal ⟨2, ![4112, 512]⟩ .f32) (cq : FVec Ideal ⟨2, ![4112, 384]⟩ .f32) (ckv : FVec Ideal ⟨2, ![4112, 256]⟩ .f32) (kr : FVec Ideal ⟨2, ![4112, 32]⟩ .f32) (pg : FVec Ideal ⟨1, ![1024]⟩ .f32) (w : FVec Ideal ⟨2, ![1024, 1696]⟩ .f32)
  (hf : Cert.Pre_mix_in_finite.fn (F := Ideal) dres h xr gr cq ckv kr pg w = fun _ => 1#1)

include hf in
theorem pre_at (R : Fin 13361) (l : Fin 1696) : (Cert.Pre_mix_in_finite.fn (F := Ideal) dres h xr gr cq ckv kr pg w : IVec _ 1) (ix2 R l) = 1#1 := by rw [hf]

include hf in
theorem fin_dres : dres = mat fun r l => (dres (ix2 r l)).toReal := by
  refine mat_of _ fun r l => ?_
  have g := pre_at dres h xr gr cq ckv kr pg w hf ⟨5136 + r.val, by omega⟩ ⟨l.val, by omega⟩
  revert g
  pointwise [Cert.Pre_mix_in_finite.fn, Cert.Pre_mix_in_finite.fn_part1]
  intro g
  try simp (disch := omega) only [dif_pos, dif_neg] at g
  first
  | rw [show ∀ p, (⟨5136 + r.val - 4112 - 1024, p⟩ : Fin 4112) = r from fun p => Fin.ext (by show 5136 + r.val - 4112 - 1024 = r.val; omega)] at g
  | skip
  exact g

include hf in
theorem fin_h : h = mat fun r l => (h (ix2 r l)).toReal := by
  refine mat_of _ fun r l => ?_
  have g := pre_at dres h xr gr cq ckv kr pg w hf ⟨9248 + r.val, by omega⟩ ⟨l.val, by omega⟩
  revert g
  pointwise [Cert.Pre_mix_in_finite.fn, Cert.Pre_mix_in_finite.fn_part1]
  intro g
  try simp (disch := omega) only [dif_pos, dif_neg] at g
  first
  | rw [show ∀ p, (⟨9248 + r.val - 4112 - 1024 - 4112, p⟩ : Fin 4112) = r from fun p => Fin.ext (by show 9248 + r.val - 4112 - 1024 - 4112 = r.val; omega)] at g
  | skip
  exact g

include hf in
theorem fin_xr : xr = mat fun r l => (xr (ix2 r l)).toReal := by
  refine mat_of _ fun r l => ?_
  have g := pre_at dres h xr gr cq ckv kr pg w hf ⟨r.val, by omega⟩ ⟨l.val, by omega⟩
  revert g
  pointwise [Cert.Pre_mix_in_finite.fn, Cert.Pre_mix_in_finite.fn_part1]
  intro g
  try simp (disch := omega) only [dif_pos, dif_neg] at g
  exact g

include hf in
theorem fin_gr : gr = mat fun r l => (gr (ix2 r l)).toReal := by
  refine mat_of _ fun r l => ?_
  have g := pre_at dres h xr gr cq ckv kr pg w hf ⟨r.val, by omega⟩ ⟨512 + l.val, by omega⟩
  revert g
  pointwise [Cert.Pre_mix_in_finite.fn, Cert.Pre_mix_in_finite.fn_part1]
  intro g
  try simp (disch := omega) only [dif_pos, dif_neg] at g
  first
  | rw [show ∀ p, (⟨512 + l.val - 512, p⟩ : Fin 512) = l from fun p => Fin.ext (by show 512 + l.val - 512 = l.val; omega)] at g
  | skip
  exact g

include hf in
theorem fin_cq : cq = mat fun r l => (cq (ix2 r l)).toReal := by
  refine mat_of _ fun r l => ?_
  have g := pre_at dres h xr gr cq ckv kr pg w hf ⟨r.val, by omega⟩ ⟨1024 + l.val, by omega⟩
  revert g
  pointwise [Cert.Pre_mix_in_finite.fn, Cert.Pre_mix_in_finite.fn_part1]
  intro g
  try simp (disch := omega) only [dif_pos, dif_neg] at g
  first
  | rw [show ∀ p, (⟨1024 + l.val - 512 - 512, p⟩ : Fin 384) = l from fun p => Fin.ext (by show 1024 + l.val - 512 - 512 = l.val; omega)] at g
  | skip
  exact g

include hf in
theorem fin_ckv : ckv = mat fun r l => (ckv (ix2 r l)).toReal := by
  refine mat_of _ fun r l => ?_
  have g := pre_at dres h xr gr cq ckv kr pg w hf ⟨r.val, by omega⟩ ⟨1408 + l.val, by omega⟩
  revert g
  pointwise [Cert.Pre_mix_in_finite.fn, Cert.Pre_mix_in_finite.fn_part1]
  intro g
  try simp (disch := omega) only [dif_pos, dif_neg] at g
  first
  | rw [show ∀ p, (⟨1408 + l.val - 512 - 512 - 384, p⟩ : Fin 256) = l from fun p => Fin.ext (by show 1408 + l.val - 512 - 512 - 384 = l.val; omega)] at g
  | skip
  exact g

include hf in
theorem fin_kr : kr = mat fun r l => (kr (ix2 r l)).toReal := by
  refine mat_of _ fun r l => ?_
  have g := pre_at dres h xr gr cq ckv kr pg w hf ⟨r.val, by omega⟩ ⟨1664 + l.val, by omega⟩
  revert g
  pointwise [Cert.Pre_mix_in_finite.fn, Cert.Pre_mix_in_finite.fn_part1]
  intro g
  try simp (disch := omega) only [dif_pos, dif_neg] at g
  first
  | rw [show ∀ p, (⟨1664 + l.val - 512 - 512 - 384 - 256, p⟩ : Fin 32) = l from fun p => Fin.ext (by show 1664 + l.val - 512 - 512 - 384 - 256 = l.val; omega)] at g
  | skip
  exact g

include hf in
theorem fin_pg : pg = vec fun l => (pg (ix1 l)).toReal := by
  refine vec_of _ fun l => ?_
  have g := pre_at dres h xr gr cq ckv kr pg w hf ⟨13360, by omega⟩ ⟨l.val, by omega⟩
  revert g
  pointwise [Cert.Pre_mix_in_finite.fn, Cert.Pre_mix_in_finite.fn_part1]
  intro g
  try simp (disch := omega) only [dif_pos, dif_neg] at g
  exact g

include hf in
theorem fin_w : w = mat fun r l => (w (ix2 r l)).toReal := by
  refine mat_of _ fun r l => ?_
  have g := pre_at dres h xr gr cq ckv kr pg w hf ⟨4112 + r.val, by omega⟩ ⟨l.val, by omega⟩
  revert g
  pointwise [Cert.Pre_mix_in_finite.fn, Cert.Pre_mix_in_finite.fn_part1]
  intro g
  try simp (disch := omega) only [dif_pos, dif_neg] at g
  first
  | rw [show ∀ p, (⟨4112 + r.val - 4112, p⟩ : Fin 1024) = r from fun p => Fin.ext (by show 4112 + r.val - 4112 = r.val; omega)] at g
  | skip
  exact g

variable (m : (ℓ : Loc nD τ sig) → Buf (Elt Ideal) ℓ) (c : Dev nD)
  (e0 : (m ((c : Thread nD τ).loc main_arg0) : FVec Ideal S4112x1024 .f32) = dres)
  (e1 : (m ((c : Thread nD τ).loc main_arg1) : FVec Ideal S4112x1024 .f32) = h)
  (e2 : (m ((c : Thread nD τ).loc main_arg2) : FVec Ideal S4112x512 .f32) = xr)
  (e3 : (m ((c : Thread nD τ).loc main_arg3) : FVec Ideal S4112x512 .f32) = gr)
  (e4 : (m ((c : Thread nD τ).loc main_arg4) : FVec Ideal S4112x384 .f32) = cq)
  (e5 : (m ((c : Thread nD τ).loc main_arg5) : FVec Ideal S4112x256 .f32) = ckv)
  (e6 : (m ((c : Thread nD τ).loc main_arg6) : FVec Ideal S4112x32 .f32) = kr)
  (e7 : (m ((c : Thread nD τ).loc main_arg7) : FVec Ideal S1024 .f32) = pg)
  (e8 : (m ((c : Thread nD τ).loc main_arg8) : FVec Ideal S1024x1696 .f32) = w)

set_option maxHeartbeats 1600000 in
include hf e0 e1 e2 e3 e4 e5 e6 e7 e8 in
/-- The four arrays the kernel leaves are the reference's. -/
theorem value_eq : ((dats m 0 c).arrAt 9 cfg0.N : Vec Ideal S4224x1024 .f32) = val_main_v41 (F := Ideal) dres h xr gr cq ckv kr pg w
    ∧ ((dats m 0 c).arrAt 10 cfg0.N : Vec Ideal S4224x1792 .bf16) = val_main_v49 (F := Ideal) xr gr cq ckv kr
    ∧ ((dats m 0 c).arrAt 11 cfg0.N : Vec Ideal S4224x1024 .bf16) = val_main_v65 (F := Ideal) h pg
    ∧ ((dats m 0 c).arrAt 12 cfg0.N : Vec Ideal S1x1024 .f32) = val_main_v66 (F := Ideal) h xr gr cq ckv kr w := by
  have f0 := fin_dres dres h xr gr cq ckv kr pg w hf
  have f1 := fin_h dres h xr gr cq ckv kr pg w hf
  have f2 := fin_xr dres h xr gr cq ckv kr pg w hf
  have f3 := fin_gr dres h xr gr cq ckv kr pg w hf
  have f4 := fin_cq dres h xr gr cq ckv kr pg w hf
  have f5 := fin_ckv dres h xr gr cq ckv kr pg w hf
  have f6 := fin_kr dres h xr gr cq ckv kr pg w hf
  have f7 := fin_pg dres h xr gr cq ckv kr pg w hf
  have f8 := fin_w dres h xr gr cq ckv kr pg w hf
  clear hf
  generalize (fun (r : Fin 4112) (l : Fin 1024) => (dres (ix2 r l)).toReal) = dres' at f0
  generalize (fun (r : Fin 4112) (l : Fin 1024) => (h (ix2 r l)).toReal) = h' at f1
  generalize (fun (r : Fin 4112) (l : Fin 512) => (xr (ix2 r l)).toReal) = xr' at f2
  generalize (fun (r : Fin 4112) (l : Fin 512) => (gr (ix2 r l)).toReal) = gr' at f3
  generalize (fun (r : Fin 4112) (l : Fin 384) => (cq (ix2 r l)).toReal) = cq' at f4
  generalize (fun (r : Fin 4112) (l : Fin 256) => (ckv (ix2 r l)).toReal) = ckv' at f5
  generalize (fun (r : Fin 4112) (l : Fin 32) => (kr (ix2 r l)).toReal) = kr' at f6
  generalize (fun l : Fin 1024 => (pg (ix1 l)).toReal) = pg' at f7
  generalize (fun (r : Fin 1024) (l : Fin 1696) => (w (ix2 r l)).toReal) = w' at f8
  subst f0 f1 f2 f3 f4 f5 f6 f7 f8
  have hD := ref18 xr' gr' cq' ckv' kr' w'
  have v0 := V_0 m c dres' e0
  have v1 := V_1 m c h' e1
  have v2 := V_2 m c xr' e2
  have v3 := V_3 m c gr' e3
  have v4 := V_4 m c cq' e4
  have v5 := V_5 m c ckv' e5
  have v6 := V_6 m c kr' e6
  have v7 := V_7 m c pg' e7
  have v8 := V_8 m c w' e8
  refine ⟨(final9 m c _ _ _ _ _ _ _ _ _ v0 v1 v2 v3 v4 v5 v6 v7 v8).trans ?_, (final10 m c _ _ _ _ _ v2 v3 v4 v5 v6).trans ?_, (final11 m c _ _ v1 v7).trans ?_,
    (final12 m c _ _ _ _ _ _ _ v1 v2 v3 v4 v5 v6 v8).trans ?_⟩
  · rw [DZ_pad]
    simp only [du_pad]
    rw [rows9]; exact (ref41 dres' h' pg' _ _ _ _ _ _ _ hD).symm
  · rw [DZ_pad]; exact (ref49 xr' gr' cq' ckv' kr').symm
  · rw [rows11]; exact (ref65 h' pg').symm
  · rw [DZ_pad, ref66 h' _ _ _ _ _ _ _ hD]
    refine eq_mat _ _ fun r l => congrArg ((↑) : ℝ → EReal) ?_
    exact (Finset.sum_congr rfl fun Q _ => congrArg (fun z : ℝ => z * (pad h' Q l * scl 1024 (pad h' Q))) (du_pad w' _ Q l)).trans (rows12 h' _ l)

end Cert.MixInKernelIdeal.Hand

end
-- ==== Proof.NormText.lean ====
/- What the norms of the host programs and of the kernels, and their gradients, are at real arguments, for every number of rows and columns. -/
module

public import Idealize.ShloMosaic.Lib.Pointwise
public import proofs.«01_k».proof.Proof.Norm

@[expose] public section

set_option maxRecDepth 16384

noncomputable section

namespace Cert.Norm

open Idealize.ShloMosaic

variable {W : ℕ} (b : BitVec 32) (N : ℝ) (hb : Ideal.ofBits FTy.f32 b = (N : EReal)) (hN : 0 < N)

section
variable (x d : Fin 4112 → Fin W → ℝ)

/-! ## On the host -/

include hb hN in
/-- The column of the rows' mean squares. -/
theorem host_ms (h1) (h2 : Shape.ReducesTo ⟨2, ![4112, W]⟩ [1] ⟨1, ![4112]⟩) (h3 h4 h5) :
    (addf (Host.divf (broadcastInDim ⟨2, ![4112, 1]⟩ ![0] h1 (Host.reduceAdd (mulf (mat x : FVec Ideal ⟨2, ![4112, W]⟩ .f32) (mat x)) (constant (F := Ideal) ⟨0, ![]⟩ .f32 0x00000000#32) h2 h3 : FVec Ideal ⟨1, ![4112]⟩ .f32))
        (broadcastInDim ⟨2, ![4112, 1]⟩ ![] h4 (constant (F := Ideal) ⟨0, ![]⟩ .f32 b))) (broadcastInDim ⟨2, ![4112, 1]⟩ ![] h5 (constant (F := Ideal) ⟨0, ![]⟩ .f32 0x358637BD#32)))
    = mat fun r _ => ms N (x r) := by
  refine eq_mat _ _ fun r l => ?_
  pointwise
  simp only [hb, lit_eps, ← EReal.coe_mul, ← Softmax.coe_sum, Softmax.coe_div _ _ hN.ne', ← EReal.coe_add]
  rfl

include hN in
/-- The column of the rows' factors. -/
theorem host_scl : (Host.rsqrt (mat fun r (_ : Fin 1) => ms N (x r) : FVec Ideal ⟨2, ![4112, 1]⟩ .f32)) = mat fun r _ => scl N (x r) := by
  refine eq_mat _ _ fun r l => ?_
  exact rsqrt_ms N (x r) hN

include hN in
/-- The derivative of the factors in the mean squares. -/
theorem host_half (h) : (mulf (broadcastInDim ⟨2, ![4112, 1]⟩ ![] h (constant (F := Ideal) ⟨0, ![]⟩ .f32 0xBF000000#32)) (Host.divf (mat fun r (_ : Fin 1) => scl N (x r) : FVec Ideal ⟨2, ![4112, 1]⟩ .f32) (mat fun r _ => ms N (x r))))
    = mat fun r _ => -(1 / 2) * (scl N (x r) / ms N (x r)) := by
  refine eq_mat _ _ fun r l => ?_
  pointwise
  simp only [lit_neg_half]
  exact (congrArg (fun z : EReal => ((-(1 / 2) : ℝ) : EReal) * z) (Softmax.coe_div _ _ (ms_pos N (x r) hN).ne')).trans (EReal.coe_mul _ _).symm

/-- Normed rows. -/
theorem host_normed (s : Fin 4112 → ℝ) (h) : (mulf (mat x : FVec Ideal ⟨2, ![4112, W]⟩ .f32) (broadcastInDim ⟨2, ![4112, W]⟩ ![0, 1] h (mat fun r (_ : Fin 1) => s r : FVec Ideal ⟨2, ![4112, 1]⟩ .f32)))
    = mat fun r l => x r l * s r := by
  refine eq_mat _ _ fun r l => ?_
  pointwise
  exact (EReal.coe_mul _ _).symm

include hb hN in
/-- The share of the mean square in a norm's gradient. -/
theorem host_share (s : Fin 4112 → ℝ) (h1) (h2 : Shape.ReducesTo ⟨2, ![4112, W]⟩ [1] ⟨1, ![4112]⟩) (h3 h4 h5) (h6 : Shape.ReducesTo ⟨2, ![4112, 1]⟩ [1] ⟨1, ![4112]⟩) (h7) :
    (broadcastInDim ⟨2, ![4112, W]⟩ ![0] h1 (Host.reduceAdd (Host.divf (mulf (shapeCast ⟨2, ![4112, 1]⟩ (Host.reduceAdd (mulf (mat x : FVec Ideal ⟨2, ![4112, W]⟩ .f32) (mat d)) (constant (F := Ideal) ⟨0, ![]⟩ .f32 0x00000000#32) h2 h3 : FVec Ideal ⟨1, ![4112]⟩ .f32) h4)
        (mat fun r (_ : Fin 1) => s r : FVec Ideal ⟨2, ![4112, 1]⟩ .f32)) (broadcastInDim ⟨2, ![4112, 1]⟩ ![] h5 (constant (F := Ideal) ⟨0, ![]⟩ .f32 b))) (constant (F := Ideal) ⟨0, ![]⟩ .f32 0x00000000#32) h6 h7 : FVec Ideal ⟨1, ![4112]⟩ .f32))
    = mat fun r _ => (∑ k, x r k * d r k) * s r / N := by
  refine eq_mat _ _ fun r l => ?_
  pointwise
  simp only [Finset.univ_unique, Finset.sum_singleton]
  simp only [hb, ← EReal.coe_mul, ← Softmax.coe_sum, Softmax.coe_div _ _ hN.ne', ← EReal.coe_add]
  rfl

include hN in
/-- A norm's gradient as the derivative writes it. -/
theorem host_back (h) : (addf (addf (mulf (mat d : FVec Ideal ⟨2, ![4112, W]⟩ .f32) (broadcastInDim ⟨2, ![4112, W]⟩ ![0, 1] h (mat fun r (_ : Fin 1) => scl N (x r) : FVec Ideal ⟨2, ![4112, 1]⟩ .f32)))
      (mulf (mat x) (mat fun r _ => (∑ k, x r k * d r k) * (-(1 / 2) * (scl N (x r) / ms N (x r))) / N)))
      (mulf (mat fun r _ => (∑ k, x r k * d r k) * (-(1 / 2) * (scl N (x r) / ms N (x r))) / N) (mat x)))
    = mat fun r l => back N (x r) (d r) l := by
  refine eq_mat _ _ fun r l => ?_
  pointwise
  simp only [← EReal.coe_mul, ← EReal.coe_add]
  exact congrArg ((↑) : ℝ → EReal) (vjp_back N (x r) hN (d r) l)

end

/-! ## In the kernels -/

variable (x d : Fin 384 → Fin W → ℝ)

include hb hN in
theorem ker_scl (h1 h2 h3 h4) : (rsqrt (addf (divf (shapeCast ⟨2, ![384, 1]⟩ (multiReduction .add [1] ⟨1, ![384]⟩ (mulf (mat x : FVec Ideal ⟨2, ![384, W]⟩ .f32) (mat x)) 0x00000000#32 h1 h2 h3) h4)
      (broadcast ⟨2, ![384, 1]⟩ (Scalar.ofBits (F := Ideal) .f32 b))) (broadcast ⟨2, ![384, 1]⟩ (Scalar.ofBits (F := Ideal) .f32 0x358637BD#32)))) = mat fun r _ => scl N (x r) := by
  refine eq_mat _ _ fun r l => ?_
  pointwise
  simp only [hb, lit_eps, ← EReal.coe_mul, ← Softmax.coe_sum, Softmax.coe_div _ _ hN.ne', ← EReal.coe_add]
  exact rsqrt_ms N (x r) hN

/-- Normed rows. -/
theorem ker_normed (s : Fin 384 → ℝ) (h) : (mulf (mat x : FVec Ideal ⟨2, ![384, W]⟩ .f32) (broadcastTo ⟨2, ![384, W]⟩ (mat fun r (_ : Fin 1) => s r : FVec Ideal ⟨2, ![384, 1]⟩ .f32) h)) = mat fun r l => x r l * s r := by
  refine eq_mat _ _ fun r l => ?_
  pointwise
  exact (EReal.coe_mul _ _).symm

include hb hN in
/-- A norm's gradient as the kernels write it. -/
theorem ker_back (h0 h1 h2 h3 h4 h5) : (mulf (broadcastTo ⟨2, ![384, W]⟩ (mat fun r (_ : Fin 1) => scl N (x r) : FVec Ideal ⟨2, ![384, 1]⟩ .f32) h0)
      (subf (mat d : FVec Ideal ⟨2, ![384, W]⟩ .f32) (mulf (mat fun r l => x r l * scl N (x r)) (broadcastTo ⟨2, ![384, W]⟩
        (divf (shapeCast ⟨2, ![384, 1]⟩ (multiReduction .add [1] ⟨1, ![384]⟩ (mulf (mat d : FVec Ideal ⟨2, ![384, W]⟩ .f32) (mat fun r l => x r l * scl N (x r))) 0x00000000#32 h1 h2 h3) h4)
          (broadcast ⟨2, ![384, 1]⟩ (Scalar.ofBits (F := Ideal) .f32 b))) h5))))
    = mat fun r l => back N (x r) (d r) l := by
  refine eq_mat _ _ fun r l => ?_
  pointwise
  simp only [hb, ← EReal.coe_mul, ← Softmax.coe_sum, Softmax.coe_div _ _ hN.ne', ← EReal.coe_sub]
  rfl

end Cert.Norm

end
-- ==== Proof.MixOutPay.lean ====
/- The mixer output's backward call: the values of the kernel at real arguments. -/
module

public import proofs.«01_k».proof.Defs
public import proofs.«01_k».proof.Proof.Gen.MixOutKernelIdeal.Skeleton
public import proofs.«01_k».proof.Proof.NormText
public import Idealize.ShloMosaic.Lib.Pointwise
public import Idealize.ShloMosaic.Lib.Pipeline.Value
public import Idealize.ShloMosaic.Lib.Tactic

@[expose] public section

set_option maxRecDepth 16384

noncomputable section

namespace Cert.MixOutKernelIdeal.Hand

open Cert.MixOutKernelIdeal Cert.MixOutKernelIdeal.Gen Idealize.ShloMosaic Idealize.ShloMosaic.TcCoe Idealize.SL.Sem
open Idealize.ShloMosaic.Pipeline (Dat)
open Cert.Norm

/-! ## The kernel's values -/

/-- The 512 columns of a row from column `o` on. -/
def half (o : ℕ) (ho : o + 512 ≤ 1024) (z : Fin 1024 → ℝ) (l : Fin 512) : ℝ := z ⟨o + l.val, by omega⟩

/-- Two rows of 512 columns side by side. -/
def both (a b : Fin 512 → ℝ) (l : Fin 1024) : ℝ := if h : l.val < 512 then a ⟨l.val, h⟩ else b ⟨l.val - 512, by omega⟩

/-- The gradient of the concatenated rows. -/
def dc (z : Fin 1024 → ℝ) (w : Fin 1024 → Fin 1024 → ℝ) (l : Fin 1024) : ℝ := ∑ k, z k * w l k

theorem slice_half {n : ℕ} (o : ℕ) (ho : o + 512 ≤ 1024) (X : Fin n → Fin 1024 → ℝ) (h) :
    extractStridedSlice ⟨2, ![n, 512]⟩ ![0, o] (mat X : FVec Ideal ⟨2, ![n, 1024]⟩ .f32) h = mat fun r => half o ho (X r) := by
  refine eq_mat _ _ fun r l => ?_
  pointwise
  refine congrArg ((↑) : ℝ → EReal) (congrArg₂ X (Fin.ext ?_) (Fin.ext ?_)) <;> (simp [Shape.Idx.norm, ix2] <;> rfl)

variable (y dh z : Fin 384 → Fin 1024 → ℝ) (pg : Fin 1 → Fin 1024 → ℝ) (w : Fin 1024 → Fin 1024 → ℝ) (x n d : Fin 384 → Fin 512 → ℝ) (g : Fin 1 → Fin 512 → ℝ)

theorem pay2_real : k0_pay2 (F := Ideal) (mat g) = mat g := shapeCast_self _ _
theorem pay3_real : k0_pay3 (F := Ideal) (mat g) = mat g := shapeCast_self _ _
theorem pay4_real : k0_pay4 (F := Ideal) (mat y) = mat y := shapeCast_self _ _
theorem pay7_real : k0_pay7 (F := Ideal) (mat y) = mat y := shapeCast_self _ _
theorem pay11_real : k0_pay11 (F := Ideal) (mat x) = mat x := shapeCast_self _ _

theorem pay5_real : k0_pay5 (F := Ideal) (mat y) = mat fun r _ => scl 1024 (y r) := by
  unfold k0_pay5
  rw [pay4_real]
  exact ker_scl _ _ lit_1024 (by norm_num) y _ _ _ _

theorem pay6_real : k0_pay6 (F := Ideal) (mat y) = mat fun r l => y r l * scl 1024 (y r) := by
  unfold k0_pay6
  rw [pay4_real, pay5_real]
  exact ker_normed y _ _

theorem pay8_real : k0_pay8 (F := Ideal) (mat y) (mat dh) = mat fun _ l => ∑ r, dh r l * (y r l * scl 1024 (y r)) := by
  refine eq_mat _ _ fun r l => ?_
  unfold k0_pay8
  rw [pay7_real, pay6_real]
  pointwise
  simp only [← EReal.coe_mul, ← Softmax.coe_sum]
  rfl

theorem pay9_real : (k0_pay9 (F := Ideal) (mat pg) (mat y) (mat dh) : FVec Ideal S384x1024 .f32) = mat fun r l => back 1024 (y r) (fun k => dh r k * pg 0 k) l := by
  have e : (mulf (mat dh : FVec Ideal S384x1024 .f32) (broadcastTo S384x1024 (mat pg : FVec Ideal S1x1024 .f32) broadcasts_S1x1024_S384x1024)) = mat fun r l => dh r l * pg 0 l := by
    refine eq_mat _ _ fun r l => ?_
    pointwise
    exact (EReal.coe_mul _ _).symm
  unfold k0_pay9
  dsimp only
  rw [shapeCast_self, pay7_real, pay6_real, pay5_real, e]
  exact ker_back _ _ lit_1024 (by norm_num) y _ _ _ _ _ _ _

theorem pay10_real : k0_pay10 (F := Ideal) (mat z) (mat w) = mat fun r => dc (z r) w := by
  refine eq_mat _ _ fun r l => ?_
  pointwise [k0_pay10]
  simp only [← EReal.coe_mul, ← Softmax.coe_sum]
  rfl

theorem pay12_real : k0_pay12 (F := Ideal) (mat x) = mat fun r _ => scl 512 (x r) := by
  unfold k0_pay12
  rw [pay11_real]
  exact ker_scl _ _ lit_512 (by norm_num) x _ _ _ _

theorem pay13_real : k0_pay13 (F := Ideal) (mat x) = mat fun r l => x r l * scl 512 (x r) := by
  unfold k0_pay13
  rw [pay11_real, pay12_real]
  exact ker_normed x _ _

theorem pay15_real : k0_pay15 (F := Ideal) (mat x) = mat fun r _ => scl 512 (x r) := pay12_real x
theorem pay16_real : k0_pay16 (F := Ideal) (mat x) = mat fun r l => x r l * scl 512 (x r) := pay13_real x

theorem gain_512 : (mulf (mat x : FVec Ideal S384x512 .f32) (broadcastTo S384x512 (mat g : FVec Ideal S1x512 .f32) broadcasts_S1x512_S384x512)) = mat fun r l => x r l * g 0 l := by
  refine eq_mat _ _ fun r l => ?_
  pointwise
  exact (EReal.coe_mul _ _).symm

theorem pay17_real : (k0_pay17 (F := Ideal) (mat g) (mat x) : FVec Ideal S384x512 .f32) = mat fun r l => x r l * scl 512 (x r) * g 0 l := by
  unfold k0_pay17
  rw [pay13_real]
  exact gain_512 _ _

theorem pay18_real : (k0_pay18 (F := Ideal) (mat g) (mat x) : FVec Ideal S384x512 .f32) = mat fun r l => x r l * scl 512 (x r) * g 0 l := pay17_real x g

theorem pay19_real : k0_pay19 (F := Ideal) (mat z) (mat w) = mat fun r => half 0 (by norm_num) (dc (z r) w) := by
  unfold k0_pay19
  rw [pay10_real]
  exact slice_half 0 _ _ _

theorem pay24_real : k0_pay24 (F := Ideal) (mat y) = mat fun r => half 512 (by norm_num) (y r) := by
  unfold k0_pay24
  exact slice_half 512 _ _ _

theorem pay20_real : k0_pay20 (F := Ideal) (mat g) (mat z) (mat w) = mat fun r l => half 0 (by norm_num) (dc (z r) w) l * g 0 l := by
  unfold k0_pay20
  rw [pay19_real]
  exact gain_512 _ _

theorem pay22_real : k0_pay22 (F := Ideal) (k0_pay12 (mat x)) (k0_pay13 (mat x)) (k0_pay20 (mat g) (mat z) (mat w)) (k0_pay21 (mat g) (mat z) (mat w) (mat x))
    = mat fun r l => back 512 (x r) (fun k => half 0 (by norm_num) (dc (z r) w) k * g 0 k) l := by
  unfold k0_pay22 k0_pay21
  rw [pay20_real, pay13_real, pay12_real]
  exact ker_back _ _ lit_512 (by norm_num) x _ _ _ _ _ _ _

theorem pay25_real : k0_pay25 (F := Ideal) (mat g) (mat y) (k0_pay15 (mat x)) (k0_pay16 (mat x))
    = mat fun r l => back 512 (x r) (fun k => half 512 (by norm_num) (y r) k * g 0 k) l := by
  unfold k0_pay25
  dsimp only
  rw [pay24_real, pay16_real, pay15_real, gain_512]
  exact ker_back _ _ lit_512 (by norm_num) x _ _ _ _ _ _ _

theorem pay23_real : k0_pay23 (F := Ideal) (mat n) (mat d) = mat fun _ l => ∑ r, d r l * n r l := by
  refine eq_mat _ _ fun r l => ?_
  pointwise [k0_pay23]
  simp only [← EReal.coe_mul, ← Softmax.coe_sum]
  rfl

theorem pay26_real : k0_pay26 (F := Ideal) (mat y) (mat n) = mat fun _ l => ∑ r, half 512 (by norm_num) (y r) l * n r l := by
  unfold k0_pay26
  rw [pay24_real]
  exact pay23_real n fun r => half 512 (by norm_num) (y r)

theorem pay1_eq (x : FVec Ideal S1x1024 .f32) (u : Vec Ideal S1x1024 .f32) : k0_pay1 (F := Ideal) x u = addf u x := by
  unfold k0_pay1
  rw [shapeCast_self]

theorem pay27_eq (x d : FVec Ideal S384x512 .f32) (u : Vec Ideal S1x512 .f32) : k0_pay27 (F := Ideal) x d u = addf u (k0_pay23 x d) := by
  unfold k0_pay27
  rw [shapeCast_self]

theorem pay28_eq (y : FVec Ideal S384x1024 .f32) (x : FVec Ideal S384x512 .f32) (u : Vec Ideal S1x512 .f32) : k0_pay28 (F := Ideal) y x u = addf u (k0_pay26 y x) := by
  unfold k0_pay28
  rw [shapeCast_self]

end Cert.MixOutKernelIdeal.Hand

end
-- ==== Proof.MixOutHost.lean ====
/- The mixer output's backward call: the arrays its pipeline reads, and their blocks. -/
module

public import proofs.«01_k».proof.Defs
public import proofs.«01_k».proof.Proof.Gen.MixOutKernelIdeal.Value
public import proofs.«01_k».proof.Proof.Gen.MixOutRefIdeal.Read
public import proofs.«01_k».proof.Proof.MixOutPay
public import proofs.«01_k».proof.Proof.Sigmoid
public import Idealize.ShloMosaic.Lib.Pointwise
public import Idealize.ShloMosaic.Lib.Pipeline.Value
public import Idealize.ShloMosaic.Lib.Tactic

@[expose] public section

set_option maxRecDepth 16384

noncomputable section

namespace Cert.MixOutKernelIdeal.Hand

open Cert.MixOutKernelIdeal Cert.MixOutKernelIdeal.Gen Idealize.ShloMosaic Idealize.ShloMosaic.TcCoe Idealize.SL.Sem
open Idealize.ShloMosaic.Pipeline (Dat)
open Cert.Norm Cert.MixOutRefIdeal.Read

theorem hz : (![0, 0] : Fin 2 → Nat) = fun _ => 0 := funext fun a => by fin_cases a <;> rfl

variable (m : (ℓ : Loc nD τ sig) → Buf (Elt Ideal) ℓ)

/-! ## The arrays the pipeline reads -/

variable (c : Dev nD)

theorem V_0 (X : Fin 4112 → Fin 1024 → ℝ) (h : (m ((c : Thread nD τ).loc main_arg0) : FVec Ideal S4112x1024 .f32) = mat X) :
    (V m c main_v29 : Vec Ideal S4224x1024 .f32) = mat (pad X) := by
  refine Eq.trans ?_ (pad_concat X bcast_S_S112x1024 concatenates_S4112x1024_S112x1024_S4224x1024_d0)
  rw [← h]
  show StableHlo.after (List.flatten [hostOps0]) _ (Proc.devRef .tc main_v29) = _
  simp only [hostOps0, List.flatten_cons, List.flatten_nil, List.append_nil, List.cons_append, List.nil_append]
  after_results
  try rfl

variable (x1 x2 : FVec Ideal S4112x512 .f32) (x3 x4 : FVec Ideal S512 .f32) (x6 : FVec Ideal S1024x1024 .f32)
  (e1 : (m ((c : Thread nD τ).loc main_arg1) : FVec Ideal S4112x512 .f32) = x1) (e2 : (m ((c : Thread nD τ).loc main_arg2) : FVec Ideal S4112x512 .f32) = x2)
  (e3 : (m ((c : Thread nD τ).loc main_arg3) : FVec Ideal S512 .f32) = x3) (e4 : (m ((c : Thread nD τ).loc main_arg4) : FVec Ideal S512 .f32) = x4)
  (e6 : (m ((c : Thread nD τ).loc main_arg6) : FVec Ideal S1024x1024 .f32) = x6)

include e1 e2 e3 e4 e6 in
theorem V_1 (X : Fin 4112 → Fin 1024 → ℝ) (h : val_main_v33 (F := Ideal) x1 x2 x3 x4 x6 = mat X) :
    (V m c main_v31 : Vec Ideal S4224x1024 .f32) = mat (pad X) := by
  refine Eq.trans ?_ (pad_concat X bcast_S_S112x1024 concatenates_S4112x1024_S112x1024_S4224x1024_d0)
  rw [← h]
  subst e1 e2 e3 e4 e6
  show StableHlo.after (List.flatten [hostOps0]) _ (Proc.devRef .tc main_v31) = _
  simp only [hostOps0, List.flatten_cons, List.flatten_nil, List.append_nil, List.cons_append, List.nil_append]
  after_results
  try rfl

theorem V_2 (X : Fin 4112 → Fin 512 → ℝ) (h : (m ((c : Thread nD τ).loc main_arg1) : FVec Ideal S4112x512 .f32) = mat X) :
    (V m c main_v33 : Vec Ideal S4224x512 .f32) = mat (pad X) := by
  refine Eq.trans ?_ (pad_concat X bcast_S_S112x512 concatenates_S4112x512_S112x512_S4224x512_d0)
  rw [← h]
  show StableHlo.after (List.flatten [hostOps0]) _ (Proc.devRef .tc main_v33) = _
  simp only [hostOps0, List.flatten_cons, List.flatten_nil, List.append_nil, List.cons_append, List.nil_append]
  after_results
  try rfl

theorem V_3 (X : Fin 4112 → Fin 512 → ℝ) (h : (m ((c : Thread nD τ).loc main_arg2) : FVec Ideal S4112x512 .f32) = mat X) :
    (V m c main_v35 : Vec Ideal S4224x512 .f32) = mat (pad X) := by
  refine Eq.trans ?_ (pad_concat X bcast_S_S112x512 concatenates_S4112x512_S112x512_S4224x512_d0)
  rw [← h]
  show StableHlo.after (List.flatten [hostOps0]) _ (Proc.devRef .tc main_v35) = _
  simp only [hostOps0, List.flatten_cons, List.flatten_nil, List.append_nil, List.cons_append, List.nil_append]
  after_results
  try rfl

theorem V_4 (G : Fin 512 → ℝ) (h : (m ((c : Thread nD τ).loc main_arg3) : FVec Ideal S512 .f32) = vec G) :
    (V m c main_v36 : Vec Ideal S1x512 .f32) = mat fun _ => G := by
  have e : (shapeCast S1x512 (vec G : FVec Ideal S512 .f32) rfl : FVec Ideal S1x512 .f32) = mat fun _ => G := by
    refine eq_mat _ _ fun r l => ?_
    pointwise
    try rfl
  refine Eq.trans ?_ (e)
  rw [← h]
  show StableHlo.after (List.flatten [hostOps0]) _ (Proc.devRef .tc main_v36) = _
  simp only [hostOps0, List.flatten_cons, List.flatten_nil, List.append_nil, List.cons_append, List.nil_append]
  after_results
  try rfl

theorem V_5 (G : Fin 512 → ℝ) (h : (m ((c : Thread nD τ).loc main_arg4) : FVec Ideal S512 .f32) = vec G) :
    (V m c main_v37 : Vec Ideal S1x512 .f32) = mat fun _ => G := by
  have e : (shapeCast S1x512 (vec G : FVec Ideal S512 .f32) rfl : FVec Ideal S1x512 .f32) = mat fun _ => G := by
    refine eq_mat _ _ fun r l => ?_
    pointwise
    try rfl
  refine Eq.trans ?_ (e)
  rw [← h]
  show StableHlo.after (List.flatten [hostOps0]) _ (Proc.devRef .tc main_v37) = _
  simp only [hostOps0, List.flatten_cons, List.flatten_nil, List.append_nil, List.cons_append, List.nil_append]
  after_results
  try rfl

theorem V_6 (G : Fin 1024 → ℝ) (h : (m ((c : Thread nD τ).loc main_arg5) : FVec Ideal S1024 .f32) = vec G) :
    (V m c main_v38 : Vec Ideal S1x1024 .f32) = mat fun _ => G := by
  have e : (shapeCast S1x1024 (vec G : FVec Ideal S1024 .f32) rfl : FVec Ideal S1x1024 .f32) = mat fun _ => G := by
    refine eq_mat _ _ fun r l => ?_
    pointwise
    try rfl
  refine Eq.trans ?_ (e)
  rw [← h]
  show StableHlo.after (List.flatten [hostOps0]) _ (Proc.devRef .tc main_v38) = _
  simp only [hostOps0, List.flatten_cons, List.flatten_nil, List.append_nil, List.cons_append, List.nil_append]
  after_results
  try rfl

theorem V_7 (X : Fin 1024 → Fin 1024 → ℝ) (h : (m ((c : Thread nD τ).loc main_arg6) : FVec Ideal S1024x1024 .f32) = mat X) :
    (V m c main_v39 : Vec Ideal S1024x1024 .bf16) = mat X := by
  refine Eq.trans ?_ (rfl)
  rw [← h]
  show StableHlo.after (List.flatten [hostOps0]) _ (Proc.devRef .tc main_v39) = _
  simp only [hostOps0, List.flatten_cons, List.flatten_nil, List.append_nil, List.cons_append, List.nil_append]
  after_results
  try rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

/-- The place of row `R` in its block. -/
abbrev inBlk (R : Fin 4224) : Fin 384 := ⟨R.val % 384, Nat.mod_lt _ (by decide)⟩

theorem rowAt_ptOf (R : Fin 4224) : rowAt (ptOf R) (inBlk R) = R := Fin.ext (by show 384 * (R.val / 384) + R.val % 384 = R.val; omega)

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index8 (t : Fin cfg0.N) : win0_8.index t 0 = t.val ∧ win0_8.index t 1 = 0 :=
  (by decide +kernel : ∀ t : Fin grid0.N, win0_8.index t 0 = t.val ∧ win0_8.index t 1 = 0) t
theorem index9 (t : Fin cfg0.N) : win0_9.index t 0 = t.val ∧ win0_9.index t 1 = 0 :=
  (by decide +kernel : ∀ t : Fin grid0.N, win0_9.index t 0 = t.val ∧ win0_9.index t 1 = 0) t
theorem index10 (t : Fin cfg0.N) : win0_10.index t 0 = t.val ∧ win0_10.index t 1 = 0 :=
  (by decide +kernel : ∀ t : Fin grid0.N, win0_10.index t 0 = t.val ∧ win0_10.index t 1 = 0) t
theorem index11 (t : Fin cfg0.N) : win0_11.index t 0 = t.val ∧ win0_11.index t 1 = 0 :=
  (by decide +kernel : ∀ t : Fin grid0.N, win0_11.index t 0 = t.val ∧ win0_11.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = 0 ∧ win0_5.index t 1 = 0 :=
  (by decide +kernel : ∀ t : Fin grid0.N, win0_5.index t 0 = 0 ∧ win0_5.index t 1 = 0) t
theorem index6 (t : Fin cfg0.N) : win0_6.index t 0 = 0 ∧ win0_6.index t 1 = 0 :=
  (by decide +kernel : ∀ t : Fin grid0.N, win0_6.index t 0 = 0 ∧ win0_6.index t 1 = 0) t
theorem index7 (t : Fin cfg0.N) : win0_7.index t 0 = 0 ∧ win0_7.index t 1 = 0 :=
  (by decide +kernel : ∀ t : Fin grid0.N, win0_7.index t 0 = 0 ∧ win0_7.index t 1 = 0) t
theorem index12 (t : Fin cfg0.N) : win0_12.index t 0 = 0 ∧ win0_12.index t 1 = 0 :=
  (by decide +kernel : ∀ t : Fin grid0.N, win0_12.index t 0 = 0 ∧ win0_12.index t 1 = 0) t
theorem index13 (t : Fin cfg0.N) : win0_13.index t 0 = 0 ∧ win0_13.index t 1 = 0 :=
  (by decide +kernel : ∀ t : Fin grid0.N, win0_13.index t 0 = 0 ∧ win0_13.index t 1 = 0) t
theorem index14 (t : Fin cfg0.N) : win0_14.index t 0 = 0 ∧ win0_14.index t 1 = 0 :=
  (by decide +kernel : ∀ t : Fin grid0.N, win0_14.index t 0 = 0 ∧ win0_14.index t 1 = 0) t

theorem iblk0_real (t : Fin cfg0.N) (X : Fin 4224 → Fin 1024 → ℝ) (h : (V m c main_v29 : Vec Ideal S4224x1024 .f32) = mat X) :
    (iblk m c 0 t : Vec Ideal S384x1024 .f32) = mat fun r => X (rowAt t r) := by
  funext i; rw [eq_ix2 i]; generalize i 0 = r; generalize i 1 = l
  refine (View.read_apply ..).trans ((congrArg (V m c main_v29 : Vec Ideal S4224x1024 .f32) (funext fun a => Fin.ext ?_ : _ = ix2 (rowAt t r) l)).trans (congrFun h _))
  match a with
  | ⟨0, _⟩ => show win0_0.index t 0 * 384 + 1 * r.val = 384 * t.val + r.val; rw [(index0 t).1]; omega
  | ⟨1, _⟩ => show win0_0.index t 1 * 1024 + 1 * l.val = l.val; rw [(index0 t).2]; omega

theorem iblk1_real (t : Fin cfg0.N) (X : Fin 4224 → Fin 1024 → ℝ) (h : (V m c main_v31 : Vec Ideal S4224x1024 .f32) = mat X) :
    (iblk m c 1 t : Vec Ideal S384x1024 .f32) = mat fun r => X (rowAt t r) := by
  funext i; rw [eq_ix2 i]; generalize i 0 = r; generalize i 1 = l
  refine (View.read_apply ..).trans ((congrArg (V m c main_v31 : Vec Ideal S4224x1024 .f32) (funext fun a => Fin.ext ?_ : _ = ix2 (rowAt t r) l)).trans (congrFun h _))
  match a with
  | ⟨0, _⟩ => show win0_1.index t 0 * 384 + 1 * r.val = 384 * t.val + r.val; rw [(index1 t).1]; omega
  | ⟨1, _⟩ => show win0_1.index t 1 * 1024 + 1 * l.val = l.val; rw [(index1 t).2]; omega

theorem iblk2_real (t : Fin cfg0.N) (X : Fin 4224 → Fin 512 → ℝ) (h : (V m c main_v33 : Vec Ideal S4224x512 .f32) = mat X) :
    (iblk m c 2 t : Vec Ideal S384x512 .f32) = mat fun r => X (rowAt t r) := by
  funext i; rw [eq_ix2 i]; generalize i 0 = r; generalize i 1 = l
  refine (View.read_apply ..).trans ((congrArg (V m c main_v33 : Vec Ideal S4224x512 .f32) (funext fun a => Fin.ext ?_ : _ = ix2 (rowAt t r) l)).trans (congrFun h _))
  match a with
  | ⟨0, _⟩ => show win0_2.index t 0 * 384 + 1 * r.val = 384 * t.val + r.val; rw [(index2 t).1]; omega
  | ⟨1, _⟩ => show win0_2.index t 1 * 512 + 1 * l.val = l.val; rw [(index2 t).2]; omega

theorem iblk3_real (t : Fin cfg0.N) (X : Fin 4224 → Fin 512 → ℝ) (h : (V m c main_v35 : Vec Ideal S4224x512 .f32) = mat X) :
    (iblk m c 3 t : Vec Ideal S384x512 .f32) = mat fun r => X (rowAt t r) := by
  funext i; rw [eq_ix2 i]; generalize i 0 = r; generalize i 1 = l
  refine (View.read_apply ..).trans ((congrArg (V m c main_v35 : Vec Ideal S4224x512 .f32) (funext fun a => Fin.ext ?_ : _ = ix2 (rowAt t r) l)).trans (congrFun h _))
  match a with
  | ⟨0, _⟩ => show win0_3.index t 0 * 384 + 1 * r.val = 384 * t.val + r.val; rw [(index3 t).1]; omega
  | ⟨1, _⟩ => show win0_3.index t 1 * 512 + 1 * l.val = l.val; rw [(index3 t).2]; omega

theorem iblk4_real (t : Fin cfg0.N) (X : Fin 1 → Fin 512 → ℝ) (h : (V m c main_v36 : Vec Ideal S1x512 .f32) = mat X) :
    (iblk m c 4 t : Vec Ideal S1x512 .f32) = mat X := by
  funext i; rw [eq_ix2 i]; generalize i 0 = r; generalize i 1 = l
  refine (View.read_apply ..).trans ((congrArg (V m c main_v36 : Vec Ideal S1x512 .f32) (funext fun a => Fin.ext ?_ : _ = ix2 r l)).trans (congrFun h _))
  match a with
  | ⟨0, _⟩ => show win0_4.index t 0 * 1 + 1 * r.val = r.val; rw [(index4 t).1]; omega
  | ⟨1, _⟩ => show win0_4.index t 1 * 512 + 1 * l.val = l.val; rw [(index4 t).2]; omega

theorem iblk5_real (t : Fin cfg0.N) (X : Fin 1 → Fin 512 → ℝ) (h : (V m c main_v37 : Vec Ideal S1x512 .f32) = mat X) :
    (iblk m c 5 t : Vec Ideal S1x512 .f32) = mat X := by
  funext i; rw [eq_ix2 i]; generalize i 0 = r; generalize i 1 = l
  refine (View.read_apply ..).trans ((congrArg (V m c main_v37 : Vec Ideal S1x512 .f32) (funext fun a => Fin.ext ?_ : _ = ix2 r l)).trans (congrFun h _))
  match a with
  | ⟨0, _⟩ => show win0_5.index t 0 * 1 + 1 * r.val = r.val; rw [(index5 t).1]; omega
  | ⟨1, _⟩ => show win0_5.index t 1 * 512 + 1 * l.val = l.val; rw [(index5 t).2]; omega

theorem iblk6_real (t : Fin cfg0.N) (X : Fin 1 → Fin 1024 → ℝ) (h : (V m c main_v38 : Vec Ideal S1x1024 .f32) = mat X) :
    (iblk m c 6 t : Vec Ideal S1x1024 .f32) = mat X := by
  funext i; rw [eq_ix2 i]; generalize i 0 = r; generalize i 1 = l
  refine (View.read_apply ..).trans ((congrArg (V m c main_v38 : Vec Ideal S1x1024 .f32) (funext fun a => Fin.ext ?_ : _ = ix2 r l)).trans (congrFun h _))
  match a with
  | ⟨0, _⟩ => show win0_6.index t 0 * 1 + 1 * r.val = r.val; rw [(index6 t).1]; omega
  | ⟨1, _⟩ => show win0_6.index t 1 * 1024 + 1 * l.val = l.val; rw [(index6 t).2]; omega

theorem iblk7_real (t : Fin cfg0.N) (X : Fin 1024 → Fin 1024 → ℝ) (h : (V m c main_v39 : Vec Ideal S1024x1024 .bf16) = mat X) :
    (iblk m c 7 t : Vec Ideal S1024x1024 .bf16) = mat X := by
  funext i; rw [eq_ix2 i]; generalize i 0 = r; generalize i 1 = l
  refine (View.read_apply ..).trans ((congrArg (V m c main_v39 : Vec Ideal S1024x1024 .bf16) (funext fun a => Fin.ext ?_ : _ = ix2 r l)).trans (congrFun h _))
  match a with
  | ⟨0, _⟩ => show win0_7.index t 0 * 1024 + 1 * r.val = r.val; rw [(index7 t).1]; omega
  | ⟨1, _⟩ => show win0_7.index t 1 * 1024 + 1 * l.val = l.val; rw [(index7 t).2]; omega

end Cert.MixOutKernelIdeal.Hand

end
-- ==== Proof.MixOutValue.lean ====
/- The mixer output's backward call: what its points store, and the arrays it leaves. -/
module

public import proofs.«01_k».proof.Defs
public import proofs.«01_k».proof.Proof.MixOutHost
public import Idealize.ShloMosaic.Lib.Pointwise
public import Idealize.ShloMosaic.Lib.Pipeline.Value
public import Idealize.ShloMosaic.Lib.Tactic

@[expose] public section

set_option maxRecDepth 16384

noncomputable section

namespace Cert.MixOutKernelIdeal.Hand

open Cert.MixOutKernelIdeal Cert.MixOutKernelIdeal.Gen Idealize.ShloMosaic Idealize.ShloMosaic.TcCoe Idealize.SL.Sem
open Idealize.ShloMosaic.Pipeline (Dat)
open Cert.Norm

/-- Two stores side by side leave the array they are the halves of. -/
theorem canon_two (a b : Fin 384 → Fin 512 → ℝ) (p q : Vec Ideal S384x512 .bf16) (i1 i0) (hp : p = mat b) (hq : q = mat a) :
    View.canon (Val := Elt Ideal) (s := S384x1024) (e := .bf16) [⟨Rect.unit ![0, 512] ![384, 512] i1, p⟩, ⟨Rect.unit ![0, 0] ![384, 512] i0, q⟩] = mat fun r => both (a r) (b r) := by
  subst hp hq
  funext y
  refine View.canon_apply_of_pieces (Val := Elt Ideal) (S := S384x1024) (e := .bf16) (mat fun r => both (a r) (b r)) _ (fun p hp x => ?_) y ?_
  · rcases List.mem_cons.mp hp with rfl | hp
    · have h1 : (x 1 : Nat) < 512 := (x 1).isLt
      refine congrArg ((↑) : ℝ → EReal) (Eq.trans (b := b (x 0) (x 1)) ?_ ?_)
      · rfl
      · show _ = both _ _ ⟨512 + 1 * (x 1).val, _⟩
        unfold both
        rw [dif_neg (by dsimp only; omega)]
        refine congrArg₂ b (Fin.ext ?_) (Fin.ext ?_)
        · show (x 0).val = 0 + 1 * (x 0).val; omega
        · show (x 1).val = 512 + 1 * (x 1).val - 512; omega
    · obtain rfl := List.mem_singleton.mp hp
      have h1 : (x 1 : Nat) < 512 := (x 1).isLt
      refine congrArg ((↑) : ℝ → EReal) (Eq.trans (b := a (x 0) (x 1)) ?_ ?_)
      · rfl
      · show _ = both _ _ ⟨0 + 1 * (x 1).val, _⟩
        unfold both
        rw [dif_pos (by dsimp only; omega)]
        refine congrArg₂ a (Fin.ext ?_) (Fin.ext ?_)
        · show (x 0).val = 0 + 1 * (x 0).val; omega
        · show (x 1).val = 0 + 1 * (x 1).val; omega
  · have h0 : (y 0 : Nat) < 384 := (y 0).isLt
    have h1 : (y 1 : Nat) < 1024 := (y 1).isLt
    by_cases h : (y 1 : Nat) < 512
    · refine ⟨_, List.mem_cons_of_mem _ (List.mem_singleton_self _), ?_⟩
      rw [Rect.mem_set_unit]
      intro a
      match a with
      | ⟨0, _⟩ => show 0 ≤ (y 0 : Nat) ∧ (y 0 : Nat) < 0 + 384; omega
      | ⟨1, _⟩ => show 0 ≤ (y 1 : Nat) ∧ (y 1 : Nat) < 0 + 512; omega
    · refine ⟨_, List.mem_cons_self, ?_⟩
      rw [Rect.mem_set_unit]
      intro a
      match a with
      | ⟨0, _⟩ => show 0 ≤ (y 0 : Nat) ∧ (y 0 : Nat) < 0 + 384; omega
      | ⟨1, _⟩ => show 512 ≤ (y 1 : Nat) ∧ (y 1 : Nat) < 512 + 512; omega

variable (m : (ℓ : Loc nD τ sig) → Buf (Elt Ideal) ℓ)

variable (c : Dev nD) (DH Y : Fin 4224 → Fin 1024 → ℝ) (A B : Fin 4224 → Fin 512 → ℝ) (GA GB : Fin 512 → ℝ) (PG : Fin 1024 → ℝ) (W : Fin 1024 → Fin 1024 → ℝ)
  (v0 : (V m c main_v29 : Vec Ideal S4224x1024 .f32) = mat DH) (v1 : (V m c main_v31 : Vec Ideal S4224x1024 .f32) = mat Y)
  (v2 : (V m c main_v33 : Vec Ideal S4224x512 .f32) = mat A) (v3 : (V m c main_v35 : Vec Ideal S4224x512 .f32) = mat B)
  (v4 : (V m c main_v36 : Vec Ideal S1x512 .f32) = mat fun _ => GA) (v5 : (V m c main_v37 : Vec Ideal S1x512 .f32) = mat fun _ => GB)
  (v6 : (V m c main_v38 : Vec Ideal S1x1024 .f32) = mat fun _ => PG) (v7 : (V m c main_v39 : Vec Ideal S1024x1024 .bf16) = mat W)

/-- The gradient of the product's output, at a row. -/
def DY (R : Fin 4224) (l : Fin 1024) : ℝ := back 1024 (Y R) (fun k => DH R k * PG k) l

/-- The gradient of the concatenated rows, at a row. -/
def DC (R : Fin 4224) : Fin 1024 → ℝ := dc (DY DH Y PG R) W

include v0 v1 v2 v4 v6 v7 in
theorem outs_8 (t : Fin cfg0.N) : ((outsAt0 m c t.val t.isLt).1 : Vec Ideal S384x512 .f32)
    = mat fun r l => back 512 (A (rowAt t r)) (fun k => half 0 (by norm_num) (DC DH Y PG W (rowAt t r)) k * GA k) l := by
  have hN := lt_N t
  refine if h0 : t.val % 11 = 0 then ?_ else ?_
  all_goals
    first
    | (rw [outsAt0_A m c t h0 (by omega)]
       dsimp only
       unfold out0_A_8
       refine (View.read_writes_eq_canon _ _ _ (fun y => cover0_A_8 (y := y) ..)).trans ?_
       unfold kernelRun0_A)
    | (rw [outsAt0_B m c t h0 (by omega)]
       dsimp only
       unfold out0_B_8
       refine (View.read_writes_eq_canon _ _ _ (fun y => cover0_B_8 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz,
      iblk0_real m c t DH v0, iblk1_real m c t Y v1, iblk2_real m c t A v2, iblk4_real m c t _ v4, iblk6_real m c t _ v6, iblk7_real m c t W v7]
    erw [pay9_real, pay2_real]
    exact pay22_real _ _ _ _
  all_goals omega

include v0 v1 v3 v5 v6 v7 in
theorem outs_9 (t : Fin cfg0.N) : ((outsAt0 m c t.val t.isLt).2.1 : Vec Ideal S384x512 .f32)
    = mat fun r l => back 512 (B (rowAt t r)) (fun k => half 512 (by norm_num) (DC DH Y PG W (rowAt t r)) k * GB k) l := by
  have hN := lt_N t
  refine if h0 : t.val % 11 = 0 then ?_ else ?_
  all_goals
    first
    | (rw [outsAt0_A m c t h0 (by omega)]
       dsimp only
       unfold out0_A_9
       refine (View.read_writes_eq_canon _ _ _ (fun y => cover0_A_9 (y := y) ..)).trans ?_
       unfold kernelRun0_A)
    | (rw [outsAt0_B m c t h0 (by omega)]
       dsimp only
       unfold out0_B_9
       refine (View.read_writes_eq_canon _ _ _ (fun y => cover0_B_9 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz,
      iblk0_real m c t DH v0, iblk1_real m c t Y v1, iblk3_real m c t B v3, iblk5_real m c t _ v5, iblk6_real m c t _ v6, iblk7_real m c t W v7]
    erw [pay9_real, pay10_real, pay3_real]
    exact pay25_real _ _ _
  all_goals omega

include v0 v1 v6 in
theorem outs_10 (t : Fin cfg0.N) : ((outsAt0 m c t.val t.isLt).2.2.1 : Vec Ideal S384x1024 .bf16)
    = mat fun r => DY DH Y PG (rowAt t r) := by
  have hN := lt_N t
  refine if h0 : t.val % 11 = 0 then ?_ else ?_
  all_goals
    first
    | (rw [outsAt0_A m c t h0 (by omega)]
       dsimp only
       unfold out0_A_10
       refine (View.read_writes_eq_canon _ _ _ (fun y => cover0_A_10 (y := y) ..)).trans ?_
       unfold kernelRun0_A)
    | (rw [outsAt0_B m c t h0 (by omega)]
       dsimp only
       unfold out0_B_10
       refine (View.read_writes_eq_canon _ _ _ (fun y => cover0_B_10 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz,
      iblk0_real m c t DH v0, iblk1_real m c t Y v1, iblk6_real m c t _ v6]
    exact pay9_real _ _ _
  all_goals omega

include v2 v3 v4 v5 in
theorem outs_11 (t : Fin cfg0.N) : ((outsAt0 m c t.val t.isLt).2.2.2.1 : Vec Ideal S384x1024 .bf16)
    = mat fun r => both (fun l => A (rowAt t r) l * scl 512 (A (rowAt t r)) * GA l) (fun l => B (rowAt t r) l * scl 512 (B (rowAt t r)) * GB l) := by
  have hN := lt_N t
  refine if h0 : t.val % 11 = 0 then ?_ else ?_
  all_goals
    first
    | (rw [outsAt0_A m c t h0 (by omega)]
       dsimp only
       unfold out0_A_11
       refine (View.read_writes_eq_canon _ _ _ (fun y => cover0_A_11 (y := y) ..)).trans ?_
       unfold kernelRun0_A)
    | (rw [outsAt0_B m c t h0 (by omega)]
       dsimp only
       unfold out0_B_11
       refine (View.read_writes_eq_canon _ _ _ (fun y => cover0_B_11 (y := y) ..)).trans ?_
       unfold kernelRun0_B)
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz,
      iblk2_real m c t A v2, iblk3_real m c t B v3, iblk4_real m c t _ v4, iblk5_real m c t _ v5]
    refine canon_two (fun r l => A (rowAt t r) l * scl 512 (A (rowAt t r)) * GA l) (fun r l => B (rowAt t r) l * scl 512 (B (rowAt t r)) * GB l) _ _ _ _ ?_ ?_
    · erw [pay3_real]; exact pay18_real _ _
    · erw [pay2_real]; exact pay17_real _ _
  all_goals omega

/-- The first point stores its share. -/
theorem outs_12_A (t : Fin cfg0.N) (h0 : t.val % 11 = 0) (h1 : ¬1 ≤ t.val) :
    (outsAt0 m c t.val t.isLt).2.2.2.2.1 = k0_pay23 (k0_pay13 (iblk m c 2 t)) (k0_pay19 (k0_pay9 (iblk m c 6 t) (iblk m c 1 t) (iblk m c 0 t)) (iblk m c 7 t)) := by
  rw [outsAt0_A m c t h0 h1]
  dsimp only
  unfold out0_A_12
  refine (View.read_writes_eq_canon _ _ _ (fun y => cover0_A_12 (y := y) ..)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz]
  all_goals omega

/-- Every later point adds its share to what the point before left. -/
theorem outs_12_B (t : Fin cfg0.N) (h0 : ¬t.val % 11 = 0) (h1 : 1 ≤ t.val) :
    (outsAt0 m c t.val t.isLt).2.2.2.2.1 = addf (outsAt0 m c (t.val - 1) (Nat.lt_of_le_of_lt (Nat.sub_le _ _) t.isLt)).2.2.2.2.1 (k0_pay23 (k0_pay13 (iblk m c 2 t)) (k0_pay19 (k0_pay9 (iblk m c 6 t) (iblk m c 1 t) (iblk m c 0 t)) (iblk m c 7 t))) := by
  rw [outsAt0_B m c t h0 h1]
  dsimp only
  unfold out0_B_12
  refine (View.read_writes_eq_canon _ _ _ (fun y => cover0_B_12 (y := y) ..)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz, (hs0_12 t).read_unread, pay27_eq]
  all_goals omega

/-- The first point stores its share. -/
theorem outs_13_A (t : Fin cfg0.N) (h0 : t.val % 11 = 0) (h1 : ¬1 ≤ t.val) :
    (outsAt0 m c t.val t.isLt).2.2.2.2.2.1 = k0_pay26 (k0_pay10 (k0_pay9 (iblk m c 6 t) (iblk m c 1 t) (iblk m c 0 t)) (iblk m c 7 t)) (k0_pay16 (iblk m c 3 t)) := by
  rw [outsAt0_A m c t h0 h1]
  dsimp only
  unfold out0_A_13
  refine (View.read_writes_eq_canon _ _ _ (fun y => cover0_A_13 (y := y) ..)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz]
  all_goals omega

/-- Every later point adds its share to what the point before left. -/
theorem outs_13_B (t : Fin cfg0.N) (h0 : ¬t.val % 11 = 0) (h1 : 1 ≤ t.val) :
    (outsAt0 m c t.val t.isLt).2.2.2.2.2.1 = addf (outsAt0 m c (t.val - 1) (Nat.lt_of_le_of_lt (Nat.sub_le _ _) t.isLt)).2.2.2.2.2.1 (k0_pay26 (k0_pay10 (k0_pay9 (iblk m c 6 t) (iblk m c 1 t) (iblk m c 0 t)) (iblk m c 7 t)) (k0_pay16 (iblk m c 3 t))) := by
  rw [outsAt0_B m c t h0 h1]
  dsimp only
  unfold out0_B_13
  refine (View.read_writes_eq_canon _ _ _ (fun y => cover0_B_13 (y := y) ..)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz, (hs0_13 t).read_unread, pay28_eq]
  all_goals omega

/-- The first point stores its share. -/
theorem outs_14_A (t : Fin cfg0.N) (h0 : t.val % 11 = 0) (h1 : ¬1 ≤ t.val) :
    (outsAt0 m c t.val t.isLt).2.2.2.2.2.2 = k0_pay8 (iblk m c 1 t) (iblk m c 0 t) := by
  rw [outsAt0_A m c t h0 h1]
  dsimp only
  unfold out0_A_14
  refine (View.read_writes_eq_canon _ _ _ (fun y => cover0_A_14 (y := y) ..)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz]
  all_goals omega

/-- Every later point adds its share to what the point before left. -/
theorem outs_14_B (t : Fin cfg0.N) (h0 : ¬t.val % 11 = 0) (h1 : 1 ≤ t.val) :
    (outsAt0 m c t.val t.isLt).2.2.2.2.2.2 = addf (outsAt0 m c (t.val - 1) (Nat.lt_of_le_of_lt (Nat.sub_le _ _) t.isLt)).2.2.2.2.2.2 (k0_pay8 (iblk m c 1 t) (iblk m c 0 t)) := by
  rw [outsAt0_B m c t h0 h1]
  dsimp only
  unfold out0_B_14
  refine (View.read_writes_eq_canon _ _ _ (fun y => cover0_B_14 (y := y) ..)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S384x1024) hz, View.ld_unit_zero (S := S384x512) hz, View.ld_unit_zero (S := S1x512) hz, View.ld_unit_zero (S := S1x1024) hz, View.ld_unit_zero (S := S1024x1024) hz, (hs0_14 t).read_unread, pay1_eq]
  all_goals omega

include v0 v1 v2 v4 v6 v7 in
theorem final8 : ((dats m 0 c).arrAt 8 cfg0.N : Vec Ideal S4224x512 .f32) = mat fun Q l => back 512 (A Q) (fun k => half 0 (by norm_num) (DC DH Y PG W Q) k * GA k) l := by
  refine eq_mat _ _ fun R l => ?_
  have h := (dats m 0 c).arrAt_emb_eq_flushed 8 Value.disjoint8 (ptOf R) (flush0_8 _) (ix2 (inBlk R) l : S384x512.Idx)
  have e : ((cfg0.win 8).blk (ptOf R)).view.emb (ix2 (inBlk R) l : S384x512.Idx) = (ix2 R l : S4224x512.Idx) := by
    funext a
    apply Fin.ext
    match a with
    | ⟨0, _⟩ => show win0_8.index (ptOf R) 0 * 384 + 1 * (R.val % 384) = R.val; rw [(index8 _).1]; dsimp only; omega
    | ⟨1, _⟩ => show win0_8.index (ptOf R) 1 * 512 + 1 * l.val = l.val; rw [(index8 _).2]; omega
  rw [e] at h
  refine h.trans ?_
  rw [Value.flushed8, outs_8 m c DH Y A GA PG W v0 v1 v2 v4 v6 v7]
  exact congrArg (fun Q : Fin 4224 => ((back 512 (A Q) (fun k => half 0 (by norm_num) (DC DH Y PG W Q) k * GA k) l : ℝ) : EReal)) (rowAt_ptOf R)

include v0 v1 v3 v5 v6 v7 in
theorem final9 : ((dats m 0 c).arrAt 9 cfg0.N : Vec Ideal S4224x512 .f32) = mat fun Q l => back 512 (B Q) (fun k => half 512 (by norm_num) (DC DH Y PG W Q) k * GB k) l := by
  refine eq_mat _ _ fun R l => ?_
  have h := (dats m 0 c).arrAt_emb_eq_flushed 9 Value.disjoint9 (ptOf R) (flush0_9 _) (ix2 (inBlk R) l : S384x512.Idx)
  have e : ((cfg0.win 9).blk (ptOf R)).view.emb (ix2 (inBlk R) l : S384x512.Idx) = (ix2 R l : S4224x512.Idx) := by
    funext a
    apply Fin.ext
    match a with
    | ⟨0, _⟩ => show win0_9.index (ptOf R) 0 * 384 + 1 * (R.val % 384) = R.val; rw [(index9 _).1]; dsimp only; omega
    | ⟨1, _⟩ => show win0_9.index (ptOf R) 1 * 512 + 1 * l.val = l.val; rw [(index9 _).2]; omega
  rw [e] at h
  refine h.trans ?_
  rw [Value.flushed9, outs_9 m c DH Y B GB PG W v0 v1 v3 v5 v6 v7]
  exact congrArg (fun Q : Fin 4224 => ((back 512 (B Q) (fun k => half 512 (by norm_num) (DC DH Y PG W Q) k * GB k) l : ℝ) : EReal)) (rowAt_ptOf R)

include v0 v1 v6 in
theorem final10 : ((dats m 0 c).arrAt 10 cfg0.N : Vec Ideal S4224x1024 .bf16) = mat fun Q l => DY DH Y PG Q l := by
  refine eq_mat _ _ fun R l => ?_
  have h := (dats m 0 c).arrAt_emb_eq_flushed 10 Value.disjoint10 (ptOf R) (flush0_10 _) (ix2 (inBlk R) l : S384x1024.Idx)
  have e : ((cfg0.win 10).blk (ptOf R)).view.emb (ix2 (inBlk R) l : S384x1024.Idx) = (ix2 R l : S4224x1024.Idx) := by
    funext a
    apply Fin.ext
    match a with
    | ⟨0, _⟩ => show win0_10.index (ptOf R) 0 * 384 + 1 * (R.val % 384) = R.val; rw [(index10 _).1]; dsimp only; omega
    | ⟨1, _⟩ => show win0_10.index (ptOf R) 1 * 1024 + 1 * l.val = l.val; rw [(index10 _).2]; omega
  rw [e] at h
  refine h.trans ?_
  rw [Value.flushed10, outs_10 m c DH Y PG v0 v1 v6]
  exact congrArg (fun Q : Fin 4224 => ((DY DH Y PG Q l : ℝ) : EReal)) (rowAt_ptOf R)

include v2 v3 v4 v5 in
theorem final11 : ((dats m 0 c).arrAt 11 cfg0.N : Vec Ideal S4224x1024 .bf16) = mat fun Q l => both (fun l => A Q l * scl 512 (A Q) * GA l) (fun l => B Q l * scl 512 (B Q) * GB l) l := by
  refine eq_mat _ _ fun R l => ?_
  have h := (dats m 0 c).arrAt_emb_eq_flushed 11 Value.disjoint11 (ptOf R) (flush0_11 _) (ix2 (inBlk R) l : S384x1024.Idx)
  have e : ((cfg0.win 11).blk (ptOf R)).view.emb (ix2 (inBlk R) l : S384x1024.Idx) = (ix2 R l : S4224x1024.Idx) := by
    funext a
    apply Fin.ext
    match a with
    | ⟨0, _⟩ => show win0_11.index (ptOf R) 0 * 384 + 1 * (R.val % 384) = R.val; rw [(index11 _).1]; dsimp only; omega
    | ⟨1, _⟩ => show win0_11.index (ptOf R) 1 * 1024 + 1 * l.val = l.val; rw [(index11 _).2]; omega
  rw [e] at h
  refine h.trans ?_
  rw [Value.flushed11, outs_11 m c A B GA GB v2 v3 v4 v5]
  exact congrArg (fun Q : Fin 4224 => ((both (fun l => A Q l * scl 512 (A Q) * GA l) (fun l => B Q l * scl 512 (B Q) * GB l) l : ℝ) : EReal)) (rowAt_ptOf R)

include v0 v1 v2 v6 v7 in
/-- The buffer after point `n`: the sum of the points' shares so far. -/
theorem outs_12 : ∀ (n : ℕ) (h : n < cfg0.N), ((outsAt0 m c n h).2.2.2.2.1 : Vec Ideal S1x512 .f32)
      = mat fun _ l => ∑ s : Fin (n + 1), ∑ r, half 0 (by norm_num) (DC DH Y PG W (rowAt ⟨s.val, lt_of_lt_of_le s.isLt h⟩ r)) l * (A (rowAt ⟨s.val, lt_of_lt_of_le s.isLt h⟩ r) l * scl 512 (A (rowAt ⟨s.val, lt_of_lt_of_le s.isLt h⟩ r)))
  | 0, h => by
    refine (outs_12_A m c ⟨0, h⟩ (by dsimp only) (by dsimp only; omega)).trans ?_
    rw [iblk0_real m c _ DH v0, iblk1_real m c _ Y v1, iblk2_real m c _ A v2, iblk6_real m c _ _ v6, iblk7_real m c _ W v7]
    erw [pay9_real, pay19_real, pay13_real, pay23_real]
    refine eq_mat _ _ fun r l => ?_
    rw [Fin.sum_univ_one]
    rfl
  | n + 1, h => by
    have hN : cfg0.N = 11 := N_0
    refine (outs_12_B m c ⟨n + 1, h⟩ (by dsimp only; omega) (by dsimp only; omega)).trans ?_
    refine eq_mat _ _ fun r l => ?_
    rw [iblk0_real m c _ DH v0, iblk1_real m c _ Y v1, iblk2_real m c _ A v2, iblk6_real m c _ _ v6, iblk7_real m c _ W v7]
    erw [pay9_real, pay19_real, pay13_real, pay23_real]
    rw [Fin.sum_univ_castSucc]
    refine Eq.trans ?_ (EReal.coe_add _ _).symm
    exact congrArg₂ (· + ·) (congrFun (outs_12 n (Nat.lt_of_succ_lt h)) (ix2 r l)) rfl

theorem final12_eq : ((dats m 0 c).arrAt 12 cfg0.N : Vec Ideal S1x512 .f32) = (outsAt0 m c 10 (by rw [show cfg0.N = 11 from N_0]; decide)).2.2.2.2.1 := by
  refine (dats m 0 c).arrAt_eq_of_cover 12 _ (fun t hf => ?_) fun i => ⟨t0_10, (flush0_12 t0_10).mpr rfl, ?_⟩
  · have h3 : t.val = 10 := by have := (flush0_12 t).mp hf; have := lt_N t; omega
    obtain rfl : t = t0_10 := Fin.ext h3
    rw [Value.flushed12]
    have hz' : (fun a => win0_12.index t0_10 a * main_v40_4.ty.shape.size a) = fun _ => 0 := funext fun a => by fin_cases a <;> decide
    exact (Memref.read_access_unit_zero (Elt Ideal) main_v40_4 hz' (fun a => by rw [congrFun hz' a]; simp) _).symm
  · show i ∈ ((View.whole main_v40_4).slice (win0_12.rect t0_10)).set
    rw [View.set_slice_whole, Rect.mem_set_unit]
    intro a
    have h0 : (i 0 : Nat) < 1 := (i 0).isLt
    have h1 : (i 1 : Nat) < 512 := (i 1).isLt
    match a with
    | ⟨0, _⟩ => show win0_12.index t0_10 0 * win0_12.size 0 ≤ (i 0 : Nat) ∧ (i 0 : Nat) < win0_12.index t0_10 0 * win0_12.size 0 + win0_12.xsize (grid0.coords t0_10) 0
                rw [show win0_12.index t0_10 0 * win0_12.size 0 = 0 from by decide +kernel, show win0_12.xsize (grid0.coords t0_10) 0 = 1 from by decide +kernel]; omega
    | ⟨1, _⟩ => show win0_12.index t0_10 1 * win0_12.size 1 ≤ (i 1 : Nat) ∧ (i 1 : Nat) < win0_12.index t0_10 1 * win0_12.size 1 + win0_12.xsize (grid0.coords t0_10) 1
                rw [show win0_12.index t0_10 1 * win0_12.size 1 = 0 from by decide +kernel, show win0_12.xsize (grid0.coords t0_10) 1 = 512 from by decide +kernel]; omega

include v0 v1 v2 v6 v7 in
theorem final12 : ((dats m 0 c).arrAt 12 cfg0.N : Vec Ideal S1x512 .f32) = mat fun _ l => ∑ Q, half 0 (by norm_num) (DC DH Y PG W Q) l * (A Q l * scl 512 (A Q)) := by
  rw [final12_eq, outs_12 m c DH Y A PG W v0 v1 v2 v6 v7]
  refine eq_mat _ _ fun r l => congrArg ((↑) : ℝ → EReal) ?_
  exact sum_tiles fun Q => half 0 (by norm_num) (DC DH Y PG W Q) l * (A Q l * scl 512 (A Q))

include v0 v1 v3 v6 v7 in
/-- The buffer after point `n`: the sum of the points' shares so far. -/
theorem outs_13 : ∀ (n : ℕ) (h : n < cfg0.N), ((outsAt0 m c n h).2.2.2.2.2.1 : Vec Ideal S1x512 .f32)
      = mat fun _ l => ∑ s : Fin (n + 1), ∑ r, half 512 (by norm_num) (DC DH Y PG W (rowAt ⟨s.val, lt_of_lt_of_le s.isLt h⟩ r)) l * (B (rowAt ⟨s.val, lt_of_lt_of_le s.isLt h⟩ r) l * scl 512 (B (rowAt ⟨s.val, lt_of_lt_of_le s.isLt h⟩ r)))
  | 0, h => by
    refine (outs_13_A m c ⟨0, h⟩ (by dsimp only) (by dsimp only; omega)).trans ?_
    rw [iblk0_real m c _ DH v0, iblk1_real m c _ Y v1, iblk3_real m c _ B v3, iblk6_real m c _ _ v6, iblk7_real m c _ W v7]
    erw [pay9_real, pay10_real, pay16_real, pay26_real]
    refine eq_mat _ _ fun r l => ?_
    rw [Fin.sum_univ_one]
    rfl
  | n + 1, h => by
    have hN : cfg0.N = 11 := N_0
    refine (outs_13_B m c ⟨n + 1, h⟩ (by dsimp only; omega) (by dsimp only; omega)).trans ?_
    refine eq_mat _ _ fun r l => ?_
    rw [iblk0_real m c _ DH v0, iblk1_real m c _ Y v1, iblk3_real m c _ B v3, iblk6_real m c _ _ v6, iblk7_real m c _ W v7]
    erw [pay9_real, pay10_real, pay16_real, pay26_real]
    rw [Fin.sum_univ_castSucc]
    refine Eq.trans ?_ (EReal.coe_add _ _).symm
    exact congrArg₂ (· + ·) (congrFun (outs_13 n (Nat.lt_of_succ_lt h)) (ix2 r l)) rfl

theorem final13_eq : ((dats m 0 c).arrAt 13 cfg0.N : Vec Ideal S1x512 .f32) = (outsAt0 m c 10 (by rw [show cfg0.N = 11 from N_0]; decide)).2.2.2.2.2.1 := by
  refine (dats m 0 c).arrAt_eq_of_cover 13 _ (fun t hf => ?_) fun i => ⟨t0_10, (flush0_13 t0_10).mpr rfl, ?_⟩
  · have h3 : t.val = 10 := by have := (flush0_13 t).mp hf; have := lt_N t; omega
    obtain rfl : t = t0_10 := Fin.ext h3
    rw [Value.flushed13]
    have hz' : (fun a => win0_13.index t0_10 a * main_v40_5.ty.shape.size a) = fun _ => 0 := funext fun a => by fin_cases a <;> decide
    exact (Memref.read_access_unit_zero (Elt Ideal) main_v40_5 hz' (fun a => by rw [congrFun hz' a]; simp) _).symm
  · show i ∈ ((View.whole main_v40_5).slice (win0_13.rect t0_10)).set
    rw [View.set_slice_whole, Rect.mem_set_unit]
    intro a
    have h0 : (i 0 : Nat) < 1 := (i 0).isLt
    have h1 : (i 1 : Nat) < 512 := (i 1).isLt
    match a with
    | ⟨0, _⟩ => show win0_13.index t0_10 0 * win0_13.size 0 ≤ (i 0 : Nat) ∧ (i 0 : Nat) < win0_13.index t0_10 0 * win0_13.size 0 + win0_13.xsize (grid0.coords t0_10) 0
                rw [show win0_13.index t0_10 0 * win0_13.size 0 = 0 from by decide +kernel, show win0_13.xsize (grid0.coords t0_10) 0 = 1 from by decide +kernel]; omega
    | ⟨1, _⟩ => show win0_13.index t0_10 1 * win0_13.size 1 ≤ (i 1 : Nat) ∧ (i 1 : Nat) < win0_13.index t0_10 1 * win0_13.size 1 + win0_13.xsize (grid0.coords t0_10) 1
                rw [show win0_13.index t0_10 1 * win0_13.size 1 = 0 from by decide +kernel, show win0_13.xsize (grid0.coords t0_10) 1 = 512 from by decide +kernel]; omega

include v0 v1 v3 v6 v7 in
theorem final13 : ((dats m 0 c).arrAt 13 cfg0.N : Vec Ideal S1x512 .f32) = mat fun _ l => ∑ Q, half 512 (by norm_num) (DC DH Y PG W Q) l * (B Q l * scl 512 (B Q)) := by
  rw [final13_eq, outs_13 m c DH Y B PG W v0 v1 v3 v6 v7]
  refine eq_mat _ _ fun r l => congrArg ((↑) : ℝ → EReal) ?_
  exact sum_tiles fun Q => half 512 (by norm_num) (DC DH Y PG W Q) l * (B Q l * scl 512 (B Q))

include v0 v1 in
/-- The buffer after point `n`: the sum of the points' shares so far. -/
theorem outs_14 : ∀ (n : ℕ) (h : n < cfg0.N), ((outsAt0 m c n h).2.2.2.2.2.2 : Vec Ideal S1x1024 .f32)
      = mat fun _ l => ∑ s : Fin (n + 1), ∑ r, DH (rowAt ⟨s.val, lt_of_lt_of_le s.isLt h⟩ r) l * (Y (rowAt ⟨s.val, lt_of_lt_of_le s.isLt h⟩ r) l * scl 1024 (Y (rowAt ⟨s.val, lt_of_lt_of_le s.isLt h⟩ r)))
  | 0, h => by
    refine (outs_14_A m c ⟨0, h⟩ (by dsimp only) (by dsimp only; omega)).trans ?_
    rw [iblk0_real m c _ DH v0, iblk1_real m c _ Y v1, pay8_real]
    refine eq_mat _ _ fun r l => ?_
    rw [Fin.sum_univ_one]
    rfl
  | n + 1, h => by
    have hN : cfg0.N = 11 := N_0
    refine (outs_14_B m c ⟨n + 1, h⟩ (by dsimp only; omega) (by dsimp only; omega)).trans ?_
    refine eq_mat _ _ fun r l => ?_
    rw [iblk0_real m c _ DH v0, iblk1_real m c _ Y v1, pay8_real]
    rw [Fin.sum_univ_castSucc]
    refine Eq.trans ?_ (EReal.coe_add _ _).symm
    exact congrArg₂ (· + ·) (congrFun (outs_14 n (Nat.lt_of_succ_lt h)) (ix2 r l)) rfl

theorem final14_eq : ((dats m 0 c).arrAt 14 cfg0.N : Vec Ideal S1x1024 .f32) = (outsAt0 m c 10 (by rw [show cfg0.N = 11 from N_0]; decide)).2.2.2.2.2.2 := by
  refine (dats m 0 c).arrAt_eq_of_cover 14 _ (fun t hf => ?_) fun i => ⟨t0_10, (flush0_14 t0_10).mpr rfl, ?_⟩
  · have h3 : t.val = 10 := by have := (flush0_14 t).mp hf; have := lt_N t; omega
    obtain rfl : t = t0_10 := Fin.ext h3
    rw [Value.flushed14]
    have hz' : (fun a => win0_14.index t0_10 a * main_v40_6.ty.shape.size a) = fun _ => 0 := funext fun a => by fin_cases a <;> decide
    exact (Memref.read_access_unit_zero (Elt Ideal) main_v40_6 hz' (fun a => by rw [congrFun hz' a]; simp) _).symm
  · show i ∈ ((View.whole main_v40_6).slice (win0_14.rect t0_10)).set
    rw [View.set_slice_whole, Rect.mem_set_unit]
    intro a
    have h0 : (i 0 : Nat) < 1 := (i 0).isLt
    have h1 : (i 1 : Nat) < 1024 := (i 1).isLt
    match a with
    | ⟨0, _⟩ => show win0_14.index t0_10 0 * win0_14.size 0 ≤ (i 0 : Nat) ∧ (i 0 : Nat) < win0_14.index t0_10 0 * win0_14.size 0 + win0_14.xsize (grid0.coords t0_10) 0
                rw [show win0_14.index t0_10 0 * win0_14.size 0 = 0 from by decide +kernel, show win0_14.xsize (grid0.coords t0_10) 0 = 1 from by decide +kernel]; omega
    | ⟨1, _⟩ => show win0_14.index t0_10 1 * win0_14.size 1 ≤ (i 1 : Nat) ∧ (i 1 : Nat) < win0_14.index t0_10 1 * win0_14.size 1 + win0_14.xsize (grid0.coords t0_10) 1
                rw [show win0_14.index t0_10 1 * win0_14.size 1 = 0 from by decide +kernel, show win0_14.xsize (grid0.coords t0_10) 1 = 1024 from by decide +kernel]; omega

include v0 v1 in
theorem final14 : ((dats m 0 c).arrAt 14 cfg0.N : Vec Ideal S1x1024 .f32) = mat fun _ l => ∑ Q, DH Q l * (Y Q l * scl 1024 (Y Q)) := by
  rw [final14_eq, outs_14 m c DH Y v0 v1]
  refine eq_mat _ _ fun r l => congrArg ((↑) : ℝ → EReal) ?_
  exact sum_tiles fun Q => DH Q l * (Y Q l * scl 1024 (Y Q))

end Cert.MixOutKernelIdeal.Hand

end
-- ==== Proof.MixOutRef.lean ====
/- The mixer output's backward call: the results of the reference at real arguments. -/
module

public import proofs.«01_k».proof.Defs
public import proofs.«01_k».proof.Proof.Gen.MixOutRefIdeal.Read
public import proofs.«01_k».proof.Proof.MixOutPay
public import proofs.«01_k».proof.Proof.Sigmoid
public import Idealize.ShloMosaic.Lib.Pointwise
public import Idealize.ShloMosaic.Lib.Pipeline.Value
public import Idealize.ShloMosaic.Lib.Tactic

@[expose] public section

set_option maxRecDepth 16384

noncomputable section

namespace Cert.MixOutKernelIdeal.Hand

open Cert.MixOutKernelIdeal Cert.MixOutKernelIdeal.Gen Idealize.ShloMosaic Idealize.ShloMosaic.TcCoe Idealize.SL.Sem
open Idealize.ShloMosaic.Pipeline (Dat)
open Cert.Norm Cert.MixOutRefIdeal.Read

open Cert.MixOutRefIdeal.Facts₀ (bcast_S4112_S4112x512_0 shapeCasts_S4112_S4112x1 reducesTo_S4112x1_S4112_d1 reducesTo_S4112x512_S512_d0 reducesTo_S1x512_S512_d0)

variable (dh : Fin 4112 → Fin 1024 → ℝ) (x : Fin 4112 → Fin 512 → ℝ) (x2 : Fin 4112 → Fin 512 → ℝ) (g g2 : Fin 512 → ℝ) (pg : Fin 1024 → ℝ) (w : Fin 1024 → Fin 1024 → ℝ)

/-! ## A norm of 512 columns -/

theorem ref6 : val_main_v6 (F := Ideal) (mat x) = mat fun r _ => ms 512 (x r) := host_ms _ _ lit_512 (by norm_num) x _ _ _ _ _

theorem ref7 : val_main_v7 (F := Ideal) (mat x) = mat fun r _ => scl 512 (x r) := by
  unfold val_main_v7
  rw [ref6]
  exact host_scl _ (by norm_num) x

theorem ref10 : val_main_v10 (F := Ideal) (mat x) = mat fun r _ => -(1 / 2) * (scl 512 (x r) / ms 512 (x r)) := by
  unfold val_main_v10 val_main_v8
  rw [ref6, ref7]
  exact host_half _ (by norm_num) x _

theorem ref12 : val_main_v12 (F := Ideal) (mat x) = mat fun r l => x r l * scl 512 (x r) := by
  unfold val_main_v12 val_main_v11
  rw [ref7]
  exact host_normed x _ _

theorem gained (d : Fin 4112 → Fin 512 → ℝ) : (mulf (mat d : FVec Ideal S4112x512 .f32) (broadcastInDim S4112x512 ![0, 1] bcast_S1x512_S4112x512_0_1 (broadcastInDim S1x512 ![1] bcast_S512_S1x512_1 (vec g : FVec Ideal S512 .f32))))
    = mat fun r l => d r l * g l := by
  refine eq_mat _ _ fun r l => ?_
  pointwise
  exact (EReal.coe_mul _ _).symm

theorem ref15 : val_main_v15 (F := Ideal) (mat x) (vec g) = mat fun r l => x r l * scl 512 (x r) * g l := by
  unfold val_main_v15
  rw [ref12]
  exact gained g _

/-- The gradient through such a norm, from the cotangent `e` of the row before its gains. -/
def back512 (X e : FVec Ideal S4112x512 .f32) : FVec Ideal S4112x512 .f32 :=
  addf (addf (mulf e (broadcastInDim S4112x512 ![0, 1] bcast_S4112x1_S4112x512_0_1 (val_main_v7 (F := Ideal) X : FVec Ideal S4112x1 .f32))) (mulf X (broadcastInDim S4112x512 ![0] bcast_S4112_S4112x512_0
    (Host.reduceAdd (Host.divf (mulf (shapeCast S4112x1 (Host.reduceAdd (mulf X e) (constant S_ .f32 0x00000000#32) reducesTo_S4112x512_S4112_d1 h_S_) shapeCasts_S4112_S4112x1) (val_main_v10 (F := Ideal) X : FVec Ideal S4112x1 .f32))
      (broadcastInDim S4112x1 ![] bcast_S_S4112x1 (constant S_ .f32 0x44000000#32))) (constant S_ .f32 0x00000000#32) reducesTo_S4112x1_S4112_d1 h_S_))))
    (mulf (broadcastInDim S4112x512 ![0] bcast_S4112_S4112x512_0
    (Host.reduceAdd (Host.divf (mulf (shapeCast S4112x1 (Host.reduceAdd (mulf X e) (constant S_ .f32 0x00000000#32) reducesTo_S4112x512_S4112_d1 h_S_) shapeCasts_S4112_S4112x1) (val_main_v10 (F := Ideal) X : FVec Ideal S4112x1 .f32))
      (broadcastInDim S4112x1 ![] bcast_S_S4112x1 (constant S_ .f32 0x44000000#32))) (constant S_ .f32 0x00000000#32) reducesTo_S4112x1_S4112_d1 h_S_)) X)

theorem back512_real (d : Fin 4112 → Fin 512 → ℝ) : back512 (mat x) (mat d) = mat fun r l => back 512 (x r) (d r) l := by
  unfold back512
  rw [ref7, ref10, host_share _ _ lit_512 (by norm_num) x d]
  exact host_back _ (by norm_num) x d _

/-- A gain's gradient. -/
def gain512 (X e : FVec Ideal S4112x512 .f32) : FVec Ideal S1x512 .f32 :=
  shapeCast S1x512 (Host.reduceAdd (shapeCast S1x512 (Host.reduceAdd (mulf (val_main_v12 (F := Ideal) X : FVec Ideal S4112x512 .f32) e) (constant S_ .f32 0x00000000#32) reducesTo_S4112x512_S512_d0 h_S_) shapeCasts_S512_S1x512)
    (constant S_ .f32 0x00000000#32) reducesTo_S1x512_S512_d0 h_S_) shapeCasts_S512_S1x512

theorem gain512_real (d : Fin 4112 → Fin 512 → ℝ) : gain512 (mat x) (mat d) = mat fun _ l => ∑ r, d r l * (x r l * scl 512 (x r)) := by
  refine eq_mat _ _ fun r l => ?_
  unfold gain512
  rw [ref12]
  pointwise
  simp only [Finset.univ_unique, Finset.sum_singleton, ← EReal.coe_mul, ← Softmax.coe_sum]
  exact congrArg ((↑) : ℝ → EReal) (Finset.sum_congr rfl fun r _ => mul_comm _ _)

/-! ## The product's output and its norm -/

/-- The concatenated rows. -/
def ct (r : Fin 4112) : Fin 1024 → ℝ := both (fun l => x r l * scl 512 (x r) * g l) (fun l => x2 r l * scl 512 (x2 r) * g2 l)

/-- The product's output. -/
def yo (r : Fin 4112) (l : Fin 1024) : ℝ := ∑ k, ct x x2 g g2 r k * w k l

theorem ref32 : val_main_v32 (F := Ideal) (mat x) (mat x2) (vec g) (vec g2) = mat (ct x x2 g g2) := by
  refine eq_mat _ _ fun r l => ?_
  unfold val_main_v32
  rw [show val_main_v31 (F := Ideal) (mat x2) (vec g2) = _ from ref15 x2 g2, ref15]
  pointwise
  unfold ct both
  split_ifs <;> rfl

theorem ref33 : val_main_v33 (F := Ideal) (mat x) (mat x2) (vec g) (vec g2) (mat w) = mat (yo x x2 g g2 w) := by
  refine eq_mat _ _ fun r l => ?_
  unfold val_main_v33
  rw [ref32]
  pointwise
  simp only [← EReal.coe_mul, ← Softmax.coe_sum]
  rfl

variable (X1 X2 : FVec Ideal S4112x512 .f32) (X3 X4 : FVec Ideal S512 .f32) (X6 : FVec Ideal S1024x1024 .f32) (y : Fin 4112 → Fin 1024 → ℝ)
  (hy : val_main_v33 (F := Ideal) X1 X2 X3 X4 X6 = mat y)

include hy in
theorem ref40 : val_main_v40 (F := Ideal) X1 X2 X3 X4 X6 = mat fun r _ => ms 1024 (y r) := by
  unfold val_main_v40 val_main_v38 val_main_v36 val_main_v35 val_main_v34
  rw [hy]
  exact host_ms _ _ lit_1024 (by norm_num) y _ _ _ _ _

include hy in
theorem ref41 : val_main_v41 (F := Ideal) X1 X2 X3 X4 X6 = mat fun r _ => scl 1024 (y r) := by
  unfold val_main_v41
  rw [ref40 X1 X2 X3 X4 X6 y hy]
  exact host_scl _ (by norm_num) y

include hy in
theorem ref44 : val_main_v44 (F := Ideal) X1 X2 X3 X4 X6 = mat fun r _ => -(1 / 2) * (scl 1024 (y r) / ms 1024 (y r)) := by
  unfold val_main_v44 val_main_v42
  rw [ref40 X1 X2 X3 X4 X6 y hy, ref41 X1 X2 X3 X4 X6 y hy]
  exact host_half _ (by norm_num) y _

theorem ref54 : val_main_v54 (F := Ideal) (mat dh) (vec pg) = mat fun r l => dh r l * pg l := by
  refine eq_mat _ _ fun r l => ?_
  pointwise [val_main_v54, val_main_v53, val_main_v47]
  exact (EReal.coe_mul _ _).symm

/-- The gradient of the product's output. -/
def dyo (r : Fin 4112) (l : Fin 1024) : ℝ := back 1024 (y r) (fun k => dh r k * pg k) l

include hy in
theorem ref69 : val_main_v69 (F := Ideal) (mat dh) X1 X2 X3 X4 (vec pg) X6 = mat (dyo dh pg y) := by
  unfold val_main_v69 val_main_v68 val_main_v67 val_main_v66 val_main_v65 val_main_v64 val_main_v63 val_main_v61 val_main_v60 val_main_v59 val_main_v58 val_main_v57 val_main_v56
  rw [ref54, ref44 X1 X2 X3 X4 X6 y hy, ref41 X1 X2 X3 X4 X6 y hy, hy]
  erw [host_share _ _ lit_1024 (by norm_num) y]
  exact host_back _ (by norm_num) y _ _

/-- The gradient of the concatenated rows. -/
def dco (r : Fin 4112) : Fin 1024 → ℝ := dc (dyo dh pg y r) w

include hy in
theorem ref70 (h6 : X6 = mat w) : val_main_v70 (F := Ideal) (mat dh) X1 X2 X3 X4 (vec pg) X6 = mat (dco dh pg w y) := by
  refine eq_mat _ _ fun r l => ?_
  unfold val_main_v70
  rw [ref69 dh pg X1 X2 X3 X4 X6 y hy, h6]
  pointwise
  simp only [← EReal.coe_mul, ← Softmax.coe_sum]
  rfl

/-! ## The seven results -/

include hy in
/-- The gradient of the output's gain. -/
theorem ref125 : val_main_v125 (F := Ideal) (mat dh) X1 X2 X3 X4 X6 = mat fun _ l => ∑ r, dh r l * (y r l * scl 1024 (y r)) := by
  refine eq_mat _ _ fun r l => ?_
  unfold val_main_v125 val_main_v55 val_main_v52 val_main_v51 val_main_v50 val_main_v46 val_main_v45
  rw [ref41 X1 X2 X3 X4 X6 y hy, hy]
  pointwise [val_main_cst_11, val_main_cst_12]
  simp only [Finset.univ_unique, Finset.sum_singleton, ← EReal.coe_mul, ← Softmax.coe_sum]
  exact congrArg ((↑) : ℝ → EReal) (Finset.sum_congr rfl fun r _ => mul_comm _ _)

include hy in
theorem ref119 : (val_main_v119 (F := Ideal) (mat dh) X1 X2 X3 X4 (vec pg) X6 : FVec Ideal S4224x1024 .f32) = mat (pad (dyo dh pg y)) := by
  show val_main_v118 (F := Ideal) (mat dh) X1 X2 X3 X4 (vec pg) X6 = _
  unfold val_main_v118
  rw [ref69 dh pg X1 X2 X3 X4 X6 y hy]
  exact pad_concat _ _ _

theorem ref122 : (val_main_v122 (F := Ideal) (mat x) (mat x2) (vec g) (vec g2) : FVec Ideal S4224x1024 .f32) = mat (pad (ct x x2 g g2)) := by
  show val_main_v121 (F := Ideal) (mat x) (mat x2) (vec g) (vec g2) = _
  unfold val_main_v121
  rw [ref32]
  exact pad_concat _ _ _

variable (D : Fin 4112 → Fin 1024 → ℝ) (X5 : FVec Ideal S1024 .f32) (X0 : FVec Ideal S4112x1024 .f32)

theorem ref114 (hD : val_main_v70 (F := Ideal) X0 (mat x) X2 (vec g) X4 X5 X6 = mat D) :
    val_main_v114 (F := Ideal) X0 (mat x) X2 (vec g) X4 X5 X6 = mat (pad fun r l => back 512 (x r) (fun k => half 0 (by norm_num) (D r) k * g k) l) := by
  have e : val_main_v112 (F := Ideal) X0 (mat x) X2 (vec g) X4 X5 X6 = back512 (mat x) (val_main_v97 (F := Ideal) X0 (mat x) X2 (vec g) X4 X5 X6) := by
    unfold val_main_v112 val_main_v111 val_main_v110 val_main_v109 val_main_v108 val_main_v107 val_main_v106 val_main_v104 val_main_v103 val_main_v102 val_main_v101 val_main_v100 val_main_v99
    rfl
  unfold val_main_v114
  rw [e]
  unfold val_main_v97 val_main_v71
  rw [hD, slice_half 0 (by norm_num)]
  erw [gained g, back512_real]
  exact pad_concat _ _ _

theorem ref116 (hD : val_main_v70 (F := Ideal) X0 X1 (mat x) X3 (vec g) X5 X6 = mat D) :
    val_main_v116 (F := Ideal) X0 X1 (mat x) X3 (vec g) X5 X6 = mat (pad fun r l => back 512 (x r) (fun k => half 512 (by norm_num) (D r) k * g k) l) := by
  have e : val_main_v92 (F := Ideal) X0 X1 (mat x) X3 (vec g) X5 X6 = back512 (mat x) (val_main_v77 (F := Ideal) X0 X1 (mat x) X3 (vec g) X5 X6) := by
    unfold val_main_v92 val_main_v91 val_main_v90 val_main_v89 val_main_v88 val_main_v87 val_main_v86 val_main_v84 val_main_v83 val_main_v82 val_main_v81 val_main_v80 val_main_v79
    rfl
  unfold val_main_v116
  rw [e]
  unfold val_main_v77 val_main_v72
  rw [hD, slice_half 512 (by norm_num)]
  erw [gained g, back512_real]
  exact pad_concat _ _ _

theorem ref123 (hD : val_main_v70 (F := Ideal) X0 (mat x) X2 X3 X4 X5 X6 = mat D) :
    val_main_v123 (F := Ideal) X0 (mat x) X2 X3 X4 X5 X6 = mat fun _ l => ∑ r, half 0 (by norm_num) (D r) l * (x r l * scl 512 (x r)) := by
  have e : val_main_v123 (F := Ideal) X0 (mat x) X2 X3 X4 X5 X6 = gain512 (mat x) (val_main_v71 (F := Ideal) X0 (mat x) X2 X3 X4 X5 X6) := by
    unfold val_main_v123 val_main_v98 val_main_v95 val_main_v94 val_main_v93
    rfl
  rw [e]
  unfold val_main_v71
  rw [hD, slice_half 0 (by norm_num)]
  exact gain512_real x _

theorem ref124 (hD : val_main_v70 (F := Ideal) X0 X1 (mat x) X3 X4 X5 X6 = mat D) :
    val_main_v124 (F := Ideal) X0 X1 (mat x) X3 X4 X5 X6 = mat fun _ l => ∑ r, half 512 (by norm_num) (D r) l * (x r l * scl 512 (x r)) := by
  have e : val_main_v124 (F := Ideal) X0 X1 (mat x) X3 X4 X5 X6 = gain512 (mat x) (val_main_v72 (F := Ideal) X0 X1 (mat x) X3 X4 X5 X6) := by
    unfold val_main_v124 val_main_v78 val_main_v75 val_main_v74 val_main_v73
    rfl
  rw [e]
  unfold val_main_v72
  rw [hD, slice_half 512 (by norm_num)]
  exact gain512_real x _

end Cert.MixOutKernelIdeal.Hand

end
-- ==== Proof.MixOutEq.lean ====
/- The mixer output's backward call: the kernel's results are the reference's. -/
module

public import proofs.«01_k».proof.Defs
public import proofs.«01_k».proof.Proof.Gen.MixOutKernelIdeal.Value
public import proofs.«01_k».proof.Proof.MixOutValue
public import proofs.«01_k».proof.Proof.MixOutRef
public import proofs.«01_k».proof.Proof.Gen.Pre_mix_out_finite
public import proofs.«01_k».proof.Proof.Gen.MixOutRefIdeal.Run
public import proofs.«01_k».proof.Proof.Gen.MixOutRefIdeal.Read
public import Idealize.ShloMosaic.Lib.Pointwise
public import Idealize.ShloMosaic.Lib.Pipeline.Value
public import Idealize.ShloMosaic.Lib.Tactic

@[expose] public section

set_option maxRecDepth 16384

noncomputable section

namespace Cert.MixOutKernelIdeal.Hand

open Cert.MixOutKernelIdeal Cert.MixOutKernelIdeal.Gen Idealize.ShloMosaic Idealize.ShloMosaic.TcCoe Idealize.SL.Sem
open Idealize.ShloMosaic.Pipeline (Dat)
open Cert.Norm Cert.MixOutRefIdeal.Read

/-! ## The rows added under the arrays -/

section
variable (dh y : Fin 4112 → Fin 1024 → ℝ) (x x2 : Fin 4112 → Fin 512 → ℝ) (g g2 : Fin 512 → ℝ) (pg : Fin 1024 → ℝ) (w : Fin 1024 → Fin 1024 → ℝ) (D : Fin 4112 → Fin 1024 → ℝ)
  (o : ℕ) (ho : o + 512 ≤ 1024)

theorem DY_pad : DY (pad dh) (pad y) pg = pad (dyo dh pg y) := by
  funext R l
  unfold DY dyo
  by_cases hR : R.val < 4112
  · rw [pad_pos _ R hR, pad_pos _ R hR, pad_pos _ R hR]
  · simp only [pad_neg _ R hR, zero_mul, back_zero]

theorem DC_pad : DC (pad dh) (pad y) pg w = pad (dco dh pg w y) := by
  funext R l
  unfold DC dco
  rw [DY_pad]
  by_cases hR : R.val < 4112
  · rw [pad_pos _ R hR, pad_pos _ R hR]
  · unfold dc
    simp only [pad_neg _ R hR, zero_mul, Finset.sum_const_zero]

theorem rows8 : (fun R l => back 512 (pad x R) (fun k => half o ho (pad D R) k * g k) l) = pad fun r l => back 512 (x r) (fun k => half o ho (D r) k * g k) l := by
  funext R l
  by_cases hR : R.val < 4112
  · rw [pad_pos _ R hR, pad_pos _ R hR, pad_pos _ R hR]
  · unfold half
    simp only [pad_neg _ R hR, zero_mul, back_zero]

theorem rows11 : (fun R l => both (fun l => pad x R l * scl 512 (pad x R) * g l) (fun l => pad x2 R l * scl 512 (pad x2 R) * g2 l) l) = pad (ct x x2 g g2) := by
  funext R l
  by_cases hR : R.val < 4112
  · rw [pad_pos _ R hR, pad_pos _ R hR, pad_pos _ R hR]
    rfl
  · unfold both
    simp only [pad_neg _ R hR, zero_mul, dite_eq_ite, ite_self]

theorem rows12 (l : Fin 512) : ∑ R, half o ho (pad D R) l * (pad x R l * scl 512 (pad x R)) = ∑ r, half o ho (D r) l * (x r l * scl 512 (x r)) := by
  refine sum_pad _ _ (fun R => ?_) fun R hR => ?_
  · rw [pad_pos _ _ R.isLt, pad_pos _ _ R.isLt]
  · unfold half
    rw [pad_neg D R hR, zero_mul]

theorem rows14 (l : Fin 1024) : ∑ R, pad dh R l * (pad y R l * scl 1024 (pad y R)) = ∑ r, dh r l * (y r l * scl 1024 (y r)) := by
  refine sum_pad _ _ (fun R => ?_) fun R hR => ?_
  · rw [pad_pos _ _ R.isLt, pad_pos _ _ R.isLt]
  · rw [pad_neg dh R hR, zero_mul]

end

variable (dh : FVec Ideal ⟨2, ![4112, 1024]⟩ .f32) (yl : FVec Ideal ⟨2, ![4112, 512]⟩ .f32) (ym : FVec Ideal ⟨2, ![4112, 512]⟩ .f32) (lg : FVec Ideal ⟨1, ![512]⟩ .f32) (mg : FVec Ideal ⟨1, ![512]⟩ .f32) (pg : FVec Ideal ⟨1, ![1024]⟩ .f32) (w : FVec Ideal ⟨2, ![1024, 1024]⟩ .f32)
  (hf : Cert.Pre_mix_out_finite.fn (F := Ideal) dh yl ym lg mg pg w = fun _ => 1#1)

include hf in
theorem pre_at (R : Fin 13363) (l : Fin 1024) : (Cert.Pre_mix_out_finite.fn (F := Ideal) dh yl ym lg mg pg w : IVec _ 1) (ix2 R l) = 1#1 := by rw [hf]

include hf in
theorem fin_dh : dh = mat fun r l => (dh (ix2 r l)).toReal := by
  refine mat_of _ fun r l => ?_
  have g := pre_at dh yl ym lg mg pg w hf ⟨r.val, by omega⟩ ⟨l.val, by omega⟩
  revert g
  pointwise [Cert.Pre_mix_out_finite.fn, Cert.Pre_mix_out_finite.fn_part1]
  intro g
  try simp (disch := omega) only [dif_pos, dif_neg] at g
  exact g

include hf in
theorem fin_yl : yl = mat fun r l => (yl (ix2 r l)).toReal := by
  refine mat_of _ fun r l => ?_
  have g := pre_at dh yl ym lg mg pg w hf ⟨5137 + r.val, by omega⟩ ⟨l.val, by omega⟩
  revert g
  pointwise [Cert.Pre_mix_out_finite.fn, Cert.Pre_mix_out_finite.fn_part1]
  intro g
  try simp (disch := omega) only [dif_pos, dif_neg] at g
  first
  | rw [show ∀ p, (⟨5137 + r.val - 4112 - 1024 - 1, p⟩ : Fin 4112) = r from fun p => Fin.ext (by show 5137 + r.val - 4112 - 1024 - 1 = r.val; omega)] at g
  | skip
  exact g

include hf in
theorem fin_ym : ym = mat fun r l => (ym (ix2 r l)).toReal := by
  refine mat_of _ fun r l => ?_
  have g := pre_at dh yl ym lg mg pg w hf ⟨9249 + r.val, by omega⟩ ⟨l.val, by omega⟩
  revert g
  pointwise [Cert.Pre_mix_out_finite.fn, Cert.Pre_mix_out_finite.fn_part1]
  intro g
  try simp (disch := omega) only [dif_pos, dif_neg] at g
  first
  | rw [show ∀ p, (⟨9249 + r.val - 4112 - 1024 - 1 - 4112, p⟩ : Fin 4112) = r from fun p => Fin.ext (by show 9249 + r.val - 4112 - 1024 - 1 - 4112 = r.val; omega)] at g
  | skip
  exact g

include hf in
theorem fin_lg : lg = vec fun l => (lg (ix1 l)).toReal := by
  refine vec_of _ fun l => ?_
  have g := pre_at dh yl ym lg mg pg w hf ⟨13361, by omega⟩ ⟨l.val, by omega⟩
  revert g
  pointwise [Cert.Pre_mix_out_finite.fn, Cert.Pre_mix_out_finite.fn_part1]
  intro g
  try simp (disch := omega) only [dif_pos, dif_neg] at g
  exact g

include hf in
theorem fin_mg : mg = vec fun l => (mg (ix1 l)).toReal := by
  refine vec_of _ fun l => ?_
  have g := pre_at dh yl ym lg mg pg w hf ⟨13362, by omega⟩ ⟨l.val, by omega⟩
  revert g
  pointwise [Cert.Pre_mix_out_finite.fn, Cert.Pre_mix_out_finite.fn_part1]
  intro g
  try simp (disch := omega) only [dif_pos, dif_neg] at g
  exact g

include hf in
theorem fin_pg : pg = vec fun l => (pg (ix1 l)).toReal := by
  refine vec_of _ fun l => ?_
  have g := pre_at dh yl ym lg mg pg w hf ⟨5136, by omega⟩ ⟨l.val, by omega⟩
  revert g
  pointwise [Cert.Pre_mix_out_finite.fn, Cert.Pre_mix_out_finite.fn_part1]
  intro g
  try simp (disch := omega) only [dif_pos, dif_neg] at g
  exact g

include hf in
theorem fin_w : w = mat fun r l => (w (ix2 r l)).toReal := by
  refine mat_of _ fun r l => ?_
  have g := pre_at dh yl ym lg mg pg w hf ⟨4112 + r.val, by omega⟩ ⟨l.val, by omega⟩
  revert g
  pointwise [Cert.Pre_mix_out_finite.fn, Cert.Pre_mix_out_finite.fn_part1]
  intro g
  try simp (disch := omega) only [dif_pos, dif_neg] at g
  first
  | rw [show ∀ p, (⟨4112 + r.val - 4112, p⟩ : Fin 1024) = r from fun p => Fin.ext (by show 4112 + r.val - 4112 = r.val; omega)] at g
  | skip
  exact g

variable (m : (ℓ : Loc nD τ sig) → Buf (Elt Ideal) ℓ) (c : Dev nD)
  (e0 : (m ((c : Thread nD τ).loc main_arg0) : FVec Ideal S4112x1024 .f32) = dh)
  (e1 : (m ((c : Thread nD τ).loc main_arg1) : FVec Ideal S4112x512 .f32) = yl)
  (e2 : (m ((c : Thread nD τ).loc main_arg2) : FVec Ideal S4112x512 .f32) = ym)
  (e3 : (m ((c : Thread nD τ).loc main_arg3) : FVec Ideal S512 .f32) = lg)
  (e4 : (m ((c : Thread nD τ).loc main_arg4) : FVec Ideal S512 .f32) = mg)
  (e5 : (m ((c : Thread nD τ).loc main_arg5) : FVec Ideal S1024 .f32) = pg)
  (e6 : (m ((c : Thread nD τ).loc main_arg6) : FVec Ideal S1024x1024 .f32) = w)

set_option maxHeartbeats 1600000 in
include hf e0 e1 e2 e3 e4 e5 e6 in
/-- The seven arrays the kernel leaves are the reference's. -/
theorem value_eq : ((dats m 0 c).arrAt 8 cfg0.N : Vec Ideal S4224x512 .f32) = val_main_v114 (F := Ideal) dh yl ym lg mg pg w
    ∧ ((dats m 0 c).arrAt 9 cfg0.N : Vec Ideal S4224x512 .f32) = val_main_v116 (F := Ideal) dh yl ym lg mg pg w
    ∧ ((dats m 0 c).arrAt 10 cfg0.N : Vec Ideal S4224x1024 .bf16) = val_main_v119 (F := Ideal) dh yl ym lg mg pg w
    ∧ ((dats m 0 c).arrAt 11 cfg0.N : Vec Ideal S4224x1024 .bf16) = val_main_v122 (F := Ideal) yl ym lg mg
    ∧ ((dats m 0 c).arrAt 12 cfg0.N : Vec Ideal S1x512 .f32) = val_main_v123 (F := Ideal) dh yl ym lg mg pg w
    ∧ ((dats m 0 c).arrAt 13 cfg0.N : Vec Ideal S1x512 .f32) = val_main_v124 (F := Ideal) dh yl ym lg mg pg w
    ∧ ((dats m 0 c).arrAt 14 cfg0.N : Vec Ideal S1x1024 .f32) = val_main_v125 (F := Ideal) dh yl ym lg mg w := by
  have f0 := fin_dh dh yl ym lg mg pg w hf
  have f1 := fin_yl dh yl ym lg mg pg w hf
  have f2 := fin_ym dh yl ym lg mg pg w hf
  have f3 := fin_lg dh yl ym lg mg pg w hf
  have f4 := fin_mg dh yl ym lg mg pg w hf
  have f5 := fin_pg dh yl ym lg mg pg w hf
  have f6 := fin_w dh yl ym lg mg pg w hf
  clear hf
  generalize (fun (r : Fin 4112) (l : Fin 1024) => (dh (ix2 r l)).toReal) = dh' at f0
  generalize (fun (r : Fin 4112) (l : Fin 512) => (yl (ix2 r l)).toReal) = yl' at f1
  generalize (fun (r : Fin 4112) (l : Fin 512) => (ym (ix2 r l)).toReal) = ym' at f2
  generalize (fun l : Fin 512 => (lg (ix1 l)).toReal) = lg' at f3
  generalize (fun l : Fin 512 => (mg (ix1 l)).toReal) = mg' at f4
  generalize (fun l : Fin 1024 => (pg (ix1 l)).toReal) = pg' at f5
  generalize (fun (r : Fin 1024) (l : Fin 1024) => (w (ix2 r l)).toReal) = w' at f6
  subst f0 f1 f2 f3 f4 f5 f6
  have hy := ref33 yl' ym' lg' mg' w'
  have hD := ref70 dh' pg' w' _ _ _ _ _ _ hy rfl
  have v0 := V_0 m c dh' e0
  have v1 := V_1 m c _ _ _ _ _ e1 e2 e3 e4 e6 _ hy
  have v2 := V_2 m c yl' e1
  have v3 := V_3 m c ym' e2
  have v4 := V_4 m c lg' e3
  have v5 := V_5 m c mg' e4
  have v6 := V_6 m c pg' e5
  have v7 := V_7 m c w' e6
  refine ⟨(final8 m c _ _ _ _ _ _ v0 v1 v2 v4 v6 v7).trans ?_, (final9 m c _ _ _ _ _ _ v0 v1 v3 v5 v6 v7).trans ?_, (final10 m c _ _ _ v0 v1 v6).trans ?_,
    (final11 m c _ _ _ _ v2 v3 v4 v5).trans ?_, (final12 m c _ _ _ _ _ v0 v1 v2 v6 v7).trans ?_, (final13 m c _ _ _ _ _ v0 v1 v3 v6 v7).trans ?_, (final14 m c _ _ v0 v1).trans ?_⟩
  · rw [DC_pad, rows8]; exact (ref114 yl' lg' _ _ _ _ _ _ hD).symm
  · rw [DC_pad, rows8]; exact (ref116 ym' mg' _ _ _ _ _ _ hD).symm
  · rw [DY_pad]; exact (ref119 dh' pg' _ _ _ _ _ _ hy).symm
  · rw [rows11]; exact (ref122 yl' ym' lg' mg').symm
  · rw [DC_pad, ref123 yl' _ _ _ _ _ _ _ hD]
    exact eq_mat _ _ fun r l => congrArg ((↑) : ℝ → EReal) (rows12 yl' _ _ _ l)
  · rw [DC_pad, ref124 ym' _ _ _ _ _ _ _ hD]
    exact eq_mat _ _ fun r l => congrArg ((↑) : ℝ → EReal) (rows12 ym' _ _ _ l)
  · rw [ref125 dh' _ _ _ _ _ _ hy]
    exact eq_mat _ _ fun r l => congrArg ((↑) : ℝ → EReal) (rows14 dh' _ l)

end Cert.MixOutKernelIdeal.Hand

end
-- ==== Proof.MlaPay.lean ====
/- The latent attention projections' backward call: the values of the kernel at real arguments. -/
module

public import proofs.«01_k».proof.Defs
public import proofs.«01_k».proof.Proof.Gen.MlaKernelIdeal.Skeleton
public import proofs.«01_k».proof.Proof.NormText
public import Idealize.ShloMosaic.Lib.Pointwise
public import Idealize.ShloMosaic.Lib.Pipeline.Value
public import Idealize.ShloMosaic.Lib.Tactic

@[expose] public section

set_option maxRecDepth 16384

noncomputable section

namespace Cert.MlaKernelIdeal.Hand

open Cert.MlaKernelIdeal Cert.MlaKernelIdeal.Gen Idealize.ShloMosaic Idealize.ShloMosaic.TcCoe Idealize.SL.Sem
open Idealize.ShloMosaic.Pipeline (Dat)
open Cert.Norm

/-! ## Heads and lanes -/

/-- An array of real numbers with three axes. -/
abbrev cub {a b c : ℕ} (X : Fin a → Fin b → Fin c → ℝ) : FVec Ideal ⟨3, ![a, b, c]⟩ .f32 := fun i => ((X (i 0) (i 1) (i 2) : ℝ) : EReal)

theorem eq_cub {a b c : ℕ} (x : FVec Ideal ⟨3, ![a, b, c]⟩ .f32) (X : Fin a → Fin b → Fin c → ℝ) (h : ∀ p q r, x (ix3 p q r) = ((X p q r : ℝ) : EReal)) : x = cub X := by
  funext i
  rw [eq_ix3 i]
  exact h _ _ _

theorem lit_384 : Ideal.ofBits FTy.f32 1136656384#32 = ((384 : ℝ) : EReal) := by
  simp [Ideal.ofBits, Ideal.ieee]; rw [← EReal.coe_mul]; norm_num

theorem lit_256 : Ideal.ofBits FTy.f32 1132462080#32 = ((256 : ℝ) : EReal) := by
  simp [Ideal.ofBits, Ideal.ieee]; rw [← EReal.coe_mul]; norm_num

/-- Rows against rows: the product with the transpose. -/
def nt {n k : ℕ} (z : Fin k → ℝ) (w : Fin n → Fin k → ℝ) (l : Fin n) : ℝ := ∑ j, z j * w l j

/-- Eight heads of 128 lanes side by side. -/
def heads (x : Fin 8 → Fin 128 → ℝ) (j : Fin 1024) : ℝ := x ⟨j.val / 128, by omega⟩ ⟨j.val % 128, by omega⟩

/-- A head's 96 entries in 128 lanes. -/
def wide (x : Fin 96 → ℝ) (l : Fin 128) : ℝ := if h : l.val < 96 then x ⟨l.val, h⟩ else 0

/-- The lane `n` places before, around the end. -/
def before (n : ℕ) (l : Fin 128) : Fin 128 := ⟨(l.val + 128 - n % 128) % 128, by omega⟩

/-- The rotation of a row against the tables of its position. -/
def turn (c s1 s2 x : Fin 128 → ℝ) (l : Fin 128) : ℝ := x l * c l - x (before 16 l) * s1 l - x (before 112 l) * s2 l

/-- A head's key part and value part in one row. -/
def keyval (k : Fin 128 → ℝ) (v : Fin 64 → ℝ) (l : Fin 128) : ℝ := if h : l.val < 64 then k l else v ⟨l.val - 64, by omega⟩

/-- The rotary lanes of a head. -/
def rope (x : Fin 128 → ℝ) (l : Fin 128) : ℝ := if 64 ≤ l.val ∧ l.val < 96 then x l else 0

/-! ## The kernel's values -/

variable (c s1 s2 p : Fin 384 → Fin 128 → ℝ) (b : Fin 1 → Fin 384 → Fin 128 → ℝ)

theorem pay3_real : k0_pay3 (F := Ideal) (mat c) = mat c := shapeCast_self _ _
theorem pay4_real : k0_pay4 (F := Ideal) (mat c) = mat c := shapeCast_self _ _
theorem pay5_real : k0_pay5 (F := Ideal) (mat c) = mat c := shapeCast_self _ _

theorem pay10_real : k0_pay10 (F := Ideal) (cub b) = mat fun r => b 0 r := by
  refine eq_mat _ _ fun r l => ?_
  pointwise [k0_pay10]
  rfl

theorem turn_real (x : Fin 384 → Fin 128 → ℝ) : (subf (subf (mulf (mat x : FVec Ideal S384x128 .f32) (mat c)) (mulf (dynamicRotate 1 16#32 none (mat x : FVec Ideal S384x128 .f32) rotates_S384x128_d1) (mat s1)))
    (mulf (dynamicRotate 1 112#32 none (mat x : FVec Ideal S384x128 .f32) rotates_S384x128_d1) (mat s2))) = mat fun r => turn (c r) (s1 r) (s2 r) (x r) := by
  refine eq_mat _ _ fun r l => ?_
  pointwise
  simp only [← EReal.coe_mul, ← EReal.coe_sub]
  rfl

theorem pay16_real : k0_pay16 (F := Ideal) (mat c) (mat s1) (mat s2) (cub b) = mat fun r => turn (c r) (s1 r) (s2 r) (b 0 r) := by
  have e := pay10_real b
  unfold k0_pay10 at e
  unfold k0_pay16
  dsimp only at e ⊢
  rw [e]
  exact turn_real c s1 s2 _

theorem pay9_real : k0_pay9 (F := Ideal) (mat c) (mat s1) (mat s2) (cub b) = mat fun r => turn (c r) (s1 r) (s2 r) (b 0 r) := by
  refine Eq.trans (b := k0_pay16 (F := Ideal) (k0_pay3 (mat c)) (k0_pay4 (mat s1)) (k0_pay5 (mat s2)) (cub b)) rfl ?_
  rw [pay3_real, pay4_real, pay5_real]
  exact pay16_real _ _ _ _

theorem pay6_at (r : Fin 384) (l : Fin 128) : k0_pay6 (ix2 r l) = if l.val < 64 then 1#1 else 0#1 := by
  pointwise [k0_pay6]
  revert l
  decide

theorem pay7_at (r : Fin 384) (l : Fin 128) : k0_pay7 (ix2 r l) = if 64 ≤ l.val ∧ l.val < 96 then 1#1 else 0#1 := by
  pointwise [k0_pay7]
  revert l
  decide

/-- The key lanes beside the value lanes of an odd head. -/
theorem keyval_odd (k p : Fin 384 → Fin 128 → ℝ) : (select k0_pay6 (mat k : FVec Ideal S384x128 .f32) (mat p)) = mat fun r => keyval (k r) fun e => p r ⟨64 + e.val, by omega⟩ := by
  refine eq_mat _ _ fun r l => ?_
  show Scalar.select (k0_pay6 (ix2 r l)) _ _ = _
  rw [pay6_at]
  unfold keyval
  by_cases h : l.val < 64
  · rw [if_pos h, dif_pos h]; rfl
  · rw [if_neg h, dif_neg h]
    refine congrArg (fun z => ((p r z : ℝ) : EReal)) (Fin.ext ?_)
    show l.val = 64 + (l.val - 64)
    omega

/-- The key lanes beside the value lanes of an even head. -/
theorem keyval_even (k p : Fin 384 → Fin 128 → ℝ) : (select k0_pay6 (mat k : FVec Ideal S384x128 .f32) (dynamicRotate 1 64#32 none (mat p : FVec Ideal S384x128 .f32) rotates_S384x128_d1)) = mat fun r => keyval (k r) fun e => p r ⟨e.val, by omega⟩ := by
  have e : (dynamicRotate 1 64#32 none (mat p : FVec Ideal S384x128 .f32) rotates_S384x128_d1) = mat fun r l => p r (before 64 l) := by
    refine eq_mat _ _ fun r l => ?_
    pointwise
    rfl
  rw [e, keyval_odd]
  refine eq_mat _ _ fun r l => ?_
  refine congrArg ((↑) : ℝ → EReal) ?_
  show keyval _ _ _ = keyval _ _ _
  unfold keyval
  refine dite_congr rfl (fun _ => rfl) fun h => congrArg (p r) (Fin.ext ?_)
  show (64 + (l.val - 64) + 128 - 64 % 128) % 128 = l.val - 64
  omega

theorem pay11_real : k0_pay11 (F := Ideal) (cub b) (mat p) = mat fun r => keyval (b 0 r) fun e => p r ⟨e.val, by omega⟩ := by
  unfold k0_pay11
  rw [pay10_real, shapeCast_self]
  exact keyval_even _ _

theorem pay14_real : k0_pay14 (F := Ideal) k0_pay6 (cub b) (mat p) = mat fun r => keyval (b 0 r) fun e => p r ⟨64 + e.val, by omega⟩ := by
  unfold k0_pay14
  rw [show k0_pay13 (F := Ideal) (cub b) = _ from pay10_real b, shapeCast_self]
  exact keyval_odd _ _

theorem pay19_real : k0_pay19 (F := Ideal) k0_pay6 (cub b) (mat p) = mat fun r => keyval (b 0 r) fun e => p r ⟨e.val, by omega⟩ := pay11_real p b

/-- One more head's rotary lanes in the sum. -/
theorem rope_add (x k : Fin 384 → Fin 128 → ℝ) : (addf (mat x : FVec Ideal S384x128 .f32) (select k0_pay7 (mat k : FVec Ideal S384x128 .f32) (broadcast S384x128 (Scalar.ofBits (F := Ideal) .f32 0x00000000#32)))) = mat fun r l => x r l + rope (k r) l := by
  have e : (select k0_pay7 (mat k : FVec Ideal S384x128 .f32) (broadcast S384x128 (Scalar.ofBits (F := Ideal) .f32 0x00000000#32))) = mat fun r => rope (k r) := by
    refine eq_mat _ _ fun r l => ?_
    show Scalar.select (k0_pay7 (ix2 r l)) _ _ = _
    rw [pay7_at]
    unfold rope
    by_cases h : 64 ≤ l.val ∧ l.val < 96
    · rw [if_pos h, if_pos h]; rfl
    · rw [if_neg h, if_neg h]; exact (Ideal.ofBits_zero .f32).trans EReal.coe_zero.symm
  rw [e]
  exact eq_mat _ _ fun r l => (EReal.coe_add _ _).symm

variable (K : Fin 8 → Fin 384 → Fin 128 → ℝ)

/-- The gradient of the shared rotary key: the heads' lanes added up, and turned back. -/
theorem pay39_real : k0_pay39 (F := Ideal) (mat c) (mat s1) (mat s2) k0_pay7
      (k0_pay31 k0_pay7 (k0_pay27 k0_pay7 (k0_pay20 k0_pay7 (k0_pay15 k0_pay7 (k0_pay8 (F := Ideal)) (k0_pay10 (cub fun (_ : Fin 1) r => K 0 r)) (cub fun (_ : Fin 1) r => K 1 r)) (cub fun (_ : Fin 1) r => K 2 r))
        (k0_pay22 (cub fun (_ : Fin 1) r => K 3 r)) (cub fun (_ : Fin 1) r => K 4 r)) (cub fun (_ : Fin 1) r => K 5 r))
      (k0_pay33 (cub fun (_ : Fin 1) r => K 6 r)) (k0_pay35 (F := Ideal)) (cub fun (_ : Fin 1) r => K 7 r)
    = mat fun r => turn (c r) (s1 r) (s2 r) fun l => ∑ h, rope (K h r) l := by
  have z : k0_pay8 (F := Ideal) = mat fun _ _ => 0 := by
    refine eq_mat _ _ fun r l => ?_
    exact (Ideal.ofBits_zero .f32).trans EReal.coe_zero.symm
  unfold k0_pay39 k0_pay31 k0_pay27 k0_pay20 k0_pay15
  dsimp only
  rw [show k0_pay13 (F := Ideal) _ = _ from pay10_real (fun _ r => K 1 r), show k0_pay18 (F := Ideal) _ = _ from pay10_real (fun _ r => K 2 r), show k0_pay22 (F := Ideal) _ = _ from pay10_real (fun _ r => K 3 r),
    show k0_pay25 (F := Ideal) _ = _ from pay10_real (fun _ r => K 4 r), show k0_pay29 (F := Ideal) _ = _ from pay10_real (fun _ r => K 5 r), show k0_pay33 (F := Ideal) _ = _ from pay10_real (fun _ r => K 6 r),
    show k0_pay37 (F := Ideal) _ = _ from pay10_real (fun _ r => K 7 r), pay10_real, z]
  unfold k0_pay35
  dsimp only
  rw [rope_add, rope_add, rope_add, rope_add, rope_add, rope_add, rope_add, rope_add, turn_real]
  refine eq_mat _ _ fun r l => congrArg (fun x => ((turn (c r) (s1 r) (s2 r) x l : ℝ) : EReal)) (funext fun l => ?_)
  show _ = ∑ h : Fin 8, _
  simp only [Fin.sum_univ_eight, zero_add]
  rfl

variable (z : Fin 384 → Fin 1024 → ℝ) (wq : Fin 384 → Fin 1024 → ℝ) (wk : Fin 256 → Fin 1024 → ℝ) (x : Fin 384 → Fin 384 → ℝ) (y : Fin 384 → Fin 256 → ℝ) (g : Fin 1 → Fin 384 → ℝ) (e : Fin 1 → Fin 256 → ℝ)

theorem pay40_real : k0_pay40 (F := Ideal) (mat g) = mat g := shapeCast_self _ _
theorem pay41_real : k0_pay41 (F := Ideal) (mat e) = mat e := shapeCast_self _ _
theorem pay42_real : k0_pay42 (F := Ideal) (mat x) = mat x := shapeCast_self _ _
theorem pay49_real : k0_pay49 (F := Ideal) (mat y) = mat y := shapeCast_self _ _

theorem pay43_real : k0_pay43 (F := Ideal) (mat x) = mat fun r _ => scl 384 (x r) := by
  unfold k0_pay43
  rw [pay42_real]
  exact ker_scl _ _ lit_384 (by norm_num) x _ _ _ _

theorem pay44_real : k0_pay44 (F := Ideal) (mat x) = mat fun r l => x r l * scl 384 (x r) := by
  unfold k0_pay44
  rw [pay42_real, pay43_real]
  exact ker_normed x _ _

theorem gain_384 (x : Fin 384 → Fin 384 → ℝ) : (mulf (mat x : FVec Ideal S384x384 .f32) (broadcastTo S384x384 (mat g : FVec Ideal S1x384 .f32) broadcasts_S1x384_S384x384)) = mat fun r l => x r l * g 0 l := by
  refine eq_mat _ _ fun r l => ?_
  pointwise
  exact (EReal.coe_mul _ _).symm

theorem pay45_real : (k0_pay45 (F := Ideal) (mat g) (mat x) : FVec Ideal S384x384 .f32) = mat fun r l => x r l * scl 384 (x r) * g 0 l := by
  unfold k0_pay45
  rw [pay44_real]
  exact gain_384 _ _

theorem pay46_real : k0_pay46 (F := Ideal) (mat z) (mat wq) = mat fun r => nt (z r) wq := by
  refine eq_mat _ _ fun r l => ?_
  unfold k0_pay46
  rw [shapeCast_self, shapeCast_self]
  pointwise
  simp only [← EReal.coe_mul, ← Softmax.coe_sum]
  rfl

theorem pay47_real : k0_pay47 (F := Ideal) (mat g) (mat x) (mat z) (mat wq) = mat fun r => back 384 (x r) fun k => nt (z r) wq k * g 0 k := by
  unfold k0_pay47
  dsimp only
  rw [pay46_real, pay44_real, pay43_real, gain_384]
  exact ker_back _ _ lit_384 (by norm_num) x _ _ _ _ _ _ _

theorem pay48_real : k0_pay48 (F := Ideal) (mat x) (mat z) (mat wq) = mat fun _ l => ∑ r, nt (z r) wq l * (x r l * scl 384 (x r)) := by
  refine eq_mat _ _ fun r l => ?_
  unfold k0_pay48
  rw [pay46_real, pay44_real]
  pointwise
  simp only [← EReal.coe_mul, ← Softmax.coe_sum]
  rfl

theorem pay50_real : k0_pay50 (F := Ideal) (mat y) = mat fun r _ => scl 256 (y r) := by
  unfold k0_pay50
  rw [pay49_real]
  exact ker_scl _ _ lit_256 (by norm_num) y _ _ _ _

theorem pay51_real : k0_pay51 (F := Ideal) (mat y) = mat fun r l => y r l * scl 256 (y r) := by
  unfold k0_pay51
  rw [pay49_real, pay50_real]
  exact ker_normed y _ _

theorem gain_256 (x : Fin 384 → Fin 256 → ℝ) : (mulf (mat x : FVec Ideal S384x256 .f32) (broadcastTo S384x256 (mat e : FVec Ideal S1x256 .f32) broadcasts_S1x256_S384x256)) = mat fun r l => x r l * e 0 l := by
  refine eq_mat _ _ fun r l => ?_
  pointwise
  exact (EReal.coe_mul _ _).symm

theorem pay52_real : (k0_pay52 (F := Ideal) (mat e) (mat y) : FVec Ideal S384x256 .f32) = mat fun r l => y r l * scl 256 (y r) * e 0 l := by
  unfold k0_pay52
  rw [pay51_real]
  exact gain_256 _ _

theorem pay53_real : k0_pay53 (F := Ideal) (mat z) (mat wk) = mat fun r => nt (z r) wk := by
  refine eq_mat _ _ fun r l => ?_
  unfold k0_pay53
  rw [shapeCast_self, shapeCast_self]
  pointwise
  simp only [← EReal.coe_mul, ← Softmax.coe_sum]
  rfl

theorem pay54_real : k0_pay54 (F := Ideal) (mat e) (mat y) (mat z) (mat wk) = mat fun r => back 256 (y r) fun k => nt (z r) wk k * e 0 k := by
  unfold k0_pay54
  dsimp only
  rw [pay53_real, pay51_real, pay50_real, gain_256]
  exact ker_back _ _ lit_256 (by norm_num) y _ _ _ _ _ _ _

theorem pay55_real : k0_pay55 (F := Ideal) (mat y) (mat z) (mat wk) = mat fun _ l => ∑ r, nt (z r) wk l * (y r l * scl 256 (y r)) := by
  refine eq_mat _ _ fun r l => ?_
  unfold k0_pay55
  rw [pay53_real, pay51_real]
  pointwise
  simp only [← EReal.coe_mul, ← Softmax.coe_sum]
  rfl

theorem pay1_eq (x : FVec Ideal S1x384 .f32) (u : Vec Ideal S1x384 .f32) : k0_pay1 (F := Ideal) x u = addf u x := by
  unfold k0_pay1
  rw [shapeCast_self]

theorem pay2_eq (x : FVec Ideal S1x256 .f32) (u : Vec Ideal S1x256 .f32) : k0_pay2 (F := Ideal) x u = addf u x := by
  unfold k0_pay2
  rw [shapeCast_self]

end Cert.MlaKernelIdeal.Hand

end
-- ==== Proof.MlaHost.lean ====
/- The latent attention projections' backward call: the arrays its launch reads, and its blocks. -/
module

public import proofs.«01_k».proof.Defs
public import proofs.«01_k».proof.Proof.Gen.MlaKernelIdeal.Value
public import proofs.«01_k».proof.Proof.MlaPay
public import proofs.«01_k».proof.Proof.Sigmoid
public import Idealize.ShloMosaic.Lib.Pointwise
public import Idealize.ShloMosaic.Lib.Pipeline.Value
public import Idealize.ShloMosaic.Lib.Tactic

@[expose] public section

set_option maxRecDepth 16384

noncomputable section

namespace Cert.MlaKernelIdeal.Hand

open Cert.MlaKernelIdeal Cert.MlaKernelIdeal.Gen Idealize.ShloMosaic Idealize.ShloMosaic.TcCoe Idealize.SL.Sem
open Idealize.ShloMosaic.Pipeline (Dat)
open Cert.Norm

/-! ## The tables of a position -/

/-- The lanes a row keeps: the first 64 as they are, the rotary ones by the cosine. -/
def tabc (c : Fin 16 → ℝ) (l : Fin 128) : ℝ := if l.val < 64 then 1 else if h : l.val < 80 then c ⟨l.val - 64, by omega⟩ else if h : l.val < 96 then c ⟨l.val - 80, by omega⟩ else 0

/-- The sine on the second half of the rotary lanes. -/
def tabhi (s : Fin 16 → ℝ) (l : Fin 128) : ℝ := if l.val < 80 then 0 else if h : l.val < 96 then s ⟨l.val - 80, by omega⟩ else 0

/-- The negative sine on the first half of the rotary lanes. -/
def tablo (s : Fin 16 → ℝ) (l : Fin 128) : ℝ := if l.val < 64 then 0 else if h : l.val < 80 then -s ⟨l.val - 64, by omega⟩ else 0

theorem hz : (![0, 0] : Fin 2 → Nat) = fun _ => 0 := funext fun a => by fin_cases a <;> rfl

variable (m : (ℓ : Loc nD τ sig) → Buf (Elt Ideal) ℓ)

/-! ## The arrays the pipeline reads -/

variable (c : Dev nD)

theorem heads_concat (X : Fin 4112 → Fin 8 → Fin 96 → ℝ) : (transpose S8x4224x128 [1, 0, 2] (concatenate S4224x8x128 0 [⟨S4112x8x128, concatenate S4112x8x128 2 [⟨S4112x8x96, (cub X : FVec Ideal S4112x8x96 .f32)⟩, ⟨S4112x8x32, broadcastInDim S4112x8x32 ![] bcast_S_S4112x8x32 (constant (F := Ideal) S_ .f32 0x00000000#32)⟩] concatenates_S4112x8x96_S4112x8x32_S4112x8x128_d2⟩,
      ⟨S112x8x128, broadcastInDim S112x8x128 ![] bcast_S_S112x8x128 (constant (F := Ideal) S_ .f32 0x00000000#32)⟩] concatenates_S4112x8x128_S112x8x128_S4224x8x128_d0) transposes_S4224x8x128_S8x4224x128_1_0_2)
    = cub fun h => pad fun r => wide (X r h) := by
  refine eq_cub _ _ fun h R l => ?_
  pointwise
  unfold Norm.pad wide
  dsimp only
  split_ifs <;> first | rfl | exact EReal.coe_zero.symm

theorem V_0 (X : Fin 4112 → Fin 8 → Fin 96 → ℝ) (h : (m ((c : Thread nD τ).loc main_arg0) : FVec Ideal S4112x8x96 .f32) = cub X) :
    (V m c main_v4 : Vec Ideal S8x4224x128 .f32) = cub fun h => pad fun r => wide (X r h) := by
  refine Eq.trans ?_ (heads_concat X)
  rw [← h]
  show StableHlo.after (List.flatten [hostOps0]) _ (Proc.devRef .tc main_v4) = _
  simp only [hostOps0, List.flatten_cons, List.flatten_nil, List.append_nil, List.cons_append, List.nil_append]
  after_results
  try rfl

theorem V_1 (X : Fin 4112 → Fin 8 → Fin 96 → ℝ) (h : (m ((c : Thread nD τ).loc main_arg1) : FVec Ideal S4112x8x96 .f32) = cub X) :
    (V m c main_v9 : Vec Ideal S8x4224x128 .f32) = cub fun h => pad fun r => wide (X r h) := by
  refine Eq.trans ?_ (heads_concat X)
  rw [← h]
  show StableHlo.after (List.flatten [hostOps0]) _ (Proc.devRef .tc main_v9) = _
  simp only [hostOps0, List.flatten_cons, List.flatten_nil, List.append_nil, List.cons_append, List.nil_append]
  after_results
  try rfl

theorem flat_rows (X : Fin 4112 → Fin 8 → Fin 64 → ℝ) (h : S4112x8x64.ShapeCasts S4112x512) : (shapeCast S4112x512 (cub X : FVec Ideal S4112x8x64 .f32) h : FVec Ideal S4112x512 .f32) = mat fun r j => X r ⟨j.val / 64, by omega⟩ ⟨j.val % 64, by omega⟩ := by
  refine eq_mat _ _ fun r l => ?_
  pointwise
  rfl

theorem V_2 (X : Fin 4112 → Fin 8 → Fin 64 → ℝ) (h : (m ((c : Thread nD τ).loc main_arg2) : FVec Ideal S4112x8x64 .f32) = cub X) :
    (V m c main_v12 : Vec Ideal S4224x512 .f32) = mat (pad fun r j => X r ⟨j.val / 64, by omega⟩ ⟨j.val % 64, by omega⟩) := by
  refine Eq.trans ?_ ((congrArg (fun z => concatenate S4224x512 0 [⟨S4112x512, z⟩, ⟨S112x512, broadcastInDim S112x512 ![] bcast_S_S112x512 (constant (F := Ideal) S_ .f32 0x00000000#32)⟩] concatenates_S4112x512_S112x512_S4224x512_d0) (flat_rows X shapeCasts_S4112x8x64_S4112x512)).trans (pad_concat _ bcast_S_S112x512 concatenates_S4112x512_S112x512_S4224x512_d0))
  rw [← h]
  show StableHlo.after (List.flatten [hostOps0]) _ (Proc.devRef .tc main_v12) = _
  simp only [hostOps0, List.flatten_cons, List.flatten_nil, List.append_nil, List.cons_append, List.nil_append]
  after_results
  try rfl

theorem V_3 (X : Fin 4112 → Fin 384 → ℝ) (h : (m ((c : Thread nD τ).loc main_arg3) : FVec Ideal S4112x384 .f32) = mat X) :
    (V m c main_v14 : Vec Ideal S4224x384 .f32) = mat (pad X) := by
  refine Eq.trans ?_ (pad_concat X bcast_S_S112x384 concatenates_S4112x384_S112x384_S4224x384_d0)
  rw [← h]
  show StableHlo.after (List.flatten [hostOps0]) _ (Proc.devRef .tc main_v14) = _
  simp only [hostOps0, List.flatten_cons, List.flatten_nil, List.append_nil, List.cons_append, List.nil_append]
  after_results
  try rfl

theorem V_4 (X : Fin 4112 → Fin 256 → ℝ) (h : (m ((c : Thread nD τ).loc main_arg4) : FVec Ideal S4112x256 .f32) = mat X) :
    (V m c main_v16 : Vec Ideal S4224x256 .f32) = mat (pad X) := by
  refine Eq.trans ?_ (pad_concat X bcast_S_S112x256 concatenates_S4112x256_S112x256_S4224x256_d0)
  rw [← h]
  show StableHlo.after (List.flatten [hostOps0]) _ (Proc.devRef .tc main_v16) = _
  simp only [hostOps0, List.flatten_cons, List.flatten_nil, List.append_nil, List.cons_append, List.nil_append]
  after_results
  try rfl

theorem V_5 (G : Fin 384 → ℝ) (h : (m ((c : Thread nD τ).loc main_arg7) : FVec Ideal S384 .f32) = vec G) :
    (V m c main_v17 : Vec Ideal S1x384 .f32) = mat fun _ => G := by
  have e : (shapeCast S1x384 (vec G : FVec Ideal S384 .f32) rfl : FVec Ideal S1x384 .f32) = mat fun _ => G := by
    refine eq_mat _ _ fun r l => ?_
    pointwise
    try rfl
  refine Eq.trans ?_ (e)
  rw [← h]
  show StableHlo.after (List.flatten [hostOps0]) _ (Proc.devRef .tc main_v17) = _
  simp only [hostOps0, List.flatten_cons, List.flatten_nil, List.append_nil, List.cons_append, List.nil_append]
  after_results
  try rfl

theorem V_6 (G : Fin 256 → ℝ) (h : (m ((c : Thread nD τ).loc main_arg8) : FVec Ideal S256 .f32) = vec G) :
    (V m c main_v18 : Vec Ideal S1x256 .f32) = mat fun _ => G := by
  have e : (shapeCast S1x256 (vec G : FVec Ideal S256 .f32) rfl : FVec Ideal S1x256 .f32) = mat fun _ => G := by
    refine eq_mat _ _ fun r l => ?_
    pointwise
    try rfl
  refine Eq.trans ?_ (e)
  rw [← h]
  show StableHlo.after (List.flatten [hostOps0]) _ (Proc.devRef .tc main_v18) = _
  simp only [hostOps0, List.flatten_cons, List.flatten_nil, List.append_nil, List.cons_append, List.nil_append]
  after_results
  try rfl

theorem weight_lanes (W : Fin 384 → Fin 768 → ℝ) : (shapeCast S384x1024 (concatenate S384x8x128 2 [⟨S384x8x96, shapeCast S384x8x96 (mat W : FVec Ideal S384x768 .f32) shapeCasts_S384x768_S384x8x96⟩, ⟨S384x8x32, broadcastInDim S384x8x32 ![] bcast_S_S384x8x32 (constant (F := Ideal) S_ .f32 0x00000000#32)⟩] concatenates_S384x8x96_S384x8x32_S384x8x128_d2) shapeCasts_S384x8x128_S384x1024 : FVec Ideal S384x1024 .f32)
    = mat fun l => heads fun h => wide fun e => W l ⟨h.val * 96 + e.val, by omega⟩ := by
  refine eq_mat _ _ fun r l => ?_
  pointwise
  unfold heads wide
  dsimp only
  split_ifs <;> first | rfl | exact EReal.coe_zero.symm

theorem V_7 (W : Fin 384 → Fin 768 → ℝ) (h : (m ((c : Thread nD τ).loc main_arg9) : FVec Ideal S384x768 .f32) = mat W) :
    (V m c main_v23 : Vec Ideal S384x1024 .bf16) = mat fun l => heads fun h => wide fun e => W l ⟨h.val * 96 + e.val, by omega⟩ := by
  refine Eq.trans ?_ (weight_lanes W)
  rw [← h]
  show StableHlo.after (List.flatten [hostOps0]) _ (Proc.devRef .tc main_v23) = _
  simp only [hostOps0, List.flatten_cons, List.flatten_nil, List.append_nil, List.cons_append, List.nil_append]
  after_results
  try rfl

theorem V_8 (X : Fin 256 → Fin 1024 → ℝ) (h : (m ((c : Thread nD τ).loc main_arg10) : FVec Ideal S256x1024 .f32) = mat X) :
    (V m c main_v24 : Vec Ideal S256x1024 .bf16) = mat X := by
  refine Eq.trans ?_ (rfl)
  rw [← h]
  show StableHlo.after (List.flatten [hostOps0]) _ (Proc.devRef .tc main_v24) = _
  simp only [hostOps0, List.flatten_cons, List.flatten_nil, List.append_nil, List.cons_append, List.nil_append]
  after_results
  try rfl

theorem tabc_concat (P : Fin 4224 → Fin 16 → ℝ) : (concatenate S4224x128 1 [⟨S4224x64, broadcastInDim S4224x64 ![] bcast_S_S4224x64 (constant (F := Ideal) S_ .f32 0x3F800000#32)⟩, ⟨S4224x16, (mat P : FVec Ideal S4224x16 .f32)⟩, ⟨S4224x16, (mat P : FVec Ideal S4224x16 .f32)⟩, ⟨S4224x32, broadcastInDim S4224x32 ![] bcast_S_S4224x32 (constant (F := Ideal) S_ .f32 0x00000000#32)⟩] concatenates_S4224x64_S4224x16_S4224x16_S4224x32_S4224x128_d1 : FVec Ideal S4224x128 .f32) = mat fun R => tabc (P R) := by
  refine eq_mat _ _ fun R l => ?_
  pointwise
  unfold tabc
  split_ifs <;> first | rfl | exact EReal.coe_zero.symm | exact lit_one | (exfalso; omega) | (rw [dif_pos (by omega)]; rfl) | (rw [dif_neg (by omega), dif_pos (by omega)]; rfl)

theorem V_9 (X : Fin 4112 → Fin 16 → ℝ) (h : (m ((c : Thread nD τ).loc main_arg5) : FVec Ideal S4112x16 .f32) = mat X) :
    (V m c main_v31 : Vec Ideal S4224x128 .f32) = mat fun R => tabc (pad X R) := by
  refine Eq.trans ?_ ((congrArg (fun z : FVec Ideal S4224x16 .f32 => (concatenate S4224x128 1 [⟨S4224x64, broadcastInDim S4224x64 ![] bcast_S_S4224x64 (constant (F := Ideal) S_ .f32 0x3F800000#32)⟩, ⟨S4224x16, z⟩, ⟨S4224x16, z⟩, ⟨S4224x32, broadcastInDim S4224x32 ![] bcast_S_S4224x32 (constant (F := Ideal) S_ .f32 0x00000000#32)⟩] concatenates_S4224x64_S4224x16_S4224x16_S4224x32_S4224x128_d1 : FVec Ideal S4224x128 .f32)) (pad_concat X bcast_S_S112x16 concatenates_S4112x16_S112x16_S4224x16_d0)).trans (tabc_concat _))
  rw [← h]
  show StableHlo.after (List.flatten [hostOps0]) _ (Proc.devRef .tc main_v31) = _
  simp only [hostOps0, List.flatten_cons, List.flatten_nil, List.append_nil, List.cons_append, List.nil_append]
  after_results
  try rfl

theorem tabhi_concat (P : Fin 4224 → Fin 16 → ℝ) : (concatenate S4224x128 1 [⟨S4224x80, broadcastInDim S4224x80 ![] bcast_S_S4224x80 (constant (F := Ideal) S_ .f32 0x00000000#32)⟩, ⟨S4224x16, (mat P : FVec Ideal S4224x16 .f32)⟩, ⟨S4224x32, broadcastInDim S4224x32 ![] bcast_S_S4224x32 (constant (F := Ideal) S_ .f32 0x00000000#32)⟩] concatenates_S4224x80_S4224x16_S4224x32_S4224x128_d1 : FVec Ideal S4224x128 .f32) = mat fun R => tabhi (P R) := by
  refine eq_mat _ _ fun R l => ?_
  pointwise
  unfold tabhi
  split_ifs <;> first | rfl | exact EReal.coe_zero.symm | exact lit_one | (exfalso; omega) | (rw [dif_pos (by omega)]; rfl) | (rw [dif_neg (by omega), dif_pos (by omega)]; rfl)

theorem V_10 (X : Fin 4112 → Fin 16 → ℝ) (h : (m ((c : Thread nD τ).loc main_arg6) : FVec Ideal S4112x16 .f32) = mat X) :
    (V m c main_v34 : Vec Ideal S4224x128 .f32) = mat fun R => tabhi (pad X R) := by
  refine Eq.trans ?_ ((congrArg (fun z : FVec Ideal S4224x16 .f32 => (concatenate S4224x128 1 [⟨S4224x80, broadcastInDim S4224x80 ![] bcast_S_S4224x80 (constant (F := Ideal) S_ .f32 0x00000000#32)⟩, ⟨S4224x16, z⟩, ⟨S4224x32, broadcastInDim S4224x32 ![] bcast_S_S4224x32 (constant (F := Ideal) S_ .f32 0x00000000#32)⟩] concatenates_S4224x80_S4224x16_S4224x32_S4224x128_d1 : FVec Ideal S4224x128 .f32)) (pad_concat X bcast_S_S112x16 concatenates_S4112x16_S112x16_S4224x16_d0)).trans (tabhi_concat _))
  rw [← h]
  show StableHlo.after (List.flatten [hostOps0]) _ (Proc.devRef .tc main_v34) = _
  simp only [hostOps0, List.flatten_cons, List.flatten_nil, List.append_nil, List.cons_append, List.nil_append]
  after_results
  try rfl

theorem tablo_concat (P : Fin 4224 → Fin 16 → ℝ) : (concatenate S4224x128 1 [⟨S4224x64, broadcastInDim S4224x64 ![] bcast_S_S4224x64 (constant (F := Ideal) S_ .f32 0x00000000#32)⟩, ⟨S4224x16, Host.negf (mat P : FVec Ideal S4224x16 .f32)⟩, ⟨S4224x48, broadcastInDim S4224x48 ![] bcast_S_S4224x48 (constant (F := Ideal) S_ .f32 0x00000000#32)⟩] concatenates_S4224x64_S4224x16_S4224x48_S4224x128_d1 : FVec Ideal S4224x128 .f32) = mat fun R => tablo (P R) := by
  refine eq_mat _ _ fun R l => ?_
  pointwise
  unfold tablo
  split_ifs <;> first | rfl | exact EReal.coe_zero.symm | exact lit_one | (exfalso; omega) | (rw [dif_pos (by omega)]; rfl) | (rw [dif_neg (by omega), dif_pos (by omega)]; rfl)

theorem V_11 (X : Fin 4112 → Fin 16 → ℝ) (h : (m ((c : Thread nD τ).loc main_arg6) : FVec Ideal S4112x16 .f32) = mat X) :
    (V m c main_v38 : Vec Ideal S4224x128 .f32) = mat fun R => tablo (pad X R) := by
  refine Eq.trans ?_ ((congrArg (fun z : FVec Ideal S4224x16 .f32 => (concatenate S4224x128 1 [⟨S4224x64, broadcastInDim S4224x64 ![] bcast_S_S4224x64 (constant (F := Ideal) S_ .f32 0x00000000#32)⟩, ⟨S4224x16, Host.negf (z)⟩, ⟨S4224x48, broadcastInDim S4224x48 ![] bcast_S_S4224x48 (constant (F := Ideal) S_ .f32 0x00000000#32)⟩] concatenates_S4224x64_S4224x16_S4224x48_S4224x128_d1 : FVec Ideal S4224x128 .f32)) (pad_concat X bcast_S_S112x16 concatenates_S4112x16_S112x16_S4224x16_d0)).trans (tablo_concat _))
  rw [← h]
  show StableHlo.after (List.flatten [hostOps0]) _ (Proc.devRef .tc main_v38) = _
  simp only [hostOps0, List.flatten_cons, List.flatten_nil, List.append_nil, List.cons_append, List.nil_append]
  after_results
  try rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

/-- The place of row `R` in its block. -/
abbrev inBlk (R : Fin 4224) : Fin 384 := ⟨R.val % 384, Nat.mod_lt _ (by decide)⟩

theorem rowAt_ptOf (R : Fin 4224) : rowAt (ptOf R) (inBlk R) = R := Fin.ext (by show 384 * (R.val / 384) + R.val % 384 = R.val; omega)

theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = t.val ∧ win0_4.index t 1 = 0 :=
  (by decide +kernel : ∀ t : Fin grid0.N, win0_4.index t 0 = t.val ∧ win0_4.index t 1 = 0) t
theorem index9 (t : Fin cfg0.N) : win0_9.index t 0 = t.val ∧ win0_9.index t 1 = 0 :=
  (by decide +kernel : ∀ t : Fin grid0.N, win0_9.index t 0 = t.val ∧ win0_9.index t 1 = 0) t
theorem index10 (t : Fin cfg0.N) : win0_10.index t 0 = t.val ∧ win0_10.index t 1 = 0 :=
  (by decide +kernel : ∀ t : Fin grid0.N, win0_10.index t 0 = t.val ∧ win0_10.index t 1 = 0) t
theorem index11 (t : Fin cfg0.N) : win0_11.index t 0 = t.val ∧ win0_11.index t 1 = 0 :=
  (by decide +kernel : ∀ t : Fin grid0.N, win0_11.index t 0 = t.val ∧ win0_11.index t 1 = 0) t
theorem index12 (t : Fin cfg0.N) : win0_12.index t 0 = t.val ∧ win0_12.index t 1 = 0 :=
  (by decide +kernel : ∀ t : Fin grid0.N, win0_12.index t 0 = t.val ∧ win0_12.index t 1 = 0) t
theorem index13 (t : Fin cfg0.N) : win0_13.index t 0 = t.val ∧ win0_13.index t 1 = 0 :=
  (by decide +kernel : ∀ t : Fin grid0.N, win0_13.index t 0 = t.val ∧ win0_13.index t 1 = 0) t
theorem index14 (t : Fin cfg0.N) : win0_14.index t 0 = t.val ∧ win0_14.index t 1 = 0 :=
  (by decide +kernel : ∀ t : Fin grid0.N, win0_14.index t 0 = t.val ∧ win0_14.index t 1 = 0) t
theorem index15 (t : Fin cfg0.N) : win0_15.index t 0 = t.val ∧ win0_15.index t 1 = 0 :=
  (by decide +kernel : ∀ t : Fin grid0.N, win0_15.index t 0 = t.val ∧ win0_15.index t 1 = 0) t
theorem index16 (t : Fin cfg0.N) : win0_16.index t 0 = t.val ∧ win0_16.index t 1 = 0 :=
  (by decide +kernel : ∀ t : Fin grid0.N, win0_16.index t 0 = t.val ∧ win0_16.index t 1 = 0) t
theorem index17 (t : Fin cfg0.N) : win0_17.index t 0 = t.val ∧ win0_17.index t 1 = 0 :=
  (by decide +kernel : ∀ t : Fin grid0.N, win0_17.index t 0 = t.val ∧ win0_17.index t 1 = 0) t
theorem index18 (t : Fin cfg0.N) : win0_18.index t 0 = t.val ∧ win0_18.index t 1 = 0 :=
  (by decide +kernel : ∀ t : Fin grid0.N, win0_18.index t 0 = t.val ∧ win0_18.index t 1 = 0) t
theorem index5 (t : Fin cfg0.N) : win0_5.index t 0 = 0 ∧ win0_5.index t 1 = 0 :=
  (by decide +kernel : ∀ t : Fin grid0.N, win0_5.index t 0 = 0 ∧ win0_5.index t 1 = 0) t
theorem index6 (t : Fin cfg0.N) : win0_6.index t 0 = 0 ∧ win0_6.index t 1 = 0 :=
  (by decide +kernel : ∀ t : Fin grid0.N, win0_6.index t 0 = 0 ∧ win0_6.index t 1 = 0) t
theorem index7 (t : Fin cfg0.N) : win0_7.index t 0 = 0 ∧ win0_7.index t 1 = 0 :=
  (by decide +kernel : ∀ t : Fin grid0.N, win0_7.index t 0 = 0 ∧ win0_7.index t 1 = 0) t
theorem index8 (t : Fin cfg0.N) : win0_8.index t 0 = 0 ∧ win0_8.index t 1 = 0 :=
  (by decide +kernel : ∀ t : Fin grid0.N, win0_8.index t 0 = 0 ∧ win0_8.index t 1 = 0) t
theorem index19 (t : Fin cfg0.N) : win0_19.index t 0 = 0 ∧ win0_19.index t 1 = 0 :=
  (by decide +kernel : ∀ t : Fin grid0.N, win0_19.index t 0 = 0 ∧ win0_19.index t 1 = 0) t
theorem index20 (t : Fin cfg0.N) : win0_20.index t 0 = 0 ∧ win0_20.index t 1 = 0 :=
  (by decide +kernel : ∀ t : Fin grid0.N, win0_20.index t 0 = 0 ∧ win0_20.index t 1 = 0) t
theorem index0 (t : Fin cfg0.N) : win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0) t
theorem index1 (t : Fin cfg0.N) : win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0) t

theorem iblk0_real (t : Fin cfg0.N) (X : Fin 8 → Fin 4224 → Fin 128 → ℝ) (h : (V m c main_v4 : Vec Ideal S8x4224x128 .f32) = cub X) :
    (iblk m c 0 t : Vec Ideal S8x384x128 .f32) = cub fun h r => X h (rowAt t r) := by
  funext i; rw [eq_ix3 i]; generalize i 0 = k; generalize i 1 = r; generalize i 2 = l
  refine (View.read_apply ..).trans ((congrArg (V m c main_v4 : Vec Ideal S8x4224x128 .f32) (funext fun a => Fin.ext ?_ : _ = ix3 k (rowAt t r) l)).trans (congrFun h _))
  match a with
  | ⟨0, _⟩ => show win0_0.index t 0 * 8 + 1 * k.val = k.val; rw [(index0 t).1]; omega
  | ⟨1, _⟩ => show win0_0.index t 1 * 384 + 1 * r.val = 384 * t.val + r.val; rw [(index0 t).2.1]; omega
  | ⟨2, _⟩ => show win0_0.index t 2 * 128 + 1 * l.val = l.val; rw [(index0 t).2.2]; omega

theorem iblk1_real (t : Fin cfg0.N) (X : Fin 8 → Fin 4224 → Fin 128 → ℝ) (h : (V m c main_v9 : Vec Ideal S8x4224x128 .f32) = cub X) :
    (iblk m c 1 t : Vec Ideal S8x384x128 .f32) = cub fun h r => X h (rowAt t r) := by
  funext i; rw [eq_ix3 i]; generalize i 0 = k; generalize i 1 = r; generalize i 2 = l
  refine (View.read_apply ..).trans ((congrArg (V m c main_v9 : Vec Ideal S8x4224x128 .f32) (funext fun a => Fin.ext ?_ : _ = ix3 k (rowAt t r) l)).trans (congrFun h _))
  match a with
  | ⟨0, _⟩ => show win0_1.index t 0 * 8 + 1 * k.val = k.val; rw [(index1 t).1]; omega
  | ⟨1, _⟩ => show win0_1.index t 1 * 384 + 1 * r.val = 384 * t.val + r.val; rw [(index1 t).2.1]; omega
  | ⟨2, _⟩ => show win0_1.index t 2 * 128 + 1 * l.val = l.val; rw [(index1 t).2.2]; omega

theorem iblk2_real (t : Fin cfg0.N) (X : Fin 4224 → Fin 512 → ℝ) (h : (V m c main_v12 : Vec Ideal S4224x512 .f32) = mat X) :
    (iblk m c 2 t : Vec Ideal S384x512 .f32) = mat fun r => X (rowAt t r) := by
  funext i; rw [eq_ix2 i]; generalize i 0 = r; generalize i 1 = l
  refine (View.read_apply ..).trans ((congrArg (V m c main_v12 : Vec Ideal S4224x512 .f32) (funext fun a => Fin.ext ?_ : _ = ix2 (rowAt t r) l)).trans (congrFun h _))
  match a with
  | ⟨0, _⟩ => show win0_2.index t 0 * 384 + 1 * r.val = 384 * t.val + r.val; rw [(index2 t).1]; omega
  | ⟨1, _⟩ => show win0_2.index t 1 * 512 + 1 * l.val = l.val; rw [(index2 t).2]; omega

theorem iblk3_real (t : Fin cfg0.N) (X : Fin 4224 → Fin 384 → ℝ) (h : (V m c main_v14 : Vec Ideal S4224x384 .f32) = mat X) :
    (iblk m c 3 t : Vec Ideal S384x384 .f32) = mat fun r => X (rowAt t r) := by
  funext i; rw [eq_ix2 i]; generalize i 0 = r; generalize i 1 = l
  refine (View.read_apply ..).trans ((congrArg (V m c main_v14 : Vec Ideal S4224x384 .f32) (funext fun a => Fin.ext ?_ : _ = ix2 (rowAt t r) l)).trans (congrFun h _))
  match a with
  | ⟨0, _⟩ => show win0_3.index t 0 * 384 + 1 * r.val = 384 * t.val + r.val; rw [(index3 t).1]; omega
  | ⟨1, _⟩ => show win0_3.index t 1 * 384 + 1 * l.val = l.val; rw [(index3 t).2]; omega

theorem iblk4_real (t : Fin cfg0.N) (X : Fin 4224 → Fin 256 → ℝ) (h : (V m c main_v16 : Vec Ideal S4224x256 .f32) = mat X) :
    (iblk m c 4 t : Vec Ideal S384x256 .f32) = mat fun r => X (rowAt t r) := by
  funext i; rw [eq_ix2 i]; generalize i 0 = r; generalize i 1 = l
  refine (View.read_apply ..).trans ((congrArg (V m c main_v16 : Vec Ideal S4224x256 .f32) (funext fun a => Fin.ext ?_ : _ = ix2 (rowAt t r) l)).trans (congrFun h _))
  match a with
  | ⟨0, _⟩ => show win0_4.index t 0 * 384 + 1 * r.val = 384 * t.val + r.val; rw [(index4 t).1]; omega
  | ⟨1, _⟩ => show win0_4.index t 1 * 256 + 1 * l.val = l.val; rw [(index4 t).2]; omega

theorem iblk9_real (t : Fin cfg0.N) (X : Fin 4224 → Fin 128 → ℝ) (h : (V m c main_v31 : Vec Ideal S4224x128 .f32) = mat X) :
    (iblk m c 9 t : Vec Ideal S384x128 .f32) = mat fun r => X (rowAt t r) := by
  funext i; rw [eq_ix2 i]; generalize i 0 = r; generalize i 1 = l
  refine (View.read_apply ..).trans ((congrArg (V m c main_v31 : Vec Ideal S4224x128 .f32) (funext fun a => Fin.ext ?_ : _ = ix2 (rowAt t r) l)).trans (congrFun h _))
  match a with
  | ⟨0, _⟩ => show win0_9.index t 0 * 384 + 1 * r.val = 384 * t.val + r.val; rw [(index9 t).1]; omega
  | ⟨1, _⟩ => show win0_9.index t 1 * 128 + 1 * l.val = l.val; rw [(index9 t).2]; omega

theorem iblk10_real (t : Fin cfg0.N) (X : Fin 4224 → Fin 128 → ℝ) (h : (V m c main_v34 : Vec Ideal S4224x128 .f32) = mat X) :
    (iblk m c 10 t : Vec Ideal S384x128 .f32) = mat fun r => X (rowAt t r) := by
  funext i; rw [eq_ix2 i]; generalize i 0 = r; generalize i 1 = l
  refine (View.read_apply ..).trans ((congrArg (V m c main_v34 : Vec Ideal S4224x128 .f32) (funext fun a => Fin.ext ?_ : _ = ix2 (rowAt t r) l)).trans (congrFun h _))
  match a with
  | ⟨0, _⟩ => show win0_10.index t 0 * 384 + 1 * r.val = 384 * t.val + r.val; rw [(index10 t).1]; omega
  | ⟨1, _⟩ => show win0_10.index t 1 * 128 + 1 * l.val = l.val; rw [(index10 t).2]; omega

theorem iblk11_real (t : Fin cfg0.N) (X : Fin 4224 → Fin 128 → ℝ) (h : (V m c main_v38 : Vec Ideal S4224x128 .f32) = mat X) :
    (iblk m c 11 t : Vec Ideal S384x128 .f32) = mat fun r => X (rowAt t r) := by
  funext i; rw [eq_ix2 i]; generalize i 0 = r; generalize i 1 = l
  refine (View.read_apply ..).trans ((congrArg (V m c main_v38 : Vec Ideal S4224x128 .f32) (funext fun a => Fin.ext ?_ : _ = ix2 (rowAt t r) l)).trans (congrFun h _))
  match a with
  | ⟨0, _⟩ => show win0_11.index t 0 * 384 + 1 * r.val = 384 * t.val + r.val; rw [(index11 t).1]; omega
  | ⟨1, _⟩ => show win0_11.index t 1 * 128 + 1 * l.val = l.val; rw [(index11 t).2]; omega

theorem iblk5_real (t : Fin cfg0.N) (X : Fin 1 → Fin 384 → ℝ) (h : (V m c main_v17 : Vec Ideal S1x384 .f32) = mat X) :
    (iblk m c 5 t : Vec Ideal S1x384 .f32) = mat X := by
  funext i; rw [eq_ix2 i]; generalize i 0 = r; generalize i 1 = l
  refine (View.read_apply ..).trans ((congrArg (V m c main_v17 : Vec Ideal S1x384 .f32) (funext fun a => Fin.ext ?_ : _ = ix2 r l)).trans (congrFun h _))
  match a with
  | ⟨0, _⟩ => show win0_5.index t 0 * 1 + 1 * r.val = r.val; rw [(index5 t).1]; omega
  | ⟨1, _⟩ => show win0_5.index t 1 * 384 + 1 * l.val = l.val; rw [(index5 t).2]; omega

theorem iblk6_real (t : Fin cfg0.N) (X : Fin 1 → Fin 256 → ℝ) (h : (V m c main_v18 : Vec Ideal S1x256 .f32) = mat X) :
    (iblk m c 6 t : Vec Ideal S1x256 .f32) = mat X := by
  funext i; rw [eq_ix2 i]; generalize i 0 = r; generalize i 1 = l
  refine (View.read_apply ..).trans ((congrArg (V m c main_v18 : Vec Ideal S1x256 .f32) (funext fun a => Fin.ext ?_ : _ = ix2 r l)).trans (congrFun h _))
  match a with
  | ⟨0, _⟩ => show win0_6.index t 0 * 1 + 1 * r.val = r.val; rw [(index6 t).1]; omega
  | ⟨1, _⟩ => show win0_6.index t 1 * 256 + 1 * l.val = l.val; rw [(index6 t).2]; omega

theorem iblk7_real (t : Fin cfg0.N) (X : Fin 384 → Fin 1024 → ℝ) (h : (V m c main_v23 : Vec Ideal S384x1024 .bf16) = mat X) :
    (iblk m c 7 t : Vec Ideal S384x1024 .bf16) = mat X := by
  funext i; rw [eq_ix2 i]; generalize i 0 = r; generalize i 1 = l
  refine (View.read_apply ..).trans ((congrArg (V m c main_v23 : Vec Ideal S384x1024 .bf16) (funext fun a => Fin.ext ?_ : _ = ix2 r l)).trans (congrFun h _))
  match a with
  | ⟨0, _⟩ => show win0_7.index t 0 * 384 + 1 * r.val = r.val; rw [(index7 t).1]; omega
  | ⟨1, _⟩ => show win0_7.index t 1 * 1024 + 1 * l.val = l.val; rw [(index7 t).2]; omega

theorem iblk8_real (t : Fin cfg0.N) (X : Fin 256 → Fin 1024 → ℝ) (h : (V m c main_v24 : Vec Ideal S256x1024 .bf16) = mat X) :
    (iblk m c 8 t : Vec Ideal S256x1024 .bf16) = mat X := by
  funext i; rw [eq_ix2 i]; generalize i 0 = r; generalize i 1 = l
  refine (View.read_apply ..).trans ((congrArg (V m c main_v24 : Vec Ideal S256x1024 .bf16) (funext fun a => Fin.ext ?_ : _ = ix2 r l)).trans (congrFun h _))
  match a with
  | ⟨0, _⟩ => show win0_8.index t 0 * 256 + 1 * r.val = r.val; rw [(index8 t).1]; omega
  | ⟨1, _⟩ => show win0_8.index t 1 * 1024 + 1 * l.val = l.val; rw [(index8 t).2]; omega

end Cert.MlaKernelIdeal.Hand

end
-- ==== Proof.MlaHeads.lean ====
/- The latent attention projections' backward call: the loads and the stores of the heads. -/
module

public import proofs.«01_k».proof.Defs
public import proofs.«01_k».proof.Proof.MlaHost
public import Idealize.ShloMosaic.Lib.Pointwise
public import Idealize.ShloMosaic.Lib.Pipeline.Value
public import Idealize.ShloMosaic.Lib.Tactic

@[expose] public section

set_option maxRecDepth 16384

noncomputable section

namespace Cert.MlaKernelIdeal.Hand

open Cert.MlaKernelIdeal Cert.MlaKernelIdeal.Gen Idealize.ShloMosaic Idealize.ShloMosaic.TcCoe Idealize.SL.Sem
open Idealize.ShloMosaic.Pipeline (Dat)
open Cert.Norm

/-- The load of one head of a stack of heads. -/
theorem ld_head (X : Fin 8 → Fin 384 → Fin 128 → ℝ) (h : Fin 8) (inb) :
    View.ld (Val := Elt Ideal) (e' := .f32) (S := S8x384x128) (cub X : Vec Ideal S8x384x128 .f32) (Rect.unit (s := S8x384x128) ![h.val, 0, 0] ![1, 384, 128] inb) = (cub fun (_ : Fin 1) r => X h r : Vec Ideal S1x384x128 .f32) := by
  funext x
  refine congrArg ((↑) : ℝ → EReal) ?_
  have h0 : (x 0 : Nat) < 1 := (x 0).isLt
  refine congr (congrArg₂ X (Fin.ext ?_) (Fin.ext ?_)) (Fin.ext ?_)
  · show h.val + 1 * (x 0).val = h.val; omega
  · show 0 + 1 * (x 1).val = (x 1).val; omega
  · show 0 + 1 * (x 2).val = (x 2).val; omega

/-- The load of two heads' values. -/
theorem ld_pair (X : Fin 384 → Fin 512 → ℝ) (q : Fin 4) (inb) :
    View.ld (Val := Elt Ideal) (e' := .f32) (S := S384x512) (mat X : Vec Ideal S384x512 .f32) (Rect.unit (s := S384x512) ![0, 128 * q.val] ![384, 128] inb) = (mat fun r l => X r ⟨128 * q.val + l.val, by omega⟩ : Vec Ideal S384x128 .f32) := by
  funext x
  refine congrArg ((↑) : ℝ → EReal) (congrArg₂ X (Fin.ext ?_) (Fin.ext ?_))
  · show 0 + 1 * (x 0).val = (x 0).val; omega
  · show 128 * q.val + 1 * (x 1).val = 128 * q.val + (x 1).val; omega

/-- The eight heads' stores leave the array they are the columns of. -/
theorem canon_eight (P : Fin 8 → Fin 384 → Fin 128 → ℝ) (p0 p1 p2 p3 p4 p5 p6 p7 : Vec Ideal S384x128 .bf16) (i0 i1 i2 i3 i4 i5 i6 i7)
    (h0 : p0 = mat (P 0)) (h1 : p1 = mat (P 1)) (h2 : p2 = mat (P 2)) (h3 : p3 = mat (P 3)) (h4 : p4 = mat (P 4)) (h5 : p5 = mat (P 5)) (h6 : p6 = mat (P 6)) (h7 : p7 = mat (P 7)) :
    View.canon (Val := Elt Ideal) (s := S384x1024) (e := .bf16) [⟨Rect.unit ![0, 896] ![384, 128] i7, p7⟩, ⟨Rect.unit ![0, 768] ![384, 128] i6, p6⟩, ⟨Rect.unit ![0, 640] ![384, 128] i5, p5⟩, ⟨Rect.unit ![0, 512] ![384, 128] i4, p4⟩, ⟨Rect.unit ![0, 384] ![384, 128] i3, p3⟩, ⟨Rect.unit ![0, 256] ![384, 128] i2, p2⟩, ⟨Rect.unit ![0, 128] ![384, 128] i1, p1⟩, ⟨Rect.unit ![0, 0] ![384, 128] i0, p0⟩] = mat fun r => heads fun h => P h r := by
  subst h0 h1 h2 h3 h4 h5 h6 h7
  funext y
  refine View.canon_apply_of_pieces (Val := Elt Ideal) (S := S384x1024) (e := .bf16) (mat fun r => heads fun h => P h r) _ (fun p hp x => ?_) y ?_
  · have key : ∀ (k : Fin 8) (inb) (x : (S384x128).Idx), (mat (P k) : Vec Ideal S384x128 .bf16) x = (mat fun r => heads fun h => P h r : Vec Ideal S384x1024 .bf16) ((Rect.unit (s := S384x1024) ![0, 128 * k.val] ![384, 128] inb).emb x) := by
      intro k inb x
      have h1 : (x 1 : Nat) < 128 := (x 1).isLt
      refine congrArg ((↑) : ℝ → EReal) ?_
      show _ = P ⟨(128 * k.val + 1 * (x 1).val) / 128, _⟩ ⟨0 + 1 * (x 0).val, _⟩ ⟨(128 * k.val + 1 * (x 1).val) % 128, _⟩
      refine congr (congrArg₂ P (Fin.ext ?_) (Fin.ext ?_)) (Fin.ext ?_)
      · show k.val = (128 * k.val + 1 * (x 1).val) / 128; omega
      · show (x 0).val = 0 + 1 * (x 0).val; omega
      · show (x 1).val = (128 * k.val + 1 * (x 1).val) % 128; omega
    simp only [List.mem_cons, List.not_mem_nil, or_false] at hp
    rcases hp with rfl | rfl | rfl | rfl | rfl | rfl | rfl | rfl
    exacts [key 7 i7 x, key 6 i6 x, key 5 i5 x, key 4 i4 x, key 3 i3 x, key 2 i2 x, key 1 i1 x, key 0 i0 x]
  · have h0 : (y 0 : Nat) < 384 := (y 0).isLt
    have h1 : (y 1 : Nat) < 1024 := (y 1).isLt
    have key : ∀ (k : ℕ) (inb), 128 * k ≤ (y 1 : Nat) → (y 1 : Nat) < 128 * k + 128 → y ∈ (Rect.unit (s := S384x1024) ![0, 128 * k] ![384, 128] inb).set := by
      intro k inb ha hb
      rw [Rect.mem_set_unit]
      intro a
      match a with
      | ⟨0, _⟩ => show 0 ≤ (y 0 : Nat) ∧ (y 0 : Nat) < 0 + 384; omega
      | ⟨1, _⟩ => exact ⟨ha, hb⟩
    simp only [List.mem_cons, List.not_mem_nil, or_false, exists_eq_or_imp, exists_eq_left]
    have hc : (128 * 7 ≤ (y 1 : Nat) ∧ (y 1 : Nat) < 128 * 7 + 128) ∨ (128 * 6 ≤ (y 1 : Nat) ∧ (y 1 : Nat) < 128 * 6 + 128) ∨ (128 * 5 ≤ (y 1 : Nat) ∧ (y 1 : Nat) < 128 * 5 + 128) ∨ (128 * 4 ≤ (y 1 : Nat) ∧ (y 1 : Nat) < 128 * 4 + 128) ∨ (128 * 3 ≤ (y 1 : Nat) ∧ (y 1 : Nat) < 128 * 3 + 128) ∨ (128 * 2 ≤ (y 1 : Nat) ∧ (y 1 : Nat) < 128 * 2 + 128) ∨ (128 * 1 ≤ (y 1 : Nat) ∧ (y 1 : Nat) < 128 * 1 + 128) ∨ (128 * 0 ≤ (y 1 : Nat) ∧ (y 1 : Nat) < 128 * 0 + 128) := by omega
    rcases hc with h | h | h | h | h | h | h | h
    exacts [.inl (key 7 i7 h.1 h.2), .inr (.inl (key 6 i6 h.1 h.2)), .inr (.inr (.inl (key 5 i5 h.1 h.2))), .inr (.inr (.inr (.inl (key 4 i4 h.1 h.2)))), .inr (.inr (.inr (.inr (.inl (key 3 i3 h.1 h.2))))), .inr (.inr (.inr (.inr (.inr (.inl (key 2 i2 h.1 h.2)))))), .inr (.inr (.inr (.inr (.inr (.inr (.inl (key 1 i1 h.1 h.2))))))), .inr (.inr (.inr (.inr (.inr (.inr (.inr ((key 0 i0 h.1 h.2))))))))]

/-- A whole read after stores that leave a known array. -/
theorem back_eq {κ : Kind} {sp : Space} (v : View sig κ sp S384x1024 .bf16) (L) (X : Vec Ideal S384x1024 .bf16) (h : View.canon (Val := Elt Ideal) L = X) (inb) :
    v.readCov L (Rect.unit (s := S384x1024) ![0, 0] ![384, 1024] inb).toLoadRect = X := by
  rw [View.readCov_eq_canon', h]
  funext j
  refine congrArg X (funext fun a => Fin.ext ?_)
  match a with
  | ⟨0, _⟩ => show 0 + 1 * (j 0).val = (j 0).val; omega
  | ⟨1, _⟩ => show 0 + 1 * (j 1).val = (j 1).val; omega

theorem turned (C S1 S2 b : Fin 384 → Fin 128 → ℝ) (x : Vec Ideal S1x384x128 .f32) (h : x = cub fun (_ : Fin 1) r => b r) : k0_pay16 (k0_pay3 (mat C)) (k0_pay4 (mat S1)) (k0_pay5 (mat S2)) x = mat fun r => turn (C r) (S1 r) (S2 r) (b r) := by
  rw [pay3_real, pay4_real, pay5_real, h]
  exact pay16_real _ _ _ _

/-- The stores of the queries' heads turned back. -/
theorem canon_dqa (C S1 S2 : Fin 384 → Fin 128 → ℝ) (X : Fin 8 → Fin 384 → Fin 128 → ℝ) (i0 i1 i2 i3 i4 i5 i6 i7) (l0 l1 l2 l3 l4 l5 l6 l7) :
    View.canon (Val := Elt Ideal) (s := S384x1024) (e := .bf16) [⟨Rect.unit ![0, 896] ![384, 128] i7, k0_pay36 (k0_pay3 (mat C)) (k0_pay4 (mat S1)) (k0_pay5 (mat S2)) (View.ld (Val := Elt Ideal)  (S := S8x384x128) (cub X : Vec Ideal S8x384x128 .f32) (Rect.unit ![7, 0, 0] ![1, 384, 128] l7))⟩, ⟨Rect.unit ![0, 768] ![384, 128] i6, k0_pay32 (k0_pay3 (mat C)) (k0_pay4 (mat S1)) (k0_pay5 (mat S2)) (View.ld (Val := Elt Ideal)  (S := S8x384x128) (cub X : Vec Ideal S8x384x128 .f32) (Rect.unit ![6, 0, 0] ![1, 384, 128] l6))⟩, ⟨Rect.unit ![0, 640] ![384, 128] i5, k0_pay28 (k0_pay3 (mat C)) (k0_pay4 (mat S1)) (k0_pay5 (mat S2)) (View.ld (Val := Elt Ideal)  (S := S8x384x128) (cub X : Vec Ideal S8x384x128 .f32) (Rect.unit ![5, 0, 0] ![1, 384, 128] l5))⟩, ⟨Rect.unit ![0, 512] ![384, 128] i4, k0_pay24 (k0_pay3 (mat C)) (k0_pay4 (mat S1)) (k0_pay5 (mat S2)) (View.ld (Val := Elt Ideal)  (S := S8x384x128) (cub X : Vec Ideal S8x384x128 .f32) (Rect.unit ![4, 0, 0] ![1, 384, 128] l4))⟩, ⟨Rect.unit ![0, 384] ![384, 128] i3, k0_pay21 (k0_pay3 (mat C)) (k0_pay4 (mat S1)) (k0_pay5 (mat S2)) (View.ld (Val := Elt Ideal)  (S := S8x384x128) (cub X : Vec Ideal S8x384x128 .f32) (Rect.unit ![3, 0, 0] ![1, 384, 128] l3))⟩, ⟨Rect.unit ![0, 256] ![384, 128] i2, k0_pay17 (k0_pay16 (k0_pay3 (mat C)) (k0_pay4 (mat S1)) (k0_pay5 (mat S2)) (View.ld (Val := Elt Ideal)  (S := S8x384x128) (cub X : Vec Ideal S8x384x128 .f32) (Rect.unit ![2, 0, 0] ![1, 384, 128] l2)))⟩, ⟨Rect.unit ![0, 128] ![384, 128] i1, k0_pay12 (k0_pay3 (mat C)) (k0_pay4 (mat S1)) (k0_pay5 (mat S2)) (View.ld (Val := Elt Ideal)  (S := S8x384x128) (cub X : Vec Ideal S8x384x128 .f32) (Rect.unit ![1, 0, 0] ![1, 384, 128] l1))⟩, ⟨Rect.unit ![0, 0] ![384, 128] i0, k0_pay9 (mat C) (mat S1) (mat S2) (View.ld (Val := Elt Ideal)  (S := S8x384x128) (cub X : Vec Ideal S8x384x128 .f32) (Rect.unit ![0, 0, 0] ![1, 384, 128] l0))⟩] = mat fun r => heads fun h => turn (C r) (S1 r) (S2 r) (X h r) := by
  refine canon_eight (fun h r => turn (C r) (S1 r) (S2 r) (X h r)) _ _ _ _ _ _ _ _ i0 i1 i2 i3 i4 i5 i6 i7 ?_ ?_ ?_ ?_ ?_ ?_ ?_ ?_
  · exact turned C S1 S2 (X 0) _ (ld_head X 0 l0)
  · exact turned C S1 S2 (X 1) _ (ld_head X 1 l1)
  · exact turned C S1 S2 (X 2) _ (ld_head X 2 l2)
  · exact turned C S1 S2 (X 3) _ (ld_head X 3 l3)
  · exact turned C S1 S2 (X 4) _ (ld_head X 4 l4)
  · exact turned C S1 S2 (X 5) _ (ld_head X 5 l5)
  · exact turned C S1 S2 (X 6) _ (ld_head X 6 l6)
  · exact turned C S1 S2 (X 7) _ (ld_head X 7 l7)

theorem even_store (b : Fin 384 → Fin 128 → ℝ) (Y : Fin 384 → Fin 512 → ℝ) (q : Fin 4) (x : Vec Ideal S1x384x128 .f32) (y : Vec Ideal S384x128 .f32) (hx : x = cub fun (_ : Fin 1) r => b r)
    (hy : y = mat fun r l => Y r ⟨128 * q.val + l.val, by omega⟩) : k0_pay11 (F := Ideal) x y = mat fun r => keyval (b r) fun e => Y r ⟨64 * (2 * q.val) + e.val, by omega⟩ := by
  rw [hx, hy]
  refine (pay11_real _ _).trans (eq_mat _ _ fun r l => congrArg (fun z => ((keyval (b r) z l : ℝ) : EReal)) (funext fun e => congrArg (Y r) (Fin.ext ?_)))
  show 128 * q.val + e.val = 64 * (2 * q.val) + e.val
  omega

theorem odd_store (b : Fin 384 → Fin 128 → ℝ) (Y : Fin 384 → Fin 512 → ℝ) (q : Fin 4) (x : Vec Ideal S1x384x128 .f32) (y : Vec Ideal S384x128 .f32) (hx : x = cub fun (_ : Fin 1) r => b r)
    (hy : y = mat fun r l => Y r ⟨128 * q.val + l.val, by omega⟩) : k0_pay14 (F := Ideal) k0_pay6 x y = mat fun r => keyval (b r) fun e => Y r ⟨64 * (2 * q.val + 1) + e.val, by omega⟩ := by
  rw [hx, hy]
  refine (pay14_real _ _).trans (eq_mat _ _ fun r l => congrArg (fun z => ((keyval (b r) z l : ℝ) : EReal)) (funext fun e => congrArg (Y r) (Fin.ext ?_)))
  show 128 * q.val + (64 + e.val) = 64 * (2 * q.val + 1) + e.val
  omega

/-- The stores of the keys' and values' heads. -/
theorem canon_dkva (X : Fin 8 → Fin 384 → Fin 128 → ℝ) (Y : Fin 384 → Fin 512 → ℝ) (i0 i1 i2 i3 i4 i5 i6 i7) (l0 l1 l2 l3 l4 l5 l6 l7) (q0 q1 q2 q3) :
    View.canon (Val := Elt Ideal) (s := S384x1024) (e := .bf16) [⟨Rect.unit ![0, 896] ![384, 128] i7, k0_pay38 k0_pay6 (View.ld (Val := Elt Ideal) (e' := .f32) (S := S8x384x128) (cub X : Vec Ideal S8x384x128 .f32) (Rect.unit ![7, 0, 0] ![1, 384, 128] l7)) (View.ld (Val := Elt Ideal)  (S := S384x512) (mat Y : Vec Ideal S384x512 .f32) (Rect.unit ![0, 384] ![384, 128] q3))⟩, ⟨Rect.unit ![0, 768] ![384, 128] i6, k0_pay34 k0_pay6 (View.ld (Val := Elt Ideal) (e' := .f32) (S := S8x384x128) (cub X : Vec Ideal S8x384x128 .f32) (Rect.unit ![6, 0, 0] ![1, 384, 128] l6)) (View.ld (Val := Elt Ideal)  (S := S384x512) (mat Y : Vec Ideal S384x512 .f32) (Rect.unit ![0, 384] ![384, 128] q3))⟩, ⟨Rect.unit ![0, 640] ![384, 128] i5, k0_pay30 k0_pay6 (View.ld (Val := Elt Ideal) (e' := .f32) (S := S8x384x128) (cub X : Vec Ideal S8x384x128 .f32) (Rect.unit ![5, 0, 0] ![1, 384, 128] l5)) (View.ld (Val := Elt Ideal)  (S := S384x512) (mat Y : Vec Ideal S384x512 .f32) (Rect.unit ![0, 256] ![384, 128] q2))⟩, ⟨Rect.unit ![0, 512] ![384, 128] i4, k0_pay26 k0_pay6 (View.ld (Val := Elt Ideal) (e' := .f32) (S := S8x384x128) (cub X : Vec Ideal S8x384x128 .f32) (Rect.unit ![4, 0, 0] ![1, 384, 128] l4)) (View.ld (Val := Elt Ideal)  (S := S384x512) (mat Y : Vec Ideal S384x512 .f32) (Rect.unit ![0, 256] ![384, 128] q2))⟩, ⟨Rect.unit ![0, 384] ![384, 128] i3, k0_pay23 k0_pay6 (View.ld (Val := Elt Ideal) (e' := .f32) (S := S8x384x128) (cub X : Vec Ideal S8x384x128 .f32) (Rect.unit ![3, 0, 0] ![1, 384, 128] l3)) (View.ld (Val := Elt Ideal)  (S := S384x512) (mat Y : Vec Ideal S384x512 .f32) (Rect.unit ![0, 128] ![384, 128] q1))⟩, ⟨Rect.unit ![0, 256] ![384, 128] i2, k0_pay19 k0_pay6 (View.ld (Val := Elt Ideal) (e' := .f32) (S := S8x384x128) (cub X : Vec Ideal S8x384x128 .f32) (Rect.unit ![2, 0, 0] ![1, 384, 128] l2)) (View.ld (Val := Elt Ideal)  (S := S384x512) (mat Y : Vec Ideal S384x512 .f32) (Rect.unit ![0, 128] ![384, 128] q1))⟩, ⟨Rect.unit ![0, 128] ![384, 128] i1, k0_pay14 k0_pay6 (View.ld (Val := Elt Ideal) (e' := .f32) (S := S8x384x128) (cub X : Vec Ideal S8x384x128 .f32) (Rect.unit ![1, 0, 0] ![1, 384, 128] l1)) (View.ld (Val := Elt Ideal)  (S := S384x512) (mat Y : Vec Ideal S384x512 .f32) (Rect.unit ![0, 0] ![384, 128] q0))⟩, ⟨Rect.unit ![0, 0] ![384, 128] i0, k0_pay11 (View.ld (Val := Elt Ideal) (e' := .f32) (S := S8x384x128) (cub X : Vec Ideal S8x384x128 .f32) (Rect.unit ![0, 0, 0] ![1, 384, 128] l0)) (View.ld (Val := Elt Ideal)  (S := S384x512) (mat Y : Vec Ideal S384x512 .f32) (Rect.unit ![0, 0] ![384, 128] q0))⟩] = mat fun r => heads fun h => keyval (X h r) fun e => Y r ⟨64 * h.val + e.val, by omega⟩ := by
  refine canon_eight (fun h r => keyval (X h r) fun e => Y r ⟨64 * h.val + e.val, by omega⟩) _ _ _ _ _ _ _ _ i0 i1 i2 i3 i4 i5 i6 i7 ?_ ?_ ?_ ?_ ?_ ?_ ?_ ?_
  · exact even_store (X 0) Y 0 _ _ (ld_head X 0 l0) (ld_pair Y 0 q0)
  · exact odd_store (X 1) Y 0 _ _ (ld_head X 1 l1) (ld_pair Y 0 q0)
  · exact even_store (X 2) Y 1 _ _ (ld_head X 2 l2) (ld_pair Y 1 q1)
  · exact odd_store (X 3) Y 1 _ _ (ld_head X 3 l3) (ld_pair Y 1 q1)
  · exact even_store (X 4) Y 2 _ _ (ld_head X 4 l4) (ld_pair Y 2 q2)
  · exact odd_store (X 5) Y 2 _ _ (ld_head X 5 l5) (ld_pair Y 2 q2)
  · exact even_store (X 6) Y 3 _ _ (ld_head X 6 l6) (ld_pair Y 3 q3)
  · exact odd_store (X 7) Y 3 _ _ (ld_head X 7 l7) (ld_pair Y 3 q3)

/-- The store of the summed rotary key parts. -/
theorem dkr_real (C S1 S2 : Fin 384 → Fin 128 → ℝ) (X : Fin 8 → Fin 384 → Fin 128 → ℝ) (b0 b1 b2 b3 b4 b5 b6 b7 : Vec Ideal S1x384x128 .f32) (h0 : b0 = cub fun (_ : Fin 1) r => X 0 r) (h1 : b1 = cub fun (_ : Fin 1) r => X 1 r) (h2 : b2 = cub fun (_ : Fin 1) r => X 2 r) (h3 : b3 = cub fun (_ : Fin 1) r => X 3 r) (h4 : b4 = cub fun (_ : Fin 1) r => X 4 r) (h5 : b5 = cub fun (_ : Fin 1) r => X 5 r) (h6 : b6 = cub fun (_ : Fin 1) r => X 6 r) (h7 : b7 = cub fun (_ : Fin 1) r => X 7 r) :
    k0_pay39 (k0_pay3 (mat C)) (k0_pay4 (mat S1)) (k0_pay5 (mat S2)) k0_pay7 (k0_pay31 k0_pay7 (k0_pay27 k0_pay7 (k0_pay20 k0_pay7 (k0_pay15 k0_pay7 (k0_pay8 (F := Ideal)) (k0_pay10 b0) b1) b2) (k0_pay22 b3) b4) b5)
      (k0_pay33 b6) (k0_pay35 (F := Ideal)) b7
    = mat fun r => turn (C r) (S1 r) (S2 r) fun l => ∑ h, rope (X h r) l := by
  subst h0 h1 h2 h3 h4 h5 h6 h7
  rw [pay3_real, pay4_real, pay5_real]
  exact pay39_real _ _ _ _

end Cert.MlaKernelIdeal.Hand

end
-- ==== Proof.MlaValue.lean ====
/- The latent attention projections' backward call: the results at real arguments. -/
module

public import proofs.«01_k».proof.Defs
public import proofs.«01_k».proof.Proof.MlaHeads
public import Idealize.ShloMosaic.Lib.Pointwise
public import Idealize.ShloMosaic.Lib.Pipeline.Value
public import Idealize.ShloMosaic.Lib.Tactic

@[expose] public section

set_option maxRecDepth 16384

noncomputable section

namespace Cert.MlaKernelIdeal.Hand

open Cert.MlaKernelIdeal Cert.MlaKernelIdeal.Gen Idealize.ShloMosaic Idealize.ShloMosaic.TcCoe Idealize.SL.Sem
open Idealize.ShloMosaic.Pipeline (Dat)
open Cert.Norm

variable (m : (ℓ : Loc nD τ sig) → Buf (Elt Ideal) ℓ)

variable (c : Dev nD) (DQ DK : Fin 8 → Fin 4224 → Fin 128 → ℝ) (DV : Fin 4224 → Fin 512 → ℝ) (CQ : Fin 4224 → Fin 384 → ℝ) (CK : Fin 4224 → Fin 256 → ℝ) (QG : Fin 384 → ℝ) (KG : Fin 256 → ℝ)
  (WQ : Fin 384 → Fin 1024 → ℝ) (WK : Fin 256 → Fin 1024 → ℝ) (C S1 S2 : Fin 4224 → Fin 128 → ℝ)
  (v0 : (V m c main_v4 : Vec Ideal S8x4224x128 .f32) = cub DQ) (v1 : (V m c main_v9 : Vec Ideal S8x4224x128 .f32) = cub DK)
  (v2 : (V m c main_v12 : Vec Ideal S4224x512 .f32) = mat DV) (v3 : (V m c main_v14 : Vec Ideal S4224x384 .f32) = mat CQ) (v4 : (V m c main_v16 : Vec Ideal S4224x256 .f32) = mat CK)
  (v5 : (V m c main_v17 : Vec Ideal S1x384 .f32) = mat fun _ => QG) (v6 : (V m c main_v18 : Vec Ideal S1x256 .f32) = mat fun _ => KG)
  (v7 : (V m c main_v23 : Vec Ideal S384x1024 .bf16) = mat WQ) (v8 : (V m c main_v24 : Vec Ideal S256x1024 .bf16) = mat WK)
  (v9 : (V m c main_v31 : Vec Ideal S4224x128 .f32) = mat C) (v10 : (V m c main_v34 : Vec Ideal S4224x128 .f32) = mat S1) (v11 : (V m c main_v38 : Vec Ideal S4224x128 .f32) = mat S2)

/-- The queries' gradients turned back, the heads side by side. -/
def DQA (R : Fin 4224) : Fin 1024 → ℝ := heads fun h => turn (C R) (S1 R) (S2 R) (DQ h R)

/-- The keys' and the values' gradients, the heads side by side. -/
def DKVA (R : Fin 4224) : Fin 1024 → ℝ := heads fun h => keyval (DK h R) fun e => DV R ⟨64 * h.val + e.val, by omega⟩

include v0 v3 v5 v7 v9 v10 v11 in
theorem outs_12 (t : Fin cfg0.N) : ((outsAt0 m c t.val t.isLt).1 : Vec Ideal S384x384 .f32)
    = mat fun r l => back 384 (CQ (rowAt t r)) (fun k => nt (DQA DQ C S1 S2 (rowAt t r)) WQ k * QG k) l := by
  have hN := lt_N t
  refine if h0 : t.val % 11 = 0 then ?_ else ?_
  all_goals
    first
    | (rw [outsAt0_A m c t h0 (by omega)]
       dsimp only
       unfold out0_A_12
       refine (View.read_writes_eq_canon _ _ _ (fun y => cover0_A_12 (y := y) ..)).trans ?_
       unfold kernelRun0_A)
    | (rw [outsAt0_B m c t h0 (by omega)]
       dsimp only
       unfold out0_B_12
       refine (View.read_writes_eq_canon _ _ _ (fun y => cover0_B_12 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz,
      iblk0_real m c t DQ v0, iblk3_real m c t CQ v3, iblk5_real m c t _ v5, iblk7_real m c t WQ v7, iblk9_real m c t C v9, iblk10_real m c t S1 v10, iblk11_real m c t S2 v11]
    rw [back_eq _ _ _ (canon_dqa _ _ _ _ _ _ _ _ _ _ _ _ _ _ _ _ _ _ _ _), pay40_real]
    exact pay47_real _ _ _ _
  all_goals omega

include v1 v2 v4 v6 v8 in
theorem outs_13 (t : Fin cfg0.N) : ((outsAt0 m c t.val t.isLt).2.1 : Vec Ideal S384x256 .f32)
    = mat fun r l => back 256 (CK (rowAt t r)) (fun k => nt (DKVA DK DV (rowAt t r)) WK k * KG k) l := by
  have hN := lt_N t
  refine if h0 : t.val % 11 = 0 then ?_ else ?_
  all_goals
    first
    | (rw [outsAt0_A m c t h0 (by omega)]
       dsimp only
       unfold out0_A_13
       refine (View.read_writes_eq_canon _ _ _ (fun y => cover0_A_13 (y := y) ..)).trans ?_
       unfold kernelRun0_A)
    | (rw [outsAt0_B m c t h0 (by omega)]
       dsimp only
       unfold out0_B_13
       refine (View.read_writes_eq_canon _ _ _ (fun y => cover0_B_13 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz,
      iblk1_real m c t DK v1, iblk2_real m c t DV v2, iblk4_real m c t CK v4, iblk6_real m c t _ v6, iblk8_real m c t WK v8]
    rw [back_eq _ _ _ (canon_dkva _ _ _ _ _ _ _ _ _ _ _ _ _ _ _ _ _ _ _ _ _ _), pay41_real]
    exact pay54_real _ _ _ _
  all_goals omega

include v1 v9 v10 v11 in
theorem outs_14 (t : Fin cfg0.N) : ((outsAt0 m c t.val t.isLt).2.2.1 : Vec Ideal S384x128 .f32)
    = mat fun r => turn (C (rowAt t r)) (S1 (rowAt t r)) (S2 (rowAt t r)) fun l => ∑ h, rope (DK h (rowAt t r)) l := by
  have hN := lt_N t
  refine if h0 : t.val % 11 = 0 then ?_ else ?_
  all_goals
    first
    | (rw [outsAt0_A m c t h0 (by omega)]
       dsimp only
       unfold out0_A_14
       refine (View.read_writes_eq_canon _ _ _ (fun y => cover0_A_14 (y := y) ..)).trans ?_
       unfold kernelRun0_A)
    | (rw [outsAt0_B m c t h0 (by omega)]
       dsimp only
       unfold out0_B_14
       refine (View.read_writes_eq_canon _ _ _ (fun y => cover0_B_14 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz,
      iblk1_real m c t DK v1, iblk9_real m c t C v9, iblk10_real m c t S1 v10, iblk11_real m c t S2 v11]
    exact dkr_real _ _ _ (fun h r => DK h (rowAt t r)) _ _ _ _ _ _ _ _ (ld_head _ 0 _) (ld_head _ 1 _) (ld_head _ 2 _) (ld_head _ 3 _) (ld_head _ 4 _) (ld_head _ 5 _) (ld_head _ 6 _) (ld_head _ 7 _)
  all_goals omega

include v0 v9 v10 v11 in
theorem outs_15 (t : Fin cfg0.N) : ((outsAt0 m c t.val t.isLt).2.2.2.1 : Vec Ideal S384x1024 .bf16)
    = mat fun r => DQA DQ C S1 S2 (rowAt t r) := by
  have hN := lt_N t
  refine if h0 : t.val % 11 = 0 then ?_ else ?_
  all_goals
    first
    | (rw [outsAt0_A m c t h0 (by omega)]
       dsimp only
       unfold out0_A_15
       refine (View.read_writes_eq_canon _ _ _ (fun y => cover0_A_15 (y := y) ..)).trans ?_
       unfold kernelRun0_A)
    | (rw [outsAt0_B m c t h0 (by omega)]
       dsimp only
       unfold out0_B_15
       refine (View.read_writes_eq_canon _ _ _ (fun y => cover0_B_15 (y := y) ..)).trans ?_
       unfold kernelRun0_B)
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz,
      iblk0_real m c t DQ v0, iblk9_real m c t C v9, iblk10_real m c t S1 v10, iblk11_real m c t S2 v11]
    exact canon_dqa _ _ _ _ _ _ _ _ _ _ _ _ _ _ _ _ _ _ _ _
  all_goals omega

include v1 v2 in
theorem outs_16 (t : Fin cfg0.N) : ((outsAt0 m c t.val t.isLt).2.2.2.2.1 : Vec Ideal S384x1024 .bf16)
    = mat fun r => DKVA DK DV (rowAt t r) := by
  have hN := lt_N t
  refine if h0 : t.val % 11 = 0 then ?_ else ?_
  all_goals
    first
    | (rw [outsAt0_A m c t h0 (by omega)]
       dsimp only
       unfold out0_A_16
       refine (View.read_writes_eq_canon _ _ _ (fun y => cover0_A_16 (y := y) ..)).trans ?_
       unfold kernelRun0_A)
    | (rw [outsAt0_B m c t h0 (by omega)]
       dsimp only
       unfold out0_B_16
       refine (View.read_writes_eq_canon _ _ _ (fun y => cover0_B_16 (y := y) ..)).trans ?_
       unfold kernelRun0_B)
    dsimp only
    sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz,
      iblk1_real m c t DK v1, iblk2_real m c t DV v2]
    exact canon_dkva _ _ _ _ _ _ _ _ _ _ _ _ _ _ _ _ _ _ _ _ _ _
  all_goals omega

include v3 v5 in
theorem outs_17 (t : Fin cfg0.N) : ((outsAt0 m c t.val t.isLt).2.2.2.2.2.1 : Vec Ideal S384x384 .bf16)
    = mat fun r l => CQ (rowAt t r) l * scl 384 (CQ (rowAt t r)) * QG l := by
  have hN := lt_N t
  refine if h0 : t.val % 11 = 0 then ?_ else ?_
  all_goals
    first
    | (rw [outsAt0_A m c t h0 (by omega)]
       dsimp only
       unfold out0_A_17
       refine (View.read_writes_eq_canon _ _ _ (fun y => cover0_A_17 (y := y) ..)).trans ?_
       unfold kernelRun0_A)
    | (rw [outsAt0_B m c t h0 (by omega)]
       dsimp only
       unfold out0_B_17
       refine (View.read_writes_eq_canon _ _ _ (fun y => cover0_B_17 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz,
      iblk3_real m c t CQ v3, iblk5_real m c t _ v5]
    rw [pay40_real]
    exact pay45_real _ _
  all_goals omega

include v4 v6 in
theorem outs_18 (t : Fin cfg0.N) : ((outsAt0 m c t.val t.isLt).2.2.2.2.2.2.1 : Vec Ideal S384x256 .bf16)
    = mat fun r l => CK (rowAt t r) l * scl 256 (CK (rowAt t r)) * KG l := by
  have hN := lt_N t
  refine if h0 : t.val % 11 = 0 then ?_ else ?_
  all_goals
    first
    | (rw [outsAt0_A m c t h0 (by omega)]
       dsimp only
       unfold out0_A_18
       refine (View.read_writes_eq_canon _ _ _ (fun y => cover0_A_18 (y := y) ..)).trans ?_
       unfold kernelRun0_A)
    | (rw [outsAt0_B m c t h0 (by omega)]
       dsimp only
       unfold out0_B_18
       refine (View.read_writes_eq_canon _ _ _ (fun y => cover0_B_18 (y := y) ..)).trans ?_
       unfold kernelRun0_B)
    dsimp only
    sl_unfold_words
    rw [View.canon_unit_zero hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz,
      iblk4_real m c t CK v4, iblk6_real m c t _ v6]
    rw [pay41_real]
    exact pay52_real _ _
  all_goals omega

include v0 v3 v7 v9 v10 v11 in
/-- The first point stores its share. -/
theorem outs_19_A (t : Fin cfg0.N) (h0 : t.val % 11 = 0) (h1 : ¬1 ≤ t.val) :
    (outsAt0 m c t.val t.isLt).2.2.2.2.2.2.2.1 = (mat fun _ l => ∑ r, nt (DQA DQ C S1 S2 (rowAt t r)) WQ l * (CQ (rowAt t r) l * scl 384 (CQ (rowAt t r))) : Vec Ideal S1x384 .f32) := by
  rw [outsAt0_A m c t h0 h1]
  dsimp only
  unfold out0_A_19
  refine (View.read_writes_eq_canon _ _ _ (fun y => cover0_A_19 (y := y) ..)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz, iblk0_real m c t DQ v0, iblk3_real m c t CQ v3, iblk7_real m c t WQ v7, iblk9_real m c t C v9, iblk10_real m c t S1 v10, iblk11_real m c t S2 v11]
  rw [back_eq _ _ _ (canon_dqa _ _ _ _ _ _ _ _ _ _ _ _ _ _ _ _ _ _ _ _)]
  exact pay48_real _ _ _
  all_goals omega

include v0 v3 v7 v9 v10 v11 in
/-- Every later point adds its share to what the point before left. -/
theorem outs_19_B (t : Fin cfg0.N) (h0 : ¬t.val % 11 = 0) (h1 : 1 ≤ t.val) :
    (outsAt0 m c t.val t.isLt).2.2.2.2.2.2.2.1 = addf (outsAt0 m c (t.val - 1) (Nat.lt_of_le_of_lt (Nat.sub_le _ _) t.isLt)).2.2.2.2.2.2.2.1 (mat fun _ l => ∑ r, nt (DQA DQ C S1 S2 (rowAt t r)) WQ l * (CQ (rowAt t r) l * scl 384 (CQ (rowAt t r))) : Vec Ideal S1x384 .f32) := by
  rw [outsAt0_B m c t h0 h1]
  dsimp only
  unfold out0_B_19
  refine (View.read_writes_eq_canon _ _ _ (fun y => cover0_B_19 (y := y) ..)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz, (hs0_19 t).read_unread, pay1_eq, iblk0_real m c t DQ v0, iblk3_real m c t CQ v3, iblk7_real m c t WQ v7, iblk9_real m c t C v9, iblk10_real m c t S1 v10, iblk11_real m c t S2 v11]
  refine congrArg (addf _) ?_
  rw [back_eq _ _ _ (canon_dqa _ _ _ _ _ _ _ _ _ _ _ _ _ _ _ _ _ _ _ _)]
  exact pay48_real _ _ _
  all_goals omega

include v1 v2 v4 v8 in
/-- The first point stores its share. -/
theorem outs_20_A (t : Fin cfg0.N) (h0 : t.val % 11 = 0) (h1 : ¬1 ≤ t.val) :
    (outsAt0 m c t.val t.isLt).2.2.2.2.2.2.2.2 = (mat fun _ l => ∑ r, nt (DKVA DK DV (rowAt t r)) WK l * (CK (rowAt t r) l * scl 256 (CK (rowAt t r))) : Vec Ideal S1x256 .f32) := by
  rw [outsAt0_A m c t h0 h1]
  dsimp only
  unfold out0_A_20
  refine (View.read_writes_eq_canon _ _ _ (fun y => cover0_A_20 (y := y) ..)).trans ?_
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz, iblk1_real m c t DK v1, iblk2_real m c t DV v2, iblk4_real m c t CK v4, iblk8_real m c t WK v8]
  rw [back_eq _ _ _ (canon_dkva _ _ _ _ _ _ _ _ _ _ _ _ _ _ _ _ _ _ _ _ _ _)]
  exact pay55_real _ _ _
  all_goals omega

include v1 v2 v4 v8 in
/-- Every later point adds its share to what the point before left. -/
theorem outs_20_B (t : Fin cfg0.N) (h0 : ¬t.val % 11 = 0) (h1 : 1 ≤ t.val) :
    (outsAt0 m c t.val t.isLt).2.2.2.2.2.2.2.2 = addf (outsAt0 m c (t.val - 1) (Nat.lt_of_le_of_lt (Nat.sub_le _ _) t.isLt)).2.2.2.2.2.2.2.2 (mat fun _ l => ∑ r, nt (DKVA DK DV (rowAt t r)) WK l * (CK (rowAt t r) l * scl 256 (CK (rowAt t r))) : Vec Ideal S1x256 .f32) := by
  rw [outsAt0_B m c t h0 h1]
  dsimp only
  unfold out0_B_20
  refine (View.read_writes_eq_canon _ _ _ (fun y => cover0_B_20 (y := y) ..)).trans ?_
  unfold kernelRun0_B
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, View.ld_unit_zero (S := S384x512) hz, View.ld_unit_zero (S := S384x384) hz, View.ld_unit_zero (S := S384x256) hz, View.ld_unit_zero (S := S1x384) hz, View.ld_unit_zero (S := S1x256) hz, View.ld_unit_zero (S := S384x1024) hz, View.ld_unit_zero (S := S256x1024) hz, View.ld_unit_zero (S := S384x128) hz, (hs0_20 t).read_unread, pay2_eq, iblk1_real m c t DK v1, iblk2_real m c t DV v2, iblk4_real m c t CK v4, iblk8_real m c t WK v8]
  refine congrArg (addf _) ?_
  rw [back_eq _ _ _ (canon_dkva _ _ _ _ _ _ _ _ _ _ _ _ _ _ _ _ _ _ _ _ _ _)]
  exact pay55_real _ _ _
  all_goals omega

include v0 v3 v5 v7 v9 v10 v11 in
theorem final12 : ((dats m 0 c).arrAt 12 cfg0.N : Vec Ideal S4224x384 .f32) = mat fun Q l => back 384 (CQ Q) (fun k => nt (DQA DQ C S1 S2 Q) WQ k * QG k) l := by
  refine eq_mat _ _ fun R l => ?_
  have h := (dats m 0 c).arrAt_emb_eq_flushed 12 Value.disjoint12 (ptOf R) (flush0_12 _) (ix2 (inBlk R) l : S384x384.Idx)
  have e : ((cfg0.win 12).blk (ptOf R)).view.emb (ix2 (inBlk R) l : S384x384.Idx) = (ix2 R l : S4224x384.Idx) := by
    funext a
    apply Fin.ext
    match a with
    | ⟨0, _⟩ => show win0_12.index (ptOf R) 0 * 384 + 1 * (R.val % 384) = R.val; rw [(index12 _).1]; dsimp only; omega
    | ⟨1, _⟩ => show win0_12.index (ptOf R) 1 * 384 + 1 * l.val = l.val; rw [(index12 _).2]; omega
  rw [e] at h
  refine h.trans ?_
  rw [Value.flushed12, outs_12 m c DQ CQ QG WQ C S1 S2 v0 v3 v5 v7 v9 v10 v11]
  exact congrArg (fun Q : Fin 4224 => ((back 384 (CQ Q) (fun k => nt (DQA DQ C S1 S2 Q) WQ k * QG k) l : ℝ) : EReal)) (rowAt_ptOf R)

include v1 v2 v4 v6 v8 in
theorem final13 : ((dats m 0 c).arrAt 13 cfg0.N : Vec Ideal S4224x256 .f32) = mat fun Q l => back 256 (CK Q) (fun k => nt (DKVA DK DV Q) WK k * KG k) l := by
  refine eq_mat _ _ fun R l => ?_
  have h := (dats m 0 c).arrAt_emb_eq_flushed 13 Value.disjoint13 (ptOf R) (flush0_13 _) (ix2 (inBlk R) l : S384x256.Idx)
  have e : ((cfg0.win 13).blk (ptOf R)).view.emb (ix2 (inBlk R) l : S384x256.Idx) = (ix2 R l : S4224x256.Idx) := by
    funext a
    apply Fin.ext
    match a with
    | ⟨0, _⟩ => show win0_13.index (ptOf R) 0 * 384 + 1 * (R.val % 384) = R.val; rw [(index13 _).1]; dsimp only; omega
    | ⟨1, _⟩ => show win0_13.index (ptOf R) 1 * 256 + 1 * l.val = l.val; rw [(index13 _).2]; omega
  rw [e] at h
  refine h.trans ?_
  rw [Value.flushed13, outs_13 m c DK DV CK KG WK v1 v2 v4 v6 v8]
  exact congrArg (fun Q : Fin 4224 => ((back 256 (CK Q) (fun k => nt (DKVA DK DV Q) WK k * KG k) l : ℝ) : EReal)) (rowAt_ptOf R)

include v1 v9 v10 v11 in
theorem final14 : ((dats m 0 c).arrAt 14 cfg0.N : Vec Ideal S4224x128 .f32) = mat fun Q l => turn (C Q) (S1 Q) (S2 Q) (fun l => ∑ h, rope (DK h Q) l) l := by
  refine eq_mat _ _ fun R l => ?_
  have h := (dats m 0 c).arrAt_emb_eq_flushed 14 Value.disjoint14 (ptOf R) (flush0_14 _) (ix2 (inBlk R) l : S384x128.Idx)
  have e : ((cfg0.win 14).blk (ptOf R)).view.emb (ix2 (inBlk R) l : S384x128.Idx) = (ix2 R l : S4224x128.Idx) := by
    funext a
    apply Fin.ext
    match a with
    | ⟨0, _⟩ => show win0_14.index (ptOf R) 0 * 384 + 1 * (R.val % 384) = R.val; rw [(index14 _).1]; dsimp only; omega
    | ⟨1, _⟩ => show win0_14.index (ptOf R) 1 * 128 + 1 * l.val = l.val; rw [(index14 _).2]; omega
  rw [e] at h
  refine h.trans ?_
  rw [Value.flushed14, outs_14 m c DK C S1 S2 v1 v9 v10 v11]
  exact congrArg (fun Q : Fin 4224 => ((turn (C Q) (S1 Q) (S2 Q) (fun l => ∑ h, rope (DK h Q) l) l : ℝ) : EReal)) (rowAt_ptOf R)

include v0 v9 v10 v11 in
theorem final15 : ((dats m 0 c).arrAt 15 cfg0.N : Vec Ideal S4224x1024 .bf16) = mat fun Q l => DQA DQ C S1 S2 Q l := by
  refine eq_mat _ _ fun R l => ?_
  have h := (dats m 0 c).arrAt_emb_eq_flushed 15 Value.disjoint15 (ptOf R) (flush0_15 _) (ix2 (inBlk R) l : S384x1024.Idx)
  have e : ((cfg0.win 15).blk (ptOf R)).view.emb (ix2 (inBlk R) l : S384x1024.Idx) = (ix2 R l : S4224x1024.Idx) := by
    funext a
    apply Fin.ext
    match a with
    | ⟨0, _⟩ => show win0_15.index (ptOf R) 0 * 384 + 1 * (R.val % 384) = R.val; rw [(index15 _).1]; dsimp only; omega
    | ⟨1, _⟩ => show win0_15.index (ptOf R) 1 * 1024 + 1 * l.val = l.val; rw [(index15 _).2]; omega
  rw [e] at h
  refine h.trans ?_
  rw [Value.flushed15, outs_15 m c DQ C S1 S2 v0 v9 v10 v11]
  exact congrArg (fun Q : Fin 4224 => ((DQA DQ C S1 S2 Q l : ℝ) : EReal)) (rowAt_ptOf R)

include v1 v2 in
theorem final16 : ((dats m 0 c).arrAt 16 cfg0.N : Vec Ideal S4224x1024 .bf16) = mat fun Q l => DKVA DK DV Q l := by
  refine eq_mat _ _ fun R l => ?_
  have h := (dats m 0 c).arrAt_emb_eq_flushed 16 Value.disjoint16 (ptOf R) (flush0_16 _) (ix2 (inBlk R) l : S384x1024.Idx)
  have e : ((cfg0.win 16).blk (ptOf R)).view.emb (ix2 (inBlk R) l : S384x1024.Idx) = (ix2 R l : S4224x1024.Idx) := by
    funext a
    apply Fin.ext
    match a with
    | ⟨0, _⟩ => show win0_16.index (ptOf R) 0 * 384 + 1 * (R.val % 384) = R.val; rw [(index16 _).1]; dsimp only; omega
    | ⟨1, _⟩ => show win0_16.index (ptOf R) 1 * 1024 + 1 * l.val = l.val; rw [(index16 _).2]; omega
  rw [e] at h
  refine h.trans ?_
  rw [Value.flushed16, outs_16 m c DK DV v1 v2]
  exact congrArg (fun Q : Fin 4224 => ((DKVA DK DV Q l : ℝ) : EReal)) (rowAt_ptOf R)

include v3 v5 in
theorem final17 : ((dats m 0 c).arrAt 17 cfg0.N : Vec Ideal S4224x384 .bf16) = mat fun Q l => CQ Q l * scl 384 (CQ Q) * QG l := by
  refine eq_mat _ _ fun R l => ?_
  have h := (dats m 0 c).arrAt_emb_eq_flushed 17 Value.disjoint17 (ptOf R) (flush0_17 _) (ix2 (inBlk R) l : S384x384.Idx)
  have e : ((cfg0.win 17).blk (ptOf R)).view.emb (ix2 (inBlk R) l : S384x384.Idx) = (ix2 R l : S4224x384.Idx) := by
    funext a
    apply Fin.ext
    match a with
    | ⟨0, _⟩ => show win0_17.index (ptOf R) 0 * 384 + 1 * (R.val % 384) = R.val; rw [(index17 _).1]; dsimp only; omega
    | ⟨1, _⟩ => show win0_17.index (ptOf R) 1 * 384 + 1 * l.val = l.val; rw [(index17 _).2]; omega
  rw [e] at h
  refine h.trans ?_
  rw [Value.flushed17, outs_17 m c CQ QG v3 v5]
  exact congrArg (fun Q : Fin 4224 => ((CQ Q l * scl 384 (CQ Q) * QG l : ℝ) : EReal)) (rowAt_ptOf R)

include v4 v6 in
theorem final18 : ((dats m 0 c).arrAt 18 cfg0.N : Vec Ideal S4224x256 .bf16) = mat fun Q l => CK Q l * scl 256 (CK Q) * KG l := by
  refine eq_mat _ _ fun R l => ?_
  have h := (dats m 0 c).arrAt_emb_eq_flushed 18 Value.disjoint18 (ptOf R) (flush0_18 _) (ix2 (inBlk R) l : S384x256.Idx)
  have e : ((cfg0.win 18).blk (ptOf R)).view.emb (ix2 (inBlk R) l : S384x256.Idx) = (ix2 R l : S4224x256.Idx) := by
    funext a
    apply Fin.ext
    match a with
    | ⟨0, _⟩ => show win0_18.index (ptOf R) 0 * 384 + 1 * (R.val % 384) = R.val; rw [(index18 _).1]; dsimp only; omega
    | ⟨1, _⟩ => show win0_18.index (ptOf R) 1 * 256 + 1 * l.val = l.val; rw [(index18 _).2]; omega
  rw [e] at h
  refine h.trans ?_
  rw [Value.flushed18, outs_18 m c CK KG v4 v6]
  exact congrArg (fun Q : Fin 4224 => ((CK Q l * scl 256 (CK Q) * KG l : ℝ) : EReal)) (rowAt_ptOf R)

include v0 v3 v7 v9 v10 v11 in
/-- The buffer after point `n`: the sum of the points' shares so far. -/
theorem outs_19 : ∀ (n : ℕ) (h : n < cfg0.N), ((outsAt0 m c n h).2.2.2.2.2.2.2.1 : Vec Ideal S1x384 .f32)
      = mat fun _ l => ∑ s : Fin (n + 1), ∑ r, nt (DQA DQ C S1 S2 (rowAt ⟨s.val, lt_of_lt_of_le s.isLt h⟩ r)) WQ l * (CQ (rowAt ⟨s.val, lt_of_lt_of_le s.isLt h⟩ r) l * scl 384 (CQ (rowAt ⟨s.val, lt_of_lt_of_le s.isLt h⟩ r)))
  | 0, h => by
    refine (outs_19_A m c DQ CQ WQ C S1 S2 v0 v3 v7 v9 v10 v11 ⟨0, h⟩ (by dsimp only) (by dsimp only; omega)).trans ?_
    refine eq_mat _ _ fun r l => ?_
    rw [Fin.sum_univ_one]
    rfl
  | n + 1, h => by
    have hN : cfg0.N = 11 := N_0
    refine (outs_19_B m c DQ CQ WQ C S1 S2 v0 v3 v7 v9 v10 v11 ⟨n + 1, h⟩ (by dsimp only; omega) (by dsimp only; omega)).trans ?_
    refine eq_mat _ _ fun r l => ?_
    rw [Fin.sum_univ_castSucc]
    refine Eq.trans ?_ (EReal.coe_add _ _).symm
    exact congrArg₂ (· + ·) (congrFun (outs_19 n (Nat.lt_of_succ_lt h)) (ix2 r l)) rfl

theorem final19_eq : ((dats m 0 c).arrAt 19 cfg0.N : Vec Ideal S1x384 .f32) = (outsAt0 m c 10 (by rw [show cfg0.N = 11 from N_0]; decide)).2.2.2.2.2.2.2.1 := by
  refine (dats m 0 c).arrAt_eq_of_cover 19 _ (fun t hf => ?_) fun i => ⟨t0_10, (flush0_19 t0_10).mpr rfl, ?_⟩
  · have h3 : t.val = 10 := by have := (flush0_19 t).mp hf; have := lt_N t; omega
    obtain rfl : t = t0_10 := Fin.ext h3
    rw [Value.flushed19]
    have hz' : (fun a => win0_19.index t0_10 a * main_v39_7.ty.shape.size a) = fun _ => 0 := funext fun a => by fin_cases a <;> decide
    exact (Memref.read_access_unit_zero (Elt Ideal) main_v39_7 hz' (fun a => by rw [congrFun hz' a]; simp) _).symm
  · show i ∈ ((View.whole main_v39_7).slice (win0_19.rect t0_10)).set
    rw [View.set_slice_whole, Rect.mem_set_unit]
    intro a
    have h0 : (i 0 : Nat) < 1 := (i 0).isLt
    have h1 : (i 1 : Nat) < 384 := (i 1).isLt
    match a with
    | ⟨0, _⟩ => show win0_19.index t0_10 0 * win0_19.size 0 ≤ (i 0 : Nat) ∧ (i 0 : Nat) < win0_19.index t0_10 0 * win0_19.size 0 + win0_19.xsize (grid0.coords t0_10) 0
                rw [show win0_19.index t0_10 0 * win0_19.size 0 = 0 from by decide +kernel, show win0_19.xsize (grid0.coords t0_10) 0 = 1 from by decide +kernel]; omega
    | ⟨1, _⟩ => show win0_19.index t0_10 1 * win0_19.size 1 ≤ (i 1 : Nat) ∧ (i 1 : Nat) < win0_19.index t0_10 1 * win0_19.size 1 + win0_19.xsize (grid0.coords t0_10) 1
                rw [show win0_19.index t0_10 1 * win0_19.size 1 = 0 from by decide +kernel, show win0_19.xsize (grid0.coords t0_10) 1 = 384 from by decide +kernel]; omega

include v0 v3 v7 v9 v10 v11 in
theorem final19 : ((dats m 0 c).arrAt 19 cfg0.N : Vec Ideal S1x384 .f32) = mat fun _ l => ∑ Q, nt (DQA DQ C S1 S2 Q) WQ l * (CQ Q l * scl 384 (CQ Q)) := by
  rw [final19_eq, outs_19 m c DQ CQ WQ C S1 S2 v0 v3 v7 v9 v10 v11]
  refine eq_mat _ _ fun r l => congrArg ((↑) : ℝ → EReal) ?_
  exact sum_tiles fun Q => nt (DQA DQ C S1 S2 Q) WQ l * (CQ Q l * scl 384 (CQ Q))

include v1 v2 v4 v8 in
/-- The buffer after point `n`: the sum of the points' shares so far. -/
theorem outs_20 : ∀ (n : ℕ) (h : n < cfg0.N), ((outsAt0 m c n h).2.2.2.2.2.2.2.2 : Vec Ideal S1x256 .f32)
      = mat fun _ l => ∑ s : Fin (n + 1), ∑ r, nt (DKVA DK DV (rowAt ⟨s.val, lt_of_lt_of_le s.isLt h⟩ r)) WK l * (CK (rowAt ⟨s.val, lt_of_lt_of_le s.isLt h⟩ r) l * scl 256 (CK (rowAt ⟨s.val, lt_of_lt_of_le s.isLt h⟩ r)))
  | 0, h => by
    refine (outs_20_A m c DK DV CK WK v1 v2 v4 v8 ⟨0, h⟩ (by dsimp only) (by dsimp only; omega)).trans ?_
    refine eq_mat _ _ fun r l => ?_
    rw [Fin.sum_univ_one]
    rfl
  | n + 1, h => by
    have hN : cfg0.N = 11 := N_0
    refine (outs_20_B m c DK DV CK WK v1 v2 v4 v8 ⟨n + 1, h⟩ (by dsimp only; omega) (by dsimp only; omega)).trans ?_
    refine eq_mat _ _ fun r l => ?_
    rw [Fin.sum_univ_castSucc]
    refine Eq.trans ?_ (EReal.coe_add _ _).symm
    exact congrArg₂ (· + ·) (congrFun (outs_20 n (Nat.lt_of_succ_lt h)) (ix2 r l)) rfl

theorem final20_eq : ((dats m 0 c).arrAt 20 cfg0.N : Vec Ideal S1x256 .f32) = (outsAt0 m c 10 (by rw [show cfg0.N = 11 from N_0]; decide)).2.2.2.2.2.2.2.2 := by
  refine (dats m 0 c).arrAt_eq_of_cover 20 _ (fun t hf => ?_) fun i => ⟨t0_10, (flush0_20 t0_10).mpr rfl, ?_⟩
  · have h3 : t.val = 10 := by have := (flush0_20 t).mp hf; have := lt_N t; omega
    obtain rfl : t = t0_10 := Fin.ext h3
    rw [Value.flushed20]
    have hz' : (fun a => win0_20.index t0_10 a * main_v39_8.ty.shape.size a) = fun _ => 0 := funext fun a => by fin_cases a <;> decide
    exact (Memref.read_access_unit_zero (Elt Ideal) main_v39_8 hz' (fun a => by rw [congrFun hz' a]; simp) _).symm
  · show i ∈ ((View.whole main_v39_8).slice (win0_20.rect t0_10)).set
    rw [View.set_slice_whole, Rect.mem_set_unit]
    intro a
    have h0 : (i 0 : Nat) < 1 := (i 0).isLt
    have h1 : (i 1 : Nat) < 256 := (i 1).isLt
    match a with
    | ⟨0, _⟩ => show win0_20.index t0_10 0 * win0_20.size 0 ≤ (i 0 : Nat) ∧ (i 0 : Nat) < win0_20.index t0_10 0 * win0_20.size 0 + win0_20.xsize (grid0.coords t0_10) 0
                rw [show win0_20.index t0_10 0 * win0_20.size 0 = 0 from by decide +kernel, show win0_20.xsize (grid0.coords t0_10) 0 = 1 from by decide +kernel]; omega
    | ⟨1, _⟩ => show win0_20.index t0_10 1 * win0_20.size 1 ≤ (i 1 : Nat) ∧ (i 1 : Nat) < win0_20.index t0_10 1 * win0_20.size 1 + win0_20.xsize (grid0.coords t0_10) 1
                rw [show win0_20.index t0_10 1 * win0_20.size 1 = 0 from by decide +kernel, show win0_20.xsize (grid0.coords t0_10) 1 = 256 from by decide +kernel]; omega

include v1 v2 v4 v8 in
theorem final20 : ((dats m 0 c).arrAt 20 cfg0.N : Vec Ideal S1x256 .f32) = mat fun _ l => ∑ Q, nt (DKVA DK DV Q) WK l * (CK Q l * scl 256 (CK Q)) := by
  rw [final20_eq, outs_20 m c DK DV CK WK v1 v2 v4 v8]
  refine eq_mat _ _ fun r l => congrArg ((↑) : ℝ → EReal) ?_
  exact sum_tiles fun Q => nt (DKVA DK DV Q) WK l * (CK Q l * scl 256 (CK Q))

end Cert.MlaKernelIdeal.Hand

end
-- ==== Proof.MlaRef.lean ====
/- The latent attention projections' backward call: the values of the reference at real arguments. -/
module

public import proofs.«01_k».proof.Defs
public import proofs.«01_k».proof.Proof.Gen.MlaRefIdeal.Read
public import proofs.«01_k».proof.Proof.MlaPay
public import proofs.«01_k».proof.Proof.Sigmoid
public import Idealize.ShloMosaic.Lib.Pointwise
public import Idealize.ShloMosaic.Lib.Pipeline.Value
public import Idealize.ShloMosaic.Lib.Tactic

@[expose] public section

set_option maxRecDepth 16384

noncomputable section

namespace Cert.MlaKernelIdeal.Hand

open Cert.MlaKernelIdeal Cert.MlaKernelIdeal.Gen Idealize.ShloMosaic Idealize.ShloMosaic.TcCoe Idealize.SL.Sem
open Idealize.ShloMosaic.Pipeline (Dat)
open Cert.Norm Cert.MlaRefIdeal.Read

open Cert.MlaRefIdeal.Facts₀ (bcast_S4112_S4112x384_0 bcast_S4112_S4112x256_0 bcast_S1x384_S4112x384_0_1 bcast_S384_S1x384_1 bcast_S1x256_S4112x256_0_1 bcast_S256_S1x256_1 shapeCasts_S4112_S4112x1 reducesTo_S4112x1_S4112_d1 reducesTo_S4112x384_S384_d0 reducesTo_S1x384_S384_d0 reducesTo_S4112x256_S256_d0 reducesTo_S1x256_S256_d0)

/-- A head's row turned back by the position's angles: the gradient of the rotation. -/
def unrope (c s : Fin 16 → ℝ) (x : Fin 96 → ℝ) (l : Fin 96) : ℝ :=
  if h : l.val < 64 then x l else if h : l.val - 64 < 16 then x ⟨64 + (16 + (l.val - 64)), by omega⟩ * s ⟨l.val - 64, by omega⟩ + x ⟨64 + (l.val - 64), by omega⟩ * c ⟨l.val - 64, by omega⟩
    else x ⟨64 + (16 + (l.val - 64 - 16)), by omega⟩ * c ⟨l.val - 64 - 16, by omega⟩ + -x ⟨64 + (l.val - 64 - 16), by omega⟩ * s ⟨l.val - 64 - 16, by omega⟩

/-- Eight heads of 96 entries side by side. -/
def heads96 (x : Fin 8 → Fin 96 → ℝ) (j : Fin 768) : ℝ := x ⟨j.val / 96, by omega⟩ ⟨j.val % 96, by omega⟩

variable (dq dk : Fin 4112 → Fin 8 → Fin 96 → ℝ) (dv : Fin 4112 → Fin 8 → Fin 64 → ℝ) (cq : Fin 4112 → Fin 384 → ℝ) (ckv : Fin 4112 → Fin 256 → ℝ) (co si : Fin 4112 → Fin 16 → ℝ)
  (qg : Fin 384 → ℝ) (kg : Fin 256 → ℝ) (wq : Fin 384 → Fin 768 → ℝ) (wk : Fin 256 → Fin 1024 → ℝ)

/-! ## The heads' rows -/

theorem ref85 : val_main_v85 (F := Ideal) (cub dq) (mat co) (mat si) = cub fun r h => unrope (co r) (si r) (dq r h) := by
  refine eq_cub _ _ fun r h l => ?_
  pointwise [val_main_v85, val_main_v84, val_main_v83, val_main_v82, val_main_v81, val_main_v80, val_main_v79, val_main_v78, val_main_v77, val_main_v76, val_main_v75, val_main_v74, val_main_v73, val_main_v72, val_main_v71, val_main_v70, val_main_v69, val_main_v21, val_main_v20]
  unfold unrope
  simp only [← EReal.coe_mul, ← EReal.coe_neg, ← EReal.coe_add]
  split_ifs
  all_goals first | rfl | (exfalso; omega)

theorem ref86 : val_main_v86 (F := Ideal) (cub dq) (mat co) (mat si) = mat fun r => heads96 fun h => unrope (co r) (si r) (dq r h) := by
  refine eq_mat _ _ fun r l => ?_
  unfold val_main_v86
  rw [ref85]
  pointwise
  rfl

theorem ref158 : val_main_v158 (F := Ideal) (cub dq) (mat co) (mat si) = mat fun r => heads fun h => wide (unrope (co r) (si r) (dq r h)) := by
  refine eq_mat _ _ fun r l => ?_
  unfold val_main_v158 val_main_v157 val_main_v155
  rw [ref86]
  pointwise [val_main_v156, val_main_cst_25]
  unfold heads wide heads96
  dsimp only
  split_ifs with h
  · refine congrArg ((↑) : ℝ → EReal) ?_
    show unrope (co r) (si r) (dq r ⟨(l.val / 128 * 96 + l.val % 128) / 96, _⟩) ⟨(l.val / 128 * 96 + l.val % 128) % 96, _⟩ = _
    congr 1
    · congr 1
      exact Fin.ext (by show (l.val / 128 * 96 + l.val % 128) / 96 = l.val / 128; omega)
    · exact Fin.ext (by show (l.val / 128 * 96 + l.val % 128) % 96 = l.val % 128; omega)
  · exact EReal.coe_zero.symm

theorem ref103 : val_main_v103 (F := Ideal) (cub dk) (cub dv) = mat fun r => heads fun h => keyval (wide (dk r h)) (dv r h) := by
  refine eq_mat _ _ fun r l => ?_
  pointwise [val_main_v103, val_main_v102, val_main_v87]
  unfold heads keyval wide
  dsimp only
  split_ifs
  all_goals first | rfl | (exfalso; omega)

/-- The heads' rotary key parts added up, in a head's place. -/
def ropes (k : Fin 8 → Fin 96 → ℝ) (l : Fin 96) : ℝ := if l.val < 64 then 0 else ∑ h, k h l

/-- The sum of the rotary key parts turned back. -/
def krot (c s : Fin 16 → ℝ) (x : Fin 32 → ℝ) (l : Fin 32) : ℝ :=
  if h : l.val < 16 then x ⟨16 + l.val, by omega⟩ * s ⟨l.val, by omega⟩ + x ⟨l.val, by omega⟩ * c ⟨l.val, by omega⟩
    else x ⟨16 + (l.val - 16), by omega⟩ * c ⟨l.val - 16, by omega⟩ + -x ⟨l.val - 16, by omega⟩ * s ⟨l.val - 16, by omega⟩

theorem ref91 : val_main_v91 (F := Ideal) (cub dk) = mat fun r l => ∑ h, dk r h ⟨64 + l.val, by omega⟩ := by
  refine eq_mat _ _ fun r l => ?_
  pointwise [val_main_v91, val_main_v90, val_main_v89, val_main_v88, val_main_cst_8, val_main_cst_9]
  simp only [Finset.univ_unique, Finset.sum_singleton, ← Softmax.coe_sum]
  rfl

theorem ref101 : val_main_v101 (F := Ideal) (cub dk) (mat co) (mat si) = mat fun r => krot (co r) (si r) fun l => ∑ h, dk r h ⟨64 + l.val, by omega⟩ := by
  refine eq_mat _ _ fun r l => ?_
  unfold val_main_v101 val_main_v100 val_main_v99 val_main_v98 val_main_v97 val_main_v96 val_main_v95 val_main_v94 val_main_v93 val_main_v92
  rw [ref91]
  pointwise
  unfold krot
  simp only [← EReal.coe_mul, ← EReal.coe_neg, ← EReal.coe_add]
  split_ifs
  all_goals first | rfl | (exfalso; omega)

theorem krot_eq (c s : Fin 16 → ℝ) (k : Fin 8 → Fin 96 → ℝ) (l : Fin 96) (hl : 64 ≤ l.val) :
    krot c s (fun l => ∑ h, k h ⟨64 + l.val, by omega⟩) ⟨l.val - 64, by omega⟩ = unrope c s (ropes k) l := by
  unfold krot unrope ropes
  dsimp only
  rw [dif_neg (show ¬l.val < 64 by omega)]
  simp only [show ∀ n, ¬64 + n < 64 from fun n => by omega, if_false]

theorem low_eq (c s : Fin 16 → ℝ) (k : Fin 8 → Fin 96 → ℝ) (l : Fin 96) (hl : l.val < 64) : unrope c s (ropes k) l = 0 := by
  unfold unrope ropes
  rw [dif_pos hl, if_pos hl]

theorem ref152 : val_main_v152 (F := Ideal) (cub dk) (mat co) (mat si) = mat fun r => wide (unrope (co r) (si r) (ropes (dk r))) := by
  refine eq_mat _ _ fun r l => ?_
  unfold val_main_v152
  rw [ref101]
  pointwise [val_main_v151, val_main_v150, val_main_cst_22, val_main_cst_23]
  unfold wide
  split_ifs
  all_goals first | exact EReal.coe_zero.symm | (exfalso; omega) | exact congrArg ((↑) : ℝ → EReal) (low_eq _ _ _ _ (by assumption)).symm | (rw [dif_pos (show l.val < 96 by omega)]; exact congrArg ((↑) : ℝ → EReal) (krot_eq (co r) (si r) (dk r) ⟨l.val, by omega⟩ (by dsimp only; omega)))

/-! ## The norm of 384 columns -/

theorem ref6 : val_main_v6 (F := Ideal) (mat cq) = mat fun r _ => ms 384 (cq r) := host_ms _ _ lit_384 (by norm_num) cq _ _ _ _ _

theorem ref7 : val_main_v7 (F := Ideal) (mat cq) = mat fun r _ => scl 384 (cq r) := by
  unfold val_main_v7
  rw [ref6]
  exact host_scl _ (by norm_num) cq

theorem ref10 : val_main_v10 (F := Ideal) (mat cq) = mat fun r _ => -(1 / 2) * (scl 384 (cq r) / ms 384 (cq r)) := by
  unfold val_main_v10 val_main_v8
  rw [ref6, ref7]
  exact host_half _ (by norm_num) cq _

theorem ref12 : val_main_v12 (F := Ideal) (mat cq) = mat fun r l => cq r l * scl 384 (cq r) := by
  unfold val_main_v12 val_main_v11
  rw [ref7]
  exact host_normed cq _ _

theorem gained_384 (d : Fin 4112 → Fin 384 → ℝ) : (mulf (mat d : FVec Ideal S4112x384 .f32) (broadcastInDim S4112x384 ![0, 1] bcast_S1x384_S4112x384_0_1 (broadcastInDim S1x384 ![1] bcast_S384_S1x384_1 (vec qg : FVec Ideal S384 .f32))))
    = mat fun r l => d r l * qg l := by
  refine eq_mat _ _ fun r l => ?_
  pointwise
  exact (EReal.coe_mul _ _).symm

theorem ref15 : val_main_v15 (F := Ideal) (mat cq) (vec qg) = mat fun r l => cq r l * scl 384 (cq r) * qg l := by
  unfold val_main_v15
  rw [ref12]
  exact gained_384 qg _

/-! ## The norm of 256 columns -/

theorem ref42 : val_main_v42 (F := Ideal) (mat ckv) = mat fun r _ => ms 256 (ckv r) := host_ms _ _ lit_256 (by norm_num) ckv _ _ _ _ _

theorem ref43 : val_main_v43 (F := Ideal) (mat ckv) = mat fun r _ => scl 256 (ckv r) := by
  unfold val_main_v43
  rw [ref42]
  exact host_scl _ (by norm_num) ckv

theorem ref46 : val_main_v46 (F := Ideal) (mat ckv) = mat fun r _ => -(1 / 2) * (scl 256 (ckv r) / ms 256 (ckv r)) := by
  unfold val_main_v46 val_main_v44
  rw [ref42, ref43]
  exact host_half _ (by norm_num) ckv _

theorem ref48 : val_main_v48 (F := Ideal) (mat ckv) = mat fun r l => ckv r l * scl 256 (ckv r) := by
  unfold val_main_v48 val_main_v47
  rw [ref43]
  exact host_normed ckv _ _

theorem gained_256 (d : Fin 4112 → Fin 256 → ℝ) : (mulf (mat d : FVec Ideal S4112x256 .f32) (broadcastInDim S4112x256 ![0, 1] bcast_S1x256_S4112x256_0_1 (broadcastInDim S1x256 ![1] bcast_S256_S1x256_1 (vec kg : FVec Ideal S256 .f32))))
    = mat fun r l => d r l * kg l := by
  refine eq_mat _ _ fun r l => ?_
  pointwise
  exact (EReal.coe_mul _ _).symm

theorem ref51 : val_main_v51 (F := Ideal) (mat ckv) (vec kg) = mat fun r l => ckv r l * scl 256 (ckv r) * kg l := by
  unfold val_main_v51
  rw [ref48]
  exact gained_256 kg _

/-! ## The products, and the gradients through the norms -/

theorem ref104 : val_main_v104 (F := Ideal) (cub dq) (mat co) (mat si) (mat wq) = mat fun r => nt (heads96 fun h => unrope (co r) (si r) (dq r h)) wq := by
  refine eq_mat _ _ fun r l => ?_
  unfold val_main_v104
  rw [ref86]
  pointwise
  simp only [← EReal.coe_mul, ← Softmax.coe_sum]
  rfl

theorem ref125 : val_main_v125 (F := Ideal) (cub dk) (cub dv) (mat wk) = mat fun r => nt (heads fun h => keyval (wide (dk r h)) (dv r h)) wk := by
  refine eq_mat _ _ fun r l => ?_
  unfold val_main_v125
  rw [ref103]
  pointwise
  simp only [← EReal.coe_mul, ← Softmax.coe_sum]
  rfl

variable (X0 X1 : FVec Ideal S4112x8x96 .f32) (X2 : FVec Ideal S4112x8x64 .f32) (X5 X6 : FVec Ideal S4112x16 .f32) (X9 : FVec Ideal S384x768 .f32) (X10 : FVec Ideal S256x1024 .f32)

theorem ref124 (D : Fin 4112 → Fin 384 → ℝ) (hD : val_main_v104 (F := Ideal) X0 X5 X6 X9 = mat D) : val_main_v124 (F := Ideal) X0 (mat cq) X5 X6 (vec qg) X9 = mat fun r => back 384 (cq r) fun k => D r k * qg k := by
  unfold val_main_v124 val_main_v123 val_main_v122 val_main_v121 val_main_v120 val_main_v119 val_main_v118 val_main_v117 val_main_v116 val_main_v115 val_main_v114 val_main_v113 val_main_v112 val_main_v111 val_main_v109 val_main_v108 val_main_v13
  rw [hD, ref7, ref10]
  erw [gained_384, host_share _ _ lit_384 (by norm_num) cq]
  exact host_back _ (by norm_num) cq _ _

theorem ref171 (D : Fin 4112 → Fin 384 → ℝ) (hD : val_main_v104 (F := Ideal) X0 X5 X6 X9 = mat D) : val_main_v171 (F := Ideal) X0 (mat cq) X5 X6 X9 = mat fun _ l => ∑ r, D r l * (cq r l * scl 384 (cq r)) := by
  refine eq_mat _ _ fun r l => ?_
  unfold val_main_v171 val_main_v110 val_main_v107 val_main_v106 val_main_v105
  rw [hD, ref12]
  pointwise [val_main_cst_10, val_main_cst_11]
  simp only [Finset.univ_unique, Finset.sum_singleton, ← EReal.coe_mul, ← Softmax.coe_sum]
  exact congrArg ((↑) : ℝ → EReal) (Finset.sum_congr rfl fun r _ => mul_comm _ _)

theorem ref145 (D : Fin 4112 → Fin 256 → ℝ) (hD : val_main_v125 (F := Ideal) X1 X2 X10 = mat D) : val_main_v145 (F := Ideal) X1 X2 (mat ckv) (vec kg) X10 = mat fun r => back 256 (ckv r) fun k => D r k * kg k := by
  unfold val_main_v145 val_main_v144 val_main_v143 val_main_v142 val_main_v141 val_main_v140 val_main_v139 val_main_v138 val_main_v137 val_main_v136 val_main_v135 val_main_v134 val_main_v133 val_main_v132 val_main_v130 val_main_v129 val_main_v49
  rw [hD, ref43, ref46]
  erw [gained_256, host_share _ _ lit_256 (by norm_num) ckv]
  exact host_back _ (by norm_num) ckv _ _

theorem ref172 (D : Fin 4112 → Fin 256 → ℝ) (hD : val_main_v125 (F := Ideal) X1 X2 X10 = mat D) : val_main_v172 (F := Ideal) X1 X2 (mat ckv) X10 = mat fun _ l => ∑ r, D r l * (ckv r l * scl 256 (ckv r)) := by
  refine eq_mat _ _ fun r l => ?_
  unfold val_main_v172 val_main_v131 val_main_v128 val_main_v127 val_main_v126
  rw [hD, ref48]
  pointwise [val_main_cst_15, val_main_cst_16]
  simp only [Finset.univ_unique, Finset.sum_singleton, ← EReal.coe_mul, ← Softmax.coe_sum]
  exact congrArg ((↑) : ℝ → EReal) (Finset.sum_congr rfl fun r _ => mul_comm _ _)

/-! ## The padded results -/

theorem ref147 (D : Fin 4112 → Fin 384 → ℝ) (hD : val_main_v104 (F := Ideal) X0 X5 X6 X9 = mat D) : val_main_v147 (F := Ideal) X0 (mat cq) X5 X6 (vec qg) X9 = mat (Norm.pad fun r => back 384 (cq r) fun k => D r k * qg k) := by
  unfold val_main_v147
  rw [ref124 cq qg X0 X5 X6 X9 D hD]
  exact pad_concat _ _ _

theorem ref149 (D : Fin 4112 → Fin 256 → ℝ) (hD : val_main_v125 (F := Ideal) X1 X2 X10 = mat D) : val_main_v149 (F := Ideal) X1 X2 (mat ckv) (vec kg) X10 = mat (Norm.pad fun r => back 256 (ckv r) fun k => D r k * kg k) := by
  unfold val_main_v149
  rw [ref145 ckv kg X1 X2 X10 D hD]
  exact pad_concat _ _ _

theorem ref154 : val_main_v154 (F := Ideal) (cub dk) (mat co) (mat si) = mat (Norm.pad fun r => wide (unrope (co r) (si r) (ropes (dk r)))) := by
  unfold val_main_v154
  rw [ref152]
  exact pad_concat _ _ _

theorem ref161 : val_main_v161 (F := Ideal) (cub dq) (mat co) (mat si) = mat (Norm.pad fun r => heads fun h => wide (unrope (co r) (si r) (dq r h))) := by
  unfold val_main_v161 val_main_v160
  rw [ref158]
  exact congrArg (fun z => truncf .bf16 z Facts₀.bitsLt_bf16_f32) (pad_concat _ _ _)

theorem ref164 : val_main_v164 (F := Ideal) (cub dk) (cub dv) = mat (Norm.pad fun r => heads fun h => keyval (wide (dk r h)) (dv r h)) := by
  unfold val_main_v164 val_main_v163
  rw [ref103]
  exact congrArg (fun z => truncf .bf16 z Facts₀.bitsLt_bf16_f32) (pad_concat _ _ _)

theorem ref167 : val_main_v167 (F := Ideal) (mat cq) (vec qg) = mat (Norm.pad fun r l => cq r l * scl 384 (cq r) * qg l) := by
  unfold val_main_v167 val_main_v166
  rw [ref15]
  exact congrArg (fun z => truncf .bf16 z Facts₀.bitsLt_bf16_f32) (pad_concat _ _ _)

theorem ref170 : val_main_v170 (F := Ideal) (mat ckv) (vec kg) = mat (Norm.pad fun r l => ckv r l * scl 256 (ckv r) * kg l) := by
  unfold val_main_v170 val_main_v169
  rw [ref51]
  exact congrArg (fun z => truncf .bf16 z Facts₀.bitsLt_bf16_f32) (pad_concat _ _ _)

end Cert.MlaKernelIdeal.Hand

end
-- ==== Proof.MlaRows.lean ====
/- The latent attention projections' backward call: the lanes and the rows added to the arrays. -/
module

public import proofs.«01_k».proof.Defs
public import proofs.«01_k».proof.Proof.MlaValue
public import proofs.«01_k».proof.Proof.MlaRef
public import Idealize.ShloMosaic.Lib.Pointwise
public import Idealize.ShloMosaic.Lib.Pipeline.Value
public import Idealize.ShloMosaic.Lib.Tactic

@[expose] public section

set_option maxRecDepth 16384

noncomputable section

namespace Cert.MlaKernelIdeal.Hand

open Cert.MlaKernelIdeal Cert.MlaKernelIdeal.Gen Idealize.ShloMosaic Idealize.ShloMosaic.TcCoe Idealize.SL.Sem
open Idealize.ShloMosaic.Pipeline (Dat)
open Cert.Norm Cert.MlaRefIdeal.Read

/-! ## A head's lanes -/

theorem turn_wide (c s : Fin 16 → ℝ) (x : Fin 96 → ℝ) : turn (tabc c) (tabhi s) (tablo s) (wide x) = wide (unrope c s x) := by
  have ex : ∀ (i j : ℕ) (p : i < 96) (q : j < 96), i = j → x ⟨i, p⟩ = x ⟨j, q⟩ := by rintro i _ p q rfl; rfl
  have ec : ∀ (i j : ℕ) (p : i < 16) (q : j < 16), i = j → c ⟨i, p⟩ = c ⟨j, q⟩ := by rintro i _ p q rfl; rfl
  have es : ∀ (i j : ℕ) (p : i < 16) (q : j < 16), i = j → s ⟨i, p⟩ = s ⟨j, q⟩ := by rintro i _ p q rfl; rfl
  funext l
  unfold turn tabc tabhi tablo unrope
  by_cases h1 : l.val < 64
  · have h2 : l.val < 80 := by omega
    have h3 : l.val < 96 := by omega
    unfold wide
    simp only [h1, h2, h3, ↓reduceIte, ↓reduceDIte]
    ring
  by_cases h2 : l.val < 80
  · have h3 : l.val < 96 := by omega
    have h4 : l.val - 64 < 16 := by omega
    have hb : before 112 l = ⟨l.val + 16, by omega⟩ := Fin.ext (by show (l.val + 128 - 112 % 128) % 128 = l.val + 16; omega)
    have h5 : l.val + 16 < 96 := by omega
    rw [hb]
    unfold wide
    simp only [h1, h2, h3, h4, h5, ↓reduceIte, ↓reduceDIte]
    rw [ex (64 + (16 + (l.val - 64))) (l.val + 16) (by omega) h5 (by omega), ex (64 + (l.val - 64)) l.val (by omega) h3 (by omega)]
    ring
  by_cases h3 : l.val < 96
  · have h4 : ¬l.val - 64 < 16 := by omega
    have hb : before 16 l = ⟨l.val - 16, by omega⟩ := Fin.ext (by show (l.val + 128 - 16 % 128) % 128 = l.val - 16; omega)
    have h5 : l.val - 16 < 96 := by omega
    rw [hb]
    unfold wide
    simp only [h1, h2, h3, h4, h5, ↓reduceIte, ↓reduceDIte]
    rw [ex (64 + (16 + (l.val - 64 - 16))) l.val (by omega) h3 (by omega), ex (64 + (l.val - 64 - 16)) (l.val - 16) (by omega) h5 (by omega),
      ec (l.val - 64 - 16) (l.val - 80) (by omega) (by omega) (by omega), es (l.val - 64 - 16) (l.val - 80) (by omega) (by omega) (by omega)]
    ring
  · unfold wide
    simp only [h1, h2, h3, ↓reduceIte, ↓reduceDIte]
    ring

theorem turn_zero (c s1 s2 : Fin 128 → ℝ) : turn c s1 s2 (fun _ => 0) = fun _ => 0 := by
  funext l
  unfold turn
  ring

theorem heads_zero : heads (fun _ _ => 0) = fun _ => 0 := rfl

theorem keyval_zero (v : Fin 64 → ℝ) (hv : ∀ e, v e = 0) : keyval (fun _ => 0) v = fun _ => 0 := by
  funext l
  unfold keyval
  split_ifs
  · rfl
  · exact hv _

theorem nt_zero {n k : ℕ} (w : Fin k → Fin n → ℝ) (l : Fin k) : nt (fun _ => 0) w l = 0 := by
  unfold nt
  exact Finset.sum_eq_zero fun j _ => zero_mul _

theorem wide_sum (a b : Fin 96 → ℝ) : ∑ t : Fin 128, wide a t * wide b t = ∑ e, a e * b e := by
  rw [Fin.sum_univ_add (a := 96) (b := 32) fun t : Fin (96 + 32) => wide a t * wide b t, show (∑ e : Fin 32, wide a (Fin.natAdd 96 e) * wide b (Fin.natAdd 96 e)) = 0 from Finset.sum_eq_zero fun e _ => ?_, add_zero]
  · refine Finset.sum_congr rfl fun e _ => ?_
    unfold wide
    rw [dif_pos (show ((Fin.castAdd 32 e : Fin 128) : ℕ) < 96 from e.isLt), dif_pos (show ((Fin.castAdd 32 e : Fin 128) : ℕ) < 96 from e.isLt)]
    rfl
  · unfold wide
    rw [dif_neg (by show ¬96 + e.val < 96; omega), zero_mul]

theorem heads_at (X : Fin 8 → Fin 128 → ℝ) (h : Fin 8) (t : Fin 128) (p) : heads X ⟨h.val * 128 + t.val, p⟩ = X h t :=
  congrArg₂ X (Fin.ext (by show (h.val * 128 + t.val) / 128 = h.val; omega)) (Fin.ext (by show (h.val * 128 + t.val) % 128 = t.val; omega))

theorem heads96_at (X : Fin 8 → Fin 96 → ℝ) (h : Fin 8) (t : Fin 96) (p) : heads96 X ⟨h.val * 96 + t.val, p⟩ = X h t :=
  congrArg₂ X (Fin.ext (by show (h.val * 96 + t.val) / 96 = h.val; omega)) (Fin.ext (by show (h.val * 96 + t.val) % 96 = t.val; omega))

theorem nt_heads (x : Fin 8 → Fin 96 → ℝ) (W : Fin 384 → Fin 768 → ℝ) (l : Fin 384) :
    nt (heads fun h => wide (x h)) (fun l => heads fun h => wide fun e => W l ⟨h.val * 96 + e.val, by omega⟩) l = nt (heads96 x) W l := by
  unfold nt
  rw [Fin.sum_univ_tiles 8 128 rfl, Fin.sum_univ_tiles 8 96 rfl]
  refine Finset.sum_congr rfl fun h _ => ?_
  simp only [heads_at, heads96_at]
  exact wide_sum _ _

theorem ropes_eq (k : Fin 8 → Fin 96 → ℝ) : (fun l => ∑ h, rope (wide (k h)) l) = wide (ropes k) := by
  funext l
  unfold rope wide ropes
  dsimp only
  by_cases h1 : l.val < 96
  · rw [dif_pos h1]
    by_cases h2 : l.val < 64
    · rw [if_pos h2]
      exact Finset.sum_eq_zero fun h _ => if_neg (by omega)
    · rw [if_neg h2]
      exact Finset.sum_congr rfl fun h _ => by rw [if_pos ⟨by omega, h1⟩, dif_pos h1]
  · rw [dif_neg h1]
    exact Finset.sum_eq_zero fun h _ => if_neg (by omega)

/-! ## The rows added under the arrays -/

section
variable (dq dk : Fin 4112 → Fin 8 → Fin 96 → ℝ) (dv : Fin 4112 → Fin 8 → Fin 64 → ℝ) (co si : Fin 4112 → Fin 16 → ℝ)

theorem DQA_pad : (DQA (fun h => pad fun r => wide (dq r h)) (fun R => tabc (pad co R)) (fun R => tabhi (pad si R)) fun R => tablo (pad si R))
    = pad fun r => heads fun h => wide (unrope (co r) (si r) (dq r h)) := by
  funext R l
  unfold DQA
  by_cases hR : R.val < 4112
  · simp only [pad_pos _ R hR, turn_wide]
  · simp only [pad_neg _ R hR, turn_zero, heads_zero]

theorem DKVA_pad : DKVA (fun h => pad fun r => wide (dk r h)) (pad fun r j => dv r ⟨j.val / 64, by omega⟩ ⟨j.val % 64, by omega⟩)
    = pad fun r => heads fun h => keyval (wide (dk r h)) (dv r h) := by
  funext R l
  unfold DKVA
  by_cases hR : R.val < 4112
  · simp only [pad_pos _ R hR]
    refine congrArg (fun z => heads z l) (funext fun h => congrArg (keyval _) (funext fun e => ?_))
    refine congrArg₂ (dv _) (Fin.ext ?_) (Fin.ext ?_)
    · show (64 * h.val + e.val) / 64 = h.val; omega
    · show (64 * h.val + e.val) % 64 = e.val; omega
  · simp only [pad_neg _ R hR, keyval_zero _ fun _ => rfl, heads_zero]

theorem DKR_pad : (fun R => turn (tabc (pad co R)) (tabhi (pad si R)) (tablo (pad si R)) fun l => ∑ h, rope (pad (fun r => wide (dk r h)) R) l)
    = pad fun r => wide (unrope (co r) (si r) (ropes (dk r))) := by
  funext R l
  by_cases hR : R.val < 4112
  · simp only [pad_pos _ R hR, ropes_eq, turn_wide]
  · have e : (fun l => ∑ h : Fin 8, rope (pad (fun r => wide (dk r h)) R) l) = fun _ => 0 := by
      funext l
      refine Finset.sum_eq_zero fun h _ => ?_
      rw [pad_neg _ R hR]
      unfold rope
      exact ite_self _
    rw [e, turn_zero, pad_neg _ R hR]

variable {N : ℝ} {n : ℕ} (x : Fin 4112 → Fin n → ℝ) (g : Fin n → ℝ) (D : Fin 4112 → Fin n → ℝ) (E : Fin 4224 → Fin n → ℝ) (hE : E = pad D)

include hE in
theorem back_pad : (fun R l => back N (pad x R) (fun k => E R k * g k) l) = pad fun r => back N (x r) fun k => D r k * g k := by
  subst hE
  funext R l
  by_cases hR : R.val < 4112
  · rw [pad_pos _ R hR, pad_pos _ R hR, pad_pos _ R hR]
  · simp only [pad_neg _ R hR, zero_mul, back_zero]

theorem out_pad : (fun R l => pad x R l * scl N (pad x R) * g l) = pad fun r l => x r l * scl N (x r) * g l := by
  funext R l
  by_cases hR : R.val < 4112
  · rw [pad_pos _ R hR, pad_pos _ R hR]
  · simp only [pad_neg _ R hR, zero_mul]

include hE in
theorem gain_pad (l : Fin n) : ∑ R, E R l * (pad x R l * scl N (pad x R)) = ∑ r, D r l * (x r l * scl N (x r)) := by
  subst hE
  refine sum_pad _ _ (fun R => ?_) fun R hR => ?_
  · rw [pad_pos _ _ R.isLt, pad_pos _ _ R.isLt]
  · rw [pad_neg D R hR, zero_mul]

theorem nt_pad {m k : ℕ} (z : Fin 4112 → Fin m → ℝ) (w : Fin k → Fin m → ℝ) : (fun R => nt (pad z R) w) = pad fun r => nt (z r) w := by
  funext R l
  by_cases hR : R.val < 4112
  · rw [pad_pos _ R hR, pad_pos _ R hR]
  · rw [pad_neg _ R hR, pad_neg _ R hR, nt_zero]

end

end Cert.MlaKernelIdeal.Hand

end
-- ==== Proof.MlaFin.lean ====
/- The latent attention projections' backward call: what the finiteness of the arguments gives. -/
module

public import proofs.«01_k».proof.Defs
public import proofs.«01_k».proof.Proof.MlaPay
public import proofs.«01_k».proof.Proof.Gen.Pre_mla_finite
public import Idealize.ShloMosaic.Lib.Pointwise
public import Idealize.ShloMosaic.Lib.Pipeline.Value
public import Idealize.ShloMosaic.Lib.Tactic

@[expose] public section

set_option maxRecDepth 16384

noncomputable section

namespace Cert.MlaKernelIdeal.Hand

open Cert.MlaKernelIdeal Cert.MlaKernelIdeal.Gen Idealize.ShloMosaic Idealize.ShloMosaic.TcCoe Idealize.SL.Sem
open Idealize.ShloMosaic.Pipeline (Dat)
open Cert.Norm

theorem cub_of {a b c : ℕ} (x : FVec Ideal ⟨3, ![a, b, c]⟩ .f32) (h : ∀ (r : Fin a) (p : Fin b) (l : Fin c), Ideal.cmp .olt (max (x (ix3 r p l)) (-(x (ix3 r p l)))) (Ideal.ofBits .f32 0x7F800000#32) = 1#1) : x = cub fun r p l => (x (ix3 r p l)).toReal := by
  funext i; rw [eq_ix3 i]; exact Finite.real _ (h _ _ _)

variable (dq : FVec Ideal S4112x8x96 .f32) (dk : FVec Ideal S4112x8x96 .f32) (dv : FVec Ideal S4112x8x64 .f32) (cq : FVec Ideal S4112x384 .f32) (ckv : FVec Ideal S4112x256 .f32) (co : FVec Ideal S4112x16 .f32) (si : FVec Ideal S4112x16 .f32) (qg : FVec Ideal S384 .f32) (kg : FVec Ideal S256 .f32) (wq : FVec Ideal S384x768 .f32) (wk : FVec Ideal S256x1024 .f32)
  (hf : Cert.Pre_mla_finite.fn (F := Ideal) dq dk dv cq ckv co si qg kg wq wk = fun _ => 1#1)

include hf in
theorem pre_at (R : Fin 29426) (l : Fin 1024) : (Cert.Pre_mla_finite.fn (F := Ideal) dq dk dv cq ckv co si qg kg wq wk : IVec _ 1) (ix2 R l) = 1#1 := by rw [hf]

set_option maxHeartbeats 800000 in
include hf in
theorem fin_dq : dq = cub fun r h l => (dq (ix3 r h l)).toReal := by
  refine cub_of _ fun r h l => ?_
  have g := pre_at dq dk dv cq ckv co si qg kg wq wk hf ⟨640 + r.val, by omega⟩ ⟨h.val * 96 + l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  try rw [show ∀ p, (⟨640 + r.val - 256 - 384, p⟩ : Fin 4112) = r from fun p => Fin.ext (by show 640 + r.val - 256 - 384 = r.val; omega)] at g
  try rw [show ∀ p, (⟨(h.val * 96 + l.val) / 96, p⟩ : Fin 8) = h from fun p => Fin.ext (by show (h.val * 96 + l.val) / 96 = h.val; omega), show ∀ p, (⟨(h.val * 96 + l.val) % 96, p⟩ : Fin 96) = l from fun p => Fin.ext (by show (h.val * 96 + l.val) % 96 = l.val; omega)] at g
  exact g

set_option maxHeartbeats 800000 in
include hf in
theorem fin_dk : dk = cub fun r h l => (dk (ix3 r h l)).toReal := by
  refine cub_of _ fun r h l => ?_
  have g := pre_at dq dk dv cq ckv co si qg kg wq wk hf ⟨4752 + r.val, by omega⟩ ⟨h.val * 96 + l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  try rw [show ∀ p, (⟨4752 + r.val - 256 - 384 - 4112, p⟩ : Fin 4112) = r from fun p => Fin.ext (by show 4752 + r.val - 256 - 384 - 4112 = r.val; omega)] at g
  try rw [show ∀ p, (⟨(h.val * 96 + l.val) / 96, p⟩ : Fin 8) = h from fun p => Fin.ext (by show (h.val * 96 + l.val) / 96 = h.val; omega), show ∀ p, (⟨(h.val * 96 + l.val) % 96, p⟩ : Fin 96) = l from fun p => Fin.ext (by show (h.val * 96 + l.val) % 96 = l.val; omega)] at g
  exact g

set_option maxHeartbeats 800000 in
include hf in
theorem fin_dv : dv = cub fun r h l => (dv (ix3 r h l)).toReal := by
  refine cub_of _ fun r h l => ?_
  have g := pre_at dq dk dv cq ckv co si qg kg wq wk hf ⟨8864 + r.val, by omega⟩ ⟨h.val * 64 + l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  try rw [show ∀ p, (⟨8864 + r.val - 256 - 384 - 4112 - 4112, p⟩ : Fin 4112) = r from fun p => Fin.ext (by show 8864 + r.val - 256 - 384 - 4112 - 4112 = r.val; omega)] at g
  try rw [show ∀ p, (⟨(h.val * 64 + l.val) / 64, p⟩ : Fin 8) = h from fun p => Fin.ext (by show (h.val * 64 + l.val) / 64 = h.val; omega), show ∀ p, (⟨(h.val * 64 + l.val) % 64, p⟩ : Fin 64) = l from fun p => Fin.ext (by show (h.val * 64 + l.val) % 64 = l.val; omega)] at g
  exact g

set_option maxHeartbeats 800000 in
include hf in
theorem fin_cq : cq = mat fun r l => (cq (ix2 r l)).toReal := by
  refine mat_of _ fun r l => ?_
  have g := pre_at dq dk dv cq ckv co si qg kg wq wk hf ⟨12976 + r.val, by omega⟩ ⟨l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  try rw [show ∀ p, (⟨12976 + r.val - 256 - 384 - 4112 - 4112 - 4112, p⟩ : Fin 4112) = r from fun p => Fin.ext (by show 12976 + r.val - 256 - 384 - 4112 - 4112 - 4112 = r.val; omega)] at g
  exact g

set_option maxHeartbeats 800000 in
include hf in
theorem fin_ckv : ckv = mat fun r l => (ckv (ix2 r l)).toReal := by
  refine mat_of _ fun r l => ?_
  have g := pre_at dq dk dv cq ckv co si qg kg wq wk hf ⟨17088 + r.val, by omega⟩ ⟨l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  try rw [show ∀ p, (⟨17088 + r.val - 256 - 384 - 4112 - 4112 - 4112 - 4112, p⟩ : Fin 4112) = r from fun p => Fin.ext (by show 17088 + r.val - 256 - 384 - 4112 - 4112 - 4112 - 4112 = r.val; omega)] at g
  exact g

set_option maxHeartbeats 800000 in
include hf in
theorem fin_co : co = mat fun r l => (co (ix2 r l)).toReal := by
  refine mat_of _ fun r l => ?_
  have g := pre_at dq dk dv cq ckv co si qg kg wq wk hf ⟨21200 + r.val, by omega⟩ ⟨l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  try rw [show ∀ p, (⟨21200 + r.val - 256 - 384 - 4112 - 4112 - 4112 - 4112 - 4112, p⟩ : Fin 4112) = r from fun p => Fin.ext (by show 21200 + r.val - 256 - 384 - 4112 - 4112 - 4112 - 4112 - 4112 = r.val; omega)] at g
  exact g

set_option maxHeartbeats 800000 in
include hf in
theorem fin_si : si = mat fun r l => (si (ix2 r l)).toReal := by
  refine mat_of _ fun r l => ?_
  have g := pre_at dq dk dv cq ckv co si qg kg wq wk hf ⟨25312 + r.val, by omega⟩ ⟨l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  try rw [show ∀ p, (⟨25312 + r.val - 256 - 384 - 4112 - 4112 - 4112 - 4112 - 4112 - 4112, p⟩ : Fin 4112) = r from fun p => Fin.ext (by show 25312 + r.val - 256 - 384 - 4112 - 4112 - 4112 - 4112 - 4112 - 4112 = r.val; omega)] at g
  exact g

set_option maxHeartbeats 800000 in
include hf in
theorem fin_qg : qg = vec fun l => (qg (ix1 l)).toReal := by
  refine vec_of _ fun l => ?_
  have g := pre_at dq dk dv cq ckv co si qg kg wq wk hf ⟨29424, by omega⟩ ⟨l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  exact g

set_option maxHeartbeats 800000 in
include hf in
theorem fin_kg : kg = vec fun l => (kg (ix1 l)).toReal := by
  refine vec_of _ fun l => ?_
  have g := pre_at dq dk dv cq ckv co si qg kg wq wk hf ⟨29425, by omega⟩ ⟨l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  exact g

set_option maxHeartbeats 800000 in
include hf in
theorem fin_wq : wq = mat fun r l => (wq (ix2 r l)).toReal := by
  refine mat_of _ fun r l => ?_
  have g := pre_at dq dk dv cq ckv co si qg kg wq wk hf ⟨256 + r.val, by omega⟩ ⟨l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  try rw [show ∀ p, (⟨256 + r.val - 256, p⟩ : Fin 384) = r from fun p => Fin.ext (by show 256 + r.val - 256 = r.val; omega)] at g
  exact g

set_option maxHeartbeats 800000 in
include hf in
theorem fin_wk : wk = mat fun r l => (wk (ix2 r l)).toReal := by
  refine mat_of _ fun r l => ?_
  have g := pre_at dq dk dv cq ckv co si qg kg wq wk hf ⟨r.val, by omega⟩ ⟨l.val, by omega⟩
  revert g
  pointwise [Cert.Pre_mla_finite.fn_part3, Cert.Pre_mla_finite.fn_part2, Cert.Pre_mla_finite.fn_part1, Cert.Pre_mla_finite.fn]
  intro g
  try simp (disch := omega) only [dif_pos, dif_neg] at g
  exact g

end Cert.MlaKernelIdeal.Hand

end
-- ==== Proof.MlaEq.lean ====
/- The latent attention projections' backward call: the arrays left are the reference's. -/
module

public import proofs.«01_k».proof.Defs
public import proofs.«01_k».proof.Proof.Gen.MlaKernelIdeal.Value
public import proofs.«01_k».proof.Proof.MlaRows
public import proofs.«01_k».proof.Proof.MlaFin
public import proofs.«01_k».proof.Proof.MlaRef
public import proofs.«01_k».proof.Proof.Gen.MlaRefIdeal.Run
public import proofs.«01_k».proof.Proof.Gen.MlaRefIdeal.Read
public import Idealize.ShloMosaic.Lib.Pointwise
public import Idealize.ShloMosaic.Lib.Pipeline.Value
public import Idealize.ShloMosaic.Lib.Tactic

@[expose] public section

set_option maxRecDepth 16384

noncomputable section

namespace Cert.MlaKernelIdeal.Hand

open Cert.MlaKernelIdeal Cert.MlaKernelIdeal.Gen Idealize.ShloMosaic Idealize.ShloMosaic.TcCoe Idealize.SL.Sem
open Idealize.ShloMosaic.Pipeline (Dat)
open Cert.Norm Cert.MlaRefIdeal.Read

variable (dq : FVec Ideal S4112x8x96 .f32) (dk : FVec Ideal S4112x8x96 .f32) (dv : FVec Ideal S4112x8x64 .f32) (cq : FVec Ideal S4112x384 .f32) (ckv : FVec Ideal S4112x256 .f32) (co : FVec Ideal S4112x16 .f32) (si : FVec Ideal S4112x16 .f32) (qg : FVec Ideal S384 .f32) (kg : FVec Ideal S256 .f32) (wq : FVec Ideal S384x768 .f32) (wk : FVec Ideal S256x1024 .f32)
  (hf : Cert.Pre_mla_finite.fn (F := Ideal) dq dk dv cq ckv co si qg kg wq wk = fun _ => 1#1)
  (m : (ℓ : Loc nD τ sig) → Buf (Elt Ideal) ℓ) (c : Dev nD)
  (e0 : (m ((c : Thread nD τ).loc main_arg0) : FVec Ideal S4112x8x96 .f32) = dq)
  (e1 : (m ((c : Thread nD τ).loc main_arg1) : FVec Ideal S4112x8x96 .f32) = dk)
  (e2 : (m ((c : Thread nD τ).loc main_arg2) : FVec Ideal S4112x8x64 .f32) = dv)
  (e3 : (m ((c : Thread nD τ).loc main_arg3) : FVec Ideal S4112x384 .f32) = cq)
  (e4 : (m ((c : Thread nD τ).loc main_arg4) : FVec Ideal S4112x256 .f32) = ckv)
  (e5 : (m ((c : Thread nD τ).loc main_arg5) : FVec Ideal S4112x16 .f32) = co)
  (e6 : (m ((c : Thread nD τ).loc main_arg6) : FVec Ideal S4112x16 .f32) = si)
  (e7 : (m ((c : Thread nD τ).loc main_arg7) : FVec Ideal S384 .f32) = qg)
  (e8 : (m ((c : Thread nD τ).loc main_arg8) : FVec Ideal S256 .f32) = kg)
  (e9 : (m ((c : Thread nD τ).loc main_arg9) : FVec Ideal S384x768 .f32) = wq)
  (e10 : (m ((c : Thread nD τ).loc main_arg10) : FVec Ideal S256x1024 .f32) = wk)

theorem rows_dq (dq : Fin 4112 → Fin 8 → Fin 96 → ℝ) (co si : Fin 4112 → Fin 16 → ℝ) (wq : Fin 384 → Fin 768 → ℝ) :
    (fun R => nt (DQA (fun h => pad fun r => wide (dq r h)) (fun R => tabc (pad co R)) (fun R => tabhi (pad si R)) (fun R => tablo (pad si R)) R)
      fun l => heads fun h => wide fun e => wq l ⟨h.val * 96 + e.val, by omega⟩)
    = pad fun r => nt (heads96 fun h => unrope (co r) (si r) (dq r h)) wq := by
  rw [DQA_pad, nt_pad]
  exact congrArg pad (funext fun r => funext fun l => nt_heads _ wq l)

theorem rows_dkv (dk : Fin 4112 → Fin 8 → Fin 96 → ℝ) (dv : Fin 4112 → Fin 8 → Fin 64 → ℝ) (wk : Fin 256 → Fin 1024 → ℝ) :
    (fun R => nt (DKVA (fun h => pad fun r => wide (dk r h)) (pad fun r j => dv r ⟨j.val / 64, by omega⟩ ⟨j.val % 64, by omega⟩) R) wk)
    = pad fun r => nt (heads fun h => keyval (wide (dk r h)) (dv r h)) wk := by
  rw [DKVA_pad, nt_pad]

set_option maxHeartbeats 1600000 in
include hf e0 e1 e2 e3 e4 e5 e6 e7 e8 e9 e10 in
/-- The nine arrays the kernel leaves are the reference's. -/
theorem value_eq : ((dats m 0 c).arrAt 12 cfg0.N : Vec Ideal S4224x384 .f32) = val_main_v147 (F := Ideal) dq cq co si qg wq
    ∧ ((dats m 0 c).arrAt 13 cfg0.N : Vec Ideal S4224x256 .f32) = val_main_v149 (F := Ideal) dk dv ckv kg wk
    ∧ ((dats m 0 c).arrAt 14 cfg0.N : Vec Ideal S4224x128 .f32) = val_main_v154 (F := Ideal) dk co si
    ∧ ((dats m 0 c).arrAt 15 cfg0.N : Vec Ideal S4224x1024 .bf16) = val_main_v161 (F := Ideal) dq co si
    ∧ ((dats m 0 c).arrAt 16 cfg0.N : Vec Ideal S4224x1024 .bf16) = val_main_v164 (F := Ideal) dk dv
    ∧ ((dats m 0 c).arrAt 17 cfg0.N : Vec Ideal S4224x384 .bf16) = val_main_v167 (F := Ideal) cq qg
    ∧ ((dats m 0 c).arrAt 18 cfg0.N : Vec Ideal S4224x256 .bf16) = val_main_v170 (F := Ideal) ckv kg
    ∧ ((dats m 0 c).arrAt 19 cfg0.N : Vec Ideal S1x384 .f32) = val_main_v171 (F := Ideal) dq cq co si wq
    ∧ ((dats m 0 c).arrAt 20 cfg0.N : Vec Ideal S1x256 .f32) = val_main_v172 (F := Ideal) dk dv ckv wk := by
  have f0 := fin_dq dq dk dv cq ckv co si qg kg wq wk hf
  have f1 := fin_dk dq dk dv cq ckv co si qg kg wq wk hf
  have f2 := fin_dv dq dk dv cq ckv co si qg kg wq wk hf
  have f3 := fin_cq dq dk dv cq ckv co si qg kg wq wk hf
  have f4 := fin_ckv dq dk dv cq ckv co si qg kg wq wk hf
  have f5 := fin_co dq dk dv cq ckv co si qg kg wq wk hf
  have f6 := fin_si dq dk dv cq ckv co si qg kg wq wk hf
  have f7 := fin_qg dq dk dv cq ckv co si qg kg wq wk hf
  have f8 := fin_kg dq dk dv cq ckv co si qg kg wq wk hf
  have f9 := fin_wq dq dk dv cq ckv co si qg kg wq wk hf
  have f10 := fin_wk dq dk dv cq ckv co si qg kg wq wk hf
  clear hf
  generalize (fun (r : Fin 4112) (h : Fin 8) (l : Fin 96) => (dq (ix3 r h l)).toReal) = dq' at f0
  generalize (fun (r : Fin 4112) (h : Fin 8) (l : Fin 96) => (dk (ix3 r h l)).toReal) = dk' at f1
  generalize (fun (r : Fin 4112) (h : Fin 8) (l : Fin 64) => (dv (ix3 r h l)).toReal) = dv' at f2
  generalize (fun (r : Fin 4112) (l : Fin 384) => (cq (ix2 r l)).toReal) = cq' at f3
  generalize (fun (r : Fin 4112) (l : Fin 256) => (ckv (ix2 r l)).toReal) = ckv' at f4
  generalize (fun (r : Fin 4112) (l : Fin 16) => (co (ix2 r l)).toReal) = co' at f5
  generalize (fun (r : Fin 4112) (l : Fin 16) => (si (ix2 r l)).toReal) = si' at f6
  generalize (fun (l : Fin 384) => (qg (ix1 l)).toReal) = qg' at f7
  generalize (fun (l : Fin 256) => (kg (ix1 l)).toReal) = kg' at f8
  generalize (fun (r : Fin 384) (l : Fin 768) => (wq (ix2 r l)).toReal) = wq' at f9
  generalize (fun (r : Fin 256) (l : Fin 1024) => (wk (ix2 r l)).toReal) = wk' at f10
  subst f0 f1 f2 f3 f4 f5 f6 f7 f8 f9 f10
  have hq := ref104 dq' co' si' wq'
  have hk := ref125 dk' dv' wk'
  have v0 := V_0 m c dq' e0
  have v1 := V_1 m c dk' e1
  have v2 := V_2 m c dv' e2
  have v3 := V_3 m c cq' e3
  have v4 := V_4 m c ckv' e4
  have v5 := V_5 m c qg' e7
  have v6 := V_6 m c kg' e8
  have v7 := V_7 m c wq' e9
  have v8 := V_8 m c wk' e10
  have v9 := V_9 m c co' e5
  have v10 := V_10 m c si' e6
  have v11 := V_11 m c si' e6
  refine ⟨(final12 m c _ _ _ _ _ _ _ v0 v3 v5 v7 v9 v10 v11).trans ?_, (final13 m c _ _ _ _ _ v1 v2 v4 v6 v8).trans ?_, (final14 m c _ _ _ _ v1 v9 v10 v11).trans ?_,
    (final15 m c _ _ _ _ v0 v9 v10 v11).trans ?_, (final16 m c _ _ v1 v2).trans ?_, (final17 m c _ _ v3 v5).trans ?_, (final18 m c _ _ v4 v6).trans ?_,
    (final19 m c _ _ _ _ _ _ v0 v3 v7 v9 v10 v11).trans ?_, (final20 m c _ _ _ _ v1 v2 v4 v8).trans ?_⟩
  · exact (congrArg mat (back_pad cq' qg' _ _ (rows_dq dq' co' si' wq'))).trans (ref147 cq' qg' _ _ _ _ _ hq).symm
  · exact (congrArg mat (back_pad ckv' kg' _ _ (rows_dkv dk' dv' wk'))).trans (ref149 ckv' kg' _ _ _ _ hk).symm
  · exact (congrArg mat (DKR_pad dk' co' si')).trans (ref154 dk' co' si').symm
  · exact (congrArg mat (DQA_pad dq' co' si')).trans (ref161 dq' co' si').symm
  · exact (congrArg mat (DKVA_pad dk' dv')).trans (ref164 dk' dv').symm
  · exact (congrArg mat (out_pad cq' qg')).trans (ref167 cq' qg').symm
  · exact (congrArg mat (out_pad ckv' kg')).trans (ref170 ckv' kg').symm
  · rw [ref171 cq' _ _ _ _ _ hq]
    exact eq_mat _ _ fun r l => congrArg ((↑) : ℝ → EReal) (gain_pad cq' _ _ (rows_dq dq' co' si' wq') l)
  · rw [ref172 ckv' _ _ _ _ hk]
    exact eq_mat _ _ fun r l => congrArg ((↑) : ℝ → EReal) (gain_pad ckv' _ _ (rows_dkv dk' dv' wk') l)

end Cert.MlaKernelIdeal.Hand

end
-- ==== Proof.Rows.lean ====
/- Rows of extended reals: the norm of a row, the product with a matrix, the logistic function and the padding, of which the forward calls are made. -/
module

public import proofs.«01_k».proof.Defs
public import proofs.«01_k».proof.Proof.Sigmoid
public import proofs.«01_k».proof.Proof.NormText
public import Idealize.ShloMosaic.Lib.Pointwise
public import Idealize.ShloMosaic.Lib.Pipeline.Value
public import Idealize.ShloMosaic.Lib.Tactic

@[expose] public section

set_option maxRecDepth 16384

noncomputable section

namespace Cert.Norm

open Idealize.ShloMosaic Idealize.SL.Sem

/-- A matrix of extended reals as an array. -/
abbrev em {a b : ℕ} (X : Fin a → Fin b → EReal) : FVec Ideal ⟨2, ![a, b]⟩ .f32 := fun i => X (i 0) (i 1)

/-- A row of extended reals as an array. -/
abbrev ev {a : ℕ} (x : Fin a → EReal) : FVec Ideal ⟨1, ![a]⟩ .f32 := fun i => x (i 0)

theorem eq_em {a b : ℕ} (x : FVec Ideal ⟨2, ![a, b]⟩ .f32) (X : Fin a → Fin b → EReal) (h : ∀ (r : Fin a) (l : Fin b), x (ix2 r l) = X r l) : x = em X := by
  funext i; rw [eq_ix2 i]; exact h _ _

/-- Every array is the array of its elements. -/
theorem em_of {a b : ℕ} (x : FVec Ideal ⟨2, ![a, b]⟩ .f32) : x = em fun r l => x (ix2 r l) := eq_em _ _ fun _ _ => rfl

theorem ev_of {a : ℕ} (x : FVec Ideal ⟨1, ![a]⟩ .f32) : x = ev fun l => x (ix1 l) := by
  funext i
  have e : i = ix1 (i 0) := funext fun a => by match a with | ⟨0, _⟩ => rfl
  rw [e]; rfl

/-- A row divided by the root of its mean square, to which a small number is added; `b` spells the row's length. -/
def nrm {n : ℕ} (b : BitVec 32) (x : Fin n → EReal) (l : Fin n) : EReal :=
  x l * Ideal.rsqrt (Ideal.div (∑ k, x k * x k) (Ideal.ofBits .f32 b) + Ideal.ofBits .f32 0x358637BD#32)

theorem nrm_zero {n : ℕ} (b : BitVec 32) (l : Fin n) : nrm b (fun _ => 0) l = 0 := zero_mul _

/-- A row times a matrix. -/
def rowDot {n k : ℕ} (x : Fin n → EReal) (w : Fin n → Fin k → EReal) (l : Fin k) : EReal := ∑ j, x j * w j l

theorem rowDot_zero {n k : ℕ} (x : Fin n → EReal) (hx : ∀ j, x j = 0) (w : Fin n → Fin k → EReal) (l : Fin k) : rowDot x w l = 0 :=
  Finset.sum_eq_zero fun j _ => by rw [hx, zero_mul]

/-- A product over 2 n columns is the sum of the products over the two halves. -/
theorem rowDot_halves {n m k : ℕ} (hm : n + n = m) (x : Fin m → EReal) (w : Fin m → Fin k → EReal) (l : Fin k) :
    rowDot (fun j : Fin n => x ⟨j.val, by omega⟩) (fun j => w ⟨j.val, by omega⟩) l + rowDot (fun j : Fin n => x ⟨n + j.val, by omega⟩) (fun j => w ⟨n + j.val, by omega⟩) l = rowDot x w l := by
  subst hm
  exact (Fin.sum_univ_add (a := n) (b := n) fun j => x j * w j l).symm

/-- The logistic function through the hyperbolic tangent. -/
def lg (x : EReal) : EReal := Ideal.ofBits .f32 0x3F000000#32 * Ideal.tanh (Ideal.ofBits .f32 0x3F000000#32 * x) + Ideal.ofBits .f32 0x3F000000#32

/-- The rows of a matrix, and rows of zeros from row 4112 on. -/
def padE {b : ℕ} (X : Fin 4112 → Fin b → EReal) (R : Fin 4224) (l : Fin b) : EReal := if h : R.val < 4112 then X ⟨R.val, h⟩ l else 0

/-- What sends rows of zeros to rows of zeros may be done before or after the padding. -/
theorem padE_map {a b : ℕ} (f : (Fin a → EReal) → Fin b → EReal) (h0 : ∀ l, f (fun _ => 0) l = 0) (X : Fin 4112 → Fin a → EReal) (R : Fin 4224) :
    f (padE X R) = padE (fun r => f (X r)) R := by
  funext l
  unfold padE
  by_cases h : R.val < 4112
  · simp only [dif_pos h]
  · simp only [dif_neg h]; exact h0 l

theorem padE_map₂ {a b c : ℕ} (f : (Fin a → EReal) → (Fin b → EReal) → Fin c → EReal) (h0 : ∀ l, f (fun _ => 0) (fun _ => 0) l = 0)
    (X : Fin 4112 → Fin a → EReal) (Y : Fin 4112 → Fin b → EReal) (R : Fin 4224) : f (padE X R) (padE Y R) = padE (fun r => f (X r) (Y r)) R := by
  funext l
  unfold padE
  by_cases h : R.val < 4112
  · simp only [dif_pos h]
  · simp only [dif_neg h]; exact h0 l

theorem padE_map₃ {a b c d : ℕ} (f : (Fin a → EReal) → (Fin b → EReal) → (Fin c → EReal) → Fin d → EReal) (h0 : ∀ l, f (fun _ => 0) (fun _ => 0) (fun _ => 0) l = 0)
    (X : Fin 4112 → Fin a → EReal) (Y : Fin 4112 → Fin b → EReal) (Z : Fin 4112 → Fin c → EReal) (R : Fin 4224) :
    f (padE X R) (padE Y R) (padE Z R) = padE (fun r => f (X r) (Y r) (Z r)) R := by
  funext l
  unfold padE
  by_cases h : R.val < 4112
  · simp only [dif_pos h]
  · simp only [dif_neg h]; exact h0 l

/-- Rows of zeros below a matrix. -/
theorem padE_concat {b : ℕ} (X : Fin 4112 → Fin b → EReal) (hb hc) :
    concatenate ⟨2, ![4224, b]⟩ 0 [⟨⟨2, ![4112, b]⟩, (em X : FVec Ideal ⟨2, ![4112, b]⟩ .f32)⟩,
      ⟨⟨2, ![112, b]⟩, broadcastInDim ⟨2, ![112, b]⟩ ![] hb (constant ⟨0, ![]⟩ .f32 0x00000000#32)⟩] hc = (em (padE X) : FVec Ideal ⟨2, ![4224, b]⟩ .f32) := by
  refine eq_em _ _ fun r l => ?_
  pointwise
  rfl

/-- Gains as a matrix of one row. -/
theorem row_512 (G : Fin 512 → EReal) (h) : (shapeCast ⟨2, ![1, 512]⟩ (ev G : FVec Ideal ⟨1, ![512]⟩ .f32) h : FVec Ideal ⟨2, ![1, 512]⟩ .f32) = em fun _ => G := by
  refine eq_em _ _ fun r l => ?_
  pointwise
  try rfl

/-- Gains as a matrix of one row. -/
theorem row_1024 (G : Fin 1024 → EReal) (h) : (shapeCast ⟨2, ![1, 1024]⟩ (ev G : FVec Ideal ⟨1, ![1024]⟩ .f32) h : FVec Ideal ⟨2, ![1, 1024]⟩ .f32) = em fun _ => G := by
  refine eq_em _ _ fun r l => ?_
  pointwise
  try rfl

/-- The columns from `o` on. -/
theorem slice_em {n a c : ℕ} (o : ℕ) (ho : o + c ≤ a) (X : Fin n → Fin a → EReal) (h) :
    extractStridedSlice ⟨2, ![n, c]⟩ ![0, o] (em X : FVec Ideal ⟨2, ![n, a]⟩ .f32) h = em fun r (l : Fin c) => X r ⟨o + l.val, by omega⟩ := by
  refine eq_em _ _ fun r l => ?_
  pointwise
  refine congrArg₂ X (Fin.ext ?_) (Fin.ext ?_) <;> (simp [Shape.Idx.norm, ix2] <;> rfl)

/-- The host writes the logistic function as a quotient. -/
theorem host_lg (x : EReal) : Ideal.div (Ideal.ofBits .f32 0x3F800000#32) (Ideal.ofBits .f32 0x3F800000#32 + Ideal.exp (-x)) = lg x := by
  unfold lg
  rw [lit_one, lit_half]
  induction x with
  | bot =>
    rw [EReal.coe_mul_bot_of_pos (by norm_num), EReal.neg_bot, Ideal.exp_top, Ideal.tanh_bot, EReal.coe_add_top]
    rw [show (-1 : EReal) = ((-1 : ℝ) : EReal) from rfl, ← EReal.coe_mul, ← EReal.coe_add, show (1 / 2 * -1 + 1 / 2 : ℝ) = 0 by norm_num]
    simp [Ideal.div]
  | top =>
    rw [EReal.coe_mul_top_of_pos (by norm_num), EReal.neg_top, Ideal.exp_bot, Ideal.tanh_top, add_zero]
    rw [show (1 : EReal) = ((1 : ℝ) : EReal) from rfl, ← EReal.coe_mul, ← EReal.coe_add, Softmax.coe_div _ _ one_ne_zero]
    norm_num
  | coe r =>
    rw [host_sg, ← EReal.coe_mul, Ideal.tanh_coe, ← EReal.coe_mul, ← EReal.coe_add, half_tanh]

variable {W : ℕ} (hW : W ≠ 1) (b : BitVec 32)

include hW in
/-- Normed rows with their gains, on the host. -/
theorem host_nrm (x : Fin 4112 → Fin W → EReal) (G : Fin W → EReal) (h1) (h2 : Shape.ReducesTo ⟨2, ![4112, W]⟩ [1] ⟨1, ![4112]⟩) (h3 h4 h5 h6 h7 h8) :
    (mulf (mulf (em x : FVec Ideal ⟨2, ![4112, W]⟩ .f32) (broadcastInDim ⟨2, ![4112, W]⟩ ![0, 1] h6 (Host.rsqrt
      (addf (Host.divf (broadcastInDim ⟨2, ![4112, 1]⟩ ![0] h1 (Host.reduceAdd (mulf (em x : FVec Ideal ⟨2, ![4112, W]⟩ .f32) (em x)) (constant (F := Ideal) ⟨0, ![]⟩ .f32 0x00000000#32) h2 h3 : FVec Ideal ⟨1, ![4112]⟩ .f32))
        (broadcastInDim ⟨2, ![4112, 1]⟩ ![] h4 (constant (F := Ideal) ⟨0, ![]⟩ .f32 b))) (broadcastInDim ⟨2, ![4112, 1]⟩ ![] h5 (constant (F := Ideal) ⟨0, ![]⟩ .f32 0x358637BD#32))))))
      (broadcastInDim ⟨2, ![4112, W]⟩ ![0, 1] h8 (broadcastInDim ⟨2, ![1, W]⟩ ![1] h7 (ev G : FVec Ideal ⟨1, ![W]⟩ .f32))))
    = em fun r l => nrm b (x r) l * G l := by
  refine eq_em _ _ fun r l => ?_
  pointwise
  refine congrArg (nrm b (x r) l * ·) (congrArg G (Fin.ext ?_))
  simp [Shape.Idx.norm, ix2, hW] <;> rfl

include hW in
/-- Normed rows with their gains, in the kernels. -/
theorem ker_nrm (x : Fin 384 → Fin W → EReal) (g : Fin 1 → Fin W → EReal) (h1 h2 h3 h4 h5 h6) :
    (mulf (mulf (em x : FVec Ideal ⟨2, ![384, W]⟩ .f32) (broadcastTo ⟨2, ![384, W]⟩ (rsqrt (addf (divf (shapeCast ⟨2, ![384, 1]⟩ (multiReduction .add [1] ⟨1, ![384]⟩ (mulf (em x : FVec Ideal ⟨2, ![384, W]⟩ .f32) (em x)) 0x00000000#32 h1 h2 h3) h4)
      (broadcast ⟨2, ![384, 1]⟩ (Scalar.ofBits (F := Ideal) .f32 b))) (broadcast ⟨2, ![384, 1]⟩ (Scalar.ofBits (F := Ideal) .f32 0x358637BD#32)))) h5)) (broadcastTo ⟨2, ![384, W]⟩ (em g : FVec Ideal ⟨2, ![1, W]⟩ .f32) h6))
    = em fun r l => nrm b (x r) l * g 0 l := by
  refine eq_em _ _ fun r l => ?_
  pointwise
  refine congrArg (nrm b (x r) l * ·) (congrArg₂ g (Fin.ext ?_) (Fin.ext ?_)) <;> simp [Shape.Idx.norm, ix2, hW] <;> rfl

/-- The rows from `o` on of a block. -/
theorem ldr_em {a b c : ℕ} (o : ℕ) (ho : o + c ≤ a) (X : Fin a → Fin b → EReal) (inb) :
    (View.ld (Val := Elt Ideal) (S := ⟨2, ![a, b]⟩) (e' := .bf16) (em X) (Rect.unit (s := ⟨2, ![a, b]⟩) ![o, 0] ![c, b] inb) : Vec Ideal ⟨2, ![c, b]⟩ .bf16)
      = em fun (r : Fin c) l => X ⟨o + r.val, by omega⟩ l := by
  funext i
  refine congrArg₂ X (Fin.ext ?_) (Fin.ext ?_)
  · show o + 1 * (i 0).val = o + (i 0).val; omega
  · show 0 + 1 * (i 1).val = (i 1).val; omega

end Cert.Norm

end
-- ==== Proof.MixOutFwdKer.lean ====
/- The mixer output's forward call: what the kernel leaves. -/
module

public import proofs.«01_k».proof.Defs
public import proofs.«01_k».proof.Proof.Gen.MixOutFwdKernelIdeal.Value
public import proofs.«01_k».proof.Proof.Rows
public import Idealize.ShloMosaic.Lib.Pointwise
public import Idealize.ShloMosaic.Lib.Pipeline.Value
public import Idealize.ShloMosaic.Lib.Tactic

@[expose] public section

set_option maxRecDepth 16384

noncomputable section

namespace Cert.MixOutFwdKernelIdeal.Hand

open Cert.MixOutFwdKernelIdeal Cert.MixOutFwdKernelIdeal.Gen Idealize.ShloMosaic Idealize.ShloMosaic.TcCoe Idealize.SL.Sem
open Idealize.ShloMosaic.Pipeline (Dat)
open Cert.Norm

/-! ## The kernel's values -/

/-- A row of 512, normed and with its gains. -/
def nrow (x g : Fin 512 → EReal) (k : Fin 512) : EReal := nrm 0x44000000#32 x k * g k

/-- The two normed rows times the halves of the projection. -/
def yrow (yl ym gl gm : Fin 512 → EReal) (w : Fin 1024 → Fin 1024 → EReal) (l : Fin 1024) : EReal :=
  rowDot (nrow yl gl) (fun j => w ⟨0 + j.val, by omega⟩) l + rowDot (nrow ym gm) (fun j => w ⟨512 + j.val, by omega⟩) l

theorem yrow_zero (gl gm : Fin 512 → EReal) (w : Fin 1024 → Fin 1024 → EReal) (l : Fin 1024) : yrow (fun _ => 0) (fun _ => 0) gl gm w l = 0 := by
  have e : ∀ (g : Fin 512 → EReal) j, nrow (fun _ => 0) g j = 0 := fun g j => by unfold nrow; rw [nrm_zero, zero_mul]
  unfold yrow
  rw [rowDot_zero _ (e gl), rowDot_zero _ (e gm), add_zero]

/-- The row with the normed projection added. -/
def horow (h : Fin 1024 → EReal) (yl ym gl gm : Fin 512 → EReal) (pg : Fin 1024 → EReal) (w : Fin 1024 → Fin 1024 → EReal) (l : Fin 1024) : EReal :=
  h l + nrm 0x44800000#32 (yrow yl ym gl gm w) l * pg l

theorem horow_zero (gl gm : Fin 512 → EReal) (pg : Fin 1024 → EReal) (w : Fin 1024 → Fin 1024 → EReal) (l : Fin 1024) : horow (fun _ => 0) (fun _ => 0) (fun _ => 0) gl gm pg w l = 0 := by
  unfold horow
  rw [show yrow (fun _ => 0) (fun _ => 0) gl gm w = fun _ => 0 from funext (yrow_zero gl gm w), nrm_zero, zero_mul, add_zero]

theorem pay3_em (x : Fin 384 → Fin 512 → EReal) (g : Fin 1 → Fin 512 → EReal) (w : Fin 512 → Fin 1024 → EReal) :
    k0_pay3 (F := Ideal) (em x) (em g) (em w) = em fun r => rowDot (nrow (x r) (g 0)) w := by
  unfold k0_pay3
  dsimp only
  simp only [shapeCast_self]
  refine Eq.trans (congrArg (fun z : FVec Ideal S384x512 .f32 => matmul dot_S384x512_S512x1024_S384x1024_1_0_0_1_n_n none (truncf .bf16 z bitsLt_bf16_f32) (em w) (constant S384x1024 .f32 0x00000000#32))
    (ker_nrm (W := 512) (by norm_num) 0x44000000#32 x g _ _ _ _ _ _)) ?_
  refine eq_em _ _ fun r l => ?_
  pointwise
  rfl

theorem pay4_em (x : Fin 384 → Fin 512 → EReal) (g : Fin 1 → Fin 512 → EReal) :
    k0_pay4 (F := Ideal) (em x) (em g) = (em fun r => nrow (x r) (g 0)) := by
  unfold k0_pay4
  dsimp only
  simp only [shapeCast_self]
  exact congrArg (fun z : FVec Ideal S384x512 .f32 => truncf .bf16 z bitsLt_bf16_f32) (ker_nrm (W := 512) (by norm_num) 0x44000000#32 x g _ _ _ _ _ _)

variable (a : Fin 384 → Fin 1024 → EReal) (b : Fin 384 → Fin 512 → EReal) (w : Fin 512 → Fin 1024 → EReal) (h : Fin 384 → Fin 1024 → EReal) (g : Fin 1 → Fin 1024 → EReal)

theorem pay1_em : k0_pay1 (F := Ideal) (em a) (em b) (em w) (constant S384x1024 .f32 0x00000000#32) = em fun r l => a r l + rowDot (b r) w l := by
  refine eq_em _ _ fun r l => ?_
  unfold k0_pay1
  pointwise
  rfl

theorem pay2_em : k0_pay2 (F := Ideal) (em a) (em b) (em w) (constant S384x1024 .f32 0x00000000#32) (em g) (em h)
    = em fun r l => h r l + nrm 0x44800000#32 (fun l => a r l + rowDot (b r) w l) l * g 0 l := by
  unfold k0_pay2
  dsimp only
  simp only [shapeCast_self, pay1_em]
  exact congrArg (fun z : FVec Ideal S384x1024 .f32 => addf (em h) z) (ker_nrm (W := 1024) (by norm_num) 0x44800000#32 (fun r l => a r l + rowDot (b r) w l) g _ _ _ _ _ _)

theorem hz : (![0, 0] : Fin 2 → Nat) = fun _ => 0 := funext fun a => by fin_cases a <;> rfl

variable (m : (ℓ : Loc nD τ sig) → Buf (Elt Ideal) ℓ)

/-! ## The arrays the pipeline reads -/

variable (c : Dev nD)

theorem V_0 (X : Fin 4112 → Fin 1024 → EReal) (h : (m ((c : Thread nD τ).loc main_arg0) : FVec Ideal S4112x1024 .f32) = em X) :
    (V m c main_v1 : Vec Ideal S4224x1024 .f32) = em (padE X) := by
  refine Eq.trans ?_ (padE_concat X bcast_S_S112x1024 concatenates_S4112x1024_S112x1024_S4224x1024_d0)
  rw [← h]
  show StableHlo.after hostOps0 _ (Proc.devRef .tc main_v1) = _
  simp only [hostOps0, List.flatten_cons, List.flatten_nil, List.append_nil, List.cons_append, List.nil_append]
  after_results
  try rfl

theorem V_1 (X : Fin 4112 → Fin 512 → EReal) (h : (m ((c : Thread nD τ).loc main_arg1) : FVec Ideal S4112x512 .f32) = em X) :
    (V m c main_v3 : Vec Ideal S4224x512 .f32) = em (padE X) := by
  refine Eq.trans ?_ (padE_concat X bcast_S_S112x512 concatenates_S4112x512_S112x512_S4224x512_d0)
  rw [← h]
  show StableHlo.after hostOps0 _ (Proc.devRef .tc main_v3) = _
  simp only [hostOps0, List.flatten_cons, List.flatten_nil, List.append_nil, List.cons_append, List.nil_append]
  after_results
  try rfl

theorem V_2 (X : Fin 4112 → Fin 512 → EReal) (h : (m ((c : Thread nD τ).loc main_arg2) : FVec Ideal S4112x512 .f32) = em X) :
    (V m c main_v5 : Vec Ideal S4224x512 .f32) = em (padE X) := by
  refine Eq.trans ?_ (padE_concat X bcast_S_S112x512 concatenates_S4112x512_S112x512_S4224x512_d0)
  rw [← h]
  show StableHlo.after hostOps0 _ (Proc.devRef .tc main_v5) = _
  simp only [hostOps0, List.flatten_cons, List.flatten_nil, List.append_nil, List.cons_append, List.nil_append]
  after_results
  try rfl

theorem V_3 (G : Fin 512 → EReal) (h : (m ((c : Thread nD τ).loc main_arg3) : FVec Ideal S512 .f32) = ev G) :
    (V m c main_v6 : Vec Ideal S1x512 .f32) = em fun _ => G := by
  refine Eq.trans ?_ (row_512 G rfl)
  rw [← h]
  show StableHlo.after hostOps0 _ (Proc.devRef .tc main_v6) = _
  simp only [hostOps0, List.flatten_cons, List.flatten_nil, List.append_nil, List.cons_append, List.nil_append]
  after_results
  try rfl

theorem V_4 (G : Fin 512 → EReal) (h : (m ((c : Thread nD τ).loc main_arg4) : FVec Ideal S512 .f32) = ev G) :
    (V m c main_v7 : Vec Ideal S1x512 .f32) = em fun _ => G := by
  refine Eq.trans ?_ (row_512 G rfl)
  rw [← h]
  show StableHlo.after hostOps0 _ (Proc.devRef .tc main_v7) = _
  simp only [hostOps0, List.flatten_cons, List.flatten_nil, List.append_nil, List.cons_append, List.nil_append]
  after_results
  try rfl

theorem V_5 (G : Fin 1024 → EReal) (h : (m ((c : Thread nD τ).loc main_arg5) : FVec Ideal S1024 .f32) = ev G) :
    (V m c main_v8 : Vec Ideal S1x1024 .f32) = em fun _ => G := by
  refine Eq.trans ?_ (row_1024 G rfl)
  rw [← h]
  show StableHlo.after hostOps0 _ (Proc.devRef .tc main_v8) = _
  simp only [hostOps0, List.flatten_cons, List.flatten_nil, List.append_nil, List.cons_append, List.nil_append]
  after_results
  try rfl

theorem V_6 (X : Fin 1024 → Fin 1024 → EReal) (h : (m ((c : Thread nD τ).loc main_arg6) : FVec Ideal S1024x1024 .f32) = em X) :
    (V m c main_v9 : Vec Ideal S1024x1024 .bf16) = em X := by
  refine Eq.trans ?_ (h)
  show StableHlo.after hostOps0 _ (Proc.devRef .tc main_v9) = _
  simp only [hostOps0, List.flatten_cons, List.flatten_nil, List.append_nil, List.cons_append, List.nil_append]
  after_results
  try rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

/-- The place of row `R` in its block. -/
abbrev inBlk (R : Fin 4224) : Fin 384 := ⟨R.val % 384, Nat.mod_lt _ (by decide)⟩

theorem rowAt_ptOf (R : Fin 4224) : rowAt (ptOf R) (inBlk R) = R := Fin.ext (by show 384 * (R.val / 384) + R.val % 384 = R.val; omega)

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index7 (t : Fin cfg0.N) : win0_7.index t 0 = t.val ∧ win0_7.index t 1 = 0 :=
  (by decide +kernel : ∀ t : Fin grid0.N, win0_7.index t 0 = t.val ∧ win0_7.index t 1 = 0) t
theorem index8 (t : Fin cfg0.N) : win0_8.index t 0 = t.val ∧ win0_8.index t 1 = 0 :=
  (by decide +kernel : ∀ t : Fin grid0.N, win0_8.index t 0 = t.val ∧ win0_8.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = 0 ∧ win0_5.index t 1 = 0 :=
  (by decide +kernel : ∀ t : Fin grid0.N, win0_5.index t 0 = 0 ∧ win0_5.index t 1 = 0) t
theorem index6 (t : Fin cfg0.N) : win0_6.index t 0 = 0 ∧ win0_6.index t 1 = 0 :=
  (by decide +kernel : ∀ t : Fin grid0.N, win0_6.index t 0 = 0 ∧ win0_6.index t 1 = 0) t

theorem iblk0_em (t : Fin cfg0.N) (X : Fin 4224 → Fin 1024 → EReal) (h : (V m c main_v1 : Vec Ideal S4224x1024 .f32) = em X) :
    (iblk m c 0 t : Vec Ideal S384x1024 .f32) = em fun r => X (rowAt t r) := by
  funext i; rw [eq_ix2 i]; generalize i 0 = r; generalize i 1 = l
  refine (View.read_apply ..).trans ((congrArg (V m c main_v1 : Vec Ideal S4224x1024 .f32) (funext fun a => Fin.ext ?_ : _ = ix2 (rowAt t r) l)).trans (congrFun h _))
  match a with
  | ⟨0, _⟩ => show win0_0.index t 0 * 384 + 1 * r.val = 384 * t.val + r.val; rw [(index0 t).1]; omega
  | ⟨1, _⟩ => show win0_0.index t 1 * 1024 + 1 * l.val = l.val; rw [(index0 t).2]; omega

theorem iblk1_em (t : Fin cfg0.N) (X : Fin 4224 → Fin 512 → EReal) (h : (V m c main_v3 : Vec Ideal S4224x512 .f32) = em X) :
    (iblk m c 1 t : Vec Ideal S384x512 .f32) = em fun r => X (rowAt t r) := by
  funext i; rw [eq_ix2 i]; generalize i 0 = r; generalize i 1 = l
  refine (View.read_apply ..).trans ((congrArg (V m c main_v3 : Vec Ideal S4224x512 .f32) (funext fun a => Fin.ext ?_ : _ = ix2 (rowAt t r) l)).trans (congrFun h _))
  match a with
  | ⟨0, _⟩ => show win0_1.index t 0 * 384 + 1 * r.val = 384 * t.val + r.val; rw [(index1 t).1]; omega
  | ⟨1, _⟩ => show win0_1.index t 1 * 512 + 1 * l.val = l.val; rw [(index1 t).2]; omega

theorem iblk2_em (t : Fin cfg0.N) (X : Fin 4224 → Fin 512 → EReal) (h : (V m c main_v5 : Vec Ideal S4224x512 .f32) = em X) :
    (iblk m c 2 t : Vec Ideal S384x512 .f32) = em fun r => X (rowAt t r) := by
  funext i; rw [eq_ix2 i]; generalize i 0 = r; generalize i 1 = l
  refine (View.read_apply ..).trans ((congrArg (V m c main_v5 : Vec Ideal S4224x512 .f32) (funext fun a => Fin.ext ?_ : _ = ix2 (rowAt t r) l)).trans (congrFun h _))
  match a with
  | ⟨0, _⟩ => show win0_2.index t 0 * 384 + 1 * r.val = 384 * t.val + r.val; rw [(index2 t).1]; omega
  | ⟨1, _⟩ => show win0_2.index t 1 * 512 + 1 * l.val = l.val; rw [(index2 t).2]; omega

theorem iblk3_em (t : Fin cfg0.N) (X : Fin 1 → Fin 512 → EReal) (h : (V m c main_v6 : Vec Ideal S1x512 .f32) = em X) :
    (iblk m c 3 t : Vec Ideal S1x512 .f32) = em X := by
  funext i; rw [eq_ix2 i]; generalize i 0 = r; generalize i 1 = l
  refine (View.read_apply ..).trans ((congrArg (V m c main_v6 : Vec Ideal S1x512 .f32) (funext fun a => Fin.ext ?_ : _ = ix2 r l)).trans (congrFun h _))
  match a with
  | ⟨0, _⟩ => show win0_3.index t 0 * 1 + 1 * r.val = r.val; rw [(index3 t).1]; omega
  | ⟨1, _⟩ => show win0_3.index t 1 * 512 + 1 * l.val = l.val; rw [(index3 t).2]; omega

theorem iblk4_em (t : Fin cfg0.N) (X : Fin 1 → Fin 512 → EReal) (h : (V m c main_v7 : Vec Ideal S1x512 .f32) = em X) :
    (iblk m c 4 t : Vec Ideal S1x512 .f32) = em X := by
  funext i; rw [eq_ix2 i]; generalize i 0 = r; generalize i 1 = l
  refine (View.read_apply ..).trans ((congrArg (V m c main_v7 : Vec Ideal S1x512 .f32) (funext fun a => Fin.ext ?_ : _ = ix2 r l)).trans (congrFun h _))
  match a with
  | ⟨0, _⟩ => show win0_4.index t 0 * 1 + 1 * r.val = r.val; rw [(index4 t).1]; omega
  | ⟨1, _⟩ => show win0_4.index t 1 * 512 + 1 * l.val = l.val; rw [(index4 t).2]; omega

theorem iblk5_em (t : Fin cfg0.N) (X : Fin 1 → Fin 1024 → EReal) (h : (V m c main_v8 : Vec Ideal S1x1024 .f32) = em X) :
    (iblk m c 5 t : Vec Ideal S1x1024 .f32) = em X := by
  funext i; rw [eq_ix2 i]; generalize i 0 = r; generalize i 1 = l
  refine (View.read_apply ..).trans ((congrArg (V m c main_v8 : Vec Ideal S1x1024 .f32) (funext fun a => Fin.ext ?_ : _ = ix2 r l)).trans (congrFun h _))
  match a with
  | ⟨0, _⟩ => show win0_5.index t 0 * 1 + 1 * r.val = r.val; rw [(index5 t).1]; omega
  | ⟨1, _⟩ => show win0_5.index t 1 * 1024 + 1 * l.val = l.val; rw [(index5 t).2]; omega

theorem iblk6_em (t : Fin cfg0.N) (X : Fin 1024 → Fin 1024 → EReal) (h : (V m c main_v9 : Vec Ideal S1024x1024 .bf16) = em X) :
    (iblk m c 6 t : Vec Ideal S1024x1024 .bf16) = em X := by
  funext i; rw [eq_ix2 i]; generalize i 0 = r; generalize i 1 = l
  refine (View.read_apply ..).trans ((congrArg (V m c main_v9 : Vec Ideal S1024x1024 .bf16) (funext fun a => Fin.ext ?_ : _ = ix2 r l)).trans (congrFun h _))
  match a with
  | ⟨0, _⟩ => show win0_6.index t 0 * 1024 + 1 * r.val = r.val; rw [(index6 t).1]; omega
  | ⟨1, _⟩ => show win0_6.index t 1 * 1024 + 1 * l.val = l.val; rw [(index6 t).2]; omega

/-! ## What the pipeline leaves -/

variable (H : Fin 4224 → Fin 1024 → EReal) (YL YM : Fin 4224 → Fin 512 → EReal) (G1 G2 : Fin 512 → EReal) (PG : Fin 1024 → EReal) (W : Fin 1024 → Fin 1024 → EReal)
  (v0 : (V m c main_v1 : Vec Ideal S4224x1024 .f32) = em H) (v1 : (V m c main_v3 : Vec Ideal S4224x512 .f32) = em YL) (v2 : (V m c main_v5 : Vec Ideal S4224x512 .f32) = em YM)
  (v3 : (V m c main_v6 : Vec Ideal S1x512 .f32) = em fun _ => G1) (v4 : (V m c main_v7 : Vec Ideal S1x512 .f32) = em fun _ => G2) (v5 : (V m c main_v8 : Vec Ideal S1x1024 .f32) = em fun _ => PG)
  (v6 : (V m c main_v9 : Vec Ideal S1024x1024 .bf16) = em W)

include v0 v1 v2 v3 v4 v5 v6 in
theorem outs_7 (t : Fin cfg0.N) : (out0_7 (iblk m c 0 t) (iblk m c 1 t) (iblk m c 2 t) (iblk m c 3 t) (iblk m c 4 t) (iblk m c 5 t) (iblk m c 6 t) : Vec Ideal S384x1024 .f32)
    = em fun r l => horow (H (rowAt t r)) (YL (rowAt t r)) (YM (rowAt t r)) G1 G2 PG W l := by
  unfold out0_7 k0_pay6 k0_pay7 k0_pay8 k0_pay9 k0_pay5
  rw [View.canon_unit_zero hz]
  simp only [View.ld_unit_zero (S := S384x1024) hz, View.ld_unit_zero (S := S384x512) hz, View.ld_unit_zero (S := S1x512) hz, View.ld_unit_zero (S := S1x1024) hz, iblk0_em m c t H v0, iblk1_em m c t YL v1, iblk2_em m c t YM v2, iblk3_em m c t _ v3, iblk4_em m c t _ v4, iblk5_em m c t _ v5, iblk6_em m c t W v6]
  rw [ldr_em 0 (by norm_num), ldr_em 512 (by norm_num), shapeCast_self]
  erw [pay3_em, pay4_em, pay2_em]
  rfl

include v0 v1 v2 v3 v4 v5 v6 in
theorem outs_8 (t : Fin cfg0.N) : (out0_8 (iblk m c 0 t) (iblk m c 1 t) (iblk m c 2 t) (iblk m c 3 t) (iblk m c 4 t) (iblk m c 5 t) (iblk m c 6 t) : Vec Ideal S384x1024 .f32)
    = em fun r l => yrow (YL (rowAt t r)) (YM (rowAt t r)) G1 G2 W l := by
  unfold out0_8 k0_pay6 k0_pay7 k0_pay8 k0_pay9 k0_pay5
  rw [View.canon_unit_zero hz]
  simp only [View.ld_unit_zero (S := S384x1024) hz, View.ld_unit_zero (S := S384x512) hz, View.ld_unit_zero (S := S1x512) hz, View.ld_unit_zero (S := S1x1024) hz, iblk0_em m c t H v0, iblk1_em m c t YL v1, iblk2_em m c t YM v2, iblk3_em m c t _ v3, iblk4_em m c t _ v4, iblk5_em m c t _ v5, iblk6_em m c t W v6]
  rw [ldr_em 0 (by norm_num), ldr_em 512 (by norm_num), shapeCast_self]
  erw [pay3_em, pay4_em, pay1_em]
  rfl

include v0 v1 v2 v3 v4 v5 v6 in
theorem final7 : ((dats m 0 c).arrAt 7 cfg0.N : Vec Ideal S4224x1024 .f32) = em fun Q l => horow (H Q) (YL Q) (YM Q) G1 G2 PG W l := by
  refine eq_em _ _ fun R l => ?_
  have h := (dats m 0 c).arrAt_emb_eq_flushed 7 Value.disjoint7 (ptOf R) (flush0_7 _) (ix2 (inBlk R) l : S384x1024.Idx)
  have e : ((cfg0.win 7).blk (ptOf R)).view.emb (ix2 (inBlk R) l : S384x1024.Idx) = (ix2 R l : S4224x1024.Idx) := by
    funext a
    apply Fin.ext
    match a with
    | ⟨0, _⟩ => show win0_7.index (ptOf R) 0 * 384 + 1 * (R.val % 384) = R.val; rw [(index7 _).1]; dsimp only; omega
    | ⟨1, _⟩ => show win0_7.index (ptOf R) 1 * 1024 + 1 * l.val = l.val; rw [(index7 _).2]; omega
  rw [e] at h
  refine h.trans ?_
  rw [Value.flushed7, outs_7 m c H YL YM G1 G2 PG W v0 v1 v2 v3 v4 v5 v6]
  exact congrArg (fun Q : Fin 4224 => horow (H Q) (YL Q) (YM Q) G1 G2 PG W l) (rowAt_ptOf R)

include v0 v1 v2 v3 v4 v5 v6 in
theorem final8 : ((dats m 0 c).arrAt 8 cfg0.N : Vec Ideal S4224x1024 .f32) = em fun Q l => yrow (YL Q) (YM Q) G1 G2 W l := by
  refine eq_em _ _ fun R l => ?_
  have h := (dats m 0 c).arrAt_emb_eq_flushed 8 Value.disjoint8 (ptOf R) (flush0_8 _) (ix2 (inBlk R) l : S384x1024.Idx)
  have e : ((cfg0.win 8).blk (ptOf R)).view.emb (ix2 (inBlk R) l : S384x1024.Idx) = (ix2 R l : S4224x1024.Idx) := by
    funext a
    apply Fin.ext
    match a with
    | ⟨0, _⟩ => show win0_8.index (ptOf R) 0 * 384 + 1 * (R.val % 384) = R.val; rw [(index8 _).1]; dsimp only; omega
    | ⟨1, _⟩ => show win0_8.index (ptOf R) 1 * 1024 + 1 * l.val = l.val; rw [(index8 _).2]; omega
  rw [e] at h
  refine h.trans ?_
  rw [Value.flushed8, outs_8 m c H YL YM G1 G2 PG W v0 v1 v2 v3 v4 v5 v6]
  exact congrArg (fun Q : Fin 4224 => yrow (YL Q) (YM Q) G1 G2 W l) (rowAt_ptOf R)

end Cert.MixOutFwdKernelIdeal.Hand

end
-- ==== Proof.MixOutFwdEq.lean ====
/- The mixer output's forward call: the kernel and the reference agree. -/
module

public import proofs.«01_k».proof.Defs
public import proofs.«01_k».proof.Proof.MixOutFwdKer
public import proofs.«01_k».proof.Proof.Gen.MixOutFwdRefIdeal.Read
public import Idealize.ShloMosaic.Lib.Pointwise
public import Idealize.ShloMosaic.Lib.Pipeline.Value
public import Idealize.ShloMosaic.Lib.Tactic

@[expose] public section

set_option maxRecDepth 16384

noncomputable section

namespace Cert.MixOutFwdKernelIdeal.Hand

open Cert.MixOutFwdKernelIdeal Cert.MixOutFwdKernelIdeal.Gen Idealize.ShloMosaic Idealize.ShloMosaic.TcCoe Idealize.SL.Sem
open Idealize.ShloMosaic.Pipeline (Dat)
open Cert.Norm Cert.MixOutFwdRefIdeal.Read

/-! ## The reference -/

variable (h : Fin 4112 → Fin 1024 → EReal) (yl ym : Fin 4112 → Fin 512 → EReal) (g1 g2 : Fin 512 → EReal) (pg : Fin 1024 → EReal) (w : Fin 1024 → Fin 1024 → EReal)

/-- Two rows side by side. -/
def catE (x y : Fin 512 → EReal) (j : Fin 1024) : EReal := if h : j.val < 512 then x ⟨j.val, h⟩ else y ⟨j.val - 512, by omega⟩

/-- The product with two rows side by side is the sum of the products with the halves. -/
theorem catE_dot (x y : Fin 512 → EReal) (l : Fin 1024) :
    rowDot (catE x y) w l = rowDot x (fun j => w ⟨0 + j.val, by omega⟩) l + rowDot y (fun j => w ⟨512 + j.val, by omega⟩) l := by
  rw [← rowDot_halves (n := 512) (m := 1024) rfl]
  refine congrArg₂ (· + ·) (Finset.sum_congr rfl fun j _ => ?_) (Finset.sum_congr rfl fun j _ => ?_)
  · refine congrArg₂ (· * ·) ?_ (congrArg (fun k => w k l) (Fin.ext (by show j.val = 0 + j.val; omega)))
    unfold catE
    exact dif_pos j.isLt
  · refine congrArg (· * w ⟨512 + j.val, by omega⟩ l) ?_
    unfold catE
    dsimp only
    rw [dif_neg (by omega)]
    exact congrArg y (Fin.ext (by show 512 + j.val - 512 = j.val; omega))

theorem ref12 : val_main_v12 (F := Ideal) (em yl) (ev g1) = em fun r => nrow (yl r) g1 :=
  host_nrm (W := 512) (by norm_num) 0x44000000#32 yl g1 _ _ _ _ _ _ _ _

theorem ref25 : val_main_v25 (F := Ideal) (em ym) (ev g2) = em fun r => nrow (ym r) g2 :=
  host_nrm (W := 512) (by norm_num) 0x44000000#32 ym g2 _ _ _ _ _ _ _ _

theorem ref26 : val_main_v26 (F := Ideal) (em yl) (em ym) (ev g1) (ev g2) = em fun r => catE (nrow (yl r) g1) (nrow (ym r) g2) := by
  refine eq_em _ _ fun r l => ?_
  unfold val_main_v26
  rw [ref12, ref25]
  pointwise
  unfold catE
  split_ifs <;> first | rfl | (refine congrArg (nrow _ _) (Fin.ext ?_) <;> (simp [Shape.Idx.norm, ix2] <;> rfl))

theorem ref27 : val_main_v27 (F := Ideal) (em yl) (em ym) (ev g1) (ev g2) (em w) = em fun r => yrow (yl r) (ym r) g1 g2 w := by
  refine eq_em _ _ fun r l => Eq.trans ?_ (catE_dot w (nrow (yl r) g1) (nrow (ym r) g2) l)
  unfold val_main_v27
  rw [ref26]
  pointwise
  rfl

theorem ref41 : val_main_v41 (F := Ideal) (em h) (em yl) (em ym) (ev g1) (ev g2) (ev pg) (em w) = em fun r => horow (h r) (yl r) (ym r) g1 g2 pg w := by
  unfold val_main_v41 val_main_v40 val_main_v37 val_main_v36 val_main_v35 val_main_v34 val_main_v32 val_main_v30 val_main_v29 val_main_v28
  rw [ref27]
  exact congrArg (fun z : FVec Ideal S4112x1024 .f32 => addf (em h) z) (host_nrm (W := 1024) (by norm_num) 0x44800000#32 (fun r => yrow (yl r) (ym r) g1 g2 w) pg _ _ _ _ _ _ _ _)

theorem ref43 : val_main_v43 (F := Ideal) (em h) (em yl) (em ym) (ev g1) (ev g2) (ev pg) (em w) = em (padE fun r => horow (h r) (yl r) (ym r) g1 g2 pg w) := by
  unfold val_main_v43
  rw [ref41]
  exact padE_concat _ _ _

theorem ref45 : val_main_v45 (F := Ideal) (em yl) (em ym) (ev g1) (ev g2) (em w) = em (padE fun r => yrow (yl r) (ym r) g1 g2 w) := by
  unfold val_main_v45
  rw [ref27]
  exact padE_concat _ _ _

/-! ## The two agree -/

/-- What the kernel leaves in its two results is what the reference computes. -/
theorem value_eq (a0 : FVec Ideal S4112x1024 .f32) (a1 a2 : FVec Ideal S4112x512 .f32) (a3 a4 : FVec Ideal S512 .f32) (a5 : FVec Ideal S1024 .f32) (a6 : FVec Ideal S1024x1024 .f32)
    (m : (ℓ : Loc nD τ sig) → Buf (Elt Ideal) ℓ) (c : Dev nD)
    (e0 : (m ((c : Thread nD τ).loc main_arg0) : FVec Ideal S4112x1024 .f32) = a0) (e1 : (m ((c : Thread nD τ).loc main_arg1) : FVec Ideal S4112x512 .f32) = a1)
    (e2 : (m ((c : Thread nD τ).loc main_arg2) : FVec Ideal S4112x512 .f32) = a2) (e3 : (m ((c : Thread nD τ).loc main_arg3) : FVec Ideal S512 .f32) = a3)
    (e4 : (m ((c : Thread nD τ).loc main_arg4) : FVec Ideal S512 .f32) = a4) (e5 : (m ((c : Thread nD τ).loc main_arg5) : FVec Ideal S1024 .f32) = a5)
    (e6 : (m ((c : Thread nD τ).loc main_arg6) : FVec Ideal S1024x1024 .f32) = a6) :
    ((dats m 0 c).arrAt 7 cfg0.N : Vec Ideal S4224x1024 .f32) = val_main_v43 (F := Ideal) a0 a1 a2 a3 a4 a5 a6
    ∧ ((dats m 0 c).arrAt 8 cfg0.N : Vec Ideal S4224x1024 .f32) = val_main_v45 (F := Ideal) a1 a2 a3 a4 a6 := by
  have f0 := em_of a0
  have f1 := em_of a1
  have f2 := em_of a2
  have f3 := ev_of a3
  have f4 := ev_of a4
  have f5 := ev_of a5
  have f6 := em_of a6
  generalize (fun (r : Fin 4112) (l : Fin 1024) => a0 (ix2 r l)) = h at f0
  generalize (fun (r : Fin 4112) (l : Fin 512) => a1 (ix2 r l)) = yl at f1
  generalize (fun (r : Fin 4112) (l : Fin 512) => a2 (ix2 r l)) = ym at f2
  generalize (fun l : Fin 512 => a3 (ix1 l)) = g1 at f3
  generalize (fun l : Fin 512 => a4 (ix1 l)) = g2 at f4
  generalize (fun l : Fin 1024 => a5 (ix1 l)) = pg at f5
  generalize (fun (r : Fin 1024) (l : Fin 1024) => a6 (ix2 r l)) = w at f6
  subst f0 f1 f2 f3 f4 f5 f6
  have v0 := V_0 m c h e0
  have v1 := V_1 m c yl e1
  have v2 := V_2 m c ym e2
  have v3 := V_3 m c g1 e3
  have v4 := V_4 m c g2 e4
  have v5 := V_5 m c pg e5
  have v6 := V_6 m c w e6
  exact ⟨((final7 m c _ _ _ _ _ _ _ v0 v1 v2 v3 v4 v5 v6).trans (congrArg em (funext fun Q =>
      padE_map₃ (fun x y z => horow x y z g1 g2 pg w) (horow_zero g1 g2 pg w) h yl ym Q))).trans (ref43 h yl ym g1 g2 pg w).symm,
    ((final8 m c _ _ _ _ _ _ _ v0 v1 v2 v3 v4 v5 v6).trans (congrArg em (funext fun Q =>
      padE_map₂ (fun y z => yrow y z g1 g2 w) (yrow_zero g1 g2 w) yl ym Q))).trans (ref45 yl ym g1 g2 w).symm⟩

end Cert.MixOutFwdKernelIdeal.Hand

end
-- ==== Proof.MlaFwdPay.lean ====
/- The latent attention projections' forward call: the values of the kernel. -/
module

public import proofs.«01_k».proof.Defs
public import proofs.«01_k».proof.Proof.Rows
public import proofs.«01_k».proof.Proof.Gen.MlaFwdKernelIdeal.Skeleton
public import Idealize.ShloMosaic.Lib.Pointwise
public import Idealize.ShloMosaic.Lib.Pipeline.Value
public import Idealize.ShloMosaic.Lib.Tactic

@[expose] public section

set_option maxRecDepth 16384

noncomputable section

namespace Cert.MlaFwdKernelIdeal.Hand

open Cert.MlaFwdKernelIdeal Cert.MlaFwdKernelIdeal.Gen Idealize.ShloMosaic Idealize.ShloMosaic.TcCoe Idealize.SL.Sem
open Idealize.ShloMosaic.Pipeline (Dat)
open Cert.Norm

/-! ## Heads and lanes -/

/-- An array of extended reals with three axes. -/
abbrev ec {a b c : ℕ} (X : Fin a → Fin b → Fin c → EReal) : FVec Ideal ⟨3, ![a, b, c]⟩ .f32 := fun i => X (i 0) (i 1) (i 2)

theorem eq_ec {a b c : ℕ} (x : FVec Ideal ⟨3, ![a, b, c]⟩ .f32) (X : Fin a → Fin b → Fin c → EReal) (h : ∀ p q r, x (ix3 p q r) = X p q r) : x = ec X := by
  funext i
  rw [eq_ix3 i]
  exact h _ _ _

/-- Eight heads of 128 lanes side by side. -/
def heads (x : Fin 8 → Fin 128 → EReal) (j : Fin 1024) : EReal := x ⟨j.val / 128, by omega⟩ ⟨j.val % 128, by omega⟩

/-- A head's 96 entries in 128 lanes. -/
def wide (x : Fin 96 → EReal) (l : Fin 128) : EReal := if h : l.val < 96 then x ⟨l.val, h⟩ else 0

/-- The lane `n` places before, around the end. -/
def before (n : ℕ) (l : Fin 128) : Fin 128 := ⟨(l.val + 128 - n % 128) % 128, by omega⟩

/-- The rotation of a row by the tables of its position. -/
def turn (c s1 s2 x : Fin 128 → EReal) (l : Fin 128) : EReal := x l * c l + x (before 16 l) * s1 l + x (before 112 l) * s2 l

/-- The tables of a position: the lanes a row keeps, the first 64 as they are, the rotary ones by the cosine. -/
def tabc (c : Fin 16 → EReal) (l : Fin 128) : EReal := if l.val < 64 then 1 else if h : l.val < 80 then c ⟨l.val - 64, by omega⟩ else if h : l.val < 96 then c ⟨l.val - 80, by omega⟩ else 0

/-- The sine on the second half of the rotary lanes. -/
def tabhi (s : Fin 16 → EReal) (l : Fin 128) : EReal := if l.val < 80 then 0 else if h : l.val < 96 then s ⟨l.val - 80, by omega⟩ else 0

/-- The negative sine on the first half of the rotary lanes. -/
def tablo (s : Fin 16 → EReal) (l : Fin 128) : EReal := if l.val < 64 then 0 else if h : l.val < 80 then -s ⟨l.val - 64, by omega⟩ else 0

/-- A row, normed and with its gains, times a matrix; `b` spells the row's length. -/
def proj {n k : ℕ} (b : BitVec 32) (x g : Fin n → EReal) (w : Fin n → Fin k → EReal) : Fin k → EReal := rowDot (fun j => nrm b x j * g j) w

theorem proj_zero {n k : ℕ} (b : BitVec 32) (g : Fin n → EReal) (w : Fin n → Fin k → EReal) (l : Fin k) : proj b (fun _ => 0) g w l = 0 :=
  rowDot_zero _ (fun j => by rw [nrm_zero, zero_mul]) w l

/-- The column of lane `l` of head `h`. -/
abbrev colAt (h : Fin 8) (l : Fin 128) : Fin 1024 := ⟨128 * h.val + l.val, by omega⟩

/-- A head's key: the first 64 lanes of its columns, and the shared rotary key's lanes. -/
def keyrow (z : Fin 1024 → EReal) (t : Fin 128 → EReal) (h : Fin 8) (l : Fin 128) : EReal := if l.val < 64 then z (colAt h l) else t l

/-- The heads' values side by side: the last 64 lanes of their columns. -/
def valrow (z : Fin 1024 → EReal) (j : Fin 512) : EReal := z ⟨128 * (j.val / 64) + (64 + j.val % 64), by omega⟩

/-! ## The kernel's values -/

variable (c s1 s2 t : Fin 384 → Fin 128 → EReal) (z : Fin 384 → Fin 1024 → EReal)

theorem pay7_em : k0_pay7 (F := Ideal) (em c) = em c := shapeCast_self _ _
theorem pay8_em : k0_pay8 (F := Ideal) (em c) = em c := shapeCast_self _ _
theorem pay9_em : k0_pay9 (F := Ideal) (em c) = em c := shapeCast_self _ _

theorem turn_em (x : Fin 384 → Fin 128 → EReal) : (addf (addf (mulf (em x : FVec Ideal S384x128 .f32) (em c)) (mulf (dynamicRotate 1 16#32 none (em x : FVec Ideal S384x128 .f32) rotates_S384x128_d1) (em s1)))
    (mulf (dynamicRotate 1 112#32 none (em x : FVec Ideal S384x128 .f32) rotates_S384x128_d1) (em s2))) = em fun r => turn (c r) (s1 r) (s2 r) (x r) := by
  refine eq_em _ _ fun r l => ?_
  pointwise
  rfl

/-- The head's columns. -/
theorem slice_head (h : Fin 8) (hs) : (extractStridedSlice S384x128 ![0, 128 * h.val] (em z : FVec Ideal S384x1024 .f32) hs : FVec Ideal S384x128 .f32) = em fun r l => z r (colAt h l) :=
  slice_em (128 * h.val) (by omega) z hs

theorem stack_em (x : Fin 384 → Fin 128 → EReal) (hb) (hs) : (shapeCast S1x384x128 (truncf .bf16 (em x : FVec Ideal S384x128 .f32) hb) hs : FVec Ideal S1x384x128 .bf16) = ec fun (_ : Fin 1) => x := by
  refine eq_ec _ _ fun q r l => ?_
  pointwise
  rfl

/-- A head's query: its columns, turned by the position's tables. -/
theorem query_em (h : Fin 8) (hs) (hb) (hc) : (shapeCast S1x384x128 (truncf .bf16 (addf (addf (mulf (extractStridedSlice S384x128 ![0, 128 * h.val] (em z : FVec Ideal S384x1024 .f32) hs : FVec Ideal S384x128 .f32) (em c))
      (mulf (dynamicRotate 1 16#32 none (extractStridedSlice S384x128 ![0, 128 * h.val] (em z : FVec Ideal S384x1024 .f32) hs : FVec Ideal S384x128 .f32) rotates_S384x128_d1) (em s1)))
    (mulf (dynamicRotate 1 112#32 none (extractStridedSlice S384x128 ![0, 128 * h.val] (em z : FVec Ideal S384x1024 .f32) hs : FVec Ideal S384x128 .f32) rotates_S384x128_d1) (em s2))) hb) hc : FVec Ideal S1x384x128 .bf16)
    = ec fun (_ : Fin 1) r => turn (c r) (s1 r) (s2 r) fun l => z r (colAt h l) := by
  rw [slice_head, turn_em]
  exact stack_em _ _ _

theorem pay10_at (r : Fin 384) (l : Fin 128) : k0_pay10 (ix2 r l) = if l.val < 64 then 1#1 else 0#1 := by
  pointwise [k0_pay10]
  revert l
  decide

theorem low_em (x y : Fin 384 → Fin 128 → EReal) : (select k0_pay10 (em x : FVec Ideal S384x128 .f32) (em y)) = em fun r l => if l.val < 64 then x r l else y r l := by
  refine eq_em _ _ fun r l => ?_
  show Scalar.select (k0_pay10 (ix2 r l)) _ _ = _
  rw [pay10_at]
  by_cases h : l.val < 64
  · rw [if_pos h, if_pos h]; rfl
  · rw [if_neg h, if_neg h]; rfl

/-- A head's key. -/
theorem key_em (h : Fin 8) (hs) (hb) (hc) : (shapeCast S1x384x128 (truncf .bf16 (select k0_pay10 (extractStridedSlice S384x128 ![0, 128 * h.val] (em z : FVec Ideal S384x1024 .f32) hs : FVec Ideal S384x128 .f32) (em t)) hb) hc : FVec Ideal S1x384x128 .bf16)
    = ec fun (_ : Fin 1) r => keyrow (z r) (t r) h := by
  rw [slice_head, low_em]
  exact stack_em _ _ _

/-- Two heads' values side by side. -/
theorem pair_em (p : Fin 4) (hs) (hs') (hb) : (truncf .bf16 (select k0_pay10 (dynamicRotate 1 64#32 none (extractStridedSlice S384x128 ![0, 256 * p.val] (em z : FVec Ideal S384x1024 .f32) hs : FVec Ideal S384x128 .f32) rotates_S384x128_d1)
      (extractStridedSlice S384x128 ![0, 256 * p.val + 128] (em z : FVec Ideal S384x1024 .f32) hs' : FVec Ideal S384x128 .f32)) hb : FVec Ideal S384x128 .bf16)
    = em fun r (l : Fin 128) => valrow (z r) ⟨128 * p.val + l.val, by omega⟩ := by
  have e1 : (extractStridedSlice S384x128 ![0, 256 * p.val] (em z : FVec Ideal S384x1024 .f32) hs : FVec Ideal S384x128 .f32) = _ := slice_em (256 * p.val) (by omega) z hs
  have e2 : (extractStridedSlice S384x128 ![0, 256 * p.val + 128] (em z : FVec Ideal S384x1024 .f32) hs' : FVec Ideal S384x128 .f32) = _ := slice_em (256 * p.val + 128) (by omega) z hs'
  have e3 : ∀ x : Fin 384 → Fin 128 → EReal, (dynamicRotate 1 64#32 none (em x : FVec Ideal S384x128 .f32) rotates_S384x128_d1) = em fun r l => x r (before 64 l) := by
    intro x
    refine eq_em _ _ fun r l => ?_
    pointwise
    rfl
  rw [e1, e2, e3, low_em]
  refine eq_em _ _ fun r l => ?_
  show (if l.val < 64 then z r ⟨256 * p.val + (l.val + 128 - 64 % 128) % 128, _⟩ else z r ⟨256 * p.val + 128 + l.val, _⟩) = z r ⟨128 * ((128 * p.val + l.val) / 64) + (64 + (128 * p.val + l.val) % 64), _⟩
  split_ifs with h <;> exact congrArg (z r) (Fin.ext (by dsimp only; omega))

theorem pay16_em : k0_pay16 (F := Ideal) (em c) (em s1) (em s2) (em t) = em fun r => turn (c r) (s1 r) (s2 r) (t r) := by
  unfold k0_pay16
  dsimp only
  simp only [shapeCast_self]
  exact turn_em _ _ _ _

theorem pay11_em (x : Fin 384 → Fin 384 → EReal) (g : Fin 1 → Fin 384 → EReal) (w : Fin 384 → Fin 1024 → EReal) : k0_pay11 (F := Ideal) (em x) (em g) (em w) = em fun r => proj 0x43C00000#32 (x r) (g 0) w := by
  unfold k0_pay11
  dsimp only
  simp only [shapeCast_self]
  refine Eq.trans (congrArg (fun z : FVec Ideal S384x384 .f32 => matmul dot_S384x384_S384x1024_S384x1024_1_0_0_1_n_n none (truncf .bf16 z bitsLt_bf16_f32) (em w) (constant S384x1024 .f32 0x00000000#32))
    (ker_nrm (W := 384) (by norm_num) 0x43C00000#32 x g _ _ _ _ _ _)) ?_
  refine eq_em _ _ fun r l => ?_
  pointwise
  rfl

theorem pay15_em (x : Fin 384 → Fin 256 → EReal) (g : Fin 1 → Fin 256 → EReal) (w : Fin 256 → Fin 1024 → EReal) :
    k0_pay15 (F := Ideal) (k0_pay12 (em x)) (k0_pay13 (em g)) (k0_pay14 (em x)) (Scalar.ofBits .f32 0x43800000#32) (em w) = em fun r => proj 0x43800000#32 (x r) (g 0) w := by
  unfold k0_pay15 k0_pay14 k0_pay13 k0_pay12
  dsimp only
  simp only [shapeCast_self]
  refine Eq.trans (congrArg (fun z : FVec Ideal S384x256 .f32 => matmul dot_S384x256_S256x1024_S384x1024_1_0_0_1_n_n none (truncf .bf16 z bitsLt_bf16_f32) (em w) (constant S384x1024 .f32 0x00000000#32))
    (ker_nrm (W := 256) (by norm_num) 0x43800000#32 x g _ _ _ _ _ _)) ?_
  refine eq_em _ _ fun r l => ?_
  pointwise
  rfl

/-! ## The stores -/

/-- The eight heads' stores leave the heads' array. -/
theorem canon_heads (P : Fin 8 → Fin 384 → Fin 128 → EReal) (p0 p1 p2 p3 p4 p5 p6 p7 : Vec Ideal S1x384x128 .bf16) (i0 i1 i2 i3 i4 i5 i6 i7)
    (h0 : p0 = ec fun (_ : Fin 1) => P 0) (h1 : p1 = ec fun (_ : Fin 1) => P 1) (h2 : p2 = ec fun (_ : Fin 1) => P 2) (h3 : p3 = ec fun (_ : Fin 1) => P 3) (h4 : p4 = ec fun (_ : Fin 1) => P 4) (h5 : p5 = ec fun (_ : Fin 1) => P 5) (h6 : p6 = ec fun (_ : Fin 1) => P 6) (h7 : p7 = ec fun (_ : Fin 1) => P 7) :
    View.canon (Val := Elt Ideal) (s := S8x384x128) (e := .bf16) [⟨Rect.unit ![7, 0, 0] ![1, 384, 128] i7, p7⟩, ⟨Rect.unit ![6, 0, 0] ![1, 384, 128] i6, p6⟩, ⟨Rect.unit ![5, 0, 0] ![1, 384, 128] i5, p5⟩, ⟨Rect.unit ![4, 0, 0] ![1, 384, 128] i4, p4⟩, ⟨Rect.unit ![3, 0, 0] ![1, 384, 128] i3, p3⟩, ⟨Rect.unit ![2, 0, 0] ![1, 384, 128] i2, p2⟩, ⟨Rect.unit ![1, 0, 0] ![1, 384, 128] i1, p1⟩, ⟨Rect.unit ![0, 0, 0] ![1, 384, 128] i0, p0⟩] = ec P := by
  subst h0 h1 h2 h3 h4 h5 h6 h7
  funext y
  refine View.canon_apply_of_pieces (Val := Elt Ideal) (S := S8x384x128) (e := .bf16) (ec P) _ (fun p hp x => ?_) y ?_
  · have key : ∀ (k : Fin 8) (inb) (x : (S1x384x128).Idx), (ec fun (_ : Fin 1) => P k : Vec Ideal S1x384x128 .bf16) x = (ec P : Vec Ideal S8x384x128 .bf16) ((Rect.unit (s := S8x384x128) ![k.val, 0, 0] ![1, 384, 128] inb).emb x) := by
      intro k inb x
      have h0 : (x 0 : Nat) < 1 := (x 0).isLt
      show _ = P ⟨k.val + 1 * (x 0).val, _⟩ ⟨0 + 1 * (x 1).val, _⟩ ⟨0 + 1 * (x 2).val, _⟩
      refine congr (congrArg₂ P (Fin.ext ?_) (Fin.ext ?_)) (Fin.ext ?_)
      · show k.val = k.val + 1 * (x 0).val; omega
      · show (x 1).val = 0 + 1 * (x 1).val; omega
      · show (x 2).val = 0 + 1 * (x 2).val; omega
    simp only [List.mem_cons, List.not_mem_nil, or_false] at hp
    rcases hp with rfl | rfl | rfl | rfl | rfl | rfl | rfl | rfl
    exacts [key 7 i7 x, key 6 i6 x, key 5 i5 x, key 4 i4 x, key 3 i3 x, key 2 i2 x, key 1 i1 x, key 0 i0 x]
  · have h0 : (y 0 : Nat) < 8 := (y 0).isLt
    have h1 : (y 1 : Nat) < 384 := (y 1).isLt
    have h2 : (y 2 : Nat) < 128 := (y 2).isLt
    have key : ∀ (k : ℕ) (inb), (y 0 : Nat) = k → y ∈ (Rect.unit (s := S8x384x128) ![k, 0, 0] ![1, 384, 128] inb).set := by
      intro k inb ha
      rw [Rect.mem_set_unit]
      intro a
      match a with
      | ⟨0, _⟩ => show k ≤ (y 0 : Nat) ∧ (y 0 : Nat) < k + 1; omega
      | ⟨1, _⟩ => show 0 ≤ (y 1 : Nat) ∧ (y 1 : Nat) < 0 + 384; omega
      | ⟨2, _⟩ => show 0 ≤ (y 2 : Nat) ∧ (y 2 : Nat) < 0 + 128; omega
    simp only [List.mem_cons, List.not_mem_nil, or_false, exists_eq_or_imp, exists_eq_left]
    have hc : (y 0 : Nat) = 7 ∨ (y 0 : Nat) = 6 ∨ (y 0 : Nat) = 5 ∨ (y 0 : Nat) = 4 ∨ (y 0 : Nat) = 3 ∨ (y 0 : Nat) = 2 ∨ (y 0 : Nat) = 1 ∨ (y 0 : Nat) = 0 := by omega
    rcases hc with h | h | h | h | h | h | h | h
    exacts [.inl (key 7 i7 h), .inr (.inl (key 6 i6 h)), .inr (.inr (.inl (key 5 i5 h))), .inr (.inr (.inr (.inl (key 4 i4 h)))), .inr (.inr (.inr (.inr (.inl (key 3 i3 h))))), .inr (.inr (.inr (.inr (.inr (.inl (key 2 i2 h)))))), .inr (.inr (.inr (.inr (.inr (.inr (.inl (key 1 i1 h))))))), .inr (.inr (.inr (.inr (.inr (.inr (.inr ((key 0 i0 h))))))))]

/-- The four pairs' stores leave the values' array. -/
theorem canon_pairs (p0 p1 p2 p3 : Vec Ideal S384x128 .bf16) (i0 i1 i2 i3) (V : Fin 384 → Fin 512 → EReal)
    (h0 : p0 = em fun r (l : Fin 128) => V r ⟨128 * 0 + l.val, by omega⟩) (h1 : p1 = em fun r (l : Fin 128) => V r ⟨128 * 1 + l.val, by omega⟩) (h2 : p2 = em fun r (l : Fin 128) => V r ⟨128 * 2 + l.val, by omega⟩) (h3 : p3 = em fun r (l : Fin 128) => V r ⟨128 * 3 + l.val, by omega⟩) :
    View.canon (Val := Elt Ideal) (s := S384x512) (e := .bf16) [⟨Rect.unit ![0, 384] ![384, 128] i3, p3⟩, ⟨Rect.unit ![0, 256] ![384, 128] i2, p2⟩, ⟨Rect.unit ![0, 128] ![384, 128] i1, p1⟩, ⟨Rect.unit ![0, 0] ![384, 128] i0, p0⟩] = em V := by
  subst h0 h1 h2 h3
  funext y
  refine View.canon_apply_of_pieces (Val := Elt Ideal) (S := S384x512) (e := .bf16) (em V) _ (fun p hp x => ?_) y ?_
  · have key : ∀ (k : Fin 4) (inb) (x : (S384x128).Idx), (em fun r (l : Fin 128) => V r ⟨128 * k.val + l.val, by omega⟩ : Vec Ideal S384x128 .bf16) x = (em V : Vec Ideal S384x512 .bf16) ((Rect.unit (s := S384x512) ![0, 128 * k.val] ![384, 128] inb).emb x) := by
      intro k inb x
      show V _ ⟨128 * k.val + (x 1).val, _⟩ = V ⟨0 + 1 * (x 0).val, _⟩ ⟨128 * k.val + 1 * (x 1).val, _⟩
      refine congrArg₂ V (Fin.ext ?_) (Fin.ext ?_)
      · show (x 0).val = 0 + 1 * (x 0).val; omega
      · show 128 * k.val + (x 1).val = 128 * k.val + 1 * (x 1).val; omega
    simp only [List.mem_cons, List.not_mem_nil, or_false] at hp
    rcases hp with rfl | rfl | rfl | rfl
    exacts [key 3 i3 x, key 2 i2 x, key 1 i1 x, key 0 i0 x]
  · have h0 : (y 0 : Nat) < 384 := (y 0).isLt
    have h1 : (y 1 : Nat) < 512 := (y 1).isLt
    have key : ∀ (k : ℕ) (inb), 128 * k ≤ (y 1 : Nat) ∧ (y 1 : Nat) < 128 * k + 128 → y ∈ (Rect.unit (s := S384x512) ![0, 128 * k] ![384, 128] inb).set := by
      intro k inb ha
      rw [Rect.mem_set_unit]
      intro a
      match a with
      | ⟨0, _⟩ => show 0 ≤ (y 0 : Nat) ∧ (y 0 : Nat) < 0 + 384; omega
      | ⟨1, _⟩ => exact ha
    simp only [List.mem_cons, List.not_mem_nil, or_false, exists_eq_or_imp, exists_eq_left]
    have hc : (128 * 3 ≤ (y 1 : Nat) ∧ (y 1 : Nat) < 128 * 3 + 128) ∨ (128 * 2 ≤ (y 1 : Nat) ∧ (y 1 : Nat) < 128 * 2 + 128) ∨ (128 * 1 ≤ (y 1 : Nat) ∧ (y 1 : Nat) < 128 * 1 + 128) ∨ (128 * 0 ≤ (y 1 : Nat) ∧ (y 1 : Nat) < 128 * 0 + 128) := by omega
    rcases hc with h | h | h | h
    exacts [.inl (key 3 i3 h), .inr (.inl (key 2 i2 h)), .inr (.inr (.inl (key 1 i1 h))), .inr (.inr (.inr ((key 0 i0 h))))]

end Cert.MlaFwdKernelIdeal.Hand

end
-- ==== Proof.MlaFwdHost.lean ====
/- The latent attention projections' forward call: the arrays its launch reads, and its blocks. -/
module

public import proofs.«01_k».proof.Defs
public import proofs.«01_k».proof.Proof.Rows
public import proofs.«01_k».proof.Proof.Sigmoid
public import proofs.«01_k».proof.Proof.MlaFwdPay
public import proofs.«01_k».proof.Proof.Gen.MlaFwdKernelIdeal.Value
public import Idealize.ShloMosaic.Lib.Pointwise
public import Idealize.ShloMosaic.Lib.Pipeline.Value
public import Idealize.ShloMosaic.Lib.Tactic

@[expose] public section

set_option maxRecDepth 16384

noncomputable section

namespace Cert.MlaFwdKernelIdeal.Hand

open Cert.MlaFwdKernelIdeal Cert.MlaFwdKernelIdeal.Gen Idealize.ShloMosaic Idealize.ShloMosaic.TcCoe Idealize.SL.Sem
open Idealize.ShloMosaic.Pipeline (Dat)
open Cert.Norm

theorem hz : (![0, 0] : Fin 2 → Nat) = fun _ => 0 := funext fun a => by fin_cases a <;> rfl

variable (m : (ℓ : Loc nD τ sig) → Buf (Elt Ideal) ℓ)

/-! ## The arrays the pipeline reads -/

variable (c : Dev nD)

theorem V_0 (X : Fin 4112 → Fin 384 → EReal) (h : (m ((c : Thread nD τ).loc main_arg0) : FVec Ideal S4112x384 .f32) = em X) :
    (V m c main_v1 : Vec Ideal S4224x384 .f32) = em (padE X) := by
  refine Eq.trans ?_ (padE_concat X bcast_S_S112x384 concatenates_S4112x384_S112x384_S4224x384_d0)
  rw [← h]
  show StableHlo.after hostOps0 _ (Proc.devRef .tc main_v1) = _
  simp only [hostOps0, List.flatten_cons, List.flatten_nil, List.append_nil, List.cons_append, List.nil_append]
  after_results
  try rfl

theorem V_1 (X : Fin 4112 → Fin 256 → EReal) (h : (m ((c : Thread nD τ).loc main_arg1) : FVec Ideal S4112x256 .f32) = em X) :
    (V m c main_v3 : Vec Ideal S4224x256 .f32) = em (padE X) := by
  refine Eq.trans ?_ (padE_concat X bcast_S_S112x256 concatenates_S4112x256_S112x256_S4224x256_d0)
  rw [← h]
  show StableHlo.after hostOps0 _ (Proc.devRef .tc main_v3) = _
  simp only [hostOps0, List.flatten_cons, List.flatten_nil, List.append_nil, List.cons_append, List.nil_append]
  after_results
  try rfl

/-- The 32 columns of the rotary key at lane 64 of 128. -/
def lanes (x : Fin 32 → EReal) (j : Fin 128) : EReal := if j.val < 64 then 0 else if h : j.val < 96 then x ⟨j.val - 64, by omega⟩ else 0

theorem lanes_concat (X : Fin 4112 → Fin 32 → EReal) : (concatenate S4112x128 1 [⟨S4112x64, broadcastInDim S4112x64 ![] bcast_S_S4112x64 (constant (F := Ideal) S_ .f32 0x00000000#32)⟩, ⟨S4112x32, (em X : FVec Ideal S4112x32 .f32)⟩,
      ⟨S4112x32, broadcastInDim S4112x32 ![] bcast_S_S4112x32 (constant (F := Ideal) S_ .f32 0x00000000#32)⟩] concatenates_S4112x64_S4112x32_S4112x32_S4112x128_d1 : FVec Ideal S4112x128 .f32) = em fun r => lanes (X r) := by
  refine eq_em _ _ fun r l => ?_
  pointwise
  unfold lanes
  split_ifs <;> first | rfl | (exfalso; omega) | (rw [dif_pos (by omega)]; rfl) | (rw [dif_neg (by omega), dif_pos (by omega)]; rfl)

theorem V_2 (X : Fin 4112 → Fin 32 → EReal) (h : (m ((c : Thread nD τ).loc main_arg2) : FVec Ideal S4112x32 .f32) = em X) :
    (V m c main_v8 : Vec Ideal S4224x128 .f32) = em (padE fun r => lanes (X r)) := by
  refine Eq.trans ?_ ((congrArg (fun z : FVec Ideal S4112x128 .f32 => (concatenate S4224x128 0 [⟨S4112x128, z⟩, ⟨S112x128, broadcastInDim S112x128 ![] bcast_S_S112x128 (constant (F := Ideal) S_ .f32 0x00000000#32)⟩] concatenates_S4112x128_S112x128_S4224x128_d0 : FVec Ideal S4224x128 .f32)) (lanes_concat X)).trans (padE_concat _ bcast_S_S112x128 concatenates_S4112x128_S112x128_S4224x128_d0))
  rw [← h]
  show StableHlo.after hostOps0 _ (Proc.devRef .tc main_v8) = _
  simp only [hostOps0, List.flatten_cons, List.flatten_nil, List.append_nil, List.cons_append, List.nil_append]
  after_results
  try rfl

/-- Gains as a matrix of one row. -/
theorem row_384 (G : Fin 384 → EReal) (h) : (shapeCast ⟨2, ![1, 384]⟩ (ev G : FVec Ideal ⟨1, ![384]⟩ .f32) h : FVec Ideal ⟨2, ![1, 384]⟩ .f32) = em fun _ => G := by
  refine eq_em _ _ fun r l => ?_
  pointwise
  try rfl

/-- Gains as a matrix of one row. -/
theorem row_256 (G : Fin 256 → EReal) (h) : (shapeCast ⟨2, ![1, 256]⟩ (ev G : FVec Ideal ⟨1, ![256]⟩ .f32) h : FVec Ideal ⟨2, ![1, 256]⟩ .f32) = em fun _ => G := by
  refine eq_em _ _ fun r l => ?_
  pointwise
  try rfl

theorem V_3 (G : Fin 384 → EReal) (h : (m ((c : Thread nD τ).loc main_arg5) : FVec Ideal S384 .f32) = ev G) :
    (V m c main_v9 : Vec Ideal S1x384 .f32) = em fun _ => G := by
  refine Eq.trans ?_ (row_384 G rfl)
  rw [← h]
  show StableHlo.after hostOps0 _ (Proc.devRef .tc main_v9) = _
  simp only [hostOps0, List.flatten_cons, List.flatten_nil, List.append_nil, List.cons_append, List.nil_append]
  after_results
  try rfl

theorem V_4 (G : Fin 256 → EReal) (h : (m ((c : Thread nD τ).loc main_arg6) : FVec Ideal S256 .f32) = ev G) :
    (V m c main_v10 : Vec Ideal S1x256 .f32) = em fun _ => G := by
  refine Eq.trans ?_ (row_256 G rfl)
  rw [← h]
  show StableHlo.after hostOps0 _ (Proc.devRef .tc main_v10) = _
  simp only [hostOps0, List.flatten_cons, List.flatten_nil, List.append_nil, List.cons_append, List.nil_append]
  after_results
  try rfl

theorem weight_lanes (W : Fin 384 → Fin 768 → EReal) : (shapeCast S384x1024 (concatenate S384x8x128 2 [⟨S384x8x96, shapeCast S384x8x96 (em W : FVec Ideal S384x768 .f32) shapeCasts_S384x768_S384x8x96⟩, ⟨S384x8x32, broadcastInDim S384x8x32 ![] bcast_S_S384x8x32 (constant (F := Ideal) S_ .f32 0x00000000#32)⟩] concatenates_S384x8x96_S384x8x32_S384x8x128_d2) shapeCasts_S384x8x128_S384x1024 : FVec Ideal S384x1024 .f32)
    = em fun l => heads fun h => wide fun e => W l ⟨h.val * 96 + e.val, by omega⟩ := by
  refine eq_em _ _ fun r l => ?_
  pointwise
  unfold heads wide
  dsimp only
  split_ifs <;> first | rfl | (exfalso; omega)

theorem V_5 (W : Fin 384 → Fin 768 → EReal) (h : (m ((c : Thread nD τ).loc main_arg7) : FVec Ideal S384x768 .f32) = em W) :
    (V m c main_v15 : Vec Ideal S384x1024 .bf16) = em fun l => heads fun h => wide fun e => W l ⟨h.val * 96 + e.val, by omega⟩ := by
  refine Eq.trans ?_ (weight_lanes W)
  rw [← h]
  show StableHlo.after hostOps0 _ (Proc.devRef .tc main_v15) = _
  simp only [hostOps0, List.flatten_cons, List.flatten_nil, List.append_nil, List.cons_append, List.nil_append]
  after_results
  try rfl

theorem V_6 (X : Fin 256 → Fin 1024 → EReal) (h : (m ((c : Thread nD τ).loc main_arg8) : FVec Ideal S256x1024 .f32) = em X) :
    (V m c main_v16 : Vec Ideal S256x1024 .bf16) = em X := by
  refine Eq.trans ?_ (h)
  show StableHlo.after hostOps0 _ (Proc.devRef .tc main_v16) = _
  simp only [hostOps0, List.flatten_cons, List.flatten_nil, List.append_nil, List.cons_append, List.nil_append]
  after_results
  try rfl

theorem tabc_concat (P : Fin 4224 → Fin 16 → EReal) : (concatenate S4224x128 1 [⟨S4224x64, broadcastInDim S4224x64 ![] bcast_S_S4224x64 (constant (F := Ideal) S_ .f32 0x3F800000#32)⟩, ⟨S4224x16, (em P : FVec Ideal S4224x16 .f32)⟩, ⟨S4224x16, (em P : FVec Ideal S4224x16 .f32)⟩, ⟨S4224x32, broadcastInDim S4224x32 ![] bcast_S_S4224x32 (constant (F := Ideal) S_ .f32 0x00000000#32)⟩] concatenates_S4224x64_S4224x16_S4224x16_S4224x32_S4224x128_d1 : FVec Ideal S4224x128 .f32) = em fun R => tabc (P R) := by
  refine eq_em _ _ fun R l => ?_
  pointwise
  unfold tabc
  split_ifs <;> first | rfl | exact lit_one | (exfalso; omega) | (rw [dif_pos (by omega)]; rfl) | (rw [dif_neg (by omega), dif_pos (by omega)]; rfl)

theorem V_7 (X : Fin 4112 → Fin 16 → EReal) (h : (m ((c : Thread nD τ).loc main_arg3) : FVec Ideal S4112x16 .f32) = em X) :
    (V m c main_v23 : Vec Ideal S4224x128 .f32) = em fun R => tabc (padE X R) := by
  refine Eq.trans ?_ ((congrArg (fun z : FVec Ideal S4224x16 .f32 => (concatenate S4224x128 1 [⟨S4224x64, broadcastInDim S4224x64 ![] bcast_S_S4224x64 (constant (F := Ideal) S_ .f32 0x3F800000#32)⟩, ⟨S4224x16, z⟩, ⟨S4224x16, z⟩, ⟨S4224x32, broadcastInDim S4224x32 ![] bcast_S_S4224x32 (constant (F := Ideal) S_ .f32 0x00000000#32)⟩] concatenates_S4224x64_S4224x16_S4224x16_S4224x32_S4224x128_d1 : FVec Ideal S4224x128 .f32)) (padE_concat X bcast_S_S112x16 concatenates_S4112x16_S112x16_S4224x16_d0)).trans (tabc_concat _))
  rw [← h]
  show StableHlo.after hostOps0 _ (Proc.devRef .tc main_v23) = _
  simp only [hostOps0, List.flatten_cons, List.flatten_nil, List.append_nil, List.cons_append, List.nil_append]
  after_results
  try rfl

theorem tabhi_concat (P : Fin 4224 → Fin 16 → EReal) : (concatenate S4224x128 1 [⟨S4224x80, broadcastInDim S4224x80 ![] bcast_S_S4224x80 (constant (F := Ideal) S_ .f32 0x00000000#32)⟩, ⟨S4224x16, (em P : FVec Ideal S4224x16 .f32)⟩, ⟨S4224x32, broadcastInDim S4224x32 ![] bcast_S_S4224x32 (constant (F := Ideal) S_ .f32 0x00000000#32)⟩] concatenates_S4224x80_S4224x16_S4224x32_S4224x128_d1 : FVec Ideal S4224x128 .f32) = em fun R => tabhi (P R) := by
  refine eq_em _ _ fun R l => ?_
  pointwise
  unfold tabhi
  split_ifs <;> first | rfl | exact lit_one | (exfalso; omega) | (rw [dif_pos (by omega)]; rfl) | (rw [dif_neg (by omega), dif_pos (by omega)]; rfl)

theorem V_8 (X : Fin 4112 → Fin 16 → EReal) (h : (m ((c : Thread nD τ).loc main_arg4) : FVec Ideal S4112x16 .f32) = em X) :
    (V m c main_v26 : Vec Ideal S4224x128 .f32) = em fun R => tabhi (padE X R) := by
  refine Eq.trans ?_ ((congrArg (fun z : FVec Ideal S4224x16 .f32 => (concatenate S4224x128 1 [⟨S4224x80, broadcastInDim S4224x80 ![] bcast_S_S4224x80 (constant (F := Ideal) S_ .f32 0x00000000#32)⟩, ⟨S4224x16, z⟩, ⟨S4224x32, broadcastInDim S4224x32 ![] bcast_S_S4224x32 (constant (F := Ideal) S_ .f32 0x00000000#32)⟩] concatenates_S4224x80_S4224x16_S4224x32_S4224x128_d1 : FVec Ideal S4224x128 .f32)) (padE_concat X bcast_S_S112x16 concatenates_S4112x16_S112x16_S4224x16_d0)).trans (tabhi_concat _))
  rw [← h]
  show StableHlo.after hostOps0 _ (Proc.devRef .tc main_v26) = _
  simp only [hostOps0, List.flatten_cons, List.flatten_nil, List.append_nil, List.cons_append, List.nil_append]
  after_results
  try rfl

theorem tablo_concat (P : Fin 4224 → Fin 16 → EReal) : (concatenate S4224x128 1 [⟨S4224x64, broadcastInDim S4224x64 ![] bcast_S_S4224x64 (constant (F := Ideal) S_ .f32 0x00000000#32)⟩, ⟨S4224x16, Host.negf (em P : FVec Ideal S4224x16 .f32)⟩, ⟨S4224x48, broadcastInDim S4224x48 ![] bcast_S_S4224x48 (constant (F := Ideal) S_ .f32 0x00000000#32)⟩] concatenates_S4224x64_S4224x16_S4224x48_S4224x128_d1 : FVec Ideal S4224x128 .f32) = em fun R => tablo (P R) := by
  refine eq_em _ _ fun R l => ?_
  pointwise
  unfold tablo
  split_ifs <;> first | rfl | exact lit_one | (exfalso; omega) | (rw [dif_pos (by omega)]; rfl) | (rw [dif_neg (by omega), dif_pos (by omega)]; rfl)

theorem V_9 (X : Fin 4112 → Fin 16 → EReal) (h : (m ((c : Thread nD τ).loc main_arg4) : FVec Ideal S4112x16 .f32) = em X) :
    (V m c main_v30 : Vec Ideal S4224x128 .f32) = em fun R => tablo (padE X R) := by
  refine Eq.trans ?_ ((congrArg (fun z : FVec Ideal S4224x16 .f32 => (concatenate S4224x128 1 [⟨S4224x64, broadcastInDim S4224x64 ![] bcast_S_S4224x64 (constant (F := Ideal) S_ .f32 0x00000000#32)⟩, ⟨S4224x16, Host.negf z⟩, ⟨S4224x48, broadcastInDim S4224x48 ![] bcast_S_S4224x48 (constant (F := Ideal) S_ .f32 0x00000000#32)⟩] concatenates_S4224x64_S4224x16_S4224x48_S4224x128_d1 : FVec Ideal S4224x128 .f32)) (padE_concat X bcast_S_S112x16 concatenates_S4112x16_S112x16_S4224x16_d0)).trans (tablo_concat _))
  rw [← h]
  show StableHlo.after hostOps0 _ (Proc.devRef .tc main_v30) = _
  simp only [hostOps0, List.flatten_cons, List.flatten_nil, List.append_nil, List.cons_append, List.nil_append]
  after_results
  try rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

/-- The place of row `R` in its block. -/
abbrev inBlk (R : Fin 4224) : Fin 384 := ⟨R.val % 384, Nat.mod_lt _ (by decide)⟩

theorem rowAt_ptOf (R : Fin 4224) : rowAt (ptOf R) (inBlk R) = R := Fin.ext (by show 384 * (R.val / 384) + R.val % 384 = R.val; omega)

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index7 (t : Fin cfg0.N) : win0_7.index t 0 = t.val ∧ win0_7.index t 1 = 0 :=
  (by decide +kernel : ∀ t : Fin grid0.N, win0_7.index t 0 = t.val ∧ win0_7.index t 1 = 0) t
theorem index8 (t : Fin cfg0.N) : win0_8.index t 0 = t.val ∧ win0_8.index t 1 = 0 :=
  (by decide +kernel : ∀ t : Fin grid0.N, win0_8.index t 0 = t.val ∧ win0_8.index t 1 = 0) t
theorem index9 (t : Fin cfg0.N) : win0_9.index t 0 = t.val ∧ win0_9.index t 1 = 0 :=
  (by decide +kernel : ∀ t : Fin grid0.N, win0_9.index t 0 = t.val ∧ win0_9.index t 1 = 0) t
theorem index12 (t : Fin cfg0.N) : win0_12.index t 0 = t.val ∧ win0_12.index t 1 = 0 :=
  (by decide +kernel : ∀ t : Fin grid0.N, win0_12.index t 0 = t.val ∧ win0_12.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = 0 ∧ win0_5.index t 1 = 0 :=
  (by decide +kernel : ∀ t : Fin grid0.N, win0_5.index t 0 = 0 ∧ win0_5.index t 1 = 0) t
theorem index6 (t : Fin cfg0.N) : win0_6.index t 0 = 0 ∧ win0_6.index t 1 = 0 :=
  (by decide +kernel : ∀ t : Fin grid0.N, win0_6.index t 0 = 0 ∧ win0_6.index t 1 = 0) t
theorem index10 (t : Fin cfg0.N) : win0_10.index t 0 = 0 ∧ win0_10.index t 1 = t.val ∧ win0_10.index t 2 = 0 :=
  (by decide +kernel : ∀ t : Fin grid0.N, win0_10.index t 0 = 0 ∧ win0_10.index t 1 = t.val ∧ win0_10.index t 2 = 0) t
theorem index11 (t : Fin cfg0.N) : win0_11.index t 0 = 0 ∧ win0_11.index t 1 = t.val ∧ win0_11.index t 2 = 0 :=
  (by decide +kernel : ∀ t : Fin grid0.N, win0_11.index t 0 = 0 ∧ win0_11.index t 1 = t.val ∧ win0_11.index t 2 = 0) t

theorem iblk0_em (t : Fin cfg0.N) (X : Fin 4224 → Fin 384 → EReal) (h : (V m c main_v1 : Vec Ideal S4224x384 .f32) = em X) :
    (iblk m c 0 t : Vec Ideal S384x384 .f32) = em fun r => X (rowAt t r) := by
  funext i; rw [eq_ix2 i]; generalize i 0 = r; generalize i 1 = l
  refine (View.read_apply ..).trans ((congrArg (V m c main_v1 : Vec Ideal S4224x384 .f32) (funext fun a => Fin.ext ?_ : _ = ix2 (rowAt t r) l)).trans (congrFun h _))
  match a with
  | ⟨0, _⟩ => show win0_0.index t 0 * 384 + 1 * r.val = 384 * t.val + r.val; rw [(index0 t).1]; omega
  | ⟨1, _⟩ => show win0_0.index t 1 * 384 + 1 * l.val = l.val; rw [(index0 t).2]; omega

theorem iblk1_em (t : Fin cfg0.N) (X : Fin 4224 → Fin 256 → EReal) (h : (V m c main_v3 : Vec Ideal S4224x256 .f32) = em X) :
    (iblk m c 1 t : Vec Ideal S384x256 .f32) = em fun r => X (rowAt t r) := by
  funext i; rw [eq_ix2 i]; generalize i 0 = r; generalize i 1 = l
  refine (View.read_apply ..).trans ((congrArg (V m c main_v3 : Vec Ideal S4224x256 .f32) (funext fun a => Fin.ext ?_ : _ = ix2 (rowAt t r) l)).trans (congrFun h _))
  match a with
  | ⟨0, _⟩ => show win0_1.index t 0 * 384 + 1 * r.val = 384 * t.val + r.val; rw [(index1 t).1]; omega
  | ⟨1, _⟩ => show win0_1.index t 1 * 256 + 1 * l.val = l.val; rw [(index1 t).2]; omega

theorem iblk2_em (t : Fin cfg0.N) (X : Fin 4224 → Fin 128 → EReal) (h : (V m c main_v8 : Vec Ideal S4224x128 .f32) = em X) :
    (iblk m c 2 t : Vec Ideal S384x128 .f32) = em fun r => X (rowAt t r) := by
  funext i; rw [eq_ix2 i]; generalize i 0 = r; generalize i 1 = l
  refine (View.read_apply ..).trans ((congrArg (V m c main_v8 : Vec Ideal S4224x128 .f32) (funext fun a => Fin.ext ?_ : _ = ix2 (rowAt t r) l)).trans (congrFun h _))
  match a with
  | ⟨0, _⟩ => show win0_2.index t 0 * 384 + 1 * r.val = 384 * t.val + r.val; rw [(index2 t).1]; omega
  | ⟨1, _⟩ => show win0_2.index t 1 * 128 + 1 * l.val = l.val; rw [(index2 t).2]; omega

theorem iblk7_em (t : Fin cfg0.N) (X : Fin 4224 → Fin 128 → EReal) (h : (V m c main_v23 : Vec Ideal S4224x128 .f32) = em X) :
    (iblk m c 7 t : Vec Ideal S384x128 .f32) = em fun r => X (rowAt t r) := by
  funext i; rw [eq_ix2 i]; generalize i 0 = r; generalize i 1 = l
  refine (View.read_apply ..).trans ((congrArg (V m c main_v23 : Vec Ideal S4224x128 .f32) (funext fun a => Fin.ext ?_ : _ = ix2 (rowAt t r) l)).trans (congrFun h _))
  match a with
  | ⟨0, _⟩ => show win0_7.index t 0 * 384 + 1 * r.val = 384 * t.val + r.val; rw [(index7 t).1]; omega
  | ⟨1, _⟩ => show win0_7.index t 1 * 128 + 1 * l.val = l.val; rw [(index7 t).2]; omega

theorem iblk8_em (t : Fin cfg0.N) (X : Fin 4224 → Fin 128 → EReal) (h : (V m c main_v26 : Vec Ideal S4224x128 .f32) = em X) :
    (iblk m c 8 t : Vec Ideal S384x128 .f32) = em fun r => X (rowAt t r) := by
  funext i; rw [eq_ix2 i]; generalize i 0 = r; generalize i 1 = l
  refine (View.read_apply ..).trans ((congrArg (V m c main_v26 : Vec Ideal S4224x128 .f32) (funext fun a => Fin.ext ?_ : _ = ix2 (rowAt t r) l)).trans (congrFun h _))
  match a with
  | ⟨0, _⟩ => show win0_8.index t 0 * 384 + 1 * r.val = 384 * t.val + r.val; rw [(index8 t).1]; omega
  | ⟨1, _⟩ => show win0_8.index t 1 * 128 + 1 * l.val = l.val; rw [(index8 t).2]; omega

theorem iblk9_em (t : Fin cfg0.N) (X : Fin 4224 → Fin 128 → EReal) (h : (V m c main_v30 : Vec Ideal S4224x128 .f32) = em X) :
    (iblk m c 9 t : Vec Ideal S384x128 .f32) = em fun r => X (rowAt t r) := by
  funext i; rw [eq_ix2 i]; generalize i 0 = r; generalize i 1 = l
  refine (View.read_apply ..).trans ((congrArg (V m c main_v30 : Vec Ideal S4224x128 .f32) (funext fun a => Fin.ext ?_ : _ = ix2 (rowAt t r) l)).trans (congrFun h _))
  match a with
  | ⟨0, _⟩ => show win0_9.index t 0 * 384 + 1 * r.val = 384 * t.val + r.val; rw [(index9 t).1]; omega
  | ⟨1, _⟩ => show win0_9.index t 1 * 128 + 1 * l.val = l.val; rw [(index9 t).2]; omega

theorem iblk3_em (t : Fin cfg0.N) (X : Fin 1 → Fin 384 → EReal) (h : (V m c main_v9 : Vec Ideal S1x384 .f32) = em X) :
    (iblk m c 3 t : Vec Ideal S1x384 .f32) = em X := by
  funext i; rw [eq_ix2 i]; generalize i 0 = r; generalize i 1 = l
  refine (View.read_apply ..).trans ((congrArg (V m c main_v9 : Vec Ideal S1x384 .f32) (funext fun a => Fin.ext ?_ : _ = ix2 r l)).trans (congrFun h _))
  match a with
  | ⟨0, _⟩ => show win0_3.index t 0 * 1 + 1 * r.val = r.val; rw [(index3 t).1]; omega
  | ⟨1, _⟩ => show win0_3.index t 1 * 384 + 1 * l.val = l.val; rw [(index3 t).2]; omega

theorem iblk4_em (t : Fin cfg0.N) (X : Fin 1 → Fin 256 → EReal) (h : (V m c main_v10 : Vec Ideal S1x256 .f32) = em X) :
    (iblk m c 4 t : Vec Ideal S1x256 .f32) = em X := by
  funext i; rw [eq_ix2 i]; generalize i 0 = r; generalize i 1 = l
  refine (View.read_apply ..).trans ((congrArg (V m c main_v10 : Vec Ideal S1x256 .f32) (funext fun a => Fin.ext ?_ : _ = ix2 r l)).trans (congrFun h _))
  match a with
  | ⟨0, _⟩ => show win0_4.index t 0 * 1 + 1 * r.val = r.val; rw [(index4 t).1]; omega
  | ⟨1, _⟩ => show win0_4.index t 1 * 256 + 1 * l.val = l.val; rw [(index4 t).2]; omega

theorem iblk5_em (t : Fin cfg0.N) (X : Fin 384 → Fin 1024 → EReal) (h : (V m c main_v15 : Vec Ideal S384x1024 .bf16) = em X) :
    (iblk m c 5 t : Vec Ideal S384x1024 .bf16) = em X := by
  funext i; rw [eq_ix2 i]; generalize i 0 = r; generalize i 1 = l
  refine (View.read_apply ..).trans ((congrArg (V m c main_v15 : Vec Ideal S384x1024 .bf16) (funext fun a => Fin.ext ?_ : _ = ix2 r l)).trans (congrFun h _))
  match a with
  | ⟨0, _⟩ => show win0_5.index t 0 * 384 + 1 * r.val = r.val; rw [(index5 t).1]; omega
  | ⟨1, _⟩ => show win0_5.index t 1 * 1024 + 1 * l.val = l.val; rw [(index5 t).2]; omega

theorem iblk6_em (t : Fin cfg0.N) (X : Fin 256 → Fin 1024 → EReal) (h : (V m c main_v16 : Vec Ideal S256x1024 .bf16) = em X) :
    (iblk m c 6 t : Vec Ideal S256x1024 .bf16) = em X := by
  funext i; rw [eq_ix2 i]; generalize i 0 = r; generalize i 1 = l
  refine (View.read_apply ..).trans ((congrArg (V m c main_v16 : Vec Ideal S256x1024 .bf16) (funext fun a => Fin.ext ?_ : _ = ix2 r l)).trans (congrFun h _))
  match a with
  | ⟨0, _⟩ => show win0_6.index t 0 * 256 + 1 * r.val = r.val; rw [(index6 t).1]; omega
  | ⟨1, _⟩ => show win0_6.index t 1 * 1024 + 1 * l.val = l.val; rw [(index6 t).2]; omega

end Cert.MlaFwdKernelIdeal.Hand

end
-- ==== Proof.MlaFwdKer.lean ====
/- The latent attention projections' forward call: what the kernel leaves. -/
module

public import proofs.«01_k».proof.Defs
public import proofs.«01_k».proof.Proof.MlaFwdPay
public import proofs.«01_k».proof.Proof.MlaFwdHost
public import proofs.«01_k».proof.Proof.Gen.MlaFwdKernelIdeal.Value
public import Idealize.ShloMosaic.Lib.Pointwise
public import Idealize.ShloMosaic.Lib.Pipeline.Value
public import Idealize.ShloMosaic.Lib.Tactic

@[expose] public section

set_option maxRecDepth 16384

noncomputable section

namespace Cert.MlaFwdKernelIdeal.Hand

open Cert.MlaFwdKernelIdeal Cert.MlaFwdKernelIdeal.Gen Idealize.ShloMosaic Idealize.ShloMosaic.TcCoe Idealize.SL.Sem
open Idealize.ShloMosaic.Pipeline (Dat)
open Cert.Norm

variable (m : (ℓ : Loc nD τ sig) → Buf (Elt Ideal) ℓ) (c : Dev nD)

/-! ## What the pipeline leaves -/

variable (CQ : Fin 4224 → Fin 384 → EReal) (CK : Fin 4224 → Fin 256 → EReal) (KR C S1 S2 : Fin 4224 → Fin 128 → EReal) (QG : Fin 384 → EReal) (KG : Fin 256 → EReal) (WQ : Fin 384 → Fin 1024 → EReal) (WK : Fin 256 → Fin 1024 → EReal)
  (v0 : (V m c main_v1 : Vec Ideal S4224x384 .f32) = em CQ) (v1 : (V m c main_v3 : Vec Ideal S4224x256 .f32) = em CK) (v2 : (V m c main_v8 : Vec Ideal S4224x128 .f32) = em KR)
  (v3 : (V m c main_v9 : Vec Ideal S1x384 .f32) = em fun _ => QG) (v4 : (V m c main_v10 : Vec Ideal S1x256 .f32) = em fun _ => KG)
  (v5 : (V m c main_v15 : Vec Ideal S384x1024 .bf16) = em WQ) (v6 : (V m c main_v16 : Vec Ideal S256x1024 .bf16) = em WK)
  (v7 : (V m c main_v23 : Vec Ideal S4224x128 .f32) = em C) (v8 : (V m c main_v26 : Vec Ideal S4224x128 .f32) = em S1) (v9 : (V m c main_v30 : Vec Ideal S4224x128 .f32) = em S2)

/-- The columns of the queries of a row. -/
abbrev zq (R : Fin 4224) : Fin 1024 → EReal := proj 0x43C00000#32 (CQ R) QG WQ

/-- The columns of the keys and values of a row. -/
abbrev zk (R : Fin 4224) : Fin 1024 → EReal := proj 0x43800000#32 (CK R) KG WK

/-- A head's query. -/
def qrow (h : Fin 8) (R : Fin 4224) : Fin 128 → EReal := turn (C R) (S1 R) (S2 R) fun l => zq CQ QG WQ R (colAt h l)

/-- A head's key. -/
def krow (h : Fin 8) (R : Fin 4224) : Fin 128 → EReal := keyrow (zk CK KG WK R) (turn (C R) (S1 R) (S2 R) (KR R)) h

include v0 v3 v5 v7 v8 v9 in
theorem outs_10 (t : Fin cfg0.N) : (out0_10 (iblk m c 0 t) (iblk m c 1 t) (iblk m c 2 t) (iblk m c 3 t) (iblk m c 4 t) (iblk m c 5 t) (iblk m c 6 t) (iblk m c 7 t) (iblk m c 8 t) (iblk m c 9 t) : Vec Ideal S8x384x128 .bf16) = ec fun h r => qrow CQ C S1 S2 QG WQ h (rowAt t r) := by
  unfold out0_10 k0_pay41 k0_pay39 k0_pay38 k0_pay37
  simp only [View.ld_unit_zero (S := S384x384) hz, View.ld_unit_zero (S := S384x256) hz, View.ld_unit_zero (S := S384x128) hz, View.ld_unit_zero (S := S1x384) hz, View.ld_unit_zero (S := S1x256) hz, View.ld_unit_zero (S := S384x1024) hz, View.ld_unit_zero (S := S256x1024) hz, iblk0_em m c t CQ v0, iblk3_em m c t _ v3, iblk5_em m c t WQ v5, iblk7_em m c t C v7, iblk8_em m c t S1 v8, iblk9_em m c t S2 v9]
  rw [pay7_em, pay8_em, pay9_em, pay11_em]
  refine canon_heads (fun h r => qrow CQ C S1 S2 QG WQ h (rowAt t r)) _ _ _ _ _ _ _ _ _ _ _ _ _ _ _ _ ?_ ?_ ?_ ?_ ?_ ?_ ?_ ?_
  · unfold k0_pay17
    exact query_em _ _ _ _ 0 _ _ _
  · unfold k0_pay21 k0_pay20 k0_pay19
    exact query_em _ _ _ _ 1 _ _ _
  · unfold k0_pay23
    exact query_em _ _ _ _ 2 _ _ _
  · unfold k0_pay27 k0_pay26 k0_pay25
    exact query_em _ _ _ _ 3 _ _ _
  · unfold k0_pay29
    exact query_em _ _ _ _ 4 _ _ _
  · unfold k0_pay32 k0_pay31
    exact query_em _ _ _ _ 5 _ _ _
  · unfold k0_pay34
    exact query_em _ _ _ _ 6 _ _ _
  · unfold k0_pay1 k0_pay36
    exact query_em _ _ _ _ 7 _ _ _

include v1 v2 v4 v6 v7 v8 v9 in
theorem outs_11 (t : Fin cfg0.N) : (out0_11 (iblk m c 0 t) (iblk m c 1 t) (iblk m c 2 t) (iblk m c 3 t) (iblk m c 4 t) (iblk m c 5 t) (iblk m c 6 t) (iblk m c 7 t) (iblk m c 8 t) (iblk m c 9 t) : Vec Ideal S8x384x128 .bf16) = ec fun h r => krow CK KR C S1 S2 KG WK h (rowAt t r) := by
  unfold out0_11 k0_pay46 k0_pay45 k0_pay44 k0_pay43 k0_pay42 k0_pay40 k0_pay39 k0_pay38 k0_pay37 k0_pay18
  dsimp only
  simp only [View.ld_unit_zero (S := S384x384) hz, View.ld_unit_zero (S := S384x256) hz, View.ld_unit_zero (S := S384x128) hz, View.ld_unit_zero (S := S1x384) hz, View.ld_unit_zero (S := S1x256) hz, View.ld_unit_zero (S := S384x1024) hz, View.ld_unit_zero (S := S256x1024) hz, iblk1_em m c t CK v1, iblk2_em m c t KR v2, iblk4_em m c t _ v4, iblk6_em m c t WK v6, iblk7_em m c t C v7, iblk8_em m c t S1 v8, iblk9_em m c t S2 v9]
  rw [pay7_em, pay8_em, pay9_em, pay15_em, pay16_em]
  refine canon_heads (fun h r => krow CK KR C S1 S2 KG WK h (rowAt t r)) _ _ _ _ _ _ _ _ _ _ _ _ _ _ _ _ ?_ ?_ ?_ ?_ ?_ ?_ ?_ ?_
  · exact key_em _ _ 0 _ _ _
  · unfold k0_pay22
    exact key_em _ _ 1 _ _ _
  · unfold k0_pay24
    exact key_em _ _ 2 _ _ _
  · unfold k0_pay28
    exact key_em _ _ 3 _ _ _
  · unfold k0_pay30
    exact key_em _ _ 4 _ _ _
  · unfold k0_pay33
    exact key_em _ _ 5 _ _ _
  · unfold k0_pay35
    exact key_em _ _ 6 _ _ _
  · unfold k0_pay2
    exact key_em _ _ 7 _ _ _

include v1 v4 v6 in
theorem outs_12 (t : Fin cfg0.N) : (out0_12 (iblk m c 0 t) (iblk m c 1 t) (iblk m c 2 t) (iblk m c 3 t) (iblk m c 4 t) (iblk m c 5 t) (iblk m c 6 t) (iblk m c 7 t) (iblk m c 8 t) (iblk m c 9 t) : Vec Ideal S384x512 .bf16) = em fun r => valrow (zk CK KG WK (rowAt t r)) := by
  unfold out0_12 k0_pay45 k0_pay44 k0_pay43 k0_pay42 k0_pay40
  simp only [View.ld_unit_zero (S := S384x384) hz, View.ld_unit_zero (S := S384x256) hz, View.ld_unit_zero (S := S384x128) hz, View.ld_unit_zero (S := S1x384) hz, View.ld_unit_zero (S := S1x256) hz, View.ld_unit_zero (S := S384x1024) hz, View.ld_unit_zero (S := S256x1024) hz, iblk1_em m c t CK v1, iblk4_em m c t _ v4, iblk6_em m c t WK v6]
  rw [pay15_em]
  refine canon_pairs _ _ _ _ _ _ _ _ (fun r => valrow (zk CK KG WK (rowAt t r))) ?_ ?_ ?_ ?_
  · unfold k0_pay3
    exact pair_em _ 0 _ _ _
  · unfold k0_pay4
    exact pair_em _ 1 _ _ _
  · unfold k0_pay5
    exact pair_em _ 2 _ _ _
  · unfold k0_pay6
    exact pair_em _ 3 _ _ _

include v0 v3 v5 v7 v8 v9 in
theorem final10 : ((dats m 0 c).arrAt 10 cfg0.N : Vec Ideal S8x4224x128 .bf16) = ec fun h Q l => qrow CQ C S1 S2 QG WQ h Q l := by
  refine eq_ec _ _ fun h R l => ?_
  have e0 := (dats m 0 c).arrAt_emb_eq_flushed 10 Value.disjoint10 (ptOf R) (flush0_10 _) (ix3 h (inBlk R) l : S8x384x128.Idx)
  have e : ((cfg0.win 10).blk (ptOf R)).view.emb (ix3 h (inBlk R) l : S8x384x128.Idx) = (ix3 h R l : S8x4224x128.Idx) := by
    funext a
    apply Fin.ext
    match a with
    | ⟨0, _⟩ => show win0_10.index (ptOf R) 0 * 8 + 1 * h.val = h.val; rw [(index10 _).1]; omega
    | ⟨1, _⟩ => show win0_10.index (ptOf R) 1 * 384 + 1 * (R.val % 384) = R.val; rw [(index10 _).2.1]; dsimp only; omega
    | ⟨2, _⟩ => show win0_10.index (ptOf R) 2 * 128 + 1 * l.val = l.val; rw [(index10 _).2.2]; omega
  rw [e] at e0
  refine e0.trans ?_
  rw [Value.flushed10, outs_10 m c CQ C S1 S2 QG WQ v0 v3 v5 v7 v8 v9]
  exact congrArg (fun Q : Fin 4224 => qrow CQ C S1 S2 QG WQ h Q l) (rowAt_ptOf R)

include v1 v2 v4 v6 v7 v8 v9 in
theorem final11 : ((dats m 0 c).arrAt 11 cfg0.N : Vec Ideal S8x4224x128 .bf16) = ec fun h Q l => krow CK KR C S1 S2 KG WK h Q l := by
  refine eq_ec _ _ fun h R l => ?_
  have e0 := (dats m 0 c).arrAt_emb_eq_flushed 11 Value.disjoint11 (ptOf R) (flush0_11 _) (ix3 h (inBlk R) l : S8x384x128.Idx)
  have e : ((cfg0.win 11).blk (ptOf R)).view.emb (ix3 h (inBlk R) l : S8x384x128.Idx) = (ix3 h R l : S8x4224x128.Idx) := by
    funext a
    apply Fin.ext
    match a with
    | ⟨0, _⟩ => show win0_11.index (ptOf R) 0 * 8 + 1 * h.val = h.val; rw [(index11 _).1]; omega
    | ⟨1, _⟩ => show win0_11.index (ptOf R) 1 * 384 + 1 * (R.val % 384) = R.val; rw [(index11 _).2.1]; dsimp only; omega
    | ⟨2, _⟩ => show win0_11.index (ptOf R) 2 * 128 + 1 * l.val = l.val; rw [(index11 _).2.2]; omega
  rw [e] at e0
  refine e0.trans ?_
  rw [Value.flushed11, outs_11 m c CK KR C S1 S2 KG WK v1 v2 v4 v6 v7 v8 v9]
  exact congrArg (fun Q : Fin 4224 => krow CK KR C S1 S2 KG WK h Q l) (rowAt_ptOf R)

include v1 v4 v6 in
theorem final12 : ((dats m 0 c).arrAt 12 cfg0.N : Vec Ideal S4224x512 .bf16) = em fun Q l => valrow (zk CK KG WK Q) l := by
  refine eq_em _ _ fun R l => ?_
  have h := (dats m 0 c).arrAt_emb_eq_flushed 12 Value.disjoint12 (ptOf R) (flush0_12 _) (ix2 (inBlk R) l : S384x512.Idx)
  have e : ((cfg0.win 12).blk (ptOf R)).view.emb (ix2 (inBlk R) l : S384x512.Idx) = (ix2 R l : S4224x512.Idx) := by
    funext a
    apply Fin.ext
    match a with
    | ⟨0, _⟩ => show win0_12.index (ptOf R) 0 * 384 + 1 * (R.val % 384) = R.val; rw [(index12 _).1]; dsimp only; omega
    | ⟨1, _⟩ => show win0_12.index (ptOf R) 1 * 512 + 1 * l.val = l.val; rw [(index12 _).2]; omega
  rw [e] at h
  refine h.trans ?_
  rw [Value.flushed12, outs_12 m c CK KG WK v1 v4 v6]
  exact congrArg (fun Q : Fin 4224 => valrow (zk CK KG WK Q) l) (rowAt_ptOf R)

end Cert.MlaFwdKernelIdeal.Hand

end
-- ==== Proof.MlaFwdEq.lean ====
/- The latent attention projections' forward call: the kernel's results are the reference's. -/
module

public import proofs.«01_k».proof.Defs
public import proofs.«01_k».proof.Proof.MlaFwdKer
public import proofs.«01_k».proof.Proof.Gen.MlaFwdRefIdeal.Read
public import Idealize.ShloMosaic.Lib.Pointwise
public import Idealize.ShloMosaic.Lib.Pipeline.Value
public import Idealize.ShloMosaic.Lib.Tactic

@[expose] public section

set_option maxRecDepth 16384

noncomputable section

namespace Cert.MlaFwdKernelIdeal.Hand

open Cert.MlaFwdKernelIdeal Cert.MlaFwdKernelIdeal.Gen Idealize.ShloMosaic Idealize.ShloMosaic.TcCoe Idealize.SL.Sem
open Idealize.ShloMosaic.Pipeline (Dat)
open Cert.Norm Cert.MlaFwdRefIdeal.Read

/-! ## The reference -/

/-- Two rows end to end. -/
def join (a : Fin 64 → EReal) (b : Fin 32 → EReal) (e : Fin 96) : EReal := if h : e.val < 64 then a ⟨e.val, h⟩ else b ⟨e.val - 64, by omega⟩

/-- The rotation of 32 entries, in halves. -/
def rot (c s : Fin 16 → EReal) (x : Fin 32 → EReal) (e : Fin 32) : EReal :=
  if h : e.val < 16 then x ⟨e.val, by omega⟩ * c ⟨e.val, h⟩ - x ⟨16 + e.val, by omega⟩ * s ⟨e.val, h⟩
  else x ⟨16 + (e.val - 16), by omega⟩ * c ⟨e.val - 16, by omega⟩ + x ⟨e.val - 16, by omega⟩ * s ⟨e.val - 16, by omega⟩

variable (q : Fin 4112 → Fin 384 → EReal) (kv : Fin 4112 → Fin 256 → EReal) (kr : Fin 4112 → Fin 32 → EReal) (c s : Fin 4112 → Fin 16 → EReal)
  (qg : Fin 384 → EReal) (kg : Fin 256 → EReal) (wq : Fin 384 → Fin 768 → EReal) (wk : Fin 256 → Fin 1024 → EReal)

/-- The columns of the queries. -/
abbrev yq (r : Fin 4112) : Fin 768 → EReal := proj 0x43C00000#32 (q r) qg wq

/-- The columns of the keys and values. -/
abbrev yk (r : Fin 4112) : Fin 1024 → EReal := proj 0x43800000#32 (kv r) kg wk

theorem ref13 : val_main_v13 (F := Ideal) (em q) (ev qg) (em wq) = em fun r => yq q qg wq r := by
  have e : val_main_v12 (F := Ideal) (em q) (ev qg) = em fun r l => nrm 0x43C00000#32 (q r) l * qg l :=
    host_nrm (W := 384) (by norm_num) 0x43C00000#32 q qg _ _ _ _ _ _ _ _
  refine eq_em _ _ fun r l => ?_
  unfold val_main_v13
  rw [e]
  pointwise
  rfl

theorem ref45 : val_main_v45 (F := Ideal) (em kv) (ev kg) (em wk) = em fun r => yk kv kg wk r := by
  have e : val_main_v44 (F := Ideal) (em kv) (ev kg) = em fun r l => nrm 0x43800000#32 (kv r) l * kg l :=
    host_nrm (W := 256) (by norm_num) 0x43800000#32 kv kg _ _ _ _ _ _ _ _
  refine eq_em _ _ fun r l => ?_
  unfold val_main_v45
  rw [e]
  pointwise
  rfl

theorem ref14 : val_main_v14 (F := Ideal) (em q) (ev qg) (em wq) = ec fun r (h : Fin 8) (e : Fin 96) => yq q qg wq r ⟨96 * h.val + e.val, by omega⟩ := by
  refine eq_ec _ _ fun r h e => ?_
  rw [val_main_v14_apply, ref13]
  refine congrArg₂ (yq q qg wq) (Fin.ext ?_) (Fin.ext ?_)
  · show ((r.val * 8 + h.val) * 96 + e.val) / 768 = r.val; omega
  · show ((r.val * 8 + h.val) * 96 + e.val) % 768 = 96 * h.val + e.val; omega

theorem ref46 : val_main_v46 (F := Ideal) (em kv) (ev kg) (em wk) = ec fun r h l => yk kv kg wk r (colAt h l) := by
  refine eq_ec _ _ fun r h e => ?_
  rw [val_main_v46_apply, ref45]
  refine congrArg₂ (yk kv kg wk) (Fin.ext ?_) (Fin.ext ?_)
  · show ((r.val * 8 + h.val) * 128 + e.val) / 1024 = r.val; omega
  · show ((r.val * 8 + h.val) * 128 + e.val) % 1024 = 128 * h.val + e.val; omega

/-- The first entries of a head's query. -/
abbrev y0 (r : Fin 4112) (h : Fin 8) (e : Fin 64) : EReal := yq q qg wq r ⟨96 * h.val + e.val, by omega⟩

/-- The rotary entries of a head's query. -/
abbrev y1 (r : Fin 4112) (h : Fin 8) (e : Fin 32) : EReal := yq q qg wq r ⟨96 * h.val + (64 + e.val), by omega⟩

theorem ref15 : val_main_v15 (F := Ideal) (em q) (ev qg) (em wq) = ec (y0 q qg wq) := by
  refine eq_ec _ _ fun r h e => ?_
  rw [val_main_v15_apply, ref14]
  rfl

theorem ref16 : val_main_v16 (F := Ideal) (em q) (ev qg) (em wq) = ec (y1 q qg wq) := by
  refine eq_ec _ _ fun r h e => ?_
  rw [val_main_v16_apply, ref14]
  rfl

theorem ref25 : val_main_v25 (F := Ideal) (em q) (em c) (em s) (ev qg) (em wq) = ec fun r h (e : Fin 16) => y1 q qg wq r h ⟨e.val, by omega⟩ * c r e - y1 q qg wq r h ⟨16 + e.val, by omega⟩ * s r e := by
  refine eq_ec _ _ fun r h e => ?_
  rw [val_main_v25_apply, val_main_v22_apply, val_main_v24_apply, val_main_v19_apply, val_main_v20_apply, val_main_v21_apply, val_main_v23_apply, val_main_v17_apply, val_main_v18_apply, ref16]
  rfl

theorem ref30 : val_main_v30 (F := Ideal) (em q) (em c) (em s) (ev qg) (em wq) = ec fun r h (e : Fin 16) => y1 q qg wq r h ⟨16 + e.val, by omega⟩ * c r e + y1 q qg wq r h ⟨e.val, by omega⟩ * s r e := by
  refine eq_ec _ _ fun r h e => ?_
  rw [val_main_v30_apply, val_main_v27_apply, val_main_v29_apply, val_main_v19_apply, val_main_v20_apply, val_main_v26_apply, val_main_v28_apply, val_main_v17_apply, val_main_v18_apply, ref16]
  rfl

theorem ref31 : val_main_v31 (F := Ideal) (em q) (em c) (em s) (ev qg) (em wq) = ec fun r h => rot (c r) (s r) (y1 q qg wq r h) := by
  unfold val_main_v31
  rw [ref25, ref30]
  refine eq_ec _ _ fun r h e => ?_
  pointwise
  unfold rot
  split_ifs <;> rfl

theorem ref57 : val_main_v57 (F := Ideal) (em kr) (em c) (em s) = em fun r => rot (c r) (s r) (kr r) := by
  refine eq_em _ _ fun r e => ?_
  pointwise [val_main_v57, val_main_v53, val_main_v56, val_main_v51, val_main_v52, val_main_v54, val_main_v55, val_main_v49, val_main_v50]
  unfold rot
  split_ifs <;> first | rfl | (simp only [Nat.add_comm] <;> rfl)

theorem ref59 : val_main_v59 (F := Ideal) (em kr) (em c) (em s) = ec fun r (_ : Fin 8) => rot (c r) (s r) (kr r) := by
  refine eq_ec _ _ fun r h e => ?_
  rw [val_main_v59_apply, val_main_v58_apply, ref57]
  rfl

/-- Two arrays of heads, their entries end to end, the heads first, in 128 lanes and with zero rows. -/
theorem major (A : Fin 4112 → Fin 8 → Fin 64 → EReal) (B : Fin 4112 → Fin 8 → Fin 32 → EReal) (h1) (h2) (b1) (h3) (b2) (h4) (h5) :
    (truncf .bf16 (concatenate ⟨3, ![8, 4224, 128]⟩ 1 [⟨⟨3, ![8, 4112, 128]⟩, concatenate ⟨3, ![8, 4112, 128]⟩ 2 [⟨⟨3, ![8, 4112, 96]⟩, transpose ⟨3, ![8, 4112, 96]⟩ [1, 0, 2] (concatenate ⟨3, ![4112, 8, 96]⟩ 2 [⟨⟨3, ![4112, 8, 64]⟩, (ec A : FVec Ideal ⟨3, ![4112, 8, 64]⟩ .f32)⟩, ⟨⟨3, ![4112, 8, 32]⟩, (ec B : FVec Ideal ⟨3, ![4112, 8, 32]⟩ .f32)⟩] h1 : FVec Ideal ⟨3, ![4112, 8, 96]⟩ .f32) h2⟩,
      ⟨⟨3, ![8, 4112, 32]⟩, broadcastInDim ⟨3, ![8, 4112, 32]⟩ ![] b1 (constant (F := Ideal) S_ .f32 0x00000000#32)⟩] h3⟩, ⟨⟨3, ![8, 112, 128]⟩, broadcastInDim ⟨3, ![8, 112, 128]⟩ ![] b2 (constant (F := Ideal) S_ .f32 0x00000000#32)⟩] h4 : FVec Ideal ⟨3, ![8, 4224, 128]⟩ .f32) h5 : FVec Ideal ⟨3, ![8, 4224, 128]⟩ .bf16)
    = ec fun h => padE fun r => wide (join (A r h) (B r h)) := by
  refine eq_ec _ _ fun h R l => ?_
  pointwise
  unfold padE wide join
  dsimp only
  split_ifs <;> rfl

theorem ref66 : val_main_v66 (F := Ideal) (em q) (em c) (em s) (ev qg) (em wq) = ec fun h => padE fun r => wide (join (y0 q qg wq r h) (rot (c r) (s r) (y1 q qg wq r h))) := by
  unfold val_main_v66 val_main_v65 val_main_v63 val_main_v61 val_main_v60
  rw [ref15, ref31]
  exact major _ _ _ _ _ _ _ _ _

theorem ref73 : val_main_v73 (F := Ideal) (em kv) (em kr) (em c) (em s) (ev kg) (em wk) = ec fun h => padE fun r => wide (join (fun e => yk kv kg wk r ⟨128 * h.val + e.val, by omega⟩) (rot (c r) (s r) (kr r))) := by
  have e : val_main_v47 (F := Ideal) (em kv) (ev kg) (em wk) = ec fun r (h : Fin 8) (e : Fin 64) => yk kv kg wk r ⟨128 * h.val + e.val, by omega⟩ := by
    refine eq_ec _ _ fun r h e => ?_
    rw [val_main_v47_apply, ref46]
    rfl
  unfold val_main_v73 val_main_v72 val_main_v70 val_main_v68 val_main_v67
  rw [e, ref59]
  exact major _ _ _ _ _ _ _ _ _

theorem ref77 : val_main_v77 (F := Ideal) (em kv) (ev kg) (em wk) = em (padE fun r => valrow (yk kv kg wk r)) := by
  have e : val_main_v74 (F := Ideal) (em kv) (ev kg) (em wk) = em fun r => valrow (yk kv kg wk r) := by
    refine eq_em _ _ fun r j => ?_
    rw [val_main_v74_apply, val_main_v48_apply, ref46]
    refine congrArg₂ (yk kv kg wk) (Fin.ext ?_) (Fin.ext ?_)
    · show (r.val * 512 + j.val) / 512 = r.val; omega
    · show 128 * ((r.val * 512 + j.val) / 64 % 8) + (64 + (r.val * 512 + j.val) % 64) = 128 * (j.val / 64) + (64 + j.val % 64); omega
  unfold val_main_v77 val_main_v76
  rw [e]
  exact padE_concat _ Cert.MlaFwdRefIdeal.Gen.bcast_S_S112x512 Cert.MlaFwdRefIdeal.Gen.concatenates_S4112x512_S112x512_S4224x512_d0

/-! ## The two agree -/

/-- A column of the padded weight gives the entry of the plain product, or zero. -/
theorem proj_heads (x : Fin 384 → EReal) (h : Fin 8) (l : Fin 128) :
    proj 0x43C00000#32 x qg (fun l => heads fun h => wide fun e => wq l ⟨h.val * 96 + e.val, by omega⟩) (colAt h l) = wide (fun e => proj 0x43C00000#32 x qg wq ⟨96 * h.val + e.val, by omega⟩) l := by
  have e : ∀ k : Fin 384, heads (fun h => wide fun e => wq k ⟨h.val * 96 + e.val, by omega⟩) (colAt h l) = wide (fun e => wq k ⟨96 * h.val + e.val, by omega⟩) l := by
    intro k
    have h1 : (128 * h.val + l.val) / 128 = h.val := by omega
    have h2 : (128 * h.val + l.val) % 128 = l.val := by omega
    unfold heads wide
    dsimp only
    simp only [h1, h2, Nat.mul_comm h.val 96]
  unfold proj rowDot
  refine Eq.trans (Finset.sum_congr rfl fun k _ => congrArg _ (e k)) ?_
  unfold wide
  split_ifs <;> first | rfl | exact Finset.sum_eq_zero fun k _ => mul_zero _

/-- Turned by the position's tables, a head's row is rotated in its rotary entries. -/
theorem turn_wide (a b : Fin 16 → EReal) (x : Fin 64 → EReal) (y : Fin 32 → EReal) (l : Fin 128) : turn (tabc a) (tabhi b) (tablo b) (wide (join x y)) l = wide (join x (rot a b y)) l := by
  have hl := l.isLt
  unfold turn
  by_cases h1 : l.val < 64
  · have e1 : tabc a l = 1 := if_pos h1
    have e2 : tabhi b l = 0 := if_pos (by omega)
    have e3 : tablo b l = 0 := if_pos h1
    rw [e1, e2, e3, mul_one, mul_zero, mul_zero, add_zero, add_zero]
    unfold wide join
    dsimp only
    simp only [dif_pos h1, dif_pos (show l.val < 96 by omega)]
  · by_cases h2 : l.val < 80
    · have e1 : tabc a l = a ⟨l.val - 64, by omega⟩ := (if_neg h1).trans (dif_pos h2)
      have e2 : tabhi b l = 0 := if_pos h2
      have e3 : tablo b l = -b ⟨l.val - 64, by omega⟩ := (if_neg h1).trans (dif_pos h2)
      have w1 : wide (join x y) l = y ⟨l.val - 64, by omega⟩ := by
        unfold wide join
        dsimp only
        rw [dif_pos (by omega), dif_neg h1]
      have w2 : wide (join x y) (before 112 l) = y ⟨16 + (l.val - 64), by omega⟩ := by
        have hb : (l.val + 128 - 112 % 128) % 128 = l.val + 16 := by omega
        unfold wide join before
        dsimp only
        rw [dif_pos (by omega), dif_neg (by omega)]
        exact congrArg y (Fin.ext (by dsimp only; omega))
      have w3 : wide (join x (rot a b y)) l = y ⟨l.val - 64, by omega⟩ * a ⟨l.val - 64, by omega⟩ - y ⟨16 + (l.val - 64), by omega⟩ * b ⟨l.val - 64, by omega⟩ := by
        unfold wide join rot
        dsimp only
        rw [dif_pos (by omega), dif_neg h1, dif_pos (by omega)]
      rw [e1, e2, e3, w1, w2, w3, mul_zero, add_zero, mul_neg, sub_eq_add_neg]
    · by_cases h3 : l.val < 96
      · have e1 : tabc a l = a ⟨l.val - 80, by omega⟩ := (if_neg h1).trans ((dif_neg h2).trans (dif_pos h3))
        have e2 : tabhi b l = b ⟨l.val - 80, by omega⟩ := (if_neg h2).trans (dif_pos h3)
        have e3 : tablo b l = 0 := (if_neg h1).trans (dif_neg h2)
        have w1 : wide (join x y) l = y ⟨16 + (l.val - 80), by omega⟩ := by
          unfold wide join
          dsimp only
          rw [dif_pos h3, dif_neg h1]
          exact congrArg y (Fin.ext (by dsimp only; omega))
        have w2 : wide (join x y) (before 16 l) = y ⟨l.val - 80, by omega⟩ := by
          unfold wide join before
          dsimp only
          rw [dif_pos (by omega), dif_neg (by omega)]
          exact congrArg y (Fin.ext (by dsimp only; omega))
        have w3 : wide (join x (rot a b y)) l = y ⟨16 + (l.val - 80), by omega⟩ * a ⟨l.val - 80, by omega⟩ + y ⟨l.val - 80, by omega⟩ * b ⟨l.val - 80, by omega⟩ := by
          have h4 : l.val - 64 - 16 = l.val - 80 := by omega
          unfold wide join rot
          dsimp only
          rw [dif_pos h3, dif_neg h1, dif_neg (by omega)]
          simp only [h4]
        rw [e1, e2, e3, w1, w2, w3, mul_zero, add_zero]
      · have e1 : wide (join x y) l = 0 := dif_neg h3
        have e2 : tabhi b l = 0 := (if_neg h2).trans (dif_neg h3)
        have e3 : tablo b l = 0 := (if_neg h1).trans (dif_neg h2)
        have e4 : wide (join x (rot a b y)) l = 0 := dif_neg h3
        rw [e1, e2, e3, e4, zero_mul, mul_zero, mul_zero, add_zero, add_zero]

theorem turn_zero (a b d : Fin 128 → EReal) (x : Fin 128 → EReal) (hx : ∀ l, x l = 0) (l : Fin 128) : turn a b d x l = 0 := by
  unfold turn
  rw [hx, hx, hx, zero_mul, zero_mul, zero_mul, add_zero, add_zero]

theorem join_split (y : Fin 96 → EReal) : y = join (fun e => y ⟨e.val, by omega⟩) (fun e => y ⟨64 + e.val, by omega⟩) := by
  funext e
  unfold join
  split_ifs with h
  · rfl
  · exact congrArg y (Fin.ext (by dsimp only; omega))

theorem lanes_eq (x : Fin 32 → EReal) : lanes x = wide (join (fun _ => 0) x) := by
  funext l
  unfold lanes wide join
  dsimp only
  split_ifs <;> first | rfl | (exfalso; omega)

theorem rows10 : (ec fun h Q l => qrow (padE q) (fun R => tabc (padE c R)) (fun R => tabhi (padE s R)) (fun R => tablo (padE s R)) qg (fun l => heads fun h => wide fun e => wq l ⟨h.val * 96 + e.val, by omega⟩) h Q l)
    = ec fun h => padE fun r => wide (join (y0 q qg wq r h) (rot (c r) (s r) (y1 q qg wq r h))) := by
  refine congrArg ec (funext fun h => funext fun Q => ?_)
  refine Eq.trans (padE_map₃ (fun x a b l => turn (tabc a) (tabhi b) (tablo b) (fun l => proj 0x43C00000#32 x qg (fun l => heads fun h => wide fun e => wq l ⟨h.val * 96 + e.val, by omega⟩) (colAt h l)) l)
    (fun l => turn_zero _ _ _ _ (fun l => proj_zero _ _ _ _) l) q c s Q) ?_
  refine congrArg (fun f : Fin 4112 → Fin 128 → EReal => padE f Q) (funext fun r => funext fun l => ?_)
  rw [funext fun l => proj_heads qg wq (q r) h l, join_split fun e : Fin 96 => proj 0x43C00000#32 (q r) qg wq ⟨96 * h.val + e.val, by omega⟩]
  exact turn_wide _ _ _ _ _

theorem key_row (x : Fin 256 → EReal) (y : Fin 32 → EReal) (a b : Fin 16 → EReal) (h : Fin 8) (l : Fin 128) :
    keyrow (proj 0x43800000#32 x kg wk) (turn (tabc a) (tabhi b) (tablo b) (lanes y)) h l = wide (join (fun e => proj 0x43800000#32 x kg wk ⟨128 * h.val + e.val, by omega⟩) (rot a b y)) l := by
  unfold keyrow
  split_ifs with hl
  · unfold wide join
    simp only [dif_pos hl, dif_pos (show l.val < 96 by omega)]
  · rw [lanes_eq, turn_wide]
    unfold wide join
    split_ifs <;> rfl

theorem rows11 : (ec fun h Q l => krow (padE kv) (padE fun r => lanes (kr r)) (fun R => tabc (padE c R)) (fun R => tabhi (padE s R)) (fun R => tablo (padE s R)) kg wk h Q l)
    = ec fun h => padE fun r => wide (join (fun e => yk kv kg wk r ⟨128 * h.val + e.val, by omega⟩) (rot (c r) (s r) (kr r))) := by
  refine congrArg ec (funext fun h => funext fun Q => funext fun l => ?_)
  unfold krow zk
  by_cases hQ : Q.val < 4112
  · have e : ∀ {b : ℕ} (X : Fin 4112 → Fin b → EReal), padE X Q = X ⟨Q.val, hQ⟩ := fun X => funext fun l => dif_pos hQ
    simp only [e]
    exact key_row kg wk _ _ _ _ _ _
  · have e : ∀ {b : ℕ} (X : Fin 4112 → Fin b → EReal), padE X Q = fun _ => 0 := fun X => funext fun l => dif_neg hQ
    simp only [e]
    unfold keyrow
    split_ifs
    · exact proj_zero _ _ _ _
    · exact turn_zero _ _ _ _ (fun _ => rfl) _

theorem rows12 : (em fun Q l => valrow (zk (padE kv) kg wk Q) l) = em (padE fun r => valrow (yk kv kg wk r)) := by
  refine congrArg em (funext fun Q => ?_)
  exact padE_map (fun x l => valrow (proj 0x43800000#32 x kg wk) l) (fun l => proj_zero _ _ _ _) kv Q

/-- What the kernel leaves in its three results is what the reference computes. -/
theorem value_eq (a0 : FVec Ideal S4112x384 .f32) (a1 : FVec Ideal S4112x256 .f32) (a2 : FVec Ideal S4112x32 .f32) (a3 : FVec Ideal S4112x16 .f32) (a4 : FVec Ideal S4112x16 .f32) (a5 : FVec Ideal S384 .f32) (a6 : FVec Ideal S256 .f32) (a7 : FVec Ideal S384x768 .f32) (a8 : FVec Ideal S256x1024 .f32)
    (m : (ℓ : Loc nD τ sig) → Buf (Elt Ideal) ℓ) (d : Dev nD)
    (e0 : (m ((d : Thread nD τ).loc main_arg0) : FVec Ideal S4112x384 .f32) = a0) (e1 : (m ((d : Thread nD τ).loc main_arg1) : FVec Ideal S4112x256 .f32) = a1) (e2 : (m ((d : Thread nD τ).loc main_arg2) : FVec Ideal S4112x32 .f32) = a2) (e3 : (m ((d : Thread nD τ).loc main_arg3) : FVec Ideal S4112x16 .f32) = a3) (e4 : (m ((d : Thread nD τ).loc main_arg4) : FVec Ideal S4112x16 .f32) = a4) (e5 : (m ((d : Thread nD τ).loc main_arg5) : FVec Ideal S384 .f32) = a5) (e6 : (m ((d : Thread nD τ).loc main_arg6) : FVec Ideal S256 .f32) = a6) (e7 : (m ((d : Thread nD τ).loc main_arg7) : FVec Ideal S384x768 .f32) = a7) (e8 : (m ((d : Thread nD τ).loc main_arg8) : FVec Ideal S256x1024 .f32) = a8) :
    ((dats m 0 d).arrAt 10 cfg0.N : Vec Ideal S8x4224x128 .bf16) = val_main_v66 (F := Ideal) a0 a3 a4 a5 a7
    ∧ ((dats m 0 d).arrAt 11 cfg0.N : Vec Ideal S8x4224x128 .bf16) = val_main_v73 (F := Ideal) a1 a2 a3 a4 a6 a8
    ∧ ((dats m 0 d).arrAt 12 cfg0.N : Vec Ideal S4224x512 .bf16) = val_main_v77 (F := Ideal) a1 a6 a8 := by
  have f0 := em_of a0
  have f1 := em_of a1
  have f2 := em_of a2
  have f3 := em_of a3
  have f4 := em_of a4
  have f5 := ev_of a5
  have f6 := ev_of a6
  have f7 := em_of a7
  have f8 := em_of a8
  generalize (fun (r : Fin 4112) (l : Fin 384) => a0 (ix2 r l)) = q at f0
  generalize (fun (r : Fin 4112) (l : Fin 256) => a1 (ix2 r l)) = kv at f1
  generalize (fun (r : Fin 4112) (l : Fin 32) => a2 (ix2 r l)) = kr at f2
  generalize (fun (r : Fin 4112) (l : Fin 16) => a3 (ix2 r l)) = c at f3
  generalize (fun (r : Fin 4112) (l : Fin 16) => a4 (ix2 r l)) = s at f4
  generalize (fun (l : Fin 384) => a5 (ix1 l)) = qg at f5
  generalize (fun (l : Fin 256) => a6 (ix1 l)) = kg at f6
  generalize (fun (r : Fin 384) (l : Fin 768) => a7 (ix2 r l)) = wq at f7
  generalize (fun (r : Fin 256) (l : Fin 1024) => a8 (ix2 r l)) = wk at f8
  subst f0 f1 f2 f3 f4 f5 f6 f7 f8
  have v0 := V_0 m d q e0
  have v1 := V_1 m d kv e1
  have v2 := V_2 m d kr e2
  have v3 := V_3 m d qg e5
  have v4 := V_4 m d kg e6
  have v5 := V_5 m d wq e7
  have v6 := V_6 m d wk e8
  have v7 := V_7 m d c e3
  have v8 := V_8 m d s e4
  have v9 := V_9 m d s e4
  exact ⟨((final10 m d _ _ _ _ _ _ v0 v3 v5 v7 v8 v9).trans (rows10 q c s qg wq)).trans (ref66 q c s qg wq).symm,
    ((final11 m d _ _ _ _ _ _ _ v1 v2 v4 v6 v7 v8 v9).trans (rows11 kv kr c s kg wk)).trans (ref73 kv kr c s kg wk).symm,
    ((final12 m d _ _ _ v1 v4 v6).trans (rows12 kv kg wk)).trans (ref77 kv kg wk).symm⟩

end Cert.MlaFwdKernelIdeal.Hand

end
-- ==== Proof.MixInFwdKer.lean ====
/- The mixer input's forward call: what the kernel leaves. -/
module

public import proofs.«01_k».proof.Defs
public import proofs.«01_k».proof.Proof.Gen.MixInFwdKernelIdeal.Value
public import proofs.«01_k».proof.Proof.Rows
public import Idealize.ShloMosaic.Lib.Pointwise
public import Idealize.ShloMosaic.Lib.Pipeline.Value
public import Idealize.ShloMosaic.Lib.Tactic

@[expose] public section

set_option maxRecDepth 16384

noncomputable section

namespace Cert.MixInFwdKernelIdeal.Hand

open Cert.MixInFwdKernelIdeal Cert.MixInFwdKernelIdeal.Gen Idealize.ShloMosaic Idealize.ShloMosaic.TcCoe Idealize.SL.Sem
open Idealize.ShloMosaic.Pipeline (Dat)
open Cert.Norm

/-! ## The kernel's values -/

/-- A row, normed and with its gains, times the matrix. -/
def zrow {n : ℕ} (x g : Fin 1024 → EReal) (w : Fin 1024 → Fin n → EReal) : Fin n → EReal := rowDot (fun k => nrm 0x44800000#32 x k * g k) w

theorem zrow_zero {n : ℕ} (g : Fin 1024 → EReal) (w : Fin 1024 → Fin n → EReal) (l : Fin n) : zrow (fun _ => 0) g w l = 0 :=
  rowDot_zero _ (fun j => by rw [nrm_zero, zero_mul]) w l

/-- The columns of the projection in the order of the kernel. -/
def colsE (x : Fin 1696 → EReal) (j : Fin 1792) : EReal :=
  if h : j.val < 1664 then x ⟨j.val, by omega⟩ else if j.val - 1664 < 64 then 0
  else if h : j.val - 1664 - 64 < 32 then x ⟨1664 + (j.val - 1664 - 64), by omega⟩ else 0

theorem colsE_concat {n : ℕ} (X : Fin n → Fin 1696 → EReal) (s1 s2 h1 h2 hc) :
    concatenate ⟨2, ![n, 1792]⟩ 1 [⟨⟨2, ![n, 1664]⟩, extractStridedSlice ⟨2, ![n, 1664]⟩ ![0, 0] (em X : FVec Ideal ⟨2, ![n, 1696]⟩ .f32) s1⟩,
      ⟨⟨2, ![n, 64]⟩, broadcastInDim ⟨2, ![n, 64]⟩ ![] h1 (constant (F := Ideal) ⟨0, ![]⟩ .f32 0x00000000#32)⟩,
      ⟨⟨2, ![n, 32]⟩, extractStridedSlice ⟨2, ![n, 32]⟩ ![0, 1664] (em X : FVec Ideal ⟨2, ![n, 1696]⟩ .f32) s2⟩,
      ⟨⟨2, ![n, 32]⟩, broadcastInDim ⟨2, ![n, 32]⟩ ![] h2 (constant (F := Ideal) ⟨0, ![]⟩ .f32 0x00000000#32)⟩] hc
    = (em fun r => colsE (X r)) := by
  refine eq_em _ _ fun r l => ?_
  pointwise
  unfold colsE
  split_ifs <;> first | rfl | (refine congrArg₂ X (Fin.ext ?_) (Fin.ext ?_) <;> (simp [Shape.Idx.norm, ix2] <;> rfl))

variable (h : Fin 384 → Fin 1024 → EReal) (g : Fin 1 → Fin 1024 → EReal) (w : Fin 1024 → Fin 1792 → EReal)

theorem pay1_em : k0_pay1 (F := Ideal) (em h) (em g) (em w) = em fun r => zrow (h r) (g 0) w := by
  unfold k0_pay1
  dsimp only
  simp only [shapeCast_self]
  refine Eq.trans (congrArg (fun z : FVec Ideal S384x1024 .f32 => matmul dot_S384x1024_S1024x1792_S384x1792_1_0_0_1_n_n none (truncf .bf16 z bitsLt_bf16_f32) (em w) (constant S384x1792 .f32 0x00000000#32))
    (ker_nrm (W := 1024) (by norm_num) 0x44800000#32 h g _ _ _ _ _ _)) ?_
  refine eq_em _ _ fun r l => ?_
  pointwise
  rfl

theorem pay2_em : k0_pay2 (F := Ideal) (em h) (em g) (em w) = em fun r (l : Fin 512) => zrow (h r) (g 0) w ⟨0 + l.val, by omega⟩ := by
  unfold k0_pay2
  rw [pay1_em]
  exact slice_em 0 (by norm_num) _ _

theorem pay3_em : k0_pay3 (F := Ideal) (em h) (em g) (em w) = em fun r (l : Fin 512) => zrow (h r) (g 0) w ⟨512 + l.val, by omega⟩ := by
  unfold k0_pay3
  rw [pay1_em]
  exact slice_em 512 (by norm_num) _ _

theorem pay4_em : k0_pay4 (F := Ideal) (em h) (em g) (em w) = em fun r (l : Fin 384) => zrow (h r) (g 0) w ⟨1024 + l.val, by omega⟩ := by
  unfold k0_pay4
  rw [pay1_em]
  exact slice_em 1024 (by norm_num) _ _

theorem pay5_em : k0_pay5 (F := Ideal) (em h) (em g) (em w) = em fun r (l : Fin 256) => zrow (h r) (g 0) w ⟨1408 + l.val, by omega⟩ := by
  unfold k0_pay5
  rw [pay1_em]
  exact slice_em 1408 (by norm_num) _ _

theorem pay6_em : k0_pay6 (F := Ideal) (em h) (em g) (em w) = em fun r (l : Fin 128) => zrow (h r) (g 0) w ⟨1664 + l.val, by omega⟩ := by
  unfold k0_pay6
  rw [pay1_em]
  exact slice_em 1664 (by norm_num) _ _

theorem hz : (![0, 0] : Fin 2 → Nat) = fun _ => 0 := funext fun a => by fin_cases a <;> rfl

variable (m : (ℓ : Loc nD τ sig) → Buf (Elt Ideal) ℓ)

/-! ## The arrays the pipeline reads -/

variable (c : Dev nD)

theorem V_0 (X : Fin 4112 → Fin 1024 → EReal) (h : (m ((c : Thread nD τ).loc main_arg0) : FVec Ideal S4112x1024 .f32) = em X) :
    (V m c main_v1 : Vec Ideal S4224x1024 .f32) = em (padE X) := by
  refine Eq.trans ?_ (padE_concat X bcast_S_S112x1024 concatenates_S4112x1024_S112x1024_S4224x1024_d0)
  rw [← h]
  show StableHlo.after hostOps0 _ (Proc.devRef .tc main_v1) = _
  simp only [hostOps0, List.flatten_cons, List.flatten_nil, List.append_nil, List.cons_append, List.nil_append]
  after_results
  try rfl

theorem V_1 (G : Fin 1024 → EReal) (h : (m ((c : Thread nD τ).loc main_arg1) : FVec Ideal S1024 .f32) = ev G) :
    (V m c main_v2 : Vec Ideal S1x1024 .f32) = em fun _ => G := by
  refine Eq.trans ?_ (row_1024 G rfl)
  rw [← h]
  show StableHlo.after hostOps0 _ (Proc.devRef .tc main_v2) = _
  simp only [hostOps0, List.flatten_cons, List.flatten_nil, List.append_nil, List.cons_append, List.nil_append]
  after_results
  try rfl

theorem V_2 (X : Fin 1024 → Fin 1696 → EReal) (h : (m ((c : Thread nD τ).loc main_arg2) : FVec Ideal S1024x1696 .f32) = em X) :
    (V m c main_v8 : Vec Ideal S1024x1792 .bf16) = em fun r => colsE (X r) := by
  refine Eq.trans ?_ (colsE_concat X slices_S1024x1696_S1024x1664_0_0 slices_S1024x1696_S1024x32_0_1664 bcast_S_S1024x64 bcast_S_S1024x32 concatenates_S1024x1664_S1024x64_S1024x32_S1024x32_S1024x1792_d1)
  rw [← h]
  show StableHlo.after hostOps0 _ (Proc.devRef .tc main_v8) = _
  simp only [hostOps0, List.flatten_cons, List.flatten_nil, List.append_nil, List.cons_append, List.nil_append]
  after_results
  try rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

/-- The place of row `R` in its block. -/
abbrev inBlk (R : Fin 4224) : Fin 384 := ⟨R.val % 384, Nat.mod_lt _ (by decide)⟩

theorem rowAt_ptOf (R : Fin 4224) : rowAt (ptOf R) (inBlk R) = R := Fin.ext (by show 384 * (R.val / 384) + R.val % 384 = R.val; omega)

theorem index0 (t : Fin cfg0.N) : win0_0.index t 0 = t.val ∧ win0_0.index t 1 = 0 :=
  (by decide +kernel : ∀ t : Fin grid0.N, win0_0.index t 0 = t.val ∧ win0_0.index t 1 = 0) t
theorem index3 (t : Fin cfg0.N) : win0_3.index t 0 = t.val ∧ win0_3.index t 1 = 0 :=
  (by decide +kernel : ∀ t : Fin grid0.N, win0_3.index t 0 = t.val ∧ win0_3.index t 1 = 0) t
theorem index4 (t : Fin cfg0.N) : win0_4.index t 0 = t.val ∧ win0_4.index t 1 = 0 :=
  (by decide +kernel : ∀ t : Fin grid0.N, win0_4.index t 0 = t.val ∧ win0_4.index t 1 = 0) t
theorem index5 (t : Fin cfg0.N) : win0_5.index t 0 = t.val ∧ win0_5.index t 1 = 0 :=
  (by decide +kernel : ∀ t : Fin grid0.N, win0_5.index t 0 = t.val ∧ win0_5.index t 1 = 0) t
theorem index6 (t : Fin cfg0.N) : win0_6.index t 0 = t.val ∧ win0_6.index t 1 = 0 :=
  (by decide +kernel : ∀ t : Fin grid0.N, win0_6.index t 0 = t.val ∧ win0_6.index t 1 = 0) t
theorem index7 (t : Fin cfg0.N) : win0_7.index t 0 = t.val ∧ win0_7.index t 1 = 0 :=
  (by decide +kernel : ∀ t : Fin grid0.N, win0_7.index t 0 = t.val ∧ win0_7.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = 0 ∧ win0_2.index t 1 = 0 :=
  (by decide +kernel : ∀ t : Fin grid0.N, win0_2.index t 0 = 0 ∧ win0_2.index t 1 = 0) t

theorem iblk0_em (t : Fin cfg0.N) (X : Fin 4224 → Fin 1024 → EReal) (h : (V m c main_v1 : Vec Ideal S4224x1024 .f32) = em X) :
    (iblk m c 0 t : Vec Ideal S384x1024 .f32) = em fun r => X (rowAt t r) := by
  funext i; rw [eq_ix2 i]; generalize i 0 = r; generalize i 1 = l
  refine (View.read_apply ..).trans ((congrArg (V m c main_v1 : Vec Ideal S4224x1024 .f32) (funext fun a => Fin.ext ?_ : _ = ix2 (rowAt t r) l)).trans (congrFun h _))
  match a with
  | ⟨0, _⟩ => show win0_0.index t 0 * 384 + 1 * r.val = 384 * t.val + r.val; rw [(index0 t).1]; omega
  | ⟨1, _⟩ => show win0_0.index t 1 * 1024 + 1 * l.val = l.val; rw [(index0 t).2]; omega

theorem iblk1_em (t : Fin cfg0.N) (X : Fin 1 → Fin 1024 → EReal) (h : (V m c main_v2 : Vec Ideal S1x1024 .f32) = em X) :
    (iblk m c 1 t : Vec Ideal S1x1024 .f32) = em X := by
  funext i; rw [eq_ix2 i]; generalize i 0 = r; generalize i 1 = l
  refine (View.read_apply ..).trans ((congrArg (V m c main_v2 : Vec Ideal S1x1024 .f32) (funext fun a => Fin.ext ?_ : _ = ix2 r l)).trans (congrFun h _))
  match a with
  | ⟨0, _⟩ => show win0_1.index t 0 * 1 + 1 * r.val = r.val; rw [(index1 t).1]; omega
  | ⟨1, _⟩ => show win0_1.index t 1 * 1024 + 1 * l.val = l.val; rw [(index1 t).2]; omega

theorem iblk2_em (t : Fin cfg0.N) (X : Fin 1024 → Fin 1792 → EReal) (h : (V m c main_v8 : Vec Ideal S1024x1792 .bf16) = em X) :
    (iblk m c 2 t : Vec Ideal S1024x1792 .bf16) = em X := by
  funext i; rw [eq_ix2 i]; generalize i 0 = r; generalize i 1 = l
  refine (View.read_apply ..).trans ((congrArg (V m c main_v8 : Vec Ideal S1024x1792 .bf16) (funext fun a => Fin.ext ?_ : _ = ix2 r l)).trans (congrFun h _))
  match a with
  | ⟨0, _⟩ => show win0_2.index t 0 * 1024 + 1 * r.val = r.val; rw [(index2 t).1]; omega
  | ⟨1, _⟩ => show win0_2.index t 1 * 1792 + 1 * l.val = l.val; rw [(index2 t).2]; omega

/-! ## What the pipeline leaves -/

variable (H : Fin 4224 → Fin 1024 → EReal) (G : Fin 1024 → EReal) (W : Fin 1024 → Fin 1792 → EReal)
  (v0 : (V m c main_v1 : Vec Ideal S4224x1024 .f32) = em H) (v1 : (V m c main_v2 : Vec Ideal S1x1024 .f32) = em fun _ => G)
  (v2 : (V m c main_v8 : Vec Ideal S1024x1792 .bf16) = em W)

include v0 v1 v2 in
theorem outs_3 (t : Fin cfg0.N) : (out0_3 (iblk m c 0 t) (iblk m c 1 t) (iblk m c 2 t) : Vec Ideal S384x512 .f32)
    = em fun r (l : Fin 512) => zrow (H (rowAt t r)) G W ⟨0 + l.val, by omega⟩ := by
  unfold out0_3
  rw [View.canon_unit_zero hz]
  simp only [View.ld_unit_zero (S := S384x1024) hz, View.ld_unit_zero (S := S1x1024) hz, View.ld_unit_zero (S := S1024x1792) hz, iblk0_em m c t H v0, iblk1_em m c t _ v1, iblk2_em m c t W v2]
  exact pay2_em _ _ _

include v0 v1 v2 in
theorem outs_4 (t : Fin cfg0.N) : (out0_4 (iblk m c 0 t) (iblk m c 1 t) (iblk m c 2 t) : Vec Ideal S384x512 .f32)
    = em fun r (l : Fin 512) => zrow (H (rowAt t r)) G W ⟨512 + l.val, by omega⟩ := by
  unfold out0_4
  rw [View.canon_unit_zero hz]
  simp only [View.ld_unit_zero (S := S384x1024) hz, View.ld_unit_zero (S := S1x1024) hz, View.ld_unit_zero (S := S1024x1792) hz, iblk0_em m c t H v0, iblk1_em m c t _ v1, iblk2_em m c t W v2]
  exact pay3_em _ _ _

include v0 v1 v2 in
theorem outs_5 (t : Fin cfg0.N) : (out0_5 (iblk m c 0 t) (iblk m c 1 t) (iblk m c 2 t) : Vec Ideal S384x384 .f32)
    = em fun r (l : Fin 384) => zrow (H (rowAt t r)) G W ⟨1024 + l.val, by omega⟩ := by
  unfold out0_5
  rw [View.canon_unit_zero hz]
  simp only [View.ld_unit_zero (S := S384x1024) hz, View.ld_unit_zero (S := S1x1024) hz, View.ld_unit_zero (S := S1024x1792) hz, iblk0_em m c t H v0, iblk1_em m c t _ v1, iblk2_em m c t W v2]
  exact pay4_em _ _ _

include v0 v1 v2 in
theorem outs_6 (t : Fin cfg0.N) : (out0_6 (iblk m c 0 t) (iblk m c 1 t) (iblk m c 2 t) : Vec Ideal S384x256 .f32)
    = em fun r (l : Fin 256) => zrow (H (rowAt t r)) G W ⟨1408 + l.val, by omega⟩ := by
  unfold out0_6
  rw [View.canon_unit_zero hz]
  simp only [View.ld_unit_zero (S := S384x1024) hz, View.ld_unit_zero (S := S1x1024) hz, View.ld_unit_zero (S := S1024x1792) hz, iblk0_em m c t H v0, iblk1_em m c t _ v1, iblk2_em m c t W v2]
  exact pay5_em _ _ _

include v0 v1 v2 in
theorem outs_7 (t : Fin cfg0.N) : (out0_7 (iblk m c 0 t) (iblk m c 1 t) (iblk m c 2 t) : Vec Ideal S384x128 .f32)
    = em fun r (l : Fin 128) => zrow (H (rowAt t r)) G W ⟨1664 + l.val, by omega⟩ := by
  unfold out0_7
  rw [View.canon_unit_zero hz]
  simp only [View.ld_unit_zero (S := S384x1024) hz, View.ld_unit_zero (S := S1x1024) hz, View.ld_unit_zero (S := S1024x1792) hz, iblk0_em m c t H v0, iblk1_em m c t _ v1, iblk2_em m c t W v2]
  exact pay6_em _ _ _

include v0 v1 v2 in
theorem final3 : ((dats m 0 c).arrAt 3 cfg0.N : Vec Ideal S4224x512 .f32) = em fun Q l => zrow (H Q) G W ⟨0 + l.val, by omega⟩ := by
  refine eq_em _ _ fun R l => ?_
  have h := (dats m 0 c).arrAt_emb_eq_flushed 3 Value.disjoint3 (ptOf R) (flush0_3 _) (ix2 (inBlk R) l : S384x512.Idx)
  have e : ((cfg0.win 3).blk (ptOf R)).view.emb (ix2 (inBlk R) l : S384x512.Idx) = (ix2 R l : S4224x512.Idx) := by
    funext a
    apply Fin.ext
    match a with
    | ⟨0, _⟩ => show win0_3.index (ptOf R) 0 * 384 + 1 * (R.val % 384) = R.val; rw [(index3 _).1]; dsimp only; omega
    | ⟨1, _⟩ => show win0_3.index (ptOf R) 1 * 512 + 1 * l.val = l.val; rw [(index3 _).2]; omega
  rw [e] at h
  refine h.trans ?_
  rw [Value.flushed3, outs_3 m c H G W v0 v1 v2]
  exact congrArg (fun Q : Fin 4224 => zrow (H Q) G W ⟨0 + l.val, by omega⟩) (rowAt_ptOf R)

include v0 v1 v2 in
theorem final4 : ((dats m 0 c).arrAt 4 cfg0.N : Vec Ideal S4224x512 .f32) = em fun Q l => zrow (H Q) G W ⟨512 + l.val, by omega⟩ := by
  refine eq_em _ _ fun R l => ?_
  have h := (dats m 0 c).arrAt_emb_eq_flushed 4 Value.disjoint4 (ptOf R) (flush0_4 _) (ix2 (inBlk R) l : S384x512.Idx)
  have e : ((cfg0.win 4).blk (ptOf R)).view.emb (ix2 (inBlk R) l : S384x512.Idx) = (ix2 R l : S4224x512.Idx) := by
    funext a
    apply Fin.ext
    match a with
    | ⟨0, _⟩ => show win0_4.index (ptOf R) 0 * 384 + 1 * (R.val % 384) = R.val; rw [(index4 _).1]; dsimp only; omega
    | ⟨1, _⟩ => show win0_4.index (ptOf R) 1 * 512 + 1 * l.val = l.val; rw [(index4 _).2]; omega
  rw [e] at h
  refine h.trans ?_
  rw [Value.flushed4, outs_4 m c H G W v0 v1 v2]
  exact congrArg (fun Q : Fin 4224 => zrow (H Q) G W ⟨512 + l.val, by omega⟩) (rowAt_ptOf R)

include v0 v1 v2 in
theorem final5 : ((dats m 0 c).arrAt 5 cfg0.N : Vec Ideal S4224x384 .f32) = em fun Q l => zrow (H Q) G W ⟨1024 + l.val, by omega⟩ := by
  refine eq_em _ _ fun R l => ?_
  have h := (dats m 0 c).arrAt_emb_eq_flushed 5 Value.disjoint5 (ptOf R) (flush0_5 _) (ix2 (inBlk R) l : S384x384.Idx)
  have e : ((cfg0.win 5).blk (ptOf R)).view.emb (ix2 (inBlk R) l : S384x384.Idx) = (ix2 R l : S4224x384.Idx) := by
    funext a
    apply Fin.ext
    match a with
    | ⟨0, _⟩ => show win0_5.index (ptOf R) 0 * 384 + 1 * (R.val % 384) = R.val; rw [(index5 _).1]; dsimp only; omega
    | ⟨1, _⟩ => show win0_5.index (ptOf R) 1 * 384 + 1 * l.val = l.val; rw [(index5 _).2]; omega
  rw [e] at h
  refine h.trans ?_
  rw [Value.flushed5, outs_5 m c H G W v0 v1 v2]
  exact congrArg (fun Q : Fin 4224 => zrow (H Q) G W ⟨1024 + l.val, by omega⟩) (rowAt_ptOf R)

include v0 v1 v2 in
theorem final6 : ((dats m 0 c).arrAt 6 cfg0.N : Vec Ideal S4224x256 .f32) = em fun Q l => zrow (H Q) G W ⟨1408 + l.val, by omega⟩ := by
  refine eq_em _ _ fun R l => ?_
  have h := (dats m 0 c).arrAt_emb_eq_flushed 6 Value.disjoint6 (ptOf R) (flush0_6 _) (ix2 (inBlk R) l : S384x256.Idx)
  have e : ((cfg0.win 6).blk (ptOf R)).view.emb (ix2 (inBlk R) l : S384x256.Idx) = (ix2 R l : S4224x256.Idx) := by
    funext a
    apply Fin.ext
    match a with
    | ⟨0, _⟩ => show win0_6.index (ptOf R) 0 * 384 + 1 * (R.val % 384) = R.val; rw [(index6 _).1]; dsimp only; omega
    | ⟨1, _⟩ => show win0_6.index (ptOf R) 1 * 256 + 1 * l.val = l.val; rw [(index6 _).2]; omega
  rw [e] at h
  refine h.trans ?_
  rw [Value.flushed6, outs_6 m c H G W v0 v1 v2]
  exact congrArg (fun Q : Fin 4224 => zrow (H Q) G W ⟨1408 + l.val, by omega⟩) (rowAt_ptOf R)

include v0 v1 v2 in
theorem final7 : ((dats m 0 c).arrAt 7 cfg0.N : Vec Ideal S4224x128 .f32) = em fun Q l => zrow (H Q) G W ⟨1664 + l.val, by omega⟩ := by
  refine eq_em _ _ fun R l => ?_
  have h := (dats m 0 c).arrAt_emb_eq_flushed 7 Value.disjoint7 (ptOf R) (flush0_7 _) (ix2 (inBlk R) l : S384x128.Idx)
  have e : ((cfg0.win 7).blk (ptOf R)).view.emb (ix2 (inBlk R) l : S384x128.Idx) = (ix2 R l : S4224x128.Idx) := by
    funext a
    apply Fin.ext
    match a with
    | ⟨0, _⟩ => show win0_7.index (ptOf R) 0 * 384 + 1 * (R.val % 384) = R.val; rw [(index7 _).1]; dsimp only; omega
    | ⟨1, _⟩ => show win0_7.index (ptOf R) 1 * 128 + 1 * l.val = l.val; rw [(index7 _).2]; omega
  rw [e] at h
  refine h.trans ?_
  rw [Value.flushed7, outs_7 m c H G W v0 v1 v2]
  exact congrArg (fun Q : Fin 4224 => zrow (H Q) G W ⟨1664 + l.val, by omega⟩) (rowAt_ptOf R)

end Cert.MixInFwdKernelIdeal.Hand

end
-- ==== Proof.MixInFwdEq.lean ====
/- The mixer input's forward call: the kernel and the reference agree. -/
module

public import proofs.«01_k».proof.Defs
public import proofs.«01_k».proof.Proof.MixInFwdKer
public import proofs.«01_k».proof.Proof.Gen.MixInFwdRefIdeal.Read
public import Idealize.ShloMosaic.Lib.Pointwise
public import Idealize.ShloMosaic.Lib.Pipeline.Value
public import Idealize.ShloMosaic.Lib.Tactic

@[expose] public section

set_option maxRecDepth 16384

noncomputable section

namespace Cert.MixInFwdKernelIdeal.Hand

open Cert.MixInFwdKernelIdeal Cert.MixInFwdKernelIdeal.Gen Idealize.ShloMosaic Idealize.ShloMosaic.TcCoe Idealize.SL.Sem
open Idealize.ShloMosaic.Pipeline (Dat)
open Cert.Norm Cert.MixInFwdRefIdeal.Read

/-! ## The reference -/

variable (h : Fin 4112 → Fin 1024 → EReal) (g : Fin 1024 → EReal) (w : Fin 1024 → Fin 1696 → EReal)

theorem ref12 : val_main_v12 (F := Ideal) (em h) (ev g) = em fun r l => nrm 0x44800000#32 (h r) l * g l :=
  host_nrm (W := 1024) (by norm_num) 0x44800000#32 h g _ _ _ _ _ _ _ _

theorem ref13 : val_main_v13 (F := Ideal) (em h) (ev g) (em w) = em fun r => zrow (h r) g w := by
  refine eq_em _ _ fun r l => ?_
  unfold val_main_v13
  rw [ref12]
  pointwise
  rfl

theorem ref23 : val_main_v23 (F := Ideal) (em h) (ev g) (em w) = em (padE fun r (l : Fin 512) => zrow (h r) g w ⟨0 + l.val, by omega⟩) := by
  have e : val_main_v14 (F := Ideal) (em h) (ev g) (em w) = em fun r (l : Fin 512) => zrow (h r) g w ⟨0 + l.val, by omega⟩ := by
    unfold val_main_v14
    rw [ref13]
    exact slice_em 0 (by norm_num) (fun r => zrow (h r) g w) _
  unfold val_main_v23
  rw [e]
  exact padE_concat _ _ _

theorem ref25 : val_main_v25 (F := Ideal) (em h) (ev g) (em w) = em (padE fun r (l : Fin 512) => zrow (h r) g w ⟨512 + l.val, by omega⟩) := by
  have e : val_main_v15 (F := Ideal) (em h) (ev g) (em w) = em fun r (l : Fin 512) => zrow (h r) g w ⟨512 + l.val, by omega⟩ := by
    unfold val_main_v15
    rw [ref13]
    exact slice_em 512 (by norm_num) (fun r => zrow (h r) g w) _
  unfold val_main_v25
  rw [e]
  exact padE_concat _ _ _

theorem ref27 : val_main_v27 (F := Ideal) (em h) (ev g) (em w) = em (padE fun r (l : Fin 384) => zrow (h r) g w ⟨1024 + l.val, by omega⟩) := by
  have e : val_main_v16 (F := Ideal) (em h) (ev g) (em w) = em fun r (l : Fin 384) => zrow (h r) g w ⟨1024 + l.val, by omega⟩ := by
    unfold val_main_v16
    rw [ref13]
    exact slice_em 1024 (by norm_num) (fun r => zrow (h r) g w) _
  unfold val_main_v27
  rw [e]
  exact padE_concat _ _ _

theorem ref29 : val_main_v29 (F := Ideal) (em h) (ev g) (em w) = em (padE fun r (l : Fin 256) => zrow (h r) g w ⟨1408 + l.val, by omega⟩) := by
  have e : val_main_v17 (F := Ideal) (em h) (ev g) (em w) = em fun r (l : Fin 256) => zrow (h r) g w ⟨1408 + l.val, by omega⟩ := by
    unfold val_main_v17
    rw [ref13]
    exact slice_em 1408 (by norm_num) (fun r => zrow (h r) g w) _
  unfold val_main_v29
  rw [e]
  exact padE_concat _ _ _

/-- The 32 columns of the rotary key at lane 64 of 128. -/
def lanesE (x : Fin 1696 → EReal) (j : Fin 128) : EReal := if j.val < 64 then 0 else if h : j.val - 64 < 32 then x ⟨1664 + (j.val - 64), by omega⟩ else 0

theorem ref21 : val_main_v21 (F := Ideal) (em h) (ev g) (em w) = em fun r => lanesE (zrow (h r) g w) := by
  refine eq_em _ _ fun r l => ?_
  unfold val_main_v21 val_main_v18
  rw [ref13]
  pointwise [val_main_v19, val_main_v20, val_main_cst_2, val_main_cst_3]
  unfold lanesE
  split_ifs <;> first | rfl | (refine congrArg (zrow (h r) g w) (Fin.ext ?_) <;> (simp [Shape.Idx.norm, ix2] <;> rfl))

theorem ref31 : val_main_v31 (F := Ideal) (em h) (ev g) (em w) = em (padE fun r => lanesE (zrow (h r) g w)) := by
  unfold val_main_v31
  rw [ref21]
  exact padE_concat _ _ _

/-! ## The two agree -/

variable (x : Fin 1024 → EReal)

/-- A column the kernel adds is zero in the product. -/
theorem zrow_cols (j : Fin 1792) : zrow x g (fun r => colsE (w r)) j = colsE (zrow x g w) j := by
  unfold zrow rowDot colsE
  dsimp only
  split_ifs <;> first | rfl | exact Finset.sum_eq_zero fun k _ => mul_zero _

theorem cols_lanes (z : Fin 1696 → EReal) (j : Fin 128) : colsE z ⟨1664 + j.val, by omega⟩ = lanesE z j := by
  unfold colsE lanesE
  dsimp only
  rw [dif_neg (by omega)]
  simp only [show 1664 + j.val - 1664 = j.val by omega]

theorem zrow_lt (o : ℕ) (k : ℕ) (l : Fin k) (ho : o + k ≤ 1664) : zrow x g (fun r => colsE (w r)) ⟨o + l.val, by omega⟩ = zrow x g w ⟨o + l.val, by omega⟩ := by
  rw [zrow_cols]
  unfold colsE
  exact dif_pos (by dsimp only; omega)

theorem zrow_last (l : Fin 128) : zrow x g (fun r => colsE (w r)) ⟨1664 + l.val, by omega⟩ = lanesE (zrow x g w) l := by
  rw [zrow_cols, cols_lanes]

theorem lanesE_zero (l : Fin 128) : lanesE (zrow (fun _ => 0) g w) l = 0 := by
  unfold lanesE
  split_ifs <;> first | rfl | exact zrow_zero _ _ _

theorem rows3 : (em fun Q (l : Fin 512) => zrow (padE h Q) g (fun r => colsE (w r)) ⟨0 + l.val, by omega⟩) = em (padE fun r (l : Fin 512) => zrow (h r) g w ⟨0 + l.val, by omega⟩) := by
  refine congrArg em (funext fun Q => ?_)
  refine Eq.trans (funext fun l => zrow_lt g w (padE h Q) 0 512 l (by norm_num)) ?_
  exact padE_map (fun x (l : Fin 512) => zrow x g w ⟨0 + l.val, by omega⟩) (fun l => zrow_zero g w _) h Q

theorem rows4 : (em fun Q (l : Fin 512) => zrow (padE h Q) g (fun r => colsE (w r)) ⟨512 + l.val, by omega⟩) = em (padE fun r (l : Fin 512) => zrow (h r) g w ⟨512 + l.val, by omega⟩) := by
  refine congrArg em (funext fun Q => ?_)
  refine Eq.trans (funext fun l => zrow_lt g w (padE h Q) 512 512 l (by norm_num)) ?_
  exact padE_map (fun x (l : Fin 512) => zrow x g w ⟨512 + l.val, by omega⟩) (fun l => zrow_zero g w _) h Q

theorem rows5 : (em fun Q (l : Fin 384) => zrow (padE h Q) g (fun r => colsE (w r)) ⟨1024 + l.val, by omega⟩) = em (padE fun r (l : Fin 384) => zrow (h r) g w ⟨1024 + l.val, by omega⟩) := by
  refine congrArg em (funext fun Q => ?_)
  refine Eq.trans (funext fun l => zrow_lt g w (padE h Q) 1024 384 l (by norm_num)) ?_
  exact padE_map (fun x (l : Fin 384) => zrow x g w ⟨1024 + l.val, by omega⟩) (fun l => zrow_zero g w _) h Q

theorem rows6 : (em fun Q (l : Fin 256) => zrow (padE h Q) g (fun r => colsE (w r)) ⟨1408 + l.val, by omega⟩) = em (padE fun r (l : Fin 256) => zrow (h r) g w ⟨1408 + l.val, by omega⟩) := by
  refine congrArg em (funext fun Q => ?_)
  refine Eq.trans (funext fun l => zrow_lt g w (padE h Q) 1408 256 l (by norm_num)) ?_
  exact padE_map (fun x (l : Fin 256) => zrow x g w ⟨1408 + l.val, by omega⟩) (fun l => zrow_zero g w _) h Q

theorem rows7 : (em fun Q (l : Fin 128) => zrow (padE h Q) g (fun r => colsE (w r)) ⟨1664 + l.val, by omega⟩) = em (padE fun r => lanesE (zrow (h r) g w)) := by
  refine congrArg em (funext fun Q => ?_)
  refine Eq.trans (funext fun l => zrow_last g w (padE h Q) l) ?_
  exact padE_map (fun x => lanesE (zrow x g w)) (fun l => lanesE_zero g w l) h Q

/-- What the kernel leaves in its five results is what the reference computes. -/
theorem value_eq (a0 : FVec Ideal S4112x1024 .f32) (a1 : FVec Ideal S1024 .f32) (a2 : FVec Ideal S1024x1696 .f32)
    (m : (ℓ : Loc nD τ sig) → Buf (Elt Ideal) ℓ) (c : Dev nD)
    (e0 : (m ((c : Thread nD τ).loc main_arg0) : FVec Ideal S4112x1024 .f32) = a0) (e1 : (m ((c : Thread nD τ).loc main_arg1) : FVec Ideal S1024 .f32) = a1)
    (e2 : (m ((c : Thread nD τ).loc main_arg2) : FVec Ideal S1024x1696 .f32) = a2) :
    ((dats m 0 c).arrAt 3 cfg0.N : Vec Ideal S4224x512 .f32) = val_main_v23 (F := Ideal) a0 a1 a2
    ∧ ((dats m 0 c).arrAt 4 cfg0.N : Vec Ideal S4224x512 .f32) = val_main_v25 (F := Ideal) a0 a1 a2
    ∧ ((dats m 0 c).arrAt 5 cfg0.N : Vec Ideal S4224x384 .f32) = val_main_v27 (F := Ideal) a0 a1 a2
    ∧ ((dats m 0 c).arrAt 6 cfg0.N : Vec Ideal S4224x256 .f32) = val_main_v29 (F := Ideal) a0 a1 a2
    ∧ ((dats m 0 c).arrAt 7 cfg0.N : Vec Ideal S4224x128 .f32) = val_main_v31 (F := Ideal) a0 a1 a2 := by
  have f0 := em_of a0
  have f1 := ev_of a1
  have f2 := em_of a2
  generalize (fun (r : Fin 4112) (l : Fin 1024) => a0 (ix2 r l)) = h at f0
  generalize (fun l : Fin 1024 => a1 (ix1 l)) = g at f1
  generalize (fun (r : Fin 1024) (l : Fin 1696) => a2 (ix2 r l)) = w at f2
  subst f0 f1 f2
  have v0 := V_0 m c h e0
  have v1 := V_1 m c g e1
  have v2 := V_2 m c w e2
  exact ⟨((final3 m c _ _ _ v0 v1 v2).trans (rows3 h g w)).trans (ref23 h g w).symm, ((final4 m c _ _ _ v0 v1 v2).trans (rows4 h g w)).trans (ref25 h g w).symm,
    ((final5 m c _ _ _ v0 v1 v2).trans (rows5 h g w)).trans (ref27 h g w).symm, ((final6 m c _ _ _ v0 v1 v2).trans (rows6 h g w)).trans (ref29 h g w).symm,
    ((final7 m c _ _ _ v0 v1 v2).trans (rows7 h g w)).trans (ref31 h g w).symm⟩

end Cert.MixInFwdKernelIdeal.Hand

end
-- ==== Proof.FfnFwdKer.lean ====
/- The feed-forward block's forward call: what the kernel leaves. -/
module

public import proofs.«01_k».proof.Defs
public import proofs.«01_k».proof.Proof.Gen.FfnFwdKernelIdeal.Value
public import proofs.«01_k».proof.Proof.Rows
public import Idealize.ShloMosaic.Lib.Pointwise
public import Idealize.ShloMosaic.Lib.Pipeline.Value
public import Idealize.ShloMosaic.Lib.Tactic

@[expose] public section

set_option maxRecDepth 16384

noncomputable section

namespace Cert.FfnFwdKernelIdeal.Hand

open Cert.FfnFwdKernelIdeal Cert.FfnFwdKernelIdeal.Gen Idealize.ShloMosaic Idealize.ShloMosaic.TcCoe Idealize.SL.Sem
open Idealize.ShloMosaic.Pipeline (Dat)
open Cert.Norm

/-! ## The kernel's values -/

/-- A row, normed and with its gains. -/
def xrow (x g : Fin 1024 → EReal) (k : Fin 1024) : EReal := nrm 0x44800000#32 x k * g k

theorem xrow_zero (g : Fin 1024 → EReal) (k : Fin 1024) : xrow (fun _ => 0) g k = 0 := by unfold xrow; rw [nrm_zero, zero_mul]

/-- A row times a matrix that is given transposed. -/
def rowT {n : ℕ} (x : Fin 1024 → EReal) (w : Fin n → Fin 1024 → EReal) (j : Fin n) : EReal := ∑ k, x k * w j k

theorem rowT_zero {n : ℕ} (x : Fin 1024 → EReal) (hx : ∀ j, x j = 0) (w : Fin n → Fin 1024 → EReal) (j : Fin n) : rowT x w j = 0 :=
  Finset.sum_eq_zero fun k _ => by rw [hx, zero_mul]

/-- The gated activation. -/
def gate (a b : EReal) : EReal := a * lg a * b

/-- The row that leaves the block before its norm. -/
def frow (x g : Fin 1024 → EReal) (wg wu wd : Fin 2816 → Fin 1024 → EReal) (l : Fin 1024) : EReal :=
  rowDot (fun j => gate (rowT (xrow x g) wg j) (rowT (xrow x g) wu j)) wd l

theorem frow_zero (g : Fin 1024 → EReal) (wg wu wd : Fin 2816 → Fin 1024 → EReal) (l : Fin 1024) : frow (fun _ => 0) g wg wu wd l = 0 :=
  rowDot_zero _ (fun j => by rw [rowT_zero _ (xrow_zero g), gate, zero_mul, zero_mul]) wd l

/-- The row with half of its normed block added. -/
def orow (x f p : Fin 1024 → EReal) (l : Fin 1024) : EReal := x l + Ideal.ofBits .f32 0x3F000000#32 * (nrm 0x44800000#32 f l * p l)

theorem orow_zero (p : Fin 1024 → EReal) (l : Fin 1024) : orow (fun _ => 0) (fun _ => 0) p l = 0 := by
  unfold orow
  rw [nrm_zero, zero_mul, mul_zero, add_zero]

/-- The sum over the two halves of the hidden columns. -/
theorem frow_halves (x g : Fin 1024 → EReal) (wg wu wd : Fin 2816 → Fin 1024 → EReal) (l : Fin 1024) :
    rowDot (fun j : Fin 1408 => gate (rowT (xrow x g) (fun (j : Fin 1408) => wg ⟨0 + j.val, by omega⟩) j) (rowT (xrow x g) (fun (j : Fin 1408) => wu ⟨0 + j.val, by omega⟩) j)) (fun j => wd ⟨0 + j.val, by omega⟩) l
      + rowDot (fun j : Fin 1408 => gate (rowT (xrow x g) (fun (j : Fin 1408) => wg ⟨1408 + j.val, by omega⟩) j) (rowT (xrow x g) (fun (j : Fin 1408) => wu ⟨1408 + j.val, by omega⟩) j)) (fun j => wd ⟨1408 + j.val, by omega⟩) l
    = frow x g wg wu wd l := by
  unfold frow
  rw [← rowDot_halves (n := 1408) (m := 2816) rfl]
  refine congrArg₂ (· + ·) (Finset.sum_congr rfl fun j _ => ?_) rfl
  have e : (⟨0 + j.val, by omega⟩ : Fin 2816) = ⟨j.val, by omega⟩ := Fin.ext (by show 0 + j.val = j.val; omega)
  simp only [rowT, e]

variable (h : Fin 384 → Fin 1024 → EReal) (g : Fin 1 → Fin 1024 → EReal) (w : Fin 1408 → Fin 1024 → EReal)

theorem pay3_em : k0_pay3 (F := Ideal) (em h) (em g) = (em fun r => xrow (h r) (g 0)) := by
  unfold k0_pay3 k0_pay2
  dsimp only
  simp only [shapeCast_self]
  exact congrArg (fun z : FVec Ideal S384x1024 .f32 => truncf .bf16 z bitsLt_bf16_f32) (ker_nrm (W := 1024) (by norm_num) 0x44800000#32 h g _ _ _ _ _ _)

theorem pay10_em (x : Fin 384 → Fin 1024 → EReal) : k0_pay10 (F := Ideal) (em x) (em w) = em fun r => rowT (x r) w := by
  refine eq_em _ _ fun r l => ?_
  unfold k0_pay10
  pointwise
  rfl

theorem pay11_em (x : Fin 384 → Fin 1024 → EReal) : k0_pay11 (F := Ideal) (em x) (em w) = em fun r => rowT (x r) w := pay10_em w x

theorem pay12_em (x : Fin 384 → Fin 1024 → EReal) : k0_pay12 (F := Ideal) (em x) (em w) = (em fun r => rowT (x r) w) := pay10_em w x

theorem pay13_em (x : Fin 384 → Fin 1024 → EReal) : k0_pay13 (F := Ideal) (em x) (em w) = (em fun r => rowT (x r) w) := pay10_em w x

theorem pay5_em : k0_pay5 (F := Ideal) (em h) (em g) (em w) = em fun r => rowT (xrow (h r) (g 0)) w := by
  unfold k0_pay5
  rw [pay3_em]
  exact pay10_em w _

theorem pay6_em : k0_pay6 (F := Ideal) (em h) (em g) (em w) = em fun r => rowT (xrow (h r) (g 0)) w := pay5_em h g w

theorem pay7_em : k0_pay7 (F := Ideal) (em h) (em g) (em w) = (em fun r => rowT (xrow (h r) (g 0)) w) := pay5_em h g w

theorem pay8_em : k0_pay8 (F := Ideal) (em h) (em g) (em w) = (em fun r => rowT (xrow (h r) (g 0)) w) := pay5_em h g w

theorem pay9_em : k0_pay9 (F := Ideal) (em h) (em g) (em w) = em fun r l => rowT (xrow (h r) (g 0)) w l * lg (rowT (xrow (h r) (g 0)) w l) := by
  refine eq_em _ _ fun r l => ?_
  unfold k0_pay9
  rw [pay5_em]
  pointwise
  rfl

theorem pay14_em (x : Fin 384 → Fin 1024 → EReal) (b s : Fin 384 → Fin 1408 → EReal) (d0 w1 u1 d1 : Fin 1408 → Fin 1024 → EReal) :
    k0_pay14 (F := Ideal) (em x) (k0_pay4 (F := Ideal)) (em b) (em s) (em d0) (em w1) (em u1) (em d1)
    = em fun r l => rowDot (fun j => s r j * b r j) d0 l + rowDot (fun j => gate (rowT (x r) w1 j) (rowT (x r) u1 j)) d1 l := by
  refine eq_em _ _ fun r l => ?_
  unfold k0_pay14 k0_pay4
  rw [pay10_em, pay11_em]
  pointwise
  first | rfl | (rw [zero_add]; rfl) | (simp only [Ideal.ofBits_zero, zero_add]; rfl)

theorem pay1_em (f : Fin 384 → Fin 1024 → EReal) : k0_pay1 (F := Ideal) (em h) (em f) (em g) (mulf (em f : FVec Ideal S384x1024 .f32) (em f)) = em fun r => orow (h r) (f r) (g 0) := by
  unfold k0_pay1
  dsimp only
  exact congrArg (fun z : FVec Ideal S384x1024 .f32 => addf (em h) (mulf (broadcast S384x1024 (Scalar.ofBits (F := Ideal) .f32 0x3F000000#32)) z)) (ker_nrm (W := 1024) (by norm_num) 0x44800000#32 f g _ _ _ _ _ _)

/-- Two stores side by side leave the array they are the halves of. -/
theorem canon_two (X : Fin 384 → Fin 2816 → EReal) (p q : Vec Ideal S384x1408 .bf16) (i1 i0) (hp : p = em fun r (l : Fin 1408) => X r ⟨1408 + l.val, by omega⟩)
    (hq : q = em fun r (l : Fin 1408) => X r ⟨0 + l.val, by omega⟩) :
    View.canon (Val := Elt Ideal) (s := S384x2816) (e := .bf16) [⟨Rect.unit ![0, 1408] ![384, 1408] i1, p⟩, ⟨Rect.unit ![0, 0] ![384, 1408] i0, q⟩] = em X := by
  subst hp hq
  funext y
  refine View.canon_apply_of_pieces (Val := Elt Ideal) (S := S384x2816) (e := .bf16) (em X) _ (fun p hp x => ?_) y ?_
  · rcases List.mem_cons.mp hp with rfl | hp
    · refine congrArg₂ X (Fin.ext ?_) (Fin.ext ?_)
      · show (x 0).val = 0 + 1 * (x 0).val; omega
      · show 1408 + (x 1).val = 1408 + 1 * (x 1).val; omega
    · obtain rfl := List.mem_singleton.mp hp
      refine congrArg₂ X (Fin.ext ?_) (Fin.ext ?_)
      · show (x 0).val = 0 + 1 * (x 0).val; omega
      · show 0 + (x 1).val = 0 + 1 * (x 1).val; omega
  · have h0 : (y 0 : Nat) < 384 := (y 0).isLt
    have h1 : (y 1 : Nat) < 2816 := (y 1).isLt
    by_cases h : (y 1 : Nat) < 1408
    · refine ⟨_, List.mem_cons_of_mem _ (List.mem_singleton_self _), ?_⟩
      rw [Rect.mem_set_unit]
      intro a
      match a with
      | ⟨0, _⟩ => show 0 ≤ (y 0 : Nat) ∧ (y 0 : Nat) < 0 + 384; omega
      | ⟨1, _⟩ => show 0 ≤ (y 1 : Nat) ∧ (y 1 : Nat) < 0 + 1408; omega
    · refine ⟨_, List.mem_cons_self, ?_⟩
      rw [Rect.mem_set_unit]
      intro a
      match a with
      | ⟨0, _⟩ => show 0 ≤ (y 0 : Nat) ∧ (y 0 : Nat) < 0 + 384; omega
      | ⟨1, _⟩ => show 1408 ≤ (y 1 : Nat) ∧ (y 1 : Nat) < 1408 + 1408; omega

theorem tr_em (X : Fin 1024 → Fin 2816 → EReal) (ht) : (transpose S2816x1024 [1, 0] (em X : FVec Ideal S1024x2816 .f32) ht : FVec Ideal S2816x1024 .f32) = em fun j k => X k j := by
  refine eq_em _ _ fun r l => ?_
  pointwise
  rfl

theorem hz : (![0, 0] : Fin 2 → Nat) = fun _ => 0 := funext fun a => by fin_cases a <;> rfl

variable (m : (ℓ : Loc nD τ sig) → Buf (Elt Ideal) ℓ)

/-! ## The arrays the pipeline reads -/

variable (c : Dev nD)

theorem V_0 (X : Fin 4112 → Fin 1024 → EReal) (h : (m ((c : Thread nD τ).loc main_arg0) : FVec Ideal S4112x1024 .f32) = em X) :
    (V m c main_v1 : Vec Ideal S4224x1024 .f32) = em (padE X) := by
  refine Eq.trans ?_ (padE_concat X bcast_S_S112x1024 concatenates_S4112x1024_S112x1024_S4224x1024_d0)
  rw [← h]
  show StableHlo.after hostOps0 _ (Proc.devRef .tc main_v1) = _
  simp only [hostOps0, List.flatten_cons, List.flatten_nil, List.append_nil, List.cons_append, List.nil_append]
  after_results
  try rfl

theorem V_1 (G : Fin 1024 → EReal) (h : (m ((c : Thread nD τ).loc main_arg1) : FVec Ideal S1024 .f32) = ev G) :
    (V m c main_v2 : Vec Ideal S1x1024 .f32) = em fun _ => G := by
  refine Eq.trans ?_ (row_1024 G rfl)
  rw [← h]
  show StableHlo.after hostOps0 _ (Proc.devRef .tc main_v2) = _
  simp only [hostOps0, List.flatten_cons, List.flatten_nil, List.append_nil, List.cons_append, List.nil_append]
  after_results
  try rfl

theorem V_2 (G : Fin 1024 → EReal) (h : (m ((c : Thread nD τ).loc main_arg2) : FVec Ideal S1024 .f32) = ev G) :
    (V m c main_v3 : Vec Ideal S1x1024 .f32) = em fun _ => G := by
  refine Eq.trans ?_ (row_1024 G rfl)
  rw [← h]
  show StableHlo.after hostOps0 _ (Proc.devRef .tc main_v3) = _
  simp only [hostOps0, List.flatten_cons, List.flatten_nil, List.append_nil, List.cons_append, List.nil_append]
  after_results
  try rfl

theorem V_3 (X : Fin 1024 → Fin 2816 → EReal) (h : (m ((c : Thread nD τ).loc main_arg3) : FVec Ideal S1024x2816 .f32) = em X) :
    (V m c main_v5 : Vec Ideal S2816x1024 .bf16) = em fun j k => X k j := by
  refine Eq.trans ?_ (tr_em X transposes_S1024x2816_S2816x1024_1_0)
  rw [← h]
  show StableHlo.after hostOps0 _ (Proc.devRef .tc main_v5) = _
  simp only [hostOps0, List.flatten_cons, List.flatten_nil, List.append_nil, List.cons_append, List.nil_append]
  after_results
  try rfl

theorem V_4 (X : Fin 1024 → Fin 2816 → EReal) (h : (m ((c : Thread nD τ).loc main_arg4) : FVec Ideal S1024x2816 .f32) = em X) :
    (V m c main_v7 : Vec Ideal S2816x1024 .bf16) = em fun j k => X k j := by
  refine Eq.trans ?_ (tr_em X transposes_S1024x2816_S2816x1024_1_0)
  rw [← h]
  show StableHlo.after hostOps0 _ (Proc.devRef .tc main_v7) = _
  simp only [hostOps0, List.flatten_cons, List.flatten_nil, List.append_nil, List.cons_append, List.nil_append]
  after_results
  try rfl

theorem V_5 (X : Fin 2816 → Fin 1024 → EReal) (h : (m ((c : Thread nD τ).loc main_arg5) : FVec Ideal S2816x1024 .f32) = em X) :
    (V m c main_v8 : Vec Ideal S2816x1024 .bf16) = em X := by
  refine Eq.trans ?_ (h)
  show StableHlo.after hostOps0 _ (Proc.devRef .tc main_v8) = _
  simp only [hostOps0, List.flatten_cons, List.flatten_nil, List.append_nil, List.cons_append, List.nil_append]
  after_results
  try rfl

theorem lt_N (t : Fin cfg0.N) : t.val < 11 := lt_of_lt_of_eq t.isLt N_0

/-- The point whose block holds row `R`. -/
abbrev ptOf (R : Fin 4224) : Fin cfg0.N := ⟨R.val / 384, by show _ < grid0.N; rw [N_0]; omega⟩

/-- The row of the whole array at row `r` of a point's block. -/
abbrev rowAt (t : Fin cfg0.N) (r : Fin 384) : Fin 4224 := ⟨384 * t.val + r.val, by have := lt_N t; omega⟩

/-- The place of row `R` in its block. -/
abbrev inBlk (R : Fin 4224) : Fin 384 := ⟨R.val % 384, Nat.mod_lt _ (by decide)⟩

theorem rowAt_ptOf (R : Fin 4224) : rowAt (ptOf R) (inBlk R) = R := Fin.ext (by show 384 * (R.val / 384) + R.val % 384 = R.val; omega)

theorem index0 (t : Fin cfg0.N) : win0_0.index t 0 = t.val ∧ win0_0.index t 1 = 0 :=
  (by decide +kernel : ∀ t : Fin grid0.N, win0_0.index t 0 = t.val ∧ win0_0.index t 1 = 0) t
theorem index6 (t : Fin cfg0.N) : win0_6.index t 0 = t.val ∧ win0_6.index t 1 = 0 :=
  (by decide +kernel : ∀ t : Fin grid0.N, win0_6.index t 0 = t.val ∧ win0_6.index t 1 = 0) t
theorem index7 (t : Fin cfg0.N) : win0_7.index t 0 = t.val ∧ win0_7.index t 1 = 0 :=
  (by decide +kernel : ∀ t : Fin grid0.N, win0_7.index t 0 = t.val ∧ win0_7.index t 1 = 0) t
theorem index8 (t : Fin cfg0.N) : win0_8.index t 0 = t.val ∧ win0_8.index t 1 = 0 :=
  (by decide +kernel : ∀ t : Fin grid0.N, win0_8.index t 0 = t.val ∧ win0_8.index t 1 = 0) t
theorem index9 (t : Fin cfg0.N) : win0_9.index t 0 = t.val ∧ win0_9.index t 1 = 0 :=
  (by decide +kernel : ∀ t : Fin grid0.N, win0_9.index t 0 = t.val ∧ win0_9.index t 1 = 0) t
theorem index1 (t : Fin cfg0.N) : win0_1.index t 0 = 0 ∧ win0_1.index t 1 = 0 :=
  (by decide +kernel : ∀ t : Fin grid0.N, win0_1.index t 0 = 0 ∧ win0_1.index t 1 = 0) t
theorem index2 (t : Fin cfg0.N) : win0_2.index t 0 = 0 ∧ win0_2.index t 1 = 0 :=
  (by decide +kernel : ∀ t : Fin grid0.N, win0_2.index t 0 = 0 ∧ win0_2.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = 0 ∧ win0_4.index t 1 = 0 :=
  (by decide +kernel : ∀ t : Fin grid0.N, win0_4.index t 0 = 0 ∧ win0_4.index t 1 = 0) t
theorem index5 (t : Fin cfg0.N) : win0_5.index t 0 = 0 ∧ win0_5.index t 1 = 0 :=
  (by decide +kernel : ∀ t : Fin grid0.N, win0_5.index t 0 = 0 ∧ win0_5.index t 1 = 0) t

theorem iblk0_em (t : Fin cfg0.N) (X : Fin 4224 → Fin 1024 → EReal) (h : (V m c main_v1 : Vec Ideal S4224x1024 .f32) = em X) :
    (iblk m c 0 t : Vec Ideal S384x1024 .f32) = em fun r => X (rowAt t r) := by
  funext i; rw [eq_ix2 i]; generalize i 0 = r; generalize i 1 = l
  refine (View.read_apply ..).trans ((congrArg (V m c main_v1 : Vec Ideal S4224x1024 .f32) (funext fun a => Fin.ext ?_ : _ = ix2 (rowAt t r) l)).trans (congrFun h _))
  match a with
  | ⟨0, _⟩ => show win0_0.index t 0 * 384 + 1 * r.val = 384 * t.val + r.val; rw [(index0 t).1]; omega
  | ⟨1, _⟩ => show win0_0.index t 1 * 1024 + 1 * l.val = l.val; rw [(index0 t).2]; omega

theorem iblk1_em (t : Fin cfg0.N) (X : Fin 1 → Fin 1024 → EReal) (h : (V m c main_v2 : Vec Ideal S1x1024 .f32) = em X) :
    (iblk m c 1 t : Vec Ideal S1x1024 .f32) = em X := by
  funext i; rw [eq_ix2 i]; generalize i 0 = r; generalize i 1 = l
  refine (View.read_apply ..).trans ((congrArg (V m c main_v2 : Vec Ideal S1x1024 .f32) (funext fun a => Fin.ext ?_ : _ = ix2 r l)).trans (congrFun h _))
  match a with
  | ⟨0, _⟩ => show win0_1.index t 0 * 1 + 1 * r.val = r.val; rw [(index1 t).1]; omega
  | ⟨1, _⟩ => show win0_1.index t 1 * 1024 + 1 * l.val = l.val; rw [(index1 t).2]; omega

theorem iblk2_em (t : Fin cfg0.N) (X : Fin 1 → Fin 1024 → EReal) (h : (V m c main_v3 : Vec Ideal S1x1024 .f32) = em X) :
    (iblk m c 2 t : Vec Ideal S1x1024 .f32) = em X := by
  funext i; rw [eq_ix2 i]; generalize i 0 = r; generalize i 1 = l
  refine (View.read_apply ..).trans ((congrArg (V m c main_v3 : Vec Ideal S1x1024 .f32) (funext fun a => Fin.ext ?_ : _ = ix2 r l)).trans (congrFun h _))
  match a with
  | ⟨0, _⟩ => show win0_2.index t 0 * 1 + 1 * r.val = r.val; rw [(index2 t).1]; omega
  | ⟨1, _⟩ => show win0_2.index t 1 * 1024 + 1 * l.val = l.val; rw [(index2 t).2]; omega

theorem iblk3_em (t : Fin cfg0.N) (X : Fin 2816 → Fin 1024 → EReal) (h : (V m c main_v5 : Vec Ideal S2816x1024 .bf16) = em X) :
    (iblk m c 3 t : Vec Ideal S2816x1024 .bf16) = em X := by
  funext i; rw [eq_ix2 i]; generalize i 0 = r; generalize i 1 = l
  refine (View.read_apply ..).trans ((congrArg (V m c main_v5 : Vec Ideal S2816x1024 .bf16) (funext fun a => Fin.ext ?_ : _ = ix2 r l)).trans (congrFun h _))
  match a with
  | ⟨0, _⟩ => show win0_3.index t 0 * 2816 + 1 * r.val = r.val; rw [(index3 t).1]; omega
  | ⟨1, _⟩ => show win0_3.index t 1 * 1024 + 1 * l.val = l.val; rw [(index3 t).2]; omega

theorem iblk4_em (t : Fin cfg0.N) (X : Fin 2816 → Fin 1024 → EReal) (h : (V m c main_v7 : Vec Ideal S2816x1024 .bf16) = em X) :
    (iblk m c 4 t : Vec Ideal S2816x1024 .bf16) = em X := by
  funext i; rw [eq_ix2 i]; generalize i 0 = r; generalize i 1 = l
  refine (View.read_apply ..).trans ((congrArg (V m c main_v7 : Vec Ideal S2816x1024 .bf16) (funext fun a => Fin.ext ?_ : _ = ix2 r l)).trans (congrFun h _))
  match a with
  | ⟨0, _⟩ => show win0_4.index t 0 * 2816 + 1 * r.val = r.val; rw [(index4 t).1]; omega
  | ⟨1, _⟩ => show win0_4.index t 1 * 1024 + 1 * l.val = l.val; rw [(index4 t).2]; omega

theorem iblk5_em (t : Fin cfg0.N) (X : Fin 2816 → Fin 1024 → EReal) (h : (V m c main_v8 : Vec Ideal S2816x1024 .bf16) = em X) :
    (iblk m c 5 t : Vec Ideal S2816x1024 .bf16) = em X := by
  funext i; rw [eq_ix2 i]; generalize i 0 = r; generalize i 1 = l
  refine (View.read_apply ..).trans ((congrArg (V m c main_v8 : Vec Ideal S2816x1024 .bf16) (funext fun a => Fin.ext ?_ : _ = ix2 r l)).trans (congrFun h _))
  match a with
  | ⟨0, _⟩ => show win0_5.index t 0 * 2816 + 1 * r.val = r.val; rw [(index5 t).1]; omega
  | ⟨1, _⟩ => show win0_5.index t 1 * 1024 + 1 * l.val = l.val; rw [(index5 t).2]; omega

/-! ## What the pipeline leaves -/

variable (H : Fin 4224 → Fin 1024 → EReal) (G P : Fin 1024 → EReal) (WG WU WD : Fin 2816 → Fin 1024 → EReal)
  (v0 : (V m c main_v1 : Vec Ideal S4224x1024 .f32) = em H) (v1 : (V m c main_v2 : Vec Ideal S1x1024 .f32) = em fun _ => G) (v2 : (V m c main_v3 : Vec Ideal S1x1024 .f32) = em fun _ => P)
  (v3 : (V m c main_v5 : Vec Ideal S2816x1024 .bf16) = em WG) (v4 : (V m c main_v7 : Vec Ideal S2816x1024 .bf16) = em WU) (v5 : (V m c main_v8 : Vec Ideal S2816x1024 .bf16) = em WD)

theorem pay14_row (t : Fin cfg0.N) : k0_pay14 (F := Ideal) (k0_pay3 (em fun r => H (rowAt t r)) (em fun _ => G)) (k0_pay4 (F := Ideal)) (k0_pay6 (em fun r => H (rowAt t r)) (em fun _ => G) (em fun (j : Fin 1408) k => WU ⟨0 + j.val, by omega⟩ k))
      (k0_pay9 (em fun r => H (rowAt t r)) (em fun _ => G) (em fun (j : Fin 1408) k => WG ⟨0 + j.val, by omega⟩ k)) (em fun (j : Fin 1408) k => WD ⟨0 + j.val, by omega⟩ k)
      (em fun (j : Fin 1408) k => WG ⟨1408 + j.val, by omega⟩ k) (em fun (j : Fin 1408) k => WU ⟨1408 + j.val, by omega⟩ k) (em fun (j : Fin 1408) k => WD ⟨1408 + j.val, by omega⟩ k)
    = em fun r => frow (H (rowAt t r)) G WG WU WD := by
  rw [pay3_em, pay6_em, pay9_em]
  refine (pay14_em _ _ _ _ _ _ _).trans (eq_em _ _ fun r l => ?_)
  exact frow_halves (H (rowAt t r)) G WG WU WD l

include v0 v1 v2 v3 v4 v5 in
theorem outs_7 (t : Fin cfg0.N) : (out0_7 (iblk m c 0 t) (iblk m c 1 t) (iblk m c 2 t) (iblk m c 3 t) (iblk m c 4 t) (iblk m c 5 t) : Vec Ideal S384x2816 .bf16)
    = em fun r l => rowT (xrow (H (rowAt t r)) G) WG l := by
  unfold out0_7 k0_pay17
  simp only [View.ld_unit_zero (S := S384x1024) hz, View.ld_unit_zero (S := S1x1024) hz, iblk0_em m c t H v0, iblk1_em m c t _ v1, iblk2_em m c t _ v2, iblk3_em m c t WG v3, iblk4_em m c t WU v4, iblk5_em m c t WD v5]
  refine canon_two _ _ _ _ _ ?_ ?_
  · rw [ldr_em 1408 (by norm_num), pay3_em]
    exact pay12_em _ _
  · rw [ldr_em 0 (by norm_num)]
    exact pay7_em _ _ _

include v0 v1 v2 v3 v4 v5 in
theorem outs_8 (t : Fin cfg0.N) : (out0_8 (iblk m c 0 t) (iblk m c 1 t) (iblk m c 2 t) (iblk m c 3 t) (iblk m c 4 t) (iblk m c 5 t) : Vec Ideal S384x2816 .bf16)
    = em fun r l => rowT (xrow (H (rowAt t r)) G) WU l := by
  unfold out0_8 k0_pay17
  simp only [View.ld_unit_zero (S := S384x1024) hz, View.ld_unit_zero (S := S1x1024) hz, iblk0_em m c t H v0, iblk1_em m c t _ v1, iblk2_em m c t _ v2, iblk3_em m c t WG v3, iblk4_em m c t WU v4, iblk5_em m c t WD v5]
  refine canon_two _ _ _ _ _ ?_ ?_
  · rw [ldr_em 1408 (by norm_num), pay3_em]
    exact pay13_em _ _
  · rw [ldr_em 0 (by norm_num)]
    exact pay8_em _ _ _

include v0 v1 v2 v3 v4 v5 in
theorem outs_9 (t : Fin cfg0.N) : (out0_9 (iblk m c 0 t) (iblk m c 1 t) (iblk m c 2 t) (iblk m c 3 t) (iblk m c 4 t) (iblk m c 5 t) : Vec Ideal S384x1024 .f32)
    = em fun r l => frow (H (rowAt t r)) G WG WU WD l := by
  unfold out0_9 k0_pay17 k0_pay18 k0_pay19 k0_pay20
  rw [View.canon_unit_zero hz]
  simp only [View.ld_unit_zero (S := S384x1024) hz, View.ld_unit_zero (S := S1x1024) hz, iblk0_em m c t H v0, iblk1_em m c t _ v1, iblk2_em m c t _ v2, iblk3_em m c t WG v3, iblk4_em m c t WU v4, iblk5_em m c t WD v5]
  rw [ldr_em 0 (by norm_num), ldr_em 0 (by norm_num), ldr_em 0 (by norm_num), ldr_em 1408 (by norm_num), ldr_em 1408 (by norm_num), ldr_em 1408 (by norm_num)]
  exact pay14_row H G WG WU WD t

include v0 v1 v2 v3 v4 v5 in
theorem outs_6 (t : Fin cfg0.N) : (out0_6 (iblk m c 0 t) (iblk m c 1 t) (iblk m c 2 t) (iblk m c 3 t) (iblk m c 4 t) (iblk m c 5 t) : Vec Ideal S384x1024 .f32)
    = em fun r l => orow (H (rowAt t r)) (frow (H (rowAt t r)) G WG WU WD) P l := by
  unfold out0_6 k0_pay15 k0_pay16 k0_pay2 k0_pay17 k0_pay18 k0_pay19 k0_pay20
  rw [View.canon_unit_zero hz]
  simp only [View.ld_unit_zero (S := S384x1024) hz, View.ld_unit_zero (S := S1x1024) hz, iblk0_em m c t H v0, iblk1_em m c t _ v1, iblk2_em m c t _ v2, iblk3_em m c t WG v3, iblk4_em m c t WU v4, iblk5_em m c t WD v5]
  rw [ldr_em 0 (by norm_num), ldr_em 0 (by norm_num), ldr_em 0 (by norm_num), ldr_em 1408 (by norm_num), ldr_em 1408 (by norm_num), ldr_em 1408 (by norm_num), shapeCast_self, shapeCast_self]
  erw [pay14_row H G WG WU WD t]
  exact pay1_em _ _ _

include v0 v1 v2 v3 v4 v5 in
theorem final6 : ((dats m 0 c).arrAt 6 cfg0.N : Vec Ideal S4224x1024 .f32) = em fun Q l => orow (H Q) (frow (H Q) G WG WU WD) P l := by
  refine eq_em _ _ fun R l => ?_
  have h := (dats m 0 c).arrAt_emb_eq_flushed 6 Value.disjoint6 (ptOf R) (flush0_6 _) (ix2 (inBlk R) l : S384x1024.Idx)
  have e : ((cfg0.win 6).blk (ptOf R)).view.emb (ix2 (inBlk R) l : S384x1024.Idx) = (ix2 R l : S4224x1024.Idx) := by
    funext a
    apply Fin.ext
    match a with
    | ⟨0, _⟩ => show win0_6.index (ptOf R) 0 * 384 + 1 * (R.val % 384) = R.val; rw [(index6 _).1]; dsimp only; omega
    | ⟨1, _⟩ => show win0_6.index (ptOf R) 1 * 1024 + 1 * l.val = l.val; rw [(index6 _).2]; omega
  rw [e] at h
  refine h.trans ?_
  rw [Value.flushed6, outs_6 m c H G P WG WU WD v0 v1 v2 v3 v4 v5]
  exact congrArg (fun Q : Fin 4224 => orow (H Q) (frow (H Q) G WG WU WD) P l) (rowAt_ptOf R)

include v0 v1 v2 v3 v4 v5 in
theorem final7 : ((dats m 0 c).arrAt 7 cfg0.N : Vec Ideal S4224x2816 .bf16) = em fun Q l => rowT (xrow (H Q) G) WG l := by
  refine eq_em _ _ fun R l => ?_
  have h := (dats m 0 c).arrAt_emb_eq_flushed 7 Value.disjoint7 (ptOf R) (flush0_7 _) (ix2 (inBlk R) l : S384x2816.Idx)
  have e : ((cfg0.win 7).blk (ptOf R)).view.emb (ix2 (inBlk R) l : S384x2816.Idx) = (ix2 R l : S4224x2816.Idx) := by
    funext a
    apply Fin.ext
    match a with
    | ⟨0, _⟩ => show win0_7.index (ptOf R) 0 * 384 + 1 * (R.val % 384) = R.val; rw [(index7 _).1]; dsimp only; omega
    | ⟨1, _⟩ => show win0_7.index (ptOf R) 1 * 2816 + 1 * l.val = l.val; rw [(index7 _).2]; omega
  rw [e] at h
  refine h.trans ?_
  rw [Value.flushed7, outs_7 m c H G P WG WU WD v0 v1 v2 v3 v4 v5]
  exact congrArg (fun Q : Fin 4224 => rowT (xrow (H Q) G) WG l) (rowAt_ptOf R)

include v0 v1 v2 v3 v4 v5 in
theorem final8 : ((dats m 0 c).arrAt 8 cfg0.N : Vec Ideal S4224x2816 .bf16) = em fun Q l => rowT (xrow (H Q) G) WU l := by
  refine eq_em _ _ fun R l => ?_
  have h := (dats m 0 c).arrAt_emb_eq_flushed 8 Value.disjoint8 (ptOf R) (flush0_8 _) (ix2 (inBlk R) l : S384x2816.Idx)
  have e : ((cfg0.win 8).blk (ptOf R)).view.emb (ix2 (inBlk R) l : S384x2816.Idx) = (ix2 R l : S4224x2816.Idx) := by
    funext a
    apply Fin.ext
    match a with
    | ⟨0, _⟩ => show win0_8.index (ptOf R) 0 * 384 + 1 * (R.val % 384) = R.val; rw [(index8 _).1]; dsimp only; omega
    | ⟨1, _⟩ => show win0_8.index (ptOf R) 1 * 2816 + 1 * l.val = l.val; rw [(index8 _).2]; omega
  rw [e] at h
  refine h.trans ?_
  rw [Value.flushed8, outs_8 m c H G P WG WU WD v0 v1 v2 v3 v4 v5]
  exact congrArg (fun Q : Fin 4224 => rowT (xrow (H Q) G) WU l) (rowAt_ptOf R)

include v0 v1 v2 v3 v4 v5 in
theorem final9 : ((dats m 0 c).arrAt 9 cfg0.N : Vec Ideal S4224x1024 .f32) = em fun Q l => frow (H Q) G WG WU WD l := by
  refine eq_em _ _ fun R l => ?_
  have h := (dats m 0 c).arrAt_emb_eq_flushed 9 Value.disjoint9 (ptOf R) (flush0_9 _) (ix2 (inBlk R) l : S384x1024.Idx)
  have e : ((cfg0.win 9).blk (ptOf R)).view.emb (ix2 (inBlk R) l : S384x1024.Idx) = (ix2 R l : S4224x1024.Idx) := by
    funext a
    apply Fin.ext
    match a with
    | ⟨0, _⟩ => show win0_9.index (ptOf R) 0 * 384 + 1 * (R.val % 384) = R.val; rw [(index9 _).1]; dsimp only; omega
    | ⟨1, _⟩ => show win0_9.index (ptOf R) 1 * 1024 + 1 * l.val = l.val; rw [(index9 _).2]; omega
  rw [e] at h
  refine h.trans ?_
  rw [Value.flushed9, outs_9 m c H G P WG WU WD v0 v1 v2 v3 v4 v5]
  exact congrArg (fun Q : Fin 4224 => frow (H Q) G WG WU WD l) (rowAt_ptOf R)

end Cert.FfnFwdKernelIdeal.Hand

end
-- ==== Proof.FfnFwdEq.lean ====
/- The feed-forward block's forward call: the kernel and the reference agree. -/
module

public import proofs.«01_k».proof.Defs
public import proofs.«01_k».proof.Proof.FfnFwdKer
public import proofs.«01_k».proof.Proof.Gen.FfnFwdRefIdeal.Read
public import Idealize.ShloMosaic.Lib.Pointwise
public import Idealize.ShloMosaic.Lib.Pipeline.Value
public import Idealize.ShloMosaic.Lib.Tactic

@[expose] public section

set_option maxRecDepth 16384

noncomputable section

namespace Cert.FfnFwdKernelIdeal.Hand

open Cert.FfnFwdKernelIdeal Cert.FfnFwdKernelIdeal.Gen Idealize.ShloMosaic Idealize.ShloMosaic.TcCoe Idealize.SL.Sem
open Idealize.ShloMosaic.Pipeline (Dat)
open Cert.Norm Cert.FfnFwdRefIdeal.Read

/-! ## The reference -/

variable (h : Fin 4112 → Fin 1024 → EReal) (g p : Fin 1024 → EReal) (wg wu : Fin 1024 → Fin 2816 → EReal) (wd : Fin 2816 → Fin 1024 → EReal)

theorem ref12 : val_main_v12 (F := Ideal) (em h) (ev g) = em fun r => xrow (h r) g :=
  host_nrm (W := 1024) (by norm_num) 0x44800000#32 h g _ _ _ _ _ _ _ _

theorem ref13 : val_main_v13 (F := Ideal) (em h) (ev g) (em wg) = em fun r => rowT (xrow (h r) g) (fun j k => wg k j) := by
  refine eq_em _ _ fun r l => ?_
  unfold val_main_v13
  rw [ref12]
  pointwise
  rfl

theorem ref14 : val_main_v14 (F := Ideal) (em h) (ev g) (em wu) = em fun r => rowT (xrow (h r) g) (fun j k => wu k j) := ref13 h g wu

theorem ref16 : val_main_v16 (F := Ideal) (em h) (ev g) (em wg) (em wu)
    = em fun r l => gate (rowT (xrow (h r) g) (fun j k => wg k j) l) (rowT (xrow (h r) g) (fun j k => wu k j) l) := by
  refine eq_em _ _ fun r l => ?_
  unfold val_main_v16 val_main_v15 val_main_call0_v5 val_main_call0_v3 val_main_call0_v1 val_main_call0_v0
  rw [ref13, ref14]
  pointwise [val_main_call0_v4, val_main_call0_v2, val_main_call0_cst, val_main_call0_cst_0]
  refine congrArg (fun z => rowT (xrow (h r) g) (fun j k => wg k j) l * z * rowT (xrow (h r) g) (fun j k => wu k j) l) (Eq.trans ?_ (host_lg _))
  rw [lit_one]
  rfl

theorem ref17 : val_main_v17 (F := Ideal) (em h) (ev g) (em wg) (em wu) (em wd) = em fun r => frow (h r) g (fun j k => wg k j) (fun j k => wu k j) wd := by
  refine eq_em _ _ fun r l => ?_
  unfold val_main_v17
  rw [ref16]
  pointwise
  rfl

theorem ref33 : val_main_v33 (F := Ideal) (em h) (ev g) (ev p) (em wg) (em wu) (em wd) = em fun r => orow (h r) (frow (h r) g (fun j k => wg k j) (fun j k => wu k j) wd) p := by
  unfold val_main_v33 val_main_v32 val_main_v30 val_main_v27 val_main_v26 val_main_v25 val_main_v24 val_main_v22 val_main_v20 val_main_v19 val_main_v18
  rw [ref17]
  refine Eq.trans (congrArg (fun z : FVec Ideal S4112x1024 .f32 => addf (em h) (mulf (val_main_v31 (F := Ideal)) z)) (host_nrm (W := 1024) (by norm_num) 0x44800000#32 (fun r => frow (h r) g (fun j k => wg k j) (fun j k => wu k j) wd) p _ _ _ _ _ _ _ _)) ?_
  refine eq_em _ _ fun r l => ?_
  pointwise [val_main_v31, val_main_cst_5]
  rfl

theorem ref35 : val_main_v35 (F := Ideal) (em h) (ev g) (ev p) (em wg) (em wu) (em wd) = em (padE fun r => orow (h r) (frow (h r) g (fun j k => wg k j) (fun j k => wu k j) wd) p) := by
  unfold val_main_v35
  rw [ref33]
  exact padE_concat _ _ _

theorem ref38 : val_main_v38 (F := Ideal) (em h) (ev g) (em wg) = (em (padE fun r => rowT (xrow (h r) g) (fun j k => wg k j))) := by
  unfold val_main_v38 val_main_v37
  rw [ref13]
  exact padE_concat _ Cert.FfnFwdRefIdeal.Gen.bcast_S_S112x2816 Cert.FfnFwdRefIdeal.Gen.concatenates_S4112x2816_S112x2816_S4224x2816_d0

theorem ref41 : val_main_v41 (F := Ideal) (em h) (ev g) (em wu) = (em (padE fun r => rowT (xrow (h r) g) (fun j k => wu k j))) := by
  unfold val_main_v41 val_main_v40
  rw [ref14]
  exact padE_concat _ Cert.FfnFwdRefIdeal.Gen.bcast_S_S112x2816 Cert.FfnFwdRefIdeal.Gen.concatenates_S4112x2816_S112x2816_S4224x2816_d0

theorem ref43 : val_main_v43 (F := Ideal) (em h) (ev g) (em wg) (em wu) (em wd) = em (padE fun r => frow (h r) g (fun j k => wg k j) (fun j k => wu k j) wd) := by
  unfold val_main_v43
  rw [ref17]
  exact padE_concat _ _ _

/-! ## The two agree -/

theorem whole_zero (l : Fin 1024) : orow (fun _ => 0) (frow (fun _ => 0) g (fun j k => wg k j) (fun j k => wu k j) wd) p l = 0 := by
  rw [show frow (fun _ => 0) g (fun j k => wg k j) (fun j k => wu k j) wd = fun _ => 0 from funext (frow_zero g _ _ wd), orow_zero]

/-- What the kernel leaves in its four results is what the reference computes. -/
theorem value_eq (a0 : FVec Ideal S4112x1024 .f32) (a1 a2 : FVec Ideal S1024 .f32) (a3 a4 : FVec Ideal S1024x2816 .f32) (a5 : FVec Ideal S2816x1024 .f32)
    (m : (ℓ : Loc nD τ sig) → Buf (Elt Ideal) ℓ) (c : Dev nD)
    (e0 : (m ((c : Thread nD τ).loc main_arg0) : FVec Ideal S4112x1024 .f32) = a0) (e1 : (m ((c : Thread nD τ).loc main_arg1) : FVec Ideal S1024 .f32) = a1)
    (e2 : (m ((c : Thread nD τ).loc main_arg2) : FVec Ideal S1024 .f32) = a2) (e3 : (m ((c : Thread nD τ).loc main_arg3) : FVec Ideal S1024x2816 .f32) = a3)
    (e4 : (m ((c : Thread nD τ).loc main_arg4) : FVec Ideal S1024x2816 .f32) = a4) (e5 : (m ((c : Thread nD τ).loc main_arg5) : FVec Ideal S2816x1024 .f32) = a5) :
    ((dats m 0 c).arrAt 6 cfg0.N : Vec Ideal S4224x1024 .f32) = val_main_v35 (F := Ideal) a0 a1 a2 a3 a4 a5
    ∧ ((dats m 0 c).arrAt 7 cfg0.N : Vec Ideal S4224x2816 .bf16) = val_main_v38 (F := Ideal) a0 a1 a3
    ∧ ((dats m 0 c).arrAt 8 cfg0.N : Vec Ideal S4224x2816 .bf16) = val_main_v41 (F := Ideal) a0 a1 a4
    ∧ ((dats m 0 c).arrAt 9 cfg0.N : Vec Ideal S4224x1024 .f32) = val_main_v43 (F := Ideal) a0 a1 a3 a4 a5 := by
  have f0 := em_of a0
  have f1 := ev_of a1
  have f2 := ev_of a2
  have f3 := em_of a3
  have f4 := em_of a4
  have f5 := em_of a5
  generalize (fun (r : Fin 4112) (l : Fin 1024) => a0 (ix2 r l)) = h at f0
  generalize (fun l : Fin 1024 => a1 (ix1 l)) = g at f1
  generalize (fun l : Fin 1024 => a2 (ix1 l)) = p at f2
  generalize (fun (r : Fin 1024) (l : Fin 2816) => a3 (ix2 r l)) = wg at f3
  generalize (fun (r : Fin 1024) (l : Fin 2816) => a4 (ix2 r l)) = wu at f4
  generalize (fun (r : Fin 2816) (l : Fin 1024) => a5 (ix2 r l)) = wd at f5
  subst f0 f1 f2 f3 f4 f5
  have v0 := V_0 m c h e0
  have v1 := V_1 m c g e1
  have v2 := V_2 m c p e2
  have v3 := V_3 m c wg e3
  have v4 := V_4 m c wu e4
  have v5 := V_5 m c wd e5
  exact ⟨((final6 m c _ _ _ _ _ _ v0 v1 v2 v3 v4 v5).trans (congrArg em (funext fun Q =>
      padE_map (fun x => orow x (frow x g (fun j k => wg k j) (fun j k => wu k j) wd) p) (whole_zero g p wg wu wd) h Q))).trans (ref35 h g p wg wu wd).symm,
    ((final7 m c _ _ _ _ _ _ v0 v1 v2 v3 v4 v5).trans (congrArg em (funext fun Q =>
      padE_map (fun x => rowT (xrow x g) (fun j k => wg k j)) (fun j => rowT_zero _ (xrow_zero g) _ j) h Q))).trans (ref38 h g wg).symm,
    ((final8 m c _ _ _ _ _ _ v0 v1 v2 v3 v4 v5).trans (congrArg em (funext fun Q =>
      padE_map (fun x => rowT (xrow x g) (fun j k => wu k j)) (fun j => rowT_zero _ (xrow_zero g) _ j) h Q))).trans (ref41 h g wu).symm,
    ((final9 m c _ _ _ _ _ _ v0 v1 v2 v3 v4 v5).trans (congrArg em (funext fun Q =>
      padE_map (fun x => frow x g (fun j k => wg k j) (fun j k => wu k j) wd) (frow_zero g _ _ wd) h Q))).trans (ref43 h g wg wu wd).symm⟩

end Cert.FfnFwdKernelIdeal.Hand

end
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossRefIdeal
public import proofs.«01_k».proof.Proof.Gen.LossKernelIdeal.Value
public import proofs.«01_k».proof.Proof.Gen.LossRefIdeal.Run
public import proofs.«01_k».proof.Proof.Gen.LossRefIdeal.Read
public import proofs.«01_k».proof.Proof.LossEq
public import proofs.«01_k».proof.Proof.Gen.AttnQKernel
public import proofs.«01_k».proof.Proof.Gen.AttnQKernel.Skeleton
public import proofs.«01_k».proof.Proof.Gen.AttnQKernel.Launch
public import proofs.«01_k».proof.Proof.Gen.AttnQKernelIdeal
public import proofs.«01_k».proof.Proof.Gen.AttnQKernelIdeal.Skeleton
public import proofs.«01_k».proof.Proof.Gen.AttnQKernelIdeal.Launch
public import proofs.«01_k».proof.Proof.Gen.AttnQKernelIdeal.Points
public import proofs.«01_k».proof.Proof.Gen.AttnQKernelIdeal.Loops
public import proofs.«01_k».proof.Proof.Gen.AttnQKernelIdeal.Frame
public import proofs.«01_k».proof.Proof.Gen.AttnQRefIdeal
public import proofs.«01_k».proof.Proof.Gen.AttnQRefIdeal.Run
public import proofs.«01_k».proof.Proof.Gen.AttnQRefIdeal.Read
public import proofs.«01_k».proof.Proof.Gen.Pre_attention_finite
public import proofs.«01_k».proof.Proof.Gen.AttnQKernel.Points
public import proofs.«01_k».proof.Proof.Gen.AttnQKernel.Loops
public import proofs.«01_k».proof.Proof.Gen.AttnQKernel.Frame
public import proofs.«01_k».proof.Proof.AttnQFrameBits
public import proofs.«01_k».proof.Proof.AttnQFrame
public import proofs.«01_k».proof.Proof.AttnQValue
public import proofs.«01_k».proof.Proof.Gen.AttnKvKernel
public import proofs.«01_k».proof.Proof.Gen.AttnKvKernel.Skeleton
public import proofs.«01_k».proof.Proof.Gen.AttnKvKernel.Launch
public import proofs.«01_k».proof.Proof.Gen.AttnKvKernel.Points
public import proofs.«01_k».proof.Proof.Gen.AttnKvKernel.Loops
public import proofs.«01_k».proof.Proof.Gen.AttnKvKernel.Frame
public import proofs.«01_k».proof.Proof.Gen.AttnKvKernelIdeal
public import proofs.«01_k».proof.Proof.Gen.AttnKvKernelIdeal.Skeleton
public import proofs.«01_k».proof.Proof.Gen.AttnKvKernelIdeal.Launch
public import proofs.«01_k».proof.Proof.Gen.AttnKvKernelIdeal.Points
public import proofs.«01_k».proof.Proof.Gen.AttnKvKernelIdeal.Loops
public import proofs.«01_k».proof.Proof.Gen.AttnKvKernelIdeal.Frame
public import proofs.«01_k».proof.Proof.Gen.AttnKvRefIdeal
public import proofs.«01_k».proof.Proof.Gen.AttnKvRefIdeal.Run
public import proofs.«01_k».proof.Proof.Gen.AttnKvRefIdeal.Read
public import proofs.«01_k».proof.Proof.AttnKvFrameBits
public import proofs.«01_k».proof.Proof.AttnKvFrame
public import proofs.«01_k».proof.Proof.AttnKvValue
public import proofs.«01_k».proof.Proof.FfnUpEq
public import proofs.«01_k».proof.Proof.FfnDownEq
public import proofs.«01_k».proof.Proof.Gen.FfnUpKernel
public import proofs.«01_k».proof.Proof.Gen.FfnUpKernel.Skeleton
public import proofs.«01_k».proof.Proof.Gen.FfnUpKernel.Launch
public import proofs.«01_k».proof.Proof.Gen.FfnUpKernel.Points
public import proofs.«01_k».proof.Proof.Gen.FfnUpKernel.Frame
public import proofs.«01_k».proof.Proof.Gen.FfnUpKernelIdeal
public import proofs.«01_k».proof.Proof.Gen.FfnUpKernelIdeal.Skeleton
public import proofs.«01_k».proof.Proof.Gen.FfnUpKernelIdeal.Launch
public import proofs.«01_k».proof.Proof.Gen.FfnUpKernelIdeal.Points
public import proofs.«01_k».proof.Proof.Gen.FfnUpKernelIdeal.Frame
public import proofs.«01_k».proof.Proof.Gen.FfnUpKernelIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.Pre_ffn_up_finite
public import proofs.«01_k».proof.Proof.Gen.FfnDownKernel
public import proofs.«01_k».proof.Proof.Gen.FfnDownKernel.Skeleton
public import proofs.«01_k».proof.Proof.Gen.FfnDownKernel.Launch
public import proofs.«01_k».proof.Proof.Gen.FfnDownKernel.Points
public import proofs.«01_k».proof.Proof.Gen.FfnDownKernel.Frame
public import proofs.«01_k».proof.Proof.Gen.FfnDownKernelIdeal
public import proofs.«01_k».proof.Proof.Gen.FfnDownKernelIdeal.Skeleton
public import proofs.«01_k».proof.Proof.Gen.FfnDownKernelIdeal.Launch
public import proofs.«01_k».proof.Proof.Gen.FfnDownKernelIdeal.Points
public import proofs.«01_k».proof.Proof.Gen.FfnDownKernelIdeal.Frame
public import proofs.«01_k».proof.Proof.Gen.FfnDownKernelIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.MixInKernel
public import proofs.«01_k».proof.Proof.Gen.MixInKernel.Skeleton
public import proofs.«01_k».proof.Proof.Gen.MixInKernel.Launch
public import proofs.«01_k».proof.Proof.Gen.MixInKernel.Points
public import proofs.«01_k».proof.Proof.Gen.MixInKernel.Frame
public import proofs.«01_k».proof.Proof.Gen.MixInKernelIdeal
public import proofs.«01_k».proof.Proof.Gen.MixInKernelIdeal.Skeleton
public import proofs.«01_k».proof.Proof.Gen.MixInKernelIdeal.Launch
public import proofs.«01_k».proof.Proof.Gen.MixInKernelIdeal.Points
public import proofs.«01_k».proof.Proof.Gen.MixInKernelIdeal.Frame
public import proofs.«01_k».proof.Proof.Gen.MixInKernelIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.MixOutKernel
public import proofs.«01_k».proof.Proof.Gen.MixOutKernel.Skeleton
public import proofs.«01_k».proof.Proof.Gen.MixOutKernel.Launch
public import proofs.«01_k».proof.Proof.Gen.MixOutKernel.Points
public import proofs.«01_k».proof.Proof.Gen.MixOutKernel.Frame
public import proofs.«01_k».proof.Proof.Gen.MixOutKernelIdeal
public import proofs.«01_k».proof.Proof.Gen.MixOutKernelIdeal.Skeleton
public import proofs.«01_k».proof.Proof.Gen.MixOutKernelIdeal.Launch
public import proofs.«01_k».proof.Proof.Gen.MixOutKernelIdeal.Points
public import proofs.«01_k».proof.Proof.Gen.MixOutKernelIdeal.Frame
public import proofs.«01_k».proof.Proof.Gen.MixOutKernelIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.Pre_ffn_down_finite
public import proofs.«01_k».proof.Proof.Gen.Pre_mix_in_finite
public import proofs.«01_k».proof.Proof.Gen.Pre_mix_out_finite
public import proofs.«01_k».proof.Proof.MixInEq
public import proofs.«01_k».proof.Proof.MixOutEq
public import proofs.«01_k».proof.Proof.Gen.MlaKernel
public import proofs.«01_k».proof.Proof.Gen.MlaKernel.Skeleton
public import proofs.«01_k».proof.Proof.Gen.MlaKernel.Launch
public import proofs.«01_k».proof.Proof.Gen.MlaKernel.Points
public import proofs.«01_k».proof.Proof.Gen.MlaKernel.Frame
public import proofs.«01_k».proof.Proof.Gen.MlaKernelIdeal
public import proofs.«01_k».proof.Proof.Gen.MlaKernelIdeal.Skeleton
public import proofs.«01_k».proof.Proof.Gen.MlaKernelIdeal.Launch
public import proofs.«01_k».proof.Proof.Gen.MlaKernelIdeal.Points
public import proofs.«01_k».proof.Proof.Gen.MlaKernelIdeal.Frame
public import proofs.«01_k».proof.Proof.Gen.MlaKernelIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.MlaEq
public import proofs.«01_k».proof.Proof.MixOutFwdEq
public import proofs.«01_k».proof.Proof.MlaFwdEq
public import proofs.«01_k».proof.Proof.MixInFwdEq
public import proofs.«01_k».proof.Proof.FfnFwdEq
public import proofs.«01_k».proof.Proof.Gen.Pre_mla_finite

public import proofs.«01_k».proof.Proof.Gen.FfnFwdKernel
public import proofs.«01_k».proof.Proof.Gen.FfnFwdKernel.Skeleton
public import proofs.«01_k».proof.Proof.Gen.FfnFwdKernel.Launch
public import proofs.«01_k».proof.Proof.Gen.FfnFwdKernel.Points
public import proofs.«01_k».proof.Proof.Gen.FfnFwdKernel.Frame
public import proofs.«01_k».proof.Proof.Gen.FfnFwdKernelIdeal
public import proofs.«01_k».proof.Proof.Gen.FfnFwdKernelIdeal.Skeleton
public import proofs.«01_k».proof.Proof.Gen.FfnFwdKernelIdeal.Launch
public import proofs.«01_k».proof.Proof.Gen.FfnFwdKernelIdeal.Points
public import proofs.«01_k».proof.Proof.Gen.FfnFwdKernelIdeal.Frame
public import proofs.«01_k».proof.Proof.Gen.FfnFwdKernelIdeal.Value
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.MixInFwdKernel
public import proofs.«01_k».proof.Proof.Gen.MixInFwdKernel.Skeleton
public import proofs.«01_k».proof.Proof.Gen.MixInFwdKernel.Launch
public import proofs.«01_k».proof.Proof.Gen.MixInFwdKernel.Points
public import proofs.«01_k».proof.Proof.Gen.MixInFwdKernel.Frame
public import proofs.«01_k».proof.Proof.Gen.MixInFwdKernelIdeal
public import proofs.«01_k».proof.Proof.Gen.MixInFwdKernelIdeal.Skeleton
public import proofs.«01_k».proof.Proof.Gen.MixInFwdKernelIdeal.Launch
public import proofs.«01_k».proof.Proof.Gen.MixInFwdKernelIdeal.Points
public import proofs.«01_k».proof.Proof.Gen.MixInFwdKernelIdeal.Frame
public import proofs.«01_k».proof.Proof.Gen.MixInFwdKernelIdeal.Value
public import proofs.«01_k».proof.Proof.Gen.MixInFwdRefIdeal
public import proofs.«01_k».proof.Proof.Gen.MixInFwdRefIdeal.Run
public import proofs.«01_k».proof.Proof.Gen.MixInFwdRefIdeal.Read
public import proofs.«01_k».proof.Proof.Gen.MixOutFwdKernel
public import proofs.«01_k».proof.Proof.Gen.MixOutFwdKernel.Skeleton
public import proofs.«01_k».proof.Proof.Gen.MixOutFwdKernel.Launch
public import proofs.«01_k».proof.Proof.Gen.MixOutFwdKernel.Points
public import proofs.«01_k».proof.Proof.Gen.MixOutFwdKernel.Frame
public import proofs.«01_k».proof.Proof.Gen.MixOutFwdKernelIdeal
public import proofs.«01_k».proof.Proof.Gen.MixOutFwdKernelIdeal.Skeleton
public import proofs.«01_k».proof.Proof.Gen.MixOutFwdKernelIdeal.Launch
public import proofs.«01_k».proof.Proof.Gen.MixOutFwdKernelIdeal.Points
public import proofs.«01_k».proof.Proof.Gen.MixOutFwdKernelIdeal.Frame
public import proofs.«01_k».proof.Proof.Gen.MixOutFwdKernelIdeal.Value
public import proofs.«01_k».proof.Proof.Gen.MixOutFwdRefIdeal
public import proofs.«01_k».proof.Proof.Gen.MixOutFwdRefIdeal.Run
public import proofs.«01_k».proof.Proof.Gen.MixOutFwdRefIdeal.Read
public import proofs.«01_k».proof.Proof.Gen.MlaFwdKernel
public import proofs.«01_k».proof.Proof.Gen.MlaFwdKernel.Skeleton
public import proofs.«01_k».proof.Proof.Gen.MlaFwdKernel.Launch
public import proofs.«01_k».proof.Proof.Gen.MlaFwdKernel.Points
public import proofs.«01_k».proof.Proof.Gen.MlaFwdKernel.Frame
public import proofs.«01_k».proof.Proof.Gen.MlaFwdKernelIdeal
public import proofs.«01_k».proof.Proof.Gen.MlaFwdKernelIdeal.Skeleton
public import proofs.«01_k».proof.Proof.Gen.MlaFwdKernelIdeal.Launch
public import proofs.«01_k».proof.Proof.Gen.MlaFwdKernelIdeal.Points
public import proofs.«01_k».proof.Proof.Gen.MlaFwdKernelIdeal.Frame
public import proofs.«01_k».proof.Proof.Gen.MlaFwdKernelIdeal.Value
public import proofs.«01_k».proof.Proof.Gen.MlaFwdRefIdeal
public import proofs.«01_k».proof.Proof.Gen.MlaFwdRefIdeal.Run
public import proofs.«01_k».proof.Proof.Gen.MlaFwdRefIdeal.Read
public import Idealize.ShloMosaic.Adequacy
public import Idealize.ShloMosaic.Init

@[expose] public section

noncomputable section

namespace Cert.Proof

open Idealize.ShloMosaic Idealize.SL.Sem

/-! ## The loss head -/

/-- The loss head's kernel runs, keeps its arguments and leaves every counter at zero. -/
theorem loss_frame : Cert.quiescent_LossKernel := fun m ρ _ => Cert.LossKernel.Gen.frame m ρ

/-- So does its reading over the extended reals. -/
theorem loss_frame_ideal : Cert.quiescent_LossKernelIdeal := fun m ρ _ => Cert.LossKernelIdeal.Gen.frame m ρ

/-- So does its reference. -/
theorem loss_frame_ref : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

/-- The loss and the gradient of its head are the reference's. -/
theorem loss_value : Cert.algebraic_LossKernelIdeal_LossRefIdeal := by
  intro m ρ m' ρ' _ hag
  refine ⟨fun c => Cert.LossRefIdeal.Read.val_main_v17 (F := Ideal) (m' ((c.tc : Thread Cert.LossRefIdeal.nD Cert.LossRefIdeal.τ).loc Cert.LossRefIdeal.main_arg0))
      (m' ((c.tc : Thread Cert.LossRefIdeal.nD Cert.LossRefIdeal.τ).loc Cert.LossRefIdeal.main_arg1)),
    fun c => Cert.LossRefIdeal.Read.val_main_v18 (F := Ideal) (m' ((c.tc : Thread Cert.LossRefIdeal.nD Cert.LossRefIdeal.τ).loc Cert.LossRefIdeal.main_arg0))
      (m' ((c.tc : Thread Cert.LossRefIdeal.nD Cert.LossRefIdeal.τ).loc Cert.LossRefIdeal.main_arg1)), ?_, ?_⟩
  · refine (θ_run Cert.LossKernelIdeal.defs _ _).mono (fun r h c => ?_) (Cert.LossKernelIdeal.Value.run_blocks (F := Ideal) m ρ)
    obtain ⟨h0, h1, ha⟩ := h c
    refine ⟨h0.trans ?_, h1.trans ?_, ha⟩
    · beta_reduce; rw [(hag c).1, (hag c).2]; exact Cert.LossKernelIdeal.Hand.grad_eq m c
    · beta_reduce; rw [(hag c).1, (hag c).2]; exact Cert.LossKernelIdeal.Hand.loss_eq m c
  · refine (θ_run Cert.LossRefIdeal.defs _ _).mono (fun r h c => ?_) (Cert.LossRefIdeal.Value.run (F := Ideal) m' ρ')
    obtain ⟨h0, h1, ha⟩ := h c
    exact ⟨h0.trans (Cert.LossRefIdeal.Read.val_main_v17_eq _ _), h1.trans (Cert.LossRefIdeal.Read.val_main_v18_eq _ _), ha⟩

/-! ## The attention's gradient of the queries -/

/-- The kernel runs, keeps its arguments and leaves every counter at zero. -/
theorem attn_q_frame : Cert.quiescent_AttnQKernel := fun m ρ _ => Cert.AttnQKernel.Hand.frame m ρ

/-- So does its reading over the extended reals. -/
theorem attn_q_frame_ideal : Cert.quiescent_AttnQKernelIdeal := fun m ρ _ => Cert.AttnQKernelIdeal.Hand.frame m ρ

/-- The same with the precondition of the value claim. -/
theorem attn_q_frame_ideal_pre : Cert.quiescent_AttnQKernelIdeal_pre_attention_finite := fun m ρ _ => Cert.AttnQKernelIdeal.Hand.frame m ρ

/-- So does its reference. -/
theorem attn_q_frame_ref : Cert.quiescent_AttnQRefIdeal := fun m ρ _ =>
  (θ_run Cert.AttnQRefIdeal.defs _ _).mono (fun r h => ⟨fun c => (h c).2.2, sem_eq_zero_of_no_sems (by decide) r.2⟩)
    (Cert.AttnQRefIdeal.Value.run (F := Ideal) m ρ)

/-- The same with the precondition of the value claim. -/
theorem attn_q_frame_ref_pre : Cert.quiescent_AttnQRefIdeal_pre_attention_finite := fun m ρ _ => attn_q_frame_ref m ρ trivial

/-- The two named constants are what the names stand for. -/
theorem attn_q_preserves : Cert.preserves_AttnQKernel_AttnQKernelIdeal :=
  ⟨IdealRules.named_const.statement _ _ _ _ _ rfl, IdealRules.named_const.statement _ _ _ _ _ rfl⟩

/-- The gradient of the queries and the row sums are the reference's. -/
theorem attn_q_value : Cert.algebraic_AttnQKernelIdeal_AttnQRefIdeal_pre_attention_finite := by
  intro m ρ m' ρ' hpre hag
  refine ⟨fun c => Cert.AttnQRefIdeal.Read.val_main_v68 (F := Ideal) (m ((c.tc : Thread Cert.AttnQKernelIdeal.nD Cert.AttnQKernelIdeal.τ).loc Cert.AttnQKernelIdeal.main_arg0))
      (m ((c.tc : Thread Cert.AttnQKernelIdeal.nD Cert.AttnQKernelIdeal.τ).loc Cert.AttnQKernelIdeal.main_arg1))
      (m ((c.tc : Thread Cert.AttnQKernelIdeal.nD Cert.AttnQKernelIdeal.τ).loc Cert.AttnQKernelIdeal.main_arg2))
      (m ((c.tc : Thread Cert.AttnQKernelIdeal.nD Cert.AttnQKernelIdeal.τ).loc Cert.AttnQKernelIdeal.main_arg3)),
    fun c => Cert.AttnQRefIdeal.Read.val_main_v69 (F := Ideal) (m ((c.tc : Thread Cert.AttnQKernelIdeal.nD Cert.AttnQKernelIdeal.τ).loc Cert.AttnQKernelIdeal.main_arg0))
      (m ((c.tc : Thread Cert.AttnQKernelIdeal.nD Cert.AttnQKernelIdeal.τ).loc Cert.AttnQKernelIdeal.main_arg1))
      (m ((c.tc : Thread Cert.AttnQKernelIdeal.nD Cert.AttnQKernelIdeal.τ).loc Cert.AttnQKernelIdeal.main_arg2))
      (m ((c.tc : Thread Cert.AttnQKernelIdeal.nD Cert.AttnQKernelIdeal.τ).loc Cert.AttnQKernelIdeal.main_arg3)), ?_, ?_⟩
  · refine (θ_run Cert.AttnQKernelIdeal.defs _ _).mono (fun r h c => ?_)
      (θ_run_and (Cert.AttnQKernelIdeal.Hand.run (F := Ideal) m ρ) (Cert.AttnQKernelIdeal.Hand.frame (F := Ideal) m ρ))
    obtain ⟨⟨hp, _⟩, ha, _⟩ := h
    exact ⟨((hp c).1 6).trans (Cert.AttnQKernelIdeal.Hand.grad_eq m c _ _ _ _ rfl rfl rfl rfl (hpre c)),
      ((hp c).1 7).trans (Cert.AttnQKernelIdeal.Hand.mean_eq m c _ _ _ _ rfl rfl rfl rfl (hpre c)), ha c⟩
  · refine (θ_run Cert.AttnQRefIdeal.defs _ _).mono (fun r h c => ?_) (Cert.AttnQRefIdeal.Value.run (F := Ideal) m' ρ')
    obtain ⟨h0, h1, ha⟩ := h c
    obtain ⟨e0, e1, e2, e3⟩ := hag c
    refine ⟨(h0.trans (Cert.AttnQRefIdeal.Read.val_main_v68_eq _ _)).trans ?_, (h1.trans (Cert.AttnQRefIdeal.Read.val_main_v69_eq _ _)).trans ?_, ha⟩
    · rw [e0, e1, e2, e3]
    · rw [e0, e1, e2, e3]

/-- The kernel runs, keeps its arguments and leaves every counter at zero. -/
theorem attn_kv_frame : Cert.quiescent_AttnKvKernel := fun m ρ _ => Cert.AttnKvKernel.Hand.frame m ρ

/-- So does its reading over the extended reals. -/
theorem attn_kv_frame_ideal : Cert.quiescent_AttnKvKernelIdeal := fun m ρ _ => Cert.AttnKvKernelIdeal.Hand.frame m ρ

/-- The same with the precondition of the value claim. -/
theorem attn_kv_frame_ideal_pre : Cert.quiescent_AttnKvKernelIdeal_pre_attention_finite := fun m ρ _ => Cert.AttnKvKernelIdeal.Hand.frame m ρ

/-- So does its reference. -/
theorem attn_kv_frame_ref : Cert.quiescent_AttnKvRefIdeal := fun m ρ _ =>
  (θ_run Cert.AttnKvRefIdeal.defs _ _).mono (fun r h => ⟨fun c => (h c).2.2, sem_eq_zero_of_no_sems (by decide) r.2⟩)
    (Cert.AttnKvRefIdeal.Value.run (F := Ideal) m ρ)

/-- The same with the precondition of the value claim. -/
theorem attn_kv_frame_ref_pre : Cert.quiescent_AttnKvRefIdeal_pre_attention_finite := fun m ρ _ => attn_kv_frame_ref m ρ trivial

/-- The two named constants are what the names stand for. -/
theorem attn_kv_preserves : Cert.preserves_AttnKvKernel_AttnKvKernelIdeal :=
  ⟨IdealRules.named_const.statement _ _ _ _ _ rfl, IdealRules.named_const.statement _ _ _ _ _ rfl⟩

/-- The gradients of the keys and of the values are the reference's. -/
theorem attn_kv_value : Cert.algebraic_AttnKvKernelIdeal_AttnKvRefIdeal_pre_attention_finite := by
  intro m ρ m' ρ' hpre hag
  refine ⟨fun c => Cert.AttnKvRefIdeal.Read.val_main_v65 (F := Ideal) (m ((c.tc : Thread Cert.AttnKvKernelIdeal.nD Cert.AttnKvKernelIdeal.τ).loc Cert.AttnKvKernelIdeal.main_arg0))
      (m ((c.tc : Thread Cert.AttnKvKernelIdeal.nD Cert.AttnKvKernelIdeal.τ).loc Cert.AttnKvKernelIdeal.main_arg1))
      (m ((c.tc : Thread Cert.AttnKvKernelIdeal.nD Cert.AttnKvKernelIdeal.τ).loc Cert.AttnKvKernelIdeal.main_arg2))
      (m ((c.tc : Thread Cert.AttnKvKernelIdeal.nD Cert.AttnKvKernelIdeal.τ).loc Cert.AttnKvKernelIdeal.main_arg3)),
    fun c => Cert.AttnKvRefIdeal.Read.val_main_v68 (F := Ideal) (m ((c.tc : Thread Cert.AttnKvKernelIdeal.nD Cert.AttnKvKernelIdeal.τ).loc Cert.AttnKvKernelIdeal.main_arg0))
      (m ((c.tc : Thread Cert.AttnKvKernelIdeal.nD Cert.AttnKvKernelIdeal.τ).loc Cert.AttnKvKernelIdeal.main_arg1))
      (m ((c.tc : Thread Cert.AttnKvKernelIdeal.nD Cert.AttnKvKernelIdeal.τ).loc Cert.AttnKvKernelIdeal.main_arg3)), ?_, ?_⟩
  · refine (θ_run Cert.AttnKvKernelIdeal.defs _ _).mono (fun r h c => ?_)
      (θ_run_and (Cert.AttnKvKernelIdeal.Hand.run (F := Ideal) m ρ) (Cert.AttnKvKernelIdeal.Hand.frame (F := Ideal) m ρ))
    obtain ⟨⟨hp, _⟩, ha, _⟩ := h
    obtain ⟨h6, h7⟩ := Cert.AttnKvKernelIdeal.Hand.grads_eq m c _ _ _ _ rfl rfl rfl rfl (hpre c)
    exact ⟨((hp c).1 6).trans h6, ((hp c).1 7).trans h7, ha c⟩
  · refine (θ_run Cert.AttnKvRefIdeal.defs _ _).mono (fun r h c => ?_) (Cert.AttnKvRefIdeal.Value.run (F := Ideal) m' ρ')
    obtain ⟨h0, h1, ha⟩ := h c
    obtain ⟨e0, e1, e2, e3⟩ := hag c
    refine ⟨(h0.trans (Cert.AttnKvRefIdeal.Read.val_main_v65_eq _ _)).trans ?_, (h1.trans (Cert.AttnKvRefIdeal.Read.val_main_v68_eq _ _)).trans ?_, ha⟩
    · rw [e0, e1, e2, e3]
    · rw [e0, e1, e3]

/-- The kernel runs, keeps its arguments and leaves every counter at zero. -/
theorem ffn_up_frame : Cert.quiescent_FfnUpKernel := fun m ρ _ => Cert.FfnUpKernel.Gen.frame m ρ

/-- So does its reading over the extended reals. -/
theorem ffn_up_frame_ideal : Cert.quiescent_FfnUpKernelIdeal := fun m ρ _ => Cert.FfnUpKernelIdeal.Gen.frame m ρ

/-- So does its reference. -/
theorem ffn_up_frame_ref : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

/-- The same of the kernel with the precondition of the value claim. -/
theorem ffn_up_frame_ideal_pre : Cert.quiescent_FfnUpKernelIdeal_pre_ffn_up_finite := fun m ρ _ => Cert.FfnUpKernelIdeal.Gen.frame m ρ

/-- The same of the reference. -/
theorem ffn_up_frame_ref_pre : Cert.quiescent_FfnUpRefIdeal_pre_ffn_up_finite := fun m ρ _ => ffn_up_frame_ref m ρ trivial

/-- The gradient of the block's input, the normed rows and the gradient of the gains are the reference's. -/
theorem ffn_up_value : Cert.algebraic_FfnUpKernelIdeal_FfnUpRefIdeal_pre_ffn_up_finite := by
  intro m ρ m' ρ' hpre hag
  refine ⟨fun c => Cert.FfnUpRefIdeal.Read.val_main_v43 (F := Ideal) (m ((c.tc : Thread Cert.FfnUpKernelIdeal.nD Cert.FfnUpKernelIdeal.τ).loc Cert.FfnUpKernelIdeal.main_arg0))
      (m ((c.tc : Thread Cert.FfnUpKernelIdeal.nD Cert.FfnUpKernelIdeal.τ).loc Cert.FfnUpKernelIdeal.main_arg1))
      (m ((c.tc : Thread Cert.FfnUpKernelIdeal.nD Cert.FfnUpKernelIdeal.τ).loc Cert.FfnUpKernelIdeal.main_arg2))
      (m ((c.tc : Thread Cert.FfnUpKernelIdeal.nD Cert.FfnUpKernelIdeal.τ).loc Cert.FfnUpKernelIdeal.main_arg3))
      (m ((c.tc : Thread Cert.FfnUpKernelIdeal.nD Cert.FfnUpKernelIdeal.τ).loc Cert.FfnUpKernelIdeal.main_arg4))
      (m ((c.tc : Thread Cert.FfnUpKernelIdeal.nD Cert.FfnUpKernelIdeal.τ).loc Cert.FfnUpKernelIdeal.main_arg5))
      (m ((c.tc : Thread Cert.FfnUpKernelIdeal.nD Cert.FfnUpKernelIdeal.τ).loc Cert.FfnUpKernelIdeal.main_arg6)),
    fun c => Cert.FfnUpRefIdeal.Read.val_main_v59 (F := Ideal) (m ((c.tc : Thread Cert.FfnUpKernelIdeal.nD Cert.FfnUpKernelIdeal.τ).loc Cert.FfnUpKernelIdeal.main_arg1))
      (m ((c.tc : Thread Cert.FfnUpKernelIdeal.nD Cert.FfnUpKernelIdeal.τ).loc Cert.FfnUpKernelIdeal.main_arg4)),
    fun c => Cert.FfnUpRefIdeal.Read.val_main_v60 (F := Ideal) (m ((c.tc : Thread Cert.FfnUpKernelIdeal.nD Cert.FfnUpKernelIdeal.τ).loc Cert.FfnUpKernelIdeal.main_arg1))
      (m ((c.tc : Thread Cert.FfnUpKernelIdeal.nD Cert.FfnUpKernelIdeal.τ).loc Cert.FfnUpKernelIdeal.main_arg2))
      (m ((c.tc : Thread Cert.FfnUpKernelIdeal.nD Cert.FfnUpKernelIdeal.τ).loc Cert.FfnUpKernelIdeal.main_arg3))
      (m ((c.tc : Thread Cert.FfnUpKernelIdeal.nD Cert.FfnUpKernelIdeal.τ).loc Cert.FfnUpKernelIdeal.main_arg5))
      (m ((c.tc : Thread Cert.FfnUpKernelIdeal.nD Cert.FfnUpKernelIdeal.τ).loc Cert.FfnUpKernelIdeal.main_arg6)), ?_, ?_⟩
  · refine (θ_run Cert.FfnUpKernelIdeal.defs _ _).mono (fun r h c => ?_) (Cert.FfnUpKernelIdeal.Value.run_blocks (F := Ideal) m ρ)
    obtain ⟨h0, h1, h2, ha⟩ := h c
    obtain ⟨g0, g1, g2⟩ := Cert.FfnUpKernelIdeal.Hand.value_eq _ _ _ _ _ _ _ (hpre c) m c rfl rfl rfl rfl rfl rfl rfl
    exact ⟨h0.trans g0, h1.trans g1, h2.trans g2, ha⟩
  · refine (θ_run Cert.FfnUpRefIdeal.defs _ _).mono (fun r h c => ?_) (Cert.FfnUpRefIdeal.Value.run (F := Ideal) m' ρ')
    obtain ⟨h0, h1, h2, ha⟩ := h c
    obtain ⟨e0, e1, e2, e3, e4, e5, e6⟩ := hag c
    refine ⟨(h0.trans (Cert.FfnUpRefIdeal.Read.val_main_v43_eq _ _)).trans ?_, (h1.trans (Cert.FfnUpRefIdeal.Read.val_main_v59_eq _ _)).trans ?_,
      (h2.trans (Cert.FfnUpRefIdeal.Read.val_main_v60_eq _ _ _ _ _)).trans ?_, ha⟩
    · rw [e0, e1, e2, e3, e4, e5, e6]
    · rw [e1, e4]
    · rw [e1, e2, e3, e5, e6]

/-- The kernel runs, keeps its arguments and leaves every counter at zero. -/
theorem ffn_down_frame : Cert.quiescent_FfnDownKernel := fun m ρ _ => Cert.FfnDownKernel.Gen.frame m ρ

/-- So does its reading over the extended reals. -/
theorem ffn_down_frame_ideal : Cert.quiescent_FfnDownKernelIdeal := fun m ρ _ => Cert.FfnDownKernelIdeal.Gen.frame m ρ

/-- So does its reference. -/
theorem ffn_down_frame_ref : Cert.quiescent_FfnDownRefIdeal := fun m ρ _ =>
  (θ_run Cert.FfnDownRefIdeal.defs _ _).mono (fun r h => ⟨fun c => (h c).2.2.2.2.2, sem_eq_zero_of_no_sems (by decide) r.2⟩)
    (Cert.FfnDownRefIdeal.Value.run (F := Ideal) m ρ)

/-- The same of the kernel with the precondition of the value claim. -/
theorem ffn_down_frame_ideal_pre : Cert.quiescent_FfnDownKernelIdeal_pre_ffn_down_finite := fun m ρ _ => Cert.FfnDownKernelIdeal.Gen.frame m ρ

/-- The same of the reference. -/
theorem ffn_down_frame_ref_pre : Cert.quiescent_FfnDownRefIdeal_pre_ffn_down_finite := fun m ρ _ => ffn_down_frame_ref m ρ trivial

set_option maxHeartbeats 1600000 in
/-- The gradients of the hidden arrays, of the rows before the last norm and of its gain, and the hidden rows, are the reference's. -/
theorem ffn_down_value : Cert.algebraic_FfnDownKernelIdeal_FfnDownRefIdeal_pre_ffn_down_finite := by
  intro m ρ m' ρ' hpre hag
  refine ⟨fun c => Cert.FfnDownRefIdeal.Read.val_main_v64 (F := Ideal) (m ((c.tc : Thread Cert.FfnDownKernelIdeal.nD Cert.FfnDownKernelIdeal.τ).loc Cert.FfnDownKernelIdeal.main_arg0))
      (m ((c.tc : Thread Cert.FfnDownKernelIdeal.nD Cert.FfnDownKernelIdeal.τ).loc Cert.FfnDownKernelIdeal.main_arg1))
      (m ((c.tc : Thread Cert.FfnDownKernelIdeal.nD Cert.FfnDownKernelIdeal.τ).loc Cert.FfnDownKernelIdeal.main_arg2))
      (m ((c.tc : Thread Cert.FfnDownKernelIdeal.nD Cert.FfnDownKernelIdeal.τ).loc Cert.FfnDownKernelIdeal.main_arg3))
      (m ((c.tc : Thread Cert.FfnDownKernelIdeal.nD Cert.FfnDownKernelIdeal.τ).loc Cert.FfnDownKernelIdeal.main_arg4))
      (m ((c.tc : Thread Cert.FfnDownKernelIdeal.nD Cert.FfnDownKernelIdeal.τ).loc Cert.FfnDownKernelIdeal.main_arg5))
      (m ((c.tc : Thread Cert.FfnDownKernelIdeal.nD Cert.FfnDownKernelIdeal.τ).loc Cert.FfnDownKernelIdeal.main_arg6)),
    fun c => Cert.FfnDownRefIdeal.Read.val_main_v67 (F := Ideal) (m ((c.tc : Thread Cert.FfnDownKernelIdeal.nD Cert.FfnDownKernelIdeal.τ).loc Cert.FfnDownKernelIdeal.main_arg0))
      (m ((c.tc : Thread Cert.FfnDownKernelIdeal.nD Cert.FfnDownKernelIdeal.τ).loc Cert.FfnDownKernelIdeal.main_arg1))
      (m ((c.tc : Thread Cert.FfnDownKernelIdeal.nD Cert.FfnDownKernelIdeal.τ).loc Cert.FfnDownKernelIdeal.main_arg2))
      (m ((c.tc : Thread Cert.FfnDownKernelIdeal.nD Cert.FfnDownKernelIdeal.τ).loc Cert.FfnDownKernelIdeal.main_arg3))
      (m ((c.tc : Thread Cert.FfnDownKernelIdeal.nD Cert.FfnDownKernelIdeal.τ).loc Cert.FfnDownKernelIdeal.main_arg4))
      (m ((c.tc : Thread Cert.FfnDownKernelIdeal.nD Cert.FfnDownKernelIdeal.τ).loc Cert.FfnDownKernelIdeal.main_arg5))
      (m ((c.tc : Thread Cert.FfnDownKernelIdeal.nD Cert.FfnDownKernelIdeal.τ).loc Cert.FfnDownKernelIdeal.main_arg6)),
    fun c => Cert.FfnDownRefIdeal.Read.val_main_v70 (F := Ideal) (m ((c.tc : Thread Cert.FfnDownKernelIdeal.nD Cert.FfnDownKernelIdeal.τ).loc Cert.FfnDownKernelIdeal.main_arg1))
      (m ((c.tc : Thread Cert.FfnDownKernelIdeal.nD Cert.FfnDownKernelIdeal.τ).loc Cert.FfnDownKernelIdeal.main_arg2))
      (m ((c.tc : Thread Cert.FfnDownKernelIdeal.nD Cert.FfnDownKernelIdeal.τ).loc Cert.FfnDownKernelIdeal.main_arg3))
      (m ((c.tc : Thread Cert.FfnDownKernelIdeal.nD Cert.FfnDownKernelIdeal.τ).loc Cert.FfnDownKernelIdeal.main_arg4)),
    fun c => Cert.FfnDownRefIdeal.Read.val_main_v73 (F := Ideal) (m ((c.tc : Thread Cert.FfnDownKernelIdeal.nD Cert.FfnDownKernelIdeal.τ).loc Cert.FfnDownKernelIdeal.main_arg0))
      (m ((c.tc : Thread Cert.FfnDownKernelIdeal.nD Cert.FfnDownKernelIdeal.τ).loc Cert.FfnDownKernelIdeal.main_arg1))
      (m ((c.tc : Thread Cert.FfnDownKernelIdeal.nD Cert.FfnDownKernelIdeal.τ).loc Cert.FfnDownKernelIdeal.main_arg2))
      (m ((c.tc : Thread Cert.FfnDownKernelIdeal.nD Cert.FfnDownKernelIdeal.τ).loc Cert.FfnDownKernelIdeal.main_arg3))
      (m ((c.tc : Thread Cert.FfnDownKernelIdeal.nD Cert.FfnDownKernelIdeal.τ).loc Cert.FfnDownKernelIdeal.main_arg4))
      (m ((c.tc : Thread Cert.FfnDownKernelIdeal.nD Cert.FfnDownKernelIdeal.τ).loc Cert.FfnDownKernelIdeal.main_arg5))
      (m ((c.tc : Thread Cert.FfnDownKernelIdeal.nD Cert.FfnDownKernelIdeal.τ).loc Cert.FfnDownKernelIdeal.main_arg6)),
    fun c => Cert.FfnDownRefIdeal.Read.val_main_v74 (F := Ideal) (m ((c.tc : Thread Cert.FfnDownKernelIdeal.nD Cert.FfnDownKernelIdeal.τ).loc Cert.FfnDownKernelIdeal.main_arg0))
      (m ((c.tc : Thread Cert.FfnDownKernelIdeal.nD Cert.FfnDownKernelIdeal.τ).loc Cert.FfnDownKernelIdeal.main_arg1))
      (m ((c.tc : Thread Cert.FfnDownKernelIdeal.nD Cert.FfnDownKernelIdeal.τ).loc Cert.FfnDownKernelIdeal.main_arg2))
      (m ((c.tc : Thread Cert.FfnDownKernelIdeal.nD Cert.FfnDownKernelIdeal.τ).loc Cert.FfnDownKernelIdeal.main_arg3))
      (m ((c.tc : Thread Cert.FfnDownKernelIdeal.nD Cert.FfnDownKernelIdeal.τ).loc Cert.FfnDownKernelIdeal.main_arg4))
      (m ((c.tc : Thread Cert.FfnDownKernelIdeal.nD Cert.FfnDownKernelIdeal.τ).loc Cert.FfnDownKernelIdeal.main_arg5)), ?_, ?_⟩
  · refine (θ_run Cert.FfnDownKernelIdeal.defs _ _).mono (fun r h c => ?_) (Cert.FfnDownKernelIdeal.Value.run_blocks (F := Ideal) m ρ)
    obtain ⟨h0, h1, h2, h3, h4, ha⟩ := h c
    obtain ⟨g0, g1, g2, g3, g4⟩ := Cert.FfnDownKernelIdeal.Hand.value_eq _ _ _ _ _ _ _ (hpre c) m c rfl rfl rfl rfl rfl rfl rfl
    exact ⟨h0.trans g0, h1.trans g1, h2.trans g2, h3.trans g3, h4.trans g4, ha⟩
  · refine (θ_run Cert.FfnDownRefIdeal.defs _ _).mono (fun r h c => ?_) (Cert.FfnDownRefIdeal.Value.run (F := Ideal) m' ρ')
    obtain ⟨h0, h1, h2, h3, h4, ha⟩ := h c
    obtain ⟨e0, e1, e2, e3, e4, e5, e6⟩ := hag c
    refine ⟨(h0.trans (Cert.FfnDownRefIdeal.Read.val_main_v64_eq _ _)).trans ?_, (h1.trans (Cert.FfnDownRefIdeal.Read.val_main_v67_eq _ _)).trans ?_, (h2.trans (Cert.FfnDownRefIdeal.Read.val_main_v70_eq _ _ _ _)).trans ?_, (h3.trans (Cert.FfnDownRefIdeal.Read.val_main_v73_eq _ _)).trans ?_, (h4.trans (Cert.FfnDownRefIdeal.Read.val_main_v74_eq _ _)).trans ?_, ha⟩
    · rw [e0, e1, e2, e3, e4, e5, e6]
    · rw [e0, e1, e2, e3, e4, e5, e6]
    · rw [e1, e2, e3, e4]
    · rw [e0, e1, e2, e3, e4, e5, e6]
    · rw [e0, e1, e2, e3, e4, e5]

/-- The kernel runs, keeps its arguments and leaves every counter at zero. -/
theorem mix_in_frame : Cert.quiescent_MixInKernel := fun m ρ _ => Cert.MixInKernel.Gen.frame m ρ

/-- So does its reading over the extended reals. -/
theorem mix_in_frame_ideal : Cert.quiescent_MixInKernelIdeal := fun m ρ _ => Cert.MixInKernelIdeal.Gen.frame m ρ

/-- So does its reference. -/
theorem mix_in_frame_ref : Cert.quiescent_MixInRefIdeal := fun m ρ _ =>
  (θ_run Cert.MixInRefIdeal.defs _ _).mono (fun r h => ⟨fun c => (h c).2.2.2.2, sem_eq_zero_of_no_sems (by decide) r.2⟩)
    (Cert.MixInRefIdeal.Value.run (F := Ideal) m ρ)

/-- The same of the kernel with the precondition of the value claim. -/
theorem mix_in_frame_ideal_pre : Cert.quiescent_MixInKernelIdeal_pre_mix_in_finite := fun m ρ _ => Cert.MixInKernelIdeal.Gen.frame m ρ

/-- The same of the reference. -/
theorem mix_in_frame_ref_pre : Cert.quiescent_MixInRefIdeal_pre_mix_in_finite := fun m ρ _ => mix_in_frame_ref m ρ trivial

set_option maxHeartbeats 1600000 in
/-- The gradients of the residual block below the mixer and of its gains, and the operands of its products. -/
theorem mix_in_value : Cert.algebraic_MixInKernelIdeal_MixInRefIdeal_pre_mix_in_finite := by
  intro m ρ m' ρ' hpre hag
  refine ⟨fun c => Cert.MixInRefIdeal.Read.val_main_v41 (F := Ideal) (m ((c.tc : Thread Cert.MixInKernelIdeal.nD Cert.MixInKernelIdeal.τ).loc Cert.MixInKernelIdeal.main_arg0))
      (m ((c.tc : Thread Cert.MixInKernelIdeal.nD Cert.MixInKernelIdeal.τ).loc Cert.MixInKernelIdeal.main_arg1))
      (m ((c.tc : Thread Cert.MixInKernelIdeal.nD Cert.MixInKernelIdeal.τ).loc Cert.MixInKernelIdeal.main_arg2))
      (m ((c.tc : Thread Cert.MixInKernelIdeal.nD Cert.MixInKernelIdeal.τ).loc Cert.MixInKernelIdeal.main_arg3))
      (m ((c.tc : Thread Cert.MixInKernelIdeal.nD Cert.MixInKernelIdeal.τ).loc Cert.MixInKernelIdeal.main_arg4))
      (m ((c.tc : Thread Cert.MixInKernelIdeal.nD Cert.MixInKernelIdeal.τ).loc Cert.MixInKernelIdeal.main_arg5))
      (m ((c.tc : Thread Cert.MixInKernelIdeal.nD Cert.MixInKernelIdeal.τ).loc Cert.MixInKernelIdeal.main_arg6))
      (m ((c.tc : Thread Cert.MixInKernelIdeal.nD Cert.MixInKernelIdeal.τ).loc Cert.MixInKernelIdeal.main_arg7))
      (m ((c.tc : Thread Cert.MixInKernelIdeal.nD Cert.MixInKernelIdeal.τ).loc Cert.MixInKernelIdeal.main_arg8)),
    fun c => Cert.MixInRefIdeal.Read.val_main_v49 (F := Ideal) (m ((c.tc : Thread Cert.MixInKernelIdeal.nD Cert.MixInKernelIdeal.τ).loc Cert.MixInKernelIdeal.main_arg2))
      (m ((c.tc : Thread Cert.MixInKernelIdeal.nD Cert.MixInKernelIdeal.τ).loc Cert.MixInKernelIdeal.main_arg3))
      (m ((c.tc : Thread Cert.MixInKernelIdeal.nD Cert.MixInKernelIdeal.τ).loc Cert.MixInKernelIdeal.main_arg4))
      (m ((c.tc : Thread Cert.MixInKernelIdeal.nD Cert.MixInKernelIdeal.τ).loc Cert.MixInKernelIdeal.main_arg5))
      (m ((c.tc : Thread Cert.MixInKernelIdeal.nD Cert.MixInKernelIdeal.τ).loc Cert.MixInKernelIdeal.main_arg6)),
    fun c => Cert.MixInRefIdeal.Read.val_main_v65 (F := Ideal) (m ((c.tc : Thread Cert.MixInKernelIdeal.nD Cert.MixInKernelIdeal.τ).loc Cert.MixInKernelIdeal.main_arg1))
      (m ((c.tc : Thread Cert.MixInKernelIdeal.nD Cert.MixInKernelIdeal.τ).loc Cert.MixInKernelIdeal.main_arg7)),
    fun c => Cert.MixInRefIdeal.Read.val_main_v66 (F := Ideal) (m ((c.tc : Thread Cert.MixInKernelIdeal.nD Cert.MixInKernelIdeal.τ).loc Cert.MixInKernelIdeal.main_arg1))
      (m ((c.tc : Thread Cert.MixInKernelIdeal.nD Cert.MixInKernelIdeal.τ).loc Cert.MixInKernelIdeal.main_arg2))
      (m ((c.tc : Thread Cert.MixInKernelIdeal.nD Cert.MixInKernelIdeal.τ).loc Cert.MixInKernelIdeal.main_arg3))
      (m ((c.tc : Thread Cert.MixInKernelIdeal.nD Cert.MixInKernelIdeal.τ).loc Cert.MixInKernelIdeal.main_arg4))
      (m ((c.tc : Thread Cert.MixInKernelIdeal.nD Cert.MixInKernelIdeal.τ).loc Cert.MixInKernelIdeal.main_arg5))
      (m ((c.tc : Thread Cert.MixInKernelIdeal.nD Cert.MixInKernelIdeal.τ).loc Cert.MixInKernelIdeal.main_arg6))
      (m ((c.tc : Thread Cert.MixInKernelIdeal.nD Cert.MixInKernelIdeal.τ).loc Cert.MixInKernelIdeal.main_arg8)), ?_, ?_⟩
  · refine (θ_run Cert.MixInKernelIdeal.defs _ _).mono (fun r h c => ?_) (Cert.MixInKernelIdeal.Value.run_blocks (F := Ideal) m ρ)
    obtain ⟨h0, h1, h2, h3, ha⟩ := h c
    obtain ⟨g0, g1, g2, g3⟩ := Cert.MixInKernelIdeal.Hand.value_eq _ _ _ _ _ _ _ _ _ (hpre c) m c rfl rfl rfl rfl rfl rfl rfl rfl rfl
    exact ⟨h0.trans g0, h1.trans g1, h2.trans g2, h3.trans g3, ha⟩
  · refine (θ_run Cert.MixInRefIdeal.defs _ _).mono (fun r h c => ?_) (Cert.MixInRefIdeal.Value.run (F := Ideal) m' ρ')
    obtain ⟨h0, h1, h2, h3, ha⟩ := h c
    obtain ⟨e0, e1, e2, e3, e4, e5, e6, e7, e8⟩ := hag c
    refine ⟨(h0.trans (Cert.MixInRefIdeal.Read.val_main_v41_eq _ _)).trans ?_, (h1.trans (Cert.MixInRefIdeal.Read.val_main_v49_eq _ _ _ _ _)).trans ?_, (h2.trans (Cert.MixInRefIdeal.Read.val_main_v65_eq _ _)).trans ?_, (h3.trans (Cert.MixInRefIdeal.Read.val_main_v66_eq _ _ _ _ _ _ _)).trans ?_, ha⟩
    · rw [e0, e1, e2, e3, e4, e5, e6, e7, e8]
    · rw [e2, e3, e4, e5, e6]
    · rw [e1, e7]
    · rw [e1, e2, e3, e4, e5, e6, e8]

/-- The kernel runs, keeps its arguments and leaves every counter at zero. -/
theorem mix_out_frame : Cert.quiescent_MixOutKernel := fun m ρ _ => Cert.MixOutKernel.Gen.frame m ρ

/-- So does its reading over the extended reals. -/
theorem mix_out_frame_ideal : Cert.quiescent_MixOutKernelIdeal := fun m ρ _ => Cert.MixOutKernelIdeal.Gen.frame m ρ

/-- So does its reference. -/
theorem mix_out_frame_ref : Cert.quiescent_MixOutRefIdeal := fun m ρ _ =>
  (θ_run Cert.MixOutRefIdeal.defs _ _).mono (fun r h => ⟨fun c => (h c).2.2.2.2.2.2.2, sem_eq_zero_of_no_sems (by decide) r.2⟩)
    (Cert.MixOutRefIdeal.Value.run (F := Ideal) m ρ)

/-- The same of the kernel with the precondition of the value claim. -/
theorem mix_out_frame_ideal_pre : Cert.quiescent_MixOutKernelIdeal_pre_mix_out_finite := fun m ρ _ => Cert.MixOutKernelIdeal.Gen.frame m ρ

/-- The same of the reference. -/
theorem mix_out_frame_ref_pre : Cert.quiescent_MixOutRefIdeal_pre_mix_out_finite := fun m ρ _ => mix_out_frame_ref m ρ trivial

set_option maxHeartbeats 1600000 in
/-- The gradients of the mixer's two outputs and of its three gains, and the operands of its products. -/
theorem mix_out_value : Cert.algebraic_MixOutKernelIdeal_MixOutRefIdeal_pre_mix_out_finite := by
  intro m ρ m' ρ' hpre hag
  refine ⟨fun c => Cert.MixOutRefIdeal.Read.val_main_v114 (F := Ideal) (m ((c.tc : Thread Cert.MixOutKernelIdeal.nD Cert.MixOutKernelIdeal.τ).loc Cert.MixOutKernelIdeal.main_arg0))
      (m ((c.tc : Thread Cert.MixOutKernelIdeal.nD Cert.MixOutKernelIdeal.τ).loc Cert.MixOutKernelIdeal.main_arg1))
      (m ((c.tc : Thread Cert.MixOutKernelIdeal.nD Cert.MixOutKernelIdeal.τ).loc Cert.MixOutKernelIdeal.main_arg2))
      (m ((c.tc : Thread Cert.MixOutKernelIdeal.nD Cert.MixOutKernelIdeal.τ).loc Cert.MixOutKernelIdeal.main_arg3))
      (m ((c.tc : Thread Cert.MixOutKernelIdeal.nD Cert.MixOutKernelIdeal.τ).loc Cert.MixOutKernelIdeal.main_arg4))
      (m ((c.tc : Thread Cert.MixOutKernelIdeal.nD Cert.MixOutKernelIdeal.τ).loc Cert.MixOutKernelIdeal.main_arg5))
      (m ((c.tc : Thread Cert.MixOutKernelIdeal.nD Cert.MixOutKernelIdeal.τ).loc Cert.MixOutKernelIdeal.main_arg6)),
    fun c => Cert.MixOutRefIdeal.Read.val_main_v116 (F := Ideal) (m ((c.tc : Thread Cert.MixOutKernelIdeal.nD Cert.MixOutKernelIdeal.τ).loc Cert.MixOutKernelIdeal.main_arg0))
      (m ((c.tc : Thread Cert.MixOutKernelIdeal.nD Cert.MixOutKernelIdeal.τ).loc Cert.MixOutKernelIdeal.main_arg1))
      (m ((c.tc : Thread Cert.MixOutKernelIdeal.nD Cert.MixOutKernelIdeal.τ).loc Cert.MixOutKernelIdeal.main_arg2))
      (m ((c.tc : Thread Cert.MixOutKernelIdeal.nD Cert.MixOutKernelIdeal.τ).loc Cert.MixOutKernelIdeal.main_arg3))
      (m ((c.tc : Thread Cert.MixOutKernelIdeal.nD Cert.MixOutKernelIdeal.τ).loc Cert.MixOutKernelIdeal.main_arg4))
      (m ((c.tc : Thread Cert.MixOutKernelIdeal.nD Cert.MixOutKernelIdeal.τ).loc Cert.MixOutKernelIdeal.main_arg5))
      (m ((c.tc : Thread Cert.MixOutKernelIdeal.nD Cert.MixOutKernelIdeal.τ).loc Cert.MixOutKernelIdeal.main_arg6)),
    fun c => Cert.MixOutRefIdeal.Read.val_main_v119 (F := Ideal) (m ((c.tc : Thread Cert.MixOutKernelIdeal.nD Cert.MixOutKernelIdeal.τ).loc Cert.MixOutKernelIdeal.main_arg0))
      (m ((c.tc : Thread Cert.MixOutKernelIdeal.nD Cert.MixOutKernelIdeal.τ).loc Cert.MixOutKernelIdeal.main_arg1))
      (m ((c.tc : Thread Cert.MixOutKernelIdeal.nD Cert.MixOutKernelIdeal.τ).loc Cert.MixOutKernelIdeal.main_arg2))
      (m ((c.tc : Thread Cert.MixOutKernelIdeal.nD Cert.MixOutKernelIdeal.τ).loc Cert.MixOutKernelIdeal.main_arg3))
      (m ((c.tc : Thread Cert.MixOutKernelIdeal.nD Cert.MixOutKernelIdeal.τ).loc Cert.MixOutKernelIdeal.main_arg4))
      (m ((c.tc : Thread Cert.MixOutKernelIdeal.nD Cert.MixOutKernelIdeal.τ).loc Cert.MixOutKernelIdeal.main_arg5))
      (m ((c.tc : Thread Cert.MixOutKernelIdeal.nD Cert.MixOutKernelIdeal.τ).loc Cert.MixOutKernelIdeal.main_arg6)),
    fun c => Cert.MixOutRefIdeal.Read.val_main_v122 (F := Ideal) (m ((c.tc : Thread Cert.MixOutKernelIdeal.nD Cert.MixOutKernelIdeal.τ).loc Cert.MixOutKernelIdeal.main_arg1))
      (m ((c.tc : Thread Cert.MixOutKernelIdeal.nD Cert.MixOutKernelIdeal.τ).loc Cert.MixOutKernelIdeal.main_arg2))
      (m ((c.tc : Thread Cert.MixOutKernelIdeal.nD Cert.MixOutKernelIdeal.τ).loc Cert.MixOutKernelIdeal.main_arg3))
      (m ((c.tc : Thread Cert.MixOutKernelIdeal.nD Cert.MixOutKernelIdeal.τ).loc Cert.MixOutKernelIdeal.main_arg4)),
    fun c => Cert.MixOutRefIdeal.Read.val_main_v123 (F := Ideal) (m ((c.tc : Thread Cert.MixOutKernelIdeal.nD Cert.MixOutKernelIdeal.τ).loc Cert.MixOutKernelIdeal.main_arg0))
      (m ((c.tc : Thread Cert.MixOutKernelIdeal.nD Cert.MixOutKernelIdeal.τ).loc Cert.MixOutKernelIdeal.main_arg1))
      (m ((c.tc : Thread Cert.MixOutKernelIdeal.nD Cert.MixOutKernelIdeal.τ).loc Cert.MixOutKernelIdeal.main_arg2))
      (m ((c.tc : Thread Cert.MixOutKernelIdeal.nD Cert.MixOutKernelIdeal.τ).loc Cert.MixOutKernelIdeal.main_arg3))
      (m ((c.tc : Thread Cert.MixOutKernelIdeal.nD Cert.MixOutKernelIdeal.τ).loc Cert.MixOutKernelIdeal.main_arg4))
      (m ((c.tc : Thread Cert.MixOutKernelIdeal.nD Cert.MixOutKernelIdeal.τ).loc Cert.MixOutKernelIdeal.main_arg5))
      (m ((c.tc : Thread Cert.MixOutKernelIdeal.nD Cert.MixOutKernelIdeal.τ).loc Cert.MixOutKernelIdeal.main_arg6)),
    fun c => Cert.MixOutRefIdeal.Read.val_main_v124 (F := Ideal) (m ((c.tc : Thread Cert.MixOutKernelIdeal.nD Cert.MixOutKernelIdeal.τ).loc Cert.MixOutKernelIdeal.main_arg0))
      (m ((c.tc : Thread Cert.MixOutKernelIdeal.nD Cert.MixOutKernelIdeal.τ).loc Cert.MixOutKernelIdeal.main_arg1))
      (m ((c.tc : Thread Cert.MixOutKernelIdeal.nD Cert.MixOutKernelIdeal.τ).loc Cert.MixOutKernelIdeal.main_arg2))
      (m ((c.tc : Thread Cert.MixOutKernelIdeal.nD Cert.MixOutKernelIdeal.τ).loc Cert.MixOutKernelIdeal.main_arg3))
      (m ((c.tc : Thread Cert.MixOutKernelIdeal.nD Cert.MixOutKernelIdeal.τ).loc Cert.MixOutKernelIdeal.main_arg4))
      (m ((c.tc : Thread Cert.MixOutKernelIdeal.nD Cert.MixOutKernelIdeal.τ).loc Cert.MixOutKernelIdeal.main_arg5))
      (m ((c.tc : Thread Cert.MixOutKernelIdeal.nD Cert.MixOutKernelIdeal.τ).loc Cert.MixOutKernelIdeal.main_arg6)),
    fun c => Cert.MixOutRefIdeal.Read.val_main_v125 (F := Ideal) (m ((c.tc : Thread Cert.MixOutKernelIdeal.nD Cert.MixOutKernelIdeal.τ).loc Cert.MixOutKernelIdeal.main_arg0))
      (m ((c.tc : Thread Cert.MixOutKernelIdeal.nD Cert.MixOutKernelIdeal.τ).loc Cert.MixOutKernelIdeal.main_arg1))
      (m ((c.tc : Thread Cert.MixOutKernelIdeal.nD Cert.MixOutKernelIdeal.τ).loc Cert.MixOutKernelIdeal.main_arg2))
      (m ((c.tc : Thread Cert.MixOutKernelIdeal.nD Cert.MixOutKernelIdeal.τ).loc Cert.MixOutKernelIdeal.main_arg3))
      (m ((c.tc : Thread Cert.MixOutKernelIdeal.nD Cert.MixOutKernelIdeal.τ).loc Cert.MixOutKernelIdeal.main_arg4))
      (m ((c.tc : Thread Cert.MixOutKernelIdeal.nD Cert.MixOutKernelIdeal.τ).loc Cert.MixOutKernelIdeal.main_arg6)), ?_, ?_⟩
  · refine (θ_run Cert.MixOutKernelIdeal.defs _ _).mono (fun r h c => ?_) (Cert.MixOutKernelIdeal.Value.run_blocks (F := Ideal) m ρ)
    obtain ⟨h0, h1, h2, h3, h4, h5, h6, ha⟩ := h c
    obtain ⟨g0, g1, g2, g3, g4, g5, g6⟩ := Cert.MixOutKernelIdeal.Hand.value_eq _ _ _ _ _ _ _ (hpre c) m c rfl rfl rfl rfl rfl rfl rfl
    exact ⟨h0.trans g0, h1.trans g1, h2.trans g2, h3.trans g3, h4.trans g4, h5.trans g5, h6.trans g6, ha⟩
  · refine (θ_run Cert.MixOutRefIdeal.defs _ _).mono (fun r h c => ?_) (Cert.MixOutRefIdeal.Value.run (F := Ideal) m' ρ')
    obtain ⟨h0, h1, h2, h3, h4, h5, h6, ha⟩ := h c
    obtain ⟨e0, e1, e2, e3, e4, e5, e6⟩ := hag c
    refine ⟨(h0.trans (Cert.MixOutRefIdeal.Read.val_main_v114_eq _ _)).trans ?_, (h1.trans (Cert.MixOutRefIdeal.Read.val_main_v116_eq _ _)).trans ?_, (h2.trans (Cert.MixOutRefIdeal.Read.val_main_v119_eq _ _)).trans ?_, (h3.trans (Cert.MixOutRefIdeal.Read.val_main_v122_eq _ _ _ _)).trans ?_, (h4.trans (Cert.MixOutRefIdeal.Read.val_main_v123_eq _ _)).trans ?_, (h5.trans (Cert.MixOutRefIdeal.Read.val_main_v124_eq _ _)).trans ?_, (h6.trans (Cert.MixOutRefIdeal.Read.val_main_v125_eq _ _)).trans ?_, ha⟩
    · rw [e0, e1, e2, e3, e4, e5, e6]
    · rw [e0, e1, e2, e3, e4, e5, e6]
    · rw [e0, e1, e2, e3, e4, e5, e6]
    · rw [e1, e2, e3, e4]
    · rw [e0, e1, e2, e3, e4, e5, e6]
    · rw [e0, e1, e2, e3, e4, e5, e6]
    · rw [e0, e1, e2, e3, e4, e6]

/-- The kernel runs, keeps its arguments and leaves every counter at zero. -/
theorem mla_frame : Cert.quiescent_MlaKernel := fun m ρ _ => Cert.MlaKernel.Gen.frame m ρ

/-- So does its reading over the extended reals. -/
theorem mla_frame_ideal : Cert.quiescent_MlaKernelIdeal := fun m ρ _ => Cert.MlaKernelIdeal.Gen.frame m ρ

/-- So does its reference. -/
theorem mla_frame_ref : Cert.quiescent_MlaRefIdeal := fun m ρ _ =>
  (θ_run Cert.MlaRefIdeal.defs _ _).mono (fun r h => ⟨fun c => (h c).2.2.2.2.2.2.2.2.2, sem_eq_zero_of_no_sems (by decide) r.2⟩)
    (Cert.MlaRefIdeal.Value.run (F := Ideal) m ρ)

/-- The same of the kernel with the precondition of the value claim. -/
theorem mla_frame_ideal_pre : Cert.quiescent_MlaKernelIdeal_pre_mla_finite := fun m ρ _ => Cert.MlaKernelIdeal.Gen.frame m ρ

/-- The same of the reference. -/
theorem mla_frame_ref_pre : Cert.quiescent_MlaRefIdeal_pre_mla_finite := fun m ρ _ => mla_frame_ref m ρ trivial

set_option maxHeartbeats 1600000 in
/-- The gradients of the two compressed arrays, of the rotary key and of two gains, and the operands of the projections' products. -/
theorem mla_value : Cert.algebraic_MlaKernelIdeal_MlaRefIdeal_pre_mla_finite := by
  intro m ρ m' ρ' hpre hag
  refine ⟨fun c => Cert.MlaRefIdeal.Read.val_main_v147 (F := Ideal) (m ((c.tc : Thread Cert.MlaKernelIdeal.nD Cert.MlaKernelIdeal.τ).loc Cert.MlaKernelIdeal.main_arg0))
      (m ((c.tc : Thread Cert.MlaKernelIdeal.nD Cert.MlaKernelIdeal.τ).loc Cert.MlaKernelIdeal.main_arg3))
      (m ((c.tc : Thread Cert.MlaKernelIdeal.nD Cert.MlaKernelIdeal.τ).loc Cert.MlaKernelIdeal.main_arg5))
      (m ((c.tc : Thread Cert.MlaKernelIdeal.nD Cert.MlaKernelIdeal.τ).loc Cert.MlaKernelIdeal.main_arg6))
      (m ((c.tc : Thread Cert.MlaKernelIdeal.nD Cert.MlaKernelIdeal.τ).loc Cert.MlaKernelIdeal.main_arg7))
      (m ((c.tc : Thread Cert.MlaKernelIdeal.nD Cert.MlaKernelIdeal.τ).loc Cert.MlaKernelIdeal.main_arg9)),
    fun c => Cert.MlaRefIdeal.Read.val_main_v149 (F := Ideal) (m ((c.tc : Thread Cert.MlaKernelIdeal.nD Cert.MlaKernelIdeal.τ).loc Cert.MlaKernelIdeal.main_arg1))
      (m ((c.tc : Thread Cert.MlaKernelIdeal.nD Cert.MlaKernelIdeal.τ).loc Cert.MlaKernelIdeal.main_arg2))
      (m ((c.tc : Thread Cert.MlaKernelIdeal.nD Cert.MlaKernelIdeal.τ).loc Cert.MlaKernelIdeal.main_arg4))
      (m ((c.tc : Thread Cert.MlaKernelIdeal.nD Cert.MlaKernelIdeal.τ).loc Cert.MlaKernelIdeal.main_arg8))
      (m ((c.tc : Thread Cert.MlaKernelIdeal.nD Cert.MlaKernelIdeal.τ).loc Cert.MlaKernelIdeal.main_arg10)),
    fun c => Cert.MlaRefIdeal.Read.val_main_v154 (F := Ideal) (m ((c.tc : Thread Cert.MlaKernelIdeal.nD Cert.MlaKernelIdeal.τ).loc Cert.MlaKernelIdeal.main_arg1))
      (m ((c.tc : Thread Cert.MlaKernelIdeal.nD Cert.MlaKernelIdeal.τ).loc Cert.MlaKernelIdeal.main_arg5))
      (m ((c.tc : Thread Cert.MlaKernelIdeal.nD Cert.MlaKernelIdeal.τ).loc Cert.MlaKernelIdeal.main_arg6)),
    fun c => Cert.MlaRefIdeal.Read.val_main_v161 (F := Ideal) (m ((c.tc : Thread Cert.MlaKernelIdeal.nD Cert.MlaKernelIdeal.τ).loc Cert.MlaKernelIdeal.main_arg0))
      (m ((c.tc : Thread Cert.MlaKernelIdeal.nD Cert.MlaKernelIdeal.τ).loc Cert.MlaKernelIdeal.main_arg5))
      (m ((c.tc : Thread Cert.MlaKernelIdeal.nD Cert.MlaKernelIdeal.τ).loc Cert.MlaKernelIdeal.main_arg6)),
    fun c => Cert.MlaRefIdeal.Read.val_main_v164 (F := Ideal) (m ((c.tc : Thread Cert.MlaKernelIdeal.nD Cert.MlaKernelIdeal.τ).loc Cert.MlaKernelIdeal.main_arg1))
      (m ((c.tc : Thread Cert.MlaKernelIdeal.nD Cert.MlaKernelIdeal.τ).loc Cert.MlaKernelIdeal.main_arg2)),
    fun c => Cert.MlaRefIdeal.Read.val_main_v167 (F := Ideal) (m ((c.tc : Thread Cert.MlaKernelIdeal.nD Cert.MlaKernelIdeal.τ).loc Cert.MlaKernelIdeal.main_arg3))
      (m ((c.tc : Thread Cert.MlaKernelIdeal.nD Cert.MlaKernelIdeal.τ).loc Cert.MlaKernelIdeal.main_arg7)),
    fun c => Cert.MlaRefIdeal.Read.val_main_v170 (F := Ideal) (m ((c.tc : Thread Cert.MlaKernelIdeal.nD Cert.MlaKernelIdeal.τ).loc Cert.MlaKernelIdeal.main_arg4))
      (m ((c.tc : Thread Cert.MlaKernelIdeal.nD Cert.MlaKernelIdeal.τ).loc Cert.MlaKernelIdeal.main_arg8)),
    fun c => Cert.MlaRefIdeal.Read.val_main_v171 (F := Ideal) (m ((c.tc : Thread Cert.MlaKernelIdeal.nD Cert.MlaKernelIdeal.τ).loc Cert.MlaKernelIdeal.main_arg0))
      (m ((c.tc : Thread Cert.MlaKernelIdeal.nD Cert.MlaKernelIdeal.τ).loc Cert.MlaKernelIdeal.main_arg3))
      (m ((c.tc : Thread Cert.MlaKernelIdeal.nD Cert.MlaKernelIdeal.τ).loc Cert.MlaKernelIdeal.main_arg5))
      (m ((c.tc : Thread Cert.MlaKernelIdeal.nD Cert.MlaKernelIdeal.τ).loc Cert.MlaKernelIdeal.main_arg6))
      (m ((c.tc : Thread Cert.MlaKernelIdeal.nD Cert.MlaKernelIdeal.τ).loc Cert.MlaKernelIdeal.main_arg9)),
    fun c => Cert.MlaRefIdeal.Read.val_main_v172 (F := Ideal) (m ((c.tc : Thread Cert.MlaKernelIdeal.nD Cert.MlaKernelIdeal.τ).loc Cert.MlaKernelIdeal.main_arg1))
      (m ((c.tc : Thread Cert.MlaKernelIdeal.nD Cert.MlaKernelIdeal.τ).loc Cert.MlaKernelIdeal.main_arg2))
      (m ((c.tc : Thread Cert.MlaKernelIdeal.nD Cert.MlaKernelIdeal.τ).loc Cert.MlaKernelIdeal.main_arg4))
      (m ((c.tc : Thread Cert.MlaKernelIdeal.nD Cert.MlaKernelIdeal.τ).loc Cert.MlaKernelIdeal.main_arg10)), ?_, ?_⟩
  · refine (θ_run Cert.MlaKernelIdeal.defs _ _).mono (fun r h c => ?_) (Cert.MlaKernelIdeal.Value.run_blocks (F := Ideal) m ρ)
    obtain ⟨h0, h1, h2, h3, h4, h5, h6, h7, h8, ha⟩ := h c
    obtain ⟨g0, g1, g2, g3, g4, g5, g6, g7, g8⟩ := Cert.MlaKernelIdeal.Hand.value_eq _ _ _ _ _ _ _ _ _ _ _ (hpre c) m c rfl rfl rfl rfl rfl rfl rfl rfl rfl rfl rfl
    exact ⟨h0.trans g0, h1.trans g1, h2.trans g2, h3.trans g3, h4.trans g4, h5.trans g5, h6.trans g6, h7.trans g7, h8.trans g8, ha⟩
  · refine (θ_run Cert.MlaRefIdeal.defs _ _).mono (fun r h c => ?_) (Cert.MlaRefIdeal.Value.run (F := Ideal) m' ρ')
    obtain ⟨h0, h1, h2, h3, h4, h5, h6, h7, h8, ha⟩ := h c
    obtain ⟨e0, e1, e2, e3, e4, e5, e6, e7, e8, e9, e10⟩ := hag c
    refine ⟨(h0.trans (Cert.MlaRefIdeal.Read.val_main_v147_eq _)).trans ?_, (h1.trans (Cert.MlaRefIdeal.Read.val_main_v149_eq _)).trans ?_, (h2.trans (Cert.MlaRefIdeal.Read.val_main_v154_eq _)).trans ?_, (h3.trans (Cert.MlaRefIdeal.Read.val_main_v161_eq _)).trans ?_, (h4.trans (Cert.MlaRefIdeal.Read.val_main_v164_eq _)).trans ?_, (h5.trans (Cert.MlaRefIdeal.Read.val_main_v167_eq _)).trans ?_, (h6.trans (Cert.MlaRefIdeal.Read.val_main_v170_eq _)).trans ?_, (h7.trans (Cert.MlaRefIdeal.Read.val_main_v171_eq _)).trans ?_, (h8.trans (Cert.MlaRefIdeal.Read.val_main_v172_eq _)).trans ?_, ha⟩
    · show Cert.MlaRefIdeal.Read.val_main_v147 (F := Ideal) (m' ((c.tc : Thread Cert.MlaRefIdeal.nD Cert.MlaRefIdeal.τ).loc Cert.MlaRefIdeal.main_arg0)) (m' ((c.tc : Thread Cert.MlaRefIdeal.nD Cert.MlaRefIdeal.τ).loc Cert.MlaRefIdeal.main_arg3)) (m' ((c.tc : Thread Cert.MlaRefIdeal.nD Cert.MlaRefIdeal.τ).loc Cert.MlaRefIdeal.main_arg5)) (m' ((c.tc : Thread Cert.MlaRefIdeal.nD Cert.MlaRefIdeal.τ).loc Cert.MlaRefIdeal.main_arg6)) (m' ((c.tc : Thread Cert.MlaRefIdeal.nD Cert.MlaRefIdeal.τ).loc Cert.MlaRefIdeal.main_arg7)) (m' ((c.tc : Thread Cert.MlaRefIdeal.nD Cert.MlaRefIdeal.τ).loc Cert.MlaRefIdeal.main_arg9)) = _
      rw [e0, e3, e5, e6, e7, e9]
    · show Cert.MlaRefIdeal.Read.val_main_v149 (F := Ideal) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg2)) (m' ((c.tc : Thread Cert.MlaRefIdeal.nD Cert.MlaRefIdeal.τ).loc Cert.MlaRefIdeal.main_arg4)) (m' ((c.tc : Thread Cert.MlaRefIdeal.nD Cert.MlaRefIdeal.τ).loc Cert.MlaRefIdeal.main_arg8)) (m' ((c.tc : Thread Cert.MlaRefIdeal.nD Cert.MlaRefIdeal.τ).loc Cert.MlaRefIdeal.main_arg10)) = _
      rw [e1, e2, e4, e8, e10]
    · show Cert.MlaRefIdeal.Read.val_main_v154 (F := Ideal) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg5)) (m' ((c.tc : Thread Cert.MlaRefIdeal.nD Cert.MlaRefIdeal.τ).loc Cert.MlaRefIdeal.main_arg6)) = _
      rw [e1, e5, e6]
    · show Cert.MlaRefIdeal.Read.val_main_v161 (F := Ideal) (m' ((c.tc : Thread Cert.MlaRefIdeal.nD Cert.MlaRefIdeal.τ).loc Cert.MlaRefIdeal.main_arg0)) (m' ((c.tc : Thread Cert.MlaRefIdeal.nD Cert.MlaRefIdeal.τ).loc Cert.MlaRefIdeal.main_arg5)) (m' ((c.tc : Thread Cert.MlaRefIdeal.nD Cert.MlaRefIdeal.τ).loc Cert.MlaRefIdeal.main_arg6)) = _
      rw [e0, e5, e6]
    · show Cert.MlaRefIdeal.Read.val_main_v164 (F := Ideal) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg2)) = _
      rw [e1, e2]
    · show Cert.MlaRefIdeal.Read.val_main_v167 (F := Ideal) (m' ((c.tc : Thread Cert.MlaRefIdeal.nD Cert.MlaRefIdeal.τ).loc Cert.MlaRefIdeal.main_arg3)) (m' ((c.tc : Thread Cert.MlaRefIdeal.nD Cert.MlaRefIdeal.τ).loc Cert.MlaRefIdeal.main_arg7)) = _
      rw [e3, e7]
    · show Cert.MlaRefIdeal.Read.val_main_v170 (F := Ideal) (m' ((c.tc : Thread Cert.MlaRefIdeal.nD Cert.MlaRefIdeal.τ).loc Cert.MlaRefIdeal.main_arg4)) (m' ((c.tc : Thread Cert.MlaRefIdeal.nD Cert.MlaRefIdeal.τ).loc Cert.MlaRefIdeal.main_arg8)) = _
      rw [e4, e8]
    · show Cert.MlaRefIdeal.Read.val_main_v171 (F := Ideal) (m' ((c.tc : Thread Cert.MlaRefIdeal.nD Cert.MlaRefIdeal.τ).loc Cert.MlaRefIdeal.main_arg0)) (m' ((c.tc : Thread Cert.MlaRefIdeal.nD Cert.MlaRefIdeal.τ).loc Cert.MlaRefIdeal.main_arg3)) (m' ((c.tc : Thread Cert.MlaRefIdeal.nD Cert.MlaRefIdeal.τ).loc Cert.MlaRefIdeal.main_arg5)) (m' ((c.tc : Thread Cert.MlaRefIdeal.nD Cert.MlaRefIdeal.τ).loc Cert.MlaRefIdeal.main_arg6)) (m' ((c.tc : Thread Cert.MlaRefIdeal.nD Cert.MlaRefIdeal.τ).loc Cert.MlaRefIdeal.main_arg9)) = _
      rw [e0, e3, e5, e6, e9]
    · show Cert.MlaRefIdeal.Read.val_main_v172 (F := Ideal) (m' ((c.tc : Thread Cert.MlaRefIdeal.nD Cert.MlaRefIdeal.τ).loc Cert.MlaRefIdeal.main_arg1)) (m' ((c.tc : Thread Cert.MlaRefIdeal.nD Cert.MlaRefIdeal.τ).loc Cert.MlaRefIdeal.main_arg2)) (m' ((c.tc : Thread Cert.MlaRefIdeal.nD Cert.MlaRefIdeal.τ).loc Cert.MlaRefIdeal.main_arg4)) (m' ((c.tc : Thread Cert.MlaRefIdeal.nD Cert.MlaRefIdeal.τ).loc Cert.MlaRefIdeal.main_arg10)) = _
      rw [e1, e2, e4, e10]

/-- The kernel runs, keeps its arguments and leaves every counter at zero. -/
theorem ffn_fwd_frame : Cert.quiescent_FfnFwdKernel := fun m ρ _ => Cert.FfnFwdKernel.Gen.frame m ρ

/-- So does its reading over the extended reals. -/
theorem ffn_fwd_frame_ideal : Cert.quiescent_FfnFwdKernelIdeal := fun m ρ _ => Cert.FfnFwdKernelIdeal.Gen.frame m ρ

/-- So does its reference. -/
theorem ffn_fwd_frame_ref : Cert.quiescent_FfnFwdRefIdeal := fun m ρ _ =>
  (θ_run Cert.FfnFwdRefIdeal.defs _ _).mono (fun r h => ⟨fun c => (h c).2.2.2.2, sem_eq_zero_of_no_sems (by decide) r.2⟩)
    (Cert.FfnFwdRefIdeal.Value.run (F := Ideal) m ρ)

set_option maxHeartbeats 1600000 in
/-- The feed-forward block's forward call leaves what the reference computes, in all its four results. -/
theorem ffn_fwd_value : Cert.algebraic_FfnFwdKernelIdeal_FfnFwdRefIdeal := by
  intro m ρ m' ρ' hpre hag
  refine ⟨fun c => Cert.FfnFwdRefIdeal.Read.val_main_v35 (F := Ideal) (m ((c.tc : Thread Cert.FfnFwdKernelIdeal.nD Cert.FfnFwdKernelIdeal.τ).loc Cert.FfnFwdKernelIdeal.main_arg0))
      (m ((c.tc : Thread Cert.FfnFwdKernelIdeal.nD Cert.FfnFwdKernelIdeal.τ).loc Cert.FfnFwdKernelIdeal.main_arg1))
      (m ((c.tc : Thread Cert.FfnFwdKernelIdeal.nD Cert.FfnFwdKernelIdeal.τ).loc Cert.FfnFwdKernelIdeal.main_arg2))
      (m ((c.tc : Thread Cert.FfnFwdKernelIdeal.nD Cert.FfnFwdKernelIdeal.τ).loc Cert.FfnFwdKernelIdeal.main_arg3))
      (m ((c.tc : Thread Cert.FfnFwdKernelIdeal.nD Cert.FfnFwdKernelIdeal.τ).loc Cert.FfnFwdKernelIdeal.main_arg4))
      (m ((c.tc : Thread Cert.FfnFwdKernelIdeal.nD Cert.FfnFwdKernelIdeal.τ).loc Cert.FfnFwdKernelIdeal.main_arg5)),
    fun c => Cert.FfnFwdRefIdeal.Read.val_main_v38 (F := Ideal) (m ((c.tc : Thread Cert.FfnFwdKernelIdeal.nD Cert.FfnFwdKernelIdeal.τ).loc Cert.FfnFwdKernelIdeal.main_arg0))
      (m ((c.tc : Thread Cert.FfnFwdKernelIdeal.nD Cert.FfnFwdKernelIdeal.τ).loc Cert.FfnFwdKernelIdeal.main_arg1))
      (m ((c.tc : Thread Cert.FfnFwdKernelIdeal.nD Cert.FfnFwdKernelIdeal.τ).loc Cert.FfnFwdKernelIdeal.main_arg3)),
    fun c => Cert.FfnFwdRefIdeal.Read.val_main_v41 (F := Ideal) (m ((c.tc : Thread Cert.FfnFwdKernelIdeal.nD Cert.FfnFwdKernelIdeal.τ).loc Cert.FfnFwdKernelIdeal.main_arg0))
      (m ((c.tc : Thread Cert.FfnFwdKernelIdeal.nD Cert.FfnFwdKernelIdeal.τ).loc Cert.FfnFwdKernelIdeal.main_arg1))
      (m ((c.tc : Thread Cert.FfnFwdKernelIdeal.nD Cert.FfnFwdKernelIdeal.τ).loc Cert.FfnFwdKernelIdeal.main_arg4)),
    fun c => Cert.FfnFwdRefIdeal.Read.val_main_v43 (F := Ideal) (m ((c.tc : Thread Cert.FfnFwdKernelIdeal.nD Cert.FfnFwdKernelIdeal.τ).loc Cert.FfnFwdKernelIdeal.main_arg0))
      (m ((c.tc : Thread Cert.FfnFwdKernelIdeal.nD Cert.FfnFwdKernelIdeal.τ).loc Cert.FfnFwdKernelIdeal.main_arg1))
      (m ((c.tc : Thread Cert.FfnFwdKernelIdeal.nD Cert.FfnFwdKernelIdeal.τ).loc Cert.FfnFwdKernelIdeal.main_arg3))
      (m ((c.tc : Thread Cert.FfnFwdKernelIdeal.nD Cert.FfnFwdKernelIdeal.τ).loc Cert.FfnFwdKernelIdeal.main_arg4))
      (m ((c.tc : Thread Cert.FfnFwdKernelIdeal.nD Cert.FfnFwdKernelIdeal.τ).loc Cert.FfnFwdKernelIdeal.main_arg5)), ?_, ?_⟩
  · refine (θ_run Cert.FfnFwdKernelIdeal.defs _ _).mono (fun r h c => ?_) (Cert.FfnFwdKernelIdeal.Value.run_blocks (F := Ideal) m ρ)
    obtain ⟨h0, h1, h2, h3, ha⟩ := h c
    obtain ⟨g0, g1, g2, g3⟩ := Cert.FfnFwdKernelIdeal.Hand.value_eq _ _ _ _ _ _ m c rfl rfl rfl rfl rfl rfl
    exact ⟨h0.trans g0, h1.trans g1, h2.trans g2, h3.trans g3, ha⟩
  · refine (θ_run Cert.FfnFwdRefIdeal.defs _ _).mono (fun r h c => ?_) (Cert.FfnFwdRefIdeal.Value.run (F := Ideal) m' ρ')
    obtain ⟨h0, h1, h2, h3, ha⟩ := h c
    obtain ⟨e0, e1, e2, e3, e4, e5⟩ := hag c
    refine ⟨(h0.trans (Cert.FfnFwdRefIdeal.Read.val_main_v35_eq _ _)).trans ?_, (h1.trans (Cert.FfnFwdRefIdeal.Read.val_main_v38_eq _ _ _)).trans ?_, (h2.trans (Cert.FfnFwdRefIdeal.Read.val_main_v41_eq _ _ _)).trans ?_, (h3.trans (Cert.FfnFwdRefIdeal.Read.val_main_v43_eq _ _ _ _ _)).trans ?_, ha⟩
    · rw [e0, e1, e2, e3, e4, e5]
    · rw [e0, e1, e3]
    · rw [e0, e1, e4]
    · rw [e0, e1, e3, e4, e5]

/-- The kernel runs, keeps its arguments and leaves every counter at zero. -/
theorem mix_in_fwd_frame : Cert.quiescent_MixInFwdKernel := fun m ρ _ => Cert.MixInFwdKernel.Gen.frame m ρ

/-- So does its reading over the extended reals. -/
theorem mix_in_fwd_frame_ideal : Cert.quiescent_MixInFwdKernelIdeal := fun m ρ _ => Cert.MixInFwdKernelIdeal.Gen.frame m ρ

/-- So does its reference. -/
theorem mix_in_fwd_frame_ref : Cert.quiescent_MixInFwdRefIdeal := fun m ρ _ =>
  (θ_run Cert.MixInFwdRefIdeal.defs _ _).mono (fun r h => ⟨fun c => (h c).2.2.2.2.2, sem_eq_zero_of_no_sems (by decide) r.2⟩)
    (Cert.MixInFwdRefIdeal.Value.run (F := Ideal) m ρ)

set_option maxHeartbeats 1600000 in
/-- The mixer input's forward call leaves what the reference computes, in all its five results. -/
theorem mix_in_fwd_value : Cert.algebraic_MixInFwdKernelIdeal_MixInFwdRefIdeal := by
  intro m ρ m' ρ' hpre hag
  refine ⟨fun c => Cert.MixInFwdRefIdeal.Read.val_main_v23 (F := Ideal) (m ((c.tc : Thread Cert.MixInFwdKernelIdeal.nD Cert.MixInFwdKernelIdeal.τ).loc Cert.MixInFwdKernelIdeal.main_arg0))
      (m ((c.tc : Thread Cert.MixInFwdKernelIdeal.nD Cert.MixInFwdKernelIdeal.τ).loc Cert.MixInFwdKernelIdeal.main_arg1))
      (m ((c.tc : Thread Cert.MixInFwdKernelIdeal.nD Cert.MixInFwdKernelIdeal.τ).loc Cert.MixInFwdKernelIdeal.main_arg2)),
    fun c => Cert.MixInFwdRefIdeal.Read.val_main_v25 (F := Ideal) (m ((c.tc : Thread Cert.MixInFwdKernelIdeal.nD Cert.MixInFwdKernelIdeal.τ).loc Cert.MixInFwdKernelIdeal.main_arg0))
      (m ((c.tc : Thread Cert.MixInFwdKernelIdeal.nD Cert.MixInFwdKernelIdeal.τ).loc Cert.MixInFwdKernelIdeal.main_arg1))
      (m ((c.tc : Thread Cert.MixInFwdKernelIdeal.nD Cert.MixInFwdKernelIdeal.τ).loc Cert.MixInFwdKernelIdeal.main_arg2)),
    fun c => Cert.MixInFwdRefIdeal.Read.val_main_v27 (F := Ideal) (m ((c.tc : Thread Cert.MixInFwdKernelIdeal.nD Cert.MixInFwdKernelIdeal.τ).loc Cert.MixInFwdKernelIdeal.main_arg0))
      (m ((c.tc : Thread Cert.MixInFwdKernelIdeal.nD Cert.MixInFwdKernelIdeal.τ).loc Cert.MixInFwdKernelIdeal.main_arg1))
      (m ((c.tc : Thread Cert.MixInFwdKernelIdeal.nD Cert.MixInFwdKernelIdeal.τ).loc Cert.MixInFwdKernelIdeal.main_arg2)),
    fun c => Cert.MixInFwdRefIdeal.Read.val_main_v29 (F := Ideal) (m ((c.tc : Thread Cert.MixInFwdKernelIdeal.nD Cert.MixInFwdKernelIdeal.τ).loc Cert.MixInFwdKernelIdeal.main_arg0))
      (m ((c.tc : Thread Cert.MixInFwdKernelIdeal.nD Cert.MixInFwdKernelIdeal.τ).loc Cert.MixInFwdKernelIdeal.main_arg1))
      (m ((c.tc : Thread Cert.MixInFwdKernelIdeal.nD Cert.MixInFwdKernelIdeal.τ).loc Cert.MixInFwdKernelIdeal.main_arg2)),
    fun c => Cert.MixInFwdRefIdeal.Read.val_main_v31 (F := Ideal) (m ((c.tc : Thread Cert.MixInFwdKernelIdeal.nD Cert.MixInFwdKernelIdeal.τ).loc Cert.MixInFwdKernelIdeal.main_arg0))
      (m ((c.tc : Thread Cert.MixInFwdKernelIdeal.nD Cert.MixInFwdKernelIdeal.τ).loc Cert.MixInFwdKernelIdeal.main_arg1))
      (m ((c.tc : Thread Cert.MixInFwdKernelIdeal.nD Cert.MixInFwdKernelIdeal.τ).loc Cert.MixInFwdKernelIdeal.main_arg2)), ?_, ?_⟩
  · refine (θ_run Cert.MixInFwdKernelIdeal.defs _ _).mono (fun r h c => ?_) (Cert.MixInFwdKernelIdeal.Value.run_blocks (F := Ideal) m ρ)
    obtain ⟨h0, h1, h2, h3, h4, ha⟩ := h c
    obtain ⟨g0, g1, g2, g3, g4⟩ := Cert.MixInFwdKernelIdeal.Hand.value_eq _ _ _ m c rfl rfl rfl
    exact ⟨h0.trans g0, h1.trans g1, h2.trans g2, h3.trans g3, h4.trans g4, ha⟩
  · refine (θ_run Cert.MixInFwdRefIdeal.defs _ _).mono (fun r h c => ?_) (Cert.MixInFwdRefIdeal.Value.run (F := Ideal) m' ρ')
    obtain ⟨h0, h1, h2, h3, h4, ha⟩ := h c
    obtain ⟨e0, e1, e2⟩ := hag c
    refine ⟨(h0.trans (Cert.MixInFwdRefIdeal.Read.val_main_v23_eq _ _ _)).trans ?_, (h1.trans (Cert.MixInFwdRefIdeal.Read.val_main_v25_eq _ _ _)).trans ?_, (h2.trans (Cert.MixInFwdRefIdeal.Read.val_main_v27_eq _ _ _)).trans ?_, (h3.trans (Cert.MixInFwdRefIdeal.Read.val_main_v29_eq _ _ _)).trans ?_, (h4.trans (Cert.MixInFwdRefIdeal.Read.val_main_v31_eq _ _ _)).trans ?_, ha⟩
    · rw [e0, e1, e2]
    · rw [e0, e1, e2]
    · rw [e0, e1, e2]
    · rw [e0, e1, e2]
    · rw [e0, e1, e2]

/-- The kernel runs, keeps its arguments and leaves every counter at zero. -/
theorem mix_out_fwd_frame : Cert.quiescent_MixOutFwdKernel := fun m ρ _ => Cert.MixOutFwdKernel.Gen.frame m ρ

/-- So does its reading over the extended reals. -/
theorem mix_out_fwd_frame_ideal : Cert.quiescent_MixOutFwdKernelIdeal := fun m ρ _ => Cert.MixOutFwdKernelIdeal.Gen.frame m ρ

/-- So does its reference. -/
theorem mix_out_fwd_frame_ref : Cert.quiescent_MixOutFwdRefIdeal := fun m ρ _ =>
  (θ_run Cert.MixOutFwdRefIdeal.defs _ _).mono (fun r h => ⟨fun c => (h c).2.2, sem_eq_zero_of_no_sems (by decide) r.2⟩)
    (Cert.MixOutFwdRefIdeal.Value.run (F := Ideal) m ρ)

set_option maxHeartbeats 1600000 in
/-- The mixer output's forward call leaves what the reference computes, in both its results. -/
theorem mix_out_fwd_value : Cert.algebraic_MixOutFwdKernelIdeal_MixOutFwdRefIdeal := by
  intro m ρ m' ρ' hpre hag
  refine ⟨fun c => Cert.MixOutFwdRefIdeal.Read.val_main_v43 (F := Ideal) (m ((c.tc : Thread Cert.MixOutFwdKernelIdeal.nD Cert.MixOutFwdKernelIdeal.τ).loc Cert.MixOutFwdKernelIdeal.main_arg0))
      (m ((c.tc : Thread Cert.MixOutFwdKernelIdeal.nD Cert.MixOutFwdKernelIdeal.τ).loc Cert.MixOutFwdKernelIdeal.main_arg1))
      (m ((c.tc : Thread Cert.MixOutFwdKernelIdeal.nD Cert.MixOutFwdKernelIdeal.τ).loc Cert.MixOutFwdKernelIdeal.main_arg2))
      (m ((c.tc : Thread Cert.MixOutFwdKernelIdeal.nD Cert.MixOutFwdKernelIdeal.τ).loc Cert.MixOutFwdKernelIdeal.main_arg3))
      (m ((c.tc : Thread Cert.MixOutFwdKernelIdeal.nD Cert.MixOutFwdKernelIdeal.τ).loc Cert.MixOutFwdKernelIdeal.main_arg4))
      (m ((c.tc : Thread Cert.MixOutFwdKernelIdeal.nD Cert.MixOutFwdKernelIdeal.τ).loc Cert.MixOutFwdKernelIdeal.main_arg5))
      (m ((c.tc : Thread Cert.MixOutFwdKernelIdeal.nD Cert.MixOutFwdKernelIdeal.τ).loc Cert.MixOutFwdKernelIdeal.main_arg6)),
    fun c => Cert.MixOutFwdRefIdeal.Read.val_main_v45 (F := Ideal) (m ((c.tc : Thread Cert.MixOutFwdKernelIdeal.nD Cert.MixOutFwdKernelIdeal.τ).loc Cert.MixOutFwdKernelIdeal.main_arg1))
      (m ((c.tc : Thread Cert.MixOutFwdKernelIdeal.nD Cert.MixOutFwdKernelIdeal.τ).loc Cert.MixOutFwdKernelIdeal.main_arg2))
      (m ((c.tc : Thread Cert.MixOutFwdKernelIdeal.nD Cert.MixOutFwdKernelIdeal.τ).loc Cert.MixOutFwdKernelIdeal.main_arg3))
      (m ((c.tc : Thread Cert.MixOutFwdKernelIdeal.nD Cert.MixOutFwdKernelIdeal.τ).loc Cert.MixOutFwdKernelIdeal.main_arg4))
      (m ((c.tc : Thread Cert.MixOutFwdKernelIdeal.nD Cert.MixOutFwdKernelIdeal.τ).loc Cert.MixOutFwdKernelIdeal.main_arg6)), ?_, ?_⟩
  · refine (θ_run Cert.MixOutFwdKernelIdeal.defs _ _).mono (fun r h c => ?_) (Cert.MixOutFwdKernelIdeal.Value.run_blocks (F := Ideal) m ρ)
    obtain ⟨h0, h1, ha⟩ := h c
    obtain ⟨g0, g1⟩ := Cert.MixOutFwdKernelIdeal.Hand.value_eq _ _ _ _ _ _ _ m c rfl rfl rfl rfl rfl rfl rfl
    exact ⟨h0.trans g0, h1.trans g1, ha⟩
  · refine (θ_run Cert.MixOutFwdRefIdeal.defs _ _).mono (fun r h c => ?_) (Cert.MixOutFwdRefIdeal.Value.run (F := Ideal) m' ρ')
    obtain ⟨h0, h1, ha⟩ := h c
    obtain ⟨e0, e1, e2, e3, e4, e5, e6⟩ := hag c
    refine ⟨(h0.trans (Cert.MixOutFwdRefIdeal.Read.val_main_v43_eq _ _)).trans ?_, (h1.trans (Cert.MixOutFwdRefIdeal.Read.val_main_v45_eq _ _ _ _ _)).trans ?_, ha⟩
    · rw [e0, e1, e2, e3, e4, e5, e6]
    · rw [e1, e2, e3, e4, e6]

/-- The kernel runs, keeps its arguments and leaves every counter at zero. -/
theorem mla_fwd_frame : Cert.quiescent_MlaFwdKernel := fun m ρ _ => Cert.MlaFwdKernel.Gen.frame m ρ

/-- So does its reading over the extended reals. -/
theorem mla_fwd_frame_ideal : Cert.quiescent_MlaFwdKernelIdeal := fun m ρ _ => Cert.MlaFwdKernelIdeal.Gen.frame m ρ

/-- So does its reference. -/
theorem mla_fwd_frame_ref : Cert.quiescent_MlaFwdRefIdeal := fun m ρ _ =>
  (θ_run Cert.MlaFwdRefIdeal.defs _ _).mono (fun r h => ⟨fun c => (h c).2.2.2, sem_eq_zero_of_no_sems (by decide) r.2⟩)
    (Cert.MlaFwdRefIdeal.Value.run (F := Ideal) m ρ)

set_option maxHeartbeats 1600000 in
/-- The latent attention projections' forward call leaves what the reference computes, in all its three results. -/
theorem mla_fwd_value : Cert.algebraic_MlaFwdKernelIdeal_MlaFwdRefIdeal := by
  intro m ρ m' ρ' hpre hag
  refine ⟨fun c => Cert.MlaFwdRefIdeal.Read.val_main_v66 (F := Ideal) (m ((c.tc : Thread Cert.MlaFwdKernelIdeal.nD Cert.MlaFwdKernelIdeal.τ).loc Cert.MlaFwdKernelIdeal.main_arg0))
      (m ((c.tc : Thread Cert.MlaFwdKernelIdeal.nD Cert.MlaFwdKernelIdeal.τ).loc Cert.MlaFwdKernelIdeal.main_arg3))
      (m ((c.tc : Thread Cert.MlaFwdKernelIdeal.nD Cert.MlaFwdKernelIdeal.τ).loc Cert.MlaFwdKernelIdeal.main_arg4))
      (m ((c.tc : Thread Cert.MlaFwdKernelIdeal.nD Cert.MlaFwdKernelIdeal.τ).loc Cert.MlaFwdKernelIdeal.main_arg5))
      (m ((c.tc : Thread Cert.MlaFwdKernelIdeal.nD Cert.MlaFwdKernelIdeal.τ).loc Cert.MlaFwdKernelIdeal.main_arg7)),
    fun c => Cert.MlaFwdRefIdeal.Read.val_main_v73 (F := Ideal) (m ((c.tc : Thread Cert.MlaFwdKernelIdeal.nD Cert.MlaFwdKernelIdeal.τ).loc Cert.MlaFwdKernelIdeal.main_arg1))
      (m ((c.tc : Thread Cert.MlaFwdKernelIdeal.nD Cert.MlaFwdKernelIdeal.τ).loc Cert.MlaFwdKernelIdeal.main_arg2))
      (m ((c.tc : Thread Cert.MlaFwdKernelIdeal.nD Cert.MlaFwdKernelIdeal.τ).loc Cert.MlaFwdKernelIdeal.main_arg3))
      (m ((c.tc : Thread Cert.MlaFwdKernelIdeal.nD Cert.MlaFwdKernelIdeal.τ).loc Cert.MlaFwdKernelIdeal.main_arg4))
      (m ((c.tc : Thread Cert.MlaFwdKernelIdeal.nD Cert.MlaFwdKernelIdeal.τ).loc Cert.MlaFwdKernelIdeal.main_arg6))
      (m ((c.tc : Thread Cert.MlaFwdKernelIdeal.nD Cert.MlaFwdKernelIdeal.τ).loc Cert.MlaFwdKernelIdeal.main_arg8)),
    fun c => Cert.MlaFwdRefIdeal.Read.val_main_v77 (F := Ideal) (m ((c.tc : Thread Cert.MlaFwdKernelIdeal.nD Cert.MlaFwdKernelIdeal.τ).loc Cert.MlaFwdKernelIdeal.main_arg1))
      (m ((c.tc : Thread Cert.MlaFwdKernelIdeal.nD Cert.MlaFwdKernelIdeal.τ).loc Cert.MlaFwdKernelIdeal.main_arg6))
      (m ((c.tc : Thread Cert.MlaFwdKernelIdeal.nD Cert.MlaFwdKernelIdeal.τ).loc Cert.MlaFwdKernelIdeal.main_arg8)), ?_, ?_⟩
  · refine (θ_run Cert.MlaFwdKernelIdeal.defs _ _).mono (fun r h c => ?_) (Cert.MlaFwdKernelIdeal.Value.run_blocks (F := Ideal) m ρ)
    obtain ⟨h0, h1, h2, ha⟩ := h c
    obtain ⟨g0, g1, g2⟩ := Cert.MlaFwdKernelIdeal.Hand.value_eq _ _ _ _ _ _ _ _ _ m c rfl rfl rfl rfl rfl rfl rfl rfl rfl
    exact ⟨h0.trans g0, h1.trans g1, h2.trans g2, ha⟩
  · refine (θ_run Cert.MlaFwdRefIdeal.defs _ _).mono (fun r h c => ?_) (Cert.MlaFwdRefIdeal.Value.run (F := Ideal) m' ρ')
    obtain ⟨h0, h1, h2, ha⟩ := h c
    obtain ⟨e0, e1, e2, e3, e4, e5, e6, e7, e8⟩ := hag c
    refine ⟨(h0.trans (Cert.MlaFwdRefIdeal.Read.val_main_v66_eq _ _)).trans ?_, (h1.trans (Cert.MlaFwdRefIdeal.Read.val_main_v73_eq _ _ _ _ _ _)).trans ?_, (h2.trans (Cert.MlaFwdRefIdeal.Read.val_main_v77_eq _ _ _)).trans ?_, ha⟩
    · rw [e0, e3, e4, e5, e7]
    · rw [e1, e2, e3, e4, e6, e8]
    · rw [e1, e6, e8]

theorem claim : Cert.Claim :=
  ⟨Cert.LossKernel.Gen.facts, Cert.LossKernelIdeal.Gen.facts, Cert.LossRefIdeal.Gen.facts,
    Cert.AttnQKernel.Gen.facts, Cert.AttnQKernelIdeal.Gen.facts, Cert.AttnQRefIdeal.Gen.facts,
    Cert.AttnKvKernel.Gen.facts, Cert.AttnKvKernelIdeal.Gen.facts, Cert.AttnKvRefIdeal.Gen.facts,
    Cert.FfnUpKernel.Gen.facts, Cert.FfnUpKernelIdeal.Gen.facts, Cert.FfnUpRefIdeal.Gen.facts,
    Cert.FfnDownKernel.Gen.facts, Cert.FfnDownKernelIdeal.Gen.facts, Cert.FfnDownRefIdeal.Gen.facts,
    Cert.MixInKernel.Gen.facts, Cert.MixInKernelIdeal.Gen.facts, Cert.MixInRefIdeal.Gen.facts,
    Cert.MixOutKernel.Gen.facts, Cert.MixOutKernelIdeal.Gen.facts, Cert.MixOutRefIdeal.Gen.facts,
    Cert.MlaKernel.Gen.facts, Cert.MlaKernelIdeal.Gen.facts, Cert.MlaRefIdeal.Gen.facts,
    Cert.FfnFwdKernel.Gen.facts, Cert.FfnFwdKernelIdeal.Gen.facts, Cert.FfnFwdRefIdeal.Gen.facts,
    Cert.MixInFwdKernel.Gen.facts, Cert.MixInFwdKernelIdeal.Gen.facts, Cert.MixInFwdRefIdeal.Gen.facts,
    Cert.MixOutFwdKernel.Gen.facts, Cert.MixOutFwdKernelIdeal.Gen.facts, Cert.MixOutFwdRefIdeal.Gen.facts,
    Cert.MlaFwdKernel.Gen.facts, Cert.MlaFwdKernelIdeal.Gen.facts, Cert.MlaFwdRefIdeal.Gen.facts,
    Cert.Pre_attention_finite.Gen.facts, Cert.Pre_ffn_up_finite.Gen.facts, Cert.Pre_ffn_down_finite.Gen.facts, Cert.Pre_mix_in_finite.Gen.facts, Cert.Pre_mix_out_finite.Gen.facts, Cert.Pre_mla_finite.Gen.facts,
    loss_frame, loss_frame_ideal, loss_frame_ref,
    attn_q_frame, attn_q_frame_ideal, attn_q_frame_ideal_pre, attn_q_frame_ref, attn_q_frame_ref_pre,
    attn_kv_frame, attn_kv_frame_ideal, attn_kv_frame_ideal_pre, attn_kv_frame_ref, attn_kv_frame_ref_pre,
    ffn_up_frame, ffn_up_frame_ideal, ffn_up_frame_ideal_pre, ffn_up_frame_ref, ffn_up_frame_ref_pre,
    ffn_down_frame, ffn_down_frame_ideal, ffn_down_frame_ideal_pre, ffn_down_frame_ref, ffn_down_frame_ref_pre,
    mix_in_frame, mix_in_frame_ideal, mix_in_frame_ideal_pre, mix_in_frame_ref, mix_in_frame_ref_pre,
    mix_out_frame, mix_out_frame_ideal, mix_out_frame_ideal_pre, mix_out_frame_ref, mix_out_frame_ref_pre,
    mla_frame, mla_frame_ideal, mla_frame_ideal_pre, mla_frame_ref, mla_frame_ref_pre,
    ffn_fwd_frame, ffn_fwd_frame_ideal, ffn_fwd_frame_ref,
    mix_in_fwd_frame, mix_in_fwd_frame_ideal, mix_in_fwd_frame_ref,
    mix_out_fwd_frame, mix_out_fwd_frame_ideal, mix_out_fwd_frame_ref,
    mla_fwd_frame, mla_fwd_frame_ideal, mla_fwd_frame_ref,
    trivial, loss_value, attn_q_preserves, attn_q_value, attn_kv_preserves, attn_kv_value, trivial, ffn_up_value, trivial, ffn_down_value, trivial, mix_in_value, trivial, mix_out_value, trivial, mla_value, trivial, ffn_fwd_value, trivial, mix_in_fwd_value, trivial, mix_out_fwd_value, trivial, mla_fwd_value⟩

end Cert.Proof

end
